-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownReferenceIdeal (m : (ℓ : Loc Cert.WgDownReferenceIdeal.nD Cert.WgDownReferenceIdeal.τ Cert.WgDownReferenceIdeal.sig) → Buf (Elt Ideal) ℓ) : Prop :=
  True

def Pre_WgGate (m : (ℓ : Loc Cert.WgGate.nD Cert.WgGate.τ Cert.WgGate.sig) → Buf (Elt Bits) ℓ) : Prop :=
  True

def Pre_WgGateIdeal (m : (ℓ : Loc Cert.WgGateIdeal.nD Cert.WgGateIdeal.τ Cert.WgGateIdeal.sig) → Buf (Elt Ideal) ℓ) : Prop :=
  True

def Pre_WgGateReferenceIdeal (m : (ℓ : Loc Cert.WgGateReferenceIdeal.nD Cert.WgGateReferenceIdeal.τ Cert.WgGateReferenceIdeal.sig) → Buf (Elt Ideal) ℓ) : Prop :=
  True

def Pre_WgIn (m : (ℓ : Loc Cert.WgIn.nD Cert.WgIn.τ Cert.WgIn.sig) → Buf (Elt Bits) ℓ) : Prop :=
  True

def Pre_WgInIdeal (m : (ℓ : Loc Cert.WgInIdeal.nD Cert.WgInIdeal.τ Cert.WgInIdeal.sig) → Buf (Elt Ideal) ℓ) : Prop :=
  True

def Pre_WgInReferenceIdeal (m : (ℓ : Loc Cert.WgInReferenceIdeal.nD Cert.WgInReferenceIdeal.τ Cert.WgInReferenceIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutReferenceIdeal (m : (ℓ : Loc Cert.WgOutReferenceIdeal.nD Cert.WgOutReferenceIdeal.τ Cert.WgOutReferenceIdeal.sig) → Buf (Elt Ideal) ℓ) : Prop :=
  True

def Pre_WgBrA (m : (ℓ : Loc Cert.WgBrA.nD Cert.WgBrA.τ Cert.WgBrA.sig) → Buf (Elt Bits) ℓ) : Prop :=
  True

def Pre_WgBrAIdeal (m : (ℓ : Loc Cert.WgBrAIdeal.nD Cert.WgBrAIdeal.τ Cert.WgBrAIdeal.sig) → Buf (Elt Ideal) ℓ) : Prop :=
  True

def Pre_WgBrAReferenceIdeal (m : (ℓ : Loc Cert.WgBrAReferenceIdeal.nD Cert.WgBrAReferenceIdeal.τ Cert.WgBrAReferenceIdeal.sig) → Buf (Elt Ideal) ℓ) : Prop :=
  True

def Pre_WgBrB (m : (ℓ : Loc Cert.WgBrB.nD Cert.WgBrB.τ Cert.WgBrB.sig) → Buf (Elt Bits) ℓ) : Prop :=
  True

def Pre_WgBrBIdeal (m : (ℓ : Loc Cert.WgBrBIdeal.nD Cert.WgBrBIdeal.τ Cert.WgBrBIdeal.sig) → Buf (Elt Ideal) ℓ) : Prop :=
  True

def Pre_WgBrBReferenceIdeal (m : (ℓ : Loc Cert.WgBrBReferenceIdeal.nD Cert.WgBrBReferenceIdeal.τ Cert.WgBrBReferenceIdeal.sig) → Buf (Elt Ideal) ℓ) : Prop :=
  True

def Pre_WgBrC (m : (ℓ : Loc Cert.WgBrC.nD Cert.WgBrC.τ Cert.WgBrC.sig) → Buf (Elt Bits) ℓ) : Prop :=
  True

def Pre_WgBrCIdeal (m : (ℓ : Loc Cert.WgBrCIdeal.nD Cert.WgBrCIdeal.τ Cert.WgBrCIdeal.sig) → Buf (Elt Ideal) ℓ) : Prop :=
  True

def Pre_WgBrCReferenceIdeal (m : (ℓ : Loc Cert.WgBrCReferenceIdeal.nD Cert.WgBrCReferenceIdeal.τ Cert.WgBrCReferenceIdeal.sig) → Buf (Elt Ideal) ℓ) : Prop :=
  True

def Pre_MmZ (m : (ℓ : Loc Cert.MmZ.nD Cert.MmZ.τ Cert.MmZ.sig) → Buf (Elt Bits) ℓ) : Prop :=
  True

def Pre_MmZIdeal (m : (ℓ : Loc Cert.MmZIdeal.nD Cert.MmZIdeal.τ Cert.MmZIdeal.sig) → Buf (Elt Ideal) ℓ) : Prop :=
  True

def Pre_MmZReferenceIdeal (m : (ℓ : Loc Cert.MmZReferenceIdeal.nD Cert.MmZReferenceIdeal.τ Cert.MmZReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownReferenceIdeal (m : (ℓ : Loc Cert.MmDownReferenceIdeal.nD Cert.MmDownReferenceIdeal.τ Cert.MmDownReferenceIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite_factors [hPre_finite_factors : Cert.Pre_finite_factors.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite_factors.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).1 = (fun _ => 1#1)
    ∧ (Cert.Pre_finite_factors.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.1 = (fun _ => 1#1)
    ∧ (Cert.Pre_finite_factors.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))).2.2 = (fun _ => 1#1)

def Pre_FfnActReferenceIdeal (m : (ℓ : Loc Cert.FfnActReferenceIdeal.nD Cert.FfnActReferenceIdeal.τ Cert.FfnActReferenceIdeal.sig) → Buf (Elt Ideal) ℓ) : Prop :=
  True

def Pre_FfnActReferenceIdeal_finite_factors [hPre_finite_factors : Cert.Pre_finite_factors.Facts] (m : (ℓ : Loc Cert.FfnActReferenceIdeal.nD Cert.FfnActReferenceIdeal.τ Cert.FfnActReferenceIdeal.sig) → Buf (Elt Ideal) ℓ) : Prop :=
  ∀ c : Dev Cert.FfnActReferenceIdeal.nD,
    (Cert.Pre_finite_factors.fn (F := Ideal) (m ((c.tc : Thread Cert.FfnActReferenceIdeal.nD Cert.FfnActReferenceIdeal.τ).loc Cert.FfnActReferenceIdeal.main_arg0)) (m ((c.tc : Thread Cert.FfnActReferenceIdeal.nD Cert.FfnActReferenceIdeal.τ).loc Cert.FfnActReferenceIdeal.main_arg1)) (m ((c.tc : Thread Cert.FfnActReferenceIdeal.nD Cert.FfnActReferenceIdeal.τ).loc Cert.FfnActReferenceIdeal.main_arg2)) (m ((c.tc : Thread Cert.FfnActReferenceIdeal.nD Cert.FfnActReferenceIdeal.τ).loc Cert.FfnActReferenceIdeal.main_arg3))).1 = (fun _ => 1#1)
    ∧ (Cert.Pre_finite_factors.fn (F := Ideal) (m ((c.tc : Thread Cert.FfnActReferenceIdeal.nD Cert.FfnActReferenceIdeal.τ).loc Cert.FfnActReferenceIdeal.main_arg0)) (m ((c.tc : Thread Cert.FfnActReferenceIdeal.nD Cert.FfnActReferenceIdeal.τ).loc Cert.FfnActReferenceIdeal.main_arg1)) (m ((c.tc : Thread Cert.FfnActReferenceIdeal.nD Cert.FfnActReferenceIdeal.τ).loc Cert.FfnActReferenceIdeal.main_arg2)) (m ((c.tc : Thread Cert.FfnActReferenceIdeal.nD Cert.FfnActReferenceIdeal.τ).loc Cert.FfnActReferenceIdeal.main_arg3))).2.1 = (fun _ => 1#1)
    ∧ (Cert.Pre_finite_factors.fn (F := Ideal) (m ((c.tc : Thread Cert.FfnActReferenceIdeal.nD Cert.FfnActReferenceIdeal.τ).loc Cert.FfnActReferenceIdeal.main_arg0)) (m ((c.tc : Thread Cert.FfnActReferenceIdeal.nD Cert.FfnActReferenceIdeal.τ).loc Cert.FfnActReferenceIdeal.main_arg1)) (m ((c.tc : Thread Cert.FfnActReferenceIdeal.nD Cert.FfnActReferenceIdeal.τ).loc Cert.FfnActReferenceIdeal.main_arg2)) (m ((c.tc : Thread Cert.FfnActReferenceIdeal.nD Cert.FfnActReferenceIdeal.τ).loc Cert.FfnActReferenceIdeal.main_arg3))).2.2 = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_MmDh (m : (ℓ : Loc Cert.MmDh.nD Cert.MmDh.τ Cert.MmDh.sig) → Buf (Elt Bits) ℓ) : Prop :=
  True

def Pre_MmDhIdeal (m : (ℓ : Loc Cert.MmDhIdeal.nD Cert.MmDhIdeal.τ Cert.MmDhIdeal.sig) → Buf (Elt Ideal) ℓ) : Prop :=
  True

def Pre_MmDhReferenceIdeal (m : (ℓ : Loc Cert.MmDhReferenceIdeal.nD Cert.MmDhReferenceIdeal.τ Cert.MmDhReferenceIdeal.sig) → Buf (Elt Ideal) ℓ) : Prop :=
  True

def Pre_FlashA (m : (ℓ : Loc Cert.FlashA.nD Cert.FlashA.τ Cert.FlashA.sig) → Buf (Elt Bits) ℓ) : Prop :=
  True

def Pre_FlashAIdeal (m : (ℓ : Loc Cert.FlashAIdeal.nD Cert.FlashAIdeal.τ Cert.FlashAIdeal.sig) → Buf (Elt Ideal) ℓ) : Prop :=
  True

def Pre_FlashAIdeal_finite_entries [hPre_finite_entries : Cert.Pre_finite_entries.Facts] (m : (ℓ : Loc Cert.FlashAIdeal.nD Cert.FlashAIdeal.τ Cert.FlashAIdeal.sig) → Buf (Elt Ideal) ℓ) : Prop :=
  ∀ c : Dev Cert.FlashAIdeal.nD,
    (Cert.Pre_finite_entries.fn (F := Ideal) (m ((c.tc : Thread Cert.FlashAIdeal.nD Cert.FlashAIdeal.τ).loc Cert.FlashAIdeal.main_arg0)) (m ((c.tc : Thread Cert.FlashAIdeal.nD Cert.FlashAIdeal.τ).loc Cert.FlashAIdeal.main_arg1)) (m ((c.tc : Thread Cert.FlashAIdeal.nD Cert.FlashAIdeal.τ).loc Cert.FlashAIdeal.main_arg2))).1 = (fun _ => 1#1)
    ∧ (Cert.Pre_finite_entries.fn (F := Ideal) (m ((c.tc : Thread Cert.FlashAIdeal.nD Cert.FlashAIdeal.τ).loc Cert.FlashAIdeal.main_arg0)) (m ((c.tc : Thread Cert.FlashAIdeal.nD Cert.FlashAIdeal.τ).loc Cert.FlashAIdeal.main_arg1)) (m ((c.tc : Thread Cert.FlashAIdeal.nD Cert.FlashAIdeal.τ).loc Cert.FlashAIdeal.main_arg2))).2.1 = (fun _ => 1#1)
    ∧ (Cert.Pre_finite_entries.fn (F := Ideal) (m ((c.tc : Thread Cert.FlashAIdeal.nD Cert.FlashAIdeal.τ).loc Cert.FlashAIdeal.main_arg0)) (m ((c.tc : Thread Cert.FlashAIdeal.nD Cert.FlashAIdeal.τ).loc Cert.FlashAIdeal.main_arg1)) (m ((c.tc : Thread Cert.FlashAIdeal.nD Cert.FlashAIdeal.τ).loc Cert.FlashAIdeal.main_arg2))).2.2 = (fun _ => 1#1)

def Pre_FlashAReferenceIdeal (m : (ℓ : Loc Cert.FlashAReferenceIdeal.nD Cert.FlashAReferenceIdeal.τ Cert.FlashAReferenceIdeal.sig) → Buf (Elt Ideal) ℓ) : Prop :=
  True

def Pre_FlashAReferenceIdeal_finite_entries [hPre_finite_entries : Cert.Pre_finite_entries.Facts] (m : (ℓ : Loc Cert.FlashAReferenceIdeal.nD Cert.FlashAReferenceIdeal.τ Cert.FlashAReferenceIdeal.sig) → Buf (Elt Ideal) ℓ) : Prop :=
  ∀ c : Dev Cert.FlashAReferenceIdeal.nD,
    (Cert.Pre_finite_entries.fn (F := Ideal) (m ((c.tc : Thread Cert.FlashAReferenceIdeal.nD Cert.FlashAReferenceIdeal.τ).loc Cert.FlashAReferenceIdeal.main_arg0)) (m ((c.tc : Thread Cert.FlashAReferenceIdeal.nD Cert.FlashAReferenceIdeal.τ).loc Cert.FlashAReferenceIdeal.main_arg1)) (m ((c.tc : Thread Cert.FlashAReferenceIdeal.nD Cert.FlashAReferenceIdeal.τ).loc Cert.FlashAReferenceIdeal.main_arg2))).1 = (fun _ => 1#1)
    ∧ (Cert.Pre_finite_entries.fn (F := Ideal) (m ((c.tc : Thread Cert.FlashAReferenceIdeal.nD Cert.FlashAReferenceIdeal.τ).loc Cert.FlashAReferenceIdeal.main_arg0)) (m ((c.tc : Thread Cert.FlashAReferenceIdeal.nD Cert.FlashAReferenceIdeal.τ).loc Cert.FlashAReferenceIdeal.main_arg1)) (m ((c.tc : Thread Cert.FlashAReferenceIdeal.nD Cert.FlashAReferenceIdeal.τ).loc Cert.FlashAReferenceIdeal.main_arg2))).2.1 = (fun _ => 1#1)
    ∧ (Cert.Pre_finite_entries.fn (F := Ideal) (m ((c.tc : Thread Cert.FlashAReferenceIdeal.nD Cert.FlashAReferenceIdeal.τ).loc Cert.FlashAReferenceIdeal.main_arg0)) (m ((c.tc : Thread Cert.FlashAReferenceIdeal.nD Cert.FlashAReferenceIdeal.τ).loc Cert.FlashAReferenceIdeal.main_arg1)) (m ((c.tc : Thread Cert.FlashAReferenceIdeal.nD Cert.FlashAReferenceIdeal.τ).loc Cert.FlashAReferenceIdeal.main_arg2))).2.2 = (fun _ => 1#1)

def Pre_FlashABwd (m : (ℓ : Loc Cert.FlashABwd.nD Cert.FlashABwd.τ Cert.FlashABwd.sig) → Buf (Elt Bits) ℓ) : Prop :=
  True

def Pre_FlashABwdIdeal (m : (ℓ : Loc Cert.FlashABwdIdeal.nD Cert.FlashABwdIdeal.τ Cert.FlashABwdIdeal.sig) → Buf (Elt Ideal) ℓ) : Prop :=
  True

def Pre_FlashABwdIdeal_finite_parts [hPre_finite_parts : Cert.Pre_finite_parts.Facts] (m : (ℓ : Loc Cert.FlashABwdIdeal.nD Cert.FlashABwdIdeal.τ Cert.FlashABwdIdeal.sig) → Buf (Elt Ideal) ℓ) : Prop :=
  ∀ c : Dev Cert.FlashABwdIdeal.nD,
    (Cert.Pre_finite_parts.fn (F := Ideal) (m ((c.tc : Thread Cert.FlashABwdIdeal.nD Cert.FlashABwdIdeal.τ).loc Cert.FlashABwdIdeal.main_arg0)) (m ((c.tc : Thread Cert.FlashABwdIdeal.nD Cert.FlashABwdIdeal.τ).loc Cert.FlashABwdIdeal.main_arg1)) (m ((c.tc : Thread Cert.FlashABwdIdeal.nD Cert.FlashABwdIdeal.τ).loc Cert.FlashABwdIdeal.main_arg2)) (m ((c.tc : Thread Cert.FlashABwdIdeal.nD Cert.FlashABwdIdeal.τ).loc Cert.FlashABwdIdeal.main_arg3))).1 = (fun _ => 1#1)
    ∧ (Cert.Pre_finite_parts.fn (F := Ideal) (m ((c.tc : Thread Cert.FlashABwdIdeal.nD Cert.FlashABwdIdeal.τ).loc Cert.FlashABwdIdeal.main_arg0)) (m ((c.tc : Thread Cert.FlashABwdIdeal.nD Cert.FlashABwdIdeal.τ).loc Cert.FlashABwdIdeal.main_arg1)) (m ((c.tc : Thread Cert.FlashABwdIdeal.nD Cert.FlashABwdIdeal.τ).loc Cert.FlashABwdIdeal.main_arg2)) (m ((c.tc : Thread Cert.FlashABwdIdeal.nD Cert.FlashABwdIdeal.τ).loc Cert.FlashABwdIdeal.main_arg3))).2.1 = (fun _ => 1#1)
    ∧ (Cert.Pre_finite_parts.fn (F := Ideal) (m ((c.tc : Thread Cert.FlashABwdIdeal.nD Cert.FlashABwdIdeal.τ).loc Cert.FlashABwdIdeal.main_arg0)) (m ((c.tc : Thread Cert.FlashABwdIdeal.nD Cert.FlashABwdIdeal.τ).loc Cert.FlashABwdIdeal.main_arg1)) (m ((c.tc : Thread Cert.FlashABwdIdeal.nD Cert.FlashABwdIdeal.τ).loc Cert.FlashABwdIdeal.main_arg2)) (m ((c.tc : Thread Cert.FlashABwdIdeal.nD Cert.FlashABwdIdeal.τ).loc Cert.FlashABwdIdeal.main_arg3))).2.2.1 = (fun _ => 1#1)
    ∧ (Cert.Pre_finite_parts.fn (F := Ideal) (m ((c.tc : Thread Cert.FlashABwdIdeal.nD Cert.FlashABwdIdeal.τ).loc Cert.FlashABwdIdeal.main_arg0)) (m ((c.tc : Thread Cert.FlashABwdIdeal.nD Cert.FlashABwdIdeal.τ).loc Cert.FlashABwdIdeal.main_arg1)) (m ((c.tc : Thread Cert.FlashABwdIdeal.nD Cert.FlashABwdIdeal.τ).loc Cert.FlashABwdIdeal.main_arg2)) (m ((c.tc : Thread Cert.FlashABwdIdeal.nD Cert.FlashABwdIdeal.τ).loc Cert.FlashABwdIdeal.main_arg3))).2.2.2 = (fun _ => 1#1)

def Pre_FlashABwdReferenceIdeal (m : (ℓ : Loc Cert.FlashABwdReferenceIdeal.nD Cert.FlashABwdReferenceIdeal.τ Cert.FlashABwdReferenceIdeal.sig) → Buf (Elt Ideal) ℓ) : Prop :=
  True

def Pre_FlashABwdReferenceIdeal_finite_parts [hPre_finite_parts : Cert.Pre_finite_parts.Facts] (m : (ℓ : Loc Cert.FlashABwdReferenceIdeal.nD Cert.FlashABwdReferenceIdeal.τ Cert.FlashABwdReferenceIdeal.sig) → Buf (Elt Ideal) ℓ) : Prop :=
  ∀ c : Dev Cert.FlashABwdReferenceIdeal.nD,
    (Cert.Pre_finite_parts.fn (F := Ideal) (m ((c.tc : Thread Cert.FlashABwdReferenceIdeal.nD Cert.FlashABwdReferenceIdeal.τ).loc Cert.FlashABwdReferenceIdeal.main_arg0)) (m ((c.tc : Thread Cert.FlashABwdReferenceIdeal.nD Cert.FlashABwdReferenceIdeal.τ).loc Cert.FlashABwdReferenceIdeal.main_arg1)) (m ((c.tc : Thread Cert.FlashABwdReferenceIdeal.nD Cert.FlashABwdReferenceIdeal.τ).loc Cert.FlashABwdReferenceIdeal.main_arg2)) (m ((c.tc : Thread Cert.FlashABwdReferenceIdeal.nD Cert.FlashABwdReferenceIdeal.τ).loc Cert.FlashABwdReferenceIdeal.main_arg3))).1 = (fun _ => 1#1)
    ∧ (Cert.Pre_finite_parts.fn (F := Ideal) (m ((c.tc : Thread Cert.FlashABwdReferenceIdeal.nD Cert.FlashABwdReferenceIdeal.τ).loc Cert.FlashABwdReferenceIdeal.main_arg0)) (m ((c.tc : Thread Cert.FlashABwdReferenceIdeal.nD Cert.FlashABwdReferenceIdeal.τ).loc Cert.FlashABwdReferenceIdeal.main_arg1)) (m ((c.tc : Thread Cert.FlashABwdReferenceIdeal.nD Cert.FlashABwdReferenceIdeal.τ).loc Cert.FlashABwdReferenceIdeal.main_arg2)) (m ((c.tc : Thread Cert.FlashABwdReferenceIdeal.nD Cert.FlashABwdReferenceIdeal.τ).loc Cert.FlashABwdReferenceIdeal.main_arg3))).2.1 = (fun _ => 1#1)
    ∧ (Cert.Pre_finite_parts.fn (F := Ideal) (m ((c.tc : Thread Cert.FlashABwdReferenceIdeal.nD Cert.FlashABwdReferenceIdeal.τ).loc Cert.FlashABwdReferenceIdeal.main_arg0)) (m ((c.tc : Thread Cert.FlashABwdReferenceIdeal.nD Cert.FlashABwdReferenceIdeal.τ).loc Cert.FlashABwdReferenceIdeal.main_arg1)) (m ((c.tc : Thread Cert.FlashABwdReferenceIdeal.nD Cert.FlashABwdReferenceIdeal.τ).loc Cert.FlashABwdReferenceIdeal.main_arg2)) (m ((c.tc : Thread Cert.FlashABwdReferenceIdeal.nD Cert.FlashABwdReferenceIdeal.τ).loc Cert.FlashABwdReferenceIdeal.main_arg3))).2.2.1 = (fun _ => 1#1)
    ∧ (Cert.Pre_finite_parts.fn (F := Ideal) (m ((c.tc : Thread Cert.FlashABwdReferenceIdeal.nD Cert.FlashABwdReferenceIdeal.τ).loc Cert.FlashABwdReferenceIdeal.main_arg0)) (m ((c.tc : Thread Cert.FlashABwdReferenceIdeal.nD Cert.FlashABwdReferenceIdeal.τ).loc Cert.FlashABwdReferenceIdeal.main_arg1)) (m ((c.tc : Thread Cert.FlashABwdReferenceIdeal.nD Cert.FlashABwdReferenceIdeal.τ).loc Cert.FlashABwdReferenceIdeal.main_arg2)) (m ((c.tc : Thread Cert.FlashABwdReferenceIdeal.nD Cert.FlashABwdReferenceIdeal.τ).loc Cert.FlashABwdReferenceIdeal.main_arg3))).2.2.2 = (fun _ => 1#1)

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInReferenceIdeal (m : (ℓ : Loc Cert.AdInReferenceIdeal.nD Cert.AdInReferenceIdeal.τ Cert.AdInReferenceIdeal.sig) → Buf (Elt Ideal) ℓ) : Prop :=
  True

def Pre_AdBrA (m : (ℓ : Loc Cert.AdBrA.nD Cert.AdBrA.τ Cert.AdBrA.sig) → Buf (Elt Bits) ℓ) : Prop :=
  True

def Pre_AdBrAIdeal (m : (ℓ : Loc Cert.AdBrAIdeal.nD Cert.AdBrAIdeal.τ Cert.AdBrAIdeal.sig) → Buf (Elt Ideal) ℓ) : Prop :=
  True

def Pre_AdBrAReferenceIdeal (m : (ℓ : Loc Cert.AdBrAReferenceIdeal.nD Cert.AdBrAReferenceIdeal.τ Cert.AdBrAReferenceIdeal.sig) → Buf (Elt Ideal) ℓ) : Prop :=
  True

def Pre_AdBrB (m : (ℓ : Loc Cert.AdBrB.nD Cert.AdBrB.τ Cert.AdBrB.sig) → Buf (Elt Bits) ℓ) : Prop :=
  True

def Pre_AdBrBIdeal (m : (ℓ : Loc Cert.AdBrBIdeal.nD Cert.AdBrBIdeal.τ Cert.AdBrBIdeal.sig) → Buf (Elt Ideal) ℓ) : Prop :=
  True

def Pre_AdBrBReferenceIdeal (m : (ℓ : Loc Cert.AdBrBReferenceIdeal.nD Cert.AdBrBReferenceIdeal.τ Cert.AdBrBReferenceIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutReferenceIdeal (m : (ℓ : Loc Cert.AdOutReferenceIdeal.nD Cert.AdOutReferenceIdeal.τ Cert.AdOutReferenceIdeal.sig) → Buf (Elt Ideal) ℓ) : Prop :=
  True

def Pre_AdGate (m : (ℓ : Loc Cert.AdGate.nD Cert.AdGate.τ Cert.AdGate.sig) → Buf (Elt Bits) ℓ) : Prop :=
  True

def Pre_AdGateIdeal (m : (ℓ : Loc Cert.AdGateIdeal.nD Cert.AdGateIdeal.τ Cert.AdGateIdeal.sig) → Buf (Elt Ideal) ℓ) : Prop :=
  True

def Pre_AdGateReferenceIdeal (m : (ℓ : Loc Cert.AdGateReferenceIdeal.nD Cert.AdGateReferenceIdeal.τ Cert.AdGateReferenceIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownReferenceIdeal (m : (ℓ : Loc Cert.AdDownReferenceIdeal.nD Cert.AdDownReferenceIdeal.τ Cert.AdDownReferenceIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallReferenceIdeal (m : (ℓ : Loc Cert.AdSmallReferenceIdeal.nD Cert.AdSmallReferenceIdeal.τ Cert.AdSmallReferenceIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradReferenceIdeal (m : (ℓ : Loc Cert.LossGradReferenceIdeal.nD Cert.LossGradReferenceIdeal.τ Cert.LossGradReferenceIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdReferenceIdeal (m : (ℓ : Loc Cert.PoolBwdReferenceIdeal.nD Cert.PoolBwdReferenceIdeal.τ Cert.PoolBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ r.2.sem = fun _ => 0)

def quiescent_WgDownReferenceIdeal [hWgDownReferenceIdeal : Cert.WgDownReferenceIdeal.Facts] : Prop :=
  ∀ (m : (ℓ : Loc Cert.WgDownReferenceIdeal.nD Cert.WgDownReferenceIdeal.τ Cert.WgDownReferenceIdeal.sig) → Buf (Elt Ideal) ℓ) (g : Dev Cert.WgDownReferenceIdeal.nD → PrngReg), Pre_WgDownReferenceIdeal m →
    θ_run (Cert.WgDownReferenceIdeal.defs (F := Ideal)) (onTc (τ := Cert.WgDownReferenceIdeal.τ) (Cert.WgDownReferenceIdeal.main (F := Ideal))) ⟨m, fun _ => 0, g⟩ (fun r => (∀ c : Dev Cert.WgDownReferenceIdeal.nD,
      r.2.mem ((c.tc : Thread Cert.WgDownReferenceIdeal.nD Cert.WgDownReferenceIdeal.τ).loc Cert.WgDownReferenceIdeal.main_arg0) = m ((c.tc : Thread Cert.WgDownReferenceIdeal.nD Cert.WgDownReferenceIdeal.τ).loc Cert.WgDownReferenceIdeal.main_arg0)
      ∧ r.2.mem ((c.tc : Thread Cert.WgDownReferenceIdeal.nD Cert.WgDownReferenceIdeal.τ).loc Cert.WgDownReferenceIdeal.main_arg1) = m ((c.tc : Thread Cert.WgDownReferenceIdeal.nD Cert.WgDownReferenceIdeal.τ).loc Cert.WgDownReferenceIdeal.main_arg1))
      ∧ r.2.sem = fun _ => 0)

def quiescent_WgGate [hWgGate : Cert.WgGate.Facts] : Prop :=
  ∀ (m : (ℓ : Loc Cert.WgGate.nD Cert.WgGate.τ Cert.WgGate.sig) → Buf (Elt Bits) ℓ) (g : Dev Cert.WgGate.nD → PrngReg), Pre_WgGate m →
    θ_run (Cert.WgGate.defs (F := Bits)) (onTc (τ := Cert.WgGate.τ) (Cert.WgGate.main (F := Bits))) ⟨m, fun _ => 0, g⟩ (fun r => (∀ c : Dev Cert.WgGate.nD,
      r.2.mem ((c.tc : Thread Cert.WgGate.nD Cert.WgGate.τ).loc Cert.WgGate.main_arg0) = m ((c.tc : Thread Cert.WgGate.nD Cert.WgGate.τ).loc Cert.WgGate.main_arg0)
      ∧ r.2.mem ((c.tc : Thread Cert.WgGate.nD Cert.WgGate.τ).loc Cert.WgGate.main_arg1) = m ((c.tc : Thread Cert.WgGate.nD Cert.WgGate.τ).loc Cert.WgGate.main_arg1))
      ∧ r.2.sem = fun _ => 0)

def quiescent_WgGateIdeal [hWgGateIdeal : Cert.WgGateIdeal.Facts] : Prop :=
  ∀ (m : (ℓ : Loc Cert.WgGateIdeal.nD Cert.WgGateIdeal.τ Cert.WgGateIdeal.sig) → Buf (Elt Ideal) ℓ) (g : Dev Cert.WgGateIdeal.nD → PrngReg), Pre_WgGateIdeal m →
    θ_run (Cert.WgGateIdeal.defs (F := Ideal)) (onTc (τ := Cert.WgGateIdeal.τ) (Cert.WgGateIdeal.main (F := Ideal))) ⟨m, fun _ => 0, g⟩ (fun r => (∀ c : Dev Cert.WgGateIdeal.nD,
      r.2.mem ((c.tc : Thread Cert.WgGateIdeal.nD Cert.WgGateIdeal.τ).loc Cert.WgGateIdeal.main_arg0) = m ((c.tc : Thread Cert.WgGateIdeal.nD Cert.WgGateIdeal.τ).loc Cert.WgGateIdeal.main_arg0)
      ∧ r.2.mem ((c.tc : Thread Cert.WgGateIdeal.nD Cert.WgGateIdeal.τ).loc Cert.WgGateIdeal.main_arg1) = m ((c.tc : Thread Cert.WgGateIdeal.nD Cert.WgGateIdeal.τ).loc Cert.WgGateIdeal.main_arg1))
      ∧ r.2.sem = fun _ => 0)

def quiescent_WgGateReferenceIdeal [hWgGateReferenceIdeal : Cert.WgGateReferenceIdeal.Facts] : Prop :=
  ∀ (m : (ℓ : Loc Cert.WgGateReferenceIdeal.nD Cert.WgGateReferenceIdeal.τ Cert.WgGateReferenceIdeal.sig) → Buf (Elt Ideal) ℓ) (g : Dev Cert.WgGateReferenceIdeal.nD → PrngReg), Pre_WgGateReferenceIdeal m →
    θ_run (Cert.WgGateReferenceIdeal.defs (F := Ideal)) (onTc (τ := Cert.WgGateReferenceIdeal.τ) (Cert.WgGateReferenceIdeal.main (F := Ideal))) ⟨m, fun _ => 0, g⟩ (fun r => (∀ c : Dev Cert.WgGateReferenceIdeal.nD,
      r.2.mem ((c.tc : Thread Cert.WgGateReferenceIdeal.nD Cert.WgGateReferenceIdeal.τ).loc Cert.WgGateReferenceIdeal.main_arg0) = m ((c.tc : Thread Cert.WgGateReferenceIdeal.nD Cert.WgGateReferenceIdeal.τ).loc Cert.WgGateReferenceIdeal.main_arg0)
      ∧ r.2.mem ((c.tc : Thread Cert.WgGateReferenceIdeal.nD Cert.WgGateReferenceIdeal.τ).loc Cert.WgGateReferenceIdeal.main_arg1) = m ((c.tc : Thread Cert.WgGateReferenceIdeal.nD Cert.WgGateReferenceIdeal.τ).loc Cert.WgGateReferenceIdeal.main_arg1))
      ∧ r.2.sem = fun _ => 0)

def quiescent_WgIn [hWgIn : Cert.WgIn.Facts] : Prop :=
  ∀ (m : (ℓ : Loc Cert.WgIn.nD Cert.WgIn.τ Cert.WgIn.sig) → Buf (Elt Bits) ℓ) (g : Dev Cert.WgIn.nD → PrngReg), Pre_WgIn m →
    θ_run (Cert.WgIn.defs (F := Bits)) (onTc (τ := Cert.WgIn.τ) (Cert.WgIn.main (F := Bits))) ⟨m, fun _ => 0, g⟩ (fun r => (∀ c : Dev Cert.WgIn.nD,
      r.2.mem ((c.tc : Thread Cert.WgIn.nD Cert.WgIn.τ).loc Cert.WgIn.main_arg0) = m ((c.tc : Thread Cert.WgIn.nD Cert.WgIn.τ).loc Cert.WgIn.main_arg0)
      ∧ r.2.mem ((c.tc : Thread Cert.WgIn.nD Cert.WgIn.τ).loc Cert.WgIn.main_arg1) = m ((c.tc : Thread Cert.WgIn.nD Cert.WgIn.τ).loc Cert.WgIn.main_arg1))
      ∧ r.2.sem = fun _ => 0)

def quiescent_WgInIdeal [hWgInIdeal : Cert.WgInIdeal.Facts] : Prop :=
  ∀ (m : (ℓ : Loc Cert.WgInIdeal.nD Cert.WgInIdeal.τ Cert.WgInIdeal.sig) → Buf (Elt Ideal) ℓ) (g : Dev Cert.WgInIdeal.nD → PrngReg), Pre_WgInIdeal m →
    θ_run (Cert.WgInIdeal.defs (F := Ideal)) (onTc (τ := Cert.WgInIdeal.τ) (Cert.WgInIdeal.main (F := Ideal))) ⟨m, fun _ => 0, g⟩ (fun r => (∀ c : Dev Cert.WgInIdeal.nD,
      r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
      ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ r.2.sem = fun _ => 0)

def quiescent_WgInReferenceIdeal [hWgInReferenceIdeal : Cert.WgInReferenceIdeal.Facts] : Prop :=
  ∀ (m : (ℓ : Loc Cert.WgInReferenceIdeal.nD Cert.WgInReferenceIdeal.τ Cert.WgInReferenceIdeal.sig) → Buf (Elt Ideal) ℓ) (g : Dev Cert.WgInReferenceIdeal.nD → PrngReg), Pre_WgInReferenceIdeal m →
    θ_run (Cert.WgInReferenceIdeal.defs (F := Ideal)) (onTc (τ := Cert.WgInReferenceIdeal.τ) (Cert.WgInReferenceIdeal.main (F := Ideal))) ⟨m, fun _ => 0, g⟩ (fun r => (∀ c : Dev Cert.WgInReferenceIdeal.nD,
      r.2.mem ((c.tc : Thread Cert.WgInReferenceIdeal.nD Cert.WgInReferenceIdeal.τ).loc Cert.WgInReferenceIdeal.main_arg0) = m ((c.tc : Thread Cert.WgInReferenceIdeal.nD Cert.WgInReferenceIdeal.τ).loc Cert.WgInReferenceIdeal.main_arg0)
      ∧ r.2.mem ((c.tc : Thread Cert.WgInReferenceIdeal.nD Cert.WgInReferenceIdeal.τ).loc Cert.WgInReferenceIdeal.main_arg1) = m ((c.tc : Thread Cert.WgInReferenceIdeal.nD Cert.WgInReferenceIdeal.τ).loc Cert.WgInReferenceIdeal.main_arg1))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ r.2.sem = fun _ => 0)

def quiescent_WgOutReferenceIdeal [hWgOutReferenceIdeal : Cert.WgOutReferenceIdeal.Facts] : Prop :=
  ∀ (m : (ℓ : Loc Cert.WgOutReferenceIdeal.nD Cert.WgOutReferenceIdeal.τ Cert.WgOutReferenceIdeal.sig) → Buf (Elt Ideal) ℓ) (g : Dev Cert.WgOutReferenceIdeal.nD → PrngReg), Pre_WgOutReferenceIdeal m →
    θ_run (Cert.WgOutReferenceIdeal.defs (F := Ideal)) (onTc (τ := Cert.WgOutReferenceIdeal.τ) (Cert.WgOutReferenceIdeal.main (F := Ideal))) ⟨m, fun _ => 0, g⟩ (fun r => (∀ c : Dev Cert.WgOutReferenceIdeal.nD,
      r.2.mem ((c.tc : Thread Cert.WgOutReferenceIdeal.nD Cert.WgOutReferenceIdeal.τ).loc Cert.WgOutReferenceIdeal.main_arg0) = m ((c.tc : Thread Cert.WgOutReferenceIdeal.nD Cert.WgOutReferenceIdeal.τ).loc Cert.WgOutReferenceIdeal.main_arg0)
      ∧ r.2.mem ((c.tc : Thread Cert.WgOutReferenceIdeal.nD Cert.WgOutReferenceIdeal.τ).loc Cert.WgOutReferenceIdeal.main_arg1) = m ((c.tc : Thread Cert.WgOutReferenceIdeal.nD Cert.WgOutReferenceIdeal.τ).loc Cert.WgOutReferenceIdeal.main_arg1))
      ∧ r.2.sem = fun _ => 0)

def quiescent_WgBrA [hWgBrA : Cert.WgBrA.Facts] : Prop :=
  ∀ (m : (ℓ : Loc Cert.WgBrA.nD Cert.WgBrA.τ Cert.WgBrA.sig) → Buf (Elt Bits) ℓ) (g : Dev Cert.WgBrA.nD → PrngReg), Pre_WgBrA m →
    θ_run (Cert.WgBrA.defs (F := Bits)) (onTc (τ := Cert.WgBrA.τ) (Cert.WgBrA.main (F := Bits))) ⟨m, fun _ => 0, g⟩ (fun r => (∀ c : Dev Cert.WgBrA.nD,
      r.2.mem ((c.tc : Thread Cert.WgBrA.nD Cert.WgBrA.τ).loc Cert.WgBrA.main_arg0) = m ((c.tc : Thread Cert.WgBrA.nD Cert.WgBrA.τ).loc Cert.WgBrA.main_arg0)
      ∧ r.2.mem ((c.tc : Thread Cert.WgBrA.nD Cert.WgBrA.τ).loc Cert.WgBrA.main_arg1) = m ((c.tc : Thread Cert.WgBrA.nD Cert.WgBrA.τ).loc Cert.WgBrA.main_arg1))
      ∧ r.2.sem = fun _ => 0)

def quiescent_WgBrAIdeal [hWgBrAIdeal : Cert.WgBrAIdeal.Facts] : Prop :=
  ∀ (m : (ℓ : Loc Cert.WgBrAIdeal.nD Cert.WgBrAIdeal.τ Cert.WgBrAIdeal.sig) → Buf (Elt Ideal) ℓ) (g : Dev Cert.WgBrAIdeal.nD → PrngReg), Pre_WgBrAIdeal m →
    θ_run (Cert.WgBrAIdeal.defs (F := Ideal)) (onTc (τ := Cert.WgBrAIdeal.τ) (Cert.WgBrAIdeal.main (F := Ideal))) ⟨m, fun _ => 0, g⟩ (fun r => (∀ c : Dev Cert.WgBrAIdeal.nD,
      r.2.mem ((c.tc : Thread Cert.WgBrAIdeal.nD Cert.WgBrAIdeal.τ).loc Cert.WgBrAIdeal.main_arg0) = m ((c.tc : Thread Cert.WgBrAIdeal.nD Cert.WgBrAIdeal.τ).loc Cert.WgBrAIdeal.main_arg0)
      ∧ r.2.mem ((c.tc : Thread Cert.WgBrAIdeal.nD Cert.WgBrAIdeal.τ).loc Cert.WgBrAIdeal.main_arg1) = m ((c.tc : Thread Cert.WgBrAIdeal.nD Cert.WgBrAIdeal.τ).loc Cert.WgBrAIdeal.main_arg1))
      ∧ r.2.sem = fun _ => 0)

def quiescent_WgBrAReferenceIdeal [hWgBrAReferenceIdeal : Cert.WgBrAReferenceIdeal.Facts] : Prop :=
  ∀ (m : (ℓ : Loc Cert.WgBrAReferenceIdeal.nD Cert.WgBrAReferenceIdeal.τ Cert.WgBrAReferenceIdeal.sig) → Buf (Elt Ideal) ℓ) (g : Dev Cert.WgBrAReferenceIdeal.nD → PrngReg), Pre_WgBrAReferenceIdeal m →
    θ_run (Cert.WgBrAReferenceIdeal.defs (F := Ideal)) (onTc (τ := Cert.WgBrAReferenceIdeal.τ) (Cert.WgBrAReferenceIdeal.main (F := Ideal))) ⟨m, fun _ => 0, g⟩ (fun r => (∀ c : Dev Cert.WgBrAReferenceIdeal.nD,
      r.2.mem ((c.tc : Thread Cert.WgBrAReferenceIdeal.nD Cert.WgBrAReferenceIdeal.τ).loc Cert.WgBrAReferenceIdeal.main_arg0) = m ((c.tc : Thread Cert.WgBrAReferenceIdeal.nD Cert.WgBrAReferenceIdeal.τ).loc Cert.WgBrAReferenceIdeal.main_arg0)
      ∧ r.2.mem ((c.tc : Thread Cert.WgBrAReferenceIdeal.nD Cert.WgBrAReferenceIdeal.τ).loc Cert.WgBrAReferenceIdeal.main_arg1) = m ((c.tc : Thread Cert.WgBrAReferenceIdeal.nD Cert.WgBrAReferenceIdeal.τ).loc Cert.WgBrAReferenceIdeal.main_arg1))
      ∧ r.2.sem = fun _ => 0)

def quiescent_WgBrB [hWgBrB : Cert.WgBrB.Facts] : Prop :=
  ∀ (m : (ℓ : Loc Cert.WgBrB.nD Cert.WgBrB.τ Cert.WgBrB.sig) → Buf (Elt Bits) ℓ) (g : Dev Cert.WgBrB.nD → PrngReg), Pre_WgBrB m →
    θ_run (Cert.WgBrB.defs (F := Bits)) (onTc (τ := Cert.WgBrB.τ) (Cert.WgBrB.main (F := Bits))) ⟨m, fun _ => 0, g⟩ (fun r => (∀ c : Dev Cert.WgBrB.nD,
      r.2.mem ((c.tc : Thread Cert.WgBrB.nD Cert.WgBrB.τ).loc Cert.WgBrB.main_arg0) = m ((c.tc : Thread Cert.WgBrB.nD Cert.WgBrB.τ).loc Cert.WgBrB.main_arg0)
      ∧ r.2.mem ((c.tc : Thread Cert.WgBrB.nD Cert.WgBrB.τ).loc Cert.WgBrB.main_arg1) = m ((c.tc : Thread Cert.WgBrB.nD Cert.WgBrB.τ).loc Cert.WgBrB.main_arg1))
      ∧ r.2.sem = fun _ => 0)

def quiescent_WgBrBIdeal [hWgBrBIdeal : Cert.WgBrBIdeal.Facts] : Prop :=
  ∀ (m : (ℓ : Loc Cert.WgBrBIdeal.nD Cert.WgBrBIdeal.τ Cert.WgBrBIdeal.sig) → Buf (Elt Ideal) ℓ) (g : Dev Cert.WgBrBIdeal.nD → PrngReg), Pre_WgBrBIdeal m →
    θ_run (Cert.WgBrBIdeal.defs (F := Ideal)) (onTc (τ := Cert.WgBrBIdeal.τ) (Cert.WgBrBIdeal.main (F := Ideal))) ⟨m, fun _ => 0, g⟩ (fun r => (∀ c : Dev Cert.WgBrBIdeal.nD,
      r.2.mem ((c.tc : Thread Cert.WgBrBIdeal.nD Cert.WgBrBIdeal.τ).loc Cert.WgBrBIdeal.main_arg0) = m ((c.tc : Thread Cert.WgBrBIdeal.nD Cert.WgBrBIdeal.τ).loc Cert.WgBrBIdeal.main_arg0)
      ∧ r.2.mem ((c.tc : Thread Cert.WgBrBIdeal.nD Cert.WgBrBIdeal.τ).loc Cert.WgBrBIdeal.main_arg1) = m ((c.tc : Thread Cert.WgBrBIdeal.nD Cert.WgBrBIdeal.τ).loc Cert.WgBrBIdeal.main_arg1))
      ∧ r.2.sem = fun _ => 0)

def quiescent_WgBrBReferenceIdeal [hWgBrBReferenceIdeal : Cert.WgBrBReferenceIdeal.Facts] : Prop :=
  ∀ (m : (ℓ : Loc Cert.WgBrBReferenceIdeal.nD Cert.WgBrBReferenceIdeal.τ Cert.WgBrBReferenceIdeal.sig) → Buf (Elt Ideal) ℓ) (g : Dev Cert.WgBrBReferenceIdeal.nD → PrngReg), Pre_WgBrBReferenceIdeal m →
    θ_run (Cert.WgBrBReferenceIdeal.defs (F := Ideal)) (onTc (τ := Cert.WgBrBReferenceIdeal.τ) (Cert.WgBrBReferenceIdeal.main (F := Ideal))) ⟨m, fun _ => 0, g⟩ (fun r => (∀ c : Dev Cert.WgBrBReferenceIdeal.nD,
      r.2.mem ((c.tc : Thread Cert.WgBrBReferenceIdeal.nD Cert.WgBrBReferenceIdeal.τ).loc Cert.WgBrBReferenceIdeal.main_arg0) = m ((c.tc : Thread Cert.WgBrBReferenceIdeal.nD Cert.WgBrBReferenceIdeal.τ).loc Cert.WgBrBReferenceIdeal.main_arg0)
      ∧ r.2.mem ((c.tc : Thread Cert.WgBrBReferenceIdeal.nD Cert.WgBrBReferenceIdeal.τ).loc Cert.WgBrBReferenceIdeal.main_arg1) = m ((c.tc : Thread Cert.WgBrBReferenceIdeal.nD Cert.WgBrBReferenceIdeal.τ).loc Cert.WgBrBReferenceIdeal.main_arg1))
      ∧ r.2.sem = fun _ => 0)

def quiescent_WgBrC [hWgBrC : Cert.WgBrC.Facts] : Prop :=
  ∀ (m : (ℓ : Loc Cert.WgBrC.nD Cert.WgBrC.τ Cert.WgBrC.sig) → Buf (Elt Bits) ℓ) (g : Dev Cert.WgBrC.nD → PrngReg), Pre_WgBrC m →
    θ_run (Cert.WgBrC.defs (F := Bits)) (onTc (τ := Cert.WgBrC.τ) (Cert.WgBrC.main (F := Bits))) ⟨m, fun _ => 0, g⟩ (fun r => (∀ c : Dev Cert.WgBrC.nD,
      r.2.mem ((c.tc : Thread Cert.WgBrC.nD Cert.WgBrC.τ).loc Cert.WgBrC.main_arg0) = m ((c.tc : Thread Cert.WgBrC.nD Cert.WgBrC.τ).loc Cert.WgBrC.main_arg0)
      ∧ r.2.mem ((c.tc : Thread Cert.WgBrC.nD Cert.WgBrC.τ).loc Cert.WgBrC.main_arg1) = m ((c.tc : Thread Cert.WgBrC.nD Cert.WgBrC.τ).loc Cert.WgBrC.main_arg1))
      ∧ r.2.sem = fun _ => 0)

def quiescent_WgBrCIdeal [hWgBrCIdeal : Cert.WgBrCIdeal.Facts] : Prop :=
  ∀ (m : (ℓ : Loc Cert.WgBrCIdeal.nD Cert.WgBrCIdeal.τ Cert.WgBrCIdeal.sig) → Buf (Elt Ideal) ℓ) (g : Dev Cert.WgBrCIdeal.nD → PrngReg), Pre_WgBrCIdeal m →
    θ_run (Cert.WgBrCIdeal.defs (F := Ideal)) (onTc (τ := Cert.WgBrCIdeal.τ) (Cert.WgBrCIdeal.main (F := Ideal))) ⟨m, fun _ => 0, g⟩ (fun r => (∀ c : Dev Cert.WgBrCIdeal.nD,
      r.2.mem ((c.tc : Thread Cert.WgBrCIdeal.nD Cert.WgBrCIdeal.τ).loc Cert.WgBrCIdeal.main_arg0) = m ((c.tc : Thread Cert.WgBrCIdeal.nD Cert.WgBrCIdeal.τ).loc Cert.WgBrCIdeal.main_arg0)
      ∧ r.2.mem ((c.tc : Thread Cert.WgBrCIdeal.nD Cert.WgBrCIdeal.τ).loc Cert.WgBrCIdeal.main_arg1) = m ((c.tc : Thread Cert.WgBrCIdeal.nD Cert.WgBrCIdeal.τ).loc Cert.WgBrCIdeal.main_arg1))
      ∧ r.2.sem = fun _ => 0)

def quiescent_WgBrCReferenceIdeal [hWgBrCReferenceIdeal : Cert.WgBrCReferenceIdeal.Facts] : Prop :=
  ∀ (m : (ℓ : Loc Cert.WgBrCReferenceIdeal.nD Cert.WgBrCReferenceIdeal.τ Cert.WgBrCReferenceIdeal.sig) → Buf (Elt Ideal) ℓ) (g : Dev Cert.WgBrCReferenceIdeal.nD → PrngReg), Pre_WgBrCReferenceIdeal m →
    θ_run (Cert.WgBrCReferenceIdeal.defs (F := Ideal)) (onTc (τ := Cert.WgBrCReferenceIdeal.τ) (Cert.WgBrCReferenceIdeal.main (F := Ideal))) ⟨m, fun _ => 0, g⟩ (fun r => (∀ c : Dev Cert.WgBrCReferenceIdeal.nD,
      r.2.mem ((c.tc : Thread Cert.WgBrCReferenceIdeal.nD Cert.WgBrCReferenceIdeal.τ).loc Cert.WgBrCReferenceIdeal.main_arg0) = m ((c.tc : Thread Cert.WgBrCReferenceIdeal.nD Cert.WgBrCReferenceIdeal.τ).loc Cert.WgBrCReferenceIdeal.main_arg0)
      ∧ r.2.mem ((c.tc : Thread Cert.WgBrCReferenceIdeal.nD Cert.WgBrCReferenceIdeal.τ).loc Cert.WgBrCReferenceIdeal.main_arg1) = m ((c.tc : Thread Cert.WgBrCReferenceIdeal.nD Cert.WgBrCReferenceIdeal.τ).loc Cert.WgBrCReferenceIdeal.main_arg1))
      ∧ r.2.sem = fun _ => 0)

def quiescent_MmZ [hMmZ : Cert.MmZ.Facts] : Prop :=
  ∀ (m : (ℓ : Loc Cert.MmZ.nD Cert.MmZ.τ Cert.MmZ.sig) → Buf (Elt Bits) ℓ) (g : Dev Cert.MmZ.nD → PrngReg), Pre_MmZ m →
    θ_run (Cert.MmZ.defs (F := Bits)) (onTc (τ := Cert.MmZ.τ) (Cert.MmZ.main (F := Bits))) ⟨m, fun _ => 0, g⟩ (fun r => (∀ c : Dev Cert.MmZ.nD,
      r.2.mem ((c.tc : Thread Cert.MmZ.nD Cert.MmZ.τ).loc Cert.MmZ.main_arg0) = m ((c.tc : Thread Cert.MmZ.nD Cert.MmZ.τ).loc Cert.MmZ.main_arg0)
      ∧ r.2.mem ((c.tc : Thread Cert.MmZ.nD Cert.MmZ.τ).loc Cert.MmZ.main_arg1) = m ((c.tc : Thread Cert.MmZ.nD Cert.MmZ.τ).loc Cert.MmZ.main_arg1))
      ∧ r.2.sem = fun _ => 0)

def quiescent_MmZIdeal [hMmZIdeal : Cert.MmZIdeal.Facts] : Prop :=
  ∀ (m : (ℓ : Loc Cert.MmZIdeal.nD Cert.MmZIdeal.τ Cert.MmZIdeal.sig) → Buf (Elt Ideal) ℓ) (g : Dev Cert.MmZIdeal.nD → PrngReg), Pre_MmZIdeal m →
    θ_run (Cert.MmZIdeal.defs (F := Ideal)) (onTc (τ := Cert.MmZIdeal.τ) (Cert.MmZIdeal.main (F := Ideal))) ⟨m, fun _ => 0, g⟩ (fun r => (∀ c : Dev Cert.MmZIdeal.nD,
      r.2.mem ((c.tc : Thread Cert.MmZIdeal.nD Cert.MmZIdeal.τ).loc Cert.MmZIdeal.main_arg0) = m ((c.tc : Thread Cert.MmZIdeal.nD Cert.MmZIdeal.τ).loc Cert.MmZIdeal.main_arg0)
      ∧ r.2.mem ((c.tc : Thread Cert.MmZIdeal.nD Cert.MmZIdeal.τ).loc Cert.MmZIdeal.main_arg1) = m ((c.tc : Thread Cert.MmZIdeal.nD Cert.MmZIdeal.τ).loc Cert.MmZIdeal.main_arg1))
      ∧ r.2.sem = fun _ => 0)

def quiescent_MmZReferenceIdeal [hMmZReferenceIdeal : Cert.MmZReferenceIdeal.Facts] : Prop :=
  ∀ (m : (ℓ : Loc Cert.MmZReferenceIdeal.nD Cert.MmZReferenceIdeal.τ Cert.MmZReferenceIdeal.sig) → Buf (Elt Ideal) ℓ) (g : Dev Cert.MmZReferenceIdeal.nD → PrngReg), Pre_MmZReferenceIdeal m →
    θ_run (Cert.MmZReferenceIdeal.defs (F := Ideal)) (onTc (τ := Cert.MmZReferenceIdeal.τ) (Cert.MmZReferenceIdeal.main (F := Ideal))) ⟨m, fun _ => 0, g⟩ (fun r => (∀ c : Dev Cert.MmZReferenceIdeal.nD,
      r.2.mem ((c.tc : Thread Cert.MmZReferenceIdeal.nD Cert.MmZReferenceIdeal.τ).loc Cert.MmZReferenceIdeal.main_arg0) = m ((c.tc : Thread Cert.MmZReferenceIdeal.nD Cert.MmZReferenceIdeal.τ).loc Cert.MmZReferenceIdeal.main_arg0)
      ∧ r.2.mem ((c.tc : Thread Cert.MmZReferenceIdeal.nD Cert.MmZReferenceIdeal.τ).loc Cert.MmZReferenceIdeal.main_arg1) = m ((c.tc : Thread Cert.MmZReferenceIdeal.nD Cert.MmZReferenceIdeal.τ).loc Cert.MmZReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2)
      ∧ r.2.mem ((c.tc : Thread Cert.MmDown.nD Cert.MmDown.τ).loc Cert.MmDown.main_arg3) = m ((c.tc : Thread Cert.MmDown.nD Cert.MmDown.τ).loc Cert.MmDown.main_arg3))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
      ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3))
      ∧ r.2.sem = fun _ => 0)

def quiescent_MmDownReferenceIdeal [hMmDownReferenceIdeal : Cert.MmDownReferenceIdeal.Facts] : Prop :=
  ∀ (m : (ℓ : Loc Cert.MmDownReferenceIdeal.nD Cert.MmDownReferenceIdeal.τ Cert.MmDownReferenceIdeal.sig) → Buf (Elt Ideal) ℓ) (g : Dev Cert.MmDownReferenceIdeal.nD → PrngReg), Pre_MmDownReferenceIdeal m →
    θ_run (Cert.MmDownReferenceIdeal.defs (F := Ideal)) (onTc (τ := Cert.MmDownReferenceIdeal.τ) (Cert.MmDownReferenceIdeal.main (F := Ideal))) ⟨m, fun _ => 0, g⟩ (fun r => (∀ c : Dev Cert.MmDownReferenceIdeal.nD,
      r.2.mem ((c.tc : Thread Cert.MmDownReferenceIdeal.nD Cert.MmDownReferenceIdeal.τ).loc Cert.MmDownReferenceIdeal.main_arg0) = m ((c.tc : Thread Cert.MmDownReferenceIdeal.nD Cert.MmDownReferenceIdeal.τ).loc Cert.MmDownReferenceIdeal.main_arg0)
      ∧ r.2.mem ((c.tc : Thread Cert.MmDownReferenceIdeal.nD Cert.MmDownReferenceIdeal.τ).loc Cert.MmDownReferenceIdeal.main_arg1) = m ((c.tc : Thread Cert.MmDownReferenceIdeal.nD Cert.MmDownReferenceIdeal.τ).loc Cert.MmDownReferenceIdeal.main_arg1)
      ∧ r.2.mem ((c.tc : Thread Cert.MmDownReferenceIdeal.nD Cert.MmDownReferenceIdeal.τ).loc Cert.MmDownReferenceIdeal.main_arg2) = m ((c.tc : Thread Cert.MmDownReferenceIdeal.nD Cert.MmDownReferenceIdeal.τ).loc Cert.MmDownReferenceIdeal.main_arg2)
      ∧ r.2.mem ((c.tc : Thread Cert.MmDownReferenceIdeal.nD Cert.MmDownReferenceIdeal.τ).loc Cert.MmDownReferenceIdeal.main_arg3) = m ((c.tc : Thread Cert.MmDownReferenceIdeal.nD Cert.MmDownReferenceIdeal.τ).loc Cert.MmDownReferenceIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_finite_factors [hFfnActIdeal : Cert.FfnActIdeal.Facts] [hPre_finite_factors : Cert.Pre_finite_factors.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite_factors m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2)
      ∧ r.2.mem ((c.tc : Thread Cert.FfnActReferenceIdeal.nD Cert.FfnActReferenceIdeal.τ).loc Cert.FfnActReferenceIdeal.main_arg3) = m ((c.tc : Thread Cert.FfnActReferenceIdeal.nD Cert.FfnActReferenceIdeal.τ).loc Cert.FfnActReferenceIdeal.main_arg3))
      ∧ r.2.sem = fun _ => 0)

def quiescent_FfnActReferenceIdeal_pre_finite_factors [hFfnActReferenceIdeal : Cert.FfnActReferenceIdeal.Facts] [hPre_finite_factors : Cert.Pre_finite_factors.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal_finite_factors m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2)
      ∧ r.2.mem ((c.tc : Thread Cert.FfnActReferenceIdeal.nD Cert.FfnActReferenceIdeal.τ).loc Cert.FfnActReferenceIdeal.main_arg3) = m ((c.tc : Thread Cert.FfnActReferenceIdeal.nD Cert.FfnActReferenceIdeal.τ).loc Cert.FfnActReferenceIdeal.main_arg3))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5)
      ∧ r.2.mem ((c.tc : Thread Cert.FfnDh.nD Cert.FfnDh.τ).loc Cert.FfnDh.main_arg6) = m ((c.tc : Thread Cert.FfnDh.nD Cert.FfnDh.τ).loc Cert.FfnDh.main_arg6))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3)
      ∧ r.2.mem ((c.tc : Thread Cert.FfnDhReferenceIdeal.nD Cert.FfnDhReferenceIdeal.τ).loc Cert.FfnDhReferenceIdeal.main_arg4) = m ((c.tc : Thread Cert.FfnDhReferenceIdeal.nD Cert.FfnDhReferenceIdeal.τ).loc Cert.FfnDhReferenceIdeal.main_arg4)
      ∧ r.2.mem ((c.tc : Thread Cert.FfnDhReferenceIdeal.nD Cert.FfnDhReferenceIdeal.τ).loc Cert.FfnDhReferenceIdeal.main_arg5) = m ((c.tc : Thread Cert.FfnDhReferenceIdeal.nD Cert.FfnDhReferenceIdeal.τ).loc Cert.FfnDhReferenceIdeal.main_arg5)
      ∧ r.2.mem ((c.tc : Thread Cert.FfnDhReferenceIdeal.nD Cert.FfnDhReferenceIdeal.τ).loc Cert.FfnDhReferenceIdeal.main_arg6) = m ((c.tc : Thread Cert.FfnDhReferenceIdeal.nD Cert.FfnDhReferenceIdeal.τ).loc Cert.FfnDhReferenceIdeal.main_arg6))
      ∧ r.2.sem = fun _ => 0)

def quiescent_MmDh [hMmDh : Cert.MmDh.Facts] : Prop :=
  ∀ (m : (ℓ : Loc Cert.MmDh.nD Cert.MmDh.τ Cert.MmDh.sig) → Buf (Elt Bits) ℓ) (g : Dev Cert.MmDh.nD → PrngReg), Pre_MmDh m →
    θ_run (Cert.MmDh.defs (F := Bits)) (onTc (τ := Cert.MmDh.τ) (Cert.MmDh.main (F := Bits))) ⟨m, fun _ => 0, g⟩ (fun r => (∀ c : Dev Cert.MmDh.nD,
      r.2.mem ((c.tc : Thread Cert.MmDh.nD Cert.MmDh.τ).loc Cert.MmDh.main_arg0) = m ((c.tc : Thread Cert.MmDh.nD Cert.MmDh.τ).loc Cert.MmDh.main_arg0)
      ∧ r.2.mem ((c.tc : Thread Cert.MmDh.nD Cert.MmDh.τ).loc Cert.MmDh.main_arg1) = m ((c.tc : Thread Cert.MmDh.nD Cert.MmDh.τ).loc Cert.MmDh.main_arg1)
      ∧ r.2.mem ((c.tc : Thread Cert.MmDh.nD Cert.MmDh.τ).loc Cert.MmDh.main_arg2) = m ((c.tc : Thread Cert.MmDh.nD Cert.MmDh.τ).loc Cert.MmDh.main_arg2)
      ∧ r.2.mem ((c.tc : Thread Cert.MmDh.nD Cert.MmDh.τ).loc Cert.MmDh.main_arg3) = m ((c.tc : Thread Cert.MmDh.nD Cert.MmDh.τ).loc Cert.MmDh.main_arg3)
      ∧ r.2.mem ((c.tc : Thread Cert.MmDh.nD Cert.MmDh.τ).loc Cert.MmDh.main_arg4) = m ((c.tc : Thread Cert.MmDh.nD Cert.MmDh.τ).loc Cert.MmDh.main_arg4))
      ∧ r.2.sem = fun _ => 0)

def quiescent_MmDhIdeal [hMmDhIdeal : Cert.MmDhIdeal.Facts] : Prop :=
  ∀ (m : (ℓ : Loc Cert.MmDhIdeal.nD Cert.MmDhIdeal.τ Cert.MmDhIdeal.sig) → Buf (Elt Ideal) ℓ) (g : Dev Cert.MmDhIdeal.nD → PrngReg), Pre_MmDhIdeal m →
    θ_run (Cert.MmDhIdeal.defs (F := Ideal)) (onTc (τ := Cert.MmDhIdeal.τ) (Cert.MmDhIdeal.main (F := Ideal))) ⟨m, fun _ => 0, g⟩ (fun r => (∀ c : Dev Cert.MmDhIdeal.nD,
      r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
      ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
      ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
      ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
      ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4))
      ∧ r.2.sem = fun _ => 0)

def quiescent_MmDhReferenceIdeal [hMmDhReferenceIdeal : Cert.MmDhReferenceIdeal.Facts] : Prop :=
  ∀ (m : (ℓ : Loc Cert.MmDhReferenceIdeal.nD Cert.MmDhReferenceIdeal.τ Cert.MmDhReferenceIdeal.sig) → Buf (Elt Ideal) ℓ) (g : Dev Cert.MmDhReferenceIdeal.nD → PrngReg), Pre_MmDhReferenceIdeal m →
    θ_run (Cert.MmDhReferenceIdeal.defs (F := Ideal)) (onTc (τ := Cert.MmDhReferenceIdeal.τ) (Cert.MmDhReferenceIdeal.main (F := Ideal))) ⟨m, fun _ => 0, g⟩ (fun r => (∀ c : Dev Cert.MmDhReferenceIdeal.nD,
      r.2.mem ((c.tc : Thread Cert.MmDhReferenceIdeal.nD Cert.MmDhReferenceIdeal.τ).loc Cert.MmDhReferenceIdeal.main_arg0) = m ((c.tc : Thread Cert.MmDhReferenceIdeal.nD Cert.MmDhReferenceIdeal.τ).loc Cert.MmDhReferenceIdeal.main_arg0)
      ∧ r.2.mem ((c.tc : Thread Cert.MmDhReferenceIdeal.nD Cert.MmDhReferenceIdeal.τ).loc Cert.MmDhReferenceIdeal.main_arg1) = m ((c.tc : Thread Cert.MmDhReferenceIdeal.nD Cert.MmDhReferenceIdeal.τ).loc Cert.MmDhReferenceIdeal.main_arg1)
      ∧ r.2.mem ((c.tc : Thread Cert.MmDhReferenceIdeal.nD Cert.MmDhReferenceIdeal.τ).loc Cert.MmDhReferenceIdeal.main_arg2) = m ((c.tc : Thread Cert.MmDhReferenceIdeal.nD Cert.MmDhReferenceIdeal.τ).loc Cert.MmDhReferenceIdeal.main_arg2)
      ∧ r.2.mem ((c.tc : Thread Cert.MmDhReferenceIdeal.nD Cert.MmDhReferenceIdeal.τ).loc Cert.MmDhReferenceIdeal.main_arg3) = m ((c.tc : Thread Cert.MmDhReferenceIdeal.nD Cert.MmDhReferenceIdeal.τ).loc Cert.MmDhReferenceIdeal.main_arg3)
      ∧ r.2.mem ((c.tc : Thread Cert.MmDhReferenceIdeal.nD Cert.MmDhReferenceIdeal.τ).loc Cert.MmDhReferenceIdeal.main_arg4) = m ((c.tc : Thread Cert.MmDhReferenceIdeal.nD Cert.MmDhReferenceIdeal.τ).loc Cert.MmDhReferenceIdeal.main_arg4))
      ∧ r.2.sem = fun _ => 0)

def quiescent_FlashA [hFlashA : Cert.FlashA.Facts] : Prop :=
  ∀ (m : (ℓ : Loc Cert.FlashA.nD Cert.FlashA.τ Cert.FlashA.sig) → Buf (Elt Bits) ℓ) (g : Dev Cert.FlashA.nD → PrngReg), Pre_FlashA m →
    θ_run (Cert.FlashA.defs (F := Bits)) (onTc (τ := Cert.FlashA.τ) (Cert.FlashA.main (F := Bits))) ⟨m, fun _ => 0, g⟩ (fun r => (∀ c : Dev Cert.FlashA.nD,
      r.2.mem ((c.tc : Thread Cert.FlashA.nD Cert.FlashA.τ).loc Cert.FlashA.main_arg0) = m ((c.tc : Thread Cert.FlashA.nD Cert.FlashA.τ).loc Cert.FlashA.main_arg0)
      ∧ r.2.mem ((c.tc : Thread Cert.FlashA.nD Cert.FlashA.τ).loc Cert.FlashA.main_arg1) = m ((c.tc : Thread Cert.FlashA.nD Cert.FlashA.τ).loc Cert.FlashA.main_arg1)
      ∧ r.2.mem ((c.tc : Thread Cert.FlashA.nD Cert.FlashA.τ).loc Cert.FlashA.main_arg2) = m ((c.tc : Thread Cert.FlashA.nD Cert.FlashA.τ).loc Cert.FlashA.main_arg2))
      ∧ r.2.sem = fun _ => 0)

def quiescent_FlashAIdeal [hFlashAIdeal : Cert.FlashAIdeal.Facts] : Prop :=
  ∀ (m : (ℓ : Loc Cert.FlashAIdeal.nD Cert.FlashAIdeal.τ Cert.FlashAIdeal.sig) → Buf (Elt Ideal) ℓ) (g : Dev Cert.FlashAIdeal.nD → PrngReg), Pre_FlashAIdeal m →
    θ_run (Cert.FlashAIdeal.defs (F := Ideal)) (onTc (τ := Cert.FlashAIdeal.τ) (Cert.FlashAIdeal.main (F := Ideal))) ⟨m, fun _ => 0, g⟩ (fun r => (∀ c : Dev Cert.FlashAIdeal.nD,
      r.2.mem ((c.tc : Thread Cert.FlashAIdeal.nD Cert.FlashAIdeal.τ).loc Cert.FlashAIdeal.main_arg0) = m ((c.tc : Thread Cert.FlashAIdeal.nD Cert.FlashAIdeal.τ).loc Cert.FlashAIdeal.main_arg0)
      ∧ r.2.mem ((c.tc : Thread Cert.FlashAIdeal.nD Cert.FlashAIdeal.τ).loc Cert.FlashAIdeal.main_arg1) = m ((c.tc : Thread Cert.FlashAIdeal.nD Cert.FlashAIdeal.τ).loc Cert.FlashAIdeal.main_arg1)
      ∧ r.2.mem ((c.tc : Thread Cert.FlashAIdeal.nD Cert.FlashAIdeal.τ).loc Cert.FlashAIdeal.main_arg2) = m ((c.tc : Thread Cert.FlashAIdeal.nD Cert.FlashAIdeal.τ).loc Cert.FlashAIdeal.main_arg2))
      ∧ r.2.sem = fun _ => 0)

def quiescent_FlashAIdeal_pre_finite_entries [hFlashAIdeal : Cert.FlashAIdeal.Facts] [hPre_finite_entries : Cert.Pre_finite_entries.Facts] : Prop :=
  ∀ (m : (ℓ : Loc Cert.FlashAIdeal.nD Cert.FlashAIdeal.τ Cert.FlashAIdeal.sig) → Buf (Elt Ideal) ℓ) (g : Dev Cert.FlashAIdeal.nD → PrngReg), Pre_FlashAIdeal_finite_entries m →
    θ_run (Cert.FlashAIdeal.defs (F := Ideal)) (onTc (τ := Cert.FlashAIdeal.τ) (Cert.FlashAIdeal.main (F := Ideal))) ⟨m, fun _ => 0, g⟩ (fun r => (∀ c : Dev Cert.FlashAIdeal.nD,
      r.2.mem ((c.tc : Thread Cert.FlashAIdeal.nD Cert.FlashAIdeal.τ).loc Cert.FlashAIdeal.main_arg0) = m ((c.tc : Thread Cert.FlashAIdeal.nD Cert.FlashAIdeal.τ).loc Cert.FlashAIdeal.main_arg0)
      ∧ r.2.mem ((c.tc : Thread Cert.FlashAIdeal.nD Cert.FlashAIdeal.τ).loc Cert.FlashAIdeal.main_arg1) = m ((c.tc : Thread Cert.FlashAIdeal.nD Cert.FlashAIdeal.τ).loc Cert.FlashAIdeal.main_arg1)
      ∧ r.2.mem ((c.tc : Thread Cert.FlashAIdeal.nD Cert.FlashAIdeal.τ).loc Cert.FlashAIdeal.main_arg2) = m ((c.tc : Thread Cert.FlashAIdeal.nD Cert.FlashAIdeal.τ).loc Cert.FlashAIdeal.main_arg2))
      ∧ r.2.sem = fun _ => 0)

def quiescent_FlashAReferenceIdeal [hFlashAReferenceIdeal : Cert.FlashAReferenceIdeal.Facts] : Prop :=
  ∀ (m : (ℓ : Loc Cert.FlashAReferenceIdeal.nD Cert.FlashAReferenceIdeal.τ Cert.FlashAReferenceIdeal.sig) → Buf (Elt Ideal) ℓ) (g : Dev Cert.FlashAReferenceIdeal.nD → PrngReg), Pre_FlashAReferenceIdeal m →
    θ_run (Cert.FlashAReferenceIdeal.defs (F := Ideal)) (onTc (τ := Cert.FlashAReferenceIdeal.τ) (Cert.FlashAReferenceIdeal.main (F := Ideal))) ⟨m, fun _ => 0, g⟩ (fun r => (∀ c : Dev Cert.FlashAReferenceIdeal.nD,
      r.2.mem ((c.tc : Thread Cert.FlashAReferenceIdeal.nD Cert.FlashAReferenceIdeal.τ).loc Cert.FlashAReferenceIdeal.main_arg0) = m ((c.tc : Thread Cert.FlashAReferenceIdeal.nD Cert.FlashAReferenceIdeal.τ).loc Cert.FlashAReferenceIdeal.main_arg0)
      ∧ r.2.mem ((c.tc : Thread Cert.FlashAReferenceIdeal.nD Cert.FlashAReferenceIdeal.τ).loc Cert.FlashAReferenceIdeal.main_arg1) = m ((c.tc : Thread Cert.FlashAReferenceIdeal.nD Cert.FlashAReferenceIdeal.τ).loc Cert.FlashAReferenceIdeal.main_arg1)
      ∧ r.2.mem ((c.tc : Thread Cert.FlashAReferenceIdeal.nD Cert.FlashAReferenceIdeal.τ).loc Cert.FlashAReferenceIdeal.main_arg2) = m ((c.tc : Thread Cert.FlashAReferenceIdeal.nD Cert.FlashAReferenceIdeal.τ).loc Cert.FlashAReferenceIdeal.main_arg2))
      ∧ r.2.sem = fun _ => 0)

def quiescent_FlashAReferenceIdeal_pre_finite_entries [hFlashAReferenceIdeal : Cert.FlashAReferenceIdeal.Facts] [hPre_finite_entries : Cert.Pre_finite_entries.Facts] : Prop :=
  ∀ (m : (ℓ : Loc Cert.FlashAReferenceIdeal.nD Cert.FlashAReferenceIdeal.τ Cert.FlashAReferenceIdeal.sig) → Buf (Elt Ideal) ℓ) (g : Dev Cert.FlashAReferenceIdeal.nD → PrngReg), Pre_FlashAReferenceIdeal_finite_entries m →
    θ_run (Cert.FlashAReferenceIdeal.defs (F := Ideal)) (onTc (τ := Cert.FlashAReferenceIdeal.τ) (Cert.FlashAReferenceIdeal.main (F := Ideal))) ⟨m, fun _ => 0, g⟩ (fun r => (∀ c : Dev Cert.FlashAReferenceIdeal.nD,
      r.2.mem ((c.tc : Thread Cert.FlashAReferenceIdeal.nD Cert.FlashAReferenceIdeal.τ).loc Cert.FlashAReferenceIdeal.main_arg0) = m ((c.tc : Thread Cert.FlashAReferenceIdeal.nD Cert.FlashAReferenceIdeal.τ).loc Cert.FlashAReferenceIdeal.main_arg0)
      ∧ r.2.mem ((c.tc : Thread Cert.FlashAReferenceIdeal.nD Cert.FlashAReferenceIdeal.τ).loc Cert.FlashAReferenceIdeal.main_arg1) = m ((c.tc : Thread Cert.FlashAReferenceIdeal.nD Cert.FlashAReferenceIdeal.τ).loc Cert.FlashAReferenceIdeal.main_arg1)
      ∧ r.2.mem ((c.tc : Thread Cert.FlashAReferenceIdeal.nD Cert.FlashAReferenceIdeal.τ).loc Cert.FlashAReferenceIdeal.main_arg2) = m ((c.tc : Thread Cert.FlashAReferenceIdeal.nD Cert.FlashAReferenceIdeal.τ).loc Cert.FlashAReferenceIdeal.main_arg2))
      ∧ r.2.sem = fun _ => 0)

def quiescent_FlashABwd [hFlashABwd : Cert.FlashABwd.Facts] : Prop :=
  ∀ (m : (ℓ : Loc Cert.FlashABwd.nD Cert.FlashABwd.τ Cert.FlashABwd.sig) → Buf (Elt Bits) ℓ) (g : Dev Cert.FlashABwd.nD → PrngReg), Pre_FlashABwd m →
    θ_run (Cert.FlashABwd.defs (F := Bits)) (onTc (τ := Cert.FlashABwd.τ) (Cert.FlashABwd.main (F := Bits))) ⟨m, fun _ => 0, g⟩ (fun r => (∀ c : Dev Cert.FlashABwd.nD,
      r.2.mem ((c.tc : Thread Cert.FlashABwd.nD Cert.FlashABwd.τ).loc Cert.FlashABwd.main_arg0) = m ((c.tc : Thread Cert.FlashABwd.nD Cert.FlashABwd.τ).loc Cert.FlashABwd.main_arg0)
      ∧ r.2.mem ((c.tc : Thread Cert.FlashABwd.nD Cert.FlashABwd.τ).loc Cert.FlashABwd.main_arg1) = m ((c.tc : Thread Cert.FlashABwd.nD Cert.FlashABwd.τ).loc Cert.FlashABwd.main_arg1)
      ∧ r.2.mem ((c.tc : Thread Cert.FlashABwd.nD Cert.FlashABwd.τ).loc Cert.FlashABwd.main_arg2) = m ((c.tc : Thread Cert.FlashABwd.nD Cert.FlashABwd.τ).loc Cert.FlashABwd.main_arg2)
      ∧ r.2.mem ((c.tc : Thread Cert.FlashABwd.nD Cert.FlashABwd.τ).loc Cert.FlashABwd.main_arg3) = m ((c.tc : Thread Cert.FlashABwd.nD Cert.FlashABwd.τ).loc Cert.FlashABwd.main_arg3))
      ∧ r.2.sem = fun _ => 0)

def quiescent_FlashABwdIdeal [hFlashABwdIdeal : Cert.FlashABwdIdeal.Facts] : Prop :=
  ∀ (m : (ℓ : Loc Cert.FlashABwdIdeal.nD Cert.FlashABwdIdeal.τ Cert.FlashABwdIdeal.sig) → Buf (Elt Ideal) ℓ) (g : Dev Cert.FlashABwdIdeal.nD → PrngReg), Pre_FlashABwdIdeal m →
    θ_run (Cert.FlashABwdIdeal.defs (F := Ideal)) (onTc (τ := Cert.FlashABwdIdeal.τ) (Cert.FlashABwdIdeal.main (F := Ideal))) ⟨m, fun _ => 0, g⟩ (fun r => (∀ c : Dev Cert.FlashABwdIdeal.nD,
      r.2.mem ((c.tc : Thread Cert.FlashABwdIdeal.nD Cert.FlashABwdIdeal.τ).loc Cert.FlashABwdIdeal.main_arg0) = m ((c.tc : Thread Cert.FlashABwdIdeal.nD Cert.FlashABwdIdeal.τ).loc Cert.FlashABwdIdeal.main_arg0)
      ∧ r.2.mem ((c.tc : Thread Cert.FlashABwdIdeal.nD Cert.FlashABwdIdeal.τ).loc Cert.FlashABwdIdeal.main_arg1) = m ((c.tc : Thread Cert.FlashABwdIdeal.nD Cert.FlashABwdIdeal.τ).loc Cert.FlashABwdIdeal.main_arg1)
      ∧ r.2.mem ((c.tc : Thread Cert.FlashABwdIdeal.nD Cert.FlashABwdIdeal.τ).loc Cert.FlashABwdIdeal.main_arg2) = m ((c.tc : Thread Cert.FlashABwdIdeal.nD Cert.FlashABwdIdeal.τ).loc Cert.FlashABwdIdeal.main_arg2)
      ∧ r.2.mem ((c.tc : Thread Cert.FlashABwdIdeal.nD Cert.FlashABwdIdeal.τ).loc Cert.FlashABwdIdeal.main_arg3) = m ((c.tc : Thread Cert.FlashABwdIdeal.nD Cert.FlashABwdIdeal.τ).loc Cert.FlashABwdIdeal.main_arg3))
      ∧ r.2.sem = fun _ => 0)

def quiescent_FlashABwdIdeal_pre_finite_parts [hFlashABwdIdeal : Cert.FlashABwdIdeal.Facts] [hPre_finite_parts : Cert.Pre_finite_parts.Facts] : Prop :=
  ∀ (m : (ℓ : Loc Cert.FlashABwdIdeal.nD Cert.FlashABwdIdeal.τ Cert.FlashABwdIdeal.sig) → Buf (Elt Ideal) ℓ) (g : Dev Cert.FlashABwdIdeal.nD → PrngReg), Pre_FlashABwdIdeal_finite_parts m →
    θ_run (Cert.FlashABwdIdeal.defs (F := Ideal)) (onTc (τ := Cert.FlashABwdIdeal.τ) (Cert.FlashABwdIdeal.main (F := Ideal))) ⟨m, fun _ => 0, g⟩ (fun r => (∀ c : Dev Cert.FlashABwdIdeal.nD,
      r.2.mem ((c.tc : Thread Cert.FlashABwdIdeal.nD Cert.FlashABwdIdeal.τ).loc Cert.FlashABwdIdeal.main_arg0) = m ((c.tc : Thread Cert.FlashABwdIdeal.nD Cert.FlashABwdIdeal.τ).loc Cert.FlashABwdIdeal.main_arg0)
      ∧ r.2.mem ((c.tc : Thread Cert.FlashABwdIdeal.nD Cert.FlashABwdIdeal.τ).loc Cert.FlashABwdIdeal.main_arg1) = m ((c.tc : Thread Cert.FlashABwdIdeal.nD Cert.FlashABwdIdeal.τ).loc Cert.FlashABwdIdeal.main_arg1)
      ∧ r.2.mem ((c.tc : Thread Cert.FlashABwdIdeal.nD Cert.FlashABwdIdeal.τ).loc Cert.FlashABwdIdeal.main_arg2) = m ((c.tc : Thread Cert.FlashABwdIdeal.nD Cert.FlashABwdIdeal.τ).loc Cert.FlashABwdIdeal.main_arg2)
      ∧ r.2.mem ((c.tc : Thread Cert.FlashABwdIdeal.nD Cert.FlashABwdIdeal.τ).loc Cert.FlashABwdIdeal.main_arg3) = m ((c.tc : Thread Cert.FlashABwdIdeal.nD Cert.FlashABwdIdeal.τ).loc Cert.FlashABwdIdeal.main_arg3))
      ∧ r.2.sem = fun _ => 0)

def quiescent_FlashABwdReferenceIdeal [hFlashABwdReferenceIdeal : Cert.FlashABwdReferenceIdeal.Facts] : Prop :=
  ∀ (m : (ℓ : Loc Cert.FlashABwdReferenceIdeal.nD Cert.FlashABwdReferenceIdeal.τ Cert.FlashABwdReferenceIdeal.sig) → Buf (Elt Ideal) ℓ) (g : Dev Cert.FlashABwdReferenceIdeal.nD → PrngReg), Pre_FlashABwdReferenceIdeal m →
    θ_run (Cert.FlashABwdReferenceIdeal.defs (F := Ideal)) (onTc (τ := Cert.FlashABwdReferenceIdeal.τ) (Cert.FlashABwdReferenceIdeal.main (F := Ideal))) ⟨m, fun _ => 0, g⟩ (fun r => (∀ c : Dev Cert.FlashABwdReferenceIdeal.nD,
      r.2.mem ((c.tc : Thread Cert.FlashABwdReferenceIdeal.nD Cert.FlashABwdReferenceIdeal.τ).loc Cert.FlashABwdReferenceIdeal.main_arg0) = m ((c.tc : Thread Cert.FlashABwdReferenceIdeal.nD Cert.FlashABwdReferenceIdeal.τ).loc Cert.FlashABwdReferenceIdeal.main_arg0)
      ∧ r.2.mem ((c.tc : Thread Cert.FlashABwdReferenceIdeal.nD Cert.FlashABwdReferenceIdeal.τ).loc Cert.FlashABwdReferenceIdeal.main_arg1) = m ((c.tc : Thread Cert.FlashABwdReferenceIdeal.nD Cert.FlashABwdReferenceIdeal.τ).loc Cert.FlashABwdReferenceIdeal.main_arg1)
      ∧ r.2.mem ((c.tc : Thread Cert.FlashABwdReferenceIdeal.nD Cert.FlashABwdReferenceIdeal.τ).loc Cert.FlashABwdReferenceIdeal.main_arg2) = m ((c.tc : Thread Cert.FlashABwdReferenceIdeal.nD Cert.FlashABwdReferenceIdeal.τ).loc Cert.FlashABwdReferenceIdeal.main_arg2)
      ∧ r.2.mem ((c.tc : Thread Cert.FlashABwdReferenceIdeal.nD Cert.FlashABwdReferenceIdeal.τ).loc Cert.FlashABwdReferenceIdeal.main_arg3) = m ((c.tc : Thread Cert.FlashABwdReferenceIdeal.nD Cert.FlashABwdReferenceIdeal.τ).loc Cert.FlashABwdReferenceIdeal.main_arg3))
      ∧ r.2.sem = fun _ => 0)

def quiescent_FlashABwdReferenceIdeal_pre_finite_parts [hFlashABwdReferenceIdeal : Cert.FlashABwdReferenceIdeal.Facts] [hPre_finite_parts : Cert.Pre_finite_parts.Facts] : Prop :=
  ∀ (m : (ℓ : Loc Cert.FlashABwdReferenceIdeal.nD Cert.FlashABwdReferenceIdeal.τ Cert.FlashABwdReferenceIdeal.sig) → Buf (Elt Ideal) ℓ) (g : Dev Cert.FlashABwdReferenceIdeal.nD → PrngReg), Pre_FlashABwdReferenceIdeal_finite_parts m →
    θ_run (Cert.FlashABwdReferenceIdeal.defs (F := Ideal)) (onTc (τ := Cert.FlashABwdReferenceIdeal.τ) (Cert.FlashABwdReferenceIdeal.main (F := Ideal))) ⟨m, fun _ => 0, g⟩ (fun r => (∀ c : Dev Cert.FlashABwdReferenceIdeal.nD,
      r.2.mem ((c.tc : Thread Cert.FlashABwdReferenceIdeal.nD Cert.FlashABwdReferenceIdeal.τ).loc Cert.FlashABwdReferenceIdeal.main_arg0) = m ((c.tc : Thread Cert.FlashABwdReferenceIdeal.nD Cert.FlashABwdReferenceIdeal.τ).loc Cert.FlashABwdReferenceIdeal.main_arg0)
      ∧ r.2.mem ((c.tc : Thread Cert.FlashABwdReferenceIdeal.nD Cert.FlashABwdReferenceIdeal.τ).loc Cert.FlashABwdReferenceIdeal.main_arg1) = m ((c.tc : Thread Cert.FlashABwdReferenceIdeal.nD Cert.FlashABwdReferenceIdeal.τ).loc Cert.FlashABwdReferenceIdeal.main_arg1)
      ∧ r.2.mem ((c.tc : Thread Cert.FlashABwdReferenceIdeal.nD Cert.FlashABwdReferenceIdeal.τ).loc Cert.FlashABwdReferenceIdeal.main_arg2) = m ((c.tc : Thread Cert.FlashABwdReferenceIdeal.nD Cert.FlashABwdReferenceIdeal.τ).loc Cert.FlashABwdReferenceIdeal.main_arg2)
      ∧ r.2.mem ((c.tc : Thread Cert.FlashABwdReferenceIdeal.nD Cert.FlashABwdReferenceIdeal.τ).loc Cert.FlashABwdReferenceIdeal.main_arg3) = m ((c.tc : Thread Cert.FlashABwdReferenceIdeal.nD Cert.FlashABwdReferenceIdeal.τ).loc Cert.FlashABwdReferenceIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3)
      ∧ r.2.mem ((c.tc : Thread Cert.AdIn.nD Cert.AdIn.τ).loc Cert.AdIn.main_arg4) = m ((c.tc : Thread Cert.AdIn.nD Cert.AdIn.τ).loc Cert.AdIn.main_arg4))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
      ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ r.2.sem = fun _ => 0)

def quiescent_AdInReferenceIdeal [hAdInReferenceIdeal : Cert.AdInReferenceIdeal.Facts] : Prop :=
  ∀ (m : (ℓ : Loc Cert.AdInReferenceIdeal.nD Cert.AdInReferenceIdeal.τ Cert.AdInReferenceIdeal.sig) → Buf (Elt Ideal) ℓ) (g : Dev Cert.AdInReferenceIdeal.nD → PrngReg), Pre_AdInReferenceIdeal m →
    θ_run (Cert.AdInReferenceIdeal.defs (F := Ideal)) (onTc (τ := Cert.AdInReferenceIdeal.τ) (Cert.AdInReferenceIdeal.main (F := Ideal))) ⟨m, fun _ => 0, g⟩ (fun r => (∀ c : Dev Cert.AdInReferenceIdeal.nD,
      r.2.mem ((c.tc : Thread Cert.AdInReferenceIdeal.nD Cert.AdInReferenceIdeal.τ).loc Cert.AdInReferenceIdeal.main_arg0) = m ((c.tc : Thread Cert.AdInReferenceIdeal.nD Cert.AdInReferenceIdeal.τ).loc Cert.AdInReferenceIdeal.main_arg0)
      ∧ r.2.mem ((c.tc : Thread Cert.AdInReferenceIdeal.nD Cert.AdInReferenceIdeal.τ).loc Cert.AdInReferenceIdeal.main_arg1) = m ((c.tc : Thread Cert.AdInReferenceIdeal.nD Cert.AdInReferenceIdeal.τ).loc Cert.AdInReferenceIdeal.main_arg1)
      ∧ r.2.mem ((c.tc : Thread Cert.AdInReferenceIdeal.nD Cert.AdInReferenceIdeal.τ).loc Cert.AdInReferenceIdeal.main_arg2) = m ((c.tc : Thread Cert.AdInReferenceIdeal.nD Cert.AdInReferenceIdeal.τ).loc Cert.AdInReferenceIdeal.main_arg2)
      ∧ r.2.mem ((c.tc : Thread Cert.AdInReferenceIdeal.nD Cert.AdInReferenceIdeal.τ).loc Cert.AdInReferenceIdeal.main_arg3) = m ((c.tc : Thread Cert.AdInReferenceIdeal.nD Cert.AdInReferenceIdeal.τ).loc Cert.AdInReferenceIdeal.main_arg3)
      ∧ r.2.mem ((c.tc : Thread Cert.AdInReferenceIdeal.nD Cert.AdInReferenceIdeal.τ).loc Cert.AdInReferenceIdeal.main_arg4) = m ((c.tc : Thread Cert.AdInReferenceIdeal.nD Cert.AdInReferenceIdeal.τ).loc Cert.AdInReferenceIdeal.main_arg4))
      ∧ r.2.sem = fun _ => 0)

def quiescent_AdBrA [hAdBrA : Cert.AdBrA.Facts] : Prop :=
  ∀ (m : (ℓ : Loc Cert.AdBrA.nD Cert.AdBrA.τ Cert.AdBrA.sig) → Buf (Elt Bits) ℓ) (g : Dev Cert.AdBrA.nD → PrngReg), Pre_AdBrA m →
    θ_run (Cert.AdBrA.defs (F := Bits)) (onTc (τ := Cert.AdBrA.τ) (Cert.AdBrA.main (F := Bits))) ⟨m, fun _ => 0, g⟩ (fun r => (∀ c : Dev Cert.AdBrA.nD,
      r.2.mem ((c.tc : Thread Cert.AdBrA.nD Cert.AdBrA.τ).loc Cert.AdBrA.main_arg0) = m ((c.tc : Thread Cert.AdBrA.nD Cert.AdBrA.τ).loc Cert.AdBrA.main_arg0)
      ∧ r.2.mem ((c.tc : Thread Cert.AdBrA.nD Cert.AdBrA.τ).loc Cert.AdBrA.main_arg1) = m ((c.tc : Thread Cert.AdBrA.nD Cert.AdBrA.τ).loc Cert.AdBrA.main_arg1)
      ∧ r.2.mem ((c.tc : Thread Cert.AdBrA.nD Cert.AdBrA.τ).loc Cert.AdBrA.main_arg2) = m ((c.tc : Thread Cert.AdBrA.nD Cert.AdBrA.τ).loc Cert.AdBrA.main_arg2)
      ∧ r.2.mem ((c.tc : Thread Cert.AdBrA.nD Cert.AdBrA.τ).loc Cert.AdBrA.main_arg3) = m ((c.tc : Thread Cert.AdBrA.nD Cert.AdBrA.τ).loc Cert.AdBrA.main_arg3)
      ∧ r.2.mem ((c.tc : Thread Cert.AdBrA.nD Cert.AdBrA.τ).loc Cert.AdBrA.main_arg4) = m ((c.tc : Thread Cert.AdBrA.nD Cert.AdBrA.τ).loc Cert.AdBrA.main_arg4))
      ∧ r.2.sem = fun _ => 0)

def quiescent_AdBrAIdeal [hAdBrAIdeal : Cert.AdBrAIdeal.Facts] : Prop :=
  ∀ (m : (ℓ : Loc Cert.AdBrAIdeal.nD Cert.AdBrAIdeal.τ Cert.AdBrAIdeal.sig) → Buf (Elt Ideal) ℓ) (g : Dev Cert.AdBrAIdeal.nD → PrngReg), Pre_AdBrAIdeal m →
    θ_run (Cert.AdBrAIdeal.defs (F := Ideal)) (onTc (τ := Cert.AdBrAIdeal.τ) (Cert.AdBrAIdeal.main (F := Ideal))) ⟨m, fun _ => 0, g⟩ (fun r => (∀ c : Dev Cert.AdBrAIdeal.nD,
      r.2.mem ((c.tc : Thread Cert.AdBrAIdeal.nD Cert.AdBrAIdeal.τ).loc Cert.AdBrAIdeal.main_arg0) = m ((c.tc : Thread Cert.AdBrAIdeal.nD Cert.AdBrAIdeal.τ).loc Cert.AdBrAIdeal.main_arg0)
      ∧ r.2.mem ((c.tc : Thread Cert.AdBrAIdeal.nD Cert.AdBrAIdeal.τ).loc Cert.AdBrAIdeal.main_arg1) = m ((c.tc : Thread Cert.AdBrAIdeal.nD Cert.AdBrAIdeal.τ).loc Cert.AdBrAIdeal.main_arg1)
      ∧ r.2.mem ((c.tc : Thread Cert.AdBrAIdeal.nD Cert.AdBrAIdeal.τ).loc Cert.AdBrAIdeal.main_arg2) = m ((c.tc : Thread Cert.AdBrAIdeal.nD Cert.AdBrAIdeal.τ).loc Cert.AdBrAIdeal.main_arg2)
      ∧ r.2.mem ((c.tc : Thread Cert.AdBrAIdeal.nD Cert.AdBrAIdeal.τ).loc Cert.AdBrAIdeal.main_arg3) = m ((c.tc : Thread Cert.AdBrAIdeal.nD Cert.AdBrAIdeal.τ).loc Cert.AdBrAIdeal.main_arg3)
      ∧ r.2.mem ((c.tc : Thread Cert.AdBrAIdeal.nD Cert.AdBrAIdeal.τ).loc Cert.AdBrAIdeal.main_arg4) = m ((c.tc : Thread Cert.AdBrAIdeal.nD Cert.AdBrAIdeal.τ).loc Cert.AdBrAIdeal.main_arg4))
      ∧ r.2.sem = fun _ => 0)

def quiescent_AdBrAReferenceIdeal [hAdBrAReferenceIdeal : Cert.AdBrAReferenceIdeal.Facts] : Prop :=
  ∀ (m : (ℓ : Loc Cert.AdBrAReferenceIdeal.nD Cert.AdBrAReferenceIdeal.τ Cert.AdBrAReferenceIdeal.sig) → Buf (Elt Ideal) ℓ) (g : Dev Cert.AdBrAReferenceIdeal.nD → PrngReg), Pre_AdBrAReferenceIdeal m →
    θ_run (Cert.AdBrAReferenceIdeal.defs (F := Ideal)) (onTc (τ := Cert.AdBrAReferenceIdeal.τ) (Cert.AdBrAReferenceIdeal.main (F := Ideal))) ⟨m, fun _ => 0, g⟩ (fun r => (∀ c : Dev Cert.AdBrAReferenceIdeal.nD,
      r.2.mem ((c.tc : Thread Cert.AdBrAReferenceIdeal.nD Cert.AdBrAReferenceIdeal.τ).loc Cert.AdBrAReferenceIdeal.main_arg0) = m ((c.tc : Thread Cert.AdBrAReferenceIdeal.nD Cert.AdBrAReferenceIdeal.τ).loc Cert.AdBrAReferenceIdeal.main_arg0)
      ∧ r.2.mem ((c.tc : Thread Cert.AdBrAReferenceIdeal.nD Cert.AdBrAReferenceIdeal.τ).loc Cert.AdBrAReferenceIdeal.main_arg1) = m ((c.tc : Thread Cert.AdBrAReferenceIdeal.nD Cert.AdBrAReferenceIdeal.τ).loc Cert.AdBrAReferenceIdeal.main_arg1)
      ∧ r.2.mem ((c.tc : Thread Cert.AdBrAReferenceIdeal.nD Cert.AdBrAReferenceIdeal.τ).loc Cert.AdBrAReferenceIdeal.main_arg2) = m ((c.tc : Thread Cert.AdBrAReferenceIdeal.nD Cert.AdBrAReferenceIdeal.τ).loc Cert.AdBrAReferenceIdeal.main_arg2)
      ∧ r.2.mem ((c.tc : Thread Cert.AdBrAReferenceIdeal.nD Cert.AdBrAReferenceIdeal.τ).loc Cert.AdBrAReferenceIdeal.main_arg3) = m ((c.tc : Thread Cert.AdBrAReferenceIdeal.nD Cert.AdBrAReferenceIdeal.τ).loc Cert.AdBrAReferenceIdeal.main_arg3)
      ∧ r.2.mem ((c.tc : Thread Cert.AdBrAReferenceIdeal.nD Cert.AdBrAReferenceIdeal.τ).loc Cert.AdBrAReferenceIdeal.main_arg4) = m ((c.tc : Thread Cert.AdBrAReferenceIdeal.nD Cert.AdBrAReferenceIdeal.τ).loc Cert.AdBrAReferenceIdeal.main_arg4))
      ∧ r.2.sem = fun _ => 0)

def quiescent_AdBrB [hAdBrB : Cert.AdBrB.Facts] : Prop :=
  ∀ (m : (ℓ : Loc Cert.AdBrB.nD Cert.AdBrB.τ Cert.AdBrB.sig) → Buf (Elt Bits) ℓ) (g : Dev Cert.AdBrB.nD → PrngReg), Pre_AdBrB m →
    θ_run (Cert.AdBrB.defs (F := Bits)) (onTc (τ := Cert.AdBrB.τ) (Cert.AdBrB.main (F := Bits))) ⟨m, fun _ => 0, g⟩ (fun r => (∀ c : Dev Cert.AdBrB.nD,
      r.2.mem ((c.tc : Thread Cert.AdBrB.nD Cert.AdBrB.τ).loc Cert.AdBrB.main_arg0) = m ((c.tc : Thread Cert.AdBrB.nD Cert.AdBrB.τ).loc Cert.AdBrB.main_arg0)
      ∧ r.2.mem ((c.tc : Thread Cert.AdBrB.nD Cert.AdBrB.τ).loc Cert.AdBrB.main_arg1) = m ((c.tc : Thread Cert.AdBrB.nD Cert.AdBrB.τ).loc Cert.AdBrB.main_arg1)
      ∧ r.2.mem ((c.tc : Thread Cert.AdBrB.nD Cert.AdBrB.τ).loc Cert.AdBrB.main_arg2) = m ((c.tc : Thread Cert.AdBrB.nD Cert.AdBrB.τ).loc Cert.AdBrB.main_arg2)
      ∧ r.2.mem ((c.tc : Thread Cert.AdBrB.nD Cert.AdBrB.τ).loc Cert.AdBrB.main_arg3) = m ((c.tc : Thread Cert.AdBrB.nD Cert.AdBrB.τ).loc Cert.AdBrB.main_arg3)
      ∧ r.2.mem ((c.tc : Thread Cert.AdBrB.nD Cert.AdBrB.τ).loc Cert.AdBrB.main_arg4) = m ((c.tc : Thread Cert.AdBrB.nD Cert.AdBrB.τ).loc Cert.AdBrB.main_arg4))
      ∧ r.2.sem = fun _ => 0)

def quiescent_AdBrBIdeal [hAdBrBIdeal : Cert.AdBrBIdeal.Facts] : Prop :=
  ∀ (m : (ℓ : Loc Cert.AdBrBIdeal.nD Cert.AdBrBIdeal.τ Cert.AdBrBIdeal.sig) → Buf (Elt Ideal) ℓ) (g : Dev Cert.AdBrBIdeal.nD → PrngReg), Pre_AdBrBIdeal m →
    θ_run (Cert.AdBrBIdeal.defs (F := Ideal)) (onTc (τ := Cert.AdBrBIdeal.τ) (Cert.AdBrBIdeal.main (F := Ideal))) ⟨m, fun _ => 0, g⟩ (fun r => (∀ c : Dev Cert.AdBrBIdeal.nD,
      r.2.mem ((c.tc : Thread Cert.AdBrBIdeal.nD Cert.AdBrBIdeal.τ).loc Cert.AdBrBIdeal.main_arg0) = m ((c.tc : Thread Cert.AdBrBIdeal.nD Cert.AdBrBIdeal.τ).loc Cert.AdBrBIdeal.main_arg0)
      ∧ r.2.mem ((c.tc : Thread Cert.AdBrBIdeal.nD Cert.AdBrBIdeal.τ).loc Cert.AdBrBIdeal.main_arg1) = m ((c.tc : Thread Cert.AdBrBIdeal.nD Cert.AdBrBIdeal.τ).loc Cert.AdBrBIdeal.main_arg1)
      ∧ r.2.mem ((c.tc : Thread Cert.AdBrBIdeal.nD Cert.AdBrBIdeal.τ).loc Cert.AdBrBIdeal.main_arg2) = m ((c.tc : Thread Cert.AdBrBIdeal.nD Cert.AdBrBIdeal.τ).loc Cert.AdBrBIdeal.main_arg2)
      ∧ r.2.mem ((c.tc : Thread Cert.AdBrBIdeal.nD Cert.AdBrBIdeal.τ).loc Cert.AdBrBIdeal.main_arg3) = m ((c.tc : Thread Cert.AdBrBIdeal.nD Cert.AdBrBIdeal.τ).loc Cert.AdBrBIdeal.main_arg3)
      ∧ r.2.mem ((c.tc : Thread Cert.AdBrBIdeal.nD Cert.AdBrBIdeal.τ).loc Cert.AdBrBIdeal.main_arg4) = m ((c.tc : Thread Cert.AdBrBIdeal.nD Cert.AdBrBIdeal.τ).loc Cert.AdBrBIdeal.main_arg4))
      ∧ r.2.sem = fun _ => 0)

def quiescent_AdBrBReferenceIdeal [hAdBrBReferenceIdeal : Cert.AdBrBReferenceIdeal.Facts] : Prop :=
  ∀ (m : (ℓ : Loc Cert.AdBrBReferenceIdeal.nD Cert.AdBrBReferenceIdeal.τ Cert.AdBrBReferenceIdeal.sig) → Buf (Elt Ideal) ℓ) (g : Dev Cert.AdBrBReferenceIdeal.nD → PrngReg), Pre_AdBrBReferenceIdeal m →
    θ_run (Cert.AdBrBReferenceIdeal.defs (F := Ideal)) (onTc (τ := Cert.AdBrBReferenceIdeal.τ) (Cert.AdBrBReferenceIdeal.main (F := Ideal))) ⟨m, fun _ => 0, g⟩ (fun r => (∀ c : Dev Cert.AdBrBReferenceIdeal.nD,
      r.2.mem ((c.tc : Thread Cert.AdBrBReferenceIdeal.nD Cert.AdBrBReferenceIdeal.τ).loc Cert.AdBrBReferenceIdeal.main_arg0) = m ((c.tc : Thread Cert.AdBrBReferenceIdeal.nD Cert.AdBrBReferenceIdeal.τ).loc Cert.AdBrBReferenceIdeal.main_arg0)
      ∧ r.2.mem ((c.tc : Thread Cert.AdBrBReferenceIdeal.nD Cert.AdBrBReferenceIdeal.τ).loc Cert.AdBrBReferenceIdeal.main_arg1) = m ((c.tc : Thread Cert.AdBrBReferenceIdeal.nD Cert.AdBrBReferenceIdeal.τ).loc Cert.AdBrBReferenceIdeal.main_arg1)
      ∧ r.2.mem ((c.tc : Thread Cert.AdBrBReferenceIdeal.nD Cert.AdBrBReferenceIdeal.τ).loc Cert.AdBrBReferenceIdeal.main_arg2) = m ((c.tc : Thread Cert.AdBrBReferenceIdeal.nD Cert.AdBrBReferenceIdeal.τ).loc Cert.AdBrBReferenceIdeal.main_arg2)
      ∧ r.2.mem ((c.tc : Thread Cert.AdBrBReferenceIdeal.nD Cert.AdBrBReferenceIdeal.τ).loc Cert.AdBrBReferenceIdeal.main_arg3) = m ((c.tc : Thread Cert.AdBrBReferenceIdeal.nD Cert.AdBrBReferenceIdeal.τ).loc Cert.AdBrBReferenceIdeal.main_arg3)
      ∧ r.2.mem ((c.tc : Thread Cert.AdBrBReferenceIdeal.nD Cert.AdBrBReferenceIdeal.τ).loc Cert.AdBrBReferenceIdeal.main_arg4) = m ((c.tc : Thread Cert.AdBrBReferenceIdeal.nD Cert.AdBrBReferenceIdeal.τ).loc Cert.AdBrBReferenceIdeal.main_arg4))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3)
      ∧ r.2.mem ((c.tc : Thread Cert.AdOut.nD Cert.AdOut.τ).loc Cert.AdOut.main_arg4) = m ((c.tc : Thread Cert.AdOut.nD Cert.AdOut.τ).loc Cert.AdOut.main_arg4))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
      ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4))
      ∧ r.2.sem = fun _ => 0)

def quiescent_AdOutReferenceIdeal [hAdOutReferenceIdeal : Cert.AdOutReferenceIdeal.Facts] : Prop :=
  ∀ (m : (ℓ : Loc Cert.AdOutReferenceIdeal.nD Cert.AdOutReferenceIdeal.τ Cert.AdOutReferenceIdeal.sig) → Buf (Elt Ideal) ℓ) (g : Dev Cert.AdOutReferenceIdeal.nD → PrngReg), Pre_AdOutReferenceIdeal m →
    θ_run (Cert.AdOutReferenceIdeal.defs (F := Ideal)) (onTc (τ := Cert.AdOutReferenceIdeal.τ) (Cert.AdOutReferenceIdeal.main (F := Ideal))) ⟨m, fun _ => 0, g⟩ (fun r => (∀ c : Dev Cert.AdOutReferenceIdeal.nD,
      r.2.mem ((c.tc : Thread Cert.AdOutReferenceIdeal.nD Cert.AdOutReferenceIdeal.τ).loc Cert.AdOutReferenceIdeal.main_arg0) = m ((c.tc : Thread Cert.AdOutReferenceIdeal.nD Cert.AdOutReferenceIdeal.τ).loc Cert.AdOutReferenceIdeal.main_arg0)
      ∧ r.2.mem ((c.tc : Thread Cert.AdOutReferenceIdeal.nD Cert.AdOutReferenceIdeal.τ).loc Cert.AdOutReferenceIdeal.main_arg1) = m ((c.tc : Thread Cert.AdOutReferenceIdeal.nD Cert.AdOutReferenceIdeal.τ).loc Cert.AdOutReferenceIdeal.main_arg1)
      ∧ r.2.mem ((c.tc : Thread Cert.AdOutReferenceIdeal.nD Cert.AdOutReferenceIdeal.τ).loc Cert.AdOutReferenceIdeal.main_arg2) = m ((c.tc : Thread Cert.AdOutReferenceIdeal.nD Cert.AdOutReferenceIdeal.τ).loc Cert.AdOutReferenceIdeal.main_arg2)
      ∧ r.2.mem ((c.tc : Thread Cert.AdOutReferenceIdeal.nD Cert.AdOutReferenceIdeal.τ).loc Cert.AdOutReferenceIdeal.main_arg3) = m ((c.tc : Thread Cert.AdOutReferenceIdeal.nD Cert.AdOutReferenceIdeal.τ).loc Cert.AdOutReferenceIdeal.main_arg3)
      ∧ r.2.mem ((c.tc : Thread Cert.AdOutReferenceIdeal.nD Cert.AdOutReferenceIdeal.τ).loc Cert.AdOutReferenceIdeal.main_arg4) = m ((c.tc : Thread Cert.AdOutReferenceIdeal.nD Cert.AdOutReferenceIdeal.τ).loc Cert.AdOutReferenceIdeal.main_arg4))
      ∧ r.2.sem = fun _ => 0)

def quiescent_AdGate [hAdGate : Cert.AdGate.Facts] : Prop :=
  ∀ (m : (ℓ : Loc Cert.AdGate.nD Cert.AdGate.τ Cert.AdGate.sig) → Buf (Elt Bits) ℓ) (g : Dev Cert.AdGate.nD → PrngReg), Pre_AdGate m →
    θ_run (Cert.AdGate.defs (F := Bits)) (onTc (τ := Cert.AdGate.τ) (Cert.AdGate.main (F := Bits))) ⟨m, fun _ => 0, g⟩ (fun r => (∀ c : Dev Cert.AdGate.nD,
      r.2.mem ((c.tc : Thread Cert.AdGate.nD Cert.AdGate.τ).loc Cert.AdGate.main_arg0) = m ((c.tc : Thread Cert.AdGate.nD Cert.AdGate.τ).loc Cert.AdGate.main_arg0)
      ∧ r.2.mem ((c.tc : Thread Cert.AdGate.nD Cert.AdGate.τ).loc Cert.AdGate.main_arg1) = m ((c.tc : Thread Cert.AdGate.nD Cert.AdGate.τ).loc Cert.AdGate.main_arg1)
      ∧ r.2.mem ((c.tc : Thread Cert.AdGate.nD Cert.AdGate.τ).loc Cert.AdGate.main_arg2) = m ((c.tc : Thread Cert.AdGate.nD Cert.AdGate.τ).loc Cert.AdGate.main_arg2)
      ∧ r.2.mem ((c.tc : Thread Cert.AdGate.nD Cert.AdGate.τ).loc Cert.AdGate.main_arg3) = m ((c.tc : Thread Cert.AdGate.nD Cert.AdGate.τ).loc Cert.AdGate.main_arg3)
      ∧ r.2.mem ((c.tc : Thread Cert.AdGate.nD Cert.AdGate.τ).loc Cert.AdGate.main_arg4) = m ((c.tc : Thread Cert.AdGate.nD Cert.AdGate.τ).loc Cert.AdGate.main_arg4))
      ∧ r.2.sem = fun _ => 0)

def quiescent_AdGateIdeal [hAdGateIdeal : Cert.AdGateIdeal.Facts] : Prop :=
  ∀ (m : (ℓ : Loc Cert.AdGateIdeal.nD Cert.AdGateIdeal.τ Cert.AdGateIdeal.sig) → Buf (Elt Ideal) ℓ) (g : Dev Cert.AdGateIdeal.nD → PrngReg), Pre_AdGateIdeal m →
    θ_run (Cert.AdGateIdeal.defs (F := Ideal)) (onTc (τ := Cert.AdGateIdeal.τ) (Cert.AdGateIdeal.main (F := Ideal))) ⟨m, fun _ => 0, g⟩ (fun r => (∀ c : Dev Cert.AdGateIdeal.nD,
      r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
      ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
      ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
      ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3)
      ∧ r.2.mem ((c.tc : Thread Cert.AdGateIdeal.nD Cert.AdGateIdeal.τ).loc Cert.AdGateIdeal.main_arg4) = m ((c.tc : Thread Cert.AdGateIdeal.nD Cert.AdGateIdeal.τ).loc Cert.AdGateIdeal.main_arg4))
      ∧ r.2.sem = fun _ => 0)

def quiescent_AdGateReferenceIdeal [hAdGateReferenceIdeal : Cert.AdGateReferenceIdeal.Facts] : Prop :=
  ∀ (m : (ℓ : Loc Cert.AdGateReferenceIdeal.nD Cert.AdGateReferenceIdeal.τ Cert.AdGateReferenceIdeal.sig) → Buf (Elt Ideal) ℓ) (g : Dev Cert.AdGateReferenceIdeal.nD → PrngReg), Pre_AdGateReferenceIdeal m →
    θ_run (Cert.AdGateReferenceIdeal.defs (F := Ideal)) (onTc (τ := Cert.AdGateReferenceIdeal.τ) (Cert.AdGateReferenceIdeal.main (F := Ideal))) ⟨m, fun _ => 0, g⟩ (fun r => (∀ c : Dev Cert.AdGateReferenceIdeal.nD,
      r.2.mem ((c.tc : Thread Cert.AdGateReferenceIdeal.nD Cert.AdGateReferenceIdeal.τ).loc Cert.AdGateReferenceIdeal.main_arg0) = m ((c.tc : Thread Cert.AdGateReferenceIdeal.nD Cert.AdGateReferenceIdeal.τ).loc Cert.AdGateReferenceIdeal.main_arg0)
      ∧ r.2.mem ((c.tc : Thread Cert.AdGateReferenceIdeal.nD Cert.AdGateReferenceIdeal.τ).loc Cert.AdGateReferenceIdeal.main_arg1) = m ((c.tc : Thread Cert.AdGateReferenceIdeal.nD Cert.AdGateReferenceIdeal.τ).loc Cert.AdGateReferenceIdeal.main_arg1)
      ∧ r.2.mem ((c.tc : Thread Cert.AdGateReferenceIdeal.nD Cert.AdGateReferenceIdeal.τ).loc Cert.AdGateReferenceIdeal.main_arg2) = m ((c.tc : Thread Cert.AdGateReferenceIdeal.nD Cert.AdGateReferenceIdeal.τ).loc Cert.AdGateReferenceIdeal.main_arg2)
      ∧ r.2.mem ((c.tc : Thread Cert.AdGateReferenceIdeal.nD Cert.AdGateReferenceIdeal.τ).loc Cert.AdGateReferenceIdeal.main_arg3) = m ((c.tc : Thread Cert.AdGateReferenceIdeal.nD Cert.AdGateReferenceIdeal.τ).loc Cert.AdGateReferenceIdeal.main_arg3)
      ∧ r.2.mem ((c.tc : Thread Cert.AdGateReferenceIdeal.nD Cert.AdGateReferenceIdeal.τ).loc Cert.AdGateReferenceIdeal.main_arg4) = m ((c.tc : Thread Cert.AdGateReferenceIdeal.nD Cert.AdGateReferenceIdeal.τ).loc Cert.AdGateReferenceIdeal.main_arg4))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3)
      ∧ r.2.mem ((c.tc : Thread Cert.AdDown.nD Cert.AdDown.τ).loc Cert.AdDown.main_arg4) = m ((c.tc : Thread Cert.AdDown.nD Cert.AdDown.τ).loc Cert.AdDown.main_arg4))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3)
      ∧ r.2.mem ((c.tc : Thread Cert.AdDownIdeal.nD Cert.AdDownIdeal.τ).loc Cert.AdDownIdeal.main_arg4) = m ((c.tc : Thread Cert.AdDownIdeal.nD Cert.AdDownIdeal.τ).loc Cert.AdDownIdeal.main_arg4))
      ∧ r.2.sem = fun _ => 0)

def quiescent_AdDownReferenceIdeal [hAdDownReferenceIdeal : Cert.AdDownReferenceIdeal.Facts] : Prop :=
  ∀ (m : (ℓ : Loc Cert.AdDownReferenceIdeal.nD Cert.AdDownReferenceIdeal.τ Cert.AdDownReferenceIdeal.sig) → Buf (Elt Ideal) ℓ) (g : Dev Cert.AdDownReferenceIdeal.nD → PrngReg), Pre_AdDownReferenceIdeal m →
    θ_run (Cert.AdDownReferenceIdeal.defs (F := Ideal)) (onTc (τ := Cert.AdDownReferenceIdeal.τ) (Cert.AdDownReferenceIdeal.main (F := Ideal))) ⟨m, fun _ => 0, g⟩ (fun r => (∀ c : Dev Cert.AdDownReferenceIdeal.nD,
      r.2.mem ((c.tc : Thread Cert.AdDownReferenceIdeal.nD Cert.AdDownReferenceIdeal.τ).loc Cert.AdDownReferenceIdeal.main_arg0) = m ((c.tc : Thread Cert.AdDownReferenceIdeal.nD Cert.AdDownReferenceIdeal.τ).loc Cert.AdDownReferenceIdeal.main_arg0)
      ∧ r.2.mem ((c.tc : Thread Cert.AdDownReferenceIdeal.nD Cert.AdDownReferenceIdeal.τ).loc Cert.AdDownReferenceIdeal.main_arg1) = m ((c.tc : Thread Cert.AdDownReferenceIdeal.nD Cert.AdDownReferenceIdeal.τ).loc Cert.AdDownReferenceIdeal.main_arg1)
      ∧ r.2.mem ((c.tc : Thread Cert.AdDownReferenceIdeal.nD Cert.AdDownReferenceIdeal.τ).loc Cert.AdDownReferenceIdeal.main_arg2) = m ((c.tc : Thread Cert.AdDownReferenceIdeal.nD Cert.AdDownReferenceIdeal.τ).loc Cert.AdDownReferenceIdeal.main_arg2)
      ∧ r.2.mem ((c.tc : Thread Cert.AdDownReferenceIdeal.nD Cert.AdDownReferenceIdeal.τ).loc Cert.AdDownReferenceIdeal.main_arg3) = m ((c.tc : Thread Cert.AdDownReferenceIdeal.nD Cert.AdDownReferenceIdeal.τ).loc Cert.AdDownReferenceIdeal.main_arg3)
      ∧ r.2.mem ((c.tc : Thread Cert.AdDownReferenceIdeal.nD Cert.AdDownReferenceIdeal.τ).loc Cert.AdDownReferenceIdeal.main_arg4) = m ((c.tc : Thread Cert.AdDownReferenceIdeal.nD Cert.AdDownReferenceIdeal.τ).loc Cert.AdDownReferenceIdeal.main_arg4))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ r.2.sem = fun _ => 0)

def quiescent_AdSmallReferenceIdeal [hAdSmallReferenceIdeal : Cert.AdSmallReferenceIdeal.Facts] : Prop :=
  ∀ (m : (ℓ : Loc Cert.AdSmallReferenceIdeal.nD Cert.AdSmallReferenceIdeal.τ Cert.AdSmallReferenceIdeal.sig) → Buf (Elt Ideal) ℓ) (g : Dev Cert.AdSmallReferenceIdeal.nD → PrngReg), Pre_AdSmallReferenceIdeal m →
    θ_run (Cert.AdSmallReferenceIdeal.defs (F := Ideal)) (onTc (τ := Cert.AdSmallReferenceIdeal.τ) (Cert.AdSmallReferenceIdeal.main (F := Ideal))) ⟨m, fun _ => 0, g⟩ (fun r => (∀ c : Dev Cert.AdSmallReferenceIdeal.nD,
      r.2.mem ((c.tc : Thread Cert.AdSmallReferenceIdeal.nD Cert.AdSmallReferenceIdeal.τ).loc Cert.AdSmallReferenceIdeal.main_arg0) = m ((c.tc : Thread Cert.AdSmallReferenceIdeal.nD Cert.AdSmallReferenceIdeal.τ).loc Cert.AdSmallReferenceIdeal.main_arg0)
      ∧ r.2.mem ((c.tc : Thread Cert.AdSmallReferenceIdeal.nD Cert.AdSmallReferenceIdeal.τ).loc Cert.AdSmallReferenceIdeal.main_arg1) = m ((c.tc : Thread Cert.AdSmallReferenceIdeal.nD Cert.AdSmallReferenceIdeal.τ).loc Cert.AdSmallReferenceIdeal.main_arg1)
      ∧ r.2.mem ((c.tc : Thread Cert.AdSmallReferenceIdeal.nD Cert.AdSmallReferenceIdeal.τ).loc Cert.AdSmallReferenceIdeal.main_arg2) = m ((c.tc : Thread Cert.AdSmallReferenceIdeal.nD Cert.AdSmallReferenceIdeal.τ).loc Cert.AdSmallReferenceIdeal.main_arg2)
      ∧ r.2.mem ((c.tc : Thread Cert.AdSmallReferenceIdeal.nD Cert.AdSmallReferenceIdeal.τ).loc Cert.AdSmallReferenceIdeal.main_arg3) = m ((c.tc : Thread Cert.AdSmallReferenceIdeal.nD Cert.AdSmallReferenceIdeal.τ).loc Cert.AdSmallReferenceIdeal.main_arg3))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradReferenceIdeal [hLossGradReferenceIdeal : Cert.LossGradReferenceIdeal.Facts] : Prop :=
  ∀ (m : (ℓ : Loc Cert.LossGradReferenceIdeal.nD Cert.LossGradReferenceIdeal.τ Cert.LossGradReferenceIdeal.sig) → Buf (Elt Ideal) ℓ) (g : Dev Cert.LossGradReferenceIdeal.nD → PrngReg), Pre_LossGradReferenceIdeal m →
    θ_run (Cert.LossGradReferenceIdeal.defs (F := Ideal)) (onTc (τ := Cert.LossGradReferenceIdeal.τ) (Cert.LossGradReferenceIdeal.main (F := Ideal))) ⟨m, fun _ => 0, g⟩ (fun r => (∀ c : Dev Cert.LossGradReferenceIdeal.nD,
      r.2.mem ((c.tc : Thread Cert.LossGradReferenceIdeal.nD Cert.LossGradReferenceIdeal.τ).loc Cert.LossGradReferenceIdeal.main_arg0) = m ((c.tc : Thread Cert.LossGradReferenceIdeal.nD Cert.LossGradReferenceIdeal.τ).loc Cert.LossGradReferenceIdeal.main_arg0)
      ∧ r.2.mem ((c.tc : Thread Cert.LossGradReferenceIdeal.nD Cert.LossGradReferenceIdeal.τ).loc Cert.LossGradReferenceIdeal.main_arg1) = m ((c.tc : Thread Cert.LossGradReferenceIdeal.nD Cert.LossGradReferenceIdeal.τ).loc Cert.LossGradReferenceIdeal.main_arg1))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdReferenceIdeal [hPoolBwdReferenceIdeal : Cert.PoolBwdReferenceIdeal.Facts] : Prop :=
  ∀ (m : (ℓ : Loc Cert.PoolBwdReferenceIdeal.nD Cert.PoolBwdReferenceIdeal.τ Cert.PoolBwdReferenceIdeal.sig) → Buf (Elt Ideal) ℓ) (g : Dev Cert.PoolBwdReferenceIdeal.nD → PrngReg), Pre_PoolBwdReferenceIdeal m →
    θ_run (Cert.PoolBwdReferenceIdeal.defs (F := Ideal)) (onTc (τ := Cert.PoolBwdReferenceIdeal.τ) (Cert.PoolBwdReferenceIdeal.main (F := Ideal))) ⟨m, fun _ => 0, g⟩ (fun r => (∀ c : Dev Cert.PoolBwdReferenceIdeal.nD,
      r.2.mem ((c.tc : Thread Cert.PoolBwdReferenceIdeal.nD Cert.PoolBwdReferenceIdeal.τ).loc Cert.PoolBwdReferenceIdeal.main_arg0) = m ((c.tc : Thread Cert.PoolBwdReferenceIdeal.nD Cert.PoolBwdReferenceIdeal.τ).loc Cert.PoolBwdReferenceIdeal.main_arg0)
      ∧ r.2.mem ((c.tc : Thread Cert.PoolBwdReferenceIdeal.nD Cert.PoolBwdReferenceIdeal.τ).loc Cert.PoolBwdReferenceIdeal.main_arg1) = m ((c.tc : Thread Cert.PoolBwdReferenceIdeal.nD Cert.PoolBwdReferenceIdeal.τ).loc Cert.PoolBwdReferenceIdeal.main_arg1)
      ∧ r.2.mem ((c.tc : Thread Cert.PoolBwdReferenceIdeal.nD Cert.PoolBwdReferenceIdeal.τ).loc Cert.PoolBwdReferenceIdeal.main_arg2) = m ((c.tc : Thread Cert.PoolBwdReferenceIdeal.nD Cert.PoolBwdReferenceIdeal.τ).loc Cert.PoolBwdReferenceIdeal.main_arg2)
      ∧ r.2.mem ((c.tc : Thread Cert.PoolBwdReferenceIdeal.nD Cert.PoolBwdReferenceIdeal.τ).loc Cert.PoolBwdReferenceIdeal.main_arg3) = m ((c.tc : Thread Cert.PoolBwdReferenceIdeal.nD Cert.PoolBwdReferenceIdeal.τ).loc Cert.PoolBwdReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_WgDown_WgDownIdeal : Prop :=
  True

def algebraic_WgDownIdeal_WgDownReferenceIdeal [hWgDownIdeal : Cert.WgDownIdeal.Facts] [hWgDownReferenceIdeal : Cert.WgDownReferenceIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownReferenceIdeal.nD Cert.WgDownReferenceIdeal.τ Cert.WgDownReferenceIdeal.sig) → Buf (Elt Ideal) ℓ) (g' : Dev Cert.WgDownReferenceIdeal.nD → PrngReg), Pre_WgDownIdeal m →
    (∀ c : Dev Cert.WgDownIdeal.nD,
      m' ((c.tc : Thread Cert.WgDownReferenceIdeal.nD Cert.WgDownReferenceIdeal.τ).loc Cert.WgDownReferenceIdeal.main_arg0) = m ((c.tc : Thread Cert.WgDownIdeal.nD Cert.WgDownIdeal.τ).loc Cert.WgDownIdeal.main_arg0)
      ∧ m' ((c.tc : Thread Cert.WgDownReferenceIdeal.nD Cert.WgDownReferenceIdeal.τ).loc Cert.WgDownReferenceIdeal.main_arg1) = m ((c.tc : Thread Cert.WgDownIdeal.nD Cert.WgDownIdeal.τ).loc Cert.WgDownIdeal.main_arg1)) →
    ∃ (v0 : (c : Dev Cert.WgDownIdeal.nD) → Buf (Elt Ideal) ((c.tc : Thread Cert.WgDownIdeal.nD Cert.WgDownIdeal.τ).loc Cert.WgDownIdeal.main_v10)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v10) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ θ_run (Cert.WgDownReferenceIdeal.defs (F := Ideal)) (onTc (τ := Cert.WgDownReferenceIdeal.τ) (Cert.WgDownReferenceIdeal.main (F := Ideal))) ⟨m', fun _ => 0, g'⟩ (fun r => ∀ c : Dev Cert.WgDownReferenceIdeal.nD,
          r.2.mem ((c.tc : Thread Cert.WgDownReferenceIdeal.nD Cert.WgDownReferenceIdeal.τ).loc Cert.WgDownReferenceIdeal.main_v3) = v0 c
          ∧ r.2.mem ((c.tc : Thread Cert.WgDownReferenceIdeal.nD Cert.WgDownReferenceIdeal.τ).loc Cert.WgDownReferenceIdeal.main_arg0) = m' ((c.tc : Thread Cert.WgDownReferenceIdeal.nD Cert.WgDownReferenceIdeal.τ).loc Cert.WgDownReferenceIdeal.main_arg0)
          ∧ r.2.mem ((c.tc : Thread Cert.WgDownReferenceIdeal.nD Cert.WgDownReferenceIdeal.τ).loc Cert.WgDownReferenceIdeal.main_arg1) = m' ((c.tc : Thread Cert.WgDownReferenceIdeal.nD Cert.WgDownReferenceIdeal.τ).loc Cert.WgDownReferenceIdeal.main_arg1))

def preserves_WgGate_WgGateIdeal : Prop :=
  True

def algebraic_WgGateIdeal_WgGateReferenceIdeal [hWgGateIdeal : Cert.WgGateIdeal.Facts] [hWgGateReferenceIdeal : Cert.WgGateReferenceIdeal.Facts] : Prop :=
  ∀ (m : (ℓ : Loc Cert.WgGateIdeal.nD Cert.WgGateIdeal.τ Cert.WgGateIdeal.sig) → Buf (Elt Ideal) ℓ) (g : Dev Cert.WgGateIdeal.nD → PrngReg)
    (m' : (ℓ : Loc Cert.WgGateReferenceIdeal.nD Cert.WgGateReferenceIdeal.τ Cert.WgGateReferenceIdeal.sig) → Buf (Elt Ideal) ℓ) (g' : Dev Cert.WgGateReferenceIdeal.nD → PrngReg), Pre_WgGateIdeal m →
    (∀ c : Dev Cert.WgGateIdeal.nD,
      m' ((c.tc : Thread Cert.WgGateReferenceIdeal.nD Cert.WgGateReferenceIdeal.τ).loc Cert.WgGateReferenceIdeal.main_arg0) = m ((c.tc : Thread Cert.WgGateIdeal.nD Cert.WgGateIdeal.τ).loc Cert.WgGateIdeal.main_arg0)
      ∧ m' ((c.tc : Thread Cert.WgGateReferenceIdeal.nD Cert.WgGateReferenceIdeal.τ).loc Cert.WgGateReferenceIdeal.main_arg1) = m ((c.tc : Thread Cert.WgGateIdeal.nD Cert.WgGateIdeal.τ).loc Cert.WgGateIdeal.main_arg1)) →
    ∃ (v0 : (c : Dev Cert.WgGateIdeal.nD) → Buf (Elt Ideal) ((c.tc : Thread Cert.WgGateIdeal.nD Cert.WgGateIdeal.τ).loc Cert.WgGateIdeal.main_v11)),
      θ_run (Cert.WgGateIdeal.defs (F := Ideal)) (onTc (τ := Cert.WgGateIdeal.τ) (Cert.WgGateIdeal.main (F := Ideal))) ⟨m, fun _ => 0, g⟩ (fun r => ∀ c : Dev Cert.WgGateIdeal.nD,
          r.2.mem ((c.tc : Thread Cert.WgGateIdeal.nD Cert.WgGateIdeal.τ).loc Cert.WgGateIdeal.main_v11) = v0 c
          ∧ r.2.mem ((c.tc : Thread Cert.WgGateIdeal.nD Cert.WgGateIdeal.τ).loc Cert.WgGateIdeal.main_arg0) = m ((c.tc : Thread Cert.WgGateIdeal.nD Cert.WgGateIdeal.τ).loc Cert.WgGateIdeal.main_arg0)
          ∧ r.2.mem ((c.tc : Thread Cert.WgGateIdeal.nD Cert.WgGateIdeal.τ).loc Cert.WgGateIdeal.main_arg1) = m ((c.tc : Thread Cert.WgGateIdeal.nD Cert.WgGateIdeal.τ).loc Cert.WgGateIdeal.main_arg1))
      ∧ θ_run (Cert.WgGateReferenceIdeal.defs (F := Ideal)) (onTc (τ := Cert.WgGateReferenceIdeal.τ) (Cert.WgGateReferenceIdeal.main (F := Ideal))) ⟨m', fun _ => 0, g'⟩ (fun r => ∀ c : Dev Cert.WgGateReferenceIdeal.nD,
          r.2.mem ((c.tc : Thread Cert.WgGateReferenceIdeal.nD Cert.WgGateReferenceIdeal.τ).loc Cert.WgGateReferenceIdeal.main_v11) = v0 c
          ∧ r.2.mem ((c.tc : Thread Cert.WgGateReferenceIdeal.nD Cert.WgGateReferenceIdeal.τ).loc Cert.WgGateReferenceIdeal.main_arg0) = m' ((c.tc : Thread Cert.WgGateReferenceIdeal.nD Cert.WgGateReferenceIdeal.τ).loc Cert.WgGateReferenceIdeal.main_arg0)
          ∧ r.2.mem ((c.tc : Thread Cert.WgGateReferenceIdeal.nD Cert.WgGateReferenceIdeal.τ).loc Cert.WgGateReferenceIdeal.main_arg1) = m' ((c.tc : Thread Cert.WgGateReferenceIdeal.nD Cert.WgGateReferenceIdeal.τ).loc Cert.WgGateReferenceIdeal.main_arg1))

def preserves_WgIn_WgInIdeal : Prop :=
  True

def algebraic_WgInIdeal_WgInReferenceIdeal [hWgInIdeal : Cert.WgInIdeal.Facts] [hWgInReferenceIdeal : Cert.WgInReferenceIdeal.Facts] : Prop :=
  ∀ (m : (ℓ : Loc Cert.WgInIdeal.nD Cert.WgInIdeal.τ Cert.WgInIdeal.sig) → Buf (Elt Ideal) ℓ) (g : Dev Cert.WgInIdeal.nD → PrngReg)
    (m' : (ℓ : Loc Cert.WgInReferenceIdeal.nD Cert.WgInReferenceIdeal.τ Cert.WgInReferenceIdeal.sig) → Buf (Elt Ideal) ℓ) (g' : Dev Cert.WgInReferenceIdeal.nD → PrngReg), Pre_WgInIdeal m →
    (∀ c : Dev Cert.WgInIdeal.nD,
      m' ((c.tc : Thread Cert.WgInReferenceIdeal.nD Cert.WgInReferenceIdeal.τ).loc Cert.WgInReferenceIdeal.main_arg0) = m ((c.tc : Thread Cert.WgInIdeal.nD Cert.WgInIdeal.τ).loc Cert.WgInIdeal.main_arg0)
      ∧ m' ((c.tc : Thread Cert.WgInReferenceIdeal.nD Cert.WgInReferenceIdeal.τ).loc Cert.WgInReferenceIdeal.main_arg1) = m ((c.tc : Thread Cert.WgInIdeal.nD Cert.WgInIdeal.τ).loc Cert.WgInIdeal.main_arg1)) →
    ∃ (v0 : (c : Dev Cert.WgInIdeal.nD) → Buf (Elt Ideal) ((c.tc : Thread Cert.WgInIdeal.nD Cert.WgInIdeal.τ).loc Cert.WgInIdeal.main_v2)),
      θ_run (Cert.WgInIdeal.defs (F := Ideal)) (onTc (τ := Cert.WgInIdeal.τ) (Cert.WgInIdeal.main (F := Ideal))) ⟨m, fun _ => 0, g⟩ (fun r => ∀ c : Dev Cert.WgInIdeal.nD,
          r.2.mem ((c.tc : Thread Cert.WgInIdeal.nD Cert.WgInIdeal.τ).loc Cert.WgInIdeal.main_v2) = v0 c
          ∧ r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
          ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ θ_run (Cert.WgInReferenceIdeal.defs (F := Ideal)) (onTc (τ := Cert.WgInReferenceIdeal.τ) (Cert.WgInReferenceIdeal.main (F := Ideal))) ⟨m', fun _ => 0, g'⟩ (fun r => ∀ c : Dev Cert.WgInReferenceIdeal.nD,
          r.2.mem ((c.tc : Thread Cert.WgInReferenceIdeal.nD Cert.WgInReferenceIdeal.τ).loc Cert.WgInReferenceIdeal.main_v11) = v0 c
          ∧ r.2.mem ((c.tc : Thread Cert.WgInReferenceIdeal.nD Cert.WgInReferenceIdeal.τ).loc Cert.WgInReferenceIdeal.main_arg0) = m' ((c.tc : Thread Cert.WgInReferenceIdeal.nD Cert.WgInReferenceIdeal.τ).loc Cert.WgInReferenceIdeal.main_arg0)
          ∧ r.2.mem ((c.tc : Thread Cert.WgInReferenceIdeal.nD Cert.WgInReferenceIdeal.τ).loc Cert.WgInReferenceIdeal.main_arg1) = m' ((c.tc : Thread Cert.WgInReferenceIdeal.nD Cert.WgInReferenceIdeal.τ).loc Cert.WgInReferenceIdeal.main_arg1))

def preserves_WgOut_WgOutIdeal : Prop :=
  True

def algebraic_WgOutIdeal_WgOutReferenceIdeal [hWgOutIdeal : Cert.WgOutIdeal.Facts] [hWgOutReferenceIdeal : Cert.WgOutReferenceIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutReferenceIdeal.nD Cert.WgOutReferenceIdeal.τ Cert.WgOutReferenceIdeal.sig) → Buf (Elt Ideal) ℓ) (g' : Dev Cert.WgOutReferenceIdeal.nD → PrngReg), Pre_WgOutIdeal m →
    (∀ c : Dev Cert.WgOutIdeal.nD,
      m' ((c.tc : Thread Cert.WgOutReferenceIdeal.nD Cert.WgOutReferenceIdeal.τ).loc Cert.WgOutReferenceIdeal.main_arg0) = m ((c.tc : Thread Cert.WgOutIdeal.nD Cert.WgOutIdeal.τ).loc Cert.WgOutIdeal.main_arg0)
      ∧ m' ((c.tc : Thread Cert.WgOutReferenceIdeal.nD Cert.WgOutReferenceIdeal.τ).loc Cert.WgOutReferenceIdeal.main_arg1) = m ((c.tc : Thread Cert.WgOutIdeal.nD Cert.WgOutIdeal.τ).loc Cert.WgOutIdeal.main_arg1)) →
    ∃ (v0 : (c : Dev Cert.WgOutIdeal.nD) → Buf (Elt Ideal) ((c.tc : Thread Cert.WgOutIdeal.nD Cert.WgOutIdeal.τ).loc Cert.WgOutIdeal.main_v1)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v1) = v0 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ θ_run (Cert.WgOutReferenceIdeal.defs (F := Ideal)) (onTc (τ := Cert.WgOutReferenceIdeal.τ) (Cert.WgOutReferenceIdeal.main (F := Ideal))) ⟨m', fun _ => 0, g'⟩ (fun r => ∀ c : Dev Cert.WgOutReferenceIdeal.nD,
          r.2.mem ((c.tc : Thread Cert.WgOutReferenceIdeal.nD Cert.WgOutReferenceIdeal.τ).loc Cert.WgOutReferenceIdeal.main_v3) = v0 c
          ∧ r.2.mem ((c.tc : Thread Cert.WgOutReferenceIdeal.nD Cert.WgOutReferenceIdeal.τ).loc Cert.WgOutReferenceIdeal.main_arg0) = m' ((c.tc : Thread Cert.WgOutReferenceIdeal.nD Cert.WgOutReferenceIdeal.τ).loc Cert.WgOutReferenceIdeal.main_arg0)
          ∧ r.2.mem ((c.tc : Thread Cert.WgOutReferenceIdeal.nD Cert.WgOutReferenceIdeal.τ).loc Cert.WgOutReferenceIdeal.main_arg1) = m' ((c.tc : Thread Cert.WgOutReferenceIdeal.nD Cert.WgOutReferenceIdeal.τ).loc Cert.WgOutReferenceIdeal.main_arg1))

def preserves_WgBrA_WgBrAIdeal : Prop :=
  True

def algebraic_WgBrAIdeal_WgBrAReferenceIdeal [hWgBrAIdeal : Cert.WgBrAIdeal.Facts] [hWgBrAReferenceIdeal : Cert.WgBrAReferenceIdeal.Facts] : Prop :=
  ∀ (m : (ℓ : Loc Cert.WgBrAIdeal.nD Cert.WgBrAIdeal.τ Cert.WgBrAIdeal.sig) → Buf (Elt Ideal) ℓ) (g : Dev Cert.WgBrAIdeal.nD → PrngReg)
    (m' : (ℓ : Loc Cert.WgBrAReferenceIdeal.nD Cert.WgBrAReferenceIdeal.τ Cert.WgBrAReferenceIdeal.sig) → Buf (Elt Ideal) ℓ) (g' : Dev Cert.WgBrAReferenceIdeal.nD → PrngReg), Pre_WgBrAIdeal m →
    (∀ c : Dev Cert.WgBrAIdeal.nD,
      m' ((c.tc : Thread Cert.WgBrAReferenceIdeal.nD Cert.WgBrAReferenceIdeal.τ).loc Cert.WgBrAReferenceIdeal.main_arg0) = m ((c.tc : Thread Cert.WgBrAIdeal.nD Cert.WgBrAIdeal.τ).loc Cert.WgBrAIdeal.main_arg0)
      ∧ m' ((c.tc : Thread Cert.WgBrAReferenceIdeal.nD Cert.WgBrAReferenceIdeal.τ).loc Cert.WgBrAReferenceIdeal.main_arg1) = m ((c.tc : Thread Cert.WgBrAIdeal.nD Cert.WgBrAIdeal.τ).loc Cert.WgBrAIdeal.main_arg1)) →
    ∃ (v0 : (c : Dev Cert.WgBrAIdeal.nD) → Buf (Elt Ideal) ((c.tc : Thread Cert.WgBrAIdeal.nD Cert.WgBrAIdeal.τ).loc Cert.WgBrAIdeal.main_v2)),
      θ_run (Cert.WgBrAIdeal.defs (F := Ideal)) (onTc (τ := Cert.WgBrAIdeal.τ) (Cert.WgBrAIdeal.main (F := Ideal))) ⟨m, fun _ => 0, g⟩ (fun r => ∀ c : Dev Cert.WgBrAIdeal.nD,
          r.2.mem ((c.tc : Thread Cert.WgBrAIdeal.nD Cert.WgBrAIdeal.τ).loc Cert.WgBrAIdeal.main_v2) = v0 c
          ∧ r.2.mem ((c.tc : Thread Cert.WgBrAIdeal.nD Cert.WgBrAIdeal.τ).loc Cert.WgBrAIdeal.main_arg0) = m ((c.tc : Thread Cert.WgBrAIdeal.nD Cert.WgBrAIdeal.τ).loc Cert.WgBrAIdeal.main_arg0)
          ∧ r.2.mem ((c.tc : Thread Cert.WgBrAIdeal.nD Cert.WgBrAIdeal.τ).loc Cert.WgBrAIdeal.main_arg1) = m ((c.tc : Thread Cert.WgBrAIdeal.nD Cert.WgBrAIdeal.τ).loc Cert.WgBrAIdeal.main_arg1))
      ∧ θ_run (Cert.WgBrAReferenceIdeal.defs (F := Ideal)) (onTc (τ := Cert.WgBrAReferenceIdeal.τ) (Cert.WgBrAReferenceIdeal.main (F := Ideal))) ⟨m', fun _ => 0, g'⟩ (fun r => ∀ c : Dev Cert.WgBrAReferenceIdeal.nD,
          r.2.mem ((c.tc : Thread Cert.WgBrAReferenceIdeal.nD Cert.WgBrAReferenceIdeal.τ).loc Cert.WgBrAReferenceIdeal.main_v13) = v0 c
          ∧ r.2.mem ((c.tc : Thread Cert.WgBrAReferenceIdeal.nD Cert.WgBrAReferenceIdeal.τ).loc Cert.WgBrAReferenceIdeal.main_arg0) = m' ((c.tc : Thread Cert.WgBrAReferenceIdeal.nD Cert.WgBrAReferenceIdeal.τ).loc Cert.WgBrAReferenceIdeal.main_arg0)
          ∧ r.2.mem ((c.tc : Thread Cert.WgBrAReferenceIdeal.nD Cert.WgBrAReferenceIdeal.τ).loc Cert.WgBrAReferenceIdeal.main_arg1) = m' ((c.tc : Thread Cert.WgBrAReferenceIdeal.nD Cert.WgBrAReferenceIdeal.τ).loc Cert.WgBrAReferenceIdeal.main_arg1))

def preserves_WgBrB_WgBrBIdeal : Prop :=
  True

def algebraic_WgBrBIdeal_WgBrBReferenceIdeal [hWgBrBIdeal : Cert.WgBrBIdeal.Facts] [hWgBrBReferenceIdeal : Cert.WgBrBReferenceIdeal.Facts] : Prop :=
  ∀ (m : (ℓ : Loc Cert.WgBrBIdeal.nD Cert.WgBrBIdeal.τ Cert.WgBrBIdeal.sig) → Buf (Elt Ideal) ℓ) (g : Dev Cert.WgBrBIdeal.nD → PrngReg)
    (m' : (ℓ : Loc Cert.WgBrBReferenceIdeal.nD Cert.WgBrBReferenceIdeal.τ Cert.WgBrBReferenceIdeal.sig) → Buf (Elt Ideal) ℓ) (g' : Dev Cert.WgBrBReferenceIdeal.nD → PrngReg), Pre_WgBrBIdeal m →
    (∀ c : Dev Cert.WgBrBIdeal.nD,
      m' ((c.tc : Thread Cert.WgBrBReferenceIdeal.nD Cert.WgBrBReferenceIdeal.τ).loc Cert.WgBrBReferenceIdeal.main_arg0) = m ((c.tc : Thread Cert.WgBrBIdeal.nD Cert.WgBrBIdeal.τ).loc Cert.WgBrBIdeal.main_arg0)
      ∧ m' ((c.tc : Thread Cert.WgBrBReferenceIdeal.nD Cert.WgBrBReferenceIdeal.τ).loc Cert.WgBrBReferenceIdeal.main_arg1) = m ((c.tc : Thread Cert.WgBrBIdeal.nD Cert.WgBrBIdeal.τ).loc Cert.WgBrBIdeal.main_arg1)) →
    ∃ (v0 : (c : Dev Cert.WgBrBIdeal.nD) → Buf (Elt Ideal) ((c.tc : Thread Cert.WgBrBIdeal.nD Cert.WgBrBIdeal.τ).loc Cert.WgBrBIdeal.main_v2)),
      θ_run (Cert.WgBrBIdeal.defs (F := Ideal)) (onTc (τ := Cert.WgBrBIdeal.τ) (Cert.WgBrBIdeal.main (F := Ideal))) ⟨m, fun _ => 0, g⟩ (fun r => ∀ c : Dev Cert.WgBrBIdeal.nD,
          r.2.mem ((c.tc : Thread Cert.WgBrBIdeal.nD Cert.WgBrBIdeal.τ).loc Cert.WgBrBIdeal.main_v2) = v0 c
          ∧ r.2.mem ((c.tc : Thread Cert.WgBrBIdeal.nD Cert.WgBrBIdeal.τ).loc Cert.WgBrBIdeal.main_arg0) = m ((c.tc : Thread Cert.WgBrBIdeal.nD Cert.WgBrBIdeal.τ).loc Cert.WgBrBIdeal.main_arg0)
          ∧ r.2.mem ((c.tc : Thread Cert.WgBrBIdeal.nD Cert.WgBrBIdeal.τ).loc Cert.WgBrBIdeal.main_arg1) = m ((c.tc : Thread Cert.WgBrBIdeal.nD Cert.WgBrBIdeal.τ).loc Cert.WgBrBIdeal.main_arg1))
      ∧ θ_run (Cert.WgBrBReferenceIdeal.defs (F := Ideal)) (onTc (τ := Cert.WgBrBReferenceIdeal.τ) (Cert.WgBrBReferenceIdeal.main (F := Ideal))) ⟨m', fun _ => 0, g'⟩ (fun r => ∀ c : Dev Cert.WgBrBReferenceIdeal.nD,
          r.2.mem ((c.tc : Thread Cert.WgBrBReferenceIdeal.nD Cert.WgBrBReferenceIdeal.τ).loc Cert.WgBrBReferenceIdeal.main_v13) = v0 c
          ∧ r.2.mem ((c.tc : Thread Cert.WgBrBReferenceIdeal.nD Cert.WgBrBReferenceIdeal.τ).loc Cert.WgBrBReferenceIdeal.main_arg0) = m' ((c.tc : Thread Cert.WgBrBReferenceIdeal.nD Cert.WgBrBReferenceIdeal.τ).loc Cert.WgBrBReferenceIdeal.main_arg0)
          ∧ r.2.mem ((c.tc : Thread Cert.WgBrBReferenceIdeal.nD Cert.WgBrBReferenceIdeal.τ).loc Cert.WgBrBReferenceIdeal.main_arg1) = m' ((c.tc : Thread Cert.WgBrBReferenceIdeal.nD Cert.WgBrBReferenceIdeal.τ).loc Cert.WgBrBReferenceIdeal.main_arg1))

def preserves_WgBrC_WgBrCIdeal : Prop :=
  True

def algebraic_WgBrCIdeal_WgBrCReferenceIdeal [hWgBrCIdeal : Cert.WgBrCIdeal.Facts] [hWgBrCReferenceIdeal : Cert.WgBrCReferenceIdeal.Facts] : Prop :=
  ∀ (m : (ℓ : Loc Cert.WgBrCIdeal.nD Cert.WgBrCIdeal.τ Cert.WgBrCIdeal.sig) → Buf (Elt Ideal) ℓ) (g : Dev Cert.WgBrCIdeal.nD → PrngReg)
    (m' : (ℓ : Loc Cert.WgBrCReferenceIdeal.nD Cert.WgBrCReferenceIdeal.τ Cert.WgBrCReferenceIdeal.sig) → Buf (Elt Ideal) ℓ) (g' : Dev Cert.WgBrCReferenceIdeal.nD → PrngReg), Pre_WgBrCIdeal m →
    (∀ c : Dev Cert.WgBrCIdeal.nD,
      m' ((c.tc : Thread Cert.WgBrCReferenceIdeal.nD Cert.WgBrCReferenceIdeal.τ).loc Cert.WgBrCReferenceIdeal.main_arg0) = m ((c.tc : Thread Cert.WgBrCIdeal.nD Cert.WgBrCIdeal.τ).loc Cert.WgBrCIdeal.main_arg0)
      ∧ m' ((c.tc : Thread Cert.WgBrCReferenceIdeal.nD Cert.WgBrCReferenceIdeal.τ).loc Cert.WgBrCReferenceIdeal.main_arg1) = m ((c.tc : Thread Cert.WgBrCIdeal.nD Cert.WgBrCIdeal.τ).loc Cert.WgBrCIdeal.main_arg1)) →
    ∃ (v0 : (c : Dev Cert.WgBrCIdeal.nD) → Buf (Elt Ideal) ((c.tc : Thread Cert.WgBrCIdeal.nD Cert.WgBrCIdeal.τ).loc Cert.WgBrCIdeal.main_v2)),
      θ_run (Cert.WgBrCIdeal.defs (F := Ideal)) (onTc (τ := Cert.WgBrCIdeal.τ) (Cert.WgBrCIdeal.main (F := Ideal))) ⟨m, fun _ => 0, g⟩ (fun r => ∀ c : Dev Cert.WgBrCIdeal.nD,
          r.2.mem ((c.tc : Thread Cert.WgBrCIdeal.nD Cert.WgBrCIdeal.τ).loc Cert.WgBrCIdeal.main_v2) = v0 c
          ∧ r.2.mem ((c.tc : Thread Cert.WgBrCIdeal.nD Cert.WgBrCIdeal.τ).loc Cert.WgBrCIdeal.main_arg0) = m ((c.tc : Thread Cert.WgBrCIdeal.nD Cert.WgBrCIdeal.τ).loc Cert.WgBrCIdeal.main_arg0)
          ∧ r.2.mem ((c.tc : Thread Cert.WgBrCIdeal.nD Cert.WgBrCIdeal.τ).loc Cert.WgBrCIdeal.main_arg1) = m ((c.tc : Thread Cert.WgBrCIdeal.nD Cert.WgBrCIdeal.τ).loc Cert.WgBrCIdeal.main_arg1))
      ∧ θ_run (Cert.WgBrCReferenceIdeal.defs (F := Ideal)) (onTc (τ := Cert.WgBrCReferenceIdeal.τ) (Cert.WgBrCReferenceIdeal.main (F := Ideal))) ⟨m', fun _ => 0, g'⟩ (fun r => ∀ c : Dev Cert.WgBrCReferenceIdeal.nD,
          r.2.mem ((c.tc : Thread Cert.WgBrCReferenceIdeal.nD Cert.WgBrCReferenceIdeal.τ).loc Cert.WgBrCReferenceIdeal.main_v13) = v0 c
          ∧ r.2.mem ((c.tc : Thread Cert.WgBrCReferenceIdeal.nD Cert.WgBrCReferenceIdeal.τ).loc Cert.WgBrCReferenceIdeal.main_arg0) = m' ((c.tc : Thread Cert.WgBrCReferenceIdeal.nD Cert.WgBrCReferenceIdeal.τ).loc Cert.WgBrCReferenceIdeal.main_arg0)
          ∧ r.2.mem ((c.tc : Thread Cert.WgBrCReferenceIdeal.nD Cert.WgBrCReferenceIdeal.τ).loc Cert.WgBrCReferenceIdeal.main_arg1) = m' ((c.tc : Thread Cert.WgBrCReferenceIdeal.nD Cert.WgBrCReferenceIdeal.τ).loc Cert.WgBrCReferenceIdeal.main_arg1))

def preserves_MmZ_MmZIdeal : Prop :=
  True

def algebraic_MmZIdeal_MmZReferenceIdeal [hMmZIdeal : Cert.MmZIdeal.Facts] [hMmZReferenceIdeal : Cert.MmZReferenceIdeal.Facts] : Prop :=
  ∀ (m : (ℓ : Loc Cert.MmZIdeal.nD Cert.MmZIdeal.τ Cert.MmZIdeal.sig) → Buf (Elt Ideal) ℓ) (g : Dev Cert.MmZIdeal.nD → PrngReg)
    (m' : (ℓ : Loc Cert.MmZReferenceIdeal.nD Cert.MmZReferenceIdeal.τ Cert.MmZReferenceIdeal.sig) → Buf (Elt Ideal) ℓ) (g' : Dev Cert.MmZReferenceIdeal.nD → PrngReg), Pre_MmZIdeal m →
    (∀ c : Dev Cert.MmZIdeal.nD,
      m' ((c.tc : Thread Cert.MmZReferenceIdeal.nD Cert.MmZReferenceIdeal.τ).loc Cert.MmZReferenceIdeal.main_arg0) = m ((c.tc : Thread Cert.MmZIdeal.nD Cert.MmZIdeal.τ).loc Cert.MmZIdeal.main_arg0)
      ∧ m' ((c.tc : Thread Cert.MmZReferenceIdeal.nD Cert.MmZReferenceIdeal.τ).loc Cert.MmZReferenceIdeal.main_arg1) = m ((c.tc : Thread Cert.MmZIdeal.nD Cert.MmZIdeal.τ).loc Cert.MmZIdeal.main_arg1)) →
    ∃ (v0 : (c : Dev Cert.MmZIdeal.nD) → Buf (Elt Ideal) ((c.tc : Thread Cert.MmZIdeal.nD Cert.MmZIdeal.τ).loc Cert.MmZIdeal.main_v11)),
      θ_run (Cert.MmZIdeal.defs (F := Ideal)) (onTc (τ := Cert.MmZIdeal.τ) (Cert.MmZIdeal.main (F := Ideal))) ⟨m, fun _ => 0, g⟩ (fun r => ∀ c : Dev Cert.MmZIdeal.nD,
          r.2.mem ((c.tc : Thread Cert.MmZIdeal.nD Cert.MmZIdeal.τ).loc Cert.MmZIdeal.main_v11) = v0 c
          ∧ r.2.mem ((c.tc : Thread Cert.MmZIdeal.nD Cert.MmZIdeal.τ).loc Cert.MmZIdeal.main_arg0) = m ((c.tc : Thread Cert.MmZIdeal.nD Cert.MmZIdeal.τ).loc Cert.MmZIdeal.main_arg0)
          ∧ r.2.mem ((c.tc : Thread Cert.MmZIdeal.nD Cert.MmZIdeal.τ).loc Cert.MmZIdeal.main_arg1) = m ((c.tc : Thread Cert.MmZIdeal.nD Cert.MmZIdeal.τ).loc Cert.MmZIdeal.main_arg1))
      ∧ θ_run (Cert.MmZReferenceIdeal.defs (F := Ideal)) (onTc (τ := Cert.MmZReferenceIdeal.τ) (Cert.MmZReferenceIdeal.main (F := Ideal))) ⟨m', fun _ => 0, g'⟩ (fun r => ∀ c : Dev Cert.MmZReferenceIdeal.nD,
          r.2.mem ((c.tc : Thread Cert.MmZReferenceIdeal.nD Cert.MmZReferenceIdeal.τ).loc Cert.MmZReferenceIdeal.main_v0) = v0 c
          ∧ r.2.mem ((c.tc : Thread Cert.MmZReferenceIdeal.nD Cert.MmZReferenceIdeal.τ).loc Cert.MmZReferenceIdeal.main_arg0) = m' ((c.tc : Thread Cert.MmZReferenceIdeal.nD Cert.MmZReferenceIdeal.τ).loc Cert.MmZReferenceIdeal.main_arg0)
          ∧ r.2.mem ((c.tc : Thread Cert.MmZReferenceIdeal.nD Cert.MmZReferenceIdeal.τ).loc Cert.MmZReferenceIdeal.main_arg1) = m' ((c.tc : Thread Cert.MmZReferenceIdeal.nD Cert.MmZReferenceIdeal.τ).loc Cert.MmZReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v21_0)) (v1 : (c : Dev Cert.FfnUpIdeal.nD) → Buf (Elt Ideal) ((c.tc : Thread Cert.FfnUpIdeal.nD Cert.FfnUpIdeal.τ).loc Cert.FfnUpIdeal.main_v21_1)) (v2 : (c : Dev Cert.FfnUpIdeal.nD) → Buf (Elt Ideal) ((c.tc : Thread Cert.FfnUpIdeal.nD Cert.FfnUpIdeal.τ).loc Cert.FfnUpIdeal.main_v21_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v21_0) = v0 c
          ∧ r.2.mem ((c.tc : Thread Cert.FfnUpIdeal.nD Cert.FfnUpIdeal.τ).loc Cert.FfnUpIdeal.main_v21_1) = v1 c
          ∧ r.2.mem ((c.tc : Thread Cert.FfnUpIdeal.nD Cert.FfnUpIdeal.τ).loc Cert.FfnUpIdeal.main_v21_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v13) = v0 c
          ∧ r.2.mem ((c.tc : Thread Cert.FfnUpReferenceIdeal.nD Cert.FfnUpReferenceIdeal.τ).loc Cert.FfnUpReferenceIdeal.main_v23) = v1 c
          ∧ r.2.mem ((c.tc : Thread Cert.FfnUpReferenceIdeal.nD Cert.FfnUpReferenceIdeal.τ).loc Cert.FfnUpReferenceIdeal.main_v33) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_MmDown_MmDownIdeal : Prop :=
  True

def algebraic_MmDownIdeal_MmDownReferenceIdeal [hMmDownIdeal : Cert.MmDownIdeal.Facts] [hMmDownReferenceIdeal : Cert.MmDownReferenceIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownReferenceIdeal.nD Cert.MmDownReferenceIdeal.τ Cert.MmDownReferenceIdeal.sig) → Buf (Elt Ideal) ℓ) (g' : Dev Cert.MmDownReferenceIdeal.nD → PrngReg), Pre_MmDownIdeal m →
    (∀ c : Dev Cert.MmDownIdeal.nD,
      m' ((c.tc : Thread Cert.MmDownReferenceIdeal.nD Cert.MmDownReferenceIdeal.τ).loc Cert.MmDownReferenceIdeal.main_arg0) = m ((c.tc : Thread Cert.MmDownIdeal.nD Cert.MmDownIdeal.τ).loc Cert.MmDownIdeal.main_arg0)
      ∧ m' ((c.tc : Thread Cert.MmDownReferenceIdeal.nD Cert.MmDownReferenceIdeal.τ).loc Cert.MmDownReferenceIdeal.main_arg1) = m ((c.tc : Thread Cert.MmDownIdeal.nD Cert.MmDownIdeal.τ).loc Cert.MmDownIdeal.main_arg1)
      ∧ m' ((c.tc : Thread Cert.MmDownReferenceIdeal.nD Cert.MmDownReferenceIdeal.τ).loc Cert.MmDownReferenceIdeal.main_arg2) = m ((c.tc : Thread Cert.MmDownIdeal.nD Cert.MmDownIdeal.τ).loc Cert.MmDownIdeal.main_arg2)
      ∧ m' ((c.tc : Thread Cert.MmDownReferenceIdeal.nD Cert.MmDownReferenceIdeal.τ).loc Cert.MmDownReferenceIdeal.main_arg3) = m ((c.tc : Thread Cert.MmDownIdeal.nD Cert.MmDownIdeal.τ).loc Cert.MmDownIdeal.main_arg3)) →
    ∃ (v0 : (c : Dev Cert.MmDownIdeal.nD) → Buf (Elt Ideal) ((c.tc : Thread Cert.MmDownIdeal.nD Cert.MmDownIdeal.τ).loc Cert.MmDownIdeal.main_v12_0)) (v1 : (c : Dev Cert.MmDownIdeal.nD) → Buf (Elt Ideal) ((c.tc : Thread Cert.MmDownIdeal.nD Cert.MmDownIdeal.τ).loc Cert.MmDownIdeal.main_v12_1)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v12_0) = v0 c
          ∧ r.2.mem ((c.tc : Thread Cert.MmDownIdeal.nD Cert.MmDownIdeal.τ).loc Cert.MmDownIdeal.main_v12_1) = v1 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
          ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3))
      ∧ θ_run (Cert.MmDownReferenceIdeal.defs (F := Ideal)) (onTc (τ := Cert.MmDownReferenceIdeal.τ) (Cert.MmDownReferenceIdeal.main (F := Ideal))) ⟨m', fun _ => 0, g'⟩ (fun r => ∀ c : Dev Cert.MmDownReferenceIdeal.nD,
          r.2.mem ((c.tc : Thread Cert.MmDownReferenceIdeal.nD Cert.MmDownReferenceIdeal.τ).loc Cert.MmDownReferenceIdeal.main_v1) = v0 c
          ∧ r.2.mem ((c.tc : Thread Cert.MmDownReferenceIdeal.nD Cert.MmDownReferenceIdeal.τ).loc Cert.MmDownReferenceIdeal.main_v14) = v1 c
          ∧ r.2.mem ((c.tc : Thread Cert.MmDownReferenceIdeal.nD Cert.MmDownReferenceIdeal.τ).loc Cert.MmDownReferenceIdeal.main_arg0) = m' ((c.tc : Thread Cert.MmDownReferenceIdeal.nD Cert.MmDownReferenceIdeal.τ).loc Cert.MmDownReferenceIdeal.main_arg0)
          ∧ r.2.mem ((c.tc : Thread Cert.MmDownReferenceIdeal.nD Cert.MmDownReferenceIdeal.τ).loc Cert.MmDownReferenceIdeal.main_arg1) = m' ((c.tc : Thread Cert.MmDownReferenceIdeal.nD Cert.MmDownReferenceIdeal.τ).loc Cert.MmDownReferenceIdeal.main_arg1)
          ∧ r.2.mem ((c.tc : Thread Cert.MmDownReferenceIdeal.nD Cert.MmDownReferenceIdeal.τ).loc Cert.MmDownReferenceIdeal.main_arg2) = m' ((c.tc : Thread Cert.MmDownReferenceIdeal.nD Cert.MmDownReferenceIdeal.τ).loc Cert.MmDownReferenceIdeal.main_arg2)
          ∧ r.2.mem ((c.tc : Thread Cert.MmDownReferenceIdeal.nD Cert.MmDownReferenceIdeal.τ).loc Cert.MmDownReferenceIdeal.main_arg3) = m' ((c.tc : Thread Cert.MmDownReferenceIdeal.nD Cert.MmDownReferenceIdeal.τ).loc Cert.MmDownReferenceIdeal.main_arg3))

def preserves_FfnAct_FfnActIdeal : Prop :=
  True

def algebraic_FfnActIdeal_FfnActReferenceIdeal_pre_finite_factors [hFfnActIdeal : Cert.FfnActIdeal.Facts] [hFfnActReferenceIdeal : Cert.FfnActReferenceIdeal.Facts] [hPre_finite_factors : Cert.Pre_finite_factors.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActIdeal_finite_factors m →
    (∀ c : Dev Cert.FfnActIdeal.nD,
      m' ((c.tc : Thread Cert.FfnActReferenceIdeal.nD Cert.FfnActReferenceIdeal.τ).loc Cert.FfnActReferenceIdeal.main_arg0) = m ((c.tc : Thread Cert.FfnActIdeal.nD Cert.FfnActIdeal.τ).loc Cert.FfnActIdeal.main_arg0)
      ∧ m' ((c.tc : Thread Cert.FfnActReferenceIdeal.nD Cert.FfnActReferenceIdeal.τ).loc Cert.FfnActReferenceIdeal.main_arg1) = m ((c.tc : Thread Cert.FfnActIdeal.nD Cert.FfnActIdeal.τ).loc Cert.FfnActIdeal.main_arg1)
      ∧ m' ((c.tc : Thread Cert.FfnActReferenceIdeal.nD Cert.FfnActReferenceIdeal.τ).loc Cert.FfnActReferenceIdeal.main_arg2) = m ((c.tc : Thread Cert.FfnActIdeal.nD Cert.FfnActIdeal.τ).loc Cert.FfnActIdeal.main_arg2)
      ∧ m' ((c.tc : Thread Cert.FfnActReferenceIdeal.nD Cert.FfnActReferenceIdeal.τ).loc Cert.FfnActReferenceIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v22_0)) (v1 : (c : Dev Cert.FfnActIdeal.nD) → Buf (Elt Ideal) ((c.tc : Thread Cert.FfnActIdeal.nD Cert.FfnActIdeal.τ).loc Cert.FfnActIdeal.main_v22_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v22_0) = v0 c
          ∧ r.2.mem ((c.tc : Thread Cert.FfnActIdeal.nD Cert.FfnActIdeal.τ).loc Cert.FfnActIdeal.main_v22_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v16) = v0 c
          ∧ r.2.mem ((c.tc : Thread Cert.FfnActReferenceIdeal.nD Cert.FfnActReferenceIdeal.τ).loc Cert.FfnActReferenceIdeal.main_v26) = v1 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1)
          ∧ r.2.mem ((c.tc : Thread Cert.FfnActReferenceIdeal.nD Cert.FfnActReferenceIdeal.τ).loc Cert.FfnActReferenceIdeal.main_arg2) = m' ((c.tc : Thread Cert.FfnActReferenceIdeal.nD Cert.FfnActReferenceIdeal.τ).loc Cert.FfnActReferenceIdeal.main_arg2)
          ∧ r.2.mem ((c.tc : Thread Cert.FfnActReferenceIdeal.nD Cert.FfnActReferenceIdeal.τ).loc Cert.FfnActReferenceIdeal.main_arg3) = m' ((c.tc : Thread Cert.FfnActReferenceIdeal.nD Cert.FfnActReferenceIdeal.τ).loc Cert.FfnActReferenceIdeal.main_arg3))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)
      ∧ m' ((c.tc : Thread Cert.FfnDhReferenceIdeal.nD Cert.FfnDhReferenceIdeal.τ).loc Cert.FfnDhReferenceIdeal.main_arg4) = m ((c.tc : Thread Cert.FfnDhIdeal.nD Cert.FfnDhIdeal.τ).loc Cert.FfnDhIdeal.main_arg4)
      ∧ m' ((c.tc : Thread Cert.FfnDhReferenceIdeal.nD Cert.FfnDhReferenceIdeal.τ).loc Cert.FfnDhReferenceIdeal.main_arg5) = m ((c.tc : Thread Cert.FfnDhIdeal.nD Cert.FfnDhIdeal.τ).loc Cert.FfnDhIdeal.main_arg5)
      ∧ m' ((c.tc : Thread Cert.FfnDhReferenceIdeal.nD Cert.FfnDhReferenceIdeal.τ).loc Cert.FfnDhReferenceIdeal.main_arg6) = m ((c.tc : Thread Cert.FfnDhIdeal.nD Cert.FfnDhIdeal.τ).loc Cert.FfnDhIdeal.main_arg6)) →
    ∃ (v0 : (c : Dev Cert.FfnDhIdeal.nD) → Buf (Elt Ideal) ((c.tc : Thread Cert.FfnDhIdeal.nD Cert.FfnDhIdeal.τ).loc Cert.FfnDhIdeal.main_v40_0)) (v1 : (c : Dev Cert.FfnDhIdeal.nD) → Buf (Elt Ideal) ((c.tc : Thread Cert.FfnDhIdeal.nD Cert.FfnDhIdeal.τ).loc Cert.FfnDhIdeal.main_v40_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v40_0) = v0 c
          ∧ r.2.mem ((c.tc : Thread Cert.FfnDhIdeal.nD Cert.FfnDhIdeal.τ).loc Cert.FfnDhIdeal.main_v40_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
          ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v39) = v0 c
          ∧ r.2.mem ((c.tc : Thread Cert.FfnDhReferenceIdeal.nD Cert.FfnDhReferenceIdeal.τ).loc Cert.FfnDhReferenceIdeal.main_v22) = v1 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3)
          ∧ r.2.mem ((c.tc : Thread Cert.FfnDhReferenceIdeal.nD Cert.FfnDhReferenceIdeal.τ).loc Cert.FfnDhReferenceIdeal.main_arg4) = m' ((c.tc : Thread Cert.FfnDhReferenceIdeal.nD Cert.FfnDhReferenceIdeal.τ).loc Cert.FfnDhReferenceIdeal.main_arg4)
          ∧ r.2.mem ((c.tc : Thread Cert.FfnDhReferenceIdeal.nD Cert.FfnDhReferenceIdeal.τ).loc Cert.FfnDhReferenceIdeal.main_arg5) = m' ((c.tc : Thread Cert.FfnDhReferenceIdeal.nD Cert.FfnDhReferenceIdeal.τ).loc Cert.FfnDhReferenceIdeal.main_arg5)
          ∧ r.2.mem ((c.tc : Thread Cert.FfnDhReferenceIdeal.nD Cert.FfnDhReferenceIdeal.τ).loc Cert.FfnDhReferenceIdeal.main_arg6) = m' ((c.tc : Thread Cert.FfnDhReferenceIdeal.nD Cert.FfnDhReferenceIdeal.τ).loc Cert.FfnDhReferenceIdeal.main_arg6))

def preserves_MmDh_MmDhIdeal : Prop :=
  True

def algebraic_MmDhIdeal_MmDhReferenceIdeal [hMmDhIdeal : Cert.MmDhIdeal.Facts] [hMmDhReferenceIdeal : Cert.MmDhReferenceIdeal.Facts] : Prop :=
  ∀ (m : (ℓ : Loc Cert.MmDhIdeal.nD Cert.MmDhIdeal.τ Cert.MmDhIdeal.sig) → Buf (Elt Ideal) ℓ) (g : Dev Cert.MmDhIdeal.nD → PrngReg)
    (m' : (ℓ : Loc Cert.MmDhReferenceIdeal.nD Cert.MmDhReferenceIdeal.τ Cert.MmDhReferenceIdeal.sig) → Buf (Elt Ideal) ℓ) (g' : Dev Cert.MmDhReferenceIdeal.nD → PrngReg), Pre_MmDhIdeal m →
    (∀ c : Dev Cert.MmDhIdeal.nD,
      m' ((c.tc : Thread Cert.MmDhReferenceIdeal.nD Cert.MmDhReferenceIdeal.τ).loc Cert.MmDhReferenceIdeal.main_arg0) = m ((c.tc : Thread Cert.MmDhIdeal.nD Cert.MmDhIdeal.τ).loc Cert.MmDhIdeal.main_arg0)
      ∧ m' ((c.tc : Thread Cert.MmDhReferenceIdeal.nD Cert.MmDhReferenceIdeal.τ).loc Cert.MmDhReferenceIdeal.main_arg1) = m ((c.tc : Thread Cert.MmDhIdeal.nD Cert.MmDhIdeal.τ).loc Cert.MmDhIdeal.main_arg1)
      ∧ m' ((c.tc : Thread Cert.MmDhReferenceIdeal.nD Cert.MmDhReferenceIdeal.τ).loc Cert.MmDhReferenceIdeal.main_arg2) = m ((c.tc : Thread Cert.MmDhIdeal.nD Cert.MmDhIdeal.τ).loc Cert.MmDhIdeal.main_arg2)
      ∧ m' ((c.tc : Thread Cert.MmDhReferenceIdeal.nD Cert.MmDhReferenceIdeal.τ).loc Cert.MmDhReferenceIdeal.main_arg3) = m ((c.tc : Thread Cert.MmDhIdeal.nD Cert.MmDhIdeal.τ).loc Cert.MmDhIdeal.main_arg3)
      ∧ m' ((c.tc : Thread Cert.MmDhReferenceIdeal.nD Cert.MmDhReferenceIdeal.τ).loc Cert.MmDhReferenceIdeal.main_arg4) = m ((c.tc : Thread Cert.MmDhIdeal.nD Cert.MmDhIdeal.τ).loc Cert.MmDhIdeal.main_arg4)) →
    ∃ (v0 : (c : Dev Cert.MmDhIdeal.nD) → Buf (Elt Ideal) ((c.tc : Thread Cert.MmDhIdeal.nD Cert.MmDhIdeal.τ).loc Cert.MmDhIdeal.main_v11_0)) (v1 : (c : Dev Cert.MmDhIdeal.nD) → Buf (Elt Ideal) ((c.tc : Thread Cert.MmDhIdeal.nD Cert.MmDhIdeal.τ).loc Cert.MmDhIdeal.main_v11_1)),
      θ_run (Cert.MmDhIdeal.defs (F := Ideal)) (onTc (τ := Cert.MmDhIdeal.τ) (Cert.MmDhIdeal.main (F := Ideal))) ⟨m, fun _ => 0, g⟩ (fun r => ∀ c : Dev Cert.MmDhIdeal.nD,
          r.2.mem ((c.tc : Thread Cert.MmDhIdeal.nD Cert.MmDhIdeal.τ).loc Cert.MmDhIdeal.main_v11_0) = v0 c
          ∧ r.2.mem ((c.tc : Thread Cert.MmDhIdeal.nD Cert.MmDhIdeal.τ).loc Cert.MmDhIdeal.main_v11_1) = v1 c
          ∧ r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
          ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
          ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
          ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
          ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4))
      ∧ θ_run (Cert.MmDhReferenceIdeal.defs (F := Ideal)) (onTc (τ := Cert.MmDhReferenceIdeal.τ) (Cert.MmDhReferenceIdeal.main (F := Ideal))) ⟨m', fun _ => 0, g'⟩ (fun r => ∀ c : Dev Cert.MmDhReferenceIdeal.nD,
          r.2.mem ((c.tc : Thread Cert.MmDhReferenceIdeal.nD Cert.MmDhReferenceIdeal.τ).loc Cert.MmDhReferenceIdeal.main_v36) = v0 c
          ∧ r.2.mem ((c.tc : Thread Cert.MmDhReferenceIdeal.nD Cert.MmDhReferenceIdeal.τ).loc Cert.MmDhReferenceIdeal.main_v19) = v1 c
          ∧ r.2.mem ((c.tc : Thread Cert.MmDhReferenceIdeal.nD Cert.MmDhReferenceIdeal.τ).loc Cert.MmDhReferenceIdeal.main_arg0) = m' ((c.tc : Thread Cert.MmDhReferenceIdeal.nD Cert.MmDhReferenceIdeal.τ).loc Cert.MmDhReferenceIdeal.main_arg0)
          ∧ r.2.mem ((c.tc : Thread Cert.MmDhReferenceIdeal.nD Cert.MmDhReferenceIdeal.τ).loc Cert.MmDhReferenceIdeal.main_arg1) = m' ((c.tc : Thread Cert.MmDhReferenceIdeal.nD Cert.MmDhReferenceIdeal.τ).loc Cert.MmDhReferenceIdeal.main_arg1)
          ∧ r.2.mem ((c.tc : Thread Cert.MmDhReferenceIdeal.nD Cert.MmDhReferenceIdeal.τ).loc Cert.MmDhReferenceIdeal.main_arg2) = m' ((c.tc : Thread Cert.MmDhReferenceIdeal.nD Cert.MmDhReferenceIdeal.τ).loc Cert.MmDhReferenceIdeal.main_arg2)
          ∧ r.2.mem ((c.tc : Thread Cert.MmDhReferenceIdeal.nD Cert.MmDhReferenceIdeal.τ).loc Cert.MmDhReferenceIdeal.main_arg3) = m' ((c.tc : Thread Cert.MmDhReferenceIdeal.nD Cert.MmDhReferenceIdeal.τ).loc Cert.MmDhReferenceIdeal.main_arg3)
          ∧ r.2.mem ((c.tc : Thread Cert.MmDhReferenceIdeal.nD Cert.MmDhReferenceIdeal.τ).loc Cert.MmDhReferenceIdeal.main_arg4) = m' ((c.tc : Thread Cert.MmDhReferenceIdeal.nD Cert.MmDhReferenceIdeal.τ).loc Cert.MmDhReferenceIdeal.main_arg4))

def preserves_FlashA_FlashAIdeal : Prop :=
  True

def algebraic_FlashAIdeal_FlashAReferenceIdeal_pre_finite_entries [hFlashAIdeal : Cert.FlashAIdeal.Facts] [hFlashAReferenceIdeal : Cert.FlashAReferenceIdeal.Facts] [hPre_finite_entries : Cert.Pre_finite_entries.Facts] : Prop :=
  ∀ (m : (ℓ : Loc Cert.FlashAIdeal.nD Cert.FlashAIdeal.τ Cert.FlashAIdeal.sig) → Buf (Elt Ideal) ℓ) (g : Dev Cert.FlashAIdeal.nD → PrngReg)
    (m' : (ℓ : Loc Cert.FlashAReferenceIdeal.nD Cert.FlashAReferenceIdeal.τ Cert.FlashAReferenceIdeal.sig) → Buf (Elt Ideal) ℓ) (g' : Dev Cert.FlashAReferenceIdeal.nD → PrngReg), Pre_FlashAIdeal_finite_entries m →
    (∀ c : Dev Cert.FlashAIdeal.nD,
      m' ((c.tc : Thread Cert.FlashAReferenceIdeal.nD Cert.FlashAReferenceIdeal.τ).loc Cert.FlashAReferenceIdeal.main_arg0) = m ((c.tc : Thread Cert.FlashAIdeal.nD Cert.FlashAIdeal.τ).loc Cert.FlashAIdeal.main_arg0)
      ∧ m' ((c.tc : Thread Cert.FlashAReferenceIdeal.nD Cert.FlashAReferenceIdeal.τ).loc Cert.FlashAReferenceIdeal.main_arg1) = m ((c.tc : Thread Cert.FlashAIdeal.nD Cert.FlashAIdeal.τ).loc Cert.FlashAIdeal.main_arg1)
      ∧ m' ((c.tc : Thread Cert.FlashAReferenceIdeal.nD Cert.FlashAReferenceIdeal.τ).loc Cert.FlashAReferenceIdeal.main_arg2) = m ((c.tc : Thread Cert.FlashAIdeal.nD Cert.FlashAIdeal.τ).loc Cert.FlashAIdeal.main_arg2)) →
    ∃ (v0 : (c : Dev Cert.FlashAIdeal.nD) → Buf (Elt Ideal) ((c.tc : Thread Cert.FlashAIdeal.nD Cert.FlashAIdeal.τ).loc Cert.FlashAIdeal.main_v19_0)) (v1 : (c : Dev Cert.FlashAIdeal.nD) → Buf (Elt Ideal) ((c.tc : Thread Cert.FlashAIdeal.nD Cert.FlashAIdeal.τ).loc Cert.FlashAIdeal.main_v19_1)),
      θ_run (Cert.FlashAIdeal.defs (F := Ideal)) (onTc (τ := Cert.FlashAIdeal.τ) (Cert.FlashAIdeal.main (F := Ideal))) ⟨m, fun _ => 0, g⟩ (fun r => ∀ c : Dev Cert.FlashAIdeal.nD,
          r.2.mem ((c.tc : Thread Cert.FlashAIdeal.nD Cert.FlashAIdeal.τ).loc Cert.FlashAIdeal.main_v19_0) = v0 c
          ∧ r.2.mem ((c.tc : Thread Cert.FlashAIdeal.nD Cert.FlashAIdeal.τ).loc Cert.FlashAIdeal.main_v19_1) = v1 c
          ∧ r.2.mem ((c.tc : Thread Cert.FlashAIdeal.nD Cert.FlashAIdeal.τ).loc Cert.FlashAIdeal.main_arg0) = m ((c.tc : Thread Cert.FlashAIdeal.nD Cert.FlashAIdeal.τ).loc Cert.FlashAIdeal.main_arg0)
          ∧ r.2.mem ((c.tc : Thread Cert.FlashAIdeal.nD Cert.FlashAIdeal.τ).loc Cert.FlashAIdeal.main_arg1) = m ((c.tc : Thread Cert.FlashAIdeal.nD Cert.FlashAIdeal.τ).loc Cert.FlashAIdeal.main_arg1)
          ∧ r.2.mem ((c.tc : Thread Cert.FlashAIdeal.nD Cert.FlashAIdeal.τ).loc Cert.FlashAIdeal.main_arg2) = m ((c.tc : Thread Cert.FlashAIdeal.nD Cert.FlashAIdeal.τ).loc Cert.FlashAIdeal.main_arg2))
      ∧ θ_run (Cert.FlashAReferenceIdeal.defs (F := Ideal)) (onTc (τ := Cert.FlashAReferenceIdeal.τ) (Cert.FlashAReferenceIdeal.main (F := Ideal))) ⟨m', fun _ => 0, g'⟩ (fun r => ∀ c : Dev Cert.FlashAReferenceIdeal.nD,
          r.2.mem ((c.tc : Thread Cert.FlashAReferenceIdeal.nD Cert.FlashAReferenceIdeal.τ).loc Cert.FlashAReferenceIdeal.main_v27) = v0 c
          ∧ r.2.mem ((c.tc : Thread Cert.FlashAReferenceIdeal.nD Cert.FlashAReferenceIdeal.τ).loc Cert.FlashAReferenceIdeal.main_v28) = v1 c
          ∧ r.2.mem ((c.tc : Thread Cert.FlashAReferenceIdeal.nD Cert.FlashAReferenceIdeal.τ).loc Cert.FlashAReferenceIdeal.main_arg0) = m' ((c.tc : Thread Cert.FlashAReferenceIdeal.nD Cert.FlashAReferenceIdeal.τ).loc Cert.FlashAReferenceIdeal.main_arg0)
          ∧ r.2.mem ((c.tc : Thread Cert.FlashAReferenceIdeal.nD Cert.FlashAReferenceIdeal.τ).loc Cert.FlashAReferenceIdeal.main_arg1) = m' ((c.tc : Thread Cert.FlashAReferenceIdeal.nD Cert.FlashAReferenceIdeal.τ).loc Cert.FlashAReferenceIdeal.main_arg1)
          ∧ r.2.mem ((c.tc : Thread Cert.FlashAReferenceIdeal.nD Cert.FlashAReferenceIdeal.τ).loc Cert.FlashAReferenceIdeal.main_arg2) = m' ((c.tc : Thread Cert.FlashAReferenceIdeal.nD Cert.FlashAReferenceIdeal.τ).loc Cert.FlashAReferenceIdeal.main_arg2))

def preserves_FlashABwd_FlashABwdIdeal : Prop :=
  True

def algebraic_FlashABwdIdeal_FlashABwdReferenceIdeal_pre_finite_parts [hFlashABwdIdeal : Cert.FlashABwdIdeal.Facts] [hFlashABwdReferenceIdeal : Cert.FlashABwdReferenceIdeal.Facts] [hPre_finite_parts : Cert.Pre_finite_parts.Facts] : Prop :=
  ∀ (m : (ℓ : Loc Cert.FlashABwdIdeal.nD Cert.FlashABwdIdeal.τ Cert.FlashABwdIdeal.sig) → Buf (Elt Ideal) ℓ) (g : Dev Cert.FlashABwdIdeal.nD → PrngReg)
    (m' : (ℓ : Loc Cert.FlashABwdReferenceIdeal.nD Cert.FlashABwdReferenceIdeal.τ Cert.FlashABwdReferenceIdeal.sig) → Buf (Elt Ideal) ℓ) (g' : Dev Cert.FlashABwdReferenceIdeal.nD → PrngReg), Pre_FlashABwdIdeal_finite_parts m →
    (∀ c : Dev Cert.FlashABwdIdeal.nD,
      m' ((c.tc : Thread Cert.FlashABwdReferenceIdeal.nD Cert.FlashABwdReferenceIdeal.τ).loc Cert.FlashABwdReferenceIdeal.main_arg0) = m ((c.tc : Thread Cert.FlashABwdIdeal.nD Cert.FlashABwdIdeal.τ).loc Cert.FlashABwdIdeal.main_arg0)
      ∧ m' ((c.tc : Thread Cert.FlashABwdReferenceIdeal.nD Cert.FlashABwdReferenceIdeal.τ).loc Cert.FlashABwdReferenceIdeal.main_arg1) = m ((c.tc : Thread Cert.FlashABwdIdeal.nD Cert.FlashABwdIdeal.τ).loc Cert.FlashABwdIdeal.main_arg1)
      ∧ m' ((c.tc : Thread Cert.FlashABwdReferenceIdeal.nD Cert.FlashABwdReferenceIdeal.τ).loc Cert.FlashABwdReferenceIdeal.main_arg2) = m ((c.tc : Thread Cert.FlashABwdIdeal.nD Cert.FlashABwdIdeal.τ).loc Cert.FlashABwdIdeal.main_arg2)
      ∧ m' ((c.tc : Thread Cert.FlashABwdReferenceIdeal.nD Cert.FlashABwdReferenceIdeal.τ).loc Cert.FlashABwdReferenceIdeal.main_arg3) = m ((c.tc : Thread Cert.FlashABwdIdeal.nD Cert.FlashABwdIdeal.τ).loc Cert.FlashABwdIdeal.main_arg3)) →
    ∃ (v0 : (c : Dev Cert.FlashABwdIdeal.nD) → Buf (Elt Ideal) ((c.tc : Thread Cert.FlashABwdIdeal.nD Cert.FlashABwdIdeal.τ).loc Cert.FlashABwdIdeal.main_v48_0)) (v1 : (c : Dev Cert.FlashABwdIdeal.nD) → Buf (Elt Ideal) ((c.tc : Thread Cert.FlashABwdIdeal.nD Cert.FlashABwdIdeal.τ).loc Cert.FlashABwdIdeal.main_v48_1)) (v2 : (c : Dev Cert.FlashABwdIdeal.nD) → Buf (Elt Ideal) ((c.tc : Thread Cert.FlashABwdIdeal.nD Cert.FlashABwdIdeal.τ).loc Cert.FlashABwdIdeal.main_v48_2)),
      θ_run (Cert.FlashABwdIdeal.defs (F := Ideal)) (onTc (τ := Cert.FlashABwdIdeal.τ) (Cert.FlashABwdIdeal.main (F := Ideal))) ⟨m, fun _ => 0, g⟩ (fun r => ∀ c : Dev Cert.FlashABwdIdeal.nD,
          r.2.mem ((c.tc : Thread Cert.FlashABwdIdeal.nD Cert.FlashABwdIdeal.τ).loc Cert.FlashABwdIdeal.main_v48_0) = v0 c
          ∧ r.2.mem ((c.tc : Thread Cert.FlashABwdIdeal.nD Cert.FlashABwdIdeal.τ).loc Cert.FlashABwdIdeal.main_v48_1) = v1 c
          ∧ r.2.mem ((c.tc : Thread Cert.FlashABwdIdeal.nD Cert.FlashABwdIdeal.τ).loc Cert.FlashABwdIdeal.main_v48_2) = v2 c
          ∧ r.2.mem ((c.tc : Thread Cert.FlashABwdIdeal.nD Cert.FlashABwdIdeal.τ).loc Cert.FlashABwdIdeal.main_arg0) = m ((c.tc : Thread Cert.FlashABwdIdeal.nD Cert.FlashABwdIdeal.τ).loc Cert.FlashABwdIdeal.main_arg0)
          ∧ r.2.mem ((c.tc : Thread Cert.FlashABwdIdeal.nD Cert.FlashABwdIdeal.τ).loc Cert.FlashABwdIdeal.main_arg1) = m ((c.tc : Thread Cert.FlashABwdIdeal.nD Cert.FlashABwdIdeal.τ).loc Cert.FlashABwdIdeal.main_arg1)
          ∧ r.2.mem ((c.tc : Thread Cert.FlashABwdIdeal.nD Cert.FlashABwdIdeal.τ).loc Cert.FlashABwdIdeal.main_arg2) = m ((c.tc : Thread Cert.FlashABwdIdeal.nD Cert.FlashABwdIdeal.τ).loc Cert.FlashABwdIdeal.main_arg2)
          ∧ r.2.mem ((c.tc : Thread Cert.FlashABwdIdeal.nD Cert.FlashABwdIdeal.τ).loc Cert.FlashABwdIdeal.main_arg3) = m ((c.tc : Thread Cert.FlashABwdIdeal.nD Cert.FlashABwdIdeal.τ).loc Cert.FlashABwdIdeal.main_arg3))
      ∧ θ_run (Cert.FlashABwdReferenceIdeal.defs (F := Ideal)) (onTc (τ := Cert.FlashABwdReferenceIdeal.τ) (Cert.FlashABwdReferenceIdeal.main (F := Ideal))) ⟨m', fun _ => 0, g'⟩ (fun r => ∀ c : Dev Cert.FlashABwdReferenceIdeal.nD,
          r.2.mem ((c.tc : Thread Cert.FlashABwdReferenceIdeal.nD Cert.FlashABwdReferenceIdeal.τ).loc Cert.FlashABwdReferenceIdeal.main_v64) = v0 c
          ∧ r.2.mem ((c.tc : Thread Cert.FlashABwdReferenceIdeal.nD Cert.FlashABwdReferenceIdeal.τ).loc Cert.FlashABwdReferenceIdeal.main_v66) = v1 c
          ∧ r.2.mem ((c.tc : Thread Cert.FlashABwdReferenceIdeal.nD Cert.FlashABwdReferenceIdeal.τ).loc Cert.FlashABwdReferenceIdeal.main_v68) = v2 c
          ∧ r.2.mem ((c.tc : Thread Cert.FlashABwdReferenceIdeal.nD Cert.FlashABwdReferenceIdeal.τ).loc Cert.FlashABwdReferenceIdeal.main_arg0) = m' ((c.tc : Thread Cert.FlashABwdReferenceIdeal.nD Cert.FlashABwdReferenceIdeal.τ).loc Cert.FlashABwdReferenceIdeal.main_arg0)
          ∧ r.2.mem ((c.tc : Thread Cert.FlashABwdReferenceIdeal.nD Cert.FlashABwdReferenceIdeal.τ).loc Cert.FlashABwdReferenceIdeal.main_arg1) = m' ((c.tc : Thread Cert.FlashABwdReferenceIdeal.nD Cert.FlashABwdReferenceIdeal.τ).loc Cert.FlashABwdReferenceIdeal.main_arg1)
          ∧ r.2.mem ((c.tc : Thread Cert.FlashABwdReferenceIdeal.nD Cert.FlashABwdReferenceIdeal.τ).loc Cert.FlashABwdReferenceIdeal.main_arg2) = m' ((c.tc : Thread Cert.FlashABwdReferenceIdeal.nD Cert.FlashABwdReferenceIdeal.τ).loc Cert.FlashABwdReferenceIdeal.main_arg2)
          ∧ r.2.mem ((c.tc : Thread Cert.FlashABwdReferenceIdeal.nD Cert.FlashABwdReferenceIdeal.τ).loc Cert.FlashABwdReferenceIdeal.main_arg3) = m' ((c.tc : Thread Cert.FlashABwdReferenceIdeal.nD Cert.FlashABwdReferenceIdeal.τ).loc Cert.FlashABwdReferenceIdeal.main_arg3))

def preserves_AdIn_AdInIdeal : Prop :=
  True

def algebraic_AdInIdeal_AdInReferenceIdeal [hAdInIdeal : Cert.AdInIdeal.Facts] [hAdInReferenceIdeal : Cert.AdInReferenceIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInReferenceIdeal.nD Cert.AdInReferenceIdeal.τ Cert.AdInReferenceIdeal.sig) → Buf (Elt Ideal) ℓ) (g' : Dev Cert.AdInReferenceIdeal.nD → PrngReg), Pre_AdInIdeal m →
    (∀ c : Dev Cert.AdInIdeal.nD,
      m' ((c.tc : Thread Cert.AdInReferenceIdeal.nD Cert.AdInReferenceIdeal.τ).loc Cert.AdInReferenceIdeal.main_arg0) = m ((c.tc : Thread Cert.AdInIdeal.nD Cert.AdInIdeal.τ).loc Cert.AdInIdeal.main_arg0)
      ∧ m' ((c.tc : Thread Cert.AdInReferenceIdeal.nD Cert.AdInReferenceIdeal.τ).loc Cert.AdInReferenceIdeal.main_arg1) = m ((c.tc : Thread Cert.AdInIdeal.nD Cert.AdInIdeal.τ).loc Cert.AdInIdeal.main_arg1)
      ∧ m' ((c.tc : Thread Cert.AdInReferenceIdeal.nD Cert.AdInReferenceIdeal.τ).loc Cert.AdInReferenceIdeal.main_arg2) = m ((c.tc : Thread Cert.AdInIdeal.nD Cert.AdInIdeal.τ).loc Cert.AdInIdeal.main_arg2)
      ∧ m' ((c.tc : Thread Cert.AdInReferenceIdeal.nD Cert.AdInReferenceIdeal.τ).loc Cert.AdInReferenceIdeal.main_arg3) = m ((c.tc : Thread Cert.AdInIdeal.nD Cert.AdInIdeal.τ).loc Cert.AdInIdeal.main_arg3)
      ∧ m' ((c.tc : Thread Cert.AdInReferenceIdeal.nD Cert.AdInReferenceIdeal.τ).loc Cert.AdInReferenceIdeal.main_arg4) = m ((c.tc : Thread Cert.AdInIdeal.nD Cert.AdInIdeal.τ).loc Cert.AdInIdeal.main_arg4)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
          ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ θ_run (Cert.AdInReferenceIdeal.defs (F := Ideal)) (onTc (τ := Cert.AdInReferenceIdeal.τ) (Cert.AdInReferenceIdeal.main (F := Ideal))) ⟨m', fun _ => 0, g'⟩ (fun r => ∀ c : Dev Cert.AdInReferenceIdeal.nD,
          r.2.mem ((c.tc : Thread Cert.AdInReferenceIdeal.nD Cert.AdInReferenceIdeal.τ).loc Cert.AdInReferenceIdeal.main_v0) = v0 c
          ∧ r.2.mem ((c.tc : Thread Cert.AdInReferenceIdeal.nD Cert.AdInReferenceIdeal.τ).loc Cert.AdInReferenceIdeal.main_v24) = v1 c
          ∧ r.2.mem ((c.tc : Thread Cert.AdInReferenceIdeal.nD Cert.AdInReferenceIdeal.τ).loc Cert.AdInReferenceIdeal.main_v5) = v2 c
          ∧ r.2.mem ((c.tc : Thread Cert.AdInReferenceIdeal.nD Cert.AdInReferenceIdeal.τ).loc Cert.AdInReferenceIdeal.main_v11) = v3 c
          ∧ r.2.mem ((c.tc : Thread Cert.AdInReferenceIdeal.nD Cert.AdInReferenceIdeal.τ).loc Cert.AdInReferenceIdeal.main_arg0) = m' ((c.tc : Thread Cert.AdInReferenceIdeal.nD Cert.AdInReferenceIdeal.τ).loc Cert.AdInReferenceIdeal.main_arg0)
          ∧ r.2.mem ((c.tc : Thread Cert.AdInReferenceIdeal.nD Cert.AdInReferenceIdeal.τ).loc Cert.AdInReferenceIdeal.main_arg1) = m' ((c.tc : Thread Cert.AdInReferenceIdeal.nD Cert.AdInReferenceIdeal.τ).loc Cert.AdInReferenceIdeal.main_arg1)
          ∧ r.2.mem ((c.tc : Thread Cert.AdInReferenceIdeal.nD Cert.AdInReferenceIdeal.τ).loc Cert.AdInReferenceIdeal.main_arg2) = m' ((c.tc : Thread Cert.AdInReferenceIdeal.nD Cert.AdInReferenceIdeal.τ).loc Cert.AdInReferenceIdeal.main_arg2)
          ∧ r.2.mem ((c.tc : Thread Cert.AdInReferenceIdeal.nD Cert.AdInReferenceIdeal.τ).loc Cert.AdInReferenceIdeal.main_arg3) = m' ((c.tc : Thread Cert.AdInReferenceIdeal.nD Cert.AdInReferenceIdeal.τ).loc Cert.AdInReferenceIdeal.main_arg3)
          ∧ r.2.mem ((c.tc : Thread Cert.AdInReferenceIdeal.nD Cert.AdInReferenceIdeal.τ).loc Cert.AdInReferenceIdeal.main_arg4) = m' ((c.tc : Thread Cert.AdInReferenceIdeal.nD Cert.AdInReferenceIdeal.τ).loc Cert.AdInReferenceIdeal.main_arg4))

def preserves_AdBrA_AdBrAIdeal : Prop :=
  True

def algebraic_AdBrAIdeal_AdBrAReferenceIdeal [hAdBrAIdeal : Cert.AdBrAIdeal.Facts] [hAdBrAReferenceIdeal : Cert.AdBrAReferenceIdeal.Facts] : Prop :=
  ∀ (m : (ℓ : Loc Cert.AdBrAIdeal.nD Cert.AdBrAIdeal.τ Cert.AdBrAIdeal.sig) → Buf (Elt Ideal) ℓ) (g : Dev Cert.AdBrAIdeal.nD → PrngReg)
    (m' : (ℓ : Loc Cert.AdBrAReferenceIdeal.nD Cert.AdBrAReferenceIdeal.τ Cert.AdBrAReferenceIdeal.sig) → Buf (Elt Ideal) ℓ) (g' : Dev Cert.AdBrAReferenceIdeal.nD → PrngReg), Pre_AdBrAIdeal m →
    (∀ c : Dev Cert.AdBrAIdeal.nD,
      m' ((c.tc : Thread Cert.AdBrAReferenceIdeal.nD Cert.AdBrAReferenceIdeal.τ).loc Cert.AdBrAReferenceIdeal.main_arg0) = m ((c.tc : Thread Cert.AdBrAIdeal.nD Cert.AdBrAIdeal.τ).loc Cert.AdBrAIdeal.main_arg0)
      ∧ m' ((c.tc : Thread Cert.AdBrAReferenceIdeal.nD Cert.AdBrAReferenceIdeal.τ).loc Cert.AdBrAReferenceIdeal.main_arg1) = m ((c.tc : Thread Cert.AdBrAIdeal.nD Cert.AdBrAIdeal.τ).loc Cert.AdBrAIdeal.main_arg1)
      ∧ m' ((c.tc : Thread Cert.AdBrAReferenceIdeal.nD Cert.AdBrAReferenceIdeal.τ).loc Cert.AdBrAReferenceIdeal.main_arg2) = m ((c.tc : Thread Cert.AdBrAIdeal.nD Cert.AdBrAIdeal.τ).loc Cert.AdBrAIdeal.main_arg2)
      ∧ m' ((c.tc : Thread Cert.AdBrAReferenceIdeal.nD Cert.AdBrAReferenceIdeal.τ).loc Cert.AdBrAReferenceIdeal.main_arg3) = m ((c.tc : Thread Cert.AdBrAIdeal.nD Cert.AdBrAIdeal.τ).loc Cert.AdBrAIdeal.main_arg3)
      ∧ m' ((c.tc : Thread Cert.AdBrAReferenceIdeal.nD Cert.AdBrAReferenceIdeal.τ).loc Cert.AdBrAReferenceIdeal.main_arg4) = m ((c.tc : Thread Cert.AdBrAIdeal.nD Cert.AdBrAIdeal.τ).loc Cert.AdBrAIdeal.main_arg4)) →
    ∃ (v0 : (c : Dev Cert.AdBrAIdeal.nD) → Buf (Elt Ideal) ((c.tc : Thread Cert.AdBrAIdeal.nD Cert.AdBrAIdeal.τ).loc Cert.AdBrAIdeal.main_v0_0)) (v1 : (c : Dev Cert.AdBrAIdeal.nD) → Buf (Elt Ideal) ((c.tc : Thread Cert.AdBrAIdeal.nD Cert.AdBrAIdeal.τ).loc Cert.AdBrAIdeal.main_v0_1)) (v2 : (c : Dev Cert.AdBrAIdeal.nD) → Buf (Elt Ideal) ((c.tc : Thread Cert.AdBrAIdeal.nD Cert.AdBrAIdeal.τ).loc Cert.AdBrAIdeal.main_v0_2)) (v3 : (c : Dev Cert.AdBrAIdeal.nD) → Buf (Elt Ideal) ((c.tc : Thread Cert.AdBrAIdeal.nD Cert.AdBrAIdeal.τ).loc Cert.AdBrAIdeal.main_v0_3)),
      θ_run (Cert.AdBrAIdeal.defs (F := Ideal)) (onTc (τ := Cert.AdBrAIdeal.τ) (Cert.AdBrAIdeal.main (F := Ideal))) ⟨m, fun _ => 0, g⟩ (fun r => ∀ c : Dev Cert.AdBrAIdeal.nD,
          r.2.mem ((c.tc : Thread Cert.AdBrAIdeal.nD Cert.AdBrAIdeal.τ).loc Cert.AdBrAIdeal.main_v0_0) = v0 c
          ∧ r.2.mem ((c.tc : Thread Cert.AdBrAIdeal.nD Cert.AdBrAIdeal.τ).loc Cert.AdBrAIdeal.main_v0_1) = v1 c
          ∧ r.2.mem ((c.tc : Thread Cert.AdBrAIdeal.nD Cert.AdBrAIdeal.τ).loc Cert.AdBrAIdeal.main_v0_2) = v2 c
          ∧ r.2.mem ((c.tc : Thread Cert.AdBrAIdeal.nD Cert.AdBrAIdeal.τ).loc Cert.AdBrAIdeal.main_v0_3) = v3 c
          ∧ r.2.mem ((c.tc : Thread Cert.AdBrAIdeal.nD Cert.AdBrAIdeal.τ).loc Cert.AdBrAIdeal.main_arg0) = m ((c.tc : Thread Cert.AdBrAIdeal.nD Cert.AdBrAIdeal.τ).loc Cert.AdBrAIdeal.main_arg0)
          ∧ r.2.mem ((c.tc : Thread Cert.AdBrAIdeal.nD Cert.AdBrAIdeal.τ).loc Cert.AdBrAIdeal.main_arg1) = m ((c.tc : Thread Cert.AdBrAIdeal.nD Cert.AdBrAIdeal.τ).loc Cert.AdBrAIdeal.main_arg1)
          ∧ r.2.mem ((c.tc : Thread Cert.AdBrAIdeal.nD Cert.AdBrAIdeal.τ).loc Cert.AdBrAIdeal.main_arg2) = m ((c.tc : Thread Cert.AdBrAIdeal.nD Cert.AdBrAIdeal.τ).loc Cert.AdBrAIdeal.main_arg2)
          ∧ r.2.mem ((c.tc : Thread Cert.AdBrAIdeal.nD Cert.AdBrAIdeal.τ).loc Cert.AdBrAIdeal.main_arg3) = m ((c.tc : Thread Cert.AdBrAIdeal.nD Cert.AdBrAIdeal.τ).loc Cert.AdBrAIdeal.main_arg3)
          ∧ r.2.mem ((c.tc : Thread Cert.AdBrAIdeal.nD Cert.AdBrAIdeal.τ).loc Cert.AdBrAIdeal.main_arg4) = m ((c.tc : Thread Cert.AdBrAIdeal.nD Cert.AdBrAIdeal.τ).loc Cert.AdBrAIdeal.main_arg4))
      ∧ θ_run (Cert.AdBrAReferenceIdeal.defs (F := Ideal)) (onTc (τ := Cert.AdBrAReferenceIdeal.τ) (Cert.AdBrAReferenceIdeal.main (F := Ideal))) ⟨m', fun _ => 0, g'⟩ (fun r => ∀ c : Dev Cert.AdBrAReferenceIdeal.nD,
          r.2.mem ((c.tc : Thread Cert.AdBrAReferenceIdeal.nD Cert.AdBrAReferenceIdeal.τ).loc Cert.AdBrAReferenceIdeal.main_v0) = v0 c
          ∧ r.2.mem ((c.tc : Thread Cert.AdBrAReferenceIdeal.nD Cert.AdBrAReferenceIdeal.τ).loc Cert.AdBrAReferenceIdeal.main_v24) = v1 c
          ∧ r.2.mem ((c.tc : Thread Cert.AdBrAReferenceIdeal.nD Cert.AdBrAReferenceIdeal.τ).loc Cert.AdBrAReferenceIdeal.main_v5) = v2 c
          ∧ r.2.mem ((c.tc : Thread Cert.AdBrAReferenceIdeal.nD Cert.AdBrAReferenceIdeal.τ).loc Cert.AdBrAReferenceIdeal.main_v11) = v3 c
          ∧ r.2.mem ((c.tc : Thread Cert.AdBrAReferenceIdeal.nD Cert.AdBrAReferenceIdeal.τ).loc Cert.AdBrAReferenceIdeal.main_arg0) = m' ((c.tc : Thread Cert.AdBrAReferenceIdeal.nD Cert.AdBrAReferenceIdeal.τ).loc Cert.AdBrAReferenceIdeal.main_arg0)
          ∧ r.2.mem ((c.tc : Thread Cert.AdBrAReferenceIdeal.nD Cert.AdBrAReferenceIdeal.τ).loc Cert.AdBrAReferenceIdeal.main_arg1) = m' ((c.tc : Thread Cert.AdBrAReferenceIdeal.nD Cert.AdBrAReferenceIdeal.τ).loc Cert.AdBrAReferenceIdeal.main_arg1)
          ∧ r.2.mem ((c.tc : Thread Cert.AdBrAReferenceIdeal.nD Cert.AdBrAReferenceIdeal.τ).loc Cert.AdBrAReferenceIdeal.main_arg2) = m' ((c.tc : Thread Cert.AdBrAReferenceIdeal.nD Cert.AdBrAReferenceIdeal.τ).loc Cert.AdBrAReferenceIdeal.main_arg2)
          ∧ r.2.mem ((c.tc : Thread Cert.AdBrAReferenceIdeal.nD Cert.AdBrAReferenceIdeal.τ).loc Cert.AdBrAReferenceIdeal.main_arg3) = m' ((c.tc : Thread Cert.AdBrAReferenceIdeal.nD Cert.AdBrAReferenceIdeal.τ).loc Cert.AdBrAReferenceIdeal.main_arg3)
          ∧ r.2.mem ((c.tc : Thread Cert.AdBrAReferenceIdeal.nD Cert.AdBrAReferenceIdeal.τ).loc Cert.AdBrAReferenceIdeal.main_arg4) = m' ((c.tc : Thread Cert.AdBrAReferenceIdeal.nD Cert.AdBrAReferenceIdeal.τ).loc Cert.AdBrAReferenceIdeal.main_arg4))

def preserves_AdBrB_AdBrBIdeal : Prop :=
  True

def algebraic_AdBrBIdeal_AdBrBReferenceIdeal [hAdBrBIdeal : Cert.AdBrBIdeal.Facts] [hAdBrBReferenceIdeal : Cert.AdBrBReferenceIdeal.Facts] : Prop :=
  ∀ (m : (ℓ : Loc Cert.AdBrBIdeal.nD Cert.AdBrBIdeal.τ Cert.AdBrBIdeal.sig) → Buf (Elt Ideal) ℓ) (g : Dev Cert.AdBrBIdeal.nD → PrngReg)
    (m' : (ℓ : Loc Cert.AdBrBReferenceIdeal.nD Cert.AdBrBReferenceIdeal.τ Cert.AdBrBReferenceIdeal.sig) → Buf (Elt Ideal) ℓ) (g' : Dev Cert.AdBrBReferenceIdeal.nD → PrngReg), Pre_AdBrBIdeal m →
    (∀ c : Dev Cert.AdBrBIdeal.nD,
      m' ((c.tc : Thread Cert.AdBrBReferenceIdeal.nD Cert.AdBrBReferenceIdeal.τ).loc Cert.AdBrBReferenceIdeal.main_arg0) = m ((c.tc : Thread Cert.AdBrBIdeal.nD Cert.AdBrBIdeal.τ).loc Cert.AdBrBIdeal.main_arg0)
      ∧ m' ((c.tc : Thread Cert.AdBrBReferenceIdeal.nD Cert.AdBrBReferenceIdeal.τ).loc Cert.AdBrBReferenceIdeal.main_arg1) = m ((c.tc : Thread Cert.AdBrBIdeal.nD Cert.AdBrBIdeal.τ).loc Cert.AdBrBIdeal.main_arg1)
      ∧ m' ((c.tc : Thread Cert.AdBrBReferenceIdeal.nD Cert.AdBrBReferenceIdeal.τ).loc Cert.AdBrBReferenceIdeal.main_arg2) = m ((c.tc : Thread Cert.AdBrBIdeal.nD Cert.AdBrBIdeal.τ).loc Cert.AdBrBIdeal.main_arg2)
      ∧ m' ((c.tc : Thread Cert.AdBrBReferenceIdeal.nD Cert.AdBrBReferenceIdeal.τ).loc Cert.AdBrBReferenceIdeal.main_arg3) = m ((c.tc : Thread Cert.AdBrBIdeal.nD Cert.AdBrBIdeal.τ).loc Cert.AdBrBIdeal.main_arg3)
      ∧ m' ((c.tc : Thread Cert.AdBrBReferenceIdeal.nD Cert.AdBrBReferenceIdeal.τ).loc Cert.AdBrBReferenceIdeal.main_arg4) = m ((c.tc : Thread Cert.AdBrBIdeal.nD Cert.AdBrBIdeal.τ).loc Cert.AdBrBIdeal.main_arg4)) →
    ∃ (v0 : (c : Dev Cert.AdBrBIdeal.nD) → Buf (Elt Ideal) ((c.tc : Thread Cert.AdBrBIdeal.nD Cert.AdBrBIdeal.τ).loc Cert.AdBrBIdeal.main_v0_0)) (v1 : (c : Dev Cert.AdBrBIdeal.nD) → Buf (Elt Ideal) ((c.tc : Thread Cert.AdBrBIdeal.nD Cert.AdBrBIdeal.τ).loc Cert.AdBrBIdeal.main_v0_1)) (v2 : (c : Dev Cert.AdBrBIdeal.nD) → Buf (Elt Ideal) ((c.tc : Thread Cert.AdBrBIdeal.nD Cert.AdBrBIdeal.τ).loc Cert.AdBrBIdeal.main_v0_2)) (v3 : (c : Dev Cert.AdBrBIdeal.nD) → Buf (Elt Ideal) ((c.tc : Thread Cert.AdBrBIdeal.nD Cert.AdBrBIdeal.τ).loc Cert.AdBrBIdeal.main_v0_3)),
      θ_run (Cert.AdBrBIdeal.defs (F := Ideal)) (onTc (τ := Cert.AdBrBIdeal.τ) (Cert.AdBrBIdeal.main (F := Ideal))) ⟨m, fun _ => 0, g⟩ (fun r => ∀ c : Dev Cert.AdBrBIdeal.nD,
          r.2.mem ((c.tc : Thread Cert.AdBrBIdeal.nD Cert.AdBrBIdeal.τ).loc Cert.AdBrBIdeal.main_v0_0) = v0 c
          ∧ r.2.mem ((c.tc : Thread Cert.AdBrBIdeal.nD Cert.AdBrBIdeal.τ).loc Cert.AdBrBIdeal.main_v0_1) = v1 c
          ∧ r.2.mem ((c.tc : Thread Cert.AdBrBIdeal.nD Cert.AdBrBIdeal.τ).loc Cert.AdBrBIdeal.main_v0_2) = v2 c
          ∧ r.2.mem ((c.tc : Thread Cert.AdBrBIdeal.nD Cert.AdBrBIdeal.τ).loc Cert.AdBrBIdeal.main_v0_3) = v3 c
          ∧ r.2.mem ((c.tc : Thread Cert.AdBrBIdeal.nD Cert.AdBrBIdeal.τ).loc Cert.AdBrBIdeal.main_arg0) = m ((c.tc : Thread Cert.AdBrBIdeal.nD Cert.AdBrBIdeal.τ).loc Cert.AdBrBIdeal.main_arg0)
          ∧ r.2.mem ((c.tc : Thread Cert.AdBrBIdeal.nD Cert.AdBrBIdeal.τ).loc Cert.AdBrBIdeal.main_arg1) = m ((c.tc : Thread Cert.AdBrBIdeal.nD Cert.AdBrBIdeal.τ).loc Cert.AdBrBIdeal.main_arg1)
          ∧ r.2.mem ((c.tc : Thread Cert.AdBrBIdeal.nD Cert.AdBrBIdeal.τ).loc Cert.AdBrBIdeal.main_arg2) = m ((c.tc : Thread Cert.AdBrBIdeal.nD Cert.AdBrBIdeal.τ).loc Cert.AdBrBIdeal.main_arg2)
          ∧ r.2.mem ((c.tc : Thread Cert.AdBrBIdeal.nD Cert.AdBrBIdeal.τ).loc Cert.AdBrBIdeal.main_arg3) = m ((c.tc : Thread Cert.AdBrBIdeal.nD Cert.AdBrBIdeal.τ).loc Cert.AdBrBIdeal.main_arg3)
          ∧ r.2.mem ((c.tc : Thread Cert.AdBrBIdeal.nD Cert.AdBrBIdeal.τ).loc Cert.AdBrBIdeal.main_arg4) = m ((c.tc : Thread Cert.AdBrBIdeal.nD Cert.AdBrBIdeal.τ).loc Cert.AdBrBIdeal.main_arg4))
      ∧ θ_run (Cert.AdBrBReferenceIdeal.defs (F := Ideal)) (onTc (τ := Cert.AdBrBReferenceIdeal.τ) (Cert.AdBrBReferenceIdeal.main (F := Ideal))) ⟨m', fun _ => 0, g'⟩ (fun r => ∀ c : Dev Cert.AdBrBReferenceIdeal.nD,
          r.2.mem ((c.tc : Thread Cert.AdBrBReferenceIdeal.nD Cert.AdBrBReferenceIdeal.τ).loc Cert.AdBrBReferenceIdeal.main_v0) = v0 c
          ∧ r.2.mem ((c.tc : Thread Cert.AdBrBReferenceIdeal.nD Cert.AdBrBReferenceIdeal.τ).loc Cert.AdBrBReferenceIdeal.main_v24) = v1 c
          ∧ r.2.mem ((c.tc : Thread Cert.AdBrBReferenceIdeal.nD Cert.AdBrBReferenceIdeal.τ).loc Cert.AdBrBReferenceIdeal.main_v5) = v2 c
          ∧ r.2.mem ((c.tc : Thread Cert.AdBrBReferenceIdeal.nD Cert.AdBrBReferenceIdeal.τ).loc Cert.AdBrBReferenceIdeal.main_v11) = v3 c
          ∧ r.2.mem ((c.tc : Thread Cert.AdBrBReferenceIdeal.nD Cert.AdBrBReferenceIdeal.τ).loc Cert.AdBrBReferenceIdeal.main_arg0) = m' ((c.tc : Thread Cert.AdBrBReferenceIdeal.nD Cert.AdBrBReferenceIdeal.τ).loc Cert.AdBrBReferenceIdeal.main_arg0)
          ∧ r.2.mem ((c.tc : Thread Cert.AdBrBReferenceIdeal.nD Cert.AdBrBReferenceIdeal.τ).loc Cert.AdBrBReferenceIdeal.main_arg1) = m' ((c.tc : Thread Cert.AdBrBReferenceIdeal.nD Cert.AdBrBReferenceIdeal.τ).loc Cert.AdBrBReferenceIdeal.main_arg1)
          ∧ r.2.mem ((c.tc : Thread Cert.AdBrBReferenceIdeal.nD Cert.AdBrBReferenceIdeal.τ).loc Cert.AdBrBReferenceIdeal.main_arg2) = m' ((c.tc : Thread Cert.AdBrBReferenceIdeal.nD Cert.AdBrBReferenceIdeal.τ).loc Cert.AdBrBReferenceIdeal.main_arg2)
          ∧ r.2.mem ((c.tc : Thread Cert.AdBrBReferenceIdeal.nD Cert.AdBrBReferenceIdeal.τ).loc Cert.AdBrBReferenceIdeal.main_arg3) = m' ((c.tc : Thread Cert.AdBrBReferenceIdeal.nD Cert.AdBrBReferenceIdeal.τ).loc Cert.AdBrBReferenceIdeal.main_arg3)
          ∧ r.2.mem ((c.tc : Thread Cert.AdBrBReferenceIdeal.nD Cert.AdBrBReferenceIdeal.τ).loc Cert.AdBrBReferenceIdeal.main_arg4) = m' ((c.tc : Thread Cert.AdBrBReferenceIdeal.nD Cert.AdBrBReferenceIdeal.τ).loc Cert.AdBrBReferenceIdeal.main_arg4))

def preserves_AdOut_AdOutIdeal : Prop :=
  True

def algebraic_AdOutIdeal_AdOutReferenceIdeal [hAdOutIdeal : Cert.AdOutIdeal.Facts] [hAdOutReferenceIdeal : Cert.AdOutReferenceIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutReferenceIdeal.nD Cert.AdOutReferenceIdeal.τ Cert.AdOutReferenceIdeal.sig) → Buf (Elt Ideal) ℓ) (g' : Dev Cert.AdOutReferenceIdeal.nD → PrngReg), Pre_AdOutIdeal m →
    (∀ c : Dev Cert.AdOutIdeal.nD,
      m' ((c.tc : Thread Cert.AdOutReferenceIdeal.nD Cert.AdOutReferenceIdeal.τ).loc Cert.AdOutReferenceIdeal.main_arg0) = m ((c.tc : Thread Cert.AdOutIdeal.nD Cert.AdOutIdeal.τ).loc Cert.AdOutIdeal.main_arg0)
      ∧ m' ((c.tc : Thread Cert.AdOutReferenceIdeal.nD Cert.AdOutReferenceIdeal.τ).loc Cert.AdOutReferenceIdeal.main_arg1) = m ((c.tc : Thread Cert.AdOutIdeal.nD Cert.AdOutIdeal.τ).loc Cert.AdOutIdeal.main_arg1)
      ∧ m' ((c.tc : Thread Cert.AdOutReferenceIdeal.nD Cert.AdOutReferenceIdeal.τ).loc Cert.AdOutReferenceIdeal.main_arg2) = m ((c.tc : Thread Cert.AdOutIdeal.nD Cert.AdOutIdeal.τ).loc Cert.AdOutIdeal.main_arg2)
      ∧ m' ((c.tc : Thread Cert.AdOutReferenceIdeal.nD Cert.AdOutReferenceIdeal.τ).loc Cert.AdOutReferenceIdeal.main_arg3) = m ((c.tc : Thread Cert.AdOutIdeal.nD Cert.AdOutIdeal.τ).loc Cert.AdOutIdeal.main_arg3)
      ∧ m' ((c.tc : Thread Cert.AdOutReferenceIdeal.nD Cert.AdOutReferenceIdeal.τ).loc Cert.AdOutReferenceIdeal.main_arg4) = m ((c.tc : Thread Cert.AdOutIdeal.nD Cert.AdOutIdeal.τ).loc Cert.AdOutIdeal.main_arg4)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
          ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4))
      ∧ θ_run (Cert.AdOutReferenceIdeal.defs (F := Ideal)) (onTc (τ := Cert.AdOutReferenceIdeal.τ) (Cert.AdOutReferenceIdeal.main (F := Ideal))) ⟨m', fun _ => 0, g'⟩ (fun r => ∀ c : Dev Cert.AdOutReferenceIdeal.nD,
          r.2.mem ((c.tc : Thread Cert.AdOutReferenceIdeal.nD Cert.AdOutReferenceIdeal.τ).loc Cert.AdOutReferenceIdeal.main_v0) = v0 c
          ∧ r.2.mem ((c.tc : Thread Cert.AdOutReferenceIdeal.nD Cert.AdOutReferenceIdeal.τ).loc Cert.AdOutReferenceIdeal.main_v24) = v1 c
          ∧ r.2.mem ((c.tc : Thread Cert.AdOutReferenceIdeal.nD Cert.AdOutReferenceIdeal.τ).loc Cert.AdOutReferenceIdeal.main_v5) = v2 c
          ∧ r.2.mem ((c.tc : Thread Cert.AdOutReferenceIdeal.nD Cert.AdOutReferenceIdeal.τ).loc Cert.AdOutReferenceIdeal.main_v11) = v3 c
          ∧ r.2.mem ((c.tc : Thread Cert.AdOutReferenceIdeal.nD Cert.AdOutReferenceIdeal.τ).loc Cert.AdOutReferenceIdeal.main_arg0) = m' ((c.tc : Thread Cert.AdOutReferenceIdeal.nD Cert.AdOutReferenceIdeal.τ).loc Cert.AdOutReferenceIdeal.main_arg0)
          ∧ r.2.mem ((c.tc : Thread Cert.AdOutReferenceIdeal.nD Cert.AdOutReferenceIdeal.τ).loc Cert.AdOutReferenceIdeal.main_arg1) = m' ((c.tc : Thread Cert.AdOutReferenceIdeal.nD Cert.AdOutReferenceIdeal.τ).loc Cert.AdOutReferenceIdeal.main_arg1)
          ∧ r.2.mem ((c.tc : Thread Cert.AdOutReferenceIdeal.nD Cert.AdOutReferenceIdeal.τ).loc Cert.AdOutReferenceIdeal.main_arg2) = m' ((c.tc : Thread Cert.AdOutReferenceIdeal.nD Cert.AdOutReferenceIdeal.τ).loc Cert.AdOutReferenceIdeal.main_arg2)
          ∧ r.2.mem ((c.tc : Thread Cert.AdOutReferenceIdeal.nD Cert.AdOutReferenceIdeal.τ).loc Cert.AdOutReferenceIdeal.main_arg3) = m' ((c.tc : Thread Cert.AdOutReferenceIdeal.nD Cert.AdOutReferenceIdeal.τ).loc Cert.AdOutReferenceIdeal.main_arg3)
          ∧ r.2.mem ((c.tc : Thread Cert.AdOutReferenceIdeal.nD Cert.AdOutReferenceIdeal.τ).loc Cert.AdOutReferenceIdeal.main_arg4) = m' ((c.tc : Thread Cert.AdOutReferenceIdeal.nD Cert.AdOutReferenceIdeal.τ).loc Cert.AdOutReferenceIdeal.main_arg4))

def preserves_AdGate_AdGateIdeal : Prop :=
  True

def algebraic_AdGateIdeal_AdGateReferenceIdeal [hAdGateIdeal : Cert.AdGateIdeal.Facts] [hAdGateReferenceIdeal : Cert.AdGateReferenceIdeal.Facts] : Prop :=
  ∀ (m : (ℓ : Loc Cert.AdGateIdeal.nD Cert.AdGateIdeal.τ Cert.AdGateIdeal.sig) → Buf (Elt Ideal) ℓ) (g : Dev Cert.AdGateIdeal.nD → PrngReg)
    (m' : (ℓ : Loc Cert.AdGateReferenceIdeal.nD Cert.AdGateReferenceIdeal.τ Cert.AdGateReferenceIdeal.sig) → Buf (Elt Ideal) ℓ) (g' : Dev Cert.AdGateReferenceIdeal.nD → PrngReg), Pre_AdGateIdeal m →
    (∀ c : Dev Cert.AdGateIdeal.nD,
      m' ((c.tc : Thread Cert.AdGateReferenceIdeal.nD Cert.AdGateReferenceIdeal.τ).loc Cert.AdGateReferenceIdeal.main_arg0) = m ((c.tc : Thread Cert.AdGateIdeal.nD Cert.AdGateIdeal.τ).loc Cert.AdGateIdeal.main_arg0)
      ∧ m' ((c.tc : Thread Cert.AdGateReferenceIdeal.nD Cert.AdGateReferenceIdeal.τ).loc Cert.AdGateReferenceIdeal.main_arg1) = m ((c.tc : Thread Cert.AdGateIdeal.nD Cert.AdGateIdeal.τ).loc Cert.AdGateIdeal.main_arg1)
      ∧ m' ((c.tc : Thread Cert.AdGateReferenceIdeal.nD Cert.AdGateReferenceIdeal.τ).loc Cert.AdGateReferenceIdeal.main_arg2) = m ((c.tc : Thread Cert.AdGateIdeal.nD Cert.AdGateIdeal.τ).loc Cert.AdGateIdeal.main_arg2)
      ∧ m' ((c.tc : Thread Cert.AdGateReferenceIdeal.nD Cert.AdGateReferenceIdeal.τ).loc Cert.AdGateReferenceIdeal.main_arg3) = m ((c.tc : Thread Cert.AdGateIdeal.nD Cert.AdGateIdeal.τ).loc Cert.AdGateIdeal.main_arg3)
      ∧ m' ((c.tc : Thread Cert.AdGateReferenceIdeal.nD Cert.AdGateReferenceIdeal.τ).loc Cert.AdGateReferenceIdeal.main_arg4) = m ((c.tc : Thread Cert.AdGateIdeal.nD Cert.AdGateIdeal.τ).loc Cert.AdGateIdeal.main_arg4)) →
    ∃ (v0 : (c : Dev Cert.AdGateIdeal.nD) → Buf (Elt Ideal) ((c.tc : Thread Cert.AdGateIdeal.nD Cert.AdGateIdeal.τ).loc Cert.AdGateIdeal.main_v0_0)) (v1 : (c : Dev Cert.AdGateIdeal.nD) → Buf (Elt Ideal) ((c.tc : Thread Cert.AdGateIdeal.nD Cert.AdGateIdeal.τ).loc Cert.AdGateIdeal.main_v0_1)) (v2 : (c : Dev Cert.AdGateIdeal.nD) → Buf (Elt Ideal) ((c.tc : Thread Cert.AdGateIdeal.nD Cert.AdGateIdeal.τ).loc Cert.AdGateIdeal.main_v0_2)) (v3 : (c : Dev Cert.AdGateIdeal.nD) → Buf (Elt Ideal) ((c.tc : Thread Cert.AdGateIdeal.nD Cert.AdGateIdeal.τ).loc Cert.AdGateIdeal.main_v0_3)),
      θ_run (Cert.AdGateIdeal.defs (F := Ideal)) (onTc (τ := Cert.AdGateIdeal.τ) (Cert.AdGateIdeal.main (F := Ideal))) ⟨m, fun _ => 0, g⟩ (fun r => ∀ c : Dev Cert.AdGateIdeal.nD,
          r.2.mem ((c.tc : Thread Cert.AdGateIdeal.nD Cert.AdGateIdeal.τ).loc Cert.AdGateIdeal.main_v0_0) = v0 c
          ∧ r.2.mem ((c.tc : Thread Cert.AdGateIdeal.nD Cert.AdGateIdeal.τ).loc Cert.AdGateIdeal.main_v0_1) = v1 c
          ∧ r.2.mem ((c.tc : Thread Cert.AdGateIdeal.nD Cert.AdGateIdeal.τ).loc Cert.AdGateIdeal.main_v0_2) = v2 c
          ∧ r.2.mem ((c.tc : Thread Cert.AdGateIdeal.nD Cert.AdGateIdeal.τ).loc Cert.AdGateIdeal.main_v0_3) = v3 c
          ∧ r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
          ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
          ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
          ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3)
          ∧ r.2.mem ((c.tc : Thread Cert.AdGateIdeal.nD Cert.AdGateIdeal.τ).loc Cert.AdGateIdeal.main_arg4) = m ((c.tc : Thread Cert.AdGateIdeal.nD Cert.AdGateIdeal.τ).loc Cert.AdGateIdeal.main_arg4))
      ∧ θ_run (Cert.AdGateReferenceIdeal.defs (F := Ideal)) (onTc (τ := Cert.AdGateReferenceIdeal.τ) (Cert.AdGateReferenceIdeal.main (F := Ideal))) ⟨m', fun _ => 0, g'⟩ (fun r => ∀ c : Dev Cert.AdGateReferenceIdeal.nD,
          r.2.mem ((c.tc : Thread Cert.AdGateReferenceIdeal.nD Cert.AdGateReferenceIdeal.τ).loc Cert.AdGateReferenceIdeal.main_v0) = v0 c
          ∧ r.2.mem ((c.tc : Thread Cert.AdGateReferenceIdeal.nD Cert.AdGateReferenceIdeal.τ).loc Cert.AdGateReferenceIdeal.main_v24) = v1 c
          ∧ r.2.mem ((c.tc : Thread Cert.AdGateReferenceIdeal.nD Cert.AdGateReferenceIdeal.τ).loc Cert.AdGateReferenceIdeal.main_v5) = v2 c
          ∧ r.2.mem ((c.tc : Thread Cert.AdGateReferenceIdeal.nD Cert.AdGateReferenceIdeal.τ).loc Cert.AdGateReferenceIdeal.main_v11) = v3 c
          ∧ r.2.mem ((c.tc : Thread Cert.AdGateReferenceIdeal.nD Cert.AdGateReferenceIdeal.τ).loc Cert.AdGateReferenceIdeal.main_arg0) = m' ((c.tc : Thread Cert.AdGateReferenceIdeal.nD Cert.AdGateReferenceIdeal.τ).loc Cert.AdGateReferenceIdeal.main_arg0)
          ∧ r.2.mem ((c.tc : Thread Cert.AdGateReferenceIdeal.nD Cert.AdGateReferenceIdeal.τ).loc Cert.AdGateReferenceIdeal.main_arg1) = m' ((c.tc : Thread Cert.AdGateReferenceIdeal.nD Cert.AdGateReferenceIdeal.τ).loc Cert.AdGateReferenceIdeal.main_arg1)
          ∧ r.2.mem ((c.tc : Thread Cert.AdGateReferenceIdeal.nD Cert.AdGateReferenceIdeal.τ).loc Cert.AdGateReferenceIdeal.main_arg2) = m' ((c.tc : Thread Cert.AdGateReferenceIdeal.nD Cert.AdGateReferenceIdeal.τ).loc Cert.AdGateReferenceIdeal.main_arg2)
          ∧ r.2.mem ((c.tc : Thread Cert.AdGateReferenceIdeal.nD Cert.AdGateReferenceIdeal.τ).loc Cert.AdGateReferenceIdeal.main_arg3) = m' ((c.tc : Thread Cert.AdGateReferenceIdeal.nD Cert.AdGateReferenceIdeal.τ).loc Cert.AdGateReferenceIdeal.main_arg3)
          ∧ r.2.mem ((c.tc : Thread Cert.AdGateReferenceIdeal.nD Cert.AdGateReferenceIdeal.τ).loc Cert.AdGateReferenceIdeal.main_arg4) = m' ((c.tc : Thread Cert.AdGateReferenceIdeal.nD Cert.AdGateReferenceIdeal.τ).loc Cert.AdGateReferenceIdeal.main_arg4))

def preserves_AdDown_AdDownIdeal : Prop :=
  True

def algebraic_AdDownIdeal_AdDownReferenceIdeal [hAdDownIdeal : Cert.AdDownIdeal.Facts] [hAdDownReferenceIdeal : Cert.AdDownReferenceIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownReferenceIdeal.nD Cert.AdDownReferenceIdeal.τ Cert.AdDownReferenceIdeal.sig) → Buf (Elt Ideal) ℓ) (g' : Dev Cert.AdDownReferenceIdeal.nD → PrngReg), Pre_AdDownIdeal m →
    (∀ c : Dev Cert.AdDownIdeal.nD,
      m' ((c.tc : Thread Cert.AdDownReferenceIdeal.nD Cert.AdDownReferenceIdeal.τ).loc Cert.AdDownReferenceIdeal.main_arg0) = m ((c.tc : Thread Cert.AdDownIdeal.nD Cert.AdDownIdeal.τ).loc Cert.AdDownIdeal.main_arg0)
      ∧ m' ((c.tc : Thread Cert.AdDownReferenceIdeal.nD Cert.AdDownReferenceIdeal.τ).loc Cert.AdDownReferenceIdeal.main_arg1) = m ((c.tc : Thread Cert.AdDownIdeal.nD Cert.AdDownIdeal.τ).loc Cert.AdDownIdeal.main_arg1)
      ∧ m' ((c.tc : Thread Cert.AdDownReferenceIdeal.nD Cert.AdDownReferenceIdeal.τ).loc Cert.AdDownReferenceIdeal.main_arg2) = m ((c.tc : Thread Cert.AdDownIdeal.nD Cert.AdDownIdeal.τ).loc Cert.AdDownIdeal.main_arg2)
      ∧ m' ((c.tc : Thread Cert.AdDownReferenceIdeal.nD Cert.AdDownReferenceIdeal.τ).loc Cert.AdDownReferenceIdeal.main_arg3) = m ((c.tc : Thread Cert.AdDownIdeal.nD Cert.AdDownIdeal.τ).loc Cert.AdDownIdeal.main_arg3)
      ∧ m' ((c.tc : Thread Cert.AdDownReferenceIdeal.nD Cert.AdDownReferenceIdeal.τ).loc Cert.AdDownReferenceIdeal.main_arg4) = m ((c.tc : Thread Cert.AdDownIdeal.nD Cert.AdDownIdeal.τ).loc Cert.AdDownIdeal.main_arg4)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)) (v3 : (c : Dev Cert.AdDownIdeal.nD) → Buf (Elt Ideal) ((c.tc : Thread Cert.AdDownIdeal.nD Cert.AdDownIdeal.τ).loc Cert.AdDownIdeal.main_v0_3)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_v0_3) = v3 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3)
          ∧ r.2.mem ((c.tc : Thread Cert.AdDownIdeal.nD Cert.AdDownIdeal.τ).loc Cert.AdDownIdeal.main_arg4) = m ((c.tc : Thread Cert.AdDownIdeal.nD Cert.AdDownIdeal.τ).loc Cert.AdDownIdeal.main_arg4))
      ∧ θ_run (Cert.AdDownReferenceIdeal.defs (F := Ideal)) (onTc (τ := Cert.AdDownReferenceIdeal.τ) (Cert.AdDownReferenceIdeal.main (F := Ideal))) ⟨m', fun _ => 0, g'⟩ (fun r => ∀ c : Dev Cert.AdDownReferenceIdeal.nD,
          r.2.mem ((c.tc : Thread Cert.AdDownReferenceIdeal.nD Cert.AdDownReferenceIdeal.τ).loc Cert.AdDownReferenceIdeal.main_v0) = v0 c
          ∧ r.2.mem ((c.tc : Thread Cert.AdDownReferenceIdeal.nD Cert.AdDownReferenceIdeal.τ).loc Cert.AdDownReferenceIdeal.main_v24) = v1 c
          ∧ r.2.mem ((c.tc : Thread Cert.AdDownReferenceIdeal.nD Cert.AdDownReferenceIdeal.τ).loc Cert.AdDownReferenceIdeal.main_v5) = v2 c
          ∧ r.2.mem ((c.tc : Thread Cert.AdDownReferenceIdeal.nD Cert.AdDownReferenceIdeal.τ).loc Cert.AdDownReferenceIdeal.main_v11) = v3 c
          ∧ r.2.mem ((c.tc : Thread Cert.AdDownReferenceIdeal.nD Cert.AdDownReferenceIdeal.τ).loc Cert.AdDownReferenceIdeal.main_arg0) = m' ((c.tc : Thread Cert.AdDownReferenceIdeal.nD Cert.AdDownReferenceIdeal.τ).loc Cert.AdDownReferenceIdeal.main_arg0)
          ∧ r.2.mem ((c.tc : Thread Cert.AdDownReferenceIdeal.nD Cert.AdDownReferenceIdeal.τ).loc Cert.AdDownReferenceIdeal.main_arg1) = m' ((c.tc : Thread Cert.AdDownReferenceIdeal.nD Cert.AdDownReferenceIdeal.τ).loc Cert.AdDownReferenceIdeal.main_arg1)
          ∧ r.2.mem ((c.tc : Thread Cert.AdDownReferenceIdeal.nD Cert.AdDownReferenceIdeal.τ).loc Cert.AdDownReferenceIdeal.main_arg2) = m' ((c.tc : Thread Cert.AdDownReferenceIdeal.nD Cert.AdDownReferenceIdeal.τ).loc Cert.AdDownReferenceIdeal.main_arg2)
          ∧ r.2.mem ((c.tc : Thread Cert.AdDownReferenceIdeal.nD Cert.AdDownReferenceIdeal.τ).loc Cert.AdDownReferenceIdeal.main_arg3) = m' ((c.tc : Thread Cert.AdDownReferenceIdeal.nD Cert.AdDownReferenceIdeal.τ).loc Cert.AdDownReferenceIdeal.main_arg3)
          ∧ r.2.mem ((c.tc : Thread Cert.AdDownReferenceIdeal.nD Cert.AdDownReferenceIdeal.τ).loc Cert.AdDownReferenceIdeal.main_arg4) = m' ((c.tc : Thread Cert.AdDownReferenceIdeal.nD Cert.AdDownReferenceIdeal.τ).loc Cert.AdDownReferenceIdeal.main_arg4))

def preserves_AdSmall_AdSmallIdeal : Prop :=
  True

def algebraic_AdSmallIdeal_AdSmallReferenceIdeal [hAdSmallIdeal : Cert.AdSmallIdeal.Facts] [hAdSmallReferenceIdeal : Cert.AdSmallReferenceIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallReferenceIdeal.nD Cert.AdSmallReferenceIdeal.τ Cert.AdSmallReferenceIdeal.sig) → Buf (Elt Ideal) ℓ) (g' : Dev Cert.AdSmallReferenceIdeal.nD → PrngReg), Pre_AdSmallIdeal m →
    (∀ c : Dev Cert.AdSmallIdeal.nD,
      m' ((c.tc : Thread Cert.AdSmallReferenceIdeal.nD Cert.AdSmallReferenceIdeal.τ).loc Cert.AdSmallReferenceIdeal.main_arg0) = m ((c.tc : Thread Cert.AdSmallIdeal.nD Cert.AdSmallIdeal.τ).loc Cert.AdSmallIdeal.main_arg0)
      ∧ m' ((c.tc : Thread Cert.AdSmallReferenceIdeal.nD Cert.AdSmallReferenceIdeal.τ).loc Cert.AdSmallReferenceIdeal.main_arg1) = m ((c.tc : Thread Cert.AdSmallIdeal.nD Cert.AdSmallIdeal.τ).loc Cert.AdSmallIdeal.main_arg1)
      ∧ m' ((c.tc : Thread Cert.AdSmallReferenceIdeal.nD Cert.AdSmallReferenceIdeal.τ).loc Cert.AdSmallReferenceIdeal.main_arg2) = m ((c.tc : Thread Cert.AdSmallIdeal.nD Cert.AdSmallIdeal.τ).loc Cert.AdSmallIdeal.main_arg2)
      ∧ m' ((c.tc : Thread Cert.AdSmallReferenceIdeal.nD Cert.AdSmallReferenceIdeal.τ).loc Cert.AdSmallReferenceIdeal.main_arg3) = m ((c.tc : Thread Cert.AdSmallIdeal.nD Cert.AdSmallIdeal.τ).loc Cert.AdSmallIdeal.main_arg3)) →
    ∃ (v0 : (c : Dev Cert.AdSmallIdeal.nD) → Buf (Elt Ideal) ((c.tc : Thread Cert.AdSmallIdeal.nD Cert.AdSmallIdeal.τ).loc Cert.AdSmallIdeal.main_v0_0)) (v1 : (c : Dev Cert.AdSmallIdeal.nD) → Buf (Elt Ideal) ((c.tc : Thread Cert.AdSmallIdeal.nD Cert.AdSmallIdeal.τ).loc Cert.AdSmallIdeal.main_v0_1)) (v2 : (c : Dev Cert.AdSmallIdeal.nD) → Buf (Elt Ideal) ((c.tc : Thread Cert.AdSmallIdeal.nD Cert.AdSmallIdeal.τ).loc Cert.AdSmallIdeal.main_v0_2)) (v3 : (c : Dev Cert.AdSmallIdeal.nD) → Buf (Elt Ideal) ((c.tc : Thread Cert.AdSmallIdeal.nD Cert.AdSmallIdeal.τ).loc Cert.AdSmallIdeal.main_v0_3)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v0_0) = v0 c
          ∧ r.2.mem ((c.tc : Thread Cert.AdSmallIdeal.nD Cert.AdSmallIdeal.τ).loc Cert.AdSmallIdeal.main_v0_1) = v1 c
          ∧ r.2.mem ((c.tc : Thread Cert.AdSmallIdeal.nD Cert.AdSmallIdeal.τ).loc Cert.AdSmallIdeal.main_v0_2) = v2 c
          ∧ r.2.mem ((c.tc : Thread Cert.AdSmallIdeal.nD Cert.AdSmallIdeal.τ).loc Cert.AdSmallIdeal.main_v0_3) = v3 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ θ_run (Cert.AdSmallReferenceIdeal.defs (F := Ideal)) (onTc (τ := Cert.AdSmallReferenceIdeal.τ) (Cert.AdSmallReferenceIdeal.main (F := Ideal))) ⟨m', fun _ => 0, g'⟩ (fun r => ∀ c : Dev Cert.AdSmallReferenceIdeal.nD,
          r.2.mem ((c.tc : Thread Cert.AdSmallReferenceIdeal.nD Cert.AdSmallReferenceIdeal.τ).loc Cert.AdSmallReferenceIdeal.main_v0) = v0 c
          ∧ r.2.mem ((c.tc : Thread Cert.AdSmallReferenceIdeal.nD Cert.AdSmallReferenceIdeal.τ).loc Cert.AdSmallReferenceIdeal.main_v24) = v1 c
          ∧ r.2.mem ((c.tc : Thread Cert.AdSmallReferenceIdeal.nD Cert.AdSmallReferenceIdeal.τ).loc Cert.AdSmallReferenceIdeal.main_v5) = v2 c
          ∧ r.2.mem ((c.tc : Thread Cert.AdSmallReferenceIdeal.nD Cert.AdSmallReferenceIdeal.τ).loc Cert.AdSmallReferenceIdeal.main_v11) = v3 c
          ∧ r.2.mem ((c.tc : Thread Cert.AdSmallReferenceIdeal.nD Cert.AdSmallReferenceIdeal.τ).loc Cert.AdSmallReferenceIdeal.main_arg0) = m' ((c.tc : Thread Cert.AdSmallReferenceIdeal.nD Cert.AdSmallReferenceIdeal.τ).loc Cert.AdSmallReferenceIdeal.main_arg0)
          ∧ r.2.mem ((c.tc : Thread Cert.AdSmallReferenceIdeal.nD Cert.AdSmallReferenceIdeal.τ).loc Cert.AdSmallReferenceIdeal.main_arg1) = m' ((c.tc : Thread Cert.AdSmallReferenceIdeal.nD Cert.AdSmallReferenceIdeal.τ).loc Cert.AdSmallReferenceIdeal.main_arg1)
          ∧ r.2.mem ((c.tc : Thread Cert.AdSmallReferenceIdeal.nD Cert.AdSmallReferenceIdeal.τ).loc Cert.AdSmallReferenceIdeal.main_arg2) = m' ((c.tc : Thread Cert.AdSmallReferenceIdeal.nD Cert.AdSmallReferenceIdeal.τ).loc Cert.AdSmallReferenceIdeal.main_arg2)
          ∧ r.2.mem ((c.tc : Thread Cert.AdSmallReferenceIdeal.nD Cert.AdSmallReferenceIdeal.τ).loc Cert.AdSmallReferenceIdeal.main_arg3) = m' ((c.tc : Thread Cert.AdSmallReferenceIdeal.nD Cert.AdSmallReferenceIdeal.τ).loc Cert.AdSmallReferenceIdeal.main_arg3))

def preserves_LossGrad_LossGradIdeal : Prop :=
  True

def algebraic_LossGradIdeal_LossGradReferenceIdeal [hLossGradIdeal : Cert.LossGradIdeal.Facts] [hLossGradReferenceIdeal : Cert.LossGradReferenceIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradReferenceIdeal.nD Cert.LossGradReferenceIdeal.τ Cert.LossGradReferenceIdeal.sig) → Buf (Elt Ideal) ℓ) (g' : Dev Cert.LossGradReferenceIdeal.nD → PrngReg), Pre_LossGradIdeal m →
    (∀ c : Dev Cert.LossGradIdeal.nD,
      m' ((c.tc : Thread Cert.LossGradReferenceIdeal.nD Cert.LossGradReferenceIdeal.τ).loc Cert.LossGradReferenceIdeal.main_arg0) = m ((c.tc : Thread Cert.LossGradIdeal.nD Cert.LossGradIdeal.τ).loc Cert.LossGradIdeal.main_arg0)
      ∧ m' ((c.tc : Thread Cert.LossGradReferenceIdeal.nD Cert.LossGradReferenceIdeal.τ).loc Cert.LossGradReferenceIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradReferenceIdeal.defs (F := Ideal)) (onTc (τ := Cert.LossGradReferenceIdeal.τ) (Cert.LossGradReferenceIdeal.main (F := Ideal))) ⟨m', fun _ => 0, g'⟩ (fun r => ∀ c : Dev Cert.LossGradReferenceIdeal.nD,
          r.2.mem ((c.tc : Thread Cert.LossGradReferenceIdeal.nD Cert.LossGradReferenceIdeal.τ).loc Cert.LossGradReferenceIdeal.main_v14) = v0 c
          ∧ r.2.mem ((c.tc : Thread Cert.LossGradReferenceIdeal.nD Cert.LossGradReferenceIdeal.τ).loc Cert.LossGradReferenceIdeal.main_v8) = v1 c
          ∧ r.2.mem ((c.tc : Thread Cert.LossGradReferenceIdeal.nD Cert.LossGradReferenceIdeal.τ).loc Cert.LossGradReferenceIdeal.main_arg0) = m' ((c.tc : Thread Cert.LossGradReferenceIdeal.nD Cert.LossGradReferenceIdeal.τ).loc Cert.LossGradReferenceIdeal.main_arg0)
          ∧ r.2.mem ((c.tc : Thread Cert.LossGradReferenceIdeal.nD Cert.LossGradReferenceIdeal.τ).loc Cert.LossGradReferenceIdeal.main_arg1) = m' ((c.tc : Thread Cert.LossGradReferenceIdeal.nD Cert.LossGradReferenceIdeal.τ).loc Cert.LossGradReferenceIdeal.main_arg1))

def preserves_PoolBwd_PoolBwdIdeal : Prop :=
  True

def algebraic_PoolBwdIdeal_PoolBwdReferenceIdeal [hPoolBwdIdeal : Cert.PoolBwdIdeal.Facts] [hPoolBwdReferenceIdeal : Cert.PoolBwdReferenceIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdReferenceIdeal.nD Cert.PoolBwdReferenceIdeal.τ Cert.PoolBwdReferenceIdeal.sig) → Buf (Elt Ideal) ℓ) (g' : Dev Cert.PoolBwdReferenceIdeal.nD → PrngReg), Pre_PoolBwdIdeal m →
    (∀ c : Dev Cert.PoolBwdIdeal.nD,
      m' ((c.tc : Thread Cert.PoolBwdReferenceIdeal.nD Cert.PoolBwdReferenceIdeal.τ).loc Cert.PoolBwdReferenceIdeal.main_arg0) = m ((c.tc : Thread Cert.PoolBwdIdeal.nD Cert.PoolBwdIdeal.τ).loc Cert.PoolBwdIdeal.main_arg0)
      ∧ m' ((c.tc : Thread Cert.PoolBwdReferenceIdeal.nD Cert.PoolBwdReferenceIdeal.τ).loc Cert.PoolBwdReferenceIdeal.main_arg1) = m ((c.tc : Thread Cert.PoolBwdIdeal.nD Cert.PoolBwdIdeal.τ).loc Cert.PoolBwdIdeal.main_arg1)
      ∧ m' ((c.tc : Thread Cert.PoolBwdReferenceIdeal.nD Cert.PoolBwdReferenceIdeal.τ).loc Cert.PoolBwdReferenceIdeal.main_arg2) = m ((c.tc : Thread Cert.PoolBwdIdeal.nD Cert.PoolBwdIdeal.τ).loc Cert.PoolBwdIdeal.main_arg2)
      ∧ m' ((c.tc : Thread Cert.PoolBwdReferenceIdeal.nD Cert.PoolBwdReferenceIdeal.τ).loc Cert.PoolBwdReferenceIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v2_1)) (v1 : (c : Dev Cert.PoolBwdIdeal.nD) → Buf (Elt Ideal) ((c.tc : Thread Cert.PoolBwdIdeal.nD Cert.PoolBwdIdeal.τ).loc Cert.PoolBwdIdeal.main_v2_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v2_1) = v0 c
          ∧ r.2.mem ((c.tc : Thread Cert.PoolBwdIdeal.nD Cert.PoolBwdIdeal.τ).loc Cert.PoolBwdIdeal.main_v2_2) = v1 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdReferenceIdeal.defs (F := Ideal)) (onTc (τ := Cert.PoolBwdReferenceIdeal.τ) (Cert.PoolBwdReferenceIdeal.main (F := Ideal))) ⟨m', fun _ => 0, g'⟩ (fun r => ∀ c : Dev Cert.PoolBwdReferenceIdeal.nD,
          r.2.mem ((c.tc : Thread Cert.PoolBwdReferenceIdeal.nD Cert.PoolBwdReferenceIdeal.τ).loc Cert.PoolBwdReferenceIdeal.main_v16) = v0 c
          ∧ r.2.mem ((c.tc : Thread Cert.PoolBwdReferenceIdeal.nD Cert.PoolBwdReferenceIdeal.τ).loc Cert.PoolBwdReferenceIdeal.main_v17) = v1 c
          ∧ r.2.mem ((c.tc : Thread Cert.PoolBwdReferenceIdeal.nD Cert.PoolBwdReferenceIdeal.τ).loc Cert.PoolBwdReferenceIdeal.main_arg0) = m' ((c.tc : Thread Cert.PoolBwdReferenceIdeal.nD Cert.PoolBwdReferenceIdeal.τ).loc Cert.PoolBwdReferenceIdeal.main_arg0)
          ∧ r.2.mem ((c.tc : Thread Cert.PoolBwdReferenceIdeal.nD Cert.PoolBwdReferenceIdeal.τ).loc Cert.PoolBwdReferenceIdeal.main_arg1) = m' ((c.tc : Thread Cert.PoolBwdReferenceIdeal.nD Cert.PoolBwdReferenceIdeal.τ).loc Cert.PoolBwdReferenceIdeal.main_arg1)
          ∧ r.2.mem ((c.tc : Thread Cert.PoolBwdReferenceIdeal.nD Cert.PoolBwdReferenceIdeal.τ).loc Cert.PoolBwdReferenceIdeal.main_arg2) = m' ((c.tc : Thread Cert.PoolBwdReferenceIdeal.nD Cert.PoolBwdReferenceIdeal.τ).loc Cert.PoolBwdReferenceIdeal.main_arg2)
          ∧ r.2.mem ((c.tc : Thread Cert.PoolBwdReferenceIdeal.nD Cert.PoolBwdReferenceIdeal.τ).loc Cert.PoolBwdReferenceIdeal.main_arg3) = m' ((c.tc : Thread Cert.PoolBwdReferenceIdeal.nD Cert.PoolBwdReferenceIdeal.τ).loc Cert.PoolBwdReferenceIdeal.main_arg3))

def Claim : Prop :=
  ∃ (hKernel : Cert.Kernel.Facts) (hKernelIdeal : Cert.KernelIdeal.Facts) (hReferenceIdeal : Cert.ReferenceIdeal.Facts) (hWgDown : Cert.WgDown.Facts) (hWgDownIdeal : Cert.WgDownIdeal.Facts) (hWgDownReferenceIdeal : Cert.WgDownReferenceIdeal.Facts) (hWgGate : Cert.WgGate.Facts) (hWgGateIdeal : Cert.WgGateIdeal.Facts) (hWgGateReferenceIdeal : Cert.WgGateReferenceIdeal.Facts) (hWgIn : Cert.WgIn.Facts) (hWgInIdeal : Cert.WgInIdeal.Facts) (hWgInReferenceIdeal : Cert.WgInReferenceIdeal.Facts) (hWgOut : Cert.WgOut.Facts) (hWgOutIdeal : Cert.WgOutIdeal.Facts) (hWgOutReferenceIdeal : Cert.WgOutReferenceIdeal.Facts) (hWgBrA : Cert.WgBrA.Facts) (hWgBrAIdeal : Cert.WgBrAIdeal.Facts) (hWgBrAReferenceIdeal : Cert.WgBrAReferenceIdeal.Facts) (hWgBrB : Cert.WgBrB.Facts) (hWgBrBIdeal : Cert.WgBrBIdeal.Facts) (hWgBrBReferenceIdeal : Cert.WgBrBReferenceIdeal.Facts) (hWgBrC : Cert.WgBrC.Facts) (hWgBrCIdeal : Cert.WgBrCIdeal.Facts) (hWgBrCReferenceIdeal : Cert.WgBrCReferenceIdeal.Facts) (hMmZ : Cert.MmZ.Facts) (hMmZIdeal : Cert.MmZIdeal.Facts) (hMmZReferenceIdeal : Cert.MmZReferenceIdeal.Facts) (hFfnUp : Cert.FfnUp.Facts) (hFfnUpIdeal : Cert.FfnUpIdeal.Facts) (hFfnUpReferenceIdeal : Cert.FfnUpReferenceIdeal.Facts) (hMmDown : Cert.MmDown.Facts) (hMmDownIdeal : Cert.MmDownIdeal.Facts) (hMmDownReferenceIdeal : Cert.MmDownReferenceIdeal.Facts) (hFfnAct : Cert.FfnAct.Facts) (hFfnActIdeal : Cert.FfnActIdeal.Facts) (hFfnActReferenceIdeal : Cert.FfnActReferenceIdeal.Facts) (hFfnDh : Cert.FfnDh.Facts) (hFfnDhIdeal : Cert.FfnDhIdeal.Facts) (hFfnDhReferenceIdeal : Cert.FfnDhReferenceIdeal.Facts) (hMmDh : Cert.MmDh.Facts) (hMmDhIdeal : Cert.MmDhIdeal.Facts) (hMmDhReferenceIdeal : Cert.MmDhReferenceIdeal.Facts) (hFlashA : Cert.FlashA.Facts) (hFlashAIdeal : Cert.FlashAIdeal.Facts) (hFlashAReferenceIdeal : Cert.FlashAReferenceIdeal.Facts) (hFlashABwd : Cert.FlashABwd.Facts) (hFlashABwdIdeal : Cert.FlashABwdIdeal.Facts) (hFlashABwdReferenceIdeal : Cert.FlashABwdReferenceIdeal.Facts) (hAdIn : Cert.AdIn.Facts) (hAdInIdeal : Cert.AdInIdeal.Facts) (hAdInReferenceIdeal : Cert.AdInReferenceIdeal.Facts) (hAdBrA : Cert.AdBrA.Facts) (hAdBrAIdeal : Cert.AdBrAIdeal.Facts) (hAdBrAReferenceIdeal : Cert.AdBrAReferenceIdeal.Facts) (hAdBrB : Cert.AdBrB.Facts) (hAdBrBIdeal : Cert.AdBrBIdeal.Facts) (hAdBrBReferenceIdeal : Cert.AdBrBReferenceIdeal.Facts) (hAdOut : Cert.AdOut.Facts) (hAdOutIdeal : Cert.AdOutIdeal.Facts) (hAdOutReferenceIdeal : Cert.AdOutReferenceIdeal.Facts) (hAdGate : Cert.AdGate.Facts) (hAdGateIdeal : Cert.AdGateIdeal.Facts) (hAdGateReferenceIdeal : Cert.AdGateReferenceIdeal.Facts) (hAdDown : Cert.AdDown.Facts) (hAdDownIdeal : Cert.AdDownIdeal.Facts) (hAdDownReferenceIdeal : Cert.AdDownReferenceIdeal.Facts) (hAdSmall : Cert.AdSmall.Facts) (hAdSmallIdeal : Cert.AdSmallIdeal.Facts) (hAdSmallReferenceIdeal : Cert.AdSmallReferenceIdeal.Facts) (hLossGrad : Cert.LossGrad.Facts) (hLossGradIdeal : Cert.LossGradIdeal.Facts) (hLossGradReferenceIdeal : Cert.LossGradReferenceIdeal.Facts) (hPoolBwd : Cert.PoolBwd.Facts) (hPoolBwdIdeal : Cert.PoolBwdIdeal.Facts) (hPoolBwdReferenceIdeal : Cert.PoolBwdReferenceIdeal.Facts) (hPre_finite_factors : Cert.Pre_finite_factors.Facts) (hPre_finite_entries : Cert.Pre_finite_entries.Facts) (hPre_finite_parts : Cert.Pre_finite_parts.Facts),
    quiescent_Kernel (hKernel := hKernel)
    ∧ quiescent_KernelIdeal (hKernelIdeal := hKernelIdeal)
    ∧ quiescent_ReferenceIdeal (hReferenceIdeal := hReferenceIdeal)
    ∧ quiescent_WgDown (hWgDown := hWgDown)
    ∧ quiescent_WgDownIdeal (hWgDownIdeal := hWgDownIdeal)
    ∧ quiescent_WgDownReferenceIdeal (hWgDownReferenceIdeal := hWgDownReferenceIdeal)
    ∧ quiescent_WgGate (hWgGate := hWgGate)
    ∧ quiescent_WgGateIdeal (hWgGateIdeal := hWgGateIdeal)
    ∧ quiescent_WgGateReferenceIdeal (hWgGateReferenceIdeal := hWgGateReferenceIdeal)
    ∧ quiescent_WgIn (hWgIn := hWgIn)
    ∧ quiescent_WgInIdeal (hWgInIdeal := hWgInIdeal)
    ∧ quiescent_WgInReferenceIdeal (hWgInReferenceIdeal := hWgInReferenceIdeal)
    ∧ quiescent_WgOut (hWgOut := hWgOut)
    ∧ quiescent_WgOutIdeal (hWgOutIdeal := hWgOutIdeal)
    ∧ quiescent_WgOutReferenceIdeal (hWgOutReferenceIdeal := hWgOutReferenceIdeal)
    ∧ quiescent_WgBrA (hWgBrA := hWgBrA)
    ∧ quiescent_WgBrAIdeal (hWgBrAIdeal := hWgBrAIdeal)
    ∧ quiescent_WgBrAReferenceIdeal (hWgBrAReferenceIdeal := hWgBrAReferenceIdeal)
    ∧ quiescent_WgBrB (hWgBrB := hWgBrB)
    ∧ quiescent_WgBrBIdeal (hWgBrBIdeal := hWgBrBIdeal)
    ∧ quiescent_WgBrBReferenceIdeal (hWgBrBReferenceIdeal := hWgBrBReferenceIdeal)
    ∧ quiescent_WgBrC (hWgBrC := hWgBrC)
    ∧ quiescent_WgBrCIdeal (hWgBrCIdeal := hWgBrCIdeal)
    ∧ quiescent_WgBrCReferenceIdeal (hWgBrCReferenceIdeal := hWgBrCReferenceIdeal)
    ∧ quiescent_MmZ (hMmZ := hMmZ)
    ∧ quiescent_MmZIdeal (hMmZIdeal := hMmZIdeal)
    ∧ quiescent_MmZReferenceIdeal (hMmZReferenceIdeal := hMmZReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_MmDown (hMmDown := hMmDown)
    ∧ quiescent_MmDownIdeal (hMmDownIdeal := hMmDownIdeal)
    ∧ quiescent_MmDownReferenceIdeal (hMmDownReferenceIdeal := hMmDownReferenceIdeal)
    ∧ quiescent_FfnAct (hFfnAct := hFfnAct)
    ∧ quiescent_FfnActIdeal (hFfnActIdeal := hFfnActIdeal)
    ∧ quiescent_FfnActIdeal_pre_finite_factors (hFfnActIdeal := hFfnActIdeal) (hPre_finite_factors := hPre_finite_factors)
    ∧ quiescent_FfnActReferenceIdeal (hFfnActReferenceIdeal := hFfnActReferenceIdeal)
    ∧ quiescent_FfnActReferenceIdeal_pre_finite_factors (hFfnActReferenceIdeal := hFfnActReferenceIdeal) (hPre_finite_factors := hPre_finite_factors)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_MmDh (hMmDh := hMmDh)
    ∧ quiescent_MmDhIdeal (hMmDhIdeal := hMmDhIdeal)
    ∧ quiescent_MmDhReferenceIdeal (hMmDhReferenceIdeal := hMmDhReferenceIdeal)
    ∧ quiescent_FlashA (hFlashA := hFlashA)
    ∧ quiescent_FlashAIdeal (hFlashAIdeal := hFlashAIdeal)
    ∧ quiescent_FlashAIdeal_pre_finite_entries (hFlashAIdeal := hFlashAIdeal) (hPre_finite_entries := hPre_finite_entries)
    ∧ quiescent_FlashAReferenceIdeal (hFlashAReferenceIdeal := hFlashAReferenceIdeal)
    ∧ quiescent_FlashAReferenceIdeal_pre_finite_entries (hFlashAReferenceIdeal := hFlashAReferenceIdeal) (hPre_finite_entries := hPre_finite_entries)
    ∧ quiescent_FlashABwd (hFlashABwd := hFlashABwd)
    ∧ quiescent_FlashABwdIdeal (hFlashABwdIdeal := hFlashABwdIdeal)
    ∧ quiescent_FlashABwdIdeal_pre_finite_parts (hFlashABwdIdeal := hFlashABwdIdeal) (hPre_finite_parts := hPre_finite_parts)
    ∧ quiescent_FlashABwdReferenceIdeal (hFlashABwdReferenceIdeal := hFlashABwdReferenceIdeal)
    ∧ quiescent_FlashABwdReferenceIdeal_pre_finite_parts (hFlashABwdReferenceIdeal := hFlashABwdReferenceIdeal) (hPre_finite_parts := hPre_finite_parts)
    ∧ quiescent_AdIn (hAdIn := hAdIn)
    ∧ quiescent_AdInIdeal (hAdInIdeal := hAdInIdeal)
    ∧ quiescent_AdInReferenceIdeal (hAdInReferenceIdeal := hAdInReferenceIdeal)
    ∧ quiescent_AdBrA (hAdBrA := hAdBrA)
    ∧ quiescent_AdBrAIdeal (hAdBrAIdeal := hAdBrAIdeal)
    ∧ quiescent_AdBrAReferenceIdeal (hAdBrAReferenceIdeal := hAdBrAReferenceIdeal)
    ∧ quiescent_AdBrB (hAdBrB := hAdBrB)
    ∧ quiescent_AdBrBIdeal (hAdBrBIdeal := hAdBrBIdeal)
    ∧ quiescent_AdBrBReferenceIdeal (hAdBrBReferenceIdeal := hAdBrBReferenceIdeal)
    ∧ quiescent_AdOut (hAdOut := hAdOut)
    ∧ quiescent_AdOutIdeal (hAdOutIdeal := hAdOutIdeal)
    ∧ quiescent_AdOutReferenceIdeal (hAdOutReferenceIdeal := hAdOutReferenceIdeal)
    ∧ quiescent_AdGate (hAdGate := hAdGate)
    ∧ quiescent_AdGateIdeal (hAdGateIdeal := hAdGateIdeal)
    ∧ quiescent_AdGateReferenceIdeal (hAdGateReferenceIdeal := hAdGateReferenceIdeal)
    ∧ quiescent_AdDown (hAdDown := hAdDown)
    ∧ quiescent_AdDownIdeal (hAdDownIdeal := hAdDownIdeal)
    ∧ quiescent_AdDownReferenceIdeal (hAdDownReferenceIdeal := hAdDownReferenceIdeal)
    ∧ quiescent_AdSmall (hAdSmall := hAdSmall)
    ∧ quiescent_AdSmallIdeal (hAdSmallIdeal := hAdSmallIdeal)
    ∧ quiescent_AdSmallReferenceIdeal (hAdSmallReferenceIdeal := hAdSmallReferenceIdeal)
    ∧ quiescent_LossGrad (hLossGrad := hLossGrad)
    ∧ quiescent_LossGradIdeal (hLossGradIdeal := hLossGradIdeal)
    ∧ quiescent_LossGradReferenceIdeal (hLossGradReferenceIdeal := hLossGradReferenceIdeal)
    ∧ quiescent_PoolBwd (hPoolBwd := hPoolBwd)
    ∧ quiescent_PoolBwdIdeal (hPoolBwdIdeal := hPoolBwdIdeal)
    ∧ quiescent_PoolBwdReferenceIdeal (hPoolBwdReferenceIdeal := hPoolBwdReferenceIdeal)
    ∧ preserves_Kernel_KernelIdeal
    ∧ algebraic_KernelIdeal_ReferenceIdeal (hKernelIdeal := hKernelIdeal) (hReferenceIdeal := hReferenceIdeal)
    ∧ preserves_WgDown_WgDownIdeal
    ∧ algebraic_WgDownIdeal_WgDownReferenceIdeal (hWgDownIdeal := hWgDownIdeal) (hWgDownReferenceIdeal := hWgDownReferenceIdeal)
    ∧ preserves_WgGate_WgGateIdeal
    ∧ algebraic_WgGateIdeal_WgGateReferenceIdeal (hWgGateIdeal := hWgGateIdeal) (hWgGateReferenceIdeal := hWgGateReferenceIdeal)
    ∧ preserves_WgIn_WgInIdeal
    ∧ algebraic_WgInIdeal_WgInReferenceIdeal (hWgInIdeal := hWgInIdeal) (hWgInReferenceIdeal := hWgInReferenceIdeal)
    ∧ preserves_WgOut_WgOutIdeal
    ∧ algebraic_WgOutIdeal_WgOutReferenceIdeal (hWgOutIdeal := hWgOutIdeal) (hWgOutReferenceIdeal := hWgOutReferenceIdeal)
    ∧ preserves_WgBrA_WgBrAIdeal
    ∧ algebraic_WgBrAIdeal_WgBrAReferenceIdeal (hWgBrAIdeal := hWgBrAIdeal) (hWgBrAReferenceIdeal := hWgBrAReferenceIdeal)
    ∧ preserves_WgBrB_WgBrBIdeal
    ∧ algebraic_WgBrBIdeal_WgBrBReferenceIdeal (hWgBrBIdeal := hWgBrBIdeal) (hWgBrBReferenceIdeal := hWgBrBReferenceIdeal)
    ∧ preserves_WgBrC_WgBrCIdeal
    ∧ algebraic_WgBrCIdeal_WgBrCReferenceIdeal (hWgBrCIdeal := hWgBrCIdeal) (hWgBrCReferenceIdeal := hWgBrCReferenceIdeal)
    ∧ preserves_MmZ_MmZIdeal
    ∧ algebraic_MmZIdeal_MmZReferenceIdeal (hMmZIdeal := hMmZIdeal) (hMmZReferenceIdeal := hMmZReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_MmDown_MmDownIdeal
    ∧ algebraic_MmDownIdeal_MmDownReferenceIdeal (hMmDownIdeal := hMmDownIdeal) (hMmDownReferenceIdeal := hMmDownReferenceIdeal)
    ∧ preserves_FfnAct_FfnActIdeal
    ∧ algebraic_FfnActIdeal_FfnActReferenceIdeal_pre_finite_factors (hFfnActIdeal := hFfnActIdeal) (hFfnActReferenceIdeal := hFfnActReferenceIdeal) (hPre_finite_factors := hPre_finite_factors)
    ∧ preserves_FfnDh_FfnDhIdeal
    ∧ algebraic_FfnDhIdeal_FfnDhReferenceIdeal (hFfnDhIdeal := hFfnDhIdeal) (hFfnDhReferenceIdeal := hFfnDhReferenceIdeal)
    ∧ preserves_MmDh_MmDhIdeal
    ∧ algebraic_MmDhIdeal_MmDhReferenceIdeal (hMmDhIdeal := hMmDhIdeal) (hMmDhReferenceIdeal := hMmDhReferenceIdeal)
    ∧ preserves_FlashA_FlashAIdeal
    ∧ algebraic_FlashAIdeal_FlashAReferenceIdeal_pre_finite_entries (hFlashAIdeal := hFlashAIdeal) (hFlashAReferenceIdeal := hFlashAReferenceIdeal) (hPre_finite_entries := hPre_finite_entries)
    ∧ preserves_FlashABwd_FlashABwdIdeal
    ∧ algebraic_FlashABwdIdeal_FlashABwdReferenceIdeal_pre_finite_parts (hFlashABwdIdeal := hFlashABwdIdeal) (hFlashABwdReferenceIdeal := hFlashABwdReferenceIdeal) (hPre_finite_parts := hPre_finite_parts)
    ∧ preserves_AdIn_AdInIdeal
    ∧ algebraic_AdInIdeal_AdInReferenceIdeal (hAdInIdeal := hAdInIdeal) (hAdInReferenceIdeal := hAdInReferenceIdeal)
    ∧ preserves_AdBrA_AdBrAIdeal
    ∧ algebraic_AdBrAIdeal_AdBrAReferenceIdeal (hAdBrAIdeal := hAdBrAIdeal) (hAdBrAReferenceIdeal := hAdBrAReferenceIdeal)
    ∧ preserves_AdBrB_AdBrBIdeal
    ∧ algebraic_AdBrBIdeal_AdBrBReferenceIdeal (hAdBrBIdeal := hAdBrBIdeal) (hAdBrBReferenceIdeal := hAdBrBReferenceIdeal)
    ∧ preserves_AdOut_AdOutIdeal
    ∧ algebraic_AdOutIdeal_AdOutReferenceIdeal (hAdOutIdeal := hAdOutIdeal) (hAdOutReferenceIdeal := hAdOutReferenceIdeal)
    ∧ preserves_AdGate_AdGateIdeal
    ∧ algebraic_AdGateIdeal_AdGateReferenceIdeal (hAdGateIdeal := hAdGateIdeal) (hAdGateReferenceIdeal := hAdGateReferenceIdeal)
    ∧ preserves_AdDown_AdDownIdeal
    ∧ algebraic_AdDownIdeal_AdDownReferenceIdeal (hAdDownIdeal := hAdDownIdeal) (hAdDownReferenceIdeal := hAdDownReferenceIdeal)
    ∧ preserves_AdSmall_AdSmallIdeal
    ∧ algebraic_AdSmallIdeal_AdSmallReferenceIdeal (hAdSmallIdeal := hAdSmallIdeal) (hAdSmallReferenceIdeal := hAdSmallReferenceIdeal)
    ∧ preserves_LossGrad_LossGradIdeal
    ∧ algebraic_LossGradIdeal_LossGradReferenceIdeal (hLossGradIdeal := hLossGradIdeal) (hLossGradReferenceIdeal := hLossGradReferenceIdeal)
    ∧ preserves_PoolBwd_PoolBwdIdeal
    ∧ algebraic_PoolBwdIdeal_PoolBwdReferenceIdeal (hPoolBwdIdeal := hPoolBwdIdeal) (hPoolBwdReferenceIdeal := hPoolBwdReferenceIdeal)
-- ==== Pre_finite_entries.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x128 .f32) (main_arg2 : FVec F S8192x128 .f32) : IVec S8192x512 1 × IVec S8192x128 1 × IVec S8192x128 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  (main_v2, main_v5, main_v8)
-- ==== Pre_finite_factors.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .f32) (main_arg2 : FVec F S8192x2816 .f32) (main_arg3 : FVec F S8192x2816 .f32) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x2816 .f32 := Host.absf main_arg3
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  (main_v2, main_v5, main_v8)
-- ==== Pre_finite_parts.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x128 .f32) (main_arg2 : FVec F S8192x128 .f32) (main_arg3 : FVec F S8192x512 .f32) : IVec S8192x512 1 × IVec S8192x128 1 × IVec S8192x128 1 × IVec S8192x512 1 :=
  let main_v0 : FVec F S8192x512 .f32 := Host.absf main_arg0
  let main_cst : FVec F S_ .f32 := constant S_ .f32 0x53800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x53800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Kernel.lean ====
abbrev S8192x1024 : Shape := ⟨2, ![8192, 1024]⟩
abbrev S8192x512 : Shape := ⟨2, ![8192, 512]⟩
abbrev S8192x256 : Shape := ⟨2, ![8192, 256]⟩
abbrev S8192x6656 : Shape := ⟨2, ![8192, 6656]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S512x256 : Shape := ⟨2, ![512, 256]⟩
abbrev S1x512x256 : Shape := ⟨3, ![1, 512, 256]⟩
abbrev S4x512x256 : Shape := ⟨3, ![4, 512, 256]⟩
abbrev S256x256 : Shape := ⟨2, ![256, 256]⟩
abbrev S1x256x256 : Shape := ⟨3, ![1, 256, 256]⟩
abbrev S4x256x256 : Shape := ⟨3, ![4, 256, 256]⟩
abbrev S4x256x1024 : Shape := ⟨3, ![4, 256, 1024]⟩
abbrev S1x8192x1024 : Shape := ⟨3, ![1, 8192, 1024]⟩
abbrev S3x8192x1024 : Shape := ⟨3, ![3, 8192, 1024]⟩
abbrev S3x256x1024 : Shape := ⟨3, ![3, 256, 1024]⟩
abbrev S256x512 : Shape := ⟨2, ![256, 512]⟩
abbrev S256x6656 : Shape := ⟨2, ![256, 6656]⟩
abbrev S1x256x1024 : Shape := ⟨3, ![1, 256, 1024]⟩
abbrev S256x3584 : Shape := ⟨2, ![256, 3584]⟩
abbrev S1x512 : Shape := ⟨2, ![1, 512]⟩
abbrev S1x256x512 : Shape := ⟨3, ![1, 256, 512]⟩
abbrev S512 : Shape := ⟨1, ![512]⟩

abbrev nBuf : Space → Nat
  | .hbm => 56
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S8192x512, .f32⟩
  | .hbm, ⟨4, _⟩ => ⟨S8192x6656, .f32⟩
  | .hbm, ⟨5, _⟩ => ⟨S1x3072, .f32⟩
  | .hbm, ⟨6, _⟩ => ⟨S512x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S1x512x256, .f32⟩
  | .hbm, ⟨18, _⟩ => ⟨S4x512x256, .f32⟩
  | .hbm, ⟨19, _⟩ => ⟨S4x512x256, .bf16⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S1x256x256, .f32⟩
  | .hbm, ⟨25, _⟩ => ⟨S1x256x256, .f32⟩
  | .hbm, ⟨26, _⟩ => ⟨S1x256x256, .f32⟩
  | .hbm, ⟨27, _⟩ => ⟨S1x256x256, .f32⟩
  | .hbm, ⟨28, _⟩ => ⟨S4x256x256, .f32⟩
  | .hbm, ⟨29, _⟩ => ⟨S4x256x256, .bf16⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S1x512x256, .f32⟩
  | .hbm, ⟨35, _⟩ => ⟨S1x512x256, .f32⟩
  | .hbm, ⟨36, _⟩ => ⟨S1x512x256, .f32⟩
  | .hbm, ⟨37, _⟩ => ⟨S1x512x256, .f32⟩
  | .hbm, ⟨38, _⟩ => ⟨S4x512x256, .f32⟩
  | .hbm, ⟨39, _⟩ => ⟨S4x512x256, .bf16⟩
  | .hbm, ⟨40, _⟩ => ⟨S4x256x1024, .f32⟩
  | .hbm, ⟨41, _⟩ => ⟨S4x256x1024, .bf16⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S3x8192x1024, .f32⟩
  | .hbm, ⟨49, _⟩ => ⟨S3x8192x1024, .bf16⟩
  | .hbm, ⟨50, _⟩ => ⟨S3x8192x1024, .bf16⟩
  | .hbm, ⟨51, _⟩ => ⟨S8192x6656, .bf16⟩
  | .hbm, ⟨52, _⟩ => ⟨S1x3072, .f32⟩
  | .hbm, ⟨53, _⟩ => ⟨S8192x512, .f32⟩
  | .hbm, ⟨54, _⟩ => ⟨S8192x256, .f32⟩
  | .hbm, ⟨55, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x3072, .f32⟩
  | .local _ .vmem, ⟨17, _⟩ => ⟨S4x512x256, .bf16⟩
  | .local _ .vmem, ⟨18, _⟩ => ⟨S4x256x256, .bf16⟩
  | .local _ .vmem, ⟨19, _⟩ => ⟨S4x512x256, .bf16⟩
  | .local _ .vmem, ⟨20, _⟩ => ⟨S4x256x1024, .bf16⟩
  | .local _ .vmem, ⟨21, _⟩ => ⟨S3x256x1024, .bf16⟩
  | .local _ .vmem, ⟨22, _⟩ => ⟨S3x256x1024, .bf16⟩
  | .local _ .vmem, ⟨23, _⟩ => ⟨S256x6656, .bf16⟩
  | .local _ .vmem, ⟨24, _⟩ => ⟨S256x6656, .bf16⟩
  | .local _ .vmem, ⟨25, _⟩ => ⟨S1x3072, .f32⟩
  | .local _ .vmem, ⟨26, _⟩ => ⟨S256x512, .f32⟩
  | .local _ .vmem, ⟨27, _⟩ => ⟨S256x512, .f32⟩
  | .local _ .vmem, ⟨28, _⟩ => ⟨S256x256, .f32⟩
  | .local _ .vmem, ⟨29, _⟩ => ⟨S256x256, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev main_v40_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v167 : BitVec 1 := Scalar.cmpi .eq arg0 c0_i32
  let v168 : BitVec 32 := Scalar.extui v167
  let c0_i32_107 : BitVec 32 := 0#32
  let v169 : BitVec 1 := Scalar.cmpi .ne v168 c0_i32_107
  v169

def k0_cond2 (i : grid0.Coords) : BitVec 1 :=
  let arg0 : BitVec 32 := BitVec.ofNat 32 (i 0).val
  let c0_i32_108 : BitVec 32 := 0#32
  let v170 : BitVec 1 := Scalar.cmpi .sgt arg0 c0_i32_108
  let v171 : BitVec 32 := Scalar.extui v170
  let c0_i32_109 : BitVec 32 := 0#32
  let v172 : BitVec 1 := Scalar.cmpi .ne v171 c0_i32_109
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6656 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S8192x1024 : Shape := ⟨2, ![8192, 1024]⟩
abbrev S8192x512 : Shape := ⟨2, ![8192, 512]⟩
abbrev S8192x256 : Shape := ⟨2, ![8192, 256]⟩
abbrev S8192x6656 : Shape := ⟨2, ![8192, 6656]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S1x8192x1024 : Shape := ⟨3, ![1, 8192, 1024]⟩
abbrev S3x8192x1024 : Shape := ⟨3, ![3, 8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S8192x512, .f32⟩
  | .hbm, ⟨4, _⟩ => ⟨S8192x6656, .f32⟩
  | .hbm, ⟨5, _⟩ => ⟨S1x3072, .f32⟩
  | .hbm, ⟨6, _⟩ => ⟨S512x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S3x8192x1024, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S_, .f32⟩
  | .hbm, ⟨26, _⟩ => ⟨S8192x3072, .f32⟩
  | .hbm, ⟨27, _⟩ => ⟨S8192x3072, .f32⟩
  | .hbm, ⟨28, _⟩ => ⟨S_, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3x1024, .f32⟩
  | .hbm, ⟨33, _⟩ => ⟨S8192x1x1024, .f32⟩
  | .hbm, ⟨34, _⟩ => ⟨S8192x1024, .f32⟩
  | .hbm, ⟨35, _⟩ => ⟨S1x8192x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S8192x1024, .f32⟩
  | .hbm, ⟨40, _⟩ => ⟨S1x8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S8192x1024, .f32⟩
  | .hbm, ⟨46, _⟩ => ⟨S1x8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x8192x1024, .f32⟩
  | .hbm, ⟨55, _⟩ => ⟨S_, .f32⟩
  | .hbm, ⟨56, _⟩ => ⟨S3x8192x1024, .f32⟩
  | .hbm, ⟨57, _⟩ => ⟨S8192x1x1024, .f32⟩
  | .hbm, ⟨58, _⟩ => ⟨S_, .f32⟩
  | .hbm, ⟨59, _⟩ => ⟨S8192x3x1024, .f32⟩
  | .hbm, ⟨60, _⟩ => ⟨S8192x1024, .f32⟩
  | .hbm, ⟨61, _⟩ => ⟨S8192x1024, .f32⟩
  | .hbm, ⟨62, _⟩ => ⟨S1x8192x1024, .f32⟩
  | .hbm, ⟨63, _⟩ => ⟨S_, .f32⟩
  | .hbm, ⟨64, _⟩ => ⟨S3x8192x1024, .f32⟩
  | .hbm, ⟨65, _⟩ => ⟨S3x8192x1024, .f32⟩
  | .hbm, ⟨66, _⟩ => ⟨S8192x1x1024, .f32⟩
  | .hbm, ⟨67, _⟩ => ⟨S_, .f32⟩
  | .hbm, ⟨68, _⟩ => ⟨S8192x3x1024, .f32⟩
  | .hbm, ⟨69, _⟩ => ⟨S8192x3x1024, .f32⟩
  | .hbm, ⟨70, _⟩ => ⟨S8192x1024, .f32⟩
  | .hbm, ⟨71, _⟩ => ⟨S8192x1024, .f32⟩
  | .hbm, ⟨72, _⟩ => ⟨S1x8192x1024, .f32⟩
  | .hbm, ⟨73, _⟩ => ⟨S_, .f32⟩
  | .hbm, ⟨74, _⟩ => ⟨S3x8192x1024, .f32⟩
  | .hbm, ⟨75, _⟩ => ⟨S3x8192x1024, .f32⟩
  | .hbm, ⟨76, _⟩ => ⟨S8192x1x1024, .f32⟩
  | .hbm, ⟨77, _⟩ => ⟨S_, .f32⟩
  | .hbm, ⟨78, _⟩ => ⟨S8192x3x1024, .f32⟩
  | .hbm, ⟨79, _⟩ => ⟨S8192x3x1024, .f32⟩
  | .hbm, ⟨80, _⟩ => ⟨S8192x3072, .f32⟩
  | .hbm, ⟨81, _⟩ => ⟨S8192x3072, .f32⟩
  | .hbm, ⟨82, _⟩ => ⟨S_, .f32⟩
  | .hbm, ⟨83, _⟩ => ⟨S3072, .f32⟩
  | .hbm, ⟨84, _⟩ => ⟨S1x3072, .f32⟩
  | .hbm, ⟨85, _⟩ => ⟨S_, .f32⟩
  | .hbm, ⟨86, _⟩ => ⟨S8192x6656, .f32⟩
  | .hbm, ⟨87, _⟩ => ⟨S3x8192x1024, .bf16⟩
  | .hbm, ⟨88, _⟩ => ⟨S8192x6656, .bf16⟩
  | .hbm, ⟨89, _⟩ => ⟨S1x8192x1024, .f32⟩
  | .hbm, ⟨90, _⟩ => ⟨S8192x1024, .f32⟩
  | .hbm, ⟨91, _⟩ => ⟨S1x8192x1024, .f32⟩
  | .hbm, ⟨92, _⟩ => ⟨S8192x1024, .f32⟩
  | .hbm, ⟨93, _⟩ => ⟨S1x8192x1024, .f32⟩
  | .hbm, ⟨94, _⟩ => ⟨S8192x1024, .f32⟩
  | .hbm, ⟨95, _⟩ => ⟨S8192x512, .f32⟩
  | .hbm, ⟨96, _⟩ => ⟨S8192x256, .f32⟩
  | .hbm, ⟨97, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== WgDown.lean ====
abbrev S8192x2816 : Shape := ⟨2, ![8192, 2816]⟩
abbrev S8192x1024 : Shape := ⟨2, ![8192, 1024]⟩
abbrev S8192x704 : Shape := ⟨2, ![8192, 704]⟩
abbrev S1x8192x704 : Shape := ⟨3, ![1, 8192, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 13
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x704, .f32⟩
  | .hbm, ⟨3, _⟩ => ⟨S8192x704, .f32⟩
  | .hbm, ⟨4, _⟩ => ⟨S8192x704, .f32⟩
  | .hbm, ⟨5, _⟩ => ⟨S8192x704, .f32⟩
  | .hbm, ⟨6, _⟩ => ⟨S1x8192x704, .f32⟩
  | .hbm, ⟨7, _⟩ => ⟨S1x8192x704, .f32⟩
  | .hbm, ⟨8, _⟩ => ⟨S1x8192x704, .f32⟩
  | .hbm, ⟨9, _⟩ => ⟨S1x8192x704, .f32⟩
  | .hbm, ⟨10, _⟩ => ⟨S4x8192x704, .f32⟩
  | .hbm, ⟨11, _⟩ => ⟨S4x8192x704, .bf16⟩
  | .hbm, ⟨12, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgDownReferenceIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WgGate.lean ====
abbrev S8192x1024 : Shape := ⟨2, ![8192, 1024]⟩
abbrev S8192x2816 : Shape := ⟨2, ![8192, 2816]⟩
abbrev S8192x704 : Shape := ⟨2, ![8192, 704]⟩
abbrev S1x8192x704 : Shape := ⟨3, ![1, 8192, 704]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x704, .f32⟩
  | .hbm, ⟨3, _⟩ => ⟨S8192x704, .f32⟩
  | .hbm, ⟨4, _⟩ => ⟨S8192x704, .f32⟩
  | .hbm, ⟨5, _⟩ => ⟨S8192x704, .f32⟩
  | .hbm, ⟨6, _⟩ => ⟨S1x8192x704, .f32⟩
  | .hbm, ⟨7, _⟩ => ⟨S1x8192x704, .f32⟩
  | .hbm, ⟨8, _⟩ => ⟨S1x8192x704, .f32⟩
  | .hbm, ⟨9, _⟩ => ⟨S1x8192x704, .f32⟩
  | .hbm, ⟨10, _⟩ => ⟨S4x8192x704, .f32⟩
  | .hbm, ⟨11, _⟩ => ⟨S4x8192x704, .bf16⟩
  | .hbm, ⟨12, _⟩ => ⟨S8192x1024, .bf16⟩
  | .hbm, ⟨13, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgGateReferenceIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩
abbrev S1024x704 : Shape := ⟨2, ![1024, 704]⟩
abbrev S1x1024x704 : Shape := ⟨3, ![1, 1024, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024x2816, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1x1024x704, .f32⟩
  | .hbm, ⟨9, _⟩ => ⟨S1x1024x704, .f32⟩
  | .hbm, ⟨10, _⟩ => ⟨S1x1024x704, .f32⟩
  | .hbm, ⟨11, _⟩ => ⟨S1x1024x704, .f32⟩
  | .hbm, ⟨12, _⟩ => ⟨S4x1024x704, .f32⟩
  | .hbm, ⟨13, _⟩ => ⟨S4x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== WgIn.lean ====
abbrev S8192x1024 : Shape := ⟨2, ![8192, 1024]⟩
abbrev S8192x6656 : Shape := ⟨2, ![8192, 6656]⟩
abbrev S4x1024x1664 : Shape := ⟨3, ![4, 1024, 1664]⟩
abbrev S2048x1024 : Shape := ⟨2, ![2048, 1024]⟩
abbrev S2048x1664 : Shape := ⟨2, ![2048, 1664]⟩
abbrev S1x1024x1664 : Shape := ⟨3, ![1, 1024, 1664]⟩
abbrev S1024x1664 : Shape := ⟨2, ![1024, 1664]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S8192x1024, .bf16⟩
  | .hbm, ⟨3, _⟩ => ⟨S8192x6656, .bf16⟩
  | .hbm, ⟨4, _⟩ => ⟨S4x1024x1664, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1x1024x1664, .bf16⟩
  | .local _ .vmem, ⟨5, _⟩ => ⟨S1x1024x1664, .bf16⟩
  | .local _ .vmem, ⟨6, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgInReferenceIdeal.lean ====
abbrev S8192x1024 : Shape := ⟨2, ![8192, 1024]⟩
abbrev S8192x6656 : Shape := ⟨2, ![8192, 6656]⟩
abbrev S6656x1024 : Shape := ⟨2, ![6656, 1024]⟩
abbrev S1024x6656 : Shape := ⟨2, ![1024, 6656]⟩
abbrev S1024x1664 : Shape := ⟨2, ![1024, 1664]⟩
abbrev S1x1024x1664 : Shape := ⟨3, ![1, 1024, 1664]⟩
abbrev S4x1024x1664 : Shape := ⟨3, ![4, 1024, 1664]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6656, .f32⟩
  | .hbm, ⟨2, _⟩ => ⟨S6656x1024, .f32⟩
  | .hbm, ⟨3, _⟩ => ⟨S1024x6656, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .hbm, ⟨8, _⟩ => ⟨S1x1024x1664, .f32⟩
  | .hbm, ⟨9, _⟩ => ⟨S1x1024x1664, .f32⟩
  | .hbm, ⟨10, _⟩ => ⟨S1x1024x1664, .f32⟩
  | .hbm, ⟨11, _⟩ => ⟨S1x1024x1664, .f32⟩
  | .hbm, ⟨12, _⟩ => ⟨S4x1024x1664, .f32⟩
  | .hbm, ⟨13, _⟩ => ⟨S4x1024x1664, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== WgOut.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgOutReferenceIdeal.lean ====
abbrev S8192x1024 : Shape := ⟨2, ![8192, 1024]⟩
abbrev S1024x1024 : Shape := ⟨2, ![1024, 1024]⟩
abbrev S4x256x1024 : Shape := ⟨3, ![4, 256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S4x256x1024, .f32⟩
  | .hbm, ⟨5, _⟩ => ⟨S4x256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WgBrA.lean ====
abbrev S8192x512 : Shape := ⟨2, ![8192, 512]⟩
abbrev S3x8192x1024 : Shape := ⟨3, ![3, 8192, 1024]⟩
abbrev S4x512x256 : Shape := ⟨3, ![4, 512, 256]⟩
abbrev S2048x512 : Shape := ⟨2, ![2048, 512]⟩
abbrev S1x2048x256 : Shape := ⟨3, ![1, 2048, 256]⟩
abbrev S1x512x256 : Shape := ⟨3, ![1, 512, 256]⟩
abbrev S512x256 : Shape := ⟨2, ![512, 256]⟩
abbrev S2048x256 : Shape := ⟨2, ![2048, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S3x8192x1024, .f32⟩
  | .hbm, ⟨2, _⟩ => ⟨S8192x512, .bf16⟩
  | .hbm, ⟨3, _⟩ => ⟨S3x8192x1024, .bf16⟩
  | .hbm, ⟨4, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBrAIdeal.lean ====
  ![c0_i32.toNat, arg1.toNat, arg0.toNat]
  let c0_i32_0 : BitVec 32 := 0#32
-- ==== WgBrAReferenceIdeal.lean ====
abbrev S8192x512 : Shape := ⟨2, ![8192, 512]⟩
abbrev S3x8192x1024 : Shape := ⟨3, ![3, 8192, 1024]⟩
abbrev S1x8192x1024 : Shape := ⟨3, ![1, 8192, 1024]⟩
abbrev S8192x1024 : Shape := ⟨2, ![8192, 1024]⟩
abbrev S1024x512 : Shape := ⟨2, ![1024, 512]⟩
abbrev S512x1024 : Shape := ⟨2, ![512, 1024]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S3x8192x1024, .f32⟩
  | .hbm, ⟨2, _⟩ => ⟨S1x8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S1x512x256, .f32⟩
  | .hbm, ⟨11, _⟩ => ⟨S1x512x256, .f32⟩
  | .hbm, ⟨12, _⟩ => ⟨S1x512x256, .f32⟩
  | .hbm, ⟨13, _⟩ => ⟨S1x512x256, .f32⟩
  | .hbm, ⟨14, _⟩ => ⟨S4x512x256, .f32⟩
  | .hbm, ⟨15, _⟩ => ⟨S4x512x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== WgBrB.lean ====
abbrev S8192x256 : Shape := ⟨2, ![8192, 256]⟩
abbrev S3x8192x1024 : Shape := ⟨3, ![3, 8192, 1024]⟩
abbrev S4x256x256 : Shape := ⟨3, ![4, 256, 256]⟩
abbrev S2048x256 : Shape := ⟨2, ![2048, 256]⟩
abbrev S1x2048x256 : Shape := ⟨3, ![1, 2048, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S3x8192x1024, .f32⟩
  | .hbm, ⟨2, _⟩ => ⟨S8192x256, .bf16⟩
  | .hbm, ⟨3, _⟩ => ⟨S3x8192x1024, .bf16⟩
  | .hbm, ⟨4, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBrBIdeal.lean ====
abbrev S8192x256 : Shape := ⟨2, ![8192, 256]⟩
abbrev S3x8192x1024 : Shape := ⟨3, ![3, 8192, 1024]⟩
abbrev S4x256x256 : Shape := ⟨3, ![4, 256, 256]⟩
abbrev S2048x256 : Shape := ⟨2, ![2048, 256]⟩
abbrev S1x2048x256 : Shape := ⟨3, ![1, 2048, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S3x8192x1024, .f32⟩
  | .hbm, ⟨2, _⟩ => ⟨S8192x256, .bf16⟩
  | .hbm, ⟨3, _⟩ => ⟨S3x8192x1024, .bf16⟩
  | .hbm, ⟨4, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBrBReferenceIdeal.lean ====
abbrev S8192x256 : Shape := ⟨2, ![8192, 256]⟩
abbrev S3x8192x1024 : Shape := ⟨3, ![3, 8192, 1024]⟩
abbrev S1x8192x1024 : Shape := ⟨3, ![1, 8192, 1024]⟩
abbrev S8192x1024 : Shape := ⟨2, ![8192, 1024]⟩
abbrev S1024x256 : Shape := ⟨2, ![1024, 256]⟩
abbrev S256x1024 : Shape := ⟨2, ![256, 1024]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S3x8192x1024, .f32⟩
  | .hbm, ⟨2, _⟩ => ⟨S1x8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S1x256x256, .f32⟩
  | .hbm, ⟨11, _⟩ => ⟨S1x256x256, .f32⟩
  | .hbm, ⟨12, _⟩ => ⟨S1x256x256, .f32⟩
  | .hbm, ⟨13, _⟩ => ⟨S1x256x256, .f32⟩
  | .hbm, ⟨14, _⟩ => ⟨S4x256x256, .f32⟩
  | .hbm, ⟨15, _⟩ => ⟨S4x256x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== WgBrC.lean ====
abbrev S8192x512 : Shape := ⟨2, ![8192, 512]⟩
abbrev S3x8192x1024 : Shape := ⟨3, ![3, 8192, 1024]⟩
abbrev S4x512x256 : Shape := ⟨3, ![4, 512, 256]⟩
abbrev S2048x512 : Shape := ⟨2, ![2048, 512]⟩
abbrev S1x2048x256 : Shape := ⟨3, ![1, 2048, 256]⟩
abbrev S1x512x256 : Shape := ⟨3, ![1, 512, 256]⟩
abbrev S512x256 : Shape := ⟨2, ![512, 256]⟩
abbrev S2048x256 : Shape := ⟨2, ![2048, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S3x8192x1024, .f32⟩
  | .hbm, ⟨2, _⟩ => ⟨S8192x512, .bf16⟩
  | .hbm, ⟨3, _⟩ => ⟨S3x8192x1024, .bf16⟩
  | .hbm, ⟨4, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgBrCReferenceIdeal.lean ====
abbrev S8192x512 : Shape := ⟨2, ![8192, 512]⟩
abbrev S3x8192x1024 : Shape := ⟨3, ![3, 8192, 1024]⟩
abbrev S1x8192x1024 : Shape := ⟨3, ![1, 8192, 1024]⟩
abbrev S8192x1024 : Shape := ⟨2, ![8192, 1024]⟩
abbrev S1024x512 : Shape := ⟨2, ![1024, 512]⟩
abbrev S512x1024 : Shape := ⟨2, ![512, 1024]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S3x8192x1024, .f32⟩
  | .hbm, ⟨2, _⟩ => ⟨S1x8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S1x512x256, .f32⟩
  | .hbm, ⟨11, _⟩ => ⟨S1x512x256, .f32⟩
  | .hbm, ⟨12, _⟩ => ⟨S1x512x256, .f32⟩
  | .hbm, ⟨13, _⟩ => ⟨S1x512x256, .f32⟩
  | .hbm, ⟨14, _⟩ => ⟨S4x512x256, .f32⟩
  | .hbm, ⟨15, _⟩ => ⟨S4x512x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== MmZ.lean ====
abbrev S8192x1024 : Shape := ⟨2, ![8192, 1024]⟩
abbrev S1024x6656 : Shape := ⟨2, ![1024, 6656]⟩
abbrev S1024x1664 : Shape := ⟨2, ![1024, 1664]⟩
abbrev S1x1024x1664 : Shape := ⟨3, ![1, 1024, 1664]⟩
abbrev S4x1024x1664 : Shape := ⟨3, ![4, 1024, 1664]⟩
abbrev S8192x6656 : Shape := ⟨2, ![8192, 6656]⟩
abbrev S512x1024 : Shape := ⟨2, ![512, 1024]⟩
abbrev S512x1664 : Shape := ⟨2, ![512, 1664]⟩

abbrev nBuf : Space → Nat
  | .hbm => 14
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x6656, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1x1024x1664, .f32⟩
  | .hbm, ⟨7, _⟩ => ⟨S1x1024x1664, .f32⟩
  | .hbm, ⟨8, _⟩ => ⟨S1x1024x1664, .f32⟩
  | .hbm, ⟨9, _⟩ => ⟨S1x1024x1664, .f32⟩
  | .hbm, ⟨10, _⟩ => ⟨S4x1024x1664, .f32⟩
  | .hbm, ⟨11, _⟩ => ⟨S4x1024x1664, .bf16⟩
  | .hbm, ⟨12, _⟩ => ⟨S8192x1024, .bf16⟩
  | .hbm, ⟨13, _⟩ => ⟨S8192x6656, .f32⟩
  | .local _ .vmem, ⟨0, _⟩ => ⟨S512x1024, .bf16⟩
  | .local _ .vmem, ⟨1, _⟩ => ⟨S512x1024, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S512x1664, .f32⟩
  | .local _ .vmem, ⟨5, _⟩ => ⟨S512x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmZReferenceIdeal.lean ====
abbrev S8192x1024 : Shape := ⟨2, ![8192, 1024]⟩
abbrev S1024x6656 : Shape := ⟨2, ![1024, 6656]⟩
abbrev S8192x6656 : Shape := ⟨2, ![8192, 6656]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6656, .f32⟩
  | .hbm, ⟨2, _⟩ => ⟨S8192x6656, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnUp.lean ====
abbrev S8192x1024 : Shape := ⟨2, ![8192, 1024]⟩
abbrev S1024x2816 : Shape := ⟨2, ![1024, 2816]⟩
abbrev S1024x704 : Shape := ⟨2, ![1024, 704]⟩
abbrev S1x1024x704 : Shape := ⟨3, ![1, 1024, 704]⟩
abbrev S4x1024x704 : Shape := ⟨3, ![4, 1024, 704]⟩
abbrev S4x8192x704 : Shape := ⟨3, ![4, 8192, 704]⟩
abbrev S512x1024 : Shape := ⟨2, ![512, 1024]⟩
abbrev S1x512x704 : Shape := ⟨3, ![1, 512, 704]⟩
abbrev S512x704 : Shape := ⟨2, ![512, 704]⟩

abbrev nBuf : Space → Nat
  | .hbm => 27
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1x1024x704, .f32⟩
  | .hbm, ⟨9, _⟩ => ⟨S1x1024x704, .f32⟩
  | .hbm, ⟨10, _⟩ => ⟨S1x1024x704, .f32⟩
  | .hbm, ⟨11, _⟩ => ⟨S1x1024x704, .f32⟩
  | .hbm, ⟨12, _⟩ => ⟨S4x1024x704, .f32⟩
  | .hbm, ⟨13, _⟩ => ⟨S4x1024x704, .bf16⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S4x1024x704, .f32⟩
  | .hbm, ⟨23, _⟩ => ⟨S4x1024x704, .bf16⟩
  | .hbm, ⟨24, _⟩ => ⟨S4x8192x704, .bf16⟩
  | .hbm, ⟨25, _⟩ => ⟨S4x8192x704, .bf16⟩
  | .hbm, ⟨26, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21_0 : Ref sig .tc := ⟨.hbm, 24, rfl⟩
abbrev main_v21_1 : Ref sig .tc := ⟨.hbm, 25, rfl⟩
abbrev main_v21_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S8192x704 : Shape := ⟨2, ![8192, 704]⟩
abbrev S1x8192x704 : Shape := ⟨3, ![1, 8192, 704]⟩
abbrev S4x8192x704 : Shape := ⟨3, ![4, 8192, 704]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x704, .f32⟩
  | .hbm, ⟨16, _⟩ => ⟨S8192x704, .f32⟩
  | .hbm, ⟨17, _⟩ => ⟨S8192x704, .f32⟩
  | .hbm, ⟨18, _⟩ => ⟨S8192x704, .f32⟩
  | .hbm, ⟨19, _⟩ => ⟨S1x8192x704, .f32⟩
  | .hbm, ⟨20, _⟩ => ⟨S1x8192x704, .f32⟩
  | .hbm, ⟨21, _⟩ => ⟨S1x8192x704, .f32⟩
  | .hbm, ⟨22, _⟩ => ⟨S1x8192x704, .f32⟩
  | .hbm, ⟨23, _⟩ => ⟨S4x8192x704, .f32⟩
  | .hbm, ⟨24, _⟩ => ⟨S4x8192x704, .bf16⟩
  | .hbm, ⟨25, _⟩ => ⟨S8192x704, .f32⟩
  | .hbm, ⟨26, _⟩ => ⟨S8192x704, .f32⟩
  | .hbm, ⟨27, _⟩ => ⟨S8192x704, .f32⟩
  | .hbm, ⟨28, _⟩ => ⟨S8192x704, .f32⟩
  | .hbm, ⟨29, _⟩ => ⟨S1x8192x704, .f32⟩
  | .hbm, ⟨30, _⟩ => ⟨S1x8192x704, .f32⟩
  | .hbm, ⟨31, _⟩ => ⟨S1x8192x704, .f32⟩
  | .hbm, ⟨32, _⟩ => ⟨S1x8192x704, .f32⟩
  | .hbm, ⟨33, _⟩ => ⟨S4x8192x704, .f32⟩
  | .hbm, ⟨34, _⟩ => ⟨S4x8192x704, .bf16⟩
  | .hbm, ⟨35, _⟩ => ⟨S8192x704, .f32⟩
  | .hbm, ⟨36, _⟩ => ⟨S8192x704, .f32⟩
  | .hbm, ⟨37, _⟩ => ⟨S8192x704, .f32⟩
  | .hbm, ⟨38, _⟩ => ⟨S8192x704, .f32⟩
  | .hbm, ⟨39, _⟩ => ⟨S1x8192x704, .f32⟩
  | .hbm, ⟨40, _⟩ => ⟨S1x8192x704, .f32⟩
  | .hbm, ⟨41, _⟩ => ⟨S1x8192x704, .f32⟩
  | .hbm, ⟨42, _⟩ => ⟨S1x8192x704, .f32⟩
  | .hbm, ⟨43, _⟩ => ⟨S4x8192x704, .f32⟩
  | .hbm, ⟨44, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== MmDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S4x704x1024 : Shape := ⟨3, ![4, 704, 1024]⟩
abbrev S8192x704 : Shape := ⟨2, ![8192, 704]⟩
abbrev S1x8192x704 : Shape := ⟨3, ![1, 8192, 704]⟩
abbrev S4x8192x704 : Shape := ⟨3, ![4, 8192, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S4x704x1024, .f32⟩
  | .hbm, ⟨5, _⟩ => ⟨S4x704x1024, .bf16⟩
  | .hbm, ⟨6, _⟩ => ⟨S8192x704, .f32⟩
  | .hbm, ⟨7, _⟩ => ⟨S8192x704, .f32⟩
  | .hbm, ⟨8, _⟩ => ⟨S8192x704, .f32⟩
  | .hbm, ⟨9, _⟩ => ⟨S8192x704, .f32⟩
  | .hbm, ⟨10, _⟩ => ⟨S1x8192x704, .f32⟩
  | .hbm, ⟨11, _⟩ => ⟨S1x8192x704, .f32⟩
  | .hbm, ⟨12, _⟩ => ⟨S1x8192x704, .f32⟩
  | .hbm, ⟨13, _⟩ => ⟨S1x8192x704, .f32⟩
  | .hbm, ⟨14, _⟩ => ⟨S4x8192x704, .f32⟩
  | .hbm, ⟨15, _⟩ => ⟨S4x8192x704, .bf16⟩
  | .hbm, ⟨16, _⟩ => ⟨S8192x1024, .f32⟩
  | .hbm, ⟨17, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmDownReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== FfnAct.lean ====
abbrev S8192x1024 : Shape := ⟨2, ![8192, 1024]⟩
abbrev S2816x1024 : Shape := ⟨2, ![2816, 1024]⟩
abbrev S8192x2816 : Shape := ⟨2, ![8192, 2816]⟩
abbrev S4x704x1024 : Shape := ⟨3, ![4, 704, 1024]⟩
abbrev S8192x704 : Shape := ⟨2, ![8192, 704]⟩
abbrev S1x8192x704 : Shape := ⟨3, ![1, 8192, 704]⟩
abbrev S4x8192x704 : Shape := ⟨3, ![4, 8192, 704]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 28
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S4x704x1024, .f32⟩
  | .hbm, ⟨5, _⟩ => ⟨S4x704x1024, .bf16⟩
  | .hbm, ⟨6, _⟩ => ⟨S8192x704, .f32⟩
  | .hbm, ⟨7, _⟩ => ⟨S8192x704, .f32⟩
  | .hbm, ⟨8, _⟩ => ⟨S8192x704, .f32⟩
  | .hbm, ⟨9, _⟩ => ⟨S8192x704, .f32⟩
  | .hbm, ⟨10, _⟩ => ⟨S1x8192x704, .f32⟩
  | .hbm, ⟨11, _⟩ => ⟨S1x8192x704, .f32⟩
  | .hbm, ⟨12, _⟩ => ⟨S1x8192x704, .f32⟩
  | .hbm, ⟨13, _⟩ => ⟨S1x8192x704, .f32⟩
  | .hbm, ⟨14, _⟩ => ⟨S4x8192x704, .f32⟩
  | .hbm, ⟨15, _⟩ => ⟨S4x8192x704, .bf16⟩
  | .hbm, ⟨16, _⟩ => ⟨S8192x704, .f32⟩
  | .hbm, ⟨17, _⟩ => ⟨S8192x704, .f32⟩
  | .hbm, ⟨18, _⟩ => ⟨S8192x704, .f32⟩
  | .hbm, ⟨19, _⟩ => ⟨S8192x704, .f32⟩
  | .hbm, ⟨20, _⟩ => ⟨S1x8192x704, .f32⟩
  | .hbm, ⟨21, _⟩ => ⟨S1x8192x704, .f32⟩
  | .hbm, ⟨22, _⟩ => ⟨S1x8192x704, .f32⟩
  | .hbm, ⟨23, _⟩ => ⟨S1x8192x704, .f32⟩
  | .hbm, ⟨24, _⟩ => ⟨S4x8192x704, .f32⟩
  | .hbm, ⟨25, _⟩ => ⟨S4x8192x704, .bf16⟩
  | .hbm, ⟨26, _⟩ => ⟨S4x8192x704, .bf16⟩
  | .hbm, ⟨27, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnActReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S8192x704 : Shape := ⟨2, ![8192, 704]⟩
abbrev S1x8192x704 : Shape := ⟨3, ![1, 8192, 704]⟩
abbrev S4x8192x704 : Shape := ⟨3, ![4, 8192, 704]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x704, .f32⟩
  | .hbm, ⟨27, _⟩ => ⟨S8192x704, .f32⟩
  | .hbm, ⟨28, _⟩ => ⟨S8192x704, .f32⟩
  | .hbm, ⟨29, _⟩ => ⟨S8192x704, .f32⟩
  | .hbm, ⟨30, _⟩ => ⟨S1x8192x704, .f32⟩
  | .hbm, ⟨31, _⟩ => ⟨S1x8192x704, .f32⟩
  | .hbm, ⟨32, _⟩ => ⟨S1x8192x704, .f32⟩
  | .hbm, ⟨33, _⟩ => ⟨S1x8192x704, .f32⟩
  | .hbm, ⟨34, _⟩ => ⟨S4x8192x704, .f32⟩
  | .hbm, ⟨35, _⟩ => ⟨S4x8192x704, .bf16⟩
  | .hbm, ⟨36, _⟩ => ⟨S8192x704, .f32⟩
  | .hbm, ⟨37, _⟩ => ⟨S8192x704, .f32⟩
  | .hbm, ⟨38, _⟩ => ⟨S8192x704, .f32⟩
  | .hbm, ⟨39, _⟩ => ⟨S8192x704, .f32⟩
  | .hbm, ⟨40, _⟩ => ⟨S1x8192x704, .f32⟩
  | .hbm, ⟨41, _⟩ => ⟨S1x8192x704, .f32⟩
  | .hbm, ⟨42, _⟩ => ⟨S1x8192x704, .f32⟩
  | .hbm, ⟨43, _⟩ => ⟨S1x8192x704, .f32⟩
  | .hbm, ⟨44, _⟩ => ⟨S4x8192x704, .f32⟩
  | .hbm, ⟨45, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== FfnDh.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S8192x704 : Shape := ⟨2, ![8192, 704]⟩
abbrev S1x8192x704 : Shape := ⟨3, ![1, 8192, 704]⟩
abbrev S4x8192x704 : Shape := ⟨3, ![4, 8192, 704]⟩
abbrev S1024x704 : Shape := ⟨2, ![1024, 704]⟩
abbrev S1x1024x704 : Shape := ⟨3, ![1, 1024, 704]⟩
abbrev S4x1024x704 : Shape := ⟨3, ![4, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S1024 : Shape := ⟨1, ![1024]⟩

abbrev nBuf : Space → Nat
  | .hbm => 49
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x704, .f32⟩
  | .hbm, ⟨8, _⟩ => ⟨S8192x704, .f32⟩
  | .hbm, ⟨9, _⟩ => ⟨S8192x704, .f32⟩
  | .hbm, ⟨10, _⟩ => ⟨S8192x704, .f32⟩
  | .hbm, ⟨11, _⟩ => ⟨S1x8192x704, .f32⟩
  | .hbm, ⟨12, _⟩ => ⟨S1x8192x704, .f32⟩
  | .hbm, ⟨13, _⟩ => ⟨S1x8192x704, .f32⟩
  | .hbm, ⟨14, _⟩ => ⟨S1x8192x704, .f32⟩
  | .hbm, ⟨15, _⟩ => ⟨S4x8192x704, .f32⟩
  | .hbm, ⟨16, _⟩ => ⟨S4x8192x704, .bf16⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S1x1024x704, .f32⟩
  | .hbm, ⟨22, _⟩ => ⟨S1x1024x704, .f32⟩
  | .hbm, ⟨23, _⟩ => ⟨S1x1024x704, .f32⟩
  | .hbm, ⟨24, _⟩ => ⟨S1x1024x704, .f32⟩
  | .hbm, ⟨25, _⟩ => ⟨S4x1024x704, .f32⟩
  | .hbm, ⟨26, _⟩ => ⟨S4x1024x704, .bf16⟩
  | .hbm, ⟨27, _⟩ => ⟨S8192x704, .f32⟩
  | .hbm, ⟨28, _⟩ => ⟨S8192x704, .f32⟩
  | .hbm, ⟨29, _⟩ => ⟨S8192x704, .f32⟩
  | .hbm, ⟨30, _⟩ => ⟨S8192x704, .f32⟩
  | .hbm, ⟨31, _⟩ => ⟨S1x8192x704, .f32⟩
  | .hbm, ⟨32, _⟩ => ⟨S1x8192x704, .f32⟩
  | .hbm, ⟨33, _⟩ => ⟨S1x8192x704, .f32⟩
  | .hbm, ⟨34, _⟩ => ⟨S1x8192x704, .f32⟩
  | .hbm, ⟨35, _⟩ => ⟨S4x8192x704, .f32⟩
  | .hbm, ⟨36, _⟩ => ⟨S4x8192x704, .bf16⟩
  | .hbm, ⟨37, _⟩ => ⟨S1024x704, .f32⟩
  | .hbm, ⟨38, _⟩ => ⟨S1024x704, .f32⟩
  | .hbm, ⟨39, _⟩ => ⟨S1024x704, .f32⟩
  | .hbm, ⟨40, _⟩ => ⟨S1024x704, .f32⟩
  | .hbm, ⟨41, _⟩ => ⟨S1x1024x704, .f32⟩
  | .hbm, ⟨42, _⟩ => ⟨S1x1024x704, .f32⟩
  | .hbm, ⟨43, _⟩ => ⟨S1x1024x704, .f32⟩
  | .hbm, ⟨44, _⟩ => ⟨S1x1024x704, .f32⟩
  | .hbm, ⟨45, _⟩ => ⟨S4x1024x704, .f32⟩
  | .hbm, ⟨46, _⟩ => ⟨S4x1024x704, .bf16⟩
  | .hbm, ⟨47, _⟩ => ⟨S8192x1024, .f32⟩
  | .hbm, ⟨48, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_65 : BitVec 32 := 0#32
  let v79 : BitVec 1 := Scalar.cmpi .ne v78 c0_i32_65
  v79

def k0_cond2 (i : grid0.Coords) : BitVec 1 :=
  let arg0 : BitVec 32 := BitVec.ofNat 32 (i 0).val
  let c0_i32_66 : BitVec 32 := 0#32
  let v80 : BitVec 1 := Scalar.cmpi .sgt arg0 c0_i32_66
  let v81 : BitVec 32 := Scalar.extui v80
  let c0_i32_67 : BitVec 32 := 0#32
  let v82 : BitVec 1 := Scalar.cmpi .ne v81 c0_i32_67
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDhReferenceIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== MmDh.lean ====
abbrev S8192x6656 : Shape := ⟨2, ![8192, 6656]⟩
abbrev S1024x6656 : Shape := ⟨2, ![1024, 6656]⟩
abbrev S8192x1024 : Shape := ⟨2, ![8192, 1024]⟩
abbrev S1x1024 : Shape := ⟨2, ![1, 1024]⟩
abbrev S1024x1664 : Shape := ⟨2, ![1024, 1664]⟩
abbrev S1x1024x1664 : Shape := ⟨3, ![1, 1024, 1664]⟩
abbrev S4x1024x1664 : Shape := ⟨3, ![4, 1024, 1664]⟩
abbrev S256x6656 : Shape := ⟨2, ![256, 6656]⟩
abbrev S256x1024 : Shape := ⟨2, ![256, 1024]⟩
abbrev S256x1664 : Shape := ⟨2, ![256, 1664]⟩
abbrev S256 : Shape := ⟨1, ![256]⟩
abbrev S256x1 : Shape := ⟨2, ![256, 1]⟩
abbrev S1024 : Shape := ⟨1, ![1024]⟩

abbrev nBuf : Space → Nat
  | .hbm => 18
  | .vmem => 11
  | .smem => 0
  | _ => 0

abbrev bufTy : (tb : Table) → Fin (tcTables nBuf tb) → BufTy
  | .hbm, ⟨0, _⟩ => ⟨S8192x6656, .f32⟩
  | .hbm, ⟨1, _⟩ => ⟨S1024x6656, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x6656, .bf16⟩
  | .hbm, ⟨6, _⟩ => ⟨S1024x1664, .f32⟩
  | .hbm, ⟨7, _⟩ => ⟨S1024x1664, .f32⟩
  | .hbm, ⟨8, _⟩ => ⟨S1024x1664, .f32⟩
  | .hbm, ⟨9, _⟩ => ⟨S1024x1664, .f32⟩
  | .hbm, ⟨10, _⟩ => ⟨S1x1024x1664, .f32⟩
  | .hbm, ⟨11, _⟩ => ⟨S1x1024x1664, .f32⟩
  | .hbm, ⟨12, _⟩ => ⟨S1x1024x1664, .f32⟩
  | .hbm, ⟨13, _⟩ => ⟨S1x1024x1664, .f32⟩
  | .hbm, ⟨14, _⟩ => ⟨S4x1024x1664, .f32⟩
  | .hbm, ⟨15, _⟩ => ⟨S4x1024x1664, .bf16⟩
  | .hbm, ⟨16, _⟩ => ⟨S8192x1024, .f32⟩
  | .hbm, ⟨17, _⟩ => ⟨S1x1024, .f32⟩
  | .local _ .vmem, ⟨0, _⟩ => ⟨S256x6656, .bf16⟩
  | .local _ .vmem, ⟨1, _⟩ => ⟨S256x6656, .bf16⟩
  | .local _ .vmem, ⟨2, _⟩ => ⟨S4x1024x1664, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_30 : BitVec 32 := 0#32
  let v55 : BitVec 1 := Scalar.cmpi .ne v54 c0_i32_30
  v55

def k0_cond2 (i : grid0.Coords) : BitVec 1 :=
  let arg0 : BitVec 32 := BitVec.ofNat 32 (i 0).val
  let c0_i32_31 : BitVec 32 := 0#32
  let v56 : BitVec 1 := Scalar.cmpi .sgt arg0 c0_i32_31
  let v57 : BitVec 32 := Scalar.extui v56
  let c0_i32_32 : BitVec 32 := 0#32
  let v58 : BitVec 1 := Scalar.cmpi .ne v57 c0_i32_32
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MmDhReferenceIdeal.lean ====
abbrev S8192x6656 : Shape := ⟨2, ![8192, 6656]⟩
abbrev S1024x6656 : Shape := ⟨2, ![1024, 6656]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x6656, .f32⟩
  | .hbm, ⟨1, _⟩ => ⟨S1024x6656, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6656, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== FlashA.lean ====
abbrev S8192x512 : Shape := ⟨2, ![8192, 512]⟩
abbrev S8192x128 : Shape := ⟨2, ![8192, 128]⟩
abbrev S_ : Shape := ⟨0, ![]⟩
abbrev S8192x1 : Shape := ⟨2, ![8192, 1]⟩
abbrev S8192x63 : Shape := ⟨2, ![8192, 63]⟩
abbrev S8192x64 : Shape := ⟨2, ![8192, 64]⟩
abbrev S1x8192x128 : Shape := ⟨3, ![1, 8192, 128]⟩
abbrev S2x8192x128 : Shape := ⟨3, ![2, 8192, 128]⟩
abbrev S256x256 : Shape := ⟨2, ![256, 256]⟩
abbrev S2x512x128 : Shape := ⟨3, ![2, 512, 128]⟩
abbrev S2x512x1 : Shape := ⟨3, ![2, 512, 1]⟩
abbrev S256x128 : Shape := ⟨2, ![256, 128]⟩
abbrev S512x128 : Shape := ⟨2, ![512, 128]⟩
abbrev S1x512x128 : Shape := ⟨3, ![1, 512, 128]⟩
abbrev S1x4096x128 : Shape := ⟨3, ![1, 4096, 128]⟩
abbrev S4096x128 : Shape := ⟨2, ![4096, 128]⟩
abbrev S512x4096 : Shape := ⟨2, ![512, 4096]⟩
abbrev S1x512x1 : Shape := ⟨3, ![1, 512, 1]⟩
abbrev S512x1 : Shape := ⟨2, ![512, 1]⟩
abbrev S512 : Shape := ⟨1, ![512]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192x1, .f32⟩
  | .hbm, ⟨5, _⟩ => ⟨S_, .f32⟩
  | .hbm, ⟨6, _⟩ => ⟨S8192x63, .f32⟩
  | .hbm, ⟨7, _⟩ => ⟨S8192x64, .f32⟩
  | .hbm, ⟨8, _⟩ => ⟨S8192x64, .f32⟩
  | .hbm, ⟨9, _⟩ => ⟨S8192x64, .f32⟩
  | .hbm, ⟨10, _⟩ => ⟨S8192x128, .f32⟩
  | .hbm, ⟨11, _⟩ => ⟨S1x8192x128, .f32⟩
  | .hbm, ⟨12, _⟩ => ⟨S1x8192x128, .f32⟩
  | .hbm, ⟨13, _⟩ => ⟨S2x8192x128, .f32⟩
  | .hbm, ⟨14, _⟩ => ⟨S8192x64, .f32⟩
  | .hbm, ⟨15, _⟩ => ⟨S8192x128, .f32⟩
  | .hbm, ⟨16, _⟩ => ⟨S8192x64, .f32⟩
  | .hbm, ⟨17, _⟩ => ⟨S8192x128, .f32⟩
  | .hbm, ⟨18, _⟩ => ⟨S1x8192x128, .f32⟩
  | .hbm, ⟨19, _⟩ => ⟨S1x8192x128, .f32⟩
  | .hbm, ⟨20, _⟩ => ⟨S2x8192x128, .f32⟩
  | .hbm, ⟨21, _⟩ => ⟨S2x8192x128, .bf16⟩
  | .hbm, ⟨22, _⟩ => ⟨S2x8192x128, .bf16⟩
  | .hbm, ⟨23, _⟩ => ⟨S8192x512, .bf16⟩
  | .hbm, ⟨24, _⟩ => ⟨S8192x512, .bf16⟩
  | .hbm, ⟨25, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S2x512x128, .bf16⟩
  | .local _ .vmem, ⟨11, _⟩ => ⟨S2x512x1, .f32⟩
  | .local _ .vmem, ⟨12, _⟩ => ⟨S2x512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c2_i32 : BitVec 32 := 2#32
  let v39 : BitVec 32 := Scalar.addi c0_i32 c2_i32
  let c1_i32 : BitVec 32 := 1#32
  ⟨c0_i32, v39, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4096_i32 : BitVec 32 := 4096#32
  let v98 : BitVec 32 := Scalar.muli arg10 c4096_i32
  v98
def k0_off1 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c4096_i32 : BitVec 32 := 4096#32
  let v98 : BitVec 32 := Scalar.muli arg10 c4096_i32
  let v99 : BitVec 32 := v98
  let v100 : Index := Scalar.indexCast v99
  let c0_50 : Index := 0#32
  ![0, v100.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashAReferenceIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x2x4 : Shape := ⟨3, ![8192, 2, 4]⟩
abbrev S8192x2x4x1 : Shape := ⟨4, ![8192, 2, 4, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x2x4x64, .f32⟩
  | .hbm, ⟨4, _⟩ => ⟨S8192x2x64, .f32⟩
  | .hbm, ⟨5, _⟩ => ⟨S8192x2x64, .f32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192x8192, .f32⟩
  | .hbm, ⟨10, _⟩ => ⟨S2x4x8192x8192, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x8192x8192, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x8192, .f32⟩
  | .hbm, ⟨24, _⟩ => ⟨S2x4x8192x8192, .f32⟩
  | .hbm, ⟨25, _⟩ => ⟨S2x64x4x8192, .f32⟩
  | .hbm, ⟨26, _⟩ => ⟨S8192x2x4x64, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192, .f32⟩
  | .hbm, ⟨31, _⟩ => ⟨S8192x2x4, .f32⟩
  | .hbm, ⟨32, _⟩ => ⟨S8192x2x4x1, .f32⟩
  | .hbm, ⟨33, _⟩ => ⟨S8192x2x4x64, .f32⟩
  | .hbm, ⟨34, _⟩ => ⟨S8192x512, .f32⟩
  | .hbm, ⟨35, _⟩ => ⟨S8192x512, .bf16⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== FlashABwd.lean ====
abbrev S8192x512 : Shape := ⟨2, ![8192, 512]⟩
abbrev S8192x128 : Shape := ⟨2, ![8192, 128]⟩
abbrev S_ : Shape := ⟨0, ![]⟩
abbrev S8192x1 : Shape := ⟨2, ![8192, 1]⟩
abbrev S8192x63 : Shape := ⟨2, ![8192, 63]⟩
abbrev S8192x64 : Shape := ⟨2, ![8192, 64]⟩
abbrev S1x8192x128 : Shape := ⟨3, ![1, 8192, 128]⟩
abbrev S2x8192x128 : Shape := ⟨3, ![2, 8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x2x4 : Shape := ⟨3, ![8192, 2, 4]⟩
abbrev S8192x2x4x1 : Shape := ⟨4, ![8192, 2, 4, 1]⟩
abbrev S256x256 : Shape := ⟨2, ![256, 256]⟩
abbrev S512x128 : Shape := ⟨2, ![512, 128]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S1x2048x128 : Shape := ⟨3, ![1, 2048, 128]⟩
abbrev S2048x128 : Shape := ⟨2, ![2048, 128]⟩
abbrev S512x2048 : Shape := ⟨2, ![512, 2048]⟩

abbrev nBuf : Space → Nat
  | .hbm => 62
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S_, .f32⟩
  | .hbm, ⟨5, _⟩ => ⟨S8192x1, .f32⟩
  | .hbm, ⟨6, _⟩ => ⟨S_, .f32⟩
  | .hbm, ⟨7, _⟩ => ⟨S8192x63, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S8192x128, .f32⟩
  | .hbm, ⟨12, _⟩ => ⟨S1x8192x128, .f32⟩
  | .hbm, ⟨13, _⟩ => ⟨S1x8192x128, .f32⟩
  | .hbm, ⟨14, _⟩ => ⟨S2x8192x128, .f32⟩
  | .hbm, ⟨15, _⟩ => ⟨S8192x64, .f32⟩
  | .hbm, ⟨16, _⟩ => ⟨S8192x128, .f32⟩
  | .hbm, ⟨17, _⟩ => ⟨S8192x64, .f32⟩
  | .hbm, ⟨18, _⟩ => ⟨S8192x128, .f32⟩
  | .hbm, ⟨19, _⟩ => ⟨S1x8192x128, .f32⟩
  | .hbm, ⟨20, _⟩ => ⟨S1x8192x128, .f32⟩
  | .hbm, ⟨21, _⟩ => ⟨S2x8192x128, .f32⟩
  | .hbm, ⟨22, _⟩ => ⟨S2x8192x128, .bf16⟩
  | .hbm, ⟨23, _⟩ => ⟨S2x8192x128, .bf16⟩
  | .hbm, ⟨24, _⟩ => ⟨S8192x2x4x64, .f32⟩
  | .hbm, ⟨25, _⟩ => ⟨S8192x2x64, .f32⟩
  | .hbm, ⟨26, _⟩ => ⟨S8192x2x64, .f32⟩
  | .hbm, ⟨27, _⟩ => ⟨S2x8192x8192x4, .f32⟩
  | .hbm, ⟨28, _⟩ => ⟨S2x4x8192x8192, .f32⟩
  | .hbm, ⟨29, _⟩ => ⟨S_, .f32⟩
  | .hbm, ⟨30, _⟩ => ⟨S2x4x8192x8192, .f32⟩
  | .hbm, ⟨31, _⟩ => ⟨S2x4x8192x8192, .f32⟩
  | .hbm, ⟨32, _⟩ => ⟨S_, .f32⟩
  | .hbm, ⟨33, _⟩ => ⟨S2x4x8192, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x64x4x8192, .f32⟩
  | .hbm, ⟨47, _⟩ => ⟨S8192x2x4x64, .f32⟩
  | .hbm, ⟨48, _⟩ => ⟨S2x4x8192x8192, .f32⟩
  | .hbm, ⟨49, _⟩ => ⟨S_, .f32⟩
  | .hbm, ⟨50, _⟩ => ⟨S2x4x8192, .f32⟩
  | .hbm, ⟨51, _⟩ => ⟨S2x4x8192, .f32⟩
  | .hbm, ⟨52, _⟩ => ⟨S8192x2x4, .f32⟩
  | .hbm, ⟨53, _⟩ => ⟨S8192x2x4x1, .f32⟩
  | .hbm, ⟨54, _⟩ => ⟨S8192x2x4x64, .f32⟩
  | .hbm, ⟨55, _⟩ => ⟨S8192x512, .f32⟩
  | .hbm, ⟨56, _⟩ => ⟨S8192x512, .bf16⟩
  | .hbm, ⟨57, _⟩ => ⟨S8192x512, .f32⟩
  | .hbm, ⟨58, _⟩ => ⟨S8192x512, .bf16⟩
  | .hbm, ⟨59, _⟩ => ⟨S8192x512, .f32⟩
  | .hbm, ⟨60, _⟩ => ⟨S2x8192x128, .f32⟩
  | .hbm, ⟨61, _⟩ => ⟨S2x8192x128, .f32⟩
  | .local _ .vmem, ⟨0, _⟩ => ⟨S256x256, .bf16⟩
  | .local _ .vmem, ⟨1, _⟩ => ⟨S256x256, .bf16⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S256x256, .f32⟩
  | .local _ .vmem, ⟨13, _⟩ => ⟨S256x256, .f32⟩
  | .local _ .vmem, ⟨14, _⟩ => ⟨S1x8192x128, .f32⟩
  | .local _ .vmem, ⟨15, _⟩ => ⟨S1x8192x128, .f32⟩
  | .local _ .vmem, ⟨16, _⟩ => ⟨S1x8192x128, .f32⟩
  | .local _ .vmem, ⟨17, _⟩ => ⟨S1x8192x128, .f32⟩
  | .local _ .vmem, ⟨18, _⟩ => ⟨S512x128, .bf16⟩
  | .local _ .vmem, ⟨19, _⟩ => ⟨S512x128, .bf16⟩
  | .local _ .vmem, ⟨20, _⟩ => ⟨S512x1, .f32⟩
  | .local _ .vmem, ⟨21, _⟩ => ⟨S512x1, .f32⟩
  | .local _ .vmem, ⟨22, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_34 : BitVec 32 := 0#32
  let c4_i32 : BitVec 32 := 4#32
  let v70 : BitVec 32 := Scalar.addi c0_i32_34 c4_i32
  let c1_i32 : BitVec 32 := 1#32
  ⟨c0_i32_34, v70, c1_i32⟩
def k0_mult1 (k0_t1 : Fin k0_t1_loop.trips) : BitVec 32 :=
  let c0_i32_34 : BitVec 32 := 0#32
  let c1_i32 : BitVec 32 := 1#32
  let arg16 : BitVec 32 := Scf.iv c0_i32_34 c1_i32 k0_t1
  let c2048_i32 : BitVec 32 := 2048#32
  let v152 : BitVec 32 := Scalar.muli arg16 c2048_i32
  v152
def k0_off1 (k0_t1 : Fin k0_t1_loop.trips) : Fin 3 → Nat :=
  let c0_86 : Index := 0#32
  let c0_i32_34 : BitVec 32 := 0#32
  let c1_i32 : BitVec 32 := 1#32
  let arg16 : BitVec 32 := Scf.iv c0_i32_34 c1_i32 k0_t1
  let c2048_i32 : BitVec 32 := 2048#32
  let v152 : BitVec 32 := Scalar.muli arg16 c2048_i32
  let v153 : BitVec 32 := v152
  let v154 : Index := Scalar.indexCast v153
  let c0_87 : Index := 0#32
  ![0, v154.toNat, 0]
@[reducible] def k0_t2_loop : Scf.Loop 32 :=
  let c0_i32_76 : BitVec 32 := 0#32
  let c4_i32_77 : BitVec 32 := 4#32
  let v143 : BitVec 32 := Scalar.addi c0_i32_76 c4_i32_77
  let c1_i32_78 : BitVec 32 := 1#32
  ⟨c0_i32_76, v143, c1_i32_78⟩
def k0_mult2 (k0_t2 : Fin k0_t2_loop.trips) : BitVec 32 :=
  let c0_i32_76 : BitVec 32 := 0#32
  let c1_i32_78 : BitVec 32 := 1#32
  let arg16 : BitVec 32 := Scf.iv c0_i32_76 c1_i32_78 k0_t2
  let c2048_i32 : BitVec 32 := 2048#32
  let v152 : BitVec 32 := Scalar.muli arg16 c2048_i32
  v152
def k0_off2 (k0_t2 : Fin k0_t2_loop.trips) : Fin 3 → Nat :=
  let c0_86 : Index := 0#32
  let c0_i32_76 : BitVec 32 := 0#32
  let c1_i32_78 : BitVec 32 := 1#32
  let arg16 : BitVec 32 := Scf.iv c0_i32_76 c1_i32_78 k0_t2
  let c2048_i32 : BitVec 32 := 2048#32
  let v152 : BitVec 32 := Scalar.muli arg16 c2048_i32
  let v153 : BitVec 32 := v152
  let v154 : Index := Scalar.indexCast v153
  let c0_87 : Index := 0#32
  ![0, v154.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FlashABwdReferenceIdeal.lean ====
abbrev S8192x512 : Shape := ⟨2, ![8192, 512]⟩
abbrev S8192x128 : Shape := ⟨2, ![8192, 128]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩
abbrev S2x8192x128 : Shape := ⟨3, ![2, 8192, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x2x4x64, .f32⟩
  | .hbm, ⟨5, _⟩ => ⟨S8192x2x64, .f32⟩
  | .hbm, ⟨6, _⟩ => ⟨S8192x2x64, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192x8192, .f32⟩
  | .hbm, ⟨11, _⟩ => ⟨S2x4x8192x8192, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .i1⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x64x4x8192, .f32⟩
  | .hbm, ⟨51, _⟩ => ⟨S8192x2x4x64, .f32⟩
  | .hbm, ⟨52, _⟩ => ⟨S2x4x8192x8192, .f32⟩
  | .hbm, ⟨53, _⟩ => ⟨S_, .f32⟩
  | .hbm, ⟨54, _⟩ => ⟨S2x4x8192, .f32⟩
  | .hbm, ⟨55, _⟩ => ⟨S2x4x8192, .f32⟩
  | .hbm, ⟨56, _⟩ => ⟨S8192x2x4x64, .f32⟩
  | .hbm, ⟨57, _⟩ => ⟨S2x64x4x8192, .f32⟩
  | .hbm, ⟨58, _⟩ => ⟨S2x4x8192x8192, .f32⟩
  | .hbm, ⟨59, _⟩ => ⟨S2x64x8192, .f32⟩
  | .hbm, ⟨60, _⟩ => ⟨S8192x2x64, .f32⟩
  | .hbm, ⟨61, _⟩ => ⟨S2x4x8192x8192, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192, .f32⟩
  | .hbm, ⟨66, _⟩ => ⟨S2x4x8192x1, .f32⟩
  | .hbm, ⟨67, _⟩ => ⟨S2x4x8192x1, .f32⟩
  | .hbm, ⟨68, _⟩ => ⟨S2x4x8192x8192, .f32⟩
  | .hbm, ⟨69, _⟩ => ⟨S2x4x8192x8192, .f32⟩
  | .hbm, ⟨70, _⟩ => ⟨S_, .f32⟩
  | .hbm, ⟨71, _⟩ => ⟨S2x4x8192, .f32⟩
  | .hbm, ⟨72, _⟩ => ⟨S2x4x8192x8192, .f32⟩
  | .hbm, ⟨73, _⟩ => ⟨S2x4x8192x8192, .f32⟩
  | .hbm, ⟨74, _⟩ => ⟨S2x4x8192x8192, .f32⟩
  | .hbm, ⟨75, _⟩ => ⟨S_, .f32⟩
  | .hbm, ⟨76, _⟩ => ⟨S2x4x8192x8192, .f32⟩
  | .hbm, ⟨77, _⟩ => ⟨S2x4x8192x8192, .f32⟩
  | .hbm, ⟨78, _⟩ => ⟨S2x8192x8192x4, .f32⟩
  | .hbm, ⟨79, _⟩ => ⟨S2x8192x4x64, .f32⟩
  | .hbm, ⟨80, _⟩ => ⟨S8192x2x4x64, .f32⟩
  | .hbm, ⟨81, _⟩ => ⟨S2x8192x64, .f32⟩
  | .hbm, ⟨82, _⟩ => ⟨S8192x2x64, .f32⟩
  | .hbm, ⟨83, _⟩ => ⟨S8192x512, .f32⟩
  | .hbm, ⟨84, _⟩ => ⟨S2x8192x64, .f32⟩
  | .hbm, ⟨85, _⟩ => ⟨S_, .i32⟩
  | .hbm, ⟨86, _⟩ => ⟨S_, .f32⟩
  | .hbm, ⟨87, _⟩ => ⟨S2x8192x128, .f32⟩
  | .hbm, ⟨88, _⟩ => ⟨S2x8192x64, .f32⟩
  | .hbm, ⟨89, _⟩ => ⟨S_, .i32⟩
  | .hbm, ⟨90, _⟩ => ⟨S_, .f32⟩
  | .hbm, ⟨91, _⟩ => ⟨S2x8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c : Ref sig .tc := ⟨.hbm, 85, rfl⟩
abbrev main_call0_v0 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_call1_v0 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== AdIn.lean ====
abbrev S4x1024x1664 : Shape := ⟨3, ![4, 1024, 1664]⟩
abbrev S1x64x1664 : Shape := ⟨3, ![1, 64, 1664]⟩
abbrev S64x1664 : Shape := ⟨2, ![64, 1664]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1664, .f32⟩
  | .hbm, ⟨1, _⟩ => ⟨S4x1024x1664, .f32⟩
  | .hbm, ⟨2, _⟩ => ⟨S4x1024x1664, .f32⟩
  | .hbm, ⟨3, _⟩ => ⟨S4x1024x1664, .f32⟩
  | .hbm, ⟨4, _⟩ => ⟨S4x1024x1664, .f32⟩
  | .hbm, ⟨5, _⟩ => ⟨S4x1024x1664, .f32⟩
  | .hbm, ⟨6, _⟩ => ⟨S4x1024x1664, .f32⟩
  | .hbm, ⟨7, _⟩ => ⟨S4x1024x1664, .f32⟩
  | .hbm, ⟨8, _⟩ => ⟨S4x1024x1664, .f32⟩
  | .local _ .vmem, ⟨0, _⟩ => ⟨S1x64x1664, .f32⟩
  | .local _ .vmem, ⟨1, _⟩ => ⟨S1x64x1664, .f32⟩
  | .local _ .vmem, ⟨2, _⟩ => ⟨S1x64x1664, .f32⟩
  | .local _ .vmem, ⟨3, _⟩ => ⟨S1x64x1664, .f32⟩
  | .local _ .vmem, ⟨4, _⟩ => ⟨S1x64x1664, .f32⟩
  | .local _ .vmem, ⟨5, _⟩ => ⟨S1x64x1664, .f32⟩
  | .local _ .vmem, ⟨6, _⟩ => ⟨S1x64x1664, .f32⟩
  | .local _ .vmem, ⟨7, _⟩ => ⟨S1x64x1664, .f32⟩
  | .local _ .vmem, ⟨8, _⟩ => ⟨S1x64x1664, .f32⟩
  | .local _ .vmem, ⟨9, _⟩ => ⟨S1x64x1664, .f32⟩
  | .local _ .vmem, ⟨10, _⟩ => ⟨S1x64x1664, .f32⟩
  | .local _ .vmem, ⟨11, _⟩ => ⟨S1x64x1664, .f32⟩
  | .local _ .vmem, ⟨12, _⟩ => ⟨S1x64x1664, .f32⟩
  | .local _ .vmem, ⟨13, _⟩ => ⟨S1x64x1664, .f32⟩
  | .local _ .vmem, ⟨14, _⟩ => ⟨S1x64x1664, .f32⟩
  | .local _ .vmem, ⟨15, _⟩ => ⟨S1x64x1664, .f32⟩
  | .local _ .vmem, ⟨16, _⟩ => ⟨S1x64x1664, .f32⟩
  | .local _ .vmem, ⟨17, _⟩ => ⟨S1x64x1664, .f32⟩
  | _, _ => ⟨S4x1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdInIdeal.lean ====
abbrev S4x1024x1664 : Shape := ⟨3, ![4, 1024, 1664]⟩
abbrev S1x64x1664 : Shape := ⟨3, ![1, 64, 1664]⟩
abbrev S64x1664 : Shape := ⟨2, ![64, 1664]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1664, .f32⟩
  | .hbm, ⟨1, _⟩ => ⟨S4x1024x1664, .f32⟩
  | .hbm, ⟨2, _⟩ => ⟨S4x1024x1664, .f32⟩
  | .hbm, ⟨3, _⟩ => ⟨S4x1024x1664, .f32⟩
  | .hbm, ⟨4, _⟩ => ⟨S4x1024x1664, .f32⟩
  | .hbm, ⟨5, _⟩ => ⟨S4x1024x1664, .f32⟩
  | .hbm, ⟨6, _⟩ => ⟨S4x1024x1664, .f32⟩
  | .hbm, ⟨7, _⟩ => ⟨S4x1024x1664, .f32⟩
  | .hbm, ⟨8, _⟩ => ⟨S4x1024x1664, .f32⟩
  | .local _ .vmem, ⟨0, _⟩ => ⟨S1x64x1664, .f32⟩
  | .local _ .vmem, ⟨1, _⟩ => ⟨S1x64x1664, .f32⟩
  | .local _ .vmem, ⟨2, _⟩ => ⟨S1x64x1664, .f32⟩
  | .local _ .vmem, ⟨3, _⟩ => ⟨S1x64x1664, .f32⟩
  | .local _ .vmem, ⟨4, _⟩ => ⟨S1x64x1664, .f32⟩
  | .local _ .vmem, ⟨5, _⟩ => ⟨S1x64x1664, .f32⟩
  | .local _ .vmem, ⟨6, _⟩ => ⟨S1x64x1664, .f32⟩
  | .local _ .vmem, ⟨7, _⟩ => ⟨S1x64x1664, .f32⟩
  | .local _ .vmem, ⟨8, _⟩ => ⟨S1x64x1664, .f32⟩
  | .local _ .vmem, ⟨9, _⟩ => ⟨S1x64x1664, .f32⟩
  | .local _ .vmem, ⟨10, _⟩ => ⟨S1x64x1664, .f32⟩
  | .local _ .vmem, ⟨11, _⟩ => ⟨S1x64x1664, .f32⟩
  | .local _ .vmem, ⟨12, _⟩ => ⟨S1x64x1664, .f32⟩
  | .local _ .vmem, ⟨13, _⟩ => ⟨S1x64x1664, .f32⟩
  | .local _ .vmem, ⟨14, _⟩ => ⟨S1x64x1664, .f32⟩
  | .local _ .vmem, ⟨15, _⟩ => ⟨S1x64x1664, .f32⟩
  | .local _ .vmem, ⟨16, _⟩ => ⟨S1x64x1664, .f32⟩
  | .local _ .vmem, ⟨17, _⟩ => ⟨S1x64x1664, .f32⟩
  | _, _ => ⟨S4x1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdInReferenceIdeal.lean ====
abbrev S4x1024x1664 : Shape := ⟨3, ![4, 1024, 1664]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1664, .f32⟩
  | .hbm, ⟨1, _⟩ => ⟨S4x1024x1664, .f32⟩
  | .hbm, ⟨2, _⟩ => ⟨S4x1024x1664, .f32⟩
  | .hbm, ⟨3, _⟩ => ⟨S4x1024x1664, .f32⟩
  | .hbm, ⟨4, _⟩ => ⟨S4x1024x1664, .f32⟩
  | .hbm, ⟨5, _⟩ => ⟨S4x1024x1664, .f32⟩
  | .hbm, ⟨6, _⟩ => ⟨S_, .f32⟩
  | .hbm, ⟨7, _⟩ => ⟨S4x1024x1664, .f32⟩
  | .hbm, ⟨8, _⟩ => ⟨S4x1024x1664, .f32⟩
  | .hbm, ⟨9, _⟩ => ⟨S_, .f32⟩
  | .hbm, ⟨10, _⟩ => ⟨S4x1024x1664, .f32⟩
  | .hbm, ⟨11, _⟩ => ⟨S4x1024x1664, .f32⟩
  | .hbm, ⟨12, _⟩ => ⟨S4x1024x1664, .f32⟩
  | .hbm, ⟨13, _⟩ => ⟨S_, .f32⟩
  | .hbm, ⟨14, _⟩ => ⟨S4x1024x1664, .f32⟩
  | .hbm, ⟨15, _⟩ => ⟨S4x1024x1664, .f32⟩
  | .hbm, ⟨16, _⟩ => ⟨S4x1024x1664, .f32⟩
  | .hbm, ⟨17, _⟩ => ⟨S_, .f32⟩
  | .hbm, ⟨18, _⟩ => ⟨S4x1024x1664, .f32⟩
  | .hbm, ⟨19, _⟩ => ⟨S4x1024x1664, .f32⟩
  | .hbm, ⟨20, _⟩ => ⟨S4x1024x1664, .f32⟩
  | .hbm, ⟨21, _⟩ => ⟨S_, .f32⟩
  | .hbm, ⟨22, _⟩ => ⟨S4x1024x1664, .f32⟩
  | .hbm, ⟨23, _⟩ => ⟨S4x1024x1664, .f32⟩
  | .hbm, ⟨24, _⟩ => ⟨S_, .f32⟩
  | .hbm, ⟨25, _⟩ => ⟨S4x1024x1664, .f32⟩
  | .hbm, ⟨26, _⟩ => ⟨S4x1024x1664, .f32⟩
  | .hbm, ⟨27, _⟩ => ⟨S4x1024x1664, .f32⟩
  | .hbm, ⟨28, _⟩ => ⟨S_, .f32⟩
  | .hbm, ⟨29, _⟩ => ⟨S4x1024x1664, .f32⟩
  | .hbm, ⟨30, _⟩ => ⟨S4x1024x1664, .f32⟩
  | .hbm, ⟨31, _⟩ => ⟨S4x1024x1664, .f32⟩
  | .hbm, ⟨32, _⟩ => ⟨S_, .f32⟩
  | .hbm, ⟨33, _⟩ => ⟨S4x1024x1664, .f32⟩
  | .hbm, ⟨34, _⟩ => ⟨S4x1024x1664, .f32⟩
  | .hbm, ⟨35, _⟩ => ⟨S4x1024x1664, .f32⟩
  | .hbm, ⟨36, _⟩ => ⟨S_, .f32⟩
  | .hbm, ⟨37, _⟩ => ⟨S4x1024x1664, .f32⟩
  | .hbm, ⟨38, _⟩ => ⟨S4x1024x1664, .f32⟩
  | _, _ => ⟨S4x1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdBrA.lean ====
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdBrAIdeal.lean ====
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdBrAReferenceIdeal.lean ====
abbrev S4x512x256 : Shape := ⟨3, ![4, 512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S_, .f32⟩
  | .hbm, ⟨7, _⟩ => ⟨S4x512x256, .f32⟩
  | .hbm, ⟨8, _⟩ => ⟨S4x512x256, .f32⟩
  | .hbm, ⟨9, _⟩ => ⟨S_, .f32⟩
  | .hbm, ⟨10, _⟩ => ⟨S4x512x256, .f32⟩
  | .hbm, ⟨11, _⟩ => ⟨S4x512x256, .f32⟩
  | .hbm, ⟨12, _⟩ => ⟨S4x512x256, .f32⟩
  | .hbm, ⟨13, _⟩ => ⟨S_, .f32⟩
  | .hbm, ⟨14, _⟩ => ⟨S4x512x256, .f32⟩
  | .hbm, ⟨15, _⟩ => ⟨S4x512x256, .f32⟩
  | .hbm, ⟨16, _⟩ => ⟨S4x512x256, .f32⟩
  | .hbm, ⟨17, _⟩ => ⟨S_, .f32⟩
  | .hbm, ⟨18, _⟩ => ⟨S4x512x256, .f32⟩
  | .hbm, ⟨19, _⟩ => ⟨S4x512x256, .f32⟩
  | .hbm, ⟨20, _⟩ => ⟨S4x512x256, .f32⟩
  | .hbm, ⟨21, _⟩ => ⟨S_, .f32⟩
  | .hbm, ⟨22, _⟩ => ⟨S4x512x256, .f32⟩
  | .hbm, ⟨23, _⟩ => ⟨S4x512x256, .f32⟩
  | .hbm, ⟨24, _⟩ => ⟨S_, .f32⟩
  | .hbm, ⟨25, _⟩ => ⟨S4x512x256, .f32⟩
  | .hbm, ⟨26, _⟩ => ⟨S4x512x256, .f32⟩
  | .hbm, ⟨27, _⟩ => ⟨S4x512x256, .f32⟩
  | .hbm, ⟨28, _⟩ => ⟨S_, .f32⟩
  | .hbm, ⟨29, _⟩ => ⟨S4x512x256, .f32⟩
  | .hbm, ⟨30, _⟩ => ⟨S4x512x256, .f32⟩
  | .hbm, ⟨31, _⟩ => ⟨S4x512x256, .f32⟩
  | .hbm, ⟨32, _⟩ => ⟨S_, .f32⟩
  | .hbm, ⟨33, _⟩ => ⟨S4x512x256, .f32⟩
  | .hbm, ⟨34, _⟩ => ⟨S4x512x256, .f32⟩
  | .hbm, ⟨35, _⟩ => ⟨S4x512x256, .f32⟩
  | .hbm, ⟨36, _⟩ => ⟨S_, .f32⟩
  | .hbm, ⟨37, _⟩ => ⟨S4x512x256, .f32⟩
  | .hbm, ⟨38, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdBrB.lean ====
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdBrBIdeal.lean ====
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdBrBReferenceIdeal.lean ====
abbrev S4x256x256 : Shape := ⟨3, ![4, 256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S_, .f32⟩
  | .hbm, ⟨7, _⟩ => ⟨S4x256x256, .f32⟩
  | .hbm, ⟨8, _⟩ => ⟨S4x256x256, .f32⟩
  | .hbm, ⟨9, _⟩ => ⟨S_, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S_, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S_, .f32⟩
  | .hbm, ⟨18, _⟩ => ⟨S4x256x256, .f32⟩
  | .hbm, ⟨19, _⟩ => ⟨S4x256x256, .f32⟩
  | .hbm, ⟨20, _⟩ => ⟨S4x256x256, .f32⟩
  | .hbm, ⟨21, _⟩ => ⟨S_, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S_, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S_, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S_, .f32⟩
  | .hbm, ⟨37, _⟩ => ⟨S4x256x256, .f32⟩
  | .hbm, ⟨38, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdOut.lean ====
abbrev S4x256x1024 : Shape := ⟨3, ![4, 256, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdOutIdeal.lean ====
abbrev S4x256x1024 : Shape := ⟨3, ![4, 256, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdOutReferenceIdeal.lean ====
abbrev S4x256x1024 : Shape := ⟨3, ![4, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S_, .f32⟩
  | .hbm, ⟨7, _⟩ => ⟨S4x256x1024, .f32⟩
  | .hbm, ⟨8, _⟩ => ⟨S4x256x1024, .f32⟩
  | .hbm, ⟨9, _⟩ => ⟨S_, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S_, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S_, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1024, .f32⟩
  | .hbm, ⟨38, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdGate.lean ====
abbrev S4x1024x704 : Shape := ⟨3, ![4, 1024, 704]⟩
abbrev S1x128x704 : Shape := ⟨3, ![1, 128, 704]⟩
abbrev S128x704 : Shape := ⟨2, ![128, 704]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S4x1024x704, .f32⟩
  | .local _ .vmem, ⟨0, _⟩ => ⟨S1x128x704, .f32⟩
  | .local _ .vmem, ⟨1, _⟩ => ⟨S1x128x704, .f32⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdGateIdeal.lean ====
abbrev S4x1024x704 : Shape := ⟨3, ![4, 1024, 704]⟩
abbrev S1x128x704 : Shape := ⟨3, ![1, 128, 704]⟩
abbrev S128x704 : Shape := ⟨2, ![128, 704]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .hbm, ⟨8, _⟩ => ⟨S4x1024x704, .f32⟩
  | .local _ .vmem, ⟨0, _⟩ => ⟨S1x128x704, .f32⟩
  | .local _ .vmem, ⟨1, _⟩ => ⟨S1x128x704, .f32⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdGateReferenceIdeal.lean ====
abbrev S4x1024x704 : Shape := ⟨3, ![4, 1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S_, .f32⟩
  | .hbm, ⟨7, _⟩ => ⟨S4x1024x704, .f32⟩
  | .hbm, ⟨8, _⟩ => ⟨S4x1024x704, .f32⟩
  | .hbm, ⟨9, _⟩ => ⟨S_, .f32⟩
  | .hbm, ⟨10, _⟩ => ⟨S4x1024x704, .f32⟩
  | .hbm, ⟨11, _⟩ => ⟨S4x1024x704, .f32⟩
  | .hbm, ⟨12, _⟩ => ⟨S4x1024x704, .f32⟩
  | .hbm, ⟨13, _⟩ => ⟨S_, .f32⟩
  | .hbm, ⟨14, _⟩ => ⟨S4x1024x704, .f32⟩
  | .hbm, ⟨15, _⟩ => ⟨S4x1024x704, .f32⟩
  | .hbm, ⟨16, _⟩ => ⟨S4x1024x704, .f32⟩
  | .hbm, ⟨17, _⟩ => ⟨S_, .f32⟩
  | .hbm, ⟨18, _⟩ => ⟨S4x1024x704, .f32⟩
  | .hbm, ⟨19, _⟩ => ⟨S4x1024x704, .f32⟩
  | .hbm, ⟨20, _⟩ => ⟨S4x1024x704, .f32⟩
  | .hbm, ⟨21, _⟩ => ⟨S_, .f32⟩
  | .hbm, ⟨22, _⟩ => ⟨S4x1024x704, .f32⟩
  | .hbm, ⟨23, _⟩ => ⟨S4x1024x704, .f32⟩
  | .hbm, ⟨24, _⟩ => ⟨S_, .f32⟩
  | .hbm, ⟨25, _⟩ => ⟨S4x1024x704, .f32⟩
  | .hbm, ⟨26, _⟩ => ⟨S4x1024x704, .f32⟩
  | .hbm, ⟨27, _⟩ => ⟨S4x1024x704, .f32⟩
  | .hbm, ⟨28, _⟩ => ⟨S_, .f32⟩
  | .hbm, ⟨29, _⟩ => ⟨S4x1024x704, .f32⟩
  | .hbm, ⟨30, _⟩ => ⟨S4x1024x704, .f32⟩
  | .hbm, ⟨31, _⟩ => ⟨S4x1024x704, .f32⟩
  | .hbm, ⟨32, _⟩ => ⟨S_, .f32⟩
  | .hbm, ⟨33, _⟩ => ⟨S4x1024x704, .f32⟩
  | .hbm, ⟨34, _⟩ => ⟨S4x1024x704, .f32⟩
  | .hbm, ⟨35, _⟩ => ⟨S4x1024x704, .f32⟩
  | .hbm, ⟨36, _⟩ => ⟨S_, .f32⟩
  | .hbm, ⟨37, _⟩ => ⟨S4x1024x704, .f32⟩
  | .hbm, ⟨38, _⟩ => ⟨S4x1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdDown.lean ====
abbrev S4x704x1024 : Shape := ⟨3, ![4, 704, 1024]⟩
abbrev S1x64x1024 : Shape := ⟨3, ![1, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdDownReferenceIdeal.lean ====
abbrev S4x704x1024 : Shape := ⟨3, ![4, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S_, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S_, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S_, .f32⟩
  | .hbm, ⟨22, _⟩ => ⟨S4x704x1024, .f32⟩
  | .hbm, ⟨23, _⟩ => ⟨S4x704x1024, .f32⟩
  | .hbm, ⟨24, _⟩ => ⟨S_, .f32⟩
  | .hbm, ⟨25, _⟩ => ⟨S4x704x1024, .f32⟩
  | .hbm, ⟨26, _⟩ => ⟨S4x704x1024, .f32⟩
  | .hbm, ⟨27, _⟩ => ⟨S4x704x1024, .f32⟩
  | .hbm, ⟨28, _⟩ => ⟨S_, .f32⟩
  | .hbm, ⟨29, _⟩ => ⟨S4x704x1024, .f32⟩
  | .hbm, ⟨30, _⟩ => ⟨S4x704x1024, .f32⟩
  | .hbm, ⟨31, _⟩ => ⟨S4x704x1024, .f32⟩
  | .hbm, ⟨32, _⟩ => ⟨S_, .f32⟩
  | .hbm, ⟨33, _⟩ => ⟨S4x704x1024, .f32⟩
  | .hbm, ⟨34, _⟩ => ⟨S4x704x1024, .f32⟩
  | .hbm, ⟨35, _⟩ => ⟨S4x704x1024, .f32⟩
  | .hbm, ⟨36, _⟩ => ⟨S_, .f32⟩
  | .hbm, ⟨37, _⟩ => ⟨S4x704x1024, .f32⟩
  | .hbm, ⟨38, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdSmall.lean ====
abbrev S8x2232x128 : Shape := ⟨3, ![8, 2232, 128]⟩
abbrev S2232x128 : Shape := ⟨2, ![2232, 128]⟩
abbrev S1x744x128 : Shape := ⟨3, ![1, 744, 128]⟩
abbrev S744x128 : Shape := ⟨2, ![744, 128]⟩

abbrev nBuf : Space → Nat
  | .hbm => 8
  | .vmem => 30
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S2232x128, .f32⟩
  | .hbm, ⟨5, _⟩ => ⟨S2232x128, .f32⟩
  | .hbm, ⟨6, _⟩ => ⟨S2232x128, .f32⟩
  | .hbm, ⟨7, _⟩ => ⟨S2232x128, .f32⟩
  | .local _ .vmem, ⟨0, _⟩ => ⟨S1x744x128, .f32⟩
  | .local _ .vmem, ⟨1, _⟩ => ⟨S1x744x128, .f32⟩
  | .local _ .vmem, ⟨2, _⟩ => ⟨S1x744x128, .f32⟩
  | .local _ .vmem, ⟨3, _⟩ => ⟨S1x744x128, .f32⟩
  | .local _ .vmem, ⟨4, _⟩ => ⟨S1x744x128, .f32⟩
  | .local _ .vmem, ⟨5, _⟩ => ⟨S1x744x128, .f32⟩
  | .local _ .vmem, ⟨6, _⟩ => ⟨S1x744x128, .f32⟩
  | .local _ .vmem, ⟨7, _⟩ => ⟨S1x744x128, .f32⟩
  | .local _ .vmem, ⟨8, _⟩ => ⟨S1x744x128, .f32⟩
  | .local _ .vmem, ⟨9, _⟩ => ⟨S1x744x128, .f32⟩
  | .local _ .vmem, ⟨10, _⟩ => ⟨S1x744x128, .f32⟩
  | .local _ .vmem, ⟨11, _⟩ => ⟨S1x744x128, .f32⟩
  | .local _ .vmem, ⟨12, _⟩ => ⟨S1x744x128, .f32⟩
  | .local _ .vmem, ⟨13, _⟩ => ⟨S1x744x128, .f32⟩
  | .local _ .vmem, ⟨14, _⟩ => ⟨S1x744x128, .f32⟩
  | .local _ .vmem, ⟨15, _⟩ => ⟨S1x744x128, .f32⟩
  | .local _ .vmem, ⟨16, _⟩ => ⟨S744x128, .f32⟩
  | .local _ .vmem, ⟨17, _⟩ => ⟨S744x128, .f32⟩
  | .local _ .vmem, ⟨18, _⟩ => ⟨S744x128, .f32⟩
  | .local _ .vmem, ⟨19, _⟩ => ⟨S744x128, .f32⟩
  | .local _ .vmem, ⟨20, _⟩ => ⟨S744x128, .f32⟩
  | .local _ .vmem, ⟨21, _⟩ => ⟨S744x128, .f32⟩
  | .local _ .vmem, ⟨22, _⟩ => ⟨S744x128, .f32⟩
  | .local _ .vmem, ⟨23, _⟩ => ⟨S744x128, .f32⟩
  | .local _ .vmem, ⟨24, _⟩ => ⟨S744x128, .f32⟩
  | .local _ .vmem, ⟨25, _⟩ => ⟨S744x128, .f32⟩
  | .local _ .vmem, ⟨26, _⟩ => ⟨S744x128, .f32⟩
  | .local _ .vmem, ⟨27, _⟩ => ⟨S744x128, .f32⟩
  | .local _ .vmem, ⟨28, _⟩ => ⟨S744x128, .f32⟩
  | .local _ .vmem, ⟨29, _⟩ => ⟨S744x128, .f32⟩
  | _, _ => ⟨S8x2232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x744x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x744x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x744x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x744x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x744x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x744x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x744x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x744x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S744x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S744x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S744x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S744x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S744x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S744x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S744x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdSmallReferenceIdeal.lean ====
abbrev S8x2232x128 : Shape := ⟨3, ![8, 2232, 128]⟩
abbrev S2232x128 : Shape := ⟨2, ![2232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S_, .f32⟩
  | .hbm, ⟨5, _⟩ => ⟨S2232x128, .f32⟩
  | .hbm, ⟨6, _⟩ => ⟨S_, .f32⟩
  | .hbm, ⟨7, _⟩ => ⟨S2232x128, .f32⟩
  | .hbm, ⟨8, _⟩ => ⟨S2232x128, .f32⟩
  | .hbm, ⟨9, _⟩ => ⟨S_, .f32⟩
  | .hbm, ⟨10, _⟩ => ⟨S2232x128, .f32⟩
  | .hbm, ⟨11, _⟩ => ⟨S2232x128, .f32⟩
  | .hbm, ⟨12, _⟩ => ⟨S2232x128, .f32⟩
  | .hbm, ⟨13, _⟩ => ⟨S_, .f32⟩
  | .hbm, ⟨14, _⟩ => ⟨S2232x128, .f32⟩
  | .hbm, ⟨15, _⟩ => ⟨S2232x128, .f32⟩
  | .hbm, ⟨16, _⟩ => ⟨S2232x128, .f32⟩
  | .hbm, ⟨17, _⟩ => ⟨S_, .f32⟩
  | .hbm, ⟨18, _⟩ => ⟨S2232x128, .f32⟩
  | .hbm, ⟨19, _⟩ => ⟨S2232x128, .f32⟩
  | .hbm, ⟨20, _⟩ => ⟨S2232x128, .f32⟩
  | .hbm, ⟨21, _⟩ => ⟨S_, .f32⟩
  | .hbm, ⟨22, _⟩ => ⟨S2232x128, .f32⟩
  | .hbm, ⟨23, _⟩ => ⟨S2232x128, .f32⟩
  | .hbm, ⟨24, _⟩ => ⟨S_, .f32⟩
  | .hbm, ⟨25, _⟩ => ⟨S2232x128, .f32⟩
  | .hbm, ⟨26, _⟩ => ⟨S2232x128, .f32⟩
  | .hbm, ⟨27, _⟩ => ⟨S2232x128, .f32⟩
  | .hbm, ⟨28, _⟩ => ⟨S_, .f32⟩
  | .hbm, ⟨29, _⟩ => ⟨S2232x128, .f32⟩
  | .hbm, ⟨30, _⟩ => ⟨S2232x128, .f32⟩
  | .hbm, ⟨31, _⟩ => ⟨S2232x128, .f32⟩
  | .hbm, ⟨32, _⟩ => ⟨S_, .f32⟩
  | .hbm, ⟨33, _⟩ => ⟨S2232x128, .f32⟩
  | .hbm, ⟨34, _⟩ => ⟨S2232x128, .f32⟩
  | .hbm, ⟨35, _⟩ => ⟨S2232x128, .f32⟩
  | .hbm, ⟨36, _⟩ => ⟨S_, .f32⟩
  | .hbm, ⟨37, _⟩ => ⟨S2232x128, .f32⟩
  | .hbm, ⟨38, _⟩ => ⟨S2232x128, .f32⟩
  | _, _ => ⟨S8x2232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LossGrad.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradReferenceIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== PoolBwd.lean ====
abbrev S8192x512 : Shape := ⟨2, ![8192, 512]⟩
abbrev S4x128x128 : Shape := ⟨3, ![4, 128, 128]⟩
abbrev S512 : Shape := ⟨1, ![512]⟩
abbrev S1x512 : Shape := ⟨2, ![1, 512]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S4x128x128, .f32⟩
  | .hbm, ⟨3, _⟩ => ⟨S512, .f32⟩
  | .hbm, ⟨4, _⟩ => ⟨S8192x512, .bf16⟩
  | .hbm, ⟨5, _⟩ => ⟨S1x512, .f32⟩
  | .hbm, ⟨6, _⟩ => ⟨S8192x512, .f32⟩
  | .hbm, ⟨7, _⟩ => ⟨S4x128x128, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S4x128x128, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S4x128x128, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_16 : BitVec 32 := 0#32
  let v40 : BitVec 1 := Scalar.cmpi .eq arg0 c0_i32_16
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .sgt arg0 c0_i32_18
  let v44 : BitVec 32 := Scalar.extui v43
  let c0_i32_19 : BitVec 32 := 0#32
  let v45 : BitVec 1 := Scalar.cmpi .ne v44 c0_i32_19
  v45

def k0_cond3 (i : grid0.Coords) : BitVec 1 :=
  let arg0 : BitVec 32 := BitVec.ofNat 32 (i 0).val
  let c0_i32_40 : BitVec 32 := 0#32
  let v86 : BitVec 1 := Scalar.cmpi .eq arg0 c0_i32_40
  let v87 : BitVec 32 := Scalar.extui v86
  let c0_i32_41 : BitVec 32 := 0#32
  let v88 : BitVec 1 := Scalar.cmpi .ne v87 c0_i32_41
  v88

def k0_cond4 (i : grid0.Coords) : BitVec 1 :=
  let arg0 : BitVec 32 := BitVec.ofNat 32 (i 0).val
  let c0_i32_42 : BitVec 32 := 0#32
  let v89 : BitVec 1 := Scalar.cmpi .sgt arg0 c0_i32_42
  let v90 : BitVec 32 := Scalar.extui v89
  let c0_i32_43 : BitVec 32 := 0#32
  let v91 : BitVec 1 := Scalar.cmpi .ne v90 c0_i32_43
  v91

def k0_cond5 (i : grid0.Coords) : BitVec 1 :=
  let arg0 : BitVec 32 := BitVec.ofNat 32 (i 0).val
  let c0_i32_64 : BitVec 32 := 0#32
  let v132 : BitVec 1 := Scalar.cmpi .eq arg0 c0_i32_64
  let v133 : BitVec 32 := Scalar.extui v132
  let c0_i32_65 : BitVec 32 := 0#32
  let v134 : BitVec 1 := Scalar.cmpi .ne v133 c0_i32_65
  v134

def k0_cond6 (i : grid0.Coords) : BitVec 1 :=
  let arg0 : BitVec 32 := BitVec.ofNat 32 (i 0).val
  let c0_i32_66 : BitVec 32 := 0#32
  let v135 : BitVec 1 := Scalar.cmpi .sgt arg0 c0_i32_66
  let v136 : BitVec 32 := Scalar.extui v135
  let c0_i32_67 : BitVec 32 := 0#32
  let v137 : BitVec 1 := Scalar.cmpi .ne v136 c0_i32_67
  v137

def k0_cond7 (i : grid0.Coords) : BitVec 1 :=
  let arg0 : BitVec 32 := BitVec.ofNat 32 (i 0).val
  let c0_i32_88 : BitVec 32 := 0#32
  let v178 : BitVec 1 := Scalar.cmpi .eq arg0 c0_i32_88
  let v179 : BitVec 32 := Scalar.extui v178
  let c0_i32_89 : BitVec 32 := 0#32
  let v180 : BitVec 1 := Scalar.cmpi .ne v179 c0_i32_89
  v180

def k0_cond8 (i : grid0.Coords) : BitVec 1 :=
  let arg0 : BitVec 32 := BitVec.ofNat 32 (i 0).val
  let c0_i32_90 : BitVec 32 := 0#32
  let v181 : BitVec 1 := Scalar.cmpi .sgt arg0 c0_i32_90
  let v182 : BitVec 32 := Scalar.extui v181
  let c0_i32_91 : BitVec 32 := 0#32
  let v183 : BitVec 1 := Scalar.cmpi .ne v182 c0_i32_91
  v183

def k0_cond9 (i : grid0.Coords) : BitVec 1 :=
  let arg0 : BitVec 32 := BitVec.ofNat 32 (i 0).val
  let c0_i32_92 : BitVec 32 := 0#32
  let v185 : BitVec 1 := Scalar.cmpi .eq arg0 c0_i32_92
  let v186 : BitVec 32 := Scalar.extui v185
  let c0_i32_93 : BitVec 32 := 0#32
  let v187 : BitVec 1 := Scalar.cmpi .ne v186 c0_i32_93
  v187

def k0_cond10 (i : grid0.Coords) : BitVec 1 :=
  let arg0 : BitVec 32 := BitVec.ofNat 32 (i 0).val
  let c0_i32_94 : BitVec 32 := 0#32
  let v188 : BitVec 1 := Scalar.cmpi .sgt arg0 c0_i32_94
  let v189 : BitVec 32 := Scalar.extui v188
  let c0_i32_95 : BitVec 32 := 0#32
  let v190 : BitVec 1 := Scalar.cmpi .ne v189 c0_i32_95
  v190

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdReferenceIdeal.lean ====
abbrev S8192x512 : Shape := ⟨2, ![8192, 512]⟩
abbrev S4x128x128 : Shape := ⟨3, ![4, 128, 128]⟩
abbrev S512 : Shape := ⟨1, ![512]⟩
abbrev S8192x4x128 : Shape := ⟨3, ![8192, 4, 128]⟩
abbrev S4x128x8192 : Shape := ⟨3, ![4, 128, 8192]⟩
abbrev S1x512 : Shape := ⟨2, ![1, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S4x128x128, .f32⟩
  | .hbm, ⟨3, _⟩ => ⟨S512, .f32⟩
  | .hbm, ⟨4, _⟩ => ⟨S8192x4x128, .f32⟩
  | .hbm, ⟨5, _⟩ => ⟨S4x128x8192, .f32⟩
  | .hbm, ⟨6, _⟩ => ⟨S8192x4x128, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S512, .f32⟩
  | .hbm, ⟨19, _⟩ => ⟨S8192x4x128, .f32⟩
  | .hbm, ⟨20, _⟩ => ⟨S4x128x8192, .f32⟩
  | .hbm, ⟨21, _⟩ => ⟨S4x128x128, .f32⟩
  | .hbm, ⟨22, _⟩ => ⟨S4x128x128, .f32⟩
  | .hbm, ⟨23, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Spec.lean ====
/-
  The mathematics of the gradient of the gated branch merge, over the extended reals, with no tiling: every result of
  the reference is one function of the argument arrays. The kernel's and the reference's values are both shown equal to
  the functions of this file.

    merged[r, c] = Σ_b g_b[r, c] · y_b[r, c],   g_b = sigmoid(z[:, 3584 + 1024 b + c] + bias),   y_b = o_b · w_b
    out = merged · w_out,   and `dx` is the cotangent of `out`.
-/
module

public import Idealize.ShloMosaic.Lib.ValueIdx
public import Idealize.ShloMosaic.PureOps.Ideal.Laws

@[expose] public section

noncomputable section

namespace Cert.MixBwd

open Idealize.ShloMosaic Idealize.ShloMosaic.ValueIdx

/-- Two indices into a stack are equal if their three coordinates are. -/
theorem idx_ext₃ {n : Fin 3 → ℕ} {x y : (a : Fin 3) → Fin (n a)} (h0 : (x 0).val = (y 0).val) (h1 : (x 1).val = (y 1).val)
    (h2 : (x 2).val = (y 2).val) : x = y :=
  funext fun a => Fin.ext (by match a with | ⟨0, _⟩ => exact h0 | ⟨1, _⟩ => exact h1 | ⟨2, _⟩ => exact h2)

/-- A matrix of extended reals. -/
abbrev Mat (a b : Nat) := (⟨2, ![a, b]⟩ : Shape).Idx → EReal
/-- A stack of `a` matrices. -/
abbrev Stack (a b d : Nat) := (⟨3, ![a, b, d]⟩ : Shape).Idx → EReal

/-- The gate of row `r` at lane `q` of the three branches' 3072 lanes: the logistic function of the projection's lane
    `3584 + q` plus the bias. -/
def gate (z : Mat 8192 6656) (bias : Mat 1 3072) (r : Fin 8192) (q : Fin 3072) : EReal :=
  Ideal.logistic (z (ix2 r ⟨3584 + q.val, by omega⟩) + bias (ix2 0 q))

/-- The cotangent of the merged branches: `dx · w_outᵀ`. -/
def dmerged (dx : Mat 8192 1024) (wo : Mat 1024 1024) (r : Fin 8192) (c : Fin 1024) : EReal :=
  ∑ k : Fin 1024, dx (ix2 r k) * wo (ix2 c k)

/-- One branch's output `o · w`. -/
def branch {n : Nat} (o : Mat 8192 n) (w : Mat n 1024) (r : Fin 8192) (c : Fin 1024) : EReal :=
  ∑ k : Fin n, o (ix2 r k) * w (ix2 k c)

/-- The three branches' outputs. -/
def branches (oa : Mat 8192 512) (ob : Mat 8192 256) (pc : Mat 8192 512) (wa : Mat 512 1024) (wb : Mat 256 1024) (wc : Mat 512 1024)
    (b : Fin 3) (r : Fin 8192) (c : Fin 1024) : EReal :=
  match b with
  | 0 => branch oa wa r c
  | 1 => branch ob wb r c
  | 2 => branch pc wc r c

/-- Lane `c` of branch `b` among the 3072 lanes. -/
abbrev lane (b : Fin 3) (c : Fin 1024) : Fin 3072 := ⟨b.val * 1024 + c.val, by omega⟩
/-- The branch of a lane, -/
abbrev laneBranch (q : Fin 3072) : Fin 3 := ⟨q.val / 1024, by omega⟩
/-- and its column in the branch. -/
abbrev laneCol (q : Fin 3072) : Fin 1024 := ⟨q.val % 1024, by omega⟩

/-- The gradient of branch `b`'s output: the merged cotangent times the gate. -/
def dy (dx : Mat 8192 1024) (z : Mat 8192 6656) (bias : Mat 1 3072) (wo : Mat 1024 1024) (b : Fin 3) (r : Fin 8192) (c : Fin 1024) : EReal :=
  dmerged dx wo r c * gate z bias r (lane b c)

/-- The gradient of the gate's argument at lane `q`: the merged cotangent times the branch's output times the logistic
    function's derivative `g (1 - g)`. -/
def dgate (dx : Mat 8192 1024) (y : Fin 3 → Fin 8192 → Fin 1024 → EReal) (z : Mat 8192 6656) (bias : Mat 1 3072) (wo : Mat 1024 1024)
    (r : Fin 8192) (q : Fin 3072) : EReal :=
  dmerged dx wo r (laneCol q) * y (laneBranch q) r (laneCol q) * (gate z bias r q * (1 - gate z bias r q))

/-- Result 0: the three branches' gradients. -/
def DY (dx : Mat 8192 1024) (z : Mat 8192 6656) (bias : Mat 1 3072) (wo : Mat 1024 1024) : Stack 3 8192 1024 :=
  fun i => dy dx z bias wo (i 0) (i 1) (i 2)

/-- Result 1: the gradient of the projection, zero in front of the gates' lanes. -/
def DZ (dx : Mat 8192 1024) (y : Fin 3 → Fin 8192 → Fin 1024 → EReal) (z : Mat 8192 6656) (bias : Mat 1 3072) (wo : Mat 1024 1024) :
    Mat 8192 6656 :=
  fun i => if h : 3584 ≤ (i 1).val then dgate dx y z bias wo (i 0) ⟨(i 1).val - 3584, by have := idx2_lt1 i; omega⟩ else 0

/-- Result 2: the gradient of the gates' bias, the sum over the rows. -/
def DB (dx : Mat 8192 1024) (y : Fin 3 → Fin 8192 → Fin 1024 → EReal) (z : Mat 8192 6656) (bias : Mat 1 3072) (wo : Mat 1024 1024) :
    Mat 1 3072 :=
  fun i => ∑ r : Fin 8192, dgate dx y z bias wo r (i 1)

/-- Results 3, 4 and 5: the gradient of a branch's input, `dy_b · w_bᵀ`. -/
def DO {n : Nat} (b : Fin 3) (dx : Mat 8192 1024) (z : Mat 8192 6656) (bias : Mat 1 3072) (wo : Mat 1024 1024) (w : Mat n 1024) :
    Mat 8192 n :=
  fun i => ∑ k : Fin 1024, dy dx z bias wo b (i 0) k * w (ix2 (i 1) k)

end Cert.MixBwd

end
-- ==== Proof.Pay.lean ====
/-
  What the kernel's blocks hold at a grid point, over the extended reals: the values its body computes, read at an
  index.
-/
module

public import proofs.«01_k».proof.Proof.Gen.KernelIdeal.Value
public import proofs.«01_k».proof.Proof.Spec
public import Idealize.ShloMosaic.Lib.IdealHost

@[expose] public section

set_option maxRecDepth 16384

noncomputable section

namespace Cert.KernelIdeal.MixBwd

open Idealize.ShloMosaic Idealize.ShloMosaic.TcCoe Idealize.ShloMosaic.ValueIdx
open Cert.KernelIdeal Cert.KernelIdeal.Gen Cert.MixBwd

/-- A product of two blocks over their second axes, read at an index: the sum over the second axes. -/
theorem nt_apply {m n p : Nat} {φ₁ φ₂ : FTy} (d : DotDims ⟨2, ![m, p]⟩ ⟨2, ![n, p]⟩ ⟨2, ![m, n]⟩) (h1 : d.contr.rank = 1)
    (h2 : d.contr.size ⟨0, by omega⟩ = p)
    (l0 : ∀ j k, (d.lhsIdx j k 0 : ℕ) = j 0) (l1 : ∀ j k, (d.lhsIdx j k 1 : ℕ) = k ⟨0, by omega⟩)
    (r0 : ∀ j k, (d.rhsIdx j k 0 : ℕ) = j 1) (r1 : ∀ j k, (d.rhsIdx j k 1 : ℕ) = k ⟨0, by omega⟩)
    (prec : Option ContractPrecision) (a : FVec Ideal ⟨2, ![m, p]⟩ φ₁) (b : FVec Ideal ⟨2, ![n, p]⟩ φ₂) (r : Fin m) (c : Fin n) :
    matmul d prec a b (constant ⟨2, ![m, n]⟩ .f32 0x00000000#32) (ix2 r c) = ∑ k : Fin p, a (ix2 r k) * b (ix2 c k) := by
  refine (Ideal.matmul_constant_zero_apply d prec a b (ix2 r c)).trans ?_
  rw [← Equiv.sum_comp (contrEquiv1 d p h1 h2).symm]
  refine Finset.sum_congr rfl fun k _ => ?_
  have hk := contrEquiv1_symm_val d p h1 h2 k
  rw [show d.lhsIdx (ix2 r c) ((contrEquiv1 d p h1 h2).symm k) = ix2 r k from Shape.idx_ext₂ (l0 _ _) ((l1 _ _).trans hk),
    show d.rhsIdx (ix2 r c) ((contrEquiv1 d p h1 h2).symm k) = ix2 c k from Shape.idx_ext₂ (r0 _ _) ((r1 _ _).trans hk)]

theorem dot1024 (a : FVec Ideal S256x1024 .bf16) (b : FVec Ideal S256x1024 .bf16) (r c : Fin 256) :
    matmul dot_S256x1024_S256x1024_S256x256_1_1_0_0_n_n none a b (constant S256x256 .f32 0x00000000#32) (ix2 r c)
      = ∑ k : Fin 1024, a (ix2 r k) * b (ix2 c k) :=
  nt_apply dot_S256x1024_S256x1024_S256x256_1_1_0_0_n_n rfl rfl
    (fun _ _ => by simp [DotDims.lhsIdx, dot_S256x1024_S256x1024_S256x256_1_1_0_0_n_n]; rfl)
    (fun _ _ => by simp [DotDims.lhsIdx, dot_S256x1024_S256x1024_S256x256_1_1_0_0_n_n]; rfl)
    (fun _ _ => by simp [DotDims.rhsIdx, dot_S256x1024_S256x1024_S256x256_1_1_0_0_n_n]; rfl)
    (fun _ _ => by simp [DotDims.rhsIdx, dot_S256x1024_S256x1024_S256x256_1_1_0_0_n_n]; rfl) none a b r c

theorem dot512 (a : FVec Ideal S256x256 .bf16) (b : FVec Ideal S512x256 .bf16) (r : Fin 256) (c : Fin 512) :
    matmul dot_S256x256_S512x256_S256x512_1_1_0_0_n_n none a b (constant S256x512 .f32 0x00000000#32) (ix2 r c)
      = ∑ k : Fin 256, a (ix2 r k) * b (ix2 c k) :=
  nt_apply dot_S256x256_S512x256_S256x512_1_1_0_0_n_n rfl rfl
    (fun _ _ => by simp [DotDims.lhsIdx, dot_S256x256_S512x256_S256x512_1_1_0_0_n_n]; rfl)
    (fun _ _ => by simp [DotDims.lhsIdx, dot_S256x256_S512x256_S256x512_1_1_0_0_n_n]; rfl)
    (fun _ _ => by simp [DotDims.rhsIdx, dot_S256x256_S512x256_S256x512_1_1_0_0_n_n]; rfl)
    (fun _ _ => by simp [DotDims.rhsIdx, dot_S256x256_S512x256_S256x512_1_1_0_0_n_n]; rfl) none a b r c

theorem dot256 (a : FVec Ideal S256x256 .bf16) (b : FVec Ideal S256x256 .bf16) (r c : Fin 256) :
    matmul dot_S256x256_S256x256_S256x256_1_1_0_0_n_n none a b (constant S256x256 .f32 0x00000000#32) (ix2 r c)
      = ∑ k : Fin 256, a (ix2 r k) * b (ix2 c k) :=
  nt_apply dot_S256x256_S256x256_S256x256_1_1_0_0_n_n rfl rfl
    (fun _ _ => by simp [DotDims.lhsIdx, dot_S256x256_S256x256_S256x256_1_1_0_0_n_n]; rfl)
    (fun _ _ => by simp [DotDims.lhsIdx, dot_S256x256_S256x256_S256x256_1_1_0_0_n_n]; rfl)
    (fun _ _ => by simp [DotDims.rhsIdx, dot_S256x256_S256x256_S256x256_1_1_0_0_n_n]; rfl)
    (fun _ _ => by simp [DotDims.rhsIdx, dot_S256x256_S256x256_S256x256_1_1_0_0_n_n]; rfl) none a b r c

/-- Dropping a block's leading unit axis. -/
theorem drop_apply {a b : Nat} {α : Type} (x : (⟨3, ![1, a, b]⟩ : Shape).Idx → α) (h : (⟨3, ![1, a, b]⟩ : Shape).ShapeCasts ⟨2, ![a, b]⟩) (r : Fin a) (c : Fin b) :
    shapeCast ⟨2, ![a, b]⟩ x h (ix2 r c) = x (ix3 0 r c) :=
  (shapeCast_dropUnit_apply ![a, b] x h (ix2 r c)).trans (congrArg x (funext fun q => by
    match q with | ⟨0, _⟩ => rfl | ⟨1, _⟩ => rfl | ⟨2, _⟩ => rfl))

/-- Adding one. -/
theorem add_apply {a b : Nat} {α : Type} (x : (⟨2, ![a, b]⟩ : Shape).Idx → α) (h : (⟨2, ![a, b]⟩ : Shape).ShapeCasts ⟨3, ![1, a, b]⟩) (r : Fin a) (c : Fin b) :
    shapeCast ⟨3, ![1, a, b]⟩ x h (ix3 0 r c) = x (ix2 r c) :=
  (shapeCast_addUnit_apply ![a, b] x h (ix3 0 r c)).trans (congrArg x (funext fun q => by
    match q with | ⟨0, _⟩ => rfl | ⟨1, _⟩ => rfl))

/-- One column block of the merged cotangent. -/
theorem pay_dm (v0 : Vec Ideal S256x1024 .f32) (v2 : Vec Ideal S1x256x1024 .bf16) (r c : Fin 256) :
    k0_pay3 v0 v2 (ix2 r c) = ∑ k : Fin 1024, v0 (ix2 r k) * v2 (ix3 0 c k) := by
  show shapeCast S256x256 (matmul dot_S256x1024_S256x1024_S256x256_1_1_0_0_n_n none _ _ _) shapeCasts_S256x256_S256x256 (ix2 r c) = _
  rw [shapeCast_self, dot1024]
  refine Finset.sum_congr rfl fun k _ => ?_
  rw [drop_apply]; rfl

/-- A gate's block: the logistic function of the block of `z` plus the bias. -/
theorem pay_gate (z : Vec Ideal S256x512 .f32) (b : Vec Ideal S1x512 .f32) (r : Fin 256) (c : Fin 512) :
    k0_pay8 z b (ix2 r c) = Ideal.logistic (z (ix2 r c) + b (ix2 0 c)) := by
  show Ideal.logistic (z (ix2 r c) + broadcastTo S256x512 b broadcasts_S1x512_S256x512 (ix2 r c)) = _
  rw [broadcastTo_apply b broadcasts_S1x512_S256x512 (ix2 r c) (ix2 0 c) (fun a => by match a with | ⟨0, _⟩ => rfl | ⟨1, _⟩ => rfl)]

/-- A block of a branch's gradient. -/
theorem pay_dy (z : Vec Ideal S256x512 .f32) (b : Vec Ideal S1x512 .f32) (dm : Vec Ideal S256x512 .f32) (r : Fin 256) (c : Fin 512) :
    k0_pay9 z b dm (ix3 0 r c) = dm (ix2 r c) * Ideal.logistic (z (ix2 r c) + b (ix2 0 c)) := by
  show shapeCast S1x256x512 (truncf .bf16 (mulf dm (k0_pay8 z b)) bitsLt_bf16_f32) shapeCasts_S256x512_S1x256x512 (ix3 0 r c) = _
  rw [add_apply, ← pay_gate]; rfl

/-- A block of the gate arguments' gradient. -/
theorem pay_dg (z : Vec Ideal S256x512 .f32) (b : Vec Ideal S1x512 .f32) (dm : Vec Ideal S256x512 .f32) (y : Vec Ideal S1x256x512 .bf16)
    (r : Fin 256) (c : Fin 512) :
    k0_pay10 z b dm y (ix2 r c) = dm (ix2 r c) * y (ix3 0 r c) * (Ideal.logistic (z (ix2 r c) + b (ix2 0 c))
      * (1 - Ideal.logistic (z (ix2 r c) + b (ix2 0 c)))) := by
  show dm (ix2 r c) * shapeCast S256x512 y shapeCasts_S1x256x512_S256x512 (ix2 r c) * k0_pay8 z b (ix2 r c)
    * (Ideal.ofBits .f32 0x3F800000#32 - k0_pay8 z b (ix2 r c)) = _
  rw [drop_apply, pay_gate, Ideal.ofBits_one_f32, mul_assoc]

/-- Its sum over the block's rows. -/
theorem pay_db (z : Vec Ideal S256x512 .f32) (b : Vec Ideal S1x512 .f32) (dm : Vec Ideal S256x512 .f32) (y : Vec Ideal S1x256x512 .bf16) (c : Fin 512) :
    k0_pay12 z b dm y (ix2 0 c) = ∑ r : Fin 256, k0_pay10 z b dm y (ix2 r c) := by
  show shapeCast S1x512 (multiReduction .add [0] S512 (k0_pay10 z b dm y) 0x00000000#32 reduces_S256x512_S512 (.inl rfl) rfl) shapeCasts_S512_S1x512 (ix2 0 c) = _
  refine (shapeCast_addUnit_apply ![512] _ shapeCasts_S512_S1x512 (ix2 0 c)).trans ?_
  refine (Ideal.multiReduction_add_single _ _ reduces_S256x512_S512 _ _ _).trans (Finset.sum_congr rfl fun k _ => ?_)
  exact congrArg _ (Shape.idx_ext₂ rfl rfl)

/-- A block of the first or third branch's input gradient: the four column blocks' products added. -/
theorem pay_do (a0 a1 a2 a3 : Vec Ideal S1x256x256 .bf16) (w0 w1 w2 w3 : Vec Ideal S1x512x256 .bf16) (r : Fin 256) (n : Fin 512) :
    k0_pay44 (k0_pay43 a0 w0 a1 w1 a2 w2) a3 w3 (ix2 r n)
      = (∑ k : Fin 256, a0 (ix3 0 r k) * w0 (ix3 0 n k)) + (∑ k : Fin 256, a1 (ix3 0 r k) * w1 (ix3 0 n k))
        + (∑ k : Fin 256, a2 (ix3 0 r k) * w2 (ix3 0 n k)) + (∑ k : Fin 256, a3 (ix3 0 r k) * w3 (ix3 0 n k)) := by
  show matmul dot_S256x256_S512x256_S256x512_1_1_0_0_n_n none _ _ (constant S256x512 .f32 0x00000000#32) _ + matmul dot_S256x256_S512x256_S256x512_1_1_0_0_n_n none _ _ (constant S256x512 .f32 0x00000000#32) _
    + matmul dot_S256x256_S512x256_S256x512_1_1_0_0_n_n none _ _ (constant S256x512 .f32 0x00000000#32) _ + matmul dot_S256x256_S512x256_S256x512_1_1_0_0_n_n none _ _ (constant S256x512 .f32 0x00000000#32) _ = _
  simp only [dot512, drop_apply]

/-- The second branch's, of half the width. -/
theorem pay_do' (a0 a1 a2 a3 : Vec Ideal S1x256x256 .bf16) (w0 w1 w2 w3 : Vec Ideal S1x256x256 .bf16) (r n : Fin 256) :
    k0_pay47 (k0_pay45 a0 w0 a1 w1 a2 w2) (k0_pay46 a3) w3 (ix2 r n)
      = (∑ k : Fin 256, a0 (ix3 0 r k) * w0 (ix3 0 n k)) + (∑ k : Fin 256, a1 (ix3 0 r k) * w1 (ix3 0 n k))
        + (∑ k : Fin 256, a2 (ix3 0 r k) * w2 (ix3 0 n k)) + (∑ k : Fin 256, a3 (ix3 0 r k) * w3 (ix3 0 n k)) := by
  show matmul dot_S256x256_S256x256_S256x256_1_1_0_0_n_n none _ _ (constant S256x256 .f32 0x00000000#32) _ + matmul dot_S256x256_S256x256_S256x256_1_1_0_0_n_n none _ _ (constant S256x256 .f32 0x00000000#32) _
    + matmul dot_S256x256_S256x256_S256x256_1_1_0_0_n_n none _ _ (constant S256x256 .f32 0x00000000#32) _ + matmul dot_S256x256_S256x256_S256x256_1_1_0_0_n_n none _ _ (constant S256x256 .f32 0x00000000#32) _ = _
  simp only [dot256, drop_apply, k0_pay46]

end Cert.KernelIdeal.MixBwd

end
-- ==== Proof.Block.lean ====
/-
  The blocks of a grid point in terms of the argument arrays. `row` says which row of the arrays a block's row is; the
  hypotheses of `Blk` say that the point's blocks are the arrays' rows (and columns) `row r`. What the point leaves in
  each output block is then the rows `row r` of the result arrays of `Spec`.
-/
module

public import proofs.«01_k».proof.Proof.Pay
public import Idealize.ShloMosaic.Lib.Pipeline.ReadBack
public import Idealize.ShloMosaic.Lib.Pipeline.ValueKit.Tiles

@[expose] public section

set_option maxRecDepth 16384

noncomputable section

namespace Cert.KernelIdeal.MixBwd

open Idealize.ShloMosaic Idealize.ShloMosaic.TcCoe Idealize.ShloMosaic.ValueIdx
open Cert.KernelIdeal Cert.KernelIdeal.Gen Cert.MixBwd

/-- A load covered by stores that are all pieces of one value `G` reads `G`. -/
theorem readCov_of_pieces {sg : RefSig} {κ : Kind} {sp : Space} {s : Shape} {e : EltTy} (v : View sg κ sp s e) (L : List (View.Piece (Elt Ideal) s e)) (G : s.Idx → Elt Ideal e)
    (h : View.PiecesOf G L) (hc : ∀ y : s.Idx, ∃ p ∈ L, y ∈ p.1.set) (B : LoadRect s) : v.readCov L B = fun j => G (B.idx j) := by
  rw [View.readCov_eq_canon']
  exact funext fun j => View.canon_apply_of_pieces G L h.mem _ (hc _)

/-- A sum over `m` blocks of `n`. -/
theorem sum_blocks {m n N : Nat} (h : N = m * n) (f : Fin N → EReal) :
    ∑ k : Fin N, f k = ∑ j : Fin m, ∑ k : Fin n, f ⟨n * j.val + k.val, by
      subst h; have h1 := j.isLt; have h2 := k.isLt
      calc n * j.val + k.val < n * j.val + n := by omega
        _ = n * (j.val + 1) := by ring
        _ ≤ n * m := Nat.mul_le_mul_left _ h1
        _ = m * n := Nat.mul_comm _ _⟩ := by
  subst h
  rw [← finProdFinEquiv.sum_comp, Fintype.sum_prod_type]
  exact Finset.sum_congr rfl fun j _ => Finset.sum_congr rfl fun k _ => congrArg f (Fin.ext (by simp [finProdFinEquiv]; ring))

/-- Six rows of 512 lanes side by side. -/
theorem cat6 (a0 a1 a2 a3 a4 a5 : Vec Ideal S1x512 .f32) (f : Fin 3072 → EReal) (h0 : ∀ c : Fin 512, a0 (ix2 0 c) = f ⟨0 + c.val, by omega⟩)
    (h1 : ∀ c : Fin 512, a1 (ix2 0 c) = f ⟨512 + c.val, by omega⟩) (h2 : ∀ c : Fin 512, a2 (ix2 0 c) = f ⟨1024 + c.val, by omega⟩)
    (h3 : ∀ c : Fin 512, a3 (ix2 0 c) = f ⟨1536 + c.val, by omega⟩) (h4 : ∀ c : Fin 512, a4 (ix2 0 c) = f ⟨2048 + c.val, by omega⟩)
    (h5 : ∀ c : Fin 512, a5 (ix2 0 c) = f ⟨2560 + c.val, by omega⟩) (q : Fin 3072) :
    concatenate S1x3072 1 [⟨S1x512, a0⟩, ⟨S1x512, a1⟩, ⟨S1x512, a2⟩, ⟨S1x512, a3⟩, ⟨S1x512, a4⟩, ⟨S1x512, a5⟩]
      concatenates_S1x512_S1x512_S1x512_S1x512_S1x512_S1x512_S1x3072_d1 (ix2 0 q) = f q := by
  have hx (c : Fin 512) : ∀ a : Fin 2, (Fin.cast rfl a : Fin 2) ≠ (1 : Fin 2) → ((ix2 (0 : Fin 1) c) a).val = ((ix2 (0 : Fin 1) q) (Fin.cast rfl a)).val :=
    fun a ha => by match a with | ⟨0, _⟩ => rfl | ⟨1, _⟩ => exact absurd rfl ha
  obtain ⟨c, hc | hc | hc | hc | hc | hc⟩ : ∃ c : Fin 512, q.val = 0 + c.val ∨ q.val = 512 + c.val ∨ q.val = 1024 + c.val ∨ q.val = 1536 + c.val ∨ q.val = 2048 + c.val ∨ q.val = 2560 + c.val :=
    ⟨⟨q.val % 512, by omega⟩, by show q.val = 0 + q.val % 512 ∨ q.val = 512 + q.val % 512 ∨ q.val = 1024 + q.val % 512 ∨ q.val = 1536 + q.val % 512 ∨ q.val = 2048 + q.val % 512 ∨ q.val = 2560 + q.val % 512; omega⟩
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 0 (show 0 < 6 by decide) S1x512 a0 rfl rfl 0 rfl
      (ix2 0 c) (hx c) hc.symm).trans ((h0 c).trans (congrArg f (Fin.ext hc.symm)))
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 1 (show 1 < 6 by decide) S1x512 a1 rfl rfl 512 rfl
      (ix2 0 c) (hx c) hc.symm).trans ((h1 c).trans (congrArg f (Fin.ext hc.symm)))
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 2 (show 2 < 6 by decide) S1x512 a2 rfl rfl 1024 rfl
      (ix2 0 c) (hx c) hc.symm).trans ((h2 c).trans (congrArg f (Fin.ext hc.symm)))
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 3 (show 3 < 6 by decide) S1x512 a3 rfl rfl 1536 rfl
      (ix2 0 c) (hx c) hc.symm).trans ((h3 c).trans (congrArg f (Fin.ext hc.symm)))
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 4 (show 4 < 6 by decide) S1x512 a4 rfl rfl 2048 rfl
      (ix2 0 c) (hx c) hc.symm).trans ((h4 c).trans (congrArg f (Fin.ext hc.symm)))
  · refine (concatenate_apply_piece (t := S1x3072) (1 : Fin 2) [⟨S1x512, a0⟩, ⟨S1x512, a1⟩, ⟨S1x512, a2⟩, ⟨S1x512, a3⟩, ⟨S1x512, a4⟩, ⟨S1x512, a5⟩] _ (ix2 0 q) 5 (show 5 < 6 by decide) S1x512 a5 rfl rfl 2560 rfl
      (ix2 0 c) (hx c) hc.symm).trans ((h5 c).trans (congrArg f (Fin.ext hc.symm)))

/-- A grid point's blocks are rows of the argument arrays. -/
structure Blk (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024)
    (x0 : Vec Ideal S256x1024 .f32) (x1 : Vec Ideal S3x256x1024 .bf16) (x2 x3 x4 x5 x6 x7 : Vec Ideal S256x512 .f32) (x8 : Vec Ideal S1x3072 .f32)
    (x9 : Vec Ideal S4x512x256 .bf16) (x10 : Vec Ideal S4x256x256 .bf16) (x11 : Vec Ideal S4x512x256 .bf16) (x12 : Vec Ideal S4x256x1024 .bf16) : Prop where
  h0 : ∀ r k, x0 (ix2 r k) = dx (ix2 (row r) k)
  h1 : ∀ b r k, x1 (ix3 b r k) = y b (row r) k
  h2 : ∀ r (c : Fin 512), x2 (ix2 r c) = z (ix2 (row r) ⟨3584 + (0 + c.val), by omega⟩)
  h3 : ∀ r (c : Fin 512), x3 (ix2 r c) = z (ix2 (row r) ⟨3584 + (512 + c.val), by omega⟩)
  h4 : ∀ r (c : Fin 512), x4 (ix2 r c) = z (ix2 (row r) ⟨3584 + (1024 + c.val), by omega⟩)
  h5 : ∀ r (c : Fin 512), x5 (ix2 r c) = z (ix2 (row r) ⟨3584 + (1536 + c.val), by omega⟩)
  h6 : ∀ r (c : Fin 512), x6 (ix2 r c) = z (ix2 (row r) ⟨3584 + (2048 + c.val), by omega⟩)
  h7 : ∀ r (c : Fin 512), x7 (ix2 r c) = z (ix2 (row r) ⟨3584 + (2560 + c.val), by omega⟩)
  h8 : ∀ q, x8 (ix2 0 q) = bias (ix2 0 q)
  h9 : ∀ (j : Fin 4) n (k : Fin 256), x9 (ix3 j n k) = wa (ix2 n ⟨256 * j.val + k.val, by omega⟩)
  h10 : ∀ (j : Fin 4) n (k : Fin 256), x10 (ix3 j n k) = wb (ix2 n ⟨256 * j.val + k.val, by omega⟩)
  h11 : ∀ (j : Fin 4) n (k : Fin 256), x11 (ix3 j n k) = wc (ix2 n ⟨256 * j.val + k.val, by omega⟩)
  h12 : ∀ (j : Fin 4) (n : Fin 256) k, x12 (ix3 j n k) = wo (ix2 ⟨256 * j.val + n.val, by omega⟩ k)

section
variable (row : Fin 256 → Fin 8192) (dx : Mat 8192 1024) (y : Fin 3 → Fin 8192 → Fin 1024 → EReal) (z : Mat 8192 6656) (bias : Mat 1 3072)
    (wo : Mat 1024 1024)

/-- The merged cotangent's rows, -/
def XM : Vec Ideal S256x1024 .f32 := fun i => dmerged dx wo (row (i 0)) (i 1)
/-- the branches' gradients' rows, -/
def XY : Vec Ideal S3x256x1024 .bf16 := fun i => dy dx z bias wo (i 0) (row (i 1)) (i 2)
/-- the projection's gradient's rows -/
def XZ : Vec Ideal S256x6656 .bf16 := fun i => DZ dx y z bias wo (ix2 (row (i 0)) (i 1))
/-- and the rows' part of the gates' bias' gradient. -/
def XB : Vec Ideal S1x3072 .f32 := fun i => ∑ r : Fin 256, dgate dx y z bias wo (row r) (i 1)

/-- One column block of the merged cotangent. -/
theorem piece_dm (x0 : Vec Ideal S256x1024 .f32) (x12 : Vec Ideal S4x256x1024 .bf16) (h0 : ∀ r k, x0 (ix2 r k) = dx (ix2 (row r) k))
    (h12 : ∀ (j : Fin 4) (n : Fin 256) k, x12 (ix3 j n k) = wo (ix2 ⟨256 * j.val + n.val, by omega⟩ k)) (j o : Nat) (hj : j < 4) (ho : o = 256 * j) (i0 i1 i2)
    (x : S256x256.Idx) :
    k0_pay3 (View.ld x0 (Rect.unit ![0, 0] ![256, 1024] i0)) (View.ld x12 (Rect.unit ![j, 0, 0] ![1, 256, 1024] i1)) x
      = XM row dx wo ((Rect.unit (s := S256x1024) ![0, o] ![256, 256] i2).emb x) := by
  subst ho
  obtain ⟨r, c, rfl⟩ : ∃ r c, x = ix2 r c := ⟨_, _, eq_ix2 x⟩
  rw [pay_dm]
  have e : (Rect.unit (s := S256x1024) ![0, 256 * j] ![256, 256] i2).emb (ix2 r c) = ix2 r (⟨256 * j + c.val, by omega⟩ : Fin 1024) :=
    Shape.idx_ext₂ (show 0 + 1 * r.val = r.val by omega) (show 256 * j + 1 * c.val = _ by simp)
  rw [e]
  show _ = ∑ k : Fin 1024, dx (ix2 (row r) k) * wo (ix2 (⟨256 * j + c.val, by omega⟩ : Fin 1024) k)
  refine Finset.sum_congr rfl fun k _ => congrArg₂ _ ?_ ?_
  · rw [View.ld_apply, ← h0]; exact congrArg _ (Shape.idx_ext₂ (show 0 + 1 * r.val = r.val by omega) (show 0 + 1 * k.val = k.val by omega))
  · rw [View.ld_apply, ← h12 ⟨j, hj⟩ c k]
    exact congrArg _ (idx_ext₃ (show j + 1 * 0 = j by omega) (show 0 + 1 * c.val = c.val by omega) (show 0 + 1 * k.val = k.val by omega))

/-- A gate's block. -/
theorem gate_blk (xj : Vec Ideal S256x512 .f32) (x8 : Vec Ideal S1x3072 .f32) (o : Nat) (ho : o + 512 ≤ 3072)
    (hx : ∀ r (c : Fin 512), xj (ix2 r c) = z (ix2 (row r) ⟨3584 + (o + c.val), by omega⟩)) (h8 : ∀ q, x8 (ix2 0 q) = bias (ix2 0 q)) (i0 i1)
    (r : Fin 256) (c : Fin 512) :
    Ideal.logistic (View.ld xj (Rect.unit ![0, 0] ![256, 512] i0) (ix2 r c) + View.ld x8 (Rect.unit ![0, o] ![1, 512] i1) (ix2 0 c))
      = gate z bias (row r) ⟨o + c.val, by omega⟩ := by
  unfold gate
  rw [← hx, ← h8, View.ld_apply, View.ld_apply]
  exact congrArg _ (congrArg₂ _ (congrArg _ (Shape.idx_ext₂ (show 0 + 1 * r.val = r.val by omega) (show 0 + 1 * c.val = c.val by omega)))
    (congrArg _ (Shape.idx_ext₂ (show 0 + 1 * 0 = 0 by omega) (show o + 1 * c.val = o + c.val by omega))))

/-- A half of the merged cotangent, loaded. -/
theorem ld_dm (h : Nat) (hh : h + 512 ≤ 1024) (i0) (r : Fin 256) (c : Fin 512) :
    View.ld (XM row dx wo) (Rect.unit ![0, h] ![256, 512] i0) (ix2 r c) = dmerged dx wo (row r) ⟨h + c.val, by omega⟩ := by
  show dmerged dx wo _ _ = _
  exact congrArg₂ _ (congrArg row (Fin.ext (show 0 + 1 * r.val = r.val by omega))) (Fin.ext (show h + 1 * c.val = h + c.val by omega))

/-- A block of a branch's gradient. -/
theorem piece_dy (xj : Vec Ideal S256x512 .f32) (x8 : Vec Ideal S1x3072 .f32) (b : Fin 3) (h o : Nat) (hh : h + 512 ≤ 1024) (ho : o = b.val * 1024 + h)
    (hx : ∀ r (c : Fin 512), xj (ix2 r c) = z (ix2 (row r) ⟨3584 + (o + c.val), by omega⟩)) (h8 : ∀ q, x8 (ix2 0 q) = bias (ix2 0 q)) (i0 i1 i2)
    (bv : Nat) (hb : bv = b.val) (i3 : ∀ a : Fin 3, (![bv, 0, h] : Fin 3 → Nat) a + (![1, 256, 512] : Fin 3 → Nat) a ≤ S3x256x1024.size a) (x : S1x256x512.Idx) :
    k0_pay9 (View.ld xj (Rect.unit ![0, 0] ![256, 512] i0)) (View.ld x8 (Rect.unit ![0, o] ![1, 512] i1))
        (View.ld (XM row dx wo) (Rect.unit ![0, h] ![256, 512] i2)) x
      = XY row dx z bias wo ((Rect.unit (s := S3x256x1024) ![bv, 0, h] ![1, 256, 512] i3).emb x) := by
  subst hb
  obtain ⟨u, r, c, rfl⟩ : ∃ u r c, x = ix3 u r c := ⟨_, _, _, eq_ix3 x⟩
  obtain rfl : u = 0 := Subsingleton.elim _ _
  rw [pay_dy, gate_blk row z bias xj x8 o (by omega) hx h8, ld_dm row dx wo h hh]
  have e : (Rect.unit (s := S3x256x1024) ![b.val, 0, h] ![1, 256, 512] i3).emb (ix3 0 r c) = ix3 b r (⟨h + c.val, by omega⟩ : Fin 1024) :=
    idx_ext₃ (show b.val + 1 * 0 = b.val by omega) (show 0 + 1 * r.val = r.val by omega) (show h + 1 * c.val = h + c.val by omega)
  rw [e]
  show _ = dmerged dx wo (row r) _ * gate z bias (row r) _
  exact congrArg _ (congrArg _ (Fin.ext (show o + c.val = b.val * 1024 + (h + c.val) by omega)))

/-- A block of the gate arguments' gradient. -/
theorem dg_blk (xj : Vec Ideal S256x512 .f32) (x8 : Vec Ideal S1x3072 .f32) (x1 : Vec Ideal S3x256x1024 .bf16) (b : Fin 3) (h o : Nat) (hh : h + 512 ≤ 1024)
    (ho : o = b.val * 1024 + h)
    (hx : ∀ r (c : Fin 512), xj (ix2 r c) = z (ix2 (row r) ⟨3584 + (o + c.val), by omega⟩)) (h8 : ∀ q, x8 (ix2 0 q) = bias (ix2 0 q))
    (h1 : ∀ b r k, x1 (ix3 b r k) = y b (row r) k) (i0 i1 i2)
    (bv : Nat) (hb : bv = b.val) (i3 : ∀ a : Fin 3, (![bv, 0, h] : Fin 3 → Nat) a + (![1, 256, 512] : Fin 3 → Nat) a ≤ S3x256x1024.size a) (r : Fin 256) (c : Fin 512) :
    k0_pay10 (View.ld xj (Rect.unit ![0, 0] ![256, 512] i0)) (View.ld x8 (Rect.unit ![0, o] ![1, 512] i1))
        (View.ld (XM row dx wo) (Rect.unit ![0, h] ![256, 512] i2)) (View.ld x1 (Rect.unit ![bv, 0, h] ![1, 256, 512] i3)) (ix2 r c)
      = dgate dx y z bias wo (row r) ⟨o + c.val, by omega⟩ := by
  subst hb
  rw [pay_dg, gate_blk row z bias xj x8 o (by omega) hx h8, ld_dm row dx wo h hh, View.ld_apply]
  have e : (Rect.unit (s := S3x256x1024) ![b.val, 0, h] ![1, 256, 512] i3).idx (ix3 0 r c) = ix3 b r (⟨h + c.val, by omega⟩ : Fin 1024) :=
    idx_ext₃ (show b.val + 1 * 0 = b.val by omega) (show 0 + 1 * r.val = r.val by omega) (show h + 1 * c.val = h + c.val by omega)
  have eb : laneBranch ⟨o + c.val, by omega⟩ = b := Fin.ext (show (o + c.val) / 1024 = b.val by omega)
  have ec : laneCol ⟨o + c.val, by omega⟩ = ⟨h + c.val, by omega⟩ := Fin.ext (show (o + c.val) % 1024 = h + c.val by omega)
  unfold dgate
  rw [eb, ec]
  exact congrArg (_ * · * _) ((congrArg x1 e).trans (h1 _ _ _))

/-- … as a piece of the projection's gradient. -/
theorem piece_dz (f : Vec Ideal S256x512 .bf16) (o p : Nat) (ho : o + 512 ≤ 3072) (hp : p = 3584 + o) (i0)
    (hf : ∀ r (c : Fin 512), f (ix2 r c) = dgate dx y z bias wo (row r) ⟨o + c.val, by omega⟩) (x : S256x512.Idx) :
    f x = XZ row dx y z bias wo ((Rect.unit (s := S256x6656) ![0, p] ![256, 512] i0).emb x) := by
  subst hp
  obtain ⟨r, c, rfl⟩ : ∃ r c, x = ix2 r c := ⟨_, _, eq_ix2 x⟩
  rw [hf, show (Rect.unit (s := S256x6656) ![0, 3584 + o] ![256, 512] i0).emb (ix2 r c) = ix2 r (⟨3584 + o + c.val, by omega⟩ : Fin 6656) from
    Shape.idx_ext₂ (show 0 + 1 * r.val = r.val by omega) (show 3584 + o + 1 * c.val = 3584 + o + c.val by omega)]
  show _ = dite (3584 ≤ 3584 + o + c.val) _ _
  rw [dif_pos (by omega)]
  exact congrArg _ (Fin.ext (show o + c.val = 3584 + o + c.val - 3584 by omega))

/-- The block in front of the gates' lanes is zero. -/
theorem piece_zero (f : Vec Ideal S256x3584 .bf16) (hf : ∀ x, f x = 0) (i0) (x : S256x3584.Idx) :
    f x = XZ row dx y z bias wo ((Rect.unit (s := S256x6656) ![0, 0] ![256, 3584] i0).emb x) := by
  obtain ⟨r, c, rfl⟩ : ∃ (r : Fin 256) (c : Fin 3584), x = ix2 r c := ⟨_, _, eq_ix2 x⟩
  rw [hf]
  refine Eq.symm ((dif_neg ?_))
  show ¬ (3584 ≤ 0 + 1 * c.val); omega

/-- The block's rows of a branch's input gradient. -/
def XO {n : Nat} (b : Fin 3) (w : Mat n 1024) : (⟨2, ![256, n]⟩ : Shape).Idx → EReal := fun i => DO b dx z bias wo w (ix2 (row (i 0)) (i 1))

/-- One column block's product. -/
theorem do_sum {n : Nat} (b : Fin 3) (w : Mat n 1024) (xw : (⟨3, ![4, n, 256]⟩ : Shape).Idx → EReal)
    (hw : ∀ (j : Fin 4) n (k : Fin 256), xw (ix3 j n k) = w (ix2 n ⟨256 * j.val + k.val, by omega⟩)) (bv : Nat) (hb : bv = b.val) (j : Fin 4) (jv o : Nat) (hj : jv = j.val)
    (ho : o = 256 * j.val) (i0 : ∀ a : Fin 3, (![bv, 0, o] : Fin 3 → Nat) a + (![1, 256, 256] : Fin 3 → Nat) a ≤ S3x256x1024.size a) (i1 : ∀ a : Fin 3, (![jv, 0, 0] : Fin 3 → Nat) a + (![1, n, 256] : Fin 3 → Nat) a ≤ (⟨3, ![4, n, 256]⟩ : Shape).size a)
    (r : Fin 256) (c : Fin n) :
    ∑ k : Fin 256, View.ld (XY row dx z bias wo) (Rect.unit (s := S3x256x1024) ![bv, 0, o] ![1, 256, 256] i0) (ix3 0 r k)
        * View.ld xw (Rect.unit (s := ⟨3, ![4, n, 256]⟩) ![jv, 0, 0] ![1, n, 256] i1) (ix3 0 c k)
      = ∑ k : Fin 256, dy dx z bias wo b (row r) ⟨256 * j.val + k.val, by omega⟩ * w (ix2 c ⟨256 * j.val + k.val, by omega⟩) := by
  subst hb; subst hj; subst ho
  refine Finset.sum_congr rfl fun k _ => ?_
  rw [View.ld_apply, View.ld_apply, ← hw j c k]
  refine congrArg₂ _ ?_ (congrArg xw (idx_ext₃ (show j.val + 1 * 0 = j.val by omega) (show 0 + 1 * c.val = c.val by omega) (show 0 + 1 * k.val = k.val by omega)))
  exact congrArg (XY row dx z bias wo) (idx_ext₃ (y := ix3 b r (⟨256 * j.val + k.val, by omega⟩ : Fin 1024)) (show b.val + 1 * 0 = b.val by omega) (show 0 + 1 * r.val = r.val by omega) (show 256 * j.val + 1 * k.val = _ by simp))

/-- The four column blocks' products are the product over all columns. -/
theorem do_total {n : Nat} (b : Fin 3) (w : Mat n 1024) (r : Fin 256) (c : Fin n) :
    DO b dx z bias wo w (ix2 (row r) c)
      = (∑ k : Fin 256, dy dx z bias wo b (row r) ⟨256 * (0 : Fin 4).val + k.val, by omega⟩ * w (ix2 c ⟨256 * (0 : Fin 4).val + k.val, by omega⟩))
        + (∑ k : Fin 256, dy dx z bias wo b (row r) ⟨256 * (1 : Fin 4).val + k.val, by omega⟩ * w (ix2 c ⟨256 * (1 : Fin 4).val + k.val, by omega⟩))
        + (∑ k : Fin 256, dy dx z bias wo b (row r) ⟨256 * (2 : Fin 4).val + k.val, by omega⟩ * w (ix2 c ⟨256 * (2 : Fin 4).val + k.val, by omega⟩))
        + (∑ k : Fin 256, dy dx z bias wo b (row r) ⟨256 * (3 : Fin 4).val + k.val, by omega⟩ * w (ix2 c ⟨256 * (3 : Fin 4).val + k.val, by omega⟩)) :=
  (sum_blocks (m := 4) (n := 256) rfl fun k => dy dx z bias wo b (row r) k * w (ix2 c k)).trans (Fin.sum_univ_four _)

/-- The parts of the gates' bias' gradient, side by side. -/
theorem piece_db (x1 : Vec Ideal S3x256x1024 .bf16) (x2 x3 x4 x5 x6 x7 : Vec Ideal S256x512 .f32) (x8 : Vec Ideal S1x3072 .f32)
    (h1 : ∀ b r k, x1 (ix3 b r k) = y b (row r) k) (h8 : ∀ q, x8 (ix2 0 q) = bias (ix2 0 q))
    (h2 : ∀ r (c : Fin 512), x2 (ix2 r c) = z (ix2 (row r) ⟨3584 + (0 + c.val), by omega⟩))
    (h3 : ∀ r (c : Fin 512), x3 (ix2 r c) = z (ix2 (row r) ⟨3584 + (512 + c.val), by omega⟩))
    (h4 : ∀ r (c : Fin 512), x4 (ix2 r c) = z (ix2 (row r) ⟨3584 + (1024 + c.val), by omega⟩))
    (h5 : ∀ r (c : Fin 512), x5 (ix2 r c) = z (ix2 (row r) ⟨3584 + (1536 + c.val), by omega⟩))
    (h6 : ∀ r (c : Fin 512), x6 (ix2 r c) = z (ix2 (row r) ⟨3584 + (2048 + c.val), by omega⟩))
    (h7 : ∀ r (c : Fin 512), x7 (ix2 r c) = z (ix2 (row r) ⟨3584 + (2560 + c.val), by omega⟩)) (u : S1x3072.Idx) :
    k0_pay41
        (k0_pay12 (View.ld x2 (Rect.unit ![0, 0] ![256, 512] inb_S256x512_S256x512_0_0)) (View.ld x8 (Rect.unit ![0, 0] ![1, 512] inb_S1x3072_S1x512_0_0))
          (View.ld (XM row dx wo) (Rect.unit ![0, 0] ![256, 512] inb_S256x1024_S256x512_0_0)) (View.ld x1 (Rect.unit ![0, 0, 0] ![1, 256, 512] inb_S3x256x1024_S1x256x512_0_0_0)))
        (k0_pay18 (k0_pay13 (View.ld x3 (Rect.unit ![0, 0] ![256, 512] inb_S256x512_S256x512_0_0)) (View.ld x8 (Rect.unit ![0, 512] ![1, 512] inb_S1x3072_S1x512_0_512)))
          (View.ld (XM row dx wo) (Rect.unit ![0, 512] ![256, 512] inb_S256x1024_S256x512_0_512)) (View.ld x1 (Rect.unit ![0, 0, 512] ![1, 256, 512] inb_S3x256x1024_S1x256x512_0_0_512)))
        (k0_pay23 (k0_pay21 (View.ld x4 (Rect.unit ![0, 0] ![256, 512] inb_S256x512_S256x512_0_0)) (View.ld x8 (Rect.unit ![0, 1024] ![1, 512] inb_S1x3072_S1x512_0_1024))
          (View.ld (XM row dx wo) (Rect.unit ![0, 0] ![256, 512] inb_S256x1024_S256x512_0_0)) (View.ld x1 (Rect.unit ![1, 0, 0] ![1, 256, 512] inb_S3x256x1024_S1x256x512_1_0_0))))
        (k0_pay28 (View.ld x5 (Rect.unit ![0, 0] ![256, 512] inb_S256x512_S256x512_0_0)) (View.ld x8 (Rect.unit ![0, 1536] ![1, 512] inb_S1x3072_S1x512_0_1536))
          (View.ld (XM row dx wo) (Rect.unit ![0, 512] ![256, 512] inb_S256x1024_S256x512_0_512)) (View.ld x1 (Rect.unit ![1, 0, 512] ![1, 256, 512] inb_S3x256x1024_S1x256x512_1_0_512)))
        (k0_pay34 (k0_pay29 (View.ld x6 (Rect.unit ![0, 0] ![256, 512] inb_S256x512_S256x512_0_0)) (View.ld x8 (Rect.unit ![0, 2048] ![1, 512] inb_S1x3072_S1x512_0_2048)))
          (View.ld (XM row dx wo) (Rect.unit ![0, 0] ![256, 512] inb_S256x1024_S256x512_0_0)) (View.ld x1 (Rect.unit ![2, 0, 0] ![1, 256, 512] inb_S3x256x1024_S1x256x512_2_0_0)))
        (k0_pay37 (View.ld x7 (Rect.unit ![0, 0] ![256, 512] inb_S256x512_S256x512_0_0)) (View.ld x8 (Rect.unit ![0, 2560] ![1, 512] inb_S1x3072_S1x512_0_2560))
          (View.ld (XM row dx wo) (Rect.unit ![0, 512] ![256, 512] inb_S256x1024_S256x512_0_512)) (View.ld x1 (Rect.unit ![2, 0, 512] ![1, 256, 512] inb_S3x256x1024_S1x256x512_2_0_512)))
        (k0_pay38 (View.ld x7 (Rect.unit ![0, 0] ![256, 512] inb_S256x512_S256x512_0_0)) (View.ld x8 (Rect.unit ![0, 2560] ![1, 512] inb_S1x3072_S1x512_0_2560))) u
      = XB row dx y z bias wo u := by
  obtain ⟨u0, q, rfl⟩ : ∃ (u0 : Fin 1) (q : Fin 3072), u = ix2 u0 q := ⟨_, _, eq_ix2 u⟩
  obtain rfl : u0 = 0 := Subsingleton.elim _ _
  exact cat6 _ _ _ _ _ _ (fun q => XB row dx y z bias wo (ix2 0 q))
    (fun c => (pay_db _ _ _ _ c).trans (Finset.sum_congr rfl fun r _ => dg_blk row dx y z bias wo x2 x8 x1 0 0 0 (by decide) rfl h2 h8 h1 _ _ _ 0 rfl inb_S3x256x1024_S1x256x512_0_0_0 r c))
    (fun c => (pay_db _ _ _ _ c).trans (Finset.sum_congr rfl fun r _ => dg_blk row dx y z bias wo x3 x8 x1 0 512 512 (by decide) rfl h3 h8 h1 _ _ _ 0 rfl inb_S3x256x1024_S1x256x512_0_0_512 r c))
    (fun c => (pay_db _ _ _ _ c).trans (Finset.sum_congr rfl fun r _ => dg_blk row dx y z bias wo x4 x8 x1 1 0 1024 (by decide) rfl h4 h8 h1 _ _ _ 1 rfl inb_S3x256x1024_S1x256x512_1_0_0 r c))
    (fun c => (pay_db _ _ _ _ c).trans (Finset.sum_congr rfl fun r _ => dg_blk row dx y z bias wo x5 x8 x1 1 512 1536 (by decide) rfl h5 h8 h1 _ _ _ 1 rfl inb_S3x256x1024_S1x256x512_1_0_512 r c))
    (fun c => (pay_db _ _ _ _ c).trans (Finset.sum_congr rfl fun r _ => dg_blk row dx y z bias wo x6 x8 x1 2 0 2048 (by decide) rfl h6 h8 h1 _ _ _ 2 rfl inb_S3x256x1024_S1x256x512_2_0_0 r c))
    (fun c => (pay_db _ _ _ _ c).trans (Finset.sum_congr rfl fun r _ => dg_blk row dx y z bias wo x7 x8 x1 2 512 2560 (by decide) rfl h7 h8 h1 _ _ _ 2 rfl inb_S3x256x1024_S1x256x512_2_0_512 r c)) q

end

end Cert.KernelIdeal.MixBwd

end
-- ==== Proof.Point.lean ====
/-
  What one grid point leaves in each of its output blocks: the rows `row r` of the result arrays. The point's stores are
  taken one by one; what it loads back of its own stores is the value stored.
-/
module

public import proofs.«01_k».proof.Proof.Block

@[expose] public section

set_option maxRecDepth 16384

noncomputable section

namespace Cert.KernelIdeal.MixBwd

open Idealize.ShloMosaic Idealize.ShloMosaic.TcCoe Idealize.ShloMosaic.ValueIdx
open Cert.KernelIdeal Cert.KernelIdeal.Gen Cert.MixBwd

section
variable (row : Fin 256 → Fin 8192) (dx : Mat 8192 1024) (y : Fin 3 → Fin 8192 → Fin 1024 → EReal) (z : Mat 8192 6656) (bias : Mat 1 3072)
    (wo : Mat 1024 1024)

/-- The four stores of the merged cotangent's column blocks, last first. -/
abbrev dmL (x0 : Vec Ideal S256x1024 .f32) (x12 : Vec Ideal S4x256x1024 .bf16) : List (View.Piece (Elt Ideal) S256x1024 .f32) :=
  [⟨Rect.unit ![0, 768] ![256, 256] inb_S256x1024_S256x256_0_768,
      k0_pay6 (View.ld x0 (Rect.unit ![0, 0] ![256, 1024] inb_S256x1024_S256x1024_0_0)) (View.ld x12 (Rect.unit ![3, 0, 0] ![1, 256, 1024] inb_S4x256x1024_S1x256x1024_3_0_0))⟩,
    ⟨Rect.unit ![0, 512] ![256, 256] inb_S256x1024_S256x256_0_512,
      k0_pay5 (View.ld x0 (Rect.unit ![0, 0] ![256, 1024] inb_S256x1024_S256x1024_0_0)) (View.ld x12 (Rect.unit ![2, 0, 0] ![1, 256, 1024] inb_S4x256x1024_S1x256x1024_2_0_0))⟩,
    ⟨Rect.unit ![0, 256] ![256, 256] inb_S256x1024_S256x256_0_256,
      k0_pay4 (View.ld x0 (Rect.unit ![0, 0] ![256, 1024] inb_S256x1024_S256x1024_0_0)) (View.ld x12 (Rect.unit ![1, 0, 0] ![1, 256, 1024] inb_S4x256x1024_S1x256x1024_1_0_0))⟩,
    ⟨Rect.unit ![0, 0] ![256, 256] inb_S256x1024_S256x256_0_0,
      k0_pay3 (View.ld x0 (Rect.unit ![0, 0] ![256, 1024] inb_S256x1024_S256x1024_0_0)) (View.ld x12 (Rect.unit ![0, 0, 0] ![1, 256, 1024] inb_S4x256x1024_S1x256x1024_0_0_0))⟩]

/-- A half of the merged cotangent read back after them. -/
theorem dm_read (v : View sig .tc .vmem S256x1024 .f32) (x0 : Vec Ideal S256x1024 .f32) (x12 : Vec Ideal S4x256x1024 .bf16) (h0 : ∀ r k, x0 (ix2 r k) = dx (ix2 (row r) k))
    (h12 : ∀ (j : Fin 4) (n : Fin 256) k, x12 (ix3 j n k) = wo (ix2 ⟨256 * j.val + n.val, by omega⟩ k)) (B : Rect S256x1024) :
    v.readCov (dmL x0 x12) B.toLoadRect = View.ld (XM row dx wo) B :=
  readCov_of_pieces v (dmL x0 x12) (XM row dx wo)
    ⟨piece_dm row dx wo x0 x12 h0 h12 3 768 (by decide) rfl _ _ inb_S256x1024_S256x256_0_768, piece_dm row dx wo x0 x12 h0 h12 2 512 (by decide) rfl _ _ inb_S256x1024_S256x256_0_512,
      piece_dm row dx wo x0 x12 h0 h12 1 256 (by decide) rfl _ _ inb_S256x1024_S256x256_0_256, piece_dm row dx wo x0 x12 h0 h12 0 0 (by decide) rfl _ _ inb_S256x1024_S256x256_0_0, trivial⟩
    (View.cover_of_tiledL _ S256x256.size (by sl_kernel_rfl)) B.toLoadRect

/-- The six stores of the branches' gradients, last first. -/
abbrev dyL (x2 x3 x4 x5 x6 x7 : Vec Ideal S256x512 .f32) (x8 : Vec Ideal S1x3072 .f32) : List (View.Piece (Elt Ideal) S3x256x1024 .bf16) :=
  [⟨Rect.unit ![2, 0, 512] ![1, 256, 512] inb_S3x256x1024_S1x256x512_2_0_512,
      k0_pay36 (View.ld x7 (Rect.unit ![0, 0] ![256, 512] inb_S256x512_S256x512_0_0)) (View.ld x8 (Rect.unit ![0, 2560] ![1, 512] inb_S1x3072_S1x512_0_2560))
        (View.ld (XM row dx wo) (Rect.unit ![0, 512] ![256, 512] inb_S256x1024_S256x512_0_512))⟩,
    ⟨Rect.unit ![2, 0, 0] ![1, 256, 512] inb_S3x256x1024_S1x256x512_2_0_0,
      k0_pay31 (k0_pay30 (View.ld x6 (Rect.unit ![0, 0] ![256, 512] inb_S256x512_S256x512_0_0)) (View.ld x8 (Rect.unit ![0, 2048] ![1, 512] inb_S1x3072_S1x512_0_2048))
        (View.ld (XM row dx wo) (Rect.unit ![0, 0] ![256, 512] inb_S256x1024_S256x512_0_0)))⟩,
    ⟨Rect.unit ![1, 0, 512] ![1, 256, 512] inb_S3x256x1024_S1x256x512_1_0_512,
      k0_pay25 (View.ld x5 (Rect.unit ![0, 0] ![256, 512] inb_S256x512_S256x512_0_0)) (View.ld x8 (Rect.unit ![0, 1536] ![1, 512] inb_S1x3072_S1x512_0_1536))
        (View.ld (XM row dx wo) (Rect.unit ![0, 512] ![256, 512] inb_S256x1024_S256x512_0_512))⟩,
    ⟨Rect.unit ![1, 0, 0] ![1, 256, 512] inb_S3x256x1024_S1x256x512_1_0_0,
      k0_pay20 (View.ld x4 (Rect.unit ![0, 0] ![256, 512] inb_S256x512_S256x512_0_0)) (View.ld x8 (Rect.unit ![0, 1024] ![1, 512] inb_S1x3072_S1x512_0_1024))
        (View.ld (XM row dx wo) (Rect.unit ![0, 0] ![256, 512] inb_S256x1024_S256x512_0_0))⟩,
    ⟨Rect.unit ![0, 0, 512] ![1, 256, 512] inb_S3x256x1024_S1x256x512_0_0_512,
      k0_pay15 (k0_pay14 (View.ld x3 (Rect.unit ![0, 0] ![256, 512] inb_S256x512_S256x512_0_0)) (View.ld x8 (Rect.unit ![0, 512] ![1, 512] inb_S1x3072_S1x512_0_512))
        (View.ld (XM row dx wo) (Rect.unit ![0, 512] ![256, 512] inb_S256x1024_S256x512_0_512)))⟩,
    ⟨Rect.unit ![0, 0, 0] ![1, 256, 512] inb_S3x256x1024_S1x256x512_0_0_0,
      k0_pay9 (View.ld x2 (Rect.unit ![0, 0] ![256, 512] inb_S256x512_S256x512_0_0)) (View.ld x8 (Rect.unit ![0, 0] ![1, 512] inb_S1x3072_S1x512_0_0))
        (View.ld (XM row dx wo) (Rect.unit ![0, 0] ![256, 512] inb_S256x1024_S256x512_0_0))⟩]

variable (wa : Mat 512 1024) (wb : Mat 256 1024) (wc : Mat 512 1024)
    {x0 : Vec Ideal S256x1024 .f32} {x1 : Vec Ideal S3x256x1024 .bf16} {x2 x3 x4 x5 x6 x7 : Vec Ideal S256x512 .f32} {x8 : Vec Ideal S1x3072 .f32}
    {x9 : Vec Ideal S4x512x256 .bf16} {x10 : Vec Ideal S4x256x256 .bf16} {x11 : Vec Ideal S4x512x256 .bf16} {x12 : Vec Ideal S4x256x1024 .bf16}
    (hb : Blk row dx y z bias wo wa wb wc x0 x1 x2 x3 x4 x5 x6 x7 x8 x9 x10 x11 x12)

include hb

/-- Each is a piece of the branches' gradients. -/
theorem dy_pieces : View.PiecesOf (XY row dx z bias wo) (dyL row dx wo x2 x3 x4 x5 x6 x7 x8) :=
  ⟨piece_dy row dx z bias wo x7 x8 2 512 2560 (by decide) rfl hb.h7 hb.h8 _ _ _ 2 rfl inb_S3x256x1024_S1x256x512_2_0_512,
    piece_dy row dx z bias wo x6 x8 2 0 2048 (by decide) rfl hb.h6 hb.h8 _ _ _ 2 rfl inb_S3x256x1024_S1x256x512_2_0_0,
    piece_dy row dx z bias wo x5 x8 1 512 1536 (by decide) rfl hb.h5 hb.h8 _ _ _ 1 rfl inb_S3x256x1024_S1x256x512_1_0_512,
    piece_dy row dx z bias wo x4 x8 1 0 1024 (by decide) rfl hb.h4 hb.h8 _ _ _ 1 rfl inb_S3x256x1024_S1x256x512_1_0_0,
    piece_dy row dx z bias wo x3 x8 0 512 512 (by decide) rfl hb.h3 hb.h8 _ _ _ 0 rfl inb_S3x256x1024_S1x256x512_0_0_512,
    piece_dy row dx z bias wo x2 x8 0 0 0 (by decide) rfl hb.h2 hb.h8 _ _ _ 0 rfl inb_S3x256x1024_S1x256x512_0_0_0, trivial⟩

/-- A column block of them read back. -/
theorem dy_read (v : View sig .tc .vmem S3x256x1024 .bf16) (B : Rect S3x256x1024) :
    v.readCov (dyL row dx wo x2 x3 x4 x5 x6 x7 x8) B.toLoadRect = View.ld (XY row dx z bias wo) B :=
  readCov_of_pieces v _ (XY row dx z bias wo) (dy_pieces row dx y z bias wo wa wb wc hb) (View.cover_of_tiledL _ S1x256x512.size (by sl_kernel_rfl)) B.toLoadRect

end

/-- A block's only store fills it. -/
theorem full_pieces {s : Shape} {e : EltTy} (off : Fin s.rank → Nat) (inb : ∀ a, off a + s.size a ≤ s.size a) (f G : s.Idx → Elt Ideal e) (h : ∀ x, f x = G x) :
    View.PiecesOf (Val := Elt Ideal) G [⟨Rect.unit off s.size inb, f⟩] :=
  ⟨fun x => (h x).trans (congrArg G (funext fun a => Fin.ext (by show (x a).val = off a + 1 * (x a).val; have := inb a; omega))), trivial⟩

/-- Case A, the branches' gradients. -/
theorem out_A13 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XY row dx z bias wo := by
  funext q
  unfold out0_A_13
  refine View.read_writes_apply_of_pieces _ _ (XY row dx z bias wo) _ ?_ q (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  exact (dy_pieces row dx y z bias wo wa wb wc hb).mem

/-- Case A, the projection's gradient. -/
theorem out_A14 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XZ row dx y z bias wo := by
  funext q
  unfold out0_A_14
  refine View.read_writes_apply_of_pieces _ _ (XZ row dx y z bias wo) _ ?_ q (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine View.PiecesOf.mem (G := XZ row dx y z bias wo) ⟨piece_dz row dx y z bias wo _ 2560 6144 (by decide) rfl inb_S256x6656_S256x512_0_6144 (fun r c => dg_blk row dx y z bias wo x7 x8 x1 2 512 2560 (by decide) rfl hb.h7 hb.h8 hb.h1 _ _ _ 2 rfl inb_S3x256x1024_S1x256x512_2_0_512 r c),
    piece_dz row dx y z bias wo _ 2048 5632 (by decide) rfl inb_S256x6656_S256x512_0_5632 (fun r c => dg_blk row dx y z bias wo x6 x8 x1 2 0 2048 (by decide) rfl hb.h6 hb.h8 hb.h1 _ _ _ 2 rfl inb_S3x256x1024_S1x256x512_2_0_0 r c),
    piece_dz row dx y z bias wo _ 1536 5120 (by decide) rfl inb_S256x6656_S256x512_0_5120 (fun r c => dg_blk row dx y z bias wo x5 x8 x1 1 512 1536 (by decide) rfl hb.h5 hb.h8 hb.h1 _ _ _ 1 rfl inb_S3x256x1024_S1x256x512_1_0_512 r c),
    piece_dz row dx y z bias wo _ 1024 4608 (by decide) rfl inb_S256x6656_S256x512_0_4608 (fun r c => dg_blk row dx y z bias wo x4 x8 x1 1 0 1024 (by decide) rfl hb.h4 hb.h8 hb.h1 _ _ _ 1 rfl inb_S3x256x1024_S1x256x512_1_0_0 r c),
    piece_dz row dx y z bias wo _ 512 4096 (by decide) rfl inb_S256x6656_S256x512_0_4096 (fun r c => dg_blk row dx y z bias wo x3 x8 x1 0 512 512 (by decide) rfl hb.h3 hb.h8 hb.h1 _ _ _ 0 rfl inb_S3x256x1024_S1x256x512_0_0_512 r c),
    piece_dz row dx y z bias wo _ 0 3584 (by decide) rfl inb_S256x6656_S256x512_0_3584 (fun r c => dg_blk row dx y z bias wo x2 x8 x1 0 0 0 (by decide) rfl hb.h2 hb.h8 hb.h1 _ _ _ 0 rfl inb_S3x256x1024_S1x256x512_0_0_0 r c),
    piece_zero row dx y z bias wo _ (fun _ => Ideal.ofBits_zero_bf16) inb_S256x6656_S256x3584_0_0, trivial⟩

/-- Case A, the gates' bias' gradient: at the first point the point's own part. -/
theorem out_A15 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XB row dx y z bias wo := by
  funext q
  unfold out0_A_15
  refine View.read_writes_apply_of_pieces _ _ (XB row dx y z bias wo) _ ?_ q (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  exact (full_pieces _ inb_S1x3072_S1x3072_0_0 _ (XB row dx y z bias wo) (piece_db row dx y z bias wo x1 x2 x3 x4 x5 x6 x7 x8 hb.h1 hb.h8 hb.h2 hb.h3 hb.h4 hb.h5 hb.h6 hb.h7)).mem

/-- Case A, the first branch's input gradient. -/
theorem out_A16 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XO row dx z bias wo 0 wa := by
  funext q
  unfold out0_A_16
  refine View.read_writes_apply_of_pieces _ _ (XO row dx z bias wo 0 wa) _ ?_ q (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x512) (e := .f32) _ inb_S256x512_S256x512_0_0 _ (XO row dx z bias wo 0 wa) fun x => ?_).mem
  obtain ⟨r, c, rfl⟩ : ∃ r c, x = ix2 r c := ⟨_, _, eq_ix2 x⟩
  exact (pay_do _ _ _ _ _ _ _ _ r c).trans ((congrArg₂ (· + ·) (congrArg₂ (· + ·) (congrArg₂ (· + ·) (do_sum row dx z bias wo 0 wa x9 hb.h9 0 rfl 0 0 0 rfl rfl inb_S3x256x1024_S1x256x256_0_0_0 inb_S4x512x256_S1x512x256_0_0_0 r c)
      (do_sum row dx z bias wo 0 wa x9 hb.h9 0 rfl 1 1 256 rfl rfl inb_S3x256x1024_S1x256x256_0_0_256 inb_S4x512x256_S1x512x256_1_0_0 r c))
      (do_sum row dx z bias wo 0 wa x9 hb.h9 0 rfl 2 2 512 rfl rfl inb_S3x256x1024_S1x256x256_0_0_512 inb_S4x512x256_S1x512x256_2_0_0 r c))
      (do_sum row dx z bias wo 0 wa x9 hb.h9 0 rfl 3 3 768 rfl rfl inb_S3x256x1024_S1x256x256_0_0_768 inb_S4x512x256_S1x512x256_3_0_0 r c)).trans (do_total row dx z bias wo 0 wa r c).symm)

/-- Case A, the second branch's input gradient. -/
theorem out_A17 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XO row dx z bias wo 1 wb := by
  funext q
  unfold out0_A_17
  refine View.read_writes_apply_of_pieces _ _ (XO row dx z bias wo 1 wb) _ ?_ q (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x256) (e := .f32) _ inb_S256x256_S256x256_0_0 _ (XO row dx z bias wo 1 wb) fun x => ?_).mem
  obtain ⟨r, c, rfl⟩ : ∃ r c, x = ix2 r c := ⟨_, _, eq_ix2 x⟩
  exact (pay_do' _ _ _ _ _ _ _ _ r c).trans ((congrArg₂ (· + ·) (congrArg₂ (· + ·) (congrArg₂ (· + ·) (do_sum row dx z bias wo 1 wb x10 hb.h10 1 rfl 0 0 0 rfl rfl inb_S3x256x1024_S1x256x256_1_0_0 inb_S4x256x256_S1x256x256_0_0_0 r c)
      (do_sum row dx z bias wo 1 wb x10 hb.h10 1 rfl 1 1 256 rfl rfl inb_S3x256x1024_S1x256x256_1_0_256 inb_S4x256x256_S1x256x256_1_0_0 r c))
      (do_sum row dx z bias wo 1 wb x10 hb.h10 1 rfl 2 2 512 rfl rfl inb_S3x256x1024_S1x256x256_1_0_512 inb_S4x256x256_S1x256x256_2_0_0 r c))
      (do_sum row dx z bias wo 1 wb x10 hb.h10 1 rfl 3 3 768 rfl rfl inb_S3x256x1024_S1x256x256_1_0_768 inb_S4x256x256_S1x256x256_3_0_0 r c)).trans (do_total row dx z bias wo 1 wb r c).symm)

/-- Case A, the third branch's input gradient. -/
theorem out_A18 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : cond0_0 i) (hc1 : ¬cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 = XO row dx z bias wo 2 wc := by
  funext q
  unfold out0_A_18
  refine View.read_writes_apply_of_pieces _ _ (XO row dx z bias wo 2 wc) _ ?_ q (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 q)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x512) (e := .f32) _ inb_S256x512_S256x512_0_0 _ (XO row dx z bias wo 2 wc) fun x => ?_).mem
  obtain ⟨r, c, rfl⟩ : ∃ r c, x = ix2 r c := ⟨_, _, eq_ix2 x⟩
  exact (pay_do _ _ _ _ _ _ _ _ r c).trans ((congrArg₂ (· + ·) (congrArg₂ (· + ·) (congrArg₂ (· + ·) (do_sum row dx z bias wo 2 wc x11 hb.h11 2 rfl 0 0 0 rfl rfl inb_S3x256x1024_S1x256x256_2_0_0 inb_S4x512x256_S1x512x256_0_0_0 r c)
      (do_sum row dx z bias wo 2 wc x11 hb.h11 2 rfl 1 1 256 rfl rfl inb_S3x256x1024_S1x256x256_2_0_256 inb_S4x512x256_S1x512x256_1_0_0 r c))
      (do_sum row dx z bias wo 2 wc x11 hb.h11 2 rfl 2 2 512 rfl rfl inb_S3x256x1024_S1x256x256_2_0_512 inb_S4x512x256_S1x512x256_2_0_0 r c))
      (do_sum row dx z bias wo 2 wc x11 hb.h11 2 rfl 3 3 768 rfl rfl inb_S3x256x1024_S1x256x256_2_0_768 inb_S4x512x256_S1x512x256_3_0_0 r c)).trans (do_total row dx z bias wo 2 wc r c).symm)

/-- Case B, the branches' gradients. -/
theorem out_B13 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = XY row dx z bias wo := by
  funext q
  unfold out0_B_13
  refine View.read_writes_apply_of_pieces _ _ (XY row dx z bias wo) _ ?_ q (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  exact (dy_pieces row dx y z bias wo wa wb wc hb).mem

/-- Case B, the projection's gradient. -/
theorem out_B14 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = XZ row dx y z bias wo := by
  funext q
  unfold out0_B_14
  refine View.read_writes_apply_of_pieces _ _ (XZ row dx y z bias wo) _ ?_ q (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine View.PiecesOf.mem (G := XZ row dx y z bias wo) ⟨piece_dz row dx y z bias wo _ 2560 6144 (by decide) rfl inb_S256x6656_S256x512_0_6144 (fun r c => dg_blk row dx y z bias wo x7 x8 x1 2 512 2560 (by decide) rfl hb.h7 hb.h8 hb.h1 _ _ _ 2 rfl inb_S3x256x1024_S1x256x512_2_0_512 r c),
    piece_dz row dx y z bias wo _ 2048 5632 (by decide) rfl inb_S256x6656_S256x512_0_5632 (fun r c => dg_blk row dx y z bias wo x6 x8 x1 2 0 2048 (by decide) rfl hb.h6 hb.h8 hb.h1 _ _ _ 2 rfl inb_S3x256x1024_S1x256x512_2_0_0 r c),
    piece_dz row dx y z bias wo _ 1536 5120 (by decide) rfl inb_S256x6656_S256x512_0_5120 (fun r c => dg_blk row dx y z bias wo x5 x8 x1 1 512 1536 (by decide) rfl hb.h5 hb.h8 hb.h1 _ _ _ 1 rfl inb_S3x256x1024_S1x256x512_1_0_512 r c),
    piece_dz row dx y z bias wo _ 1024 4608 (by decide) rfl inb_S256x6656_S256x512_0_4608 (fun r c => dg_blk row dx y z bias wo x4 x8 x1 1 0 1024 (by decide) rfl hb.h4 hb.h8 hb.h1 _ _ _ 1 rfl inb_S3x256x1024_S1x256x512_1_0_0 r c),
    piece_dz row dx y z bias wo _ 512 4096 (by decide) rfl inb_S256x6656_S256x512_0_4096 (fun r c => dg_blk row dx y z bias wo x3 x8 x1 0 512 512 (by decide) rfl hb.h3 hb.h8 hb.h1 _ _ _ 0 rfl inb_S3x256x1024_S1x256x512_0_0_512 r c),
    piece_dz row dx y z bias wo _ 0 3584 (by decide) rfl inb_S256x6656_S256x512_0_3584 (fun r c => dg_blk row dx y z bias wo x2 x8 x1 0 0 0 (by decide) rfl hb.h2 hb.h8 hb.h1 _ _ _ 0 rfl inb_S3x256x1024_S1x256x512_0_0_0 r c),
    piece_zero row dx y z bias wo _ (fun _ => Ideal.ofBits_zero_bf16) inb_S256x6656_S256x3584_0_0, trivial⟩

/-- Case B, the gates' bias' gradient: at a later point the part added to what was there. -/
theorem out_B15 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = fun i => xo15 i + XB row dx y z bias wo i := by
  funext q
  unfold out0_B_15
  refine View.read_writes_apply_of_pieces _ _ (fun i => xo15 i + XB row dx y z bias wo i) _ ?_ q (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces _ inb_S1x3072_S1x3072_0_0 _ (fun i => xo15 i + XB row dx y z bias wo i) fun x => ?_).mem
  rw [harg16.read_unread]
  refine congrArg₂ (· + ·) ?_ (piece_db row dx y z bias wo x1 x2 x3 x4 x5 x6 x7 x8 hb.h1 hb.h8 hb.h2 hb.h3 hb.h4 hb.h5 hb.h6 hb.h7 x)
  refine (congrFun (shapeCast_self _ shapeCasts_S1x3072_S1x3072) x).trans ?_
  exact congrArg xo15 (funext fun a => Fin.ext (by
    show (![0, 0] : Fin 2 → Nat) a + 1 * (x a).val = (x a).val
    rw [show (![0, 0] : Fin 2 → Nat) a = 0 from by fin_cases a <;> rfl]; omega))

/-- Case B, the first branch's input gradient. -/
theorem out_B16 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = XO row dx z bias wo 0 wa := by
  funext q
  unfold out0_B_16
  refine View.read_writes_apply_of_pieces _ _ (XO row dx z bias wo 0 wa) _ ?_ q (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x512) (e := .f32) _ inb_S256x512_S256x512_0_0 _ (XO row dx z bias wo 0 wa) fun x => ?_).mem
  obtain ⟨r, c, rfl⟩ : ∃ r c, x = ix2 r c := ⟨_, _, eq_ix2 x⟩
  exact (pay_do _ _ _ _ _ _ _ _ r c).trans ((congrArg₂ (· + ·) (congrArg₂ (· + ·) (congrArg₂ (· + ·) (do_sum row dx z bias wo 0 wa x9 hb.h9 0 rfl 0 0 0 rfl rfl inb_S3x256x1024_S1x256x256_0_0_0 inb_S4x512x256_S1x512x256_0_0_0 r c)
      (do_sum row dx z bias wo 0 wa x9 hb.h9 0 rfl 1 1 256 rfl rfl inb_S3x256x1024_S1x256x256_0_0_256 inb_S4x512x256_S1x512x256_1_0_0 r c))
      (do_sum row dx z bias wo 0 wa x9 hb.h9 0 rfl 2 2 512 rfl rfl inb_S3x256x1024_S1x256x256_0_0_512 inb_S4x512x256_S1x512x256_2_0_0 r c))
      (do_sum row dx z bias wo 0 wa x9 hb.h9 0 rfl 3 3 768 rfl rfl inb_S3x256x1024_S1x256x256_0_0_768 inb_S4x512x256_S1x512x256_3_0_0 r c)).trans (do_total row dx z bias wo 0 wa r c).symm)

/-- Case B, the second branch's input gradient. -/
theorem out_B17 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = XO row dx z bias wo 1 wb := by
  funext q
  unfold out0_B_17
  refine View.read_writes_apply_of_pieces _ _ (XO row dx z bias wo 1 wb) _ ?_ q (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x256) (e := .f32) _ inb_S256x256_S256x256_0_0 _ (XO row dx z bias wo 1 wb) fun x => ?_).mem
  obtain ⟨r, c, rfl⟩ : ∃ r c, x = ix2 r c := ⟨_, _, eq_ix2 x⟩
  exact (pay_do' _ _ _ _ _ _ _ _ r c).trans ((congrArg₂ (· + ·) (congrArg₂ (· + ·) (congrArg₂ (· + ·) (do_sum row dx z bias wo 1 wb x10 hb.h10 1 rfl 0 0 0 rfl rfl inb_S3x256x1024_S1x256x256_1_0_0 inb_S4x256x256_S1x256x256_0_0_0 r c)
      (do_sum row dx z bias wo 1 wb x10 hb.h10 1 rfl 1 1 256 rfl rfl inb_S3x256x1024_S1x256x256_1_0_256 inb_S4x256x256_S1x256x256_1_0_0 r c))
      (do_sum row dx z bias wo 1 wb x10 hb.h10 1 rfl 2 2 512 rfl rfl inb_S3x256x1024_S1x256x256_1_0_512 inb_S4x256x256_S1x256x256_2_0_0 r c))
      (do_sum row dx z bias wo 1 wb x10 hb.h10 1 rfl 3 3 768 rfl rfl inb_S3x256x1024_S1x256x256_1_0_768 inb_S4x256x256_S1x256x256_3_0_0 r c)).trans (do_total row dx z bias wo 1 wb r c).symm)

/-- Case B, the third branch's input gradient. -/
theorem out_B18 (c : Dev nD) (i : grid0.Coords) (arg1 : Memref sig .tc .vmem S256x1024 .f32) (harg1 : arg1.IsWhole) (arg2 : Memref sig .tc .vmem S3x256x1024 .bf16) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x3072 .f32) (harg9 : arg9.IsWhole) (arg10 : Memref sig .tc .vmem S4x512x256 .bf16) (harg10 : arg10.IsWhole) (arg11 : Memref sig .tc .vmem S4x256x256 .bf16) (harg11 : arg11.IsWhole) (arg12 : Memref sig .tc .vmem S4x512x256 .bf16) (harg12 : arg12.IsWhole) (arg13 : Memref sig .tc .vmem S4x256x1024 .bf16) (harg13 : arg13.IsWhole) (arg14 : Memref sig .tc .vmem S3x256x1024 .bf16) (harg14 : arg14.IsWhole) (arg15 : Memref sig .tc .vmem S256x6656 .bf16) (harg15 : arg15.IsWhole) (arg16 : Memref sig .tc .vmem S1x3072 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x1024 .f32) (harg20 : arg20.IsWhole) (hc0 : ¬cond0_0 i) (hc1 : cond0_1 i)
    (x0 : Vec Ideal S256x1024 .f32) (x1 : Vec Ideal S3x256x1024 .bf16) (x2 : Vec Ideal S256x512 .f32) (x3 : Vec Ideal S256x512 .f32) (x4 : Vec Ideal S256x512 .f32) (x5 : Vec Ideal S256x512 .f32) (x6 : Vec Ideal S256x512 .f32) (x7 : Vec Ideal S256x512 .f32) (x8 : Vec Ideal S1x3072 .f32) (x9 : Vec Ideal S4x512x256 .bf16) (x10 : Vec Ideal S4x256x256 .bf16) (x11 : Vec Ideal S4x512x256 .bf16) (x12 : Vec Ideal S4x256x1024 .bf16) (xo15 : Vec Ideal S1x3072 .f32)
    (row : Fin 256 → Fin 8192) (dx : Mat 8192 1024) (y : Fin 3 → Fin 8192 → Fin 1024 → EReal) (z : Mat 8192 6656) (bias : Mat 1 3072)
    (wo : Mat 1024 1024) (wa : Mat 512 1024) (wb : Mat 256 1024) (wc : Mat 512 1024) (hb : Blk row dx y z bias wo wa wb wc x0 x1 x2 x3 x4 x5 x6 x7 x8 x9 x10 x11 x12) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 = XO row dx z bias wo 2 wc := by
  funext q
  unfold out0_B_18
  refine View.read_writes_apply_of_pieces _ _ (XO row dx z bias wo 2 wc) _ ?_ q (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xo15 q)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, dm_read row dx wo _ x0 x12 hb.h0 hb.h12, dy_read row dx y z bias wo wa wb wc hb]
  refine (full_pieces (s := S256x512) (e := .f32) _ inb_S256x512_S256x512_0_0 _ (XO row dx z bias wo 2 wc) fun x => ?_).mem
  obtain ⟨r, c, rfl⟩ : ∃ r c, x = ix2 r c := ⟨_, _, eq_ix2 x⟩
  exact (pay_do _ _ _ _ _ _ _ _ r c).trans ((congrArg₂ (· + ·) (congrArg₂ (· + ·) (congrArg₂ (· + ·) (do_sum row dx z bias wo 2 wc x11 hb.h11 2 rfl 0 0 0 rfl rfl inb_S3x256x1024_S1x256x256_2_0_0 inb_S4x512x256_S1x512x256_0_0_0 r c)
      (do_sum row dx z bias wo 2 wc x11 hb.h11 2 rfl 1 1 256 rfl rfl inb_S3x256x1024_S1x256x256_2_0_256 inb_S4x512x256_S1x512x256_1_0_0 r c))
      (do_sum row dx z bias wo 2 wc x11 hb.h11 2 rfl 2 2 512 rfl rfl inb_S3x256x1024_S1x256x256_2_0_512 inb_S4x512x256_S1x512x256_2_0_0 r c))
      (do_sum row dx z bias wo 2 wc x11 hb.h11 2 rfl 3 3 768 rfl rfl inb_S3x256x1024_S1x256x256_2_0_768 inb_S4x512x256_S1x512x256_3_0_0 r c)).trans (do_total row dx z bias wo 2 wc r c).symm)

end Cert.KernelIdeal.MixBwd

end
-- ==== Proof.RefValue.lean ====
/-
  The reference's six results are the functions of the Spec module: its stages read at an index, one after another.
-/
module

public import proofs.«01_k».proof.Proof.Spec
public import proofs.«01_k».proof.Proof.Gen.ReferenceIdeal.Read
public import Idealize.ShloMosaic.Lib.KernelVsHost
public import Idealize.ShloMosaic.Lib.IdealHost

@[expose] public section

set_option maxRecDepth 16384

noncomputable section

namespace Cert.ReferenceIdeal.RefValue

open Cert.ReferenceIdeal Cert.ReferenceIdeal.Gen Cert.ReferenceIdeal.Read Cert.MixBwd
open Idealize.ShloMosaic Idealize.ShloMosaic.ValueIdx Idealize.ShloMosaic.TcCoe

variable (x0 : Mat 8192 1024) (x1 : Mat 8192 512) (x2 : Mat 8192 256) (x3 : Mat 8192 512) (x4 : Mat 8192 6656) (x5 : Mat 1 3072)
  (x6 : Mat 512 1024) (x7 : Mat 256 1024) (x8 : Mat 512 1024) (x9 : Mat 1024 1024)

/-- The gates. -/
theorem v15 (r : Fin 8192) (q : Fin 3072) : val_main_v15 (F := Ideal) x4 x5 (ix2 r q) = gate x4 x5 r q := by
  rw [val_main_v15_apply, val_main_v14_apply, val_main_v13_apply, val_main_v12_apply, val_main_v11_apply, val_main_v10_apply,
    val_main_v9_apply, val_main_v8_apply, val_main_v7_apply, val_main_cst_apply, val_main_cst_0_apply]
  rw [show idx_main_v7 (ix2 r q) = ix2 r ⟨3584 + q.val, by omega⟩ from Shape.idx_ext₂ (by show _ = r.val; simp) (by show _ = 3584 + q.val; simp),
    show idx_main_v8 (ix2 r q) = ix2 0 q from Shape.idx_ext₂ (by show _ = 0; simp) (by show _ = q.val; simp)]
  show Ideal.div (Ideal.ofBits .f32 0x3F800000#32) (Ideal.ofBits .f32 0x3F800000#32 + Ideal.exp (-(_ + _))) = _
  rw [Idealize.ShloMosaic.Ideal.ofBits_one_f32]; rfl

/-- The merged cotangent. -/
theorem v38 (r : Fin 8192) (c : Fin 1024) : val_main_v38 (F := Ideal) x0 x9 (ix2 r c) = dmerged x0 x9 r c := by
  rw [val_main_v38_apply]
  refine Finset.sum_congr rfl fun k _ => ?_
  rw [show lidx_main_v38 (ix2 r c) k = ix2 r k from Shape.idx_ext₂ rfl rfl, show ridx_main_v38 (ix2 r c) k = ix2 c k from Shape.idx_ext₂ rfl rfl]

/-- The three branches' gates. -/
theorem v21 (r : Fin 8192) (c : Fin 1024) : val_main_v21 (F := Ideal) x4 x5 (ix2 r c) = gate x4 x5 r (lane 0 c) := by
  rw [val_main_v21_apply, val_main_v20_apply, val_main_v19_apply, ← v15]
  refine congrArg _ (Shape.idx_ext₂ ?_ ?_)
  all_goals have e0 : (ix2 r c 0).val = r.val := rfl
  all_goals have e1 : (ix2 r c 1).val = c.val := rfl
  · simp; show _ = r.val; omega
  · simp; omega
theorem v26 (r : Fin 8192) (c : Fin 1024) : val_main_v26 (F := Ideal) x4 x5 (ix2 r c) = gate x4 x5 r (lane 1 c) := by
  rw [val_main_v26_apply, val_main_v25_apply, val_main_v19_apply, ← v15]
  refine congrArg _ (Shape.idx_ext₂ ?_ ?_)
  all_goals have e0 : (ix2 r c 0).val = r.val := rfl
  all_goals have e1 : (ix2 r c 1).val = c.val := rfl
  · simp; show _ = r.val; omega
  · simp; omega
theorem v32 (r : Fin 8192) (c : Fin 1024) : val_main_v32 (F := Ideal) x4 x5 (ix2 r c) = gate x4 x5 r (lane 2 c) := by
  rw [val_main_v32_apply, val_main_v31_apply, val_main_v19_apply, ← v15]
  refine congrArg _ (Shape.idx_ext₂ ?_ ?_)
  all_goals have e0 : (ix2 r c 0).val = r.val := rfl
  all_goals have e1 : (ix2 r c 1).val = c.val := rfl
  · simp; show _ = r.val; omega
  · simp; omega

/-- The three branches' outputs, each a product. -/
theorem v0 (r : Fin 8192) (c : Fin 1024) : val_main_v0 (F := Ideal) x1 x6 (ix2 r c) = branch x1 x6 r c := by
  rw [val_main_v0_apply]
  refine Finset.sum_congr rfl fun k _ => ?_
  rw [show lidx_main_v0 (ix2 r c) k = ix2 r k from Shape.idx_ext₂ rfl rfl, show ridx_main_v0 (ix2 r c) k = ix2 k c from Shape.idx_ext₂ rfl rfl]
theorem v1 (r : Fin 8192) (c : Fin 1024) : val_main_v1 (F := Ideal) x2 x7 (ix2 r c) = branch x2 x7 r c := by
  rw [val_main_v1_apply]
  refine Finset.sum_congr rfl fun k _ => ?_
  rw [show lidx_main_v1 (ix2 r c) k = ix2 r k from Shape.idx_ext₂ rfl rfl, show ridx_main_v1 (ix2 r c) k = ix2 k c from Shape.idx_ext₂ rfl rfl]
theorem v2 (r : Fin 8192) (c : Fin 1024) : val_main_v2 (F := Ideal) x3 x8 (ix2 r c) = branch x3 x8 r c := by
  rw [val_main_v2_apply]
  refine Finset.sum_congr rfl fun k _ => ?_
  rw [show lidx_main_v2 (ix2 r c) k = ix2 r k from Shape.idx_ext₂ rfl rfl, show ridx_main_v2 (ix2 r c) k = ix2 k c from Shape.idx_ext₂ rfl rfl]

/-- The three branches' outputs stacked: branch `b` of the stack is branch `b`. -/
theorem v6 (b : Fin 3) (r : Fin 8192) (c : Fin 1024) :
    val_main_v6 (F := Ideal) x1 x2 x3 x6 x7 x8 (ix3 b r c) = branches x1 x2 x3 x6 x7 x8 b r c := by
  have hx (q : Fin 3) (z : Fin 1) : ∀ a : Fin 3, (Fin.cast rfl a : Fin 3) ≠ (0 : Fin 3) → (ix3 z r c a).val = (ix3 q r c (Fin.cast rfl a)).val :=
    fun a ha => by match a with | ⟨0, _⟩ => exact absurd rfl ha | ⟨1, _⟩ => rfl | ⟨2, _⟩ => rfl
  unfold val_main_v6
  match b with
  | 0 =>
    refine (concatenate_apply_piece (t := S3x8192x1024) (0 : Fin 3) [⟨S1x8192x1024, val_main_v3 (F := Ideal) x1 x6⟩, ⟨S1x8192x1024, val_main_v4 (F := Ideal) x2 x7⟩, ⟨S1x8192x1024, val_main_v5 (F := Ideal) x3 x8⟩] _ (ix3 0 r c) 0 (show 0 < 3 by decide) S1x8192x1024 (val_main_v3 (F := Ideal) x1 x6) rfl rfl 0 rfl (ix3 0 r c) (hx 0 0) rfl).trans ?_
    rw [val_main_v3_apply]
    rw [show idx_main_v3 (ix3 0 r c) = ix2 r c from Shape.idx_ext₂ rfl rfl]
    exact v0 x1 x6 r c
  | 1 =>
    refine (concatenate_apply_piece (t := S3x8192x1024) (0 : Fin 3) [⟨S1x8192x1024, val_main_v3 (F := Ideal) x1 x6⟩, ⟨S1x8192x1024, val_main_v4 (F := Ideal) x2 x7⟩, ⟨S1x8192x1024, val_main_v5 (F := Ideal) x3 x8⟩] _ (ix3 1 r c) 1 (show 1 < 3 by decide) S1x8192x1024 (val_main_v4 (F := Ideal) x2 x7) rfl rfl 1 rfl (ix3 0 r c) (hx 1 0) rfl).trans ?_
    rw [val_main_v4_apply]
    rw [show idx_main_v4 (ix3 0 r c) = ix2 r c from Shape.idx_ext₂ rfl rfl]
    exact v1 x2 x7 r c
  | 2 =>
    refine (concatenate_apply_piece (t := S3x8192x1024) (0 : Fin 3) [⟨S1x8192x1024, val_main_v3 (F := Ideal) x1 x6⟩, ⟨S1x8192x1024, val_main_v4 (F := Ideal) x2 x7⟩, ⟨S1x8192x1024, val_main_v5 (F := Ideal) x3 x8⟩] _ (ix3 2 r c) 2 (show 2 < 3 by decide) S1x8192x1024 (val_main_v5 (F := Ideal) x3 x8) rfl rfl 2 rfl (ix3 0 r c) (hx 2 0) rfl).trans ?_
    rw [val_main_v5_apply]
    rw [show idx_main_v5 (ix3 0 r c) = ix2 r c from Shape.idx_ext₂ rfl rfl]
    exact v2 x3 x8 r c

/-- … so each branch cut out of the stack is that branch. -/
theorem v23 (r : Fin 8192) (c : Fin 1024) : val_main_v23 (F := Ideal) x1 x2 x3 x6 x7 x8 (ix2 r c) = branches x1 x2 x3 x6 x7 x8 0 r c := by
  rw [val_main_v23_apply, val_main_v22_apply, ← v6]
  refine congrArg _ (idx_ext₃ ?_ ?_ ?_)
  all_goals have e0 : (ix2 r c 0).val = r.val := rfl
  all_goals have e1 : (ix2 r c 1).val = c.val := rfl
  · simp
  · simp; show _ = r.val; omega
  · simp
theorem v28 (r : Fin 8192) (c : Fin 1024) : val_main_v28 (F := Ideal) x1 x2 x3 x6 x7 x8 (ix2 r c) = branches x1 x2 x3 x6 x7 x8 1 r c := by
  rw [val_main_v28_apply, val_main_v27_apply, ← v6]
  refine congrArg _ (idx_ext₃ ?_ ?_ ?_)
  all_goals have e0 : (ix2 r c 0).val = r.val := rfl
  all_goals have e1 : (ix2 r c 1).val = c.val := rfl
  · simp
  · simp; show _ = r.val; omega
  · simp
theorem v34 (r : Fin 8192) (c : Fin 1024) : val_main_v34 (F := Ideal) x1 x2 x3 x6 x7 x8 (ix2 r c) = branches x1 x2 x3 x6 x7 x8 2 r c := by
  rw [val_main_v34_apply, val_main_v33_apply, ← v6]
  refine congrArg _ (idx_ext₃ ?_ ?_ ?_)
  all_goals have e0 : (ix2 r c 0).val = r.val := rfl
  all_goals have e1 : (ix2 r c 1).val = c.val := rfl
  · simp
  · simp; show _ = r.val; omega
  · simp

/-- The branches' gradients: three padded stacks added, of which one is not padding at each branch. -/
theorem v57 (b : Fin 3) (r : Fin 8192) (c : Fin 1024) :
    val_main_v57 (F := Ideal) x0 x4 x5 x9 (ix3 b r c) = dy x0 x4 x5 x9 b r c := by
  rw [val_main_v57_apply, val_main_v49_apply]
  show val_main_v42 (F := Ideal) x0 x4 x5 x9 _ + val_main_v48 (F := Ideal) x0 x4 x5 x9 _ + val_main_v56 (F := Ideal) x0 x4 x5 x9 _ = _
  unfold val_main_v42 val_main_v48 val_main_v56
  have z2 : val_main_cst_2 (F := Ideal) (Shape.Idx.first h_S_) = 0 := Ideal.ofBits_zero_f32
  have z4 : val_main_cst_4 (F := Ideal) (Shape.Idx.first h_S_) = 0 := Ideal.ofBits_zero_f32
  have z6 : val_main_cst_6 (F := Ideal) (Shape.Idx.first h_S_) = 0 := Ideal.ofBits_zero_f32
  have e41 : val_main_v41 (F := Ideal) x0 x4 x5 x9 (ix3 0 r c) = dy x0 x4 x5 x9 2 r c := by
    rw [val_main_v41_apply, show idx_main_v41 (ix3 0 r c) = ix2 r c from Shape.idx_ext₂ rfl rfl, val_main_v39_apply, v32, v38]; exact mul_comm _ _
  have e47 : val_main_v47 (F := Ideal) x0 x4 x5 x9 (ix3 0 r c) = dy x0 x4 x5 x9 1 r c := by
    rw [val_main_v47_apply, show idx_main_v47 (ix3 0 r c) = ix2 r c from Shape.idx_ext₂ rfl rfl, val_main_v45_apply, v26, v38]; exact mul_comm _ _
  have e55 : val_main_v55 (F := Ideal) x0 x4 x5 x9 (ix3 0 r c) = dy x0 x4 x5 x9 0 r c := by
    rw [val_main_v55_apply, show idx_main_v55 (ix3 0 r c) = ix2 r c from Shape.idx_ext₂ rfl rfl, val_main_v53_apply, v21, v38]; exact mul_comm _ _
  match b with
  | 0 =>
    rw [pad_apply_of_not_inside _ _ _ _ _ _ _ (ix3 0 r c) (0 : Fin 3) (by intro h; exact absurd (show (2:ℕ) ≤ 0 from h.1) (by decide)),
      pad_apply_of_not_inside _ _ _ _ _ _ _ (ix3 0 r c) (0 : Fin 3) (by intro h; exact absurd (show (1:ℕ) ≤ 0 from h.1) (by decide)),
      pad_apply_of_inside _ _ _ _ _ _ _ (ix3 0 r c) (ix3 0 r c) (fun a => by match a with | ⟨0, _⟩ => rfl | ⟨1, _⟩ => exact (Nat.zero_add _).trans (Nat.mul_one _) |>.symm | ⟨2, _⟩ => exact (Nat.zero_add _).trans (Nat.mul_one _) |>.symm),
      z2, z4, e55, zero_add, zero_add]
  | 1 =>
    rw [pad_apply_of_not_inside _ _ _ _ _ _ _ (ix3 1 r c) (0 : Fin 3) (by intro h; exact absurd (show (2:ℕ) ≤ 1 from h.1) (by decide)),
      pad_apply_of_inside _ _ _ _ _ _ _ (ix3 1 r c) (ix3 0 r c) (fun a => by match a with | ⟨0, _⟩ => rfl | ⟨1, _⟩ => exact (Nat.zero_add _).trans (Nat.mul_one _) |>.symm | ⟨2, _⟩ => exact (Nat.zero_add _).trans (Nat.mul_one _) |>.symm),
      pad_apply_of_not_inside _ _ _ _ _ _ _ (ix3 1 r c) (0 : Fin 3) (by intro h; exact absurd (show (1 : ℕ) / 1 < 1 from h.2.2) (by decide)),
      z2, z6, e47, zero_add, add_zero]
  | 2 =>
    rw [pad_apply_of_inside _ _ _ _ _ _ _ (ix3 2 r c) (ix3 0 r c) (fun a => by match a with | ⟨0, _⟩ => rfl | ⟨1, _⟩ => exact (Nat.zero_add _).trans (Nat.mul_one _) |>.symm | ⟨2, _⟩ => exact (Nat.zero_add _).trans (Nat.mul_one _) |>.symm),
      pad_apply_of_not_inside _ _ _ _ _ _ _ (ix3 2 r c) (0 : Fin 3) (by intro h; exact absurd (show (1 : ℕ) / 1 < 1 from h.2.2) (by decide)),
      pad_apply_of_not_inside _ _ _ _ _ _ _ (ix3 2 r c) (0 : Fin 3) (by intro h; exact absurd (show (2 : ℕ) / 1 < 1 from h.2.2) (by decide)),
      z4, z6, e41, add_zero, add_zero]

/-- The gates' cotangents: again three padded stacks added. -/
theorem v60 (b : Fin 3) (r : Fin 8192) (c : Fin 1024) :
    val_main_v60 (F := Ideal) x0 x1 x2 x3 x6 x7 x8 x9 (ix3 r b c) = dmerged x0 x9 r c * branches x1 x2 x3 x6 x7 x8 b r c := by
  rw [val_main_v60_apply, val_main_v52_apply]
  show val_main_v44 (F := Ideal) x0 x1 x2 x3 x6 x7 x8 x9 _ + val_main_v51 (F := Ideal) x0 x1 x2 x3 x6 x7 x8 x9 _ + val_main_v59 (F := Ideal) x0 x1 x2 x3 x6 x7 x8 x9 _ = _
  unfold val_main_v44 val_main_v51 val_main_v59
  have z3 : val_main_cst_3 (F := Ideal) (Shape.Idx.first h_S_) = 0 := Ideal.ofBits_zero_f32
  have z5 : val_main_cst_5 (F := Ideal) (Shape.Idx.first h_S_) = 0 := Ideal.ofBits_zero_f32
  have z7 : val_main_cst_7 (F := Ideal) (Shape.Idx.first h_S_) = 0 := Ideal.ofBits_zero_f32
  have e43 : val_main_v43 (F := Ideal) x0 x1 x2 x3 x6 x7 x8 x9 (ix3 r 0 c) = dmerged x0 x9 r c * branches x1 x2 x3 x6 x7 x8 2 r c := by
    rw [val_main_v43_apply, show idx_main_v43 (ix3 r 0 c) = ix2 r c from Shape.idx_ext₂ rfl rfl, val_main_v40_apply, v34, v38]; rfl
  have e50 : val_main_v50 (F := Ideal) x0 x1 x2 x3 x6 x7 x8 x9 (ix3 r 0 c) = dmerged x0 x9 r c * branches x1 x2 x3 x6 x7 x8 1 r c := by
    rw [val_main_v50_apply, show idx_main_v50 (ix3 r 0 c) = ix2 r c from Shape.idx_ext₂ rfl rfl, val_main_v46_apply, v28, v38]; rfl
  have e58 : val_main_v58 (F := Ideal) x0 x1 x2 x3 x6 x7 x8 x9 (ix3 r 0 c) = dmerged x0 x9 r c * branches x1 x2 x3 x6 x7 x8 0 r c := by
    rw [val_main_v58_apply, show idx_main_v58 (ix3 r 0 c) = ix2 r c from Shape.idx_ext₂ rfl rfl, val_main_v54_apply, v23, v38]; rfl
  match b with
  | 0 =>
    rw [pad_apply_of_not_inside _ _ _ _ _ _ _ (ix3 r 0 c) (1 : Fin 3) (by intro h; exact absurd (show (2:ℕ) ≤ 0 from h.1) (by decide)),
      pad_apply_of_not_inside _ _ _ _ _ _ _ (ix3 r 0 c) (1 : Fin 3) (by intro h; exact absurd (show (1:ℕ) ≤ 0 from h.1) (by decide)),
      pad_apply_of_inside _ _ _ _ _ _ _ (ix3 r 0 c) (ix3 r 0 c) (fun a => by match a with | ⟨0, _⟩ => exact (Nat.zero_add _).trans (Nat.mul_one _) |>.symm | ⟨1, _⟩ => rfl | ⟨2, _⟩ => exact (Nat.zero_add _).trans (Nat.mul_one _) |>.symm),
      z3, z5, e58, zero_add, zero_add]
  | 1 =>
    rw [pad_apply_of_not_inside _ _ _ _ _ _ _ (ix3 r 1 c) (1 : Fin 3) (by intro h; exact absurd (show (2:ℕ) ≤ 1 from h.1) (by decide)),
      pad_apply_of_inside _ _ _ _ _ _ _ (ix3 r 1 c) (ix3 r 0 c) (fun a => by match a with | ⟨0, _⟩ => exact (Nat.zero_add _).trans (Nat.mul_one _) |>.symm | ⟨1, _⟩ => rfl | ⟨2, _⟩ => exact (Nat.zero_add _).trans (Nat.mul_one _) |>.symm),
      pad_apply_of_not_inside _ _ _ _ _ _ _ (ix3 r 1 c) (1 : Fin 3) (by intro h; exact absurd (show (1 : ℕ) / 1 < 1 from h.2.2) (by decide)),
      z3, z7, e50, zero_add, add_zero]
  | 2 =>
    rw [pad_apply_of_inside _ _ _ _ _ _ _ (ix3 r 2 c) (ix3 r 0 c) (fun a => by match a with | ⟨0, _⟩ => exact (Nat.zero_add _).trans (Nat.mul_one _) |>.symm | ⟨1, _⟩ => rfl | ⟨2, _⟩ => exact (Nat.zero_add _).trans (Nat.mul_one _) |>.symm),
      pad_apply_of_not_inside _ _ _ _ _ _ _ (ix3 r 2 c) (1 : Fin 3) (by intro h; exact absurd (show (1 : ℕ) / 1 < 1 from h.2.2) (by decide)),
      pad_apply_of_not_inside _ _ _ _ _ _ _ (ix3 r 2 c) (1 : Fin 3) (by intro h; exact absurd (show (2 : ℕ) / 1 < 1 from h.2.2) (by decide)),
      z5, z7, e43, add_zero, add_zero]

/-- The gate arguments' gradient. -/
theorem v62 (r : Fin 8192) (q : Fin 3072) :
    val_main_v62 (F := Ideal) x0 x1 x2 x3 x4 x5 x6 x7 x8 x9 (ix2 r q) = dgate x0 (branches x1 x2 x3 x6 x7 x8) x4 x5 x9 r q := by
  rw [val_main_v62_apply, val_main_v61_apply, val_main_v18_apply, val_main_v17_apply, val_main_v16_apply, val_main_cst_1_apply, v15,
    show idx_main_v61 (ix2 r q) = ix3 r (laneBranch q) (laneCol q) from by
      have e0 : (ix2 r q 0).val = r.val := rfl
      have e1 : (ix2 r q 1).val = q.val := rfl
      refine idx_ext₃ ?_ ?_ ?_
      · simp; show _ = r.val; omega
      · simp; omega
      · simp; show (_ * 3072 + q.val) % 1024 = _; omega, v60]
  show _ * (_ * (Ideal.ofBits .f32 0x3F800000#32 - _)) = _
  rw [Ideal.ofBits_one_f32]; rfl

/-- Result 0. -/
theorem res0 : val_main_v66 (F := Ideal) x0 x4 x5 x9 = DY x0 x4 x5 x9 := by
  funext i
  obtain ⟨b, r, c, rfl⟩ : ∃ b r c, i = ix3 b r c := ⟨_, _, _, eq_ix3 i⟩
  rw [val_main_v66_apply]
  exact v57 x0 x4 x5 x9 _ _ _

/-- Result 1. -/
theorem res1 : val_main_v67 (F := Ideal) x0 x1 x2 x3 x4 x5 x6 x7 x8 x9 = DZ x0 (branches x1 x2 x3 x6 x7 x8) x4 x5 x9 := by
  funext i
  obtain ⟨r, p, rfl⟩ : ∃ r p, i = ix2 r p := ⟨_, _, eq_ix2 i⟩
  rw [val_main_v67_apply]
  show val_main_v65 (F := Ideal) x0 x1 x2 x3 x4 x5 x6 x7 x8 x9 (ix2 r p) = _
  unfold val_main_v65 DZ
  by_cases h : 3584 ≤ p.val
  · rw [dif_pos h, pad_apply_of_inside _ _ _ _ _ _ _ (ix2 r p) (ix2 r (⟨p.val - 3584, by omega⟩ : Fin 3072)) (fun a => by
      match a with
      | ⟨0, _⟩ => exact (Nat.zero_add _).trans (Nat.mul_one _) |>.symm
      | ⟨1, _⟩ => show p.val = 3584 + (p.val - 3584) * 1; omega), v62]
  · rw [dif_neg h, pad_apply_of_not_inside _ _ _ _ _ _ _ (ix2 r p) (1 : Fin 2) (by intro h'; exact absurd (show 3584 ≤ p.val from h'.1) h)]
    exact Ideal.ofBits_zero_f32

/-- Result 2. -/
theorem res2 : val_main_v64 (F := Ideal) x0 x1 x2 x3 x4 x5 x6 x7 x8 x9 = DB x0 (branches x1 x2 x3 x6 x7 x8) x4 x5 x9 := by
  funext i
  obtain ⟨r, p, rfl⟩ : ∃ r p, i = ix2 r p := ⟨_, _, eq_ix2 i⟩
  rw [val_main_v64_apply, val_main_v63_apply, show val_main_cst_8 (F := Ideal) (Shape.Idx.first h_S_) = 0 from Ideal.ofBits_zero_f32, zero_add]
  refine Finset.sum_congr rfl fun k _ => ?_
  rw [show idx_main_v63 (idx_main_v64 (ix2 r p)) k = ix2 k p from Shape.idx_ext₂ rfl (by
    have hr : r.val = 0 := by omega
    show r.val * 3072 + p.val = p.val; omega), v62]

/-- Results 3, 4 and 5. -/
theorem res3 : val_main_v76 (F := Ideal) x0 x4 x5 x6 x9 = DO 0 x0 x4 x5 x9 x6 := by
  funext i
  obtain ⟨r, p, rfl⟩ : ∃ r p, i = ix2 r p := ⟨_, _, eq_ix2 i⟩
  rw [val_main_v76_apply]
  refine Finset.sum_congr rfl fun k _ => ?_
  rw [show ridx_main_v76 (ix2 r p) k = ix2 p k from Shape.idx_ext₂ rfl rfl, show lidx_main_v76 (ix2 r p) k = ix2 r k from Shape.idx_ext₂ rfl rfl,
    val_main_v69_apply, val_main_v68_apply, show idx_main_v68 (idx_main_v69 (ix2 r k)) = ix3 0 r k from idx_ext₃
      (by simp) (by have e0 : (ix2 r k 0).val = r.val := rfl
                    have e1 : (ix2 r k 1).val = k.val := rfl
                    simp; show _ = r.val; omega) (by simp), v57]
theorem res4 : val_main_v75 (F := Ideal) x0 x4 x5 x7 x9 = DO 1 x0 x4 x5 x9 x7 := by
  funext i
  obtain ⟨r, p, rfl⟩ : ∃ r p, i = ix2 r p := ⟨_, _, eq_ix2 i⟩
  rw [val_main_v75_apply]
  refine Finset.sum_congr rfl fun k _ => ?_
  rw [show ridx_main_v75 (ix2 r p) k = ix2 p k from Shape.idx_ext₂ rfl rfl, show lidx_main_v75 (ix2 r p) k = ix2 r k from Shape.idx_ext₂ rfl rfl,
    val_main_v71_apply, val_main_v70_apply, show idx_main_v70 (idx_main_v71 (ix2 r k)) = ix3 1 r k from idx_ext₃
      (by simp) (by have e0 : (ix2 r k 0).val = r.val := rfl
                    have e1 : (ix2 r k 1).val = k.val := rfl
                    simp; show _ = r.val; omega) (by simp), v57]
theorem res5 : val_main_v74 (F := Ideal) x0 x4 x5 x8 x9 = DO 2 x0 x4 x5 x9 x8 := by
  funext i
  obtain ⟨r, p, rfl⟩ : ∃ r p, i = ix2 r p := ⟨_, _, eq_ix2 i⟩
  rw [val_main_v74_apply]
  refine Finset.sum_congr rfl fun k _ => ?_
  rw [show ridx_main_v74 (ix2 r p) k = ix2 p k from Shape.idx_ext₂ rfl rfl, show lidx_main_v74 (ix2 r p) k = ix2 r k from Shape.idx_ext₂ rfl rfl,
    val_main_v73_apply, val_main_v72_apply, show idx_main_v72 (idx_main_v73 (ix2 r k)) = ix3 2 r k from idx_ext₃
      (by simp) (by have e0 : (ix2 r k 0).val = r.val := rfl
                    have e1 : (ix2 r k 1).val = k.val := rfl
                    simp; show _ = r.val; omega) (by simp), v57]

end Cert.ReferenceIdeal.RefValue
end
-- ==== Proof.Host.lean ====
/-
  What the host's lines before the call leave in the arrays the kernel reads: the three branch weights cut into four
  column blocks, the output weight into four row blocks, and the stack of the three branches' outputs.
-/
module

public import proofs.«01_k».proof.Proof.Spec
public import proofs.«01_k».proof.Proof.RefValue
public import proofs.«01_k».proof.Proof.Gen.KernelIdeal.Frame
public import Idealize.ShloMosaic.Lib.StableHlo.RunRead

@[expose] public section

set_option maxRecDepth 16384

noncomputable section

namespace Cert.KernelIdeal.MixBwd

open Idealize.ShloMosaic Idealize.ShloMosaic.TcCoe Idealize.ShloMosaic.ValueIdx
open Cert.KernelIdeal Cert.KernelIdeal.Gen Cert.MixBwd

/-- One column block of a weight, as the first member of a stack of one. -/
theorem colPiece {n : Nat} (w : Mat n 1024) (o : Nat) (ho : o + 256 ≤ 1024) (hs : (⟨2, ![n, 1024]⟩ : Shape).Slices ![0, o] ⟨2, ![n, 256]⟩)
    (hb : (⟨2, ![n, 256]⟩ : Shape).BroadcastsInDim ⟨3, ![1, n, 256]⟩ ![1, 2]) (hn : n ≠ 1) (p : Fin n) (k : Fin 256) :
    broadcastInDim ⟨3, ![1, n, 256]⟩ ![1, 2] hb (extractStridedSlice ⟨2, ![n, 256]⟩ ![0, o] w hs) (ix3 0 p k) = w (ix2 p ⟨o + k.val, by omega⟩) := by
  rw [broadcastInDim_apply _ hb _ _ (ix2 p k) (fun a => by
      match a with
      | ⟨0, _⟩ => exact (if_neg hn).symm
      | ⟨1, _⟩ => rfl)]
  exact extractStridedSlice_apply _ _ hs _ (ix2 p ⟨o + k.val, by omega⟩) fun a => by
      match a with
      | ⟨0, _⟩ => exact (Nat.zero_add _).symm
      | ⟨1, _⟩ => rfl

/-- Four stacks of one, one behind the other. -/
theorem cat4 {n : Nat} (x0 x1 x2 x3 : Stack 1 n 256) (f : Fin 4 → Fin n → Fin 256 → EReal)
    (h : Shape.Concatenates [⟨3, ![1, n, 256]⟩, ⟨3, ![1, n, 256]⟩, ⟨3, ![1, n, 256]⟩, ⟨3, ![1, n, 256]⟩] (⟨3, ![4, n, 256]⟩ : Shape) 0)
    (h0 : ∀ p k, x0 (ix3 0 p k) = f 0 p k) (h1 : ∀ p k, x1 (ix3 0 p k) = f 1 p k) (h2 : ∀ p k, x2 (ix3 0 p k) = f 2 p k) (h3 : ∀ p k, x3 (ix3 0 p k) = f 3 p k)
    (j : Fin 4) (p : Fin n) (k : Fin 256) :
    concatenate (⟨3, ![4, n, 256]⟩ : Shape) 0 [⟨⟨3, ![1, n, 256]⟩, x0⟩, ⟨⟨3, ![1, n, 256]⟩, x1⟩, ⟨⟨3, ![1, n, 256]⟩, x2⟩, ⟨⟨3, ![1, n, 256]⟩, x3⟩] h (ix3 j p k) = f j p k := by
  have hx (q : Fin 4) : ∀ a : Fin 3, (Fin.cast rfl a : Fin 3) ≠ (0 : Fin 3) → (ix3 (0 : Fin 1) p k a).val = (ix3 q p k (Fin.cast rfl a)).val :=
    fun a ha => by match a with | ⟨0, _⟩ => exact absurd rfl ha | ⟨1, _⟩ => rfl | ⟨2, _⟩ => rfl
  match j with
  | 0 => exact (concatenate_apply_piece (t := ⟨3, ![4, n, 256]⟩) (0 : Fin 3) [⟨⟨3, ![1, n, 256]⟩, x0⟩, ⟨⟨3, ![1, n, 256]⟩, x1⟩, ⟨⟨3, ![1, n, 256]⟩, x2⟩, ⟨⟨3, ![1, n, 256]⟩, x3⟩] h (ix3 0 p k) 0 (show 0 < 4 by decide) ⟨3, ![1, n, 256]⟩ x0 rfl rfl 0 rfl (ix3 0 p k) (hx 0) rfl).trans (h0 p k)
  | 1 => exact (concatenate_apply_piece (t := ⟨3, ![4, n, 256]⟩) (0 : Fin 3) [⟨⟨3, ![1, n, 256]⟩, x0⟩, ⟨⟨3, ![1, n, 256]⟩, x1⟩, ⟨⟨3, ![1, n, 256]⟩, x2⟩, ⟨⟨3, ![1, n, 256]⟩, x3⟩] h (ix3 1 p k) 1 (show 1 < 4 by decide) ⟨3, ![1, n, 256]⟩ x1 rfl rfl 1 rfl (ix3 0 p k) (hx 1) rfl).trans (h1 p k)
  | 2 => exact (concatenate_apply_piece (t := ⟨3, ![4, n, 256]⟩) (0 : Fin 3) [⟨⟨3, ![1, n, 256]⟩, x0⟩, ⟨⟨3, ![1, n, 256]⟩, x1⟩, ⟨⟨3, ![1, n, 256]⟩, x2⟩, ⟨⟨3, ![1, n, 256]⟩, x3⟩] h (ix3 2 p k) 2 (show 2 < 4 by decide) ⟨3, ![1, n, 256]⟩ x2 rfl rfl 2 rfl (ix3 0 p k) (hx 2) rfl).trans (h2 p k)
  | 3 => exact (concatenate_apply_piece (t := ⟨3, ![4, n, 256]⟩) (0 : Fin 3) [⟨⟨3, ![1, n, 256]⟩, x0⟩, ⟨⟨3, ![1, n, 256]⟩, x1⟩, ⟨⟨3, ![1, n, 256]⟩, x2⟩, ⟨⟨3, ![1, n, 256]⟩, x3⟩] h (ix3 3 p k) 3 (show 3 < 4 by decide) ⟨3, ![1, n, 256]⟩ x3 rfl rfl 3 rfl (ix3 0 p k) (hx 3) rfl).trans (h3 p k)

variable (m : (ℓ : Loc nD τ sig) → Buf (Elt Ideal) ℓ)

/-- The kernel's array %v9: the four column blocks of argument 6. -/
theorem v9 (c : Dev nD) (j : Fin 4) (p : Fin 512) (k : Fin 256) :
    V m c main_v9 (ix3 j p k) = (m ((c : Thread nD τ).loc main_arg6) : Mat 512 1024) (ix2 p ⟨256 * j.val + k.val, by omega⟩) := by
  have e : V m c main_v9 = truncf (F := Ideal) FTy.bf16 (concatenate S4x512x256 0 [⟨S1x512x256, StableHlo.upto hostOps0 (fun b => m (c, b)) 8 (Proc.tc.devRef main_v4)⟩, ⟨S1x512x256, StableHlo.upto hostOps0 (fun b => m (c, b)) 8 (Proc.tc.devRef main_v5)⟩, ⟨S1x512x256, StableHlo.upto hostOps0 (fun b => m (c, b)) 8 (Proc.tc.devRef main_v6)⟩, ⟨S1x512x256, StableHlo.upto hostOps0 (fun b => m (c, b)) 8 (Proc.tc.devRef main_v7)⟩]
      concatenates_S1x512x256_S1x512x256_S1x512x256_S1x512x256_S4x512x256_d0 : Vec Ideal S4x512x256 .f32) bitsLt_bf16_f32 := by
    unfold V
    after_reads_simp
    rfl
  rw [e]
  show concatenate S4x512x256 0 [⟨S1x512x256, StableHlo.upto hostOps0 (fun b => m (c, b)) 8 (Proc.tc.devRef main_v4)⟩, ⟨S1x512x256, StableHlo.upto hostOps0 (fun b => m (c, b)) 8 (Proc.tc.devRef main_v5)⟩, ⟨S1x512x256, StableHlo.upto hostOps0 (fun b => m (c, b)) 8 (Proc.tc.devRef main_v6)⟩, ⟨S1x512x256, StableHlo.upto hostOps0 (fun b => m (c, b)) 8 (Proc.tc.devRef main_v7)⟩] concatenates_S1x512x256_S1x512x256_S1x512x256_S1x512x256_S4x512x256_d0 (ix3 j p k) = _
  refine cat4 (n := 512) _ _ _ _ (fun j p k => (m ((c : Thread nD τ).loc main_arg6) : Mat 512 1024) (ix2 p ⟨256 * j.val + k.val, by omega⟩)) _ ?_ ?_ ?_ ?_ j p k
  · intro p k
    have u : StableHlo.upto hostOps0 (fun b => m (c, b)) 8 (Proc.tc.devRef main_v4) = broadcastInDim S1x512x256 ![1, 2] bcast_S512x256_S1x512x256_1_2
        (extractStridedSlice S512x256 ![0, 0] (m (c, Proc.tc.devRef main_arg6)) slices_S512x1024_S512x256_0_0) := by after_reads_simp
    rw [u]
    exact colPiece (n := 512) _ 0 (by decide) _ _ (by decide) p k
  · intro p k
    have u : StableHlo.upto hostOps0 (fun b => m (c, b)) 8 (Proc.tc.devRef main_v5) = broadcastInDim S1x512x256 ![1, 2] bcast_S512x256_S1x512x256_1_2
        (extractStridedSlice S512x256 ![0, 256] (m (c, Proc.tc.devRef main_arg6)) slices_S512x1024_S512x256_0_256) := by after_reads_simp
    rw [u]
    exact colPiece (n := 512) _ 256 (by decide) _ _ (by decide) p k
  · intro p k
    have u : StableHlo.upto hostOps0 (fun b => m (c, b)) 8 (Proc.tc.devRef main_v6) = broadcastInDim S1x512x256 ![1, 2] bcast_S512x256_S1x512x256_1_2
        (extractStridedSlice S512x256 ![0, 512] (m (c, Proc.tc.devRef main_arg6)) slices_S512x1024_S512x256_0_512) := by after_reads_simp
    rw [u]
    exact colPiece (n := 512) _ 512 (by decide) _ _ (by decide) p k
  · intro p k
    have u : StableHlo.upto hostOps0 (fun b => m (c, b)) 8 (Proc.tc.devRef main_v7) = broadcastInDim S1x512x256 ![1, 2] bcast_S512x256_S1x512x256_1_2
        (extractStridedSlice S512x256 ![0, 768] (m (c, Proc.tc.devRef main_arg6)) slices_S512x1024_S512x256_0_768) := by after_reads_simp
    rw [u]
    exact colPiece (n := 512) _ 768 (by decide) _ _ (by decide) p k

/-- The kernel's array %v19: the four column blocks of argument 7. -/
theorem v19 (c : Dev nD) (j : Fin 4) (p : Fin 256) (k : Fin 256) :
    V m c main_v19 (ix3 j p k) = (m ((c : Thread nD τ).loc main_arg7) : Mat 256 1024) (ix2 p ⟨256 * j.val + k.val, by omega⟩) := by
  have e : V m c main_v19 = truncf (F := Ideal) FTy.bf16 (concatenate S4x256x256 0 [⟨S1x256x256, StableHlo.upto hostOps0 (fun b => m (c, b)) 18 (Proc.tc.devRef main_v14)⟩, ⟨S1x256x256, StableHlo.upto hostOps0 (fun b => m (c, b)) 18 (Proc.tc.devRef main_v15)⟩, ⟨S1x256x256, StableHlo.upto hostOps0 (fun b => m (c, b)) 18 (Proc.tc.devRef main_v16)⟩, ⟨S1x256x256, StableHlo.upto hostOps0 (fun b => m (c, b)) 18 (Proc.tc.devRef main_v17)⟩]
      concatenates_S1x256x256_S1x256x256_S1x256x256_S1x256x256_S4x256x256_d0 : Vec Ideal S4x256x256 .f32) bitsLt_bf16_f32 := by
    unfold V
    after_reads_simp
    rfl
  rw [e]
  show concatenate S4x256x256 0 [⟨S1x256x256, StableHlo.upto hostOps0 (fun b => m (c, b)) 18 (Proc.tc.devRef main_v14)⟩, ⟨S1x256x256, StableHlo.upto hostOps0 (fun b => m (c, b)) 18 (Proc.tc.devRef main_v15)⟩, ⟨S1x256x256, StableHlo.upto hostOps0 (fun b => m (c, b)) 18 (Proc.tc.devRef main_v16)⟩, ⟨S1x256x256, StableHlo.upto hostOps0 (fun b => m (c, b)) 18 (Proc.tc.devRef main_v17)⟩] concatenates_S1x256x256_S1x256x256_S1x256x256_S1x256x256_S4x256x256_d0 (ix3 j p k) = _
  refine cat4 (n := 256) _ _ _ _ (fun j p k => (m ((c : Thread nD τ).loc main_arg7) : Mat 256 1024) (ix2 p ⟨256 * j.val + k.val, by omega⟩)) _ ?_ ?_ ?_ ?_ j p k
  · intro p k
    have u : StableHlo.upto hostOps0 (fun b => m (c, b)) 18 (Proc.tc.devRef main_v14) = broadcastInDim S1x256x256 ![1, 2] bcast_S256x256_S1x256x256_1_2
        (extractStridedSlice S256x256 ![0, 0] (m (c, Proc.tc.devRef main_arg7)) slices_S256x1024_S256x256_0_0) := by after_reads_simp
    rw [u]
    exact colPiece (n := 256) _ 0 (by decide) _ _ (by decide) p k
  · intro p k
    have u : StableHlo.upto hostOps0 (fun b => m (c, b)) 18 (Proc.tc.devRef main_v15) = broadcastInDim S1x256x256 ![1, 2] bcast_S256x256_S1x256x256_1_2
        (extractStridedSlice S256x256 ![0, 256] (m (c, Proc.tc.devRef main_arg7)) slices_S256x1024_S256x256_0_256) := by after_reads_simp
    rw [u]
    exact colPiece (n := 256) _ 256 (by decide) _ _ (by decide) p k
  · intro p k
    have u : StableHlo.upto hostOps0 (fun b => m (c, b)) 18 (Proc.tc.devRef main_v16) = broadcastInDim S1x256x256 ![1, 2] bcast_S256x256_S1x256x256_1_2
        (extractStridedSlice S256x256 ![0, 512] (m (c, Proc.tc.devRef main_arg7)) slices_S256x1024_S256x256_0_512) := by after_reads_simp
    rw [u]
    exact colPiece (n := 256) _ 512 (by decide) _ _ (by decide) p k
  · intro p k
    have u : StableHlo.upto hostOps0 (fun b => m (c, b)) 18 (Proc.tc.devRef main_v17) = broadcastInDim S1x256x256 ![1, 2] bcast_S256x256_S1x256x256_1_2
        (extractStridedSlice S256x256 ![0, 768] (m (c, Proc.tc.devRef main_arg7)) slices_S256x1024_S256x256_0_768) := by after_reads_simp
    rw [u]
    exact colPiece (n := 256) _ 768 (by decide) _ _ (by decide) p k

/-- The kernel's array %v29: the four column blocks of argument 8. -/
theorem v29 (c : Dev nD) (j : Fin 4) (p : Fin 512) (k : Fin 256) :
    V m c main_v29 (ix3 j p k) = (m ((c : Thread nD τ).loc main_arg8) : Mat 512 1024) (ix2 p ⟨256 * j.val + k.val, by omega⟩) := by
  have e : V m c main_v29 = truncf (F := Ideal) FTy.bf16 (concatenate S4x512x256 0 [⟨S1x512x256, StableHlo.upto hostOps0 (fun b => m (c, b)) 28 (Proc.tc.devRef main_v24)⟩, ⟨S1x512x256, StableHlo.upto hostOps0 (fun b => m (c, b)) 28 (Proc.tc.devRef main_v25)⟩, ⟨S1x512x256, StableHlo.upto hostOps0 (fun b => m (c, b)) 28 (Proc.tc.devRef main_v26)⟩, ⟨S1x512x256, StableHlo.upto hostOps0 (fun b => m (c, b)) 28 (Proc.tc.devRef main_v27)⟩]
      concatenates_S1x512x256_S1x512x256_S1x512x256_S1x512x256_S4x512x256_d0 : Vec Ideal S4x512x256 .f32) bitsLt_bf16_f32 := by
    unfold V
    after_reads_simp
    rfl
  rw [e]
  show concatenate S4x512x256 0 [⟨S1x512x256, StableHlo.upto hostOps0 (fun b => m (c, b)) 28 (Proc.tc.devRef main_v24)⟩, ⟨S1x512x256, StableHlo.upto hostOps0 (fun b => m (c, b)) 28 (Proc.tc.devRef main_v25)⟩, ⟨S1x512x256, StableHlo.upto hostOps0 (fun b => m (c, b)) 28 (Proc.tc.devRef main_v26)⟩, ⟨S1x512x256, StableHlo.upto hostOps0 (fun b => m (c, b)) 28 (Proc.tc.devRef main_v27)⟩] concatenates_S1x512x256_S1x512x256_S1x512x256_S1x512x256_S4x512x256_d0 (ix3 j p k) = _
  refine cat4 (n := 512) _ _ _ _ (fun j p k => (m ((c : Thread nD τ).loc main_arg8) : Mat 512 1024) (ix2 p ⟨256 * j.val + k.val, by omega⟩)) _ ?_ ?_ ?_ ?_ j p k
  · intro p k
    have u : StableHlo.upto hostOps0 (fun b => m (c, b)) 28 (Proc.tc.devRef main_v24) = broadcastInDim S1x512x256 ![1, 2] bcast_S512x256_S1x512x256_1_2
        (extractStridedSlice S512x256 ![0, 0] (m (c, Proc.tc.devRef main_arg8)) slices_S512x1024_S512x256_0_0) := by after_reads_simp
    rw [u]
    exact colPiece (n := 512) _ 0 (by decide) _ _ (by decide) p k
  · intro p k
    have u : StableHlo.upto hostOps0 (fun b => m (c, b)) 28 (Proc.tc.devRef main_v25) = broadcastInDim S1x512x256 ![1, 2] bcast_S512x256_S1x512x256_1_2
        (extractStridedSlice S512x256 ![0, 256] (m (c, Proc.tc.devRef main_arg8)) slices_S512x1024_S512x256_0_256) := by after_reads_simp
    rw [u]
    exact colPiece (n := 512) _ 256 (by decide) _ _ (by decide) p k
  · intro p k
    have u : StableHlo.upto hostOps0 (fun b => m (c, b)) 28 (Proc.tc.devRef main_v26) = broadcastInDim S1x512x256 ![1, 2] bcast_S512x256_S1x512x256_1_2
        (extractStridedSlice S512x256 ![0, 512] (m (c, Proc.tc.devRef main_arg8)) slices_S512x1024_S512x256_0_512) := by after_reads_simp
    rw [u]
    exact colPiece (n := 512) _ 512 (by decide) _ _ (by decide) p k
  · intro p k
    have u : StableHlo.upto hostOps0 (fun b => m (c, b)) 28 (Proc.tc.devRef main_v27) = broadcastInDim S1x512x256 ![1, 2] bcast_S512x256_S1x512x256_1_2
        (extractStridedSlice S512x256 ![0, 768] (m (c, Proc.tc.devRef main_arg8)) slices_S512x1024_S512x256_0_768) := by after_reads_simp
    rw [u]
    exact colPiece (n := 512) _ 768 (by decide) _ _ (by decide) p k

/-- The kernel's array %v31: the four row blocks of the output weight. -/
theorem v31 (c : Dev nD) (j : Fin 4) (p : Fin 256) (k : Fin 1024) :
    V m c main_v31 (ix3 j p k) = (m ((c : Thread nD τ).loc main_arg9) : Mat 1024 1024) (ix2 ⟨256 * j.val + p.val, by omega⟩ k) := by
  have e : V m c main_v31 = truncf (F := Ideal) FTy.bf16 (fun i => shapeCast S4x256x1024 (m (c, Proc.tc.devRef main_arg9)) shapeCasts_S1024x1024_S4x256x1024 i : Vec Ideal S4x256x1024 .f32) bitsLt_bf16_f32 := by
    unfold V
    after_reads_simp
    rfl
  rw [e]
  show shapeCast S4x256x1024 (m (c, Proc.tc.devRef main_arg9)) _ (ix3 j p k) = _
  refine shapeCast_apply _ _ _ (ix2 ⟨256 * j.val + p.val, by omega⟩ k) ?_
  have e1 : (S4x256x1024.rowMajor (ix3 j p k)).val = (j.val * 256 + p.val) * 1024 + k.val := Shape.rowMajor_val_three _
  have e2 : (S1024x1024.rowMajor (ix2 (⟨256 * j.val + p.val, by omega⟩ : Fin 1024) k)).val = (256 * j.val + p.val) * 1024 + k.val := Shape.rowMajor_val_two _
  rw [e1]; exact e2.trans (by omega)

/-- The kernel's array %v39: the three branches' outputs. -/
theorem v39 (c : Dev nD) (b : Fin 3) (r : Fin 8192) (k : Fin 1024) :
    V m c main_v39 (ix3 b r k) = branches (m ((c : Thread nD τ).loc main_arg1)) (m ((c : Thread nD τ).loc main_arg2)) (m ((c : Thread nD τ).loc main_arg3))
      (m ((c : Thread nD τ).loc main_arg6)) (m ((c : Thread nD τ).loc main_arg7)) (m ((c : Thread nD τ).loc main_arg8)) b r k := by
  have e : V m c main_v39 = truncf (F := Ideal) FTy.bf16 (concatenate S3x8192x1024 0 [⟨S1x8192x1024, StableHlo.upto hostOps0 (fun b => m (c, b)) 38 (Proc.tc.devRef main_v35)⟩, ⟨S1x8192x1024, StableHlo.upto hostOps0 (fun b => m (c, b)) 38 (Proc.tc.devRef main_v36)⟩, ⟨S1x8192x1024, StableHlo.upto hostOps0 (fun b => m (c, b)) 38 (Proc.tc.devRef main_v37)⟩]
      concatenates_S1x8192x1024_S1x8192x1024_S1x8192x1024_S3x8192x1024_d0 : Vec Ideal S3x8192x1024 .f32) bitsLt_bf16_f32 := by
    unfold V
    after_reads_simp
    rfl
  have u35 : StableHlo.upto hostOps0 (fun b => m (c, b)) 38 (Proc.tc.devRef main_v35) = (Cert.ReferenceIdeal.Read.val_main_v3 (F := Ideal) (m ((c : Thread nD τ).loc main_arg1)) (m ((c : Thread nD τ).loc main_arg6)) : Vec Ideal S1x8192x1024 .f32) := by
    after_reads_simp
    rfl
  have u36 : StableHlo.upto hostOps0 (fun b => m (c, b)) 38 (Proc.tc.devRef main_v36) = (Cert.ReferenceIdeal.Read.val_main_v4 (F := Ideal) (m ((c : Thread nD τ).loc main_arg2)) (m ((c : Thread nD τ).loc main_arg7)) : Vec Ideal S1x8192x1024 .f32) := by
    after_reads_simp
    rfl
  have u37 : StableHlo.upto hostOps0 (fun b => m (c, b)) 38 (Proc.tc.devRef main_v37) = (Cert.ReferenceIdeal.Read.val_main_v5 (F := Ideal) (m ((c : Thread nD τ).loc main_arg3)) (m ((c : Thread nD τ).loc main_arg8)) : Vec Ideal S1x8192x1024 .f32) := by
    after_reads_simp
    rfl
  rw [e, u35, u36, u37]
  exact Cert.ReferenceIdeal.RefValue.v6 _ _ _ _ _ _ b r k

end Cert.KernelIdeal.MixBwd

end
-- ==== Proof.KValue.lean ====
/-
  The call's blocks over the whole grid: point `t` reads the rows `256 t … 256 t + 255`, so every block result it writes
  back is that block of the result arrays of `Spec`, and the bias' gradient, carried from point to point, ends as the sum
  over all rows.
-/
module

public import proofs.«01_k».proof.Proof.Point
public import proofs.«01_k».proof.Proof.Host
public import proofs.«01_k».proof.Proof.Gen.KernelIdeal.Value

@[expose] public section

set_option maxRecDepth 16384

noncomputable section

namespace Cert.KernelIdeal.MixBwd

open Idealize.ShloMosaic Idealize.ShloMosaic.TcCoe Idealize.ShloMosaic.ValueIdx Idealize.SL.Sem
open Cert.KernelIdeal Cert.KernelIdeal.Gen Cert.KernelIdeal.Value Cert.MixBwd

variable (m : (ℓ : Loc nD τ sig) → Buf (Elt Ideal) ℓ) (ρ : Dev nD → PrngReg)

/-- The rows of point `t`. -/
def row (t : Fin cfg0.N) (r : Fin 256) : Fin 8192 := ⟨t.val * 256 + r.val, by have h := t.isLt; have hN : cfg0.N = 32 := N_0; omega⟩

/-- The argument arrays on device `c`. -/
abbrev adx (c : Dev nD) : Mat 8192 1024 := m ((c : Thread nD τ).loc main_arg0)
/-- The projection, -/
abbrev az (c : Dev nD) : Mat 8192 6656 := m ((c : Thread nD τ).loc main_arg4)
/-- the gates' bias, -/
abbrev abias (c : Dev nD) : Mat 1 3072 := m ((c : Thread nD τ).loc main_arg5)
/-- the three branch weights -/
abbrev awa (c : Dev nD) : Mat 512 1024 := m ((c : Thread nD τ).loc main_arg6)
/-- (the second) -/
abbrev awb (c : Dev nD) : Mat 256 1024 := m ((c : Thread nD τ).loc main_arg7)
/-- (the third), -/
abbrev awc (c : Dev nD) : Mat 512 1024 := m ((c : Thread nD τ).loc main_arg8)
/-- the output weight, -/
abbrev awo (c : Dev nD) : Mat 1024 1024 := m ((c : Thread nD τ).loc main_arg9)
/-- and the branches' outputs. -/
abbrev ay (c : Dev nD) : Fin 3 → Fin 8192 → Fin 1024 → EReal :=
  branches (m ((c : Thread nD τ).loc main_arg1)) (m ((c : Thread nD τ).loc main_arg2)) (m ((c : Thread nD τ).loc main_arg3)) (awa m c) (awb m c) (awc m c)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = t.val ∧ win0_2.index t 1 = 7 :=
  (by decide +kernel : ∀ t : Fin grid0.N, win0_2.index t 0 = t.val ∧ win0_2.index t 1 = 7)
theorem index3 : ∀ t : Fin cfg0.N, win0_3.index t 0 = t.val ∧ win0_3.index t 1 = 8 :=
  (by decide +kernel : ∀ t : Fin grid0.N, win0_3.index t 0 = t.val ∧ win0_3.index t 1 = 8)
theorem index4 : ∀ t : Fin cfg0.N, win0_4.index t 0 = t.val ∧ win0_4.index t 1 = 9 :=
  (by decide +kernel : ∀ t : Fin grid0.N, win0_4.index t 0 = t.val ∧ win0_4.index t 1 = 9)
theorem index5 : ∀ t : Fin cfg0.N, win0_5.index t 0 = t.val ∧ win0_5.index t 1 = 10 :=
  (by decide +kernel : ∀ t : Fin grid0.N, win0_5.index t 0 = t.val ∧ win0_5.index t 1 = 10)
theorem index6 : ∀ t : Fin cfg0.N, win0_6.index t 0 = t.val ∧ win0_6.index t 1 = 11 :=
  (by decide +kernel : ∀ t : Fin grid0.N, win0_6.index t 0 = t.val ∧ win0_6.index t 1 = 11)
theorem index7 : ∀ t : Fin cfg0.N, win0_7.index t 0 = t.val ∧ win0_7.index t 1 = 12 :=
  (by decide +kernel : ∀ t : Fin grid0.N, win0_7.index t 0 = t.val ∧ win0_7.index t 1 = 12)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem index10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)
theorem index11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)
theorem index12 : ∀ t : Fin cfg0.N, win0_12.index t 0 = 0 ∧ win0_12.index t 1 = 0 ∧ win0_12.index t 2 = 0 :=
  (by decide +kernel : ∀ t : Fin grid0.N, win0_12.index t 0 = 0 ∧ win0_12.index t 1 = 0 ∧ win0_12.index t 2 = 0)
theorem index13 : ∀ t : Fin cfg0.N, win0_13.index t 0 = 0 ∧ win0_13.index t 1 = t.val ∧ win0_13.index t 2 = 0 :=
  (by decide +kernel : ∀ t : Fin grid0.N, win0_13.index t 0 = 0 ∧ win0_13.index t 1 = t.val ∧ win0_13.index t 2 = 0)
theorem index14 : ∀ t : Fin cfg0.N, win0_14.index t 0 = t.val ∧ win0_14.index t 1 = 0 :=
  (by decide +kernel : ∀ t : Fin grid0.N, win0_14.index t 0 = t.val ∧ win0_14.index t 1 = 0)
theorem index15 : ∀ t : Fin cfg0.N, win0_15.index t 0 = 0 ∧ win0_15.index t 1 = 0 :=
  (by decide +kernel : ∀ t : Fin grid0.N, win0_15.index t 0 = 0 ∧ win0_15.index t 1 = 0)
theorem index16 : ∀ t : Fin cfg0.N, win0_16.index t 0 = t.val ∧ win0_16.index t 1 = 0 :=
  (by decide +kernel : ∀ t : Fin grid0.N, win0_16.index t 0 = t.val ∧ win0_16.index t 1 = 0)
theorem index17 : ∀ t : Fin cfg0.N, win0_17.index t 0 = t.val ∧ win0_17.index t 1 = 0 :=
  (by decide +kernel : ∀ t : Fin grid0.N, win0_17.index t 0 = t.val ∧ win0_17.index t 1 = 0)
theorem index18 : ∀ t : Fin cfg0.N, win0_18.index t 0 = t.val ∧ win0_18.index t 1 = 0 :=
  (by decide +kernel : ∀ t : Fin grid0.N, win0_18.index t 0 = t.val ∧ win0_18.index t 1 = 0)

/-- Window 0's block of point `t`. -/
theorem iblk0 (c : Dev nD) (t : Fin cfg0.N) (p : Fin 256) (q : Fin 1024) :
    (iblk m c 0 t : Vec Ideal S256x1024 .f32) (ix2 p q) = V m c main_arg0 (ix2 (row t p) q) := by
  have h := index0 t
  unfold iblk
  rw [View.read_apply]
  refine congrArg (V m c main_arg0) (funext fun a => Fin.ext ?_)
  match a with
  | ⟨0, _⟩ => show win0_0.index t 0 * 256 + 1 * p.val = t.val * 256 + p.val; rw [h.1]; omega
  | ⟨1, _⟩ => show win0_0.index t 1 * 1024 + 1 * q.val = q.val; rw [h.2]; omega

/-- Window 1's block of point `t`. -/
theorem iblk1 (c : Dev nD) (t : Fin cfg0.N) (p : Fin 3) (q : Fin 256) (k : Fin 1024) :
    (iblk m c 1 t : Vec Ideal S3x256x1024 .bf16) (ix3 p q k) = V m c main_v39 (ix3 p (row t q) k) := by
  have h := index1 t
  unfold iblk
  rw [View.read_apply]
  refine congrArg (V m c main_v39) (funext fun a => Fin.ext ?_)
  match a with
  | ⟨0, _⟩ => show win0_1.index t 0 * 3 + 1 * p.val = p.val; rw [h.1]; omega
  | ⟨1, _⟩ => show win0_1.index t 1 * 256 + 1 * q.val = t.val * 256 + q.val; rw [h.2.1]; omega
  | ⟨2, _⟩ => show win0_1.index t 2 * 1024 + 1 * k.val = k.val; rw [h.2.2]; omega

/-- Window 2's block of point `t`. -/
theorem iblk2 (c : Dev nD) (t : Fin cfg0.N) (p : Fin 256) (q : Fin 512) :
    (iblk m c 2 t : Vec Ideal S256x512 .f32) (ix2 p q) = V m c main_arg4 (ix2 (row t p) ⟨3584 + q.val, by omega⟩) := by
  have h := index2 t
  unfold iblk
  rw [View.read_apply]
  refine congrArg (V m c main_arg4) (funext fun a => Fin.ext ?_)
  match a with
  | ⟨0, _⟩ => show win0_2.index t 0 * 256 + 1 * p.val = t.val * 256 + p.val; rw [h.1]; omega
  | ⟨1, _⟩ => show win0_2.index t 1 * 512 + 1 * q.val = 3584 + q.val; rw [h.2]; omega

/-- Window 3's block of point `t`. -/
theorem iblk3 (c : Dev nD) (t : Fin cfg0.N) (p : Fin 256) (q : Fin 512) :
    (iblk m c 3 t : Vec Ideal S256x512 .f32) (ix2 p q) = V m c main_arg4 (ix2 (row t p) ⟨4096 + q.val, by omega⟩) := by
  have h := index3 t
  unfold iblk
  rw [View.read_apply]
  refine congrArg (V m c main_arg4) (funext fun a => Fin.ext ?_)
  match a with
  | ⟨0, _⟩ => show win0_3.index t 0 * 256 + 1 * p.val = t.val * 256 + p.val; rw [h.1]; omega
  | ⟨1, _⟩ => show win0_3.index t 1 * 512 + 1 * q.val = 4096 + q.val; rw [h.2]; omega

/-- Window 4's block of point `t`. -/
theorem iblk4 (c : Dev nD) (t : Fin cfg0.N) (p : Fin 256) (q : Fin 512) :
    (iblk m c 4 t : Vec Ideal S256x512 .f32) (ix2 p q) = V m c main_arg4 (ix2 (row t p) ⟨4608 + q.val, by omega⟩) := by
  have h := index4 t
  unfold iblk
  rw [View.read_apply]
  refine congrArg (V m c main_arg4) (funext fun a => Fin.ext ?_)
  match a with
  | ⟨0, _⟩ => show win0_4.index t 0 * 256 + 1 * p.val = t.val * 256 + p.val; rw [h.1]; omega
  | ⟨1, _⟩ => show win0_4.index t 1 * 512 + 1 * q.val = 4608 + q.val; rw [h.2]; omega

/-- Window 5's block of point `t`. -/
theorem iblk5 (c : Dev nD) (t : Fin cfg0.N) (p : Fin 256) (q : Fin 512) :
    (iblk m c 5 t : Vec Ideal S256x512 .f32) (ix2 p q) = V m c main_arg4 (ix2 (row t p) ⟨5120 + q.val, by omega⟩) := by
  have h := index5 t
  unfold iblk
  rw [View.read_apply]
  refine congrArg (V m c main_arg4) (funext fun a => Fin.ext ?_)
  match a with
  | ⟨0, _⟩ => show win0_5.index t 0 * 256 + 1 * p.val = t.val * 256 + p.val; rw [h.1]; omega
  | ⟨1, _⟩ => show win0_5.index t 1 * 512 + 1 * q.val = 5120 + q.val; rw [h.2]; omega

/-- Window 6's block of point `t`. -/
theorem iblk6 (c : Dev nD) (t : Fin cfg0.N) (p : Fin 256) (q : Fin 512) :
    (iblk m c 6 t : Vec Ideal S256x512 .f32) (ix2 p q) = V m c main_arg4 (ix2 (row t p) ⟨5632 + q.val, by omega⟩) := by
  have h := index6 t
  unfold iblk
  rw [View.read_apply]
  refine congrArg (V m c main_arg4) (funext fun a => Fin.ext ?_)
  match a with
  | ⟨0, _⟩ => show win0_6.index t 0 * 256 + 1 * p.val = t.val * 256 + p.val; rw [h.1]; omega
  | ⟨1, _⟩ => show win0_6.index t 1 * 512 + 1 * q.val = 5632 + q.val; rw [h.2]; omega

/-- Window 7's block of point `t`. -/
theorem iblk7 (c : Dev nD) (t : Fin cfg0.N) (p : Fin 256) (q : Fin 512) :
    (iblk m c 7 t : Vec Ideal S256x512 .f32) (ix2 p q) = V m c main_arg4 (ix2 (row t p) ⟨6144 + q.val, by omega⟩) := by
  have h := index7 t
  unfold iblk
  rw [View.read_apply]
  refine congrArg (V m c main_arg4) (funext fun a => Fin.ext ?_)
  match a with
  | ⟨0, _⟩ => show win0_7.index t 0 * 256 + 1 * p.val = t.val * 256 + p.val; rw [h.1]; omega
  | ⟨1, _⟩ => show win0_7.index t 1 * 512 + 1 * q.val = 6144 + q.val; rw [h.2]; omega

/-- Window 8's block of point `t`. -/
theorem iblk8 (c : Dev nD) (t : Fin cfg0.N) (p : Fin 1) (q : Fin 3072) :
    (iblk m c 8 t : Vec Ideal S1x3072 .f32) (ix2 p q) = V m c main_arg5 (ix2 p q) := by
  have h := index8 t
  unfold iblk
  rw [View.read_apply]
  refine congrArg (V m c main_arg5) (funext fun a => Fin.ext ?_)
  match a with
  | ⟨0, _⟩ => show win0_8.index t 0 * 1 + 1 * p.val = p.val; rw [h.1]; omega
  | ⟨1, _⟩ => show win0_8.index t 1 * 3072 + 1 * q.val = q.val; rw [h.2]; omega

/-- Window 9's block of point `t`. -/
theorem iblk9 (c : Dev nD) (t : Fin cfg0.N) (p : Fin 4) (q : Fin 512) (k : Fin 256) :
    (iblk m c 9 t : Vec Ideal S4x512x256 .bf16) (ix3 p q k) = V m c main_v9 (ix3 p q k) := by
  have h := index9 t
  unfold iblk
  rw [View.read_apply]
  refine congrArg (V m c main_v9) (funext fun a => Fin.ext ?_)
  match a with
  | ⟨0, _⟩ => show win0_9.index t 0 * 4 + 1 * p.val = p.val; rw [h.1]; omega
  | ⟨1, _⟩ => show win0_9.index t 1 * 512 + 1 * q.val = q.val; rw [h.2.1]; omega
  | ⟨2, _⟩ => show win0_9.index t 2 * 256 + 1 * k.val = k.val; rw [h.2.2]; omega

/-- Window 10's block of point `t`. -/
theorem iblk10 (c : Dev nD) (t : Fin cfg0.N) (p : Fin 4) (q : Fin 256) (k : Fin 256) :
    (iblk m c 10 t : Vec Ideal S4x256x256 .bf16) (ix3 p q k) = V m c main_v19 (ix3 p q k) := by
  have h := index10 t
  unfold iblk
  rw [View.read_apply]
  refine congrArg (V m c main_v19) (funext fun a => Fin.ext ?_)
  match a with
  | ⟨0, _⟩ => show win0_10.index t 0 * 4 + 1 * p.val = p.val; rw [h.1]; omega
  | ⟨1, _⟩ => show win0_10.index t 1 * 256 + 1 * q.val = q.val; rw [h.2.1]; omega
  | ⟨2, _⟩ => show win0_10.index t 2 * 256 + 1 * k.val = k.val; rw [h.2.2]; omega

/-- Window 11's block of point `t`. -/
theorem iblk11 (c : Dev nD) (t : Fin cfg0.N) (p : Fin 4) (q : Fin 512) (k : Fin 256) :
    (iblk m c 11 t : Vec Ideal S4x512x256 .bf16) (ix3 p q k) = V m c main_v29 (ix3 p q k) := by
  have h := index11 t
  unfold iblk
  rw [View.read_apply]
  refine congrArg (V m c main_v29) (funext fun a => Fin.ext ?_)
  match a with
  | ⟨0, _⟩ => show win0_11.index t 0 * 4 + 1 * p.val = p.val; rw [h.1]; omega
  | ⟨1, _⟩ => show win0_11.index t 1 * 512 + 1 * q.val = q.val; rw [h.2.1]; omega
  | ⟨2, _⟩ => show win0_11.index t 2 * 256 + 1 * k.val = k.val; rw [h.2.2]; omega

/-- Window 12's block of point `t`. -/
theorem iblk12 (c : Dev nD) (t : Fin cfg0.N) (p : Fin 4) (q : Fin 256) (k : Fin 1024) :
    (iblk m c 12 t : Vec Ideal S4x256x1024 .bf16) (ix3 p q k) = V m c main_v31 (ix3 p q k) := by
  have h := index12 t
  unfold iblk
  rw [View.read_apply]
  refine congrArg (V m c main_v31) (funext fun a => Fin.ext ?_)
  match a with
  | ⟨0, _⟩ => show win0_12.index t 0 * 4 + 1 * p.val = p.val; rw [h.1]; omega
  | ⟨1, _⟩ => show win0_12.index t 1 * 256 + 1 * q.val = q.val; rw [h.2.1]; omega
  | ⟨2, _⟩ => show win0_12.index t 2 * 1024 + 1 * k.val = k.val; rw [h.2.2]; omega

/-- Point `t`'s blocks are the arrays' rows `256 t …`. -/
theorem blk (c : Dev nD) (t : Fin cfg0.N) :
    Blk (row t) (adx m c) (ay m c) (az m c) (abias m c) (awo m c) (awa m c) (awb m c) (awc m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h0 r k := (iblk0 m c t r k).trans (congrFun (V_main_arg0 m c) _)
  h1 b r k := (iblk1 m c t b r k).trans (v39 m c b (row t r) k)
  h2 r q := (iblk2 m c t r q).trans ((congrFun (V_main_arg4 m c) _).trans (congrArg (az m c) (congrArg (ix2 (row t r)) (Fin.ext (show 3584 + q.val = 3584 + (0 + q.val) by omega)))))
  h3 r q := (iblk3 m c t r q).trans ((congrFun (V_main_arg4 m c) _).trans (congrArg (az m c) (congrArg (ix2 (row t r)) (Fin.ext (show 4096 + q.val = 3584 + (512 + q.val) by omega)))))
  h4 r q := (iblk4 m c t r q).trans ((congrFun (V_main_arg4 m c) _).trans (congrArg (az m c) (congrArg (ix2 (row t r)) (Fin.ext (show 4608 + q.val = 3584 + (1024 + q.val) by omega)))))
  h5 r q := (iblk5 m c t r q).trans ((congrFun (V_main_arg4 m c) _).trans (congrArg (az m c) (congrArg (ix2 (row t r)) (Fin.ext (show 5120 + q.val = 3584 + (1536 + q.val) by omega)))))
  h6 r q := (iblk6 m c t r q).trans ((congrFun (V_main_arg4 m c) _).trans (congrArg (az m c) (congrArg (ix2 (row t r)) (Fin.ext (show 5632 + q.val = 3584 + (2048 + q.val) by omega)))))
  h7 r q := (iblk7 m c t r q).trans ((congrFun (V_main_arg4 m c) _).trans (congrArg (az m c) (congrArg (ix2 (row t r)) (Fin.ext (show 6144 + q.val = 3584 + (2560 + q.val) by omega)))))
  h8 q := (iblk8 m c t 0 q).trans (congrFun (V_main_arg5 m c) _)
  h9 j n k := (iblk9 m c t j n k).trans (v9 m c j n k)
  h10 j n k := (iblk10 m c t j n k).trans (v19 m c j n k)
  h11 j n k := (iblk11 m c t j n k).trans (v29 m c j n k)
  h12 j n k := (iblk12 m c t j n k).trans (v31 m c j n k)

/-- What output window 13's staging buffer holds after point `t`. -/
theorem outs13 (c : Dev nD) (t : Fin cfg0.N) : (outsAt0 m c t.val t.isLt).1 = XY (row t) (adx m c) (az m c) (abias m c) (awo m c) := by
  have hN : cfg0.N = 32 := N_0
  have ht := t.isLt
  by_cases h : t.val = 0
  · have h0 : t.val % 32 = 0 := by omega
    have h1 : ¬1 ≤ t.val := by omega
    rw [outsAt0_A m c t h0 h1]
    dsimp only
    exact out_A13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (row t) (adx m c) (ay m c) (az m c) (abias m c) (awo m c) (awa m c) (awb m c) (awc m c) (blk m c t)
  · have h0 : ¬t.val % 32 = 0 := by omega
    have h1 : 1 ≤ t.val := by omega
    rw [outsAt0_B m c t h0 h1]
    dsimp only
    exact out_B13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (row t) (adx m c) (ay m c) (az m c) (abias m c) (awo m c) (awa m c) (awb m c) (awc m c) (blk m c t)

/-- What output window 14's staging buffer holds after point `t`. -/
theorem outs14 (c : Dev nD) (t : Fin cfg0.N) : (outsAt0 m c t.val t.isLt).2.1 = XZ (row t) (adx m c) (ay m c) (az m c) (abias m c) (awo m c) := by
  have hN : cfg0.N = 32 := N_0
  have ht := t.isLt
  by_cases h : t.val = 0
  · have h0 : t.val % 32 = 0 := by omega
    have h1 : ¬1 ≤ t.val := by omega
    rw [outsAt0_A m c t h0 h1]
    dsimp only
    exact out_A14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (row t) (adx m c) (ay m c) (az m c) (abias m c) (awo m c) (awa m c) (awb m c) (awc m c) (blk m c t)
  · have h0 : ¬t.val % 32 = 0 := by omega
    have h1 : 1 ≤ t.val := by omega
    rw [outsAt0_B m c t h0 h1]
    dsimp only
    exact out_B14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (row t) (adx m c) (ay m c) (az m c) (abias m c) (awo m c) (awa m c) (awb m c) (awc m c) (blk m c t)

/-- What output window 16's staging buffer holds after point `t`. -/
theorem outs16 (c : Dev nD) (t : Fin cfg0.N) : (outsAt0 m c t.val t.isLt).2.2.2.1 = XO (row t) (adx m c) (az m c) (abias m c) (awo m c) 0 (awa m c) := by
  have hN : cfg0.N = 32 := N_0
  have ht := t.isLt
  by_cases h : t.val = 0
  · have h0 : t.val % 32 = 0 := by omega
    have h1 : ¬1 ≤ t.val := by omega
    rw [outsAt0_A m c t h0 h1]
    dsimp only
    exact out_A16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (row t) (adx m c) (ay m c) (az m c) (abias m c) (awo m c) (awa m c) (awb m c) (awc m c) (blk m c t)
  · have h0 : ¬t.val % 32 = 0 := by omega
    have h1 : 1 ≤ t.val := by omega
    rw [outsAt0_B m c t h0 h1]
    dsimp only
    exact out_B16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (row t) (adx m c) (ay m c) (az m c) (abias m c) (awo m c) (awa m c) (awb m c) (awc m c) (blk m c t)

/-- What output window 17's staging buffer holds after point `t`. -/
theorem outs17 (c : Dev nD) (t : Fin cfg0.N) : (outsAt0 m c t.val t.isLt).2.2.2.2.1 = XO (row t) (adx m c) (az m c) (abias m c) (awo m c) 1 (awb m c) := by
  have hN : cfg0.N = 32 := N_0
  have ht := t.isLt
  by_cases h : t.val = 0
  · have h0 : t.val % 32 = 0 := by omega
    have h1 : ¬1 ≤ t.val := by omega
    rw [outsAt0_A m c t h0 h1]
    dsimp only
    exact out_A17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (row t) (adx m c) (ay m c) (az m c) (abias m c) (awo m c) (awa m c) (awb m c) (awc m c) (blk m c t)
  · have h0 : ¬t.val % 32 = 0 := by omega
    have h1 : 1 ≤ t.val := by omega
    rw [outsAt0_B m c t h0 h1]
    dsimp only
    exact out_B17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (row t) (adx m c) (ay m c) (az m c) (abias m c) (awo m c) (awa m c) (awb m c) (awc m c) (blk m c t)

/-- What output window 18's staging buffer holds after point `t`. -/
theorem outs18 (c : Dev nD) (t : Fin cfg0.N) : (outsAt0 m c t.val t.isLt).2.2.2.2.2 = XO (row t) (adx m c) (az m c) (abias m c) (awo m c) 2 (awc m c) := by
  have hN : cfg0.N = 32 := N_0
  have ht := t.isLt
  by_cases h : t.val = 0
  · have h0 : t.val % 32 = 0 := by omega
    have h1 : ¬1 ≤ t.val := by omega
    rw [outsAt0_A m c t h0 h1]
    dsimp only
    exact out_A18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (row t) (adx m c) (ay m c) (az m c) (abias m c) (awo m c) (awa m c) (awb m c) (awc m c) (blk m c t)
  · have h0 : ¬t.val % 32 = 0 := by omega
    have h1 : 1 ≤ t.val := by omega
    rw [outsAt0_B m c t h0 h1]
    dsimp only
    exact out_B18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (row t) (adx m c) (ay m c) (az m c) (abias m c) (awo m c) (awa m c) (awb m c) (awc m c) (blk m c t)

/-- The bias' gradient after point `n`: the sum of the blocks up to `n`. -/
theorem outs15 (c : Dev nD) : ∀ (n : ℕ) (h : n < cfg0.N), (outsAt0 m c n h).2.2.1 = fun i => ∑ s : Fin (n + 1), XB (row ⟨s.val, by omega⟩) (adx m c) (ay m c) (az m c) (abias m c) (awo m c) i
  | 0, h => by
    have h0 : (⟨0, h⟩ : Fin cfg0.N).val % 32 = 0 := rfl
    have h1 : ¬1 ≤ (⟨0, h⟩ : Fin cfg0.N).val := Nat.not_succ_le_zero 0
    rw [show outsAt0 m c 0 h = _ from outsAt0_A m c ⟨0, h⟩ h0 h1]
    dsimp only
    refine (out_A15 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) (ms0_16 ⟨0, h⟩) (hs0_16 ⟨0, h⟩) (ms0_17 ⟨0, h⟩) (hs0_17 ⟨0, h⟩) (ms0_18 ⟨0, h⟩) (hs0_18 ⟨0, h⟩) scM0_0 (Memref.isWhole_whole _) ((hcond0_0 ⟨0, h⟩).mpr h0) (fun h2 => h1 ((hcond0_1 ⟨0, h⟩).mp h2)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (row ⟨0, h⟩) (adx m c) (ay m c) (az m c) (abias m c) (awo m c) (awa m c) (awb m c) (awc m c) (blk m c ⟨0, h⟩)).trans (funext fun i => ?_)
    rw [Fin.sum_univ_one]
    rfl
  | n + 1, h => by
    have hN : cfg0.N = 32 := N_0
    have h0 : ¬(⟨n + 1, h⟩ : Fin cfg0.N).val % 32 = 0 := by dsimp only; omega
    have h1 : 1 ≤ (⟨n + 1, h⟩ : Fin cfg0.N).val := Nat.le_add_left _ _
    rw [show outsAt0 m c (n + 1) h = _ from outsAt0_B m c ⟨n + 1, h⟩ h0 h1]
    dsimp only
    refine (out_B15 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (ms0_16 ⟨n + 1, h⟩) (hs0_16 ⟨n + 1, h⟩) (ms0_17 ⟨n + 1, h⟩) (hs0_17 ⟨n + 1, h⟩) (ms0_18 ⟨n + 1, h⟩) (hs0_18 ⟨n + 1, h⟩) scM0_0 (Memref.isWhole_whole _) (fun h2 => h0 ((hcond0_0 ⟨n + 1, h⟩).mp h2)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (outsAt0 m c n (Nat.lt_of_succ_lt h)).2.2.1 (row ⟨n + 1, h⟩) (adx m c) (ay m c) (az m c) (abias m c) (awo m c) (awa m c) (awb m c) (awc m c) (blk m c ⟨n + 1, h⟩)).trans (funext fun i => ?_)
    rw [Fin.sum_univ_castSucc]
    refine congrArg₂ (· + ·) (congrFun (outs15 c n (Nat.lt_of_succ_lt h)) i) rfl

/-- After the last point it is the sum over all rows. -/
theorem outs15_last (c : Dev nD) (n : ℕ) (h : n < cfg0.N) (hn : n = 31) : (outsAt0 m c n h).2.2.1 = DB (adx m c) (ay m c) (az m c) (abias m c) (awo m c) := by
  rw [outs15]
  subst hn
  funext i
  refine Eq.trans ?_ (sum_blocks (m := 32) (n := 256) rfl fun r => dgate (adx m c) (ay m c) (az m c) (abias m c) (awo m c) r (i 1)).symm
  refine Finset.sum_congr rfl fun s _ => Finset.sum_congr rfl fun r _ => ?_
  exact congrArg (fun r => dgate (adx m c) (ay m c) (az m c) (abias m c) (awo m c) r (i 1)) (Fin.ext (show s.val * 256 + r.val = 256 * s.val + r.val by omega))

/-- What a point writes back to output window 13 is its block of the result. -/
theorem flushed_eq13 (c : Dev nD) (t : Fin cfg0.N) (hf : (cfg0.win 13).flush t = true) :
    (dats m 0 c).flushed 13 t = ((cfg0.win 13).blk t).view.read (Elt Ideal) (DY (adx m c) (az m c) (abias m c) (awo m c) : Buf (Elt Ideal) ((c : Thread nD τ).loc main_v40_0)) := by
  have hN : cfg0.N = 32 := N_0
  have h := index13 t
  rw [flushed13, outs13]
  funext y
  rw [View.read_apply]
  show XY (row t) (adx m c) (az m c) (abias m c) (awo m c) y = (DY (adx m c) (az m c) (abias m c) (awo m c)) (((cfg0.win 13).blk t).view.emb y)
  have hy : ((cfg0.win 13).blk t).view.emb y = (ix3 (y 0) (row t (y 1)) (y 2) : S3x8192x1024.Idx) :=
    idx_ext₃ (show (y 0 : Nat) = win0_13.index t 0 * 3 + 1 * (y 0 : Nat) by rw [h.1]; omega) (show t.val * 256 + (y 1 : Nat) = win0_13.index t 1 * 256 + 1 * (y 1 : Nat) by rw [h.2.1]; omega) (show (y 2 : Nat) = win0_13.index t 2 * 1024 + 1 * (y 2 : Nat) by rw [h.2.2]; omega) |>.symm
  rw [hy]
  rfl

/-- Output window 13's array after the run. -/
theorem final13 (c : Dev nD) : (dats m 0 c).arrAt 13 cfg0.N = (DY (adx m c) (az m c) (abias m c) (awo m c) : Buf (Elt Ideal) ((c : Thread nD τ).loc main_v40_0)) :=
  (dats m 0 c).arrAt_eq_of_cover 13 _ (flushed_eq13 m c) fun i => by
    have hN : cfg0.N = 32 := N_0
    have b0 : (i 0 : Nat) < 3 := (i 0).isLt
    have b1 : (i 1 : Nat) < 8192 := (i 1).isLt
    have b2 : (i 2 : Nat) < 1024 := (i 2).isLt
    let t : Fin cfg0.N := ⟨(i 1).val / 256, by rw [hN]; omega⟩
    have htv : t.val = (i 1).val / 256 := rfl
    refine ⟨t, flush0_13 t, ?_⟩
    have h := index13 t
    show i ∈ ((View.whole main_v40_0).slice (win0_13.rect t)).set
    rw [View.set_slice_whole, Rect.mem_set_unit]
    intro a
    match a with
    | ⟨0, _⟩ => show win0_13.index t 0 * 3 ≤ (i 0 : Nat) ∧ (i 0 : Nat) < win0_13.index t 0 * 3 + 3; rw [h.1]; omega
    | ⟨1, _⟩ => show win0_13.index t 1 * 256 ≤ (i 1 : Nat) ∧ (i 1 : Nat) < win0_13.index t 1 * 256 + 256; rw [h.2.1]; omega
    | ⟨2, _⟩ => show win0_13.index t 2 * 1024 ≤ (i 2 : Nat) ∧ (i 2 : Nat) < win0_13.index t 2 * 1024 + 1024; rw [h.2.2]; omega

/-- What a point writes back to output window 14 is its block of the result. -/
theorem flushed_eq14 (c : Dev nD) (t : Fin cfg0.N) (hf : (cfg0.win 14).flush t = true) :
    (dats m 0 c).flushed 14 t = ((cfg0.win 14).blk t).view.read (Elt Ideal) (DZ (adx m c) (ay m c) (az m c) (abias m c) (awo m c) : Buf (Elt Ideal) ((c : Thread nD τ).loc main_v40_1)) := by
  have hN : cfg0.N = 32 := N_0
  have h := index14 t
  rw [flushed14, outs14]
  funext y
  rw [View.read_apply]
  show XZ (row t) (adx m c) (ay m c) (az m c) (abias m c) (awo m c) y = (DZ (adx m c) (ay m c) (az m c) (abias m c) (awo m c)) (((cfg0.win 14).blk t).view.emb y)
  have hy : ((cfg0.win 14).blk t).view.emb y = (ix2 (row t (y 0)) (y 1) : S8192x6656.Idx) :=
    Shape.idx_ext₂ (show t.val * 256 + (y 0 : Nat) = win0_14.index t 0 * 256 + 1 * (y 0 : Nat) by rw [h.1]; omega) (show (y 1 : Nat) = win0_14.index t 1 * 6656 + 1 * (y 1 : Nat) by rw [h.2]; omega) |>.symm
  rw [hy]
  rfl

/-- Output window 14's array after the run. -/
theorem final14 (c : Dev nD) : (dats m 0 c).arrAt 14 cfg0.N = (DZ (adx m c) (ay m c) (az m c) (abias m c) (awo m c) : Buf (Elt Ideal) ((c : Thread nD τ).loc main_v40_1)) :=
  (dats m 0 c).arrAt_eq_of_cover 14 _ (flushed_eq14 m c) fun i => by
    have hN : cfg0.N = 32 := N_0
    have b0 : (i 0 : Nat) < 8192 := (i 0).isLt
    have b1 : (i 1 : Nat) < 6656 := (i 1).isLt
    let t : Fin cfg0.N := ⟨(i 0).val / 256, by rw [hN]; omega⟩
    have htv : t.val = (i 0).val / 256 := rfl
    refine ⟨t, flush0_14 t, ?_⟩
    have h := index14 t
    show i ∈ ((View.whole main_v40_1).slice (win0_14.rect t)).set
    rw [View.set_slice_whole, Rect.mem_set_unit]
    intro a
    match a with
    | ⟨0, _⟩ => show win0_14.index t 0 * 256 ≤ (i 0 : Nat) ∧ (i 0 : Nat) < win0_14.index t 0 * 256 + 256; rw [h.1]; omega
    | ⟨1, _⟩ => show win0_14.index t 1 * 6656 ≤ (i 1 : Nat) ∧ (i 1 : Nat) < win0_14.index t 1 * 6656 + 6656; rw [h.2]; omega

/-- What a point writes back to output window 15 is its block of the result. -/
theorem flushed_eq15 (c : Dev nD) (t : Fin cfg0.N) (hf : (cfg0.win 15).flush t = true) :
    (dats m 0 c).flushed 15 t = ((cfg0.win 15).blk t).view.read (Elt Ideal) (DB (adx m c) (ay m c) (az m c) (abias m c) (awo m c) : Buf (Elt Ideal) ((c : Thread nD τ).loc main_v40_2)) := by
  have hN : cfg0.N = 32 := N_0
  have h := index15 t
  have h31 : t.val = 31 := by have := (flush0_15 t).mp hf; have := t.isLt; omega
  have e : (outsAt0 m c t.val t.isLt).2.2.1 = DB (adx m c) (ay m c) (az m c) (abias m c) (awo m c) := outs15_last m c t.val t.isLt h31
  rw [flushed15, e]
  funext y
  rw [View.read_apply]
  show DB (adx m c) (ay m c) (az m c) (abias m c) (awo m c) y = (DB (adx m c) (ay m c) (az m c) (abias m c) (awo m c)) (((cfg0.win 15).blk t).view.emb y)
  have hy : ((cfg0.win 15).blk t).view.emb y = (ix2 (y 0) (y 1) : S1x3072.Idx) :=
    Shape.idx_ext₂ (show (y 0 : Nat) = win0_15.index t 0 * 1 + 1 * (y 0 : Nat) by rw [h.1]; omega) (show (y 1 : Nat) = win0_15.index t 1 * 3072 + 1 * (y 1 : Nat) by rw [h.2]; omega) |>.symm
  rw [hy]
  rfl

/-- Output window 15's array after the run. -/
theorem final15 (c : Dev nD) : (dats m 0 c).arrAt 15 cfg0.N = (DB (adx m c) (ay m c) (az m c) (abias m c) (awo m c) : Buf (Elt Ideal) ((c : Thread nD τ).loc main_v40_2)) :=
  (dats m 0 c).arrAt_eq_of_cover 15 _ (flushed_eq15 m c) fun i => by
    have hN : cfg0.N = 32 := N_0
    have b0 : (i 0 : Nat) < 1 := (i 0).isLt
    have b1 : (i 1 : Nat) < 3072 := (i 1).isLt
    let t : Fin cfg0.N := ⟨31, by rw [hN]; omega⟩
    have htv : t.val = 31 := rfl
    refine ⟨t, (flush0_15 t).mpr rfl, ?_⟩
    have h := index15 t
    show i ∈ ((View.whole main_v40_2).slice (win0_15.rect t)).set
    rw [View.set_slice_whole, Rect.mem_set_unit]
    intro a
    match a with
    | ⟨0, _⟩ => show win0_15.index t 0 * 1 ≤ (i 0 : Nat) ∧ (i 0 : Nat) < win0_15.index t 0 * 1 + 1; rw [h.1]; omega
    | ⟨1, _⟩ => show win0_15.index t 1 * 3072 ≤ (i 1 : Nat) ∧ (i 1 : Nat) < win0_15.index t 1 * 3072 + 3072; rw [h.2]; omega

/-- What a point writes back to output window 16 is its block of the result. -/
theorem flushed_eq16 (c : Dev nD) (t : Fin cfg0.N) (hf : (cfg0.win 16).flush t = true) :
    (dats m 0 c).flushed 16 t = ((cfg0.win 16).blk t).view.read (Elt Ideal) (DO 0 (adx m c) (az m c) (abias m c) (awo m c) (awa m c) : Buf (Elt Ideal) ((c : Thread nD τ).loc main_v40_3)) := by
  have hN : cfg0.N = 32 := N_0
  have h := index16 t
  rw [flushed16, outs16]
  funext y
  rw [View.read_apply]
  show XO (row t) (adx m c) (az m c) (abias m c) (awo m c) 0 (awa m c) y = (DO 0 (adx m c) (az m c) (abias m c) (awo m c) (awa m c)) (((cfg0.win 16).blk t).view.emb y)
  have hy : ((cfg0.win 16).blk t).view.emb y = (ix2 (row t (y 0)) (y 1) : S8192x512.Idx) :=
    Shape.idx_ext₂ (show t.val * 256 + (y 0 : Nat) = win0_16.index t 0 * 256 + 1 * (y 0 : Nat) by rw [h.1]; omega) (show (y 1 : Nat) = win0_16.index t 1 * 512 + 1 * (y 1 : Nat) by rw [h.2]; omega) |>.symm
  rw [hy]
  rfl

/-- Output window 16's array after the run. -/
theorem final16 (c : Dev nD) : (dats m 0 c).arrAt 16 cfg0.N = (DO 0 (adx m c) (az m c) (abias m c) (awo m c) (awa m c) : Buf (Elt Ideal) ((c : Thread nD τ).loc main_v40_3)) :=
  (dats m 0 c).arrAt_eq_of_cover 16 _ (flushed_eq16 m c) fun i => by
    have hN : cfg0.N = 32 := N_0
    have b0 : (i 0 : Nat) < 8192 := (i 0).isLt
    have b1 : (i 1 : Nat) < 512 := (i 1).isLt
    let t : Fin cfg0.N := ⟨(i 0).val / 256, by rw [hN]; omega⟩
    have htv : t.val = (i 0).val / 256 := rfl
    refine ⟨t, flush0_16 t, ?_⟩
    have h := index16 t
    show i ∈ ((View.whole main_v40_3).slice (win0_16.rect t)).set
    rw [View.set_slice_whole, Rect.mem_set_unit]
    intro a
    match a with
    | ⟨0, _⟩ => show win0_16.index t 0 * 256 ≤ (i 0 : Nat) ∧ (i 0 : Nat) < win0_16.index t 0 * 256 + 256; rw [h.1]; omega
    | ⟨1, _⟩ => show win0_16.index t 1 * 512 ≤ (i 1 : Nat) ∧ (i 1 : Nat) < win0_16.index t 1 * 512 + 512; rw [h.2]; omega

/-- What a point writes back to output window 17 is its block of the result. -/
theorem flushed_eq17 (c : Dev nD) (t : Fin cfg0.N) (hf : (cfg0.win 17).flush t = true) :
    (dats m 0 c).flushed 17 t = ((cfg0.win 17).blk t).view.read (Elt Ideal) (DO 1 (adx m c) (az m c) (abias m c) (awo m c) (awb m c) : Buf (Elt Ideal) ((c : Thread nD τ).loc main_v40_4)) := by
  have hN : cfg0.N = 32 := N_0
  have h := index17 t
  rw [flushed17, outs17]
  funext y
  rw [View.read_apply]
  show XO (row t) (adx m c) (az m c) (abias m c) (awo m c) 1 (awb m c) y = (DO 1 (adx m c) (az m c) (abias m c) (awo m c) (awb m c)) (((cfg0.win 17).blk t).view.emb y)
  have hy : ((cfg0.win 17).blk t).view.emb y = (ix2 (row t (y 0)) (y 1) : S8192x256.Idx) :=
    Shape.idx_ext₂ (show t.val * 256 + (y 0 : Nat) = win0_17.index t 0 * 256 + 1 * (y 0 : Nat) by rw [h.1]; omega) (show (y 1 : Nat) = win0_17.index t 1 * 256 + 1 * (y 1 : Nat) by rw [h.2]; omega) |>.symm
  rw [hy]
  rfl

/-- Output window 17's array after the run. -/
theorem final17 (c : Dev nD) : (dats m 0 c).arrAt 17 cfg0.N = (DO 1 (adx m c) (az m c) (abias m c) (awo m c) (awb m c) : Buf (Elt Ideal) ((c : Thread nD τ).loc main_v40_4)) :=
  (dats m 0 c).arrAt_eq_of_cover 17 _ (flushed_eq17 m c) fun i => by
    have hN : cfg0.N = 32 := N_0
    have b0 : (i 0 : Nat) < 8192 := (i 0).isLt
    have b1 : (i 1 : Nat) < 256 := (i 1).isLt
    let t : Fin cfg0.N := ⟨(i 0).val / 256, by rw [hN]; omega⟩
    have htv : t.val = (i 0).val / 256 := rfl
    refine ⟨t, flush0_17 t, ?_⟩
    have h := index17 t
    show i ∈ ((View.whole main_v40_4).slice (win0_17.rect t)).set
    rw [View.set_slice_whole, Rect.mem_set_unit]
    intro a
    match a with
    | ⟨0, _⟩ => show win0_17.index t 0 * 256 ≤ (i 0 : Nat) ∧ (i 0 : Nat) < win0_17.index t 0 * 256 + 256; rw [h.1]; omega
    | ⟨1, _⟩ => show win0_17.index t 1 * 256 ≤ (i 1 : Nat) ∧ (i 1 : Nat) < win0_17.index t 1 * 256 + 256; rw [h.2]; omega

/-- What a point writes back to output window 18 is its block of the result. -/
theorem flushed_eq18 (c : Dev nD) (t : Fin cfg0.N) (hf : (cfg0.win 18).flush t = true) :
    (dats m 0 c).flushed 18 t = ((cfg0.win 18).blk t).view.read (Elt Ideal) (DO 2 (adx m c) (az m c) (abias m c) (awo m c) (awc m c) : Buf (Elt Ideal) ((c : Thread nD τ).loc main_v40_5)) := by
  have hN : cfg0.N = 32 := N_0
  have h := index18 t
  rw [flushed18, outs18]
  funext y
  rw [View.read_apply]
  show XO (row t) (adx m c) (az m c) (abias m c) (awo m c) 2 (awc m c) y = (DO 2 (adx m c) (az m c) (abias m c) (awo m c) (awc m c)) (((cfg0.win 18).blk t).view.emb y)
  have hy : ((cfg0.win 18).blk t).view.emb y = (ix2 (row t (y 0)) (y 1) : S8192x512.Idx) :=
    Shape.idx_ext₂ (show t.val * 256 + (y 0 : Nat) = win0_18.index t 0 * 256 + 1 * (y 0 : Nat) by rw [h.1]; omega) (show (y 1 : Nat) = win0_18.index t 1 * 512 + 1 * (y 1 : Nat) by rw [h.2]; omega) |>.symm
  rw [hy]
  rfl

/-- Output window 18's array after the run. -/
theorem final18 (c : Dev nD) : (dats m 0 c).arrAt 18 cfg0.N = (DO 2 (adx m c) (az m c) (abias m c) (awo m c) (awc m c) : Buf (Elt Ideal) ((c : Thread nD τ).loc main_v40_5)) :=
  (dats m 0 c).arrAt_eq_of_cover 18 _ (flushed_eq18 m c) fun i => by
    have hN : cfg0.N = 32 := N_0
    have b0 : (i 0 : Nat) < 8192 := (i 0).isLt
    have b1 : (i 1 : Nat) < 512 := (i 1).isLt
    let t : Fin cfg0.N := ⟨(i 0).val / 256, by rw [hN]; omega⟩
    have htv : t.val = (i 0).val / 256 := rfl
    refine ⟨t, flush0_18 t, ?_⟩
    have h := index18 t
    show i ∈ ((View.whole main_v40_5).slice (win0_18.rect t)).set
    rw [View.set_slice_whole, Rect.mem_set_unit]
    intro a
    match a with
    | ⟨0, _⟩ => show win0_18.index t 0 * 256 ≤ (i 0 : Nat) ∧ (i 0 : Nat) < win0_18.index t 0 * 256 + 256; rw [h.1]; omega
    | ⟨1, _⟩ => show win0_18.index t 1 * 512 ≤ (i 1 : Nat) ∧ (i 1 : Nat) < win0_18.index t 1 * 512 + 512; rw [h.2]; omega

/-- The run, read: every result array at its function of the arguments, the arguments unchanged. -/
theorem run : θ_run defs (onTc (τ := τ) (main (F := Ideal))) ⟨m, fun _ => 0, ρ⟩ fun r => ∀ c : Dev nD,
      r.2.mem ((c : Thread nD τ).loc main_v40_0) = DY (adx m c) (az m c) (abias m c) (awo m c)
      ∧ r.2.mem ((c : Thread nD τ).loc main_v40_1) = DZ (adx m c) (ay m c) (az m c) (abias m c) (awo m c)
      ∧ r.2.mem ((c : Thread nD τ).loc main_v40_2) = DB (adx m c) (ay m c) (az m c) (abias m c) (awo m c)
      ∧ r.2.mem ((c : Thread nD τ).loc main_v40_3) = DO 0 (adx m c) (az m c) (abias m c) (awo m c) (awa m c)
      ∧ r.2.mem ((c : Thread nD τ).loc main_v40_4) = DO 1 (adx m c) (az m c) (abias m c) (awo m c) (awb m c)
      ∧ r.2.mem ((c : Thread nD τ).loc main_v40_5) = DO 2 (adx m c) (az m c) (abias m c) (awo m c) (awc m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => by
    obtain ⟨h0, h1, h2, h3, h4, h5, hk⟩ := h c
    exact ⟨h0.trans (final13 m c), h1.trans (final14 m c), h2.trans (final15 m c), h3.trans (final16 m c), h4.trans (final17 m c), h5.trans (final18 m c), hk⟩)
    (run_blocks m ρ)

end Cert.KernelIdeal.MixBwd

end
-- ==== Proof.MixClaims.lean ====
/-
  The claims about the gradient of the gated branch merge, from one run of each program: the frames, and the equality of
  the kernel's six results with the reference's at the ideal instance.
-/
module

public import proofs.«01_k».proof.Defs
public import proofs.«01_k».proof.Proof.KValue
public import proofs.«01_k».proof.Proof.RefValue
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

set_option maxRecDepth 16384

noncomputable section

namespace Cert.ReferenceIdeal.RefValue

open Cert.ReferenceIdeal Cert.ReferenceIdeal.Gen Cert.ReferenceIdeal.Read Cert.MixBwd
open Idealize.ShloMosaic Idealize.ShloMosaic.TcCoe Idealize.SL.Sem

variable (m : (ℓ : Loc nD τ sig) → Buf (Elt Ideal) ℓ) (ρ : Dev nD → PrngReg)

/-- The reference's run, read: every result array at its function of the arguments, the arguments unchanged. -/
theorem run : θ_run defs (onTc (τ := τ) (main (F := Ideal))) ⟨m, fun _ => 0, ρ⟩ fun r => ∀ c : Dev nD,
      r.2.mem ((c : Thread nD τ).loc main_v66) = DY (m ((c : Thread nD τ).loc main_arg0)) (m ((c : Thread nD τ).loc main_arg4)) (m ((c : Thread nD τ).loc main_arg5)) (m ((c : Thread nD τ).loc main_arg9))
      ∧ r.2.mem ((c : Thread nD τ).loc main_v67) = DZ (m ((c : Thread nD τ).loc main_arg0)) (branches (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg4)) (m ((c : Thread nD τ).loc main_arg5)) (m ((c : Thread nD τ).loc main_arg9))
      ∧ r.2.mem ((c : Thread nD τ).loc main_v64) = DB (m ((c : Thread nD τ).loc main_arg0)) (branches (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg4)) (m ((c : Thread nD τ).loc main_arg5)) (m ((c : Thread nD τ).loc main_arg9))
      ∧ r.2.mem ((c : Thread nD τ).loc main_v76) = DO 0 (m ((c : Thread nD τ).loc main_arg0)) (m ((c : Thread nD τ).loc main_arg4)) (m ((c : Thread nD τ).loc main_arg5)) (m ((c : Thread nD τ).loc main_arg9)) (m ((c : Thread nD τ).loc main_arg6))
      ∧ r.2.mem ((c : Thread nD τ).loc main_v75) = DO 1 (m ((c : Thread nD τ).loc main_arg0)) (m ((c : Thread nD τ).loc main_arg4)) (m ((c : Thread nD τ).loc main_arg5)) (m ((c : Thread nD τ).loc main_arg9)) (m ((c : Thread nD τ).loc main_arg7))
      ∧ r.2.mem ((c : Thread nD τ).loc main_v74) = DO 2 (m ((c : Thread nD τ).loc main_arg0)) (m ((c : Thread nD τ).loc main_arg4)) (m ((c : Thread nD τ).loc main_arg5)) (m ((c : Thread nD τ).loc main_arg9)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => by
    obtain ⟨h0, h1, h2, h3, h4, h5, hk⟩ := h c
    exact ⟨(h0.trans (val_main_v66_eq (m ((c : Thread nD τ).loc main_arg0)) (m ((c : Thread nD τ).loc main_arg4)) (m ((c : Thread nD τ).loc main_arg5)) (m ((c : Thread nD τ).loc main_arg9)))).trans (res0 (m ((c : Thread nD τ).loc main_arg0)) (m ((c : Thread nD τ).loc main_arg4)) (m ((c : Thread nD τ).loc main_arg5)) (m ((c : Thread nD τ).loc main_arg9))),
      (h1.trans (val_main_v67_eq m c)).trans (res1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))),
      (h2.trans (val_main_v64_eq m c)).trans (res2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))),
      (h3.trans (val_main_v76_eq (m ((c : Thread nD τ).loc main_arg0)) (m ((c : Thread nD τ).loc main_arg4)) (m ((c : Thread nD τ).loc main_arg5)) (m ((c : Thread nD τ).loc main_arg6)) (m ((c : Thread nD τ).loc main_arg9)))).trans (res3 (m ((c : Thread nD τ).loc main_arg0)) (m ((c : Thread nD τ).loc main_arg4)) (m ((c : Thread nD τ).loc main_arg5)) (m ((c : Thread nD τ).loc main_arg6)) (m ((c : Thread nD τ).loc main_arg9))),
      (h4.trans (val_main_v75_eq (m ((c : Thread nD τ).loc main_arg0)) (m ((c : Thread nD τ).loc main_arg4)) (m ((c : Thread nD τ).loc main_arg5)) (m ((c : Thread nD τ).loc main_arg7)) (m ((c : Thread nD τ).loc main_arg9)))).trans (res4 (m ((c : Thread nD τ).loc main_arg0)) (m ((c : Thread nD τ).loc main_arg4)) (m ((c : Thread nD τ).loc main_arg5)) (m ((c : Thread nD τ).loc main_arg7)) (m ((c : Thread nD τ).loc main_arg9))),
      (h5.trans (val_main_v74_eq (m ((c : Thread nD τ).loc main_arg0)) (m ((c : Thread nD τ).loc main_arg4)) (m ((c : Thread nD τ).loc main_arg5)) (m ((c : Thread nD τ).loc main_arg8)) (m ((c : Thread nD τ).loc main_arg9)))).trans (res5 (m ((c : Thread nD τ).loc main_arg0)) (m ((c : Thread nD τ).loc main_arg4)) (m ((c : Thread nD τ).loc main_arg5)) (m ((c : Thread nD τ).loc main_arg8)) (m ((c : Thread nD τ).loc main_arg9))),
      hk⟩)
    (Cert.ReferenceIdeal.Value.run m ρ)

end Cert.ReferenceIdeal.RefValue

namespace Cert.Proof.MixClaims

open Idealize.ShloMosaic Idealize.ShloMosaic.TcCoe Idealize.SL.Sem

/-- The kernel runs and leaves its arguments unchanged. -/
theorem frame_kernel : Cert.quiescent_Kernel (hKernel := Cert.Kernel.Gen.facts) := fun m ρ _ => Cert.Kernel.Gen.frame m ρ

/-- So does its ideal reading, -/
theorem frame_ideal : Cert.quiescent_KernelIdeal (hKernelIdeal := Cert.KernelIdeal.Gen.facts) := fun m ρ _ => Cert.KernelIdeal.Gen.frame m ρ

/-- and so does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.RefValue.run m ρ)

/-- The kernel's six results are the reference's. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨_, _, _, _, _, _, Cert.KernelIdeal.MixBwd.run m ρ, (θ_run _ _ _).mono (fun _ h c => ?_) (Cert.ReferenceIdeal.RefValue.run m' ρ')⟩
  have hc := h c
  obtain ⟨e0, e1, e2, e3, e4, e5, e6, e7, e8, e9⟩ := hag c
  rw [e0, e1, e2, e3, e4, e5, e6, e7, e8, e9] at hc
  obtain ⟨h0, h1, h2, h3, h4, h5, h6, h7, h8, h9, h10, h11, h12, h13, h14, h15⟩ := hc
  exact ⟨h0, h1, h2, h3, h4, h5, h6.trans e0.symm, h7.trans e1.symm, h8.trans e2.symm, h9.trans e3.symm, h10.trans e4.symm, h11.trans e5.symm,
    h12.trans e6.symm, h13.trans e7.symm, h14.trans e8.symm, h15.trans e9.symm⟩

end Cert.Proof.MixClaims

end
-- ==== Proof.Prods.lean ====
/-
  The mathematics the products of the step share, over the extended reals: products of blocks read at an index, sums cut
  into blocks, and the layout of a matrix in four shards, either blocks of its columns or blocks of its rows.
-/
module

public import proofs.«01_k».proof.Proof.Spec
public import Idealize.ShloMosaic.Lib.IdealHost
public import Idealize.ShloMosaic.Lib.Pipeline.Value

@[expose] public section

set_option maxRecDepth 16384

noncomputable section

namespace Cert.Prods

open Idealize.ShloMosaic Idealize.ShloMosaic.ValueIdx
open Cert.MixBwd (Mat Stack idx_ext₃)

/-! ## Products of blocks -/

section
variable {m n p : Nat} {φ₁ φ₂ : FTy}

/-- A product of two blocks over their first axes, read at an index. -/
theorem dotTN (d : DotDims ⟨2, ![p, m]⟩ ⟨2, ![p, n]⟩ ⟨2, ![m, n]⟩) (h1 : d.contr.rank = 1) (h2 : d.contr.size ⟨0, by omega⟩ = p)
    (l0 : ∀ j k, (d.lhsIdx j k 0 : ℕ) = k ⟨0, by omega⟩) (l1 : ∀ j k, (d.lhsIdx j k 1 : ℕ) = j 0)
    (r0 : ∀ j k, (d.rhsIdx j k 0 : ℕ) = k ⟨0, by omega⟩) (r1 : ∀ j k, (d.rhsIdx j k 1 : ℕ) = j 1)
    (prec : Option ContractPrecision) (a : FVec Ideal ⟨2, ![p, m]⟩ φ₁) (b : FVec Ideal ⟨2, ![p, n]⟩ φ₂) (r : Fin m) (c : Fin n) :
    matmul d prec a b (constant ⟨2, ![m, n]⟩ .f32 0x00000000#32) (ix2 r c) = ∑ k : Fin p, a (ix2 k r) * b (ix2 k c) := by
  refine (Ideal.matmul_constant_zero_apply d prec a b (ix2 r c)).trans ?_
  rw [← Equiv.sum_comp (contrEquiv1 d p h1 h2).symm]
  refine Finset.sum_congr rfl fun k _ => ?_
  have hk := contrEquiv1_symm_val d p h1 h2 k
  rw [show d.lhsIdx (ix2 r c) ((contrEquiv1 d p h1 h2).symm k) = ix2 k r from Shape.idx_ext₂ ((l0 _ _).trans hk) (l1 _ _),
    show d.rhsIdx (ix2 r c) ((contrEquiv1 d p h1 h2).symm k) = ix2 k c from Shape.idx_ext₂ ((r0 _ _).trans hk) (r1 _ _)]

/-- A product of two blocks over the first one's second and the second one's first axis. -/
theorem dotNN (d : DotDims ⟨2, ![m, p]⟩ ⟨2, ![p, n]⟩ ⟨2, ![m, n]⟩) (h1 : d.contr.rank = 1) (h2 : d.contr.size ⟨0, by omega⟩ = p)
    (l0 : ∀ j k, (d.lhsIdx j k 0 : ℕ) = j 0) (l1 : ∀ j k, (d.lhsIdx j k 1 : ℕ) = k ⟨0, by omega⟩)
    (r0 : ∀ j k, (d.rhsIdx j k 0 : ℕ) = k ⟨0, by omega⟩) (r1 : ∀ j k, (d.rhsIdx j k 1 : ℕ) = j 1)
    (prec : Option ContractPrecision) (a : FVec Ideal ⟨2, ![m, p]⟩ φ₁) (b : FVec Ideal ⟨2, ![p, n]⟩ φ₂) (r : Fin m) (c : Fin n) :
    matmul d prec a b (constant ⟨2, ![m, n]⟩ .f32 0x00000000#32) (ix2 r c) = ∑ k : Fin p, a (ix2 r k) * b (ix2 k c) := by
  refine (Ideal.matmul_constant_zero_apply d prec a b (ix2 r c)).trans ?_
  rw [← Equiv.sum_comp (contrEquiv1 d p h1 h2).symm]
  refine Finset.sum_congr rfl fun k _ => ?_
  have hk := contrEquiv1_symm_val d p h1 h2 k
  rw [show d.lhsIdx (ix2 r c) ((contrEquiv1 d p h1 h2).symm k) = ix2 r k from Shape.idx_ext₂ (l0 _ _) ((l1 _ _).trans hk),
    show d.rhsIdx (ix2 r c) ((contrEquiv1 d p h1 h2).symm k) = ix2 k c from Shape.idx_ext₂ ((r0 _ _).trans hk) (r1 _ _)]

/-- A product of two blocks over their second axes. -/
theorem dotNT (d : DotDims ⟨2, ![m, p]⟩ ⟨2, ![n, p]⟩ ⟨2, ![m, n]⟩) (h1 : d.contr.rank = 1) (h2 : d.contr.size ⟨0, by omega⟩ = p)
    (l0 : ∀ j k, (d.lhsIdx j k 0 : ℕ) = j 0) (l1 : ∀ j k, (d.lhsIdx j k 1 : ℕ) = k ⟨0, by omega⟩)
    (r0 : ∀ j k, (d.rhsIdx j k 0 : ℕ) = j 1) (r1 : ∀ j k, (d.rhsIdx j k 1 : ℕ) = k ⟨0, by omega⟩)
    (prec : Option ContractPrecision) (a : FVec Ideal ⟨2, ![m, p]⟩ φ₁) (b : FVec Ideal ⟨2, ![n, p]⟩ φ₂) (r : Fin m) (c : Fin n) :
    matmul d prec a b (constant ⟨2, ![m, n]⟩ .f32 0x00000000#32) (ix2 r c) = ∑ k : Fin p, a (ix2 r k) * b (ix2 c k) := by
  refine (Ideal.matmul_constant_zero_apply d prec a b (ix2 r c)).trans ?_
  rw [← Equiv.sum_comp (contrEquiv1 d p h1 h2).symm]
  refine Finset.sum_congr rfl fun k _ => ?_
  have hk := contrEquiv1_symm_val d p h1 h2 k
  rw [show d.lhsIdx (ix2 r c) ((contrEquiv1 d p h1 h2).symm k) = ix2 r k from Shape.idx_ext₂ (l0 _ _) ((l1 _ _).trans hk),
    show d.rhsIdx (ix2 r c) ((contrEquiv1 d p h1 h2).symm k) = ix2 c k from Shape.idx_ext₂ (r0 _ _) ((r1 _ _).trans hk)]

end

/-! ## Sums -/

/-- The `k`-th member of the `j`-th of `m` blocks of `n`. -/
theorem block_lt {m n N : Nat} (h : N = m * n) (j : Fin m) (k : Fin n) : n * j.val + k.val < N := by
  subst h
  calc n * j.val + k.val < n * j.val + n := by omega
    _ = n * (j.val + 1) := by ring
    _ ≤ n * m := Nat.mul_le_mul_left _ j.isLt
    _ = m * n := Nat.mul_comm _ _

/-- A sum over `m` blocks of `n`. -/
theorem sum_cut {m n N : Nat} (h : N = m * n) (f : Fin N → EReal) :
    ∑ k : Fin N, f k = ∑ j : Fin m, ∑ k : Fin n, f ⟨n * j.val + k.val, block_lt h j k⟩ := by
  subst h
  rw [← finProdFinEquiv.sum_comp, Fintype.sum_prod_type]
  exact Finset.sum_congr rfl fun j _ => Finset.sum_congr rfl fun k _ => congrArg f (Fin.ext (by simp [finProdFinEquiv]; ring))

/-! ## Shards -/

/-- Dropping a block's leading unit axis. -/
theorem dropLead {a b : Nat} {α : Type} (x : (⟨3, ![1, a, b]⟩ : Shape).Idx → α) (h : (⟨3, ![1, a, b]⟩ : Shape).ShapeCasts ⟨2, ![a, b]⟩) (r : Fin a) (c : Fin b) :
    shapeCast ⟨2, ![a, b]⟩ x h (ix2 r c) = x (ix3 0 r c) :=
  (shapeCast_dropUnit_apply ![a, b] x h (ix2 r c)).trans (congrArg x (funext fun q => by
    match q with | ⟨0, _⟩ => rfl | ⟨1, _⟩ => rfl | ⟨2, _⟩ => rfl))

/-- Adding one. -/
theorem addLead {a b : Nat} {α : Type} (x : (⟨2, ![a, b]⟩ : Shape).Idx → α) (h : (⟨2, ![a, b]⟩ : Shape).ShapeCasts ⟨3, ![1, a, b]⟩) (r : Fin a) (c : Fin b) :
    shapeCast ⟨3, ![1, a, b]⟩ x h (ix3 0 r c) = x (ix2 r c) :=
  (shapeCast_addUnit_apply ![a, b] x h (ix3 0 r c)).trans (congrArg x (funext fun q => by
    match q with | ⟨0, _⟩ => rfl | ⟨1, _⟩ => rfl))

/-- One block of a matrix' columns, as the only member of a stack. -/
theorem colBlock {n N w : Nat} (x : Mat n N) (o : Nat) (ho : o + w ≤ N) (hs : (⟨2, ![n, N]⟩ : Shape).Slices ![0, o] ⟨2, ![n, w]⟩)
    (hb : (⟨2, ![n, w]⟩ : Shape).BroadcastsInDim ⟨3, ![1, n, w]⟩ ![1, 2]) (hn : n ≠ 1) (hw : w ≠ 1) (p : Fin n) (k : Fin w) :
    broadcastInDim ⟨3, ![1, n, w]⟩ ![1, 2] hb (extractStridedSlice ⟨2, ![n, w]⟩ ![0, o] x hs) (ix3 0 p k) = x (ix2 p ⟨o + k.val, by omega⟩) := by
  rw [broadcastInDim_apply _ hb _ _ (ix2 p k) (fun a => by
      match a with
      | ⟨0, _⟩ => exact (if_neg hn).symm
      | ⟨1, _⟩ => exact (if_neg hw).symm)]
  exact extractStridedSlice_apply _ _ hs _ (ix2 p ⟨o + k.val, by omega⟩) fun a => by
      match a with
      | ⟨0, _⟩ => exact (Nat.zero_add _).symm
      | ⟨1, _⟩ => rfl

/-- Four stacks of one, one behind the other. -/
theorem stack4 {n w : Nat} (x0 x1 x2 x3 : Stack 1 n w) (f : Fin 4 → Fin n → Fin w → EReal)
    (h : Shape.Concatenates [⟨3, ![1, n, w]⟩, ⟨3, ![1, n, w]⟩, ⟨3, ![1, n, w]⟩, ⟨3, ![1, n, w]⟩] (⟨3, ![4, n, w]⟩ : Shape) 0)
    (h0 : ∀ p k, x0 (ix3 0 p k) = f 0 p k) (h1 : ∀ p k, x1 (ix3 0 p k) = f 1 p k) (h2 : ∀ p k, x2 (ix3 0 p k) = f 2 p k) (h3 : ∀ p k, x3 (ix3 0 p k) = f 3 p k)
    (j : Fin 4) (p : Fin n) (k : Fin w) :
    concatenate (⟨3, ![4, n, w]⟩ : Shape) 0 [⟨⟨3, ![1, n, w]⟩, x0⟩, ⟨⟨3, ![1, n, w]⟩, x1⟩, ⟨⟨3, ![1, n, w]⟩, x2⟩, ⟨⟨3, ![1, n, w]⟩, x3⟩] h (ix3 j p k) = f j p k := by
  have hx (q : Fin 4) : ∀ a : Fin 3, (Fin.cast rfl a : Fin 3) ≠ (0 : Fin 3) → (ix3 (0 : Fin 1) p k a).val = (ix3 q p k (Fin.cast rfl a)).val :=
    fun a ha => by match a with | ⟨0, _⟩ => exact absurd rfl ha | ⟨1, _⟩ => rfl | ⟨2, _⟩ => rfl
  match j with
  | 0 => exact (concatenate_apply_piece (t := ⟨3, ![4, n, w]⟩) (0 : Fin 3) [⟨⟨3, ![1, n, w]⟩, x0⟩, ⟨⟨3, ![1, n, w]⟩, x1⟩, ⟨⟨3, ![1, n, w]⟩, x2⟩, ⟨⟨3, ![1, n, w]⟩, x3⟩] h (ix3 0 p k) 0 (show 0 < 4 by decide) ⟨3, ![1, n, w]⟩ x0 rfl rfl 0 rfl (ix3 0 p k) (hx 0) rfl).trans (h0 p k)
  | 1 => exact (concatenate_apply_piece (t := ⟨3, ![4, n, w]⟩) (0 : Fin 3) [⟨⟨3, ![1, n, w]⟩, x0⟩, ⟨⟨3, ![1, n, w]⟩, x1⟩, ⟨⟨3, ![1, n, w]⟩, x2⟩, ⟨⟨3, ![1, n, w]⟩, x3⟩] h (ix3 1 p k) 1 (show 1 < 4 by decide) ⟨3, ![1, n, w]⟩ x1 rfl rfl 1 rfl (ix3 0 p k) (hx 1) rfl).trans (h1 p k)
  | 2 => exact (concatenate_apply_piece (t := ⟨3, ![4, n, w]⟩) (0 : Fin 3) [⟨⟨3, ![1, n, w]⟩, x0⟩, ⟨⟨3, ![1, n, w]⟩, x1⟩, ⟨⟨3, ![1, n, w]⟩, x2⟩, ⟨⟨3, ![1, n, w]⟩, x3⟩] h (ix3 2 p k) 2 (show 2 < 4 by decide) ⟨3, ![1, n, w]⟩ x2 rfl rfl 2 rfl (ix3 0 p k) (hx 2) rfl).trans (h2 p k)
  | 3 => exact (concatenate_apply_piece (t := ⟨3, ![4, n, w]⟩) (0 : Fin 3) [⟨⟨3, ![1, n, w]⟩, x0⟩, ⟨⟨3, ![1, n, w]⟩, x1⟩, ⟨⟨3, ![1, n, w]⟩, x2⟩, ⟨⟨3, ![1, n, w]⟩, x3⟩] h (ix3 3 p k) 3 (show 3 < 4 by decide) ⟨3, ![1, n, w]⟩ x3 rfl rfl 3 rfl (ix3 0 p k) (hx 3) rfl).trans (h3 p k)

/-- The columns of a matrix in four blocks, stacked. -/
theorem colShards {n N w o1 o2 o3 : Nat} (x : Mat n N) (hN : N = 4 * w) (e1 : o1 = w * 1) (e2 : o2 = w * 2) (e3 : o3 = w * 3) (hn : n ≠ 1) (hw : w ≠ 1)
    (s0 : (⟨2, ![n, N]⟩ : Shape).Slices ![0, 0] ⟨2, ![n, w]⟩) (s1 : (⟨2, ![n, N]⟩ : Shape).Slices ![0, o1] ⟨2, ![n, w]⟩)
    (s2 : (⟨2, ![n, N]⟩ : Shape).Slices ![0, o2] ⟨2, ![n, w]⟩) (s3 : (⟨2, ![n, N]⟩ : Shape).Slices ![0, o3] ⟨2, ![n, w]⟩)
    (hb : (⟨2, ![n, w]⟩ : Shape).BroadcastsInDim ⟨3, ![1, n, w]⟩ ![1, 2])
    (h : Shape.Concatenates [⟨3, ![1, n, w]⟩, ⟨3, ![1, n, w]⟩, ⟨3, ![1, n, w]⟩, ⟨3, ![1, n, w]⟩] (⟨3, ![4, n, w]⟩ : Shape) 0)
    (j : Fin 4) (p : Fin n) (k : Fin w) :
    concatenate (⟨3, ![4, n, w]⟩ : Shape) 0
        [⟨⟨3, ![1, n, w]⟩, broadcastInDim ⟨3, ![1, n, w]⟩ ![1, 2] hb (extractStridedSlice ⟨2, ![n, w]⟩ ![0, 0] x s0)⟩,
         ⟨⟨3, ![1, n, w]⟩, broadcastInDim ⟨3, ![1, n, w]⟩ ![1, 2] hb (extractStridedSlice ⟨2, ![n, w]⟩ ![0, o1] x s1)⟩,
         ⟨⟨3, ![1, n, w]⟩, broadcastInDim ⟨3, ![1, n, w]⟩ ![1, 2] hb (extractStridedSlice ⟨2, ![n, w]⟩ ![0, o2] x s2)⟩,
         ⟨⟨3, ![1, n, w]⟩, broadcastInDim ⟨3, ![1, n, w]⟩ ![1, 2] hb (extractStridedSlice ⟨2, ![n, w]⟩ ![0, o3] x s3)⟩] h (ix3 j p k)
      = x (ix2 p ⟨w * j.val + k.val, block_lt hN j k⟩) := by
  subst e1 e2 e3
  refine stack4 _ _ _ _ (fun j p k => x (ix2 p ⟨w * j.val + k.val, block_lt hN j k⟩)) h ?_ ?_ ?_ ?_ j p k
  · exact fun p k => (colBlock x 0 (by omega) s0 hb hn hw p k).trans (congrArg x (congrArg (ix2 p) (Fin.ext (by show 0 + k.val = w * 0 + k.val; omega))))
  · exact fun p k => colBlock x (w * 1) (by omega) s1 hb hn hw p k
  · exact fun p k => colBlock x (w * 2) (by omega) s2 hb hn hw p k
  · exact fun p k => colBlock x (w * 3) (by omega) s3 hb hn hw p k

/-- The rows of a matrix in four blocks, stacked. -/
theorem rowShards {α : Type} {n N w : Nat} (x : (⟨2, ![N, n]⟩ : Shape).Idx → α) (hN : N = 4 * w) (h : (⟨2, ![N, n]⟩ : Shape).ShapeCasts ⟨3, ![4, w, n]⟩) (j : Fin 4) (p : Fin w) (k : Fin n) :
    shapeCast ⟨3, ![4, w, n]⟩ x h (ix3 j p k) = x (ix2 ⟨w * j.val + p.val, block_lt hN j p⟩ k) := by
  refine shapeCast_apply _ _ _ (ix2 ⟨w * j.val + p.val, block_lt hN j p⟩ k) ?_
  have e1 : ((⟨3, ![4, w, n]⟩ : Shape).rowMajor (ix3 j p k)).val = (j.val * w + p.val) * n + k.val := Shape.rowMajor_val_three _
  have e2 : ((⟨2, ![N, n]⟩ : Shape).rowMajor (ix2 (⟨w * j.val + p.val, block_lt hN j p⟩ : Fin N) k)).val = (w * j.val + p.val) * n + k.val := Shape.rowMajor_val_two _
  rw [e1, e2, Nat.mul_comm w]

/-! ## The gradient of a product's second factor -/

/-- The gradient of `w` in `a · w` from the cotangent `b`, its columns in four blocks: `Σ_k a[k, r] b[k, c]`. -/
def gradCols {n p N w : Nat} (hN : N = 4 * w) (a : Mat n p) (b : Mat n N) : Stack 4 p w := fun i =>
  ∑ k : Fin n, a (ix2 k (i 1)) * b (ix2 k ⟨w * (i 0).val + (i 2).val, block_lt hN (i 0) (i 2)⟩)

/-- The same with its rows in four blocks. -/
def gradRows {n q N w : Nat} (hN : N = 4 * w) (a : Mat n N) (b : Mat n q) : Stack 4 w q := fun i =>
  ∑ k : Fin n, a (ix2 k ⟨w * (i 0).val + (i 1).val, block_lt hN (i 0) (i 1)⟩) * b (ix2 k (i 2))

/-- One matrix of a stack. -/
def member {a b d : Nat} (s : Stack a b d) (j : Fin a) : Mat b d := fun i => s (ix3 j (i 0) (i 1))

end Cert.Prods

end
-- ==== Proof.WgDown.lean ====
/-
  The gradient of the down projection's weight, over the extended reals: each of the four shards is summed over four blocks of
  2048 rows in a scratch array, and the sum equals the reference's product over all 8192 rows.
-/
module

public import proofs.«01_k».proof.Proof.Prods
public import proofs.«01_k».proof.Proof.Gen.WgDownIdeal.Value
public import proofs.«01_k».proof.Proof.Gen.WgDownReferenceIdeal.Read
public import proofs.«01_k».proof.Proof.Gen.WgDownReferenceIdeal.Run
public import Idealize.ShloMosaic.Lib.StableHlo.RunRead

@[expose] public section

set_option maxRecDepth 16384

noncomputable section

namespace Cert.WgDownIdeal.Grad

open Idealize.ShloMosaic Idealize.ShloMosaic.TcCoe Idealize.ShloMosaic.ValueIdx Idealize.SL.Sem
open Cert.WgDownIdeal Cert.WgDownIdeal.Gen Cert.WgDownIdeal.Value Cert.Prods
open Cert.MixBwd (Mat Stack)

/-! ## What the body computes -/

/-- The product of two blocks, summed over their 2048 rows. -/
theorem part_apply (x0 : Vec Ideal S1x2048x704 .bf16) (x1 : Vec Ideal S2048x1024 .f32) (r : Fin 704) (q : Fin 1024) :
    k0_pay1 x0 x1 (ix2 r q) = ∑ k : Fin 2048, (x0 (ix3 0 k r) : EReal) * x1 (ix2 k q) := by
  unfold k0_pay1
  refine (dotTN dot_S2048x704_S2048x1024_S704x1024_0_0_1_1_n_n rfl rfl
    (fun _ _ => by simp [DotDims.lhsIdx, dot_S2048x704_S2048x1024_S704x1024_0_0_1_1_n_n]; rfl)
    (fun _ _ => by simp [DotDims.lhsIdx, dot_S2048x704_S2048x1024_S704x1024_0_0_1_1_n_n]; rfl)
    (fun _ _ => by simp [DotDims.rhsIdx, dot_S2048x704_S2048x1024_S704x1024_0_0_1_1_n_n]; rfl)
    (fun _ _ => by simp [DotDims.rhsIdx, dot_S2048x704_S2048x1024_S704x1024_0_0_1_1_n_n]; rfl) none _ _ r q).trans ?_
  exact Finset.sum_congr rfl fun k _ => congrArg₂ (fun u v : EReal => u * v) (dropLead _ _ k r) rfl

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : cond0_0 i) (hc1 : ¬cond0_1 i) (hc2 : ¬cond0_2 i) (x0 : Vec Ideal S1x2048x704 .bf16) (x1 : Vec Ideal S2048x1024 .f32) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S1x2048x704) at000, View.ld_unit_zero (S := S2048x1024) at00, View.ld_unit_zero (S := S704x1024) at00, shapeCast_self]

/-- A later one is added to it. -/
theorem scratch_B (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i) (hc2 : ¬cond0_2 i) (x0 : Vec Ideal S1x2048x704 .bf16) (x1 : Vec Ideal S2048x1024 .f32) (xs0 : Vec Ideal S704x1024 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S1x2048x704) at000, View.ld_unit_zero (S := S2048x1024) at00, View.ld_unit_zero (S := S704x1024) at00, shapeCast_self]

/-- and so is the last one. -/
theorem scratch_C (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i) (hc2 : cond0_2 i) (x0 : Vec Ideal S1x2048x704 .bf16) (x1 : Vec Ideal S2048x1024 .f32) (xs0 : Vec Ideal S704x1024 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S1x2048x704) at000, View.ld_unit_zero (S := S2048x1024) at00, View.ld_unit_zero (S := S704x1024) at00, shapeCast_self]

/-- The last block's sum is what is written out. -/
theorem out_C (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i) (hc2 : cond0_2 i) (x0 : Vec Ideal S1x2048x704 .bf16) (x1 : Vec Ideal S2048x1024 .f32) (xs0 : Vec Ideal S704x1024 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S704x1024) _ at00]
  unfold k0_pay3
  simp only [View.readAt_eq_ld, harg2.read_unread, harg3.read_unread, harg5.read_unread, View.ld_unit_zero (S := S1x2048x704) at000, View.ld_unit_zero (S := S2048x1024) at00, View.ld_unit_zero (S := S704x1024) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S704x1024 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 2816 := m ((c : Thread nD τ).loc main_arg0)
/-- and the second. -/
abbrev right (c : Dev nD) : Mat 8192 1024 := (m ((c : Thread nD τ).loc main_arg1))

/-! The arrays the call reads are the arguments, one of them cut into its four column blocks. -/

theorem host0 (c : Dev nD) (j : Fin 4) (k : Fin 8192) (q : Fin 704) :
    V m c main_v9 (ix3 j k q) = left m c (ix2 k ⟨704 * j.val + q.val, block_lt rfl j q⟩) := by
  have e : V m c main_v9 = truncf (F := Ideal) FTy.bf16 (concatenate S4x8192x704 0 [⟨S1x8192x704, StableHlo.upto hostOps0 (fun b => m (c, b)) 8 (Proc.tc.devRef main_v4)⟩, ⟨S1x8192x704, StableHlo.upto hostOps0 (fun b => m (c, b)) 8 (Proc.tc.devRef main_v5)⟩, ⟨S1x8192x704, StableHlo.upto hostOps0 (fun b => m (c, b)) 8 (Proc.tc.devRef main_v6)⟩, ⟨S1x8192x704, StableHlo.upto hostOps0 (fun b => m (c, b)) 8 (Proc.tc.devRef main_v7)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 8 (Proc.tc.devRef main_v4) = broadcastInDim S1x8192x704 ![1, 2] bcast_S8192x704_S1x8192x704_1_2
      (extractStridedSlice S8192x704 ![0, 0] (m (c, Proc.tc.devRef main_arg0)) slices_S8192x2816_S8192x704_0_0) := by after_reads_simp
  have u1 : StableHlo.upto hostOps0 (fun b => m (c, b)) 8 (Proc.tc.devRef main_v5) = broadcastInDim S1x8192x704 ![1, 2] bcast_S8192x704_S1x8192x704_1_2
      (extractStridedSlice S8192x704 ![0, 704] (m (c, Proc.tc.devRef main_arg0)) slices_S8192x2816_S8192x704_0_704) := by after_reads_simp
  have u2 : StableHlo.upto hostOps0 (fun b => m (c, b)) 8 (Proc.tc.devRef main_v6) = broadcastInDim S1x8192x704 ![1, 2] bcast_S8192x704_S1x8192x704_1_2
      (extractStridedSlice S8192x704 ![0, 1408] (m (c, Proc.tc.devRef main_arg0)) slices_S8192x2816_S8192x704_0_1408) := by after_reads_simp
  have u3 : StableHlo.upto hostOps0 (fun b => m (c, b)) 8 (Proc.tc.devRef main_v7) = broadcastInDim S1x8192x704 ![1, 2] bcast_S8192x704_S1x8192x704_1_2
      (extractStridedSlice S8192x704 ![0, 2112] (m (c, Proc.tc.devRef main_arg0)) slices_S8192x2816_S8192x704_0_2112) := by after_reads_simp
  rw [e, u0, u1, u2, u3]
  exact colShards (n := 8192) (N := 2816) (w := 704) (left m c) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j k q

theorem host1 (c : Dev nD) (k : Fin 8192) (q : Fin 1024) : V m c main_arg1 (ix2 k q) = right m c (ix2 k q) := by
  have e : V m c main_arg1 = m (c, Proc.tc.devRef main_arg1) := by unfold V; after_reads_simp
  rw [e]

theorem block0 (c : Dev nD) (t : Fin cfg0.N) (j i : Fin 4) (ht : t.val = 4 * j.val + i.val) (k : Fin 2048) (r : Fin 704) :
    (iblk m c 0 t : Vec Ideal S1x2048x704 .bf16) (ix3 0 k r) = left m c (ix2 ⟨2048 * i.val + k.val, block_lt rfl i k⟩ ⟨704 * j.val + r.val, block_lt rfl j r⟩) := by
  have h := index0 t
  unfold iblk
  rw [View.read_apply]
  refine (congrArg (V m c main_v9) (funext fun a => Fin.ext ?_)).trans (host0 m c j ⟨2048 * i.val + k.val, block_lt rfl i k⟩ r)
  match a with
  | ⟨0, _⟩ => show win0_0.index t 0 * 1 + 1 * 0 = j.val; rw [h.1]; omega
  | ⟨1, _⟩ => show win0_0.index t 1 * 2048 + 1 * k.val = 2048 * i.val + k.val; rw [h.2.1]; omega
  | ⟨2, _⟩ => show win0_0.index t 2 * 704 + 1 * r.val = r.val; rw [h.2.2]; omega

theorem block1 (c : Dev nD) (t : Fin cfg0.N) (j i : Fin 4) (ht : t.val = 4 * j.val + i.val) (k : Fin 2048) (q : Fin 1024) :
    (iblk m c 1 t : Vec Ideal S2048x1024 .f32) (ix2 k q) = right m c (ix2 ⟨2048 * i.val + k.val, block_lt rfl i k⟩ q) := by
  have h := index1 t
  unfold iblk
  rw [View.read_apply]
  refine (congrArg (V m c main_arg1) (funext fun a => Fin.ext ?_)).trans (host1 m c ⟨2048 * i.val + k.val, block_lt rfl i k⟩ q)
  match a with
  | ⟨0, _⟩ => show win0_1.index t 0 * 2048 + 1 * k.val = 2048 * i.val + k.val; rw [h.1]; omega
  | ⟨1, _⟩ => show win0_1.index t 1 * 1024 + 1 * q.val = q.val; rw [h.2]; omega

/-- Point `4 j + i`'s product: the sum over block `i` of the rows, for shard `j`. -/
theorem part_sum (c : Dev nD) (t : Fin cfg0.N) (j i : Fin 4) (ht : t.val = 4 * j.val + i.val) (r : Fin 704) (q : Fin 1024) :
    part m c t (ix2 r q) = ∑ k : Fin 2048, left m c (ix2 ⟨2048 * i.val + k.val, block_lt rfl i k⟩ ⟨704 * j.val + r.val, block_lt rfl j r⟩) * right m c (ix2 ⟨2048 * i.val + k.val, block_lt rfl i k⟩ q) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 704) (q : Fin 1024) :
    (outsAt0 m c t.val t.isLt).1 (ix3 0 r q) = gradRows rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k ⟨704 * j.val + r.val, block_lt rfl j r⟩) * right m c (ix2 k q)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradRows rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 704) (y 2 : Fin 1024) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 704 + 1 * (y 1).val = (y 1).val; rw [h.2.1]; omega
    | ⟨2, _⟩ => show win0_2.index t 2 * 1024 + 1 * (y 2).val = (y 2).val; rw [h.2.2]; omega)
  have y0 : y = ix3 (0 : Fin 1) (y 1 : Fin 704) (y 2 : Fin 1024) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradRows rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradRows rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v10) = gradRows rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgDownIdeal.Grad

namespace Cert.WgDownReferenceIdeal.Grad

open Idealize.ShloMosaic Idealize.ShloMosaic.TcCoe Idealize.ShloMosaic.ValueIdx Idealize.SL.Sem
open Cert.WgDownReferenceIdeal Cert.WgDownReferenceIdeal.Gen Cert.WgDownReferenceIdeal.Read Cert.Prods
open Cert.MixBwd (Mat Stack)

/-- The transposed product of the cotangent with the activations, read at an index. -/
theorem product (x0 : Mat 8192 2816) (x1 : Mat 8192 1024) (r : Fin 2816) (q : Fin 1024) :
    (val_main_v1 (F := Ideal) x0 x1 : Mat 2816 1024) (ix2 r q) = ∑ k : Fin 8192, x0 (ix2 k r) * x1 (ix2 k q) := by
  refine (val_main_v1_apply (F := Ideal) x0 x1 (ix2 r q)).trans ((val_main_v0_apply x0 x1 _).trans (Finset.sum_congr rfl fun k _ => ?_))
  rw [mul_comm]
  exact congrArg₂ (fun u v : EReal => u * v) (congrArg x0 (Shape.idx_ext₂ rfl rfl)) (congrArg x1 (Shape.idx_ext₂ rfl rfl))

/-- The reference's result is the gradient in four shards. -/
theorem result (x0 : Mat 8192 2816) (x1 : Mat 8192 1024) : (val_main_v3 (F := Ideal) x0 x1 : Stack 4 704 1024) = gradRows rfl x0 x1 := by
  funext i
  obtain ⟨j, p, k, rfl⟩ : ∃ (j : Fin 4) (p : Fin 704) (k : Fin 1024), i = ix3 j p k := ⟨i 0, i 1, i 2, funext fun a => by match a with | ⟨0, _⟩ => rfl | ⟨1, _⟩ => rfl | ⟨2, _⟩ => rfl⟩
  exact (rowShards (n := 1024) (N := 2816) (w := 704) (val_main_v1 (F := Ideal) x0 x1 : Mat 2816 1024) rfl shapeCasts_S2816x1024_S4x704x1024 j p k).trans (product x0 x1 _ k)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v3) = gradRows rfl (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v3_eq (m ((c : Thread nD τ).loc main_arg0)) (m ((c : Thread nD τ).loc main_arg1)))).trans
      (result (m ((c : Thread nD τ).loc main_arg0)) (m ((c : Thread nD τ).loc main_arg1))), (h c).2⟩)
    (Cert.WgDownReferenceIdeal.Value.run m ρ)

end Cert.WgDownReferenceIdeal.Grad

end
-- ==== Proof.WgDownClaims.lean ====
/-
  The claims about the call `WgDown`, from one run of each program: the frames, and the equality of the kernel's
  result with the reference's at the ideal instance.
-/
module

public import proofs.«01_k».proof.Defs
public import proofs.«01_k».proof.Proof.WgDown
public import proofs.«01_k».proof.Proof.Gen.WgDown
public import proofs.«01_k».proof.Proof.Gen.WgDown.Frame
public import proofs.«01_k».proof.Proof.Gen.WgDownIdeal.Frame
public import proofs.«01_k».proof.Proof.Gen.WgDownReferenceIdeal.Run
public import Idealize.ShloMosaic.Adequacy
public import Idealize.ShloMosaic.Init

@[expose] public section

set_option maxRecDepth 16384

noncomputable section

namespace Cert.Proof.WgDownClaims

open Idealize.ShloMosaic Idealize.ShloMosaic.TcCoe Idealize.SL.Sem

/-- The kernel runs and leaves its arguments unchanged. -/
theorem frame_kernel : Cert.quiescent_WgDown (hWgDown := Cert.WgDown.Gen.facts) := fun m ρ _ => Cert.WgDown.Gen.frame m ρ

/-- So does its ideal reading, -/
theorem frame_ideal : Cert.quiescent_WgDownIdeal (hWgDownIdeal := Cert.WgDownIdeal.Gen.facts) := fun m ρ _ => Cert.WgDownIdeal.Gen.frame m ρ

/-- and so does the reference. -/
theorem frame_reference : Cert.quiescent_WgDownReferenceIdeal (hWgDownReferenceIdeal := Cert.WgDownReferenceIdeal.Gen.facts) := fun m ρ _ =>
  (θ_run Cert.WgDownReferenceIdeal.defs _ _).mono (fun r h => ⟨fun c => (h c).2, sem_eq_zero_of_no_sems (by decide) r.2⟩)
    (Cert.WgDownReferenceIdeal.Value.run m ρ)

/-- The kernel's result is the reference's. -/
theorem algebraic : Cert.algebraic_WgDownIdeal_WgDownReferenceIdeal (hWgDownIdeal := Cert.WgDownIdeal.Gen.facts) (hWgDownReferenceIdeal := Cert.WgDownReferenceIdeal.Gen.facts) := by
  intro m ρ m' ρ' _ hag
  refine ⟨_, Cert.WgDownIdeal.Grad.run m ρ, (θ_run _ _ _).mono (fun _ h c => ?_) (Cert.WgDownReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgDownClaims

end
-- ==== Proof.WgGate.lean ====
/-
  The gradient of the gate projection (and, from other arguments, of the up projection)'s weight, over the extended reals: each of the four shards is summed over four blocks of
  2048 rows in a scratch array, and the sum equals the reference's product over all 8192 rows.
-/
module

public import proofs.«01_k».proof.Proof.Prods
public import proofs.«01_k».proof.Proof.Gen.WgGateIdeal.Value
public import proofs.«01_k».proof.Proof.Gen.WgGateReferenceIdeal.Read
public import proofs.«01_k».proof.Proof.Gen.WgGateReferenceIdeal.Run
public import Idealize.ShloMosaic.Lib.StableHlo.RunRead

@[expose] public section

set_option maxRecDepth 16384

noncomputable section

namespace Cert.WgGateIdeal.Grad

open Idealize.ShloMosaic Idealize.ShloMosaic.TcCoe Idealize.ShloMosaic.ValueIdx Idealize.SL.Sem
open Cert.WgGateIdeal Cert.WgGateIdeal.Gen Cert.WgGateIdeal.Value Cert.Prods
open Cert.MixBwd (Mat Stack)

/-! ## What the body computes -/

/-- The product of two blocks, summed over their 2048 rows. -/
theorem part_apply (x0 : Vec Ideal S2048x1024 .bf16) (x1 : Vec Ideal S1x2048x704 .bf16) (r : Fin 1024) (q : Fin 704) :
    k0_pay1 x0 x1 (ix2 r q) = ∑ k : Fin 2048, (x0 (ix2 k r) : EReal) * x1 (ix3 0 k q) := by
  unfold k0_pay1
  refine (dotTN dot_S2048x1024_S2048x704_S1024x704_0_0_1_1_n_n rfl rfl
    (fun _ _ => by simp [DotDims.lhsIdx, dot_S2048x1024_S2048x704_S1024x704_0_0_1_1_n_n]; rfl)
    (fun _ _ => by simp [DotDims.lhsIdx, dot_S2048x1024_S2048x704_S1024x704_0_0_1_1_n_n]; rfl)
    (fun _ _ => by simp [DotDims.rhsIdx, dot_S2048x1024_S2048x704_S1024x704_0_0_1_1_n_n]; rfl)
    (fun _ _ => by simp [DotDims.rhsIdx, dot_S2048x1024_S2048x704_S1024x704_0_0_1_1_n_n]; rfl) none _ _ r q).trans ?_
  exact Finset.sum_congr rfl fun k _ => congrArg₂ (fun u v : EReal => u * v) (congrFun (shapeCast_self _ _) _) (dropLead _ _ k q)

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x1024x704 .bf16) (harg4 : arg4.IsWhole) (arg5 : Memref sig .tc .vmem S1024x704 .f32) (harg5 : arg5.IsWhole) (hc0 : cond0_0 i) (hc1 : ¬cond0_1 i) (hc2 : ¬cond0_2 i) (x0 : Vec Ideal S2048x1024 .bf16) (x1 : Vec Ideal S1x2048x704 .bf16) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x1024) at00, View.ld_unit_zero (S := S1x2048x704) at000, View.ld_unit_zero (S := S1024x704) at00, shapeCast_self]

/-- A later one is added to it. -/
theorem scratch_B (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x1024x704 .bf16) (harg4 : arg4.IsWhole) (arg5 : Memref sig .tc .vmem S1024x704 .f32) (harg5 : arg5.IsWhole) (hc0 : ¬cond0_0 i) (hc1 : cond0_1 i) (hc2 : ¬cond0_2 i) (x0 : Vec Ideal S2048x1024 .bf16) (x1 : Vec Ideal S1x2048x704 .bf16) (xs0 : Vec Ideal S1024x704 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x1024) at00, View.ld_unit_zero (S := S1x2048x704) at000, View.ld_unit_zero (S := S1024x704) at00, shapeCast_self]

/-- and so is the last one. -/
theorem scratch_C (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x1024x704 .bf16) (harg4 : arg4.IsWhole) (arg5 : Memref sig .tc .vmem S1024x704 .f32) (harg5 : arg5.IsWhole) (hc0 : ¬cond0_0 i) (hc1 : cond0_1 i) (hc2 : cond0_2 i) (x0 : Vec Ideal S2048x1024 .bf16) (x1 : Vec Ideal S1x2048x704 .bf16) (xs0 : Vec Ideal S1024x704 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x1024) at00, View.ld_unit_zero (S := S1x2048x704) at000, View.ld_unit_zero (S := S1024x704) at00, shapeCast_self]

/-- The last block's sum is what is written out. -/
theorem out_C (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x1024x704 .bf16) (harg4 : arg4.IsWhole) (arg5 : Memref sig .tc .vmem S1024x704 .f32) (harg5 : arg5.IsWhole) (hc0 : ¬cond0_0 i) (hc1 : cond0_1 i) (hc2 : cond0_2 i) (x0 : Vec Ideal S2048x1024 .bf16) (x1 : Vec Ideal S1x2048x704 .bf16) (xs0 : Vec Ideal S1024x704 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S1024x704) _ at00]
  unfold k0_pay3
  simp only [View.readAt_eq_ld, harg2.read_unread, harg3.read_unread, harg5.read_unread, View.ld_unit_zero (S := S2048x1024) at00, View.ld_unit_zero (S := S1x2048x704) at000, View.ld_unit_zero (S := S1024x704) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S1024x704 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 1024 := m ((c : Thread nD τ).loc main_arg0)
/-- and the second. -/
abbrev right (c : Dev nD) : Mat 8192 2816 := (m ((c : Thread nD τ).loc main_arg1))

/-! The arrays the call reads are the arguments, one of them cut into its four column blocks. -/

theorem host0 (c : Dev nD) (k : Fin 8192) (q : Fin 1024) : V m c main_v10 (ix2 k q) = left m c (ix2 k q) := by
  have e : V m c main_v10 = truncf (F := Ideal) FTy.bf16 (m (c, Proc.tc.devRef main_arg0) : Vec Ideal S8192x1024 .f32) bitsLt_bf16_f32 := by
    unfold V; after_reads_simp
  rw [e]
  rfl

theorem host1 (c : Dev nD) (j : Fin 4) (k : Fin 8192) (q : Fin 704) :
    V m c main_v9 (ix3 j k q) = right m c (ix2 k ⟨704 * j.val + q.val, block_lt rfl j q⟩) := by
  have e : V m c main_v9 = truncf (F := Ideal) FTy.bf16 (concatenate S4x8192x704 0 [⟨S1x8192x704, StableHlo.upto hostOps0 (fun b => m (c, b)) 8 (Proc.tc.devRef main_v4)⟩, ⟨S1x8192x704, StableHlo.upto hostOps0 (fun b => m (c, b)) 8 (Proc.tc.devRef main_v5)⟩, ⟨S1x8192x704, StableHlo.upto hostOps0 (fun b => m (c, b)) 8 (Proc.tc.devRef main_v6)⟩, ⟨S1x8192x704, StableHlo.upto hostOps0 (fun b => m (c, b)) 8 (Proc.tc.devRef main_v7)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 8 (Proc.tc.devRef main_v4) = broadcastInDim S1x8192x704 ![1, 2] bcast_S8192x704_S1x8192x704_1_2
      (extractStridedSlice S8192x704 ![0, 0] (m (c, Proc.tc.devRef main_arg1)) slices_S8192x2816_S8192x704_0_0) := by after_reads_simp
  have u1 : StableHlo.upto hostOps0 (fun b => m (c, b)) 8 (Proc.tc.devRef main_v5) = broadcastInDim S1x8192x704 ![1, 2] bcast_S8192x704_S1x8192x704_1_2
      (extractStridedSlice S8192x704 ![0, 704] (m (c, Proc.tc.devRef main_arg1)) slices_S8192x2816_S8192x704_0_704) := by after_reads_simp
  have u2 : StableHlo.upto hostOps0 (fun b => m (c, b)) 8 (Proc.tc.devRef main_v6) = broadcastInDim S1x8192x704 ![1, 2] bcast_S8192x704_S1x8192x704_1_2
      (extractStridedSlice S8192x704 ![0, 1408] (m (c, Proc.tc.devRef main_arg1)) slices_S8192x2816_S8192x704_0_1408) := by after_reads_simp
  have u3 : StableHlo.upto hostOps0 (fun b => m (c, b)) 8 (Proc.tc.devRef main_v7) = broadcastInDim S1x8192x704 ![1, 2] bcast_S8192x704_S1x8192x704_1_2
      (extractStridedSlice S8192x704 ![0, 2112] (m (c, Proc.tc.devRef main_arg1)) slices_S8192x2816_S8192x704_0_2112) := by after_reads_simp
  rw [e, u0, u1, u2, u3]
  exact colShards (n := 8192) (N := 2816) (w := 704) (right m c) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j k q

theorem block0 (c : Dev nD) (t : Fin cfg0.N) (j i : Fin 4) (ht : t.val = 4 * j.val + i.val) (k : Fin 2048) (r : Fin 1024) :
    (iblk m c 0 t : Vec Ideal S2048x1024 .bf16) (ix2 k r) = left m c (ix2 ⟨2048 * i.val + k.val, block_lt rfl i k⟩ r) := by
  have h := index0 t
  unfold iblk
  rw [View.read_apply]
  refine (congrArg (V m c main_v10) (funext fun a => Fin.ext ?_)).trans (host0 m c ⟨2048 * i.val + k.val, block_lt rfl i k⟩ r)
  match a with
  | ⟨0, _⟩ => show win0_0.index t 0 * 2048 + 1 * k.val = 2048 * i.val + k.val; rw [h.1]; omega
  | ⟨1, _⟩ => show win0_0.index t 1 * 1024 + 1 * r.val = r.val; rw [h.2]; omega

theorem block1 (c : Dev nD) (t : Fin cfg0.N) (j i : Fin 4) (ht : t.val = 4 * j.val + i.val) (k : Fin 2048) (q : Fin 704) :
    (iblk m c 1 t : Vec Ideal S1x2048x704 .bf16) (ix3 0 k q) = right m c (ix2 ⟨2048 * i.val + k.val, block_lt rfl i k⟩ ⟨704 * j.val + q.val, block_lt rfl j q⟩) := by
  have h := index1 t
  unfold iblk
  rw [View.read_apply]
  refine (congrArg (V m c main_v9) (funext fun a => Fin.ext ?_)).trans (host1 m c j ⟨2048 * i.val + k.val, block_lt rfl i k⟩ q)
  match a with
  | ⟨0, _⟩ => show win0_1.index t 0 * 1 + 1 * 0 = j.val; rw [h.1]; omega
  | ⟨1, _⟩ => show win0_1.index t 1 * 2048 + 1 * k.val = 2048 * i.val + k.val; rw [h.2.1]; omega
  | ⟨2, _⟩ => show win0_1.index t 2 * 704 + 1 * q.val = q.val; rw [h.2.2]; omega

/-- Point `4 j + i`'s product: the sum over block `i` of the rows, for shard `j`. -/
theorem part_sum (c : Dev nD) (t : Fin cfg0.N) (j i : Fin 4) (ht : t.val = 4 * j.val + i.val) (r : Fin 1024) (q : Fin 704) :
    part m c t (ix2 r q) = ∑ k : Fin 2048, left m c (ix2 ⟨2048 * i.val + k.val, block_lt rfl i k⟩ r) * right m c (ix2 ⟨2048 * i.val + k.val, block_lt rfl i k⟩ ⟨704 * j.val + q.val, block_lt rfl j q⟩) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 1024) (q : Fin 704) :
    (outsAt0 m c t.val t.isLt).1 (ix3 0 r q) = gradCols rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k r) * right m c (ix2 k ⟨704 * j.val + q.val, block_lt rfl j q⟩)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradCols rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 1024) (y 2 : Fin 704) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 1024 + 1 * (y 1).val = (y 1).val; rw [h.2.1]; omega
    | ⟨2, _⟩ => show win0_2.index t 2 * 704 + 1 * (y 2).val = (y 2).val; rw [h.2.2]; omega)
  have y0 : y = ix3 (0 : Fin 1) (y 1 : Fin 1024) (y 2 : Fin 704) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradCols rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradCols rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v11) = gradCols rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgGateIdeal.Grad

namespace Cert.WgGateReferenceIdeal.Grad

open Idealize.ShloMosaic Idealize.ShloMosaic.TcCoe Idealize.ShloMosaic.ValueIdx Idealize.SL.Sem
open Cert.WgGateReferenceIdeal Cert.WgGateReferenceIdeal.Gen Cert.WgGateReferenceIdeal.Read Cert.Prods
open Cert.MixBwd (Mat Stack)

/-- The transposed product of the cotangent with the activations, read at an index. -/
theorem product (x0 : Mat 8192 1024) (x1 : Mat 8192 2816) (r : Fin 1024) (q : Fin 2816) :
    (val_main_v1 (F := Ideal) x0 x1 : Mat 1024 2816) (ix2 r q) = ∑ k : Fin 8192, x0 (ix2 k r) * x1 (ix2 k q) := by
  refine (val_main_v1_apply (F := Ideal) x0 x1 (ix2 r q)).trans ((val_main_v0_apply x0 x1 _).trans (Finset.sum_congr rfl fun k _ => ?_))
  rw [mul_comm]
  exact congrArg₂ (fun u v : EReal => u * v) (congrArg x0 (Shape.idx_ext₂ rfl rfl)) (congrArg x1 (Shape.idx_ext₂ rfl rfl))

/-- The reference's result is the gradient in four shards. -/
theorem result (x0 : Mat 8192 1024) (x1 : Mat 8192 2816) : (val_main_v11 (F := Ideal) x0 x1 : Stack 4 1024 704) = gradCols rfl x0 x1 := by
  funext i
  obtain ⟨j, p, k, rfl⟩ : ∃ (j : Fin 4) (p : Fin 1024) (k : Fin 704), i = ix3 j p k := ⟨i 0, i 1, i 2, funext fun a => by match a with | ⟨0, _⟩ => rfl | ⟨1, _⟩ => rfl | ⟨2, _⟩ => rfl⟩
  exact (colShards (n := 1024) (N := 2816) (w := 704) (val_main_v1 (F := Ideal) x0 x1 : Mat 1024 2816) rfl rfl rfl rfl (by decide) (by decide)
    slices_S1024x2816_S1024x704_0_0 slices_S1024x2816_S1024x704_0_704 slices_S1024x2816_S1024x704_0_1408 slices_S1024x2816_S1024x704_0_2112
    bcast_S1024x704_S1x1024x704_1_2 concatenates_S1x1024x704_S1x1024x704_S1x1024x704_S1x1024x704_S4x1024x704_d0 j p k).trans (product x0 x1 p _)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v11) = gradCols rfl (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v11_eq (m ((c : Thread nD τ).loc main_arg0)) (m ((c : Thread nD τ).loc main_arg1)))).trans
      (result (m ((c : Thread nD τ).loc main_arg0)) (m ((c : Thread nD τ).loc main_arg1))), (h c).2⟩)
    (Cert.WgGateReferenceIdeal.Value.run m ρ)

end Cert.WgGateReferenceIdeal.Grad

end
-- ==== Proof.WgGateClaims.lean ====
/-
  The claims about the call `WgGate`, from one run of each program: the frames, and the equality of the kernel's
  result with the reference's at the ideal instance.
-/
module

public import proofs.«01_k».proof.Defs
public import proofs.«01_k».proof.Proof.WgGate
public import proofs.«01_k».proof.Proof.Gen.WgGate
public import proofs.«01_k».proof.Proof.Gen.WgGate.Frame
public import proofs.«01_k».proof.Proof.Gen.WgGateIdeal.Frame
public import proofs.«01_k».proof.Proof.Gen.WgGateReferenceIdeal.Run
public import Idealize.ShloMosaic.Adequacy
public import Idealize.ShloMosaic.Init

@[expose] public section

set_option maxRecDepth 16384

noncomputable section

namespace Cert.Proof.WgGateClaims

open Idealize.ShloMosaic Idealize.ShloMosaic.TcCoe Idealize.SL.Sem

/-- The kernel runs and leaves its arguments unchanged. -/
theorem frame_kernel : Cert.quiescent_WgGate (hWgGate := Cert.WgGate.Gen.facts) := fun m ρ _ => Cert.WgGate.Gen.frame m ρ

/-- So does its ideal reading, -/
theorem frame_ideal : Cert.quiescent_WgGateIdeal (hWgGateIdeal := Cert.WgGateIdeal.Gen.facts) := fun m ρ _ => Cert.WgGateIdeal.Gen.frame m ρ

/-- and so does the reference. -/
theorem frame_reference : Cert.quiescent_WgGateReferenceIdeal (hWgGateReferenceIdeal := Cert.WgGateReferenceIdeal.Gen.facts) := fun m ρ _ =>
  (θ_run Cert.WgGateReferenceIdeal.defs _ _).mono (fun r h => ⟨fun c => (h c).2, sem_eq_zero_of_no_sems (by decide) r.2⟩)
    (Cert.WgGateReferenceIdeal.Value.run m ρ)

/-- The kernel's result is the reference's. -/
theorem algebraic : Cert.algebraic_WgGateIdeal_WgGateReferenceIdeal (hWgGateIdeal := Cert.WgGateIdeal.Gen.facts) (hWgGateReferenceIdeal := Cert.WgGateReferenceIdeal.Gen.facts) := by
  intro m ρ m' ρ' _ hag
  refine ⟨_, Cert.WgGateIdeal.Grad.run m ρ, (θ_run _ _ _).mono (fun _ h c => ?_) (Cert.WgGateReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgGateClaims

end
-- ==== Proof.WgIn.lean ====
/-
  The gradient of the input projection's weight, over the extended reals: each of the four shards is summed over four blocks of
  2048 rows in a scratch array, and the sum equals the reference's product over all 8192 rows.
-/
module

public import proofs.«01_k».proof.Proof.Prods
public import proofs.«01_k».proof.Proof.Gen.WgInIdeal.Value
public import proofs.«01_k».proof.Proof.Gen.WgInReferenceIdeal.Read
public import proofs.«01_k».proof.Proof.Gen.WgInReferenceIdeal.Run
public import Idealize.ShloMosaic.Lib.StableHlo.RunRead

@[expose] public section

set_option maxRecDepth 16384

noncomputable section

namespace Cert.WgInIdeal.Grad

open Idealize.ShloMosaic Idealize.ShloMosaic.TcCoe Idealize.ShloMosaic.ValueIdx Idealize.SL.Sem
open Cert.WgInIdeal Cert.WgInIdeal.Gen Cert.WgInIdeal.Value Cert.Prods
open Cert.MixBwd (Mat Stack)

/-! ## What the body computes -/

/-- The product of two blocks, summed over their 2048 rows. -/
theorem part_apply (x0 : Vec Ideal S2048x1024 .bf16) (x1 : Vec Ideal S2048x1664 .bf16) (r : Fin 1024) (q : Fin 1664) :
    k0_pay1 x0 x1 (ix2 r q) = ∑ k : Fin 2048, (x0 (ix2 k r) : EReal) * x1 (ix2 k q) := by
  unfold k0_pay1
  refine (dotTN dot_S2048x1024_S2048x1664_S1024x1664_0_0_1_1_n_n rfl rfl
    (fun _ _ => by simp [DotDims.lhsIdx, dot_S2048x1024_S2048x1664_S1024x1664_0_0_1_1_n_n]; rfl)
    (fun _ _ => by simp [DotDims.lhsIdx, dot_S2048x1024_S2048x1664_S1024x1664_0_0_1_1_n_n]; rfl)
    (fun _ _ => by simp [DotDims.rhsIdx, dot_S2048x1024_S2048x1664_S1024x1664_0_0_1_1_n_n]; rfl)
    (fun _ _ => by simp [DotDims.rhsIdx, dot_S2048x1024_S2048x1664_S1024x1664_0_0_1_1_n_n]; rfl) none _ _ r q).trans ?_
  exact Finset.sum_congr rfl fun k _ => congrArg₂ (fun u v : EReal => u * v) (congrFun (shapeCast_self _ _) _) (congrFun (shapeCast_self _ _) _)

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x1024 .bf16) (harg2 : arg2.IsWhole) (arg3 : Memref sig .tc .vmem S2048x1664 .bf16) (harg3 : arg3.IsWhole) (arg4 : Memref sig .tc .vmem S1x1024x1664 .bf16) (harg4 : arg4.IsWhole) (arg5 : Memref sig .tc .vmem S1024x1664 .f32) (harg5 : arg5.IsWhole) (hc0 : cond0_0 i) (hc1 : ¬cond0_1 i) (hc2 : ¬cond0_2 i) (x0 : Vec Ideal S2048x1024 .bf16) (x1 : Vec Ideal S2048x1664 .bf16) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x1024) at00, View.ld_unit_zero (S := S2048x1664) at00, View.ld_unit_zero (S := S1024x1664) at00, shapeCast_self]

/-- A later one is added to it. -/
theorem scratch_B (c : Dev nD) (i : grid0.Coords) (arg2 : Memref sig .tc .vmem S2048x1024 .bf16) (harg2 : arg2.IsWhole) (arg3 : Memref sig .tc .vmem S2048x1664 .bf16) (harg3 : arg3.IsWhole) (arg4 : Memref sig .tc .vmem S1x1024x1664 .bf16) (harg4 : arg4.IsWhole) (arg5 : Memref sig .tc .vmem S1024x1664 .f32) (harg5 : arg5.IsWhole) (hc0 : ¬cond0_0 i) (hc1 : cond0_1 i) (hc2 : ¬cond0_2 i) (x0 : Vec Ideal S2048x1024 .bf16) (x1 : Vec Ideal S2048x1664 .bf16) (xs0 : Vec Ideal S1024x1664 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x1024) at00, View.ld_unit_zero (S := S2048x1664) at00, View.ld_unit_zero (S := S1024x1664) at00, shapeCast_self]

/-- and so is the last one. -/
theorem scratch_C (c : Dev nD) (i : grid0.Coords) (arg2 : Memref sig .tc .vmem S2048x1024 .bf16) (harg2 : arg2.IsWhole) (arg3 : Memref sig .tc .vmem S2048x1664 .bf16) (harg3 : arg3.IsWhole) (arg4 : Memref sig .tc .vmem S1x1024x1664 .bf16) (harg4 : arg4.IsWhole) (arg5 : Memref sig .tc .vmem S1024x1664 .f32) (harg5 : arg5.IsWhole) (hc0 : ¬cond0_0 i) (hc1 : cond0_1 i) (hc2 : cond0_2 i) (x0 : Vec Ideal S2048x1024 .bf16) (x1 : Vec Ideal S2048x1664 .bf16) (xs0 : Vec Ideal S1024x1664 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x1024) at00, View.ld_unit_zero (S := S2048x1664) at00, View.ld_unit_zero (S := S1024x1664) at00, shapeCast_self]

/-- The last block's sum is what is written out. -/
theorem out_C (c : Dev nD) (i : grid0.Coords) (arg2 : Memref sig .tc .vmem S2048x1024 .bf16) (harg2 : arg2.IsWhole) (arg3 : Memref sig .tc .vmem S2048x1664 .bf16) (harg3 : arg3.IsWhole) (arg4 : Memref sig .tc .vmem S1x1024x1664 .bf16) (harg4 : arg4.IsWhole) (arg5 : Memref sig .tc .vmem S1024x1664 .f32) (harg5 : arg5.IsWhole) (hc0 : ¬cond0_0 i) (hc1 : cond0_1 i) (hc2 : cond0_2 i) (x0 : Vec Ideal S2048x1024 .bf16) (x1 : Vec Ideal S2048x1664 .bf16) (xs0 : Vec Ideal S1024x1664 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S1024x1664) _ at00]
  unfold k0_pay3
  simp only [View.readAt_eq_ld, harg2.read_unread, harg3.read_unread, harg5.read_unread, View.ld_unit_zero (S := S2048x1024) at00, View.ld_unit_zero (S := S2048x1664) at00, View.ld_unit_zero (S := S1024x1664) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S1024x1664 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 1024 := m ((c : Thread nD τ).loc main_arg0)
/-- and the second. -/
abbrev right (c : Dev nD) : Mat 8192 6656 := (m ((c : Thread nD τ).loc main_arg1))

/-! The arrays the call reads are the arguments. -/

theorem host0 (c : Dev nD) (k : Fin 8192) (q : Fin 1024) : V m c main_v0 (ix2 k q) = left m c (ix2 k q) := by
  have e : V m c main_v0 = truncf (F := Ideal) FTy.bf16 (m (c, Proc.tc.devRef main_arg0) : Vec Ideal S8192x1024 .f32) bitsLt_bf16_f32 := by
    unfold V; after_reads_simp
  rw [e]
  rfl

theorem host1 (c : Dev nD) (k : Fin 8192) (q : Fin 6656) : V m c main_v1 (ix2 k q) = right m c (ix2 k q) := by
  have e : V m c main_v1 = truncf (F := Ideal) FTy.bf16 (m (c, Proc.tc.devRef main_arg1) : Vec Ideal S8192x6656 .f32) bitsLt_bf16_f32 := by
    unfold V; after_reads_simp
  rw [e]
  rfl

theorem block0 (c : Dev nD) (t : Fin cfg0.N) (j i : Fin 4) (ht : t.val = 4 * j.val + i.val) (k : Fin 2048) (r : Fin 1024) :
    (iblk m c 0 t : Vec Ideal S2048x1024 .bf16) (ix2 k r) = left m c (ix2 ⟨2048 * i.val + k.val, block_lt rfl i k⟩ r) := by
  have h := index0 t
  unfold iblk
  rw [View.read_apply]
  refine (congrArg (V m c main_v0) (funext fun a => Fin.ext ?_)).trans (host0 m c ⟨2048 * i.val + k.val, block_lt rfl i k⟩ r)
  match a with
  | ⟨0, _⟩ => show win0_0.index t 0 * 2048 + 1 * k.val = 2048 * i.val + k.val; rw [h.1]; omega
  | ⟨1, _⟩ => show win0_0.index t 1 * 1024 + 1 * r.val = r.val; rw [h.2]; omega

theorem block1 (c : Dev nD) (t : Fin cfg0.N) (j i : Fin 4) (ht : t.val = 4 * j.val + i.val) (k : Fin 2048) (q : Fin 1664) :
    (iblk m c 1 t : Vec Ideal S2048x1664 .bf16) (ix2 k q) = right m c (ix2 ⟨2048 * i.val + k.val, block_lt rfl i k⟩ ⟨1664 * j.val + q.val, block_lt rfl j q⟩) := by
  have h := index1 t
  unfold iblk
  rw [View.read_apply]
  refine (congrArg (V m c main_v1) (funext fun a => Fin.ext ?_)).trans (host1 m c ⟨2048 * i.val + k.val, block_lt rfl i k⟩ ⟨1664 * j.val + q.val, block_lt rfl j q⟩)
  match a with
  | ⟨0, _⟩ => show win0_1.index t 0 * 2048 + 1 * k.val = 2048 * i.val + k.val; rw [h.1]; omega
  | ⟨1, _⟩ => show win0_1.index t 1 * 1664 + 1 * q.val = 1664 * j.val + q.val; rw [h.2]; omega

/-- Point `4 j + i`'s product: the sum over block `i` of the rows, for shard `j`. -/
theorem part_sum (c : Dev nD) (t : Fin cfg0.N) (j i : Fin 4) (ht : t.val = 4 * j.val + i.val) (r : Fin 1024) (q : Fin 1664) :
    part m c t (ix2 r q) = ∑ k : Fin 2048, left m c (ix2 ⟨2048 * i.val + k.val, block_lt rfl i k⟩ r) * right m c (ix2 ⟨2048 * i.val + k.val, block_lt rfl i k⟩ ⟨1664 * j.val + q.val, block_lt rfl j q⟩) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 1024) (q : Fin 1664) :
    (outsAt0 m c t.val t.isLt).1 (ix3 0 r q) = gradCols rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k r) * right m c (ix2 k ⟨1664 * j.val + q.val, block_lt rfl j q⟩)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradCols rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 1024) (y 2 : Fin 1664) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 1024 + 1 * (y 1).val = (y 1).val; rw [h.2.1]; omega
    | ⟨2, _⟩ => show win0_2.index t 2 * 1664 + 1 * (y 2).val = (y 2).val; rw [h.2.2]; omega)
  have y0 : y = ix3 (0 : Fin 1) (y 1 : Fin 1024) (y 2 : Fin 1664) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradCols rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradCols rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v2) = gradCols rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgInIdeal.Grad

namespace Cert.WgInReferenceIdeal.Grad

open Idealize.ShloMosaic Idealize.ShloMosaic.TcCoe Idealize.ShloMosaic.ValueIdx Idealize.SL.Sem
open Cert.WgInReferenceIdeal Cert.WgInReferenceIdeal.Gen Cert.WgInReferenceIdeal.Read Cert.Prods
open Cert.MixBwd (Mat Stack)

/-- The transposed product of the cotangent with the activations, read at an index. -/
theorem product (x0 : Mat 8192 1024) (x1 : Mat 8192 6656) (r : Fin 1024) (q : Fin 6656) :
    (val_main_v1 (F := Ideal) x0 x1 : Mat 1024 6656) (ix2 r q) = ∑ k : Fin 8192, x0 (ix2 k r) * x1 (ix2 k q) := by
  refine (val_main_v1_apply (F := Ideal) x0 x1 (ix2 r q)).trans ((val_main_v0_apply x0 x1 _).trans (Finset.sum_congr rfl fun k _ => ?_))
  rw [mul_comm]
  exact congrArg₂ (fun u v : EReal => u * v) (congrArg x0 (Shape.idx_ext₂ rfl rfl)) (congrArg x1 (Shape.idx_ext₂ rfl rfl))

/-- The reference's result is the gradient in four shards. -/
theorem result (x0 : Mat 8192 1024) (x1 : Mat 8192 6656) : (val_main_v11 (F := Ideal) x0 x1 : Stack 4 1024 1664) = gradCols rfl x0 x1 := by
  funext i
  obtain ⟨j, p, k, rfl⟩ : ∃ (j : Fin 4) (p : Fin 1024) (k : Fin 1664), i = ix3 j p k := ⟨i 0, i 1, i 2, funext fun a => by match a with | ⟨0, _⟩ => rfl | ⟨1, _⟩ => rfl | ⟨2, _⟩ => rfl⟩
  exact (colShards (n := 1024) (N := 6656) (w := 1664) (val_main_v1 (F := Ideal) x0 x1 : Mat 1024 6656) rfl rfl rfl rfl (by decide) (by decide)
    slices_S1024x6656_S1024x1664_0_0 slices_S1024x6656_S1024x1664_0_1664 slices_S1024x6656_S1024x1664_0_3328 slices_S1024x6656_S1024x1664_0_4992
    bcast_S1024x1664_S1x1024x1664_1_2 concatenates_S1x1024x1664_S1x1024x1664_S1x1024x1664_S1x1024x1664_S4x1024x1664_d0 j p k).trans (product x0 x1 p _)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v11) = gradCols rfl (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v11_eq (m ((c : Thread nD τ).loc main_arg0)) (m ((c : Thread nD τ).loc main_arg1)))).trans
      (result (m ((c : Thread nD τ).loc main_arg0)) (m ((c : Thread nD τ).loc main_arg1))), (h c).2⟩)
    (Cert.WgInReferenceIdeal.Value.run m ρ)

end Cert.WgInReferenceIdeal.Grad

end
-- ==== Proof.WgInClaims.lean ====
/-
  The claims about the call `WgIn`, from one run of each program: the frames, and the equality of the kernel's
  result with the reference's at the ideal instance.
-/
module

public import proofs.«01_k».proof.Defs
public import proofs.«01_k».proof.Proof.WgIn
public import proofs.«01_k».proof.Proof.Gen.WgIn
public import proofs.«01_k».proof.Proof.Gen.WgIn.Frame
public import proofs.«01_k».proof.Proof.Gen.WgInIdeal.Frame
public import proofs.«01_k».proof.Proof.Gen.WgInReferenceIdeal.Run
public import Idealize.ShloMosaic.Adequacy
public import Idealize.ShloMosaic.Init

@[expose] public section

set_option maxRecDepth 16384

noncomputable section

namespace Cert.Proof.WgInClaims

open Idealize.ShloMosaic Idealize.ShloMosaic.TcCoe Idealize.SL.Sem

/-- The kernel runs and leaves its arguments unchanged. -/
theorem frame_kernel : Cert.quiescent_WgIn (hWgIn := Cert.WgIn.Gen.facts) := fun m ρ _ => Cert.WgIn.Gen.frame m ρ

/-- So does its ideal reading, -/
theorem frame_ideal : Cert.quiescent_WgInIdeal (hWgInIdeal := Cert.WgInIdeal.Gen.facts) := fun m ρ _ => Cert.WgInIdeal.Gen.frame m ρ

/-- and so does the reference. -/
theorem frame_reference : Cert.quiescent_WgInReferenceIdeal (hWgInReferenceIdeal := Cert.WgInReferenceIdeal.Gen.facts) := fun m ρ _ =>
  (θ_run Cert.WgInReferenceIdeal.defs _ _).mono (fun r h => ⟨fun c => (h c).2, sem_eq_zero_of_no_sems (by decide) r.2⟩)
    (Cert.WgInReferenceIdeal.Value.run m ρ)

/-- The kernel's result is the reference's. -/
theorem algebraic : Cert.algebraic_WgInIdeal_WgInReferenceIdeal (hWgInIdeal := Cert.WgInIdeal.Gen.facts) (hWgInReferenceIdeal := Cert.WgInReferenceIdeal.Gen.facts) := by
  intro m ρ m' ρ' _ hag
  refine ⟨_, Cert.WgInIdeal.Grad.run m ρ, (θ_run _ _ _).mono (fun _ h c => ?_) (Cert.WgInReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgInClaims

end
-- ==== Proof.WgOut.lean ====
/-
  The gradient of the output projection's weight, over the extended reals: each of the four shards is summed over four blocks of
  2048 rows in a scratch array, and the sum equals the reference's product over all 8192 rows.
-/
module

public import proofs.«01_k».proof.Proof.Prods
public import proofs.«01_k».proof.Proof.Gen.WgOutIdeal.Value
public import proofs.«01_k».proof.Proof.Gen.WgOutReferenceIdeal.Read
public import proofs.«01_k».proof.Proof.Gen.WgOutReferenceIdeal.Run
public import Idealize.ShloMosaic.Lib.StableHlo.RunRead

@[expose] public section

set_option maxRecDepth 16384

noncomputable section

namespace Cert.WgOutIdeal.Grad

open Idealize.ShloMosaic Idealize.ShloMosaic.TcCoe Idealize.ShloMosaic.ValueIdx Idealize.SL.Sem
open Cert.WgOutIdeal Cert.WgOutIdeal.Gen Cert.WgOutIdeal.Value Cert.Prods
open Cert.MixBwd (Mat Stack)

/-! ## What the body computes -/

/-- The product of two blocks, summed over their 2048 rows. -/
theorem part_apply (x0 : Vec Ideal S2048x256 .bf16) (x1 : Vec Ideal S2048x1024 .f32) (r : Fin 256) (q : Fin 1024) :
    k0_pay1 x0 x1 (ix2 r q) = ∑ k : Fin 2048, (x0 (ix2 k r) : EReal) * x1 (ix2 k q) := by
  unfold k0_pay1
  refine (dotTN dot_S2048x256_S2048x1024_S256x1024_0_0_1_1_n_n rfl rfl
    (fun _ _ => by simp [DotDims.lhsIdx, dot_S2048x256_S2048x1024_S256x1024_0_0_1_1_n_n]; rfl)
    (fun _ _ => by simp [DotDims.lhsIdx, dot_S2048x256_S2048x1024_S256x1024_0_0_1_1_n_n]; rfl)
    (fun _ _ => by simp [DotDims.rhsIdx, dot_S2048x256_S2048x1024_S256x1024_0_0_1_1_n_n]; rfl)
    (fun _ _ => by simp [DotDims.rhsIdx, dot_S2048x256_S2048x1024_S256x1024_0_0_1_1_n_n]; rfl) none _ _ r q).trans ?_
  exact Finset.sum_congr rfl fun k _ => congrArg₂ (fun u v : EReal => u * v) (congrFun (shapeCast_self _ _) _) rfl

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x256 .bf16) (harg2 : arg2.IsWhole) (arg3 : Memref sig .tc .vmem S2048x1024 .f32) (harg3 : arg3.IsWhole) (arg4 : Memref sig .tc .vmem S1x256x1024 .bf16) (harg4 : arg4.IsWhole) (arg5 : Memref sig .tc .vmem S256x1024 .f32) (harg5 : arg5.IsWhole) (hc0 : cond0_0 i) (hc1 : ¬cond0_1 i) (hc2 : ¬cond0_2 i) (x0 : Vec Ideal S2048x256 .bf16) (x1 : Vec Ideal S2048x1024 .f32) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x256) at00, View.ld_unit_zero (S := S2048x1024) at00, View.ld_unit_zero (S := S256x1024) at00, shapeCast_self]

/-- A later one is added to it. -/
theorem scratch_B (c : Dev nD) (i : grid0.Coords) (arg2 : Memref sig .tc .vmem S2048x256 .bf16) (harg2 : arg2.IsWhole) (arg3 : Memref sig .tc .vmem S2048x1024 .f32) (harg3 : arg3.IsWhole) (arg4 : Memref sig .tc .vmem S1x256x1024 .bf16) (harg4 : arg4.IsWhole) (arg5 : Memref sig .tc .vmem S256x1024 .f32) (harg5 : arg5.IsWhole) (hc0 : ¬cond0_0 i) (hc1 : cond0_1 i) (hc2 : ¬cond0_2 i) (x0 : Vec Ideal S2048x256 .bf16) (x1 : Vec Ideal S2048x1024 .f32) (xs0 : Vec Ideal S256x1024 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x256) at00, View.ld_unit_zero (S := S2048x1024) at00, View.ld_unit_zero (S := S256x1024) at00, shapeCast_self]

/-- and so is the last one. -/
theorem scratch_C (c : Dev nD) (i : grid0.Coords) (arg2 : Memref sig .tc .vmem S2048x256 .bf16) (harg2 : arg2.IsWhole) (arg3 : Memref sig .tc .vmem S2048x1024 .f32) (harg3 : arg3.IsWhole) (arg4 : Memref sig .tc .vmem S1x256x1024 .bf16) (harg4 : arg4.IsWhole) (arg5 : Memref sig .tc .vmem S256x1024 .f32) (harg5 : arg5.IsWhole) (hc0 : ¬cond0_0 i) (hc1 : cond0_1 i) (hc2 : cond0_2 i) (x0 : Vec Ideal S2048x256 .bf16) (x1 : Vec Ideal S2048x1024 .f32) (xs0 : Vec Ideal S256x1024 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x256) at00, View.ld_unit_zero (S := S2048x1024) at00, View.ld_unit_zero (S := S256x1024) at00, shapeCast_self]

/-- The last block's sum is what is written out. -/
theorem out_C (c : Dev nD) (i : grid0.Coords) (arg2 : Memref sig .tc .vmem S2048x256 .bf16) (harg2 : arg2.IsWhole) (arg3 : Memref sig .tc .vmem S2048x1024 .f32) (harg3 : arg3.IsWhole) (arg4 : Memref sig .tc .vmem S1x256x1024 .bf16) (harg4 : arg4.IsWhole) (arg5 : Memref sig .tc .vmem S256x1024 .f32) (harg5 : arg5.IsWhole) (hc0 : ¬cond0_0 i) (hc1 : cond0_1 i) (hc2 : cond0_2 i) (x0 : Vec Ideal S2048x256 .bf16) (x1 : Vec Ideal S2048x1024 .f32) (xs0 : Vec Ideal S256x1024 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S256x1024) _ at00]
  unfold k0_pay3
  simp only [View.readAt_eq_ld, harg2.read_unread, harg3.read_unread, harg5.read_unread, View.ld_unit_zero (S := S2048x256) at00, View.ld_unit_zero (S := S2048x1024) at00, View.ld_unit_zero (S := S256x1024) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S256x1024 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 1024 := m ((c : Thread nD τ).loc main_arg0)
/-- and the second. -/
abbrev right (c : Dev nD) : Mat 8192 1024 := (m ((c : Thread nD τ).loc main_arg1))

/-! The arrays the call reads are the arguments. -/

theorem host0 (c : Dev nD) (k : Fin 8192) (q : Fin 1024) : V m c main_v0 (ix2 k q) = left m c (ix2 k q) := by
  have e : V m c main_v0 = truncf (F := Ideal) FTy.bf16 (m (c, Proc.tc.devRef main_arg0) : Vec Ideal S8192x1024 .f32) bitsLt_bf16_f32 := by
    unfold V; after_reads_simp
  rw [e]
  rfl

theorem host1 (c : Dev nD) (k : Fin 8192) (q : Fin 1024) : V m c main_arg1 (ix2 k q) = right m c (ix2 k q) := by
  have e : V m c main_arg1 = m (c, Proc.tc.devRef main_arg1) := by unfold V; after_reads_simp
  rw [e]

theorem block0 (c : Dev nD) (t : Fin cfg0.N) (j i : Fin 4) (ht : t.val = 4 * j.val + i.val) (k : Fin 2048) (r : Fin 256) :
    (iblk m c 0 t : Vec Ideal S2048x256 .bf16) (ix2 k r) = left m c (ix2 ⟨2048 * i.val + k.val, block_lt rfl i k⟩ ⟨256 * j.val + r.val, block_lt rfl j r⟩) := by
  have h := index0 t
  unfold iblk
  rw [View.read_apply]
  refine (congrArg (V m c main_v0) (funext fun a => Fin.ext ?_)).trans (host0 m c ⟨2048 * i.val + k.val, block_lt rfl i k⟩ ⟨256 * j.val + r.val, block_lt rfl j r⟩)
  match a with
  | ⟨0, _⟩ => show win0_0.index t 0 * 2048 + 1 * k.val = 2048 * i.val + k.val; rw [h.1]; omega
  | ⟨1, _⟩ => show win0_0.index t 1 * 256 + 1 * r.val = 256 * j.val + r.val; rw [h.2]; omega

theorem block1 (c : Dev nD) (t : Fin cfg0.N) (j i : Fin 4) (ht : t.val = 4 * j.val + i.val) (k : Fin 2048) (q : Fin 1024) :
    (iblk m c 1 t : Vec Ideal S2048x1024 .f32) (ix2 k q) = right m c (ix2 ⟨2048 * i.val + k.val, block_lt rfl i k⟩ q) := by
  have h := index1 t
  unfold iblk
  rw [View.read_apply]
  refine (congrArg (V m c main_arg1) (funext fun a => Fin.ext ?_)).trans (host1 m c ⟨2048 * i.val + k.val, block_lt rfl i k⟩ q)
  match a with
  | ⟨0, _⟩ => show win0_1.index t 0 * 2048 + 1 * k.val = 2048 * i.val + k.val; rw [h.1]; omega
  | ⟨1, _⟩ => show win0_1.index t 1 * 1024 + 1 * q.val = q.val; rw [h.2]; omega

/-- Point `4 j + i`'s product: the sum over block `i` of the rows, for shard `j`. -/
theorem part_sum (c : Dev nD) (t : Fin cfg0.N) (j i : Fin 4) (ht : t.val = 4 * j.val + i.val) (r : Fin 256) (q : Fin 1024) :
    part m c t (ix2 r q) = ∑ k : Fin 2048, left m c (ix2 ⟨2048 * i.val + k.val, block_lt rfl i k⟩ ⟨256 * j.val + r.val, block_lt rfl j r⟩) * right m c (ix2 ⟨2048 * i.val + k.val, block_lt rfl i k⟩ q) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 256) (q : Fin 1024) :
    (outsAt0 m c t.val t.isLt).1 (ix3 0 r q) = gradRows rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k ⟨256 * j.val + r.val, block_lt rfl j r⟩) * right m c (ix2 k q)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradRows rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 256) (y 2 : Fin 1024) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 256 + 1 * (y 1).val = (y 1).val; rw [h.2.1]; omega
    | ⟨2, _⟩ => show win0_2.index t 2 * 1024 + 1 * (y 2).val = (y 2).val; rw [h.2.2]; omega)
  have y0 : y = ix3 (0 : Fin 1) (y 1 : Fin 256) (y 2 : Fin 1024) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradRows rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradRows rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v1) = gradRows rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgOutIdeal.Grad

namespace Cert.WgOutReferenceIdeal.Grad

open Idealize.ShloMosaic Idealize.ShloMosaic.TcCoe Idealize.ShloMosaic.ValueIdx Idealize.SL.Sem
open Cert.WgOutReferenceIdeal Cert.WgOutReferenceIdeal.Gen Cert.WgOutReferenceIdeal.Read Cert.Prods
open Cert.MixBwd (Mat Stack)

/-- The transposed product of the cotangent with the activations, read at an index. -/
theorem product (x0 : Mat 8192 1024) (x1 : Mat 8192 1024) (r : Fin 1024) (q : Fin 1024) :
    (val_main_v1 (F := Ideal) x0 x1 : Mat 1024 1024) (ix2 r q) = ∑ k : Fin 8192, x0 (ix2 k r) * x1 (ix2 k q) := by
  refine (val_main_v1_apply (F := Ideal) x0 x1 (ix2 r q)).trans ((val_main_v0_apply x0 x1 _).trans (Finset.sum_congr rfl fun k _ => ?_))
  rw [mul_comm]
  exact congrArg₂ (fun u v : EReal => u * v) (congrArg x0 (Shape.idx_ext₂ rfl rfl)) (congrArg x1 (Shape.idx_ext₂ rfl rfl))

/-- The reference's result is the gradient in four shards. -/
theorem result (x0 : Mat 8192 1024) (x1 : Mat 8192 1024) : (val_main_v3 (F := Ideal) x0 x1 : Stack 4 256 1024) = gradRows rfl x0 x1 := by
  funext i
  obtain ⟨j, p, k, rfl⟩ : ∃ (j : Fin 4) (p : Fin 256) (k : Fin 1024), i = ix3 j p k := ⟨i 0, i 1, i 2, funext fun a => by match a with | ⟨0, _⟩ => rfl | ⟨1, _⟩ => rfl | ⟨2, _⟩ => rfl⟩
  exact (rowShards (n := 1024) (N := 1024) (w := 256) (val_main_v1 (F := Ideal) x0 x1 : Mat 1024 1024) rfl shapeCasts_S1024x1024_S4x256x1024 j p k).trans (product x0 x1 _ k)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v3) = gradRows rfl (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v3_eq (m ((c : Thread nD τ).loc main_arg0)) (m ((c : Thread nD τ).loc main_arg1)))).trans
      (result (m ((c : Thread nD τ).loc main_arg0)) (m ((c : Thread nD τ).loc main_arg1))), (h c).2⟩)
    (Cert.WgOutReferenceIdeal.Value.run m ρ)

end Cert.WgOutReferenceIdeal.Grad

end
-- ==== Proof.WgOutClaims.lean ====
/-
  The claims about the call `WgOut`, from one run of each program: the frames, and the equality of the kernel's
  result with the reference's at the ideal instance.
-/
module

public import proofs.«01_k».proof.Defs
public import proofs.«01_k».proof.Proof.WgOut
public import proofs.«01_k».proof.Proof.Gen.WgOut
public import proofs.«01_k».proof.Proof.Gen.WgOut.Frame
public import proofs.«01_k».proof.Proof.Gen.WgOutIdeal.Frame
public import proofs.«01_k».proof.Proof.Gen.WgOutReferenceIdeal.Run
public import Idealize.ShloMosaic.Adequacy
public import Idealize.ShloMosaic.Init

@[expose] public section

set_option maxRecDepth 16384

noncomputable section

namespace Cert.Proof.WgOutClaims

open Idealize.ShloMosaic Idealize.ShloMosaic.TcCoe Idealize.SL.Sem

/-- The kernel runs and leaves its arguments unchanged. -/
theorem frame_kernel : Cert.quiescent_WgOut (hWgOut := Cert.WgOut.Gen.facts) := fun m ρ _ => Cert.WgOut.Gen.frame m ρ

/-- So does its ideal reading, -/
theorem frame_ideal : Cert.quiescent_WgOutIdeal (hWgOutIdeal := Cert.WgOutIdeal.Gen.facts) := fun m ρ _ => Cert.WgOutIdeal.Gen.frame m ρ

/-- and so does the reference. -/
theorem frame_reference : Cert.quiescent_WgOutReferenceIdeal (hWgOutReferenceIdeal := Cert.WgOutReferenceIdeal.Gen.facts) := fun m ρ _ =>
  (θ_run Cert.WgOutReferenceIdeal.defs _ _).mono (fun r h => ⟨fun c => (h c).2, sem_eq_zero_of_no_sems (by decide) r.2⟩)
    (Cert.WgOutReferenceIdeal.Value.run m ρ)

/-- The kernel's result is the reference's. -/
theorem algebraic : Cert.algebraic_WgOutIdeal_WgOutReferenceIdeal (hWgOutIdeal := Cert.WgOutIdeal.Gen.facts) (hWgOutReferenceIdeal := Cert.WgOutReferenceIdeal.Gen.facts) := by
  intro m ρ m' ρ' _ hag
  refine ⟨_, Cert.WgOutIdeal.Grad.run m ρ, (θ_run _ _ _).mono (fun _ h c => ?_) (Cert.WgOutReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgOutClaims

end
-- ==== Proof.WgBrA.lean ====
/-
  The gradient of the first branch's weight, over the extended reals: each of the four shards is summed over four blocks of
  2048 rows in a scratch array, and the sum equals the reference's product over all 8192 rows.
-/
module

public import proofs.«01_k».proof.Proof.Prods
public import proofs.«01_k».proof.Proof.Gen.WgBrAIdeal.Value
public import proofs.«01_k».proof.Proof.Gen.WgBrAReferenceIdeal.Read
public import proofs.«01_k».proof.Proof.Gen.WgBrAReferenceIdeal.Run
public import Idealize.ShloMosaic.Lib.StableHlo.RunRead

@[expose] public section

set_option maxRecDepth 16384

noncomputable section

namespace Cert.WgBrAIdeal.Grad

open Idealize.ShloMosaic Idealize.ShloMosaic.TcCoe Idealize.ShloMosaic.ValueIdx Idealize.SL.Sem
open Cert.WgBrAIdeal Cert.WgBrAIdeal.Gen Cert.WgBrAIdeal.Value Cert.Prods
open Cert.MixBwd (Mat Stack)

/-! ## What the body computes -/

/-- The product of two blocks, summed over their 2048 rows. -/
theorem part_apply (x0 : Vec Ideal S2048x512 .bf16) (x1 : Vec Ideal S1x2048x256 .bf16) (r : Fin 512) (q : Fin 256) :
    k0_pay1 x0 x1 (ix2 r q) = ∑ k : Fin 2048, (x0 (ix2 k r) : EReal) * x1 (ix3 0 k q) := by
  unfold k0_pay1
  refine (dotTN dot_S2048x512_S2048x256_S512x256_0_0_1_1_n_n rfl rfl
    (fun _ _ => by simp [DotDims.lhsIdx, dot_S2048x512_S2048x256_S512x256_0_0_1_1_n_n]; rfl)
    (fun _ _ => by simp [DotDims.lhsIdx, dot_S2048x512_S2048x256_S512x256_0_0_1_1_n_n]; rfl)
    (fun _ _ => by simp [DotDims.rhsIdx, dot_S2048x512_S2048x256_S512x256_0_0_1_1_n_n]; rfl)
    (fun _ _ => by simp [DotDims.rhsIdx, dot_S2048x512_S2048x256_S512x256_0_0_1_1_n_n]; rfl) none _ _ r q).trans ?_
  exact Finset.sum_congr rfl fun k _ => congrArg₂ (fun u v : EReal => u * v) (congrFun (shapeCast_self _ _) _) (dropLead _ _ k q)

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : cond0_0 i) (hc1 : ¬cond0_1 i) (hc2 : ¬cond0_2 i) (x0 : Vec Ideal S2048x512 .bf16) (x1 : Vec Ideal S1x2048x256 .bf16) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x512) at00, View.ld_unit_zero (S := S1x2048x256) at000, View.ld_unit_zero (S := S512x256) at00, shapeCast_self]

/-- A later one is added to it. -/
theorem scratch_B (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : ¬cond0_2 i) (x0 : Vec Ideal S2048x512 .bf16) (x1 : Vec Ideal S1x2048x256 .bf16) (xs0 : Vec Ideal S512x256 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-- and so is the last one. -/
theorem scratch_C (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : cond0_2 i) (x0 : Vec Ideal S2048x512 .bf16) (x1 : Vec Ideal S1x2048x256 .bf16) (xs0 : Vec Ideal S512x256 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-- The last block's sum is what is written out. -/
theorem out_C (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : cond0_2 i) (x0 : Vec Ideal S2048x512 .bf16) (x1 : Vec Ideal S1x2048x256 .bf16) (xs0 : Vec Ideal S512x256 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S512x256) _ at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S512x256 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = 0 ∧ win0_1.index t 1 = t.val % 4 ∧ win0_1.index t 2 = t.val / 4 :=
  (by decide +kernel : ∀ t : Fin grid0.N, win0_1.index t 0 = 0 ∧ win0_1.index t 1 = t.val % 4 ∧ win0_1.index t 2 = t.val / 4)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 512 := m ((c : Thread nD τ).loc main_arg0)
/-- and the second. -/
abbrev right (c : Dev nD) : Mat 8192 1024 := (member (m ((c : Thread nD τ).loc main_arg1) : Stack 3 8192 1024) 0)

/-! The arrays the call reads are the arguments. -/

theorem host0 (c : Dev nD) (k : Fin 8192) (q : Fin 512) : V m c main_v0 (ix2 k q) = left m c (ix2 k q) := by
  have e : V m c main_v0 = truncf (F := Ideal) FTy.bf16 (m (c, Proc.tc.devRef main_arg0) : Vec Ideal S8192x512 .f32) bitsLt_bf16_f32 := by
    unfold V; after_reads_simp
  rw [e]
  rfl

theorem host1 (c : Dev nD) (k : Fin 8192) (q : Fin 1024) : V m c main_v1 (ix3 0 k q) = right m c (ix2 k q) := by
  have e : V m c main_v1 = truncf (F := Ideal) FTy.bf16 (m (c, Proc.tc.devRef main_arg1) : Vec Ideal S3x8192x1024 .f32) bitsLt_bf16_f32 := by
    unfold V; after_reads_simp
  rw [e]
  rfl

theorem block0 (c : Dev nD) (t : Fin cfg0.N) (j i : Fin 4) (ht : t.val = 4 * j.val + i.val) (k : Fin 2048) (r : Fin 512) :
    (iblk m c 0 t : Vec Ideal S2048x512 .bf16) (ix2 k r) = left m c (ix2 ⟨2048 * i.val + k.val, block_lt rfl i k⟩ r) := by
  have h := index0 t
  unfold iblk
  rw [View.read_apply]
  refine (congrArg (V m c main_v0) (funext fun a => Fin.ext ?_)).trans (host0 m c ⟨2048 * i.val + k.val, block_lt rfl i k⟩ r)
  match a with
  | ⟨0, _⟩ => show win0_0.index t 0 * 2048 + 1 * k.val = 2048 * i.val + k.val; rw [h.1]; omega
  | ⟨1, _⟩ => show win0_0.index t 1 * 512 + 1 * r.val = r.val; rw [h.2]; omega

theorem block1 (c : Dev nD) (t : Fin cfg0.N) (j i : Fin 4) (ht : t.val = 4 * j.val + i.val) (k : Fin 2048) (q : Fin 256) :
    (iblk m c 1 t : Vec Ideal S1x2048x256 .bf16) (ix3 0 k q) = right m c (ix2 ⟨2048 * i.val + k.val, block_lt rfl i k⟩ ⟨256 * j.val + q.val, block_lt rfl j q⟩) := by
  have h := index1 t
  unfold iblk
  rw [View.read_apply]
  refine (congrArg (V m c main_v1) (funext fun a => Fin.ext ?_)).trans (host1 m c ⟨2048 * i.val + k.val, block_lt rfl i k⟩ ⟨256 * j.val + q.val, block_lt rfl j q⟩)
  match a with
  | ⟨0, _⟩ => show win0_1.index t 0 * 1 + 1 * 0 = 0; rw [h.1]
  | ⟨1, _⟩ => show win0_1.index t 1 * 2048 + 1 * k.val = 2048 * i.val + k.val; rw [h.2.1]; omega
  | ⟨2, _⟩ => show win0_1.index t 2 * 256 + 1 * q.val = 256 * j.val + q.val; rw [h.2.2]; omega

/-- Point `4 j + i`'s product: the sum over block `i` of the rows, for shard `j`. -/
theorem part_sum (c : Dev nD) (t : Fin cfg0.N) (j i : Fin 4) (ht : t.val = 4 * j.val + i.val) (r : Fin 512) (q : Fin 256) :
    part m c t (ix2 r q) = ∑ k : Fin 2048, left m c (ix2 ⟨2048 * i.val + k.val, block_lt rfl i k⟩ r) * right m c (ix2 ⟨2048 * i.val + k.val, block_lt rfl i k⟩ ⟨256 * j.val + q.val, block_lt rfl j q⟩) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 512) (q : Fin 256) :
    (outsAt0 m c t.val t.isLt).1 (ix3 0 r q) = gradCols rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k r) * right m c (ix2 k ⟨256 * j.val + q.val, block_lt rfl j q⟩)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradCols rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 512) (y 2 : Fin 256) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 512 + 1 * (y 1).val = (y 1).val; rw [h.2.1]; omega
    | ⟨2, _⟩ => show win0_2.index t 2 * 256 + 1 * (y 2).val = (y 2).val; rw [h.2.2]; omega)
  have y0 : y = ix3 (0 : Fin 1) (y 1 : Fin 512) (y 2 : Fin 256) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradCols rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradCols rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v2) = gradCols rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgBrAIdeal.Grad

namespace Cert.WgBrAReferenceIdeal.Grad

open Idealize.ShloMosaic Idealize.ShloMosaic.TcCoe Idealize.ShloMosaic.ValueIdx Idealize.SL.Sem
open Cert.WgBrAReferenceIdeal Cert.WgBrAReferenceIdeal.Gen Cert.WgBrAReferenceIdeal.Read Cert.Prods
open Cert.MixBwd (Mat Stack)

/-- The transposed product of the cotangent with the activations, read at an index. -/
theorem product (x0 : Mat 8192 512) (x1 : Stack 3 8192 1024) (r : Fin 512) (q : Fin 1024) :
    (val_main_v3 (F := Ideal) x0 x1 : Mat 512 1024) (ix2 r q) = ∑ k : Fin 8192, x0 (ix2 k r) * (member x1 0) (ix2 k q) := by
  refine (val_main_v3_apply (F := Ideal) x0 x1 (ix2 r q)).trans ((val_main_v2_apply x0 x1 _).trans (Finset.sum_congr rfl fun k _ => ?_))
  rw [mul_comm]
  refine congrArg₂ (fun u v : EReal => u * v) (congrArg x0 (Shape.idx_ext₂ rfl rfl)) ?_
  have hl : lidx_main_v2 (idx_main_v3 (ix2 r q)) k = ix2 k q := Shape.idx_ext₂ rfl rfl
  rw [hl]
  refine (dropLead (val_main_v0 (F := Ideal) x1) _ k q).trans ((val_main_v0_apply (F := Ideal) x1 _).trans ?_)
  exact congrArg x1 (Cert.MixBwd.idx_ext₃ rfl rfl rfl)

/-- The reference's result is the gradient in four shards. -/
theorem result (x0 : Mat 8192 512) (x1 : Stack 3 8192 1024) : (val_main_v13 (F := Ideal) x0 x1 : Stack 4 512 256) = gradCols rfl x0 (member x1 0) := by
  funext i
  obtain ⟨j, p, k, rfl⟩ : ∃ (j : Fin 4) (p : Fin 512) (k : Fin 256), i = ix3 j p k := ⟨i 0, i 1, i 2, funext fun a => by match a with | ⟨0, _⟩ => rfl | ⟨1, _⟩ => rfl | ⟨2, _⟩ => rfl⟩
  exact (colShards (n := 512) (N := 1024) (w := 256) (val_main_v3 (F := Ideal) x0 x1 : Mat 512 1024) rfl rfl rfl rfl (by decide) (by decide)
    slices_S512x1024_S512x256_0_0 slices_S512x1024_S512x256_0_256 slices_S512x1024_S512x256_0_512 slices_S512x1024_S512x256_0_768
    bcast_S512x256_S1x512x256_1_2 concatenates_S1x512x256_S1x512x256_S1x512x256_S1x512x256_S4x512x256_d0 j p k).trans (product x0 x1 p _)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v13) = gradCols rfl (m ((c : Thread nD τ).loc main_arg0)) (member (m ((c : Thread nD τ).loc main_arg1) : Stack 3 8192 1024) 0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v13_eq (m ((c : Thread nD τ).loc main_arg0)) (m ((c : Thread nD τ).loc main_arg1)))).trans
      (result (m ((c : Thread nD τ).loc main_arg0)) (m ((c : Thread nD τ).loc main_arg1))), (h c).2⟩)
    (Cert.WgBrAReferenceIdeal.Value.run m ρ)

end Cert.WgBrAReferenceIdeal.Grad

end
-- ==== Proof.WgBrAClaims.lean ====
/-
  The claims about the call `WgBrA`, from one run of each program: the frames, and the equality of the kernel's
  result with the reference's at the ideal instance.
-/
module

public import proofs.«01_k».proof.Defs
public import proofs.«01_k».proof.Proof.WgBrA
public import proofs.«01_k».proof.Proof.Gen.WgBrA
public import proofs.«01_k».proof.Proof.Gen.WgBrA.Frame
public import proofs.«01_k».proof.Proof.Gen.WgBrAIdeal.Frame
public import proofs.«01_k».proof.Proof.Gen.WgBrAReferenceIdeal.Run
public import Idealize.ShloMosaic.Adequacy
public import Idealize.ShloMosaic.Init

@[expose] public section

set_option maxRecDepth 16384

noncomputable section

namespace Cert.Proof.WgBrAClaims

open Idealize.ShloMosaic Idealize.ShloMosaic.TcCoe Idealize.SL.Sem

/-- The kernel runs and leaves its arguments unchanged. -/
theorem frame_kernel : Cert.quiescent_WgBrA (hWgBrA := Cert.WgBrA.Gen.facts) := fun m ρ _ => Cert.WgBrA.Gen.frame m ρ

/-- So does its ideal reading, -/
theorem frame_ideal : Cert.quiescent_WgBrAIdeal (hWgBrAIdeal := Cert.WgBrAIdeal.Gen.facts) := fun m ρ _ => Cert.WgBrAIdeal.Gen.frame m ρ

/-- and so does the reference. -/
theorem frame_reference : Cert.quiescent_WgBrAReferenceIdeal (hWgBrAReferenceIdeal := Cert.WgBrAReferenceIdeal.Gen.facts) := fun m ρ _ =>
  (θ_run Cert.WgBrAReferenceIdeal.defs _ _).mono (fun r h => ⟨fun c => (h c).2, sem_eq_zero_of_no_sems (by decide) r.2⟩)
    (Cert.WgBrAReferenceIdeal.Value.run m ρ)

/-- The kernel's result is the reference's. -/
theorem algebraic : Cert.algebraic_WgBrAIdeal_WgBrAReferenceIdeal (hWgBrAIdeal := Cert.WgBrAIdeal.Gen.facts) (hWgBrAReferenceIdeal := Cert.WgBrAReferenceIdeal.Gen.facts) := by
  intro m ρ m' ρ' _ hag
  refine ⟨_, Cert.WgBrAIdeal.Grad.run m ρ, (θ_run _ _ _).mono (fun _ h c => ?_) (Cert.WgBrAReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgBrAClaims

end
-- ==== Proof.WgBrB.lean ====
/-
  The gradient of the second branch's weight, over the extended reals: each of the four shards is summed over four blocks of
  2048 rows in a scratch array, and the sum equals the reference's product over all 8192 rows.
-/
module

public import proofs.«01_k».proof.Proof.Prods
public import proofs.«01_k».proof.Proof.Gen.WgBrBIdeal.Value
public import proofs.«01_k».proof.Proof.Gen.WgBrBReferenceIdeal.Read
public import proofs.«01_k».proof.Proof.Gen.WgBrBReferenceIdeal.Run
public import Idealize.ShloMosaic.Lib.StableHlo.RunRead

@[expose] public section

set_option maxRecDepth 16384

noncomputable section

namespace Cert.WgBrBIdeal.Grad

open Idealize.ShloMosaic Idealize.ShloMosaic.TcCoe Idealize.ShloMosaic.ValueIdx Idealize.SL.Sem
open Cert.WgBrBIdeal Cert.WgBrBIdeal.Gen Cert.WgBrBIdeal.Value Cert.Prods
open Cert.MixBwd (Mat Stack)

/-! ## What the body computes -/

/-- The product of two blocks, summed over their 2048 rows. -/
theorem part_apply (x0 : Vec Ideal S2048x256 .bf16) (x1 : Vec Ideal S1x2048x256 .bf16) (r : Fin 256) (q : Fin 256) :
    k0_pay1 x0 x1 (ix2 r q) = ∑ k : Fin 2048, (x0 (ix2 k r) : EReal) * x1 (ix3 0 k q) := by
  unfold k0_pay1
  refine (dotTN dot_S2048x256_S2048x256_S256x256_0_0_1_1_n_n rfl rfl
    (fun _ _ => by simp [DotDims.lhsIdx, dot_S2048x256_S2048x256_S256x256_0_0_1_1_n_n]; rfl)
    (fun _ _ => by simp [DotDims.lhsIdx, dot_S2048x256_S2048x256_S256x256_0_0_1_1_n_n]; rfl)
    (fun _ _ => by simp [DotDims.rhsIdx, dot_S2048x256_S2048x256_S256x256_0_0_1_1_n_n]; rfl)
    (fun _ _ => by simp [DotDims.rhsIdx, dot_S2048x256_S2048x256_S256x256_0_0_1_1_n_n]; rfl) none _ _ r q).trans ?_
  exact Finset.sum_congr rfl fun k _ => congrArg₂ (fun u v : EReal => u * v) (congrFun (shapeCast_self _ _) _) (dropLead _ _ k q)

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x256 .bf16) (harg2 : arg2.IsWhole) (arg3 : Memref sig .tc .vmem S1x2048x256 .bf16) (harg3 : arg3.IsWhole) (arg4 : Memref sig .tc .vmem S1x256x256 .bf16) (harg4 : arg4.IsWhole) (arg5 : Memref sig .tc .vmem S256x256 .f32) (harg5 : arg5.IsWhole) (hc0 : cond0_0 i) (hc1 : ¬cond0_1 i) (hc2 : ¬cond0_2 i) (x0 : Vec Ideal S2048x256 .bf16) (x1 : Vec Ideal S1x2048x256 .bf16) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x256) at00, View.ld_unit_zero (S := S1x2048x256) at000, View.ld_unit_zero (S := S256x256) at00, shapeCast_self]

/-- A later one is added to it. -/
theorem scratch_B (c : Dev nD) (i : grid0.Coords) (arg2 : Memref sig .tc .vmem S2048x256 .bf16) (harg2 : arg2.IsWhole) (arg3 : Memref sig .tc .vmem S1x2048x256 .bf16) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : ¬cond0_2 i) (x0 : Vec Ideal S2048x256 .bf16) (x1 : Vec Ideal S1x2048x256 .bf16) (xs0 : Vec Ideal S256x256 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x256) at00, View.ld_unit_zero (S := S1x2048x256) at000, View.ld_unit_zero (S := S256x256) at00, shapeCast_self]

/-- and so is the last one. -/
theorem scratch_C (c : Dev nD) (i : grid0.Coords) (arg2 : Memref sig .tc .vmem S2048x256 .bf16) (harg2 : arg2.IsWhole) (arg3 : Memref sig .tc .vmem S1x2048x256 .bf16) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i) (x0 : Vec Ideal S2048x256 .bf16) (x1 : Vec Ideal S1x2048x256 .bf16) (xs0 : Vec Ideal S256x256 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x256) at00, View.ld_unit_zero (S := S1x2048x256) at000, View.ld_unit_zero (S := S256x256) at00, shapeCast_self]

/-- The last block's sum is what is written out. -/
theorem out_C (c : Dev nD) (i : grid0.Coords) (arg2 : Memref sig .tc .vmem S2048x256 .bf16) (harg2 : arg2.IsWhole) (arg3 : Memref sig .tc .vmem S1x2048x256 .bf16) (harg3 : arg3.IsWhole) (arg4 : Memref sig .tc .vmem S1x256x256 .bf16) (harg4 : arg4.IsWhole) (arg5 : Memref sig .tc .vmem S256x256 .f32) (harg5 : arg5.IsWhole) (hc0 : ¬cond0_0 i) (hc1 : cond0_1 i) (hc2 : cond0_2 i) (x0 : Vec Ideal S2048x256 .bf16) (x1 : Vec Ideal S1x2048x256 .bf16) (xs0 : Vec Ideal S256x256 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S256x256) _ at00]
  unfold k0_pay3
  simp only [View.readAt_eq_ld, harg2.read_unread, harg3.read_unread, harg5.read_unread, View.ld_unit_zero (S := S2048x256) at00, View.ld_unit_zero (S := S1x2048x256) at000, View.ld_unit_zero (S := S256x256) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S256x256 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = 1 ∧ win0_1.index t 1 = t.val % 4 ∧ win0_1.index t 2 = t.val / 4 :=
  (by decide +kernel : ∀ t : Fin grid0.N, win0_1.index t 0 = 1 ∧ win0_1.index t 1 = t.val % 4 ∧ win0_1.index t 2 = t.val / 4)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 256 := m ((c : Thread nD τ).loc main_arg0)
/-- and the second. -/
abbrev right (c : Dev nD) : Mat 8192 1024 := (member (m ((c : Thread nD τ).loc main_arg1) : Stack 3 8192 1024) 1)

/-! The arrays the call reads are the arguments. -/

theorem host0 (c : Dev nD) (k : Fin 8192) (q : Fin 256) : V m c main_v0 (ix2 k q) = left m c (ix2 k q) := by
  have e : V m c main_v0 = truncf (F := Ideal) FTy.bf16 (m (c, Proc.tc.devRef main_arg0) : Vec Ideal S8192x256 .f32) bitsLt_bf16_f32 := by
    unfold V; after_reads_simp
  rw [e]
  rfl

theorem host1 (c : Dev nD) (k : Fin 8192) (q : Fin 1024) : V m c main_v1 (ix3 1 k q) = right m c (ix2 k q) := by
  have e : V m c main_v1 = truncf (F := Ideal) FTy.bf16 (m (c, Proc.tc.devRef main_arg1) : Vec Ideal S3x8192x1024 .f32) bitsLt_bf16_f32 := by
    unfold V; after_reads_simp
  rw [e]
  rfl

theorem block0 (c : Dev nD) (t : Fin cfg0.N) (j i : Fin 4) (ht : t.val = 4 * j.val + i.val) (k : Fin 2048) (r : Fin 256) :
    (iblk m c 0 t : Vec Ideal S2048x256 .bf16) (ix2 k r) = left m c (ix2 ⟨2048 * i.val + k.val, block_lt rfl i k⟩ r) := by
  have h := index0 t
  unfold iblk
  rw [View.read_apply]
  refine (congrArg (V m c main_v0) (funext fun a => Fin.ext ?_)).trans (host0 m c ⟨2048 * i.val + k.val, block_lt rfl i k⟩ r)
  match a with
  | ⟨0, _⟩ => show win0_0.index t 0 * 2048 + 1 * k.val = 2048 * i.val + k.val; rw [h.1]; omega
  | ⟨1, _⟩ => show win0_0.index t 1 * 256 + 1 * r.val = r.val; rw [h.2]; omega

theorem block1 (c : Dev nD) (t : Fin cfg0.N) (j i : Fin 4) (ht : t.val = 4 * j.val + i.val) (k : Fin 2048) (q : Fin 256) :
    (iblk m c 1 t : Vec Ideal S1x2048x256 .bf16) (ix3 0 k q) = right m c (ix2 ⟨2048 * i.val + k.val, block_lt rfl i k⟩ ⟨256 * j.val + q.val, block_lt rfl j q⟩) := by
  have h := index1 t
  unfold iblk
  rw [View.read_apply]
  refine (congrArg (V m c main_v1) (funext fun a => Fin.ext ?_)).trans (host1 m c ⟨2048 * i.val + k.val, block_lt rfl i k⟩ ⟨256 * j.val + q.val, block_lt rfl j q⟩)
  match a with
  | ⟨0, _⟩ => show win0_1.index t 0 * 1 + 1 * 0 = 1; rw [h.1]
  | ⟨1, _⟩ => show win0_1.index t 1 * 2048 + 1 * k.val = 2048 * i.val + k.val; rw [h.2.1]; omega
  | ⟨2, _⟩ => show win0_1.index t 2 * 256 + 1 * q.val = 256 * j.val + q.val; rw [h.2.2]; omega

/-- Point `4 j + i`'s product: the sum over block `i` of the rows, for shard `j`. -/
theorem part_sum (c : Dev nD) (t : Fin cfg0.N) (j i : Fin 4) (ht : t.val = 4 * j.val + i.val) (r : Fin 256) (q : Fin 256) :
    part m c t (ix2 r q) = ∑ k : Fin 2048, left m c (ix2 ⟨2048 * i.val + k.val, block_lt rfl i k⟩ r) * right m c (ix2 ⟨2048 * i.val + k.val, block_lt rfl i k⟩ ⟨256 * j.val + q.val, block_lt rfl j q⟩) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 256) (q : Fin 256) :
    (outsAt0 m c t.val t.isLt).1 (ix3 0 r q) = gradCols rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k r) * right m c (ix2 k ⟨256 * j.val + q.val, block_lt rfl j q⟩)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradCols rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 256) (y 2 : Fin 256) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 256 + 1 * (y 1).val = (y 1).val; rw [h.2.1]; omega
    | ⟨2, _⟩ => show win0_2.index t 2 * 256 + 1 * (y 2).val = (y 2).val; rw [h.2.2]; omega)
  have y0 : y = ix3 (0 : Fin 1) (y 1 : Fin 256) (y 2 : Fin 256) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradCols rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradCols rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v2) = gradCols rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgBrBIdeal.Grad

namespace Cert.WgBrBReferenceIdeal.Grad

open Idealize.ShloMosaic Idealize.ShloMosaic.TcCoe Idealize.ShloMosaic.ValueIdx Idealize.SL.Sem
open Cert.WgBrBReferenceIdeal Cert.WgBrBReferenceIdeal.Gen Cert.WgBrBReferenceIdeal.Read Cert.Prods
open Cert.MixBwd (Mat Stack)

/-- The transposed product of the cotangent with the activations, read at an index. -/
theorem product (x0 : Mat 8192 256) (x1 : Stack 3 8192 1024) (r : Fin 256) (q : Fin 1024) :
    (val_main_v3 (F := Ideal) x0 x1 : Mat 256 1024) (ix2 r q) = ∑ k : Fin 8192, x0 (ix2 k r) * (member x1 1) (ix2 k q) := by
  refine (val_main_v3_apply (F := Ideal) x0 x1 (ix2 r q)).trans ((val_main_v2_apply x0 x1 _).trans (Finset.sum_congr rfl fun k _ => ?_))
  rw [mul_comm]
  refine congrArg₂ (fun u v : EReal => u * v) (congrArg x0 (Shape.idx_ext₂ rfl rfl)) ?_
  have hl : lidx_main_v2 (idx_main_v3 (ix2 r q)) k = ix2 k q := Shape.idx_ext₂ rfl rfl
  rw [hl]
  refine (dropLead (val_main_v0 (F := Ideal) x1) _ k q).trans ((val_main_v0_apply (F := Ideal) x1 _).trans ?_)
  exact congrArg x1 (Cert.MixBwd.idx_ext₃ rfl rfl rfl)

/-- The reference's result is the gradient in four shards. -/
theorem result (x0 : Mat 8192 256) (x1 : Stack 3 8192 1024) : (val_main_v13 (F := Ideal) x0 x1 : Stack 4 256 256) = gradCols rfl x0 (member x1 1) := by
  funext i
  obtain ⟨j, p, k, rfl⟩ : ∃ (j : Fin 4) (p : Fin 256) (k : Fin 256), i = ix3 j p k := ⟨i 0, i 1, i 2, funext fun a => by match a with | ⟨0, _⟩ => rfl | ⟨1, _⟩ => rfl | ⟨2, _⟩ => rfl⟩
  exact (colShards (n := 256) (N := 1024) (w := 256) (val_main_v3 (F := Ideal) x0 x1 : Mat 256 1024) rfl rfl rfl rfl (by decide) (by decide)
    slices_S256x1024_S256x256_0_0 slices_S256x1024_S256x256_0_256 slices_S256x1024_S256x256_0_512 slices_S256x1024_S256x256_0_768
    bcast_S256x256_S1x256x256_1_2 concatenates_S1x256x256_S1x256x256_S1x256x256_S1x256x256_S4x256x256_d0 j p k).trans (product x0 x1 p _)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v13) = gradCols rfl (m ((c : Thread nD τ).loc main_arg0)) (member (m ((c : Thread nD τ).loc main_arg1) : Stack 3 8192 1024) 1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v13_eq (m ((c : Thread nD τ).loc main_arg0)) (m ((c : Thread nD τ).loc main_arg1)))).trans
      (result (m ((c : Thread nD τ).loc main_arg0)) (m ((c : Thread nD τ).loc main_arg1))), (h c).2⟩)
    (Cert.WgBrBReferenceIdeal.Value.run m ρ)

end Cert.WgBrBReferenceIdeal.Grad

end
-- ==== Proof.WgBrBClaims.lean ====
/-
  The claims about the call `WgBrB`, from one run of each program: the frames, and the equality of the kernel's
  result with the reference's at the ideal instance.
-/
module

public import proofs.«01_k».proof.Defs
public import proofs.«01_k».proof.Proof.WgBrB
public import proofs.«01_k».proof.Proof.Gen.WgBrB
public import proofs.«01_k».proof.Proof.Gen.WgBrB.Frame
public import proofs.«01_k».proof.Proof.Gen.WgBrBIdeal.Frame
public import proofs.«01_k».proof.Proof.Gen.WgBrBReferenceIdeal.Run
public import Idealize.ShloMosaic.Adequacy
public import Idealize.ShloMosaic.Init

@[expose] public section

set_option maxRecDepth 16384

noncomputable section

namespace Cert.Proof.WgBrBClaims

open Idealize.ShloMosaic Idealize.ShloMosaic.TcCoe Idealize.SL.Sem

/-- The kernel runs and leaves its arguments unchanged. -/
theorem frame_kernel : Cert.quiescent_WgBrB (hWgBrB := Cert.WgBrB.Gen.facts) := fun m ρ _ => Cert.WgBrB.Gen.frame m ρ

/-- So does its ideal reading, -/
theorem frame_ideal : Cert.quiescent_WgBrBIdeal (hWgBrBIdeal := Cert.WgBrBIdeal.Gen.facts) := fun m ρ _ => Cert.WgBrBIdeal.Gen.frame m ρ

/-- and so does the reference. -/
theorem frame_reference : Cert.quiescent_WgBrBReferenceIdeal (hWgBrBReferenceIdeal := Cert.WgBrBReferenceIdeal.Gen.facts) := fun m ρ _ =>
  (θ_run Cert.WgBrBReferenceIdeal.defs _ _).mono (fun r h => ⟨fun c => (h c).2, sem_eq_zero_of_no_sems (by decide) r.2⟩)
    (Cert.WgBrBReferenceIdeal.Value.run m ρ)

/-- The kernel's result is the reference's. -/
theorem algebraic : Cert.algebraic_WgBrBIdeal_WgBrBReferenceIdeal (hWgBrBIdeal := Cert.WgBrBIdeal.Gen.facts) (hWgBrBReferenceIdeal := Cert.WgBrBReferenceIdeal.Gen.facts) := by
  intro m ρ m' ρ' _ hag
  refine ⟨_, Cert.WgBrBIdeal.Grad.run m ρ, (θ_run _ _ _).mono (fun _ h c => ?_) (Cert.WgBrBReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgBrBClaims

end
-- ==== Proof.WgBrC.lean ====
/-
  The gradient of the third branch's weight, over the extended reals: each of the four shards is summed over four blocks of
  2048 rows in a scratch array, and the sum equals the reference's product over all 8192 rows.
-/
module

public import proofs.«01_k».proof.Proof.Prods
public import proofs.«01_k».proof.Proof.Gen.WgBrCIdeal.Value
public import proofs.«01_k».proof.Proof.Gen.WgBrCReferenceIdeal.Read
public import proofs.«01_k».proof.Proof.Gen.WgBrCReferenceIdeal.Run
public import Idealize.ShloMosaic.Lib.StableHlo.RunRead

@[expose] public section

set_option maxRecDepth 16384

noncomputable section

namespace Cert.WgBrCIdeal.Grad

open Idealize.ShloMosaic Idealize.ShloMosaic.TcCoe Idealize.ShloMosaic.ValueIdx Idealize.SL.Sem
open Cert.WgBrCIdeal Cert.WgBrCIdeal.Gen Cert.WgBrCIdeal.Value Cert.Prods
open Cert.MixBwd (Mat Stack)

/-! ## What the body computes -/

/-- The product of two blocks, summed over their 2048 rows. -/
theorem part_apply (x0 : Vec Ideal S2048x512 .bf16) (x1 : Vec Ideal S1x2048x256 .bf16) (r : Fin 512) (q : Fin 256) :
    k0_pay1 x0 x1 (ix2 r q) = ∑ k : Fin 2048, (x0 (ix2 k r) : EReal) * x1 (ix3 0 k q) := by
  unfold k0_pay1
  refine (dotTN dot_S2048x512_S2048x256_S512x256_0_0_1_1_n_n rfl rfl
    (fun _ _ => by simp [DotDims.lhsIdx, dot_S2048x512_S2048x256_S512x256_0_0_1_1_n_n]; rfl)
    (fun _ _ => by simp [DotDims.lhsIdx, dot_S2048x512_S2048x256_S512x256_0_0_1_1_n_n]; rfl)
    (fun _ _ => by simp [DotDims.rhsIdx, dot_S2048x512_S2048x256_S512x256_0_0_1_1_n_n]; rfl)
    (fun _ _ => by simp [DotDims.rhsIdx, dot_S2048x512_S2048x256_S512x256_0_0_1_1_n_n]; rfl) none _ _ r q).trans ?_
  exact Finset.sum_congr rfl fun k _ => congrArg₂ (fun u v : EReal => u * v) (congrFun (shapeCast_self _ _) _) (dropLead _ _ k q)

theorem at00 : (![0, 0] : Fin 2 → Nat) = fun _ => 0 := funext fun a => by fin_cases a <;> rfl
theorem at000 : (![0, 0, 0] : Fin 3 → Nat) = fun _ => 0 := funext fun a => by fin_cases a <;> rfl

/-- The first block of rows starts the sum. -/
theorem scratch_A (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : cond0_0 i) (hc1 : ¬cond0_1 i) (hc2 : ¬cond0_2 i) (x0 : Vec Ideal S2048x512 .bf16) (x1 : Vec Ideal S1x2048x256 .bf16) :
    sout0_A_0 (F := Ideal) c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero at00]
  unfold k0_pay2
  simp only [View.readAt_eq_ld, harg2.read_unread, harg3.read_unread, harg5.read_unread, View.ld_unit_zero (S := S2048x512) at00, View.ld_unit_zero (S := S1x2048x256) at000, View.ld_unit_zero (S := S512x256) at00, shapeCast_self]

/-- A later one is added to it. -/
theorem scratch_B (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : ¬cond0_2 i) (x0 : Vec Ideal S2048x512 .bf16) (x1 : Vec Ideal S1x2048x256 .bf16) (xs0 : Vec Ideal S512x256 .f32) :
    sout0_B_0 (F := Ideal) c i arg2 harg2 arg3 harg3 arg4 harg4 arg5 harg5 hc0 hc1 hc2 x0 x1 xs0 = addf xs0 (k0_pay1 x0 x1) := by
  unfold sout0_B_0
  rw [View.read_writes_eq_canon _ _ _ (scover0_B_0 c i arg2 harg2 arg3 harg3 arg4 harg4 arg5 harg5 hc0 hc1 hc2 x0 x1 xs0)]
  unfold kernelRun0_B
  dsimp only
  sl_unfold_words
  rw [View.canon_unit_zero at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-- and so is the last one. -/
theorem scratch_C (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : cond0_2 i) (x0 : Vec Ideal S2048x512 .bf16) (x1 : Vec Ideal S1x2048x256 .bf16) (xs0 : Vec Ideal S512x256 .f32) :
    sout0_C_0 (F := Ideal) c i arg2 harg2 arg3 harg3 arg4 harg4 arg5 harg5 hc0 hc1 hc2 x0 x1 xs0 = addf xs0 (k0_pay1 x0 x1) := by
  unfold sout0_C_0
  rw [View.read_writes_eq_canon _ _ _ (scover0_C_0 c i arg2 harg2 arg3 harg3 arg4 harg4 arg5 harg5 hc0 hc1 hc2 x0 x1 xs0)]
  unfold kernelRun0_C
  dsimp only
  sl_unfold_words
  rw [View.canon_unit_zero at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-- The last block's sum is what is written out. -/
theorem out_C (c : Dev nD) (i : grid0.Coords) (arg2 : Memref sig .tc .vmem S2048x512 .bf16) (harg2 : arg2.IsWhole) (arg3 : Memref sig .tc .vmem S1x2048x256 .bf16) (harg3 : arg3.IsWhole) (arg4 : Memref sig .tc .vmem S1x512x256 .bf16) (harg4 : arg4.IsWhole) (arg5 : Memref sig .tc .vmem S512x256 .f32) (harg5 : arg5.IsWhole) (hc0 : ¬cond0_0 i) (hc1 : cond0_1 i) (hc2 : cond0_2 i) (x0 : Vec Ideal S2048x512 .bf16) (x1 : Vec Ideal S1x2048x256 .bf16) (xs0 : Vec Ideal S512x256 .f32) :
    out0_C_2 (F := Ideal) c i arg2 harg2 arg3 harg3 arg4 harg4 arg5 harg5 hc0 hc1 hc2 x0 x1 xs0 = k0_pay4 (addf xs0 (k0_pay1 x0 x1)) := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero at000, View.readCov_unit_zero (S := S512x256) _ at00]
  unfold k0_pay3
  simp only [View.readAt_eq_ld, harg2.read_unread, harg3.read_unread, harg5.read_unread, View.ld_unit_zero (S := S2048x512) at00, View.ld_unit_zero (S := S1x2048x256) at000, View.ld_unit_zero (S := S512x256) at00, shapeCast_self]

/-! ## The sum over the points of a shard -/

variable (m : (ℓ : Loc nD τ sig) → Buf (Elt Ideal) ℓ) (ρ : Dev nD → PrngReg)

/-- Point `t`'s product. -/
abbrev part (c : Dev nD) (t : Fin cfg0.N) : FVec Ideal S512x256 .f32 := k0_pay1 (iblk m c 0 t) (iblk m c 1 t)

theorem sum_first (c : Dev nD) (t : Fin cfg0.N) (h0 : t.val % 4 = 0) : (outsAt0 m c t.val t.isLt).2 = part m c t := by
  rw [outsAt0_A m c t h0 (by omega) (by omega)]
  dsimp only
  exact scratch_A c (grid0.coords t) (ms0_0 t) (hs0_0 t) (ms0_1 t) (hs0_1 t) (ms0_2 t) (hs0_2 t) scM0_0 (Memref.isWhole_whole _) ((hcond0_0 t).mpr h0)
    (fun h => absurd ((hcond0_1 t).mp h) (by omega)) (fun h => absurd ((hcond0_2 t).mp h) (by omega)) (iblk m c 0 t) (iblk m c 1 t)

theorem sum_next (c : Dev nD) (t : Fin cfg0.N) (h0 : ¬t.val % 4 = 0) (hp : t.val - 1 < cfg0.N) :
    (outsAt0 m c t.val t.isLt).2 = addf (outsAt0 m c (t.val - 1) hp).2 (part m c t) := by
  by_cases h2 : t.val % 4 = 3
  · rw [outsAt0_C m c t h0 (by omega) h2]
    dsimp only
    exact scratch_C c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) ((hcond0_2 t).mpr h2) (iblk m c 0 t) (iblk m c 1 t) (outsAt0 m c (t.val - 1) hp).2
  · rw [outsAt0_B m c t h0 (by omega) h2]
    dsimp only
    exact scratch_B c (grid0.coords t) (ms0_0 t) (hs0_0 t) (ms0_1 t) (hs0_1 t) (ms0_2 t) (hs0_2 t) scM0_0 (Memref.isWhole_whole _) (fun h => h0 ((hcond0_0 t).mp h))
      ((hcond0_1 t).mpr (by omega)) (fun h => h2 ((hcond0_2 t).mp h)) (iblk m c 0 t) (iblk m c 1 t) (outsAt0 m c (t.val - 1) hp).2

/-- What the last point of a shard writes out: the four products, added up. -/
theorem out_last (c : Dev nD) (t t0 t1 t2 : Fin cfg0.N) (h2 : t.val % 4 = 3) (e2 : t2.val = t.val - 1) (e1 : t1.val = t.val - 2) (e0 : t0.val = t.val - 3) :
    (outsAt0 m c t.val t.isLt).1 = k0_pay4 (addf (addf (addf (part m c t0) (part m c t1)) (part m c t2)) (part m c t)) := by
  have hp : t.val - 1 < cfg0.N := Nat.lt_of_le_of_lt (Nat.sub_le _ _) t.isLt
  have s0 := sum_first m c t0 (by omega)
  have s1 := sum_next m c t1 (by omega) (Nat.lt_of_le_of_lt (Nat.sub_le _ _) t1.isLt)
  have s2 := sum_next m c t2 (by omega) (Nat.lt_of_le_of_lt (Nat.sub_le _ _) t2.isLt)
  have i1 : (outsAt0 m c (t1.val - 1) (Nat.lt_of_le_of_lt (Nat.sub_le _ _) t1.isLt)).2 = (outsAt0 m c t0.val t0.isLt).2 := by congr 2; omega
  have i2 : (outsAt0 m c (t2.val - 1) (Nat.lt_of_le_of_lt (Nat.sub_le _ _) t2.isLt)).2 = (outsAt0 m c t1.val t1.isLt).2 := by congr 2; omega
  have i3 : (outsAt0 m c (t.val - 1) hp).2 = (outsAt0 m c t2.val t2.isLt).2 := by congr 2; omega
  rw [outsAt0_C m c t (by omega) (by omega) h2]
  dsimp only
  refine (out_C c (grid0.coords t) (ms0_0 t) (hs0_0 t) (ms0_1 t) (hs0_1 t) (ms0_2 t) (hs0_2 t) scM0_0 (Memref.isWhole_whole _) (fun h => absurd ((hcond0_0 t).mp h) (by omega))
      ((hcond0_1 t).mpr (by omega)) ((hcond0_2 t).mpr h2) (iblk m c 0 t) (iblk m c 1 t) (outsAt0 m c (t.val - 1) hp).2).trans ?_
  rw [i3, s2, i2, s1, i1, s0]

/-! ## The blocks a point reads -/

theorem index0 : ∀ t : Fin cfg0.N, win0_0.index t 0 = t.val % 4 ∧ win0_0.index t 1 = 0 :=
  (by decide +kernel : ∀ t : Fin grid0.N, win0_0.index t 0 = t.val % 4 ∧ win0_0.index t 1 = 0)
theorem index1 : ∀ t : Fin cfg0.N, win0_1.index t 0 = 2 ∧ win0_1.index t 1 = t.val % 4 ∧ win0_1.index t 2 = t.val / 4 :=
  (by decide +kernel : ∀ t : Fin grid0.N, win0_1.index t 0 = 2 ∧ win0_1.index t 1 = t.val % 4 ∧ win0_1.index t 2 = t.val / 4)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The first argument on device `c`, -/
abbrev left (c : Dev nD) : Mat 8192 512 := m ((c : Thread nD τ).loc main_arg0)
/-- and the second. -/
abbrev right (c : Dev nD) : Mat 8192 1024 := (member (m ((c : Thread nD τ).loc main_arg1) : Stack 3 8192 1024) 2)

/-! The arrays the call reads are the arguments. -/

theorem host0 (c : Dev nD) (k : Fin 8192) (q : Fin 512) : V m c main_v0 (ix2 k q) = left m c (ix2 k q) := by
  have e : V m c main_v0 = truncf (F := Ideal) FTy.bf16 (m (c, Proc.tc.devRef main_arg0) : Vec Ideal S8192x512 .f32) bitsLt_bf16_f32 := by
    unfold V; after_reads_simp
  rw [e]
  rfl

theorem host1 (c : Dev nD) (k : Fin 8192) (q : Fin 1024) : V m c main_v1 (ix3 2 k q) = right m c (ix2 k q) := by
  have e : V m c main_v1 = truncf (F := Ideal) FTy.bf16 (m (c, Proc.tc.devRef main_arg1) : Vec Ideal S3x8192x1024 .f32) bitsLt_bf16_f32 := by
    unfold V; after_reads_simp
  rw [e]
  rfl

theorem block0 (c : Dev nD) (t : Fin cfg0.N) (j i : Fin 4) (ht : t.val = 4 * j.val + i.val) (k : Fin 2048) (r : Fin 512) :
    (iblk m c 0 t : Vec Ideal S2048x512 .bf16) (ix2 k r) = left m c (ix2 ⟨2048 * i.val + k.val, block_lt rfl i k⟩ r) := by
  have h := index0 t
  unfold iblk
  rw [View.read_apply]
  refine (congrArg (V m c main_v0) (funext fun a => Fin.ext ?_)).trans (host0 m c ⟨2048 * i.val + k.val, block_lt rfl i k⟩ r)
  match a with
  | ⟨0, _⟩ => show win0_0.index t 0 * 2048 + 1 * k.val = 2048 * i.val + k.val; rw [h.1]; omega
  | ⟨1, _⟩ => show win0_0.index t 1 * 512 + 1 * r.val = r.val; rw [h.2]; omega

theorem block1 (c : Dev nD) (t : Fin cfg0.N) (j i : Fin 4) (ht : t.val = 4 * j.val + i.val) (k : Fin 2048) (q : Fin 256) :
    (iblk m c 1 t : Vec Ideal S1x2048x256 .bf16) (ix3 0 k q) = right m c (ix2 ⟨2048 * i.val + k.val, block_lt rfl i k⟩ ⟨256 * j.val + q.val, block_lt rfl j q⟩) := by
  have h := index1 t
  unfold iblk
  rw [View.read_apply]
  refine (congrArg (V m c main_v1) (funext fun a => Fin.ext ?_)).trans (host1 m c ⟨2048 * i.val + k.val, block_lt rfl i k⟩ ⟨256 * j.val + q.val, block_lt rfl j q⟩)
  match a with
  | ⟨0, _⟩ => show win0_1.index t 0 * 1 + 1 * 0 = 2; rw [h.1]
  | ⟨1, _⟩ => show win0_1.index t 1 * 2048 + 1 * k.val = 2048 * i.val + k.val; rw [h.2.1]; omega
  | ⟨2, _⟩ => show win0_1.index t 2 * 256 + 1 * q.val = 256 * j.val + q.val; rw [h.2.2]; omega

/-- Point `4 j + i`'s product: the sum over block `i` of the rows, for shard `j`. -/
theorem part_sum (c : Dev nD) (t : Fin cfg0.N) (j i : Fin 4) (ht : t.val = 4 * j.val + i.val) (r : Fin 512) (q : Fin 256) :
    part m c t (ix2 r q) = ∑ k : Fin 2048, left m c (ix2 ⟨2048 * i.val + k.val, block_lt rfl i k⟩ r) * right m c (ix2 ⟨2048 * i.val + k.val, block_lt rfl i k⟩ ⟨256 * j.val + q.val, block_lt rfl j q⟩) :=
  (part_apply _ _ r q).trans (Finset.sum_congr rfl fun k _ => congrArg₂ (fun u v : EReal => u * v) (block0 m c t j i ht k r) (block1 m c t j i ht k q))

/-- What a shard's last point writes out is the shard of the gradient. -/
theorem out_grad (c : Dev nD) (t : Fin cfg0.N) (h2 : t.val % 4 = 3) (j : Fin 4) (hj : j.val = t.val / 4) (r : Fin 512) (q : Fin 256) :
    (outsAt0 m c t.val t.isLt).1 (ix3 0 r q) = gradCols rfl (left m c) (right m c) (ix3 j r q) := by
  have ht := t.isLt
  rw [out_last m c t ⟨t.val - 3, by omega⟩ ⟨t.val - 2, by omega⟩ ⟨t.val - 1, by omega⟩ h2 rfl rfl rfl]
  unfold k0_pay4
  refine (addLead _ _ r q).trans ?_
  have p0 := part_sum m c ⟨t.val - 3, by omega⟩ j 0 (by show t.val - 3 = 4 * j.val + 0; omega) r q
  have p1 := part_sum m c ⟨t.val - 2, by omega⟩ j 1 (by show t.val - 2 = 4 * j.val + 1; omega) r q
  have p2 := part_sum m c ⟨t.val - 1, by omega⟩ j 2 (by show t.val - 1 = 4 * j.val + 2; omega) r q
  have p3 := part_sum m c t j 3 (by show t.val = 4 * j.val + 3; omega) r q
  have hs := (sum_cut (m := 4) (n := 2048) rfl fun k : Fin 8192 => left m c (ix2 k r) * right m c (ix2 k ⟨256 * j.val + q.val, block_lt rfl j q⟩)).trans (Fin.sum_univ_four _)
  show part m c _ (ix2 r q) + part m c _ (ix2 r q) + part m c _ (ix2 r q) + part m c _ (ix2 r q) = _
  rw [p0, p1, p2, p3]
  exact hs.symm

/-- Every write-back is a shard of the gradient, -/
theorem flushed_grad (c : Dev nD) (t : Fin cfg0.N) (hf : (cfg0.win 2).flush t = true) :
    (dats m 0 c).flushed 2 t = ((cfg0.win 2).blk t).view.read (Elt Ideal) (gradCols rfl (left m c) (right m c)) := by
  have h2 : t.val % 4 = 3 := (flush0_2 t).mp hf
  have ht := t.isLt
  have hN : cfg0.N = 16 := N_0
  have h := index2 t
  rw [flushed2]
  funext y
  rw [View.read_apply]
  have hy : (((cfg0.win 2).blk t).view.emb y) = ix3 (⟨t.val / 4, by omega⟩ : Fin 4) (y 1 : Fin 512) (y 2 : Fin 256) := funext fun a => Fin.ext (by
    match a with
    | ⟨0, _⟩ => show win0_2.index t 0 * 1 + 1 * (y 0).val = t.val / 4; have y0 : (y 0).val < 1 := (y 0).isLt; rw [h.1]; omega
    | ⟨1, _⟩ => show win0_2.index t 1 * 512 + 1 * (y 1).val = (y 1).val; rw [h.2.1]; omega
    | ⟨2, _⟩ => show win0_2.index t 2 * 256 + 1 * (y 2).val = (y 2).val; rw [h.2.2]; omega)
  have y0 : y = ix3 (0 : Fin 1) (y 1 : Fin 512) (y 2 : Fin 256) := funext fun a => Fin.ext (by
    match a with
    | ⟨0, _⟩ => have y0 : (y 0).val < 1 := (y 0).isLt; show (y 0).val = 0; omega
    | ⟨1, _⟩ => rfl
    | ⟨2, _⟩ => rfl)
  show (outsAt0 m c t.val t.isLt).1 y = gradCols rfl (left m c) (right m c) (((cfg0.win 2).blk t).view.emb y)
  rw [hy]
  exact (congrArg (outsAt0 m c t.val t.isLt).1 y0).trans (out_grad m c t h2 ⟨t.val / 4, by omega⟩ rfl (y 1) (y 2))

/-- so the result is the gradient. -/
theorem final_grad (c : Dev nD) : (dats m 0 c).arrAt 2 cfg0.N = gradCols rfl (left m c) (right m c) :=
  (dats m 0 c).arrAt_eq_of_cover 2 _ (flushed_grad m c) (fun i => (covered_iff2 i).2
    ⟨Nat.zero_le _, (i 0).isLt, Nat.zero_le _, (i 1).isLt, Nat.zero_le _, (i 2).isLt⟩)

/-- The call's run: its result is the gradient in four shards, and its arguments are unchanged. -/
theorem run : θ_run defs (onTc (τ := τ) (main (F := Ideal))) ⟨m, fun _ => 0, ρ⟩ fun r => ∀ c : Dev nD,
      r.2.mem ((c : Thread nD τ).loc main_v2) = gradCols rfl (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2⟩) (run_blocks m ρ)

end Cert.WgBrCIdeal.Grad

namespace Cert.WgBrCReferenceIdeal.Grad

open Idealize.ShloMosaic Idealize.ShloMosaic.TcCoe Idealize.ShloMosaic.ValueIdx Idealize.SL.Sem
open Cert.WgBrCReferenceIdeal Cert.WgBrCReferenceIdeal.Gen Cert.WgBrCReferenceIdeal.Read Cert.Prods
open Cert.MixBwd (Mat Stack)

/-- The transposed product of the cotangent with the activations, read at an index. -/
theorem product (x0 : Mat 8192 512) (x1 : Stack 3 8192 1024) (r : Fin 512) (q : Fin 1024) :
    (val_main_v3 (F := Ideal) x0 x1 : Mat 512 1024) (ix2 r q) = ∑ k : Fin 8192, x0 (ix2 k r) * (member x1 2) (ix2 k q) := by
  refine (val_main_v3_apply (F := Ideal) x0 x1 (ix2 r q)).trans ((val_main_v2_apply x0 x1 _).trans (Finset.sum_congr rfl fun k _ => ?_))
  rw [mul_comm]
  refine congrArg₂ (fun u v : EReal => u * v) (congrArg x0 (Shape.idx_ext₂ rfl rfl)) ?_
  have hl : lidx_main_v2 (idx_main_v3 (ix2 r q)) k = ix2 k q := Shape.idx_ext₂ rfl rfl
  rw [hl]
  refine (dropLead (val_main_v0 (F := Ideal) x1) _ k q).trans ((val_main_v0_apply (F := Ideal) x1 _).trans ?_)
  exact congrArg x1 (Cert.MixBwd.idx_ext₃ rfl rfl rfl)

/-- The reference's result is the gradient in four shards. -/
theorem result (x0 : Mat 8192 512) (x1 : Stack 3 8192 1024) : (val_main_v13 (F := Ideal) x0 x1 : Stack 4 512 256) = gradCols rfl x0 (member x1 2) := by
  funext i
  obtain ⟨j, p, k, rfl⟩ : ∃ (j : Fin 4) (p : Fin 512) (k : Fin 256), i = ix3 j p k := ⟨i 0, i 1, i 2, funext fun a => by match a with | ⟨0, _⟩ => rfl | ⟨1, _⟩ => rfl | ⟨2, _⟩ => rfl⟩
  exact (colShards (n := 512) (N := 1024) (w := 256) (val_main_v3 (F := Ideal) x0 x1 : Mat 512 1024) rfl rfl rfl rfl (by decide) (by decide)
    slices_S512x1024_S512x256_0_0 slices_S512x1024_S512x256_0_256 slices_S512x1024_S512x256_0_512 slices_S512x1024_S512x256_0_768
    bcast_S512x256_S1x512x256_1_2 concatenates_S1x512x256_S1x512x256_S1x512x256_S1x512x256_S4x512x256_d0 j p k).trans (product x0 x1 p _)

variable (m : (ℓ : Loc nD τ sig) → Buf (Elt Ideal) ℓ) (ρ : Dev nD → PrngReg)

/-- The reference's run: its result is the gradient in four shards, and its arguments are unchanged. -/
theorem run : θ_run defs (onTc (τ := τ) (main (F := Ideal))) ⟨m, fun _ => 0, ρ⟩ fun r => ∀ c : Dev nD,
      r.2.mem ((c : Thread nD τ).loc main_v13) = gradCols rfl (m ((c : Thread nD τ).loc main_arg0)) (member (m ((c : Thread nD τ).loc main_arg1) : Stack 3 8192 1024) 2)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v13_eq (m ((c : Thread nD τ).loc main_arg0)) (m ((c : Thread nD τ).loc main_arg1)))).trans
      (result (m ((c : Thread nD τ).loc main_arg0)) (m ((c : Thread nD τ).loc main_arg1))), (h c).2⟩)
    (Cert.WgBrCReferenceIdeal.Value.run m ρ)

end Cert.WgBrCReferenceIdeal.Grad

end
-- ==== Proof.WgBrCClaims.lean ====
/-
  The claims about the call `WgBrC`, from one run of each program: the frames, and the equality of the kernel's
  result with the reference's at the ideal instance.
-/
module

public import proofs.«01_k».proof.Defs
public import proofs.«01_k».proof.Proof.WgBrC
public import proofs.«01_k».proof.Proof.Gen.WgBrC
public import proofs.«01_k».proof.Proof.Gen.WgBrC.Frame
public import proofs.«01_k».proof.Proof.Gen.WgBrCIdeal.Frame
public import proofs.«01_k».proof.Proof.Gen.WgBrCReferenceIdeal.Run
public import Idealize.ShloMosaic.Adequacy
public import Idealize.ShloMosaic.Init

@[expose] public section

set_option maxRecDepth 16384

noncomputable section

namespace Cert.Proof.WgBrCClaims

open Idealize.ShloMosaic Idealize.ShloMosaic.TcCoe Idealize.SL.Sem

/-- The kernel runs and leaves its arguments unchanged. -/
theorem frame_kernel : Cert.quiescent_WgBrC (hWgBrC := Cert.WgBrC.Gen.facts) := fun m ρ _ => Cert.WgBrC.Gen.frame m ρ

/-- So does its ideal reading, -/
theorem frame_ideal : Cert.quiescent_WgBrCIdeal (hWgBrCIdeal := Cert.WgBrCIdeal.Gen.facts) := fun m ρ _ => Cert.WgBrCIdeal.Gen.frame m ρ

/-- and so does the reference. -/
theorem frame_reference : Cert.quiescent_WgBrCReferenceIdeal (hWgBrCReferenceIdeal := Cert.WgBrCReferenceIdeal.Gen.facts) := fun m ρ _ =>
  (θ_run Cert.WgBrCReferenceIdeal.defs _ _).mono (fun r h => ⟨fun c => (h c).2, sem_eq_zero_of_no_sems (by decide) r.2⟩)
    (Cert.WgBrCReferenceIdeal.Value.run m ρ)

/-- The kernel's result is the reference's. -/
theorem algebraic : Cert.algebraic_WgBrCIdeal_WgBrCReferenceIdeal (hWgBrCIdeal := Cert.WgBrCIdeal.Gen.facts) (hWgBrCReferenceIdeal := Cert.WgBrCReferenceIdeal.Gen.facts) := by
  intro m ρ m' ρ' _ hag
  refine ⟨_, Cert.WgBrCIdeal.Grad.run m ρ, (θ_run _ _ _).mono (fun _ h c => ?_) (Cert.WgBrCReferenceIdeal.Grad.run m' ρ')⟩
  have hc := h c
  obtain ⟨e0, e1⟩ := hag c
  rw [e0, e1] at hc
  obtain ⟨h0, h1, h2⟩ := hc
  exact ⟨h0, h1.trans e0.symm, h2.trans e1.symm⟩

end Cert.Proof.WgBrCClaims

end
-- ==== Proof.Forward.lean ====
/-
  What the forward calls compute, over the extended reals: a product, its columns in four blocks, the gated activation and
  the root mean square norm of rows.
-/
module

public import proofs.«01_k».proof.Proof.Prods

@[expose] public section

set_option maxRecDepth 16384

noncomputable section

namespace Cert.Prods

open Idealize.ShloMosaic Idealize.ShloMosaic.ValueIdx
open Cert.MixBwd (Mat Stack)

/-- The product of two matrices. -/
def prod {n p q : Nat} (a : Mat n p) (b : Mat p q) : Mat n q := fun i => ∑ k : Fin p, a (ix2 (i 0) k) * b (ix2 k (i 1))

/-- The columns of a matrix in four blocks. -/
def shards {n N w : Nat} (hN : N = 4 * w) (x : Mat n N) : Stack 4 n w := fun i =>
  x (ix2 (i 1) ⟨w * (i 0).val + (i 2).val, block_lt hN (i 0) (i 2)⟩)

/-- The gated activation `g · sigmoid(g) · u`. -/
def act {n q : Nat} (g u : Mat n q) : Mat n q := fun i => g i * Ideal.logistic (g i) * u i

/-- The factor a row of `d` entries is scaled by: one over the root of its mean square plus a small constant. -/
def scale {n d : Nat} (x : Mat n d) (r : Fin n) : EReal :=
  Ideal.rsqrt (Ideal.div (∑ k : Fin d, x (ix2 r k) * x (ix2 r k)) (Ideal.ofBits .f32 0x44800000#32) + Ideal.ofBits .f32 0x358637BD#32)

/-- The root mean square norm of rows of 1024, times a gain for each column. -/
def norm {n : Nat} (x : Mat n 1024) (gain : Mat 1 1024) : Mat n 1024 := fun i => x i * scale x (i 0) * gain (ix2 0 (i 1))

/-- A sum of two matrices. -/
def plus {n d : Nat} (x y : Mat n d) : Mat n d := fun i => x i + y i

/-- A product whose inner axis comes in four blocks, added to `z` one block after the other. -/
theorem plus_prod {n p w q : Nat} (hp : p = 4 * w) (z : Mat n q) (a : Mat n p) (b : Mat p q) (r : Fin n) (c : Fin q) (s : Fin 4 → EReal)
    (hs : ∀ j : Fin 4, s j = ∑ k : Fin w, a (ix2 r ⟨w * j.val + k.val, block_lt hp j k⟩) * b (ix2 ⟨w * j.val + k.val, block_lt hp j k⟩ c)) :
    z (ix2 r c) + s 0 + s 1 + s 2 + s 3 = plus z (prod a b) (ix2 r c) := by
  have h := (sum_cut hp fun k : Fin p => a (ix2 r k) * b (ix2 k c)).trans (Fin.sum_univ_four _)
  show _ = z (ix2 r c) + ∑ k : Fin p, a (ix2 r k) * b (ix2 k c)
  rw [h, hs, hs, hs, hs]
  simp only [add_assoc]

/-! ## Sums along an axis and spreading along an axis, at an index -/

theorem rowSum {n d : Nat} (v : FVec Ideal ⟨2, ![n, d]⟩ .f32) (acc : BitVec FTy.f32.bits) (h : (⟨2, ![n, d]⟩ : Shape).Reduces [1] ⟨1, ![n]⟩) (hφ : FKind.Formats FTy.f32)
    (ha : acc = FKind.add.neutral FTy.f32 hφ) (r : Fin n) :
    multiReduction .add [1] ⟨1, ![n]⟩ v acc h hφ ha (ix1 r) = ∑ k : Fin d, (v (ix2 r k) : EReal) :=
  (Ideal.multiReduction_add_single v acc h hφ ha (ix1 r)).trans (Finset.sum_congr rfl fun k _ =>
    congrArg v (funext fun a => Fin.ext (by match a with | ⟨0, _⟩ => rfl | ⟨1, _⟩ => rfl)))

theorem colSum {n d : Nat} (v : FVec Ideal ⟨2, ![n, d]⟩ .f32) (acc : BitVec FTy.f32.bits) (h : (⟨2, ![n, d]⟩ : Shape).Reduces [0] ⟨1, ![d]⟩) (hφ : FKind.Formats FTy.f32)
    (ha : acc = FKind.add.neutral FTy.f32 hφ) (c : Fin d) :
    multiReduction .add [0] ⟨1, ![d]⟩ v acc h hφ ha (ix1 c) = ∑ k : Fin n, (v (ix2 k c) : EReal) :=
  (Ideal.multiReduction_add_single v acc h hφ ha (ix1 c)).trans (Finset.sum_congr rfl fun k _ =>
    congrArg v (funext fun a => Fin.ext (by match a with | ⟨0, _⟩ => rfl | ⟨1, _⟩ => rfl)))

theorem toCol {n : Nat} {α : Type} (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) :=
  shapeCast_apply x h _ _ (by rw [Shape.rowMajor_val_one, Shape.rowMajor_val_two]; show r.val = r.val * 1 + 0; omega)

theorem toRow {d : Nat} {α : Type} (x : (⟨1, ![d]⟩ : Shape).Idx → α) (h : (⟨1, ![d]⟩ : Shape).ShapeCasts ⟨2, ![1, d]⟩) (c : Fin d) :
    shapeCast ⟨2, ![1, d]⟩ x h (ix2 0 c) = x (ix1 c) :=
  shapeCast_apply x h _ _ (by rw [Shape.rowMajor_val_one, Shape.rowMajor_val_two]; show c.val = 0 * d + c.val; omega)

theorem spreadCol {n d : Nat} {α : Type} (x : (⟨2, ![n, 1]⟩ : Shape).Idx → α) (h : (⟨2, ![n, 1]⟩ : Shape).Broadcasts ⟨2, ![n, d]⟩) (r : Fin n) (c : Fin d) :
    broadcastTo ⟨2, ![n, d]⟩ x h (ix2 r c) = x (ix2 r 0) :=
  broadcastTo_apply x h _ _ fun a => by
    match a with
    | ⟨0, _⟩ =>
      show r.val = if n = 1 then 0 else r.val
      split
      · have := r.isLt; omega
      · rfl
    | ⟨1, _⟩ => rfl

theorem spreadRow {n d : Nat} {α : Type} (x : (⟨2, ![1, d]⟩ : Shape).Idx → α) (h : (⟨2, ![1, d]⟩ : Shape).Broadcasts ⟨2, ![n, d]⟩) (r : Fin n) (c : Fin d) :
    broadcastTo ⟨2, ![n, d]⟩ x h (ix2 r c) = x (ix2 0 c) :=
  broadcastTo_apply x h _ _ fun a => by
    match a with
    | ⟨0, _⟩ => rfl
    | ⟨1, _⟩ =>
      show c.val = if d = 1 then 0 else c.val
      split
      · have := c.isLt; omega
      · rfl

end Cert.Prods

end
-- ==== Proof.MmZ.lean ====
/-
  The input projection, over the extended reals: each of the 64 points computes one block of 512 rows and 1664 columns of
  `h · w` from the block's rows of `h` and one of the four column shards of `w`.
-/
module

public import proofs.«01_k».proof.Proof.Forward
public import proofs.«01_k».proof.Proof.Gen.MmZIdeal.Value
public import proofs.«01_k».proof.Proof.Gen.MmZReferenceIdeal.Read
public import proofs.«01_k».proof.Proof.Gen.MmZReferenceIdeal.Run
public import Idealize.ShloMosaic.Lib.StableHlo.RunRead

@[expose] public section

set_option maxRecDepth 16384

noncomputable section

namespace Cert.MmZIdeal.Val

open Idealize.ShloMosaic Idealize.ShloMosaic.TcCoe Idealize.ShloMosaic.ValueIdx Idealize.SL.Sem
open Cert.MmZIdeal Cert.MmZIdeal.Gen Cert.MmZIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 1024 := m ((c : Thread nD τ).loc main_arg0)
abbrev arg1 (c : Dev nD) : Mat 1024 6656 := m ((c : Thread nD τ).loc main_arg1)

theorem host0 (c : Dev nD) (p : Fin 8192) (q : Fin 1024) : V m c main_v10 (ix2 p q) = arg0 m c (ix2 p q) := by
  have e : V m c main_v10 = truncf (F := Ideal) FTy.bf16 (m (c, Proc.tc.devRef main_arg0) : Vec Ideal S8192x1024 .f32) bitsLt_bf16_f32 := by
    unfold V; after_reads_simp
  rw [e]
  rfl

theorem host1 (c : Dev nD) (j : Fin 4) (p : Fin 1024) (q : Fin 1664) :
    V m c main_v9 (ix3 j p q) = arg1 m c (ix2 p ⟨1664 * j.val + q.val, block_lt rfl j q⟩) := by
  have e : V m c main_v9 = truncf (F := Ideal) FTy.bf16 (concatenate S4x1024x1664 0 [⟨S1x1024x1664, StableHlo.upto hostOps0 (fun b => m (c, b)) 8 (Proc.tc.devRef main_v4)⟩, ⟨S1x1024x1664, StableHlo.upto hostOps0 (fun b => m (c, b)) 8 (Proc.tc.devRef main_v5)⟩, ⟨S1x1024x1664, StableHlo.upto hostOps0 (fun b => m (c, b)) 8 (Proc.tc.devRef main_v6)⟩, ⟨S1x1024x1664, StableHlo.upto hostOps0 (fun b => m (c, b)) 8 (Proc.tc.devRef main_v7)⟩]
      concatenates_S1x1024x1664_S1x1024x1664_S1x1024x1664_S1x1024x1664_S4x1024x1664_d0 : Vec Ideal S4x1024x1664 .f32) bitsLt_bf16_f32 := by
    unfold V
    after_reads_simp
    rfl
  have u0 : StableHlo.upto hostOps0 (fun b => m (c, b)) 8 (Proc.tc.devRef main_v4) = broadcastInDim S1x1024x1664 ![1, 2] bcast_S1024x1664_S1x1024x1664_1_2 (extractStridedSlice S1024x1664 ![0, 0] (m (c, Proc.tc.devRef main_arg1) : Vec Ideal S1024x6656 .f32) slices_S1024x6656_S1024x1664_0_0) := by
    after_reads_simp
  have u1 : StableHlo.upto hostOps0 (fun b => m (c, b)) 8 (Proc.tc.devRef main_v5) = broadcastInDim S1x1024x1664 ![1, 2] bcast_S1024x1664_S1x1024x1664_1_2 (extractStridedSlice S1024x1664 ![0, 1664] (m (c, Proc.tc.devRef main_arg1) : Vec Ideal S1024x6656 .f32) slices_S1024x6656_S1024x1664_0_1664) := by
    after_reads_simp
  have u2 : StableHlo.upto hostOps0 (fun b => m (c, b)) 8 (Proc.tc.devRef main_v6) = broadcastInDim S1x1024x1664 ![1, 2] bcast_S1024x1664_S1x1024x1664_1_2 (extractStridedSlice S1024x1664 ![0, 3328] (m (c, Proc.tc.devRef main_arg1) : Vec Ideal S1024x6656 .f32) slices_S1024x6656_S1024x1664_0_3328) := by
    after_reads_simp
  have u3 : StableHlo.upto hostOps0 (fun b => m (c, b)) 8 (Proc.tc.devRef main_v7) = broadcastInDim S1x1024x1664 ![1, 2] bcast_S1024x1664_S1x1024x1664_1_2 (extractStridedSlice S1024x1664 ![0, 4992] (m (c, Proc.tc.devRef main_arg1) : Vec Ideal S1024x6656 .f32) slices_S1024x6656_S1024x1664_0_4992) := by
    after_reads_simp
  rw [e, u0, u1, u2, u3]
  exact colShards (n := 1024) (N := 6656) (w := 1664) (arg1 m c) rfl rfl rfl rfl (by decide) (by decide)
    slices_S1024x6656_S1024x1664_0_0 slices_S1024x6656_S1024x1664_0_1664 slices_S1024x6656_S1024x1664_0_3328 slices_S1024x6656_S1024x1664_0_4992 bcast_S1024x1664_S1x1024x1664_1_2
    concatenates_S1x1024x1664_S1x1024x1664_S1x1024x1664_S1x1024x1664_S4x1024x1664_d0 j p q

theorem index0 : ∀ t : Fin cfg0.N, win0_0.index t 0 = t.val % 16 ∧ win0_0.index t 1 = 0 :=
  (by decide +kernel : ∀ t : Fin grid0.N, win0_0.index t 0 = t.val % 16 ∧ win0_0.index t 1 = 0)
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem index2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)

theorem block0 (c : Dev nD) (t : Fin cfg0.N) (j : Fin 4) (i : Fin 16) (ht : t.val = 16 * j.val + i.val) (p : Fin 512) (k : Fin 1024) :
    (iblk m c 0 t : Vec Ideal S512x1024 .bf16) (ix2 p k) = arg0 m c (ix2 ⟨512 * i.val + p.val, block_lt rfl i p⟩ k) := by
  have h := index0 t
  unfold iblk
  rw [View.read_apply]
  refine (congrArg (V m c main_v10) (funext fun a => Fin.ext ?_)).trans (host0 m c ⟨512 * i.val + p.val, block_lt rfl i p⟩ k)
  match a with
  | ⟨0, _⟩ => show win0_0.index t 0 * 512 + 1 * p.val = 512 * i.val + p.val; rw [h.1]; omega
  | ⟨1, _⟩ => show win0_0.index t 1 * 1024 + 1 * k.val = k.val; rw [h.2]; omega

theorem block1 (c : Dev nD) (t : Fin cfg0.N) (j : Fin 4) (i : Fin 16) (ht : t.val = 16 * j.val + i.val) (k : Fin 1024) (q : Fin 1664) :
    (iblk m c 1 t : Vec Ideal S1x1024x1664 .bf16) (ix3 0 k q) = arg1 m c (ix2 k ⟨1664 * j.val + q.val, block_lt rfl j q⟩) := by
  have h := index1 t
  unfold iblk
  rw [View.read_apply]
  refine (congrArg (V m c main_v9) (funext fun a => Fin.ext ?_)).trans (host1 m c j k q)
  match a with
  | ⟨0, _⟩ => show win0_1.index t 0 * 1 + 1 * 0 = j.val; rw [h.1]; omega
  | ⟨1, _⟩ => show win0_1.index t 1 * 1024 + 1 * k.val = k.val; rw [h.2.1]; omega
  | ⟨2, _⟩ => show win0_1.index t 2 * 1664 + 1 * q.val = q.val; rw [h.2.2]; omega

/-- One block's product. -/
theorem pay_apply (x0 : Vec Ideal S512x1024 .bf16) (x1 : Vec Ideal S1x1024x1664 .bf16) (p : Fin 512) (q : Fin 1664) :
    k0_pay1 x0 x1 (ix2 p q) = ∑ k : Fin 1024, (x0 (ix2 p k) : EReal) * x1 (ix3 0 k q) := by
  unfold k0_pay1
  refine (dotNN dot_S512x1024_S1024x1664_S512x1664_1_0_0_1_n_n rfl rfl
    (fun _ _ => by simp [DotDims.lhsIdx, dot_S512x1024_S1024x1664_S512x1664_1_0_0_1_n_n]; rfl)
    (fun _ _ => by simp [DotDims.lhsIdx, dot_S512x1024_S1024x1664_S512x1664_1_0_0_1_n_n]; rfl)
    (fun _ _ => by simp [DotDims.rhsIdx, dot_S512x1024_S1024x1664_S512x1664_1_0_0_1_n_n]; rfl)
    (fun _ _ => by simp [DotDims.rhsIdx, dot_S512x1024_S1024x1664_S512x1664_1_0_0_1_n_n]; rfl) none _ _ p q).trans ?_
  exact Finset.sum_congr rfl fun k _ => congrArg₂ (fun u v : EReal => u * v) (congrFun (shapeCast_self _ _) _) (dropLead _ _ k q)

theorem out_eq (x0 : Vec Ideal S512x1024 .bf16) (x1 : Vec Ideal S1x1024x1664 .bf16) : out0_2 x0 x1 = k0_pay1 x0 x1 := by
  unfold out0_2
  rw [View.canon_unit_zero at00, View.ld_unit_zero (S := S512x1024) at00, View.ld_unit_zero (S := S1x1024x1664) at000]

/-- What a point computes is its block of the product. -/
theorem value2 (c : Dev nD) (t : Fin cfg0.N) (j : Fin 4) (i : Fin 16) (ht : t.val = 16 * j.val + i.val) (p : Fin 512) (q : Fin 1664) :
    out0_2 (iblk m c 0 t) (iblk m c 1 t) (ix2 p q)
      = prod (arg0 m c) (arg1 m c) (ix2 ⟨512 * i.val + p.val, block_lt rfl i p⟩ ⟨1664 * j.val + q.val, block_lt rfl j q⟩) := by
  rw [out_eq]
  refine (pay_apply _ _ p q).trans (Finset.sum_congr rfl fun k _ => ?_)
  exact congrArg₂ (fun u v : EReal => u * v) (block0 m c t j i ht p k) (block1 m c t j i ht k q)

theorem flushed_eq2 (c : Dev nD) (t : Fin cfg0.N) (hf : (cfg0.win 2).flush t = true) :
    (dats m 0 c).flushed 2 t = ((cfg0.win 2).blk t).view.read (Elt Ideal) (prod (arg0 m c) (arg1 m c)) := by
  have hT := t.isLt
  have hN : cfg0.N = 64 := N_0
  have h := index2 t
  rw [flushed2]
  funext y
  rw [View.read_apply]
  obtain ⟨j, i, ht⟩ : ∃ (j : Fin 4) (i : Fin 16), t.val = 16 * j.val + i.val := ⟨⟨t.val / 16, by omega⟩, ⟨t.val % 16, by omega⟩, by show t.val = _; show t.val = 16 * (t.val / 16) + t.val % 16; omega⟩
  have hy : (((cfg0.win 2).blk t).view.emb y) = ix2 (⟨512 * i.val + (y 0 : Fin 512).val, block_lt rfl i (y 0 : Fin 512)⟩ : Fin 8192) (⟨1664 * j.val + (y 1 : Fin 1664).val, block_lt rfl j (y 1 : Fin 1664)⟩ : Fin 6656) := funext fun a => Fin.ext (by
    match a with
    | ⟨0, _⟩ => show win0_2.index t 0 * 512 + 1 * (y 0).val = 512 * i.val + (y 0).val; rw [h.1]; omega
    | ⟨1, _⟩ => show win0_2.index t 1 * 1664 + 1 * (y 1).val = 1664 * j.val + (y 1).val; rw [h.2]; omega)
  have y0 : y = ix2 (y 0 : Fin 512) (y 1 : Fin 1664) := funext fun a => Fin.ext (by
    match a with
    | ⟨0, _⟩ => rfl
    | ⟨1, _⟩ => rfl)
  show (out0_2 (iblk m c 0 t) (iblk m c 1 t)) y = (prod (arg0 m c) (arg1 m c)) (((cfg0.win 2).blk t).view.emb y)
  rw [hy]
  exact (congrArg (out0_2 (iblk m c 0 t) (iblk m c 1 t)) y0).trans (value2 m c t j i ht (y 0) (y 1))

theorem final2 (c : Dev nD) : (dats m 0 c).arrAt 2 cfg0.N = (prod (arg0 m c) (arg1 m c) : Buf (Elt Ideal) ((c : Thread nD τ).loc main_v11)) :=
  (dats m 0 c).arrAt_eq_of_cover 2 _ (flushed_eq2 m c) fun i => by
    have hN : cfg0.N = 64 := N_0
    have b0 : (i 0 : Nat) < 8192 := (i 0).isLt
    have b1 : (i 1 : Nat) < 6656 := (i 1).isLt
    let t : Fin cfg0.N := ⟨16 * ((i 1).val / 1664) + (i 0).val / 512, by rw [hN]; omega⟩
    have htv : t.val = 16 * ((i 1).val / 1664) + (i 0).val / 512 := rfl
    refine ⟨t, flush0_2 t, ?_⟩
    have h := index2 t
    show i ∈ ((View.whole main_v11).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [h.1]; omega
    | ⟨1, _⟩ => show win0_2.index t 1 * 1664 ≤ (i 1 : Nat) ∧ (i 1 : Nat) < win0_2.index t 1 * 1664 + 1664; rw [h.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v11) = prod (arg0 m c) (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

end Cert.MmZIdeal.Val

namespace Cert.MmZReferenceIdeal.Val

open Idealize.ShloMosaic Idealize.ShloMosaic.TcCoe Idealize.ShloMosaic.ValueIdx Idealize.SL.Sem
open Cert.MmZReferenceIdeal Cert.MmZReferenceIdeal.Gen Cert.MmZReferenceIdeal.Read Cert.Prods
open Cert.MixBwd (Mat Stack)

/-- The reference's product. -/
theorem result (x0 : Mat 8192 1024) (x1 : Mat 1024 6656) : (val_main_v0 (F := Ideal) x0 x1 : Mat 8192 6656) = prod x0 x1 := by
  funext i
  refine (val_main_v0_apply x0 x1 i).trans (Finset.sum_congr rfl fun k _ => ?_)
  exact congrArg₂ (fun u v : EReal => u * v) (congrArg x0 (Shape.idx_ext₂ rfl rfl)) (congrArg x1 (Shape.idx_ext₂ rfl rfl))

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v0_eq (m ((c : Thread nD τ).loc main_arg0)) (m ((c : Thread nD τ).loc main_arg1)))).trans (result (m ((c : Thread nD τ).loc main_arg0)) (m ((c : Thread nD τ).loc main_arg1))),
      (h c).2⟩)
    (Cert.MmZReferenceIdeal.Value.run m ρ)

end Cert.MmZReferenceIdeal.Val

end
-- ==== Proof.MmZClaims.lean ====
/-
  The claims about the call `MmZ`, from one run of each program: the frames, and the equality of the kernel's
  result with the reference's at the ideal instance.
-/
module

public import proofs.«01_k».proof.Defs
public import proofs.«01_k».proof.Proof.MmZ
public import proofs.«01_k».proof.Proof.Gen.MmZ
public import proofs.«01_k».proof.Proof.Gen.MmZ.Frame
public import proofs.«01_k».proof.Proof.Gen.MmZIdeal.Frame
public import proofs.«01_k».proof.Proof.Gen.MmZReferenceIdeal.Run
public import Idealize.ShloMosaic.Adequacy
public import Idealize.ShloMosaic.Init

@[expose] public section

set_option maxRecDepth 16384

noncomputable section

namespace Cert.Proof.MmZClaims

open Idealize.ShloMosaic Idealize.ShloMosaic.TcCoe Idealize.SL.Sem

/-- The kernel runs and leaves its arguments unchanged. -/
theorem frame_kernel : Cert.quiescent_MmZ (hMmZ := Cert.MmZ.Gen.facts) := fun m ρ _ => Cert.MmZ.Gen.frame m ρ

/-- So does its ideal reading, -/
theorem frame_ideal : Cert.quiescent_MmZIdeal (hMmZIdeal := Cert.MmZIdeal.Gen.facts) := fun m ρ _ => Cert.MmZIdeal.Gen.frame m ρ

/-- and so does the reference. -/
theorem frame_reference : Cert.quiescent_MmZReferenceIdeal (hMmZReferenceIdeal := Cert.MmZReferenceIdeal.Gen.facts) := fun m ρ _ =>
  (θ_run Cert.MmZReferenceIdeal.defs _ _).mono (fun r h => ⟨fun c => (h c).2, sem_eq_zero_of_no_sems (by decide) r.2⟩)
    (Cert.MmZReferenceIdeal.Value.run m ρ)

/-- The kernel's result is the reference's. -/
theorem algebraic : Cert.algebraic_MmZIdeal_MmZReferenceIdeal (hMmZIdeal := Cert.MmZIdeal.Gen.facts) (hMmZReferenceIdeal := Cert.MmZReferenceIdeal.Gen.facts) := by
  intro m ρ m' ρ' _ hag
  refine ⟨_, Cert.MmZIdeal.Val.run m ρ, (θ_run _ _ _).mono (fun _ h c => ?_) (Cert.MmZReferenceIdeal.Val.run m' ρ')⟩
  have hc := h c
  obtain ⟨e0, e1⟩ := hag c
  rw [e0, e1] at hc
  obtain ⟨h0, h1, h2⟩ := hc
  exact ⟨h0, h1.trans e0.symm, h2.trans e1.symm⟩

end Cert.Proof.MmZClaims

end
-- ==== Proof.FfnUp.lean ====
/-
  The feed-forward up and gate products, over the extended reals: each of the 64 points computes, for a block of 512 rows and
  one of the four column shards of the weights, `g = h · w_gate`, `u = h · w_up` and `g · sigmoid(g) · u`.
-/
module

public import proofs.«01_k».proof.Proof.Forward
public import proofs.«01_k».proof.Proof.Gen.FfnUpIdeal.Value
public import proofs.«01_k».proof.Proof.Gen.FfnUpReferenceIdeal.Read
public import proofs.«01_k».proof.Proof.Gen.FfnUpReferenceIdeal.Run
public import Idealize.ShloMosaic.Lib.StableHlo.RunRead

@[expose] public section

set_option maxRecDepth 16384

noncomputable section

namespace Cert.FfnUpIdeal.Val

open Idealize.ShloMosaic Idealize.ShloMosaic.TcCoe Idealize.ShloMosaic.ValueIdx Idealize.SL.Sem
open Cert.FfnUpIdeal Cert.FfnUpIdeal.Gen Cert.FfnUpIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 1024 := m ((c : Thread nD τ).loc main_arg0)
abbrev arg1 (c : Dev nD) : Mat 1024 2816 := m ((c : Thread nD τ).loc main_arg1)
abbrev arg2 (c : Dev nD) : Mat 1024 2816 := m ((c : Thread nD τ).loc main_arg2)

theorem host0 (c : Dev nD) (p : Fin 8192) (q : Fin 1024) : V m c main_v0 (ix2 p q) = arg0 m c (ix2 p q) := by
  have e : V m c main_v0 = truncf (F := Ideal) FTy.bf16 (m (c, Proc.tc.devRef main_arg0) : Vec Ideal S8192x1024 .f32) bitsLt_bf16_f32 := by
    unfold V; after_reads_simp
  rw [e]
  rfl

theorem host1 (c : Dev nD) (j : Fin 4) (p : Fin 1024) (q : Fin 704) :
    V m c main_v10 (ix3 j p q) = arg1 m c (ix2 p ⟨704 * j.val + q.val, block_lt rfl j q⟩) := by
  have e : V m c main_v10 = truncf (F := Ideal) FTy.bf16 (concatenate S4x1024x704 0 [⟨S1x1024x704, StableHlo.upto hostOps0 (fun b => m (c, b)) 9 (Proc.tc.devRef main_v5)⟩, ⟨S1x1024x704, StableHlo.upto hostOps0 (fun b => m (c, b)) 9 (Proc.tc.devRef main_v6)⟩, ⟨S1x1024x704, StableHlo.upto hostOps0 (fun b => m (c, b)) 9 (Proc.tc.devRef main_v7)⟩, ⟨S1x1024x704, StableHlo.upto hostOps0 (fun b => m (c, b)) 9 (Proc.tc.devRef main_v8)⟩]
      concatenates_S1x1024x704_S1x1024x704_S1x1024x704_S1x1024x704_S4x1024x704_d0 : Vec Ideal S4x1024x704 .f32) bitsLt_bf16_f32 := by
    unfold V
    after_reads_simp
    rfl
  have u0 : StableHlo.upto hostOps0 (fun b => m (c, b)) 9 (Proc.tc.devRef main_v5) = broadcastInDim S1x1024x704 ![1, 2] bcast_S1024x704_S1x1024x704_1_2 (extractStridedSlice S1024x704 ![0, 0] (m (c, Proc.tc.devRef main_arg1) : Vec Ideal S1024x2816 .f32) slices_S1024x2816_S1024x704_0_0) := by
    after_reads_simp
  have u1 : StableHlo.upto hostOps0 (fun b => m (c, b)) 9 (Proc.tc.devRef main_v6) = broadcastInDim S1x1024x704 ![1, 2] bcast_S1024x704_S1x1024x704_1_2 (extractStridedSlice S1024x704 ![0, 704] (m (c, Proc.tc.devRef main_arg1) : Vec Ideal S1024x2816 .f32) slices_S1024x2816_S1024x704_0_704) := by
    after_reads_simp
  have u2 : StableHlo.upto hostOps0 (fun b => m (c, b)) 9 (Proc.tc.devRef main_v7) = broadcastInDim S1x1024x704 ![1, 2] bcast_S1024x704_S1x1024x704_1_2 (extractStridedSlice S1024x704 ![0, 1408] (m (c, Proc.tc.devRef main_arg1) : Vec Ideal S1024x2816 .f32) slices_S1024x2816_S1024x704_0_1408) := by
    after_reads_simp
  have u3 : StableHlo.upto hostOps0 (fun b => m (c, b)) 9 (Proc.tc.devRef main_v8) = broadcastInDim S1x1024x704 ![1, 2] bcast_S1024x704_S1x1024x704_1_2 (extractStridedSlice S1024x704 ![0, 2112] (m (c, Proc.tc.devRef main_arg1) : Vec Ideal S1024x2816 .f32) slices_S1024x2816_S1024x704_0_2112) := by
    after_reads_simp
  rw [e, u0, u1, u2, u3]
  exact colShards (n := 1024) (N := 2816) (w := 704) (arg1 m c) rfl rfl rfl rfl (by decide) (by decide)
    slices_S1024x2816_S1024x704_0_0 slices_S1024x2816_S1024x704_0_704 slices_S1024x2816_S1024x704_0_1408 slices_S1024x2816_S1024x704_0_2112 bcast_S1024x704_S1x1024x704_1_2
    concatenates_S1x1024x704_S1x1024x704_S1x1024x704_S1x1024x704_S4x1024x704_d0 j p q

theorem host2 (c : Dev nD) (j : Fin 4) (p : Fin 1024) (q : Fin 704) :
    V m c main_v20 (ix3 j p q) = arg2 m c (ix2 p ⟨704 * j.val + q.val, block_lt rfl j q⟩) := by
  have e : V m c main_v20 = truncf (F := Ideal) FTy.bf16 (concatenate S4x1024x704 0 [⟨S1x1024x704, StableHlo.upto hostOps0 (fun b => m (c, b)) 19 (Proc.tc.devRef main_v15)⟩, ⟨S1x1024x704, StableHlo.upto hostOps0 (fun b => m (c, b)) 19 (Proc.tc.devRef main_v16)⟩, ⟨S1x1024x704, StableHlo.upto hostOps0 (fun b => m (c, b)) 19 (Proc.tc.devRef main_v17)⟩, ⟨S1x1024x704, StableHlo.upto hostOps0 (fun b => m (c, b)) 19 (Proc.tc.devRef main_v18)⟩]
      concatenates_S1x1024x704_S1x1024x704_S1x1024x704_S1x1024x704_S4x1024x704_d0 : Vec Ideal S4x1024x704 .f32) bitsLt_bf16_f32 := by
    unfold V
    after_reads_simp
    rfl
  have u0 : StableHlo.upto hostOps0 (fun b => m (c, b)) 19 (Proc.tc.devRef main_v15) = broadcastInDim S1x1024x704 ![1, 2] bcast_S1024x704_S1x1024x704_1_2 (extractStridedSlice S1024x704 ![0, 0] (m (c, Proc.tc.devRef main_arg2) : Vec Ideal S1024x2816 .f32) slices_S1024x2816_S1024x704_0_0) := by
    after_reads_simp
  have u1 : StableHlo.upto hostOps0 (fun b => m (c, b)) 19 (Proc.tc.devRef main_v16) = broadcastInDim S1x1024x704 ![1, 2] bcast_S1024x704_S1x1024x704_1_2 (extractStridedSlice S1024x704 ![0, 704] (m (c, Proc.tc.devRef main_arg2) : Vec Ideal S1024x2816 .f32) slices_S1024x2816_S1024x704_0_704) := by
    after_reads_simp
  have u2 : StableHlo.upto hostOps0 (fun b => m (c, b)) 19 (Proc.tc.devRef main_v17) = broadcastInDim S1x1024x704 ![1, 2] bcast_S1024x704_S1x1024x704_1_2 (extractStridedSlice S1024x704 ![0, 1408] (m (c, Proc.tc.devRef main_arg2) : Vec Ideal S1024x2816 .f32) slices_S1024x2816_S1024x704_0_1408) := by
    after_reads_simp
  have u3 : StableHlo.upto hostOps0 (fun b => m (c, b)) 19 (Proc.tc.devRef main_v18) = broadcastInDim S1x1024x704 ![1, 2] bcast_S1024x704_S1x1024x704_1_2 (extractStridedSlice S1024x704 ![0, 2112] (m (c, Proc.tc.devRef main_arg2) : Vec Ideal S1024x2816 .f32) slices_S1024x2816_S1024x704_0_2112) := by
    after_reads_simp
  rw [e, u0, u1, u2, u3]
  exact colShards (n := 1024) (N := 2816) (w := 704) (arg2 m c) rfl rfl rfl rfl (by decide) (by decide)
    slices_S1024x2816_S1024x704_0_0 slices_S1024x2816_S1024x704_0_704 slices_S1024x2816_S1024x704_0_1408 slices_S1024x2816_S1024x704_0_2112 bcast_S1024x704_S1x1024x704_1_2
    concatenates_S1x1024x704_S1x1024x704_S1x1024x704_S1x1024x704_S4x1024x704_d0 j p q

theorem index0 : ∀ t : Fin cfg0.N, win0_0.index t 0 = t.val % 16 ∧ win0_0.index t 1 = 0 :=
  (by decide +kernel : ∀ t : Fin grid0.N, win0_0.index t 0 = t.val % 16 ∧ win0_0.index t 1 = 0)
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem index3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem index4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
theorem index5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)

theorem block0 (c : Dev nD) (t : Fin cfg0.N) (j : Fin 4) (i : Fin 16) (ht : t.val = 16 * j.val + i.val) (p : Fin 512) (k : Fin 1024) :
    (iblk m c 0 t : Vec Ideal S512x1024 .bf16) (ix2 p k) = arg0 m c (ix2 ⟨512 * i.val + p.val, block_lt rfl i p⟩ k) := by
  have h := index0 t
  unfold iblk
  rw [View.read_apply]
  refine (congrArg (V m c main_v0) (funext fun a => Fin.ext ?_)).trans (host0 m c ⟨512 * i.val + p.val, block_lt rfl i p⟩ k)
  match a with
  | ⟨0, _⟩ => show win0_0.index t 0 * 512 + 1 * p.val = 512 * i.val + p.val; rw [h.1]; omega
  | ⟨1, _⟩ => show win0_0.index t 1 * 1024 + 1 * k.val = k.val; rw [h.2]; omega

theorem block1 (c : Dev nD) (t : Fin cfg0.N) (j : Fin 4) (i : Fin 16) (ht : t.val = 16 * j.val + i.val) (k : Fin 1024) (q : Fin 704) :
    (iblk m c 1 t : Vec Ideal S1x1024x704 .bf16) (ix3 0 k q) = arg1 m c (ix2 k ⟨704 * j.val + q.val, block_lt rfl j q⟩) := by
  have h := index1 t
  unfold iblk
  rw [View.read_apply]
  refine (congrArg (V m c main_v10) (funext fun a => Fin.ext ?_)).trans (host1 m c j k q)
  match a with
  | ⟨0, _⟩ => show win0_1.index t 0 * 1 + 1 * 0 = j.val; rw [h.1]; omega
  | ⟨1, _⟩ => show win0_1.index t 1 * 1024 + 1 * k.val = k.val; rw [h.2.1]; omega
  | ⟨2, _⟩ => show win0_1.index t 2 * 704 + 1 * q.val = q.val; rw [h.2.2]; omega

theorem block2 (c : Dev nD) (t : Fin cfg0.N) (j : Fin 4) (i : Fin 16) (ht : t.val = 16 * j.val + i.val) (k : Fin 1024) (q : Fin 704) :
    (iblk m c 2 t : Vec Ideal S1x1024x704 .bf16) (ix3 0 k q) = arg2 m c (ix2 k ⟨704 * j.val + q.val, block_lt rfl j q⟩) := by
  have h := index2 t
  unfold iblk
  rw [View.read_apply]
  refine (congrArg (V m c main_v20) (funext fun a => Fin.ext ?_)).trans (host2 m c j k q)
  match a with
  | ⟨0, _⟩ => show win0_2.index t 0 * 1 + 1 * 0 = j.val; rw [h.1]; omega
  | ⟨1, _⟩ => show win0_2.index t 1 * 1024 + 1 * k.val = k.val; rw [h.2.1]; omega
  | ⟨2, _⟩ => show win0_2.index t 2 * 704 + 1 * q.val = q.val; rw [h.2.2]; omega

/-- One block's product with the gate weight. -/
theorem pay2_apply (x0 : Vec Ideal S512x1024 .bf16) (x1 : Vec Ideal S1x1024x704 .bf16) (p : Fin 512) (q : Fin 704) :
    k0_pay2 x0 x1 (ix2 p q) = ∑ k : Fin 1024, (x0 (ix2 p k) : EReal) * x1 (ix3 0 k q) := by
  unfold k0_pay2
  refine (dotNN dot_S512x1024_S1024x704_S512x704_1_0_0_1_n_n rfl rfl
    (fun _ _ => by simp [DotDims.lhsIdx, dot_S512x1024_S1024x704_S512x704_1_0_0_1_n_n]; rfl)
    (fun _ _ => by simp [DotDims.lhsIdx, dot_S512x1024_S1024x704_S512x704_1_0_0_1_n_n]; rfl)
    (fun _ _ => by simp [DotDims.rhsIdx, dot_S512x1024_S1024x704_S512x704_1_0_0_1_n_n]; rfl)
    (fun _ _ => by simp [DotDims.rhsIdx, dot_S512x1024_S1024x704_S512x704_1_0_0_1_n_n]; rfl) none _ _ p q).trans ?_
  exact Finset.sum_congr rfl fun k _ => congrArg₂ (fun u v : EReal => u * v) (congrFun (shapeCast_self _ _) _) (dropLead _ _ k q)

/-- At a point: the block of the product with the gate weight. -/
theorem product1 (c : Dev nD) (t : Fin cfg0.N) (j : Fin 4) (i : Fin 16) (ht : t.val = 16 * j.val + i.val) (p : Fin 512) (q : Fin 704) :
    k0_pay2 (iblk m c 0 t) (iblk m c 1 t) (ix2 p q)
      = prod (arg0 m c) (arg1 m c) (ix2 ⟨512 * i.val + p.val, block_lt rfl i p⟩ ⟨704 * j.val + q.val, block_lt rfl j q⟩) :=
  (pay2_apply _ _ p q).trans (Finset.sum_congr rfl fun k _ =>
    congrArg₂ (fun u v : EReal => u * v) (block0 m c t j i ht p k) (block1 m c t j i ht k q))

/-- One block's product with the up weight. -/
theorem pay3_apply (x0 : Vec Ideal S512x1024 .bf16) (x1 : Vec Ideal S1x1024x704 .bf16) (p : Fin 512) (q : Fin 704) :
    k0_pay3 x0 x1 (ix2 p q) = ∑ k : Fin 1024, (x0 (ix2 p k) : EReal) * x1 (ix3 0 k q) := by
  unfold k0_pay3
  refine (dotNN dot_S512x1024_S1024x704_S512x704_1_0_0_1_n_n rfl rfl
    (fun _ _ => by simp [DotDims.lhsIdx, dot_S512x1024_S1024x704_S512x704_1_0_0_1_n_n]; rfl)
    (fun _ _ => by simp [DotDims.lhsIdx, dot_S512x1024_S1024x704_S512x704_1_0_0_1_n_n]; rfl)
    (fun _ _ => by simp [DotDims.rhsIdx, dot_S512x1024_S1024x704_S512x704_1_0_0_1_n_n]; rfl)
    (fun _ _ => by simp [DotDims.rhsIdx, dot_S512x1024_S1024x704_S512x704_1_0_0_1_n_n]; rfl) none _ _ p q).trans ?_
  exact Finset.sum_congr rfl fun k _ => congrArg₂ (fun u v : EReal => u * v) (congrFun (shapeCast_self _ _) _) (dropLead _ _ k q)

/-- At a point: the block of the product with the up weight. -/
theorem product2 (c : Dev nD) (t : Fin cfg0.N) (j : Fin 4) (i : Fin 16) (ht : t.val = 16 * j.val + i.val) (p : Fin 512) (q : Fin 704) :
    k0_pay3 (iblk m c 0 t) (iblk m c 2 t) (ix2 p q)
      = prod (arg0 m c) (arg2 m c) (ix2 ⟨512 * i.val + p.val, block_lt rfl i p⟩ ⟨704 * j.val + q.val, block_lt rfl j q⟩) :=
  (pay3_apply _ _ p q).trans (Finset.sum_congr rfl fun k _ =>
    congrArg₂ (fun u v : EReal => u * v) (block0 m c t j i ht p k) (block2 m c t j i ht k q))

theorem out_eq3 (x0 : Vec Ideal S512x1024 .bf16) (x1 x2 : Vec Ideal S1x1024x704 .bf16) : out0_3 x0 x1 x2 = k0_pay4 x0 x1 := by
  unfold out0_3
  rw [View.canon_unit_zero at000, View.ld_unit_zero (S := S512x1024) at00]
  simp only [View.ld_unit_zero (S := S1x1024x704) at000]

theorem value3 (c : Dev nD) (t : Fin cfg0.N) (j : Fin 4) (i : Fin 16) (ht : t.val = 16 * j.val + i.val) (p : Fin 512) (q : Fin 704) :
    out0_3 (iblk m c 0 t) (iblk m c 1 t) (iblk m c 2 t) (ix3 0 p q)
      = (shards rfl (prod (arg0 m c) (arg1 m c)) : Stack 4 8192 704) (ix3 j ⟨512 * i.val + p.val, block_lt rfl i p⟩ q) := by
  rw [out_eq3]
  unfold k0_pay4
  refine (addLead _ _ p q).trans ?_
  exact product1 m c t j i ht p q

theorem flushed_eq3 (c : Dev nD) (t : Fin cfg0.N) (hf : (cfg0.win 3).flush t = true) :
    (dats m 0 c).flushed 3 t = ((cfg0.win 3).blk t).view.read (Elt Ideal) ((shards rfl (prod (arg0 m c) (arg1 m c)) : Stack 4 8192 704)) := by
  have hT := t.isLt
  have hN : cfg0.N = 64 := N_0
  have h := index3 t
  rw [flushed3]
  funext y
  rw [View.read_apply]
  obtain ⟨j, i, ht⟩ : ∃ (j : Fin 4) (i : Fin 16), t.val = 16 * j.val + i.val := ⟨⟨t.val / 16, by omega⟩, ⟨t.val % 16, by omega⟩, by show t.val = _; show t.val = 16 * (t.val / 16) + t.val % 16; omega⟩
  have hy : (((cfg0.win 3).blk t).view.emb y) = ix3 (j : Fin 4) (⟨512 * i.val + (y 1 : Fin 512).val, block_lt rfl i (y 1 : Fin 512)⟩ : Fin 8192) (y 2 : Fin 704) := funext fun a => Fin.ext (by
    match a with
    | ⟨0, _⟩ => have y0 : (y 0).val < 1 := (y 0).isLt; show win0_3.index t 0 * 1 + 1 * (y 0).val = j.val; rw [h.1]; omega
    | ⟨1, _⟩ => show win0_3.index t 1 * 512 + 1 * (y 1).val = 512 * i.val + (y 1).val; rw [h.2.1]; omega
    | ⟨2, _⟩ => show win0_3.index t 2 * 704 + 1 * (y 2).val = (y 2).val; rw [h.2.2]; omega)
  have y0 : y = ix3 (0 : Fin 1) (y 1 : Fin 512) (y 2 : Fin 704) := funext fun a => Fin.ext (by
    match a with
    | ⟨0, _⟩ => have y0 : (y 0).val < 1 := (y 0).isLt; show (y 0).val = 0; omega
    | ⟨1, _⟩ => rfl
    | ⟨2, _⟩ => rfl)
  show (out0_3 (iblk m c 0 t) (iblk m c 1 t) (iblk m c 2 t)) y = ((shards rfl (prod (arg0 m c) (arg1 m c)) : Stack 4 8192 704)) (((cfg0.win 3).blk t).view.emb y)
  rw [hy]
  exact (congrArg (out0_3 (iblk m c 0 t) (iblk m c 1 t) (iblk m c 2 t)) y0).trans (value3 m c t j i ht (y 1) (y 2))

theorem final3 (c : Dev nD) : (dats m 0 c).arrAt 3 cfg0.N = ((shards rfl (prod (arg0 m c) (arg1 m c)) : Stack 4 8192 704) : Buf (Elt Ideal) ((c : Thread nD τ).loc main_v21_0)) :=
  (dats m 0 c).arrAt_eq_of_cover 3 _ (flushed_eq3 m c) fun i => by
    have hN : cfg0.N = 64 := N_0
    have b0 : (i 0 : Nat) < 4 := (i 0).isLt
    have b1 : (i 1 : Nat) < 8192 := (i 1).isLt
    have b2 : (i 2 : Nat) < 704 := (i 2).isLt
    let t : Fin cfg0.N := ⟨16 * (i 0).val + (i 1).val / 512, by rw [hN]; omega⟩
    have htv : t.val = 16 * (i 0).val + (i 1).val / 512 := rfl
    refine ⟨t, flush0_3 t, ?_⟩
    have h := index3 t
    show i ∈ ((View.whole main_v21_0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [h.1]; omega
    | ⟨1, _⟩ => show win0_3.index t 1 * 512 ≤ (i 1 : Nat) ∧ (i 1 : Nat) < win0_3.index t 1 * 512 + 512; rw [h.2.1]; omega
    | ⟨2, _⟩ => show win0_3.index t 2 * 704 ≤ (i 2 : Nat) ∧ (i 2 : Nat) < win0_3.index t 2 * 704 + 704; rw [h.2.2]; omega

theorem out_eq4 (x0 : Vec Ideal S512x1024 .bf16) (x1 x2 : Vec Ideal S1x1024x704 .bf16) : out0_4 x0 x1 x2 = k0_pay5 x0 x2 := by
  unfold out0_4
  rw [View.canon_unit_zero at000, View.ld_unit_zero (S := S512x1024) at00]
  simp only [View.ld_unit_zero (S := S1x1024x704) at000]

theorem value4 (c : Dev nD) (t : Fin cfg0.N) (j : Fin 4) (i : Fin 16) (ht : t.val = 16 * j.val + i.val) (p : Fin 512) (q : Fin 704) :
    out0_4 (iblk m c 0 t) (iblk m c 1 t) (iblk m c 2 t) (ix3 0 p q)
      = (shards rfl (prod (arg0 m c) (arg2 m c)) : Stack 4 8192 704) (ix3 j ⟨512 * i.val + p.val, block_lt rfl i p⟩ q) := by
  rw [out_eq4]
  unfold k0_pay5
  refine (addLead _ _ p q).trans ?_
  exact product2 m c t j i ht p q

theorem flushed_eq4 (c : Dev nD) (t : Fin cfg0.N) (hf : (cfg0.win 4).flush t = true) :
    (dats m 0 c).flushed 4 t = ((cfg0.win 4).blk t).view.read (Elt Ideal) ((shards rfl (prod (arg0 m c) (arg2 m c)) : Stack 4 8192 704)) := by
  have hT := t.isLt
  have hN : cfg0.N = 64 := N_0
  have h := index4 t
  rw [flushed4]
  funext y
  rw [View.read_apply]
  obtain ⟨j, i, ht⟩ : ∃ (j : Fin 4) (i : Fin 16), t.val = 16 * j.val + i.val := ⟨⟨t.val / 16, by omega⟩, ⟨t.val % 16, by omega⟩, by show t.val = _; show t.val = 16 * (t.val / 16) + t.val % 16; omega⟩
  have hy : (((cfg0.win 4).blk t).view.emb y) = ix3 (j : Fin 4) (⟨512 * i.val + (y 1 : Fin 512).val, block_lt rfl i (y 1 : Fin 512)⟩ : Fin 8192) (y 2 : Fin 704) := funext fun a => Fin.ext (by
    match a with
    | ⟨0, _⟩ => have y0 : (y 0).val < 1 := (y 0).isLt; show win0_4.index t 0 * 1 + 1 * (y 0).val = j.val; rw [h.1]; omega
    | ⟨1, _⟩ => show win0_4.index t 1 * 512 + 1 * (y 1).val = 512 * i.val + (y 1).val; rw [h.2.1]; omega
    | ⟨2, _⟩ => show win0_4.index t 2 * 704 + 1 * (y 2).val = (y 2).val; rw [h.2.2]; omega)
  have y0 : y = ix3 (0 : Fin 1) (y 1 : Fin 512) (y 2 : Fin 704) := funext fun a => Fin.ext (by
    match a with
    | ⟨0, _⟩ => have y0 : (y 0).val < 1 := (y 0).isLt; show (y 0).val = 0; omega
    | ⟨1, _⟩ => rfl
    | ⟨2, _⟩ => rfl)
  show (out0_4 (iblk m c 0 t) (iblk m c 1 t) (iblk m c 2 t)) y = ((shards rfl (prod (arg0 m c) (arg2 m c)) : Stack 4 8192 704)) (((cfg0.win 4).blk t).view.emb y)
  rw [hy]
  exact (congrArg (out0_4 (iblk m c 0 t) (iblk m c 1 t) (iblk m c 2 t)) y0).trans (value4 m c t j i ht (y 1) (y 2))

theorem final4 (c : Dev nD) : (dats m 0 c).arrAt 4 cfg0.N = ((shards rfl (prod (arg0 m c) (arg2 m c)) : Stack 4 8192 704) : Buf (Elt Ideal) ((c : Thread nD τ).loc main_v21_1)) :=
  (dats m 0 c).arrAt_eq_of_cover 4 _ (flushed_eq4 m c) fun i => by
    have hN : cfg0.N = 64 := N_0
    have b0 : (i 0 : Nat) < 4 := (i 0).isLt
    have b1 : (i 1 : Nat) < 8192 := (i 1).isLt
    have b2 : (i 2 : Nat) < 704 := (i 2).isLt
    let t : Fin cfg0.N := ⟨16 * (i 0).val + (i 1).val / 512, by rw [hN]; omega⟩
    have htv : t.val = 16 * (i 0).val + (i 1).val / 512 := rfl
    refine ⟨t, flush0_4 t, ?_⟩
    have h := index4 t
    show i ∈ ((View.whole main_v21_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [h.1]; omega
    | ⟨1, _⟩ => show win0_4.index t 1 * 512 ≤ (i 1 : Nat) ∧ (i 1 : Nat) < win0_4.index t 1 * 512 + 512; rw [h.2.1]; omega
    | ⟨2, _⟩ => show win0_4.index t 2 * 704 ≤ (i 2 : Nat) ∧ (i 2 : Nat) < win0_4.index t 2 * 704 + 704; rw [h.2.2]; omega

theorem out_eq5 (x0 : Vec Ideal S512x1024 .bf16) (x1 x2 : Vec Ideal S1x1024x704 .bf16) : out0_5 x0 x1 x2 = k0_pay6 x0 x1 x2 := by
  unfold out0_5
  rw [View.canon_unit_zero at000, View.ld_unit_zero (S := S512x1024) at00]
  simp only [View.ld_unit_zero (S := S1x1024x704) at000]

theorem value5 (c : Dev nD) (t : Fin cfg0.N) (j : Fin 4) (i : Fin 16) (ht : t.val = 16 * j.val + i.val) (p : Fin 512) (q : Fin 704) :
    out0_5 (iblk m c 0 t) (iblk m c 1 t) (iblk m c 2 t) (ix3 0 p q)
      = (shards rfl (act (prod (arg0 m c) (arg1 m c)) (prod (arg0 m c) (arg2 m c))) : Stack 4 8192 704) (ix3 j ⟨512 * i.val + p.val, block_lt rfl i p⟩ q) := by
  rw [out_eq5]
  unfold k0_pay6
  refine (addLead _ _ p q).trans ?_
  have h1 := product1 m c t j i ht p q
  have h2 := product2 m c t j i ht p q
  show k0_pay2 (iblk m c 0 t) (iblk m c 1 t) (ix2 p q) * Ideal.logistic (k0_pay2 (iblk m c 0 t) (iblk m c 1 t) (ix2 p q))
    * k0_pay3 (iblk m c 0 t) (iblk m c 2 t) (ix2 p q) = _
  rw [h1, h2]
  rfl

theorem flushed_eq5 (c : Dev nD) (t : Fin cfg0.N) (hf : (cfg0.win 5).flush t = true) :
    (dats m 0 c).flushed 5 t = ((cfg0.win 5).blk t).view.read (Elt Ideal) ((shards rfl (act (prod (arg0 m c) (arg1 m c)) (prod (arg0 m c) (arg2 m c))) : Stack 4 8192 704)) := by
  have hT := t.isLt
  have hN : cfg0.N = 64 := N_0
  have h := index5 t
  rw [flushed5]
  funext y
  rw [View.read_apply]
  obtain ⟨j, i, ht⟩ : ∃ (j : Fin 4) (i : Fin 16), t.val = 16 * j.val + i.val := ⟨⟨t.val / 16, by omega⟩, ⟨t.val % 16, by omega⟩, by show t.val = _; show t.val = 16 * (t.val / 16) + t.val % 16; omega⟩
  have hy : (((cfg0.win 5).blk t).view.emb y) = ix3 (j : Fin 4) (⟨512 * i.val + (y 1 : Fin 512).val, block_lt rfl i (y 1 : Fin 512)⟩ : Fin 8192) (y 2 : Fin 704) := funext fun a => Fin.ext (by
    match a with
    | ⟨0, _⟩ => have y0 : (y 0).val < 1 := (y 0).isLt; show win0_5.index t 0 * 1 + 1 * (y 0).val = j.val; rw [h.1]; omega
    | ⟨1, _⟩ => show win0_5.index t 1 * 512 + 1 * (y 1).val = 512 * i.val + (y 1).val; rw [h.2.1]; omega
    | ⟨2, _⟩ => show win0_5.index t 2 * 704 + 1 * (y 2).val = (y 2).val; rw [h.2.2]; omega)
  have y0 : y = ix3 (0 : Fin 1) (y 1 : Fin 512) (y 2 : Fin 704) := funext fun a => Fin.ext (by
    match a with
    | ⟨0, _⟩ => have y0 : (y 0).val < 1 := (y 0).isLt; show (y 0).val = 0; omega
    | ⟨1, _⟩ => rfl
    | ⟨2, _⟩ => rfl)
  show (out0_5 (iblk m c 0 t) (iblk m c 1 t) (iblk m c 2 t)) y = ((shards rfl (act (prod (arg0 m c) (arg1 m c)) (prod (arg0 m c) (arg2 m c))) : Stack 4 8192 704)) (((cfg0.win 5).blk t).view.emb y)
  rw [hy]
  exact (congrArg (out0_5 (iblk m c 0 t) (iblk m c 1 t) (iblk m c 2 t)) y0).trans (value5 m c t j i ht (y 1) (y 2))

theorem final5 (c : Dev nD) : (dats m 0 c).arrAt 5 cfg0.N = ((shards rfl (act (prod (arg0 m c) (arg1 m c)) (prod (arg0 m c) (arg2 m c))) : Stack 4 8192 704) : Buf (Elt Ideal) ((c : Thread nD τ).loc main_v21_2)) :=
  (dats m 0 c).arrAt_eq_of_cover 5 _ (flushed_eq5 m c) fun i => by
    have hN : cfg0.N = 64 := N_0
    have b0 : (i 0 : Nat) < 4 := (i 0).isLt
    have b1 : (i 1 : Nat) < 8192 := (i 1).isLt
    have b2 : (i 2 : Nat) < 704 := (i 2).isLt
    let t : Fin cfg0.N := ⟨16 * (i 0).val + (i 1).val / 512, by rw [hN]; omega⟩
    have htv : t.val = 16 * (i 0).val + (i 1).val / 512 := rfl
    refine ⟨t, flush0_5 t, ?_⟩
    have h := index5 t
    show i ∈ ((View.whole main_v21_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [h.1]; omega
    | ⟨1, _⟩ => show win0_5.index t 1 * 512 ≤ (i 1 : Nat) ∧ (i 1 : Nat) < win0_5.index t 1 * 512 + 512; rw [h.2.1]; omega
    | ⟨2, _⟩ => show win0_5.index t 2 * 704 ≤ (i 2 : Nat) ∧ (i 2 : Nat) < win0_5.index t 2 * 704 + 704; rw [h.2.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v21_0) = (shards rfl (prod (arg0 m c) (arg1 m c)) : Stack 4 8192 704)
      ∧ r.2.mem ((c : Thread nD τ).loc main_v21_1) = (shards rfl (prod (arg0 m c) (arg2 m c)) : Stack 4 8192 704)
      ∧ r.2.mem ((c : Thread nD τ).loc main_v21_2) = (shards rfl (act (prod (arg0 m c) (arg1 m c)) (prod (arg0 m c) (arg2 m c))) : Stack 4 8192 704)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩) (run_blocks m ρ)

end Cert.FfnUpIdeal.Val

namespace Cert.FfnUpReferenceIdeal.Val

open Idealize.ShloMosaic Idealize.ShloMosaic.TcCoe Idealize.ShloMosaic.ValueIdx Idealize.SL.Sem
open Cert.FfnUpReferenceIdeal Cert.FfnUpReferenceIdeal.Gen Cert.FfnUpReferenceIdeal.Read Cert.Prods
open Cert.MixBwd (Mat Stack)

/-- The reference's product with the gate weight. -/
theorem product0 (x0 : Mat 8192 1024) (x1 : Mat 1024 2816) : (val_main_v0 (F := Ideal) x0 x1 : Mat 8192 2816) = prod x0 x1 := by
  funext i
  refine (val_main_v0_apply x0 x1 i).trans (Finset.sum_congr rfl fun k _ => ?_)
  exact congrArg₂ (fun u v : EReal => u * v) (congrArg x0 (Shape.idx_ext₂ rfl rfl)) (congrArg x1 (Shape.idx_ext₂ rfl rfl))

/-- The reference's product with the up weight. -/
theorem product1 (x0 : Mat 8192 1024) (x2 : Mat 1024 2816) : (val_main_v1 (F := Ideal) x0 x2 : Mat 8192 2816) = prod x0 x2 := by
  funext i
  refine (val_main_v1_apply x0 x2 i).trans (Finset.sum_congr rfl fun k _ => ?_)
  exact congrArg₂ (fun u v : EReal => u * v) (congrArg x0 (Shape.idx_ext₂ rfl rfl)) (congrArg x2 (Shape.idx_ext₂ rfl rfl))

/-- The reference's activation. -/
theorem activation (x0 : Mat 8192 1024) (x1 x2 : Mat 1024 2816) :
    (val_main_v3 (F := Ideal) x0 x1 x2 : Mat 8192 2816) = act (prod x0 x1) (prod x0 x2) := by
  funext i
  rw [val_main_v3_apply, val_main_v2_apply, val_main_call0_v5_apply, val_main_call0_v4_apply, val_main_call0_v3_apply, val_main_call0_v2_apply,
    val_main_call0_v1_apply, val_main_call0_v0_apply, val_main_call0_cst_apply, val_main_call0_cst_0_apply, product0, product1]
  show _ * Ideal.div (Ideal.ofBits .f32 0x3F800000#32) (Ideal.ofBits .f32 0x3F800000#32 + Ideal.exp (-_)) * _ = _
  rw [Idealize.ShloMosaic.Ideal.ofBits_one_f32]
  rfl

theorem result13 (x0 : Mat 8192 1024) (x1 : Mat 1024 2816) : (val_main_v13 (F := Ideal) x0 x1 : Stack 4 8192 704) = shards rfl (prod x0 x1) := by
  funext i
  obtain ⟨j, p, k, rfl⟩ : ∃ (j : Fin 4) (p : Fin 8192) (k : Fin 704), i = ix3 j p k := ⟨i 0, i 1, i 2, funext fun a => by match a with | ⟨0, _⟩ => rfl | ⟨1, _⟩ => rfl | ⟨2, _⟩ => rfl⟩
  exact (colShards (n := 8192) (N := 2816) (w := 704) (val_main_v0 (F := Ideal) x0 x1 : Mat 8192 2816) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j p k).trans
    (congrFun (product0 x0 x1) _)

theorem result23 (x0 : Mat 8192 1024) (x2 : Mat 1024 2816) : (val_main_v23 (F := Ideal) x0 x2 : Stack 4 8192 704) = shards rfl (prod x0 x2) := by
  funext i
  obtain ⟨j, p, k, rfl⟩ : ∃ (j : Fin 4) (p : Fin 8192) (k : Fin 704), i = ix3 j p k := ⟨i 0, i 1, i 2, funext fun a => by match a with | ⟨0, _⟩ => rfl | ⟨1, _⟩ => rfl | ⟨2, _⟩ => rfl⟩
  exact (colShards (n := 8192) (N := 2816) (w := 704) (val_main_v1 (F := Ideal) x0 x2 : Mat 8192 2816) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j p k).trans
    (congrFun (product1 x0 x2) _)

theorem result33 (x0 : Mat 8192 1024) (x1 x2 : Mat 1024 2816) : (val_main_v33 (F := Ideal) x0 x1 x2 : Stack 4 8192 704) = shards rfl (act (prod x0 x1) (prod x0 x2)) := by
  funext i
  obtain ⟨j, p, k, rfl⟩ : ∃ (j : Fin 4) (p : Fin 8192) (k : Fin 704), i = ix3 j p k := ⟨i 0, i 1, i 2, funext fun a => by match a with | ⟨0, _⟩ => rfl | ⟨1, _⟩ => rfl | ⟨2, _⟩ => rfl⟩
  exact (colShards (n := 8192) (N := 2816) (w := 704) (val_main_v3 (F := Ideal) x0 x1 x2 : Mat 8192 2816) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j p k).trans
    (congrFun (activation x0 x1 x2) _)

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v13) = (shards rfl (prod (m ((c : Thread nD τ).loc main_arg0)) (m ((c : Thread nD τ).loc main_arg1))) : Stack 4 8192 704)
      ∧ r.2.mem ((c : Thread nD τ).loc main_v23) = (shards rfl (prod (m ((c : Thread nD τ).loc main_arg0)) (m ((c : Thread nD τ).loc main_arg2))) : Stack 4 8192 704)
      ∧ r.2.mem ((c : Thread nD τ).loc main_v33) = (shards rfl (act (prod (m ((c : Thread nD τ).loc main_arg0)) (m ((c : Thread nD τ).loc main_arg1))) (prod (m ((c : Thread nD τ).loc main_arg0)) (m ((c : Thread nD τ).loc main_arg2)))) : Stack 4 8192 704)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v13_eq (m ((c : Thread nD τ).loc main_arg0)) (m ((c : Thread nD τ).loc main_arg1)))).trans (result13 (m ((c : Thread nD τ).loc main_arg0)) (m ((c : Thread nD τ).loc main_arg1))),
      ((h c).2.1.trans (val_main_v23_eq (m ((c : Thread nD τ).loc main_arg0)) (m ((c : Thread nD τ).loc main_arg2)))).trans (result23 (m ((c : Thread nD τ).loc main_arg0)) (m ((c : Thread nD τ).loc main_arg2))),
      ((h c).2.2.1.trans (val_main_v33_eq (m ((c : Thread nD τ).loc main_arg0)) (m ((c : Thread nD τ).loc main_arg1)) (m ((c : Thread nD τ).loc main_arg2)))).trans (result33 (m ((c : Thread nD τ).loc main_arg0)) (m ((c : Thread nD τ).loc main_arg1)) (m ((c : Thread nD τ).loc main_arg2))),
      (h c).2.2.2⟩)
    (Cert.FfnUpReferenceIdeal.Value.run m ρ)

end Cert.FfnUpReferenceIdeal.Val

end
-- ==== Proof.FfnUpClaims.lean ====
/-
  The claims about the call `FfnUp`, from one run of each program: the frames, and the equality of the kernel's
  results with the reference's at the ideal instance.
-/
module

public import proofs.«01_k».proof.Defs
public import proofs.«01_k».proof.Proof.FfnUp
public import proofs.«01_k».proof.Proof.Gen.FfnUp
public import proofs.«01_k».proof.Proof.Gen.FfnUp.Frame
public import proofs.«01_k».proof.Proof.Gen.FfnUpIdeal.Frame
public import proofs.«01_k».proof.Proof.Gen.FfnUpReferenceIdeal.Run
public import Idealize.ShloMosaic.Adequacy
public import Idealize.ShloMosaic.Init

@[expose] public section

set_option maxRecDepth 16384

noncomputable section

namespace Cert.Proof.FfnUpClaims

open Idealize.ShloMosaic Idealize.ShloMosaic.TcCoe Idealize.SL.Sem

/-- The kernel runs and leaves its arguments unchanged. -/
theorem frame_kernel : Cert.quiescent_FfnUp (hFfnUp := Cert.FfnUp.Gen.facts) := fun m ρ _ => Cert.FfnUp.Gen.frame m ρ

/-- So does its ideal reading, -/
theorem frame_ideal : Cert.quiescent_FfnUpIdeal (hFfnUpIdeal := Cert.FfnUpIdeal.Gen.facts) := fun m ρ _ => Cert.FfnUpIdeal.Gen.frame m ρ

/-- and so does the reference. -/
theorem frame_reference : Cert.quiescent_FfnUpReferenceIdeal (hFfnUpReferenceIdeal := Cert.FfnUpReferenceIdeal.Gen.facts) := fun m ρ _ =>
  (θ_run Cert.FfnUpReferenceIdeal.defs _ _).mono (fun r h => ⟨fun c => (h c).2.2.2, sem_eq_zero_of_no_sems (by decide) r.2⟩)
    (Cert.FfnUpReferenceIdeal.Value.run m ρ)

/-- The kernel's results are the reference's. -/
theorem algebraic : Cert.algebraic_FfnUpIdeal_FfnUpReferenceIdeal (hFfnUpIdeal := Cert.FfnUpIdeal.Gen.facts) (hFfnUpReferenceIdeal := Cert.FfnUpReferenceIdeal.Gen.facts) := by
  intro m ρ m' ρ' _ hag
  refine ⟨_, _, _, Cert.FfnUpIdeal.Val.run m ρ, (θ_run _ _ _).mono (fun _ h c => ?_) (Cert.FfnUpReferenceIdeal.Val.run m' ρ')⟩
  have hc := h c
  obtain ⟨e0, e1, e2⟩ := hag c
  rw [e0, e1, e2] at hc
  obtain ⟨h0, h1, h2, h3, h4, h5⟩ := hc
  exact ⟨h0, h1, h2, h3.trans e0.symm, h4.trans e1.symm, h5.trans e2.symm⟩

end Cert.Proof.FfnUpClaims

end
-- ==== Proof.MmDown.lean ====
/-
  The feed-forward down product and the norm after it, over the extended reals: each of the 16 points computes 512 rows of
  `x + a · w_down`, its inner axis in four shards, and the root mean square norm of those rows.
-/
module

public import proofs.«01_k».proof.Proof.Forward
public import proofs.«01_k».proof.Proof.Gen.MmDownIdeal.Value
public import proofs.«01_k».proof.Proof.Gen.MmDownReferenceIdeal.Read
public import proofs.«01_k».proof.Proof.Gen.MmDownReferenceIdeal.Run
public import Idealize.ShloMosaic.Lib.StableHlo.RunRead
public import Idealize.ShloMosaic.Lib.Pipeline.ValueKit.Tiles

@[expose] public section

set_option maxRecDepth 16384

noncomputable section

namespace Cert.MmDownIdeal.Val

open Idealize.ShloMosaic Idealize.ShloMosaic.TcCoe Idealize.ShloMosaic.ValueIdx Idealize.SL.Sem
open Cert.MmDownIdeal Cert.MmDownIdeal.Gen Cert.MmDownIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 2816 := m ((c : Thread nD τ).loc main_arg0)
abbrev arg1 (c : Dev nD) : Mat 2816 1024 := m ((c : Thread nD τ).loc main_arg1)
abbrev arg2 (c : Dev nD) : Mat 8192 1024 := m ((c : Thread nD τ).loc main_arg2)
abbrev arg3 (c : Dev nD) : Mat 1 1024 := m ((c : Thread nD τ).loc main_arg3)

theorem host0 (c : Dev nD) (j : Fin 4) (p : Fin 8192) (q : Fin 704) :
    V m c main_v11 (ix3 j p q) = arg0 m c (ix2 p ⟨704 * j.val + q.val, block_lt rfl j q⟩) := by
  have e : V m c main_v11 = truncf (F := Ideal) FTy.bf16 (concatenate S4x8192x704 0 [⟨S1x8192x704, StableHlo.upto hostOps0 (fun b => m (c, b)) 10 (Proc.tc.devRef main_v6)⟩, ⟨S1x8192x704, StableHlo.upto hostOps0 (fun b => m (c, b)) 10 (Proc.tc.devRef main_v7)⟩, ⟨S1x8192x704, StableHlo.upto hostOps0 (fun b => m (c, b)) 10 (Proc.tc.devRef main_v8)⟩, ⟨S1x8192x704, StableHlo.upto hostOps0 (fun b => m (c, b)) 10 (Proc.tc.devRef main_v9)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 10 (Proc.tc.devRef main_v6) = broadcastInDim S1x8192x704 ![1, 2] bcast_S8192x704_S1x8192x704_1_2 (extractStridedSlice S8192x704 ![0, 0] (m (c, Proc.tc.devRef main_arg0) : Vec Ideal S8192x2816 .f32) slices_S8192x2816_S8192x704_0_0) := by
    after_reads_simp
  have u1 : StableHlo.upto hostOps0 (fun b => m (c, b)) 10 (Proc.tc.devRef main_v7) = broadcastInDim S1x8192x704 ![1, 2] bcast_S8192x704_S1x8192x704_1_2 (extractStridedSlice S8192x704 ![0, 704] (m (c, Proc.tc.devRef main_arg0) : Vec Ideal S8192x2816 .f32) slices_S8192x2816_S8192x704_0_704) := by
    after_reads_simp
  have u2 : StableHlo.upto hostOps0 (fun b => m (c, b)) 10 (Proc.tc.devRef main_v8) = broadcastInDim S1x8192x704 ![1, 2] bcast_S8192x704_S1x8192x704_1_2 (extractStridedSlice S8192x704 ![0, 1408] (m (c, Proc.tc.devRef main_arg0) : Vec Ideal S8192x2816 .f32) slices_S8192x2816_S8192x704_0_1408) := by
    after_reads_simp
  have u3 : StableHlo.upto hostOps0 (fun b => m (c, b)) 10 (Proc.tc.devRef main_v9) = broadcastInDim S1x8192x704 ![1, 2] bcast_S8192x704_S1x8192x704_1_2 (extractStridedSlice S8192x704 ![0, 2112] (m (c, Proc.tc.devRef main_arg0) : Vec Ideal S8192x2816 .f32) slices_S8192x2816_S8192x704_0_2112) := by
    after_reads_simp
  rw [e, u0, u1, u2, u3]
  exact colShards (n := 8192) (N := 2816) (w := 704) (arg0 m c) rfl rfl rfl rfl (by decide) (by decide)
    slices_S8192x2816_S8192x704_0_0 slices_S8192x2816_S8192x704_0_704 slices_S8192x2816_S8192x704_0_1408 slices_S8192x2816_S8192x704_0_2112 bcast_S8192x704_S1x8192x704_1_2
    concatenates_S1x8192x704_S1x8192x704_S1x8192x704_S1x8192x704_S4x8192x704_d0 j p q

theorem host1 (c : Dev nD) (j : Fin 4) (p : Fin 704) (q : Fin 1024) :
    V m c main_v1 (ix3 j p q) = arg1 m c (ix2 ⟨704 * j.val + p.val, block_lt rfl j p⟩ q) := by
  have e : V m c main_v1 = truncf (F := Ideal) FTy.bf16 (shapeCast S4x704x1024 (m (c, Proc.tc.devRef main_arg1) : Vec Ideal S2816x1024 .f32) shapeCasts_S2816x1024_S4x704x1024) bitsLt_bf16_f32 := by
    unfold V
    after_reads_simp
    rfl
  rw [e]
  exact rowShards (m (c, Proc.tc.devRef main_arg1) : Mat 2816 1024) rfl shapeCasts_S2816x1024_S4x704x1024 j p q

theorem host2 (c : Dev nD) (p : Fin 8192) (q : Fin 1024) : V m c main_arg2 (ix2 p q) = arg2 m c (ix2 p q) := by
  have e : V m c main_arg2 = m (c, Proc.tc.devRef main_arg2) := by unfold V; after_reads_simp
  rw [e]

theorem host3 (c : Dev nD) (p : Fin 1) (q : Fin 1024) : V m c main_arg3 (ix2 p q) = arg3 m c (ix2 p q) := by
  have e : V m c main_arg3 = m (c, Proc.tc.devRef main_arg3) := by unfold V; after_reads_simp
  rw [e]

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem block0 (c : Dev nD) (t : Fin cfg0.N) (i : Fin 16) (ht : t.val = i.val) (s : Fin 4) (p : Fin 512) (k : Fin 704) :
    (iblk m c 0 t : Vec Ideal S4x512x704 .bf16) (ix3 s p k) = arg0 m c (ix2 ⟨512 * i.val + p.val, block_lt rfl i p⟩ ⟨704 * s.val + k.val, block_lt rfl s k⟩) := by
  have h := index0 t
  unfold iblk
  rw [View.read_apply]
  refine (congrArg (V m c main_v11) (funext fun a => Fin.ext ?_)).trans (host0 m c s ⟨512 * i.val + p.val, block_lt rfl i p⟩ k)
  match a with
  | ⟨0, _⟩ => show win0_0.index t 0 * 4 + 1 * s.val = s.val; rw [h.1]; omega
  | ⟨1, _⟩ => show win0_0.index t 1 * 512 + 1 * p.val = 512 * i.val + p.val; rw [h.2.1]; omega
  | ⟨2, _⟩ => show win0_0.index t 2 * 704 + 1 * k.val = k.val; rw [h.2.2]; omega

theorem block1 (c : Dev nD) (t : Fin cfg0.N) (i : Fin 16) (ht : t.val = i.val) (s : Fin 4) (k : Fin 704) (q : Fin 1024) :
    (iblk m c 1 t : Vec Ideal S4x704x1024 .bf16) (ix3 s k q) = arg1 m c (ix2 ⟨704 * s.val + k.val, block_lt rfl s k⟩ q) := by
  have h := index1 t
  unfold iblk
  rw [View.read_apply]
  refine (congrArg (V m c main_v1) (funext fun a => Fin.ext ?_)).trans (host1 m c s k q)
  match a with
  | ⟨0, _⟩ => show win0_1.index t 0 * 4 + 1 * s.val = s.val; rw [h.1]; omega
  | ⟨1, _⟩ => show win0_1.index t 1 * 704 + 1 * k.val = k.val; rw [h.2.1]; omega
  | ⟨2, _⟩ => show win0_1.index t 2 * 1024 + 1 * q.val = q.val; rw [h.2.2]; omega

theorem block2 (c : Dev nD) (t : Fin cfg0.N) (i : Fin 16) (ht : t.val = i.val) (p : Fin 512) (q : Fin 1024) :
    (iblk m c 2 t : Vec Ideal S512x1024 .f32) (ix2 p q) = arg2 m c (ix2 ⟨512 * i.val + p.val, block_lt rfl i p⟩ q) := by
  have h := index2 t
  unfold iblk
  rw [View.read_apply]
  refine (congrArg (V m c main_arg2) (funext fun a => Fin.ext ?_)).trans (host2 m c ⟨512 * i.val + p.val, block_lt rfl i p⟩ q)
  match a with
  | ⟨0, _⟩ => show win0_2.index t 0 * 512 + 1 * p.val = 512 * i.val + p.val; rw [h.1]; omega
  | ⟨1, _⟩ => show win0_2.index t 1 * 1024 + 1 * q.val = q.val; rw [h.2]; omega

theorem block3 (c : Dev nD) (t : Fin cfg0.N) (i : Fin 16) (ht : t.val = i.val) (q : Fin 1024) :
    (iblk m c 3 t : Vec Ideal S1x1024 .f32) (ix2 0 q) = arg3 m c (ix2 0 q) := by
  have h := index3 t
  unfold iblk
  rw [View.read_apply]
  refine (congrArg (V m c main_arg3) (funext fun a => Fin.ext ?_)).trans (host3 m c 0 q)
  match a with
  | ⟨0, _⟩ => show win0_3.index t 0 * 1 + 1 * 0 = 0; rw [h.1]
  | ⟨1, _⟩ => show win0_3.index t 1 * 1024 + 1 * q.val = q.val; rw [h.2]; omega

/-- One shard's product. -/
theorem part_apply (a : Vec Ideal S1x512x704 .bf16) (b : Vec Ideal S1x704x1024 .bf16) (ha : S1x512x704.ShapeCasts S512x704)
    (hb : S1x704x1024.ShapeCasts S704x1024) (p : Fin 512) (q : Fin 1024) :
    matmul (F := Ideal) (φ₁ := .bf16) (φ₂ := .bf16) dot_S512x704_S704x1024_S512x1024_1_0_0_1_n_n none (shapeCast S512x704 a ha : FVec Ideal S512x704 .bf16) (shapeCast S704x1024 b hb : FVec Ideal S704x1024 .bf16)
        (constant S512x1024 .f32 0x00000000#32 : FVec Ideal S512x1024 .f32) (ix2 p q)
      = ∑ k : Fin 704, (a (ix3 0 p k) : EReal) * b (ix3 0 k q) := by
  refine (dotNN dot_S512x704_S704x1024_S512x1024_1_0_0_1_n_n rfl rfl
    (fun _ _ => by simp [DotDims.lhsIdx, dot_S512x704_S704x1024_S512x1024_1_0_0_1_n_n]; rfl)
    (fun _ _ => by simp [DotDims.lhsIdx, dot_S512x704_S704x1024_S512x1024_1_0_0_1_n_n]; rfl)
    (fun _ _ => by simp [DotDims.rhsIdx, dot_S512x704_S704x1024_S512x1024_1_0_0_1_n_n]; rfl)
    (fun _ _ => by simp [DotDims.rhsIdx, dot_S512x704_S704x1024_S512x1024_1_0_0_1_n_n]; rfl) none _ _ p q).trans ?_
  exact Finset.sum_congr rfl fun k _ => congrArg₂ (fun u v : EReal => u * v) (dropLead _ _ p k) (dropLead _ _ k q)

/-- The sum's block before the norm. -/
def sumBlock (x0 : Vec Ideal S4x512x704 .bf16) (x1 : Vec Ideal S4x704x1024 .bf16) (x2 : Vec Ideal S512x1024 .f32) : FVec Ideal S512x1024 .f32 :=
  k0_pay2 (View.ld x2 r0_0) (View.ld x0 r0_1) (View.ld x1 r0_2) (View.ld x0 r0_3) (View.ld x1 r0_4) (View.ld x0 r0_5) (View.ld x1 r0_6) (View.ld x0 r0_7) (View.ld x1 r0_8)

/-- A shard's part of an entry. -/
def shardPart (x0 : Vec Ideal S4x512x704 .bf16) (x1 : Vec Ideal S4x704x1024 .bf16) (s : Fin 4) (p : Fin 512) (q : Fin 1024) : EReal :=
  ∑ k : Fin 704, (x0 (ix3 s p k) : EReal) * x1 (ix3 s k q)

theorem sumBlock_apply (x0 : Vec Ideal S4x512x704 .bf16) (x1 : Vec Ideal S4x704x1024 .bf16) (x2 : Vec Ideal S512x1024 .f32) (p : Fin 512) (q : Fin 1024) :
    sumBlock x0 x1 x2 (ix2 p q)
      = (x2 (ix2 p q) : EReal) + shardPart x0 x1 0 p q + shardPart x0 x1 1 p q + shardPart x0 x1 2 p q + shardPart x0 x1 3 p q := by
  unfold sumBlock
  rw [View.ld_unit_zero (S := S512x1024) at00]
  unfold k0_pay2
  refine congrArg₂ (fun u v : EReal => u + v) (congrArg₂ (fun u v : EReal => u + v) (congrArg₂ (fun u v : EReal => u + v)
    (congrArg₂ (fun u v : EReal => u + v) rfl ?_) ?_) ?_) ?_
  all_goals
    refine (part_apply _ _ _ _ p q).trans (Finset.sum_congr rfl fun k _ => congrArg₂ (fun u v : EReal => u * v) ?_ ?_)
    · refine View.ld_unit_apply_of x0 _ _ _ _ _ fun a => ?_
      match a with
      | ⟨0, _⟩ => rfl
      | ⟨1, _⟩ => show p.val = 0 + p.val; omega
      | ⟨2, _⟩ => show k.val = 0 + k.val; omega
    · refine View.ld_unit_apply_of x1 _ _ _ _ _ fun a => ?_
      match a with
      | ⟨0, _⟩ => rfl
      | ⟨1, _⟩ => show k.val = 0 + k.val; omega
      | ⟨2, _⟩ => show q.val = 0 + q.val; omega

/-- The norm of a block of rows. -/
theorem norm_apply (y : FVec Ideal S512x1024 .f32) (g : Vec Ideal S1x1024 .f32) (p : Fin 512) (q : Fin 1024) :
    k0_pay1 y g (ix2 p q) = y (ix2 p q) * scale (y : Mat 512 1024) p * g (ix2 0 q) := by
  unfold k0_pay1
  refine congrArg₂ (fun u v : EReal => u * v) (congrArg₂ (fun u v : EReal => u * v) rfl ((spreadCol _ _ p q).trans ?_)) (spreadRow _ _ p q)
  exact congrArg (fun e : EReal => Ideal.rsqrt (Ideal.div e (Ideal.ofBits .f32 0x44800000#32) + Ideal.ofBits .f32 0x358637BD#32))
    ((toCol _ _ p).trans (rowSum _ _ _ _ _ p))

theorem out_eq4 (x0 : Vec Ideal S4x512x704 .bf16) (x1 : Vec Ideal S4x704x1024 .bf16) (x2 : Vec Ideal S512x1024 .f32) (x3 : Vec Ideal S1x1024 .f32) : out0_4 x0 x1 x2 x3 = sumBlock x0 x1 x2 := by
  unfold out0_4
  rw [View.canon_unit_zero at00]
  rfl

theorem out_eq5 (x0 : Vec Ideal S4x512x704 .bf16) (x1 : Vec Ideal S4x704x1024 .bf16) (x2 : Vec Ideal S512x1024 .f32) (x3 : Vec Ideal S1x1024 .f32) : out0_5 x0 x1 x2 x3 = k0_pay1 (sumBlock x0 x1 x2) x3 := by
  unfold out0_5
  rw [View.canon_unit_zero at00, View.ld_unit_zero (S := S1x1024) at00]
  rfl

/-- A point's rows of the sum. -/
theorem sum_value (c : Dev nD) (t : Fin cfg0.N) (i : Fin 16) (ht : t.val = i.val) (p : Fin 512) (q : Fin 1024) :
    sumBlock (iblk m c 0 t) (iblk m c 1 t) (iblk m c 2 t) (ix2 p q)
      = plus (arg2 m c) (prod (arg0 m c) (arg1 m c)) (ix2 ⟨512 * i.val + p.val, block_lt rfl i p⟩ q) := by
  rw [sumBlock_apply, block2 m c t i ht p q]
  refine plus_prod (w := 704) rfl (arg2 m c) (arg0 m c) (arg1 m c) ⟨512 * i.val + p.val, block_lt rfl i p⟩ q
    (fun s => shardPart (iblk m c 0 t) (iblk m c 1 t) s p q) fun s => ?_
  exact Finset.sum_congr rfl fun k _ => congrArg₂ (fun u v : EReal => u * v) (block0 m c t i ht s p k) (block1 m c t i ht s k q)

theorem value4 (c : Dev nD) (t : Fin cfg0.N) (i : Fin 16) (ht : t.val = i.val) (p : Fin 512) (q : Fin 1024) :
    out0_4 (iblk m c 0 t) (iblk m c 1 t) (iblk m c 2 t) (iblk m c 3 t) (ix2 p q)
      = plus (arg2 m c) (prod (arg0 m c) (arg1 m c)) (ix2 ⟨512 * i.val + p.val, block_lt rfl i p⟩ q) := by
  rw [out_eq4]
  exact sum_value m c t i ht p q

theorem value5 (c : Dev nD) (t : Fin cfg0.N) (i : Fin 16) (ht : t.val = i.val) (p : Fin 512) (q : Fin 1024) :
    out0_5 (iblk m c 0 t) (iblk m c 1 t) (iblk m c 2 t) (iblk m c 3 t) (ix2 p q)
      = norm (plus (arg2 m c) (prod (arg0 m c) (arg1 m c))) (arg3 m c) (ix2 ⟨512 * i.val + p.val, block_lt rfl i p⟩ q) := by
  rw [out_eq5, norm_apply, block3 m c t i ht q, sum_value m c t i ht p q]
  have h : scale (sumBlock (iblk m c 0 t) (iblk m c 1 t) (iblk m c 2 t) : Mat 512 1024) p
      = scale (plus (arg2 m c) (prod (arg0 m c) (arg1 m c))) ⟨512 * i.val + p.val, block_lt rfl i p⟩ := by
    unfold scale
    refine congrArg (fun e : EReal => Ideal.rsqrt (Ideal.div e (Ideal.ofBits .f32 0x44800000#32) + Ideal.ofBits .f32 0x358637BD#32)) (Finset.sum_congr rfl fun k _ => ?_)
    rw [sum_value m c t i ht p k]
  rw [h]
  rfl

theorem flushed_eq4 (c : Dev nD) (t : Fin cfg0.N) (hf : (cfg0.win 4).flush t = true) :
    (dats m 0 c).flushed 4 t = ((cfg0.win 4).blk t).view.read (Elt Ideal) (plus (arg2 m c) (prod (arg0 m c) (arg1 m c))) := by
  have hT := t.isLt
  have hN : cfg0.N = 16 := N_0
  have h := index4 t
  rw [flushed4]
  funext y
  rw [View.read_apply]
  obtain ⟨i, ht⟩ : ∃ (i : Fin 16), t.val = i.val := ⟨⟨t.val, by omega⟩, by show t.val = _; rfl⟩
  have hy : (((cfg0.win 4).blk t).view.emb y) = ix2 (⟨512 * i.val + (y 0 : Fin 512).val, block_lt rfl i (y 0 : Fin 512)⟩ : Fin 8192) (y 1 : Fin 1024) := funext fun a => Fin.ext (by
    match a with
    | ⟨0, _⟩ => show win0_4.index t 0 * 512 + 1 * (y 0).val = 512 * i.val + (y 0).val; rw [h.1]; omega
    | ⟨1, _⟩ => show win0_4.index t 1 * 1024 + 1 * (y 1).val = (y 1).val; rw [h.2]; omega)
  have y0 : y = ix2 (y 0 : Fin 512) (y 1 : Fin 1024) := funext fun a => Fin.ext (by
    match a with
    | ⟨0, _⟩ => rfl
    | ⟨1, _⟩ => rfl)
  show (out0_4 (iblk m c 0 t) (iblk m c 1 t) (iblk m c 2 t) (iblk m c 3 t)) y = (plus (arg2 m c) (prod (arg0 m c) (arg1 m c))) (((cfg0.win 4).blk t).view.emb y)
  rw [hy]
  exact (congrArg (out0_4 (iblk m c 0 t) (iblk m c 1 t) (iblk m c 2 t) (iblk m c 3 t)) y0).trans (value4 m c t i ht (y 0) (y 1))

theorem final4 (c : Dev nD) : (dats m 0 c).arrAt 4 cfg0.N = (plus (arg2 m c) (prod (arg0 m c) (arg1 m c)) : Buf (Elt Ideal) ((c : Thread nD τ).loc main_v12_0)) :=
  (dats m 0 c).arrAt_eq_of_cover 4 _ (flushed_eq4 m c) fun i => by
    have hN : cfg0.N = 16 := N_0
    have b0 : (i 0 : Nat) < 8192 := (i 0).isLt
    have b1 : (i 1 : Nat) < 1024 := (i 1).isLt
    let t : Fin cfg0.N := ⟨(i 0).val / 512, by rw [hN]; omega⟩
    have htv : t.val = (i 0).val / 512 := rfl
    refine ⟨t, flush0_4 t, ?_⟩
    have h := index4 t
    show i ∈ ((View.whole main_v12_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; rw [h.1]; omega
    | ⟨1, _⟩ => show win0_4.index t 1 * 1024 ≤ (i 1 : Nat) ∧ (i 1 : Nat) < win0_4.index t 1 * 1024 + 1024; rw [h.2]; omega

theorem flushed_eq5 (c : Dev nD) (t : Fin cfg0.N) (hf : (cfg0.win 5).flush t = true) :
    (dats m 0 c).flushed 5 t = ((cfg0.win 5).blk t).view.read (Elt Ideal) (norm (plus (arg2 m c) (prod (arg0 m c) (arg1 m c))) (arg3 m c)) := by
  have hT := t.isLt
  have hN : cfg0.N = 16 := N_0
  have h := index5 t
  rw [flushed5]
  funext y
  rw [View.read_apply]
  obtain ⟨i, ht⟩ : ∃ (i : Fin 16), t.val = i.val := ⟨⟨t.val, by omega⟩, by show t.val = _; rfl⟩
  have hy : (((cfg0.win 5).blk t).view.emb y) = ix2 (⟨512 * i.val + (y 0 : Fin 512).val, block_lt rfl i (y 0 : Fin 512)⟩ : Fin 8192) (y 1 : Fin 1024) := funext fun a => Fin.ext (by
    match a with
    | ⟨0, _⟩ => show win0_5.index t 0 * 512 + 1 * (y 0).val = 512 * i.val + (y 0).val; rw [h.1]; omega
    | ⟨1, _⟩ => show win0_5.index t 1 * 1024 + 1 * (y 1).val = (y 1).val; rw [h.2]; omega)
  have y0 : y = ix2 (y 0 : Fin 512) (y 1 : Fin 1024) := funext fun a => Fin.ext (by
    match a with
    | ⟨0, _⟩ => rfl
    | ⟨1, _⟩ => rfl)
  show (out0_5 (iblk m c 0 t) (iblk m c 1 t) (iblk m c 2 t) (iblk m c 3 t)) y = (norm (plus (arg2 m c) (prod (arg0 m c) (arg1 m c))) (arg3 m c)) (((cfg0.win 5).blk t).view.emb y)
  rw [hy]
  exact (congrArg (out0_5 (iblk m c 0 t) (iblk m c 1 t) (iblk m c 2 t) (iblk m c 3 t)) y0).trans (value5 m c t i ht (y 0) (y 1))

theorem final5 (c : Dev nD) : (dats m 0 c).arrAt 5 cfg0.N = (norm (plus (arg2 m c) (prod (arg0 m c) (arg1 m c))) (arg3 m c) : Buf (Elt Ideal) ((c : Thread nD τ).loc main_v12_1)) :=
  (dats m 0 c).arrAt_eq_of_cover 5 _ (flushed_eq5 m c) fun i => by
    have hN : cfg0.N = 16 := N_0
    have b0 : (i 0 : Nat) < 8192 := (i 0).isLt
    have b1 : (i 1 : Nat) < 1024 := (i 1).isLt
    let t : Fin cfg0.N := ⟨(i 0).val / 512, by rw [hN]; omega⟩
    have htv : t.val = (i 0).val / 512 := rfl
    refine ⟨t, flush0_5 t, ?_⟩
    have h := index5 t
    show i ∈ ((View.whole main_v12_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [h.1]; omega
    | ⟨1, _⟩ => show win0_5.index t 1 * 1024 ≤ (i 1 : Nat) ∧ (i 1 : Nat) < win0_5.index t 1 * 1024 + 1024; rw [h.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v12_0) = plus (arg2 m c) (prod (arg0 m c) (arg1 m c))
      ∧ r.2.mem ((c : Thread nD τ).loc main_v12_1) = norm (plus (arg2 m c) (prod (arg0 m c) (arg1 m c))) (arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.MmDownIdeal.Val

namespace Cert.MmDownReferenceIdeal.Val

open Idealize.ShloMosaic Idealize.ShloMosaic.TcCoe Idealize.ShloMosaic.ValueIdx Idealize.SL.Sem
open Cert.MmDownReferenceIdeal Cert.MmDownReferenceIdeal.Gen Cert.MmDownReferenceIdeal.Read Cert.Prods
open Cert.MixBwd (Mat Stack)

/-- The reference's sum. -/
theorem sum_eq (x0 : Mat 8192 2816) (x1 : Mat 2816 1024) (x2 : Mat 8192 1024) :
    (val_main_v1 (F := Ideal) x0 x1 x2 : Mat 8192 1024) = plus x2 (prod x0 x1) := by
  funext i
  rw [val_main_v1_apply]
  refine congrArg₂ (fun u v : EReal => u + v) rfl ((val_main_v0_apply x0 x1 i).trans (Finset.sum_congr rfl fun k _ => ?_))
  exact congrArg₂ (fun u v : EReal => u * v) (congrArg x0 (Shape.idx_ext₂ rfl rfl)) (congrArg x1 (Shape.idx_ext₂ rfl rfl))

/-- The reference's norm. -/
theorem norm_eq (x0 : Mat 8192 2816) (x1 : Mat 2816 1024) (x2 : Mat 8192 1024) (x3 : Mat 1 1024) :
    (val_main_v14 (F := Ideal) x0 x1 x2 x3 : Mat 8192 1024) = norm (plus x2 (prod x0 x1)) x3 := by
  funext i
  show val_main_v13 (F := Ideal) x0 x1 x2 x3 i = _
  rw [val_main_v13_apply, val_main_v12_apply, val_main_v11_apply, val_main_v10_apply, val_main_v9_apply, val_main_v8_apply, val_main_v7_apply,
    val_main_v6_apply, val_main_v5_apply, val_main_v4_apply, val_main_v3_apply, val_main_cst_apply, val_main_cst_0_apply, val_main_cst_1_apply]
  simp only [val_main_v2_apply, sum_eq]
  show _ * Ideal.rsqrt (Ideal.div (Ideal.ofBits .f32 0x00000000#32 + ∑ k : Fin 1024, _ * _) (Ideal.ofBits .f32 0x44800000#32) + Ideal.ofBits .f32 0x358637BD#32) * _ = _
  rw [Idealize.ShloMosaic.Ideal.ofBits_zero_f32, zero_add]
  refine congrArg₂ (fun u v : EReal => u * v) (congrArg₂ (fun u v : EReal => u * v) rfl ?_) (congrArg x3 (Shape.idx_ext₂ rfl rfl))
  refine congrArg (fun e : EReal => Ideal.rsqrt (Ideal.div e (Ideal.ofBits .f32 0x44800000#32) + Ideal.ofBits .f32 0x358637BD#32)) (Finset.sum_congr rfl fun k _ => ?_)
  exact congrArg₂ (fun u v : EReal => u * v) (congrArg _ (Shape.idx_ext₂ rfl rfl)) (congrArg _ (Shape.idx_ext₂ rfl rfl))

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v1) = plus (m ((c : Thread nD τ).loc main_arg2)) (prod (m ((c : Thread nD τ).loc main_arg0)) (m ((c : Thread nD τ).loc main_arg1)))
      ∧ r.2.mem ((c : Thread nD τ).loc main_v14) = norm (plus (m ((c : Thread nD τ).loc main_arg2)) (prod (m ((c : Thread nD τ).loc main_arg0)) (m ((c : Thread nD τ).loc main_arg1)))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v1_eq (m ((c : Thread nD τ).loc main_arg0)) (m ((c : Thread nD τ).loc main_arg1)) (m ((c : Thread nD τ).loc main_arg2)))).trans (sum_eq (m ((c : Thread nD τ).loc main_arg0)) (m ((c : Thread nD τ).loc main_arg1)) (m ((c : Thread nD τ).loc main_arg2))),
      ((h c).2.1.trans (val_main_v14_eq (m ((c : Thread nD τ).loc main_arg0)) (m ((c : Thread nD τ).loc main_arg1)) (m ((c : Thread nD τ).loc main_arg2)) (m ((c : Thread nD τ).loc main_arg3)))).trans (norm_eq (m ((c : Thread nD τ).loc main_arg0)) (m ((c : Thread nD τ).loc main_arg1)) (m ((c : Thread nD τ).loc main_arg2)) (m ((c : Thread nD τ).loc main_arg3))),
      (h c).2.2⟩)
    (Cert.MmDownReferenceIdeal.Value.run m ρ)

end Cert.MmDownReferenceIdeal.Val

end
-- ==== Proof.MmDownClaims.lean ====
/-
  The claims about the call `MmDown`, from one run of each program: the frames, and the equality of the kernel's
  results with the reference's at the ideal instance.
-/
module

public import proofs.«01_k».proof.Defs
public import proofs.«01_k».proof.Proof.MmDown
public import proofs.«01_k».proof.Proof.Gen.MmDown
public import proofs.«01_k».proof.Proof.Gen.MmDown.Frame
public import proofs.«01_k».proof.Proof.Gen.MmDownIdeal.Frame
public import proofs.«01_k».proof.Proof.Gen.MmDownReferenceIdeal.Run
public import Idealize.ShloMosaic.Adequacy
public import Idealize.ShloMosaic.Init

@[expose] public section

set_option maxRecDepth 16384

noncomputable section

namespace Cert.Proof.MmDownClaims

open Idealize.ShloMosaic Idealize.ShloMosaic.TcCoe Idealize.SL.Sem

/-- The kernel runs and leaves its arguments unchanged. -/
theorem frame_kernel : Cert.quiescent_MmDown (hMmDown := Cert.MmDown.Gen.facts) := fun m ρ _ => Cert.MmDown.Gen.frame m ρ

/-- So does its ideal reading, -/
theorem frame_ideal : Cert.quiescent_MmDownIdeal (hMmDownIdeal := Cert.MmDownIdeal.Gen.facts) := fun m ρ _ => Cert.MmDownIdeal.Gen.frame m ρ

/-- and so does the reference. -/
theorem frame_reference : Cert.quiescent_MmDownReferenceIdeal (hMmDownReferenceIdeal := Cert.MmDownReferenceIdeal.Gen.facts) := fun m ρ _ =>
  (θ_run Cert.MmDownReferenceIdeal.defs _ _).mono (fun r h => ⟨fun c => (h c).2.2, sem_eq_zero_of_no_sems (by decide) r.2⟩)
    (Cert.MmDownReferenceIdeal.Value.run m ρ)

/-- The kernel's results are the reference's. -/
theorem algebraic : Cert.algebraic_MmDownIdeal_MmDownReferenceIdeal (hMmDownIdeal := Cert.MmDownIdeal.Gen.facts) (hMmDownReferenceIdeal := Cert.MmDownReferenceIdeal.Gen.facts) := by
  intro m ρ m' ρ' _ hag
  refine ⟨_, _, Cert.MmDownIdeal.Val.run m ρ, (θ_run _ _ _).mono (fun _ h c => ?_) (Cert.MmDownReferenceIdeal.Val.run m' ρ')⟩
  have hc := h c
  obtain ⟨e0, e1, e2, e3⟩ := hag c
  rw [e0, e1, e2, e3] at hc
  obtain ⟨h0, h1, h2, h3, h4, h5⟩ := hc
  exact ⟨h0, h1, h2.trans e0.symm, h3.trans e1.symm, h4.trans e2.symm, h5.trans e3.symm⟩

end Cert.Proof.MmDownClaims

end
-- ==== Proof.NormBack.lean ====
/-
  The gradient of the root mean square norm of rows, over the extended reals, in two forms: with the scaled rows, and as the
  derivative of the reciprocal root gives it. The two are the same at every extended real, so neither needs a precondition.
-/
module

public import proofs.«01_k».proof.Proof.Forward
public import Idealize.ShloMosaic.Lib.IdealHost

@[expose] public section

set_option maxRecDepth 16384

noncomputable section

namespace Cert.Prods

open Idealize.ShloMosaic Idealize.ShloMosaic.ValueIdx
open Cert.MixBwd (Mat Stack)

theorem bits1024 : Ideal.ofBits .f32 0x44800000#32 = ((1024 : ℝ) : EReal) := by
  simp [Ideal.ofBits, Ideal.ieee, -EReal.coe_mul]; norm_num

theorem bitsHalf : Ideal.ofBits .f32 0xBF000000#32 = ((-(1 / 2) : ℝ) : EReal) := by
  simp [Ideal.ofBits, Ideal.ieee, -EReal.coe_mul, -EReal.coe_neg]; norm_num

theorem bitsEps : ∃ e : ℝ, 0 < e ∧ Ideal.ofBits .f32 0x358637BD#32 = (e : EReal) := by
  refine ⟨(2 ^ 23 + 407485 : ℝ) * (2 : ℝ) ^ (-43 : ℤ), by positivity, ?_⟩
  simp [Ideal.ofBits, Ideal.ieee, -EReal.coe_mul]; norm_num

/-- The gradient of the norm in its input: `s · (dh · gain − x · s · mean (dh · gain · x · s))`, with `s` the row's factor. -/
def back {n : Nat} (x dh : Mat n 1024) (gain : Mat 1 1024) : Mat n 1024 := fun i =>
  scale x (i 0) * (dh i * gain (ix2 0 (i 1)) - x i * scale x (i 0)
    * Ideal.div (∑ k : Fin 1024, dh (ix2 (i 0) k) * gain (ix2 0 k) * (x (ix2 (i 0) k) * scale x (i 0))) (Ideal.ofBits .f32 0x44800000#32))

/-- The gradient of the norm in its gain: the sum over the rows. -/
def backGain {n : Nat} (x dh : Mat n 1024) : Mat 1 1024 := fun i => ∑ r : Fin n, dh (ix2 r (i 1)) * (x (ix2 r (i 1)) * scale x r)

/-- A square is not negative. -/
theorem square_nonneg (x : EReal) : 0 ≤ x * x := by
  rcases le_total 0 x with h | h
  · exact mul_nonneg h h
  · have h' : 0 ≤ -x := by simpa using EReal.neg_le_neg_iff.mpr h
    have := mul_nonneg h' h'
    simpa using this

/-- What the root is taken of is a positive real or the top. -/
theorem under_root {ι : Type} [Fintype ι] (x : ι → EReal) :
    (∃ w : ℝ, 0 < w ∧ Ideal.div (∑ k, x k * x k) (Ideal.ofBits .f32 0x44800000#32) + Ideal.ofBits .f32 0x358637BD#32 = (w : EReal))
      ∨ Ideal.div (∑ k, x k * x k) (Ideal.ofBits .f32 0x44800000#32) + Ideal.ofBits .f32 0x358637BD#32 = ⊤ := by
  obtain ⟨e, he, hb⟩ := bitsEps
  rw [hb, bits1024, Ideal.div_coe (by norm_num)]
  have hs : (0 : EReal) ≤ ∑ k, x k * x k := Finset.sum_nonneg fun k _ => square_nonneg _
  have hq : (0 : EReal) ≤ (∑ k, x k * x k) * ((1 / 1024 : ℝ) : EReal) := mul_nonneg hs (EReal.coe_nonneg.mpr (by norm_num))
  generalize (∑ k, x k * x k) * ((1 / 1024 : ℝ) : EReal) = q at hq
  induction q with
  | bot => exact absurd hq (by simp)
  | top => exact .inr rfl
  | coe a => exact .inl ⟨a + e, by have := EReal.coe_nonneg.mp hq; linarith, by rw [EReal.coe_add]⟩

/-- A nonnegative real factor passes through a sum. -/
theorem sum_mul_real {ι : Type} (s : Finset ι) (f : ι → EReal) (r : EReal) (h0 : 0 ≤ r) (h1 : r ≠ ⊤) : ∑ k ∈ s, f k * r = (∑ k ∈ s, f k) * r := by
  classical
  induction s using Finset.induction_on with
  | empty => simp
  | insert a s ha ih => rw [Finset.sum_insert ha, Finset.sum_insert ha, ih, EReal.right_distrib_of_nonneg_of_ne_top h0 h1]

/-- The two forms of one entry of the gradient: `v` is what the root is taken of, `S` the row's sum. -/
theorem entry_eq {ι : Type} [Fintype ι] (v : EReal) (hv : (∃ w : ℝ, 0 < w ∧ v = (w : EReal)) ∨ v = ⊤) (a x : EReal) (g y : ι → EReal) :
    a * Ideal.rsqrt v
        + x * Ideal.div ((∑ k, y k * g k) * (Ideal.ofBits .f32 0xBF000000#32 * Ideal.div (Ideal.rsqrt v) v)) (Ideal.ofBits .f32 0x44800000#32)
        + Ideal.div ((∑ k, y k * g k) * (Ideal.ofBits .f32 0xBF000000#32 * Ideal.div (Ideal.rsqrt v) v)) (Ideal.ofBits .f32 0x44800000#32) * x
      = Ideal.rsqrt v * (a - x * Ideal.rsqrt v * Ideal.div (∑ k, g k * (y k * Ideal.rsqrt v)) (Ideal.ofBits .f32 0x44800000#32)) := by
  rw [bits1024, bitsHalf, Ideal.div_coe (by norm_num), Ideal.div_coe (by norm_num)]
  rcases hv with ⟨w, hw, rfl⟩ | rfl
  · have hr : Ideal.rsqrt (w : EReal) = (((Real.sqrt w)⁻¹ : ℝ) : EReal) := by
      rw [Ideal.rsqrt_coe, if_neg (not_lt.mpr hw.le), if_neg hw.ne']
    have hsq : 0 < Real.sqrt w := Real.sqrt_pos.mpr hw
    rw [hr, Ideal.div_coe hw.ne']
    have hs : (∑ k, g k * (y k * (((Real.sqrt w)⁻¹ : ℝ) : EReal))) = (∑ k, y k * g k) * (((Real.sqrt w)⁻¹ : ℝ) : EReal) := by
      rw [← sum_mul_real _ _ _ (EReal.coe_nonneg.mpr (inv_nonneg.mpr hsq.le)) (EReal.coe_ne_top _)]
      exact Finset.sum_congr rfl fun k _ => by rw [← mul_assoc, mul_comm (g k)]
    rw [hs, sub_eq_add_neg, EReal.left_distrib_of_nonneg_of_ne_top (EReal.coe_nonneg.mpr (inv_nonneg.mpr hsq.le)) (EReal.coe_ne_top _)]
    generalize (∑ k, y k * g k) = S
    have hhalf : ((-(1 / 2) : ℝ) : EReal) * ((((Real.sqrt w)⁻¹ : ℝ) : EReal) * ((1 / w : ℝ) : EReal))
        = ((-(1 / 2) * ((Real.sqrt w)⁻¹ * (1 / w)) : ℝ) : EReal) := by rw [EReal.coe_mul, EReal.coe_mul]
    have hm : S * (((-(1 / 2) : ℝ) : EReal) * ((((Real.sqrt w)⁻¹ : ℝ) : EReal) * ((1 / w : ℝ) : EReal))) * ((1 / 1024 : ℝ) : EReal)
        = S * ((-((Real.sqrt w)⁻¹ * (Real.sqrt w)⁻¹ * (Real.sqrt w)⁻¹ * (1 / 1024)) : ℝ) : EReal) * ((1 / 2 : ℝ) : EReal) := by
      rw [hhalf, mul_assoc, mul_assoc, ← EReal.coe_mul, ← EReal.coe_mul]
      refine congrArg (fun t : ℝ => S * (t : EReal)) ?_
      have : Real.sqrt w * Real.sqrt w = w := Real.mul_self_sqrt hw.le
      field_simp
      nlinarith [this]
    rw [hm, mul_comm (S * _ * _) x, add_assoc, mul_comm a]
    refine congrArg₂ (fun u v : EReal => u + v) rfl ?_
    have h2 : ∀ z : EReal, z * ((1 / 2 : ℝ) : EReal) + z * ((1 / 2 : ℝ) : EReal) = z := by
      intro z
      rw [← EReal.left_distrib_of_nonneg (EReal.coe_nonneg.mpr (by norm_num)) (EReal.coe_nonneg.mpr (by norm_num)), ← EReal.coe_add]
      norm_num
    rw [← mul_assoc x, h2, mul_neg, EReal.coe_neg, mul_neg, mul_neg, EReal.coe_mul, EReal.coe_mul, EReal.coe_mul]
    refine congrArg Neg.neg ?_
    ac_rfl
  · have hz : Ideal.div (0 : EReal) ⊤ = 0 := by rw [Ideal.div, if_neg (by simp)]; simp
    rw [Ideal.rsqrt_top, hz]
    simp

/-- The gradient of the norm in its input, as the derivative of the reciprocal root gives it. -/
theorem back_eq {n : Nat} (x dh : Mat n 1024) (gain : Mat 1 1024) (r : Fin n) (c : Fin 1024) :
    dh (ix2 r c) * gain (ix2 0 c) * scale x r
        + x (ix2 r c) * Ideal.div ((∑ k : Fin 1024, x (ix2 r k) * (dh (ix2 r k) * gain (ix2 0 k)))
            * (Ideal.ofBits .f32 0xBF000000#32 * Ideal.div (scale x r)
                (Ideal.div (∑ k : Fin 1024, x (ix2 r k) * x (ix2 r k)) (Ideal.ofBits .f32 0x44800000#32) + Ideal.ofBits .f32 0x358637BD#32)))
            (Ideal.ofBits .f32 0x44800000#32)
        + Ideal.div ((∑ k : Fin 1024, x (ix2 r k) * (dh (ix2 r k) * gain (ix2 0 k)))
            * (Ideal.ofBits .f32 0xBF000000#32 * Ideal.div (scale x r)
                (Ideal.div (∑ k : Fin 1024, x (ix2 r k) * x (ix2 r k)) (Ideal.ofBits .f32 0x44800000#32) + Ideal.ofBits .f32 0x358637BD#32)))
            (Ideal.ofBits .f32 0x44800000#32) * x (ix2 r c)
      = back x dh gain (ix2 r c) :=
  entry_eq _ (under_root fun k : Fin 1024 => x (ix2 r k)) (dh (ix2 r c) * gain (ix2 0 c)) (x (ix2 r c))
    (fun k : Fin 1024 => dh (ix2 r k) * gain (ix2 0 k)) (fun k : Fin 1024 => x (ix2 r k))

/-! ## The product with a transposed weight, and the gradient block by block -/

/-- The product of a matrix with the transpose of another. -/
def prodT {n p q : Nat} (a : Mat n p) (b : Mat q p) : Mat n q := fun i => ∑ k : Fin p, a (ix2 (i 0) k) * b (ix2 (i 1) k)

/-- An entry of it whose inner axis comes in four blocks. -/
theorem prodT_cut {n p w q : Nat} (hp : p = 4 * w) (a : Mat n p) (b : Mat q p) (r : Fin n) (c : Fin q) (s : Fin 4 → EReal)
    (hs : ∀ j : Fin 4, s j = ∑ k : Fin w, a (ix2 r ⟨w * j.val + k.val, block_lt hp j k⟩) * b (ix2 c ⟨w * j.val + k.val, block_lt hp j k⟩)) :
    s 0 + s 1 + s 2 + s 3 = prodT a b (ix2 r c) := by
  have h := (sum_cut hp fun k : Fin p => a (ix2 r k) * b (ix2 c k)).trans (Fin.sum_univ_four _)
  show _ = ∑ k : Fin p, a (ix2 r k) * b (ix2 c k)
  rw [h, hs, hs, hs, hs]

/-- Rows of a matrix and the same rows taken out of it have the same factors. -/
theorem scale_rows {n N d : Nat} (f : Fin n → Fin N) (x : Mat n d) (X : Mat N d) (hx : ∀ p q, x (ix2 p q) = X (ix2 (f p) q)) (p : Fin n) :
    scale x p = scale X (f p) := by
  unfold scale
  refine congrArg (fun e : EReal => Ideal.rsqrt (Ideal.div e (Ideal.ofBits .f32 0x44800000#32) + Ideal.ofBits .f32 0x358637BD#32)) (Finset.sum_congr rfl fun k _ => ?_)
  rw [hx p k]

/-- The gradient of the norm is taken row by row. -/
theorem back_rows {n N : Nat} (f : Fin n → Fin N) (x dh : Mat n 1024) (X DH : Mat N 1024) (gain : Mat 1 1024)
    (hx : ∀ p q, x (ix2 p q) = X (ix2 (f p) q)) (hd : ∀ p q, dh (ix2 p q) = DH (ix2 (f p) q)) (p : Fin n) (q : Fin 1024) :
    back x dh gain (ix2 p q) = back X DH gain (ix2 (f p) q) := by
  show scale x p * (dh (ix2 p q) * gain (ix2 0 q) - x (ix2 p q) * scale x p
      * Ideal.div (∑ k : Fin 1024, dh (ix2 p k) * gain (ix2 0 k) * (x (ix2 p k) * scale x p)) (Ideal.ofBits .f32 0x44800000#32))
    = scale X (f p) * (DH (ix2 (f p) q) * gain (ix2 0 q) - X (ix2 (f p) q) * scale X (f p)
      * Ideal.div (∑ k : Fin 1024, DH (ix2 (f p) k) * gain (ix2 0 k) * (X (ix2 (f p) k) * scale X (f p))) (Ideal.ofBits .f32 0x44800000#32))
  rw [scale_rows f x X hx p, hd p q, hx p q]
  refine congrArg (fun e : EReal => scale X (f p) * (DH (ix2 (f p) q) * gain (ix2 0 q) - X (ix2 (f p) q) * scale X (f p) * Ideal.div e (Ideal.ofBits .f32 0x44800000#32)))
    (Finset.sum_congr rfl fun k _ => ?_)
  rw [hd p k, hx p k]

/-- The gain's gradient over blocks of rows: the blocks' sums, added up. -/
theorem gain_blocks {m n N : Nat} (h : N = m * n) (x dh : Fin m → Mat n 1024) (X DH : Mat N 1024)
    (hx : ∀ j p q, x j (ix2 p q) = X (ix2 ⟨n * j.val + p.val, block_lt h j p⟩ q)) (hd : ∀ j p q, dh j (ix2 p q) = DH (ix2 ⟨n * j.val + p.val, block_lt h j p⟩ q)) (q : Fin 1024) :
    ∑ j : Fin m, backGain (x j) (dh j) (ix2 0 q) = backGain X DH (ix2 0 q) := by
  show _ = ∑ r : Fin N, DH (ix2 r q) * (X (ix2 r q) * scale X r)
  rw [sum_cut h fun r : Fin N => DH (ix2 r q) * (X (ix2 r q) * scale X r)]
  refine Finset.sum_congr rfl fun j _ => ?_
  show ∑ p : Fin n, dh j (ix2 p q) * (x j (ix2 p q) * scale (x j) p) = _
  refine Finset.sum_congr rfl fun p _ => ?_
  rw [hx j p q, hd j p q, scale_rows (fun p => ⟨n * j.val + p.val, block_lt h j p⟩) (x j) X (hx j) p]

end Cert.Prods

end
-- ==== Proof.FfnAct.lean ====
/-
  The gradients of the gated activation `silu(g) * u` before the down projection, over the extended reals: each of the 16
  points computes, for 512 rows and each of four column shards, `da = dx · w_downᵀ` and from it the gradients of `g` and `u`.
-/
module

public import proofs.«01_k».proof.Proof.Forward
public import proofs.«01_k».proof.Proof.NormBack
public import proofs.«01_k».proof.Proof.Gen.FfnActIdeal.Value
public import proofs.«01_k».proof.Proof.Gen.FfnActReferenceIdeal.Read
public import proofs.«01_k».proof.Proof.Gen.FfnActReferenceIdeal.Run
public import Idealize.ShloMosaic.Lib.StableHlo.RunRead
public import Idealize.ShloMosaic.Lib.Pipeline.ReadBack
public import Idealize.ShloMosaic.Lib.Pipeline.ValueKit.Tiles

@[expose] public section

set_option maxRecDepth 16384

noncomputable section

namespace Cert.Act

open Idealize.ShloMosaic Idealize.ShloMosaic.ValueIdx Cert.Prods
open Cert.MixBwd (Mat)

/-- The gradient of `g · sigmoid(g) · u` in `g`, times `a`. -/
def gateGrad (a g u : EReal) : EReal := a * u * Ideal.logistic g * (1 + g * (1 - Ideal.logistic g))

/-- The gradient in `u`, times `a`. -/
def upGrad (a g : EReal) : EReal := a * g * Ideal.logistic g

/-- The two at every entry of a matrix. -/
def gates {n q : Nat} (a g u : Mat n q) : Mat n q := fun i => gateGrad (a i) (g i) (u i)
def ups {n q : Nat} (a g : Mat n q) : Mat n q := fun i => upGrad (a i) (g i)

/-- A real distributes over one plus anything. -/
theorem real_distrib (C : ℝ) (t : EReal) : (C : EReal) * (1 + t) = C + C * t := by
  induction t with
  | bot =>
    rw [EReal.add_bot]
    rcases lt_trichotomy C 0 with h | h | h
    · rw [EReal.coe_mul_bot_of_neg h, EReal.coe_add_top]
    · subst h; simp
    · rw [EReal.coe_mul_bot_of_pos h, EReal.add_bot]
  | coe t => rw [← EReal.coe_one]; norm_cast; ring
  | top =>
    rw [show (1 : EReal) + ⊤ = ⊤ from rfl]
    rcases lt_trichotomy C 0 with h | h | h
    · rw [EReal.coe_mul_top_of_neg h, EReal.add_bot]
    · subst h; simp
    · rw [EReal.coe_mul_top_of_pos h, EReal.coe_add_top]

/-- The logistic function has real values. -/
theorem logistic_real (g : EReal) : ∃ s : ℝ, Ideal.logistic g = s := by
  induction g with
  | bot => exact ⟨0, Ideal.logistic_bot⟩
  | coe r => exact ⟨_, Ideal.logistic_coe r⟩
  | top => exact ⟨1, Ideal.logistic_top⟩

/-- A sum of real numbers is real. -/
theorem sum_real {n : Nat} (f : Fin n → EReal) (h : ∀ k, ∃ r : ℝ, f k = r) : ∃ r : ℝ, ∑ k : Fin n, f k = r := by
  refine Finset.sum_induction f (fun e => ∃ r : ℝ, e = r) ?_ ⟨0, rfl⟩ fun k _ => h k
  rintro _ _ ⟨a, rfl⟩ ⟨b, rfl⟩
  exact ⟨a + b, (EReal.coe_add a b).symm⟩

/-- The sum of the gradient's two parts, one for each place of `g` in the product, is the product form: where `a` and `u` are real. -/
theorem gateGrad_eq (a u : ℝ) (g : EReal) :
    (a : EReal) * u * Ideal.logistic g + g * (a * u) * (Ideal.logistic g * (1 - Ideal.logistic g)) = gateGrad a g u := by
  obtain ⟨s, hs⟩ := logistic_real g
  unfold gateGrad
  rw [hs, show (a : EReal) * u * s = ((a * u * s : ℝ) : EReal) by push_cast; rfl, real_distrib]
  refine congrArg₂ (fun x y : EReal => x + y) rfl ?_
  rw [EReal.coe_mul, EReal.coe_mul]
  ac_rfl

end Cert.Act

namespace Cert.FfnActIdeal.Val

open Idealize.ShloMosaic Idealize.ShloMosaic.TcCoe Idealize.ShloMosaic.ValueIdx Idealize.SL.Sem
open Cert.FfnActIdeal Cert.FfnActIdeal.Gen Cert.FfnActIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 1024 := m ((c : Thread nD τ).loc main_arg0)
abbrev arg1 (c : Dev nD) : Mat 2816 1024 := m ((c : Thread nD τ).loc main_arg1)
abbrev arg2 (c : Dev nD) : Mat 8192 2816 := m ((c : Thread nD τ).loc main_arg2)
abbrev arg3 (c : Dev nD) : Mat 8192 2816 := m ((c : Thread nD τ).loc main_arg3)

theorem host0 (c : Dev nD) (p : Fin 8192) (q : Fin 1024) : V m c main_arg0 (ix2 p q) = arg0 m c (ix2 p q) := by
  have e : V m c main_arg0 = m (c, Proc.tc.devRef main_arg0) := by unfold V; after_reads_simp
  rw [e]

theorem host1 (c : Dev nD) (j : Fin 4) (p : Fin 704) (q : Fin 1024) :
    V m c main_v1 (ix3 j p q) = arg1 m c (ix2 ⟨704 * j.val + p.val, block_lt rfl j p⟩ q) := by
  have e : V m c main_v1 = truncf (F := Ideal) FTy.bf16 (shapeCast S4x704x1024 (m (c, Proc.tc.devRef main_arg1) : Vec Ideal S2816x1024 .f32) shapeCasts_S2816x1024_S4x704x1024) bitsLt_bf16_f32 := by
    unfold V
    after_reads_simp
    rfl
  rw [e]
  exact rowShards (m (c, Proc.tc.devRef main_arg1) : Mat 2816 1024) rfl shapeCasts_S2816x1024_S4x704x1024 j p q

theorem host2 (c : Dev nD) (j : Fin 4) (p : Fin 8192) (q : Fin 704) :
    V m c main_v11 (ix3 j p q) = arg2 m c (ix2 p ⟨704 * j.val + q.val, block_lt rfl j q⟩) := by
  have e : V m c main_v11 = truncf (F := Ideal) FTy.bf16 (concatenate S4x8192x704 0 [⟨S1x8192x704, StableHlo.upto hostOps0 (fun b => m (c, b)) 10 (Proc.tc.devRef main_v6)⟩, ⟨S1x8192x704, StableHlo.upto hostOps0 (fun b => m (c, b)) 10 (Proc.tc.devRef main_v7)⟩, ⟨S1x8192x704, StableHlo.upto hostOps0 (fun b => m (c, b)) 10 (Proc.tc.devRef main_v8)⟩, ⟨S1x8192x704, StableHlo.upto hostOps0 (fun b => m (c, b)) 10 (Proc.tc.devRef main_v9)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 10 (Proc.tc.devRef main_v6) = broadcastInDim S1x8192x704 ![1, 2] bcast_S8192x704_S1x8192x704_1_2 (extractStridedSlice S8192x704 ![0, 0] (m (c, Proc.tc.devRef main_arg2) : Vec Ideal S8192x2816 .f32) slices_S8192x2816_S8192x704_0_0) := by
    after_reads_simp
  have u1 : StableHlo.upto hostOps0 (fun b => m (c, b)) 10 (Proc.tc.devRef main_v7) = broadcastInDim S1x8192x704 ![1, 2] bcast_S8192x704_S1x8192x704_1_2 (extractStridedSlice S8192x704 ![0, 704] (m (c, Proc.tc.devRef main_arg2) : Vec Ideal S8192x2816 .f32) slices_S8192x2816_S8192x704_0_704) := by
    after_reads_simp
  have u2 : StableHlo.upto hostOps0 (fun b => m (c, b)) 10 (Proc.tc.devRef main_v8) = broadcastInDim S1x8192x704 ![1, 2] bcast_S8192x704_S1x8192x704_1_2 (extractStridedSlice S8192x704 ![0, 1408] (m (c, Proc.tc.devRef main_arg2) : Vec Ideal S8192x2816 .f32) slices_S8192x2816_S8192x704_0_1408) := by
    after_reads_simp
  have u3 : StableHlo.upto hostOps0 (fun b => m (c, b)) 10 (Proc.tc.devRef main_v9) = broadcastInDim S1x8192x704 ![1, 2] bcast_S8192x704_S1x8192x704_1_2 (extractStridedSlice S8192x704 ![0, 2112] (m (c, Proc.tc.devRef main_arg2) : Vec Ideal S8192x2816 .f32) slices_S8192x2816_S8192x704_0_2112) := by
    after_reads_simp
  rw [e, u0, u1, u2, u3]
  exact colShards (n := 8192) (N := 2816) (w := 704) (arg2 m c) rfl rfl rfl rfl (by decide) (by decide)
    slices_S8192x2816_S8192x704_0_0 slices_S8192x2816_S8192x704_0_704 slices_S8192x2816_S8192x704_0_1408 slices_S8192x2816_S8192x704_0_2112 bcast_S8192x704_S1x8192x704_1_2
    concatenates_S1x8192x704_S1x8192x704_S1x8192x704_S1x8192x704_S4x8192x704_d0 j p q

theorem host3 (c : Dev nD) (j : Fin 4) (p : Fin 8192) (q : Fin 704) :
    V m c main_v21 (ix3 j p q) = arg3 m c (ix2 p ⟨704 * j.val + q.val, block_lt rfl j q⟩) := by
  have e : V m c main_v21 = truncf (F := Ideal) FTy.bf16 (concatenate S4x8192x704 0 [⟨S1x8192x704, StableHlo.upto hostOps0 (fun b => m (c, b)) 20 (Proc.tc.devRef main_v16)⟩, ⟨S1x8192x704, StableHlo.upto hostOps0 (fun b => m (c, b)) 20 (Proc.tc.devRef main_v17)⟩, ⟨S1x8192x704, StableHlo.upto hostOps0 (fun b => m (c, b)) 20 (Proc.tc.devRef main_v18)⟩, ⟨S1x8192x704, StableHlo.upto hostOps0 (fun b => m (c, b)) 20 (Proc.tc.devRef main_v19)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 20 (Proc.tc.devRef main_v16) = broadcastInDim S1x8192x704 ![1, 2] bcast_S8192x704_S1x8192x704_1_2 (extractStridedSlice S8192x704 ![0, 0] (m (c, Proc.tc.devRef main_arg3) : Vec Ideal S8192x2816 .f32) slices_S8192x2816_S8192x704_0_0) := by
    after_reads_simp
  have u1 : StableHlo.upto hostOps0 (fun b => m (c, b)) 20 (Proc.tc.devRef main_v17) = broadcastInDim S1x8192x704 ![1, 2] bcast_S8192x704_S1x8192x704_1_2 (extractStridedSlice S8192x704 ![0, 704] (m (c, Proc.tc.devRef main_arg3) : Vec Ideal S8192x2816 .f32) slices_S8192x2816_S8192x704_0_704) := by
    after_reads_simp
  have u2 : StableHlo.upto hostOps0 (fun b => m (c, b)) 20 (Proc.tc.devRef main_v18) = broadcastInDim S1x8192x704 ![1, 2] bcast_S8192x704_S1x8192x704_1_2 (extractStridedSlice S8192x704 ![0, 1408] (m (c, Proc.tc.devRef main_arg3) : Vec Ideal S8192x2816 .f32) slices_S8192x2816_S8192x704_0_1408) := by
    after_reads_simp
  have u3 : StableHlo.upto hostOps0 (fun b => m (c, b)) 20 (Proc.tc.devRef main_v19) = broadcastInDim S1x8192x704 ![1, 2] bcast_S8192x704_S1x8192x704_1_2 (extractStridedSlice S8192x704 ![0, 2112] (m (c, Proc.tc.devRef main_arg3) : Vec Ideal S8192x2816 .f32) slices_S8192x2816_S8192x704_0_2112) := by
    after_reads_simp
  rw [e, u0, u1, u2, u3]
  exact colShards (n := 8192) (N := 2816) (w := 704) (arg3 m c) rfl rfl rfl rfl (by decide) (by decide)
    slices_S8192x2816_S8192x704_0_0 slices_S8192x2816_S8192x704_0_704 slices_S8192x2816_S8192x704_0_1408 slices_S8192x2816_S8192x704_0_2112 bcast_S8192x704_S1x8192x704_1_2
    concatenates_S1x8192x704_S1x8192x704_S1x8192x704_S1x8192x704_S4x8192x704_d0 j p q

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)

theorem block0 (c : Dev nD) (t : Fin cfg0.N) (i : Fin 16) (ht : t.val = i.val) (p : Fin 512) (q : Fin 1024) :
    (iblk m c 0 t : Vec Ideal S512x1024 .f32) (ix2 p q) = arg0 m c (ix2 ⟨512 * i.val + p.val, block_lt rfl i p⟩ q) := by
  have h := index0 t
  unfold iblk
  rw [View.read_apply]
  refine (congrArg (V m c main_arg0) (funext fun a => Fin.ext ?_)).trans (host0 m c ⟨512 * i.val + p.val, block_lt rfl i p⟩ q)
  match a with
  | ⟨0, _⟩ => show win0_0.index t 0 * 512 + 1 * p.val = 512 * i.val + p.val; rw [h.1]; omega
  | ⟨1, _⟩ => show win0_0.index t 1 * 1024 + 1 * q.val = q.val; rw [h.2]; omega

theorem block1 (c : Dev nD) (t : Fin cfg0.N) (i : Fin 16) (ht : t.val = i.val) (s : Fin 4) (k : Fin 704) (q : Fin 1024) :
    (iblk m c 1 t : Vec Ideal S4x704x1024 .bf16) (ix3 s k q) = arg1 m c (ix2 ⟨704 * s.val + k.val, block_lt rfl s k⟩ q) := by
  have h := index1 t
  unfold iblk
  rw [View.read_apply]
  refine (congrArg (V m c main_v1) (funext fun a => Fin.ext ?_)).trans (host1 m c s k q)
  match a with
  | ⟨0, _⟩ => show win0_1.index t 0 * 4 + 1 * s.val = s.val; rw [h.1]; omega
  | ⟨1, _⟩ => show win0_1.index t 1 * 704 + 1 * k.val = k.val; rw [h.2.1]; omega
  | ⟨2, _⟩ => show win0_1.index t 2 * 1024 + 1 * q.val = q.val; rw [h.2.2]; omega

theorem block2 (c : Dev nD) (t : Fin cfg0.N) (i : Fin 16) (ht : t.val = i.val) (s : Fin 4) (p : Fin 512) (k : Fin 704) :
    (iblk m c 2 t : Vec Ideal S4x512x704 .bf16) (ix3 s p k) = arg2 m c (ix2 ⟨512 * i.val + p.val, block_lt rfl i p⟩ ⟨704 * s.val + k.val, block_lt rfl s k⟩) := by
  have h := index2 t
  unfold iblk
  rw [View.read_apply]
  refine (congrArg (V m c main_v11) (funext fun a => Fin.ext ?_)).trans (host2 m c s ⟨512 * i.val + p.val, block_lt rfl i p⟩ k)
  match a with
  | ⟨0, _⟩ => show win0_2.index t 0 * 4 + 1 * s.val = s.val; rw [h.1]; omega
  | ⟨1, _⟩ => show win0_2.index t 1 * 512 + 1 * p.val = 512 * i.val + p.val; rw [h.2.1]; omega
  | ⟨2, _⟩ => show win0_2.index t 2 * 704 + 1 * k.val = k.val; rw [h.2.2]; omega

theorem block3 (c : Dev nD) (t : Fin cfg0.N) (i : Fin 16) (ht : t.val = i.val) (s : Fin 4) (p : Fin 512) (k : Fin 704) :
    (iblk m c 3 t : Vec Ideal S4x512x704 .bf16) (ix3 s p k) = arg3 m c (ix2 ⟨512 * i.val + p.val, block_lt rfl i p⟩ ⟨704 * s.val + k.val, block_lt rfl s k⟩) := by
  have h := index3 t
  unfold iblk
  rw [View.read_apply]
  refine (congrArg (V m c main_v21) (funext fun a => Fin.ext ?_)).trans (host3 m c s ⟨512 * i.val + p.val, block_lt rfl i p⟩ k)
  match a with
  | ⟨0, _⟩ => show win0_3.index t 0 * 4 + 1 * s.val = s.val; rw [h.1]; omega
  | ⟨1, _⟩ => show win0_3.index t 1 * 512 + 1 * p.val = 512 * i.val + p.val; rw [h.2.1]; omega
  | ⟨2, _⟩ => show win0_3.index t 2 * 704 + 1 * k.val = k.val; rw [h.2.2]; omega

/-- One shard's product. -/
theorem part_apply (a : Vec Ideal S512x1024 .f32) (w : Vec Ideal S1x704x1024 .bf16) (p : Fin 512) (q : Fin 704) :
    k0_pay4 a w (ix2 p q) = ∑ k : Fin 1024, (a (ix2 p k) : EReal) * w (ix3 0 q k) := by
  unfold k0_pay4
  refine (dotNT dot_S512x1024_S704x1024_S512x704_1_1_0_0_n_n rfl rfl
    (fun _ _ => by simp [DotDims.lhsIdx, dot_S512x1024_S704x1024_S512x704_1_1_0_0_n_n]; rfl)
    (fun _ _ => by simp [DotDims.lhsIdx, dot_S512x1024_S704x1024_S512x704_1_1_0_0_n_n]; rfl)
    (fun _ _ => by simp [DotDims.rhsIdx, dot_S512x1024_S704x1024_S512x704_1_1_0_0_n_n]; rfl)
    (fun _ _ => by simp [DotDims.rhsIdx, dot_S512x1024_S704x1024_S512x704_1_1_0_0_n_n]; rfl) none _ _ p q).trans ?_
  exact Finset.sum_congr rfl fun k _ => congrArg₂ (fun u v : EReal => u * v) rfl (dropLead _ _ q k)

/-- One shard's gradient of the gate. -/
theorem gate_apply (a : Vec Ideal S512x1024 .f32) (w : Vec Ideal S1x704x1024 .bf16) (g : Vec Ideal S1x512x704 .bf16) (u : Vec Ideal S1x512x704 .bf16) (p : Fin 512) (q : Fin 704) :
    k0_pay7 a w g u (ix3 0 p q) = Act.gateGrad (∑ k : Fin 1024, (a (ix2 p k) : EReal) * w (ix3 0 q k)) (g (ix3 0 p q)) (u (ix3 0 p q)) := by
  have hg : k0_pay5 g (ix2 p q) = g (ix3 0 p q) := dropLead _ _ p q
  have hu : shapeCast S512x704 u shapeCasts_S1x512x704_S512x704 (ix2 p q) = u (ix3 0 p q) := dropLead _ _ p q
  unfold k0_pay7
  refine (addLead _ _ p q).trans ?_
  show k0_pay4 a w (ix2 p q) * shapeCast S512x704 u shapeCasts_S1x512x704_S512x704 (ix2 p q) * Ideal.logistic (k0_pay5 g (ix2 p q))
    * (Ideal.ofBits .f32 0x3F800000#32 + k0_pay5 g (ix2 p q) * (Ideal.ofBits .f32 0x3F800000#32 - Ideal.logistic (k0_pay5 g (ix2 p q)))) = _
  rw [part_apply, hg, hu, Idealize.ShloMosaic.Ideal.ofBits_one_f32]
  rfl

/-- One shard's gradient of the other factor. -/
theorem up_apply (a : Vec Ideal S512x1024 .f32) (w : Vec Ideal S1x704x1024 .bf16) (g : Vec Ideal S1x512x704 .bf16) (p : Fin 512) (q : Fin 704) :
    k0_pay8 a w g (ix3 0 p q) = Act.upGrad (∑ k : Fin 1024, (a (ix2 p k) : EReal) * w (ix3 0 q k)) (g (ix3 0 p q)) := by
  have hg : k0_pay5 g (ix2 p q) = g (ix3 0 p q) := dropLead _ _ p q
  unfold k0_pay8
  refine (addLead _ _ p q).trans ?_
  show k0_pay4 a w (ix2 p q) * k0_pay5 g (ix2 p q) * Ideal.logistic (k0_pay5 g (ix2 p q)) = _
  rw [part_apply, hg]
  rfl

/-- An entry of a shard's product. -/
def entry (x0 : Vec Ideal S512x1024 .f32) (x1 : Vec Ideal S4x704x1024 .bf16) (s : Fin 4) (p : Fin 512) (q : Fin 704) : EReal :=
  ∑ k : Fin 1024, (x0 (ix2 p k) : EReal) * x1 (ix3 s q k)

/-- The two output blocks. -/
def gateBlock (x0 : Vec Ideal S512x1024 .f32) (x1 : Vec Ideal S4x704x1024 .bf16) (x2 x3 : Vec Ideal S4x512x704 .bf16) : Vec Ideal S4x512x704 .bf16 := fun i => Act.gateGrad (entry x0 x1 (i 0) (i 1) (i 2)) (x2 i) (x3 i)
def upBlock (x0 : Vec Ideal S512x1024 .f32) (x1 : Vec Ideal S4x704x1024 .bf16) (x2 : Vec Ideal S4x512x704 .bf16) : Vec Ideal S4x512x704 .bf16 := fun i => Act.upGrad (entry x0 x1 (i 0) (i 1) (i 2)) (x2 i)

theorem ix_of (x : S1x512x704.Idx) : x = ix3 (0 : Fin 1) (x 1 : Fin 512) (x 2 : Fin 704) := funext fun a => Fin.ext (by
  match a with
  | ⟨0, _⟩ => have y0 : (x 0).val < 1 := (x 0).isLt; show (x 0).val = 0; omega
  | ⟨1, _⟩ => rfl
  | ⟨2, _⟩ => rfl)

theorem emb_0 (p : Fin 512) (q : Fin 704) : r0_2.emb (ix3 (0 : Fin 1) p q) = ix3 (0 : Fin 4) p q := funext fun a => Fin.ext (by
  match a with
  | ⟨0, _⟩ => rfl
  | ⟨1, _⟩ => show 0 + 1 * p.val = p.val; omega
  | ⟨2, _⟩ => show 0 + 1 * q.val = q.val; omega)

theorem row_0 (x : Vec Ideal S4x512x704 .bf16) (p : Fin 512) (q : Fin 704) : View.ld x r0_2 (ix3 (0 : Fin 1) p q) = x (ix3 (0 : Fin 4) p q) := by
  refine View.ld_unit_apply_of x _ _ _ _ _ fun a => ?_
  match a with
  | ⟨0, _⟩ => rfl
  | ⟨1, _⟩ => show p.val = 0 + p.val; omega
  | ⟨2, _⟩ => show q.val = 0 + q.val; omega

theorem entry_0 (x0 : Vec Ideal S512x1024 .f32) (x1 : Vec Ideal S4x704x1024 .bf16) (p : Fin 512) (q : Fin 704) :
    (∑ k : Fin 1024, ((View.ld x0 r0_0 : Vec Ideal S512x1024 .f32) (ix2 p k) : EReal) * (View.ld x1 r0_1 : Vec Ideal S1x704x1024 .bf16) (ix3 0 q k)) = entry x0 x1 0 p q := by
  refine Finset.sum_congr rfl fun k _ => congrArg₂ (fun u v : EReal => u * v) (congrFun (View.ld_unit_zero (S := S512x1024) at00 _ x0) (ix2 p k)) ?_
  refine View.ld_unit_apply_of x1 _ _ _ _ _ fun a => ?_
  match a with
  | ⟨0, _⟩ => rfl
  | ⟨1, _⟩ => show q.val = 0 + q.val; omega
  | ⟨2, _⟩ => show k.val = 0 + k.val; omega

theorem gate_piece_0 (x0 : Vec Ideal S512x1024 .f32) (x1 : Vec Ideal S4x704x1024 .bf16) (x2 x3 : Vec Ideal S4x512x704 .bf16) (x : S1x512x704.Idx) :
    k0_pay7 (View.ld x0 r0_0) (View.ld x1 r0_1) (View.ld x2 r0_2) (View.ld x3 r0_2) x = gateBlock x0 x1 x2 x3 (r0_2.emb x) := by
  have h (p : Fin 512) (q : Fin 704) : k0_pay7 (View.ld x0 r0_0) (View.ld x1 r0_1) (View.ld x2 r0_2) (View.ld x3 r0_2) (ix3 0 p q)
      = gateBlock x0 x1 x2 x3 (ix3 (0 : Fin 4) p q) := by
    rw [gate_apply, row_0, row_0, entry_0]
    rfl
  exact ((congrArg _ (ix_of x)).trans (h (x 1) (x 2))).trans (congrArg _ ((emb_0 (x 1) (x 2)).symm.trans (congrArg _ (ix_of x).symm)))

theorem up_piece_0 (x0 : Vec Ideal S512x1024 .f32) (x1 : Vec Ideal S4x704x1024 .bf16) (x2 x3 : Vec Ideal S4x512x704 .bf16) (x : S1x512x704.Idx) :
    k0_pay8 (View.ld x0 r0_0) (View.ld x1 r0_1) (View.ld x2 r0_2) x = upBlock x0 x1 x2 (r0_2.emb x) := by
  have h (p : Fin 512) (q : Fin 704) : k0_pay8 (View.ld x0 r0_0) (View.ld x1 r0_1) (View.ld x2 r0_2) (ix3 0 p q)
      = upBlock x0 x1 x2 (ix3 (0 : Fin 4) p q) := by
    rw [up_apply, row_0, entry_0]
    rfl
  exact ((congrArg _ (ix_of x)).trans (h (x 1) (x 2))).trans (congrArg _ ((emb_0 (x 1) (x 2)).symm.trans (congrArg _ (ix_of x).symm)))

theorem emb_1 (p : Fin 512) (q : Fin 704) : r0_4.emb (ix3 (0 : Fin 1) p q) = ix3 (1 : Fin 4) p q := funext fun a => Fin.ext (by
  match a with
  | ⟨0, _⟩ => rfl
  | ⟨1, _⟩ => show 0 + 1 * p.val = p.val; omega
  | ⟨2, _⟩ => show 0 + 1 * q.val = q.val; omega)

theorem row_1 (x : Vec Ideal S4x512x704 .bf16) (p : Fin 512) (q : Fin 704) : View.ld x r0_4 (ix3 (0 : Fin 1) p q) = x (ix3 (1 : Fin 4) p q) := by
  refine View.ld_unit_apply_of x _ _ _ _ _ fun a => ?_
  match a with
  | ⟨0, _⟩ => rfl
  | ⟨1, _⟩ => show p.val = 0 + p.val; omega
  | ⟨2, _⟩ => show q.val = 0 + q.val; omega

theorem entry_1 (x0 : Vec Ideal S512x1024 .f32) (x1 : Vec Ideal S4x704x1024 .bf16) (p : Fin 512) (q : Fin 704) :
    (∑ k : Fin 1024, ((View.ld x0 r0_0 : Vec Ideal S512x1024 .f32) (ix2 p k) : EReal) * (View.ld x1 r0_3 : Vec Ideal S1x704x1024 .bf16) (ix3 0 q k)) = entry x0 x1 1 p q := by
  refine Finset.sum_congr rfl fun k _ => congrArg₂ (fun u v : EReal => u * v) (congrFun (View.ld_unit_zero (S := S512x1024) at00 _ x0) (ix2 p k)) ?_
  refine View.ld_unit_apply_of x1 _ _ _ _ _ fun a => ?_
  match a with
  | ⟨0, _⟩ => rfl
  | ⟨1, _⟩ => show q.val = 0 + q.val; omega
  | ⟨2, _⟩ => show k.val = 0 + k.val; omega

theorem gate_piece_1 (x0 : Vec Ideal S512x1024 .f32) (x1 : Vec Ideal S4x704x1024 .bf16) (x2 x3 : Vec Ideal S4x512x704 .bf16) (x : S1x512x704.Idx) :
    k0_pay7 (View.ld x0 r0_0) (View.ld x1 r0_3) (View.ld x2 r0_4) (View.ld x3 r0_4) x = gateBlock x0 x1 x2 x3 (r0_4.emb x) := by
  have h (p : Fin 512) (q : Fin 704) : k0_pay7 (View.ld x0 r0_0) (View.ld x1 r0_3) (View.ld x2 r0_4) (View.ld x3 r0_4) (ix3 0 p q)
      = gateBlock x0 x1 x2 x3 (ix3 (1 : Fin 4) p q) := by
    rw [gate_apply, row_1, row_1, entry_1]
    rfl
  exact ((congrArg _ (ix_of x)).trans (h (x 1) (x 2))).trans (congrArg _ ((emb_1 (x 1) (x 2)).symm.trans (congrArg _ (ix_of x).symm)))

theorem up_piece_1 (x0 : Vec Ideal S512x1024 .f32) (x1 : Vec Ideal S4x704x1024 .bf16) (x2 x3 : Vec Ideal S4x512x704 .bf16) (x : S1x512x704.Idx) :
    k0_pay8 (View.ld x0 r0_0) (View.ld x1 r0_3) (View.ld x2 r0_4) x = upBlock x0 x1 x2 (r0_4.emb x) := by
  have h (p : Fin 512) (q : Fin 704) : k0_pay8 (View.ld x0 r0_0) (View.ld x1 r0_3) (View.ld x2 r0_4) (ix3 0 p q)
      = upBlock x0 x1 x2 (ix3 (1 : Fin 4) p q) := by
    rw [up_apply, row_1, entry_1]
    rfl
  exact ((congrArg _ (ix_of x)).trans (h (x 1) (x 2))).trans (congrArg _ ((emb_1 (x 1) (x 2)).symm.trans (congrArg _ (ix_of x).symm)))

theorem emb_2 (p : Fin 512) (q : Fin 704) : r0_6.emb (ix3 (0 : Fin 1) p q) = ix3 (2 : Fin 4) p q := funext fun a => Fin.ext (by
  match a with
  | ⟨0, _⟩ => rfl
  | ⟨1, _⟩ => show 0 + 1 * p.val = p.val; omega
  | ⟨2, _⟩ => show 0 + 1 * q.val = q.val; omega)

theorem row_2 (x : Vec Ideal S4x512x704 .bf16) (p : Fin 512) (q : Fin 704) : View.ld x r0_6 (ix3 (0 : Fin 1) p q) = x (ix3 (2 : Fin 4) p q) := by
  refine View.ld_unit_apply_of x _ _ _ _ _ fun a => ?_
  match a with
  | ⟨0, _⟩ => rfl
  | ⟨1, _⟩ => show p.val = 0 + p.val; omega
  | ⟨2, _⟩ => show q.val = 0 + q.val; omega

theorem entry_2 (x0 : Vec Ideal S512x1024 .f32) (x1 : Vec Ideal S4x704x1024 .bf16) (p : Fin 512) (q : Fin 704) :
    (∑ k : Fin 1024, ((View.ld x0 r0_0 : Vec Ideal S512x1024 .f32) (ix2 p k) : EReal) * (View.ld x1 r0_5 : Vec Ideal S1x704x1024 .bf16) (ix3 0 q k)) = entry x0 x1 2 p q := by
  refine Finset.sum_congr rfl fun k _ => congrArg₂ (fun u v : EReal => u * v) (congrFun (View.ld_unit_zero (S := S512x1024) at00 _ x0) (ix2 p k)) ?_
  refine View.ld_unit_apply_of x1 _ _ _ _ _ fun a => ?_
  match a with
  | ⟨0, _⟩ => rfl
  | ⟨1, _⟩ => show q.val = 0 + q.val; omega
  | ⟨2, _⟩ => show k.val = 0 + k.val; omega

theorem gate_piece_2 (x0 : Vec Ideal S512x1024 .f32) (x1 : Vec Ideal S4x704x1024 .bf16) (x2 x3 : Vec Ideal S4x512x704 .bf16) (x : S1x512x704.Idx) :
    k0_pay7 (View.ld x0 r0_0) (View.ld x1 r0_5) (View.ld x2 r0_6) (View.ld x3 r0_6) x = gateBlock x0 x1 x2 x3 (r0_6.emb x) := by
  have h (p : Fin 512) (q : Fin 704) : k0_pay7 (View.ld x0 r0_0) (View.ld x1 r0_5) (View.ld x2 r0_6) (View.ld x3 r0_6) (ix3 0 p q)
      = gateBlock x0 x1 x2 x3 (ix3 (2 : Fin 4) p q) := by
    rw [gate_apply, row_2, row_2, entry_2]
    rfl
  exact ((congrArg _ (ix_of x)).trans (h (x 1) (x 2))).trans (congrArg _ ((emb_2 (x 1) (x 2)).symm.trans (congrArg _ (ix_of x).symm)))

theorem up_piece_2 (x0 : Vec Ideal S512x1024 .f32) (x1 : Vec Ideal S4x704x1024 .bf16) (x2 x3 : Vec Ideal S4x512x704 .bf16) (x : S1x512x704.Idx) :
    k0_pay8 (View.ld x0 r0_0) (View.ld x1 r0_5) (View.ld x2 r0_6) x = upBlock x0 x1 x2 (r0_6.emb x) := by
  have h (p : Fin 512) (q : Fin 704) : k0_pay8 (View.ld x0 r0_0) (View.ld x1 r0_5) (View.ld x2 r0_6) (ix3 0 p q)
      = upBlock x0 x1 x2 (ix3 (2 : Fin 4) p q) := by
    rw [up_apply, row_2, entry_2]
    rfl
  exact ((congrArg _ (ix_of x)).trans (h (x 1) (x 2))).trans (congrArg _ ((emb_2 (x 1) (x 2)).symm.trans (congrArg _ (ix_of x).symm)))

theorem emb_3 (p : Fin 512) (q : Fin 704) : r0_8.emb (ix3 (0 : Fin 1) p q) = ix3 (3 : Fin 4) p q := funext fun a => Fin.ext (by
  match a with
  | ⟨0, _⟩ => rfl
  | ⟨1, _⟩ => show 0 + 1 * p.val = p.val; omega
  | ⟨2, _⟩ => show 0 + 1 * q.val = q.val; omega)

theorem row_3 (x : Vec Ideal S4x512x704 .bf16) (p : Fin 512) (q : Fin 704) : View.ld x r0_8 (ix3 (0 : Fin 1) p q) = x (ix3 (3 : Fin 4) p q) := by
  refine View.ld_unit_apply_of x _ _ _ _ _ fun a => ?_
  match a with
  | ⟨0, _⟩ => rfl
  | ⟨1, _⟩ => show p.val = 0 + p.val; omega
  | ⟨2, _⟩ => show q.val = 0 + q.val; omega

theorem entry_3 (x0 : Vec Ideal S512x1024 .f32) (x1 : Vec Ideal S4x704x1024 .bf16) (p : Fin 512) (q : Fin 704) :
    (∑ k : Fin 1024, ((View.ld x0 r0_0 : Vec Ideal S512x1024 .f32) (ix2 p k) : EReal) * (View.ld x1 r0_7 : Vec Ideal S1x704x1024 .bf16) (ix3 0 q k)) = entry x0 x1 3 p q := by
  refine Finset.sum_congr rfl fun k _ => congrArg₂ (fun u v : EReal => u * v) (congrFun (View.ld_unit_zero (S := S512x1024) at00 _ x0) (ix2 p k)) ?_
  refine View.ld_unit_apply_of x1 _ _ _ _ _ fun a => ?_
  match a with
  | ⟨0, _⟩ => rfl
  | ⟨1, _⟩ => show q.val = 0 + q.val; omega
  | ⟨2, _⟩ => show k.val = 0 + k.val; omega

theorem gate_piece_3 (x0 : Vec Ideal S512x1024 .f32) (x1 : Vec Ideal S4x704x1024 .bf16) (x2 x3 : Vec Ideal S4x512x704 .bf16) (x : S1x512x704.Idx) :
    k0_pay7 (View.ld x0 r0_0) (View.ld x1 r0_7) (View.ld x2 r0_8) (View.ld x3 r0_8) x = gateBlock x0 x1 x2 x3 (r0_8.emb x) := by
  have h (p : Fin 512) (q : Fin 704) : k0_pay7 (View.ld x0 r0_0) (View.ld x1 r0_7) (View.ld x2 r0_8) (View.ld x3 r0_8) (ix3 0 p q)
      = gateBlock x0 x1 x2 x3 (ix3 (3 : Fin 4) p q) := by
    rw [gate_apply, row_3, row_3, entry_3]
    rfl
  exact ((congrArg _ (ix_of x)).trans (h (x 1) (x 2))).trans (congrArg _ ((emb_3 (x 1) (x 2)).symm.trans (congrArg _ (ix_of x).symm)))

theorem up_piece_3 (x0 : Vec Ideal S512x1024 .f32) (x1 : Vec Ideal S4x704x1024 .bf16) (x2 x3 : Vec Ideal S4x512x704 .bf16) (x : S1x512x704.Idx) :
    k0_pay8 (View.ld x0 r0_0) (View.ld x1 r0_7) (View.ld x2 r0_8) x = upBlock x0 x1 x2 (r0_8.emb x) := by
  have h (p : Fin 512) (q : Fin 704) : k0_pay8 (View.ld x0 r0_0) (View.ld x1 r0_7) (View.ld x2 r0_8) (ix3 0 p q)
      = upBlock x0 x1 x2 (ix3 (3 : Fin 4) p q) := by
    rw [up_apply, row_3, entry_3]
    rfl
  exact ((congrArg _ (ix_of x)).trans (h (x 1) (x 2))).trans (congrArg _ ((emb_3 (x 1) (x 2)).symm.trans (congrArg _ (ix_of x).symm)))

theorem out_eq4 (x0 : Vec Ideal S512x1024 .f32) (x1 : Vec Ideal S4x704x1024 .bf16) (x2 x3 : Vec Ideal S4x512x704 .bf16) : out0_4 x0 x1 x2 x3 = gateBlock x0 x1 x2 x3 := by
  have h : out0_4 x0 x1 x2 x3 = View.canon [⟨r0_8, k0_pay7 (View.ld x0 r0_0) (View.ld x1 r0_7) (View.ld x2 r0_8) (View.ld x3 r0_8)⟩, ⟨r0_6, k0_pay7 (View.ld x0 r0_0) (View.ld x1 r0_5) (View.ld x2 r0_6) (View.ld x3 r0_6)⟩, ⟨r0_4, k0_pay7 (View.ld x0 r0_0) (View.ld x1 r0_3) (View.ld x2 r0_4) (View.ld x3 r0_4)⟩, ⟨r0_2, k0_pay7 (View.ld x0 r0_0) (View.ld x1 r0_1) (View.ld x2 r0_2) (View.ld x3 r0_2)⟩] := rfl
  rw [h]
  funext y
  exact View.canon_apply_of_pieces (gateBlock x0 x1 x2 x3) _ (View.PiecesOf.mem (G := gateBlock x0 x1 x2 x3) (L := [⟨r0_8, k0_pay7 (View.ld x0 r0_0) (View.ld x1 r0_7) (View.ld x2 r0_8) (View.ld x3 r0_8)⟩, ⟨r0_6, k0_pay7 (View.ld x0 r0_0) (View.ld x1 r0_5) (View.ld x2 r0_6) (View.ld x3 r0_6)⟩, ⟨r0_4, k0_pay7 (View.ld x0 r0_0) (View.ld x1 r0_3) (View.ld x2 r0_4) (View.ld x3 r0_4)⟩, ⟨r0_2, k0_pay7 (View.ld x0 r0_0) (View.ld x1 r0_1) (View.ld x2 r0_2) (View.ld x3 r0_2)⟩])
    ⟨gate_piece_3 x0 x1 x2 x3, gate_piece_2 x0 x1 x2 x3, gate_piece_1 x0 x1 x2 x3, gate_piece_0 x0 x1 x2 x3, trivial⟩) y (cover0_4 _ _ _ _ y)

theorem out_eq5 (x0 : Vec Ideal S512x1024 .f32) (x1 : Vec Ideal S4x704x1024 .bf16) (x2 x3 : Vec Ideal S4x512x704 .bf16) : out0_5 x0 x1 x2 x3 = upBlock x0 x1 x2 := by
  have h : out0_5 x0 x1 x2 x3 = View.canon [⟨r0_8, k0_pay8 (View.ld x0 r0_0) (View.ld x1 r0_7) (View.ld x2 r0_8)⟩, ⟨r0_6, k0_pay8 (View.ld x0 r0_0) (View.ld x1 r0_5) (View.ld x2 r0_6)⟩, ⟨r0_4, k0_pay8 (View.ld x0 r0_0) (View.ld x1 r0_3) (View.ld x2 r0_4)⟩, ⟨r0_2, k0_pay8 (View.ld x0 r0_0) (View.ld x1 r0_1) (View.ld x2 r0_2)⟩] := rfl
  rw [h]
  funext y
  exact View.canon_apply_of_pieces (upBlock x0 x1 x2) _ (View.PiecesOf.mem (G := upBlock x0 x1 x2) (L := [⟨r0_8, k0_pay8 (View.ld x0 r0_0) (View.ld x1 r0_7) (View.ld x2 r0_8)⟩, ⟨r0_6, k0_pay8 (View.ld x0 r0_0) (View.ld x1 r0_5) (View.ld x2 r0_6)⟩, ⟨r0_4, k0_pay8 (View.ld x0 r0_0) (View.ld x1 r0_3) (View.ld x2 r0_4)⟩, ⟨r0_2, k0_pay8 (View.ld x0 r0_0) (View.ld x1 r0_1) (View.ld x2 r0_2)⟩])
    ⟨up_piece_3 x0 x1 x2 x3, up_piece_2 x0 x1 x2 x3, up_piece_1 x0 x1 x2 x3, up_piece_0 x0 x1 x2 x3, trivial⟩) y (cover0_5 _ _ _ _ y)

/-- A point's entries of the product. -/
theorem entry_value (c : Dev nD) (t : Fin cfg0.N) (i : Fin 16) (ht : t.val = i.val) (s : Fin 4) (p : Fin 512) (q : Fin 704) :
    entry (iblk m c 0 t) (iblk m c 1 t) s p q = prodT (arg0 m c) (arg1 m c) (ix2 ⟨512 * i.val + p.val, block_lt rfl i p⟩ ⟨704 * s.val + q.val, block_lt rfl s q⟩) :=
  Finset.sum_congr rfl fun k _ => congrArg₂ (fun u v : EReal => u * v) (block0 m c t i ht p k) (block1 m c t i ht s q k)

theorem value4 (c : Dev nD) (t : Fin cfg0.N) (i : Fin 16) (ht : t.val = i.val) (s : Fin 4) (p : Fin 512) (q : Fin 704) :
    out0_4 (iblk m c 0 t) (iblk m c 1 t) (iblk m c 2 t) (iblk m c 3 t) (ix3 s p q)
      = (shards rfl (Act.gates (prodT (arg0 m c) (arg1 m c)) (arg2 m c) (arg3 m c)) : Stack 4 8192 704) (ix3 s ⟨512 * i.val + p.val, block_lt rfl i p⟩ q) := by
  rw [out_eq4]
  show Act.gateGrad (entry (iblk m c 0 t) (iblk m c 1 t) s p q) ((iblk m c 2 t : Vec Ideal S4x512x704 .bf16) (ix3 s p q)) ((iblk m c 3 t : Vec Ideal S4x512x704 .bf16) (ix3 s p q)) = _
  rw [entry_value m c t i ht s p q, block2 m c t i ht s p q, block3 m c t i ht s p q]
  rfl

theorem value5 (c : Dev nD) (t : Fin cfg0.N) (i : Fin 16) (ht : t.val = i.val) (s : Fin 4) (p : Fin 512) (q : Fin 704) :
    out0_5 (iblk m c 0 t) (iblk m c 1 t) (iblk m c 2 t) (iblk m c 3 t) (ix3 s p q)
      = (shards rfl (Act.ups (prodT (arg0 m c) (arg1 m c)) (arg2 m c)) : Stack 4 8192 704) (ix3 s ⟨512 * i.val + p.val, block_lt rfl i p⟩ q) := by
  rw [out_eq5]
  show Act.upGrad (entry (iblk m c 0 t) (iblk m c 1 t) s p q) ((iblk m c 2 t : Vec Ideal S4x512x704 .bf16) (ix3 s p q)) = _
  rw [entry_value m c t i ht s p q, block2 m c t i ht s p q]
  rfl

theorem flushed_eq4 (c : Dev nD) (t : Fin cfg0.N) (hf : (cfg0.win 4).flush t = true) :
    (dats m 0 c).flushed 4 t = ((cfg0.win 4).blk t).view.read (Elt Ideal) ((shards rfl (Act.gates (prodT (arg0 m c) (arg1 m c)) (arg2 m c) (arg3 m c)) : Stack 4 8192 704)) := by
  have hT := t.isLt
  have hN : cfg0.N = 16 := N_0
  have h := index4 t
  rw [flushed4]
  funext y
  rw [View.read_apply]
  obtain ⟨i, ht⟩ : ∃ (i : Fin 16), t.val = i.val := ⟨⟨t.val, by omega⟩, by show t.val = _; rfl⟩
  have hy : (((cfg0.win 4).blk t).view.emb y) = ix3 (y 0 : Fin 4) (⟨512 * i.val + (y 1 : Fin 512).val, block_lt rfl i (y 1 : Fin 512)⟩ : Fin 8192) (y 2 : Fin 704) := funext fun a => Fin.ext (by
    match a with
    | ⟨0, _⟩ => show win0_4.index t 0 * 4 + 1 * (y 0).val = (y 0).val; rw [h.1]; omega
    | ⟨1, _⟩ => show win0_4.index t 1 * 512 + 1 * (y 1).val = 512 * i.val + (y 1).val; rw [h.2.1]; omega
    | ⟨2, _⟩ => show win0_4.index t 2 * 704 + 1 * (y 2).val = (y 2).val; rw [h.2.2]; omega)
  have y0 : y = ix3 (y 0 : Fin 4) (y 1 : Fin 512) (y 2 : Fin 704) := funext fun a => Fin.ext (by
    match a with
    | ⟨0, _⟩ => rfl
    | ⟨1, _⟩ => rfl
    | ⟨2, _⟩ => rfl)
  show (out0_4 (iblk m c 0 t) (iblk m c 1 t) (iblk m c 2 t) (iblk m c 3 t)) y = ((shards rfl (Act.gates (prodT (arg0 m c) (arg1 m c)) (arg2 m c) (arg3 m c)) : Stack 4 8192 704)) (((cfg0.win 4).blk t).view.emb y)
  rw [hy]
  exact (congrArg (out0_4 (iblk m c 0 t) (iblk m c 1 t) (iblk m c 2 t) (iblk m c 3 t)) y0).trans (value4 m c t i ht (y 0) (y 1) (y 2))

theorem final4 (c : Dev nD) : (dats m 0 c).arrAt 4 cfg0.N = ((shards rfl (Act.gates (prodT (arg0 m c) (arg1 m c)) (arg2 m c) (arg3 m c)) : Stack 4 8192 704) : Buf (Elt Ideal) ((c : Thread nD τ).loc main_v22_0)) :=
  (dats m 0 c).arrAt_eq_of_cover 4 _ (flushed_eq4 m c) fun i => by
    have hN : cfg0.N = 16 := N_0
    have b0 : (i 0 : Nat) < 4 := (i 0).isLt
    have b1 : (i 1 : Nat) < 8192 := (i 1).isLt
    have b2 : (i 2 : Nat) < 704 := (i 2).isLt
    let t : Fin cfg0.N := ⟨(i 1).val / 512, by rw [hN]; omega⟩
    have htv : t.val = (i 1).val / 512 := rfl
    refine ⟨t, flush0_4 t, ?_⟩
    have h := index4 t
    show i ∈ ((View.whole main_v22_0).slice (win0_4.rect t)).set
    rw [View.set_slice_whole, Rect.mem_set_unit]
    intro a
    match a with
    | ⟨0, _⟩ => show win0_4.index t 0 * 4 ≤ (i 0 : Nat) ∧ (i 0 : Nat) < win0_4.index t 0 * 4 + 4; rw [h.1]; omega
    | ⟨1, _⟩ => show win0_4.index t 1 * 512 ≤ (i 1 : Nat) ∧ (i 1 : Nat) < win0_4.index t 1 * 512 + 512; rw [h.2.1]; omega
    | ⟨2, _⟩ => show win0_4.index t 2 * 704 ≤ (i 2 : Nat) ∧ (i 2 : Nat) < win0_4.index t 2 * 704 + 704; rw [h.2.2]; omega

theorem flushed_eq5 (c : Dev nD) (t : Fin cfg0.N) (hf : (cfg0.win 5).flush t = true) :
    (dats m 0 c).flushed 5 t = ((cfg0.win 5).blk t).view.read (Elt Ideal) ((shards rfl (Act.ups (prodT (arg0 m c) (arg1 m c)) (arg2 m c)) : Stack 4 8192 704)) := by
  have hT := t.isLt
  have hN : cfg0.N = 16 := N_0
  have h := index5 t
  rw [flushed5]
  funext y
  rw [View.read_apply]
  obtain ⟨i, ht⟩ : ∃ (i : Fin 16), t.val = i.val := ⟨⟨t.val, by omega⟩, by show t.val = _; rfl⟩
  have hy : (((cfg0.win 5).blk t).view.emb y) = ix3 (y 0 : Fin 4) (⟨512 * i.val + (y 1 : Fin 512).val, block_lt rfl i (y 1 : Fin 512)⟩ : Fin 8192) (y 2 : Fin 704) := funext fun a => Fin.ext (by
    match a with
    | ⟨0, _⟩ => show win0_5.index t 0 * 4 + 1 * (y 0).val = (y 0).val; rw [h.1]; omega
    | ⟨1, _⟩ => show win0_5.index t 1 * 512 + 1 * (y 1).val = 512 * i.val + (y 1).val; rw [h.2.1]; omega
    | ⟨2, _⟩ => show win0_5.index t 2 * 704 + 1 * (y 2).val = (y 2).val; rw [h.2.2]; omega)
  have y0 : y = ix3 (y 0 : Fin 4) (y 1 : Fin 512) (y 2 : Fin 704) := funext fun a => Fin.ext (by
    match a with
    | ⟨0, _⟩ => rfl
    | ⟨1, _⟩ => rfl
    | ⟨2, _⟩ => rfl)
  show (out0_5 (iblk m c 0 t) (iblk m c 1 t) (iblk m c 2 t) (iblk m c 3 t)) y = ((shards rfl (Act.ups (prodT (arg0 m c) (arg1 m c)) (arg2 m c)) : Stack 4 8192 704)) (((cfg0.win 5).blk t).view.emb y)
  rw [hy]
  exact (congrArg (out0_5 (iblk m c 0 t) (iblk m c 1 t) (iblk m c 2 t) (iblk m c 3 t)) y0).trans (value5 m c t i ht (y 0) (y 1) (y 2))

theorem final5 (c : Dev nD) : (dats m 0 c).arrAt 5 cfg0.N = ((shards rfl (Act.ups (prodT (arg0 m c) (arg1 m c)) (arg2 m c)) : Stack 4 8192 704) : Buf (Elt Ideal) ((c : Thread nD τ).loc main_v22_1)) :=
  (dats m 0 c).arrAt_eq_of_cover 5 _ (flushed_eq5 m c) fun i => by
    have hN : cfg0.N = 16 := N_0
    have b0 : (i 0 : Nat) < 4 := (i 0).isLt
    have b1 : (i 1 : Nat) < 8192 := (i 1).isLt
    have b2 : (i 2 : Nat) < 704 := (i 2).isLt
    let t : Fin cfg0.N := ⟨(i 1).val / 512, by rw [hN]; omega⟩
    have htv : t.val = (i 1).val / 512 := rfl
    refine ⟨t, flush0_5 t, ?_⟩
    have h := index5 t
    show i ∈ ((View.whole main_v22_1).slice (win0_5.rect t)).set
    rw [View.set_slice_whole, Rect.mem_set_unit]
    intro a
    match a with
    | ⟨0, _⟩ => show win0_5.index t 0 * 4 ≤ (i 0 : Nat) ∧ (i 0 : Nat) < win0_5.index t 0 * 4 + 4; rw [h.1]; omega
    | ⟨1, _⟩ => show win0_5.index t 1 * 512 ≤ (i 1 : Nat) ∧ (i 1 : Nat) < win0_5.index t 1 * 512 + 512; rw [h.2.1]; omega
    | ⟨2, _⟩ => show win0_5.index t 2 * 704 ≤ (i 2 : Nat) ∧ (i 2 : Nat) < win0_5.index t 2 * 704 + 704; rw [h.2.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v22_0) = (shards rfl (Act.gates (prodT (arg0 m c) (arg1 m c)) (arg2 m c) (arg3 m c)) : Stack 4 8192 704)
      ∧ r.2.mem ((c : Thread nD τ).loc main_v22_1) = (shards rfl (Act.ups (prodT (arg0 m c) (arg1 m c)) (arg2 m c)) : Stack 4 8192 704)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.FfnActIdeal.Val

namespace Cert.FfnActReferenceIdeal.Val

open Idealize.ShloMosaic Idealize.ShloMosaic.TcCoe Idealize.ShloMosaic.ValueIdx Idealize.SL.Sem
open Cert.FfnActReferenceIdeal Cert.FfnActReferenceIdeal.Gen Cert.FfnActReferenceIdeal.Read Cert.Prods
open Cert.MixBwd (Mat Stack)

/-- The reference's product. -/
theorem product (x0 : Mat 8192 1024) (x1 : Mat 2816 1024) : (val_main_v3 (F := Ideal) x0 x1 : Mat 8192 2816) = prodT x0 x1 := by
  funext i
  refine (val_main_v3_apply x0 x1 i).trans (Finset.sum_congr rfl fun k _ => ?_)
  exact congrArg₂ (fun u v : EReal => u * v) (congrArg x0 (Shape.idx_ext₂ rfl rfl)) (congrArg x1 (Shape.idx_ext₂ rfl rfl))

/-- The reference's logistic function. -/
theorem logistic_eq (x2 : Mat 8192 2816) (i : S8192x2816.Idx) : val_main_v0_2 (F := Ideal) x2 i = Ideal.logistic (x2 i) := by
  rw [val_main_v0_2_apply, val_main_call0_v4_apply, val_main_call0_v3_apply, val_main_call0_v2_apply,
    val_main_call0_v1_apply, val_main_call0_v0_apply, val_main_call0_cst_apply, val_main_call0_cst_0_apply]
  show Ideal.div (Ideal.ofBits .f32 0x3F800000#32) (Ideal.ofBits .f32 0x3F800000#32 + Ideal.exp (-_)) = _
  rw [Idealize.ShloMosaic.Ideal.ofBits_one_f32]
  rfl

/-- The gate's gradient as the reference sums it: one part for each place of the gate in `g · sigmoid(g)`. -/
def parts (a g u : Mat 8192 2816) : Mat 8192 2816 := fun i =>
  a i * u i * Ideal.logistic (g i) + g i * (a i * u i) * (Ideal.logistic (g i) * (1 - Ideal.logistic (g i)))

theorem gate (x0 : Mat 8192 1024) (x1 : Mat 2816 1024) (x2 x3 : Mat 8192 2816) : (val_main_v6 (F := Ideal) x0 x1 x2 x3 : Mat 8192 2816) = parts (prodT x0 x1) x2 x3 := by
  funext i
  rw [val_main_v6_apply, val_main_call1_v2_apply, val_main_call1_v1_apply, val_main_call1_v0_apply, val_main_v5_apply, val_main_v0_1_apply,
    val_main_call0_v7_apply, val_main_call0_v6_apply, val_main_call0_cst_1_apply, logistic_eq, product]
  show _ * _ * _ + _ * (_ * _) * (_ * (Ideal.ofBits .f32 0x3F800000#32 - _)) = _
  rw [Idealize.ShloMosaic.Ideal.ofBits_one_f32]
  rfl

theorem up (x0 : Mat 8192 1024) (x1 : Mat 2816 1024) (x2 : Mat 8192 2816) : (val_main_v4 (F := Ideal) x0 x1 x2 : Mat 8192 2816) = Act.ups (prodT x0 x1) x2 := by
  funext i
  rw [val_main_v4_apply, val_main_v0_0_apply, logistic_eq, product]
  show x2 i * Ideal.logistic (x2 i) * prodT x0 x1 i = prodT x0 x1 i * x2 i * Ideal.logistic (x2 i)
  rw [mul_comm, mul_assoc]

theorem result16 (x0 : Mat 8192 1024) (x1 : Mat 2816 1024) (x2 x3 : Mat 8192 2816) : (val_main_v16 (F := Ideal) x0 x1 x2 x3 : Stack 4 8192 704) = shards rfl (parts (prodT x0 x1) x2 x3) := by
  funext i
  obtain ⟨j, p, k, rfl⟩ : ∃ (j : Fin 4) (p : Fin 8192) (k : Fin 704), i = ix3 j p k := ⟨i 0, i 1, i 2, funext fun a => by match a with | ⟨0, _⟩ => rfl | ⟨1, _⟩ => rfl | ⟨2, _⟩ => rfl⟩
  exact (colShards (n := 8192) (N := 2816) (w := 704) (val_main_v6 (F := Ideal) x0 x1 x2 x3 : Mat 8192 2816) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j p k).trans
    (congrFun (gate x0 x1 x2 x3) _)

theorem result26 (x0 : Mat 8192 1024) (x1 : Mat 2816 1024) (x2 : Mat 8192 2816) : (val_main_v26 (F := Ideal) x0 x1 x2 : Stack 4 8192 704) = shards rfl (Act.ups (prodT x0 x1) x2) := by
  funext i
  obtain ⟨j, p, k, rfl⟩ : ∃ (j : Fin 4) (p : Fin 8192) (k : Fin 704), i = ix3 j p k := ⟨i 0, i 1, i 2, funext fun a => by match a with | ⟨0, _⟩ => rfl | ⟨1, _⟩ => rfl | ⟨2, _⟩ => rfl⟩
  exact (colShards (n := 8192) (N := 2816) (w := 704) (val_main_v4 (F := Ideal) x0 x1 x2 : Mat 8192 2816) rfl rfl rfl rfl (by decide) (by decide)
    slices_S8192x2816_S8192x704_0_0 slices_S8192x2816_S8192x704_0_704 slices_S8192x2816_S8192x704_0_1408 slices_S8192x2816_S8192x704_0_2112
    bcast_S8192x704_S1x8192x704_1_2 concatenates_S1x8192x704_S1x8192x704_S1x8192x704_S1x8192x704_S4x8192x704_d0 j p k).trans
    (congrFun (up x0 x1 x2) _)

/-- A sum of products of reals is real. -/
theorem prodT_real (x0 : Mat 8192 1024) (x1 : Mat 2816 1024) (h0 : ∀ i, ∃ r : ℝ, x0 i = r) (h1 : ∀ i, ∃ r : ℝ, x1 i = r) (i : S8192x2816.Idx) :
    ∃ r : ℝ, prodT x0 x1 i = r := by
  refine Act.sum_real _ fun k => ?_
  obtain ⟨a, ha⟩ := h0 (ix2 (i 0 : Fin 8192) k)
  obtain ⟨b, hb⟩ := h1 (ix2 (i 1 : Fin 2816) k)
  exact ⟨a * b, (congrArg₂ (fun u v : EReal => u * v) ha hb).trans (EReal.coe_mul a b).symm⟩

/-- The two forms of the gate's gradient agree where the cotangent, the weight and the other factor are real. -/
theorem parts_eq (x0 : Mat 8192 1024) (x1 : Mat 2816 1024) (x2 x3 : Mat 8192 2816) (h0 : ∀ i, ∃ r : ℝ, x0 i = r) (h1 : ∀ i, ∃ r : ℝ, x1 i = r) (h3 : ∀ i, ∃ r : ℝ, x3 i = r) :
    parts (prodT x0 x1) x2 x3 = Act.gates (prodT x0 x1) x2 x3 := by
  funext i
  obtain ⟨a, ha⟩ := prodT_real x0 x1 h0 h1 i
  obtain ⟨u, hu⟩ := h3 i
  show prodT x0 x1 i * x3 i * Ideal.logistic (x2 i) + x2 i * (prodT x0 x1 i * x3 i) * (Ideal.logistic (x2 i) * (1 - Ideal.logistic (x2 i)))
    = Act.gateGrad (prodT x0 x1 i) (x2 i) (x3 i)
  rw [ha, hu]
  exact Act.gateGrad_eq a u (x2 i)

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v16) = (shards rfl (parts (prodT (m ((c : Thread nD τ).loc main_arg0)) (m ((c : Thread nD τ).loc main_arg1))) (m ((c : Thread nD τ).loc main_arg2)) (m ((c : Thread nD τ).loc main_arg3))) : Stack 4 8192 704)
      ∧ r.2.mem ((c : Thread nD τ).loc main_v26) = (shards rfl (Act.ups (prodT (m ((c : Thread nD τ).loc main_arg0)) (m ((c : Thread nD τ).loc main_arg1))) (m ((c : Thread nD τ).loc main_arg2))) : Stack 4 8192 704)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v16_eq m c)).trans (result16 (m ((c : Thread nD τ).loc main_arg0)) (m ((c : Thread nD τ).loc main_arg1)) (m ((c : Thread nD τ).loc main_arg2)) (m ((c : Thread nD τ).loc main_arg3))),
      ((h c).2.1.trans (val_main_v26_eq (m ((c : Thread nD τ).loc main_arg0)) (m ((c : Thread nD τ).loc main_arg1)) (m ((c : Thread nD τ).loc main_arg2)))).trans (result26 (m ((c : Thread nD τ).loc main_arg0)) (m ((c : Thread nD τ).loc main_arg1)) (m ((c : Thread nD τ).loc main_arg2))),
      (h c).2.2⟩)
    (Cert.FfnActReferenceIdeal.Value.run m ρ)

end Cert.FfnActReferenceIdeal.Val

end
-- ==== Proof.FfnActClaims.lean ====
/-
  The claims about the call `FfnAct`, from one run of each program: the frames, and the equality of the kernel's
  results with the reference's at the ideal instance.
-/
module

public import proofs.«01_k».proof.Defs
public import proofs.«01_k».proof.Proof.FfnAct
public import proofs.«01_k».proof.Proof.Gen.FfnAct
public import proofs.«01_k».proof.Proof.Gen.FfnAct.Frame
public import proofs.«01_k».proof.Proof.Gen.FfnActIdeal.Frame
public import proofs.«01_k».proof.Proof.Gen.FfnActReferenceIdeal.Run
public import proofs.«01_k».proof.Proof.Gen.Pre_finite_factors
public import Idealize.ShloMosaic.Adequacy
public import Idealize.ShloMosaic.Init

@[expose] public section

set_option maxRecDepth 16384

noncomputable section

namespace Cert.Proof.FfnActClaims

open Idealize.ShloMosaic Idealize.ShloMosaic.TcCoe Idealize.SL.Sem
open Cert.Prods

/-- The kernel runs and leaves its arguments unchanged. -/
theorem frame_kernel : Cert.quiescent_FfnAct (hFfnAct := Cert.FfnAct.Gen.facts) := fun m ρ _ => Cert.FfnAct.Gen.frame m ρ

/-- So does its ideal reading, -/
theorem frame_ideal : Cert.quiescent_FfnActIdeal (hFfnActIdeal := Cert.FfnActIdeal.Gen.facts) := fun m ρ _ => Cert.FfnActIdeal.Gen.frame m ρ

/-- and so does the reference. -/
theorem frame_reference : Cert.quiescent_FfnActReferenceIdeal (hFfnActReferenceIdeal := Cert.FfnActReferenceIdeal.Gen.facts) := fun m ρ _ =>
  (θ_run Cert.FfnActReferenceIdeal.defs _ _).mono (fun r h => ⟨fun c => (h c).2.2, sem_eq_zero_of_no_sems (by decide) r.2⟩)
    (Cert.FfnActReferenceIdeal.Value.run m ρ)

/-- The ideal programs' frames under the precondition: they hold without it. -/
theorem frame_ideal_pre : Cert.quiescent_FfnActIdeal_pre_finite_factors (hFfnActIdeal := Cert.FfnActIdeal.Gen.facts) (hPre_finite_factors := Cert.Pre_finite_factors.Gen.facts) :=
  fun m ρ _ => Cert.FfnActIdeal.Gen.frame m ρ

theorem frame_reference_pre : Cert.quiescent_FfnActReferenceIdeal_pre_finite_factors (hFfnActReferenceIdeal := Cert.FfnActReferenceIdeal.Gen.facts) (hPre_finite_factors := Cert.Pre_finite_factors.Gen.facts) :=
  fun m ρ _ => frame_reference m ρ trivial

/-- Where `|x| < ∞` everywhere, `x` is real everywhere. -/
theorem real_of {s : Shape} (x : FVec Ideal s .f32) {h : (⟨0, ![]⟩ : Shape).BroadcastsInDim s (![] : Fin 0 → Fin s.rank)}
    (hx : cmpf .olt (Host.absf x) (broadcastInDim s ![] h (constant (F := Ideal) ⟨0, ![]⟩ .f32 0x7F800000#32)) = fun _ => 1#1) (i : s.Idx) : ∃ r : ℝ, x i = r := by
  have htop : Ideal.ofBits .f32 0x7F800000#32 = ⊤ := by simp [Ideal.ofBits, Ideal.ieee]
  have e : Ideal.cmp .olt (max (x i : EReal) (-(x i : EReal))) (Ideal.ofBits .f32 0x7F800000#32) = 1#1 := congrFun hx i
  rw [htop] at e
  have hlt : max (x i : EReal) (-(x i : EReal)) < ⊤ := by
    by_contra hn
    unfold Ideal.cmp at e
    simp [hn] at e
  rw [max_lt_iff] at hlt
  refine ⟨EReal.toReal (x i), (EReal.coe_toReal hlt.1.ne fun hb => ?_).symm⟩
  have hl := hlt.2
  rw [hb] at hl
  simp at hl

/-- The kernel's results are the reference's. -/
theorem algebraic : Cert.algebraic_FfnActIdeal_FfnActReferenceIdeal_pre_finite_factors (hFfnActIdeal := Cert.FfnActIdeal.Gen.facts) (hFfnActReferenceIdeal := Cert.FfnActReferenceIdeal.Gen.facts) (hPre_finite_factors := Cert.Pre_finite_factors.Gen.facts) := by
  intro m ρ m' ρ' hp hag
  refine ⟨_, _, Cert.FfnActIdeal.Val.run m ρ, (θ_run _ _ _).mono (fun _ h c => ?_) (Cert.FfnActReferenceIdeal.Val.run m' ρ')⟩
  have hc := h c
  obtain ⟨e0, e1, e2, e3⟩ := hag c
  rw [e0, e1, e2, e3] at hc
  obtain ⟨h0, h1, h2, h3, h4, h5⟩ := hc
  exact ⟨h0.trans (congrArg (shards rfl) (Cert.FfnActReferenceIdeal.Val.parts_eq _ _ _ _ (real_of _ (hp c).1) (real_of _ (hp c).2.1) (real_of _ (hp c).2.2))), h1, h2.trans e0.symm, h3.trans e1.symm, h4.trans e2.symm, h5.trans e3.symm⟩

end Cert.Proof.FfnActClaims

end
-- ==== Proof.FfnDh.lean ====
/-
  The gradient through the feed-forward gate and up products and the norm before them, over the extended reals: each of the
  16 points computes 512 rows of `dg · w_gateᵀ + du · w_upᵀ`, the inner axes in four shards, the norm's gradient added to the
  residual's cotangent, and those rows' part of the gain's gradient, which is carried over the points.
-/
module

public import proofs.«01_k».proof.Proof.NormBack
public import proofs.«01_k».proof.Proof.Gen.FfnDhIdeal.Value
public import proofs.«01_k».proof.Proof.Gen.FfnDhReferenceIdeal.Read
public import proofs.«01_k».proof.Proof.Gen.FfnDhReferenceIdeal.Run
public import Idealize.ShloMosaic.Lib.StableHlo.RunRead
public import Idealize.ShloMosaic.Lib.Pipeline.ValueKit.Tiles

@[expose] public section

set_option maxRecDepth 16384

noncomputable section

namespace Cert.FfnDhIdeal.Val

open Idealize.ShloMosaic Idealize.ShloMosaic.TcCoe Idealize.ShloMosaic.ValueIdx Idealize.SL.Sem
open Cert.FfnDhIdeal Cert.FfnDhIdeal.Gen Cert.FfnDhIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 2816 := m ((c : Thread nD τ).loc main_arg0)
abbrev arg1 (c : Dev nD) : Mat 8192 2816 := m ((c : Thread nD τ).loc main_arg1)
abbrev arg2 (c : Dev nD) : Mat 1024 2816 := m ((c : Thread nD τ).loc main_arg2)
abbrev arg3 (c : Dev nD) : Mat 1024 2816 := m ((c : Thread nD τ).loc main_arg3)
abbrev arg4 (c : Dev nD) : Mat 8192 1024 := m ((c : Thread nD τ).loc main_arg4)
abbrev arg5 (c : Dev nD) : Mat 1 1024 := m ((c : Thread nD τ).loc main_arg5)
abbrev arg6 (c : Dev nD) : Mat 8192 1024 := m ((c : Thread nD τ).loc main_arg6)

theorem host0 (c : Dev nD) (j : Fin 4) (p : Fin 8192) (q : Fin 704) :
    V m c main_v9 (ix3 j p q) = arg0 m c (ix2 p ⟨704 * j.val + q.val, block_lt rfl j q⟩) := by
  have e : V m c main_v9 = truncf (F := Ideal) FTy.bf16 (concatenate S4x8192x704 0 [⟨S1x8192x704, StableHlo.upto hostOps0 (fun b => m (c, b)) 8 (Proc.tc.devRef main_v4)⟩, ⟨S1x8192x704, StableHlo.upto hostOps0 (fun b => m (c, b)) 8 (Proc.tc.devRef main_v5)⟩, ⟨S1x8192x704, StableHlo.upto hostOps0 (fun b => m (c, b)) 8 (Proc.tc.devRef main_v6)⟩, ⟨S1x8192x704, StableHlo.upto hostOps0 (fun b => m (c, b)) 8 (Proc.tc.devRef main_v7)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 8 (Proc.tc.devRef main_v4) = broadcastInDim S1x8192x704 ![1, 2] bcast_S8192x704_S1x8192x704_1_2 (extractStridedSlice S8192x704 ![0, 0] (m (c, Proc.tc.devRef main_arg0) : Vec Ideal S8192x2816 .f32) slices_S8192x2816_S8192x704_0_0) := by
    after_reads_simp
  have u1 : StableHlo.upto hostOps0 (fun b => m (c, b)) 8 (Proc.tc.devRef main_v5) = broadcastInDim S1x8192x704 ![1, 2] bcast_S8192x704_S1x8192x704_1_2 (extractStridedSlice S8192x704 ![0, 704] (m (c, Proc.tc.devRef main_arg0) : Vec Ideal S8192x2816 .f32) slices_S8192x2816_S8192x704_0_704) := by
    after_reads_simp
  have u2 : StableHlo.upto hostOps0 (fun b => m (c, b)) 8 (Proc.tc.devRef main_v6) = broadcastInDim S1x8192x704 ![1, 2] bcast_S8192x704_S1x8192x704_1_2 (extractStridedSlice S8192x704 ![0, 1408] (m (c, Proc.tc.devRef main_arg0) : Vec Ideal S8192x2816 .f32) slices_S8192x2816_S8192x704_0_1408) := by
    after_reads_simp
  have u3 : StableHlo.upto hostOps0 (fun b => m (c, b)) 8 (Proc.tc.devRef main_v7) = broadcastInDim S1x8192x704 ![1, 2] bcast_S8192x704_S1x8192x704_1_2 (extractStridedSlice S8192x704 ![0, 2112] (m (c, Proc.tc.devRef main_arg0) : Vec Ideal S8192x2816 .f32) slices_S8192x2816_S8192x704_0_2112) := by
    after_reads_simp
  rw [e, u0, u1, u2, u3]
  exact colShards (n := 8192) (N := 2816) (w := 704) (arg0 m c) rfl rfl rfl rfl (by decide) (by decide)
    slices_S8192x2816_S8192x704_0_0 slices_S8192x2816_S8192x704_0_704 slices_S8192x2816_S8192x704_0_1408 slices_S8192x2816_S8192x704_0_2112 bcast_S8192x704_S1x8192x704_1_2
    concatenates_S1x8192x704_S1x8192x704_S1x8192x704_S1x8192x704_S4x8192x704_d0 j p q

theorem host1 (c : Dev nD) (j : Fin 4) (p : Fin 8192) (q : Fin 704) :
    V m c main_v29 (ix3 j p q) = arg1 m c (ix2 p ⟨704 * j.val + q.val, block_lt rfl j q⟩) := by
  have e : V m c main_v29 = truncf (F := Ideal) FTy.bf16 (concatenate S4x8192x704 0 [⟨S1x8192x704, StableHlo.upto hostOps0 (fun b => m (c, b)) 28 (Proc.tc.devRef main_v24)⟩, ⟨S1x8192x704, StableHlo.upto hostOps0 (fun b => m (c, b)) 28 (Proc.tc.devRef main_v25)⟩, ⟨S1x8192x704, StableHlo.upto hostOps0 (fun b => m (c, b)) 28 (Proc.tc.devRef main_v26)⟩, ⟨S1x8192x704, StableHlo.upto hostOps0 (fun b => m (c, b)) 28 (Proc.tc.devRef main_v27)⟩]
      concatenates_S1x8192x704_S1x8192x704_S1x8192x704_S1x8192x704_S4x8192x704_d0 : Vec Ideal S4x8192x704 .f32) bitsLt_bf16_f32 := by
    unfold V
    after_reads_simp
    rfl
  have u0 : StableHlo.upto hostOps0 (fun b => m (c, b)) 28 (Proc.tc.devRef main_v24) = broadcastInDim S1x8192x704 ![1, 2] bcast_S8192x704_S1x8192x704_1_2 (extractStridedSlice S8192x704 ![0, 0] (m (c, Proc.tc.devRef main_arg1) : Vec Ideal S8192x2816 .f32) slices_S8192x2816_S8192x704_0_0) := by
    after_reads_simp
  have u1 : StableHlo.upto hostOps0 (fun b => m (c, b)) 28 (Proc.tc.devRef main_v25) = broadcastInDim S1x8192x704 ![1, 2] bcast_S8192x704_S1x8192x704_1_2 (extractStridedSlice S8192x704 ![0, 704] (m (c, Proc.tc.devRef main_arg1) : Vec Ideal S8192x2816 .f32) slices_S8192x2816_S8192x704_0_704) := by
    after_reads_simp
  have u2 : StableHlo.upto hostOps0 (fun b => m (c, b)) 28 (Proc.tc.devRef main_v26) = broadcastInDim S1x8192x704 ![1, 2] bcast_S8192x704_S1x8192x704_1_2 (extractStridedSlice S8192x704 ![0, 1408] (m (c, Proc.tc.devRef main_arg1) : Vec Ideal S8192x2816 .f32) slices_S8192x2816_S8192x704_0_1408) := by
    after_reads_simp
  have u3 : StableHlo.upto hostOps0 (fun b => m (c, b)) 28 (Proc.tc.devRef main_v27) = broadcastInDim S1x8192x704 ![1, 2] bcast_S8192x704_S1x8192x704_1_2 (extractStridedSlice S8192x704 ![0, 2112] (m (c, Proc.tc.devRef main_arg1) : Vec Ideal S8192x2816 .f32) slices_S8192x2816_S8192x704_0_2112) := by
    after_reads_simp
  rw [e, u0, u1, u2, u3]
  exact colShards (n := 8192) (N := 2816) (w := 704) (arg1 m c) rfl rfl rfl rfl (by decide) (by decide)
    slices_S8192x2816_S8192x704_0_0 slices_S8192x2816_S8192x704_0_704 slices_S8192x2816_S8192x704_0_1408 slices_S8192x2816_S8192x704_0_2112 bcast_S8192x704_S1x8192x704_1_2
    concatenates_S1x8192x704_S1x8192x704_S1x8192x704_S1x8192x704_S4x8192x704_d0 j p q

theorem host2 (c : Dev nD) (j : Fin 4) (p : Fin 1024) (q : Fin 704) :
    V m c main_v19 (ix3 j p q) = arg2 m c (ix2 p ⟨704 * j.val + q.val, block_lt rfl j q⟩) := by
  have e : V m c main_v19 = truncf (F := Ideal) FTy.bf16 (concatenate S4x1024x704 0 [⟨S1x1024x704, StableHlo.upto hostOps0 (fun b => m (c, b)) 18 (Proc.tc.devRef main_v14)⟩, ⟨S1x1024x704, StableHlo.upto hostOps0 (fun b => m (c, b)) 18 (Proc.tc.devRef main_v15)⟩, ⟨S1x1024x704, StableHlo.upto hostOps0 (fun b => m (c, b)) 18 (Proc.tc.devRef main_v16)⟩, ⟨S1x1024x704, StableHlo.upto hostOps0 (fun b => m (c, b)) 18 (Proc.tc.devRef main_v17)⟩]
      concatenates_S1x1024x704_S1x1024x704_S1x1024x704_S1x1024x704_S4x1024x704_d0 : Vec Ideal S4x1024x704 .f32) bitsLt_bf16_f32 := by
    unfold V
    after_reads_simp
    rfl
  have u0 : StableHlo.upto hostOps0 (fun b => m (c, b)) 18 (Proc.tc.devRef main_v14) = broadcastInDim S1x1024x704 ![1, 2] bcast_S1024x704_S1x1024x704_1_2 (extractStridedSlice S1024x704 ![0, 0] (m (c, Proc.tc.devRef main_arg2) : Vec Ideal S1024x2816 .f32) slices_S1024x2816_S1024x704_0_0) := by
    after_reads_simp
  have u1 : StableHlo.upto hostOps0 (fun b => m (c, b)) 18 (Proc.tc.devRef main_v15) = broadcastInDim S1x1024x704 ![1, 2] bcast_S1024x704_S1x1024x704_1_2 (extractStridedSlice S1024x704 ![0, 704] (m (c, Proc.tc.devRef main_arg2) : Vec Ideal S1024x2816 .f32) slices_S1024x2816_S1024x704_0_704) := by
    after_reads_simp
  have u2 : StableHlo.upto hostOps0 (fun b => m (c, b)) 18 (Proc.tc.devRef main_v16) = broadcastInDim S1x1024x704 ![1, 2] bcast_S1024x704_S1x1024x704_1_2 (extractStridedSlice S1024x704 ![0, 1408] (m (c, Proc.tc.devRef main_arg2) : Vec Ideal S1024x2816 .f32) slices_S1024x2816_S1024x704_0_1408) := by
    after_reads_simp
  have u3 : StableHlo.upto hostOps0 (fun b => m (c, b)) 18 (Proc.tc.devRef main_v17) = broadcastInDim S1x1024x704 ![1, 2] bcast_S1024x704_S1x1024x704_1_2 (extractStridedSlice S1024x704 ![0, 2112] (m (c, Proc.tc.devRef main_arg2) : Vec Ideal S1024x2816 .f32) slices_S1024x2816_S1024x704_0_2112) := by
    after_reads_simp
  rw [e, u0, u1, u2, u3]
  exact colShards (n := 1024) (N := 2816) (w := 704) (arg2 m c) rfl rfl rfl rfl (by decide) (by decide)
    slices_S1024x2816_S1024x704_0_0 slices_S1024x2816_S1024x704_0_704 slices_S1024x2816_S1024x704_0_1408 slices_S1024x2816_S1024x704_0_2112 bcast_S1024x704_S1x1024x704_1_2
    concatenates_S1x1024x704_S1x1024x704_S1x1024x704_S1x1024x704_S4x1024x704_d0 j p q

theorem host3 (c : Dev nD) (j : Fin 4) (p : Fin 1024) (q : Fin 704) :
    V m c main_v39 (ix3 j p q) = arg3 m c (ix2 p ⟨704 * j.val + q.val, block_lt rfl j q⟩) := by
  have e : V m c main_v39 = truncf (F := Ideal) FTy.bf16 (concatenate S4x1024x704 0 [⟨S1x1024x704, StableHlo.upto hostOps0 (fun b => m (c, b)) 38 (Proc.tc.devRef main_v34)⟩, ⟨S1x1024x704, StableHlo.upto hostOps0 (fun b => m (c, b)) 38 (Proc.tc.devRef main_v35)⟩, ⟨S1x1024x704, StableHlo.upto hostOps0 (fun b => m (c, b)) 38 (Proc.tc.devRef main_v36)⟩, ⟨S1x1024x704, StableHlo.upto hostOps0 (fun b => m (c, b)) 38 (Proc.tc.devRef main_v37)⟩]
      concatenates_S1x1024x704_S1x1024x704_S1x1024x704_S1x1024x704_S4x1024x704_d0 : Vec Ideal S4x1024x704 .f32) bitsLt_bf16_f32 := by
    unfold V
    after_reads_simp
    rfl
  have u0 : StableHlo.upto hostOps0 (fun b => m (c, b)) 38 (Proc.tc.devRef main_v34) = broadcastInDim S1x1024x704 ![1, 2] bcast_S1024x704_S1x1024x704_1_2 (extractStridedSlice S1024x704 ![0, 0] (m (c, Proc.tc.devRef main_arg3) : Vec Ideal S1024x2816 .f32) slices_S1024x2816_S1024x704_0_0) := by
    after_reads_simp
  have u1 : StableHlo.upto hostOps0 (fun b => m (c, b)) 38 (Proc.tc.devRef main_v35) = broadcastInDim S1x1024x704 ![1, 2] bcast_S1024x704_S1x1024x704_1_2 (extractStridedSlice S1024x704 ![0, 704] (m (c, Proc.tc.devRef main_arg3) : Vec Ideal S1024x2816 .f32) slices_S1024x2816_S1024x704_0_704) := by
    after_reads_simp
  have u2 : StableHlo.upto hostOps0 (fun b => m (c, b)) 38 (Proc.tc.devRef main_v36) = broadcastInDim S1x1024x704 ![1, 2] bcast_S1024x704_S1x1024x704_1_2 (extractStridedSlice S1024x704 ![0, 1408] (m (c, Proc.tc.devRef main_arg3) : Vec Ideal S1024x2816 .f32) slices_S1024x2816_S1024x704_0_1408) := by
    after_reads_simp
  have u3 : StableHlo.upto hostOps0 (fun b => m (c, b)) 38 (Proc.tc.devRef main_v37) = broadcastInDim S1x1024x704 ![1, 2] bcast_S1024x704_S1x1024x704_1_2 (extractStridedSlice S1024x704 ![0, 2112] (m (c, Proc.tc.devRef main_arg3) : Vec Ideal S1024x2816 .f32) slices_S1024x2816_S1024x704_0_2112) := by
    after_reads_simp
  rw [e, u0, u1, u2, u3]
  exact colShards (n := 1024) (N := 2816) (w := 704) (arg3 m c) rfl rfl rfl rfl (by decide) (by decide)
    slices_S1024x2816_S1024x704_0_0 slices_S1024x2816_S1024x704_0_704 slices_S1024x2816_S1024x704_0_1408 slices_S1024x2816_S1024x704_0_2112 bcast_S1024x704_S1x1024x704_1_2
    concatenates_S1x1024x704_S1x1024x704_S1x1024x704_S1x1024x704_S4x1024x704_d0 j p q

theorem host4 (c : Dev nD) (p : Fin 8192) (q : Fin 1024) : V m c main_arg4 (ix2 p q) = arg4 m c (ix2 p q) := by
  have e : V m c main_arg4 = m (c, Proc.tc.devRef main_arg4) := by unfold V; after_reads_simp
  rw [e]

theorem host5 (c : Dev nD) (p : Fin 1) (q : Fin 1024) : V m c main_arg5 (ix2 p q) = arg5 m c (ix2 p q) := by
  have e : V m c main_arg5 = m (c, Proc.tc.devRef main_arg5) := by unfold V; after_reads_simp
  rw [e]

theorem host6 (c : Dev nD) (p : Fin 8192) (q : Fin 1024) : V m c main_arg6 (ix2 p q) = arg6 m c (ix2 p q) := by
  have e : V m c main_arg6 = m (c, Proc.tc.devRef main_arg6) := by unfold V; after_reads_simp
  rw [e]

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

theorem block0 (c : Dev nD) (t : Fin cfg0.N) (i : Fin 16) (ht : t.val = i.val) (s : Fin 4) (p : Fin 512) (k : Fin 704) :
    (iblk m c 0 t : Vec Ideal S4x512x704 .bf16) (ix3 s p k) = arg0 m c (ix2 ⟨512 * i.val + p.val, block_lt rfl i p⟩ ⟨704 * s.val + k.val, block_lt rfl s k⟩) := by
  have h := index0 t
  unfold iblk
  rw [View.read_apply]
  refine (congrArg (V m c main_v9) (funext fun a => Fin.ext ?_)).trans (host0 m c s ⟨512 * i.val + p.val, block_lt rfl i p⟩ k)
  match a with
  | ⟨0, _⟩ => show win0_0.index t 0 * 4 + 1 * s.val = s.val; rw [h.1]; omega
  | ⟨1, _⟩ => show win0_0.index t 1 * 512 + 1 * p.val = 512 * i.val + p.val; rw [h.2.1]; omega
  | ⟨2, _⟩ => show win0_0.index t 2 * 704 + 1 * k.val = k.val; rw [h.2.2]; omega

theorem block1 (c : Dev nD) (t : Fin cfg0.N) (i : Fin 16) (ht : t.val = i.val) (s : Fin 4) (p : Fin 512) (k : Fin 704) :
    (iblk m c 1 t : Vec Ideal S4x512x704 .bf16) (ix3 s p k) = arg1 m c (ix2 ⟨512 * i.val + p.val, block_lt rfl i p⟩ ⟨704 * s.val + k.val, block_lt rfl s k⟩) := by
  have h := index1 t
  unfold iblk
  rw [View.read_apply]
  refine (congrArg (V m c main_v29) (funext fun a => Fin.ext ?_)).trans (host1 m c s ⟨512 * i.val + p.val, block_lt rfl i p⟩ k)
  match a with
  | ⟨0, _⟩ => show win0_1.index t 0 * 4 + 1 * s.val = s.val; rw [h.1]; omega
  | ⟨1, _⟩ => show win0_1.index t 1 * 512 + 1 * p.val = 512 * i.val + p.val; rw [h.2.1]; omega
  | ⟨2, _⟩ => show win0_1.index t 2 * 704 + 1 * k.val = k.val; rw [h.2.2]; omega

theorem block2 (c : Dev nD) (t : Fin cfg0.N) (i : Fin 16) (ht : t.val = i.val) (s : Fin 4) (q : Fin 1024) (k : Fin 704) :
    (iblk m c 2 t : Vec Ideal S4x1024x704 .bf16) (ix3 s q k) = arg2 m c (ix2 q ⟨704 * s.val + k.val, block_lt rfl s k⟩) := by
  have h := index2 t
  unfold iblk
  rw [View.read_apply]
  refine (congrArg (V m c main_v19) (funext fun a => Fin.ext ?_)).trans (host2 m c s q k)
  match a with
  | ⟨0, _⟩ => show win0_2.index t 0 * 4 + 1 * s.val = s.val; rw [h.1]; omega
  | ⟨1, _⟩ => show win0_2.index t 1 * 1024 + 1 * q.val = q.val; rw [h.2.1]; omega
  | ⟨2, _⟩ => show win0_2.index t 2 * 704 + 1 * k.val = k.val; rw [h.2.2]; omega

theorem block3 (c : Dev nD) (t : Fin cfg0.N) (i : Fin 16) (ht : t.val = i.val) (s : Fin 4) (q : Fin 1024) (k : Fin 704) :
    (iblk m c 3 t : Vec Ideal S4x1024x704 .bf16) (ix3 s q k) = arg3 m c (ix2 q ⟨704 * s.val + k.val, block_lt rfl s k⟩) := by
  have h := index3 t
  unfold iblk
  rw [View.read_apply]
  refine (congrArg (V m c main_v39) (funext fun a => Fin.ext ?_)).trans (host3 m c s q k)
  match a with
  | ⟨0, _⟩ => show win0_3.index t 0 * 4 + 1 * s.val = s.val; rw [h.1]; omega
  | ⟨1, _⟩ => show win0_3.index t 1 * 1024 + 1 * q.val = q.val; rw [h.2.1]; omega
  | ⟨2, _⟩ => show win0_3.index t 2 * 704 + 1 * k.val = k.val; rw [h.2.2]; omega

theorem block4 (c : Dev nD) (t : Fin cfg0.N) (i : Fin 16) (ht : t.val = i.val) (p : Fin 512) (q : Fin 1024) :
    (iblk m c 4 t : Vec Ideal S512x1024 .f32) (ix2 p q) = arg4 m c (ix2 ⟨512 * i.val + p.val, block_lt rfl i p⟩ q) := by
  have h := index4 t
  unfold iblk
  rw [View.read_apply]
  refine (congrArg (V m c main_arg4) (funext fun a => Fin.ext ?_)).trans (host4 m c ⟨512 * i.val + p.val, block_lt rfl i p⟩ q)
  match a with
  | ⟨0, _⟩ => show win0_4.index t 0 * 512 + 1 * p.val = 512 * i.val + p.val; rw [h.1]; omega
  | ⟨1, _⟩ => show win0_4.index t 1 * 1024 + 1 * q.val = q.val; rw [h.2]; omega

theorem block5 (c : Dev nD) (t : Fin cfg0.N) (i : Fin 16) (ht : t.val = i.val) (q : Fin 1024) :
    (iblk m c 5 t : Vec Ideal S1x1024 .f32) (ix2 0 q) = arg5 m c (ix2 0 q) := by
  have h := index5 t
  unfold iblk
  rw [View.read_apply]
  refine (congrArg (V m c main_arg5) (funext fun a => Fin.ext ?_)).trans (host5 m c 0 q)
  match a with
  | ⟨0, _⟩ => show win0_5.index t 0 * 1 + 1 * 0 = 0; rw [h.1]
  | ⟨1, _⟩ => show win0_5.index t 1 * 1024 + 1 * q.val = q.val; rw [h.2]; omega

theorem block6 (c : Dev nD) (t : Fin cfg0.N) (i : Fin 16) (ht : t.val = i.val) (p : Fin 512) (q : Fin 1024) :
    (iblk m c 6 t : Vec Ideal S512x1024 .f32) (ix2 p q) = arg6 m c (ix2 ⟨512 * i.val + p.val, block_lt rfl i p⟩ q) := by
  have h := index6 t
  unfold iblk
  rw [View.read_apply]
  refine (congrArg (V m c main_arg6) (funext fun a => Fin.ext ?_)).trans (host6 m c ⟨512 * i.val + p.val, block_lt rfl i p⟩ q)
  match a with
  | ⟨0, _⟩ => show win0_6.index t 0 * 512 + 1 * p.val = 512 * i.val + p.val; rw [h.1]; omega
  | ⟨1, _⟩ => show win0_6.index t 1 * 1024 + 1 * q.val = q.val; rw [h.2]; omega

/-- One shard's product. -/
theorem part_apply (a : Vec Ideal S1x512x704 .bf16) (b : Vec Ideal S1x1024x704 .bf16) (ha : S1x512x704.ShapeCasts S512x704)
    (hb : S1x1024x704.ShapeCasts S1024x704) (p : Fin 512) (q : Fin 1024) :
    matmul (F := Ideal) (φ₁ := .bf16) (φ₂ := .bf16) dot_S512x704_S1024x704_S512x1024_1_1_0_0_n_n none (shapeCast S512x704 a ha : FVec Ideal S512x704 .bf16) (shapeCast S1024x704 b hb : FVec Ideal S1024x704 .bf16)
        (constant S512x1024 .f32 0x00000000#32 : FVec Ideal S512x1024 .f32) (ix2 p q)
      = ∑ k : Fin 704, (a (ix3 0 p k) : EReal) * b (ix3 0 q k) := by
  refine (dotNT dot_S512x704_S1024x704_S512x1024_1_1_0_0_n_n rfl rfl
    (fun _ _ => by simp [DotDims.lhsIdx, dot_S512x704_S1024x704_S512x1024_1_1_0_0_n_n]; rfl)
    (fun _ _ => by simp [DotDims.lhsIdx, dot_S512x704_S1024x704_S512x1024_1_1_0_0_n_n]; rfl)
    (fun _ _ => by simp [DotDims.rhsIdx, dot_S512x704_S1024x704_S512x1024_1_1_0_0_n_n]; rfl)
    (fun _ _ => by simp [DotDims.rhsIdx, dot_S512x704_S1024x704_S512x1024_1_1_0_0_n_n]; rfl) none _ _ p q).trans ?_
  exact Finset.sum_congr rfl fun k _ => congrArg₂ (fun u v : EReal => u * v) (dropLead _ _ p k) (dropLead _ _ q k)

/-- The cotangent of the norm's output, a point's rows. -/
def dhBlock (x0 x1 : Vec Ideal S4x512x704 .bf16) (x2 x3 : Vec Ideal S4x1024x704 .bf16) : FVec Ideal S512x1024 .f32 :=
  k0_pay6 (k0_pay4 (View.ld x0 (Rect.unit (s := S4x512x704) ![0, 0, 0] S1x512x704.size inb_S4x512x704_S1x512x704_0_0_0)) (View.ld x2 (Rect.unit (s := S4x1024x704) ![0, 0, 0] S1x1024x704.size inb_S4x1024x704_S1x1024x704_0_0_0)) (View.ld x0 (Rect.unit (s := S4x512x704) ![1, 0, 0] S1x512x704.size inb_S4x512x704_S1x512x704_1_0_0)) (View.ld x2 (Rect.unit (s := S4x1024x704) ![1, 0, 0] S1x1024x704.size inb_S4x1024x704_S1x1024x704_1_0_0)) (View.ld x0 (Rect.unit (s := S4x512x704) ![2, 0, 0] S1x512x704.size inb_S4x512x704_S1x512x704_2_0_0)) (View.ld x2 (Rect.unit (s := S4x1024x704) ![2, 0, 0] S1x1024x704.size inb_S4x1024x704_S1x1024x704_2_0_0)) (View.ld x0 (Rect.unit (s := S4x512x704) ![3, 0, 0] S1x512x704.size inb_S4x512x704_S1x512x704_3_0_0)) (View.ld x2 (Rect.unit (s := S4x1024x704) ![3, 0, 0] S1x1024x704.size inb_S4x1024x704_S1x1024x704_3_0_0))) (k0_pay5 (View.ld x1 (Rect.unit (s := S4x512x704) ![0, 0, 0] S1x512x704.size inb_S4x512x704_S1x512x704_0_0_0))) (View.ld x3 (Rect.unit (s := S4x1024x704) ![0, 0, 0] S1x1024x704.size inb_S4x1024x704_S1x1024x704_0_0_0)) (View.ld x1 (Rect.unit (s := S4x512x704) ![1, 0, 0] S1x512x704.size inb_S4x512x704_S1x512x704_1_0_0)) (View.ld x3 (Rect.unit (s := S4x1024x704) ![1, 0, 0] S1x1024x704.size inb_S4x1024x704_S1x1024x704_1_0_0)) (View.ld x1 (Rect.unit (s := S4x512x704) ![2, 0, 0] S1x512x704.size inb_S4x512x704_S1x512x704_2_0_0)) (View.ld x3 (Rect.unit (s := S4x1024x704) ![2, 0, 0] S1x1024x704.size inb_S4x1024x704_S1x1024x704_2_0_0)) (View.ld x1 (Rect.unit (s := S4x512x704) ![3, 0, 0] S1x512x704.size inb_S4x512x704_S1x512x704_3_0_0)) (View.ld x3 (Rect.unit (s := S4x1024x704) ![3, 0, 0] S1x1024x704.size inb_S4x1024x704_S1x1024x704_3_0_0))

/-- A shard's part of an entry. -/
def shardPart (x0 : Vec Ideal S4x512x704 .bf16) (x1 : Vec Ideal S4x1024x704 .bf16) (s : Fin 4) (p : Fin 512) (q : Fin 1024) : EReal :=
  ∑ k : Fin 704, (x0 (ix3 s p k) : EReal) * x1 (ix3 s q k)

theorem dhBlock_apply (x0 x1 : Vec Ideal S4x512x704 .bf16) (x2 x3 : Vec Ideal S4x1024x704 .bf16) (p : Fin 512) (q : Fin 1024) :
    dhBlock x0 x1 x2 x3 (ix2 p q) = shardPart x0 x2 0 p q + shardPart x0 x2 1 p q + shardPart x0 x2 2 p q + shardPart x0 x2 3 p q
      + shardPart x1 x3 0 p q + shardPart x1 x3 1 p q + shardPart x1 x3 2 p q + shardPart x1 x3 3 p q := by
  unfold dhBlock k0_pay6 k0_pay5 k0_pay4
  refine congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) ?_ ?_) ?_) ?_) ?_) ?_) ?_) ?_
  all_goals
    refine (part_apply _ _ _ _ p q).trans (Finset.sum_congr rfl fun k _ => congrArg₂ (fun u v : EReal => u * v) ?_ ?_)
    · refine View.ld_unit_apply_of _ _ _ _ _ _ fun a => ?_
      match a with
      | ⟨0, _⟩ => rfl
      | ⟨1, _⟩ => show p.val = 0 + p.val; omega
      | ⟨2, _⟩ => show k.val = 0 + k.val; omega
    · refine View.ld_unit_apply_of _ _ _ _ _ _ fun a => ?_
      match a with
      | ⟨0, _⟩ => rfl
      | ⟨1, _⟩ => show q.val = 0 + q.val; omega
      | ⟨2, _⟩ => show k.val = 0 + k.val; omega

/-- The factors of a block of rows. -/
theorem root_apply (x : Vec Ideal S512x1024 .f32) (p : Fin 512) : k0_pay7 x (ix2 p 0) = scale (x : Mat 512 1024) p := by
  unfold k0_pay7
  exact congrArg (fun e : EReal => Ideal.rsqrt (Ideal.div e (Ideal.ofBits .f32 0x44800000#32) + Ideal.ofBits .f32 0x358637BD#32))
    ((toCol _ _ p).trans (rowSum _ _ _ _ _ p))

theorem scaled_apply (x : Vec Ideal S512x1024 .f32) (p : Fin 512) (q : Fin 1024) :
    k0_pay8 x (ix2 p q) = x (ix2 p q) * scale (x : Mat 512 1024) p := by
  unfold k0_pay8
  exact congrArg₂ (fun u v : EReal => u * v) rfl ((spreadCol _ _ p q).trans (root_apply x p))

/-- The norm's gradient on a block of rows, added to the residual's cotangent. -/
theorem back_apply (dh : FVec Ideal S512x1024 .f32) (x : Vec Ideal S512x1024 .f32) (g : Vec Ideal S1x1024 .f32) (dx : Vec Ideal S512x1024 .f32) (p : Fin 512) (q : Fin 1024) :
    k0_pay1 dh (k0_pay7 x) (k0_pay8 x) g dx (ix2 p q) = dx (ix2 p q) + back (x : Mat 512 1024) (dh : Mat 512 1024) (g : Mat 1 1024) (ix2 p q) := by
  unfold k0_pay1
  refine congrArg₂ (fun u v : EReal => u + v) rfl (congrArg₂ (fun u v : EReal => u * v) ((spreadCol _ _ p q).trans (root_apply x p)) ?_)
  refine congrArg₂ (fun u v : EReal => u - v) (congrArg₂ (fun u v : EReal => u * v) rfl (spreadRow _ _ p q)) (congrArg₂ (fun u v : EReal => u * v) (scaled_apply x p q) ?_)
  refine (spreadCol _ _ p q).trans (congrArg (fun e : EReal => Ideal.div e (Ideal.ofBits .f32 0x44800000#32)) (((toCol _ _ p).trans (rowSum _ _ _ _ _ p)).trans ?_))
  exact Finset.sum_congr rfl fun k _ => congrArg₂ (fun u v : EReal => u * v) (congrArg₂ (fun u v : EReal => u * v) rfl (spreadRow _ _ p k)) (scaled_apply x p k)

/-- A block's part of the gain's gradient. -/
theorem gain_eq (dh : FVec Ideal S512x1024 .f32) (x : Vec Ideal S512x1024 .f32) : k0_pay2 dh (k0_pay8 x) = backGain (x : Mat 512 1024) (dh : Mat 512 1024) := by
  funext i
  have hi : i = ix2 0 (i 1) := funext fun a => Fin.ext (by
    match a with
    | ⟨0, _⟩ => have y0 : (i 0).val < 1 := (i 0).isLt; show (i 0).val = 0; omega
    | ⟨1, _⟩ => rfl)
  rw [hi]
  unfold k0_pay2
  refine ((toRow _ _ (i 1 : Fin 1024)).trans (colSum _ _ _ _ _ (i 1 : Fin 1024))).trans ?_
  exact Finset.sum_congr rfl fun k _ => congrArg₂ (fun u v : EReal => u * v) rfl (scaled_apply x k (i 1 : Fin 1024))

/-- The first point's block of the result. -/
theorem out_A7 (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (hc0 : cond0_0 i) (hc1 : ¬cond0_1 i) (x0 : Vec Ideal S4x512x704 .bf16) (x1 : Vec Ideal S4x512x704 .bf16) (x2 : Vec Ideal S4x1024x704 .bf16) (x3 : Vec Ideal S4x1024x704 .bf16) (x4 : Vec Ideal S512x1024 .f32) (x5 : Vec Ideal S1x1024 .f32) (x6 : Vec Ideal S512x1024 .f32) :
    out0_A_7 (F := Ideal) c i arg1 harg1 arg2 harg2 arg3 harg3 arg4 harg4 arg5 harg5 arg6 harg6 arg7 harg7 arg8 harg8 arg9 harg9 hc0 hc1 x0 x1 x2 x3 x4 x5 x6 = k0_pay1 (dhBlock x0 x1 x2 x3) (k0_pay7 x4) (k0_pay8 x4) x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero at00]
  simp only [View.readAt_eq_ld, harg1.read_unread, harg2.read_unread, harg3.read_unread, harg4.read_unread, harg5.read_unread, harg6.read_unread, harg7.read_unread, harg9.read_unread, View.ld_unit_zero (S := S1x1024) at00, View.ld_unit_zero (S := S512x1024) at00, shapeCast_self]
  rfl

/-- The first point starts the gain's gradient. -/
theorem out_A8 (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (hc0 : cond0_0 i) (hc1 : ¬cond0_1 i) (x0 : Vec Ideal S4x512x704 .bf16) (x1 : Vec Ideal S4x512x704 .bf16) (x2 : Vec Ideal S4x1024x704 .bf16) (x3 : Vec Ideal S4x1024x704 .bf16) (x4 : Vec Ideal S512x1024 .f32) (x5 : Vec Ideal S1x1024 .f32) (x6 : Vec Ideal S512x1024 .f32) :
    out0_A_8 (F := Ideal) c i arg1 harg1 arg2 harg2 arg3 harg3 arg4 harg4 arg5 harg5 arg6 harg6 arg7 harg7 arg8 harg8 arg9 harg9 hc0 hc1 x0 x1 x2 x3 x4 x5 x6 = k0_pay2 (dhBlock x0 x1 x2 x3) (k0_pay8 x4) := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero at00]
  simp only [View.readAt_eq_ld, harg1.read_unread, harg2.read_unread, harg3.read_unread, harg4.read_unread, harg5.read_unread, harg6.read_unread, harg7.read_unread, harg9.read_unread, View.ld_unit_zero (S := S1x1024) at00, View.ld_unit_zero (S := S512x1024) at00, shapeCast_self]
  rfl

/-- A later point's block. -/
theorem out_B7 (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (hc0 : ¬cond0_0 i) (hc1 : cond0_1 i) (x0 : Vec Ideal S4x512x704 .bf16) (x1 : Vec Ideal S4x512x704 .bf16) (x2 : Vec Ideal S4x1024x704 .bf16) (x3 : Vec Ideal S4x1024x704 .bf16) (x4 : Vec Ideal S512x1024 .f32) (x5 : Vec Ideal S1x1024 .f32) (x6 : Vec Ideal S512x1024 .f32) (xo : Vec Ideal S1x1024 .f32) :
    out0_B_7 (F := Ideal) c i arg1 harg1 arg2 harg2 arg3 harg3 arg4 harg4 arg5 harg5 arg6 harg6 arg7 harg7 arg8 harg8 arg9 harg9 hc0 hc1 x0 x1 x2 x3 x4 x5 x6 xo = k0_pay1 (dhBlock x0 x1 x2 x3) (k0_pay7 x4) (k0_pay8 x4) x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 x5 x6 xo)]
  unfold kernelRun0_B
  dsimp only
  sl_unfold_words
  rw [View.canon_unit_zero at00]
  simp only [View.readAt_eq_ld, harg1.read_unread, harg2.read_unread, harg3.read_unread, harg4.read_unread, harg5.read_unread, harg6.read_unread, harg7.read_unread, harg9.read_unread, View.ld_unit_zero (S := S1x1024) at00, View.ld_unit_zero (S := S512x1024) at00, shapeCast_self]
  rfl

/-- A later point adds to the gain's gradient. -/
theorem out_B8 (c : Dev nD) (i : grid0.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (hc0 : ¬cond0_0 i) (hc1 : cond0_1 i) (x0 : Vec Ideal S4x512x704 .bf16) (x1 : Vec Ideal S4x512x704 .bf16) (x2 : Vec Ideal S4x1024x704 .bf16) (x3 : Vec Ideal S4x1024x704 .bf16) (x4 : Vec Ideal S512x1024 .f32) (x5 : Vec Ideal S1x1024 .f32) (x6 : Vec Ideal S512x1024 .f32) (xo : Vec Ideal S1x1024 .f32) :
    out0_B_8 (F := Ideal) c i arg1 harg1 arg2 harg2 arg3 harg3 arg4 harg4 arg5 harg5 arg6 harg6 arg7 harg7 arg8 harg8 arg9 harg9 hc0 hc1 x0 x1 x2 x3 x4 x5 x6 xo = addf xo (k0_pay2 (dhBlock x0 x1 x2 x3) (k0_pay8 x4)) := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 x5 x6 xo)]
  unfold kernelRun0_B
  dsimp only
  sl_unfold_words
  rw [View.canon_unit_zero at00]
  unfold k0_pay3
  simp only [View.readAt_eq_ld, harg1.read_unread, harg2.read_unread, harg3.read_unread, harg4.read_unread, harg5.read_unread, harg6.read_unread, harg7.read_unread, harg9.read_unread, View.ld_unit_zero (S := S1x1024) at00, View.ld_unit_zero (S := S512x1024) at00, shapeCast_self]
  rfl

/-! ## The points -/

/-- A point's block of the result. -/
theorem outs7 (c : Dev nD) (t : Fin cfg0.N) : (outsAt0 m c t.val t.isLt).1 = k0_pay1 (dhBlock (iblk m c 0 t) (iblk m c 1 t) (iblk m c 2 t) (iblk m c 3 t)) (k0_pay7 (iblk m c 4 t)) (k0_pay8 (iblk m c 4 t)) (iblk m c 5 t) (iblk m c 6 t) := by
  have hT := t.isLt
  have hN : cfg0.N = 16 := N_0
  by_cases h0 : t.val % 16 = 0
  · have h1 : ¬1 ≤ t.val := by omega
    rw [outsAt0_A m c t h0 h1]
    dsimp only
    exact out_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) (iblk m c 6 t)
  · have h1 : 1 ≤ t.val := by omega
    rw [outsAt0_B m c t h0 h1]
    dsimp only
    exact out_B7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- A point's part of the gain's gradient. -/
def gainAt (c : Dev nD) (t : Fin cfg0.N) : Mat 1 1024 := backGain (iblk m c 4 t : Mat 512 1024) ((dhBlock (iblk m c 0 t) (iblk m c 1 t) (iblk m c 2 t) (iblk m c 3 t)) : Mat 512 1024)

theorem outs8_first (c : Dev nD) (t : Fin cfg0.N) (h0 : t.val % 16 = 0) (h1 : ¬1 ≤ t.val) : (outsAt0 m c t.val t.isLt).2 = gainAt m c t := by
  rw [outsAt0_A m c t h0 h1]
  dsimp only
  exact (out_A8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk m c 0 t) (iblk m c 1 t) (iblk m c 2 t) (iblk m c 3 t) (iblk m c 4 t) (iblk m c 5 t) (iblk m c 6 t)).trans (gain_eq _ _)

theorem outs8_next (c : Dev nD) (t : Fin cfg0.N) (h0 : ¬t.val % 16 = 0) (h1 : 1 ≤ t.val) :
    (outsAt0 m c t.val t.isLt).2 = fun i => ((outsAt0 m c (t.val - 1) (Nat.lt_of_le_of_lt (Nat.sub_le _ _) t.isLt)).2 i : EReal) + gainAt m c t i := by
  rw [outsAt0_B m c t h0 h1]
  dsimp only
  refine (out_B8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2).trans ?_
  rw [gain_eq]
  rfl

/-- The gain's gradient after point `n`: the sum of the parts up to `n`. -/
theorem outs8 (c : Dev nD) : ∀ (n : ℕ) (h : n < cfg0.N), (outsAt0 m c n h).2 = fun i => ∑ s : Fin (n + 1), gainAt m c ⟨s.val, by omega⟩ i
  | 0, h => by
    refine (outs8_first m c ⟨0, h⟩ rfl (Nat.not_succ_le_zero 0)).trans (funext fun i => ?_)
    rw [Fin.sum_univ_one]
    rfl
  | n + 1, h => by
    have hN : cfg0.N = 16 := N_0
    refine (outs8_next m c ⟨n + 1, h⟩ (by dsimp only; omega) (Nat.le_add_left _ _)).trans (funext fun i => ?_)
    rw [Fin.sum_univ_castSucc]
    exact congrArg₂ (fun u v : EReal => u + v) (congrFun (outs8 c n (Nat.lt_of_succ_lt h)) i) rfl

/-- A point's rows of the norm's output's cotangent. -/
theorem dh_value (c : Dev nD) (t : Fin cfg0.N) (i : Fin 16) (ht : t.val = i.val) (p : Fin 512) (q : Fin 1024) :
    (dhBlock (iblk m c 0 t) (iblk m c 1 t) (iblk m c 2 t) (iblk m c 3 t)) (ix2 p q) = plus (prodT (arg0 m c) (arg2 m c)) (prodT (arg1 m c) (arg3 m c)) (ix2 ⟨512 * i.val + p.val, block_lt rfl i p⟩ q) := by
  have hg := prodT_cut (w := 704) rfl (arg0 m c) (arg2 m c) ⟨512 * i.val + p.val, block_lt rfl i p⟩ q (fun s => shardPart (iblk m c 0 t) (iblk m c 2 t) s p q) fun s =>
    Finset.sum_congr rfl fun k _ => congrArg₂ (fun u v : EReal => u * v) (block0 m c t i ht s p k) (block2 m c t i ht s q k)
  have hu := prodT_cut (w := 704) rfl (arg1 m c) (arg3 m c) ⟨512 * i.val + p.val, block_lt rfl i p⟩ q (fun s => shardPart (iblk m c 1 t) (iblk m c 3 t) s p q) fun s =>
    Finset.sum_congr rfl fun k _ => congrArg₂ (fun u v : EReal => u * v) (block1 m c t i ht s p k) (block3 m c t i ht s q k)
  refine (dhBlock_apply _ _ _ _ p q).trans (Eq.trans ?_ (congrArg₂ (fun u v : EReal => u + v) hg hu))
  simp only [add_assoc]

/-- The gain, as every point reads it. -/
theorem gain_value (c : Dev nD) (t : Fin cfg0.N) (i : Fin 16) (ht : t.val = i.val) : (iblk m c 5 t : Mat 1 1024) = arg5 m c := by
  funext y
  have hy : y = ix2 0 (y 1) := funext fun a => Fin.ext (by
    match a with
    | ⟨0, _⟩ => have y0 : (y 0).val < 1 := (y 0).isLt; show (y 0).val = 0; omega
    | ⟨1, _⟩ => rfl)
  rw [hy]
  exact block5 m c t i ht (y 1 : Fin 1024)

theorem value7 (c : Dev nD) (t : Fin cfg0.N) (i : Fin 16) (ht : t.val = i.val) (p : Fin 512) (q : Fin 1024) :
    (outsAt0 m c t.val t.isLt).1 (ix2 p q) = plus (arg6 m c) (back (arg4 m c) (plus (prodT (arg0 m c) (arg2 m c)) (prodT (arg1 m c) (arg3 m c))) (arg5 m c)) (ix2 ⟨512 * i.val + p.val, block_lt rfl i p⟩ q) := by
  rw [outs7]
  refine (back_apply _ _ _ _ p q).trans (congrArg₂ (fun u v : EReal => u + v) (block6 m c t i ht p q) ?_)
  rw [gain_value m c t i ht]
  exact back_rows (fun p : Fin 512 => ⟨512 * i.val + p.val, block_lt rfl i p⟩) _ _ (arg4 m c) (plus (prodT (arg0 m c) (arg2 m c)) (prodT (arg1 m c) (arg3 m c))) (arg5 m c) (block4 m c t i ht) (dh_value m c t i ht) p q

/-- After the last point it is the sum over all rows. -/
theorem outs8_last (c : Dev nD) (n : ℕ) (h : n < cfg0.N) (hn : n = 15) : (outsAt0 m c n h).2 = backGain (arg4 m c) (plus (prodT (arg0 m c) (arg2 m c)) (prodT (arg1 m c) (arg3 m c))) := by
  rw [outs8]
  subst hn
  have hN : cfg0.N = 16 := N_0
  funext i
  have hi : i = ix2 0 (i 1) := funext fun a => Fin.ext (by
    match a with
    | ⟨0, _⟩ => have y0 : (i 0).val < 1 := (i 0).isLt; show (i 0).val = 0; omega
    | ⟨1, _⟩ => rfl)
  rw [hi]
  exact gain_blocks (m := 16) (n := 512) rfl (fun j => iblk m c 4 ⟨j.val, by omega⟩) (fun j => dhBlock (iblk m c 0 ⟨j.val, by omega⟩) (iblk m c 1 ⟨j.val, by omega⟩) (iblk m c 2 ⟨j.val, by omega⟩) (iblk m c 3 ⟨j.val, by omega⟩))
    (arg4 m c) (plus (prodT (arg0 m c) (arg2 m c)) (prodT (arg1 m c) (arg3 m c))) (fun j => block4 m c ⟨j.val, by omega⟩ j rfl) (fun j => dh_value m c ⟨j.val, by omega⟩ j rfl) (i 1 : Fin 1024)

theorem flushed_eq7 (c : Dev nD) (t : Fin cfg0.N) (hf : (cfg0.win 7).flush t = true) :
    (dats m 0 c).flushed 7 t = ((cfg0.win 7).blk t).view.read (Elt Ideal) (plus (arg6 m c) (back (arg4 m c) (plus (prodT (arg0 m c) (arg2 m c)) (prodT (arg1 m c) (arg3 m c))) (arg5 m c))) := by
  have hT := t.isLt
  have hN : cfg0.N = 16 := N_0
  have h := index7 t
  rw [flushed7]
  funext y
  rw [View.read_apply]
  obtain ⟨i, ht⟩ : ∃ (i : Fin 16), t.val = i.val := ⟨⟨t.val, by omega⟩, by show t.val = _; rfl⟩
  have hy : (((cfg0.win 7).blk t).view.emb y) = ix2 (⟨512 * i.val + (y 0 : Fin 512).val, block_lt rfl i (y 0 : Fin 512)⟩ : Fin 8192) (y 1 : Fin 1024) := funext fun a => Fin.ext (by
    match a with
    | ⟨0, _⟩ => show win0_7.index t 0 * 512 + 1 * (y 0).val = 512 * i.val + (y 0).val; rw [h.1]; omega
    | ⟨1, _⟩ => show win0_7.index t 1 * 1024 + 1 * (y 1).val = (y 1).val; rw [h.2]; omega)
  have y0 : y = ix2 (y 0 : Fin 512) (y 1 : Fin 1024) := funext fun a => Fin.ext (by
    match a with
    | ⟨0, _⟩ => rfl
    | ⟨1, _⟩ => rfl)
  show ((outsAt0 m c t.val t.isLt).1) y = (plus (arg6 m c) (back (arg4 m c) (plus (prodT (arg0 m c) (arg2 m c)) (prodT (arg1 m c) (arg3 m c))) (arg5 m c))) (((cfg0.win 7).blk t).view.emb y)
  rw [hy]
  exact (congrArg ((outsAt0 m c t.val t.isLt).1) y0).trans (value7 m c t i ht (y 0) (y 1))

theorem final7 (c : Dev nD) : (dats m 0 c).arrAt 7 cfg0.N = (plus (arg6 m c) (back (arg4 m c) (plus (prodT (arg0 m c) (arg2 m c)) (prodT (arg1 m c) (arg3 m c))) (arg5 m c)) : Buf (Elt Ideal) ((c : Thread nD τ).loc main_v40_0)) :=
  (dats m 0 c).arrAt_eq_of_cover 7 _ (flushed_eq7 m c) fun i => by
    have hN : cfg0.N = 16 := N_0
    have b0 : (i 0 : Nat) < 8192 := (i 0).isLt
    have b1 : (i 1 : Nat) < 1024 := (i 1).isLt
    let t : Fin cfg0.N := ⟨(i 0).val / 512, by rw [hN]; omega⟩
    have htv : t.val = (i 0).val / 512 := rfl
    refine ⟨t, flush0_7 t, ?_⟩
    have h := index7 t
    show i ∈ ((View.whole main_v40_0).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [h.1]; omega
    | ⟨1, _⟩ => show win0_7.index t 1 * 1024 ≤ (i 1 : Nat) ∧ (i 1 : Nat) < win0_7.index t 1 * 1024 + 1024; rw [h.2]; omega

theorem flushed_eq8 (c : Dev nD) (t : Fin cfg0.N) (hf : (cfg0.win 8).flush t = true) :
    (dats m 0 c).flushed 8 t = ((cfg0.win 8).blk t).view.read (Elt Ideal) (backGain (arg4 m c) (plus (prodT (arg0 m c) (arg2 m c)) (prodT (arg1 m c) (arg3 m c)))) := by
  have hN : cfg0.N = 16 := N_0
  have h := index8 t
  have hl : t.val = 15 := by have := (flush0_8 t).mp hf; have := t.isLt; omega
  have e : (outsAt0 m c t.val t.isLt).2 = backGain (arg4 m c) (plus (prodT (arg0 m c) (arg2 m c)) (prodT (arg1 m c) (arg3 m c))) := outs8_last m c t.val t.isLt hl
  rw [flushed8, e]
  funext y
  rw [View.read_apply]
  show (backGain (arg4 m c) (plus (prodT (arg0 m c) (arg2 m c)) (prodT (arg1 m c) (arg3 m c)))) y = (backGain (arg4 m c) (plus (prodT (arg0 m c) (arg2 m c)) (prodT (arg1 m c) (arg3 m c)))) (((cfg0.win 8).blk t).view.emb y)
  have hy : ((cfg0.win 8).blk t).view.emb y = y := funext fun a => Fin.ext (by
    match a with
    | ⟨0, _⟩ => show win0_8.index t 0 * 1 + 1 * (y 0).val = (y 0).val; rw [h.1]; omega
    | ⟨1, _⟩ => show win0_8.index t 1 * 1024 + 1 * (y 1).val = (y 1).val; rw [h.2]; omega)
  rw [hy]

theorem final8 (c : Dev nD) : (dats m 0 c).arrAt 8 cfg0.N = (backGain (arg4 m c) (plus (prodT (arg0 m c) (arg2 m c)) (prodT (arg1 m c) (arg3 m c))) : Buf (Elt Ideal) ((c : Thread nD τ).loc main_v40_1)) :=
  (dats m 0 c).arrAt_eq_of_cover 8 _ (flushed_eq8 m c) fun i => by
    have hN : cfg0.N = 16 := N_0
    have b0 : (i 0 : Nat) < 1 := (i 0).isLt
    have b1 : (i 1 : Nat) < 1024 := (i 1).isLt
    let t : Fin cfg0.N := ⟨15, by rw [hN]; omega⟩
    refine ⟨t, (flush0_8 t).mpr rfl, ?_⟩
    have h := index8 t
    show i ∈ ((View.whole main_v40_1).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [h.1]; omega
    | ⟨1, _⟩ => show win0_8.index t 1 * 1024 ≤ (i 1 : Nat) ∧ (i 1 : Nat) < win0_8.index t 1 * 1024 + 1024; rw [h.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v40_0) = plus (arg6 m c) (back (arg4 m c) (plus (prodT (arg0 m c) (arg2 m c)) (prodT (arg1 m c) (arg3 m c))) (arg5 m c))
      ∧ r.2.mem ((c : Thread nD τ).loc main_v40_1) = backGain (arg4 m c) (plus (prodT (arg0 m c) (arg2 m c)) (prodT (arg1 m c) (arg3 m c)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c), (h c).2.2⟩) (run_blocks m ρ)

end Cert.FfnDhIdeal.Val

namespace Cert.FfnDhReferenceIdeal.Val

open Idealize.ShloMosaic Idealize.ShloMosaic.TcCoe Idealize.ShloMosaic.ValueIdx Idealize.SL.Sem
open Cert.FfnDhReferenceIdeal Cert.FfnDhReferenceIdeal.Gen Cert.FfnDhReferenceIdeal.Read Cert.Prods
open Cert.MixBwd (Mat Stack)

/-- What the root is taken of. -/
theorem root_arg (x4 : Mat 8192 1024) (i : S8192x1.Idx) :
    val_main_v6 (F := Ideal) x4 i = Ideal.div (∑ k : Fin 1024, x4 (ix2 (i 0) k) * x4 (ix2 (i 0) k)) (Ideal.ofBits .f32 0x44800000#32) + Ideal.ofBits .f32 0x358637BD#32 := by
  rw [val_main_v6_apply, val_main_v5_apply, val_main_v4_apply, val_main_v3_apply, val_main_v2_apply, val_main_v1_apply, val_main_cst_apply, val_main_cst_0_apply, val_main_cst_1_apply]
  simp only [val_main_v0_apply]
  show Ideal.div (Ideal.ofBits .f32 0x00000000#32 + ∑ k : Fin 1024, _ * _) (Ideal.ofBits .f32 0x44800000#32) + Ideal.ofBits .f32 0x358637BD#32 = _
  rw [Idealize.ShloMosaic.Ideal.ofBits_zero_f32, zero_add]
  refine congrArg (fun e : EReal => Ideal.div e (Ideal.ofBits .f32 0x44800000#32) + Ideal.ofBits .f32 0x358637BD#32) (Finset.sum_congr rfl fun k _ => ?_)
  exact congrArg₂ (fun u v : EReal => u * v) (congrArg x4 (Shape.idx_ext₂ rfl rfl)) (congrArg x4 (Shape.idx_ext₂ rfl rfl))

theorem root_eq (x4 : Mat 8192 1024) (i : S8192x1.Idx) : val_main_v7 (F := Ideal) x4 i = scale x4 (i 0) := by
  rw [val_main_v7_apply, root_arg]
  rfl

/-- The cotangent of the norm's output. -/
theorem dh_eq (x0 x1 : Mat 8192 2816) (x2 x3 : Mat 1024 2816) (r : Fin 8192) (q : Fin 1024) :
    val_main_v19 (F := Ideal) x0 x1 x2 x3 (ix2 r q) = (plus (prodT x0 x2) (prodT x1 x3)) (ix2 r q) := by
  rw [val_main_v19_apply]
  refine (add_comm (val_main_v17 (F := Ideal) x1 x3 (ix2 r q) : EReal) (val_main_v18 (F := Ideal) x0 x2 (ix2 r q))).trans ?_
  refine congrArg₂ (fun u v : EReal => u + v) ((val_main_v18_apply x0 x2 _).trans (Finset.sum_congr rfl fun k _ => ?_)) ((val_main_v17_apply x1 x3 _).trans (Finset.sum_congr rfl fun k _ => ?_))
  · exact congrArg₂ (fun u v : EReal => u * v) (congrArg x0 (Shape.idx_ext₂ rfl rfl)) (congrArg x2 (Shape.idx_ext₂ rfl rfl))
  · exact congrArg₂ (fun u v : EReal => u * v) (congrArg x1 (Shape.idx_ext₂ rfl rfl)) (congrArg x3 (Shape.idx_ext₂ rfl rfl))

/-- The gain's gradient, at an entry. -/
theorem gain_at (x0 x1 : Mat 8192 2816) (x2 x3 : Mat 1024 2816) (x4 : Mat 8192 1024) (q : Fin 1024) :
    val_main_v22 (F := Ideal) x0 x1 x2 x3 x4 (ix2 0 q) = backGain x4 (plus (prodT x0 x2) (prodT x1 x3)) (ix2 0 q) := by
  rw [val_main_v22_apply, val_main_v21_apply, val_main_cst_3_apply]
  show Ideal.ofBits .f32 0x00000000#32 + _ = _
  rw [Idealize.ShloMosaic.Ideal.ofBits_zero_f32, zero_add]
  refine Finset.sum_congr rfl fun k _ => ?_
  have hk : idx_main_v21 (idx_main_v22 (ix2 0 q)) k = ix2 k q := Shape.idx_ext₂ rfl (by
    show 0 * 1024 + q.val = q.val
    omega)
  rw [hk, val_main_v20_apply, val_main_v12_apply, val_main_v11_apply, root_eq, dh_eq]
  exact mul_comm _ _

/-- The gain's gradient. -/
theorem gain_eq (x0 x1 : Mat 8192 2816) (x2 x3 : Mat 1024 2816) (x4 : Mat 8192 1024) :
    (val_main_v22 (F := Ideal) x0 x1 x2 x3 x4 : Mat 1 1024) = backGain x4 (plus (prodT x0 x2) (prodT x1 x3)) := by
  funext i
  have hi : i = ix2 (0 : Fin 1) (i 1 : Fin 1024) := Shape.idx_ext₂ (by
    have y0 : (i 0).val < 1 := (i 0).isLt
    show (i 0).val = 0
    omega) rfl
  exact ((congrArg _ hi).trans (gain_at x0 x1 x2 x3 x4 (i 1))).trans (congrArg _ hi.symm)

/-- The mean in the gradient of the norm. -/
theorem mean_eq (x0 x1 : Mat 8192 2816) (x2 x3 : Mat 1024 2816) (x4 : Mat 8192 1024) (x5 : Mat 1 1024) (r : Fin 8192) (q : Fin 1024) :
    val_main_v34 (F := Ideal) x0 x1 x2 x3 x4 x5 (ix2 r q)
      = Ideal.div ((∑ k : Fin 1024, x4 (ix2 r k) * ((plus (prodT x0 x2) (prodT x1 x3)) (ix2 r k) * x5 (ix2 0 k)))
            * (Ideal.ofBits .f32 0xBF000000#32 * Ideal.div (scale x4 r)
                (Ideal.div (∑ k : Fin 1024, x4 (ix2 r k) * x4 (ix2 r k)) (Ideal.ofBits .f32 0x44800000#32) + Ideal.ofBits .f32 0x358637BD#32)))
            (Ideal.ofBits .f32 0x44800000#32) := by
  rw [val_main_v34_apply, val_main_v33_apply, val_main_cst_6_apply, Fin.sum_univ_one, val_main_v32_apply, val_main_v31_apply, val_main_cst_5_apply, val_main_v30_apply,
    val_main_v27_apply, val_main_v26_apply, val_main_cst_4_apply, val_main_v10_apply, val_main_v9_apply, val_main_cst_2_apply, val_main_v8_apply, root_eq, root_arg]
  show Ideal.ofBits .f32 0x00000000#32 + Ideal.div ((Ideal.ofBits .f32 0x00000000#32 + ∑ k : Fin 1024, _) * (Ideal.ofBits .f32 0xBF000000#32 * Ideal.div (scale x4 r) _)) (Ideal.ofBits .f32 0x44800000#32) = _
  rw [Idealize.ShloMosaic.Ideal.ofBits_zero_f32, zero_add, zero_add]
  refine congrArg (fun e : EReal => Ideal.div (e * (Ideal.ofBits .f32 0xBF000000#32 * Ideal.div (scale x4 r)
                (Ideal.div (∑ k : Fin 1024, x4 (ix2 r k) * x4 (ix2 r k)) (Ideal.ofBits .f32 0x44800000#32) + Ideal.ofBits .f32 0x358637BD#32)))
            (Ideal.ofBits .f32 0x44800000#32)) (Finset.sum_congr rfl fun k _ => ?_)
  have hk : idx_main_v26 (idx_main_v27 (idx_main_v33 (idx_main_v34 (ix2 r q)) 0)) k = ix2 r k := Shape.idx_ext₂ (by
    show r.val * 1 + 0 = r.val
    omega) rfl
  rw [hk, val_main_v25_apply, val_main_v24_apply, val_main_v23_apply, dh_eq]
  exact congrArg₂ (fun u v : EReal => u * v) rfl (congrArg₂ (fun u v : EReal => u * v) rfl (congrArg x5 (Shape.idx_ext₂ rfl rfl)))

/-- The residual's cotangent, at an entry. -/
theorem back_at (x0 x1 : Mat 8192 2816) (x2 x3 : Mat 1024 2816) (x4 : Mat 8192 1024) (x5 : Mat 1 1024) (x6 : Mat 8192 1024) (r : Fin 8192) (q : Fin 1024) :
    val_main_v39 (F := Ideal) x0 x1 x2 x3 x4 x5 x6 (ix2 r q) = plus x6 (back x4 (plus (prodT x0 x2) (prodT x1 x3)) x5) (ix2 r q) := by
  rw [val_main_v39_apply, val_main_v38_apply, val_main_v37_apply, val_main_v36_apply, val_main_v35_apply, mean_eq, val_main_v29_apply, val_main_v28_apply, root_eq,
    val_main_v24_apply, val_main_v23_apply, dh_eq]
  refine congrArg₂ (fun u v : EReal => u + v) rfl (Eq.trans ?_ (Cert.Prods.back_eq x4 (plus (prodT x0 x2) (prodT x1 x3)) x5 r q))
  refine congrArg₂ (fun u v : EReal => u + v) (congrArg₂ (fun u v : EReal => u + v) (congrArg₂ (fun u v : EReal => u * v) (congrArg₂ (fun u v : EReal => u * v) rfl ?_) rfl) rfl) rfl
  exact congrArg x5 (Shape.idx_ext₂ rfl rfl)

/-- The residual's cotangent. -/
theorem back_eq (x0 x1 : Mat 8192 2816) (x2 x3 : Mat 1024 2816) (x4 : Mat 8192 1024) (x5 : Mat 1 1024) (x6 : Mat 8192 1024) :
    (val_main_v39 (F := Ideal) x0 x1 x2 x3 x4 x5 x6 : Mat 8192 1024) = plus x6 (back x4 (plus (prodT x0 x2) (prodT x1 x3)) x5) := by
  funext i
  have hi : i = ix2 (i 0 : Fin 8192) (i 1 : Fin 1024) := Shape.idx_ext₂ rfl rfl
  exact ((congrArg _ hi).trans (back_at x0 x1 x2 x3 x4 x5 x6 (i 0) (i 1))).trans (congrArg _ hi.symm)

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v39) = plus (m ((c : Thread nD τ).loc main_arg6)) (back (m ((c : Thread nD τ).loc main_arg4)) (plus (prodT (m ((c : Thread nD τ).loc main_arg0)) (m ((c : Thread nD τ).loc main_arg2))) (prodT (m ((c : Thread nD τ).loc main_arg1)) (m ((c : Thread nD τ).loc main_arg3)))) (m ((c : Thread nD τ).loc main_arg5)))
      ∧ r.2.mem ((c : Thread nD τ).loc main_v22) = backGain (m ((c : Thread nD τ).loc main_arg4)) (plus (prodT (m ((c : Thread nD τ).loc main_arg0)) (m ((c : Thread nD τ).loc main_arg2))) (prodT (m ((c : Thread nD τ).loc main_arg1)) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1.trans (val_main_v39_eq m c)).trans (back_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))),
      ((h c).2.1.trans (val_main_v22_eq (m ((c : Thread nD τ).loc main_arg0)) (m ((c : Thread nD τ).loc main_arg1)) (m ((c : Thread nD τ).loc main_arg2)) (m ((c : Thread nD τ).loc main_arg3)) (m ((c : Thread nD τ).loc main_arg4)))).trans (gain_eq (m ((c : Thread nD τ).loc main_arg0)) (m ((c : Thread nD τ).loc main_arg1)) (m ((c : Thread nD τ).loc main_arg2)) (m ((c : Thread nD τ).loc main_arg3)) (m ((c : Thread nD τ).loc main_arg4))),
      (h c).2.2⟩)
    (Cert.FfnDhReferenceIdeal.Value.run m ρ)

end Cert.FfnDhReferenceIdeal.Val

end
-- ==== Proof.FfnDhClaims.lean ====
/-
  The claims about the call `FfnDh`, from one run of each program: the frames, and the equality of the kernel's
  results with the reference's at the ideal instance.
-/
module

public import proofs.«01_k».proof.Defs
public import proofs.«01_k».proof.Proof.FfnDh
public import proofs.«01_k».proof.Proof.Gen.FfnDh
public import proofs.«01_k».proof.Proof.Gen.FfnDh.Frame
public import proofs.«01_k».proof.Proof.Gen.FfnDhIdeal.Frame
public import proofs.«01_k».proof.Proof.Gen.FfnDhReferenceIdeal.Run
public import Idealize.ShloMosaic.Adequacy
public import Idealize.ShloMosaic.Init

@[expose] public section

set_option maxRecDepth 16384

noncomputable section

namespace Cert.Proof.FfnDhClaims

open Idealize.ShloMosaic Idealize.ShloMosaic.TcCoe Idealize.SL.Sem

/-- The kernel runs and leaves its arguments unchanged. -/
theorem frame_kernel : Cert.quiescent_FfnDh (hFfnDh := Cert.FfnDh.Gen.facts) := fun m ρ _ => Cert.FfnDh.Gen.frame m ρ

/-- So does its ideal reading, -/
theorem frame_ideal : Cert.quiescent_FfnDhIdeal (hFfnDhIdeal := Cert.FfnDhIdeal.Gen.facts) := fun m ρ _ => Cert.FfnDhIdeal.Gen.frame m ρ

/-- and so does the reference. -/
theorem frame_reference : Cert.quiescent_FfnDhReferenceIdeal (hFfnDhReferenceIdeal := Cert.FfnDhReferenceIdeal.Gen.facts) := fun m ρ _ =>
  (θ_run Cert.FfnDhReferenceIdeal.defs _ _).mono (fun r h => ⟨fun c => (h c).2.2, sem_eq_zero_of_no_sems (by decide) r.2⟩)
    (Cert.FfnDhReferenceIdeal.Value.run m ρ)

/-- The kernel's results are the reference's. -/
theorem algebraic : Cert.algebraic_FfnDhIdeal_FfnDhReferenceIdeal (hFfnDhIdeal := Cert.FfnDhIdeal.Gen.facts) (hFfnDhReferenceIdeal := Cert.FfnDhReferenceIdeal.Gen.facts) := by
  intro m ρ m' ρ' _ hag
  refine ⟨_, _, Cert.FfnDhIdeal.Val.run m ρ, (θ_run _ _ _).mono (fun _ h c => ?_) (Cert.FfnDhReferenceIdeal.Val.run m' ρ')⟩
  have hc := h c
  obtain ⟨e0, e1, e2, e3, e4, e5, e6⟩ := hag c
  rw [e0, e1, e2, e3, e4, e5, e6] at hc
  obtain ⟨h0, h1, h2, h3, h4, h5, h6, h7, h8⟩ := hc
  exact ⟨h0, h1, h2.trans e0.symm, h3.trans e1.symm, h4.trans e2.symm, h5.trans e3.symm, h6.trans e4.symm, h7.trans e5.symm, h8.trans e6.symm⟩

end Cert.Proof.FfnDhClaims

end
-- ==== Proof.MmDh.lean ====
/-
  The gradient through the input projection and the norm before it, over the extended reals: each of the 32 points computes
  256 rows of `dz · w_inᵀ`, its inner axis in four shards, the norm's gradient added to the residual's cotangent, and those
  rows' part of the gain's gradient, which is carried over the points.
-/
module

public import proofs.«01_k».proof.Proof.NormBack
public import proofs.«01_k».proof.Proof.Gen.MmDhIdeal.Value
public import proofs.«01_k».proof.Proof.Gen.MmDhReferenceIdeal.Read
public import proofs.«01_k».proof.Proof.Gen.MmDhReferenceIdeal.Run
public import Idealize.ShloMosaic.Lib.StableHlo.RunRead
public import Idealize.ShloMosaic.Lib.Pipeline.ValueKit.Tiles

@[expose] public section

set_option maxRecDepth 16384

noncomputable section

namespace Cert.MmDhIdeal.Val

open Idealize.ShloMosaic Idealize.ShloMosaic.TcCoe Idealize.ShloMosaic.ValueIdx Idealize.SL.Sem
open Cert.MmDhIdeal Cert.MmDhIdeal.Gen Cert.MmDhIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 6656 := m ((c : Thread nD τ).loc main_arg0)
abbrev arg1 (c : Dev nD) : Mat 1024 6656 := m ((c : Thread nD τ).loc main_arg1)
abbrev arg2 (c : Dev nD) : Mat 8192 1024 := m ((c : Thread nD τ).loc main_arg2)
abbrev arg3 (c : Dev nD) : Mat 1 1024 := m ((c : Thread nD τ).loc main_arg3)
abbrev arg4 (c : Dev nD) : Mat 8192 1024 := m ((c : Thread nD τ).loc main_arg4)

theorem host0 (c : Dev nD) (p : Fin 8192) (q : Fin 6656) : V m c main_v0 (ix2 p q) = arg0 m c (ix2 p q) := by
  have e : V m c main_v0 = truncf (F := Ideal) FTy.bf16 (m (c, Proc.tc.devRef main_arg0) : Vec Ideal S8192x6656 .f32) bitsLt_bf16_f32 := by
    unfold V; after_reads_simp
  rw [e]
  rfl

theorem host1 (c : Dev nD) (j : Fin 4) (p : Fin 1024) (q : Fin 1664) :
    V m c main_v10 (ix3 j p q) = arg1 m c (ix2 p ⟨1664 * j.val + q.val, block_lt rfl j q⟩) := by
  have e : V m c main_v10 = truncf (F := Ideal) FTy.bf16 (concatenate S4x1024x1664 0 [⟨S1x1024x1664, StableHlo.upto hostOps0 (fun b => m (c, b)) 9 (Proc.tc.devRef main_v5)⟩, ⟨S1x1024x1664, StableHlo.upto hostOps0 (fun b => m (c, b)) 9 (Proc.tc.devRef main_v6)⟩, ⟨S1x1024x1664, StableHlo.upto hostOps0 (fun b => m (c, b)) 9 (Proc.tc.devRef main_v7)⟩, ⟨S1x1024x1664, StableHlo.upto hostOps0 (fun b => m (c, b)) 9 (Proc.tc.devRef main_v8)⟩]
      concatenates_S1x1024x1664_S1x1024x1664_S1x1024x1664_S1x1024x1664_S4x1024x1664_d0 : Vec Ideal S4x1024x1664 .f32) bitsLt_bf16_f32 := by
    unfold V
    after_reads_simp
    rfl
  have u0 : StableHlo.upto hostOps0 (fun b => m (c, b)) 9 (Proc.tc.devRef main_v5) = broadcastInDim S1x1024x1664 ![1, 2] bcast_S1024x1664_S1x1024x1664_1_2 (extractStridedSlice S1024x1664 ![0, 0] (m (c, Proc.tc.devRef main_arg1) : Vec Ideal S1024x6656 .f32) slices_S1024x6656_S1024x1664_0_0) := by
    after_reads_simp
  have u1 : StableHlo.upto hostOps0 (fun b => m (c, b)) 9 (Proc.tc.devRef main_v6) = broadcastInDim S1x1024x1664 ![1, 2] bcast_S1024x1664_S1x1024x1664_1_2 (extractStridedSlice S1024x1664 ![0, 1664] (m (c, Proc.tc.devRef main_arg1) : Vec Ideal S1024x6656 .f32) slices_S1024x6656_S1024x1664_0_1664) := by
    after_reads_simp
  have u2 : StableHlo.upto hostOps0 (fun b => m (c, b)) 9 (Proc.tc.devRef main_v7) = broadcastInDim S1x1024x1664 ![1, 2] bcast_S1024x1664_S1x1024x1664_1_2 (extractStridedSlice S1024x1664 ![0, 3328] (m (c, Proc.tc.devRef main_arg1) : Vec Ideal S1024x6656 .f32) slices_S1024x6656_S1024x1664_0_3328) := by
    after_reads_simp
  have u3 : StableHlo.upto hostOps0 (fun b => m (c, b)) 9 (Proc.tc.devRef main_v8) = broadcastInDim S1x1024x1664 ![1, 2] bcast_S1024x1664_S1x1024x1664_1_2 (extractStridedSlice S1024x1664 ![0, 4992] (m (c, Proc.tc.devRef main_arg1) : Vec Ideal S1024x6656 .f32) slices_S1024x6656_S1024x1664_0_4992) := by
    after_reads_simp
  rw [e, u0, u1, u2, u3]
  exact colShards (n := 1024) (N := 6656) (w := 1664) (arg1 m c) rfl rfl rfl rfl (by decide) (by decide)
    slices_S1024x6656_S1024x1664_0_0 slices_S1024x6656_S1024x1664_0_1664 slices_S1024x6656_S1024x1664_0_3328 slices_S1024x6656_S1024x1664_0_4992 bcast_S1024x1664_S1x1024x1664_1_2
    concatenates_S1x1024x1664_S1x1024x1664_S1x1024x1664_S1x1024x1664_S4x1024x1664_d0 j p q

theorem host2 (c : Dev nD) (p : Fin 8192) (q : Fin 1024) : V m c main_arg2 (ix2 p q) = arg2 m c (ix2 p q) := by
  have e : V m c main_arg2 = m (c, Proc.tc.devRef main_arg2) := by unfold V; after_reads_simp
  rw [e]

theorem host3 (c : Dev nD) (p : Fin 1) (q : Fin 1024) : V m c main_arg3 (ix2 p q) = arg3 m c (ix2 p q) := by
  have e : V m c main_arg3 = m (c, Proc.tc.devRef main_arg3) := by unfold V; after_reads_simp
  rw [e]

theorem host4 (c : Dev nD) (p : Fin 8192) (q : Fin 1024) : V m c main_arg4 (ix2 p q) = arg4 m c (ix2 p q) := by
  have e : V m c main_arg4 = m (c, Proc.tc.devRef main_arg4) := by unfold V; after_reads_simp
  rw [e]

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem block0 (c : Dev nD) (t : Fin cfg0.N) (i : Fin 32) (ht : t.val = i.val) (p : Fin 256) (k : Fin 6656) :
    (iblk m c 0 t : Vec Ideal S256x6656 .bf16) (ix2 p k) = arg0 m c (ix2 ⟨256 * i.val + p.val, block_lt rfl i p⟩ k) := by
  have h := index0 t
  unfold iblk
  rw [View.read_apply]
  refine (congrArg (V m c main_v0) (funext fun a => Fin.ext ?_)).trans (host0 m c ⟨256 * i.val + p.val, block_lt rfl i p⟩ k)
  match a with
  | ⟨0, _⟩ => show win0_0.index t 0 * 256 + 1 * p.val = 256 * i.val + p.val; rw [h.1]; omega
  | ⟨1, _⟩ => show win0_0.index t 1 * 6656 + 1 * k.val = k.val; rw [h.2]; omega

theorem block1 (c : Dev nD) (t : Fin cfg0.N) (i : Fin 32) (ht : t.val = i.val) (s : Fin 4) (q : Fin 1024) (k : Fin 1664) :
    (iblk m c 1 t : Vec Ideal S4x1024x1664 .bf16) (ix3 s q k) = arg1 m c (ix2 q ⟨1664 * s.val + k.val, block_lt rfl s k⟩) := by
  have h := index1 t
  unfold iblk
  rw [View.read_apply]
  refine (congrArg (V m c main_v10) (funext fun a => Fin.ext ?_)).trans (host1 m c s q k)
  match a with
  | ⟨0, _⟩ => show win0_1.index t 0 * 4 + 1 * s.val = s.val; rw [h.1]; omega
  | ⟨1, _⟩ => show win0_1.index t 1 * 1024 + 1 * q.val = q.val; rw [h.2.1]; omega
  | ⟨2, _⟩ => show win0_1.index t 2 * 1664 + 1 * k.val = k.val; rw [h.2.2]; omega

theorem block2 (c : Dev nD) (t : Fin cfg0.N) (i : Fin 32) (ht : t.val = i.val) (p : Fin 256) (q : Fin 1024) :
    (iblk m c 2 t : Vec Ideal S256x1024 .f32) (ix2 p q) = arg2 m c (ix2 ⟨256 * i.val + p.val, block_lt rfl i p⟩ q) := by
  have h := index2 t
  unfold iblk
  rw [View.read_apply]
  refine (congrArg (V m c main_arg2) (funext fun a => Fin.ext ?_)).trans (host2 m c ⟨256 * i.val + p.val, block_lt rfl i p⟩ q)
  match a with
  | ⟨0, _⟩ => show win0_2.index t 0 * 256 + 1 * p.val = 256 * i.val + p.val; rw [h.1]; omega
  | ⟨1, _⟩ => show win0_2.index t 1 * 1024 + 1 * q.val = q.val; rw [h.2]; omega

theorem block3 (c : Dev nD) (t : Fin cfg0.N) (i : Fin 32) (ht : t.val = i.val) (q : Fin 1024) :
    (iblk m c 3 t : Vec Ideal S1x1024 .f32) (ix2 0 q) = arg3 m c (ix2 0 q) := by
  have h := index3 t
  unfold iblk
  rw [View.read_apply]
  refine (congrArg (V m c main_arg3) (funext fun a => Fin.ext ?_)).trans (host3 m c 0 q)
  match a with
  | ⟨0, _⟩ => show win0_3.index t 0 * 1 + 1 * 0 = 0; rw [h.1]
  | ⟨1, _⟩ => show win0_3.index t 1 * 1024 + 1 * q.val = q.val; rw [h.2]; omega

theorem block4 (c : Dev nD) (t : Fin cfg0.N) (i : Fin 32) (ht : t.val = i.val) (p : Fin 256) (q : Fin 1024) :
    (iblk m c 4 t : Vec Ideal S256x1024 .f32) (ix2 p q) = arg4 m c (ix2 ⟨256 * i.val + p.val, block_lt rfl i p⟩ q) := by
  have h := index4 t
  unfold iblk
  rw [View.read_apply]
  refine (congrArg (V m c main_arg4) (funext fun a => Fin.ext ?_)).trans (host4 m c ⟨256 * i.val + p.val, block_lt rfl i p⟩ q)
  match a with
  | ⟨0, _⟩ => show win0_4.index t 0 * 256 + 1 * p.val = 256 * i.val + p.val; rw [h.1]; omega
  | ⟨1, _⟩ => show win0_4.index t 1 * 1024 + 1 * q.val = q.val; rw [h.2]; omega

/-- One shard's product. -/
theorem part_apply (a : Vec Ideal S256x1664 .bf16) (b : Vec Ideal S1x1024x1664 .bf16) (ha : S256x1664.ShapeCasts S256x1664)
    (hb : S1x1024x1664.ShapeCasts S1024x1664) (p : Fin 256) (q : Fin 1024) :
    matmul (F := Ideal) (φ₁ := .bf16) (φ₂ := .bf16) dot_S256x1664_S1024x1664_S256x1024_1_1_0_0_n_n none (shapeCast S256x1664 a ha : FVec Ideal S256x1664 .bf16) (shapeCast S1024x1664 b hb : FVec Ideal S1024x1664 .bf16)
        (constant S256x1024 .f32 0x00000000#32 : FVec Ideal S256x1024 .f32) (ix2 p q)
      = ∑ k : Fin 1664, (a (ix2 p k) : EReal) * b (ix3 0 q k) := by
  refine (dotNT dot_S256x1664_S1024x1664_S256x1024_1_1_0_0_n_n rfl rfl
    (fun _ _ => by simp [DotDims.lhsIdx, dot_S256x1664_S1024x1664_S256x1024_1_1_0_0_n_n]; rfl)
    (fun _ _ => by simp [DotDims.lhsIdx, dot_S256x1664_S1024x1664_S256x1024_1_1_0_0_n_n]; rfl)
    (fun _ _ => by simp [DotDims.rhsIdx, dot_S256x1664_S1024x1664_S256x1024_1_1_0_0_n_n]; rfl)
    (fun _ _ => by simp [DotDims.rhsIdx, dot_S256x1664_S1024x1664_S256x1024_1_1_0_0_n_n]; rfl) none _ _ p q).trans ?_
  exact Finset.sum_congr rfl fun k _ => congrArg₂ (fun u v : EReal => u * v) (congrFun (shapeCast_self a ha) (ix2 p k)) (dropLead _ _ q k)

/-- The cotangent of the norm's output, a point's rows. -/
def dhBlock (x0 : Vec Ideal S256x6656 .bf16) (x1 : Vec Ideal S4x1024x1664 .bf16) : FVec Ideal S256x1024 .f32 :=
  k0_pay6 (View.ld x0 (Rect.unit (s := S256x6656) ![0, 0] S256x1664.size inb_S256x6656_S256x1664_0_0)) (View.ld x1 (Rect.unit (s := S4x1024x1664) ![0, 0, 0] S1x1024x1664.size inb_S4x1024x1664_S1x1024x1664_0_0_0)) (View.ld x0 (Rect.unit (s := S256x6656) ![0, 1664] S256x1664.size inb_S256x6656_S256x1664_0_1664)) (View.ld x1 (Rect.unit (s := S4x1024x1664) ![1, 0, 0] S1x1024x1664.size inb_S4x1024x1664_S1x1024x1664_1_0_0)) (View.ld x0 (Rect.unit (s := S256x6656) ![0, 3328] S256x1664.size inb_S256x6656_S256x1664_0_3328)) (View.ld x1 (Rect.unit (s := S4x1024x1664) ![2, 0, 0] S1x1024x1664.size inb_S4x1024x1664_S1x1024x1664_2_0_0)) (View.ld x0 (Rect.unit (s := S256x6656) ![0, 4992] S256x1664.size inb_S256x6656_S256x1664_0_4992)) (View.ld x1 (Rect.unit (s := S4x1024x1664) ![3, 0, 0] S1x1024x1664.size inb_S4x1024x1664_S1x1024x1664_3_0_0))

/-- A shard's part of an entry. -/
def shardPart (x0 : Vec Ideal S256x6656 .bf16) (x1 : Vec Ideal S4x1024x1664 .bf16) (s : Fin 4) (p : Fin 256) (q : Fin 1024) : EReal :=
  ∑ k : Fin 1664, (x0 (ix2 p ⟨1664 * s.val + k.val, block_lt rfl s k⟩) : EReal) * x1 (ix3 s q k)

theorem dhBlock_apply (x0 : Vec Ideal S256x6656 .bf16) (x1 : Vec Ideal S4x1024x1664 .bf16) (p : Fin 256) (q : Fin 1024) :
    dhBlock x0 x1 (ix2 p q) = shardPart x0 x1 0 p q + shardPart x0 x1 1 p q + shardPart x0 x1 2 p q + shardPart x0 x1 3 p q := by
  unfold dhBlock k0_pay6
  refine congrArg₂ (fun u v : EReal => u + v) (congrArg₂ (fun u v : EReal => u + v) (congrArg₂ (fun u v : EReal => u + v) ?_ ?_) ?_) ?_
  · refine (part_apply _ _ _ _ p q).trans (Finset.sum_congr rfl fun k _ => congrArg₂ (fun u v : EReal => u * v) ?_ ?_)
    · refine View.ld_unit_apply_of x0 _ _ _ _ _ fun a => ?_
      match a with
      | ⟨0, _⟩ => show p.val = 0 + p.val; omega
      | ⟨1, _⟩ => show 1664 * 0 + k.val = 0 + k.val; omega
    · refine View.ld_unit_apply_of x1 _ _ _ _ _ fun a => ?_
      match a with
      | ⟨0, _⟩ => rfl
      | ⟨1, _⟩ => show q.val = 0 + q.val; omega
      | ⟨2, _⟩ => show k.val = 0 + k.val; omega
  · refine (part_apply _ _ _ _ p q).trans (Finset.sum_congr rfl fun k _ => congrArg₂ (fun u v : EReal => u * v) ?_ ?_)
    · refine View.ld_unit_apply_of x0 _ _ _ _ _ fun a => ?_
      match a with
      | ⟨0, _⟩ => show p.val = 0 + p.val; omega
      | ⟨1, _⟩ => show 1664 * 1 + k.val = 1664 + k.val; omega
    · refine View.ld_unit_apply_of x1 _ _ _ _ _ fun a => ?_
      match a with
      | ⟨0, _⟩ => rfl
      | ⟨1, _⟩ => show q.val = 0 + q.val; omega
      | ⟨2, _⟩ => show k.val = 0 + k.val; omega
  · refine (part_apply _ _ _ _ p q).trans (Finset.sum_congr rfl fun k _ => congrArg₂ (fun u v : EReal => u * v) ?_ ?_)
    · refine View.ld_unit_apply_of x0 _ _ _ _ _ fun a => ?_
      match a with
      | ⟨0, _⟩ => show p.val = 0 + p.val; omega
      | ⟨1, _⟩ => show 1664 * 2 + k.val = 3328 + k.val; omega
    · refine View.ld_unit_apply_of x1 _ _ _ _ _ fun a => ?_
      match a with
      | ⟨0, _⟩ => rfl
      | ⟨1, _⟩ => show q.val = 0 + q.val; omega
      | ⟨2, _⟩ => show k.val = 0 + k.val; omega
  · refine (part_apply _ _ _ _ p q).trans (Finset.sum_congr rfl fun k _ => congrArg₂ (fun u v : EReal => u * v) ?_ ?_)
    · refine View.ld_unit_apply_of x0 _ _ _ _ _ fun a => ?_
      match a with
      | ⟨0, _⟩ => show p.val = 0 + p.val; omega
      | ⟨1, _⟩ => show 1664 * 3 + k.val = 4992 + k.val; omega
    · refine View.ld_unit_apply_of x1 _ _ _ _ _ fun a => ?_
      match a with
      | ⟨0, _⟩ => rfl
      | ⟨1, _⟩ => show q.val = 0 + q.val; omega
      | ⟨2, _⟩ => show k.val = 0 + k.val; omega

/-- The factors of a block of rows. -/
theorem root_apply (x : Vec Ideal S256x1024 .f32) (p : Fin 256) : k0_pay1 (k0_pay7 x) k0_pay8 (ix2 p 0) = scale (x : Mat 256 1024) p := by
  unfold k0_pay1 k0_pay7 k0_pay8
  exact congrArg (fun e : EReal => Ideal.rsqrt (Ideal.div e (Ideal.ofBits .f32 0x44800000#32) + Ideal.ofBits .f32 0x358637BD#32))
    ((toCol _ _ p).trans (rowSum _ _ _ _ _ p))

theorem scaled_apply (x : Vec Ideal S256x1024 .f32) (p : Fin 256) (q : Fin 1024) :
    k0_pay2 x (k0_pay7 x) k0_pay8 (ix2 p q) = x (ix2 p q) * scale (x : Mat 256 1024) p := by
  unfold k0_pay2
  exact congrArg₂ (fun u v : EReal => u * v) rfl ((spreadCol _ _ p q).trans (root_apply x p))

/-- The norm's gradient on a block of rows, added to the residual's cotangent. -/
theorem back_apply (dh : FVec Ideal S256x1024 .f32) (x : Vec Ideal S256x1024 .f32) (g : Vec Ideal S1x1024 .f32) (dx : Vec Ideal S256x1024 .f32) (p : Fin 256) (q : Fin 1024) :
    k0_pay3 dh x (k0_pay7 x) k0_pay8 g dx (ix2 p q) = dx (ix2 p q) + back (x : Mat 256 1024) (dh : Mat 256 1024) (g : Mat 1 1024) (ix2 p q) := by
  unfold k0_pay3
  refine congrArg₂ (fun u v : EReal => u + v) rfl (congrArg₂ (fun u v : EReal => u * v) ((spreadCol _ _ p q).trans (root_apply x p)) ?_)
  refine congrArg₂ (fun u v : EReal => u - v) (congrArg₂ (fun u v : EReal => u * v) rfl (spreadRow _ _ p q)) (congrArg₂ (fun u v : EReal => u * v) (scaled_apply x p q) ?_)
  refine (spreadCol _ _ p q).trans (congrArg (fun e : EReal => Ideal.div e (Ideal.ofBits .f32 0x44800000#32)) (((toCol _ _ p).trans (rowSum _ _ _ _ _ p)).trans ?_))
  exact Finset.sum_congr rfl fun k _ => congrArg₂ (fun u v : EReal => u * v) (congrArg₂ (fun u v : EReal => u * v) rfl (spreadRow _ _ p k)) (scaled_apply x p k)

/-- A block's part of the gain's gradient. -/
theorem gain_eq (dh : FVec Ideal S256x1024 .f32) (x : Vec Ideal S256x1024 .f32) : k0_pay4 dh x (k0_pay7 x) k0_pay8 = backGain (x : Mat 256 1024) (dh : Mat 256 1024) := by
  funext i
  have hi : i = ix2 0 (i 1) := funext fun a => Fin.ext (by
    match a with
    | ⟨0, _⟩ => have y0 : (i 0).val < 1 := (i 0).isLt; show (i 0).val = 0; omega
    | ⟨1, _⟩ => rfl)
  rw [hi]
  unfold k0_pay4
  refine ((toRow _ _ (i 1 : Fin 1024)).trans (colSum _ _ _ _ _ (i 1 : Fin 1024))).trans ?_
  exact Finset.sum_congr rfl fun k _ => congrArg₂ (fun u v : EReal => u * v) rfl (scaled_apply x k (i 1 : Fin 1024))

/-- The first point's block of the result. -/
theorem out_A5 (c : Dev nD) (i : grid0.Coords) (arg1 : Memref sig .tc .vmem S256x6656 .bf16) (harg1 : arg1.IsWhole) (arg2 : Memref sig .tc .vmem S4x1024x1664 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (hc0 : cond0_0 i) (hc1 : ¬cond0_1 i) (x0 : Vec Ideal S256x6656 .bf16) (x1 : Vec Ideal S4x1024x1664 .bf16) (x2 : Vec Ideal S256x1024 .f32) (x3 : Vec Ideal S1x1024 .f32) (x4 : Vec Ideal S256x1024 .f32) :
    out0_A_5 (F := Ideal) c i arg1 harg1 arg2 harg2 arg3 harg3 arg4 harg4 arg5 harg5 arg6 harg6 arg7 harg7 hc0 hc1 x0 x1 x2 x3 x4 = k0_pay3 (dhBlock x0 x1) x2 (k0_pay7 x2) k0_pay8 x3 x4 := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero at00]
  simp only [View.readAt_eq_ld, harg1.read_unread, harg2.read_unread, harg3.read_unread, harg4.read_unread, harg5.read_unread, harg7.read_unread, View.ld_unit_zero (S := S1x1024) at00, View.ld_unit_zero (S := S256x1024) at00, shapeCast_self]
  rfl

/-- The first point starts the gain's gradient. -/
theorem out_A6 (c : Dev nD) (i : grid0.Coords) (arg1 : Memref sig .tc .vmem S256x6656 .bf16) (harg1 : arg1.IsWhole) (arg2 : Memref sig .tc .vmem S4x1024x1664 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (hc0 : cond0_0 i) (hc1 : ¬cond0_1 i) (x0 : Vec Ideal S256x6656 .bf16) (x1 : Vec Ideal S4x1024x1664 .bf16) (x2 : Vec Ideal S256x1024 .f32) (x3 : Vec Ideal S1x1024 .f32) (x4 : Vec Ideal S256x1024 .f32) :
    out0_A_6 (F := Ideal) c i arg1 harg1 arg2 harg2 arg3 harg3 arg4 harg4 arg5 harg5 arg6 harg6 arg7 harg7 hc0 hc1 x0 x1 x2 x3 x4 = k0_pay4 (dhBlock x0 x1) x2 (k0_pay7 x2) k0_pay8 := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4)]
  unfold kernelRun0_A
  dsimp only
  sl_unfold_words
  rw [View.canon_unit_zero at00]
  simp only [View.readAt_eq_ld, harg1.read_unread, harg2.read_unread, harg3.read_unread, harg4.read_unread, harg5.read_unread, harg7.read_unread, View.ld_unit_zero (S := S1x1024) at00, View.ld_unit_zero (S := S256x1024) at00, shapeCast_self]
  rfl

/-- A later point's block. -/
theorem out_B5 (c : Dev nD) (i : grid0.Coords) (arg1 : Memref sig .tc .vmem S256x6656 .bf16) (harg1 : arg1.IsWhole) (arg2 : Memref sig .tc .vmem S4x1024x1664 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (hc0 : ¬cond0_0 i) (hc1 : cond0_1 i) (x0 : Vec Ideal S256x6656 .bf16) (x1 : Vec Ideal S4x1024x1664 .bf16) (x2 : Vec Ideal S256x1024 .f32) (x3 : Vec Ideal S1x1024 .f32) (x4 : Vec Ideal S256x1024 .f32) (xo : Vec Ideal S1x1024 .f32) :
    out0_B_5 (F := Ideal) c i arg1 harg1 arg2 harg2 arg3 harg3 arg4 harg4 arg5 harg5 arg6 harg6 arg7 harg7 hc0 hc1 x0 x1 x2 x3 x4 xo = k0_pay3 (dhBlock x0 x1) x2 (k0_pay7 x2) k0_pay8 x3 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo)]
  unfold kernelRun0_B
  dsimp only
  sl_unfold_words
  rw [View.canon_unit_zero at00]
  simp only [View.readAt_eq_ld, harg1.read_unread, harg2.read_unread, harg3.read_unread, harg4.read_unread, harg5.read_unread, harg7.read_unread, View.ld_unit_zero (S := S1x1024) at00, View.ld_unit_zero (S := S256x1024) at00, shapeCast_self]
  rfl

/-- A later point adds to the gain's gradient. -/
theorem out_B6 (c : Dev nD) (i : grid0.Coords) (arg1 : Memref sig .tc .vmem S256x6656 .bf16) (harg1 : arg1.IsWhole) (arg2 : Memref sig .tc .vmem S4x1024x1664 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (hc0 : ¬cond0_0 i) (hc1 : cond0_1 i) (x0 : Vec Ideal S256x6656 .bf16) (x1 : Vec Ideal S4x1024x1664 .bf16) (x2 : Vec Ideal S256x1024 .f32) (x3 : Vec Ideal S1x1024 .f32) (x4 : Vec Ideal S256x1024 .f32) (xo : Vec Ideal S1x1024 .f32) :
    out0_B_6 (F := Ideal) c i arg1 harg1 arg2 harg2 arg3 harg3 arg4 harg4 arg5 harg5 arg6 harg6 arg7 harg7 hc0 hc1 x0 x1 x2 x3 x4 xo = addf xo (k0_pay4 (dhBlock x0 x1) x2 (k0_pay7 x2) k0_pay8) := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 xo)]
  unfold kernelRun0_B
  dsimp only
  sl_unfold_words
  rw [View.canon_unit_zero at00]
  unfold k0_pay5
  simp only [View.readAt_eq_ld, harg1.read_unread, harg2.read_unread, harg3.read_unread, harg4.read_unread, harg5.read_unread, harg7.read_unread, View.ld_unit_zero (S := S1x1024) at00, View.ld_unit_zero (S := S256x1024) at00, shapeCast_self]
  rfl

/-! ## The points -/

/-- A point's block of the result. -/
theorem outs5 (c : Dev nD) (t : Fin cfg0.N) : (outsAt0 m c t.val t.isLt).1 = k0_pay3 (dhBlock (iblk m c 0 t) (iblk m c 1 t)) (iblk m c 2 t) (k0_pay7 (iblk m c 2 t)) k0_pay8 (iblk m c 3 t) (iblk m c 4 t) := by
  have hT := t.isLt
  have hN : cfg0.N = 32 := N_0
  by_cases h0 : t.val % 32 = 0
  · have h1 : ¬1 ≤ t.val := by omega
    rw [outsAt0_A m c t h0 h1]
    dsimp only
    exact out_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t)
  · have h1 : 1 ≤ t.val := by omega
    rw [outsAt0_B m c t h0 h1]
    dsimp only
    exact out_B5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- A point's part of the gain's gradient. -/
def gainAt (c : Dev nD) (t : Fin cfg0.N) : Mat 1 1024 := backGain (iblk m c 2 t : Mat 256 1024) ((dhBlock (iblk m c 0 t) (iblk m c 1 t)) : Mat 256 1024)

theorem outs6_first (c : Dev nD) (t : Fin cfg0.N) (h0 : t.val % 32 = 0) (h1 : ¬1 ≤ t.val) : (outsAt0 m c t.val t.isLt).2 = gainAt m c t := by
  rw [outsAt0_A m c t h0 h1]
  dsimp only
  exact (out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t)).trans (gain_eq _ _)

theorem outs6_next (c : Dev nD) (t : Fin cfg0.N) (h0 : ¬t.val % 32 = 0) (h1 : 1 ≤ t.val) :
    (outsAt0 m c t.val t.isLt).2 = fun i => ((outsAt0 m c (t.val - 1) (Nat.lt_of_le_of_lt (Nat.sub_le _ _) t.isLt)).2 i : EReal) + gainAt m c t i := by
  rw [outsAt0_B m c t h0 h1]
  dsimp only
  refine (out_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans ?_
  rw [gain_eq]
  rfl

/-- The gain's gradient after point `n`: the sum of the parts up to `n`. -/
theorem outs6 (c : Dev nD) : ∀ (n : ℕ) (h : n < cfg0.N), (outsAt0 m c n h).2 = fun i => ∑ s : Fin (n + 1), gainAt m c ⟨s.val, by omega⟩ i
  | 0, h => by
    refine (outs6_first m c ⟨0, h⟩ rfl (Nat.not_succ_le_zero 0)).trans (funext fun i => ?_)
    rw [Fin.sum_univ_one]
    rfl
  | n + 1, h => by
    have hN : cfg0.N = 32 := N_0
    refine (outs6_next m c ⟨n + 1, h⟩ (by dsimp only; omega) (Nat.le_add_left _ _)).trans (funext fun i => ?_)
    rw [Fin.sum_univ_castSucc]
    exact congrArg₂ (fun u v : EReal => u + v) (congrFun (outs6 c n (Nat.lt_of_succ_lt h)) i) rfl

/-- A point's rows of the norm's output's cotangent. -/
theorem dh_value (c : Dev nD) (t : Fin cfg0.N) (i : Fin 32) (ht : t.val = i.val) (p : Fin 256) (q : Fin 1024) :
    (dhBlock (iblk m c 0 t) (iblk m c 1 t)) (ix2 p q) = prodT (arg0 m c) (arg1 m c) (ix2 ⟨256 * i.val + p.val, block_lt rfl i p⟩ q) := by
  rw [dhBlock_apply]
  refine prodT_cut (w := 1664) rfl (arg0 m c) (arg1 m c) ⟨256 * i.val + p.val, block_lt rfl i p⟩ q (fun s => shardPart (iblk m c 0 t) (iblk m c 1 t) s p q) fun s => ?_
  exact Finset.sum_congr rfl fun k _ => congrArg₂ (fun u v : EReal => u * v) (block0 m c t i ht p _) (block1 m c t i ht s q k)

/-- The gain, as every point reads it. -/
theorem gain_value (c : Dev nD) (t : Fin cfg0.N) (i : Fin 32) (ht : t.val = i.val) : (iblk m c 3 t : Mat 1 1024) = arg3 m c := by
  funext y
  have hy : y = ix2 0 (y 1) := funext fun a => Fin.ext (by
    match a with
    | ⟨0, _⟩ => have y0 : (y 0).val < 1 := (y 0).isLt; show (y 0).val = 0; omega
    | ⟨1, _⟩ => rfl)
  rw [hy]
  exact block3 m c t i ht (y 1 : Fin 1024)

theorem value5 (c : Dev nD) (t : Fin cfg0.N) (i : Fin 32) (ht : t.val = i.val) (p : Fin 256) (q : Fin 1024) :
    (outsAt0 m c t.val t.isLt).1 (ix2 p q) = plus (arg4 m c) (back (arg2 m c) (prodT (arg0 m c) (arg1 m c)) (arg3 m c)) (ix2 ⟨256 * i.val + p.val, block_lt rfl i p⟩ q) := by
  rw [outs5]
  refine (back_apply _ _ _ _ p q).trans (congrArg₂ (fun u v : EReal => u + v) (block4 m c t i ht p q) ?_)
  rw [gain_value m c t i ht]
  exact back_rows (fun p : Fin 256 => ⟨256 * i.val + p.val, block_lt rfl i p⟩) _ _ (arg2 m c) (prodT (arg0 m c) (arg1 m c)) (arg3 m c) (block2 m c t i ht) (dh_value m c t i ht) p q

/-- After the last point it is the sum over all rows. -/
theorem outs6_last (c : Dev nD) (n : ℕ) (h : n < cfg0.N) (hn : n = 31) : (outsAt0 m c n h).2 = backGain (arg2 m c) (prodT (arg0 m c) (arg1 m c)) := by
  rw [outs6]
  subst hn
  have hN : cfg0.N = 32 := N_0
  funext i
  have hi : i = ix2 0 (i 1) := funext fun a => Fin.ext (by
    match a with
    | ⟨0, _⟩ => have y0 : (i 0).val < 1 := (i 0).isLt; show (i 0).val = 0; omega
    | ⟨1, _⟩ => rfl)
  rw [hi]
  exact gain_blocks (m := 32) (n := 256) rfl (fun j => iblk m c 2 ⟨j.val, by omega⟩) (fun j => dhBlock (iblk m c 0 ⟨j.val, by omega⟩) (iblk m c 1 ⟨j.val, by omega⟩))
    (arg2 m c) (prodT (arg0 m c) (arg1 m c)) (fun j => block2 m c ⟨j.val, by omega⟩ j rfl) (fun j => dh_value m c ⟨j.val, by omega⟩ j rfl) (i 1 : Fin 1024)

theorem flushed_eq5 (c : Dev nD) (t : Fin cfg0.N) (hf : (cfg0.win 5).flush t = true) :
    (dats m 0 c).flushed 5 t = ((cfg0.win 5).blk t).view.read (Elt Ideal) (plus (arg4 m c) (back (arg2 m c) (prodT (arg0 m c) (arg1 m c)) (arg3 m c))) := by
  have hT := t.isLt
  have hN : cfg0.N = 32 := N_0
  have h := index5 t
  rw [flushed5]
  funext y
  rw [View.read_apply]
  obtain ⟨i, ht⟩ : ∃ (i : Fin 32), t.val = i.val := ⟨⟨t.val, by omega⟩, by show t.val = _; rfl⟩
  have hy : (((cfg0.win 5).blk t).view.emb y) = ix2 (⟨256 * i.val + (y 0 : Fin 256).val, block_lt rfl i (y 0 : Fin 256)⟩ : Fin 8192) (y 1 : Fin 1024) := funext fun a => Fin.ext (by
    match a with
    | ⟨0, _⟩ => show win0_5.index t 0 * 256 + 1 * (y 0).val = 256 * i.val + (y 0).val; rw [h.1]; omega
    | ⟨1, _⟩ => show win0_5.index t 1 * 1024 + 1 * (y 1).val = (y 1).val; rw [h.2]; omega)
  have y0 : y = ix2 (y 0 : Fin 256) (y 1 : Fin 1024) := funext fun a => Fin.ext (by
    match a with
    | ⟨0, _⟩ => rfl
    | ⟨1, _⟩ => rfl)
  show ((outsAt0 m c t.val t.isLt).1) y = (plus (arg4 m c) (back (arg2 m c) (prodT (arg0 m c) (arg1 m c)) (arg3 m c))) (((cfg0.win 5).blk t).view.emb y)
  rw [hy]
  exact (congrArg ((outsAt0 m c t.val t.isLt).1) y0).trans (value5 m c t i ht (y 0) (y 1))

theorem final5 (c : Dev nD) : (dats m 0 c).arrAt 5 cfg0.N = (plus (arg4 m c) (back (arg2 m c) (prodT (arg0 m c) (arg1 m c)) (arg3 m c)) : Buf (Elt Ideal) ((c : Thread nD τ).loc main_v11_0)) :=
  (dats m 0 c).arrAt_eq_of_cover 5 _ (flushed_eq5 m c) fun i => by
    have hN : cfg0.N = 32 := N_0
    have b0 : (i 0 : Nat) < 8192 := (i 0).isLt
    have b1 : (i 1 : Nat) < 1024 := (i 1).isLt
    let t : Fin cfg0.N := ⟨(i 0).val / 256, by rw [hN]; omega⟩
    have htv : t.val = (i 0).val / 256 := rfl
    refine ⟨t, flush0_5 t, ?_⟩
    have h := index5 t
    show i ∈ ((View.whole main_v11_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; rw [h.1]; omega
    | ⟨1, _⟩ => show win0_5.index t 1 * 1024 ≤ (i 1 : Nat) ∧ (i 1 : Nat) < win0_5.index t 1 * 1024 + 1024; rw [h.2]; omega

theorem flushed_eq6 (c : Dev nD) (t : Fin cfg0.N) (hf : (cfg0.win 6).flush t = true) :
    (dats m 0 c).flushed 6 t = ((cfg0.win 6).blk t).view.read (Elt Ideal) (backGain (arg2 m c) (prodT (arg0 m c) (arg1 m c))) := by
  have hN : cfg0.N = 32 := N_0
  have h := index6 t
  have hl : t.val = 31 := by have := (flush0_6 t).mp hf; have := t.isLt; omega
  have e : (outsAt0 m c t.val t.isLt).2 = backGain (arg2 m c) (prodT (arg0 m c) (arg1 m c)) := outs6_last m c t.val t.isLt hl
  rw [flushed6, e]
  funext y
  rw [View.read_apply]
  show (backGain (arg2 m c) (prodT (arg0 m c) (arg1 m c))) y = (backGain (arg2 m c) (prodT (arg0 m c) (arg1 m c))) (((cfg0.win 6).blk t).view.emb y)
  have hy : ((cfg0.win 6).blk t).view.emb y = y := funext fun a => Fin.ext (by
    match a with
    | ⟨0, _⟩ => show win0_6.index t 0 * 1 + 1 * (y 0).val = (y 0).val; rw [h.1]; omega
    | ⟨1, _⟩ => show win0_6.index t 1 * 1024 + 1 * (y 1).val = (y 1).val; rw [h.2]; omega)
  rw [hy]

theorem final6 (c : Dev nD) : (dats m 0 c).arrAt 6 cfg0.N = (backGain (arg2 m c) (prodT (arg0 m c) (arg1 m c)) : Buf (Elt Ideal) ((c : Thread nD τ).loc main_v11_1)) :=
  (dats m 0 c).arrAt_eq_of_cover 6 _ (flushed_eq6 m c) fun i => by
    have hN : cfg0.N = 32 := N_0
    have b0 : (i 0 : Nat) < 1 := (i 0).isLt
    have b1 : (i 1 : Nat) < 1024 := (i 1).isLt
    let t : Fin cfg0.N := ⟨31, by rw [hN]; omega⟩
    refine ⟨t, (flush0_6 t).mpr rfl, ?_⟩
    have h := index6 t
    show i ∈ ((View.whole main_v11_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [h.1]; omega
    | ⟨1, _⟩ => show win0_6.index t 1 * 1024 ≤ (i 1 : Nat) ∧ (i 1 : Nat) < win0_6.index t 1 * 1024 + 1024; rw [h.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v11_0) = plus (arg4 m c) (back (arg2 m c) (prodT (arg0 m c) (arg1 m c)) (arg3 m c))
      ∧ r.2.mem ((c : Thread nD τ).loc main_v11_1) = backGain (arg2 m c) (prodT (arg0 m c) (arg1 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (run_blocks m ρ)

end Cert.MmDhIdeal.Val

namespace Cert.MmDhReferenceIdeal.Val

open Idealize.ShloMosaic Idealize.ShloMosaic.TcCoe Idealize.ShloMosaic.ValueIdx Idealize.SL.Sem
open Cert.MmDhReferenceIdeal Cert.MmDhReferenceIdeal.Gen Cert.MmDhReferenceIdeal.Read Cert.Prods
open Cert.MixBwd (Mat Stack)

/-- What the root is taken of. -/
theorem root_arg (x2 : Mat 8192 1024) (i : S8192x1.Idx) :
    val_main_v6 (F := Ideal) x2 i = Ideal.div (∑ k : Fin 1024, x2 (ix2 (i 0) k) * x2 (ix2 (i 0) k)) (Ideal.ofBits .f32 0x44800000#32) + Ideal.ofBits .f32 0x358637BD#32 := by
  rw [val_main_v6_apply, val_main_v5_apply, val_main_v4_apply, val_main_v3_apply, val_main_v2_apply, val_main_v1_apply, val_main_cst_apply, val_main_cst_0_apply, val_main_cst_1_apply]
  simp only [val_main_v0_apply]
  show Ideal.div (Ideal.ofBits .f32 0x00000000#32 + ∑ k : Fin 1024, _ * _) (Ideal.ofBits .f32 0x44800000#32) + Ideal.ofBits .f32 0x358637BD#32 = _
  rw [Idealize.ShloMosaic.Ideal.ofBits_zero_f32, zero_add]
  refine congrArg (fun e : EReal => Ideal.div e (Ideal.ofBits .f32 0x44800000#32) + Ideal.ofBits .f32 0x358637BD#32) (Finset.sum_congr rfl fun k _ => ?_)
  exact congrArg₂ (fun u v : EReal => u * v) (congrArg x2 (Shape.idx_ext₂ rfl rfl)) (congrArg x2 (Shape.idx_ext₂ rfl rfl))

theorem root_eq (x2 : Mat 8192 1024) (i : S8192x1.Idx) : val_main_v7 (F := Ideal) x2 i = scale x2 (i 0) := by
  rw [val_main_v7_apply, root_arg]
  rfl

/-- The cotangent of the norm's output. -/
theorem dh_eq (x0 : Mat 8192 6656) (x1 : Mat 1024 6656) (r : Fin 8192) (q : Fin 1024) :
    val_main_v16 (F := Ideal) x0 x1 (ix2 r q) = prodT x0 x1 (ix2 r q) := by
  refine (val_main_v16_apply x0 x1 _).trans (Finset.sum_congr rfl fun k _ => ?_)
  exact congrArg₂ (fun u v : EReal => u * v) (congrArg x0 (Shape.idx_ext₂ rfl rfl)) (congrArg x1 (Shape.idx_ext₂ rfl rfl))

/-- The gain's gradient, at an entry. -/
theorem gain_at (x0 : Mat 8192 6656) (x1 : Mat 1024 6656) (x2 : Mat 8192 1024) (q : Fin 1024) :
    val_main_v19 (F := Ideal) x0 x1 x2 (ix2 0 q) = backGain x2 (prodT x0 x1) (ix2 0 q) := by
  rw [val_main_v19_apply, val_main_v18_apply, val_main_cst_3_apply]
  show Ideal.ofBits .f32 0x00000000#32 + _ = _
  rw [Idealize.ShloMosaic.Ideal.ofBits_zero_f32, zero_add]
  refine Finset.sum_congr rfl fun k _ => ?_
  have hk : idx_main_v18 (idx_main_v19 (ix2 0 q)) k = ix2 k q := Shape.idx_ext₂ rfl (by
    show 0 * 1024 + q.val = q.val
    omega)
  rw [hk, val_main_v17_apply, val_main_v12_apply, val_main_v11_apply, root_eq, dh_eq]
  exact mul_comm _ _

/-- The gain's gradient. -/
theorem gain_eq (x0 : Mat 8192 6656) (x1 : Mat 1024 6656) (x2 : Mat 8192 1024) :
    (val_main_v19 (F := Ideal) x0 x1 x2 : Mat 1 1024) = backGain x2 (prodT x0 x1) := by
  funext i
  have hi : i = ix2 (0 : Fin 1) (i 1 : Fin 1024) := Shape.idx_ext₂ (by
    have y0 : (i 0).val < 1 := (i 0).isLt
    show (i 0).val = 0
    omega) rfl
  exact ((congrArg _ hi).trans (gain_at x0 x1 x2 (i 1))).trans (congrArg _ hi.symm)

/-- The mean in the gradient of the norm. -/
theorem mean_eq (x0 : Mat 8192 6656) (x1 : Mat 1024 6656) (x2 : Mat 8192 1024) (x3 : Mat 1 1024) (r : Fin 8192) (q : Fin 1024) :
    val_main_v31 (F := Ideal) x0 x1 x2 x3 (ix2 r q)
      = Ideal.div ((∑ k : Fin 1024, x2 (ix2 r k) * (prodT x0 x1 (ix2 r k) * x3 (ix2 0 k)))
            * (Ideal.ofBits .f32 0xBF000000#32 * Ideal.div (scale x2 r)
                (Ideal.div (∑ k : Fin 1024, x2 (ix2 r k) * x2 (ix2 r k)) (Ideal.ofBits .f32 0x44800000#32) + Ideal.ofBits .f32 0x358637BD#32)))
            (Ideal.ofBits .f32 0x44800000#32) := by
  rw [val_main_v31_apply, val_main_v30_apply, val_main_cst_6_apply, Fin.sum_univ_one, val_main_v29_apply, val_main_v28_apply, val_main_cst_5_apply, val_main_v27_apply,
    val_main_v24_apply, val_main_v23_apply, val_main_cst_4_apply, val_main_v10_apply, val_main_v9_apply, val_main_cst_2_apply, val_main_v8_apply, root_eq, root_arg]
  show Ideal.ofBits .f32 0x00000000#32 + Ideal.div ((Ideal.ofBits .f32 0x00000000#32 + ∑ k : Fin 1024, _) * (Ideal.ofBits .f32 0xBF000000#32 * Ideal.div (scale x2 r) _)) (Ideal.ofBits .f32 0x44800000#32) = _
  rw [Idealize.ShloMosaic.Ideal.ofBits_zero_f32, zero_add, zero_add]
  refine congrArg (fun e : EReal => Ideal.div (e * (Ideal.ofBits .f32 0xBF000000#32 * Ideal.div (scale x2 r)
                (Ideal.div (∑ k : Fin 1024, x2 (ix2 r k) * x2 (ix2 r k)) (Ideal.ofBits .f32 0x44800000#32) + Ideal.ofBits .f32 0x358637BD#32)))
            (Ideal.ofBits .f32 0x44800000#32)) (Finset.sum_congr rfl fun k _ => ?_)
  have hk : idx_main_v23 (idx_main_v24 (idx_main_v30 (idx_main_v31 (ix2 r q)) 0)) k = ix2 r k := Shape.idx_ext₂ (by
    show r.val * 1 + 0 = r.val
    omega) rfl
  rw [hk, val_main_v22_apply, val_main_v21_apply, val_main_v20_apply, dh_eq]
  exact congrArg₂ (fun u v : EReal => u * v) rfl (congrArg₂ (fun u v : EReal => u * v) rfl (congrArg x3 (Shape.idx_ext₂ rfl rfl)))

/-- The residual's cotangent, at an entry. -/
theorem back_at (x0 : Mat 8192 6656) (x1 : Mat 1024 6656) (x2 : Mat 8192 1024) (x3 : Mat 1 1024) (x4 : Mat 8192 1024) (r : Fin 8192) (q : Fin 1024) :
    val_main_v36 (F := Ideal) x0 x1 x2 x3 x4 (ix2 r q) = plus x4 (back x2 (prodT x0 x1) x3) (ix2 r q) := by
  rw [val_main_v36_apply, val_main_v35_apply, val_main_v34_apply, val_main_v33_apply, val_main_v32_apply, mean_eq, val_main_v26_apply, val_main_v25_apply, root_eq,
    val_main_v21_apply, val_main_v20_apply, dh_eq]
  refine congrArg₂ (fun u v : EReal => u + v) rfl (Eq.trans ?_ (Cert.Prods.back_eq x2 (prodT x0 x1) x3 r q))
  refine congrArg₂ (fun u v : EReal => u + v) (congrArg₂ (fun u v : EReal => u + v) (congrArg₂ (fun u v : EReal => u * v) (congrArg₂ (fun u v : EReal => u * v) rfl ?_) rfl) rfl) rfl
  exact congrArg x3 (Shape.idx_ext₂ rfl rfl)

/-- The residual's cotangent. -/
theorem back_eq (x0 : Mat 8192 6656) (x1 : Mat 1024 6656) (x2 : Mat 8192 1024) (x3 : Mat 1 1024) (x4 : Mat 8192 1024) :
    (val_main_v36 (F := Ideal) x0 x1 x2 x3 x4 : Mat 8192 1024) = plus x4 (back x2 (prodT x0 x1) x3) := by
  funext i
  have hi : i = ix2 (i 0 : Fin 8192) (i 1 : Fin 1024) := Shape.idx_ext₂ rfl rfl
  exact ((congrArg _ hi).trans (back_at x0 x1 x2 x3 x4 (i 0) (i 1))).trans (congrArg _ hi.symm)

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v36) = plus (m ((c : Thread nD τ).loc main_arg4)) (back (m ((c : Thread nD τ).loc main_arg2)) (prodT (m ((c : Thread nD τ).loc main_arg0)) (m ((c : Thread nD τ).loc main_arg1))) (m ((c : Thread nD τ).loc main_arg3)))
      ∧ r.2.mem ((c : Thread nD τ).loc main_v19) = backGain (m ((c : Thread nD τ).loc main_arg2)) (prodT (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v36_eq m c)).trans (back_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.1.trans (val_main_v19_eq (m ((c : Thread nD τ).loc main_arg0)) (m ((c : Thread nD τ).loc main_arg1)) (m ((c : Thread nD τ).loc main_arg2)))).trans (gain_eq (m ((c : Thread nD τ).loc main_arg0)) (m ((c : Thread nD τ).loc main_arg1)) (m ((c : Thread nD τ).loc main_arg2))),
      (h c).2.2⟩)
    (Cert.MmDhReferenceIdeal.Value.run m ρ)

end Cert.MmDhReferenceIdeal.Val

end
-- ==== Proof.MmDhClaims.lean ====
/-
  The claims about the call `MmDh`, from one run of each program: the frames, and the equality of the kernel's
  results with the reference's at the ideal instance.
-/
module

public import proofs.«01_k».proof.Defs
public import proofs.«01_k».proof.Proof.MmDh
public import proofs.«01_k».proof.Proof.Gen.MmDh
public import proofs.«01_k».proof.Proof.Gen.MmDh.Frame
public import proofs.«01_k».proof.Proof.Gen.MmDhIdeal.Frame
public import proofs.«01_k».proof.Proof.Gen.MmDhReferenceIdeal.Run
public import Idealize.ShloMosaic.Adequacy
public import Idealize.ShloMosaic.Init

@[expose] public section

set_option maxRecDepth 16384

noncomputable section

namespace Cert.Proof.MmDhClaims

open Idealize.ShloMosaic Idealize.ShloMosaic.TcCoe Idealize.SL.Sem

/-- The kernel runs and leaves its arguments unchanged. -/
theorem frame_kernel : Cert.quiescent_MmDh (hMmDh := Cert.MmDh.Gen.facts) := fun m ρ _ => Cert.MmDh.Gen.frame m ρ

/-- So does its ideal reading, -/
theorem frame_ideal : Cert.quiescent_MmDhIdeal (hMmDhIdeal := Cert.MmDhIdeal.Gen.facts) := fun m ρ _ => Cert.MmDhIdeal.Gen.frame m ρ

/-- and so does the reference. -/
theorem frame_reference : Cert.quiescent_MmDhReferenceIdeal (hMmDhReferenceIdeal := Cert.MmDhReferenceIdeal.Gen.facts) := fun m ρ _ =>
  (θ_run Cert.MmDhReferenceIdeal.defs _ _).mono (fun r h => ⟨fun c => (h c).2.2, sem_eq_zero_of_no_sems (by decide) r.2⟩)
    (Cert.MmDhReferenceIdeal.Value.run m ρ)

/-- The kernel's results are the reference's. -/
theorem algebraic : Cert.algebraic_MmDhIdeal_MmDhReferenceIdeal (hMmDhIdeal := Cert.MmDhIdeal.Gen.facts) (hMmDhReferenceIdeal := Cert.MmDhReferenceIdeal.Gen.facts) := by
  intro m ρ m' ρ' _ hag
  refine ⟨_, _, Cert.MmDhIdeal.Val.run m ρ, (θ_run _ _ _).mono (fun _ h c => ?_) (Cert.MmDhReferenceIdeal.Val.run m' ρ')⟩
  have hc := h c
  obtain ⟨e0, e1, e2, e3, e4⟩ := hag c
  rw [e0, e1, e2, e3, e4] at hc
  obtain ⟨h0, h1, h2, h3, h4, h5, h6⟩ := hc
  exact ⟨h0, h1, h2.trans e0.symm, h3.trans e1.symm, h4.trans e2.symm, h5.trans e3.symm, h6.trans e4.symm⟩

end Cert.Proof.MmDhClaims

end
-- ==== Proof.Online.lean ====
/-
  A row of softmax attention whose keys come in chunks, over the extended reals with real scores and values. The running maximum
  `m` and the running sums `a` are rescaled by `exp (m − m')` at every chunk; what stays is `a = exp (−m) · Σ exp s · v`, so that
  a quotient of two such sums, or `m + log a`, no longer depends on `m`.
-/
module

public import proofs.«01_k».proof.Proof.Forward

@[expose] public section

noncomputable section

namespace Cert.Online

open Idealize.ShloMosaic

/-- A sum of reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem bitsBot : Ideal.ofBits .f32 0xFF800000#32 = ⊥ := by simp [Ideal.ofBits, Ideal.ieee]

theorem bitsEighth : Ideal.ofBits .f32 0x3E000000#32 = ((1 / 8 : ℝ) : EReal) := by
  simp [Ideal.ofBits, Ideal.ieee, -EReal.coe_mul]; norm_num

theorem bitsFloor : ∃ μ : ℝ, Ideal.ofBits .f32 0xF149F2CA#32 = (μ : EReal) :=
  ⟨-((2 ^ 23 + 4846282 : ℝ) * (2 : ℝ) ^ (76 : ℤ)), by
    simp [Ideal.ofBits, Ideal.ieee, -EReal.coe_mul, -EReal.coe_neg]; norm_num⟩

/-- The greatest of a real and some reals is real. -/
theorem max_real {ι : Type} (s : Finset ι) (μ : ℝ) (f : ι → ℝ) : ∃ μ' : ℝ, max (μ : EReal) (s.fold max ⊥ fun j => (f j : EReal)) = μ' := by
  classical
  induction s using Finset.induction_on with
  | empty => exact ⟨μ, by simp⟩
  | insert a s ha ih =>
    obtain ⟨r, hr⟩ := ih
    refine ⟨max (f a) r, ?_⟩
    rw [Finset.fold_insert ha, max_left_comm, hr]
    exact (EReal.coe_strictMono.monotone.map_max).symm

/-- So is the greatest of one real or more. -/
theorem fold_real {ι : Type} [Fintype ι] (i : ι) (f : ι → ℝ) : ∃ μ : ℝ, Finset.univ.fold max (⊥ : EReal) (fun j => (f j : EReal)) = μ := by
  obtain ⟨μ, h⟩ := max_real Finset.univ (f i) f
  refine ⟨μ, h ▸ (max_eq_right ?_).symm⟩
  exact (Finset.le_fold_max _).mpr (Or.inr ⟨i, Finset.mem_univ i, le_rfl⟩)

/-- One chunk: the rescaled sum plus the chunk's. -/
theorem acc_real {ι : Type} [Fintype ι] (μ μ' T : ℝ) (s v : ι → ℝ) :
    ((Real.exp (-μ) * T : ℝ) : EReal) * Ideal.exp ((μ : EReal) - (μ' : EReal)) + ∑ j, Ideal.exp ((s j : EReal) - (μ' : EReal)) * (v j : EReal)
      = ((Real.exp (-μ') * (T + ∑ j, Real.exp (s j) * v j) : ℝ) : EReal) := by
  have e : ∀ j, Ideal.exp ((s j : EReal) - (μ' : EReal)) * (v j : EReal) = ((Real.exp (-μ') * (Real.exp (s j) * v j) : ℝ) : EReal) := fun j => by
    rw [← EReal.coe_sub, Ideal.exp_coe, ← EReal.coe_mul, sub_eq_add_neg, Real.exp_add]
    congr 1; ring
  rw [Finset.sum_congr rfl fun j _ => e j, sum_coe, ← EReal.coe_sub, Ideal.exp_coe, ← EReal.coe_mul, ← EReal.coe_add, ← Finset.mul_sum]
  congr 1
  rw [mul_add, sub_eq_add_neg, Real.exp_add]
  congr 1
  have h : Real.exp (-μ) * Real.exp μ = 1 := by rw [← Real.exp_add]; simp
  calc Real.exp (-μ) * T * (Real.exp μ * Real.exp (-μ')) = (Real.exp (-μ) * Real.exp μ) * (Real.exp (-μ') * T) := by ring
    _ = _ := by rw [h, one_mul]

theorem div_real {x y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = ((Real.log x : ℝ) : EReal) := by
  rw [Ideal.log_coe, if_neg (not_le.mpr hx)]

/-- The quotient of two running sums. -/
theorem quot_real (μ N : ℝ) {D : ℝ} (hD : 0 < D) : Ideal.div ((Real.exp (-μ) * N : ℝ) : EReal) ((Real.exp (-μ) * D : ℝ) : EReal) = ((N / D : ℝ) : EReal) := by
  rw [div_real (by positivity), mul_div_mul_left _ _ (Real.exp_pos _).ne']

/-- The maximum plus the logarithm of a running sum. -/
theorem log_sum_real (μ : ℝ) {D : ℝ} (hD : 0 < D) : (μ : EReal) + Ideal.log ((Real.exp (-μ) * D : ℝ) : EReal) = ((Real.log D : ℝ) : EReal) := by
  rw [log_real (by positivity), ← EReal.coe_add, Real.log_mul (Real.exp_pos _).ne' hD.ne', Real.log_exp]
  congr 1; ring

end Cert.Online

end
-- ==== Proof.FlashTrip.lean ====
/-
  One trip of the attention kernel's loop, over the extended reals: from the chunk's keys and values and the stacked queries, the new
  running maximum and the new running sums, as functions of what the trip finds.
-/
module

public import proofs.«01_k».proof.Proof.Online
public import proofs.«01_k».proof.Proof.Gen.FlashAIdeal.Value
public import Idealize.ShloMosaic.Lib.Tactic
public import Idealize.ShloMosaic.Lib.Pipeline.ReadBack
public import Idealize.ShloMosaic.Lib.Pipeline.ValueKit.Tiles

@[expose] public section

set_option maxRecDepth 16384

noncomputable section

namespace Cert.FlashAIdeal.Val

open Idealize.ShloMosaic Idealize.ShloMosaic.TcCoe Idealize.ShloMosaic.ValueIdx Idealize.SL.Sem
open Cert.FlashAIdeal Cert.FlashAIdeal.Gen Cert.Prods

/-- The greatest entry of each row. -/
theorem rowMax {n d : Nat} (v : FVec Ideal ⟨2, ![n, d]⟩ .f32) (h : (⟨2, ![n, d]⟩ : Shape).Reduces [1] ⟨1, ![n]⟩) (hφ : FKind.Formats FTy.f32)
    (ha : 0xFF800000#32 = FKind.maximumf.neutral FTy.f32 hφ) (r : Fin n) :
    multiReduction .maximumf [1] ⟨1, ![n]⟩ v 0xFF800000#32 h hφ ha (ix1 r) = (Finset.univ : Finset (Fin d)).fold max ⊥ fun k => (v (ix2 r k) : EReal) := by
  refine (Ideal.multiReduction_maximumf_single v _ h hφ ha (ix1 r)).trans ?_
  refine (congrArg (fun b : EReal => (Finset.univ : Finset (Fin d)).fold max b _) Online.bitsBot).trans ?_
  refine Finset.fold_congr fun k _ => congrArg v (funext fun a => Fin.ext (by match a with | ⟨0, _⟩ => rfl | ⟨1, _⟩ => rfl))

/-- A query's score against a key, the new maximum of a row, and a row's new sums. -/
def dotRow (K : Vec Ideal S1x4096x128 .bf16) (Q : Vec Ideal S1x512x128 .bf16) (r : Fin 512) (j : Fin 4096) : EReal :=
  ∑ l : Fin 128, Q (ix3 0 r l) * K (ix3 0 j l)

theorem pay7_at (K : Vec Ideal S1x4096x128 .bf16) (Q : Vec Ideal S1x512x128 .bf16) (r : Fin 512) (j : Fin 4096) :
    k0_pay7 K Q (ix2 r j) = dotRow K Q r j := by
  unfold k0_pay7 k0_pay5
  refine (dotNT dot_S512x128_S4096x128_S512x4096_1_1_0_0_n_n rfl rfl
    (fun _ _ => by simp [DotDims.lhsIdx, dot_S512x128_S4096x128_S512x4096_1_1_0_0_n_n]; rfl)
    (fun _ _ => by simp [DotDims.lhsIdx, dot_S512x128_S4096x128_S512x4096_1_1_0_0_n_n]; rfl)
    (fun _ _ => by simp [DotDims.rhsIdx, dot_S512x128_S4096x128_S512x4096_1_1_0_0_n_n]; rfl)
    (fun _ _ => by simp [DotDims.rhsIdx, dot_S512x128_S4096x128_S512x4096_1_1_0_0_n_n]; rfl) none _ _ r j).trans ?_
  exact Finset.sum_congr rfl fun l _ => congrArg₂ (fun a b : EReal => a * b) (dropLead Q _ r l) (dropLead K _ j l)

def maxRow (K : Vec Ideal S1x4096x128 .bf16) (Q : Vec Ideal S1x512x128 .bf16) (M : Vec Ideal S1x512x1 .f32) (r : Fin 512) : EReal :=
  max (M (ix3 0 r 0)) ((Finset.univ : Finset (Fin 4096)).fold max ⊥ (dotRow K Q r))

theorem pay9_at (K : Vec Ideal S1x4096x128 .bf16) (Q : Vec Ideal S1x512x128 .bf16) (M : Vec Ideal S1x512x1 .f32) (r : Fin 512) :
    k0_pay9 K Q M (ix2 r 0) = maxRow K Q M r := by
  unfold k0_pay9 k0_pay8
  refine congrArg₂ (fun a b : EReal => max a b) (dropLead M _ r 0) ?_
  refine (toCol _ _ r).trans ((rowMax (k0_pay7 K Q) _ _ _ r).trans ?_)
  exact Finset.fold_congr fun j _ => pay7_at K Q r j

theorem pay11_at (K : Vec Ideal S1x4096x128 .bf16) (Q : Vec Ideal S1x512x128 .bf16) (M : Vec Ideal S1x512x1 .f32) (r : Fin 512) :
    k0_pay11 K Q M (ix3 0 r 0) = maxRow K Q M r := by
  unfold k0_pay11
  exact (addLead _ _ r 0).trans (pay9_at K Q M r)

theorem pay10_at (K V : Vec Ideal S1x4096x128 .bf16) (Q : Vec Ideal S1x512x128 .bf16) (M : Vec Ideal S1x512x1 .f32) (A : Vec Ideal S1x512x128 .f32) (r : Fin 512) (l : Fin 128) :
    k0_pay10 K V Q M A (ix3 0 r l) = A (ix3 0 r l) * Ideal.exp (M (ix3 0 r 0) - maxRow K Q M r)
      + ∑ j : Fin 4096, Ideal.exp (dotRow K Q r j - maxRow K Q M r) * V (ix3 0 j l) := by
  unfold k0_pay10 k0_pay6
  refine (addLead _ _ r l).trans ?_
  refine congrArg₂ (fun a b : EReal => a + b) ?_ ?_
  · refine congrArg₂ (fun a b : EReal => a * b) (dropLead A _ r l) ?_
    refine (spreadCol _ _ r l).trans ?_
    exact congrArg Ideal.exp (congrArg₂ (fun a b : EReal => a - b) (dropLead M _ r 0) (pay9_at K Q M r))
  · refine (dotNN dot_S512x4096_S4096x128_S512x128_1_0_0_1_n_n rfl rfl
      (fun _ _ => by simp [DotDims.lhsIdx, dot_S512x4096_S4096x128_S512x128_1_0_0_1_n_n]; rfl)
      (fun _ _ => by simp [DotDims.lhsIdx, dot_S512x4096_S4096x128_S512x128_1_0_0_1_n_n]; rfl)
      (fun _ _ => by simp [DotDims.rhsIdx, dot_S512x4096_S4096x128_S512x128_1_0_0_1_n_n]; rfl)
      (fun _ _ => by simp [DotDims.rhsIdx, dot_S512x4096_S4096x128_S512x128_1_0_0_1_n_n]; rfl) none _ _ r l).trans ?_
    refine Finset.sum_congr rfl fun j _ => congrArg₂ (fun a b : EReal => a * b) ?_ (dropLead V _ j l)
    exact congrArg Ideal.exp (congrArg₂ (fun a b : EReal => a - b) (pay7_at K Q r j) ((spreadCol _ _ r j).trans (pay9_at K Q M r)))

/-! ## The trip's stores -/

theorem trip_eq (𝒱 : Variants) (c : Dev nD) (bd : Option 𝒱.V) (i : grid0.Coords) (arg2 : Memref sig .tc .vmem S256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S2x512x128 .bf16) (harg7 : arg7.IsWhole) (arg8 : Memref sig .tc .vmem S2x512x1 .f32) (harg8 : arg8.IsWhole) (arg9 : Memref sig .tc .vmem S2x512x128 .f32) (harg9 : arg9.IsWhole) (v2 : IVec S256x128 1) (v34 : FVec Ideal S2x512x1 .f32) (X3 : BufTy.Contents (Elt Ideal) arg3.view.ty) (X4 : BufTy.Contents (Elt Ideal) arg4.view.ty) (X7 : BufTy.Contents (Elt Ideal) arg7.view.ty)
    (k : Fin k0_t1_loop.trips) (f8 : BufTy.Contents (Elt Ideal) arg8.view.ty) (f9 : BufTy.Contents (Elt Ideal) arg9.view.ty)
    (hk : ∀ a, k0_off1 k a + (![1, 4096, 128] : Fin 3 → Nat) a ≤ S1x8192x128.size a) :
    tripL_k0_t1 (F := Ideal) 𝒱 c bd i arg2 harg2 arg3 harg3 arg4 harg4 arg5 harg5 arg6 harg6 arg7 harg7 arg8 harg8 arg9 harg9 v2 v34 X3 X4 X7 k f8 f9
      = ([⟨Rect.unit ![1, 0, 0] ![1, 512, 1] inb_S2x512x1_S1x512x1_1_0_0, k0_pay21 (k0_pay5 (View.readAt (Elt Ideal) arg3.view (Rect.unit (s := S1x8192x128) (k0_off1 k) ![1, 4096, 128] hk).toLoadRect X3)) (View.readAt (Elt Ideal) arg7.view (Rect.unit (s := S2x512x128) ![1, 0, 0] ![1, 512, 128] inb_S2x512x128_S1x512x128_1_0_0).toLoadRect X7) (View.readAt (Elt Ideal) arg8.view (Rect.unit (s := S2x512x1) ![1, 0, 0] ![1, 512, 1] inb_S2x512x1_S1x512x1_1_0_0).toLoadRect f8)⟩, ⟨Rect.unit ![0, 0, 0] ![1, 512, 1] inb_S2x512x1_S1x512x1_0_0_0, k0_pay11 (View.readAt (Elt Ideal) arg3.view (Rect.unit (s := S1x8192x128) (k0_off1 k) ![1, 4096, 128] hk).toLoadRect X3) (View.readAt (Elt Ideal) arg7.view (Rect.unit (s := S2x512x128) ![0, 0, 0] ![1, 512, 128] inb_S2x512x128_S1x512x128_0_0_0).toLoadRect X7) (View.readAt (Elt Ideal) arg8.view (Rect.unit (s := S2x512x1) ![0, 0, 0] ![1, 512, 1] inb_S2x512x1_S1x512x1_0_0_0).toLoadRect f8)⟩],
         [⟨Rect.unit ![1, 0, 0] ![1, 512, 128] inb_S2x512x128_S1x512x128_1_0_0, k0_pay20 (k0_pay5 (View.readAt (Elt Ideal) arg3.view (Rect.unit (s := S1x8192x128) (k0_off1 k) ![1, 4096, 128] hk).toLoadRect X3)) (k0_pay6 (View.readAt (Elt Ideal) arg4.view (Rect.unit (s := S1x8192x128) (k0_off1 k) ![1, 4096, 128] hk).toLoadRect X4)) (View.readAt (Elt Ideal) arg7.view (Rect.unit (s := S2x512x128) ![1, 0, 0] ![1, 512, 128] inb_S2x512x128_S1x512x128_1_0_0).toLoadRect X7) (View.readAt (Elt Ideal) arg8.view (Rect.unit (s := S2x512x1) ![1, 0, 0] ![1, 512, 1] inb_S2x512x1_S1x512x1_1_0_0).toLoadRect f8) (View.readAt (Elt Ideal) arg9.view (Rect.unit (s := S2x512x128) ![1, 0, 0] ![1, 512, 128] inb_S2x512x128_S1x512x128_1_0_0).toLoadRect f9)⟩, ⟨Rect.unit ![0, 0, 0] ![1, 512, 128] inb_S2x512x128_S1x512x128_0_0_0, k0_pay10 (View.readAt (Elt Ideal) arg3.view (Rect.unit (s := S1x8192x128) (k0_off1 k) ![1, 4096, 128] hk).toLoadRect X3) (View.readAt (Elt Ideal) arg4.view (Rect.unit (s := S1x8192x128) (k0_off1 k) ![1, 4096, 128] hk).toLoadRect X4) (View.readAt (Elt Ideal) arg7.view (Rect.unit (s := S2x512x128) ![0, 0, 0] ![1, 512, 128] inb_S2x512x128_S1x512x128_0_0_0).toLoadRect X7) (View.readAt (Elt Ideal) arg8.view (Rect.unit (s := S2x512x1) ![0, 0, 0] ![1, 512, 1] inb_S2x512x1_S1x512x1_0_0_0).toLoadRect f8) (View.readAt (Elt Ideal) arg9.view (Rect.unit (s := S2x512x128) ![0, 0, 0] ![1, 512, 128] inb_S2x512x128_S1x512x128_0_0_0).toLoadRect f9)⟩]) := by
  unfold tripL_k0_t1 trip_k0_t1
  rfl

end Cert.FlashAIdeal.Val

end
-- ==== Proof.FlashState.lean ====
/-
  The attention kernel's loop, over the extended reals, on real queries, keys and values: after it, a row's running maximum is a
  real `μ` and its running sums are `exp (−μ)` times the sums of `exp score · value` over all 8192 keys.
-/
module

public import proofs.«01_k».proof.Proof.FlashTrip

@[expose] public section

set_option maxRecDepth 16384

noncomputable section

namespace Cert.FlashAIdeal.Val

open Idealize.ShloMosaic Idealize.ShloMosaic.TcCoe Idealize.ShloMosaic.ValueIdx Idealize.SL.Sem
open Cert.FlashAIdeal Cert.FlashAIdeal.Gen Cert.Prods

/-- An array of two planes, both written, read at an entry. -/
theorem planes {sig : RefSig} {κ : Kind} {sp : Space} {e : EltTy} {n w : Nat} (v : View sig κ sp ⟨3, ![2, n, w]⟩ e) (f : v.ty.Contents (Elt Ideal))
    (h0 : ∀ a, (![0, 0, 0] : Fin 3 → Nat) a + (![1, n, w] : Fin 3 → Nat) a ≤ (⟨3, ![2, n, w]⟩ : Shape).size a)
    (h1 : ∀ a, (![1, 0, 0] : Fin 3 → Nat) a + (![1, n, w] : Fin 3 → Nat) a ≤ (⟨3, ![2, n, w]⟩ : Shape).size a)
    (u0 u1 : Vec Ideal ⟨3, ![1, n, w]⟩ e) (p : Fin 2) (r : Fin n) (l : Fin w) :
    v.read (Elt Ideal) (v.writes (Elt Ideal) f [⟨Rect.unit ![1, 0, 0] ![1, n, w] h1, u1⟩, ⟨Rect.unit ![0, 0, 0] ![1, n, w] h0, u0⟩]) (ix3 p r l)
      = if p = 0 then u0 (ix3 0 r l) else u1 (ix3 0 r l) := by
  let G : Vec Ideal ⟨3, ![2, n, w]⟩ e := fun y => if (y 0).val = 0 then u0 (ix3 0 (y 1) (y 2)) else u1 (ix3 0 (y 1) (y 2))
  have hx (x : (⟨3, ![1, n, w]⟩ : Shape).Idx) : x = ix3 (0 : Fin 1) (x 1 : Fin n) (x 2 : Fin w) := funext fun a => Fin.ext (by
    match a with
    | ⟨0, _⟩ => have h : (x 0).val < 1 := (x 0).isLt; show (x 0).val = 0; omega
    | ⟨1, _⟩ => rfl
    | ⟨2, _⟩ => rfl)
  have hc : ∀ y : (⟨3, ![2, n, w]⟩ : Shape).Idx, ∃ q ∈ [(⟨Rect.unit ![1, 0, 0] ![1, n, w] h1, u1⟩ : View.Piece (Elt Ideal) ⟨3, ![2, n, w]⟩ e), ⟨Rect.unit ![0, 0, 0] ![1, n, w] h0, u0⟩], y ∈ q.1.set := fun y => by
    have b0 : (y 0).val < 2 := (y 0).isLt
    have b1 : (y 1).val < n := (y 1).isLt
    have b2 : (y 2).val < w := (y 2).isLt
    rcases Nat.lt_or_ge (y 0).val 1 with hy | hy
    · refine ⟨_, List.mem_cons_of_mem _ (List.mem_singleton.mpr rfl), ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + n; omega
      | ⟨2, _⟩ => show 0 ≤ (y 2).val ∧ (y 2).val < 0 + w; omega
    · refine ⟨_, List.mem_cons_self, ?_⟩
      rw [Rect.mem_set_unit]
      intro a
      match a with
      | ⟨0, _⟩ => show 1 ≤ (y 0).val ∧ (y 0).val < 1 + 1; omega
      | ⟨1, _⟩ => show 0 ≤ (y 1).val ∧ (y 1).val < 0 + n; omega
      | ⟨2, _⟩ => show 0 ≤ (y 2).val ∧ (y 2).val < 0 + w; omega
  rw [View.read_writes_eq_canon _ _ _ hc]
  refine (View.canon_apply_of_pieces G _ (View.PiecesOf.mem (G := G)
    (L := [(⟨Rect.unit ![1, 0, 0] ![1, n, w] h1, u1⟩ : View.Piece (Elt Ideal) ⟨3, ![2, n, w]⟩ e), ⟨Rect.unit ![0, 0, 0] ![1, n, w] h0, u0⟩]) ⟨?_, ?_, trivial⟩) _ (hc _)).trans ?_
  rotate_right
  · match p with
    | ⟨0, _⟩ => rfl
    | ⟨1, _⟩ => rfl
  · intro x
    have e0 : (((Rect.unit (s := ⟨3, ![2, n, w]⟩) ![1, 0, 0] ![1, n, w] h1).emb x) 0).val = 1 := (by have h : (x 0).val < 1 := (x 0).isLt; show 1 + 1 * (x 0).val = 1; omega)
    have e1 : (((Rect.unit (s := ⟨3, ![2, n, w]⟩) ![1, 0, 0] ![1, n, w] h1).emb x) 1 : Fin n) = x 1 := Fin.ext (by show 0 + 1 * (x 1).val = (x 1).val; omega)
    have e2 : (((Rect.unit (s := ⟨3, ![2, n, w]⟩) ![1, 0, 0] ![1, n, w] h1).emb x) 2 : Fin w) = x 2 := Fin.ext (by show 0 + 1 * (x 2).val = (x 2).val; omega)
    refine Eq.trans ?_ ((if_neg (c := (((Rect.unit (s := ⟨3, ![2, n, w]⟩) ![1, 0, 0] ![1, n, w] h1).emb x) 0).val = 0) (by rw [e0]; decide)).symm)
    exact congrArg u1 ((hx x).trans (congrArg₂ (fun a b => ix3 (0 : Fin 1) a b) e1.symm e2.symm))
  · intro x
    have e0 : (((Rect.unit (s := ⟨3, ![2, n, w]⟩) ![0, 0, 0] ![1, n, w] h0).emb x) 0).val = 0 := (by have h : (x 0).val < 1 := (x 0).isLt; show 0 + 1 * (x 0).val = 0; omega)
    have e1 : (((Rect.unit (s := ⟨3, ![2, n, w]⟩) ![0, 0, 0] ![1, n, w] h0).emb x) 1 : Fin n) = x 1 := Fin.ext (by show 0 + 1 * (x 1).val = (x 1).val; omega)
    have e2 : (((Rect.unit (s := ⟨3, ![2, n, w]⟩) ![0, 0, 0] ![1, n, w] h0).emb x) 2 : Fin w) = x 2 := Fin.ext (by show 0 + 1 * (x 2).val = (x 2).val; omega)
    refine Eq.trans ?_ ((if_pos (c := (((Rect.unit (s := ⟨3, ![2, n, w]⟩) ![0, 0, 0] ![1, n, w] h0).emb x) 0).val = 0) e0).symm)
    exact congrArg u0 ((hx x).trans (congrArg₂ (fun a b => ix3 (0 : Fin 1) a b) e1.symm e2.symm))

/-- One plane of two, loaded. -/
theorem plane_load {sig : RefSig} {κ : Kind} {sp : Space} {e : EltTy} {n w : Nat} (v : View sig κ sp ⟨3, ![2, n, w]⟩ e) (f : v.ty.Contents (Elt Ideal)) (p : Fin 2)
    {off : Fin 3 → Nat} (ho : off = ![p.val, 0, 0]) (h : ∀ a, off a + (![1, n, w] : Fin 3 → Nat) a ≤ (⟨3, ![2, n, w]⟩ : Shape).size a) (r : Fin n) (l : Fin w) :
    View.readAt (Elt Ideal) v (Rect.unit (s := ⟨3, ![2, n, w]⟩) off ![1, n, w] h).toLoadRect f (ix3 0 r l) = v.read (Elt Ideal) f (ix3 p r l) := by
  subst ho
  rw [View.readAt_eq_ld]
  exact View.ld_unit_apply_of _ _ _ _ _ _ fun a => by
    match a with
    | ⟨0, _⟩ => show p.val = p.val + 0; omega
    | ⟨1, _⟩ => show r.val = 0 + r.val; omega
    | ⟨2, _⟩ => show l.val = 0 + l.val; omega

theorem trips_lt (k : Fin k0_t1_loop.trips) : k.val < 2 := Nat.lt_of_lt_of_le k.isLt k0_t1_abs.2.1

/-- The key at place `j` of chunk `k`. -/
def key (k : Fin 2) (j : Fin 4096) : Fin 8192 := ⟨4096 * k.val + j.val, block_lt rfl k j⟩

theorem chunk_load {sig : RefSig} {κ : Kind} {sp : Space} (v : View sig κ sp S1x8192x128 .bf16) (f : v.ty.Contents (Elt Ideal)) (k : Fin k0_t1_loop.trips)
    (h : ∀ a, k0_off1 k a + (![1, 4096, 128] : Fin 3 → Nat) a ≤ S1x8192x128.size a) (j : Fin 4096) (l : Fin 128) :
    View.readAt (Elt Ideal) v (Rect.unit (s := S1x8192x128) (k0_off1 k) ![1, 4096, 128] h).toLoadRect f (ix3 0 j l) = v.read (Elt Ideal) f (ix3 0 (key ⟨k.val, trips_lt k⟩ j) l) := by
  rw [View.readAt_eq_ld]
  have ho := k0_off1_eq k
  generalize k0_off1 k = off at h ho
  subst ho
  refine View.ld_unit_apply_of _ _ _ _ _ _ fun a => ?_
  match a with
  | ⟨0, _⟩ => rfl
  | ⟨1, _⟩ => rfl
  | ⟨2, _⟩ => show l.val = 0 + l.val; omega

/-- A row's score against a key. -/
def rscore (qr : Fin 2 → Fin 512 → Fin 128 → ℝ) (kr : Fin 8192 → Fin 128 → ℝ) (p : Fin 2) (r : Fin 512) (j : Fin 8192) : ℝ := ∑ l : Fin 128, qr p r l * kr j l

/-- A chunk's part of a row's sums. -/
def part (qr : Fin 2 → Fin 512 → Fin 128 → ℝ) (kr vr : Fin 8192 → Fin 128 → ℝ) (k : Fin 2) (p : Fin 2) (r : Fin 512) (l : Fin 128) : ℝ :=
  ∑ j : Fin 4096, Real.exp (rscore qr kr p r (key k j)) * vr (key k j) l

/-- Real maxima, and sums held relative to them. -/
def Held (M : Vec Ideal S2x512x1 .f32) (A : Vec Ideal S2x512x128 .f32) (T : Fin 2 → Fin 512 → Fin 128 → ℝ) : Prop :=
  ∀ p r, ∃ μ : ℝ, M (ix3 p r 0) = (μ : EReal) ∧ ∀ l, A (ix3 p r l) = ((Real.exp (-μ) * T p r l : ℝ) : EReal)

/-- One row of a trip: what it stores, held relative to the new maximum. -/
theorem row_step (qr : Fin 2 → Fin 512 → Fin 128 → ℝ) (kr vr : Fin 8192 → Fin 128 → ℝ) (k p : Fin 2) (r : Fin 512) (T : Fin 128 → ℝ)
    (K V : Vec Ideal S1x4096x128 .bf16) (Q : Vec Ideal S1x512x128 .bf16) (M : Vec Ideal S1x512x1 .f32) (A : Vec Ideal S1x512x128 .f32)
    (hK : ∀ j l, K (ix3 0 j l) = (kr (key k j) l : EReal)) (hV : ∀ j l, V (ix3 0 j l) = (vr (key k j) l : EReal))
    (hQ : ∀ l, Q (ix3 0 r l) = (qr p r l : EReal)) (hM : ∃ μ : ℝ, M (ix3 0 r 0) = (μ : EReal) ∧ ∀ l, A (ix3 0 r l) = ((Real.exp (-μ) * T l : ℝ) : EReal)) :
    ∃ μ : ℝ, k0_pay11 K Q M (ix3 0 r 0) = (μ : EReal) ∧ ∀ l, k0_pay10 K V Q M A (ix3 0 r l) = ((Real.exp (-μ) * (T l + part qr kr vr k p r l) : ℝ) : EReal) := by
  obtain ⟨μ, hμ, hA⟩ := hM
  have hs (j : Fin 4096) : dotRow K Q r j = ((rscore qr kr p r (key k j) : ℝ) : EReal) := by
    refine Eq.trans ?_ (Online.sum_coe _ _)
    refine Finset.sum_congr rfl fun l _ => ?_
    rw [hQ l, hK j l, EReal.coe_mul]
  obtain ⟨μ', h'⟩ := Online.max_real (Finset.univ : Finset (Fin 4096)) μ fun j => rscore qr kr p r (key k j)
  have hm : maxRow K Q M r = (μ' : EReal) := by
    unfold maxRow
    rw [hμ, ← h']
    exact congrArg (max _) (Finset.fold_congr fun j _ => hs j)
  refine ⟨μ', (pay11_at K Q M r).trans hm, fun l => ?_⟩
  rw [pay10_at, hm, hμ, hA l]
  refine Eq.trans (congrArg (fun e : EReal => _ + e) (Finset.sum_congr rfl fun j _ => ?_)) (Online.acc_real μ μ' (T l) (fun j => rscore qr kr p r (key k j)) fun j => vr (key k j) l)
  rw [hs j, hV j l]

theorem sum_cut_real (f : Fin 8192 → ℝ) : ∑ j : Fin 8192, f j = ∑ k : Fin 2, ∑ j : Fin 4096, f (key k j) := by
  rw [← (finProdFinEquiv (m := 2) (n := 4096)).sum_comp, Fintype.sum_prod_type]
  exact Finset.sum_congr rfl fun k _ => Finset.sum_congr rfl fun j _ => congrArg f (Fin.ext (by simp [key, finProdFinEquiv]; ring))

variable (𝒱 : Variants) (c : Dev nD) (bd : Option 𝒱.V) (i : grid0.Coords) (arg2 : Memref sig .tc .vmem S256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S2x512x128 .bf16) (harg7 : arg7.IsWhole) (arg8 : Memref sig .tc .vmem S2x512x1 .f32) (harg8 : arg8.IsWhole) (arg9 : Memref sig .tc .vmem S2x512x128 .f32) (harg9 : arg9.IsWhole) (v2 : IVec S256x128 1) (v34 : FVec Ideal S2x512x1 .f32) (X3 : BufTy.Contents (Elt Ideal) arg3.view.ty) (X4 : BufTy.Contents (Elt Ideal) arg4.view.ty) (X7 : BufTy.Contents (Elt Ideal) arg7.view.ty)
  (qr : Fin 2 → Fin 512 → Fin 128 → ℝ) (kr vr : Fin 8192 → Fin 128 → ℝ)
  (hQ : ∀ p r l, arg7.view.read (Elt Ideal) X7 (ix3 p r l) = (qr p r l : EReal))
  (hK : ∀ j l, arg3.view.read (Elt Ideal) X3 (ix3 0 j l) = (kr j l : EReal)) (hV : ∀ j l, arg4.view.read (Elt Ideal) X4 (ix3 0 j l) = (vr j l : EReal))

include hQ hK hV in
/-- One trip. -/
theorem trip_held (k : Fin k0_t1_loop.trips) (f8 : BufTy.Contents (Elt Ideal) arg8.view.ty) (f9 : BufTy.Contents (Elt Ideal) arg9.view.ty) (T : Fin 2 → Fin 512 → Fin 128 → ℝ)
    (h : Held (arg8.view.read (Elt Ideal) f8) (arg9.view.read (Elt Ideal) f9) T) :
    Held (arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 v2 v34 X3 X4 X7 k f8 f9).1))
      (arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 v2 v34 X3 X4 X7 k f8 f9).2))
      fun p r l => T p r l + part qr kr vr ⟨k.val, trips_lt k⟩ p r l := by
  rw [trip_eq 𝒱 c bd i arg2 harg2 arg3 harg3 arg4 harg4 arg5 harg5 arg6 harg6 arg7 harg7 arg8 harg8 arg9 harg9 v2 v34 X3 X4 X7 k f8 f9 (k0_off1_inb k)]
  intro p r
  have s0 := row_step qr kr vr ⟨k.val, trips_lt k⟩ p r (T p r) (View.readAt (Elt Ideal) arg3.view (Rect.unit (s := S1x8192x128) (k0_off1 k) ![1, 4096, 128] (k0_off1_inb k)).toLoadRect X3) (View.readAt (Elt Ideal) arg4.view (Rect.unit (s := S1x8192x128) (k0_off1 k) ![1, 4096, 128] (k0_off1_inb k)).toLoadRect X4)
  obtain ⟨μ, hμ, hA⟩ := h p r
  match p with
  | ⟨0, _⟩ =>
    obtain ⟨μ', h8, h9⟩ := s0 (View.readAt (Elt Ideal) arg7.view (Rect.unit (s := S2x512x128) ![0, 0, 0] ![1, 512, 128] inb_S2x512x128_S1x512x128_0_0_0).toLoadRect X7) (View.readAt (Elt Ideal) arg8.view (Rect.unit (s := S2x512x1) ![0, 0, 0] ![1, 512, 1] inb_S2x512x1_S1x512x1_0_0_0).toLoadRect f8) (View.readAt (Elt Ideal) arg9.view (Rect.unit (s := S2x512x128) ![0, 0, 0] ![1, 512, 128] inb_S2x512x128_S1x512x128_0_0_0).toLoadRect f9)
      (fun j l => (chunk_load arg3.view X3 k _ j l).trans (hK _ l)) (fun j l => (chunk_load arg4.view X4 k _ j l).trans (hV _ l))
      (fun l => (plane_load arg7.view X7 0 rfl _ r l).trans (hQ 0 r l))
      ⟨μ, (plane_load arg8.view f8 0 rfl _ r 0).trans hμ, fun l => (plane_load arg9.view f9 0 rfl _ r l).trans (hA l)⟩
    exact ⟨μ', (planes arg8.view f8 _ _ _ _ 0 r 0).trans h8, fun l => (planes arg9.view f9 _ _ _ _ 0 r l).trans (h9 l)⟩
  | ⟨1, _⟩ =>
    obtain ⟨μ', h8, h9⟩ := s0 (View.readAt (Elt Ideal) arg7.view (Rect.unit (s := S2x512x128) ![1, 0, 0] ![1, 512, 128] inb_S2x512x128_S1x512x128_1_0_0).toLoadRect X7) (View.readAt (Elt Ideal) arg8.view (Rect.unit (s := S2x512x1) ![1, 0, 0] ![1, 512, 1] inb_S2x512x1_S1x512x1_1_0_0).toLoadRect f8) (View.readAt (Elt Ideal) arg9.view (Rect.unit (s := S2x512x128) ![1, 0, 0] ![1, 512, 128] inb_S2x512x128_S1x512x128_1_0_0).toLoadRect f9)
      (fun j l => (chunk_load arg3.view X3 k _ j l).trans (hK _ l)) (fun j l => (chunk_load arg4.view X4 k _ j l).trans (hV _ l))
      (fun l => (plane_load arg7.view X7 1 rfl _ r l).trans (hQ 1 r l))
      ⟨μ, (plane_load arg8.view f8 1 rfl _ r 0).trans hμ, fun l => (plane_load arg9.view f9 1 rfl _ r l).trans (hA l)⟩
    exact ⟨μ', (planes arg8.view f8 _ _ _ _ 1 r 0).trans h8, fun l => (planes arg9.view f9 _ _ _ _ 1 r l).trans (h9 l)⟩

include hQ hK hV in
/-- The whole loop, from a real maximum and zero sums. -/
theorem loop_held (f8 : BufTy.Contents (Elt Ideal) arg8.view.ty) (f9 : BufTy.Contents (Elt Ideal) arg9.view.ty)
    (h : Held (arg8.view.read (Elt Ideal) f8) (arg9.view.read (Elt Ideal) f9) fun _ _ _ => 0) :
    Held (arg8.view.read (Elt Ideal) (arg8.view.writes (Elt Ideal) f8 (pb_k0_t1 (F := Ideal) 𝒱 c bd i arg2 harg2 arg3 harg3 arg4 harg4 arg5 harg5 arg6 harg6 arg7 harg7 arg8 harg8 arg9 harg9 v2 v34 X3 X4 X7 f8 f9 (Scf.trips k0_t1_loop.lb k0_t1_loop.ub k0_t1_loop.st)).1))
      (arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 v2 v34 X3 X4 X7 f8 f9 (Scf.trips k0_t1_loop.lb k0_t1_loop.ub k0_t1_loop.st)).2))
      fun p r l => ∑ j : Fin 8192, Real.exp (rscore qr kr p r j) * vr j l := by
  have ht : Scf.trips k0_t1_loop.lb k0_t1_loop.ub k0_t1_loop.st = 2 := by decide +kernel
  have hl : k0_t1_loop.trips = 2 := ht
  have e1 := pb_k0_t1_succ (F := Ideal) 𝒱 c bd i arg2 harg2 arg3 harg3 arg4 harg4 arg5 harg5 arg6 harg6 arg7 harg7 arg8 harg8 arg9 harg9 v2 v34 X3 X4 X7 f8 f9 ⟨0, by rw [hl]; omega⟩
  have e2 := pb_k0_t1_succ (F := Ideal) 𝒱 c bd i arg2 harg2 arg3 harg3 arg4 harg4 arg5 harg5 arg6 harg6 arg7 harg7 arg8 harg8 arg9 harg9 v2 v34 X3 X4 X7 f8 f9 ⟨1, by rw [hl]; omega⟩
  have h1 := trip_held 𝒱 c bd i arg2 harg2 arg3 harg3 arg4 harg4 arg5 harg5 arg6 harg6 arg7 harg7 arg8 harg8 arg9 harg9 v2 v34 X3 X4 X7 qr kr vr hQ hK hV ⟨0, by rw [hl]; omega⟩ f8 f9 _ h
  have h2 := trip_held 𝒱 c bd i arg2 harg2 arg3 harg3 arg4 harg4 arg5 harg5 arg6 harg6 arg7 harg7 arg8 harg8 arg9 harg9 v2 v34 X3 X4 X7 qr kr vr hQ hK hV ⟨1, by rw [hl]; omega⟩ _ _ _ h1
  have z : pb_k0_t1 (F := Ideal) 𝒱 c bd i arg2 harg2 arg3 harg3 arg4 harg4 arg5 harg5 arg6 harg6 arg7 harg7 arg8 harg8 arg9 harg9 v2 v34 X3 X4 X7 f8 f9 0 = ([], []) := rfl
  have e1' : pb_k0_t1 (F := Ideal) 𝒱 c bd i arg2 harg2 arg3 harg3 arg4 harg4 arg5 harg5 arg6 harg6 arg7 harg7 arg8 harg8 arg9 harg9 v2 v34 X3 X4 X7 f8 f9 1 = ((tripL_k0_t1 (F := Ideal) 𝒱 c bd i arg2 harg2 arg3 harg3 arg4 harg4 arg5 harg5 arg6 harg6 arg7 harg7 arg8 harg8 arg9 harg9 v2 v34 X3 X4 X7 ⟨0, by rw [hl]; omega⟩ f8 f9).1, (tripL_k0_t1 (F := Ideal) 𝒱 c bd i arg2 harg2 arg3 harg3 arg4 harg4 arg5 harg5 arg6 harg6 arg7 harg7 arg8 harg8 arg9 harg9 v2 v34 X3 X4 X7 ⟨0, by rw [hl]; omega⟩ f8 f9).2) := by
    refine e1.trans ?_
    show (_ ++ (pb_k0_t1 (F := Ideal) 𝒱 c bd i arg2 harg2 arg3 harg3 arg4 harg4 arg5 harg5 arg6 harg6 arg7 harg7 arg8 harg8 arg9 harg9 v2 v34 X3 X4 X7 f8 f9 0).1, _ ++ (pb_k0_t1 (F := Ideal) 𝒱 c bd i arg2 harg2 arg3 harg3 arg4 harg4 arg5 harg5 arg6 harg6 arg7 harg7 arg8 harg8 arg9 harg9 v2 v34 X3 X4 X7 f8 f9 0).2) = _
    simp only [z, List.append_nil, View.writes_nil]
  rw [ht]
  have e2' : pb_k0_t1 (F := Ideal) 𝒱 c bd i arg2 harg2 arg3 harg3 arg4 harg4 arg5 harg5 arg6 harg6 arg7 harg7 arg8 harg8 arg9 harg9 v2 v34 X3 X4 X7 f8 f9 2 = _ := e2
  rw [e2']
  dsimp only
  rw [View.writes_append, View.writes_append, e1']
  convert h2 using 4
  exact (sum_cut_real _).trans (Fin.sum_univ_two _) |>.trans (by rw [zero_add]; rfl)

end Cert.FlashAIdeal.Val

end
-- ==== Proof.FlashLayout.lean ====
/-
  The attention kernel's layouts, over the extended reals: the two heads of a plane stacked above one another with their lanes
  padded by zeros, and the finished rows taken apart again.
-/
module

public import Idealize.ShloMosaic.Lib.KernelVsHost
public import proofs.«01_k».proof.Proof.FlashState

@[expose] public section

set_option maxRecDepth 16384

noncomputable section

namespace Cert.FlashAIdeal.Val

open Idealize.ShloMosaic Idealize.ShloMosaic.TcCoe Idealize.ShloMosaic.ValueIdx Idealize.SL.Sem
open Cert.FlashAIdeal Cert.FlashAIdeal.Gen Cert.Prods

/-- Row `r` of half `u` of a stack, and lane `d` of half `u` of a row. -/
def row (u : Fin 2) (r : Fin 256) : Fin 512 := ⟨256 * u.val + r.val, block_lt rfl u r⟩
def lane (u : Fin 2) (d : Fin 64) : Fin 128 := ⟨64 * u.val + d.val, block_lt rfl u d⟩

theorem bitsZero : Ideal.ofBits .f32 0x00000000#32 = (0 : EReal) := by norm_num [Ideal.ofBits, Ideal.ieee]

theorem one_ne {h : 1 < 2} : ¬ (⟨1, h⟩ : Fin 2) = 0 := fun e => Nat.one_ne_zero (congrArg Fin.val e)

theorem same {s : Shape} {α : Type} (x : s.Idx → α) (h : s.ShapeCasts s) (i : s.Idx) : shapeCast s x h i = x i := shapeCast_apply x h i i rfl

theorem lane_eq {α : Type} (l : Fin 128) (a b : α) : Scalar.select (IntOp.cmpi .eq (BitVec.ofNat 32 l.val) 64#32) a b = if l = 64 then a else b := by
  have h : ∀ l : Fin 128, (IntOp.cmpi .eq (BitVec.ofNat 32 l.val) 64#32 = 1#1 ↔ l = 64) := by decide
  unfold Scalar.select
  exact if_congr (h l) rfl rfl

theorem mask_low {α : Type} (l : Fin 128) (a b : α) (r : Fin 256) : Scalar.select (k0_pay12 (ix2 r l)) a b = if l.val < 64 then a else b := by
  have h : ∀ l : Fin 128, (IntOp.cmpi .slt (BitVec.ofNat 32 l.val) 64#32 = 1#1 ↔ l.val < 64) := by decide
  have e : k0_pay12 (ix2 r l) = IntOp.cmpi .slt (BitVec.ofNat 32 l.val) 64#32 := by
    unfold k0_pay12
    show IntOp.cmpi .slt (iota .tc S256x128 32 [1] iota_S256x128_d1_w32 (ix2 r l)) 64#32 = _
    rw [iota_single_apply]
  rw [e]
  unfold Scalar.select
  exact if_congr (h l) rfl rfl

theorem mask_at {α : Type} (a b : α) (r : Fin 256) (u : Fin 2) (d : Fin 64) :
    Scalar.select (k0_pay12 (ix2 r (lane u d))) a b = if u = 0 then a else b := by
  refine (mask_low _ _ _ r).trans (if_congr ?_ rfl rfl)
  have := d.isLt
  match u with
  | ⟨0, _⟩ => exact ⟨fun _ => rfl, fun _ => (by show 64 * 0 + d.val < 64; omega)⟩
  | ⟨1, _⟩ => exact ⟨fun h => absurd h (by show ¬ 64 * 1 + d.val < 64; omega), fun h => absurd h one_ne⟩

/-! ## Stacking a plane's two heads -/

theorem pay13_at (x : Vec Ideal S256x128 .bf16) (u : Fin 2) (r : Fin 256) (l : Fin 128) :
    k0_pay13 x (ix3 0 (row u r) l) = if h : l.val < 64 then x (ix2 r (lane u ⟨l.val, h⟩)) * Ideal.ofBits .f32 0x3E000000#32 else 0 := by
  unfold k0_pay13
  refine (addLead _ _ (row u r) l).trans ?_
  match u with
  | ⟨0, _⟩ =>
    refine (concatenate_pair_apply_left (t := S512x128) (s₁ := S256x128) (s₂ := S256x128) 0 _ _ concatenates_S256x128_S256x128_S512x128_d0 (ix2 (row 0 r) l) rfl (ix2 r l) fun b => ?_).trans ?_
    · match b with
      | ⟨0, _⟩ => show r.val = 256 * 0 + r.val; omega
      | ⟨1, _⟩ => rfl
    · refine (mask_low l _ _ r).trans ?_
      by_cases h : l.val < 64
      · rw [if_pos h, dif_pos h]
        refine congrArg (fun a : EReal => a * _) ((same x _ _).trans (congrArg x (congrArg (ix2 r) (Fin.ext ?_))))
        show l.val = 64 * 0 + l.val; omega
      · rw [if_neg h, dif_neg h]; exact bitsZero
  | ⟨1, _⟩ =>
    refine (concatenate_pair_apply_right (t := S512x128) (s₁ := S256x128) (s₂ := S256x128) 0 _ _ concatenates_S256x128_S256x128_S512x128_d0 (ix2 (row 1 r) l) rfl rfl (ix2 r l) (fun b hb => ?_) ?_).trans ?_
    · match b with
      | ⟨0, _⟩ => exact absurd rfl hb
      | ⟨1, _⟩ => rfl
    · show r.val + 256 = 256 * 1 + r.val; omega
    · refine (mask_low l _ _ r).trans ?_
      by_cases h : l.val < 64
      · rw [if_pos h, dif_pos h]
        refine (dynamicRotate_apply 1 64#32 _ _ (ix2 r l) (ix2 r (lane 1 ⟨l.val, h⟩)) fun b => ?_).trans ?_
        · match b with
          | ⟨0, _⟩ => rfl
          | ⟨1, _⟩ => show 64 * 1 + l.val = (l.val + 128 - 64 % 128) % 128; omega
        · exact congrArg (fun a : EReal => a * _) (same x _ _)
      · rw [if_neg h, dif_neg h]; exact bitsZero

theorem pay14_at (x : Vec Ideal S256x128 .bf16) (u : Fin 2) (r : Fin 256) (l : Fin 128) :
    k0_pay14 x (ix3 0 (row u r) l) = if h : l.val < 64 then x (ix2 r (lane u ⟨l.val, h⟩)) * Ideal.ofBits .f32 0x3E000000#32 else 0 := pay13_at x u r l

/-! ## Finishing a plane -/

theorem k0_pay23_at (A : Vec Ideal S1x512x128 .f32) (r : Fin 512) : k0_pay23 A (ix2 r 0) = A (ix3 0 r 64) := by
  unfold k0_pay23 k0_pay22
  refine (toCol _ _ r).trans ((rowSum _ _ _ _ _ r).trans ?_)
  refine (Finset.sum_congr rfl fun l _ => ?_).trans (Finset.sum_ite_eq' Finset.univ (64 : Fin 128) fun l => (A (ix3 0 r l) : EReal)) |>.trans (if_pos (Finset.mem_univ _))
  show Scalar.select (IntOp.cmpi .eq (iota .tc S512x128 32 [1] iota_S512x128_d1_w32 (ix2 r l)) 64#32) (shapeCast S512x128 A shapeCasts_S1x512x128_S512x128 (ix2 r l)) (Ideal.ofBits .f32 0x00000000#32) = _
  rw [iota_single_apply]
  refine (lane_eq l _ _).trans ?_
  split
  · exact dropLead A _ r l
  · exact bitsZero

theorem k0_pay24_at (A : Vec Ideal S1x512x128 .f32) (r : Fin 256) (u : Fin 2) (d : Fin 64) :
    k0_pay24 k0_pay12 A (ix2 r (lane u d)) = Ideal.div (A (ix3 0 (row u r) (d.castLE (by decide)))) (A (ix3 0 (row u r) 64)) := by
  unfold k0_pay24
  show Scalar.select (k0_pay12 (ix2 r (lane u d))) _ _ = _
  rw [mask_at]
  have hq (q : Fin 512) (l : Fin 128) : divf (k0_pay22 A) (broadcastTo S512x128 (k0_pay23 A) broadcasts_S512x1_S512x128) (ix2 q l) = Ideal.div (A (ix3 0 q l)) (A (ix3 0 q 64)) :=
    congrArg₂ (fun a b : EReal => Ideal.div a b) (dropLead A _ q l) ((spreadCol _ _ q l).trans (k0_pay23_at A q))
  match u with
  | ⟨0, _⟩ =>
    refine (if_pos rfl).trans ?_
    refine Eq.trans (extractStridedSlice_apply (s := S512x128) (t := S256x128) _ _ _ _ (ix2 (row 0 r) (d.castLE (by decide : 64 ≤ 128))) fun a => ?_) (hq _ _)
    match a with
    | ⟨0, _⟩ => show 256 * 0 + r.val = 0 + r.val; omega
    | ⟨1, _⟩ => show d.val = 0 + (64 * 0 + d.val); omega
  | ⟨1, _⟩ =>
    refine (if_neg one_ne).trans ?_
    refine Eq.trans (dynamicRotate_apply 1 64#32 _ _ (ix2 r (lane 1 d)) (ix2 r (d.castLE (by decide : 64 ≤ 128))) fun b => ?_) ?_
    · match b with
      | ⟨0, _⟩ => rfl
      | ⟨1, _⟩ => show d.val = (64 * 1 + d.val + 128 - 64 % 128) % 128; have := d.isLt; omega
    · refine Eq.trans (extractStridedSlice_apply (s := S512x128) (t := S256x128) _ _ _ _ (ix2 (row 1 r) (d.castLE (by decide : 64 ≤ 128))) fun a => ?_) (hq _ _)
      match a with
      | ⟨0, _⟩ => show 256 * 1 + r.val = 256 + r.val; omega
      | ⟨1, _⟩ => show d.val = 0 + d.val; omega

theorem k0_pay25_at (A : Vec Ideal S1x512x128 .f32) (M : Vec Ideal S1x512x1 .f32) (r : Fin 256) (u : Fin 2) (d : Fin 64) :
    k0_pay25 k0_pay12 A M (ix2 r (lane u d)) = M (ix3 0 (row u r) 0) + Ideal.log (A (ix3 0 (row u r) 64)) := by
  unfold k0_pay25
  show Scalar.select (k0_pay12 (ix2 r (lane u d))) _ _ = _
  rw [mask_at]
  have hq (q : Fin 512) : addf (shapeCast S512x1 M shapeCasts_S1x512x1_S512x1) (log (k0_pay23 A)) (ix2 q 0) = M (ix3 0 q 0) + Ideal.log (A (ix3 0 q 64)) :=
    congrArg₂ (fun a b : EReal => a + b) (dropLead M _ q 0) (congrArg Ideal.log (k0_pay23_at A q))
  match u with
  | ⟨0, _⟩ =>
    refine (if_pos rfl).trans ?_
    refine Eq.trans (spreadCol _ _ r _) ((same _ _ _).trans (Eq.trans (extractStridedSlice_apply (s := S512x1) (t := S256x1) _ _ _ _ (ix2 (row 0 r) 0) fun a => ?_) (hq _)))
    match a with
    | ⟨0, _⟩ => show 256 * 0 + r.val = 0 + r.val; omega
    | ⟨1, _⟩ => rfl
  | ⟨1, _⟩ =>
    refine (if_neg one_ne).trans ?_
    refine Eq.trans (spreadCol _ _ r _) ((same _ _ _).trans (Eq.trans (extractStridedSlice_apply (s := S512x1) (t := S256x1) _ _ _ _ (ix2 (row 1 r) 0) fun a => ?_) (hq _)))
    match a with
    | ⟨0, _⟩ => show 256 * 1 + r.val = 256 + r.val; omega
    | ⟨1, _⟩ => rfl

theorem k0_pay2_at (A : Vec Ideal S1x512x128 .f32) (r : Fin 512) : k0_pay2 A (ix2 r 0) = A (ix3 0 r 64) := by
  unfold k0_pay2 k0_pay1
  refine (toCol _ _ r).trans ((rowSum _ _ _ _ _ r).trans ?_)
  refine (Finset.sum_congr rfl fun l _ => ?_).trans (Finset.sum_ite_eq' Finset.univ (64 : Fin 128) fun l => (A (ix3 0 r l) : EReal)) |>.trans (if_pos (Finset.mem_univ _))
  show Scalar.select (IntOp.cmpi .eq (iota .tc S512x128 32 [1] iota_S512x128_d1_w32 (ix2 r l)) 64#32) (shapeCast S512x128 A shapeCasts_S1x512x128_S512x128 (ix2 r l)) (Ideal.ofBits .f32 0x00000000#32) = _
  rw [iota_single_apply]
  refine (lane_eq l _ _).trans ?_
  split
  · exact dropLead A _ r l
  · exact bitsZero

theorem k0_pay3_at (A : Vec Ideal S1x512x128 .f32) (r : Fin 256) (u : Fin 2) (d : Fin 64) :
    k0_pay3 k0_pay12 A (ix2 r (lane u d)) = Ideal.div (A (ix3 0 (row u r) (d.castLE (by decide)))) (A (ix3 0 (row u r) 64)) := by
  unfold k0_pay3
  show Scalar.select (k0_pay12 (ix2 r (lane u d))) _ _ = _
  rw [mask_at]
  have hq (q : Fin 512) (l : Fin 128) : divf (k0_pay1 A) (broadcastTo S512x128 (k0_pay2 A) broadcasts_S512x1_S512x128) (ix2 q l) = Ideal.div (A (ix3 0 q l)) (A (ix3 0 q 64)) :=
    congrArg₂ (fun a b : EReal => Ideal.div a b) (dropLead A _ q l) ((spreadCol _ _ q l).trans (k0_pay2_at A q))
  match u with
  | ⟨0, _⟩ =>
    refine (if_pos rfl).trans ?_
    refine Eq.trans (extractStridedSlice_apply (s := S512x128) (t := S256x128) _ _ _ _ (ix2 (row 0 r) (d.castLE (by decide : 64 ≤ 128))) fun a => ?_) (hq _ _)
    match a with
    | ⟨0, _⟩ => show 256 * 0 + r.val = 0 + r.val; omega
    | ⟨1, _⟩ => show d.val = 0 + (64 * 0 + d.val); omega
  | ⟨1, _⟩ =>
    refine (if_neg one_ne).trans ?_
    refine Eq.trans (dynamicRotate_apply 1 64#32 _ _ (ix2 r (lane 1 d)) (ix2 r (d.castLE (by decide : 64 ≤ 128))) fun b => ?_) ?_
    · match b with
      | ⟨0, _⟩ => rfl
      | ⟨1, _⟩ => show d.val = (64 * 1 + d.val + 128 - 64 % 128) % 128; have := d.isLt; omega
    · refine Eq.trans (extractStridedSlice_apply (s := S512x128) (t := S256x128) _ _ _ _ (ix2 (row 1 r) (d.castLE (by decide : 64 ≤ 128))) fun a => ?_) (hq _ _)
      match a with
      | ⟨0, _⟩ => show 256 * 1 + r.val = 256 + r.val; omega
      | ⟨1, _⟩ => show d.val = 0 + d.val; omega

theorem k0_pay4_at (A : Vec Ideal S1x512x128 .f32) (M : Vec Ideal S1x512x1 .f32) (r : Fin 256) (u : Fin 2) (d : Fin 64) :
    k0_pay4 k0_pay12 A M (ix2 r (lane u d)) = M (ix3 0 (row u r) 0) + Ideal.log (A (ix3 0 (row u r) 64)) := by
  unfold k0_pay4
  show Scalar.select (k0_pay12 (ix2 r (lane u d))) _ _ = _
  rw [mask_at]
  have hq (q : Fin 512) : addf (shapeCast S512x1 M shapeCasts_S1x512x1_S512x1) (log (k0_pay2 A)) (ix2 q 0) = M (ix3 0 q 0) + Ideal.log (A (ix3 0 q 64)) :=
    congrArg₂ (fun a b : EReal => a + b) (dropLead M _ q 0) (congrArg Ideal.log (k0_pay2_at A q))
  match u with
  | ⟨0, _⟩ =>
    refine (if_pos rfl).trans ?_
    refine Eq.trans (spreadCol _ _ r _) ((same _ _ _).trans (Eq.trans (extractStridedSlice_apply (s := S512x1) (t := S256x1) _ _ _ _ (ix2 (row 0 r) 0) fun a => ?_) (hq _)))
    match a with
    | ⟨0, _⟩ => show 256 * 0 + r.val = 0 + r.val; omega
    | ⟨1, _⟩ => rfl
  | ⟨1, _⟩ =>
    refine (if_neg one_ne).trans ?_
    refine Eq.trans (spreadCol _ _ r _) ((same _ _ _).trans (Eq.trans (extractStridedSlice_apply (s := S512x1) (t := S256x1) _ _ _ _ (ix2 (row 1 r) 0) fun a => ?_) (hq _)))
    match a with
    | ⟨0, _⟩ => show 256 * 1 + r.val = 256 + r.val; omega
    | ⟨1, _⟩ => rfl

/-! ## Two column halves -/

/-- A block whose two column halves are both written, read at an entry. -/
theorem halves {e : EltTy} (h0 : ∀ a, (![0, 0] : Fin 2 → Nat) a + S256x128.size a ≤ S256x256.size a) (h1 : ∀ a, (![0, 128] : Fin 2 → Nat) a + S256x128.size a ≤ S256x256.size a)
    (u0 u1 : Vec Ideal S256x128 e) (p : Fin 2) (r : Fin 256) (l : Fin 128) (q : Fin 256) (hq : q.val = 128 * p.val + l.val) :
    View.canon [(⟨Rect.unit (s := S256x256) ![0, 128] S256x128.size h1, u1⟩ : View.Piece (Elt Ideal) S256x256 e), ⟨Rect.unit (s := S256x256) ![0, 0] S256x128.size h0, u0⟩] (ix2 r q)
      = if p = 0 then u0 (ix2 r l) else u1 (ix2 r l) := by
  let G : Vec Ideal S256x256 e := fun y => if h : (y 1).val < 128 then u0 (ix2 (y 0 : Fin 256) (⟨(y 1).val, h⟩ : Fin 128))
    else u1 (ix2 (y 0 : Fin 256) (⟨(y 1).val - 128, by have : (y 1).val < 256 := (y 1).isLt; omega⟩ : Fin 128))
  have hx (x : S256x128.Idx) : x = ix2 (x 0 : Fin 256) (x 1 : Fin 128) := funext fun a => by
    match a with
    | ⟨0, _⟩ => rfl
    | ⟨1, _⟩ => rfl
  have hc : ∀ y : S256x256.Idx, ∃ q ∈ [(⟨Rect.unit (s := S256x256) ![0, 128] S256x128.size h1, u1⟩ : View.Piece (Elt Ideal) S256x256 e), ⟨Rect.unit (s := S256x256) ![0, 0] S256x128.size h0, u0⟩], y ∈ q.1.set := fun y => by
    have b0 : (y 0).val < 256 := (y 0).isLt
    have b1 : (y 1).val < 256 := (y 1).isLt
    rcases Nat.lt_or_ge (y 1).val 128 with hy | hy
    · refine ⟨_, List.mem_cons_of_mem _ (List.mem_singleton.mpr rfl), ?_⟩
      rw [Rect.mem_set_unit]
      intro a
      match a with
      | ⟨0, _⟩ => show 0 ≤ (y 0).val ∧ (y 0).val < 0 + 256; omega
      | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 256; omega
      | ⟨1, _⟩ => show 128 ≤ (y 1).val ∧ (y 1).val < 128 + 128; omega
  refine (View.canon_apply_of_pieces G _ (View.PiecesOf.mem (G := G)
    (L := [(⟨Rect.unit (s := S256x256) ![0, 128] S256x128.size h1, u1⟩ : View.Piece (Elt Ideal) S256x256 e), ⟨Rect.unit (s := S256x256) ![0, 0] S256x128.size h0, u0⟩]) ⟨?_, ?_, trivial⟩) _ (hc _)).trans ?_
  rotate_right
  · match p with
    | ⟨0, _⟩ =>
      have hl := l.isLt
      have hl' : q.val < 128 := by have : q.val = 128 * 0 + l.val := hq; omega
      refine (dif_pos (c := q.val < 128) hl').trans (congrArg (fun a : Fin 128 => u0 (ix2 r a)) (Fin.ext ?_))
      have : q.val = 128 * 0 + l.val := hq
      show q.val = l.val; omega
    | ⟨1, _⟩ =>
      have hl := l.isLt
      have hl' : ¬ q.val < 128 := by have : q.val = 128 * 1 + l.val := hq; omega
      refine (dif_neg (c := q.val < 128) hl').trans (congrArg (fun a : Fin 128 => u1 (ix2 r a)) (Fin.ext ?_))
      have : q.val = 128 * 1 + l.val := hq
      show q.val - 128 = l.val; omega
  · intro x
    have b1 : (x 1).val < 128 := (x 1).isLt
    have e0 : (((Rect.unit (s := S256x256) ![0, 128] S256x128.size h1).emb x) 0 : Fin 256) = x 0 := Fin.ext (by show 0 + 1 * (x 0).val = (x 0).val; omega)
    have e1 : (((Rect.unit (s := S256x256) ![0, 128] S256x128.size h1).emb x) 1).val = 128 + (x 1).val := (by show 128 + 1 * (x 1).val = 128 + (x 1).val; omega)
    refine Eq.trans ?_ ((dif_neg (c := (((Rect.unit (s := S256x256) ![0, 128] S256x128.size h1).emb x) 1).val < 128) (by rw [e1]; omega)).symm)
    exact congrArg u1 ((hx x).trans (congrArg₂ (fun a b => ix2 a b) e0.symm (Fin.ext (by show (x 1).val = (((Rect.unit (s := S256x256) ![0, 128] S256x128.size h1).emb x) 1).val - 128; rw [e1]; omega))))
  · intro x
    have b1 : (x 1).val < 128 := (x 1).isLt
    have e0 : (((Rect.unit (s := S256x256) ![0, 0] S256x128.size h0).emb x) 0 : Fin 256) = x 0 := Fin.ext (by show 0 + 1 * (x 0).val = (x 0).val; omega)
    have e1 : (((Rect.unit (s := S256x256) ![0, 0] S256x128.size h0).emb x) 1).val = (x 1).val := (by show 0 + 1 * (x 1).val = (x 1).val; omega)
    refine Eq.trans ?_ ((dif_pos (c := (((Rect.unit (s := S256x256) ![0, 0] S256x128.size h0).emb x) 1).val < 128) (by rw [e1]; omega)).symm)
    exact congrArg u0 ((hx x).trans (congrArg₂ (fun a b => ix2 a b) e0.symm (Fin.ext e1.symm)))

end Cert.FlashAIdeal.Val

end
-- ==== Proof.FlashBlock.lean ====
/-
  A block of the attention kernel's two outputs, over the extended reals, on real queries, keys and values whose 65th lane of
  values is one: the quotient of the weighted sums, and the logarithm of the sum of the weights.
-/
module

public import proofs.«01_k».proof.Proof.FlashLayout

@[expose] public section

set_option maxRecDepth 16384

noncomputable section

namespace Cert.FlashAIdeal.Val

open Idealize.ShloMosaic Idealize.ShloMosaic.TcCoe Idealize.ShloMosaic.ValueIdx Idealize.SL.Sem
open Cert.FlashAIdeal Cert.FlashAIdeal.Gen Cert.Prods

/-- Lane `d` of head `u` of plane `p` in a block of queries. -/
def col (p u : Fin 2) (d : Fin 64) : Fin 256 := ⟨128 * p.val + (lane u d).val, block_lt rfl p (lane u d)⟩

/-- The stacked rows of queries. -/
def qrow (xq : Fin 256 → Fin 256 → ℝ) (p : Fin 2) (q : Fin 512) (l : Fin 128) : ℝ :=
  if h : l.val < 64 then xq ⟨q.val % 256, Nat.mod_lt _ (by decide)⟩ (col p ⟨q.val / 256, by have := q.isLt; omega⟩ ⟨l.val, h⟩) * (1 / 8) else 0

/-- A query's score against a key. -/
def bscore (xq : Fin 256 → Fin 256 → ℝ) (kr : Fin 8192 → Fin 128 → ℝ) (p u : Fin 2) (r : Fin 256) (j : Fin 8192) : ℝ :=
  (∑ d : Fin 64, xq r (col p u d) * kr j (d.castLE (by decide))) * (1 / 8)

theorem row_surj (q : Fin 512) : q = row ⟨q.val / 256, by have := q.isLt; omega⟩ ⟨q.val % 256, Nat.mod_lt _ (by decide)⟩ :=
  Fin.ext (by show q.val = 256 * (q.val / 256) + q.val % 256; omega)

theorem qrow_row (xq : Fin 256 → Fin 256 → ℝ) (p u : Fin 2) (r : Fin 256) (l : Fin 128) :
    qrow xq p (row u r) l = if h : l.val < 64 then xq r (col p u ⟨l.val, h⟩) * (1 / 8) else 0 := by
  unfold qrow
  have hr := r.isLt
  have e1 : (⟨(row u r).val % 256, Nat.mod_lt _ (by decide)⟩ : Fin 256) = r := Fin.ext (by show (256 * u.val + r.val) % 256 = r.val; omega)
  have e2 : (⟨(row u r).val / 256, by have := (row u r).isLt; omega⟩ : Fin 2) = u := Fin.ext (by show (256 * u.val + r.val) / 256 = u.val; omega)
  rw [e1, e2]

theorem rscore_row (xq : Fin 256 → Fin 256 → ℝ) (kr : Fin 8192 → Fin 128 → ℝ) (p u : Fin 2) (r : Fin 256) (j : Fin 8192) :
    rscore (qrow xq) kr p (row u r) j = bscore xq kr p u r j := by
  unfold rscore bscore
  refine (Fin.sum_univ_add (a := 64) (b := 64) (fun l : Fin 128 => qrow xq p (row u r) l * kr j l)).trans ?_
  have hz : ∑ l : Fin 64, qrow xq p (row u r) (Fin.natAdd 64 l) * kr j (Fin.natAdd 64 l) = 0 := Finset.sum_eq_zero fun l _ => by
    rw [qrow_row, dif_neg (by show ¬ 64 + l.val < 64; omega), zero_mul]
  refine (congrArg (fun a : ℝ => _ + a) hz).trans ?_
  rw [add_zero, Finset.sum_mul]
  refine Finset.sum_congr rfl fun l _ => ?_
  rw [qrow_row, dif_pos (show (Fin.castAdd 64 l).val < 64 from l.isLt)]
  show xq r (col p u l) * (1 / 8) * kr j (l.castLE _) = _
  ring

/-- A half of a block's columns, loaded. -/
theorem half_load (v : Memref sig .tc .vmem S256x256 .bf16) (hv : v.IsWhole) (x : Vec Ideal S256x256 .bf16) (p : Fin 2) {off : Fin 2 → Nat} (ho : off = ![0, 128 * p.val])
    (h : ∀ a, off a + S256x128.size a ≤ S256x256.size a) (r : Fin 256) (u : Fin 2) (d : Fin 64) :
    View.readAt (Elt Ideal) v.view (Rect.unit (s := S256x256) off S256x128.size h).toLoadRect (hv.unread x) (ix2 r (lane u d)) = x (ix2 r (col p u d)) := by
  subst ho
  rw [View.readAt_eq_ld]
  refine (View.ld_unit_apply_of _ _ _ _ _ (ix2 r (col p u d)) fun a => ?_).trans (congrFun (hv.read_unread x) _)
  match a with
  | ⟨0, _⟩ => show r.val = 0 + r.val; omega
  | ⟨1, _⟩ => rfl

variable (c : Dev nD) (i : grid0.Coords) (arg2 : Memref sig .tc .vmem S256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S2x512x128 .bf16) (harg7 : arg7.IsWhole) (arg8 : Memref sig .tc .vmem S2x512x1 .f32) (harg8 : arg8.IsWhole) (arg9 : Memref sig .tc .vmem S2x512x128 .f32) (harg9 : arg9.IsWhole)
  (x0 : Vec Ideal S256x256 .bf16) (x1 : Vec Ideal S1x8192x128 .bf16) (x2 : Vec Ideal S1x8192x128 .bf16)

/-- The queries as the kernel stacks them, and where the loop starts and ends. -/
abbrev q7 : arg7.view.ty.Contents (Elt Ideal) := arg7.view.writes (Elt Ideal) arg7.view.junk [⟨Rect.unit (s := S2x512x128) ![1, 0, 0] ![1, 512, 128] inb_S2x512x128_S1x512x128_1_0_0, (k0_pay14 (F := Ideal)) (View.readAt (Elt Ideal) arg2.view (Rect.unit (s := S256x256) ![0, 128] S256x128.size inb_S256x256_S256x128_0_128).toLoadRect (harg2.unread x0))⟩,
    ⟨Rect.unit (s := S2x512x128) ![0, 0, 0] ![1, 512, 128] inb_S2x512x128_S1x512x128_0_0_0, (k0_pay13 (F := Ideal)) (View.readAt (Elt Ideal) arg2.view (Rect.unit (s := S256x256) ![0, 0] S256x128.size inb_S256x256_S256x128_0_0).toLoadRect (harg2.unread x0))⟩]

abbrev s8 : arg8.view.ty.Contents (Elt Ideal) := arg8.view.writes (Elt Ideal) arg8.view.junk [⟨Rect.unit (s := S2x512x1) ![0, 0, 0] S2x512x1.size inb_S2x512x1_S2x512x1_0_0_0, (k0_pay15 (F := Ideal))⟩]

abbrev s9 : arg9.view.ty.Contents (Elt Ideal) := arg9.view.writes (Elt Ideal) arg9.view.junk [⟨Rect.unit (s := S2x512x128) ![0, 0, 0] S2x512x128.size inb_S2x512x128_S2x512x128_0_0_0, (k0_pay16 (F := Ideal))⟩]

abbrev done := pb_k0_t1 (F := Ideal) Variants.none c none i arg2 harg2 arg3 harg3 arg4 harg4 arg5 harg5 arg6 harg6 arg7 harg7 arg8 harg8 arg9 harg9 k0_pay12 (k0_pay15 (F := Ideal)) (harg3.unread x1) (harg4.unread x2) (q7 arg2 harg2 arg7 x0) (s8 arg8) (s9 arg9) (Scf.trips k0_t1_loop.lb k0_t1_loop.ub k0_t1_loop.st)

theorem out3_eq : out0_A_3 c i arg2 harg2 arg3 harg3 arg4 harg4 arg5 harg5 arg6 harg6 arg7 harg7 arg8 harg8 arg9 harg9 x0 x1 x2 =
    View.canon (Val := Elt Ideal) [⟨Rect.unit (s := S256x256) ![0, 128] S256x128.size inb_S256x256_S256x128_0_128, (k0_pay3 (F := Ideal)) k0_pay12 (arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![1, 0, 0] ![1, 512, 128] inb_S2x512x128_S1x512x128_1_0_0).toLoadRect)⟩,
      ⟨Rect.unit (s := S256x256) ![0, 0] S256x128.size inb_S256x256_S256x128_0_0, (k0_pay24 (F := Ideal)) k0_pay12 (arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![0, 0, 0] ![1, 512, 128] inb_S2x512x128_S1x512x128_0_0_0).toLoadRect)⟩] := by
  unfold out0_A_3
  rw [View.read_writes_eq_canon _ _ _ (cover0_A_3 c i arg2 harg2 arg3 harg3 arg4 harg4 arg5 harg5 arg6 harg6 arg7 harg7 arg8 harg8 arg9 harg9 x0 x1 x2)]
  unfold kernelRun0_A
  rfl

theorem out4_eq : out0_A_4 c i arg2 harg2 arg3 harg3 arg4 harg4 arg5 harg5 arg6 harg6 arg7 harg7 arg8 harg8 arg9 harg9 x0 x1 x2 =
    View.canon (Val := Elt Ideal) [⟨Rect.unit (s := S256x256) ![0, 128] S256x128.size inb_S256x256_S256x128_0_128, (k0_pay4 (F := Ideal)) k0_pay12 (arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![1, 0, 0] ![1, 512, 128] inb_S2x512x128_S1x512x128_1_0_0).toLoadRect) (arg8.view.readCov ((done c i arg2 harg2 arg3 harg3 arg4 harg4 arg5 harg5 arg6 harg6 arg7 harg7 arg8 harg8 arg9 harg9 x0 x1 x2).1 ++ [⟨Rect.unit (s := S2x512x1) ![0, 0, 0] S2x512x1.size inb_S2x512x1_S2x512x1_0_0_0, (k0_pay15 (F := Ideal))⟩]) (Rect.unit (s := S2x512x1) ![1, 0, 0] ![1, 512, 1] inb_S2x512x1_S1x512x1_1_0_0).toLoadRect)⟩,
      ⟨Rect.unit (s := S256x256) ![0, 0] S256x128.size inb_S256x256_S256x128_0_0, (k0_pay25 (F := Ideal)) k0_pay12 (arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![0, 0, 0] ![1, 512, 128] inb_S2x512x128_S1x512x128_0_0_0).toLoadRect) (arg8.view.readCov ((done c i arg2 harg2 arg3 harg3 arg4 harg4 arg5 harg5 arg6 harg6 arg7 harg7 arg8 harg8 arg9 harg9 x0 x1 x2).1 ++ [⟨Rect.unit (s := S2x512x1) ![0, 0, 0] S2x512x1.size inb_S2x512x1_S2x512x1_0_0_0, (k0_pay15 (F := Ideal))⟩]) (Rect.unit (s := S2x512x1) ![0, 0, 0] ![1, 512, 1] inb_S2x512x1_S1x512x1_0_0_0).toLoadRect)⟩] := by
  unfold out0_A_4
  rw [View.read_writes_eq_canon _ _ _ (cover0_A_4 c i arg2 harg2 arg3 harg3 arg4 harg4 arg5 harg5 arg6 harg6 arg7 harg7 arg8 harg8 arg9 harg9 x0 x1 x2)]
  unfold kernelRun0_A
  rfl

variable (xq : Fin 256 → Fin 256 → ℝ) (kr vr : Fin 8192 → Fin 128 → ℝ)
  (hx0 : ∀ r q, x0 (ix2 r q) = (xq r q : EReal)) (hx1 : ∀ j l, x1 (ix3 0 j l) = (kr j l : EReal)) (hx2 : ∀ j l, x2 (ix3 0 j l) = (vr j l : EReal))

include hx0 in
theorem q7_at (p : Fin 2) (q : Fin 512) (l : Fin 128) : arg7.view.read (Elt Ideal) (q7 arg2 harg2 arg7 x0) (ix3 p q l) = (qrow xq p q l : EReal) := by
  rw [row_surj q]
  generalize (⟨q.val / 256, by have := q.isLt; omega⟩ : Fin 2) = u
  generalize (⟨q.val % 256, Nat.mod_lt _ (by decide)⟩ : Fin 256) = r
  rw [qrow_row]
  refine (planes arg7.view _ _ _ _ _ p (row u r) l).trans ?_
  match p with
  | ⟨0, _⟩ =>
    refine (if_pos rfl).trans ((pay13_at _ u r l).trans ?_)
    by_cases h : l.val < 64
    · rw [dif_pos h, dif_pos h, EReal.coe_mul]
      exact congrArg₂ (fun a b : EReal => a * b) ((half_load arg2 harg2 x0 0 rfl _ r u _).trans (hx0 _ _)) Online.bitsEighth
    · rw [dif_neg h, dif_neg h]; rfl
  | ⟨1, _⟩ =>
    refine (if_neg one_ne).trans ((pay14_at _ u r l).trans ?_)
    by_cases h : l.val < 64
    · rw [dif_pos h, dif_pos h, EReal.coe_mul]
      exact congrArg₂ (fun a b : EReal => a * b) ((half_load arg2 harg2 x0 1 rfl _ r u _).trans (hx0 _ _)) Online.bitsEighth
    · rw [dif_neg h, dif_neg h]; rfl

/-- A whole array written, read back. -/
theorem whole_at {sig : RefSig} {κ : Kind} {sp : Space} {e : EltTy} {n w : Nat} (v : View sig κ sp ⟨3, ![2, n, w]⟩ e) (f : v.ty.Contents (Elt Ideal))
    (h : ∀ a, (![0, 0, 0] : Fin 3 → Nat) a + (![2, n, w] : Fin 3 → Nat) a ≤ (⟨3, ![2, n, w]⟩ : Shape).size a) (x : Vec Ideal ⟨3, ![2, n, w]⟩ e) :
    v.read (Elt Ideal) (v.writes (Elt Ideal) f [⟨Rect.unit (s := ⟨3, ![2, n, w]⟩) ![0, 0, 0] ![2, n, w] h, x⟩]) = x := by
  have hm (y : (⟨3, ![2, n, w]⟩ : Shape).Idx) : y ∈ (Rect.unit (s := ⟨3, ![2, n, w]⟩) ![0, 0, 0] ![2, n, w] h).set := by
    rw [Rect.mem_set_unit]
    intro a
    match a with
    | ⟨0, _⟩ => have := (y 0).isLt; exact ⟨Nat.zero_le _, (Nat.zero_add _).symm ▸ this⟩
    | ⟨1, _⟩ => have := (y 1).isLt; exact ⟨Nat.zero_le _, (Nat.zero_add _).symm ▸ this⟩
    | ⟨2, _⟩ => have := (y 2).isLt; exact ⟨Nat.zero_le _, (Nat.zero_add _).symm ▸ this⟩
  have hc : ∀ y : (⟨3, ![2, n, w]⟩ : Shape).Idx, ∃ q ∈ [(⟨Rect.unit (s := ⟨3, ![2, n, w]⟩) ![0, 0, 0] ![2, n, w] h, x⟩ : View.Piece (Elt Ideal) ⟨3, ![2, n, w]⟩ e)], y ∈ q.1.set :=
    fun y => ⟨_, List.mem_singleton.mpr rfl, hm y⟩
  rw [View.read_writes_eq_canon _ _ _ hc]
  funext y
  refine View.canon_apply_of_pieces x _ (View.PiecesOf.mem (G := x)
    (L := [(⟨Rect.unit (s := ⟨3, ![2, n, w]⟩) ![0, 0, 0] ![2, n, w] h, x⟩ : View.Piece (Elt Ideal) ⟨3, ![2, n, w]⟩ e)]) ⟨fun z => ?_, trivial⟩) _ (hc _)
  refine congrArg x (funext fun a => Fin.ext ?_)
  match a with
  | ⟨0, _⟩ => show (z 0).val = 0 + 1 * (z 0).val; omega
  | ⟨1, _⟩ => show (z 1).val = 0 + 1 * (z 1).val; omega
  | ⟨2, _⟩ => show (z 2).val = 0 + 1 * (z 2).val; omega

theorem start_held : Held (arg8.view.read (Elt Ideal) (s8 arg8)) (arg9.view.read (Elt Ideal) (s9 arg9)) fun _ _ _ => 0 := by
  intro p r
  obtain ⟨μ, hμ⟩ := Online.bitsFloor
  refine ⟨μ, ?_, fun l => ?_⟩
  · refine (congrFun (whole_at arg8.view _ _ _) _).trans ?_
    unfold k0_pay15
    exact (same _ _ _).trans hμ
  · refine (congrFun (whole_at arg9.view _ _ _) _).trans ?_
    rw [mul_zero]
    unfold k0_pay16
    exact (same _ _ _).trans bitsZero

/-- What the finished planes hold. -/
abbrev a9 (p : Fin 2) : Vec Ideal S1x512x128 .f32 := match p with
  | ⟨0, _⟩ => arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![0, 0, 0] ![1, 512, 128] inb_S2x512x128_S1x512x128_0_0_0).toLoadRect
  | ⟨1, _⟩ => arg9.view.readCov ((done c i arg2 harg2 arg3 harg3 arg4 harg4 arg5 harg5 arg6 harg6 arg7 harg7 arg8 harg8 arg9 harg9 x0 x1 x2).2 ++ [⟨Rect.unit (s := S2x512x128) ![0, 0, 0] S2x512x128.size inb_S2x512x128_S2x512x128_0_0_0, (k0_pay16 (F := Ideal))⟩]) (Rect.unit (s := S2x512x128) ![1, 0, 0] ![1, 512, 128] inb_S2x512x128_S1x512x128_1_0_0).toLoadRect

abbrev a8 (p : Fin 2) : Vec Ideal S1x512x1 .f32 := match p with
  | ⟨0, _⟩ => arg8.view.readCov ((done c i arg2 harg2 arg3 harg3 arg4 harg4 arg5 harg5 arg6 harg6 arg7 harg7 arg8 harg8 arg9 harg9 x0 x1 x2).1 ++ [⟨Rect.unit (s := S2x512x1) ![0, 0, 0] S2x512x1.size inb_S2x512x1_S2x512x1_0_0_0, (k0_pay15 (F := Ideal))⟩]) (Rect.unit (s := S2x512x1) ![0, 0, 0] ![1, 512, 1] inb_S2x512x1_S1x512x1_0_0_0).toLoadRect
  | ⟨1, _⟩ => arg8.view.readCov ((done c i arg2 harg2 arg3 harg3 arg4 harg4 arg5 harg5 arg6 harg6 arg7 harg7 arg8 harg8 arg9 harg9 x0 x1 x2).1 ++ [⟨Rect.unit (s := S2x512x1) ![0, 0, 0] S2x512x1.size inb_S2x512x1_S2x512x1_0_0_0, (k0_pay15 (F := Ideal))⟩]) (Rect.unit (s := S2x512x1) ![1, 0, 0] ![1, 512, 1] inb_S2x512x1_S1x512x1_1_0_0).toLoadRect

include hx0 hx1 hx2 in
theorem plane_held (p u : Fin 2) (r : Fin 256) : ∃ μ : ℝ, a8 c i arg2 harg2 arg3 harg3 arg4 harg4 arg5 harg5 arg6 harg6 arg7 harg7 arg8 harg8 arg9 harg9 x0 x1 x2 p (ix3 0 (row u r) 0) = (μ : EReal)
    ∧ ∀ l, a9 c i arg2 harg2 arg3 harg3 arg4 harg4 arg5 harg5 arg6 harg6 arg7 harg7 arg8 harg8 arg9 harg9 x0 x1 x2 p (ix3 0 (row u r) l) = ((Real.exp (-μ) * ∑ j : Fin 8192, Real.exp (bscore xq kr p u r j) * vr j l : ℝ) : EReal) := by
  obtain ⟨μ, hM, hA⟩ := loop_held Variants.none c none i arg2 harg2 arg3 harg3 arg4 harg4 arg5 harg5 arg6 harg6 arg7 harg7 arg8 harg8 arg9 harg9 k0_pay12 (k0_pay15 (F := Ideal)) (harg3.unread x1) (harg4.unread x2) (q7 arg2 harg2 arg7 x0) (qrow xq) kr vr (q7_at arg2 harg2 arg7 x0 xq hx0)
    (fun j l => (congrFun (harg3.read_unread x1) _).trans (hx1 j l)) (fun j l => (congrFun (harg4.read_unread x2) _).trans (hx2 j l)) (s8 arg8) (s9 arg9) (start_held arg8 arg9) p (row u r)
  rw [← View.writes_append] at hM
  refine ⟨μ, ?_, fun l => ?_⟩
  · refine Eq.trans ?_ hM
    match p with
    | ⟨0, _⟩ => exact plane_load arg8.view _ 0 rfl _ (row u r) 0
    | ⟨1, _⟩ => exact plane_load arg8.view _ 1 rfl _ (row u r) 0
  · have hl := hA l
    rw [← View.writes_append] at hl
    refine Eq.trans ?_ (hl.trans ?_)
    · match p with
      | ⟨0, _⟩ => exact plane_load arg9.view _ 0 rfl _ (row u r) l
      | ⟨1, _⟩ => exact plane_load arg9.view _ 1 rfl _ (row u r) l
    · simp only [rscore_row]

theorem weights_pos (s : Fin 8192 → ℝ) : 0 < ∑ j : Fin 8192, Real.exp (s j) := Finset.sum_pos (fun _ _ => Real.exp_pos _) ⟨0, Finset.mem_univ _⟩

include hx0 hx1 hx2 in
/-- The first output's block. -/
theorem out3_at (h64 : ∀ j, vr j 64 = 1) (p u : Fin 2) (r : Fin 256) (d : Fin 64) :
    out0_A_3 c i arg2 harg2 arg3 harg3 arg4 harg4 arg5 harg5 arg6 harg6 arg7 harg7 arg8 harg8 arg9 harg9 x0 x1 x2 (ix2 r (col p u d))
      = (((∑ j : Fin 8192, Real.exp (bscore xq kr p u r j) * vr j (d.castLE (by decide))) / ∑ j : Fin 8192, Real.exp (bscore xq kr p u r j) : ℝ) : EReal) := by
  obtain ⟨μ, hM, hA⟩ := plane_held c i arg2 harg2 arg3 harg3 arg4 harg4 arg5 harg5 arg6 harg6 arg7 harg7 arg8 harg8 arg9 harg9 x0 x1 x2 xq kr vr hx0 hx1 hx2 p u r
  have h6 := hA 64
  simp only [h64, mul_one] at h6
  refine Eq.trans ?_ (Online.quot_real μ _ (weights_pos _))
  rw [← hA, ← h6, out3_eq]
  refine (halves _ _ _ _ p r (lane u d) (col p u d) rfl).trans ?_
  match p with
  | ⟨0, _⟩ => exact (if_pos rfl).trans (k0_pay24_at _ r u d)
  | ⟨1, _⟩ => exact (if_neg one_ne).trans (k0_pay3_at _ r u d)

include hx0 hx1 hx2 in
/-- The second output's block. -/
theorem out4_at (h64 : ∀ j, vr j 64 = 1) (p u : Fin 2) (r : Fin 256) (d : Fin 64) :
    out0_A_4 c i arg2 harg2 arg3 harg3 arg4 harg4 arg5 harg5 arg6 harg6 arg7 harg7 arg8 harg8 arg9 harg9 x0 x1 x2 (ix2 r (col p u d)) = ((Real.log (∑ j : Fin 8192, Real.exp (bscore xq kr p u r j)) : ℝ) : EReal) := by
  obtain ⟨μ, hM, hA⟩ := plane_held c i arg2 harg2 arg3 harg3 arg4 harg4 arg5 harg5 arg6 harg6 arg7 harg7 arg8 harg8 arg9 harg9 x0 x1 x2 xq kr vr hx0 hx1 hx2 p u r
  have h6 := hA 64
  simp only [h64, mul_one] at h6
  refine Eq.trans ?_ (Online.log_sum_real μ (weights_pos _))
  rw [← h6, ← hM, out4_eq]
  refine (halves _ _ _ _ p r (lane u d) (col p u d) rfl).trans ?_
  match p with
  | ⟨0, _⟩ => exact (if_pos rfl).trans (k0_pay25_at _ _ r u d)
  | ⟨1, _⟩ => exact (if_neg one_ne).trans (k0_pay4_at _ _ r u d)

end Cert.FlashAIdeal.Val

end
-- ==== Proof.Attend.lean ====
/-
  Attention with two heads of keys and values and eight heads of queries, on real entries: each row's quotient of weighted sums,
  and the logarithm of the sum of its weights.
-/
module

public import proofs.«01_k».proof.Proof.Prods

@[expose] public section

noncomputable section

namespace Cert.Attend

open Idealize.ShloMosaic Idealize.ShloMosaic.ValueIdx
open Cert.MixBwd (Mat)

/-- Lane `d` of the query head to which column `q` belongs, and of that head's key head. -/
def head (q : Fin 512) (d : Fin 64) : Fin 512 := ⟨64 * (q.val / 64) + d.val, by have := q.isLt; have := d.isLt; omega⟩
def group (q : Fin 512) (d : Fin 64) : Fin 128 := ⟨64 * (q.val / 256) + d.val, by have := q.isLt; have := d.isLt; omega⟩

/-- The lane of column `q` in its head. -/
def place (q : Fin 512) : Fin 64 := ⟨q.val % 64, Nat.mod_lt _ (by decide)⟩

/-- The scaled score of query row `r`, in the head of column `q`, against key `j`. -/
def score (x : Mat 8192 512) (k : Mat 8192 128) (r : Fin 8192) (q : Fin 512) (j : Fin 8192) : ℝ :=
  (∑ d : Fin 64, EReal.toReal (x (ix2 r (head q d))) * EReal.toReal (k (ix2 j (group q d)))) * (1 / 8)

/-- The sum of a row's weights, and its weighted sum of values. -/
def mass (x : Mat 8192 512) (k : Mat 8192 128) (r : Fin 8192) (q : Fin 512) : ℝ := ∑ j : Fin 8192, Real.exp (score x k r q j)
def total (x : Mat 8192 512) (k v : Mat 8192 128) (r : Fin 8192) (q : Fin 512) : ℝ :=
  ∑ j : Fin 8192, Real.exp (score x k r q j) * EReal.toReal (v (ix2 j (group q (place q))))

/-- The attention's two results. -/
def attend (x : Mat 8192 512) (k v : Mat 8192 128) : Mat 8192 512 := fun i => ((total x k v (i 0) (i 1) / mass x k (i 0) (i 1) : ℝ) : EReal)
def lse (x : Mat 8192 512) (k : Mat 8192 128) : Mat 8192 512 := fun i => ((Real.log (mass x k (i 0) (i 1)) : ℝ) : EReal)

theorem mass_pos (x : Mat 8192 512) (k : Mat 8192 128) (r : Fin 8192) (q : Fin 512) : 0 < mass x k r q :=
  Finset.sum_pos (fun _ _ => Real.exp_pos _) ⟨0, Finset.mem_univ _⟩

/-- A real entry is its own real part. -/
theorem real_part {x : EReal} (h : ∃ r : ℝ, x = (r : EReal)) : x = ((EReal.toReal x : ℝ) : EReal) := by
  obtain ⟨r, rfl⟩ := h
  rw [EReal.toReal_coe]

end Cert.Attend

end
-- ==== Proof.FlashA.lean ====
/-
  Attention, over the extended reals on real entries: each point computes the two results for 256 queries of four heads, keys and
  values of the heads' group in two planes, and together they hold the attention of every query and the logarithm of its weights' sum.
-/
module

public import proofs.«01_k».proof.Proof.FlashBlock
public import proofs.«01_k».proof.Proof.Attend
public import proofs.«01_k».proof.Proof.Forward
public import proofs.«01_k».proof.Proof.Gen.FlashAIdeal.Value
public import proofs.«01_k».proof.Proof.Gen.FlashAReferenceIdeal.Read
public import proofs.«01_k».proof.Proof.Gen.FlashAReferenceIdeal.Run
public import Idealize.ShloMosaic.Lib.StableHlo.RunRead

@[expose] public section

set_option maxRecDepth 16384

noncomputable section

namespace Cert.FlashAIdeal.Val

open Idealize.ShloMosaic Idealize.ShloMosaic.TcCoe Idealize.ShloMosaic.ValueIdx Idealize.SL.Sem
open Cert.FlashAIdeal Cert.FlashAIdeal.Gen Cert.FlashAIdeal.Value Cert.Prods
open Cert.MixBwd (Mat Stack)
open Cert.Attend (attend lse score mass total head group place real_part)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 512 := m ((c : Thread nD τ).loc main_arg0)
abbrev arg1 (c : Dev nD) : Mat 8192 128 := m ((c : Thread nD τ).loc main_arg1)
abbrev arg2 (c : Dev nD) : Mat 8192 128 := m ((c : Thread nD τ).loc main_arg2)

/-! ## How the arrays the call reads are laid out -/

theorem lead (x : Mat 8192 128) (p : Fin 8192) (k : Fin 128) : broadcastInDim S1x8192x128 ![1, 2] bcast_S8192x128_S1x8192x128_1_2 x (ix3 0 p k) = x (ix2 p k) :=
  broadcastInDim_apply _ bcast_S8192x128_S1x8192x128_1_2 _ _ (ix2 p k) fun a => by
    match a with
    | ⟨0, _⟩ => exact (if_neg (show ¬ (8192 : ℕ) = 1 by decide)).symm
    | ⟨1, _⟩ => exact (if_neg (show ¬ (128 : ℕ) = 1 by decide)).symm

theorem two (x0 x1 : Stack 1 8192 128) (g : Fin 2) (p : Fin 8192) (k : Fin 128) :
    concatenate S2x8192x128 0 [⟨S1x8192x128, x0⟩, ⟨S1x8192x128, x1⟩] concatenates_S1x8192x128_S1x8192x128_S2x8192x128_d0 (ix3 g p k) = if g = 0 then x0 (ix3 0 p k) else x1 (ix3 0 p k) := by
  match g with
  | ⟨0, _⟩ =>
    refine (concatenate_pair_apply_left (t := S2x8192x128) (s₁ := S1x8192x128) (s₂ := S1x8192x128) 0 _ _ concatenates_S1x8192x128_S1x8192x128_S2x8192x128_d0 _ rfl (ix3 0 p k) fun b => ?_).trans (if_pos rfl).symm
    match b with
    | ⟨0, _⟩ => rfl
    | ⟨1, _⟩ => rfl
    | ⟨2, _⟩ => rfl
  | ⟨1, _⟩ =>
    refine (concatenate_pair_apply_right (t := S2x8192x128) (s₁ := S1x8192x128) (s₂ := S1x8192x128) 0 _ _ concatenates_S1x8192x128_S1x8192x128_S2x8192x128_d0 _ rfl rfl (ix3 0 p k) (fun b hb => ?_) rfl).trans (if_neg one_ne).symm
    match b with
    | ⟨0, _⟩ => exact absurd rfl hb
    | ⟨1, _⟩ => rfl
    | ⟨2, _⟩ => rfl

theorem beside (x0 x1 : Mat 8192 64) (p : Fin 8192) (l : Fin 128) :
    concatenate S8192x128 1 [⟨S8192x64, x0⟩, ⟨S8192x64, x1⟩] concatenates_S8192x64_S8192x64_S8192x128_d1 (ix2 p l)
      = if h : l.val < 64 then x0 (ix2 p ⟨l.val, h⟩) else x1 (ix2 p ⟨l.val - 64, by have := l.isLt; omega⟩) := by
  by_cases h : l.val < 64
  · rw [dif_pos h]
    refine concatenate_pair_apply_left (t := S8192x128) (s₁ := S8192x64) (s₂ := S8192x64) 1 _ _ concatenates_S8192x64_S8192x64_S8192x128_d1 _ rfl (ix2 p ⟨l.val, h⟩) fun b => ?_
    match b with
    | ⟨0, _⟩ => rfl
    | ⟨1, _⟩ => rfl
  · rw [dif_neg h]
    refine concatenate_pair_apply_right (t := S8192x128) (s₁ := S8192x64) (s₂ := S8192x64) 1 _ _ concatenates_S8192x64_S8192x64_S8192x128_d1 _ rfl rfl (ix2 p ⟨l.val - 64, by have := l.isLt; omega⟩) (fun b hb => ?_) ?_
    · match b with
      | ⟨0, _⟩ => rfl
      | ⟨1, _⟩ => exact absurd rfl hb
    · show l.val - 64 + 64 = l.val; omega

theorem low (x : Mat 8192 128) (p : Fin 8192) (l : Fin 64) : extractStridedSlice S8192x64 ![0, 0] x slices_S8192x128_S8192x64_0_0 (ix2 p l) = x (ix2 p ⟨l.val, by have := l.isLt; omega⟩) :=
  extractStridedSlice_apply (s := S8192x128) (t := S8192x64) _ _ slices_S8192x128_S8192x64_0_0 _ (ix2 p ⟨l.val, by have := l.isLt; omega⟩) fun a => by
    match a with
    | ⟨0, _⟩ => show p.val = 0 + p.val; omega
    | ⟨1, _⟩ => show l.val = 0 + l.val; omega

theorem high (x : Mat 8192 128) (p : Fin 8192) (l : Fin 64) : extractStridedSlice S8192x64 ![0, 64] x slices_S8192x128_S8192x64_0_64 (ix2 p l) = x (ix2 p ⟨64 + l.val, by have := l.isLt; omega⟩) :=
  extractStridedSlice_apply (s := S8192x128) (t := S8192x64) _ _ slices_S8192x128_S8192x64_0_64 _ (ix2 p ⟨64 + l.val, by have := l.isLt; omega⟩) fun a => by
    match a with
    | ⟨0, _⟩ => show p.val = 0 + p.val; omega
    | ⟨1, _⟩ => rfl

/-- A column of ones and 63 of zeros. -/
def ones : Mat 8192 64 := concatenate S8192x64 1 [⟨S8192x1, (broadcastInDim S8192x1 ![] bcast_S_S8192x1 (constant (F := Ideal) S_ .f32 0x3F800000#32) : Mat 8192 1)⟩,
  ⟨S8192x63, (broadcastInDim S8192x63 ![] bcast_S_S8192x63 (constant (F := Ideal) S_ .f32 0x00000000#32) : Mat 8192 63)⟩] concatenates_S8192x1_S8192x63_S8192x64_d1

theorem ones_at (p : Fin 8192) (l : Fin 64) : ones (ix2 p l) = if l = 0 then 1 else 0 := by
  unfold ones
  by_cases h : l = 0
  · subst h
    rw [if_pos rfl]
    refine (concatenate_pair_apply_left (t := S8192x64) (s₁ := S8192x1) (s₂ := S8192x63) 1 _ _ concatenates_S8192x1_S8192x63_S8192x64_d1 _ rfl (ix2 p 0) fun b => ?_).trans Idealize.ShloMosaic.Ideal.ofBits_one_f32
    match b with
    | ⟨0, _⟩ => rfl
    | ⟨1, _⟩ => rfl
  · rw [if_neg h]
    have h' : l.val ≠ 0 := fun e => h (Fin.ext e)
    refine (concatenate_pair_apply_right (t := S8192x64) (s₁ := S8192x1) (s₂ := S8192x63) 1 _ _ concatenates_S8192x1_S8192x63_S8192x64_d1 _ rfl rfl (ix2 p ⟨l.val - 1, by have := l.isLt; omega⟩) (fun b hb => ?_) ?_).trans bitsZero
    · match b with
      | ⟨0, _⟩ => rfl
      | ⟨1, _⟩ => exact absurd rfl hb
    · show l.val - 1 + 1 = l.val; omega

theorem host0 (c : Dev nD) (p : Fin 8192) (q : Fin 512) : V m c main_v18 (ix2 p q) = arg0 m c (ix2 p q) := by
  have e : V m c main_v18 = truncf (F := Ideal) FTy.bf16 (m (c, Proc.tc.devRef main_arg0) : Vec Ideal S8192x512 .f32) bitsLt_bf16_f32 := by
    unfold V; after_reads_simp
  rw [e]
  rfl

/-- The keys: the heads' own lanes first, in the second plane the other head's lanes after them. -/
theorem host1 (c : Dev nD) (g : Fin 2) (j : Fin 8192) (l : Fin 128) :
    V m c main_v16 (ix3 g j l) = arg1 m c (ix2 j ⟨(64 * g.val + l.val) % 128, Nat.mod_lt _ (by decide)⟩) := by
  have e : V m c main_v16 = truncf (F := Ideal) FTy.bf16 (concatenate S2x8192x128 0 [⟨S1x8192x128, StableHlo.upto hostOps0 (fun b => m (c, b)) 10 (Proc.tc.devRef main_v6)⟩, ⟨S1x8192x128, StableHlo.upto hostOps0 (fun b => m (c, b)) 10 (Proc.tc.devRef main_v7)⟩] concatenates_S1x8192x128_S1x8192x128_S2x8192x128_d0 : Vec Ideal S2x8192x128 .f32) bitsLt_bf16_f32 := by
    unfold V
    after_reads_simp
  have u6 : StableHlo.upto hostOps0 (fun b => m (c, b)) 10 (Proc.tc.devRef main_v6) = broadcastInDim S1x8192x128 ![1, 2] bcast_S8192x128_S1x8192x128_1_2 (m (c, Proc.tc.devRef main_arg1) : Vec Ideal S8192x128 .f32) := by
    after_reads_simp
  have u7 : StableHlo.upto hostOps0 (fun b => m (c, b)) 10 (Proc.tc.devRef main_v7) = broadcastInDim S1x8192x128 ![1, 2] bcast_S8192x128_S1x8192x128_1_2 (concatenate S8192x128 1 [⟨S8192x64, StableHlo.upto hostOps0 (fun b => m (c, b)) 7 (Proc.tc.devRef main_v3)⟩, ⟨S8192x64, StableHlo.upto hostOps0 (fun b => m (c, b)) 7 (Proc.tc.devRef main_v4)⟩] concatenates_S8192x64_S8192x64_S8192x128_d1 : Vec Ideal S8192x128 .f32) := by
    after_reads_simp
  have u3 : StableHlo.upto hostOps0 (fun b => m (c, b)) 7 (Proc.tc.devRef main_v3) = extractStridedSlice S8192x64 ![0, 64] (m (c, Proc.tc.devRef main_arg1) : Vec Ideal S8192x128 .f32) slices_S8192x128_S8192x64_0_64 := by
    after_reads_simp
  have u4 : StableHlo.upto hostOps0 (fun b => m (c, b)) 7 (Proc.tc.devRef main_v4) = extractStridedSlice S8192x64 ![0, 0] (m (c, Proc.tc.devRef main_arg1) : Vec Ideal S8192x128 .f32) slices_S8192x128_S8192x64_0_0 := by
    after_reads_simp
  rw [e, u6, u7, u3, u4]
  have hl := l.isLt
  refine (two _ _ g j l).trans ?_
  match g with
  | ⟨0, _⟩ =>
    refine (if_pos rfl).trans ((lead _ j l).trans (congrArg (fun a : Fin 128 => arg1 m c (ix2 j a)) (Fin.ext ?_)))
    show l.val = (64 * 0 + l.val) % 128; omega
  | ⟨1, _⟩ =>
    refine (if_neg one_ne).trans ((lead _ j l).trans ((beside _ _ j l).trans ?_))
    by_cases h : l.val < 64
    · rw [dif_pos h]
      refine (high _ j _).trans (congrArg (fun a : Fin 128 => arg1 m c (ix2 j a)) (Fin.ext ?_))
      show 64 + l.val = (64 * 1 + l.val) % 128; omega
    · rw [dif_neg h]
      refine (low _ j _).trans (congrArg (fun a : Fin 128 => arg1 m c (ix2 j a)) (Fin.ext ?_))
      show l.val - 64 = (64 * 1 + l.val) % 128; omega

/-- The values: the head's own lanes, then a lane of ones, then zeros. -/
theorem host2 (c : Dev nD) (g : Fin 2) (j : Fin 8192) (l : Fin 128) :
    V m c main_v17 (ix3 g j l) = if h : l.val < 64 then arg2 m c (ix2 j ⟨64 * g.val + l.val, by have := g.isLt; omega⟩) else if l = 64 then 1 else 0 := by
  have e : V m c main_v17 = truncf (F := Ideal) FTy.bf16 (concatenate S2x8192x128 0 [⟨S1x8192x128, StableHlo.upto hostOps0 (fun b => m (c, b)) 17 (Proc.tc.devRef main_v13)⟩, ⟨S1x8192x128, StableHlo.upto hostOps0 (fun b => m (c, b)) 17 (Proc.tc.devRef main_v14)⟩] concatenates_S1x8192x128_S1x8192x128_S2x8192x128_d0 : Vec Ideal S2x8192x128 .f32) bitsLt_bf16_f32 := by
    unfold V
    after_reads_simp
  have u13 : StableHlo.upto hostOps0 (fun b => m (c, b)) 17 (Proc.tc.devRef main_v13) = broadcastInDim S1x8192x128 ![1, 2] bcast_S8192x128_S1x8192x128_1_2 (concatenate S8192x128 1 [⟨S8192x64, StableHlo.upto hostOps0 (fun b => m (c, b)) 12 (Proc.tc.devRef main_v9)⟩, ⟨S8192x64, StableHlo.upto hostOps0 (fun b => m (c, b)) 12 (Proc.tc.devRef main_v2)⟩] concatenates_S8192x64_S8192x64_S8192x128_d1 : Vec Ideal S8192x128 .f32) := by
    after_reads_simp
  have u14 : StableHlo.upto hostOps0 (fun b => m (c, b)) 17 (Proc.tc.devRef main_v14) = broadcastInDim S1x8192x128 ![1, 2] bcast_S8192x128_S1x8192x128_1_2 (concatenate S8192x128 1 [⟨S8192x64, StableHlo.upto hostOps0 (fun b => m (c, b)) 14 (Proc.tc.devRef main_v11)⟩, ⟨S8192x64, StableHlo.upto hostOps0 (fun b => m (c, b)) 14 (Proc.tc.devRef main_v2)⟩] concatenates_S8192x64_S8192x64_S8192x128_d1 : Vec Ideal S8192x128 .f32) := by
    after_reads_simp
  have u9 : StableHlo.upto hostOps0 (fun b => m (c, b)) 12 (Proc.tc.devRef main_v9) = extractStridedSlice S8192x64 ![0, 0] (m (c, Proc.tc.devRef main_arg2) : Vec Ideal S8192x128 .f32) slices_S8192x128_S8192x64_0_0 := by
    after_reads_simp
  have u11 : StableHlo.upto hostOps0 (fun b => m (c, b)) 14 (Proc.tc.devRef main_v11) = extractStridedSlice S8192x64 ![0, 64] (m (c, Proc.tc.devRef main_arg2) : Vec Ideal S8192x128 .f32) slices_S8192x128_S8192x64_0_64 := by
    after_reads_simp
  have w0 : StableHlo.upto hostOps0 (fun b => m (c, b)) 4 (Proc.tc.devRef main_v0) = (broadcastInDim S8192x1 ![] bcast_S_S8192x1 (constant (F := Ideal) S_ .f32 0x3F800000#32) : Mat 8192 1) := by
    after_reads_simp
  have w1 : StableHlo.upto hostOps0 (fun b => m (c, b)) 4 (Proc.tc.devRef main_v1) = (broadcastInDim S8192x63 ![] bcast_S_S8192x63 (constant (F := Ideal) S_ .f32 0x00000000#32) : Mat 8192 63) := by
    after_reads_simp
  have o12 : StableHlo.upto hostOps0 (fun b => m (c, b)) 12 (Proc.tc.devRef main_v2) = ones := by
    have e : StableHlo.upto hostOps0 (fun b => m (c, b)) 12 (Proc.tc.devRef main_v2) = concatenate S8192x64 1 [⟨S8192x1, StableHlo.upto hostOps0 (fun b => m (c, b)) 4 (Proc.tc.devRef main_v0)⟩, ⟨S8192x63, StableHlo.upto hostOps0 (fun b => m (c, b)) 4 (Proc.tc.devRef main_v1)⟩] concatenates_S8192x1_S8192x63_S8192x64_d1 := by
      after_reads_simp
    rw [e, w0, w1]
    rfl
  have o14 : StableHlo.upto hostOps0 (fun b => m (c, b)) 14 (Proc.tc.devRef main_v2) = ones := by
    have e : StableHlo.upto hostOps0 (fun b => m (c, b)) 14 (Proc.tc.devRef main_v2) = concatenate S8192x64 1 [⟨S8192x1, StableHlo.upto hostOps0 (fun b => m (c, b)) 4 (Proc.tc.devRef main_v0)⟩, ⟨S8192x63, StableHlo.upto hostOps0 (fun b => m (c, b)) 4 (Proc.tc.devRef main_v1)⟩] concatenates_S8192x1_S8192x63_S8192x64_d1 := by
      after_reads_simp
    rw [e, w0, w1]
    rfl
  rw [e, u13, u14, u9, u11, o12, o14]
  have hl := l.isLt
  have tail (h : ¬ l.val < 64) : ones (ix2 j ⟨l.val - 64, by omega⟩) = if l = 64 then 1 else 0 :=
    (ones_at j _).trans (if_congr ⟨fun q => Fin.ext (by have : l.val - 64 = 0 := congrArg Fin.val q; show l.val = 64; omega), fun q => Fin.ext (by have : l.val = 64 := congrArg Fin.val q; show l.val - 64 = 0; omega)⟩ rfl rfl)
  refine (two _ _ g j l).trans ?_
  match g with
  | ⟨0, _⟩ =>
    refine (if_pos rfl).trans ((lead _ j l).trans ((beside _ _ j l).trans ?_))
    by_cases h : l.val < 64
    · rw [dif_pos h, dif_pos h]
      refine (low _ j _).trans (congrArg (fun a : Fin 128 => arg2 m c (ix2 j a)) (Fin.ext ?_))
      show l.val = 64 * 0 + l.val; omega
    · rw [dif_neg h, dif_neg h]
      exact tail h
  | ⟨1, _⟩ =>
    refine (if_neg one_ne).trans ((lead _ j l).trans ((beside _ _ j l).trans ?_))
    by_cases h : l.val < 64
    · rw [dif_pos h, dif_pos h]
      exact high _ j _
    · rw [dif_neg h, dif_neg h]
      exact tail h

/-! ## The blocks -/

theorem index0 : ∀ t : Fin cfg0.N, win0_0.index t 0 = t.val % 32 ∧ win0_0.index t 1 = t.val / 32 :=
  (by decide +kernel : ∀ t : Fin grid0.N, win0_0.index t 0 = t.val % 32 ∧ win0_0.index t 1 = t.val / 32)
theorem index1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem index2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index3 : ∀ t : Fin cfg0.N, win0_3.index t 0 = t.val % 32 ∧ win0_3.index t 1 = t.val / 32 :=
  (by decide +kernel : ∀ t : Fin grid0.N, win0_3.index t 0 = t.val % 32 ∧ win0_3.index t 1 = t.val / 32)
theorem index4 : ∀ t : Fin cfg0.N, win0_4.index t 0 = t.val % 32 ∧ win0_4.index t 1 = t.val / 32 :=
  (by decide +kernel : ∀ t : Fin grid0.N, win0_4.index t 0 = t.val % 32 ∧ win0_4.index t 1 = t.val / 32)

theorem block0 (c : Dev nD) (t : Fin cfg0.N) (g : Fin 2) (i : Fin 32) (ht : t.val = 32 * g.val + i.val) (r : Fin 256) (q : Fin 256) :
    (iblk m c 0 t : Vec Ideal S256x256 .bf16) (ix2 r q) = arg0 m c (ix2 ⟨256 * i.val + r.val, block_lt rfl i r⟩ ⟨256 * g.val + q.val, block_lt rfl g q⟩) := by
  have h := index0 t
  unfold iblk
  rw [View.read_apply]
  refine (congrArg (V m c main_v18) (funext fun a => Fin.ext ?_)).trans (host0 m c ⟨256 * i.val + r.val, block_lt rfl i r⟩ ⟨256 * g.val + q.val, block_lt rfl g q⟩)
  match a with
  | ⟨0, _⟩ => show win0_0.index t 0 * 256 + 1 * r.val = 256 * i.val + r.val; rw [h.1]; omega
  | ⟨1, _⟩ => show win0_0.index t 1 * 256 + 1 * q.val = 256 * g.val + q.val; rw [h.2]; omega

theorem block1 (c : Dev nD) (t : Fin cfg0.N) (g : Fin 2) (i : Fin 32) (ht : t.val = 32 * g.val + i.val) (j : Fin 8192) (l : Fin 128) :
    (iblk m c 1 t : Vec Ideal S1x8192x128 .bf16) (ix3 (0 : Fin 1) j l) = arg1 m c (ix2 j ⟨(64 * g.val + l.val) % 128, Nat.mod_lt _ (by decide)⟩) := by
  have h := index1 t
  unfold iblk
  rw [View.read_apply]
  refine (congrArg (V m c main_v16) (funext fun a => Fin.ext ?_)).trans (host1 m c g j l)
  match a with
  | ⟨0, _⟩ => show win0_1.index t 0 * 1 + 1 * 0 = g.val; rw [h.1]; omega
  | ⟨1, _⟩ => show win0_1.index t 1 * 8192 + 1 * j.val = j.val; rw [h.2.1]; omega
  | ⟨2, _⟩ => show win0_1.index t 2 * 128 + 1 * l.val = l.val; rw [h.2.2]; omega

theorem block2 (c : Dev nD) (t : Fin cfg0.N) (g : Fin 2) (i : Fin 32) (ht : t.val = 32 * g.val + i.val) (j : Fin 8192) (l : Fin 128) :
    (iblk m c 2 t : Vec Ideal S1x8192x128 .bf16) (ix3 (0 : Fin 1) j l) = if h : l.val < 64 then arg2 m c (ix2 j ⟨64 * g.val + l.val, by have := g.isLt; omega⟩) else if l = 64 then 1 else 0 := by
  have h := index2 t
  unfold iblk
  rw [View.read_apply]
  refine (congrArg (V m c main_v17) (funext fun a => Fin.ext ?_)).trans (host2 m c g j l)
  match a with
  | ⟨0, _⟩ => show win0_2.index t 0 * 1 + 1 * 0 = g.val; rw [h.1]; omega
  | ⟨1, _⟩ => show win0_2.index t 1 * 8192 + 1 * j.val = j.val; rw [h.2.1]; omega
  | ⟨2, _⟩ => show win0_2.index t 2 * 128 + 1 * l.val = l.val; rw [h.2.2]; omega

theorem col_surj (q : Fin 256) : q = col ⟨q.val / 128, by have := q.isLt; omega⟩ ⟨q.val / 64 % 2, Nat.mod_lt _ (by decide)⟩ ⟨q.val % 64, Nat.mod_lt _ (by decide)⟩ :=
  Fin.ext (by show q.val = 128 * (q.val / 128) + (64 * (q.val / 64 % 2) + q.val % 64); omega)

/-- The real parts of a point's queries, keys and values. -/
def rq (c : Dev nD) (g : Fin 2) (i : Fin 32) (r q : Fin 256) : ℝ := EReal.toReal (arg0 m c (ix2 ⟨256 * i.val + r.val, block_lt rfl i r⟩ ⟨256 * g.val + q.val, block_lt rfl g q⟩))
def rk (c : Dev nD) (g : Fin 2) (j : Fin 8192) (l : Fin 128) : ℝ := EReal.toReal (arg1 m c (ix2 j ⟨(64 * g.val + l.val) % 128, Nat.mod_lt _ (by decide)⟩))
def rv (c : Dev nD) (g : Fin 2) (j : Fin 8192) (l : Fin 128) : ℝ :=
  if h : l.val < 64 then EReal.toReal (arg2 m c (ix2 j ⟨64 * g.val + l.val, by have := g.isLt; omega⟩)) else if l = 64 then 1 else 0

theorem rv_one (c : Dev nD) (g : Fin 2) (j : Fin 8192) : rv m c g j 64 = 1 := (dif_neg (by decide)).trans (if_pos rfl)

theorem score_eq (c : Dev nD) (g : Fin 2) (i : Fin 32) (p u : Fin 2) (r : Fin 256) (d : Fin 64) (j : Fin 8192) :
    bscore (rq m c g i) (rk m c g) p u r j = score (arg0 m c) (arg1 m c) ⟨256 * i.val + r.val, block_lt rfl i r⟩ (⟨256 * g.val + (col p u d).val, block_lt rfl g (col p u d)⟩ : Fin 512) j := by
  have hp := p.isLt
  have hu := u.isLt
  have hd := d.isLt
  have hg := g.isLt
  refine congrArg (fun a : ℝ => a * (1 / 8)) (Finset.sum_congr rfl fun e _ => ?_)
  have he := e.isLt
  refine congrArg₂ (fun a b : ℝ => a * b) (congrArg (fun a : Fin 512 => EReal.toReal (arg0 m c (ix2 ⟨256 * i.val + r.val, block_lt rfl i r⟩ a))) (Fin.ext ?_)) (congrArg (fun a : Fin 128 => EReal.toReal (arg1 m c (ix2 j a))) (Fin.ext ?_))
  · show 256 * g.val + (128 * p.val + (64 * u.val + e.val)) = 64 * ((256 * g.val + (128 * p.val + (64 * u.val + d.val))) / 64) + e.val; omega
  · show (64 * g.val + e.val) % 128 = 64 * ((256 * g.val + (128 * p.val + (64 * u.val + d.val))) / 256) + e.val; omega

theorem value_eq (c : Dev nD) (g p u : Fin 2) (d : Fin 64) (j : Fin 8192) :
    rv m c g j (d.castLE (by decide)) = EReal.toReal (arg2 m c (ix2 j (group (⟨256 * g.val + (col p u d).val, block_lt rfl g (col p u d)⟩ : Fin 512) (place (⟨256 * g.val + (col p u d).val, block_lt rfl g (col p u d)⟩ : Fin 512))))) := by
  have hp := p.isLt
  have hu := u.isLt
  have hd := d.isLt
  have hg := g.isLt
  refine (dif_pos (show (d.castLE (by decide : 64 ≤ 128)).val < 64 from d.isLt)).trans (congrArg (fun a : Fin 128 => EReal.toReal (arg2 m c (ix2 j a))) (Fin.ext ?_))
  show 64 * g.val + d.val = 64 * ((256 * g.val + (128 * p.val + (64 * u.val + d.val))) / 256) + (256 * g.val + (128 * p.val + (64 * u.val + d.val))) % 64; omega

variable (h0 : ∀ c i, ∃ r : ℝ, arg0 m c i = (r : EReal)) (h1 : ∀ c i, ∃ r : ℝ, arg1 m c i = (r : EReal)) (h2 : ∀ c i, ∃ r : ℝ, arg2 m c i = (r : EReal))

include h0 in
theorem read0 (c : Dev nD) (t : Fin cfg0.N) (g : Fin 2) (i : Fin 32) (ht : t.val = 32 * g.val + i.val) (r q : Fin 256) : (iblk m c 0 t : Vec Ideal S256x256 .bf16) (ix2 r q) = (rq m c g i r q : EReal) :=
  (block0 m c t g i ht r q).trans (real_part (h0 c _))

include h1 in
theorem read1 (c : Dev nD) (t : Fin cfg0.N) (g : Fin 2) (i : Fin 32) (ht : t.val = 32 * g.val + i.val) (j : Fin 8192) (l : Fin 128) : (iblk m c 1 t : Vec Ideal S1x8192x128 .bf16) (ix3 0 j l) = (rk m c g j l : EReal) :=
  (block1 m c t g i ht j l).trans (real_part (h1 c _))

include h2 in
theorem read2 (c : Dev nD) (t : Fin cfg0.N) (g : Fin 2) (i : Fin 32) (ht : t.val = 32 * g.val + i.val) (j : Fin 8192) (l : Fin 128) : (iblk m c 2 t : Vec Ideal S1x8192x128 .bf16) (ix3 0 j l) = (rv m c g j l : EReal) := by
  refine (block2 m c t g i ht j l).trans ?_
  unfold rv
  by_cases h : l.val < 64
  · rw [dif_pos h, dif_pos h]; exact real_part (h2 c _)
  · rw [dif_neg h, dif_neg h]
    by_cases h' : l = 64
    · rw [if_pos h', if_pos h']; rfl
    · rw [if_neg h', if_neg h']; rfl

include h0 h1 h2 in
theorem value3 (c : Dev nD) (t : Fin cfg0.N) (g : Fin 2) (i : Fin 32) (ht : t.val = 32 * g.val + i.val) (r q : Fin 256) :
    out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (ix2 r q) = attend (arg0 m c) (arg1 m c) (arg2 m c) (ix2 ⟨256 * i.val + r.val, block_lt rfl i r⟩ ⟨256 * g.val + q.val, block_lt rfl g q⟩) := by
  rw [col_surj q]
  generalize (⟨q.val / 128, by have := q.isLt; omega⟩ : Fin 2) = p
  generalize (⟨q.val / 64 % 2, Nat.mod_lt _ (by decide)⟩ : Fin 2) = u
  generalize (⟨q.val % 64, Nat.mod_lt _ (by decide)⟩ : Fin 64) = d
  refine (out3_at c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (rq m c g i) (rk m c g) (rv m c g) (read0 m h0 c t g i ht) (read1 m h1 c t g i ht) (read2 m h2 c t g i ht) (rv_one m c g) p u r d).trans ?_
  refine congrArg₂ (fun a b : ℝ => ((a / b : ℝ) : EReal)) (Finset.sum_congr rfl fun j _ => ?_) (Finset.sum_congr rfl fun j _ => ?_)
  · exact congrArg₂ (fun a b : ℝ => Real.exp a * b) (score_eq m c g i p u r d j) (value_eq m c g p u d j)
  · exact congrArg Real.exp (score_eq m c g i p u r d j)

include h0 h1 h2 in
theorem value4 (c : Dev nD) (t : Fin cfg0.N) (g : Fin 2) (i : Fin 32) (ht : t.val = 32 * g.val + i.val) (r q : Fin 256) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (ix2 r q) = lse (arg0 m c) (arg1 m c) (ix2 ⟨256 * i.val + r.val, block_lt rfl i r⟩ ⟨256 * g.val + q.val, block_lt rfl g q⟩) := by
  rw [col_surj q]
  generalize (⟨q.val / 128, by have := q.isLt; omega⟩ : Fin 2) = p
  generalize (⟨q.val / 64 % 2, Nat.mod_lt _ (by decide)⟩ : Fin 2) = u
  generalize (⟨q.val % 64, Nat.mod_lt _ (by decide)⟩ : Fin 64) = d
  refine (out4_at c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (rq m c g i) (rk m c g) (rv m c g) (read0 m h0 c t g i ht) (read1 m h1 c t g i ht) (read2 m h2 c t g i ht) (rv_one m c g) p u r d).trans ?_
  exact congrArg (fun a : ℝ => ((Real.log a : ℝ) : EReal)) (Finset.sum_congr rfl fun j _ => congrArg Real.exp (score_eq m c g i p u r d j))

include h0 h1 h2 in
theorem flushed_eq3 (c : Dev nD) (t : Fin cfg0.N) (hf : (cfg0.win 3).flush t = true) :
    (dats m 0 c).flushed 3 t = ((cfg0.win 3).blk t).view.read (Elt Ideal) (attend (arg0 m c) (arg1 m c) (arg2 m c)) := by
  have hT := t.isLt
  have hN : cfg0.N = 64 := N_0
  have h := index3 t
  rw [flushed3_A]
  funext y
  rw [View.read_apply]
  obtain ⟨g, i, ht⟩ : ∃ (g : Fin 2) (i : Fin 32), t.val = 32 * g.val + i.val := ⟨⟨t.val / 32, by omega⟩, ⟨t.val % 32, by omega⟩, by show t.val = _; show t.val = 32 * (t.val / 32) + t.val % 32; omega⟩
  have hy : (((cfg0.win 3).blk t).view.emb y) = ix2 (⟨256 * i.val + (y 0 : Fin 256).val, block_lt rfl i (y 0 : Fin 256)⟩ : Fin 8192) (⟨256 * g.val + (y 1 : Fin 256).val, block_lt rfl g (y 1 : Fin 256)⟩ : Fin 512) := funext fun a => Fin.ext (by
    match a with
    | ⟨0, _⟩ => show win0_3.index t 0 * 256 + 1 * (y 0).val = 256 * i.val + (y 0).val; rw [h.1]; omega
    | ⟨1, _⟩ => show win0_3.index t 1 * 256 + 1 * (y 1).val = 256 * g.val + (y 1).val; rw [h.2]; omega)
  have y0 : y = ix2 (y 0 : Fin 256) (y 1 : Fin 256) := funext fun a => Fin.ext (by
    match a with
    | ⟨0, _⟩ => rfl
    | ⟨1, _⟩ => rfl)
  show (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t)) y = (attend (arg0 m c) (arg1 m c) (arg2 m c)) (((cfg0.win 3).blk t).view.emb y)
  rw [hy]
  exact (congrArg (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t)) y0).trans (value3 m h0 h1 h2 c t g i ht (y 0) (y 1))

include h0 h1 h2 in
theorem final3 (c : Dev nD) : (dats m 0 c).arrAt 3 cfg0.N = (attend (arg0 m c) (arg1 m c) (arg2 m c) : Buf (Elt Ideal) ((c : Thread nD τ).loc main_v19_0)) :=
  (dats m 0 c).arrAt_eq_of_cover 3 _ (flushed_eq3 m h0 h1 h2 c) fun i => by
    have hN : cfg0.N = 64 := N_0
    have b0 : (i 0 : Nat) < 8192 := (i 0).isLt
    have b1 : (i 1 : Nat) < 512 := (i 1).isLt
    let t : Fin cfg0.N := ⟨(i 1).val / 256 * 32 + (i 0).val / 256, by rw [hN]; omega⟩
    have htv : t.val = (i 1).val / 256 * 32 + (i 0).val / 256 := rfl
    refine ⟨t, flush0_3 t, ?_⟩
    have h := index3 t
    show i ∈ ((View.whole main_v19_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256; rw [h.1]; omega
    | ⟨1, _⟩ => show win0_3.index t 1 * 256 ≤ (i 1 : Nat) ∧ (i 1 : Nat) < win0_3.index t 1 * 256 + 256; rw [h.2]; omega

include h0 h1 h2 in
theorem flushed_eq4 (c : Dev nD) (t : Fin cfg0.N) (hf : (cfg0.win 4).flush t = true) :
    (dats m 0 c).flushed 4 t = ((cfg0.win 4).blk t).view.read (Elt Ideal) (lse (arg0 m c) (arg1 m c)) := by
  have hT := t.isLt
  have hN : cfg0.N = 64 := N_0
  have h := index4 t
  rw [flushed4_A]
  funext y
  rw [View.read_apply]
  obtain ⟨g, i, ht⟩ : ∃ (g : Fin 2) (i : Fin 32), t.val = 32 * g.val + i.val := ⟨⟨t.val / 32, by omega⟩, ⟨t.val % 32, by omega⟩, by show t.val = _; show t.val = 32 * (t.val / 32) + t.val % 32; omega⟩
  have hy : (((cfg0.win 4).blk t).view.emb y) = ix2 (⟨256 * i.val + (y 0 : Fin 256).val, block_lt rfl i (y 0 : Fin 256)⟩ : Fin 8192) (⟨256 * g.val + (y 1 : Fin 256).val, block_lt rfl g (y 1 : Fin 256)⟩ : Fin 512) := funext fun a => Fin.ext (by
    match a with
    | ⟨0, _⟩ => show win0_4.index t 0 * 256 + 1 * (y 0).val = 256 * i.val + (y 0).val; rw [h.1]; omega
    | ⟨1, _⟩ => show win0_4.index t 1 * 256 + 1 * (y 1).val = 256 * g.val + (y 1).val; rw [h.2]; omega)
  have y0 : y = ix2 (y 0 : Fin 256) (y 1 : Fin 256) := funext fun a => Fin.ext (by
    match a with
    | ⟨0, _⟩ => rfl
    | ⟨1, _⟩ => rfl)
  show (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t)) y = (lse (arg0 m c) (arg1 m c)) (((cfg0.win 4).blk t).view.emb y)
  rw [hy]
  exact (congrArg (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t)) y0).trans (value4 m h0 h1 h2 c t g i ht (y 0) (y 1))

include h0 h1 h2 in
theorem final4 (c : Dev nD) : (dats m 0 c).arrAt 4 cfg0.N = (lse (arg0 m c) (arg1 m c) : Buf (Elt Ideal) ((c : Thread nD τ).loc main_v19_1)) :=
  (dats m 0 c).arrAt_eq_of_cover 4 _ (flushed_eq4 m h0 h1 h2 c) fun i => by
    have hN : cfg0.N = 64 := N_0
    have b0 : (i 0 : Nat) < 8192 := (i 0).isLt
    have b1 : (i 1 : Nat) < 512 := (i 1).isLt
    let t : Fin cfg0.N := ⟨(i 1).val / 256 * 32 + (i 0).val / 256, by rw [hN]; omega⟩
    have htv : t.val = (i 1).val / 256 * 32 + (i 0).val / 256 := rfl
    refine ⟨t, flush0_4 t, ?_⟩
    have h := index4 t
    show i ∈ ((View.whole main_v19_1).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256; rw [h.1]; omega
    | ⟨1, _⟩ => show win0_4.index t 1 * 256 ≤ (i 1 : Nat) ∧ (i 1 : Nat) < win0_4.index t 1 * 256 + 256; rw [h.2]; omega

include h0 h1 h2 in
/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v19_0) = attend (arg0 m c) (arg1 m c) (arg2 m c)
      ∧ r.2.mem ((c : Thread nD τ).loc main_v19_1) = lse (arg0 m c) (arg1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m h0 h1 h2 c), (h c).2.1.trans (final4 m h0 h1 h2 c), (h c).2.2⟩) (run_blocks m ρ)

end Cert.FlashAIdeal.Val

end
-- ==== Proof.FlashARef.lean ====
/-
  What the attention's reference computes, on real entries: it subtracts each row's largest score before it exponentiates, which
  leaves the quotient of the weighted sums, and takes the logarithm of the weights' sum.
-/
module

public import proofs.«01_k».proof.Proof.Attend
public import proofs.«01_k».proof.Proof.Online
public import proofs.«01_k».proof.Proof.Prods
public import proofs.«01_k».proof.Proof.Gen.FlashAReferenceIdeal
public import proofs.«01_k».proof.Proof.Gen.FlashAReferenceIdeal.Read
public import proofs.«01_k».proof.Proof.Gen.FlashAReferenceIdeal.Run
public import Idealize.ShloMosaic.Lib.StableHlo.RunRead

@[expose] public section

set_option maxRecDepth 16384

noncomputable section

namespace Cert.FlashAReferenceIdeal.Val

open Idealize.ShloMosaic Idealize.ShloMosaic.TcCoe Idealize.ShloMosaic.ValueIdx Idealize.SL.Sem
open Cert.FlashAReferenceIdeal Cert.FlashAReferenceIdeal.Gen Cert.FlashAReferenceIdeal.Read Cert.Prods
open Cert.MixBwd (Mat Stack)
open Cert.Attend (attend lse score mass total head group place real_part)

/-- The score of query row `r` and key `j` in head `b` of group `a`. -/
def rs (x0 : Mat 8192 512) (x1 : Mat 8192 128) (a : Fin 2) (b : Fin 4) (r j : Fin 8192) : ℝ :=
  (∑ d : Fin 64, EReal.toReal (x0 (ix2 r ⟨256 * a.val + 64 * b.val + d.val, by have := a.isLt; have := b.isLt; have := d.isLt; omega⟩)) * EReal.toReal (x1 (ix2 j ⟨64 * a.val + d.val, by have := a.isLt; have := d.isLt; omega⟩))) * (1 / 8)

theorem rs_eq (x0 : Mat 8192 512) (x1 : Mat 8192 128) (r j : Fin 8192) (q : Fin 512) (a : Fin 2) (b : Fin 4) (ha : a.val = q.val / 256) (hb : b.val = q.val / 64 % 4) : rs x0 x1 a b r j = score x0 x1 r q j := by
  have hq := q.isLt
  refine congrArg (fun t : ℝ => t * (1 / 8)) (Finset.sum_congr rfl fun d _ => ?_)
  have hd := d.isLt
  refine congrArg₂ (fun s t : ℝ => s * t) (congrArg (fun t : Fin 512 => EReal.toReal (x0 (ix2 r t))) (Fin.ext ?_)) (congrArg (fun t : Fin 128 => EReal.toReal (x1 (ix2 j t))) (Fin.ext ?_))
  · show 256 * a.val + 64 * b.val + d.val = 64 * (q.val / 64) + d.val; omega
  · show 64 * a.val + d.val = 64 * (q.val / 256) + d.val; omega

variable {x0 : Mat 8192 512} {x1 : Mat 8192 128} (x2 : Mat 8192 128) (h0 : ∀ i, ∃ r : ℝ, x0 i = (r : EReal)) (h1 : ∀ i, ∃ r : ℝ, x1 i = (r : EReal)) (h2 : ∀ i, ∃ r : ℝ, x2 i = (r : EReal))

theorem q_at (r : Fin 8192) (a : Fin 2) (b : Fin 4) (d : Fin 64) : (val_main_v0 (F := Ideal) x0 (ix4 r a b d) : EReal) = x0 (ix2 r ⟨256 * a.val + 64 * b.val + d.val, by have := a.isLt; have := b.isLt; have := d.isLt; omega⟩) := by
  have ha := a.isLt
  have hb := b.isLt
  have hd := d.isLt
  refine (val_main_v0_apply (F := Ideal) x0 _).trans (congrArg x0 (funext fun e => Fin.ext ?_))
  match e with
  | ⟨0, _⟩ => show (((r.val * 2 + a.val) * 4 + b.val) * 64 + d.val) / 512 = r.val; omega
  | ⟨1, _⟩ => show (((r.val * 2 + a.val) * 4 + b.val) * 64 + d.val) % 512 = 256 * a.val + 64 * b.val + d.val; omega

theorem k_at (j : Fin 8192) (a : Fin 2) (d : Fin 64) : (val_main_v1 (F := Ideal) x1 (ix3 j a d) : EReal) = x1 (ix2 j ⟨64 * a.val + d.val, by have := a.isLt; have := d.isLt; omega⟩) := by
  have ha := a.isLt
  have hd := d.isLt
  refine (val_main_v1_apply (F := Ideal) x1 _).trans (congrArg x1 (funext fun e => Fin.ext ?_))
  match e with
  | ⟨0, _⟩ => show ((j.val * 2 + a.val) * 64 + d.val) / 128 = j.val; omega
  | ⟨1, _⟩ => show ((j.val * 2 + a.val) * 64 + d.val) % 128 = 64 * a.val + d.val; omega

theorem v_at (j : Fin 8192) (a : Fin 2) (d : Fin 64) : (val_main_v2 (F := Ideal) x2 (ix3 j a d) : EReal) = x2 (ix2 j ⟨64 * a.val + d.val, by have := a.isLt; have := d.isLt; omega⟩) := by
  have ha := a.isLt
  have hd := d.isLt
  refine (val_main_v2_apply (F := Ideal) x2 _).trans (congrArg x2 (funext fun e => Fin.ext ?_))
  match e with
  | ⟨0, _⟩ => show ((j.val * 2 + a.val) * 64 + d.val) / 128 = j.val; omega
  | ⟨1, _⟩ => show ((j.val * 2 + a.val) * 64 + d.val) % 128 = 64 * a.val + d.val; omega

include h0 h1 in
theorem dots_at (a : Fin 2) (b : Fin 4) (r j : Fin 8192) : (val_main_v3 (F := Ideal) x0 x1 (ix4 a j r b) : EReal)
    = ((∑ d : Fin 64, EReal.toReal (x0 (ix2 r ⟨256 * a.val + 64 * b.val + d.val, by have := a.isLt; have := b.isLt; have := d.isLt; omega⟩)) * EReal.toReal (x1 (ix2 j ⟨64 * a.val + d.val, by have := a.isLt; have := d.isLt; omega⟩)) : ℝ) : EReal) := by
  refine (val_main_v3_apply x0 x1 _).trans (Eq.trans (Finset.sum_congr rfl fun d _ => ?_) (Online.sum_coe _ _))
  have el : lidx_main_v3 (ix4 a j r b) d = ix3 j a d := funext fun b => Fin.ext (by match b with | ⟨0, _⟩ => rfl | ⟨1, _⟩ => rfl | ⟨2, _⟩ => rfl)
  have er : ridx_main_v3 (ix4 a j r b) d = ix4 r a b d := funext fun b => Fin.ext (by match b with | ⟨0, _⟩ => rfl | ⟨1, _⟩ => rfl | ⟨2, _⟩ => rfl | ⟨3, _⟩ => rfl)
  rw [el, er]
  refine (congrArg₂ (fun s t : EReal => s * t) ((k_at j a d).trans (real_part (h1 _))) ((q_at r a b d).trans (real_part (h0 _)))).trans ?_
  rw [← EReal.coe_mul, mul_comm]

include h0 h1 in
theorem score_at (a : Fin 2) (b : Fin 4) (r j : Fin 8192) : (val_main_v6 (F := Ideal) x0 x1 (ix4 a b r j) : EReal) = (rs x0 x1 a b r j : EReal) := by
  have e4 : idx_main_v4 (ix4 a b r j) = ix4 a j r b := funext fun b => Fin.ext (by match b with | ⟨0, _⟩ => rfl | ⟨1, _⟩ => rfl | ⟨2, _⟩ => rfl | ⟨3, _⟩ => rfl)
  refine (congrArg₂ (fun s t : EReal => s * t) (((val_main_v4_apply (F := Ideal) x0 x1 _).trans (congrArg (val_main_v3 (F := Ideal) x0 x1) e4)).trans (dots_at h0 h1 a b r j)) Online.bitsEighth).trans ?_
  exact (EReal.coe_mul _ _).symm

/-- The maximum of real numbers is real. -/
theorem max_at (y : Vec Ideal S2x4x8192x8192 .f32) (f : Fin 8192 → ℝ) (a : Fin 2) (b : Fin 4) (r : Fin 8192) (hy : ∀ j, (y (ix4 a b r j) : EReal) = (f j : EReal)) :
    ∃ μ : ℝ, ((Host.reduce (FloatOps.maximumf (F := Ideal) (φ := .f32)) y (constant (F := Ideal) S_ .f32 0xFF800000#32) reducesTo_S2x4x8192x8192_S2x4x8192_d3 h_S_ : Vec Ideal S2x4x8192 .f32) (ix3 a b r) : EReal) = (μ : EReal) := by
  obtain ⟨μ, hμ⟩ := Online.fold_real (0 : Fin 8192) f
  refine ⟨μ, Eq.trans ?_ hμ⟩
  rw [Host.reduce_eq_fold_single (FloatOps.maximumf (F := Ideal) (φ := .f32)) y _ reducesTo_S2x4x8192x8192_S2x4x8192_d3 (by decide) h_S_]
  refine congrArg₂ (fun (z : EReal) (f : Fin 8192 → EReal) => Finset.univ.fold max z f) Online.bitsBot (funext fun j => ?_)
  refine Eq.trans (congrArg y ?_) (hy j)
  exact funext fun b => Fin.ext (by match b with | ⟨0, _⟩ => rfl | ⟨1, _⟩ => rfl | ⟨2, _⟩ => rfl | ⟨3, _⟩ => rfl)

include h0 h1 in
theorem top_real (a : Fin 2) (b : Fin 4) (r : Fin 8192) : ∃ μ : ℝ, (val_main_v9 (F := Ideal) x0 x1 (ix3 a b r) : EReal) = (μ : EReal) := by
  obtain ⟨μ, hμ⟩ := max_at (val_main_v6 (F := Ideal) x0 x1) (rs x0 x1 a b r) a b r (score_at h0 h1 a b r)
  have e : val_main_v7 (F := Ideal) x0 x1 (ix3 a b r) = (μ : EReal) := by
    unfold val_main_v7 val_main_cst_0
    exact hμ
  have z : val_main_v8 (F := Ideal) (ix3 a b r) = (⊥ : EReal) := (val_main_v8_apply (F := Ideal) _).trans ((val_main_cst_1_apply (F := Ideal) _).trans Online.bitsBot)
  refine ⟨μ, (val_main_v9_apply (F := Ideal) x0 x1 _).trans ?_⟩
  rw [z, e]
  exact max_eq_right (a := (⊥ : EReal)) bot_le

include h0 h1 in
theorem weight_at (a : Fin 2) (b : Fin 4) (r : Fin 8192) (μ : ℝ) (hμ : (val_main_v9 (F := Ideal) x0 x1 (ix3 a b r) : EReal) = (μ : EReal)) (j : Fin 8192) :
    (val_main_v13 (F := Ideal) x0 x1 (ix4 a b r j) : EReal) = ((Real.exp (-μ) * Real.exp (rs x0 x1 a b r j) : ℝ) : EReal) := by
  have e : idx_main_v10 (idx_main_v11 (ix4 a b r j)) = ix3 a b r := funext fun b => Fin.ext (by match b with | ⟨0, _⟩ => rfl | ⟨1, _⟩ => rfl | ⟨2, _⟩ => rfl)
  have t : (val_main_v11 (F := Ideal) x0 x1 (ix4 a b r j) : EReal) = (μ : EReal) :=
    ((val_main_v11_apply (F := Ideal) x0 x1 _).trans ((val_main_v10_apply (F := Ideal) x0 x1 _).trans (congrArg (val_main_v9 (F := Ideal) x0 x1) e))).trans hμ
  refine (val_main_v13_apply (F := Ideal) x0 x1 _).trans ((congrArg Ideal.exp ((val_main_v12_apply (F := Ideal) x0 x1 _).trans (congrArg₂ (fun s t : EReal => s - t) (score_at h0 h1 a b r j) t))).trans ?_)
  show Ideal.exp ((rs x0 x1 a b r j : EReal) - (μ : EReal)) = _
  rw [← EReal.coe_sub, Ideal.exp_coe, sub_eq_add_neg, add_comm, Real.exp_add]

theorem sum_pos (s : Fin 8192 → ℝ) : 0 < ∑ j : Fin 8192, Real.exp (s j) := Finset.sum_pos (fun _ _ => Real.exp_pos _) ⟨0, Finset.mem_univ _⟩

include h0 h1 in
theorem quotient_at (a : Fin 2) (b : Fin 4) (r j : Fin 8192) :
    (val_main_v17 (F := Ideal) x0 x1 (ix4 a b r j) : EReal) = ((Real.exp (rs x0 x1 a b r j) / ∑ j' : Fin 8192, Real.exp (rs x0 x1 a b r j') : ℝ) : EReal) := by
  obtain ⟨μ, hμ⟩ := top_real h0 h1 a b r
  have e : idx_main_v15 (idx_main_v16 (ix4 a b r j)) = ix3 a b r := funext fun b => Fin.ext (by match b with | ⟨0, _⟩ => rfl | ⟨1, _⟩ => rfl | ⟨2, _⟩ => rfl)
  have d : (val_main_v14 (F := Ideal) x0 x1 (ix3 a b r) : EReal) = ((Real.exp (-μ) * ∑ j' : Fin 8192, Real.exp (rs x0 x1 a b r j') : ℝ) : EReal) := by
    refine (val_main_v14_apply x0 x1 _).trans ?_
    refine (congrArg₂ (fun s t : EReal => s + t) (Idealize.ShloMosaic.Ideal.ofBits_zero_f32) ((Finset.sum_congr rfl fun j' _ => ?_).trans (Online.sum_coe Finset.univ fun j' : Fin 8192 => Real.exp (-μ) * Real.exp (rs x0 x1 a b r j')))).trans ?_
    · have e : idx_main_v14 (ix3 a b r) j' = ix4 a b r j' := funext fun b => Fin.ext (by match b with | ⟨0, _⟩ => rfl | ⟨1, _⟩ => rfl | ⟨2, _⟩ => rfl | ⟨3, _⟩ => rfl)
      rw [e]
      exact weight_at h0 h1 a b r μ hμ j'
    · show (0 : EReal) + _ = _
      rw [zero_add, Finset.mul_sum]
  have d' : (val_main_v16 (F := Ideal) x0 x1 (ix4 a b r j) : EReal) = _ :=
    ((val_main_v16_apply (F := Ideal) x0 x1 _).trans ((val_main_v15_apply (F := Ideal) x0 x1 _).trans (congrArg (val_main_v14 (F := Ideal) x0 x1) e))).trans d
  refine (congrArg₂ (fun s t : EReal => Ideal.div s t) (weight_at h0 h1 a b r μ hμ j) d').trans ?_
  exact Online.quot_real μ _ (sum_pos _)

include h0 h1 h2 in
theorem sums_at (a : Fin 2) (b : Fin 4) (r : Fin 8192) (d : Fin 64) : (val_main_v18 (F := Ideal) x0 x1 x2 (ix4 a d b r) : EReal)
    = (((∑ j : Fin 8192, Real.exp (rs x0 x1 a b r j) * EReal.toReal (x2 (ix2 j ⟨64 * a.val + d.val, by have := a.isLt; have := d.isLt; omega⟩))) / ∑ j : Fin 8192, Real.exp (rs x0 x1 a b r j) : ℝ) : EReal) := by
  rw [Finset.sum_div]
  refine (val_main_v18_apply x0 x1 x2 _).trans (Eq.trans (Finset.sum_congr rfl fun j _ => ?_) (Online.sum_coe _ _))
  have el : lidx_main_v18 (ix4 a d b r) j = ix3 j a d := funext fun b => Fin.ext (by match b with | ⟨0, _⟩ => rfl | ⟨1, _⟩ => rfl | ⟨2, _⟩ => rfl)
  have er : ridx_main_v18 (ix4 a d b r) j = ix4 a b r j := funext fun b => Fin.ext (by match b with | ⟨0, _⟩ => rfl | ⟨1, _⟩ => rfl | ⟨2, _⟩ => rfl | ⟨3, _⟩ => rfl)
  rw [el, er]
  refine (congrArg₂ (fun s t : EReal => s * t) ((v_at x2 j a d).trans (real_part (h2 _))) (quotient_at h0 h1 a b r j)).trans ?_
  rw [← EReal.coe_mul, mul_comm, div_mul_eq_mul_div]

include h0 h1 h2 in
/-- The reference's first result is the attention, -/
theorem attention : (val_main_v27 (F := Ideal) x0 x1 x2 : Mat 8192 512) = attend x0 x1 x2 := by
  funext i
  obtain ⟨r, q, rfl⟩ : ∃ (r : Fin 8192) (q : Fin 512), i = ix2 r q := ⟨_, _, eq_ix2 i⟩
  have hr := r.isLt
  have hq := q.isLt
  have e : idx_main_v19 (idx_main_v26 (ix2 r q)) = ix4 (⟨q.val / 256, by omega⟩ : Fin 2) (place q) (⟨q.val / 64 % 4, Nat.mod_lt _ (by decide)⟩ : Fin 4) r := funext fun b => Fin.ext (by
    match b with
    | ⟨0, _⟩ => show (r.val * 512 + q.val) / 256 % 2 = q.val / 256; omega
    | ⟨1, _⟩ => show (r.val * 512 + q.val) % 64 = q.val % 64; omega
    | ⟨2, _⟩ => show (r.val * 512 + q.val) / 64 % 4 = q.val / 64 % 4; omega
    | ⟨3, _⟩ => show (r.val * 512 + q.val) / 512 = r.val; omega)
  refine ((val_main_v26_apply (F := Ideal) x0 x1 x2 _).trans ((val_main_v19_apply (F := Ideal) x0 x1 x2 _).trans (congrArg (val_main_v18 (F := Ideal) x0 x1 x2) e))).trans ((sums_at x2 h0 h1 h2 _ _ r _).trans ?_)
  refine congrArg₂ (fun s t : ℝ => ((s / t : ℝ) : EReal)) (Finset.sum_congr rfl fun j _ => ?_) (Finset.sum_congr rfl fun j _ => ?_)
  · exact congrArg₂ (fun s t : ℝ => Real.exp s * t) (rs_eq x0 x1 r j q _ _ rfl rfl) rfl
  · exact congrArg Real.exp (rs_eq x0 x1 r j q _ _ rfl rfl)

include h0 h1 in
/-- and its second the logarithm of the sum of the weights. -/
theorem logs : (val_main_v28 (F := Ideal) x0 x1 : Mat 8192 512) = lse x0 x1 := by
  funext i
  obtain ⟨r, q, rfl⟩ : ∃ (r : Fin 8192) (q : Fin 512), i = ix2 r q := ⟨_, _, eq_ix2 i⟩
  have hr := r.isLt
  have hq := q.isLt
  have e : idx_main_v23 (idx_main_v24 (idx_main_v25 (idx_main_v28 (ix2 r q)))) = ix3 (⟨q.val / 256, by omega⟩ : Fin 2) (⟨q.val / 64 % 4, Nat.mod_lt _ (by decide)⟩ : Fin 4) r := funext fun b => Fin.ext (by
    match b with
    | ⟨0, _⟩ => show (r.val * 512 + q.val) / 256 % 2 = q.val / 256; omega
    | ⟨1, _⟩ => show (r.val * 512 + q.val) / 64 % 4 = q.val / 64 % 4; omega
    | ⟨2, _⟩ => show (r.val * 512 + q.val) / 512 = r.val; omega)
  have s : (val_main_v21 (F := Ideal) x0 x1 (ix3 (⟨q.val / 256, by omega⟩ : Fin 2) (⟨q.val / 64 % 4, Nat.mod_lt _ (by decide)⟩ : Fin 4) r) : EReal) = ((mass x0 x1 r q : ℝ) : EReal) := by
    refine (val_main_v21_apply x0 x1 _).trans ?_
    refine (congrArg₂ (fun s t : EReal => s + t) (Idealize.ShloMosaic.Ideal.ofBits_zero_f32) ((Finset.sum_congr rfl fun j _ => ?_).trans (Online.sum_coe Finset.univ fun j : Fin 8192 => Real.exp (score x0 x1 r q j)))).trans (zero_add _)
    have e : idx_main_v21 (ix3 (⟨q.val / 256, by omega⟩ : Fin 2) (⟨q.val / 64 % 4, Nat.mod_lt _ (by decide)⟩ : Fin 4) r) j = ix4 (⟨q.val / 256, by omega⟩ : Fin 2) (⟨q.val / 64 % 4, Nat.mod_lt _ (by decide)⟩ : Fin 4) r j := funext fun b => Fin.ext (by match b with | ⟨0, _⟩ => rfl | ⟨1, _⟩ => rfl | ⟨2, _⟩ => rfl | ⟨3, _⟩ => rfl)
    rw [e]
    refine (congrArg Ideal.exp (score_at h0 h1 _ _ r j)).trans ?_
    rw [rs_eq x0 x1 r j q _ _ rfl rfl, Ideal.exp_coe]
  refine ((val_main_v28_apply (F := Ideal) x0 x1 _).trans ((val_main_v25_apply (F := Ideal) x0 x1 _).trans ((val_main_v24_apply (F := Ideal) x0 x1 _).trans ((val_main_v23_apply (F := Ideal) x0 x1 _).trans (congrArg (val_main_v22 (F := Ideal) x0 x1) e))))).trans ?_
  exact (congrArg Ideal.log s).trans (Online.log_real (Cert.Attend.mass_pos x0 x1 r q))

variable (m : (ℓ : Loc nD τ sig) → Buf (Elt Ideal) ℓ) (ρ : Dev nD → PrngReg)
  (g0 : ∀ (c : Dev nD) (i), ∃ r : ℝ, (m ((c : Thread nD τ).loc main_arg0) : Mat 8192 512) i = (r : EReal))
  (g1 : ∀ (c : Dev nD) (i), ∃ r : ℝ, (m ((c : Thread nD τ).loc main_arg1) : Mat 8192 128) i = (r : EReal))
  (g2 : ∀ (c : Dev nD) (i), ∃ r : ℝ, (m ((c : Thread nD τ).loc main_arg2) : Mat 8192 128) i = (r : EReal))

include g0 g1 g2 in
/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v27) = attend (m ((c : Thread nD τ).loc main_arg0)) (m ((c : Thread nD τ).loc main_arg1)) (m ((c : Thread nD τ).loc main_arg2))
      ∧ r.2.mem ((c : Thread nD τ).loc main_v28) = lse (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1.trans (val_main_v27_eq (m ((c : Thread nD τ).loc main_arg0)) (m ((c : Thread nD τ).loc main_arg1)) (m ((c : Thread nD τ).loc main_arg2)))).trans (attention (m ((c : Thread nD τ).loc main_arg2)) (g0 c) (g1 c) (g2 c)),
      ((h c).2.1.trans (val_main_v28_eq (m ((c : Thread nD τ).loc main_arg0)) (m ((c : Thread nD τ).loc main_arg1)))).trans (logs (g0 c) (g1 c)),
      (h c).2.2⟩)
    (Cert.FlashAReferenceIdeal.Value.run m ρ)

end Cert.FlashAReferenceIdeal.Val

end
-- ==== Proof.FlashAClaims.lean ====
/-
  The claims about the call `FlashA`, from one run of each program: the frames, and the equality of the kernel's
  results with the reference's at the ideal instance.
-/
module

public import proofs.«01_k».proof.Defs
public import proofs.«01_k».proof.Proof.FlashA
public import proofs.«01_k».proof.Proof.FlashARef
public import proofs.«01_k».proof.Proof.FfnActClaims
public import proofs.«01_k».proof.Proof.Gen.FlashA
public import proofs.«01_k».proof.Proof.Gen.FlashA.Frame
public import proofs.«01_k».proof.Proof.Gen.FlashAIdeal.Frame
public import proofs.«01_k».proof.Proof.Gen.FlashAReferenceIdeal.Run
public import proofs.«01_k».proof.Proof.Gen.Pre_finite_entries
public import Idealize.ShloMosaic.Adequacy
public import Idealize.ShloMosaic.Init

@[expose] public section

set_option maxRecDepth 16384

noncomputable section

namespace Cert.Proof.FlashAClaims

open Idealize.ShloMosaic Idealize.ShloMosaic.TcCoe Idealize.SL.Sem
open Cert.Proof.FfnActClaims (real_of)

/-- The kernel runs and leaves its arguments unchanged. -/
theorem frame_kernel : Cert.quiescent_FlashA (hFlashA := Cert.FlashA.Gen.facts) := fun m ρ _ => Cert.FlashA.Gen.frame m ρ

/-- So does its ideal reading, -/
theorem frame_ideal : Cert.quiescent_FlashAIdeal (hFlashAIdeal := Cert.FlashAIdeal.Gen.facts) := fun m ρ _ => Cert.FlashAIdeal.Gen.frame m ρ

/-- and so does the reference. -/
theorem frame_reference : Cert.quiescent_FlashAReferenceIdeal (hFlashAReferenceIdeal := Cert.FlashAReferenceIdeal.Gen.facts) := fun m ρ _ =>
  (θ_run Cert.FlashAReferenceIdeal.defs _ _).mono (fun r h => ⟨fun c => (h c).2.2, sem_eq_zero_of_no_sems (by decide) r.2⟩)
    (Cert.FlashAReferenceIdeal.Value.run m ρ)

/-- The ideal programs' frames under the precondition: they hold without it. -/
theorem frame_ideal_pre : Cert.quiescent_FlashAIdeal_pre_finite_entries (hFlashAIdeal := Cert.FlashAIdeal.Gen.facts) (hPre_finite_entries := Cert.Pre_finite_entries.Gen.facts) :=
  fun m ρ _ => Cert.FlashAIdeal.Gen.frame m ρ

theorem frame_reference_pre : Cert.quiescent_FlashAReferenceIdeal_pre_finite_entries (hFlashAReferenceIdeal := Cert.FlashAReferenceIdeal.Gen.facts) (hPre_finite_entries := Cert.Pre_finite_entries.Gen.facts) :=
  fun m ρ _ => frame_reference m ρ trivial

/-- The kernel's results are the reference's, on real entries. -/
theorem algebraic : Cert.algebraic_FlashAIdeal_FlashAReferenceIdeal_pre_finite_entries (hFlashAIdeal := Cert.FlashAIdeal.Gen.facts) (hFlashAReferenceIdeal := Cert.FlashAReferenceIdeal.Gen.facts) (hPre_finite_entries := Cert.Pre_finite_entries.Gen.facts) := by
  intro m ρ m' ρ' hp hag
  have g0 := fun c : Dev Cert.FlashAIdeal.nD => real_of _ (hp c).1
  have g1 := fun c : Dev Cert.FlashAIdeal.nD => real_of _ (hp c).2.1
  have g2 := fun c : Dev Cert.FlashAIdeal.nD => real_of _ (hp c).2.2
  refine ⟨_, _, Cert.FlashAIdeal.Val.run m ρ g0 g1 g2, (θ_run _ _ _).mono (fun _ h c => ?_) (Cert.FlashAReferenceIdeal.Val.run m' ρ'
    (fun c i => (g0 c i).imp fun _ e => (congrFun (hag c).1 i).trans e) (fun c i => (g1 c i).imp fun _ e => (congrFun (hag c).2.1 i).trans e) (fun c i => (g2 c i).imp fun _ e => (congrFun (hag c).2.2 i).trans e))⟩
  have hc := h c
  obtain ⟨e0, e1, e2⟩ := hag c
  rw [e0, e1, e2] at hc
  obtain ⟨h0, h1, h2, h3, h4⟩ := hc
  exact ⟨h0, h1, h2.trans e0.symm, h3.trans e1.symm, h4.trans e2.symm⟩

end Cert.Proof.FlashAClaims

end
-- ==== Proof.FlashBwdTrip.lean ====
/-
  One trip of the loop of the attention's backward kernel, over the extended reals: from the chunk's keys and values, the stacked
  queries and cotangents and their rows' logarithms and corrections, what the trip adds to the three gradients.
-/
module

public import proofs.«01_k».proof.Proof.Online
public import proofs.«01_k».proof.Proof.Gen.FlashABwdIdeal.Value
public import Idealize.ShloMosaic.Lib.Tactic
public import Idealize.ShloMosaic.Lib.WritesUnit
public import Idealize.ShloMosaic.Lib.VecWindow
public import Idealize.ShloMosaic.Lib.Pipeline.ReadBack
public import Idealize.ShloMosaic.Lib.Pipeline.ValueKit.Tiles

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.Prods

abbrev Chunk := Vec Ideal S1x2048x128 .bf16
abbrev Rows := Vec Ideal S512x128 .bf16
abbrev Col := Vec Ideal S512x1 .f32

/-- The weight of a row's query on a key of a chunk: the exponential of the score less the row's logarithm. -/
def wgt (K : Chunk) (Q : Rows) (L : Col) (r : Fin 512) (j : Fin 2048) : EReal := Ideal.exp ((∑ l : Fin 128, Q (ix2 r l) * K (ix3 0 j l)) - L (ix2 r 0))

/-- The gradient of that score: the weight times the cotangent's product with the value, less the row's correction. -/
def slope (K V : Chunk) (Q D : Rows) (L M : Col) (r : Fin 512) (j : Fin 2048) : EReal :=
  wgt K Q L r j * ((∑ l : Fin 128, D (ix2 r l) * V (ix3 0 j l)) - M (ix2 r 0))

theorem spread (x : Col) (h : S512x1.Broadcasts S512x2048) (r : Fin 512) (j : Fin 2048) : broadcastTo S512x2048 x h (ix2 r j) = x (ix2 r 0) :=
  spreadCol x h r j

theorem pay5_at (K : Chunk) (Q : Rows) (L : Col) (r : Fin 512) (j : Fin 2048) : k0_pay5 K Q L (ix2 r j) = wgt K Q L r j := by
  unfold k0_pay5 k0_pay4
  refine congrArg Ideal.exp (congrArg₂ (fun a b : EReal => a - b) ?_ (spread L _ r j))
  refine (dotNT (φ₁ := .bf16) (φ₂ := .bf16) dot_S512x128_S2048x128_S512x2048_1_1_0_0_n_n rfl rfl
    (fun _ _ => by simp [DotDims.lhsIdx, dot_S512x128_S2048x128_S512x2048_1_1_0_0_n_n]; rfl) (fun _ _ => by simp [DotDims.lhsIdx, dot_S512x128_S2048x128_S512x2048_1_1_0_0_n_n]; rfl)
    (fun _ _ => by simp [DotDims.rhsIdx, dot_S512x128_S2048x128_S512x2048_1_1_0_0_n_n]; rfl) (fun _ _ => by simp [DotDims.rhsIdx, dot_S512x128_S2048x128_S512x2048_1_1_0_0_n_n]; rfl) none _ _ r j).trans ?_
  exact Finset.sum_congr rfl fun l _ => congrArg (fun b : EReal => _ * b) (dropLead K _ j l)

theorem pay6_at (K V : Chunk) (Q D : Rows) (L M : Col) (r : Fin 512) (j : Fin 2048) : k0_pay6 K V Q D L M (ix2 r j) = slope K V Q D L M r j := by
  unfold k0_pay6
  refine congrArg₂ (fun a b : EReal => a * b) (pay5_at K Q L r j) (congrArg₂ (fun a b : EReal => a - b) ?_ (spread M _ r j))
  refine (dotNT (φ₁ := .bf16) (φ₂ := .bf16) dot_S512x128_S2048x128_S512x2048_1_1_0_0_n_n rfl rfl
    (fun _ _ => by simp [DotDims.lhsIdx, dot_S512x128_S2048x128_S512x2048_1_1_0_0_n_n]; rfl) (fun _ _ => by simp [DotDims.lhsIdx, dot_S512x128_S2048x128_S512x2048_1_1_0_0_n_n]; rfl)
    (fun _ _ => by simp [DotDims.rhsIdx, dot_S512x128_S2048x128_S512x2048_1_1_0_0_n_n]; rfl) (fun _ _ => by simp [DotDims.rhsIdx, dot_S512x128_S2048x128_S512x2048_1_1_0_0_n_n]; rfl) none _ _ r j).trans ?_
  exact Finset.sum_congr rfl fun l _ => congrArg (fun b : EReal => _ * b) (dropLead V _ j l)

theorem pay7_at (K : Chunk) (Q D : Rows) (L : Col) (X : Vec Ideal S1x2048x128 .f32) (j : Fin 2048) (l : Fin 128) :
    k0_pay7 K Q D L X (ix3 0 j l) = X (ix3 0 j l) + ∑ r : Fin 512, wgt K Q L r j * D (ix2 r l) := by
  unfold k0_pay7
  refine (addLead _ _ j l).trans (congrArg₂ (fun a b : EReal => a + b) (dropLead X _ j l) ?_)
  refine (dotTN (φ₁ := .bf16) (φ₂ := .bf16) dot_S512x2048_S512x128_S2048x128_0_0_1_1_n_n rfl rfl
    (fun _ _ => by simp [DotDims.lhsIdx, dot_S512x2048_S512x128_S2048x128_0_0_1_1_n_n]; rfl) (fun _ _ => by simp [DotDims.lhsIdx, dot_S512x2048_S512x128_S2048x128_0_0_1_1_n_n]; rfl)
    (fun _ _ => by simp [DotDims.rhsIdx, dot_S512x2048_S512x128_S2048x128_0_0_1_1_n_n]; rfl) (fun _ _ => by simp [DotDims.rhsIdx, dot_S512x2048_S512x128_S2048x128_0_0_1_1_n_n]; rfl) none _ _ j l).trans ?_
  exact Finset.sum_congr rfl fun r _ => congrArg (fun b : EReal => b * _) (pay5_at K Q L r j)

theorem pay1_at (K V : Chunk) (Q D : Rows) (L M : Col) (X : Vec Ideal S1x2048x128 .f32) (j : Fin 2048) (l : Fin 128) :
    k0_pay1 (k0_pay8 X) (k0_pay9 K V Q D L M) (ix3 0 j l) = X (ix3 0 j l) + ∑ r : Fin 512, slope K V Q D L M r j * Q (ix2 r l) := by
  unfold k0_pay1 k0_pay8 k0_pay9
  refine (addLead _ _ j l).trans (congrArg₂ (fun a b : EReal => a + b) (dropLead X _ j l) ?_)
  refine (dotTN (φ₁ := .bf16) (φ₂ := .bf16) dot_S512x2048_S512x128_S2048x128_0_0_1_1_n_n rfl rfl
    (fun _ _ => by simp [DotDims.lhsIdx, dot_S512x2048_S512x128_S2048x128_0_0_1_1_n_n]; rfl) (fun _ _ => by simp [DotDims.lhsIdx, dot_S512x2048_S512x128_S2048x128_0_0_1_1_n_n]; rfl)
    (fun _ _ => by simp [DotDims.rhsIdx, dot_S512x2048_S512x128_S2048x128_0_0_1_1_n_n]; rfl) (fun _ _ => by simp [DotDims.rhsIdx, dot_S512x2048_S512x128_S2048x128_0_0_1_1_n_n]; rfl) none _ _ j l).trans ?_
  exact Finset.sum_congr rfl fun r _ => congrArg (fun b : EReal => b * _) (pay6_at K V Q D L M r j)

theorem same {s : Shape} {α : Type} (x : s.Idx → α) (h : s.ShapeCasts s) (i : s.Idx) : shapeCast s x h i = x i := shapeCast_apply x h i i rfl

theorem pay2_at (K V : Chunk) (Q D : Rows) (L M : Col) (X : Vec Ideal S512x128 .f32) (r : Fin 512) (l : Fin 128) :
    k0_pay2 (k0_pay4 K) (k0_pay6 K V Q D L M) X (ix2 r l) = X (ix2 r l) + ∑ j : Fin 2048, slope K V Q D L M r j * K (ix3 0 j l) := by
  unfold k0_pay2
  refine (same _ _ _).trans (congrArg (fun b : EReal => _ + b) ?_)
  refine (dotNN (φ₁ := .bf16) (φ₂ := .bf16) dot_S512x2048_S2048x128_S512x128_1_0_0_1_n_n rfl rfl
    (fun _ _ => by simp [DotDims.lhsIdx, dot_S512x2048_S2048x128_S512x128_1_0_0_1_n_n]; rfl) (fun _ _ => by simp [DotDims.lhsIdx, dot_S512x2048_S2048x128_S512x128_1_0_0_1_n_n]; rfl)
    (fun _ _ => by simp [DotDims.rhsIdx, dot_S512x2048_S2048x128_S512x128_1_0_0_1_n_n]; rfl) (fun _ _ => by simp [DotDims.rhsIdx, dot_S512x2048_S2048x128_S512x128_1_0_0_1_n_n]; rfl) none _ _ r l).trans ?_
  refine Finset.sum_congr rfl fun j _ => congrArg₂ (fun a b : EReal => a * b) (pay6_at K V Q D L M r j) ?_
  unfold k0_pay4
  exact dropLead K _ j l

/-! ## The trip's stores -/

theorem trip1_eq (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (v2 : IVec S256x128 1) (w0 w1 : BitVec 32) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)
    (k : Fin k0_t1_loop.trips) (f9 : BufTy.Contents (Elt Ideal) arg9.view.ty) (f10 : BufTy.Contents (Elt Ideal) arg10.view.ty) (f15 : BufTy.Contents (Elt Ideal) arg15.view.ty) (hk : ∀ a, k0_off1 k a + S1x2048x128.size a ≤ S1x8192x128.size a) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 k f9 f10 f15
      = ([⟨Rect.unit (s := S1x8192x128) (k0_off1 k) S1x2048x128.size hk, (k0_pay1 (F := Ideal)) (k0_pay8 (F := Ideal) (View.readAt (Elt Ideal) arg9.view (Rect.unit (s := S1x8192x128) (k0_off1 k) S1x2048x128.size hk).toLoadRect f9)) (k0_pay9 (F := Ideal) (View.readAt (Elt Ideal) arg6.view (Rect.unit (s := S1x8192x128) (k0_off1 k) S1x2048x128.size hk).toLoadRect X6) (View.readAt (Elt Ideal) arg7.view (Rect.unit (s := S1x8192x128) (k0_off1 k) S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14))⟩],
         [⟨Rect.unit (s := S1x8192x128) (k0_off1 k) S1x2048x128.size hk, (k0_pay7 (F := Ideal)) (View.readAt (Elt Ideal) arg6.view (Rect.unit (s := S1x8192x128) (k0_off1 k) S1x2048x128.size hk).toLoadRect X6) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg10.view (Rect.unit (s := S1x8192x128) (k0_off1 k) S1x2048x128.size hk).toLoadRect f10)⟩],
         [⟨Rect.unit (s := S512x128) ![0, 0] S512x128.size inb_S512x128_S512x128_0_0, (k0_pay2 (F := Ideal)) (k0_pay4 (F := Ideal) (View.readAt (Elt Ideal) arg6.view (Rect.unit (s := S1x8192x128) (k0_off1 k) S1x2048x128.size hk).toLoadRect X6)) (k0_pay6 (F := Ideal) (View.readAt (Elt Ideal) arg6.view (Rect.unit (s := S1x8192x128) (k0_off1 k) S1x2048x128.size hk).toLoadRect X6) (View.readAt (Elt Ideal) arg7.view (Rect.unit (s := S1x8192x128) (k0_off1 k) S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14)) (View.readAt (Elt Ideal) arg15.view (Rect.unit (s := S512x128) ![0, 0] S512x128.size inb_S512x128_S512x128_0_0).toLoadRect f15)⟩]) := by
  unfold tripL_k0_t1 trip_k0_t1
  rfl

theorem trip2_eq (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)
    (k : Fin k0_t2_loop.trips) (f9 : BufTy.Contents (Elt Ideal) arg9.view.ty) (f10 : BufTy.Contents (Elt Ideal) arg10.view.ty) (f15 : BufTy.Contents (Elt Ideal) arg15.view.ty) (hk : ∀ a, k0_off2 k a + S1x2048x128.size a ≤ S1x8192x128.size a) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 k f9 f10 f15
      = ([⟨Rect.unit (s := S1x8192x128) (k0_off2 k) S1x2048x128.size hk, (k0_pay1 (F := Ideal)) (k0_pay8 (F := Ideal) (View.readAt (Elt Ideal) arg9.view (Rect.unit (s := S1x8192x128) (k0_off2 k) S1x2048x128.size hk).toLoadRect f9)) (k0_pay9 (F := Ideal) (View.readAt (Elt Ideal) arg6.view (Rect.unit (s := S1x8192x128) (k0_off2 k) S1x2048x128.size hk).toLoadRect X6) (View.readAt (Elt Ideal) arg7.view (Rect.unit (s := S1x8192x128) (k0_off2 k) S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14))⟩],
         [⟨Rect.unit (s := S1x8192x128) (k0_off2 k) S1x2048x128.size hk, (k0_pay7 (F := Ideal)) (View.readAt (Elt Ideal) arg6.view (Rect.unit (s := S1x8192x128) (k0_off2 k) S1x2048x128.size hk).toLoadRect X6) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg10.view (Rect.unit (s := S1x8192x128) (k0_off2 k) S1x2048x128.size hk).toLoadRect f10)⟩],
         [⟨Rect.unit (s := S512x128) ![0, 0] S512x128.size inb_S512x128_S512x128_0_0, (k0_pay2 (F := Ideal)) (k0_pay4 (F := Ideal) (View.readAt (Elt Ideal) arg6.view (Rect.unit (s := S1x8192x128) (k0_off2 k) S1x2048x128.size hk).toLoadRect X6)) (k0_pay6 (F := Ideal) (View.readAt (Elt Ideal) arg6.view (Rect.unit (s := S1x8192x128) (k0_off2 k) S1x2048x128.size hk).toLoadRect X6) (View.readAt (Elt Ideal) arg7.view (Rect.unit (s := S1x8192x128) (k0_off2 k) S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14)) (View.readAt (Elt Ideal) arg15.view (Rect.unit (s := S512x128) ![0, 0] S512x128.size inb_S512x128_S512x128_0_0).toLoadRect f15)⟩]) := by
  unfold tripL_k0_t2 trip_k0_t2
  rfl

end Cert.FlashABwdIdeal.Val

end
-- ==== Proof.FlashBwdState.lean ====
/-
  The loop of the attention's backward kernel, over the extended reals: what four trips of 2048 keys add to the three gradients.
-/
module

public import proofs.«01_k».proof.Proof.FlashBwdTrip

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.Prods

abbrev Plane := Vec Ideal S1x8192x128 .bf16
abbrev Sums := Vec Ideal S1x8192x128 .f32

/-- A row's weight on a key, and the gradient of its score. -/
def weight (K : Plane) (Q : Rows) (L : Col) (r : Fin 512) (j : Fin 8192) : EReal := Ideal.exp ((∑ l : Fin 128, Q (ix2 r l) * K (ix3 0 j l)) - L (ix2 r 0))
def gradient (K V : Plane) (Q D : Rows) (L M : Col) (r : Fin 512) (j : Fin 8192) : EReal :=
  weight K Q L r j * ((∑ l : Fin 128, D (ix2 r l) * V (ix3 0 j l)) - M (ix2 r 0))

/-- What a stack of rows adds to the gradients of a key, of a value and of a query. -/
def addK (K V : Plane) (Q D : Rows) (L M : Col) (j : Fin 8192) (l : Fin 128) : EReal := ∑ r : Fin 512, gradient K V Q D L M r j * Q (ix2 r l)
def addV (K : Plane) (Q D : Rows) (L : Col) (j : Fin 8192) (l : Fin 128) : EReal := ∑ r : Fin 512, weight K Q L r j * D (ix2 r l)
def addQ (K V : Plane) (Q D : Rows) (L M : Col) (r : Fin 512) (l : Fin 128) (x : ℕ) : EReal :=
  if h : x < 8192 then gradient K V Q D L M r ⟨x, h⟩ * K (ix3 0 ⟨x, h⟩ l) else 0

/-- The key at place `j` of chunk `k`. -/
def key (k : Fin 4) (j : Fin 2048) : Fin 8192 := ⟨2048 * k.val + j.val, block_lt rfl k j⟩

theorem chunk_load {sig : RefSig} {κ : Kind} {sp : Space} {e : EltTy} (v : View sig κ sp S1x8192x128 e) (f : v.ty.Contents (Elt Ideal)) (k : Fin 4) {off : Fin 3 → Nat} (ho : off = ![0, 2048 * k.val, 0])
    (hk : ∀ a, off a + S1x2048x128.size a ≤ S1x8192x128.size a) (j : Fin 2048) (l : Fin 128) :
    View.readAt (Elt Ideal) v (Rect.unit (s := S1x8192x128) off S1x2048x128.size hk).toLoadRect f (ix3 0 j l) = v.read (Elt Ideal) f (ix3 0 (key k j) l) := by
  subst ho
  rw [View.readAt_eq_ld]
  refine View.ld_unit_apply_of _ _ _ _ _ _ fun a => ?_
  match a with
  | ⟨0, _⟩ => rfl
  | ⟨1, _⟩ => rfl
  | ⟨2, _⟩ => show l.val = 0 + l.val; omega

/-- A chunk of rows stored, read back. -/
theorem chunk_store {sig : RefSig} {κ : Kind} {sp : Space} {e : EltTy} (v : View sig κ sp S1x8192x128 e) (f : v.ty.Contents (Elt Ideal)) (k : Fin 4) {off : Fin 3 → Nat} (ho : off = ![0, 2048 * k.val, 0])
    (hk : ∀ a, off a + S1x2048x128.size a ≤ S1x8192x128.size a) (u : Vec Ideal S1x2048x128 e) (j : Fin 8192) (l : Fin 128) :
    v.read (Elt Ideal) (v.writes (Elt Ideal) f [⟨Rect.unit (s := S1x8192x128) off S1x2048x128.size hk, u⟩]) (ix3 0 j l)
      = if h : 2048 * k.val ≤ j.val ∧ j.val < 2048 * k.val + 2048 then u (ix3 0 ⟨j.val - 2048 * k.val, by omega⟩ l) else v.read (Elt Ideal) f (ix3 0 j l) := by
  by_cases h : 2048 * k.val ≤ j.val ∧ j.val < 2048 * k.val + 2048
  · rw [dif_pos h]
    refine View.read_writes_cons_unit_of_mem v f hk u [] (ix3 0 j l) (ix3 0 ⟨j.val - 2048 * k.val, by omega⟩ l) ho fun a => ?_
    match a with
    | ⟨0, _⟩ => rfl
    | ⟨1, _⟩ => show j.val = 2048 * k.val + (j.val - 2048 * k.val); omega
    | ⟨2, _⟩ => show l.val = 0 + l.val; omega
  · rw [dif_neg h]
    refine View.read_writes_cons_unit_of_not_mem v f hk u [] (ix3 0 j l) ho 1 ?_
    show j.val < 2048 * k.val ∨ 2048 * k.val + 2048 ≤ j.val
    omega

/-- The three gradients after the first `n` chunks, over what they were. -/
def After (n : ℕ) (K V : Plane) (Q D : Rows) (L M : Col) (Y9 Y10 : Sums) (Y15 : Vec Ideal S512x128 .f32) (X9 X10 : Sums) (X15 : Vec Ideal S512x128 .f32) : Prop :=
  (∀ j l, X9 (ix3 0 j l) = Y9 (ix3 0 j l) + if j.val < 2048 * n then addK K V Q D L M j l else 0)
  ∧ (∀ j l, X10 (ix3 0 j l) = Y10 (ix3 0 j l) + if j.val < 2048 * n then addV K Q D L j l else 0)
  ∧ ∀ r l, X15 (ix2 r l) = Y15 (ix2 r l) + ∑ x ∈ Finset.range (2048 * n), addQ K V Q D L M r l x

theorem wgt_key (k : Fin 4) (K : Plane) (C : Chunk) (hC : ∀ j l, C (ix3 0 j l) = K (ix3 0 (key k j) l)) (Q : Rows) (L : Col) (r : Fin 512) (j : Fin 2048) :
    wgt C Q L r j = weight K Q L r (key k j) := by
  unfold wgt weight
  exact congrArg (fun s : EReal => Ideal.exp (s - _)) (Finset.sum_congr rfl fun l _ => congrArg (fun b : EReal => _ * b) (hC j l))

theorem slope_key (k : Fin 4) (K V : Plane) (C E : Chunk) (hC : ∀ j l, C (ix3 0 j l) = K (ix3 0 (key k j) l)) (hE : ∀ j l, E (ix3 0 j l) = V (ix3 0 (key k j) l)) (Q D : Rows) (L M : Col) (r : Fin 512) (j : Fin 2048) :
    slope C E Q D L M r j = gradient K V Q D L M r (key k j) := by
  unfold slope gradient
  exact congrArg₂ (fun a b : EReal => a * b) (wgt_key k K C hC Q L r j) (congrArg (fun s : EReal => s - _) (Finset.sum_congr rfl fun l _ => congrArg (fun b : EReal => _ * b) (hE j l)))

/-- A chunk's rows of a sum change by one more summand, the others do not. -/
theorem grow {n : ℕ} {j : Fin 8192} (y d : EReal) : (if _h : 2048 * n ≤ j.val ∧ j.val < 2048 * n + 2048 then (y + (if j.val < 2048 * n then d else 0)) + d else y + (if j.val < 2048 * n then d else 0))
    = y + if j.val < 2048 * (n + 1) then d else 0 := by
  by_cases h : 2048 * n ≤ j.val ∧ j.val < 2048 * n + 2048
  · rw [dif_pos h, if_neg (show ¬ j.val < 2048 * n by omega), if_pos (show j.val < 2048 * (n + 1) by omega), add_zero]
  · rw [dif_neg h]
    by_cases h' : j.val < 2048 * n
    · rw [if_pos h', if_pos (show j.val < 2048 * (n + 1) by omega)]
    · rw [if_neg h', if_neg (show ¬ j.val < 2048 * (n + 1) by omega)]

theorem key_back (k : Fin 4) (j : Fin 8192) (h : 2048 * k.val ≤ j.val ∧ j.val < 2048 * k.val + 2048) : key k ⟨j.val - 2048 * k.val, by omega⟩ = j :=
  Fin.ext (by show 2048 * k.val + (j.val - 2048 * k.val) = j.val; omega)

variable (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (X6 : BufTy.Contents (Elt Ideal) arg6.view.ty) (X7 : BufTy.Contents (Elt Ideal) arg7.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)

theorem whole_load {sig : RefSig} {κ : Kind} {sp : Space} {e : EltTy} {s : Shape} (v : View sig κ sp s e) (f : v.ty.Contents (Elt Ideal)) {off : Fin s.rank → Nat} (h : ∀ a, off a + s.size a ≤ s.size a) :
    View.readAt (Elt Ideal) v (Rect.unit (s := s) off s.size h).toLoadRect f = v.read (Elt Ideal) f := View.readAt_full v _ h

/-- One trip: the stores of chunk `k` take the gradients after `k` chunks to those after `k + 1`. -/
theorem step (k : Fin 4) {off : Fin 3 → Nat} (ho : off = ![0, 2048 * k.val, 0]) (hk : ∀ a, off a + S1x2048x128.size a ≤ S1x8192x128.size a) (f9 : BufTy.Contents (Elt Ideal) arg9.view.ty) (f10 : BufTy.Contents (Elt Ideal) arg10.view.ty) (f15 : BufTy.Contents (Elt Ideal) arg15.view.ty) (Y9 Y10 : Sums) (Y15 : Vec Ideal S512x128 .f32)
    (h : After k.val (arg6.view.read (Elt Ideal) X6) (arg7.view.read (Elt Ideal) X7) (arg11.view.read (Elt Ideal) X11) (arg12.view.read (Elt Ideal) X12) (arg13.view.read (Elt Ideal) X13) (arg14.view.read (Elt Ideal) X14) Y9 Y10 Y15 (arg9.view.read (Elt Ideal) f9) (arg10.view.read (Elt Ideal) f10) (arg15.view.read (Elt Ideal) f15)) :
    After (k.val + 1) (arg6.view.read (Elt Ideal) X6) (arg7.view.read (Elt Ideal) X7) (arg11.view.read (Elt Ideal) X11) (arg12.view.read (Elt Ideal) X12) (arg13.view.read (Elt Ideal) X13) (arg14.view.read (Elt Ideal) X14) Y9 Y10 Y15
      (arg9.view.read (Elt Ideal) (arg9.view.writes (Elt Ideal) f9 [⟨Rect.unit (s := S1x8192x128) off S1x2048x128.size hk, (k0_pay1 (F := Ideal)) (k0_pay8 (F := Ideal) (View.readAt (Elt Ideal) arg9.view (Rect.unit (s := S1x8192x128) off S1x2048x128.size hk).toLoadRect f9)) (k0_pay9 (F := Ideal) (View.readAt (Elt Ideal) arg6.view (Rect.unit (s := S1x8192x128) off S1x2048x128.size hk).toLoadRect X6) (View.readAt (Elt Ideal) arg7.view (Rect.unit (s := S1x8192x128) off S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14))⟩]))
      (arg10.view.read (Elt Ideal) (arg10.view.writes (Elt Ideal) f10 [⟨Rect.unit (s := S1x8192x128) off S1x2048x128.size hk, (k0_pay7 (F := Ideal)) (View.readAt (Elt Ideal) arg6.view (Rect.unit (s := S1x8192x128) off S1x2048x128.size hk).toLoadRect X6) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg10.view (Rect.unit (s := S1x8192x128) off S1x2048x128.size hk).toLoadRect f10)⟩]))
      (arg15.view.read (Elt Ideal) (arg15.view.writes (Elt Ideal) f15 [⟨Rect.unit (s := S512x128) ![0, 0] S512x128.size inb_S512x128_S512x128_0_0, (k0_pay2 (F := Ideal)) (k0_pay4 (F := Ideal) (View.readAt (Elt Ideal) arg6.view (Rect.unit (s := S1x8192x128) off S1x2048x128.size hk).toLoadRect X6)) (k0_pay6 (F := Ideal) (View.readAt (Elt Ideal) arg6.view (Rect.unit (s := S1x8192x128) off S1x2048x128.size hk).toLoadRect X6) (View.readAt (Elt Ideal) arg7.view (Rect.unit (s := S1x8192x128) off S1x2048x128.size hk).toLoadRect X7) (View.readAt (Elt Ideal) arg11.view (Rect.unit (s := S512x128) ![0, 0] S512x128.size inb_S512x128_S512x128_0_0).toLoadRect X11) (View.readAt (Elt Ideal) arg12.view (Rect.unit (s := S512x128) ![0, 0] S512x128.size inb_S512x128_S512x128_0_0).toLoadRect X12) (View.readAt (Elt Ideal) arg13.view (Rect.unit (s := S512x1) ![0, 0] S512x1.size inb_S512x1_S512x1_0_0).toLoadRect X13) (View.readAt (Elt Ideal) arg14.view (Rect.unit (s := S512x1) ![0, 0] S512x1.size inb_S512x1_S512x1_0_0).toLoadRect X14)) (View.readAt (Elt Ideal) arg15.view (Rect.unit (s := S512x128) ![0, 0] S512x128.size inb_S512x128_S512x128_0_0).toLoadRect f15)⟩])) := by
  obtain ⟨h9, h10, h15⟩ := h
  have eQ := whole_load arg11.view X11 inb_S512x128_S512x128_0_0
  have eD := whole_load arg12.view X12 inb_S512x128_S512x128_0_0
  have eL := whole_load arg13.view X13 inb_S512x1_S512x1_0_0
  have eM := whole_load arg14.view X14 inb_S512x1_S512x1_0_0
  have eA := whole_load arg15.view f15 inb_S512x128_S512x128_0_0
  rw [eQ, eD, eL, eM, eA]
  have hC (j : Fin 2048) (l : Fin 128) := chunk_load arg6.view X6 k ho hk j l
  have hE (j : Fin 2048) (l : Fin 128) := chunk_load arg7.view X7 k ho hk j l
  have hw := wgt_key k _ _ hC (arg11.view.read (Elt Ideal) X11) (arg13.view.read (Elt Ideal) X13)
  have hs := slope_key k _ _ _ _ hC hE (arg11.view.read (Elt Ideal) X11) (arg12.view.read (Elt Ideal) X12) (arg13.view.read (Elt Ideal) X13) (arg14.view.read (Elt Ideal) X14)
  refine ⟨fun j l => ?_, fun j l => ?_, fun r l => ?_⟩
  · refine (chunk_store arg9.view f9 k ho hk _ j l).trans (Eq.trans ?_ (grow (Y9 (ix3 0 j l)) _))
    by_cases h : 2048 * k.val ≤ j.val ∧ j.val < 2048 * k.val + 2048
    · rw [dif_pos h, dif_pos h]
      refine (pay1_at _ _ _ _ _ _ _ _ l).trans ?_
      refine congrArg₂ (fun a b : EReal => a + b) ((chunk_load arg9.view f9 k ho hk _ l).trans ((congrArg (fun j => arg9.view.read (Elt Ideal) f9 (ix3 0 j l)) (key_back k j h)).trans (h9 j l))) ?_
      refine Finset.sum_congr rfl fun r _ => congrArg (fun b : EReal => b * _) ((hs r _).trans ?_)
      rw [key_back k j h]
    · rw [dif_neg h, dif_neg h]; exact h9 j l
  · refine (chunk_store arg10.view f10 k ho hk _ j l).trans (Eq.trans ?_ (grow (Y10 (ix3 0 j l)) _))
    by_cases h : 2048 * k.val ≤ j.val ∧ j.val < 2048 * k.val + 2048
    · rw [dif_pos h, dif_pos h]
      refine (pay7_at _ _ _ _ _ _ l).trans ?_
      refine congrArg₂ (fun a b : EReal => a + b) ((chunk_load arg10.view f10 k ho hk _ l).trans ((congrArg (fun j => arg10.view.read (Elt Ideal) f10 (ix3 0 j l)) (key_back k j h)).trans (h10 j l))) ?_
      refine Finset.sum_congr rfl fun r _ => congrArg (fun b : EReal => b * _) ((hw r _).trans ?_)
      rw [key_back k j h]
    · rw [dif_neg h, dif_neg h]; exact h10 j l
  · refine (congrFun (View.read_writes_full arg15.view f15 inb_S512x128_S512x128_0_0 _ []) _).trans ?_
    refine (pay2_at _ _ _ _ _ _ _ r l).trans ?_
    rw [h15 r l, add_assoc, show 2048 * (k.val + 1) = 2048 * k.val + 2048 from rfl, Finset.sum_range_add]
    refine congrArg (fun b : EReal => _ + (_ + b)) ?_
    rw [Finset.sum_range]
    refine Finset.sum_congr rfl fun j _ => ?_
    refine Eq.trans ?_ (dif_pos (key k j).isLt).symm
    exact congrArg₂ (fun a b : EReal => a * b) (hs r j) (hC j l)

/-- The first `n` trips of loop 1. -/
theorem trips1 (v2 : IVec S256x128 1) (w0 w1 : BitVec 32) (f9 : BufTy.Contents (Elt Ideal) arg9.view.ty) (f10 : BufTy.Contents (Elt Ideal) arg10.view.ty) (f15 : BufTy.Contents (Elt Ideal) arg15.view.ty) : ∀ n : ℕ, n ≤ 4 → After n (arg6.view.read (Elt Ideal) X6) (arg7.view.read (Elt Ideal) X7) (arg11.view.read (Elt Ideal) X11) (arg12.view.read (Elt Ideal) X12) (arg13.view.read (Elt Ideal) X13) (arg14.view.read (Elt Ideal) X14) (arg9.view.read (Elt Ideal) f9) (arg10.view.read (Elt Ideal) f10) (arg15.view.read (Elt Ideal) f15)
      (arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 f9 f10 f15 n).1)) (arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 f9 f10 f15 n).2.1)) (arg15.view.read (Elt Ideal) (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 f9 f10 f15 n).2.2))
  | 0, _ => ⟨fun j l => by rw [if_neg (by omega), add_zero]; rfl, fun j l => by rw [if_neg (by omega), add_zero]; rfl, fun r l => by rw [Nat.mul_zero, Finset.range_zero, Finset.sum_empty, add_zero]; rfl⟩
  | n + 1, hn => by
    have ht : k0_t1_loop.trips = 4 := by decide +kernel
    have ih := trips1 v2 w0 w1 f9 f10 f15 n (by omega)
    have s := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 f9 f10 f15 ⟨n, by rw [ht]; omega⟩
    rw [trip1_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 ⟨n, by rw [ht]; omega⟩ _ _ _ (k0_off1_inb _)] at s
    have s' : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 w0 w1 X6 X7 X11 X12 X13 X14 f9 f10 f15 (n + 1) = _ := s
    rw [s', View.writes_append, View.writes_append, View.writes_append]
    exact step arg6 arg7 arg9 arg10 arg11 arg12 arg13 arg14 arg15 X6 X7 X11 X12 X13 X14 ⟨n, by omega⟩ (k0_off1_eq ⟨n, by rw [ht]; omega⟩) _ _ _ _ _ _ _ ih

/-- The first `n` trips of loop 2. -/
theorem trips2 (f9 : BufTy.Contents (Elt Ideal) arg9.view.ty) (f10 : BufTy.Contents (Elt Ideal) arg10.view.ty) (f15 : BufTy.Contents (Elt Ideal) arg15.view.ty) : ∀ n : ℕ, n ≤ 4 → After n (arg6.view.read (Elt Ideal) X6) (arg7.view.read (Elt Ideal) X7) (arg11.view.read (Elt Ideal) X11) (arg12.view.read (Elt Ideal) X12) (arg13.view.read (Elt Ideal) X13) (arg14.view.read (Elt Ideal) X14) (arg9.view.read (Elt Ideal) f9) (arg10.view.read (Elt Ideal) f10) (arg15.view.read (Elt Ideal) f15)
      (arg9.view.read (Elt Ideal) (arg9.view.writes (Elt Ideal) f9 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 f9 f10 f15 n).1)) (arg10.view.read (Elt Ideal) (arg10.view.writes (Elt Ideal) f10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 f9 f10 f15 n).2.1)) (arg15.view.read (Elt Ideal) (arg15.view.writes (Elt Ideal) f15 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 f9 f10 f15 n).2.2))
  | 0, _ => ⟨fun j l => by rw [if_neg (by omega), add_zero]; rfl, fun j l => by rw [if_neg (by omega), add_zero]; rfl, fun r l => by rw [Nat.mul_zero, Finset.range_zero, Finset.sum_empty, add_zero]; rfl⟩
  | n + 1, hn => by
    have ht : k0_t2_loop.trips = 4 := by decide +kernel
    have ih := trips2 f9 f10 f15 n (by omega)
    have s := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 f9 f10 f15 ⟨n, by rw [ht]; omega⟩
    rw [trip2_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 ⟨n, by rw [ht]; omega⟩ _ _ _ (k0_off2_inb _)] at s
    have s' : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X6 X7 X11 X12 X13 X14 f9 f10 f15 (n + 1) = _ := s
    rw [s', View.writes_append, View.writes_append, View.writes_append]
    exact step arg6 arg7 arg9 arg10 arg11 arg12 arg13 arg14 arg15 X6 X7 X11 X12 X13 X14 ⟨n, by omega⟩ (k0_off2_eq ⟨n, by rw [ht]; omega⟩) _ _ _ _ _ _ _ ih

end Cert.FlashABwdIdeal.Val

end
-- ==== Proof.FlashBwdLayout.lean ====
/-
  The layouts of the attention's backward kernel, over the extended reals: the two heads of a plane stacked above one another with
  their lanes padded by zeros, the rows' logarithms and corrections in a column, and the finished rows taken apart again.
-/
module

public import Idealize.ShloMosaic.Lib.KernelVsHost
public import proofs.«01_k».proof.Proof.FlashBwdState

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.Prods

/-- Row `r` of half `u` of a stack, and lane `d` of half `u` of a row. -/
def row (u : Fin 2) (r : Fin 256) : Fin 512 := ⟨256 * u.val + r.val, block_lt rfl u r⟩
def lane (u : Fin 2) (d : Fin 64) : Fin 128 := ⟨64 * u.val + d.val, block_lt rfl u d⟩

theorem bitsZero : Ideal.ofBits .f32 0x00000000#32 = (0 : EReal) := by norm_num [Ideal.ofBits, Ideal.ieee]

theorem one_ne {h : 1 < 2} : ¬ (⟨1, h⟩ : Fin 2) = 0 := fun e => Nat.one_ne_zero (congrArg Fin.val e)

theorem mask_low {α : Type} (l : Fin 128) (a b : α) (r : Fin 256) : Scalar.select (k0_pay16 (ix2 r l)) a b = if l.val < 64 then a else b := by
  have h : ∀ l : Fin 128, (IntOp.cmpi .slt (BitVec.ofNat 32 l.val) 64#32 = 1#1 ↔ l.val < 64) := by decide
  have e : k0_pay16 (ix2 r l) = IntOp.cmpi .slt (BitVec.ofNat 32 l.val) 64#32 := by
    unfold k0_pay16
    show IntOp.cmpi .slt (iota .tc S256x128 32 [1] iota_S256x128_d1_w32 (ix2 r l)) 64#32 = _
    rw [iota_single_apply]
  rw [e]
  unfold Scalar.select
  exact if_congr (h l) rfl rfl

theorem mask_at {α : Type} (a b : α) (r : Fin 256) (u : Fin 2) (d : Fin 64) :
    Scalar.select (k0_pay16 (ix2 r (lane u d))) a b = if u = 0 then a else b := by
  refine (mask_low _ _ _ r).trans (if_congr ?_ rfl rfl)
  have := d.isLt
  match u with
  | ⟨0, _⟩ => exact ⟨fun _ => rfl, fun _ => (by show 64 * 0 + d.val < 64; omega)⟩
  | ⟨1, _⟩ => exact ⟨fun h => absurd h (by show ¬ 64 * 1 + d.val < 64; omega), fun h => absurd h one_ne⟩

/-! ## Stacking a plane's two heads -/

theorem pay19_at (x : Vec Ideal S256x128 .bf16) (u : Fin 2) (r : Fin 256) (l : Fin 128) :
    ((k0_pay19 x : Rows) (ix2 (row u r) l) : EReal) = if h : l.val < 64 then x (ix2 r (lane u ⟨l.val, h⟩)) * Ideal.ofBits .f32 0x3E000000#32 else 0 := by
  unfold k0_pay19
  refine (same _ _ _).trans ?_
  match u with
  | ⟨0, _⟩ =>
    refine (concatenate_pair_apply_left (t := S512x128) (s₁ := S256x128) (s₂ := S256x128) 0 _ _ concatenates_S256x128_S256x128_S512x128_d0 (ix2 (row 0 r) l) rfl (ix2 r l) fun b => ?_).trans ?_
    · match b with
      | ⟨0, _⟩ => show r.val = 256 * 0 + r.val; omega
      | ⟨1, _⟩ => rfl
    · refine (mask_low l _ _ r).trans ?_
      by_cases h : l.val < 64
      · rw [if_pos h, dif_pos h]
        refine congrArg (fun a : EReal => a * _) ((same x _ _).trans (congrArg x (congrArg (ix2 r) (Fin.ext ?_))))
        show l.val = 64 * 0 + l.val; omega
      · rw [if_neg h, dif_neg h]; exact bitsZero
  | ⟨1, _⟩ =>
    refine (concatenate_pair_apply_right (t := S512x128) (s₁ := S256x128) (s₂ := S256x128) 0 _ _ concatenates_S256x128_S256x128_S512x128_d0 (ix2 (row 1 r) l) rfl rfl (ix2 r l) (fun b hb => ?_) ?_).trans ?_
    · match b with
      | ⟨0, _⟩ => exact absurd rfl hb
      | ⟨1, _⟩ => rfl
    · show r.val + 256 = 256 * 1 + r.val; omega
    · refine (mask_low l _ _ r).trans ?_
      by_cases h : l.val < 64
      · rw [if_pos h, dif_pos h]
        refine (dynamicRotate_apply 1 64#32 _ _ (ix2 r l) (ix2 r (lane 1 ⟨l.val, h⟩)) fun b => ?_).trans ?_
        · match b with
          | ⟨0, _⟩ => rfl
          | ⟨1, _⟩ => show 64 * 1 + l.val = (l.val + 128 - 64 % 128) % 128; omega
        · exact congrArg (fun a : EReal => a * _) (same x _ _)
      · rw [if_neg h, dif_neg h]; exact bitsZero

theorem pay20_at (x : Vec Ideal S256x128 .f32) (u : Fin 2) (r : Fin 256) (l : Fin 128) :
    ((k0_pay20 x : Rows) (ix2 (row u r) l) : EReal) = if h : l.val < 64 then x (ix2 r (lane u ⟨l.val, h⟩)) else 0 := by
  unfold k0_pay20
  refine (same _ _ _).trans ?_
  match u with
  | ⟨0, _⟩ =>
    refine (concatenate_pair_apply_left (t := S512x128) (s₁ := S256x128) (s₂ := S256x128) 0 _ _ concatenates_S256x128_S256x128_S512x128_d0 (ix2 (row 0 r) l) rfl (ix2 r l) fun b => ?_).trans ?_
    · match b with
      | ⟨0, _⟩ => show r.val = 256 * 0 + r.val; omega
      | ⟨1, _⟩ => rfl
    · refine (mask_low l _ _ r).trans ?_
      by_cases h : l.val < 64
      · rw [if_pos h, dif_pos h]
        refine congrArg x (congrArg (ix2 r) (Fin.ext ?_))
        show l.val = 64 * 0 + l.val; omega
      · rw [if_neg h, dif_neg h]; exact bitsZero
  | ⟨1, _⟩ =>
    refine (concatenate_pair_apply_right (t := S512x128) (s₁ := S256x128) (s₂ := S256x128) 0 _ _ concatenates_S256x128_S256x128_S512x128_d0 (ix2 (row 1 r) l) rfl rfl (ix2 r l) (fun b hb => ?_) ?_).trans ?_
    · match b with
      | ⟨0, _⟩ => exact absurd rfl hb
      | ⟨1, _⟩ => rfl
    · show r.val + 256 = 256 * 1 + r.val; omega
    · refine (mask_low l _ _ r).trans ?_
      by_cases h : l.val < 64
      · rw [if_pos h, dif_pos h]
        refine (dynamicRotate_apply 1 64#32 _ _ (ix2 r l) (ix2 r (lane 1 ⟨l.val, h⟩)) fun b => ?_).trans ?_
        · match b with
          | ⟨0, _⟩ => rfl
          | ⟨1, _⟩ => show 64 * 1 + l.val = (l.val + 128 - 64 % 128) % 128; omega
        · rfl
      · rw [if_neg h, dif_neg h]; exact bitsZero

theorem pay29_at (x : Vec Ideal S256x128 .bf16) : k0_pay29 k0_pay16 x = (k0_pay19 x : Rows) := rfl
theorem pay30_at (x : Vec Ideal S256x128 .f32) : k0_pay30 k0_pay16 x = (k0_pay20 x : Rows) := rfl

/-! ## A column from the lanes of two heads -/

theorem stacked (x0 x1 : Vec Ideal S256x1 .f32) (u : Fin 2) (r : Fin 256) :
    concatenate S512x1 0 [⟨S256x1, x0⟩, ⟨S256x1, x1⟩] concatenates_S256x1_S256x1_S512x1_d0 (ix2 (row u r) 0) = if u = 0 then x0 (ix2 r 0) else x1 (ix2 r 0) := by
  match u with
  | ⟨0, _⟩ =>
    refine (concatenate_pair_apply_left (t := S512x1) (s₁ := S256x1) (s₂ := S256x1) 0 _ _ concatenates_S256x1_S256x1_S512x1_d0 (ix2 (row 0 r) 0) rfl (ix2 r 0) fun b => ?_).trans (if_pos rfl).symm
    match b with
    | ⟨0, _⟩ => show r.val = 256 * 0 + r.val; omega
    | ⟨1, _⟩ => rfl
  | ⟨1, _⟩ =>
    refine (concatenate_pair_apply_right (t := S512x1) (s₁ := S256x1) (s₂ := S256x1) 0 _ _ concatenates_S256x1_S256x1_S512x1_d0 (ix2 (row 1 r) 0) rfl rfl (ix2 r 0) (fun b hb => ?_) ?_).trans (if_neg one_ne).symm
    · match b with
      | ⟨0, _⟩ => exact absurd rfl hb
      | ⟨1, _⟩ => rfl
    · show r.val + 256 = 256 * 1 + r.val; omega

/-- A sum over 128 lanes, by its two halves. -/
theorem lanes (f : Fin 128 → EReal) : ∑ l : Fin 128, f l = ∑ d : Fin 64, f (lane 0 d) + ∑ d : Fin 64, f (lane 1 d) := by
  refine (Fin.sum_univ_add (a := 64) (b := 64) f).trans (congrArg₂ (fun a b : EReal => a + b) ?_ ?_)
  · exact Finset.sum_congr rfl fun d _ => congrArg f (Fin.ext (by show d.val = 64 * 0 + d.val; omega))
  · exact Finset.sum_congr rfl fun d _ => congrArg f (Fin.ext (by show 64 + d.val = 64 * 1 + d.val; omega))

/-- The sum of products of the lanes of a head. -/
theorem pay23_at (x : Vec Ideal S256x128 .f32) (y : Vec Ideal S256x128 .bf16) (u : Fin 2) (r : Fin 256) :
    k0_pay23 k0_pay16 (k0_pay21 x y) (k0_pay22 x y) (ix2 (row u r) 0)
      = (∑ d : Fin 64, x (ix2 r (lane u d)) * y (ix2 r (lane u d))) * Ideal.ofBits .f32 0x3C800000#32 * Ideal.ofBits .f32 0x42800000#32 := by
  have hz (g : Fin 64 → EReal) (hg : ∀ d, g d = 0) : ∑ d : Fin 64, g d = 0 := Finset.sum_eq_zero fun d _ => hg d
  have hp (l : Fin 128) : k0_pay21 x y (ix2 r l) = x (ix2 r l) * y (ix2 r l) := by
    unfold k0_pay21
    exact congrArg (fun b : EReal => _ * b) (same y _ _)
  unfold k0_pay23
  refine (same _ _ _).trans (congrArg (fun a : EReal => a * _) ((stacked _ _ u r).trans ?_))
  match u with
  | ⟨0, _⟩ =>
    refine (if_pos rfl).trans (congrArg (fun a : EReal => a * _) ((toCol _ _ r).trans ((rowSum _ _ _ _ _ r).trans ((lanes _).trans ?_))))
    refine (congrArg₂ (fun a b : EReal => a + b) (Finset.sum_congr rfl fun d _ => ?_) (hz _ fun d => ?_)).trans (add_zero _)
    · unfold k0_pay22
      exact (mask_at _ _ r 0 d).trans ((if_pos rfl).trans (hp _))
    · unfold k0_pay22
      exact (mask_at _ _ r 1 d).trans ((if_neg one_ne).trans bitsZero)
  | ⟨1, _⟩ =>
    refine (if_neg one_ne).trans (congrArg (fun a : EReal => a * _) ((toCol _ _ r).trans ((rowSum _ _ _ _ _ r).trans ((lanes _).trans ?_))))
    refine (congrArg₂ (fun a b : EReal => a + b) (hz _ fun d => ?_) (Finset.sum_congr rfl fun d _ => ?_)).trans (zero_add _)
    · exact (mask_at _ _ r 0 d).trans ((if_pos rfl).trans bitsZero)
    · exact (mask_at _ _ r 1 d).trans ((if_neg one_ne).trans (hp _))

theorem pay32_at (x : Vec Ideal S256x128 .f32) (y : Vec Ideal S256x128 .bf16) : k0_pay32 k0_pay16 x (k0_pay31 y) = (k0_pay23 k0_pay16 (k0_pay21 x y) (k0_pay22 x y) : Col) := rfl

/-- The greatest entry of each row. -/
theorem rowMax {n d : Nat} (v : FVec Ideal ⟨2, ![n, d]⟩ .f32) (h : (⟨2, ![n, d]⟩ : Shape).Reduces [1] ⟨1, ![n]⟩) (hφ : FKind.Formats FTy.f32)
    (ha : 0xFF800000#32 = FKind.maximumf.neutral FTy.f32 hφ) (r : Fin n) :
    multiReduction .maximumf [1] ⟨1, ![n]⟩ v 0xFF800000#32 h hφ ha (ix1 r) = (Finset.univ : Finset (Fin d)).fold max ⊥ fun k => (v (ix2 r k) : EReal) := by
  refine (Ideal.multiReduction_maximumf_single v _ h hφ ha (ix1 r)).trans ?_
  refine (congrArg (fun b : EReal => (Finset.univ : Finset (Fin d)).fold max b _) Online.bitsBot).trans ?_
  refine Finset.fold_congr fun k _ => congrArg v (funext fun a => Fin.ext (by match a with | ⟨0, _⟩ => rfl | ⟨1, _⟩ => rfl))

/-- The greatest of lanes that are all at most one of them. -/
theorem fold_top (f : Fin 128 → EReal) (y : EReal) (l : Fin 128) (hl : f l = y) (h : ∀ l, f l ≤ y) : Finset.univ.fold max ⊥ f = y :=
  le_antisymm ((Finset.fold_max_le _).mpr ⟨bot_le, fun l _ => h l⟩) ((Finset.le_fold_max _).mpr (Or.inr ⟨l, Finset.mem_univ l, hl.ge⟩))

theorem lane_split {P : Fin 128 → Prop} (h : ∀ u d, P (lane u d)) (l : Fin 128) : P l := by
  have e : l = lane ⟨l.val / 64, by have := l.isLt; omega⟩ ⟨l.val % 64, Nat.mod_lt _ (by decide)⟩ := Fin.ext (by show l.val = 64 * (l.val / 64) + l.val % 64; omega)
  rw [e]; exact h _ _

/-- The logarithm that all lanes of a head hold. -/
theorem pay24_at (x : Vec Ideal S256x128 .f32) (u : Fin 2) (r : Fin 256) (y : EReal) (hx : ∀ d, x (ix2 r (lane u d)) = y) (hB : Ideal.ofBits .f32 0xF2FC6F7C#32 ≤ y) :
    k0_pay24 k0_pay16 x (ix2 (row u r) 0) = y := by
  unfold k0_pay24
  refine (same _ _ _).trans ((stacked _ _ u r).trans ?_)
  match u with
  | ⟨0, _⟩ =>
    refine (if_pos rfl).trans ((toCol _ _ r).trans ((rowMax _ _ _ _ r).trans (fold_top _ y (lane 0 0) ?_ (lane_split fun u d => ?_))))
    · exact (mask_at _ _ r 0 0).trans ((if_pos rfl).trans ((same x _ _).trans (hx 0)))
    · refine (le_of_eq (mask_at _ _ r u d)).trans ?_
      match u with
      | ⟨0, _⟩ => exact (le_of_eq ((if_pos rfl).trans ((same x _ _).trans (hx d))))
      | ⟨1, _⟩ => exact (le_of_eq (if_neg one_ne)).trans hB
  | ⟨1, _⟩ =>
    refine (if_neg one_ne).trans ((toCol _ _ r).trans ((rowMax _ _ _ _ r).trans (fold_top _ y (lane 1 0) ?_ (lane_split fun u d => ?_))))
    · exact (mask_at _ _ r 1 0).trans ((if_neg one_ne).trans ((same x _ _).trans (hx 0)))
    · refine (le_of_eq (mask_at _ _ r u d)).trans ?_
      match u with
      | ⟨0, _⟩ => exact (le_of_eq (if_pos rfl)).trans hB
      | ⟨1, _⟩ => exact (le_of_eq ((if_neg one_ne).trans ((same x _ _).trans (hx d))))

theorem pay33_at (x : Vec Ideal S256x128 .f32) : k0_pay33 k0_pay16 x = (k0_pay24 k0_pay16 x : Col) := rfl

/-! ## The finished rows -/

theorem pay28_at (A : Vec Ideal S512x128 .f32) (r : Fin 256) (u : Fin 2) (d : Fin 64) :
    k0_pay28 k0_pay16 A (ix2 r (lane u d)) = A (ix2 (row u r) (d.castLE (by decide))) * Ideal.ofBits .f32 0x3E000000#32 := by
  unfold k0_pay28
  refine congrArg (fun a : EReal => a * _) ((mask_at _ _ r u d).trans ?_)
  match u with
  | ⟨0, _⟩ =>
    refine (if_pos rfl).trans ?_
    refine extractStridedSlice_apply (s := S512x128) (t := S256x128) _ _ _ _ (ix2 (row 0 r) (d.castLE (by decide : 64 ≤ 128))) fun a => ?_
    match a with
    | ⟨0, _⟩ => show 256 * 0 + r.val = 0 + r.val; omega
    | ⟨1, _⟩ => show d.val = 0 + (64 * 0 + d.val); omega
  | ⟨1, _⟩ =>
    refine (if_neg one_ne).trans ?_
    refine Eq.trans (dynamicRotate_apply 1 64#32 _ _ (ix2 r (lane 1 d)) (ix2 r (d.castLE (by decide : 64 ≤ 128))) fun b => ?_) ?_
    · match b with
      | ⟨0, _⟩ => rfl
      | ⟨1, _⟩ => show d.val = (64 * 1 + d.val + 128 - 64 % 128) % 128; have := d.isLt; omega
    · refine extractStridedSlice_apply (s := S512x128) (t := S256x128) _ _ _ _ (ix2 (row 1 r) (d.castLE (by decide : 64 ≤ 128))) fun a => ?_
      match a with
      | ⟨0, _⟩ => show 256 * 1 + r.val = 256 + r.val; omega
      | ⟨1, _⟩ => show d.val = 0 + d.val; omega

theorem pay3_at (A : Vec Ideal S512x128 .f32) : k0_pay3 k0_pay16 A = (k0_pay28 k0_pay16 A : Vec Ideal S256x128 .f32) := rfl

theorem pay17_at (j : Fin 8192) (l : Fin 128) : k0_pay17 (F := Ideal) (ix3 0 j l) = (0 : EReal) := by
  unfold k0_pay17
  exact (addLead _ _ j l).trans bitsZero

theorem pay18_at (j : Fin 8192) (l : Fin 128) : k0_pay18 (F := Ideal) (ix3 0 j l) = (0 : EReal) := by
  unfold k0_pay18
  exact (addLead _ _ j l).trans bitsZero

theorem pay25_at (r : Fin 512) (l : Fin 128) : k0_pay25 (F := Ideal) (ix2 r l) = (0 : EReal) := by
  unfold k0_pay25
  exact (same _ _ _).trans bitsZero

theorem pay34_at (r : Fin 512) (l : Fin 128) : k0_pay34 (F := Ideal) (ix2 r l) = (0 : EReal) := by
  unfold k0_pay34
  exact (same _ _ _).trans bitsZero

/-! ## Two column halves -/

/-- A block whose two column halves are both written, read at an entry. -/
theorem halves {e : EltTy} (h0 : ∀ a, (![0, 0] : Fin 2 → Nat) a + S256x128.size a ≤ S256x256.size a) (h1 : ∀ a, (![0, 128] : Fin 2 → Nat) a + S256x128.size a ≤ S256x256.size a)
    (u0 u1 : Vec Ideal S256x128 e) (p : Fin 2) (r : Fin 256) (l : Fin 128) (q : Fin 256) (hq : q.val = 128 * p.val + l.val) :
    View.canon [(⟨Rect.unit (s := S256x256) ![0, 128] S256x128.size h1, u1⟩ : View.Piece (Elt Ideal) S256x256 e), ⟨Rect.unit (s := S256x256) ![0, 0] S256x128.size h0, u0⟩] (ix2 r q)
      = if p = 0 then u0 (ix2 r l) else u1 (ix2 r l) := by
  let G : Vec Ideal S256x256 e := fun y => if h : (y 1).val < 128 then u0 (ix2 (y 0 : Fin 256) (⟨(y 1).val, h⟩ : Fin 128))
    else u1 (ix2 (y 0 : Fin 256) (⟨(y 1).val - 128, by have : (y 1).val < 256 := (y 1).isLt; omega⟩ : Fin 128))
  have hx (x : S256x128.Idx) : x = ix2 (x 0 : Fin 256) (x 1 : Fin 128) := funext fun a => by
    match a with
    | ⟨0, _⟩ => rfl
    | ⟨1, _⟩ => rfl
  have hc : ∀ y : S256x256.Idx, ∃ q ∈ [(⟨Rect.unit (s := S256x256) ![0, 128] S256x128.size h1, u1⟩ : View.Piece (Elt Ideal) S256x256 e), ⟨Rect.unit (s := S256x256) ![0, 0] S256x128.size h0, u0⟩], y ∈ q.1.set := fun y => by
    have b0 : (y 0).val < 256 := (y 0).isLt
    have b1 : (y 1).val < 256 := (y 1).isLt
    rcases Nat.lt_or_ge (y 1).val 128 with hy | hy
    · refine ⟨_, List.mem_cons_of_mem _ (List.mem_singleton.mpr rfl), ?_⟩
      rw [Rect.mem_set_unit]
      intro a
      match a with
      | ⟨0, _⟩ => show 0 ≤ (y 0).val ∧ (y 0).val < 0 + 256; omega
      | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 256; omega
      | ⟨1, _⟩ => show 128 ≤ (y 1).val ∧ (y 1).val < 128 + 128; omega
  refine (View.canon_apply_of_pieces G _ (View.PiecesOf.mem (G := G)
    (L := [(⟨Rect.unit (s := S256x256) ![0, 128] S256x128.size h1, u1⟩ : View.Piece (Elt Ideal) S256x256 e), ⟨Rect.unit (s := S256x256) ![0, 0] S256x128.size h0, u0⟩]) ⟨?_, ?_, trivial⟩) _ (hc _)).trans ?_
  rotate_right
  · match p with
    | ⟨0, _⟩ =>
      have hl := l.isLt
      have hl' : q.val < 128 := by have : q.val = 128 * 0 + l.val := hq; omega
      refine (dif_pos (c := q.val < 128) hl').trans (congrArg (fun a : Fin 128 => u0 (ix2 r a)) (Fin.ext ?_))
      have : q.val = 128 * 0 + l.val := hq
      show q.val = l.val; omega
    | ⟨1, _⟩ =>
      have hl := l.isLt
      have hl' : ¬ q.val < 128 := by have : q.val = 128 * 1 + l.val := hq; omega
      refine (dif_neg (c := q.val < 128) hl').trans (congrArg (fun a : Fin 128 => u1 (ix2 r a)) (Fin.ext ?_))
      have : q.val = 128 * 1 + l.val := hq
      show q.val - 128 = l.val; omega
  · intro x
    have b1 : (x 1).val < 128 := (x 1).isLt
    have e0 : (((Rect.unit (s := S256x256) ![0, 128] S256x128.size h1).emb x) 0 : Fin 256) = x 0 := Fin.ext (by show 0 + 1 * (x 0).val = (x 0).val; omega)
    have e1 : (((Rect.unit (s := S256x256) ![0, 128] S256x128.size h1).emb x) 1).val = 128 + (x 1).val := (by show 128 + 1 * (x 1).val = 128 + (x 1).val; omega)
    refine Eq.trans ?_ ((dif_neg (c := (((Rect.unit (s := S256x256) ![0, 128] S256x128.size h1).emb x) 1).val < 128) (by rw [e1]; omega)).symm)
    exact congrArg u1 ((hx x).trans (congrArg₂ (fun a b => ix2 a b) e0.symm (Fin.ext (by show (x 1).val = (((Rect.unit (s := S256x256) ![0, 128] S256x128.size h1).emb x) 1).val - 128; rw [e1]; omega))))
  · intro x
    have b1 : (x 1).val < 128 := (x 1).isLt
    have e0 : (((Rect.unit (s := S256x256) ![0, 0] S256x128.size h0).emb x) 0 : Fin 256) = x 0 := Fin.ext (by show 0 + 1 * (x 0).val = (x 0).val; omega)
    have e1 : (((Rect.unit (s := S256x256) ![0, 0] S256x128.size h0).emb x) 1).val = (x 1).val := (by show 0 + 1 * (x 1).val = (x 1).val; omega)
    refine Eq.trans ?_ ((dif_pos (c := (((Rect.unit (s := S256x256) ![0, 0] S256x128.size h0).emb x) 1).val < 128) (by rw [e1]; omega)).symm)
    exact congrArg u0 ((hx x).trans (congrArg₂ (fun a b => ix2 a b) e0.symm (Fin.ext e1.symm)))

end Cert.FlashABwdIdeal.Val

end
-- ==== Proof.FlashBwdBlock.lean ====
/-
  A point of the attention's backward kernel, over the extended reals: what it leaves in the three gradients' buffers, from the rows
  it stacks and the two planes' trips.
-/
module

public import proofs.«01_k».proof.Proof.FlashBwdLayout

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.Prods

variable (c : Dev nD) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole)
  (x0 : Vec Ideal S256x256 .bf16) (x1 : Vec Ideal S256x256 .f32) (x2 : Vec Ideal S256x256 .bf16) (x3 : Vec Ideal S256x256 .f32) (x4 : Vec Ideal S1x8192x128 .bf16) (x5 : Vec Ideal S1x8192x128 .bf16)

/-- The stacked queries, cotangents, logarithms and corrections of plane 0. -/
abbrev Q0 : Rows := k0_pay19 (F := Ideal) (View.readAt (Elt Ideal) arg2.view (Rect.unit (s := S256x256) ![0, 0] S256x128.size inb_S256x256_S256x128_0_0).toLoadRect (harg2.unread x0))
abbrev D0 : Rows := k0_pay20 (F := Ideal) (View.readAt (Elt Ideal) arg3.view (Rect.unit (s := S256x256) ![0, 0] S256x128.size inb_S256x256_S256x128_0_0).toLoadRect (harg3.unread x1))
abbrev L0 : Col := k0_pay24 (F := Ideal) k0_pay16 (View.readAt (Elt Ideal) arg5.view (Rect.unit (s := S256x256) ![0, 0] S256x128.size inb_S256x256_S256x128_0_0).toLoadRect (harg5.unread x3))
abbrev M0 : Col := k0_pay23 (F := Ideal) k0_pay16 (k0_pay21 (F := Ideal) (View.readAt (Elt Ideal) arg3.view (Rect.unit (s := S256x256) ![0, 0] S256x128.size inb_S256x256_S256x128_0_0).toLoadRect (harg3.unread x1)) (View.readAt (Elt Ideal) arg4.view (Rect.unit (s := S256x256) ![0, 0] S256x128.size inb_S256x256_S256x128_0_0).toLoadRect (harg4.unread x2))) (k0_pay22 (F := Ideal) (View.readAt (Elt Ideal) arg3.view (Rect.unit (s := S256x256) ![0, 0] S256x128.size inb_S256x256_S256x128_0_0).toLoadRect (harg3.unread x1)) (View.readAt (Elt Ideal) arg4.view (Rect.unit (s := S256x256) ![0, 0] S256x128.size inb_S256x256_S256x128_0_0).toLoadRect (harg4.unread x2)))

/-- The stacked queries, cotangents, logarithms and corrections of plane 1. -/
abbrev Q1 : Rows := k0_pay19 (F := Ideal) (View.readAt (Elt Ideal) arg2.view (Rect.unit (s := S256x256) ![0, 128] S256x128.size inb_S256x256_S256x128_0_128).toLoadRect (harg2.unread x0))
abbrev D1 : Rows := k0_pay20 (F := Ideal) (View.readAt (Elt Ideal) arg3.view (Rect.unit (s := S256x256) ![0, 128] S256x128.size inb_S256x256_S256x128_0_128).toLoadRect (harg3.unread x1))
abbrev L1 : Col := k0_pay24 (F := Ideal) k0_pay16 (View.readAt (Elt Ideal) arg5.view (Rect.unit (s := S256x256) ![0, 128] S256x128.size inb_S256x256_S256x128_0_128).toLoadRect (harg5.unread x3))
abbrev M1 : Col := k0_pay23 (F := Ideal) k0_pay16 (k0_pay21 (F := Ideal) (View.readAt (Elt Ideal) arg3.view (Rect.unit (s := S256x256) ![0, 128] S256x128.size inb_S256x256_S256x128_0_128).toLoadRect (harg3.unread x1)) (View.readAt (Elt Ideal) arg4.view (Rect.unit (s := S256x256) ![0, 128] S256x128.size inb_S256x256_S256x128_0_128).toLoadRect (harg4.unread x2))) (k0_pay22 (F := Ideal) (View.readAt (Elt Ideal) arg3.view (Rect.unit (s := S256x256) ![0, 128] S256x128.size inb_S256x256_S256x128_0_128).toLoadRect (harg3.unread x1)) (View.readAt (Elt Ideal) arg4.view (Rect.unit (s := S256x256) ![0, 128] S256x128.size inb_S256x256_S256x128_0_128).toLoadRect (harg4.unread x2)))

/-- The scratch arrays in the first loop and in the second. -/
abbrev q1 : arg11.view.ty.Contents (Elt Ideal) := arg11.view.writes (Elt Ideal) arg11.view.junk [⟨Rect.unit (s := S512x128) ![0, 0] S512x128.size inb_S512x128_S512x128_0_0, Q0 arg2 harg2 x0⟩]
abbrev q2 : arg11.view.ty.Contents (Elt Ideal) := arg11.view.writes (Elt Ideal) arg11.view.junk [⟨Rect.unit (s := S512x128) ![0, 0] S512x128.size inb_S512x128_S512x128_0_0, Q1 arg2 harg2 x0⟩, ⟨Rect.unit (s := S512x128) ![0, 0] S512x128.size inb_S512x128_S512x128_0_0, Q0 arg2 harg2 x0⟩]
abbrev d1 : arg12.view.ty.Contents (Elt Ideal) := arg12.view.writes (Elt Ideal) arg12.view.junk [⟨Rect.unit (s := S512x128) ![0, 0] S512x128.size inb_S512x128_S512x128_0_0, D0 arg3 harg3 x1⟩]
abbrev d2 : arg12.view.ty.Contents (Elt Ideal) := arg12.view.writes (Elt Ideal) arg12.view.junk [⟨Rect.unit (s := S512x128) ![0, 0] S512x128.size inb_S512x128_S512x128_0_0, D1 arg3 harg3 x1⟩, ⟨Rect.unit (s := S512x128) ![0, 0] S512x128.size inb_S512x128_S512x128_0_0, D0 arg3 harg3 x1⟩]
abbrev l1 : arg13.view.ty.Contents (Elt Ideal) := arg13.view.writes (Elt Ideal) arg13.view.junk [⟨Rect.unit (s := S512x1) ![0, 0] S512x1.size inb_S512x1_S512x1_0_0, L0 arg5 harg5 x3⟩]
abbrev l2 : arg13.view.ty.Contents (Elt Ideal) := arg13.view.writes (Elt Ideal) arg13.view.junk [⟨Rect.unit (s := S512x1) ![0, 0] S512x1.size inb_S512x1_S512x1_0_0, L1 arg5 harg5 x3⟩, ⟨Rect.unit (s := S512x1) ![0, 0] S512x1.size inb_S512x1_S512x1_0_0, L0 arg5 harg5 x3⟩]
abbrev m1 : arg14.view.ty.Contents (Elt Ideal) := arg14.view.writes (Elt Ideal) arg14.view.junk [⟨Rect.unit (s := S512x1) ![0, 0] S512x1.size inb_S512x1_S512x1_0_0, M0 arg3 harg3 arg4 harg4 x1 x2⟩]
abbrev m2 : arg14.view.ty.Contents (Elt Ideal) := arg14.view.writes (Elt Ideal) arg14.view.junk [⟨Rect.unit (s := S512x1) ![0, 0] S512x1.size inb_S512x1_S512x1_0_0, M1 arg3 harg3 arg4 harg4 x1 x2⟩, ⟨Rect.unit (s := S512x1) ![0, 0] S512x1.size inb_S512x1_S512x1_0_0, M0 arg3 harg3 arg4 harg4 x1 x2⟩]
abbrev z15 : arg15.view.ty.Contents (Elt Ideal) := arg15.view.writes (Elt Ideal) arg15.view.junk [⟨Rect.unit (s := S512x128) ![0, 0] S512x128.size inb_S512x128_S512x128_0_0, k0_pay25 (F := Ideal)⟩]

/-- The first plane's trips, and the second's, on the gradients' buffers as they stand. -/
abbrev run1 (f9 : arg9.view.ty.Contents (Elt Ideal)) (f10 : arg10.view.ty.Contents (Elt Ideal)) :=
  pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay16 0#32 1#32 (harg6.unread x4) (harg7.unread x5) (q1 arg2 harg2 arg11 x0) (d1 arg3 harg3 arg12 x1) (l1 arg5 harg5 arg13 x3) (m1 arg3 harg3 arg4 harg4 arg14 x1 x2) f9 f10 (z15 arg15) (Scf.trips 0#32 (Scalar.addi 0#32 4#32) 1#32)
abbrev w15 (f9 : arg9.view.ty.Contents (Elt Ideal)) (f10 : arg10.view.ty.Contents (Elt Ideal)) : arg15.view.ty.Contents (Elt Ideal) :=
  arg15.view.writes (Elt Ideal) arg15.view.junk (⟨Rect.unit (s := S512x128) ![0, 0] S512x128.size inb_S512x128_S512x128_0_0, k0_pay34 (F := Ideal)⟩ :: ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.2 ++ [⟨Rect.unit (s := S512x128) ![0, 0] S512x128.size inb_S512x128_S512x128_0_0, k0_pay25 (F := Ideal)⟩]))
abbrev run2 (f9 : arg9.view.ty.Contents (Elt Ideal)) (f10 : arg10.view.ty.Contents (Elt Ideal)) (f9' : arg9.view.ty.Contents (Elt Ideal)) (f10' : arg10.view.ty.Contents (Elt Ideal)) :=
  pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg6.unread x4) (harg7.unread x5) (q2 arg2 harg2 arg11 x0) (d2 arg3 harg3 arg12 x1) (l2 arg5 harg5 arg13 x3) (m2 arg3 harg3 arg4 harg4 arg14 x1 x2) f9' f10' (w15 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10) (Scf.trips 0#32 (Scalar.addi 0#32 4#32) 1#32)

theorem trips_four : (Scf.trips 0#32 (Scalar.addi 0#32 4#32) 1#32) = 4 := by decide +kernel

theorem after1 (f9 : arg9.view.ty.Contents (Elt Ideal)) (f10 : arg10.view.ty.Contents (Elt Ideal)) :
    After 4 x4 x5 (Q0 arg2 harg2 x0) (D0 arg3 harg3 x1) (L0 arg5 harg5 x3) (M0 arg3 harg3 arg4 harg4 x1 x2) (arg9.view.read (Elt Ideal) f9) (arg10.view.read (Elt Ideal) f10) (k0_pay25 (F := Ideal)) (arg9.view.read (Elt Ideal) (arg9.view.writes (Elt Ideal) f9 (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).1)) (arg10.view.read (Elt Ideal) (arg10.view.writes (Elt Ideal) f10 (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.1)) (arg15.view.read (Elt Ideal) (arg15.view.writes (Elt Ideal) (z15 arg15) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.2)) := by
  have t := trips1 Variants.none c none i arg2 harg2 arg3 harg3 arg4 harg4 arg5 harg5 arg6 harg6 arg7 harg7 arg8 harg8 arg9 harg9 arg10 harg10 arg11 harg11 arg12 harg12 arg13 harg13 arg14 harg14 arg15 harg15 (harg6.unread x4) (harg7.unread x5) (q1 arg2 harg2 arg11 x0) (d1 arg3 harg3 arg12 x1) (l1 arg5 harg5 arg13 x3) (m1 arg3 harg3 arg4 harg4 arg14 x1 x2) k0_pay16 0#32 1#32 f9 f10 (z15 arg15) 4 le_rfl
  rw [harg6.read_unread x4, harg7.read_unread x5, View.read_writes_full arg11.view, View.read_writes_full arg12.view, View.read_writes_full arg13.view, View.read_writes_full arg14.view, View.read_writes_full arg15.view] at t
  rw [← trips_four] at t
  exact t

theorem after2 (f9 : arg9.view.ty.Contents (Elt Ideal)) (f10 : arg10.view.ty.Contents (Elt Ideal)) (f9' : arg9.view.ty.Contents (Elt Ideal)) (f10' : arg10.view.ty.Contents (Elt Ideal)) :
    After 4 x4 x5 (Q1 arg2 harg2 x0) (D1 arg3 harg3 x1) (L1 arg5 harg5 x3) (M1 arg3 harg3 arg4 harg4 x1 x2) (arg9.view.read (Elt Ideal) f9') (arg10.view.read (Elt Ideal) f10') (k0_pay34 (F := Ideal)) (arg9.view.read (Elt Ideal) (arg9.view.writes (Elt Ideal) f9' (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').1)) (arg10.view.read (Elt Ideal) (arg10.view.writes (Elt Ideal) f10' (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.1)) (arg15.view.read (Elt Ideal) (arg15.view.writes (Elt Ideal) (w15 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10) (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.2)) := by
  have t := trips2 Variants.none c none i arg2 harg2 arg3 harg3 arg4 harg4 arg5 harg5 arg6 harg6 arg7 harg7 arg8 harg8 arg9 harg9 arg10 harg10 arg11 harg11 arg12 harg12 arg13 harg13 arg14 harg14 arg15 harg15 (harg6.unread x4) (harg7.unread x5) (q2 arg2 harg2 arg11 x0) (d2 arg3 harg3 arg12 x1) (l2 arg5 harg5 arg13 x3) (m2 arg3 harg3 arg4 harg4 arg14 x1 x2) f9' f10' (w15 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10) 4 le_rfl
  rw [harg6.read_unread x4, harg7.read_unread x5, View.read_writes_full arg11.view, View.read_writes_full arg12.view, View.read_writes_full arg13.view, View.read_writes_full arg14.view, View.read_writes_full arg15.view] at t
  rw [← trips_four] at t
  exact t

/-- Both planes' trips, in the gradient of the keys. -/
theorem both9 (f9 : arg9.view.ty.Contents (Elt Ideal)) (f10 : arg10.view.ty.Contents (Elt Ideal)) (f9' : arg9.view.ty.Contents (Elt Ideal)) (f10' : arg10.view.ty.Contents (Elt Ideal))
    (e : f9' = arg9.view.writes (Elt Ideal) f9 (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).1) (j : Fin 8192) (l : Fin 128) :
    (arg9.view.read (Elt Ideal) (arg9.view.writes (Elt Ideal) f9' (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').1)) (ix3 0 j l) = (arg9.view.read (Elt Ideal) f9) (ix3 0 j l) + addK x4 x5 (Q0 arg2 harg2 x0) (D0 arg3 harg3 x1) (L0 arg5 harg5 x3) (M0 arg3 harg3 arg4 harg4 x1 x2) j l + addK x4 x5 (Q1 arg2 harg2 x0) (D1 arg3 harg3 x1) (L1 arg5 harg5 x3) (M1 arg3 harg3 arg4 harg4 x1 x2) j l := by
  have a := (after2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').1 j l
  have b := (after1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).1 j l
  rw [if_pos (show j.val < 2048 * 4 by have := j.isLt; omega)] at a b
  refine a.trans (congrArg (fun x : EReal => x + _) ?_)
  subst e
  exact b

/-- Both planes' trips, in the gradient of the values. -/
theorem both10 (f9 : arg9.view.ty.Contents (Elt Ideal)) (f10 : arg10.view.ty.Contents (Elt Ideal)) (f9' : arg9.view.ty.Contents (Elt Ideal)) (f10' : arg10.view.ty.Contents (Elt Ideal))
    (e : f10' = arg10.view.writes (Elt Ideal) f10 (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.1) (j : Fin 8192) (l : Fin 128) :
    (arg10.view.read (Elt Ideal) (arg10.view.writes (Elt Ideal) f10' (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.1)) (ix3 0 j l) = (arg10.view.read (Elt Ideal) f10) (ix3 0 j l) + addV x4 (Q0 arg2 harg2 x0) (D0 arg3 harg3 x1) (L0 arg5 harg5 x3) j l + addV x4 (Q1 arg2 harg2 x0) (D1 arg3 harg3 x1) (L1 arg5 harg5 x3) j l := by
  have a := (after2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.1 j l
  have b := (after1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.1 j l
  rw [if_pos (show j.val < 2048 * 4 by have := j.isLt; omega)] at a b
  refine a.trans (congrArg (fun x : EReal => x + _) ?_)
  subst e
  exact b

theorem rows1 (f9 : arg9.view.ty.Contents (Elt Ideal)) (f10 : arg10.view.ty.Contents (Elt Ideal)) (r : Fin 512) (l : Fin 128) :
    (arg15.view.read (Elt Ideal) (arg15.view.writes (Elt Ideal) (z15 arg15) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.2)) (ix2 r l) = ∑ j : Fin 8192, gradient x4 x5 (Q0 arg2 harg2 x0) (D0 arg3 harg3 x1) (L0 arg5 harg5 x3) (M0 arg3 harg3 arg4 harg4 x1 x2) r j * x4 (ix3 0 j l) := by
  refine ((after1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10).2.2 r l).trans ?_
  rw [pay25_at, zero_add, show 2048 * 4 = 8192 from rfl, Finset.sum_range]
  exact Finset.sum_congr rfl fun j _ => dif_pos j.isLt

theorem rows2 (f9 : arg9.view.ty.Contents (Elt Ideal)) (f10 : arg10.view.ty.Contents (Elt Ideal)) (f9' : arg9.view.ty.Contents (Elt Ideal)) (f10' : arg10.view.ty.Contents (Elt Ideal)) (r : Fin 512) (l : Fin 128) :
    (arg15.view.read (Elt Ideal) (arg15.view.writes (Elt Ideal) (w15 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10) (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.2)) (ix2 r l) = ∑ j : Fin 8192, gradient x4 x5 (Q1 arg2 harg2 x0) (D1 arg3 harg3 x1) (L1 arg5 harg5 x3) (M1 arg3 harg3 arg4 harg4 x1 x2) r j * x4 (ix3 0 j l) := by
  refine ((after2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 f9 f10 f9' f10').2.2 r l).trans ?_
  rw [pay34_at, zero_add, show 2048 * 4 = 8192 from rfl, Finset.sum_range]
  exact Finset.sum_congr rfl fun j _ => dif_pos j.isLt

/-- Lane `d` of head `u` of plane `p` in a block of queries. -/
def col (p u : Fin 2) (d : Fin 64) : Fin 256 := ⟨128 * p.val + (lane u d).val, block_lt rfl p (lane u d)⟩

/-- A whole array written, read back. -/
theorem plane_read {sig : RefSig} {κ : Kind} {sp : Space} {e : EltTy} (v : View sig κ sp S1x8192x128 e) (f : v.ty.Contents (Elt Ideal))
    (h : ∀ a, (![0, 0, 0] : Fin 3 → Nat) a + S1x8192x128.size a ≤ S1x8192x128.size a) (x : Vec Ideal S1x8192x128 e) :
    v.read (Elt Ideal) (v.writes (Elt Ideal) f [⟨Rect.unit (s := S1x8192x128) ![0, 0, 0] S1x8192x128.size h, x⟩]) = x := View.read_writes_full v f h x []

theorem listA7 (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1 = (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩]))).1 ++ ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩]) := by
  unfold kernelRun0_A
  rfl

theorem listA8 (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1 = (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩]))).2.1 ++ ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩]) := by
  unfold kernelRun0_A
  rfl

theorem listA6 (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1 = [⟨Rect.unit (s := S256x256) ![0, 128] S256x128.size inb_S256x256_S256x128_0_128, k0_pay3 (F := Ideal) k0_pay16 (arg15.view.readCov ((run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩]))).2.2 ++ ⟨Rect.unit (s := S512x128) ![0, 0] S512x128.size inb_S512x128_S512x128_0_0, k0_pay34 (F := Ideal)⟩ :: ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.2 ++ [⟨Rect.unit (s := S512x128) ![0, 0] S512x128.size inb_S512x128_S512x128_0_0, k0_pay25 (F := Ideal)⟩])) (Rect.unit (s := S512x128) ![0, 0] S512x128.size inb_S512x128_S512x128_0_0).toLoadRect)⟩,
      ⟨Rect.unit (s := S256x256) ![0, 0] S256x128.size inb_S256x256_S256x128_0_0, k0_pay28 (F := Ideal) k0_pay16 (arg15.view.readCov ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.2 ++ [⟨Rect.unit (s := S512x128) ![0, 0] S512x128.size inb_S512x128_S512x128_0_0, k0_pay25 (F := Ideal)⟩]) (Rect.unit (s := S512x128) ![0, 0] S512x128.size inb_S512x128_S512x128_0_0).toLoadRect)⟩] := by
  unfold kernelRun0_A
  rfl

/-- Case A's gradient of the keys. -/
theorem outA7 (hc0 : cond0_0 i) (j : Fin 8192) (l : Fin 128) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 j l) = addK x4 x5 (Q0 arg2 harg2 x0) (D0 arg3 harg3 x1) (L0 arg5 harg5 x3) (M0 arg3 harg3 arg4 harg4 x1 x2) j l + addK x4 x5 (Q1 arg2 harg2 x0) (D1 arg3 harg3 x1) (L1 arg5 harg5 x3) (M1 arg3 harg3 arg4 harg4 x1 x2) j l := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5), ← View.read_writes_eq_canon arg9.view arg9.view.junk _ (cover0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5), listA7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0, View.writes_append]
  refine (both9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩])) (View.writes_append _ _ _ _) j l).trans (congrArg (fun x : EReal => x + _) ?_)
  refine (congrArg (fun x : EReal => x + _) (((congrFun (plane_read arg9.view _ _ _) _).trans (pay17_at j l)))).trans (zero_add _)

/-- Case A's gradient of the values. -/
theorem outA8 (hc0 : cond0_0 i) (j : Fin 8192) (l : Fin 128) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 j l) = addV x4 (Q0 arg2 harg2 x0) (D0 arg3 harg3 x1) (L0 arg5 harg5 x3) j l + addV x4 (Q1 arg2 harg2 x0) (D1 arg3 harg3 x1) (L1 arg5 harg5 x3) j l := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5), ← View.read_writes_eq_canon arg10.view arg10.view.junk _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5), listA8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0, View.writes_append]
  refine (both10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩])) (View.writes_append _ _ _ _) j l).trans (congrArg (fun x : EReal => x + _) ?_)
  refine (congrArg (fun x : EReal => x + _) (((congrFun (plane_read arg10.view _ _ _) _).trans (pay18_at j l)))).trans (zero_add _)

/-- Case A's gradient of the queries. -/
theorem outA6 (hc0 : cond0_0 i) (p u : Fin 2) (r : Fin 256) (d : Fin 64) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 r (col p u d)) = (if p = 0 then ∑ j : Fin 8192, gradient x4 x5 (Q0 arg2 harg2 x0) (D0 arg3 harg3 x1) (L0 arg5 harg5 x3) (M0 arg3 harg3 arg4 harg4 x1 x2) (row u r) j * x4 (ix3 0 j (d.castLE (by decide)))
      else ∑ j : Fin 8192, gradient x4 x5 (Q1 arg2 harg2 x0) (D1 arg3 harg3 x1) (L1 arg5 harg5 x3) (M1 arg3 harg3 arg4 harg4 x1 x2) (row u r) j * x4 (ix3 0 j (d.castLE (by decide)))) * Ideal.ofBits .f32 0x3E000000#32 := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5), listA6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0]
  refine (halves _ _ _ _ p r (lane u d) (col p u d) rfl).trans ?_
  match p with
  | ⟨0, _⟩ =>
    refine (if_pos rfl).trans ((pay28_at _ r u d).trans (congrArg (fun a : EReal => a * _) (Eq.trans ?_ (if_pos rfl).symm)))
    refine (congrFun (whole_load arg15.view _ _) _).trans ?_
    rw [View.writes_append]
    exact rows1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) _ _
  | ⟨1, _⟩ =>
    refine (if_neg one_ne).trans ((congrFun (pay3_at _) _).trans ((pay28_at _ r u d).trans (congrArg (fun a : EReal => a * _) (Eq.trans ?_ (if_neg one_ne).symm))))
    refine (congrFun (whole_load arg15.view _ _) _).trans ?_
    rw [View.writes_append]
    exact rows2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩]) (arg9.view.writes (Elt Ideal) arg9.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).1 ++ [⟨Rect.unit (s := S1x8192x128) ![0, 0, 0] S1x8192x128.size inb_S1x8192x128_S1x8192x128_0_0_0, k0_pay17 (F := Ideal)⟩])) (arg10.view.writes (Elt Ideal) arg10.view.junk ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (arg9.view.writes (Elt Ideal) arg9.view.junk [⟨Rect.unit (s := S1x8192x128) ![0, 0, 0] S1x8192x128.size inb_S1x8192x128_S1x8192x128_0_0_0, k0_pay17 (F := Ideal)⟩]) (arg10.view.writes (Elt Ideal) arg10.view.junk [⟨Rect.unit (s := S1x8192x128) ![0, 0, 0] S1x8192x128.size inb_S1x8192x128_S1x8192x128_0_0_0, k0_pay18 (F := Ideal)⟩])).2.1 ++ [⟨Rect.unit (s := S1x8192x128) ![0, 0, 0] S1x8192x128.size inb_S1x8192x128_S1x8192x128_0_0_0, k0_pay18 (F := Ideal)⟩])) _ _

theorem listB7 (hc0 : ¬cond0_0 i) (xo7 xo8 : Vec Ideal S1x8192x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8).2.1 = (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1)).1 ++ (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1 := by
  unfold kernelRun0_B
  rfl

theorem listB8 (hc0 : ¬cond0_0 i) (xo7 xo8 : Vec Ideal S1x8192x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8).2.2.1 = (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1)).2.1 ++ (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1 := by
  unfold kernelRun0_B
  rfl

theorem listB6 (hc0 : ¬cond0_0 i) (xo7 xo8 : Vec Ideal S1x8192x128 .f32) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8).1 = [⟨Rect.unit (s := S256x256) ![0, 128] S256x128.size inb_S256x256_S256x128_0_128, k0_pay3 (F := Ideal) k0_pay16 (arg15.view.readCov ((run2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1)).2.2 ++ ⟨Rect.unit (s := S512x128) ![0, 0] S512x128.size inb_S512x128_S512x128_0_0, k0_pay34 (F := Ideal)⟩ :: ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.2 ++ [⟨Rect.unit (s := S512x128) ![0, 0] S512x128.size inb_S512x128_S512x128_0_0, k0_pay25 (F := Ideal)⟩])) (Rect.unit (s := S512x128) ![0, 0] S512x128.size inb_S512x128_S512x128_0_0).toLoadRect)⟩,
      ⟨Rect.unit (s := S256x256) ![0, 0] S256x128.size inb_S256x256_S256x128_0_0, k0_pay28 (F := Ideal) k0_pay16 (arg15.view.readCov ((run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.2 ++ [⟨Rect.unit (s := S512x128) ![0, 0] S512x128.size inb_S512x128_S512x128_0_0, k0_pay25 (F := Ideal)⟩]) (Rect.unit (s := S512x128) ![0, 0] S512x128.size inb_S512x128_S512x128_0_0).toLoadRect)⟩] := by
  unfold kernelRun0_B
  rfl

/-- Case B's gradient of the keys. -/
theorem outB7 (hc0 : ¬cond0_0 i) (xo7 xo8 : Vec Ideal S1x8192x128 .f32) (j : Fin 8192) (l : Fin 128) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix3 0 j l) = xo7 (ix3 0 j l) + addK x4 x5 (Q0 arg2 harg2 x0) (D0 arg3 harg3 x1) (L0 arg5 harg5 x3) (M0 arg3 harg3 arg4 harg4 x1 x2) j l + addK x4 x5 (Q1 arg2 harg2 x0) (D1 arg3 harg3 x1) (L1 arg5 harg5 x3) (M1 arg3 harg3 arg4 harg4 x1 x2) j l := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8), ← View.read_writes_eq_canon arg9.view (harg9.unread xo7) _ (cover0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8), listB7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8, View.writes_append]
  refine (both9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1) rfl j l).trans (congrArg (fun x : EReal => x + _) ?_)
  exact congrArg (fun x : EReal => x + _) (congrFun (harg9.read_unread xo7) _)

/-- Case B's gradient of the values. -/
theorem outB8 (hc0 : ¬cond0_0 i) (xo7 xo8 : Vec Ideal S1x8192x128 .f32) (j : Fin 8192) (l : Fin 128) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix3 0 j l) = xo8 (ix3 0 j l) + addV x4 (Q0 arg2 harg2 x0) (D0 arg3 harg3 x1) (L0 arg5 harg5 x3) j l + addV x4 (Q1 arg2 harg2 x0) (D1 arg3 harg3 x1) (L1 arg5 harg5 x3) j l := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8), ← View.read_writes_eq_canon arg10.view (harg10.unread xo8) _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8), listB8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8, View.writes_append]
  refine (both10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1) rfl j l).trans (congrArg (fun x : EReal => x + _) ?_)
  exact congrArg (fun x : EReal => x + _) (congrFun (harg10.read_unread xo8) _)

/-- Case B's gradient of the queries. -/
theorem outB6 (hc0 : ¬cond0_0 i) (xo7 xo8 : Vec Ideal S1x8192x128 .f32) (p u : Fin 2) (r : Fin 256) (d : Fin 64) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix2 r (col p u d)) = (if p = 0 then ∑ j : Fin 8192, gradient x4 x5 (Q0 arg2 harg2 x0) (D0 arg3 harg3 x1) (L0 arg5 harg5 x3) (M0 arg3 harg3 arg4 harg4 x1 x2) (row u r) j * x4 (ix3 0 j (d.castLE (by decide)))
      else ∑ j : Fin 8192, gradient x4 x5 (Q1 arg2 harg2 x0) (D1 arg3 harg3 x1) (L1 arg5 harg5 x3) (M1 arg3 harg3 arg4 harg4 x1 x2) (row u r) j * x4 (ix3 0 j (d.castLE (by decide)))) * Ideal.ofBits .f32 0x3E000000#32 := by
  unfold out0_B_6
  rw [View.read_writes_eq_canon _ _ _ (cover0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8), listB6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8]
  refine (halves _ _ _ _ p r (lane u d) (col p u d) rfl).trans ?_
  match p with
  | ⟨0, _⟩ =>
    refine (if_pos rfl).trans ((pay28_at _ r u d).trans (congrArg (fun a : EReal => a * _) (Eq.trans ?_ (if_pos rfl).symm)))
    refine (congrFun (whole_load arg15.view _ _) _).trans ?_
    rw [View.writes_append]
    exact rows1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) _ _
  | ⟨1, _⟩ =>
    refine (if_neg one_ne).trans ((congrFun (pay3_at _) _).trans ((pay28_at _ r u d).trans (congrArg (fun a : EReal => a * _) (Eq.trans ?_ (if_neg one_ne).symm))))
    refine (congrFun (whole_load arg15.view _ _) _).trans ?_
    rw [View.writes_append]
    exact rows2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8) (arg9.view.writes (Elt Ideal) (harg9.unread xo7) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).1) (arg10.view.writes (Elt Ideal) (harg10.unread xo8) (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (harg9.unread xo7) (harg10.unread xo8)).2.1) _ _

end Cert.FlashABwdIdeal.Val

end
-- ==== Proof.AttendGrad.lean ====
/-
  The gradient of attention with two heads of keys and values and eight heads of queries, on real entries: a row's weights are
  their exponentials over the row's mass, the gradient of a score is its weight times the cotangent's product with the key's value
  less the row's mean of those products.
-/
module

public import proofs.«01_k».proof.Proof.Attend

@[expose] public section

noncomputable section

namespace Cert.Attend

open Idealize.ShloMosaic Idealize.ShloMosaic.ValueIdx
open Cert.MixBwd (Mat Stack)
open Cert.Prods (block_lt)

variable (x : Mat 8192 512) (k v : Mat 8192 128) (y : Mat 8192 512)

/-- The weight of key `j` in row `r`, in the head of column `q`. -/
def prob (r : Fin 8192) (q : Fin 512) (j : Fin 8192) : ℝ := Real.exp (score x k r q j) / mass x k r q

/-- The product of a row's cotangent with the values of key `j`, and its mean over the keys. -/
def pull (r : Fin 8192) (q : Fin 512) (j : Fin 8192) : ℝ := ∑ d : Fin 64, EReal.toReal (y (ix2 r (head q d))) * EReal.toReal (v (ix2 j (group q d)))
def mean (r : Fin 8192) (q : Fin 512) : ℝ := ∑ j : Fin 8192, prob x k r q j * pull v y r q j

/-- The gradient of a score. -/
def slope (r : Fin 8192) (q : Fin 512) (j : Fin 8192) : ℝ := prob x k r q j * (pull v y r q j - mean x k v y r q)

/-- The gradient of the queries. -/
def gradQ : Mat 8192 512 := fun i =>
  (((∑ j : Fin 8192, slope x k v y (i 0) (i 1) j * EReal.toReal (k (ix2 j (group (i 1) (place (i 1)))))) * (1 / 8) : ℝ) : EReal)

/-- Lane `d` of query head `b` of group `g`. -/
def column (g : Fin 2) (b : Fin 4) (d : Fin 64) : Fin 512 := ⟨256 * g.val + 64 * b.val + d.val, by have := g.isLt; have := b.isLt; have := d.isLt; omega⟩

/-- What row `r` of head `b` adds to lane `l` of the gradient of key `j`, and of its values; nothing in the lanes from 64 on. -/
def termK (g : Fin 2) (j : Fin 8192) (l : Fin 128) (b : Fin 4) (r : Fin 8192) : ℝ :=
  if h : l.val < 64 then slope x k v y r (column g b ⟨l.val, h⟩) j * (EReal.toReal (x (ix2 r (column g b ⟨l.val, h⟩))) * (1 / 8)) else 0
def termV (g : Fin 2) (j : Fin 8192) (l : Fin 128) (b : Fin 4) (r : Fin 8192) : ℝ :=
  if h : l.val < 64 then prob x k r (column g b ⟨l.val, h⟩) j * EReal.toReal (y (ix2 r (column g b ⟨l.val, h⟩))) else 0

/-- The gradients of the keys and of the values, a plane of 128 lanes for each of the two heads. -/
def gradK : Stack 2 8192 128 := fun i => ((∑ b : Fin 4, ∑ r : Fin 8192, termK x k v y (i 0) (i 1) (i 2) b r : ℝ) : EReal)
def gradV : Stack 2 8192 128 := fun i => ((∑ b : Fin 4, ∑ r : Fin 8192, termV x k y (i 0) (i 1) (i 2) b r : ℝ) : EReal)

theorem head_head (q : Fin 512) (d e : Fin 64) : head (head q d) e = head q e := Fin.ext (by
  have := q.isLt; have := d.isLt
  show 64 * ((64 * (q.val / 64) + d.val) / 64) + e.val = 64 * (q.val / 64) + e.val; omega)

theorem group_head (q : Fin 512) (d e : Fin 64) : group (head q d) e = group q e := Fin.ext (by
  have := q.isLt; have := d.isLt
  show 64 * ((64 * (q.val / 64) + d.val) / 256) + e.val = 64 * (q.val / 256) + e.val; omega)

theorem place_head (q : Fin 512) (d : Fin 64) : place (head q d) = d := Fin.ext (by
  have := d.isLt
  show (64 * (q.val / 64) + d.val) % 64 = d.val; omega)

theorem score_head (r : Fin 8192) (q : Fin 512) (d : Fin 64) (j : Fin 8192) : score x k r (head q d) j = score x k r q j := by
  unfold score
  refine congrArg (fun a : ℝ => a * (1 / 8)) (Finset.sum_congr rfl fun e _ => ?_)
  rw [head_head, group_head]

theorem mass_head (r : Fin 8192) (q : Fin 512) (d : Fin 64) : mass x k r (head q d) = mass x k r q :=
  Finset.sum_congr rfl fun j _ => congrArg Real.exp (score_head x k r q d j)

/-- The mean is the cotangent's product with the attention's own row. -/
theorem mean_eq (r : Fin 8192) (q : Fin 512) :
    ∑ d : Fin 64, EReal.toReal (y (ix2 r (head q d))) * (total x k v r (head q d) / mass x k r (head q d)) = mean x k v y r q := by
  unfold mean pull
  have h (j : Fin 8192) : prob x k r q j * ∑ d : Fin 64, EReal.toReal (y (ix2 r (head q d))) * EReal.toReal (v (ix2 j (group q d)))
      = ∑ d : Fin 64, EReal.toReal (y (ix2 r (head q d))) * (prob x k r q j * EReal.toReal (v (ix2 j (group q d)))) := by
    rw [Finset.mul_sum]
    exact Finset.sum_congr rfl fun d _ => by ring
  rw [Finset.sum_congr rfl fun j _ => h j, Finset.sum_comm]
  refine Finset.sum_congr rfl fun d _ => ?_
  rw [← Finset.mul_sum, mass_head]
  refine congrArg (fun a : ℝ => _ * a) ?_
  unfold total prob
  rw [Finset.sum_div]
  refine Finset.sum_congr rfl fun j _ => ?_
  rw [score_head, group_head, place_head, mul_comm, mul_div_assoc, mul_comm]

/-- A weight, from the logarithm of the mass. -/
theorem exp_sub_log (r : Fin 8192) (q : Fin 512) (j : Fin 8192) : Real.exp (score x k r q j - Real.log (mass x k r q)) = prob x k r q j := by
  unfold prob
  rw [Real.exp_sub, Real.exp_log (mass_pos x k r q)]

/-- A head's columns have one row of weights, one mean and one gradient of the scores. -/
theorem column_head (g : Fin 2) (b : Fin 4) (d e : Fin 64) : column g b d = head (column g b e) d := Fin.ext (by
  have := g.isLt; have := b.isLt; have := d.isLt; have := e.isLt
  show 256 * g.val + 64 * b.val + d.val = 64 * ((256 * g.val + 64 * b.val + e.val) / 64) + d.val; omega)

theorem prob_head (r : Fin 8192) (q : Fin 512) (d : Fin 64) (j : Fin 8192) : prob x k r (head q d) j = prob x k r q j := by
  unfold prob
  rw [score_head, mass_head]

theorem pull_head (r : Fin 8192) (q : Fin 512) (d : Fin 64) (j : Fin 8192) : pull v y r (head q d) j = pull v y r q j := by
  unfold pull
  exact Finset.sum_congr rfl fun e _ => by rw [head_head, group_head]

theorem mean_head (r : Fin 8192) (q : Fin 512) (d : Fin 64) : mean x k v y r (head q d) = mean x k v y r q := by
  unfold mean
  exact Finset.sum_congr rfl fun j _ => by rw [prob_head, pull_head]

theorem slope_head (r : Fin 8192) (q : Fin 512) (d : Fin 64) (j : Fin 8192) : slope x k v y r (head q d) j = slope x k v y r q j := by
  unfold slope
  rw [prob_head, pull_head, mean_head]

/-- A sum of reals, cut into blocks. -/
theorem sum_cut {m n N : Nat} (h : N = m * n) (f : Fin N → ℝ) : ∑ k : Fin N, f k = ∑ j : Fin m, ∑ k : Fin n, f ⟨n * j.val + k.val, block_lt h j k⟩ := by
  subst h
  rw [← finProdFinEquiv.sum_comp, Fintype.sum_prod_type]
  exact Finset.sum_congr rfl fun j _ => Finset.sum_congr rfl fun k _ => congrArg f (Fin.ext (by simp [finProdFinEquiv]; ring))

/-- Heads and rows, by blocks of rows and pairs of heads. -/
theorem regroup (f : Fin 4 → Fin 8192 → ℝ) :
    ∑ i : Fin 32, ∑ p : Fin 2, ∑ u : Fin 2, ∑ r : Fin 256, f ⟨2 * p.val + u.val, block_lt rfl p u⟩ ⟨256 * i.val + r.val, block_lt rfl i r⟩ = ∑ b : Fin 4, ∑ r : Fin 8192, f b r := by
  rw [sum_cut (m := 2) (n := 2) rfl fun b : Fin 4 => ∑ r : Fin 8192, f b r, Finset.sum_comm]
  refine Finset.sum_congr rfl fun p _ => ?_
  rw [Finset.sum_comm]
  refine Finset.sum_congr rfl fun u _ => ?_
  exact (sum_cut (m := 32) (n := 256) rfl (f _)).symm

/-- With queries and keys below 2⁴⁰ in size, a row's logarithm is above −2⁸³. -/
theorem log_low (hx : ∀ i, |EReal.toReal (x i)| ≤ 2 ^ 40) (hk : ∀ i, |EReal.toReal (k i)| ≤ 2 ^ 40) (r : Fin 8192) (q : Fin 512) : -2 ^ 83 ≤ Real.log (mass x k r q) := by
  have h1 : -2 ^ 83 ≤ score x k r q 0 := by
    have h (d : Fin 64) : -2 ^ 80 ≤ EReal.toReal (x (ix2 r (head q d))) * EReal.toReal (k (ix2 0 (group q d))) := by
      have a := mul_le_mul (hx (ix2 r (head q d))) (hk (ix2 0 (group q d))) (abs_nonneg _) (by positivity)
      rw [← abs_mul] at a
      have := (abs_le.mp a).1
      norm_num at this ⊢
      linarith
    have s : ∑ _d : Fin 64, (-2 ^ 80 : ℝ) ≤ ∑ d : Fin 64, EReal.toReal (x (ix2 r (head q d))) * EReal.toReal (k (ix2 0 (group q d))) := Finset.sum_le_sum fun d _ => h d
    rw [Finset.sum_const, Finset.card_univ, Fintype.card_fin, nsmul_eq_mul] at s
    unfold score
    norm_num at s ⊢
    linarith
  have h2 : Real.exp (score x k r q 0) ≤ mass x k r q := Finset.single_le_sum (f := fun j => Real.exp (score x k r q j)) (fun _ _ => (Real.exp_pos _).le) (Finset.mem_univ 0)
  calc (-2 ^ 83 : ℝ) ≤ score x k r q 0 := h1
    _ = Real.log (Real.exp (score x k r q 0)) := (Real.log_exp _).symm
    _ ≤ _ := Real.log_le_log (Real.exp_pos _) h2

end Cert.Attend

end
-- ==== Proof.FlashBwdReal.lean ====
/-
  A point of the attention's backward kernel on real entries: its weights, the gradients of its scores, and what it leaves in the
  three gradients' buffers, as sums of reals.
-/
module

public import proofs.«01_k».proof.Proof.FlashBwdBlock
public import proofs.«01_k».proof.Proof.Online
public import proofs.«01_k».proof.Proof.AttendGrad

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.Prods

/-- 64 lanes and 64 zeros. -/
def pad (f : Fin 64 → ℝ) (l : Fin 128) : ℝ := if h : l.val < 64 then f ⟨l.val, h⟩ else 0

theorem pad_low (f : Fin 64 → ℝ) (d : Fin 64) : pad f (d.castLE (by decide)) = f d := dif_pos (show (d.castLE (by decide : 64 ≤ 128)).val < 64 from d.isLt)

theorem sum_pad (f : Fin 64 → ℝ) (g : Fin 128 → ℝ) : ∑ l : Fin 128, pad f l * g l = ∑ d : Fin 64, f d * g (d.castLE (by decide)) := by
  refine (Cert.Attend.sum_cut (m := 2) (n := 64) rfl fun l : Fin 128 => pad f l * g l).trans ?_
  rw [Fin.sum_univ_two]
  refine (congrArg₂ (fun a b : ℝ => a + b) (Finset.sum_congr rfl fun d _ => ?_) (Finset.sum_eq_zero fun d _ => ?_)).trans (add_zero _)
  · exact congrArg₂ (fun (a : ℝ) (l : Fin 128) => a * g l) ((congrArg (pad f) (Fin.ext (by show 64 * 0 + d.val = d.val; omega))).trans (pad_low f d)) (Fin.ext (by show 64 * 0 + d.val = d.val; omega))
  · refine (congrArg (fun a : ℝ => a * _) (dif_neg ?_)).trans (zero_mul _)
    show ¬ 64 * 1 + d.val < 64
    omega

/-! ## Stacked rows on real entries -/

section
variable (kr vr : Fin 8192 → Fin 128 → ℝ) (xq xy : Fin 2 → Fin 256 → Fin 64 → ℝ) (lg mn : Fin 2 → Fin 256 → ℝ)

/-- A weight and the gradient of a score. -/
def rprob (u : Fin 2) (r : Fin 256) (j : Fin 8192) : ℝ := Real.exp ((∑ d : Fin 64, xq u r d * kr j (d.castLE (by decide))) - lg u r)
def rslope (u : Fin 2) (r : Fin 256) (j : Fin 8192) : ℝ := rprob kr xq lg u r j * ((∑ d : Fin 64, xy u r d * vr j (d.castLE (by decide))) - mn u r)

variable (K V : Plane) (Q D : Rows) (L M : Col)
  (hK : ∀ j l, (K (ix3 0 j l) : EReal) = (kr j l : EReal)) (hV : ∀ j l, (V (ix3 0 j l) : EReal) = (vr j l : EReal))
  (hQ : ∀ u r l, (Q (ix2 (row u r) l) : EReal) = (pad (xq u r) l : EReal)) (hD : ∀ u r l, (D (ix2 (row u r) l) : EReal) = (pad (xy u r) l : EReal))
  (hL : ∀ u r, (L (ix2 (row u r) 0) : EReal) = (lg u r : EReal)) (hM : ∀ u r, (M (ix2 (row u r) 0) : EReal) = (mn u r : EReal))

theorem product_at (A : Rows) (B : Plane) (f : Fin 2 → Fin 256 → Fin 64 → ℝ) (g : Fin 8192 → Fin 128 → ℝ) (hA : ∀ u r l, (A (ix2 (row u r) l) : EReal) = (pad (f u r) l : EReal))
    (hB : ∀ j l, (B (ix3 0 j l) : EReal) = (g j l : EReal)) (u : Fin 2) (r : Fin 256) (j : Fin 8192) :
    (∑ l : Fin 128, A (ix2 (row u r) l) * B (ix3 0 j l) : EReal) = ((∑ d : Fin 64, f u r d * g j (d.castLE (by decide)) : ℝ) : EReal) := by
  refine (Finset.sum_congr rfl fun l _ => ?_).trans ((Online.sum_coe Finset.univ fun l : Fin 128 => pad (f u r) l * g j l).trans (congrArg (fun a : ℝ => (a : EReal)) (sum_pad _ _)))
  exact (congrArg₂ (fun a b : EReal => a * b) (hA u r l) (hB j l)).trans (EReal.coe_mul _ _).symm

include hK hQ hL in
theorem weight_at (u : Fin 2) (r : Fin 256) (j : Fin 8192) : weight K Q L (row u r) j = (rprob kr xq lg u r j : EReal) := by
  refine (congrArg Ideal.exp ((congrArg₂ (fun a b : EReal => a - b) (product_at Q K xq kr hQ hK u r j) (hL u r)).trans (EReal.coe_sub _ _).symm)).trans ?_
  exact Ideal.exp_coe _

include hK hV hQ hD hL hM in
theorem gradient_at (u : Fin 2) (r : Fin 256) (j : Fin 8192) : gradient K V Q D L M (row u r) j = (rslope kr vr xq xy lg mn u r j : EReal) := by
  refine (congrArg₂ (fun a b : EReal => a * b) (weight_at kr xq lg K Q L hK hQ hL u r j) ((congrArg₂ (fun a b : EReal => a - b) (product_at D V xy vr hD hV u r j) (hM u r)).trans (EReal.coe_sub _ _).symm)).trans ?_
  exact (EReal.coe_mul _ _).symm

theorem stack_sum (f : Fin 512 → EReal) (g : Fin 2 → Fin 256 → ℝ) (h : ∀ u r, f (row u r) = (g u r : EReal)) : ∑ r : Fin 512, f r = ((∑ u : Fin 2, ∑ r : Fin 256, g u r : ℝ) : EReal) := by
  refine (Cert.Prods.sum_cut (m := 2) (n := 256) rfl f).trans ((Finset.sum_congr rfl fun u _ => ?_).trans (Online.sum_coe Finset.univ fun u : Fin 2 => ∑ r : Fin 256, g u r))
  exact (Finset.sum_congr rfl fun r _ => h u r).trans (Online.sum_coe Finset.univ fun r : Fin 256 => g u r)

include hK hV hQ hD hL hM in
theorem addK_at (j : Fin 8192) (l : Fin 128) : addK K V Q D L M j l = ((∑ u : Fin 2, ∑ r : Fin 256, rslope kr vr xq xy lg mn u r j * pad (xq u r) l : ℝ) : EReal) :=
  stack_sum _ _ fun u r => (congrArg₂ (fun a b : EReal => a * b) (gradient_at kr vr xq xy lg mn K V Q D L M hK hV hQ hD hL hM u r j) (hQ u r l)).trans (EReal.coe_mul _ _).symm

include hK hQ hD hL in
theorem addV_at (j : Fin 8192) (l : Fin 128) : addV K Q D L j l = ((∑ u : Fin 2, ∑ r : Fin 256, rprob kr xq lg u r j * pad (xy u r) l : ℝ) : EReal) :=
  stack_sum _ _ fun u r => (congrArg₂ (fun a b : EReal => a * b) (weight_at kr xq lg K Q L hK hQ hL u r j) (hD u r l)).trans (EReal.coe_mul _ _).symm

include hK hV hQ hD hL hM in
theorem rows_at (u : Fin 2) (r : Fin 256) (d : Fin 64) : (∑ j : Fin 8192, gradient K V Q D L M (row u r) j * K (ix3 0 j (d.castLE (by decide))) : EReal)
      = ((∑ j : Fin 8192, rslope kr vr xq xy lg mn u r j * kr j (d.castLE (by decide)) : ℝ) : EReal) :=
  (Finset.sum_congr rfl fun j _ => (congrArg₂ (fun a b : EReal => a * b) (gradient_at kr vr xq xy lg mn K V Q D L M hK hV hQ hD hL hM u r j) (hK j _)).trans (EReal.coe_mul _ _).symm).trans
    (Online.sum_coe Finset.univ fun j : Fin 8192 => rslope kr vr xq xy lg mn u r j * kr j (d.castLE (by decide)))
end

/-! ## The rows of a block -/

theorem half_load {sig : RefSig} {κ : Kind} {sp : Space} {e : EltTy} (v : View sig κ sp S256x256 e) (f : v.ty.Contents (Elt Ideal)) (p : Fin 2) {off : Nat} (ho : off = 128 * p.val)
    (hk : ∀ a, (![0, off] : Fin 2 → Nat) a + S256x128.size a ≤ S256x256.size a) (u : Fin 2) (r : Fin 256) (d : Fin 64) :
    View.readAt (Elt Ideal) v (Rect.unit (s := S256x256) ![0, off] S256x128.size hk).toLoadRect f (ix2 r (lane u d)) = v.read (Elt Ideal) f (ix2 r (col p u d)) := by
  subst ho
  rw [View.readAt_eq_ld]
  refine View.ld_unit_apply_of _ _ _ _ _ _ fun a => ?_
  match a with
  | ⟨0, _⟩ => show r.val = 0 + r.val; omega
  | ⟨1, _⟩ => rfl

theorem bits64th : Ideal.ofBits .f32 0x3C800000#32 = ((1 / 64 : ℝ) : EReal) := by
  simp [Ideal.ofBits, Ideal.ieee, -EReal.coe_mul, -EReal.coe_neg]; norm_num
theorem bits64 : Ideal.ofBits .f32 0x42800000#32 = ((64 : ℝ) : EReal) := by
  simp [Ideal.ofBits, Ideal.ieee, -EReal.coe_mul, -EReal.coe_neg]; norm_num
theorem bitsLow : Ideal.ofBits .f32 0xF2FC6F7C#32 ≤ ((-2 ^ 83 : ℝ) : EReal) := by
  have e : Ideal.ofBits .f32 0xF2FC6F7C#32 = ((-((2 ^ 23 + 8155004 : ℝ) * (2 : ℝ) ^ (79 : ℤ)) : ℝ) : EReal) := by
    simp [Ideal.ofBits, Ideal.ieee, -EReal.coe_mul, -EReal.coe_neg]; norm_num
  rw [e, EReal.coe_le_coe_iff]
  norm_num

section
variable (c : Dev nD) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole)
  (x0 : Vec Ideal S256x256 .bf16) (x1 : Vec Ideal S256x256 .f32) (x2 : Vec Ideal S256x256 .bf16) (x3 : Vec Ideal S256x256 .f32) (x4 : Vec Ideal S1x8192x128 .bf16) (x5 : Vec Ideal S1x8192x128 .bf16)
variable (kr vr : Fin 8192 → Fin 128 → ℝ) (X Y O : Fin 256 → Fin 256 → ℝ) (lg : Fin 2 → Fin 2 → Fin 256 → ℝ)

/-- The scaled queries, the cotangents and the corrections of plane `p`. -/
def rowsQ (p u : Fin 2) (r : Fin 256) (d : Fin 64) : ℝ := X r (col p u d) * (1 / 8)
def rowsY (p u : Fin 2) (r : Fin 256) (d : Fin 64) : ℝ := Y r (col p u d)
def rowsM (p u : Fin 2) (r : Fin 256) : ℝ := ∑ d : Fin 64, Y r (col p u d) * O r (col p u d)

/-- A weight of plane `p`, and the gradient of a score. -/
def bprob (p : Fin 2) : Fin 2 → Fin 256 → Fin 8192 → ℝ := rprob kr (rowsQ X p) (lg p)
def bslope (p : Fin 2) : Fin 2 → Fin 256 → Fin 8192 → ℝ := rslope kr vr (rowsQ X p) (rowsY Y p) (lg p) (rowsM Y O p)

variable (e0 : ∀ r q, (x0 (ix2 r q) : EReal) = (X r q : EReal)) (e1 : ∀ r q, (x1 (ix2 r q) : EReal) = (Y r q : EReal)) (e2 : ∀ r q, (x2 (ix2 r q) : EReal) = (O r q : EReal))
  (e3 : ∀ p u r d, (x3 (ix2 r (col p u d)) : EReal) = (lg p u r : EReal)) (hl : ∀ p u r, (-2 ^ 83 : ℝ) ≤ lg p u r)
  (e4 : ∀ j l, (x4 (ix3 0 j l) : EReal) = (kr j l : EReal)) (e5 : ∀ j l, (x5 (ix3 0 j l) : EReal) = (vr j l : EReal))

include e0 in
theorem Q0_at (u : Fin 2) (r : Fin 256) (l : Fin 128) : (Q0 arg2 harg2 x0 (ix2 (row u r) l) : EReal) = (pad (rowsQ X 0 u r) l : EReal) := by
  have z (d : Fin 64) := (half_load arg2.view (harg2.unread x0) 0 rfl inb_S256x256_S256x128_0_0 u r d).trans (congrFun (harg2.read_unread x0) _)
  refine (pay19_at _ u r l).trans ?_
  unfold pad rowsQ
  by_cases h : l.val < 64
  · rw [dif_pos h, dif_pos h]
    exact (congrArg₂ (fun a b : EReal => a * b) ((z ⟨l.val, h⟩).trans (e0 _ _)) Online.bitsEighth).trans (EReal.coe_mul _ _).symm
  · rw [dif_neg h, dif_neg h, EReal.coe_zero]

include e1 in
theorem D0_at (u : Fin 2) (r : Fin 256) (l : Fin 128) : (D0 arg3 harg3 x1 (ix2 (row u r) l) : EReal) = (pad (rowsY Y 0 u r) l : EReal) := by
  have z (d : Fin 64) := (half_load arg3.view (harg3.unread x1) 0 rfl inb_S256x256_S256x128_0_0 u r d).trans (congrFun (harg3.read_unread x1) _)
  refine (pay20_at _ u r l).trans ?_
  unfold pad rowsY
  by_cases h : l.val < 64
  · rw [dif_pos h, dif_pos h]
    exact (z ⟨l.val, h⟩).trans (e1 _ _)
  · rw [dif_neg h, dif_neg h, EReal.coe_zero]

include e3 hl in
theorem L0_at (u : Fin 2) (r : Fin 256) : (L0 arg5 harg5 x3 (ix2 (row u r) 0) : EReal) = (lg 0 u r : EReal) :=
  pay24_at _ u r _ (fun d => ((half_load arg5.view (harg5.unread x3) 0 rfl inb_S256x256_S256x128_0_0 u r d).trans (congrFun (harg5.read_unread x3) _)).trans (e3 0 u r d)) (bitsLow.trans (EReal.coe_le_coe_iff.mpr (hl 0 u r)))

include e1 e2 in
theorem M0_at (u : Fin 2) (r : Fin 256) : (M0 arg3 harg3 arg4 harg4 x1 x2 (ix2 (row u r) 0) : EReal) = (rowsM Y O 0 u r : EReal) := by
  refine (pay23_at _ _ u r).trans ?_
  refine (congrArg₂ (fun a b : EReal => a * b) ((congrArg₂ (fun a b : EReal => a * b) ((Finset.sum_congr rfl fun d _ => ?_).trans (Online.sum_coe Finset.univ fun d : Fin 64 => Y r (col 0 u d) * O r (col 0 u d))) bits64th).trans (EReal.coe_mul _ _).symm) bits64).trans ((EReal.coe_mul _ _).symm.trans (congrArg (fun a : ℝ => (a : EReal)) ?_))
  · exact (congrArg₂ (fun a b : EReal => a * b) (((half_load arg3.view (harg3.unread x1) 0 rfl inb_S256x256_S256x128_0_0 u r d).trans (congrFun (harg3.read_unread x1) _)).trans (e1 _ _)) (((half_load arg4.view (harg4.unread x2) 0 rfl inb_S256x256_S256x128_0_0 u r d).trans (congrFun (harg4.read_unread x2) _)).trans (e2 _ _))).trans (EReal.coe_mul _ _).symm
  · unfold rowsM; ring

include e0 in
theorem Q1_at (u : Fin 2) (r : Fin 256) (l : Fin 128) : (Q1 arg2 harg2 x0 (ix2 (row u r) l) : EReal) = (pad (rowsQ X 1 u r) l : EReal) := by
  have z (d : Fin 64) := (half_load arg2.view (harg2.unread x0) 1 rfl inb_S256x256_S256x128_0_128 u r d).trans (congrFun (harg2.read_unread x0) _)
  refine (pay19_at _ u r l).trans ?_
  unfold pad rowsQ
  by_cases h : l.val < 64
  · rw [dif_pos h, dif_pos h]
    exact (congrArg₂ (fun a b : EReal => a * b) ((z ⟨l.val, h⟩).trans (e0 _ _)) Online.bitsEighth).trans (EReal.coe_mul _ _).symm
  · rw [dif_neg h, dif_neg h, EReal.coe_zero]

include e1 in
theorem D1_at (u : Fin 2) (r : Fin 256) (l : Fin 128) : (D1 arg3 harg3 x1 (ix2 (row u r) l) : EReal) = (pad (rowsY Y 1 u r) l : EReal) := by
  have z (d : Fin 64) := (half_load arg3.view (harg3.unread x1) 1 rfl inb_S256x256_S256x128_0_128 u r d).trans (congrFun (harg3.read_unread x1) _)
  refine (pay20_at _ u r l).trans ?_
  unfold pad rowsY
  by_cases h : l.val < 64
  · rw [dif_pos h, dif_pos h]
    exact (z ⟨l.val, h⟩).trans (e1 _ _)
  · rw [dif_neg h, dif_neg h, EReal.coe_zero]

include e3 hl in
theorem L1_at (u : Fin 2) (r : Fin 256) : (L1 arg5 harg5 x3 (ix2 (row u r) 0) : EReal) = (lg 1 u r : EReal) :=
  pay24_at _ u r _ (fun d => ((half_load arg5.view (harg5.unread x3) 1 rfl inb_S256x256_S256x128_0_128 u r d).trans (congrFun (harg5.read_unread x3) _)).trans (e3 1 u r d)) (bitsLow.trans (EReal.coe_le_coe_iff.mpr (hl 1 u r)))

include e1 e2 in
theorem M1_at (u : Fin 2) (r : Fin 256) : (M1 arg3 harg3 arg4 harg4 x1 x2 (ix2 (row u r) 0) : EReal) = (rowsM Y O 1 u r : EReal) := by
  refine (pay23_at _ _ u r).trans ?_
  refine (congrArg₂ (fun a b : EReal => a * b) ((congrArg₂ (fun a b : EReal => a * b) ((Finset.sum_congr rfl fun d _ => ?_).trans (Online.sum_coe Finset.univ fun d : Fin 64 => Y r (col 1 u d) * O r (col 1 u d))) bits64th).trans (EReal.coe_mul _ _).symm) bits64).trans ((EReal.coe_mul _ _).symm.trans (congrArg (fun a : ℝ => (a : EReal)) ?_))
  · exact (congrArg₂ (fun a b : EReal => a * b) (((half_load arg3.view (harg3.unread x1) 1 rfl inb_S256x256_S256x128_0_128 u r d).trans (congrFun (harg3.read_unread x1) _)).trans (e1 _ _)) (((half_load arg4.view (harg4.unread x2) 1 rfl inb_S256x256_S256x128_0_128 u r d).trans (congrFun (harg4.read_unread x2) _)).trans (e2 _ _))).trans (EReal.coe_mul _ _).symm
  · unfold rowsM; ring

include e0 e1 e2 e3 hl e4 e5 in
theorem realA7 (hc0 : cond0_0 i) (j : Fin 8192) (l : Fin 128) :
    (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 j l) : EReal) = ((∑ p : Fin 2, ∑ u : Fin 2, ∑ r : Fin 256, bslope kr vr X Y O lg p u r j * pad (rowsQ X p u r) l : ℝ) : EReal) := by
  refine (outA7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 j l).trans ?_
  refine (congrArg₂ (fun a b : EReal => a + b) (addK_at kr vr (rowsQ X 0) (rowsY Y 0) (lg 0) (rowsM Y O 0) x4 x5 _ _ _ _ e4 e5 (Q0_at arg2 harg2 x0 X e0) (D0_at arg3 harg3 x1 Y e1) (L0_at arg5 harg5 x3 lg e3 hl) (M0_at arg3 harg3 arg4 harg4 x1 x2 Y O e1 e2) j l) (addK_at kr vr (rowsQ X 1) (rowsY Y 1) (lg 1) (rowsM Y O 1) x4 x5 _ _ _ _ e4 e5 (Q1_at arg2 harg2 x0 X e0) (D1_at arg3 harg3 x1 Y e1) (L1_at arg5 harg5 x3 lg e3 hl) (M1_at arg3 harg3 arg4 harg4 x1 x2 Y O e1 e2) j l)).trans ?_
  exact (EReal.coe_add _ _).symm.trans (congrArg (fun a : ℝ => (a : EReal)) (Fin.sum_univ_two fun p : Fin 2 => ∑ u : Fin 2, ∑ r : Fin 256, bslope kr vr X Y O lg p u r j * pad (rowsQ X p u r) l).symm)

include e0 e1 e2 e3 hl e4 e5 in
theorem realB7 (hc0 : ¬cond0_0 i) (xo7 xo8 : Vec Ideal S1x8192x128 .f32) (z : ℝ) (j : Fin 8192) (l : Fin 128) (hz : (xo7 (ix3 0 j l) : EReal) = (z : EReal)) :
    (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix3 0 j l) : EReal) = ((z + ∑ p : Fin 2, ∑ u : Fin 2, ∑ r : Fin 256, bslope kr vr X Y O lg p u r j * pad (rowsQ X p u r) l : ℝ) : EReal) := by
  refine (outB7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8 j l).trans ?_
  refine (congrArg₂ (fun a b : EReal => a + b) (congrArg₂ (fun a b : EReal => a + b) hz (addK_at kr vr (rowsQ X 0) (rowsY Y 0) (lg 0) (rowsM Y O 0) x4 x5 _ _ _ _ e4 e5 (Q0_at arg2 harg2 x0 X e0) (D0_at arg3 harg3 x1 Y e1) (L0_at arg5 harg5 x3 lg e3 hl) (M0_at arg3 harg3 arg4 harg4 x1 x2 Y O e1 e2) j l)) (addK_at kr vr (rowsQ X 1) (rowsY Y 1) (lg 1) (rowsM Y O 1) x4 x5 _ _ _ _ e4 e5 (Q1_at arg2 harg2 x0 X e0) (D1_at arg3 harg3 x1 Y e1) (L1_at arg5 harg5 x3 lg e3 hl) (M1_at arg3 harg3 arg4 harg4 x1 x2 Y O e1 e2) j l)).trans ?_
  rw [← EReal.coe_add, ← EReal.coe_add]
  exact congrArg (fun a : ℝ => (a : EReal)) ((add_assoc _ _ _).trans (congrArg (fun a : ℝ => z + a) (Fin.sum_univ_two fun p : Fin 2 => ∑ u : Fin 2, ∑ r : Fin 256, bslope kr vr X Y O lg p u r j * pad (rowsQ X p u r) l).symm))

include e0 e1 e3 hl e4 in
theorem realA8 (hc0 : cond0_0 i) (j : Fin 8192) (l : Fin 128) :
    (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 j l) : EReal) = ((∑ p : Fin 2, ∑ u : Fin 2, ∑ r : Fin 256, bprob kr X lg p u r j * pad (rowsY Y p u r) l : ℝ) : EReal) := by
  refine (outA8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 j l).trans ?_
  refine (congrArg₂ (fun a b : EReal => a + b) (addV_at kr (rowsQ X 0) (rowsY Y 0) (lg 0) x4 _ _ _ e4 (Q0_at arg2 harg2 x0 X e0) (D0_at arg3 harg3 x1 Y e1) (L0_at arg5 harg5 x3 lg e3 hl) j l) (addV_at kr (rowsQ X 1) (rowsY Y 1) (lg 1) x4 _ _ _ e4 (Q1_at arg2 harg2 x0 X e0) (D1_at arg3 harg3 x1 Y e1) (L1_at arg5 harg5 x3 lg e3 hl) j l)).trans ?_
  exact (EReal.coe_add _ _).symm.trans (congrArg (fun a : ℝ => (a : EReal)) (Fin.sum_univ_two fun p : Fin 2 => ∑ u : Fin 2, ∑ r : Fin 256, bprob kr X lg p u r j * pad (rowsY Y p u r) l).symm)

include e0 e1 e3 hl e4 in
theorem realB8 (hc0 : ¬cond0_0 i) (xo7 xo8 : Vec Ideal S1x8192x128 .f32) (z : ℝ) (j : Fin 8192) (l : Fin 128) (hz : (xo8 (ix3 0 j l) : EReal) = (z : EReal)) :
    (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix3 0 j l) : EReal) = ((z + ∑ p : Fin 2, ∑ u : Fin 2, ∑ r : Fin 256, bprob kr X lg p u r j * pad (rowsY Y p u r) l : ℝ) : EReal) := by
  refine (outB8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8 j l).trans ?_
  refine (congrArg₂ (fun a b : EReal => a + b) (congrArg₂ (fun a b : EReal => a + b) hz (addV_at kr (rowsQ X 0) (rowsY Y 0) (lg 0) x4 _ _ _ e4 (Q0_at arg2 harg2 x0 X e0) (D0_at arg3 harg3 x1 Y e1) (L0_at arg5 harg5 x3 lg e3 hl) j l)) (addV_at kr (rowsQ X 1) (rowsY Y 1) (lg 1) x4 _ _ _ e4 (Q1_at arg2 harg2 x0 X e0) (D1_at arg3 harg3 x1 Y e1) (L1_at arg5 harg5 x3 lg e3 hl) j l)).trans ?_
  rw [← EReal.coe_add, ← EReal.coe_add]
  exact congrArg (fun a : ℝ => (a : EReal)) ((add_assoc _ _ _).trans (congrArg (fun a : ℝ => z + a) (Fin.sum_univ_two fun p : Fin 2 => ∑ u : Fin 2, ∑ r : Fin 256, bprob kr X lg p u r j * pad (rowsY Y p u r) l).symm))

include e0 e1 e2 e3 hl e4 e5 in
theorem realA6 (hc0 : cond0_0 i) (p u : Fin 2) (r : Fin 256) (d : Fin 64) :
    (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 r (col p u d)) : EReal) = (((∑ j : Fin 8192, bslope kr vr X Y O lg p u r j * kr j (d.castLE (by decide))) * (1 / 8) : ℝ) : EReal) := by
  refine (outA6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 p u r d).trans ?_
  refine (congrArg₂ (fun a b : EReal => a * b) ?_ Online.bitsEighth).trans (EReal.coe_mul _ _).symm
  match p with
  | ⟨0, _⟩ => exact (if_pos rfl).trans (rows_at kr vr (rowsQ X 0) (rowsY Y 0) (lg 0) (rowsM Y O 0) x4 x5 _ _ _ _ e4 e5 (Q0_at arg2 harg2 x0 X e0) (D0_at arg3 harg3 x1 Y e1) (L0_at arg5 harg5 x3 lg e3 hl) (M0_at arg3 harg3 arg4 harg4 x1 x2 Y O e1 e2) u r d)
  | ⟨1, _⟩ => exact (if_neg one_ne).trans (rows_at kr vr (rowsQ X 1) (rowsY Y 1) (lg 1) (rowsM Y O 1) x4 x5 _ _ _ _ e4 e5 (Q1_at arg2 harg2 x0 X e0) (D1_at arg3 harg3 x1 Y e1) (L1_at arg5 harg5 x3 lg e3 hl) (M1_at arg3 harg3 arg4 harg4 x1 x2 Y O e1 e2) u r d)

include e0 e1 e2 e3 hl e4 e5 in
theorem realB6 (hc0 : ¬cond0_0 i) (xo7 xo8 : Vec Ideal S1x8192x128 .f32) (p u : Fin 2) (r : Fin 256) (d : Fin 64) :
    (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo8 (ix2 r (col p u d)) : EReal) = (((∑ j : Fin 8192, bslope kr vr X Y O lg p u r j * kr j (d.castLE (by decide))) * (1 / 8) : ℝ) : EReal) := by
  refine (outB6 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 hc0 xo7 xo8 p u r d).trans ?_
  refine (congrArg₂ (fun a b : EReal => a * b) ?_ Online.bitsEighth).trans (EReal.coe_mul _ _).symm
  match p with
  | ⟨0, _⟩ => exact (if_pos rfl).trans (rows_at kr vr (rowsQ X 0) (rowsY Y 0) (lg 0) (rowsM Y O 0) x4 x5 _ _ _ _ e4 e5 (Q0_at arg2 harg2 x0 X e0) (D0_at arg3 harg3 x1 Y e1) (L0_at arg5 harg5 x3 lg e3 hl) (M0_at arg3 harg3 arg4 harg4 x1 x2 Y O e1 e2) u r d)
  | ⟨1, _⟩ => exact (if_neg one_ne).trans (rows_at kr vr (rowsQ X 1) (rowsY Y 1) (lg 1) (rowsM Y O 1) x4 x5 _ _ _ _ e4 e5 (Q1_at arg2 harg2 x0 X e0) (D1_at arg3 harg3 x1 Y e1) (L1_at arg5 harg5 x3 lg e3 hl) (M1_at arg3 harg3 arg4 harg4 x1 x2 Y O e1 e2) u r d)

end

end Cert.FlashABwdIdeal.Val

end
-- ==== Proof.FlashABwd.lean ====
/-
  The attention's backward call, over the extended reals on real entries: each point adds 256 rows of four heads to the gradients of
  its group's keys and values, and computes the gradient of its queries; together they hold the three gradients.
-/
module

public import proofs.«01_k».proof.Proof.FlashBwdReal
public import proofs.«01_k».proof.Proof.FlashARef
public import proofs.«01_k».proof.Proof.Host
public import proofs.«01_k».proof.Proof.Gen.FlashABwdIdeal.Value
public import proofs.«01_k».proof.Proof.Gen.FlashABwdReferenceIdeal.Read
public import proofs.«01_k».proof.Proof.Gen.FlashABwdReferenceIdeal.Run
public import Idealize.ShloMosaic.Lib.StableHlo.RunRead

@[expose] public section

set_option maxRecDepth 16384

noncomputable section

namespace Cert.FlashABwdIdeal.Val

open Idealize.ShloMosaic Idealize.ShloMosaic.TcCoe Idealize.ShloMosaic.ValueIdx Idealize.SL.Sem
open Cert.FlashABwdIdeal Cert.FlashABwdIdeal.Gen Cert.FlashABwdIdeal.Value Cert.Prods
open Cert.MixBwd (Mat Stack)
open Cert.Attend

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 512 := m ((c : Thread nD τ).loc main_arg0)
abbrev arg1 (c : Dev nD) : Mat 8192 128 := m ((c : Thread nD τ).loc main_arg1)
abbrev arg2 (c : Dev nD) : Mat 8192 128 := m ((c : Thread nD τ).loc main_arg2)
abbrev arg3 (c : Dev nD) : Mat 8192 512 := m ((c : Thread nD τ).loc main_arg3)

/-! ## How the arrays the call reads are laid out -/

theorem lead (x : Mat 8192 128) (p : Fin 8192) (k : Fin 128) : broadcastInDim S1x8192x128 ![1, 2] bcast_S8192x128_S1x8192x128_1_2 x (ix3 0 p k) = x (ix2 p k) :=
  broadcastInDim_apply _ bcast_S8192x128_S1x8192x128_1_2 _ _ (ix2 p k) fun a => by
    match a with
    | ⟨0, _⟩ => exact (if_neg (show ¬ (8192 : ℕ) = 1 by decide)).symm
    | ⟨1, _⟩ => exact (if_neg (show ¬ (128 : ℕ) = 1 by decide)).symm

theorem two (x0 x1 : Stack 1 8192 128) (g : Fin 2) (p : Fin 8192) (k : Fin 128) :
    concatenate S2x8192x128 0 [⟨S1x8192x128, x0⟩, ⟨S1x8192x128, x1⟩] concatenates_S1x8192x128_S1x8192x128_S2x8192x128_d0 (ix3 g p k) = if g = 0 then x0 (ix3 0 p k) else x1 (ix3 0 p k) := by
  match g with
  | ⟨0, _⟩ =>
    refine (concatenate_pair_apply_left (t := S2x8192x128) (s₁ := S1x8192x128) (s₂ := S1x8192x128) 0 _ _ concatenates_S1x8192x128_S1x8192x128_S2x8192x128_d0 _ rfl (ix3 0 p k) fun b => ?_).trans (if_pos rfl).symm
    match b with
    | ⟨0, _⟩ => rfl
    | ⟨1, _⟩ => rfl
    | ⟨2, _⟩ => rfl
  | ⟨1, _⟩ =>
    refine (concatenate_pair_apply_right (t := S2x8192x128) (s₁ := S1x8192x128) (s₂ := S1x8192x128) 0 _ _ concatenates_S1x8192x128_S1x8192x128_S2x8192x128_d0 _ rfl rfl (ix3 0 p k) (fun b hb => ?_) rfl).trans (if_neg one_ne).symm
    match b with
    | ⟨0, _⟩ => exact absurd rfl hb
    | ⟨1, _⟩ => rfl
    | ⟨2, _⟩ => rfl

theorem beside (x0 x1 : Mat 8192 64) (p : Fin 8192) (l : Fin 128) :
    concatenate S8192x128 1 [⟨S8192x64, x0⟩, ⟨S8192x64, x1⟩] concatenates_S8192x64_S8192x64_S8192x128_d1 (ix2 p l)
      = if h : l.val < 64 then x0 (ix2 p ⟨l.val, h⟩) else x1 (ix2 p ⟨l.val - 64, by have := l.isLt; omega⟩) := by
  by_cases h : l.val < 64
  · rw [dif_pos h]
    refine concatenate_pair_apply_left (t := S8192x128) (s₁ := S8192x64) (s₂ := S8192x64) 1 _ _ concatenates_S8192x64_S8192x64_S8192x128_d1 _ rfl (ix2 p ⟨l.val, h⟩) fun b => ?_
    match b with
    | ⟨0, _⟩ => rfl
    | ⟨1, _⟩ => rfl
  · rw [dif_neg h]
    refine concatenate_pair_apply_right (t := S8192x128) (s₁ := S8192x64) (s₂ := S8192x64) 1 _ _ concatenates_S8192x64_S8192x64_S8192x128_d1 _ rfl rfl (ix2 p ⟨l.val - 64, by have := l.isLt; omega⟩) (fun b hb => ?_) ?_
    · match b with
      | ⟨0, _⟩ => rfl
      | ⟨1, _⟩ => exact absurd rfl hb
    · show l.val - 64 + 64 = l.val; omega

theorem low (x : Mat 8192 128) (p : Fin 8192) (l : Fin 64) : extractStridedSlice S8192x64 ![0, 0] x slices_S8192x128_S8192x64_0_0 (ix2 p l) = x (ix2 p ⟨l.val, by have := l.isLt; omega⟩) :=
  extractStridedSlice_apply (s := S8192x128) (t := S8192x64) _ _ slices_S8192x128_S8192x64_0_0 _ (ix2 p ⟨l.val, by have := l.isLt; omega⟩) fun a => by
    match a with
    | ⟨0, _⟩ => show p.val = 0 + p.val; omega
    | ⟨1, _⟩ => show l.val = 0 + l.val; omega

theorem high (x : Mat 8192 128) (p : Fin 8192) (l : Fin 64) : extractStridedSlice S8192x64 ![0, 64] x slices_S8192x128_S8192x64_0_64 (ix2 p l) = x (ix2 p ⟨64 + l.val, by have := l.isLt; omega⟩) :=
  extractStridedSlice_apply (s := S8192x128) (t := S8192x64) _ _ slices_S8192x128_S8192x64_0_64 _ (ix2 p ⟨64 + l.val, by have := l.isLt; omega⟩) fun a => by
    match a with
    | ⟨0, _⟩ => show p.val = 0 + p.val; omega
    | ⟨1, _⟩ => rfl

/-- A column of ones and 63 of zeros. -/
def ones : Mat 8192 64 := concatenate S8192x64 1 [⟨S8192x1, (broadcastInDim S8192x1 ![] bcast_S_S8192x1 (constant (F := Ideal) S_ .f32 0x3F800000#32) : Mat 8192 1)⟩,
  ⟨S8192x63, (broadcastInDim S8192x63 ![] bcast_S_S8192x63 (constant (F := Ideal) S_ .f32 0x00000000#32) : Mat 8192 63)⟩] concatenates_S8192x1_S8192x63_S8192x64_d1

theorem ones_at (p : Fin 8192) (l : Fin 64) : ones (ix2 p l) = if l = 0 then 1 else 0 := by
  unfold ones
  by_cases h : l = 0
  · subst h
    rw [if_pos rfl]
    refine (concatenate_pair_apply_left (t := S8192x64) (s₁ := S8192x1) (s₂ := S8192x63) 1 _ _ concatenates_S8192x1_S8192x63_S8192x64_d1 _ rfl (ix2 p 0) fun b => ?_).trans Idealize.ShloMosaic.Ideal.ofBits_one_f32
    match b with
    | ⟨0, _⟩ => rfl
    | ⟨1, _⟩ => rfl
  · rw [if_neg h]
    have h' : l.val ≠ 0 := fun e => h (Fin.ext e)
    refine (concatenate_pair_apply_right (t := S8192x64) (s₁ := S8192x1) (s₂ := S8192x63) 1 _ _ concatenates_S8192x1_S8192x63_S8192x64_d1 _ rfl rfl (ix2 p ⟨l.val - 1, by have := l.isLt; omega⟩) (fun b hb => ?_) ?_).trans bitsZero
    · match b with
      | ⟨0, _⟩ => rfl
      | ⟨1, _⟩ => exact absurd rfl hb
    · show l.val - 1 + 1 = l.val; omega

theorem host0 (c : Dev nD) (p : Fin 8192) (q : Fin 512) : V m c main_v47 (ix2 p q) = arg0 m c (ix2 p q) := by
  have e : V m c main_v47 = truncf (F := Ideal) FTy.bf16 (m (c, Proc.tc.devRef main_arg0) : Vec Ideal S8192x512 .f32) bitsLt_bf16_f32 := by
    unfold V; after_reads_simp
  rw [e]
  rfl

/-- The keys: the heads' own lanes first, in the second plane the other head's lanes after them. -/
theorem host1 (c : Dev nD) (g : Fin 2) (j : Fin 8192) (l : Fin 128) :
    V m c main_v16 (ix3 g j l) = arg1 m c (ix2 j ⟨(64 * g.val + l.val) % 128, Nat.mod_lt _ (by decide)⟩) := by
  have e : V m c main_v16 = truncf (F := Ideal) FTy.bf16 (concatenate S2x8192x128 0 [⟨S1x8192x128, StableHlo.upto hostOps0 (fun b => m (c, b)) 10 (Proc.tc.devRef main_v6)⟩, ⟨S1x8192x128, StableHlo.upto hostOps0 (fun b => m (c, b)) 10 (Proc.tc.devRef main_v7)⟩] concatenates_S1x8192x128_S1x8192x128_S2x8192x128_d0 : Vec Ideal S2x8192x128 .f32) bitsLt_bf16_f32 := by
    unfold V
    after_reads_simp
  have u6 : StableHlo.upto hostOps0 (fun b => m (c, b)) 10 (Proc.tc.devRef main_v6) = broadcastInDim S1x8192x128 ![1, 2] bcast_S8192x128_S1x8192x128_1_2 (m (c, Proc.tc.devRef main_arg1) : Vec Ideal S8192x128 .f32) := by
    after_reads_simp
  have u7 : StableHlo.upto hostOps0 (fun b => m (c, b)) 10 (Proc.tc.devRef main_v7) = broadcastInDim S1x8192x128 ![1, 2] bcast_S8192x128_S1x8192x128_1_2 (concatenate S8192x128 1 [⟨S8192x64, StableHlo.upto hostOps0 (fun b => m (c, b)) 7 (Proc.tc.devRef main_v3)⟩, ⟨S8192x64, StableHlo.upto hostOps0 (fun b => m (c, b)) 7 (Proc.tc.devRef main_v4)⟩] concatenates_S8192x64_S8192x64_S8192x128_d1 : Vec Ideal S8192x128 .f32) := by
    after_reads_simp
  have u3 : StableHlo.upto hostOps0 (fun b => m (c, b)) 7 (Proc.tc.devRef main_v3) = extractStridedSlice S8192x64 ![0, 64] (m (c, Proc.tc.devRef main_arg1) : Vec Ideal S8192x128 .f32) slices_S8192x128_S8192x64_0_64 := by
    after_reads_simp
  have u4 : StableHlo.upto hostOps0 (fun b => m (c, b)) 7 (Proc.tc.devRef main_v4) = extractStridedSlice S8192x64 ![0, 0] (m (c, Proc.tc.devRef main_arg1) : Vec Ideal S8192x128 .f32) slices_S8192x128_S8192x64_0_0 := by
    after_reads_simp
  rw [e, u6, u7, u3, u4]
  have hl := l.isLt
  refine (two _ _ g j l).trans ?_
  match g with
  | ⟨0, _⟩ =>
    refine (if_pos rfl).trans ((lead _ j l).trans (congrArg (fun a : Fin 128 => arg1 m c (ix2 j a)) (Fin.ext ?_)))
    show l.val = (64 * 0 + l.val) % 128; omega
  | ⟨1, _⟩ =>
    refine (if_neg one_ne).trans ((lead _ j l).trans ((beside _ _ j l).trans ?_))
    by_cases h : l.val < 64
    · rw [dif_pos h]
      refine (high _ j _).trans (congrArg (fun a : Fin 128 => arg1 m c (ix2 j a)) (Fin.ext ?_))
      show 64 + l.val = (64 * 1 + l.val) % 128; omega
    · rw [dif_neg h]
      refine (low _ j _).trans (congrArg (fun a : Fin 128 => arg1 m c (ix2 j a)) (Fin.ext ?_))
      show l.val - 64 = (64 * 1 + l.val) % 128; omega

/-- The values: the head's own lanes, then a lane of ones, then zeros. -/
theorem host2 (c : Dev nD) (g : Fin 2) (j : Fin 8192) (l : Fin 128) :
    V m c main_v17 (ix3 g j l) = if h : l.val < 64 then arg2 m c (ix2 j ⟨64 * g.val + l.val, by have := g.isLt; omega⟩) else if l = 64 then 1 else 0 := by
  have e : V m c main_v17 = truncf (F := Ideal) FTy.bf16 (concatenate S2x8192x128 0 [⟨S1x8192x128, StableHlo.upto hostOps0 (fun b => m (c, b)) 17 (Proc.tc.devRef main_v13)⟩, ⟨S1x8192x128, StableHlo.upto hostOps0 (fun b => m (c, b)) 17 (Proc.tc.devRef main_v14)⟩] concatenates_S1x8192x128_S1x8192x128_S2x8192x128_d0 : Vec Ideal S2x8192x128 .f32) bitsLt_bf16_f32 := by
    unfold V
    after_reads_simp
  have u13 : StableHlo.upto hostOps0 (fun b => m (c, b)) 17 (Proc.tc.devRef main_v13) = broadcastInDim S1x8192x128 ![1, 2] bcast_S8192x128_S1x8192x128_1_2 (concatenate S8192x128 1 [⟨S8192x64, StableHlo.upto hostOps0 (fun b => m (c, b)) 12 (Proc.tc.devRef main_v9)⟩, ⟨S8192x64, StableHlo.upto hostOps0 (fun b => m (c, b)) 12 (Proc.tc.devRef main_v2)⟩] concatenates_S8192x64_S8192x64_S8192x128_d1 : Vec Ideal S8192x128 .f32) := by
    after_reads_simp
  have u14 : StableHlo.upto hostOps0 (fun b => m (c, b)) 17 (Proc.tc.devRef main_v14) = broadcastInDim S1x8192x128 ![1, 2] bcast_S8192x128_S1x8192x128_1_2 (concatenate S8192x128 1 [⟨S8192x64, StableHlo.upto hostOps0 (fun b => m (c, b)) 14 (Proc.tc.devRef main_v11)⟩, ⟨S8192x64, StableHlo.upto hostOps0 (fun b => m (c, b)) 14 (Proc.tc.devRef main_v2)⟩] concatenates_S8192x64_S8192x64_S8192x128_d1 : Vec Ideal S8192x128 .f32) := by
    after_reads_simp
  have u9 : StableHlo.upto hostOps0 (fun b => m (c, b)) 12 (Proc.tc.devRef main_v9) = extractStridedSlice S8192x64 ![0, 0] (m (c, Proc.tc.devRef main_arg2) : Vec Ideal S8192x128 .f32) slices_S8192x128_S8192x64_0_0 := by
    after_reads_simp
  have u11 : StableHlo.upto hostOps0 (fun b => m (c, b)) 14 (Proc.tc.devRef main_v11) = extractStridedSlice S8192x64 ![0, 64] (m (c, Proc.tc.devRef main_arg2) : Vec Ideal S8192x128 .f32) slices_S8192x128_S8192x64_0_64 := by
    after_reads_simp
  have w0 : StableHlo.upto hostOps0 (fun b => m (c, b)) 4 (Proc.tc.devRef main_v0) = (broadcastInDim S8192x1 ![] bcast_S_S8192x1 (constant (F := Ideal) S_ .f32 0x3F800000#32) : Mat 8192 1) := by
    after_reads_simp
  have w1 : StableHlo.upto hostOps0 (fun b => m (c, b)) 4 (Proc.tc.devRef main_v1) = (broadcastInDim S8192x63 ![] bcast_S_S8192x63 (constant (F := Ideal) S_ .f32 0x00000000#32) : Mat 8192 63) := by
    after_reads_simp
  have o12 : StableHlo.upto hostOps0 (fun b => m (c, b)) 12 (Proc.tc.devRef main_v2) = ones := by
    have e : StableHlo.upto hostOps0 (fun b => m (c, b)) 12 (Proc.tc.devRef main_v2) = concatenate S8192x64 1 [⟨S8192x1, StableHlo.upto hostOps0 (fun b => m (c, b)) 4 (Proc.tc.devRef main_v0)⟩, ⟨S8192x63, StableHlo.upto hostOps0 (fun b => m (c, b)) 4 (Proc.tc.devRef main_v1)⟩] concatenates_S8192x1_S8192x63_S8192x64_d1 := by
      after_reads_simp
    rw [e, w0, w1]
    rfl
  have o14 : StableHlo.upto hostOps0 (fun b => m (c, b)) 14 (Proc.tc.devRef main_v2) = ones := by
    have e : StableHlo.upto hostOps0 (fun b => m (c, b)) 14 (Proc.tc.devRef main_v2) = concatenate S8192x64 1 [⟨S8192x1, StableHlo.upto hostOps0 (fun b => m (c, b)) 4 (Proc.tc.devRef main_v0)⟩, ⟨S8192x63, StableHlo.upto hostOps0 (fun b => m (c, b)) 4 (Proc.tc.devRef main_v1)⟩] concatenates_S8192x1_S8192x63_S8192x64_d1 := by
      after_reads_simp
    rw [e, w0, w1]
    rfl
  rw [e, u13, u14, u9, u11, o12, o14]
  have hl := l.isLt
  have tail (h : ¬ l.val < 64) : ones (ix2 j ⟨l.val - 64, by omega⟩) = if l = 64 then 1 else 0 :=
    (ones_at j _).trans (if_congr ⟨fun q => Fin.ext (by have : l.val - 64 = 0 := congrArg Fin.val q; show l.val = 64; omega), fun q => Fin.ext (by have : l.val = 64 := congrArg Fin.val q; show l.val - 64 = 0; omega)⟩ rfl rfl)
  refine (two _ _ g j l).trans ?_
  match g with
  | ⟨0, _⟩ =>
    refine (if_pos rfl).trans ((lead _ j l).trans ((beside _ _ j l).trans ?_))
    by_cases h : l.val < 64
    · rw [dif_pos h, dif_pos h]
      refine (low _ j _).trans (congrArg (fun a : Fin 128 => arg2 m c (ix2 j a)) (Fin.ext ?_))
      show l.val = 64 * 0 + l.val; omega
    · rw [dif_neg h, dif_neg h]
      exact tail h
  | ⟨1, _⟩ =>
    refine (if_neg one_ne).trans ((lead _ j l).trans ((beside _ _ j l).trans ?_))
    by_cases h : l.val < 64
    · rw [dif_pos h, dif_pos h]
      exact high _ j _
    · rw [dif_neg h, dif_neg h]
      exact tail h

/-- The cotangent, and the attention's own two results. -/
theorem host3 (c : Dev nD) (i : S8192x512.Idx) : (V m c main_arg3 : Mat 8192 512) i = arg3 m c i := by
  have e : V m c main_arg3 = m (c, Proc.tc.devRef main_arg3) := by unfold V; after_reads_simp
  rw [e]

theorem host45 (c : Dev nD) : (V m c main_v45 : Mat 8192 512) = Cert.FlashAReferenceIdeal.Read.val_main_v27 (F := Ideal) (arg0 m c) (arg1 m c) (arg2 m c) := by
  unfold V
  after_reads_simp
  rfl

theorem host46 (c : Dev nD) : (V m c main_v46 : Mat 8192 512) = Cert.FlashAReferenceIdeal.Read.val_main_v28 (F := Ideal) (arg0 m c) (arg1 m c) := by
  unfold V
  after_reads_simp
  rfl

/-! ## The blocks -/

theorem index0 : ∀ t : Fin cfg0.N, win0_0.index t 0 = t.val % 32 ∧ win0_0.index t 1 = t.val / 32 :=
  (by decide +kernel : ∀ t : Fin grid0.N, win0_0.index t 0 = t.val % 32 ∧ win0_0.index t 1 = t.val / 32)
theorem index1 : ∀ t : Fin cfg0.N, win0_1.index t 0 = t.val % 32 ∧ win0_1.index t 1 = t.val / 32 :=
  (by decide +kernel : ∀ t : Fin grid0.N, win0_1.index t 0 = t.val % 32 ∧ win0_1.index t 1 = t.val / 32)
theorem index2 : ∀ t : Fin cfg0.N, win0_2.index t 0 = t.val % 32 ∧ win0_2.index t 1 = t.val / 32 :=
  (by decide +kernel : ∀ t : Fin grid0.N, win0_2.index t 0 = t.val % 32 ∧ win0_2.index t 1 = t.val / 32)
theorem index3 : ∀ t : Fin cfg0.N, win0_3.index t 0 = t.val % 32 ∧ win0_3.index t 1 = t.val / 32 :=
  (by decide +kernel : ∀ t : Fin grid0.N, win0_3.index t 0 = t.val % 32 ∧ win0_3.index t 1 = t.val / 32)
theorem index6 : ∀ t : Fin cfg0.N, win0_6.index t 0 = t.val % 32 ∧ win0_6.index t 1 = t.val / 32 :=
  (by decide +kernel : ∀ t : Fin grid0.N, win0_6.index t 0 = t.val % 32 ∧ win0_6.index t 1 = t.val / 32)
theorem index4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)
theorem index5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)
theorem index7 : ∀ t : Fin cfg0.N, win0_7.index t 0 = t.val / 32 ∧ win0_7.index t 1 = 0 ∧ win0_7.index t 2 = 0 :=
  (by decide +kernel : ∀ t : Fin grid0.N, win0_7.index t 0 = t.val / 32 ∧ win0_7.index t 1 = 0 ∧ win0_7.index t 2 = 0)
theorem index8 : ∀ t : Fin cfg0.N, win0_8.index t 0 = t.val / 32 ∧ win0_8.index t 1 = 0 ∧ win0_8.index t 2 = 0 :=
  (by decide +kernel : ∀ t : Fin grid0.N, win0_8.index t 0 = t.val / 32 ∧ win0_8.index t 1 = 0 ∧ win0_8.index t 2 = 0)

theorem block0 (c : Dev nD) (t : Fin cfg0.N) (g : Fin 2) (i : Fin 32) (ht : t.val = 32 * g.val + i.val) (r : Fin 256) (q : Fin 256) :
    (iblk m c 0 t : Vec Ideal S256x256 .bf16) (ix2 r q) = arg0 m c (ix2 ⟨256 * i.val + r.val, block_lt rfl i r⟩ ⟨256 * g.val + q.val, block_lt rfl g q⟩) := by
  have h := index0 t
  unfold iblk
  rw [View.read_apply]
  refine (congrArg (V m c main_v47) (funext fun a => Fin.ext ?_)).trans (host0 m c ⟨256 * i.val + r.val, block_lt rfl i r⟩ ⟨256 * g.val + q.val, block_lt rfl g q⟩)
  match a with
  | ⟨0, _⟩ => show win0_0.index t 0 * 256 + 1 * r.val = 256 * i.val + r.val; rw [h.1]; omega
  | ⟨1, _⟩ => show win0_0.index t 1 * 256 + 1 * q.val = 256 * g.val + q.val; rw [h.2]; omega

theorem block1 (c : Dev nD) (t : Fin cfg0.N) (g : Fin 2) (i : Fin 32) (ht : t.val = 32 * g.val + i.val) (r : Fin 256) (q : Fin 256) :
    (iblk m c 1 t : Vec Ideal S256x256 .f32) (ix2 r q) = arg3 m c (ix2 ⟨256 * i.val + r.val, block_lt rfl i r⟩ ⟨256 * g.val + q.val, block_lt rfl g q⟩) := by
  have h := index1 t
  unfold iblk
  rw [View.read_apply]
  refine (congrArg (V m c main_arg3) (funext fun a => Fin.ext ?_)).trans (host3 m c (ix2 ⟨256 * i.val + r.val, block_lt rfl i r⟩ ⟨256 * g.val + q.val, block_lt rfl g q⟩))
  match a with
  | ⟨0, _⟩ => show win0_1.index t 0 * 256 + 1 * r.val = 256 * i.val + r.val; rw [h.1]; omega
  | ⟨1, _⟩ => show win0_1.index t 1 * 256 + 1 * q.val = 256 * g.val + q.val; rw [h.2]; omega

theorem block2 (c : Dev nD) (t : Fin cfg0.N) (g : Fin 2) (i : Fin 32) (ht : t.val = 32 * g.val + i.val) (r : Fin 256) (q : Fin 256) :
    (iblk m c 2 t : Vec Ideal S256x256 .bf16) (ix2 r q) = Cert.FlashAReferenceIdeal.Read.val_main_v27 (F := Ideal) (arg0 m c) (arg1 m c) (arg2 m c) (ix2 ⟨256 * i.val + r.val, block_lt rfl i r⟩ ⟨256 * g.val + q.val, block_lt rfl g q⟩) := by
  have h := index2 t
  unfold iblk
  rw [View.read_apply]
  refine (congrArg (V m c main_v45) (funext fun a => Fin.ext ?_)).trans (congrFun (host45 m c) (ix2 ⟨256 * i.val + r.val, block_lt rfl i r⟩ ⟨256 * g.val + q.val, block_lt rfl g q⟩))
  match a with
  | ⟨0, _⟩ => show win0_2.index t 0 * 256 + 1 * r.val = 256 * i.val + r.val; rw [h.1]; omega
  | ⟨1, _⟩ => show win0_2.index t 1 * 256 + 1 * q.val = 256 * g.val + q.val; rw [h.2]; omega

theorem block3 (c : Dev nD) (t : Fin cfg0.N) (g : Fin 2) (i : Fin 32) (ht : t.val = 32 * g.val + i.val) (r : Fin 256) (q : Fin 256) :
    (iblk m c 3 t : Vec Ideal S256x256 .f32) (ix2 r q) = Cert.FlashAReferenceIdeal.Read.val_main_v28 (F := Ideal) (arg0 m c) (arg1 m c) (ix2 ⟨256 * i.val + r.val, block_lt rfl i r⟩ ⟨256 * g.val + q.val, block_lt rfl g q⟩) := by
  have h := index3 t
  unfold iblk
  rw [View.read_apply]
  refine (congrArg (V m c main_v46) (funext fun a => Fin.ext ?_)).trans (congrFun (host46 m c) (ix2 ⟨256 * i.val + r.val, block_lt rfl i r⟩ ⟨256 * g.val + q.val, block_lt rfl g q⟩))
  match a with
  | ⟨0, _⟩ => show win0_3.index t 0 * 256 + 1 * r.val = 256 * i.val + r.val; rw [h.1]; omega
  | ⟨1, _⟩ => show win0_3.index t 1 * 256 + 1 * q.val = 256 * g.val + q.val; rw [h.2]; omega

theorem block4 (c : Dev nD) (t : Fin cfg0.N) (g : Fin 2) (i : Fin 32) (ht : t.val = 32 * g.val + i.val) (j : Fin 8192) (l : Fin 128) :
    (iblk m c 4 t : Vec Ideal S1x8192x128 .bf16) (ix3 (0 : Fin 1) j l) = arg1 m c (ix2 j ⟨(64 * g.val + l.val) % 128, Nat.mod_lt _ (by decide)⟩) := by
  have h := index4 t
  unfold iblk
  rw [View.read_apply]
  refine (congrArg (V m c main_v16) (funext fun a => Fin.ext ?_)).trans (host1 m c g j l)
  match a with
  | ⟨0, _⟩ => show win0_4.index t 0 * 1 + 1 * 0 = g.val; rw [h.1]; omega
  | ⟨1, _⟩ => show win0_4.index t 1 * 8192 + 1 * j.val = j.val; rw [h.2.1]; omega
  | ⟨2, _⟩ => show win0_4.index t 2 * 128 + 1 * l.val = l.val; rw [h.2.2]; omega

theorem block5 (c : Dev nD) (t : Fin cfg0.N) (g : Fin 2) (i : Fin 32) (ht : t.val = 32 * g.val + i.val) (j : Fin 8192) (l : Fin 128) :
    (iblk m c 5 t : Vec Ideal S1x8192x128 .bf16) (ix3 (0 : Fin 1) j l) = if h : l.val < 64 then arg2 m c (ix2 j ⟨64 * g.val + l.val, by have := g.isLt; omega⟩) else if l = 64 then 1 else 0 := by
  have h := index5 t
  unfold iblk
  rw [View.read_apply]
  refine (congrArg (V m c main_v17) (funext fun a => Fin.ext ?_)).trans (host2 m c g j l)
  match a with
  | ⟨0, _⟩ => show win0_5.index t 0 * 1 + 1 * 0 = g.val; rw [h.1]; omega
  | ⟨1, _⟩ => show win0_5.index t 1 * 8192 + 1 * j.val = j.val; rw [h.2.1]; omega
  | ⟨2, _⟩ => show win0_5.index t 2 * 128 + 1 * l.val = l.val; rw [h.2.2]; omega

theorem col_surj (q : Fin 256) : q = col ⟨q.val / 128, by have := q.isLt; omega⟩ ⟨q.val / 64 % 2, Nat.mod_lt _ (by decide)⟩ ⟨q.val % 64, Nat.mod_lt _ (by decide)⟩ :=
  Fin.ext (by show q.val = 128 * (q.val / 128) + (64 * (q.val / 64 % 2) + q.val % 64); omega)

/-- A block's columns are a group's heads, side by side. -/
theorem col_eq (g p u : Fin 2) (d : Fin 64) : (⟨256 * g.val + (col p u d).val, block_lt rfl g (col p u d)⟩ : Fin 512) = column g (⟨2 * p.val + u.val, block_lt rfl p u⟩ : Fin 4) d :=
  Fin.ext (by show 256 * g.val + (128 * p.val + (64 * u.val + d.val)) = 256 * g.val + 64 * (2 * p.val + u.val) + d.val; omega)

/-- The real parts of a point's blocks. -/
def rx (c : Dev nD) (g : Fin 2) (i : Fin 32) (r q : Fin 256) : ℝ := EReal.toReal (arg0 m c (ix2 ⟨256 * i.val + r.val, block_lt rfl i r⟩ ⟨256 * g.val + q.val, block_lt rfl g q⟩))
def ry (c : Dev nD) (g : Fin 2) (i : Fin 32) (r q : Fin 256) : ℝ := EReal.toReal (arg3 m c (ix2 ⟨256 * i.val + r.val, block_lt rfl i r⟩ ⟨256 * g.val + q.val, block_lt rfl g q⟩))
def ro (c : Dev nD) (g : Fin 2) (i : Fin 32) (r q : Fin 256) : ℝ := total (arg0 m c) (arg1 m c) (arg2 m c) ⟨256 * i.val + r.val, block_lt rfl i r⟩ ⟨256 * g.val + q.val, block_lt rfl g q⟩ / mass (arg0 m c) (arg1 m c) ⟨256 * i.val + r.val, block_lt rfl i r⟩ ⟨256 * g.val + q.val, block_lt rfl g q⟩
def rl (c : Dev nD) (g : Fin 2) (i : Fin 32) (p u : Fin 2) (r : Fin 256) : ℝ := Real.log (mass (arg0 m c) (arg1 m c) (⟨256 * i.val + r.val, block_lt rfl i r⟩ : Fin 8192) (column g (⟨2 * p.val + u.val, block_lt rfl p u⟩ : Fin 4) 0))
def rk (c : Dev nD) (g : Fin 2) (j : Fin 8192) (l : Fin 128) : ℝ := EReal.toReal (arg1 m c (ix2 j ⟨(64 * g.val + l.val) % 128, Nat.mod_lt _ (by decide)⟩))
def rv (c : Dev nD) (g : Fin 2) (j : Fin 8192) (l : Fin 128) : ℝ :=
  if h : l.val < 64 then EReal.toReal (arg2 m c (ix2 j ⟨64 * g.val + l.val, by have := g.isLt; omega⟩)) else if l = 64 then 1 else 0

theorem key_eq (c : Dev nD) (g : Fin 2) (b : Fin 4) (e d : Fin 64) (j : Fin 8192) : rk m c g j (d.castLE (by decide)) = EReal.toReal (arg1 m c (ix2 j (group (column g b e) d))) := by
  have hg := g.isLt; have hb := b.isLt; have he := e.isLt; have hd := d.isLt
  refine congrArg (fun a : Fin 128 => EReal.toReal (arg1 m c (ix2 j a))) (Fin.ext ?_)
  show (64 * g.val + d.val) % 128 = 64 * ((256 * g.val + 64 * b.val + e.val) / 256) + d.val; omega

theorem val_eq (c : Dev nD) (g : Fin 2) (b : Fin 4) (e d : Fin 64) (j : Fin 8192) : rv m c g j (d.castLE (by decide)) = EReal.toReal (arg2 m c (ix2 j (group (column g b e) d))) := by
  have hg := g.isLt; have hb := b.isLt; have he := e.isLt; have hd := d.isLt
  refine (dif_pos (show (d.castLE (by decide : 64 ≤ 128)).val < 64 from d.isLt)).trans (congrArg (fun a : Fin 128 => EReal.toReal (arg2 m c (ix2 j a))) (Fin.ext ?_))
  show 64 * g.val + d.val = 64 * ((256 * g.val + 64 * b.val + e.val) / 256) + d.val; omega

theorem rx_eq (c : Dev nD) (g : Fin 2) (i : Fin 32) (p u : Fin 2) (r : Fin 256) (d : Fin 64) : rx m c g i r (col p u d) = EReal.toReal (arg0 m c (ix2 (⟨256 * i.val + r.val, block_lt rfl i r⟩ : Fin 8192) (column g (⟨2 * p.val + u.val, block_lt rfl p u⟩ : Fin 4) d))) :=
  congrArg (fun a : Fin 512 => EReal.toReal (arg0 m c (ix2 (⟨256 * i.val + r.val, block_lt rfl i r⟩ : Fin 8192) a))) (col_eq g p u d)
theorem ry_eq (c : Dev nD) (g : Fin 2) (i : Fin 32) (p u : Fin 2) (r : Fin 256) (d : Fin 64) : ry m c g i r (col p u d) = EReal.toReal (arg3 m c (ix2 (⟨256 * i.val + r.val, block_lt rfl i r⟩ : Fin 8192) (column g (⟨2 * p.val + u.val, block_lt rfl p u⟩ : Fin 4) d))) :=
  congrArg (fun a : Fin 512 => EReal.toReal (arg3 m c (ix2 (⟨256 * i.val + r.val, block_lt rfl i r⟩ : Fin 8192) a))) (col_eq g p u d)
theorem ro_eq (c : Dev nD) (g : Fin 2) (i : Fin 32) (p u : Fin 2) (r : Fin 256) (d : Fin 64) : ro m c g i r (col p u d) = total (arg0 m c) (arg1 m c) (arg2 m c) (⟨256 * i.val + r.val, block_lt rfl i r⟩ : Fin 8192) (column g (⟨2 * p.val + u.val, block_lt rfl p u⟩ : Fin 4) d) / mass (arg0 m c) (arg1 m c) (⟨256 * i.val + r.val, block_lt rfl i r⟩ : Fin 8192) (column g (⟨2 * p.val + u.val, block_lt rfl p u⟩ : Fin 4) d) :=
  congrArg (fun a : Fin 512 => total (arg0 m c) (arg1 m c) (arg2 m c) (⟨256 * i.val + r.val, block_lt rfl i r⟩ : Fin 8192) a / mass (arg0 m c) (arg1 m c) (⟨256 * i.val + r.val, block_lt rfl i r⟩ : Fin 8192) a) (col_eq g p u d)

/-- A point's weights and the gradients of its scores are the attention's. -/
theorem prob_eq (c : Dev nD) (g : Fin 2) (i : Fin 32) (p u : Fin 2) (r : Fin 256) (d : Fin 64) (j : Fin 8192) :
    bprob (rk m c g) (rx m c g i) (rl m c g i) p u r j = prob (arg0 m c) (arg1 m c) (⟨256 * i.val + r.val, block_lt rfl i r⟩ : Fin 8192) (column g (⟨2 * p.val + u.val, block_lt rfl p u⟩ : Fin 4) d) j := by
  rw [column_head g _ d 0, prob_head, ← exp_sub_log]
  refine congrArg (fun a : ℝ => Real.exp (a - _)) ?_
  unfold score
  rw [Finset.sum_mul]
  refine Finset.sum_congr rfl fun e _ => ?_
  rw [← column_head g _ e 0, ← key_eq m c g _ 0 e j]
  refine (congrArg (fun a : ℝ => a * (1 / 8) * _) (rx_eq m c g i p u r e)).trans ?_
  ring

theorem grad_eq (c : Dev nD) (g : Fin 2) (i : Fin 32) (p u : Fin 2) (r : Fin 256) (d : Fin 64) (j : Fin 8192) :
    bslope (rk m c g) (rv m c g) (rx m c g i) (ry m c g i) (ro m c g i) (rl m c g i) p u r j = Cert.Attend.slope (arg0 m c) (arg1 m c) (arg2 m c) (arg3 m c) (⟨256 * i.val + r.val, block_lt rfl i r⟩ : Fin 8192) (column g (⟨2 * p.val + u.val, block_lt rfl p u⟩ : Fin 4) d) j := by
  rw [column_head g _ d 0, slope_head]
  refine congrArg₂ (fun a b : ℝ => a * b) (prob_eq m c g i p u r 0 j) (congrArg₂ (fun a b : ℝ => a - b) (Finset.sum_congr rfl fun e _ => ?_) ?_)
  · rw [← column_head g _ e 0, ← val_eq m c g _ 0 e j]
    exact congrArg (fun a : ℝ => a * _) (ry_eq m c g i p u r e)
  · rw [← mean_eq]
    refine Finset.sum_congr rfl fun e _ => ?_
    rw [← column_head g _ e 0]
    exact congrArg₂ (fun a b : ℝ => a * b) (ry_eq m c g i p u r e) (ro_eq m c g i p u r e)

theorem termK_eq (c : Dev nD) (g : Fin 2) (i : Fin 32) (p u : Fin 2) (r : Fin 256) (j : Fin 8192) (l : Fin 128) :
    bslope (rk m c g) (rv m c g) (rx m c g i) (ry m c g i) (ro m c g i) (rl m c g i) p u r j * pad (rowsQ (rx m c g i) p u r) l = termK (arg0 m c) (arg1 m c) (arg2 m c) (arg3 m c) g j l (⟨2 * p.val + u.val, block_lt rfl p u⟩ : Fin 4) (⟨256 * i.val + r.val, block_lt rfl i r⟩ : Fin 8192) := by
  unfold pad termK
  by_cases h : l.val < 64
  · rw [dif_pos h, dif_pos h]
    exact congrArg₂ (fun a b : ℝ => a * b) (grad_eq m c g i p u r ⟨l.val, h⟩ j) (congrArg (fun a : ℝ => a * (1 / 8)) (rx_eq m c g i p u r ⟨l.val, h⟩))
  · rw [dif_neg h, dif_neg h, mul_zero]

theorem termV_eq (c : Dev nD) (g : Fin 2) (i : Fin 32) (p u : Fin 2) (r : Fin 256) (j : Fin 8192) (l : Fin 128) :
    bprob (rk m c g) (rx m c g i) (rl m c g i) p u r j * pad (rowsY (ry m c g i) p u r) l = termV (arg0 m c) (arg1 m c) (arg3 m c) g j l (⟨2 * p.val + u.val, block_lt rfl p u⟩ : Fin 4) (⟨256 * i.val + r.val, block_lt rfl i r⟩ : Fin 8192) := by
  unfold pad termV
  by_cases h : l.val < 64
  · rw [dif_pos h, dif_pos h]
    exact congrArg₂ (fun a b : ℝ => a * b) (prob_eq m c g i p u r ⟨l.val, h⟩ j) (ry_eq m c g i p u r ⟨l.val, h⟩)
  · rw [dif_neg h, dif_neg h, mul_zero]

variable (h0 : ∀ c i, ∃ r : ℝ, arg0 m c i = (r : EReal)) (h1 : ∀ c i, ∃ r : ℝ, arg1 m c i = (r : EReal)) (h2 : ∀ c i, ∃ r : ℝ, arg2 m c i = (r : EReal)) (h3 : ∀ c i, ∃ r : ℝ, arg3 m c i = (r : EReal))
  (b0 : ∀ c i, |EReal.toReal (arg0 m c i)| ≤ 2 ^ 40) (b1 : ∀ c i, |EReal.toReal (arg1 m c i)| ≤ 2 ^ 40)

include h0 in
theorem read0 (c : Dev nD) (t : Fin cfg0.N) (g : Fin 2) (i : Fin 32) (ht : t.val = 32 * g.val + i.val) (r q : Fin 256) : ((iblk m c 0 t : Vec Ideal S256x256 .bf16) (ix2 r q) : EReal) = (rx m c g i r q : EReal) :=
  (block0 m c t g i ht r q).trans (real_part (h0 c _))

include h3 in
theorem read1 (c : Dev nD) (t : Fin cfg0.N) (g : Fin 2) (i : Fin 32) (ht : t.val = 32 * g.val + i.val) (r q : Fin 256) : ((iblk m c 1 t : Vec Ideal S256x256 .f32) (ix2 r q) : EReal) = (ry m c g i r q : EReal) :=
  (block1 m c t g i ht r q).trans (real_part (h3 c _))

include h0 h1 h2 in
theorem read2 (c : Dev nD) (t : Fin cfg0.N) (g : Fin 2) (i : Fin 32) (ht : t.val = 32 * g.val + i.val) (r q : Fin 256) : ((iblk m c 2 t : Vec Ideal S256x256 .bf16) (ix2 r q) : EReal) = (ro m c g i r q : EReal) :=
  (block2 m c t g i ht r q).trans (congrFun (Cert.FlashAReferenceIdeal.Val.attention (arg2 m c) (h0 c) (h1 c) (h2 c)) _)

include h0 h1 in
theorem read3 (c : Dev nD) (t : Fin cfg0.N) (g : Fin 2) (i : Fin 32) (ht : t.val = 32 * g.val + i.val) (p u : Fin 2) (r : Fin 256) (d : Fin 64) : ((iblk m c 3 t : Vec Ideal S256x256 .f32) (ix2 r (col p u d)) : EReal) = (rl m c g i p u r : EReal) := by
  refine (block3 m c t g i ht r (col p u d)).trans ((congrFun (Cert.FlashAReferenceIdeal.Val.logs (h0 c) (h1 c)) _).trans ?_)
  refine congrArg (fun a : ℝ => ((Real.log a : ℝ) : EReal)) ?_
  show mass (arg0 m c) (arg1 m c) (⟨256 * i.val + r.val, block_lt rfl i r⟩ : Fin 8192) (⟨256 * g.val + (col p u d).val, block_lt rfl g (col p u d)⟩ : Fin 512) = mass (arg0 m c) (arg1 m c) (⟨256 * i.val + r.val, block_lt rfl i r⟩ : Fin 8192) (column g (⟨2 * p.val + u.val, block_lt rfl p u⟩ : Fin 4) 0)
  rw [col_eq, column_head g _ d 0, mass_head]

include b0 b1 in
theorem low3 (c : Dev nD) (g : Fin 2) (i : Fin 32) (p u : Fin 2) (r : Fin 256) : (-2 ^ 83 : ℝ) ≤ rl m c g i p u r := log_low (arg0 m c) (arg1 m c) (b0 c) (b1 c) _ _

include h1 in
theorem read4 (c : Dev nD) (t : Fin cfg0.N) (g : Fin 2) (i : Fin 32) (ht : t.val = 32 * g.val + i.val) (j : Fin 8192) (l : Fin 128) : ((iblk m c 4 t : Vec Ideal S1x8192x128 .bf16) (ix3 0 j l) : EReal) = (rk m c g j l : EReal) :=
  (block4 m c t g i ht j l).trans (real_part (h1 c _))

include h2 in
theorem read5 (c : Dev nD) (t : Fin cfg0.N) (g : Fin 2) (i : Fin 32) (ht : t.val = 32 * g.val + i.val) (j : Fin 8192) (l : Fin 128) : ((iblk m c 5 t : Vec Ideal S1x8192x128 .bf16) (ix3 0 j l) : EReal) = (rv m c g j l : EReal) := by
  refine (block5 m c t g i ht j l).trans ?_
  unfold rv
  by_cases h : l.val < 64
  · rw [dif_pos h, dif_pos h]; exact real_part (h2 c _)
  · rw [dif_neg h, dif_neg h]
    by_cases h' : l = 64
    · rw [if_pos h', if_pos h']; rfl
    · rw [if_neg h', if_neg h']; rfl

/-! ## The gradient of the queries -/

include h0 h1 h2 h3 b0 b1 in
theorem value6 (c : Dev nD) (t : Fin cfg0.N) (g : Fin 2) (i : Fin 32) (ht : t.val = 32 * g.val + i.val) (r q : Fin 256) :
    ((outsAt0 m c t.val t.isLt).1 (ix2 r q) : EReal) = gradQ (arg0 m c) (arg1 m c) (arg2 m c) (arg3 m c) (ix2 ⟨256 * i.val + r.val, block_lt rfl i r⟩ ⟨256 * g.val + q.val, block_lt rfl g q⟩) := by
  rw [col_surj q]
  generalize (⟨q.val / 128, by have := q.isLt; omega⟩ : Fin 2) = p
  generalize (⟨q.val / 64 % 2, Nat.mod_lt _ (by decide)⟩ : Fin 2) = u
  generalize (⟨q.val % 64, Nat.mod_lt _ (by decide)⟩ : Fin 64) = d
  have e : gradQ (arg0 m c) (arg1 m c) (arg2 m c) (arg3 m c) (ix2 (⟨256 * i.val + r.val, block_lt rfl i r⟩ : Fin 8192) (⟨256 * g.val + (col p u d).val, block_lt rfl g (col p u d)⟩ : Fin 512))
      = (((∑ j : Fin 8192, bslope (rk m c g) (rv m c g) (rx m c g i) (ry m c g i) (ro m c g i) (rl m c g i) p u r j * rk m c g j (d.castLE (by decide))) * (1 / 8) : ℝ) : EReal) := by
    rw [col_eq]
    refine congrArg (fun a : ℝ => ((a * (1 / 8) : ℝ) : EReal)) (Finset.sum_congr rfl fun j _ => ?_)
    refine congrArg₂ (fun a b : ℝ => a * b) (grad_eq m c g i p u r d j).symm ?_
    rw [key_eq m c g (⟨2 * p.val + u.val, block_lt rfl p u⟩ : Fin 4) d d j]
    refine congrArg (fun a : Fin 64 => EReal.toReal (arg1 m c (ix2 j (group (column g (⟨2 * p.val + u.val, block_lt rfl p u⟩ : Fin 4) d) a)))) (Fin.ext ?_)
    show (256 * g.val + 64 * (2 * p.val + u.val) + d.val) % 64 = d.val
    have := d.isLt
    omega
  refine Eq.trans ?_ e.symm
  by_cases hA : t.val % 32 = 0
  · exact (congrFun (congrArg (fun z => z.1) (outsAt0_A m c t hA)) _).trans
      (realA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rv m c g) (rx m c g i) (ry m c g i) (ro m c g i) (rl m c g i) (read0 m h0 c t g i ht) (read1 m h3 c t g i ht) (read2 m h0 h1 h2 c t g i ht) (read3 m h0 h1 c t g i ht) (low3 m b0 b1 c g i) (read4 m h1 c t g i ht) (read5 m h2 c t g i ht) ((hcond0_0 t).mpr hA) p u r d)
  · exact (congrFun (congrArg (fun z => z.1) (outsAt0_B m c t hA)) _).trans
      (realB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rv m c g) (rx m c g i) (ry m c g i) (ro m c g i) (rl m c g i) (read0 m h0 c t g i ht) (read1 m h3 c t g i ht) (read2 m h0 h1 h2 c t g i ht) (read3 m h0 h1 c t g i ht) (low3 m b0 b1 c g i) (read4 m h1 c t g i ht) (read5 m h2 c t g i ht) (fun h => hA ((hcond0_0 t).mp h)) _ _ p u r d)

/-! ## The gradients of the keys and of the values -/

/-- What block `i` of rows adds to the gradient of the keys. -/
def partK (c : Dev nD) (g : Fin 2) (j : Fin 8192) (l : Fin 128) (i : Fin 32) : ℝ :=
  ∑ p : Fin 2, ∑ u : Fin 2, ∑ r : Fin 256, termK (arg0 m c) (arg1 m c) (arg2 m c) (arg3 m c) g j l (⟨2 * p.val + u.val, block_lt rfl p u⟩ : Fin 4) (⟨256 * i.val + r.val, block_lt rfl i r⟩ : Fin 8192)

def partKN (c : Dev nD) (g : Fin 2) (j : Fin 8192) (l : Fin 128) (n : ℕ) : ℝ := if h : n < 32 then partK m c g j l ⟨n, h⟩ else 0

include h0 h1 h2 h3 b0 b1 in
/-- After `n + 1` blocks of a group, their sum. -/
theorem acc7 (c : Dev nD) (g : Fin 2) (j : Fin 8192) (l : Fin 128) (n : ℕ) : ∀ (hn : n < 32) (t : Fin cfg0.N) (ht : t.val = 32 * g.val + n),
    ((outsAt0 m c t.val t.isLt).2.1 (ix3 0 j l) : EReal) = ((∑ x ∈ Finset.range (n + 1), partKN m c g j l x : ℝ) : EReal) := by
  induction n with
  | zero =>
    intro hn t ht
    have hA : t.val % 32 = 0 := by omega
    obtain ⟨i, hi⟩ : ∃ i : Fin 32, i.val = 0 := ⟨0, rfl⟩
    have ht : t.val = 32 * g.val + i.val := by omega
    refine ((congrFun (congrArg (fun z : Vec Ideal S256x256 .f32 × Vec Ideal S1x8192x128 .f32 × Vec Ideal S1x8192x128 .f32 => z.2.1) (outsAt0_A m c t hA)) _).trans
      (realA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rv m c g) (rx m c g i) (ry m c g i) (ro m c g i) (rl m c g i) (read0 m h0 c t g i ht) (read1 m h3 c t g i ht) (read2 m h0 h1 h2 c t g i ht) (read3 m h0 h1 c t g i ht) (low3 m b0 b1 c g i) (read4 m h1 c t g i ht) (read5 m h2 c t g i ht) ((hcond0_0 t).mpr hA) j l)).trans (congrArg (fun a : ℝ => (a : EReal)) ?_)
    rw [Finset.sum_range_one]
    refine Eq.trans (Finset.sum_congr rfl fun p _ => Finset.sum_congr rfl fun u _ => Finset.sum_congr rfl fun r _ => termK_eq m c g i p u r j l) ?_
    refine Eq.trans ?_ (dif_pos hn).symm
    exact congrArg (partK m c g j l) (Fin.ext hi)
  | succ n ih =>
    intro hn t ht
    have hA : ¬t.val % 32 = 0 := by omega
    have prev := ih (by omega) ⟨t.val - 1, Nat.lt_of_le_of_lt (Nat.sub_le _ _) t.isLt⟩ (by show t.val - 1 = _; omega)
    obtain ⟨i, hi⟩ : ∃ i : Fin 32, i.val = n + 1 := ⟨⟨n + 1, hn⟩, rfl⟩
    have ht : t.val = 32 * g.val + i.val := by omega
    refine ((congrFun (congrArg (fun z : Vec Ideal S256x256 .f32 × Vec Ideal S1x8192x128 .f32 × Vec Ideal S1x8192x128 .f32 => z.2.1) (outsAt0_B m c t hA)) _).trans
      (realB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rv m c g) (rx m c g i) (ry m c g i) (ro m c g i) (rl m c g i) (read0 m h0 c t g i ht) (read1 m h3 c t g i ht) (read2 m h0 h1 h2 c t g i ht) (read3 m h0 h1 c t g i ht) (low3 m b0 b1 c g i) (read4 m h1 c t g i ht) (read5 m h2 c t g i ht) (fun h => hA ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2 _ j l prev)).trans (congrArg (fun a : ℝ => (a : EReal)) ?_)
    rw [Finset.sum_range_succ _ (n + 1)]
    refine congrArg (fun a : ℝ => _ + a) ?_
    refine Eq.trans (Finset.sum_congr rfl fun p _ => Finset.sum_congr rfl fun u _ => Finset.sum_congr rfl fun r _ => termK_eq m c g i p u r j l) ?_
    refine Eq.trans ?_ (dif_pos hn).symm
    exact congrArg (partK m c g j l) (Fin.ext hi)

include h0 h1 h2 h3 b0 b1 in
theorem value7 (c : Dev nD) (t : Fin cfg0.N) (g : Fin 2) (i : Fin 32) (ht : t.val = 32 * g.val + i.val) (hi : t.val % 32 = 31) (j : Fin 8192) (l : Fin 128) :
    ((outsAt0 m c t.val t.isLt).2.1 (ix3 0 j l) : EReal) = gradK (arg0 m c) (arg1 m c) (arg2 m c) (arg3 m c) (ix3 g j l) := by
  refine (acc7 m h0 h1 h2 h3 b0 b1 c g j l 31 (by decide) t (by omega)).trans (congrArg (fun a : ℝ => (a : EReal)) ?_)
  rw [Finset.sum_range]
  refine (Finset.sum_congr rfl fun x _ => dif_pos x.isLt).trans ?_
  exact regroup (termK (arg0 m c) (arg1 m c) (arg2 m c) (arg3 m c) g j l)

/-- What block `i` of rows adds to the gradient of the values. -/
def partV (c : Dev nD) (g : Fin 2) (j : Fin 8192) (l : Fin 128) (i : Fin 32) : ℝ :=
  ∑ p : Fin 2, ∑ u : Fin 2, ∑ r : Fin 256, termV (arg0 m c) (arg1 m c) (arg3 m c) g j l (⟨2 * p.val + u.val, block_lt rfl p u⟩ : Fin 4) (⟨256 * i.val + r.val, block_lt rfl i r⟩ : Fin 8192)

def partVN (c : Dev nD) (g : Fin 2) (j : Fin 8192) (l : Fin 128) (n : ℕ) : ℝ := if h : n < 32 then partV m c g j l ⟨n, h⟩ else 0

include h0 h1 h2 h3 b0 b1 in
/-- After `n + 1` blocks of a group, their sum. -/
theorem acc8 (c : Dev nD) (g : Fin 2) (j : Fin 8192) (l : Fin 128) (n : ℕ) : ∀ (hn : n < 32) (t : Fin cfg0.N) (ht : t.val = 32 * g.val + n),
    ((outsAt0 m c t.val t.isLt).2.2 (ix3 0 j l) : EReal) = ((∑ x ∈ Finset.range (n + 1), partVN m c g j l x : ℝ) : EReal) := by
  induction n with
  | zero =>
    intro hn t ht
    have hA : t.val % 32 = 0 := by omega
    obtain ⟨i, hi⟩ : ∃ i : Fin 32, i.val = 0 := ⟨0, rfl⟩
    have ht : t.val = 32 * g.val + i.val := by omega
    refine ((congrFun (congrArg (fun z : Vec Ideal S256x256 .f32 × Vec Ideal S1x8192x128 .f32 × Vec Ideal S1x8192x128 .f32 => z.2.2) (outsAt0_A m c t hA)) _).trans
      (realA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rx m c g i) (ry m c g i) (rl m c g i) (read0 m h0 c t g i ht) (read1 m h3 c t g i ht) (read3 m h0 h1 c t g i ht) (low3 m b0 b1 c g i) (read4 m h1 c t g i ht) ((hcond0_0 t).mpr hA) j l)).trans (congrArg (fun a : ℝ => (a : EReal)) ?_)
    rw [Finset.sum_range_one]
    refine Eq.trans (Finset.sum_congr rfl fun p _ => Finset.sum_congr rfl fun u _ => Finset.sum_congr rfl fun r _ => termV_eq m c g i p u r j l) ?_
    refine Eq.trans ?_ (dif_pos hn).symm
    exact congrArg (partV m c g j l) (Fin.ext hi)
  | succ n ih =>
    intro hn t ht
    have hA : ¬t.val % 32 = 0 := by omega
    have prev := ih (by omega) ⟨t.val - 1, Nat.lt_of_le_of_lt (Nat.sub_le _ _) t.isLt⟩ (by show t.val - 1 = _; omega)
    obtain ⟨i, hi⟩ : ∃ i : Fin 32, i.val = n + 1 := ⟨⟨n + 1, hn⟩, rfl⟩
    have ht : t.val = 32 * g.val + i.val := by omega
    refine ((congrFun (congrArg (fun z : Vec Ideal S256x256 .f32 × Vec Ideal S1x8192x128 .f32 × Vec Ideal S1x8192x128 .f32 => z.2.2) (outsAt0_B m c t hA)) _).trans
      (realB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (rk m c g) (rx m c g i) (ry m c g i) (rl m c g i) (read0 m h0 c t g i ht) (read1 m h3 c t g i ht) (read3 m h0 h1 c t g i ht) (low3 m b0 b1 c g i) (read4 m h1 c t g i ht) (fun h => hA ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2 _ j l prev)).trans (congrArg (fun a : ℝ => (a : EReal)) ?_)
    rw [Finset.sum_range_succ _ (n + 1)]
    refine congrArg (fun a : ℝ => _ + a) ?_
    refine Eq.trans (Finset.sum_congr rfl fun p _ => Finset.sum_congr rfl fun u _ => Finset.sum_congr rfl fun r _ => termV_eq m c g i p u r j l) ?_
    refine Eq.trans ?_ (dif_pos hn).symm
    exact congrArg (partV m c g j l) (Fin.ext hi)

include h0 h1 h2 h3 b0 b1 in
theorem value8 (c : Dev nD) (t : Fin cfg0.N) (g : Fin 2) (i : Fin 32) (ht : t.val = 32 * g.val + i.val) (hi : t.val % 32 = 31) (j : Fin 8192) (l : Fin 128) :
    ((outsAt0 m c t.val t.isLt).2.2 (ix3 0 j l) : EReal) = gradV (arg0 m c) (arg1 m c) (arg3 m c) (ix3 g j l) := by
  refine (acc8 m h0 h1 h2 h3 b0 b1 c g j l 31 (by decide) t (by omega)).trans (congrArg (fun a : ℝ => (a : EReal)) ?_)
  rw [Finset.sum_range]
  refine (Finset.sum_congr rfl fun x _ => dif_pos x.isLt).trans ?_
  exact regroup (termV (arg0 m c) (arg1 m c) (arg3 m c) g j l)

include h0 h1 h2 h3 b0 b1 in
theorem flushed_eq6 (c : Dev nD) (t : Fin cfg0.N) (hf : (cfg0.win 6).flush t = true) :
    (dats m 0 c).flushed 6 t = ((cfg0.win 6).blk t).view.read (Elt Ideal) (gradQ (arg0 m c) (arg1 m c) (arg2 m c) (arg3 m c)) := by
  have hT := t.isLt
  have hN : cfg0.N = 64 := N_0
  have h := index6 t
  rw [flushed6]
  funext y
  rw [View.read_apply]
  obtain ⟨g, i, ht⟩ : ∃ (g : Fin 2) (i : Fin 32), t.val = 32 * g.val + i.val := ⟨⟨t.val / 32, by omega⟩, ⟨t.val % 32, by omega⟩, by show t.val = _; show t.val = 32 * (t.val / 32) + t.val % 32; omega⟩
  have hy : (((cfg0.win 6).blk t).view.emb y) = ix2 (⟨256 * i.val + (y 0 : Fin 256).val, block_lt rfl i (y 0 : Fin 256)⟩ : Fin 8192) (⟨256 * g.val + (y 1 : Fin 256).val, block_lt rfl g (y 1 : Fin 256)⟩ : Fin 512) := funext fun a => Fin.ext (by
    match a with
    | ⟨0, _⟩ => show win0_6.index t 0 * 256 + 1 * (y 0).val = 256 * i.val + (y 0).val; rw [h.1]; omega
    | ⟨1, _⟩ => show win0_6.index t 1 * 256 + 1 * (y 1).val = 256 * g.val + (y 1).val; rw [h.2]; omega)
  have y0 : y = ix2 (y 0 : Fin 256) (y 1 : Fin 256) := funext fun a => Fin.ext (by
    match a with
    | ⟨0, _⟩ => rfl
    | ⟨1, _⟩ => rfl)
  show ((outsAt0 m c t.val t.isLt).1) y = (gradQ (arg0 m c) (arg1 m c) (arg2 m c) (arg3 m c)) (((cfg0.win 6).blk t).view.emb y)
  rw [hy]
  exact (congrArg ((outsAt0 m c t.val t.isLt).1) y0).trans (value6 m h0 h1 h2 h3 b0 b1 c t g i ht (y 0) (y 1))

include h0 h1 h2 h3 b0 b1 in
theorem final6 (c : Dev nD) : (dats m 0 c).arrAt 6 cfg0.N = (gradQ (arg0 m c) (arg1 m c) (arg2 m c) (arg3 m c) : Buf (Elt Ideal) ((c : Thread nD τ).loc main_v48_0)) :=
  (dats m 0 c).arrAt_eq_of_cover 6 _ (flushed_eq6 m h0 h1 h2 h3 b0 b1 c) fun i => by
    have hN : cfg0.N = 64 := N_0
    have b0 : (i 0 : Nat) < 8192 := (i 0).isLt
    have b1 : (i 1 : Nat) < 512 := (i 1).isLt
    let t : Fin cfg0.N := ⟨(i 1).val / 256 * 32 + (i 0).val / 256, by rw [hN]; omega⟩
    have htv : t.val = (i 1).val / 256 * 32 + (i 0).val / 256 := rfl
    refine ⟨t, flush0_6 t, ?_⟩
    have h := index6 t
    show i ∈ ((View.whole main_v48_0).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; rw [h.1]; omega
    | ⟨1, _⟩ => show win0_6.index t 1 * 256 ≤ (i 1 : Nat) ∧ (i 1 : Nat) < win0_6.index t 1 * 256 + 256; rw [h.2]; omega

include h0 h1 h2 h3 b0 b1 in
theorem flushed_eq7 (c : Dev nD) (t : Fin cfg0.N) (hf : (cfg0.win 7).flush t = true) :
    (dats m 0 c).flushed 7 t = ((cfg0.win 7).blk t).view.read (Elt Ideal) (gradK (arg0 m c) (arg1 m c) (arg2 m c) (arg3 m c)) := by
  have hT := t.isLt
  have hN : cfg0.N = 64 := N_0
  have h := index7 t
  have h31 : t.val % 32 = 31 := (flush0_7 t).mp hf
  rw [flushed7]
  funext y
  rw [View.read_apply]
  obtain ⟨g, i, ht⟩ : ∃ (g : Fin 2) (i : Fin 32), t.val = 32 * g.val + i.val := ⟨⟨t.val / 32, by omega⟩, ⟨t.val % 32, by omega⟩, by show t.val = _; show t.val = 32 * (t.val / 32) + t.val % 32; omega⟩
  have hy : (((cfg0.win 7).blk t).view.emb y) = ix3 (g : Fin 2) (y 1 : Fin 8192) (y 2 : Fin 128) := funext fun a => Fin.ext (by
    match a with
    | ⟨0, _⟩ => have y0 : (y 0).val < 1 := (y 0).isLt; show win0_7.index t 0 * 1 + 1 * (y 0).val = g.val; rw [h.1]; omega
    | ⟨1, _⟩ => show win0_7.index t 1 * 8192 + 1 * (y 1).val = (y 1).val; rw [h.2.1]; omega
    | ⟨2, _⟩ => show win0_7.index t 2 * 128 + 1 * (y 2).val = (y 2).val; rw [h.2.2]; omega)
  have y0 : y = ix3 (0 : Fin 1) (y 1 : Fin 8192) (y 2 : Fin 128) := funext fun a => Fin.ext (by
    match a with
    | ⟨0, _⟩ => have y0 : (y 0).val < 1 := (y 0).isLt; show (y 0).val = 0; omega
    | ⟨1, _⟩ => rfl
    | ⟨2, _⟩ => rfl)
  show ((outsAt0 m c t.val t.isLt).2.1) y = (gradK (arg0 m c) (arg1 m c) (arg2 m c) (arg3 m c)) (((cfg0.win 7).blk t).view.emb y)
  rw [hy]
  exact (congrArg ((outsAt0 m c t.val t.isLt).2.1) y0).trans (value7 m h0 h1 h2 h3 b0 b1 c t g i ht h31 (y 1) (y 2))

include h0 h1 h2 h3 b0 b1 in
theorem final7 (c : Dev nD) : (dats m 0 c).arrAt 7 cfg0.N = (gradK (arg0 m c) (arg1 m c) (arg2 m c) (arg3 m c) : Buf (Elt Ideal) ((c : Thread nD τ).loc main_v48_1)) :=
  (dats m 0 c).arrAt_eq_of_cover 7 _ (flushed_eq7 m h0 h1 h2 h3 b0 b1 c) fun i => by
    have hN : cfg0.N = 64 := N_0
    have b0 : (i 0 : Nat) < 2 := (i 0).isLt
    have b1 : (i 1 : Nat) < 8192 := (i 1).isLt
    have b2 : (i 2 : Nat) < 128 := (i 2).isLt
    let t : Fin cfg0.N := ⟨(i 0).val * 32 + 31, by rw [hN]; omega⟩
    have htv : t.val = (i 0).val * 32 + 31 := rfl
    refine ⟨t, (flush0_7 t).mpr (by rw [htv]; omega), ?_⟩
    have h := index7 t
    show i ∈ ((View.whole main_v48_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; rw [h.1]; omega
    | ⟨1, _⟩ => show win0_7.index t 1 * 8192 ≤ (i 1 : Nat) ∧ (i 1 : Nat) < win0_7.index t 1 * 8192 + 8192; rw [h.2.1]; omega
    | ⟨2, _⟩ => show win0_7.index t 2 * 128 ≤ (i 2 : Nat) ∧ (i 2 : Nat) < win0_7.index t 2 * 128 + 128; rw [h.2.2]; omega

include h0 h1 h2 h3 b0 b1 in
theorem flushed_eq8 (c : Dev nD) (t : Fin cfg0.N) (hf : (cfg0.win 8).flush t = true) :
    (dats m 0 c).flushed 8 t = ((cfg0.win 8).blk t).view.read (Elt Ideal) (gradV (arg0 m c) (arg1 m c) (arg3 m c)) := by
  have hT := t.isLt
  have hN : cfg0.N = 64 := N_0
  have h := index8 t
  have h31 : t.val % 32 = 31 := (flush0_8 t).mp hf
  rw [flushed8]
  funext y
  rw [View.read_apply]
  obtain ⟨g, i, ht⟩ : ∃ (g : Fin 2) (i : Fin 32), t.val = 32 * g.val + i.val := ⟨⟨t.val / 32, by omega⟩, ⟨t.val % 32, by omega⟩, by show t.val = _; show t.val = 32 * (t.val / 32) + t.val % 32; omega⟩
  have hy : (((cfg0.win 8).blk t).view.emb y) = ix3 (g : Fin 2) (y 1 : Fin 8192) (y 2 : Fin 128) := funext fun a => Fin.ext (by
    match a with
    | ⟨0, _⟩ => have y0 : (y 0).val < 1 := (y 0).isLt; show win0_8.index t 0 * 1 + 1 * (y 0).val = g.val; rw [h.1]; omega
    | ⟨1, _⟩ => show win0_8.index t 1 * 8192 + 1 * (y 1).val = (y 1).val; rw [h.2.1]; omega
    | ⟨2, _⟩ => show win0_8.index t 2 * 128 + 1 * (y 2).val = (y 2).val; rw [h.2.2]; omega)
  have y0 : y = ix3 (0 : Fin 1) (y 1 : Fin 8192) (y 2 : Fin 128) := funext fun a => Fin.ext (by
    match a with
    | ⟨0, _⟩ => have y0 : (y 0).val < 1 := (y 0).isLt; show (y 0).val = 0; omega
    | ⟨1, _⟩ => rfl
    | ⟨2, _⟩ => rfl)
  show ((outsAt0 m c t.val t.isLt).2.2) y = (gradV (arg0 m c) (arg1 m c) (arg3 m c)) (((cfg0.win 8).blk t).view.emb y)
  rw [hy]
  exact (congrArg ((outsAt0 m c t.val t.isLt).2.2) y0).trans (value8 m h0 h1 h2 h3 b0 b1 c t g i ht h31 (y 1) (y 2))

include h0 h1 h2 h3 b0 b1 in
theorem final8 (c : Dev nD) : (dats m 0 c).arrAt 8 cfg0.N = (gradV (arg0 m c) (arg1 m c) (arg3 m c) : Buf (Elt Ideal) ((c : Thread nD τ).loc main_v48_2)) :=
  (dats m 0 c).arrAt_eq_of_cover 8 _ (flushed_eq8 m h0 h1 h2 h3 b0 b1 c) fun i => by
    have hN : cfg0.N = 64 := N_0
    have b0 : (i 0 : Nat) < 2 := (i 0).isLt
    have b1 : (i 1 : Nat) < 8192 := (i 1).isLt
    have b2 : (i 2 : Nat) < 128 := (i 2).isLt
    let t : Fin cfg0.N := ⟨(i 0).val * 32 + 31, by rw [hN]; omega⟩
    have htv : t.val = (i 0).val * 32 + 31 := rfl
    refine ⟨t, (flush0_8 t).mpr (by rw [htv]; omega), ?_⟩
    have h := index8 t
    show i ∈ ((View.whole main_v48_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [h.1]; omega
    | ⟨1, _⟩ => show win0_8.index t 1 * 8192 ≤ (i 1 : Nat) ∧ (i 1 : Nat) < win0_8.index t 1 * 8192 + 8192; rw [h.2.1]; omega
    | ⟨2, _⟩ => show win0_8.index t 2 * 128 ≤ (i 2 : Nat) ∧ (i 2 : Nat) < win0_8.index t 2 * 128 + 128; rw [h.2.2]; omega

include h0 h1 h2 h3 b0 b1 in
/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v48_0) = gradQ (arg0 m c) (arg1 m c) (arg2 m c) (arg3 m c)
      ∧ r.2.mem ((c : Thread nD τ).loc main_v48_1) = gradK (arg0 m c) (arg1 m c) (arg2 m c) (arg3 m c)
      ∧ r.2.mem ((c : Thread nD τ).loc main_v48_2) = gradV (arg0 m c) (arg1 m c) (arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final6 m h0 h1 h2 h3 b0 b1 c), (h c).2.1.trans (final7 m h0 h1 h2 h3 b0 b1 c), (h c).2.2.1.trans (final8 m h0 h1 h2 h3 b0 b1 c), (h c).2.2.2⟩) (run_blocks m ρ)

end Cert.FlashABwdIdeal.Val

end
-- ==== Proof.FlashABwdRef.lean ====
/-
  What the reference of the attention's backward computes, on real entries: it subtracts each row's largest score before it
  exponentiates, which leaves the weights, and from them the three gradients.
-/
module

public import proofs.«01_k».proof.Proof.AttendGrad
public import proofs.«01_k».proof.Proof.Online
public import proofs.«01_k».proof.Proof.Prods
public import proofs.«01_k».proof.Proof.Gen.FlashABwdReferenceIdeal
public import proofs.«01_k».proof.Proof.Gen.FlashABwdReferenceIdeal.Read
public import proofs.«01_k».proof.Proof.Gen.FlashABwdReferenceIdeal.Run
public import Idealize.ShloMosaic.Lib.StableHlo.RunRead
public import Idealize.ShloMosaic.Lib.TwoAxisContraction
public import Idealize.ShloMosaic.Lib.KernelVsHost

@[expose] public section

set_option maxRecDepth 16384

noncomputable section

namespace Cert.FlashABwdReferenceIdeal.Val

open Idealize.ShloMosaic Idealize.ShloMosaic.TcCoe Idealize.ShloMosaic.ValueIdx Idealize.SL.Sem
open Cert.FlashABwdReferenceIdeal Cert.FlashABwdReferenceIdeal.Gen Cert.FlashABwdReferenceIdeal.Read Cert.Prods
open Cert.MixBwd (Mat Stack)
open Cert.Attend

/-- The score of query row `r` and key `j` in head `b` of group `a`. -/
def rs (x0 : Mat 8192 512) (x1 : Mat 8192 128) (a : Fin 2) (b : Fin 4) (r j : Fin 8192) : ℝ :=
  (∑ d : Fin 64, EReal.toReal (x0 (ix2 r (column a b d))) * EReal.toReal (x1 (ix2 j ⟨64 * a.val + d.val, by have := a.isLt; have := d.isLt; omega⟩))) * (1 / 8)

theorem rs_eq (x0 : Mat 8192 512) (x1 : Mat 8192 128) (r j : Fin 8192) (q : Fin 512) (a : Fin 2) (b : Fin 4) (ha : a.val = q.val / 256) (hb : b.val = q.val / 64 % 4) : rs x0 x1 a b r j = score x0 x1 r q j := by
  have hq := q.isLt
  refine congrArg (fun t : ℝ => t * (1 / 8)) (Finset.sum_congr rfl fun d _ => ?_)
  have hd := d.isLt
  refine congrArg₂ (fun s t : ℝ => s * t) (congrArg (fun t : Fin 512 => EReal.toReal (x0 (ix2 r t))) (Fin.ext ?_)) (congrArg (fun t : Fin 128 => EReal.toReal (x1 (ix2 j t))) (Fin.ext ?_))
  · show 256 * a.val + 64 * b.val + d.val = 64 * (q.val / 64) + d.val; omega
  · show 64 * a.val + d.val = 64 * (q.val / 256) + d.val; omega

variable {x0 : Mat 8192 512} {x1 x2 : Mat 8192 128} {x3 : Mat 8192 512} (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal))

theorem q_at (x0 : Mat 8192 512) (r : Fin 8192) (a : Fin 2) (b : Fin 4) (d : Fin 64) : (val_main_v0 (F := Ideal) x0 (ix4 r a b d) : EReal) = x0 (ix2 r (column a b d)) := by
  have ha := a.isLt
  have hb := b.isLt
  have hd := d.isLt
  refine (val_main_v0_apply (F := Ideal) x0 _).trans (congrArg x0 (funext fun e => Fin.ext ?_))
  match e with
  | ⟨0, _⟩ => show (((r.val * 2 + a.val) * 4 + b.val) * 64 + d.val) / 512 = r.val; omega
  | ⟨1, _⟩ => show (((r.val * 2 + a.val) * 4 + b.val) * 64 + d.val) % 512 = 256 * a.val + 64 * b.val + d.val; omega

theorem k_at (x1 : Mat 8192 128) (j : Fin 8192) (a : Fin 2) (d : Fin 64) : (val_main_v1 (F := Ideal) x1 (ix3 j a d) : EReal) = x1 (ix2 j ⟨64 * a.val + d.val, by have := a.isLt; have := d.isLt; omega⟩) := by
  have ha := a.isLt
  have hd := d.isLt
  refine (val_main_v1_apply (F := Ideal) x1 _).trans (congrArg x1 (funext fun e => Fin.ext ?_))
  match e with
  | ⟨0, _⟩ => show ((j.val * 2 + a.val) * 64 + d.val) / 128 = j.val; omega
  | ⟨1, _⟩ => show ((j.val * 2 + a.val) * 64 + d.val) % 128 = 64 * a.val + d.val; omega

theorem v_at (x2 : Mat 8192 128) (j : Fin 8192) (a : Fin 2) (d : Fin 64) : (val_main_v2 (F := Ideal) x2 (ix3 j a d) : EReal) = x2 (ix2 j ⟨64 * a.val + d.val, by have := a.isLt; have := d.isLt; omega⟩) := by
  have ha := a.isLt
  have hd := d.isLt
  refine (val_main_v2_apply (F := Ideal) x2 _).trans (congrArg x2 (funext fun e => Fin.ext ?_))
  match e with
  | ⟨0, _⟩ => show ((j.val * 2 + a.val) * 64 + d.val) / 128 = j.val; omega
  | ⟨1, _⟩ => show ((j.val * 2 + a.val) * 64 + d.val) % 128 = 64 * a.val + d.val; omega

include h0 h1 in
theorem dots_at (a : Fin 2) (b : Fin 4) (r j : Fin 8192) : (val_main_v3 (F := Ideal) x0 x1 (ix4 a j r b) : EReal)
    = ((∑ d : Fin 64, EReal.toReal (x0 (ix2 r (column a b d))) * EReal.toReal (x1 (ix2 j ⟨64 * a.val + d.val, by have := a.isLt; have := d.isLt; omega⟩)) : ℝ) : EReal) := by
  refine (val_main_v3_apply x0 x1 _).trans (Eq.trans (Finset.sum_congr rfl fun d _ => ?_) (Online.sum_coe _ _))
  have el : lidx_main_v3 (ix4 a j r b) d = ix3 j a d := funext fun b => Fin.ext (by match b with | ⟨0, _⟩ => rfl | ⟨1, _⟩ => rfl | ⟨2, _⟩ => rfl)
  have er : ridx_main_v3 (ix4 a j r b) d = ix4 r a b d := funext fun b => Fin.ext (by match b with | ⟨0, _⟩ => rfl | ⟨1, _⟩ => rfl | ⟨2, _⟩ => rfl | ⟨3, _⟩ => rfl)
  rw [el, er]
  refine (congrArg₂ (fun s t : EReal => s * t) ((k_at x1 j a d).trans (real_part (h1 _))) ((q_at x0 r a b d).trans (real_part (h0 _)))).trans ?_
  rw [← EReal.coe_mul, mul_comm]

include h0 h1 in
theorem score_at (a : Fin 2) (b : Fin 4) (r j : Fin 8192) : (val_main_v6 (F := Ideal) x0 x1 (ix4 a b r j) : EReal) = (rs x0 x1 a b r j : EReal) := by
  have e4 : idx_main_v4 (ix4 a b r j) = ix4 a j r b := funext fun b => Fin.ext (by match b with | ⟨0, _⟩ => rfl | ⟨1, _⟩ => rfl | ⟨2, _⟩ => rfl | ⟨3, _⟩ => rfl)
  refine (congrArg₂ (fun s t : EReal => s * t) (((val_main_v4_apply (F := Ideal) x0 x1 _).trans (congrArg (val_main_v3 (F := Ideal) x0 x1) e4)).trans (dots_at h0 h1 a b r j)) Online.bitsEighth).trans ?_
  exact (EReal.coe_mul _ _).symm

/-- The maximum of real numbers is real. -/
theorem max_at (y : Vec Ideal S2x4x8192x8192 .f32) (f : Fin 8192 → ℝ) (a : Fin 2) (b : Fin 4) (r : Fin 8192) (hy : ∀ j, (y (ix4 a b r j) : EReal) = (f j : EReal)) :
    ∃ μ : ℝ, ((Host.reduce (FloatOps.maximumf (F := Ideal) (φ := .f32)) y (constant (F := Ideal) S_ .f32 0xFF800000#32) reducesTo_S2x4x8192x8192_S2x4x8192_d3 h_S_ : Vec Ideal S2x4x8192 .f32) (ix3 a b r) : EReal) = (μ : EReal) := by
  obtain ⟨μ, hμ⟩ := Online.fold_real (0 : Fin 8192) f
  refine ⟨μ, Eq.trans ?_ hμ⟩
  rw [Host.reduce_eq_fold_single (FloatOps.maximumf (F := Ideal) (φ := .f32)) y _ reducesTo_S2x4x8192x8192_S2x4x8192_d3 (by decide) h_S_]
  refine congrArg₂ (fun (z : EReal) (f : Fin 8192 → EReal) => Finset.univ.fold max z f) Online.bitsBot (funext fun j => ?_)
  refine Eq.trans (congrArg y ?_) (hy j)
  exact funext fun b => Fin.ext (by match b with | ⟨0, _⟩ => rfl | ⟨1, _⟩ => rfl | ⟨2, _⟩ => rfl | ⟨3, _⟩ => rfl)

/-- The score, as the attention's. -/
theorem rs_score (x0 : Mat 8192 512) (x1 : Mat 8192 128) (a : Fin 2) (b : Fin 4) (r j : Fin 8192) : rs x0 x1 a b r j = score x0 x1 r (column a b 0) j := by
  have ha := a.isLt
  have hb := b.isLt
  exact rs_eq x0 x1 r j (column a b 0) a b (by show a.val = (256 * a.val + 64 * b.val + 0) / 256; omega) (by show b.val = (256 * a.val + 64 * b.val + 0) / 64 % 4; omega)

theorem group_column (a : Fin 2) (b : Fin 4) (d e : Fin 64) : group (column a b e) d = ⟨64 * a.val + d.val, by have := a.isLt; have := d.isLt; omega⟩ := Fin.ext (by
  have := a.isLt; have := b.isLt; have := d.isLt; have := e.isLt
  show 64 * ((256 * a.val + 64 * b.val + e.val) / 256) + d.val = 64 * a.val + d.val; omega)

include h0 h1 in
theorem top_real (a : Fin 2) (b : Fin 4) (r : Fin 8192) : ∃ μ : ℝ, (val_main_v14 (F := Ideal) x0 x1 (ix3 a b r) : EReal) = (μ : EReal) := by
  obtain ⟨μ, hμ⟩ := max_at (val_main_v6 (F := Ideal) x0 x1) (rs x0 x1 a b r) a b r (score_at h0 h1 a b r)
  have e : val_main_v7 (F := Ideal) x0 x1 (ix3 a b r) = (μ : EReal) := by
    unfold val_main_v7 val_main_cst_0
    exact hμ
  have z : val_main_v13 (F := Ideal) (ix3 a b r) = (⊥ : EReal) := (val_main_v13_apply (F := Ideal) _).trans ((val_main_cst_2_apply (F := Ideal) _).trans Online.bitsBot)
  refine ⟨μ, (val_main_v14_apply (F := Ideal) x0 x1 _).trans ?_⟩
  rw [z, e]
  exact max_eq_right (a := (⊥ : EReal)) bot_le

/-! ## Weights -/

include h0 h1 in
theorem weight_at (a : Fin 2) (b : Fin 4) (r : Fin 8192) (μ : ℝ) (hμ : (val_main_v14 (F := Ideal) x0 x1 (ix3 a b r) : EReal) = (μ : EReal)) (j : Fin 8192) :
    (val_main_v27 (F := Ideal) x0 x1 (ix4 a b r j) : EReal) = ((Real.exp (-μ) * Real.exp (score x0 x1 r (column a b 0) j) : ℝ) : EReal) := by
  have e : idx_main_v24 (idx_main_v25 (ix4 a b r j)) = ix3 a b r := funext fun b => Fin.ext (by match b with | ⟨0, _⟩ => rfl | ⟨1, _⟩ => rfl | ⟨2, _⟩ => rfl)
  have t : (val_main_v25 (F := Ideal) x0 x1 (ix4 a b r j) : EReal) = (μ : EReal) :=
    ((val_main_v25_apply (F := Ideal) x0 x1 _).trans ((val_main_v24_apply (F := Ideal) x0 x1 _).trans (congrArg (val_main_v14 (F := Ideal) x0 x1) e))).trans hμ
  refine (val_main_v27_apply (F := Ideal) x0 x1 _).trans ((congrArg Ideal.exp ((val_main_v26_apply (F := Ideal) x0 x1 _).trans (congrArg₂ (fun s t : EReal => s - t) (score_at h0 h1 a b r j) t))).trans ?_)
  show Ideal.exp ((rs x0 x1 a b r j : EReal) - (μ : EReal)) = _
  rw [← EReal.coe_sub, Ideal.exp_coe, sub_eq_add_neg, add_comm, Real.exp_add, rs_score]

include h0 h1 in
theorem mass_at (a : Fin 2) (b : Fin 4) (r : Fin 8192) (μ : ℝ) (hμ : (val_main_v14 (F := Ideal) x0 x1 (ix3 a b r) : EReal) = (μ : EReal)) : (val_main_v28 (F := Ideal) x0 x1 (ix3 a b r) : EReal) = ((Real.exp (-μ) * mass x0 x1 r (column a b 0) : ℝ) : EReal) := by
  refine (val_main_v28_apply x0 x1 _).trans ?_
  refine (congrArg₂ (fun s t : EReal => s + t) (Idealize.ShloMosaic.Ideal.ofBits_zero_f32) ((Finset.sum_congr rfl fun j _ => ?_).trans (Online.sum_coe Finset.univ fun j : Fin 8192 => Real.exp (-μ) * Real.exp (score x0 x1 r (column a b 0) j)))).trans ?_
  · have e : idx_main_v28 (ix3 a b r) j = ix4 a b r j := funext fun b => Fin.ext (by match b with | ⟨0, _⟩ => rfl | ⟨1, _⟩ => rfl | ⟨2, _⟩ => rfl | ⟨3, _⟩ => rfl)
    rw [e]
    exact weight_at h0 h1 a b r μ hμ j
  · show (0 : EReal) + _ = _
    rw [zero_add, ← Finset.mul_sum]
    rfl

/-- The row of sums, as a column. -/
theorem column_at (x0 : Mat 8192 512) (x1 : Mat 8192 128) (a : Fin 2) (b : Fin 4) (r : Fin 8192) (e : Fin 1) : (val_main_v29 (F := Ideal) x0 x1 (ix4 a b r e) : EReal) = val_main_v28 (F := Ideal) x0 x1 (ix3 a b r) :=
  (val_main_v29_apply (F := Ideal) x0 x1 _).trans (congrArg (val_main_v28 (F := Ideal) x0 x1) (funext fun b => Fin.ext (by match b with | ⟨0, _⟩ => rfl | ⟨1, _⟩ => rfl | ⟨2, _⟩ => rfl)))

include h0 h1 in
theorem prob_at (a : Fin 2) (b : Fin 4) (r : Fin 8192) (j : Fin 8192) : (val_main_v31 (F := Ideal) x0 x1 (ix4 a b r j) : EReal) = ((prob x0 x1 r (column a b 0) j : ℝ) : EReal) := by
  obtain ⟨μ, hμ⟩ := top_real h0 h1 a b r
  have e : idx_main_v30 (ix4 a b r j) = ix4 a b r 0 := funext fun b => Fin.ext (by match b with | ⟨0, _⟩ => rfl | ⟨1, _⟩ => rfl | ⟨2, _⟩ => rfl | ⟨3, _⟩ => rfl)
  have d : (val_main_v30 (F := Ideal) x0 x1 (ix4 a b r j) : EReal) = _ :=
    ((val_main_v30_apply (F := Ideal) x0 x1 _).trans ((congrArg (val_main_v29 (F := Ideal) x0 x1) e).trans (column_at x0 x1 a b r 0))).trans (mass_at h0 h1 a b r μ hμ)
  refine (val_main_v31_apply (F := Ideal) x0 x1 _).trans ((congrArg₂ (fun s t : EReal => Ideal.div s t) (weight_at h0 h1 a b r μ hμ j) d).trans ?_)
  exact Online.quot_real μ _ (mass_pos x0 x1 r (column a b 0))

/-! ## The cotangent -/

theorem y_at (x3 : Mat 8192 512) (a : Fin 2) (b : Fin 4) (r : Fin 8192) (d : Fin 64) : (val_main_v41 (F := Ideal) x3 (ix4 a d b r) : EReal) = x3 (ix2 r (column a b d)) := by
  have ha := a.isLt
  have hb := b.isLt
  have hd := d.isLt
  have e : idx_main_v41 (ix4 a d b r) = ix4 r a b d := funext fun b => Fin.ext (by match b with | ⟨0, _⟩ => rfl | ⟨1, _⟩ => rfl | ⟨2, _⟩ => rfl | ⟨3, _⟩ => rfl)
  refine ((val_main_v41_apply (F := Ideal) x3 _).trans (congrArg (val_main_v40 (F := Ideal) x3) e)).trans ?_
  refine (val_main_v40_apply (F := Ideal) x3 _).trans (congrArg x3 (funext fun e => Fin.ext ?_))
  match e with
  | ⟨0, _⟩ => show (((r.val * 2 + a.val) * 4 + b.val) * 64 + d.val) / 512 = r.val; omega
  | ⟨1, _⟩ => show (((r.val * 2 + a.val) * 4 + b.val) * 64 + d.val) % 512 = 256 * a.val + 64 * b.val + d.val; omega

include h2 h3 in
theorem pull_at (a : Fin 2) (b : Fin 4) (r : Fin 8192) (j : Fin 8192) : (val_main_v42 (F := Ideal) x2 x3 (ix4 a b r j) : EReal) = ((pull x2 x3 r (column a b 0) j : ℝ) : EReal) := by
  refine (val_main_v42_apply x2 x3 _).trans (Eq.trans (Finset.sum_congr rfl fun d _ => ?_) (Online.sum_coe _ _))
  have el : lidx_main_v42 (ix4 a b r j) d = ix4 a d b r := funext fun b => Fin.ext (by match b with | ⟨0, _⟩ => rfl | ⟨1, _⟩ => rfl | ⟨2, _⟩ => rfl | ⟨3, _⟩ => rfl)
  have er : ridx_main_v42 (ix4 a b r j) d = ix3 j a d := funext fun b => Fin.ext (by match b with | ⟨0, _⟩ => rfl | ⟨1, _⟩ => rfl | ⟨2, _⟩ => rfl)
  rw [el, er, ← column_head, group_column]
  exact (congrArg₂ (fun s t : EReal => s * t) ((y_at x3 a b r d).trans (real_part (h3 _))) ((v_at x2 j a d).trans (real_part (h2 _)))).trans (EReal.coe_mul _ _).symm

/-! ## The gradient of a score -/

include h0 h1 in
theorem square_at (a : Fin 2) (b : Fin 4) (r : Fin 8192) (μ : ℝ) (hμ : (val_main_v14 (F := Ideal) x0 x1 (ix3 a b r) : EReal) = (μ : EReal)) : (val_main_v34 (F := Ideal) x0 x1 (ix4 a b r 0) : EReal)
    = ((1 / ((Real.exp (-μ) * mass x0 x1 r (column a b 0)) * (Real.exp (-μ) * mass x0 x1 r (column a b 0))) : ℝ) : EReal) := by
  have s : (val_main_v29 (F := Ideal) x0 x1 (ix4 a b r 0) : EReal) = _ := (column_at x0 x1 a b r 0).trans (mass_at h0 h1 a b r μ hμ)
  have o : (val_main_v33 (F := Ideal) (ix4 a b r 0) : EReal) = ((1 : ℝ) : EReal) :=
    (val_main_v33_apply (F := Ideal) _).trans ((val_main_cst_9_apply (F := Ideal) _).trans Idealize.ShloMosaic.Ideal.ofBits_one_f32)
  have q : (val_main_v32 (F := Ideal) x0 x1 (ix4 a b r 0) : EReal) = _ :=
    (val_main_v32_apply (F := Ideal) x0 x1 _).trans ((congrArg₂ (fun s t : EReal => s * t) s s).trans (EReal.coe_mul _ _).symm)
  refine (val_main_v34_apply (F := Ideal) x0 x1 _).trans ((congrArg₂ (fun s t : EReal => Ideal.div s t) o q).trans ?_)
  exact Online.div_real (mul_pos (mul_pos (Real.exp_pos _) (mass_pos x0 x1 r (column a b 0))) (mul_pos (Real.exp_pos _) (mass_pos x0 x1 r (column a b 0)))).ne'

/-- The reference's own form of a row's mean. -/
def rmean (x0 : Mat 8192 512) (x1 x2 : Mat 8192 128) (x3 : Mat 8192 512) (r : Fin 8192) (q : Fin 512) (E : ℝ) : ℝ :=
  ∑ j : Fin 8192, pull x2 x3 r q j * (1 / ((E * mass x0 x1 r q) * (E * mass x0 x1 r q))) * (E * Real.exp (score x0 x1 r q j))

theorem rmean_eq (x0 : Mat 8192 512) (x1 x2 : Mat 8192 128) (x3 : Mat 8192 512) (r : Fin 8192) (q : Fin 512) (E : ℝ) (hE : 0 < E) :
    rmean x0 x1 x2 x3 r q E = mean x0 x1 x2 x3 r q / (E * mass x0 x1 r q) := by
  have hW := mass_pos x0 x1 r q
  unfold rmean mean
  rw [Finset.sum_div]
  refine Finset.sum_congr rfl fun j _ => ?_
  unfold prob
  field_simp

include h0 h1 h2 h3 in
theorem mean_at (a : Fin 2) (b : Fin 4) (r : Fin 8192) (μ : ℝ) (hμ : (val_main_v14 (F := Ideal) x0 x1 (ix3 a b r) : EReal) = (μ : EReal)) : (val_main_v53 (F := Ideal) x0 x1 x2 x3 (ix3 a b r) : EReal) = ((-(rmean x0 x1 x2 x3 r (column a b 0) (Real.exp (-μ))) : ℝ) : EReal) := by
  have ha := a.isLt
  have hb := b.isLt
  have hr := r.isLt
  have s : (val_main_v48 (F := Ideal) x0 x1 x2 x3 (ix3 a b r) : EReal) = ((rmean x0 x1 x2 x3 r (column a b 0) (Real.exp (-μ)) : ℝ) : EReal) := by
    refine (val_main_v48_apply x0 x1 x2 x3 _).trans ?_
    refine (congrArg₂ (fun s t : EReal => s + t) (Idealize.ShloMosaic.Ideal.ofBits_zero_f32) ((Finset.sum_congr rfl fun j _ => ?_).trans (Online.sum_coe Finset.univ fun j : Fin 8192 => pull x2 x3 r (column a b 0) j * (1 / ((Real.exp (-μ) * mass x0 x1 r (column a b 0)) * (Real.exp (-μ) * mass x0 x1 r (column a b 0)))) * (Real.exp (-μ) * Real.exp (score x0 x1 r (column a b 0) j))))).trans (zero_add _)
    have e : idx_main_v48 (ix3 a b r) j = ix4 a b r j := funext fun b => Fin.ext (by match b with | ⟨0, _⟩ => rfl | ⟨1, _⟩ => rfl | ⟨2, _⟩ => rfl | ⟨3, _⟩ => rfl)
    have e' : idx_main_v45 (ix4 a b r j) = ix4 a b r 0 := funext fun b => Fin.ext (by match b with | ⟨0, _⟩ => rfl | ⟨1, _⟩ => rfl | ⟨2, _⟩ => rfl | ⟨3, _⟩ => rfl)
    rw [e]
    have t : (val_main_v45 (F := Ideal) x0 x1 (ix4 a b r j) : EReal) = _ :=
      ((val_main_v45_apply (F := Ideal) x0 x1 _).trans (congrArg (val_main_v34 (F := Ideal) x0 x1) e')).trans (square_at h0 h1 a b r μ hμ)
    have u : (val_main_v46 (F := Ideal) x0 x1 x2 x3 (ix4 a b r j) : EReal) = _ :=
      (val_main_v46_apply (F := Ideal) x0 x1 x2 x3 _).trans ((congrArg₂ (fun s t : EReal => s * t) (pull_at h2 h3 a b r j) t).trans (EReal.coe_mul _ _).symm)
    exact (val_main_v47_apply (F := Ideal) x0 x1 x2 x3 _).trans ((congrArg₂ (fun s t : EReal => s * t) u (weight_at h0 h1 a b r μ hμ j)).trans (EReal.coe_mul _ _).symm)
  have e : idx_main_v49 (ix4 a b r 0) = ix3 a b r := funext fun e => Fin.ext (by
    match e with
    | ⟨0, _⟩ => show (((a.val * 4 + b.val) * 8192 + r.val) * 1 + 0) / 32768 = a.val; omega
    | ⟨1, _⟩ => show (((a.val * 4 + b.val) * 8192 + r.val) * 1 + 0) / 8192 % 4 = b.val; omega
    | ⟨2, _⟩ => show (((a.val * 4 + b.val) * 8192 + r.val) * 1 + 0) % 8192 = r.val; omega)
  have n : (val_main_v50 (F := Ideal) x0 x1 x2 x3 (ix4 a b r 0) : EReal) = _ :=
    (val_main_v50_apply (F := Ideal) x0 x1 x2 x3 _).trans ((congrArg (fun s : EReal => -s) (((val_main_v49_apply (F := Ideal) x0 x1 x2 x3 _).trans (congrArg (val_main_v48 (F := Ideal) x0 x1 x2 x3) e)).trans s)).trans (EReal.coe_neg _).symm)
  refine (val_main_v53_apply x0 x1 x2 x3 _).trans ?_
  refine (congrArg₂ (fun s t : EReal => s + t) (Idealize.ShloMosaic.Ideal.ofBits_zero_f32) ((Fin.sum_univ_one _).trans ?_)).trans (zero_add _)
  have e : idx_main_v53 (ix3 a b r) 0 = ix4 a b r 0 := funext fun b => Fin.ext (by match b with | ⟨0, _⟩ => rfl | ⟨1, _⟩ => rfl | ⟨2, _⟩ => rfl | ⟨3, _⟩ => rfl)
  rw [e]
  exact n

include h0 h1 h2 h3 in
theorem slope_at (a : Fin 2) (b : Fin 4) (r : Fin 8192) (j : Fin 8192) : (val_main_v58 (F := Ideal) x0 x1 x2 x3 (ix4 a b r j) : EReal) = ((slope x0 x1 x2 x3 r (column a b 0) j * (1 / 8) : ℝ) : EReal) := by
  obtain ⟨μ, hμ⟩ := top_real h0 h1 a b r
  have e : idx_main_v51 (ix4 a b r j) = ix4 a b r 0 := funext fun b => Fin.ext (by match b with | ⟨0, _⟩ => rfl | ⟨1, _⟩ => rfl | ⟨2, _⟩ => rfl | ⟨3, _⟩ => rfl)
  have e' : idx_main_v54 (ix4 a b r j) = ix3 a b r := funext fun b => Fin.ext (by match b with | ⟨0, _⟩ => rfl | ⟨1, _⟩ => rfl | ⟨2, _⟩ => rfl)
  have t51 : (val_main_v51 (F := Ideal) x0 x1 (ix4 a b r j) : EReal) = _ :=
    ((val_main_v51_apply (F := Ideal) x0 x1 _).trans ((congrArg (val_main_v29 (F := Ideal) x0 x1) e).trans (column_at x0 x1 a b r 0))).trans (mass_at h0 h1 a b r μ hμ)
  have t52 : (val_main_v52 (F := Ideal) x0 x1 x2 x3 (ix4 a b r j) : EReal) = _ :=
    (val_main_v52_apply (F := Ideal) x0 x1 x2 x3 _).trans ((congrArg₂ (fun s t : EReal => Ideal.div s t) (pull_at h2 h3 a b r j) t51).trans (Online.div_real (mul_pos (Real.exp_pos _) (mass_pos x0 x1 r (column a b 0))).ne'))
  have t54 : (val_main_v54 (F := Ideal) x0 x1 x2 x3 (ix4 a b r j) : EReal) = _ :=
    ((val_main_v54_apply (F := Ideal) x0 x1 x2 x3 _).trans (congrArg (val_main_v53 (F := Ideal) x0 x1 x2 x3) e')).trans (mean_at h0 h1 h2 h3 a b r μ hμ)
  have t55 : (val_main_v55 (F := Ideal) x0 x1 x2 x3 (ix4 a b r j) : EReal) = _ :=
    (val_main_v55_apply (F := Ideal) x0 x1 x2 x3 _).trans ((congrArg₂ (fun s t : EReal => s + t) t52 t54).trans (EReal.coe_add _ _).symm)
  have t56 : (val_main_v56 (F := Ideal) x0 x1 x2 x3 (ix4 a b r j) : EReal) = _ :=
    (val_main_v56_apply (F := Ideal) x0 x1 x2 x3 _).trans ((congrArg₂ (fun s t : EReal => s * t) t55 (weight_at h0 h1 a b r μ hμ j)).trans (EReal.coe_mul _ _).symm)
  have t57 : (val_main_v57 (F := Ideal) (ix4 a b r j) : EReal) = ((1 / 8 : ℝ) : EReal) :=
    (val_main_v57_apply (F := Ideal) _).trans ((val_main_cst_13_apply (F := Ideal) _).trans Online.bitsEighth)
  refine (val_main_v58_apply (F := Ideal) x0 x1 x2 x3 _).trans (((congrArg₂ (fun s t : EReal => s * t) t56 t57).trans (EReal.coe_mul _ _).symm).trans (congrArg (fun s : ℝ => ((s * (1 / 8) : ℝ) : EReal)) ?_))
  rw [rmean_eq _ _ _ _ _ _ _ (Real.exp_pos (-μ))]
  have hW := mass_pos x0 x1 r (column a b 0)
  have hE := Real.exp_pos (-μ)
  unfold Attend.slope prob
  field_simp
  ring

include h0 h1 h2 h3 in
theorem slopeT_at (a : Fin 2) (b : Fin 4) (r : Fin 8192) (j : Fin 8192) : (val_main_v59 (F := Ideal) x0 x1 x2 x3 (ix4 a j r b) : EReal) = ((slope x0 x1 x2 x3 r (column a b 0) j * (1 / 8) : ℝ) : EReal) := by
  have e : idx_main_v59 (ix4 a j r b) = ix4 a b r j := funext fun b => Fin.ext (by match b with | ⟨0, _⟩ => rfl | ⟨1, _⟩ => rfl | ⟨2, _⟩ => rfl | ⟨3, _⟩ => rfl)
  exact ((val_main_v59_apply (F := Ideal) x0 x1 x2 x3 _).trans (congrArg (val_main_v58 (F := Ideal) x0 x1 x2 x3) e)).trans (slope_at h0 h1 h2 h3 a b r j)

/-! ## The gradient of the queries -/

include h0 h1 h2 h3 in
theorem queries_at (a : Fin 2) (b : Fin 4) (r : Fin 8192) (d : Fin 64) : (val_main_v60 (F := Ideal) x0 x1 x2 x3 (ix4 a r b d) : EReal)
    = ((∑ j : Fin 8192, slope x0 x1 x2 x3 r (column a b 0) j * (1 / 8) * EReal.toReal (x1 (ix2 j ⟨64 * a.val + d.val, by have := a.isLt; have := d.isLt; omega⟩)) : ℝ) : EReal) := by
  refine (val_main_v60_apply x0 x1 x2 x3 _).trans (Eq.trans (Finset.sum_congr rfl fun j _ => ?_) (Online.sum_coe _ _))
  have el : lidx_main_v60 (ix4 a r b d) j = ix4 a j r b := funext fun b => Fin.ext (by match b with | ⟨0, _⟩ => rfl | ⟨1, _⟩ => rfl | ⟨2, _⟩ => rfl | ⟨3, _⟩ => rfl)
  have er : ridx_main_v60 (ix4 a r b d) j = ix3 j a d := funext fun b => Fin.ext (by match b with | ⟨0, _⟩ => rfl | ⟨1, _⟩ => rfl | ⟨2, _⟩ => rfl)
  rw [el, er]
  exact (congrArg₂ (fun s t : EReal => s * t) (slopeT_at h0 h1 h2 h3 a b r j) ((k_at x1 j a d).trans (real_part (h1 _)))).trans (EReal.coe_mul _ _).symm

include h0 h1 h2 h3 in
/-- The reference's first result is the gradient of the queries, -/
theorem gradient_queries : (val_main_v64 (F := Ideal) x0 x1 x2 x3 : Mat 8192 512) = gradQ x0 x1 x2 x3 := by
  funext i
  obtain ⟨r, q, rfl⟩ : ∃ (r : Fin 8192) (q : Fin 512), i = ix2 r q := ⟨_, _, eq_ix2 i⟩
  have hr := r.isLt
  have hq := q.isLt
  obtain ⟨a, b, d, rfl⟩ : ∃ (a : Fin 2) (b : Fin 4) (d : Fin 64), q = column a b d :=
    ⟨⟨q.val / 256, by omega⟩, ⟨q.val / 64 % 4, Nat.mod_lt _ (by decide)⟩, ⟨q.val % 64, Nat.mod_lt _ (by decide)⟩, Fin.ext (by show q.val = 256 * (q.val / 256) + 64 * (q.val / 64 % 4) + q.val % 64; omega)⟩
  have ha := a.isLt
  have hb := b.isLt
  have hd := d.isLt
  have e : idx_main_v61 (idx_main_v64 (ix2 r (column a b d))) = ix4 a r b d := funext fun e => Fin.ext (by
    match e with
    | ⟨0, _⟩ => show (r.val * 512 + (256 * a.val + 64 * b.val + d.val)) / 256 % 2 = a.val; omega
    | ⟨1, _⟩ => show (r.val * 512 + (256 * a.val + 64 * b.val + d.val)) / 512 = r.val; omega
    | ⟨2, _⟩ => show (r.val * 512 + (256 * a.val + 64 * b.val + d.val)) / 64 % 4 = b.val; omega
    | ⟨3, _⟩ => show (r.val * 512 + (256 * a.val + 64 * b.val + d.val)) % 64 = d.val; omega)
  refine ((val_main_v64_apply (F := Ideal) x0 x1 x2 x3 _).trans ((val_main_v61_apply (F := Ideal) x0 x1 x2 x3 _).trans (congrArg (val_main_v60 (F := Ideal) x0 x1 x2 x3) e))).trans ((queries_at h0 h1 h2 h3 a b r d).trans ?_)
  refine congrArg (fun s : ℝ => (s : EReal)) ?_
  rw [Finset.sum_mul]
  refine Finset.sum_congr rfl fun j _ => ?_
  have p : place (column a b d) = d := Fin.ext (by show (256 * a.val + 64 * b.val + d.val) % 64 = d.val; omega)
  show _ = slope x0 x1 x2 x3 r (column a b d) j * EReal.toReal (x1 (ix2 j (group (column a b d) (place (column a b d))))) * (1 / 8)
  rw [p, group_column, column_head a b d 0, slope_head]
  ring

/-! ## Products over a head and a row -/

theorem dots62 (L : Vec Ideal S2x8192x8192x4 .f32) (R : Vec Ideal S8192x2x4x64 .f32) (a : Fin 2) (j : Fin 8192) (d : Fin 64) :
    (Host.dotGeneral (F := Ideal) (φ₁ := .f32) (φ₂ := .f32) dot_S2x8192x8192x4_S8192x2x4x64_S2x8192x64_23_02_1_3_0_1 none L R (ix3 a j d) : EReal) = ∑ ii : Fin 8192, ∑ qq : Fin 4, L (ix4 a j ii qq) * R (ix4 ii a qq d) := by
  simp only [Host.dotGeneral]
  rw [Ideal.dotGeneral_apply, ← Equiv.sum_comp (contrEquiv2 dot_S2x8192x8192x4_S8192x2x4x64_S2x8192x64_23_02_1_3_0_1 8192 4 rfl rfl rfl).symm, Fintype.sum_prod_type]
  refine Finset.sum_congr rfl fun ii _ => Finset.sum_congr rfl fun qq _ => ?_
  have e0 := contrEquiv2_symm_val0 dot_S2x8192x8192x4_S8192x2x4x64_S2x8192x64_23_02_1_3_0_1 8192 4 rfl rfl rfl (ii, qq)
  have e1 := contrEquiv2_symm_val1 dot_S2x8192x8192x4_S8192x2x4x64_S2x8192x64_23_02_1_3_0_1 8192 4 rfl rfl rfl (ii, qq)
  have el : DotDims.lhsIdx dot_S2x8192x8192x4_S8192x2x4x64_S2x8192x64_23_02_1_3_0_1 ((ix3 a j d)) ((contrEquiv2 dot_S2x8192x8192x4_S8192x2x4x64_S2x8192x64_23_02_1_3_0_1 8192 4 rfl rfl rfl).symm (ii, qq)) = ix4 a j ii qq := funext fun a => Fin.ext (by
    match a with
    | ⟨0, _⟩ => exact rfl
    | ⟨1, _⟩ => exact rfl
    | ⟨2, _⟩ => exact e0
    | ⟨3, _⟩ => exact e1)
  have er : DotDims.rhsIdx dot_S2x8192x8192x4_S8192x2x4x64_S2x8192x64_23_02_1_3_0_1 ((ix3 a j d)) ((contrEquiv2 dot_S2x8192x8192x4_S8192x2x4x64_S2x8192x64_23_02_1_3_0_1 8192 4 rfl rfl rfl).symm (ii, qq)) = ix4 ii a qq d := funext fun a => Fin.ext (by
    match a with
    | ⟨0, _⟩ => exact e0
    | ⟨1, _⟩ => exact rfl
    | ⟨2, _⟩ => exact e1
    | ⟨3, _⟩ => exact rfl)
  rw [el, er]

theorem dots43 (L : Vec Ideal S2x64x4x8192 .f32) (R : Vec Ideal S2x4x8192x8192 .f32) (a : Fin 2) (d : Fin 64) (j : Fin 8192) :
    (Host.dotGeneral (F := Ideal) (φ₁ := .f32) (φ₂ := .f32) dot_S2x64x4x8192_S2x4x8192x8192_S2x64x8192_23_12_1_3_0_0 none L R (ix3 a d j) : EReal) = ∑ ii : Fin 4, ∑ qq : Fin 8192, L (ix4 a d ii qq) * R (ix4 a ii qq j) := by
  simp only [Host.dotGeneral]
  rw [Ideal.dotGeneral_apply, ← Equiv.sum_comp (contrEquiv2 dot_S2x64x4x8192_S2x4x8192x8192_S2x64x8192_23_12_1_3_0_0 4 8192 rfl rfl rfl).symm, Fintype.sum_prod_type]
  refine Finset.sum_congr rfl fun ii _ => Finset.sum_congr rfl fun qq _ => ?_
  have e0 := contrEquiv2_symm_val0 dot_S2x64x4x8192_S2x4x8192x8192_S2x64x8192_23_12_1_3_0_0 4 8192 rfl rfl rfl (ii, qq)
  have e1 := contrEquiv2_symm_val1 dot_S2x64x4x8192_S2x4x8192x8192_S2x64x8192_23_12_1_3_0_0 4 8192 rfl rfl rfl (ii, qq)
  have el : DotDims.lhsIdx dot_S2x64x4x8192_S2x4x8192x8192_S2x64x8192_23_12_1_3_0_0 ((ix3 a d j)) ((contrEquiv2 dot_S2x64x4x8192_S2x4x8192x8192_S2x64x8192_23_12_1_3_0_0 4 8192 rfl rfl rfl).symm (ii, qq)) = ix4 a d ii qq := funext fun a => Fin.ext (by
    match a with
    | ⟨0, _⟩ => exact rfl
    | ⟨1, _⟩ => exact rfl
    | ⟨2, _⟩ => exact e0
    | ⟨3, _⟩ => exact e1)
  have er : DotDims.rhsIdx dot_S2x64x4x8192_S2x4x8192x8192_S2x64x8192_23_12_1_3_0_0 ((ix3 a d j)) ((contrEquiv2 dot_S2x64x4x8192_S2x4x8192x8192_S2x64x8192_23_12_1_3_0_0 4 8192 rfl rfl rfl).symm (ii, qq)) = ix4 a ii qq j := funext fun a => Fin.ext (by
    match a with
    | ⟨0, _⟩ => exact rfl
    | ⟨1, _⟩ => exact e0
    | ⟨2, _⟩ => exact e1
    | ⟨3, _⟩ => exact rfl)
  rw [el, er]

theorem padded (x : Vec Ideal S2x8192x64 .f32) (z : Vec Ideal S_ .f32) (hz : ∀ i, (z i : EReal) = 0) (a : Fin 2) (j : Fin 8192) (l : Fin 128) :
    (pad S2x8192x128 ![0, 0, 0] ![0, 0, 64] ![0, 0, 0] x z pads_S2x8192x64_S2x8192x128_000_000_0640 h_S_ (ix3 a j l) : EReal) = if h : l.val < 64 then x (ix3 a j ⟨l.val, h⟩) else 0 := by
  by_cases h : l.val < 64
  · rw [dif_pos h]
    exact pad_apply_of_inside _ _ _ x z pads_S2x8192x64_S2x8192x128_000_000_0640 h_S_ _ (ix3 a j ⟨l.val, h⟩) fun b => by
      match b with
      | ⟨0, _⟩ => show a.val = 0 + a.val * (0 + 1); omega
      | ⟨1, _⟩ => show j.val = 0 + j.val * (0 + 1); omega
      | ⟨2, _⟩ => show l.val = 0 + l.val * (0 + 1); omega
  · rw [dif_neg h]
    refine (pad_apply_of_not_inside _ _ _ x z pads_S2x8192x64_S2x8192x128_000_000_0640 h_S_ _ (2 : Fin 3) ?_).trans (hz _)
    intro hin
    have e : (l.val - 0) / (0 + 1) < 64 := hin.2.2
    omega

theorem zero_int (i : S_.Idx) : (sitofp (F := Ideal) .f32 (constantI S_ 32 0#32) i : EReal) = 0 := by
  exact sitofp_zero

/-! ## The gradients of the keys and of the values -/

include h0 h1 h2 h3 in
theorem gradient_keys : (val_main_v66 (F := Ideal) x0 x1 x2 x3 : Stack 2 8192 128) = gradK x0 x1 x2 x3 := by
  funext i
  obtain ⟨a, j, l, rfl⟩ : ∃ (a : Fin 2) (j : Fin 8192) (l : Fin 128), i = ix3 a j l := ⟨_, _, _, eq_ix3 i⟩
  have s (d : Fin 64) : (val_main_v65 (F := Ideal) x0 x1 x2 x3 (ix3 a j d) : EReal)
      = ((∑ r : Fin 8192, ∑ b : Fin 4, slope x0 x1 x2 x3 r (column a b 0) j * (1 / 8) * EReal.toReal (x0 (ix2 r (column a b d))) : ℝ) : EReal) := by
    have e : idx_main_v63 (idx_main_v65 (ix3 a j d)) = ix3 a j d := funext fun b => Fin.ext (by match b with | ⟨0, _⟩ => rfl | ⟨1, _⟩ => rfl | ⟨2, _⟩ => rfl)
    refine ((val_main_v65_apply (F := Ideal) x0 x1 x2 x3 _).trans ((val_main_v63_apply (F := Ideal) x0 x1 x2 x3 _).trans (congrArg (val_main_v62 (F := Ideal) x0 x1 x2 x3) e))).trans ?_
    unfold val_main_v62
    refine (dots62 (val_main_v59 (F := Ideal) x0 x1 x2 x3) (val_main_v0 (F := Ideal) x0) a j d).trans ?_
    refine (Finset.sum_congr rfl fun r _ => (Finset.sum_congr rfl fun b _ => ?_).trans (Online.sum_coe Finset.univ fun b : Fin 4 => slope x0 x1 x2 x3 r (column a b 0) j * (1 / 8) * EReal.toReal (x0 (ix2 r (column a b d))))).trans (Online.sum_coe _ _)
    exact (congrArg₂ (fun s t : EReal => s * t) (slopeT_at h0 h1 h2 h3 a b r j) ((q_at x0 r a b d).trans (real_part (h0 _)))).trans (EReal.coe_mul _ _).symm
  unfold val_main_v66
  refine (padded (val_main_v65 (F := Ideal) x0 x1 x2 x3) (val_main_call0_v0 (F := Ideal)) zero_int a j l).trans ?_
  show _ = ((∑ b : Fin 4, ∑ r : Fin 8192, termK x0 x1 x2 x3 a j l b r : ℝ) : EReal)
  unfold termK
  by_cases h : l.val < 64
  · rw [dif_pos h]
    refine (s ⟨l.val, h⟩).trans (congrArg (fun s : ℝ => (s : EReal)) ?_)
    rw [Finset.sum_comm]
    refine Finset.sum_congr rfl fun b _ => Finset.sum_congr rfl fun r _ => ?_
    rw [dif_pos h]
    rw [congrArg (fun q => slope x0 x1 x2 x3 r q j) (column_head a b ⟨l.val, h⟩ 0), slope_head]
    ring
  · rw [dif_neg h]
    refine Eq.trans ?_ (congrArg (fun s : ℝ => (s : EReal)) (Finset.sum_eq_zero fun b _ => Finset.sum_eq_zero fun r _ => dif_neg h)).symm
    rfl

include h0 h1 h3 in
theorem gradient_values : (val_main_v68 (F := Ideal) x0 x1 x3 : Stack 2 8192 128) = gradV x0 x1 x3 := by
  funext i
  obtain ⟨a, j, l, rfl⟩ : ∃ (a : Fin 2) (j : Fin 8192) (l : Fin 128), i = ix3 a j l := ⟨_, _, _, eq_ix3 i⟩
  have s (d : Fin 64) : (val_main_v67 (F := Ideal) x0 x1 x3 (ix3 a j d) : EReal)
      = ((∑ b : Fin 4, ∑ r : Fin 8192, EReal.toReal (x3 (ix2 r (column a b d))) * prob x0 x1 r (column a b 0) j : ℝ) : EReal) := by
    have e : idx_main_v44 (idx_main_v67 (ix3 a j d)) = ix3 a d j := funext fun b => Fin.ext (by match b with | ⟨0, _⟩ => rfl | ⟨1, _⟩ => rfl | ⟨2, _⟩ => rfl)
    refine ((val_main_v67_apply (F := Ideal) x0 x1 x3 _).trans ((val_main_v44_apply (F := Ideal) x0 x1 x3 _).trans (congrArg (val_main_v43 (F := Ideal) x0 x1 x3) e))).trans ?_
    unfold val_main_v43
    refine (dots43 (val_main_v41 (F := Ideal) x3) (val_main_v31 (F := Ideal) x0 x1) a d j).trans ?_
    refine (Finset.sum_congr rfl fun b _ => (Finset.sum_congr rfl fun r _ => ?_).trans (Online.sum_coe Finset.univ fun r : Fin 8192 => EReal.toReal (x3 (ix2 r (column a b d))) * prob x0 x1 r (column a b 0) j)).trans (Online.sum_coe _ _)
    exact (congrArg₂ (fun s t : EReal => s * t) ((y_at x3 a b r d).trans (real_part (h3 _))) (prob_at h0 h1 a b r j)).trans (EReal.coe_mul _ _).symm
  unfold val_main_v68
  refine (padded (val_main_v67 (F := Ideal) x0 x1 x3) (val_main_call1_v0 (F := Ideal)) zero_int a j l).trans ?_
  show _ = ((∑ b : Fin 4, ∑ r : Fin 8192, termV x0 x1 x3 a j l b r : ℝ) : EReal)
  unfold termV
  by_cases h : l.val < 64
  · rw [dif_pos h]
    refine (s ⟨l.val, h⟩).trans (congrArg (fun s : ℝ => (s : EReal)) ?_)
    refine Finset.sum_congr rfl fun b _ => Finset.sum_congr rfl fun r _ => ?_
    rw [dif_pos h]
    rw [congrArg (fun q => prob x0 x1 r q j) (column_head a b ⟨l.val, h⟩ 0), prob_head]
    ring
  · rw [dif_neg h]
    refine Eq.trans ?_ (congrArg (fun s : ℝ => (s : EReal)) (Finset.sum_eq_zero fun b _ => Finset.sum_eq_zero fun r _ => dif_neg h)).symm
    rfl

variable (m : (ℓ : Loc nD τ sig) → Buf (Elt Ideal) ℓ) (ρ : Dev nD → PrngReg)
  (g0 : ∀ (c : Dev nD) (i), ∃ r : ℝ, (m ((c : Thread nD τ).loc main_arg0) : Mat 8192 512) i = (r : EReal))
  (g1 : ∀ (c : Dev nD) (i), ∃ r : ℝ, (m ((c : Thread nD τ).loc main_arg1) : Mat 8192 128) i = (r : EReal))
  (g2 : ∀ (c : Dev nD) (i), ∃ r : ℝ, (m ((c : Thread nD τ).loc main_arg2) : Mat 8192 128) i = (r : EReal))
  (g3 : ∀ (c : Dev nD) (i), ∃ r : ℝ, (m ((c : Thread nD τ).loc main_arg3) : Mat 8192 512) i = (r : EReal))

include g0 g1 g2 g3 in
/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v64) = gradQ (m ((c : Thread nD τ).loc main_arg0)) (m ((c : Thread nD τ).loc main_arg1)) (m ((c : Thread nD τ).loc main_arg2)) (m ((c : Thread nD τ).loc main_arg3))
      ∧ r.2.mem ((c : Thread nD τ).loc main_v66) = gradK (m ((c : Thread nD τ).loc main_arg0)) (m ((c : Thread nD τ).loc main_arg1)) (m ((c : Thread nD τ).loc main_arg2)) (m ((c : Thread nD τ).loc main_arg3))
      ∧ r.2.mem ((c : Thread nD τ).loc main_v68) = gradV (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v64_eq m c)).trans (gradient_queries (g0 c) (g1 c) (g2 c) (g3 c)),
      ((h c).2.1.trans (val_main_v66_eq m c)).trans (gradient_keys (g0 c) (g1 c) (g2 c) (g3 c)),
      ((h c).2.2.1.trans (val_main_v68_eq (m ((c : Thread nD τ).loc main_arg0)) (m ((c : Thread nD τ).loc main_arg1)) (m ((c : Thread nD τ).loc main_arg3)))).trans (gradient_values (g0 c) (g1 c) (g3 c)),
      (h c).2.2.2⟩)
    (Cert.FlashABwdReferenceIdeal.Value.run m ρ)

end Cert.FlashABwdReferenceIdeal.Val

end
-- ==== Proof.FlashABwdClaims.lean ====
/-
  The claims about the call `FlashABwd`, from one run of each program: the frames, and the equality of the kernel's
  results with the reference's at the ideal instance.
-/
module

public import proofs.«01_k».proof.Defs
public import proofs.«01_k».proof.Proof.FlashABwd
public import proofs.«01_k».proof.Proof.FlashABwdRef
public import proofs.«01_k».proof.Proof.FfnActClaims
public import proofs.«01_k».proof.Proof.Gen.FlashABwd
public import proofs.«01_k».proof.Proof.Gen.FlashABwd.Frame
public import proofs.«01_k».proof.Proof.Gen.FlashABwdIdeal.Frame
public import proofs.«01_k».proof.Proof.Gen.FlashABwdReferenceIdeal.Run
public import proofs.«01_k».proof.Proof.Gen.Pre_finite_parts
public import Idealize.ShloMosaic.Adequacy
public import Idealize.ShloMosaic.Init

@[expose] public section

set_option maxRecDepth 16384

noncomputable section

namespace Cert.Proof.FlashABwdClaims

open Idealize.ShloMosaic Idealize.ShloMosaic.TcCoe Idealize.SL.Sem
open Cert.Proof.FfnActClaims (real_of)

/-- The kernel runs and leaves its arguments unchanged. -/
theorem frame_kernel : Cert.quiescent_FlashABwd (hFlashABwd := Cert.FlashABwd.Gen.facts) := fun m ρ _ => Cert.FlashABwd.Gen.frame m ρ

/-- So does its ideal reading, -/
theorem frame_ideal : Cert.quiescent_FlashABwdIdeal (hFlashABwdIdeal := Cert.FlashABwdIdeal.Gen.facts) := fun m ρ _ => Cert.FlashABwdIdeal.Gen.frame m ρ

/-- and so does the reference. -/
theorem frame_reference : Cert.quiescent_FlashABwdReferenceIdeal (hFlashABwdReferenceIdeal := Cert.FlashABwdReferenceIdeal.Gen.facts) := fun m ρ _ =>
  (θ_run Cert.FlashABwdReferenceIdeal.defs _ _).mono (fun r h => ⟨fun c => (h c).2.2.2, sem_eq_zero_of_no_sems (by decide) r.2⟩)
    (Cert.FlashABwdReferenceIdeal.Value.run m ρ)

/-- The ideal programs' frames under the precondition: they hold without it. -/
theorem frame_ideal_pre : Cert.quiescent_FlashABwdIdeal_pre_finite_parts (hFlashABwdIdeal := Cert.FlashABwdIdeal.Gen.facts) (hPre_finite_parts := Cert.Pre_finite_parts.Gen.facts) :=
  fun m ρ _ => Cert.FlashABwdIdeal.Gen.frame m ρ

theorem frame_reference_pre : Cert.quiescent_FlashABwdReferenceIdeal_pre_finite_parts (hFlashABwdReferenceIdeal := Cert.FlashABwdReferenceIdeal.Gen.facts) (hPre_finite_parts := Cert.Pre_finite_parts.Gen.facts) :=
  fun m ρ _ => frame_reference m ρ trivial

/-- Where `|x| < 2⁴⁰` everywhere, `x` is real everywhere and below 2⁴⁰ in size. -/
theorem bounded {s : Shape} (x : FVec Ideal s .f32) {h : (⟨0, ![]⟩ : Shape).BroadcastsInDim s (![] : Fin 0 → Fin s.rank)}
    (hx : cmpf .olt (Host.absf x) (broadcastInDim s ![] h (constant (F := Ideal) ⟨0, ![]⟩ .f32 0x53800000#32)) = fun _ => 1#1) (i : s.Idx) :
    (∃ r : ℝ, x i = r) ∧ |EReal.toReal (x i)| ≤ 2 ^ 40 := by
  have hb : Ideal.ofBits .f32 0x53800000#32 = (((2 : ℝ) ^ 40 : ℝ) : EReal) := by
    simp [Ideal.ofBits, Ideal.ieee]
    rw [← EReal.coe_pow, ← EReal.coe_pow, ← EReal.coe_mul]
    exact congrArg (fun r : ℝ => (r : EReal)) (by norm_num)
  have e : Ideal.cmp .olt (max (x i : EReal) (-(x i : EReal))) (Ideal.ofBits .f32 0x53800000#32) = 1#1 := congrFun hx i
  rw [hb] at e
  have hlt : max (x i : EReal) (-(x i : EReal)) < (((2 : ℝ) ^ 40 : ℝ) : EReal) := by
    by_contra hn
    have e' : BitVec.ofBool (decide (max (x i : EReal) (-(x i : EReal)) < (((2 : ℝ) ^ 40 : ℝ) : EReal))) = 1#1 := e
    rw [decide_eq_false hn] at e'
    exact absurd e' (by decide)
  rw [max_lt_iff] at hlt
  have hr : ∃ r : ℝ, (x i : EReal) = r := by
    refine ⟨EReal.toReal (x i), (EReal.coe_toReal (hlt.1.trans (EReal.coe_lt_top _)).ne fun hb => ?_).symm⟩
    have hl := hlt.2
    rw [hb] at hl
    exact not_top_lt hl
  refine ⟨hr, ?_⟩
  obtain ⟨r, er⟩ := hr
  have h1 := hlt.1
  have h2 := hlt.2
  rw [er] at h1 h2
  rw [← EReal.coe_neg] at h2
  rw [er, EReal.toReal_coe]
  exact abs_le.mpr ⟨by have := EReal.coe_lt_coe_iff.mp h2; linarith, (EReal.coe_lt_coe_iff.mp h1).le⟩

/-- The kernel's results are the reference's, on real entries, the queries and keys below 2⁴⁰ in size. -/
theorem algebraic : Cert.algebraic_FlashABwdIdeal_FlashABwdReferenceIdeal_pre_finite_parts (hFlashABwdIdeal := Cert.FlashABwdIdeal.Gen.facts) (hFlashABwdReferenceIdeal := Cert.FlashABwdReferenceIdeal.Gen.facts) (hPre_finite_parts := Cert.Pre_finite_parts.Gen.facts) := by
  intro m ρ m' ρ' hp hag
  have g0 := fun (c : Dev Cert.FlashABwdIdeal.nD) i => (bounded _ (hp c).1 i).1
  have g1 := fun (c : Dev Cert.FlashABwdIdeal.nD) i => (bounded _ (hp c).2.1 i).1
  have b0 := fun (c : Dev Cert.FlashABwdIdeal.nD) i => (bounded _ (hp c).1 i).2
  have b1 := fun (c : Dev Cert.FlashABwdIdeal.nD) i => (bounded _ (hp c).2.1 i).2
  have g2 := fun c : Dev Cert.FlashABwdIdeal.nD => real_of _ (hp c).2.2.1
  have g3 := fun c : Dev Cert.FlashABwdIdeal.nD => real_of _ (hp c).2.2.2
  refine ⟨_, _, _, Cert.FlashABwdIdeal.Val.run m ρ g0 g1 g2 g3 b0 b1, (θ_run _ _ _).mono (fun _ h c => ?_) (Cert.FlashABwdReferenceIdeal.Val.run m' ρ'
    (fun c i => (g0 c i).imp fun _ e => (congrFun (hag c).1 i).trans e) (fun c i => (g1 c i).imp fun _ e => (congrFun (hag c).2.1 i).trans e)
    (fun c i => (g2 c i).imp fun _ e => (congrFun (hag c).2.2.1 i).trans e) (fun c i => (g3 c i).imp fun _ e => (congrFun (hag c).2.2.2 i).trans e))⟩
  have hc := h c
  obtain ⟨e0, e1, e2, e3⟩ := hag c
  rw [e0, e1, e2, e3] at hc
  obtain ⟨h0, h1, h2, h3, h4, h5, h6⟩ := hc
  exact ⟨h0, h1, h2, h3.trans e0.symm, h4.trans e1.symm, h5.trans e2.symm, h6.trans e3.symm⟩

end Cert.Proof.FlashABwdClaims

end
-- ==== Proof.Adam.lean ====
/-
  One step of the optimiser over the extended reals, number by number: the running mean of the gradient, the running mean
  of its square, and the step, each with the constants of the two programs.
-/
module

public import proofs.«01_k».proof.Proof.Prods

@[expose] public section

noncomputable section

namespace Cert.Adam

open Idealize.ShloMosaic

/-- The new running mean of the gradient `g`, after `m`. -/
def mean (g m : EReal) : EReal := Ideal.ofBits .f32 0x3F666666#32 * m + Ideal.ofBits .f32 0x3DCCCCCD#32 * g

/-- The new running mean of the gradient's square, after `v`. -/
def square (g v : EReal) : EReal := Ideal.ofBits .f32 0x3F7FBE77#32 * v + Ideal.ofBits .f32 0x3A83126F#32 * (g * g)

/-- The step of the weight `w`: minus the rate times the corrected mean over the root of the corrected mean square,
    plus the decay. -/
def step (g w m v : EReal) : EReal :=
  Ideal.ofBits .f32 0xBA83126F#32 * (Ideal.div (Ideal.div (mean g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

section
variable {s : Shape}

/-- The sum of two arrays. -/
def both (a b : s.Idx → EReal) : s.Idx → EReal := fun i => a i + b i
/-- `mean`, array by array. -/
def means (g m : s.Idx → EReal) : s.Idx → EReal := fun i => mean (g i) (m i)
/-- `square`, array by array. -/
def squares (g v : s.Idx → EReal) : s.Idx → EReal := fun i => square (g i) (v i)
/-- `step`, array by array. -/
def steps (g w m v : s.Idx → EReal) : s.Idx → EReal := fun i => step (g i) (w i) (m i) (v i)
end

/-- An index of one matrix alone. -/
theorem unit_idx {a b : Nat} (y : (⟨3, ![1, a, b]⟩ : Shape).Idx) : y = ValueIdx.ix3 (0 : Fin 1) (y 1 : Fin a) (y 2 : Fin b) :=
  funext fun k => Fin.ext (by
    match k with
    | ⟨0, _⟩ => have h : (y 0).val < 1 := (y 0).isLt; show (y 0).val = 0; omega
    | ⟨1, _⟩ => rfl
    | ⟨2, _⟩ => rfl)

end Cert.Adam

end
-- ==== Proof.AdIn.lean ====
/-
  The optimiser's step of the input projection, over the extended reals: of the 64 points each takes 64 rows of
  one layer's shard, and every entry of the four results depends on the same entry of the five arguments alone.
-/
module

public import proofs.«01_k».proof.Proof.Adam
public import proofs.«01_k».proof.Proof.Gen.AdInIdeal.Value
public import proofs.«01_k».proof.Proof.Gen.AdInReferenceIdeal.Read
public import proofs.«01_k».proof.Proof.Gen.AdInReferenceIdeal.Run
public import Idealize.ShloMosaic.Lib.StableHlo.RunRead

@[expose] public section

set_option maxRecDepth 16384

noncomputable section

namespace Cert.AdInIdeal.Val

open Idealize.ShloMosaic Idealize.ShloMosaic.TcCoe Idealize.ShloMosaic.ValueIdx Idealize.SL.Sem
open Cert.AdInIdeal Cert.AdInIdeal.Gen Cert.AdInIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 1024 1664 := m ((c : Thread nD τ).loc main_arg0)
abbrev arg1 (c : Dev nD) : Stack 4 1024 1664 := m ((c : Thread nD τ).loc main_arg1)
abbrev arg2 (c : Dev nD) : Stack 4 1024 1664 := m ((c : Thread nD τ).loc main_arg2)
abbrev arg3 (c : Dev nD) : Stack 4 1024 1664 := m ((c : Thread nD τ).loc main_arg3)
abbrev arg4 (c : Dev nD) : Stack 4 1024 1664 := m ((c : Thread nD τ).loc main_arg4)

/-! ## What a block's entry becomes -/

section
variable (x0 x1 x2 x3 x4 : Vec Ideal S1x64x1664 .f32) (p : Fin 64) (q : Fin 1664)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S64x1664 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x64x1664 .f32)

theorem out_eq5 : out0_5 x0 x1 x2 x3 x4 = Adam.both x0 x1 := by
  unfold out0_5
  rw [View.canon_unit_zero at000]
  simp only [View.ld_unit_zero (S := S1x64x1664) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x64x1664) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x64x1664) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x64x1664) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)

/-- Every entry lies in some point's block. -/
theorem cover (i : S4x1024x1664.Idx) : ∃ t : Fin cfg0.N, i ∈ (win0_5.rect t).set := by
  have hN : cfg0.N = 64 := N_0
  have b0 : (i 0 : Nat) < 4 := (i 0).isLt
  have b1 : (i 1 : Nat) < 1024 := (i 1).isLt
  have b2 : (i 2 : Nat) < 1664 := (i 2).isLt
  let t : Fin cfg0.N := ⟨16 * (i 0 : Nat) + (i 1 : Nat) / 64, by rw [hN]; omega⟩
  have htv : t.val = 16 * (i 0 : Nat) + (i 1 : Nat) / 64 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 64 ≤ (i 1 : Nat) ∧ (i 1 : Nat) < win0_5.index t 1 * 64 + 64; rw [h.2.1]; omega
  | ⟨2, _⟩ => show win0_5.index t 2 * 1664 ≤ (i 2 : Nat) ∧ (i 2 : Nat) < win0_5.index t 2 * 1664 + 1664; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdInIdeal.Val

namespace Cert.AdInReferenceIdeal.Val

open Idealize.ShloMosaic Idealize.ShloMosaic.TcCoe Idealize.ShloMosaic.ValueIdx Idealize.SL.Sem
open Cert.AdInReferenceIdeal Cert.AdInReferenceIdeal.Gen Cert.AdInReferenceIdeal.Read Cert.Prods
open Cert.MixBwd (Mat Stack)

section
variable (x0 x1 x2 x3 x4 : Stack 4 1024 1664)

/-- The reference's summed gradient. -/
theorem grad_eq : (val_main_v0 (F := Ideal) x0 x1 : Stack 4 1024 1664) = Adam.both x0 x1 := rfl

/-- The reference's running mean. -/
theorem mean_eq : (val_main_v5 (F := Ideal) x0 x1 x3 : Stack 4 1024 1664) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 1024 1664) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 1024 1664) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdInReferenceIdeal.Value.run m ρ)

end Cert.AdInReferenceIdeal.Val

end
-- ==== Proof.AdInClaims.lean ====
/-
  The claims about the call `AdIn`, from one run of each program: the frames, and the equality of the kernel's
  results with the reference's at the ideal instance.
-/
module

public import proofs.«01_k».proof.Defs
public import proofs.«01_k».proof.Proof.AdIn
public import proofs.«01_k».proof.Proof.Gen.AdIn
public import proofs.«01_k».proof.Proof.Gen.AdIn.Frame
public import proofs.«01_k».proof.Proof.Gen.AdInIdeal.Frame
public import proofs.«01_k».proof.Proof.Gen.AdInReferenceIdeal.Run
public import Idealize.ShloMosaic.Adequacy
public import Idealize.ShloMosaic.Init

@[expose] public section

set_option maxRecDepth 16384

noncomputable section

namespace Cert.Proof.AdInClaims

open Idealize.ShloMosaic Idealize.ShloMosaic.TcCoe Idealize.SL.Sem

/-- The kernel runs and leaves its arguments unchanged. -/
theorem frame_kernel : Cert.quiescent_AdIn (hAdIn := Cert.AdIn.Gen.facts) := fun m ρ _ => Cert.AdIn.Gen.frame m ρ

/-- So does its ideal reading, -/
theorem frame_ideal : Cert.quiescent_AdInIdeal (hAdInIdeal := Cert.AdInIdeal.Gen.facts) := fun m ρ _ => Cert.AdInIdeal.Gen.frame m ρ

/-- and so does the reference. -/
theorem frame_reference : Cert.quiescent_AdInReferenceIdeal (hAdInReferenceIdeal := Cert.AdInReferenceIdeal.Gen.facts) := fun m ρ _ =>
  (θ_run Cert.AdInReferenceIdeal.defs _ _).mono (fun r h => ⟨fun c => (h c).2.2.2.2, sem_eq_zero_of_no_sems (by decide) r.2⟩)
    (Cert.AdInReferenceIdeal.Value.run m ρ)

/-- The kernel's results are the reference's. -/
theorem algebraic : Cert.algebraic_AdInIdeal_AdInReferenceIdeal (hAdInIdeal := Cert.AdInIdeal.Gen.facts) (hAdInReferenceIdeal := Cert.AdInReferenceIdeal.Gen.facts) := by
  intro m ρ m' ρ' _ hag
  refine ⟨_, _, _, _, Cert.AdInIdeal.Val.run m ρ, (θ_run _ _ _).mono (fun _ h c => ?_) (Cert.AdInReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdInClaims

end
-- ==== Proof.AdBrA.lean ====
/-
  The optimiser's step of the first and the third branch, over the extended reals: of the 4 points each takes 512 rows of
  one layer's shard, and every entry of the four results depends on the same entry of the five arguments alone.
-/
module

public import proofs.«01_k».proof.Proof.Adam
public import proofs.«01_k».proof.Proof.Gen.AdBrAIdeal.Value
public import proofs.«01_k».proof.Proof.Gen.AdBrAReferenceIdeal.Read
public import proofs.«01_k».proof.Proof.Gen.AdBrAReferenceIdeal.Run
public import Idealize.ShloMosaic.Lib.StableHlo.RunRead

@[expose] public section

set_option maxRecDepth 16384

noncomputable section

namespace Cert.AdBrAIdeal.Val

open Idealize.ShloMosaic Idealize.ShloMosaic.TcCoe Idealize.ShloMosaic.ValueIdx Idealize.SL.Sem
open Cert.AdBrAIdeal Cert.AdBrAIdeal.Gen Cert.AdBrAIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 512 256 := m ((c : Thread nD τ).loc main_arg0)
abbrev arg1 (c : Dev nD) : Stack 4 512 256 := m ((c : Thread nD τ).loc main_arg1)
abbrev arg2 (c : Dev nD) : Stack 4 512 256 := m ((c : Thread nD τ).loc main_arg2)
abbrev arg3 (c : Dev nD) : Stack 4 512 256 := m ((c : Thread nD τ).loc main_arg3)
abbrev arg4 (c : Dev nD) : Stack 4 512 256 := m ((c : Thread nD τ).loc main_arg4)

/-! ## What a block's entry becomes -/

section
variable (x0 x1 x2 x3 x4 : Vec Ideal S1x512x256 .f32) (p : Fin 512) (q : Fin 256)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S512x256 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x512x256 .f32)

theorem out_eq5 : out0_5 x0 x1 x2 x3 x4 = Adam.both x0 x1 := by
  unfold out0_5
  rw [View.canon_unit_zero at000]
  simp only [View.ld_unit_zero (S := S1x512x256) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x512x256) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x512x256) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x512x256) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 1 ∧ win0_5.index t 1 = t.val % 1 ∧ win0_5.index t 2 = 0 :=
  (by decide +kernel : ∀ t : Fin grid0.N, win0_5.index t 0 = t.val / 1 ∧ win0_5.index t 1 = t.val % 1 ∧ win0_5.index t 2 = 0)

/-- Every entry lies in some point's block. -/
theorem cover (i : S4x512x256.Idx) : ∃ t : Fin cfg0.N, i ∈ (win0_5.rect t).set := by
  have hN : cfg0.N = 4 := N_0
  have b0 : (i 0 : Nat) < 4 := (i 0).isLt
  have b1 : (i 1 : Nat) < 512 := (i 1).isLt
  have b2 : (i 2 : Nat) < 256 := (i 2).isLt
  let t : Fin cfg0.N := ⟨1 * (i 0 : Nat) + (i 1 : Nat) / 512, by rw [hN]; omega⟩
  have htv : t.val = 1 * (i 0 : Nat) + (i 1 : Nat) / 512 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 512 ≤ (i 1 : Nat) ∧ (i 1 : Nat) < win0_5.index t 1 * 512 + 512; rw [h.2.1]; omega
  | ⟨2, _⟩ => show win0_5.index t 2 * 256 ≤ (i 2 : Nat) ∧ (i 2 : Nat) < win0_5.index t 2 * 256 + 256; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdBrAIdeal.Val

namespace Cert.AdBrAReferenceIdeal.Val

open Idealize.ShloMosaic Idealize.ShloMosaic.TcCoe Idealize.ShloMosaic.ValueIdx Idealize.SL.Sem
open Cert.AdBrAReferenceIdeal Cert.AdBrAReferenceIdeal.Gen Cert.AdBrAReferenceIdeal.Read Cert.Prods
open Cert.MixBwd (Mat Stack)

section
variable (x0 x1 x2 x3 x4 : Stack 4 512 256)

/-- The reference's summed gradient. -/
theorem grad_eq : (val_main_v0 (F := Ideal) x0 x1 : Stack 4 512 256) = Adam.both x0 x1 := rfl

/-- The reference's running mean. -/
theorem mean_eq : (val_main_v5 (F := Ideal) x0 x1 x3 : Stack 4 512 256) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 512 256) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 512 256) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdBrAReferenceIdeal.Value.run m ρ)

end Cert.AdBrAReferenceIdeal.Val

end
-- ==== Proof.AdBrAClaims.lean ====
/-
  The claims about the call `AdBrA`, from one run of each program: the frames, and the equality of the kernel's
  results with the reference's at the ideal instance.
-/
module

public import proofs.«01_k».proof.Defs
public import proofs.«01_k».proof.Proof.AdBrA
public import proofs.«01_k».proof.Proof.Gen.AdBrA
public import proofs.«01_k».proof.Proof.Gen.AdBrA.Frame
public import proofs.«01_k».proof.Proof.Gen.AdBrAIdeal.Frame
public import proofs.«01_k».proof.Proof.Gen.AdBrAReferenceIdeal.Run
public import Idealize.ShloMosaic.Adequacy
public import Idealize.ShloMosaic.Init

@[expose] public section

set_option maxRecDepth 16384

noncomputable section

namespace Cert.Proof.AdBrAClaims

open Idealize.ShloMosaic Idealize.ShloMosaic.TcCoe Idealize.SL.Sem

/-- The kernel runs and leaves its arguments unchanged. -/
theorem frame_kernel : Cert.quiescent_AdBrA (hAdBrA := Cert.AdBrA.Gen.facts) := fun m ρ _ => Cert.AdBrA.Gen.frame m ρ

/-- So does its ideal reading, -/
theorem frame_ideal : Cert.quiescent_AdBrAIdeal (hAdBrAIdeal := Cert.AdBrAIdeal.Gen.facts) := fun m ρ _ => Cert.AdBrAIdeal.Gen.frame m ρ

/-- and so does the reference. -/
theorem frame_reference : Cert.quiescent_AdBrAReferenceIdeal (hAdBrAReferenceIdeal := Cert.AdBrAReferenceIdeal.Gen.facts) := fun m ρ _ =>
  (θ_run Cert.AdBrAReferenceIdeal.defs _ _).mono (fun r h => ⟨fun c => (h c).2.2.2.2, sem_eq_zero_of_no_sems (by decide) r.2⟩)
    (Cert.AdBrAReferenceIdeal.Value.run m ρ)

/-- The kernel's results are the reference's. -/
theorem algebraic : Cert.algebraic_AdBrAIdeal_AdBrAReferenceIdeal (hAdBrAIdeal := Cert.AdBrAIdeal.Gen.facts) (hAdBrAReferenceIdeal := Cert.AdBrAReferenceIdeal.Gen.facts) := by
  intro m ρ m' ρ' _ hag
  refine ⟨_, _, _, _, Cert.AdBrAIdeal.Val.run m ρ, (θ_run _ _ _).mono (fun _ h c => ?_) (Cert.AdBrAReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdBrAClaims

end
-- ==== Proof.AdBrB.lean ====
/-
  The optimiser's step of the second branch, over the extended reals: of the 4 points each takes 256 rows of
  one layer's shard, and every entry of the four results depends on the same entry of the five arguments alone.
-/
module

public import proofs.«01_k».proof.Proof.Adam
public import proofs.«01_k».proof.Proof.Gen.AdBrBIdeal.Value
public import proofs.«01_k».proof.Proof.Gen.AdBrBReferenceIdeal.Read
public import proofs.«01_k».proof.Proof.Gen.AdBrBReferenceIdeal.Run
public import Idealize.ShloMosaic.Lib.StableHlo.RunRead

@[expose] public section

set_option maxRecDepth 16384

noncomputable section

namespace Cert.AdBrBIdeal.Val

open Idealize.ShloMosaic Idealize.ShloMosaic.TcCoe Idealize.ShloMosaic.ValueIdx Idealize.SL.Sem
open Cert.AdBrBIdeal Cert.AdBrBIdeal.Gen Cert.AdBrBIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 256 256 := m ((c : Thread nD τ).loc main_arg0)
abbrev arg1 (c : Dev nD) : Stack 4 256 256 := m ((c : Thread nD τ).loc main_arg1)
abbrev arg2 (c : Dev nD) : Stack 4 256 256 := m ((c : Thread nD τ).loc main_arg2)
abbrev arg3 (c : Dev nD) : Stack 4 256 256 := m ((c : Thread nD τ).loc main_arg3)
abbrev arg4 (c : Dev nD) : Stack 4 256 256 := m ((c : Thread nD τ).loc main_arg4)

/-! ## What a block's entry becomes -/

section
variable (x0 x1 x2 x3 x4 : Vec Ideal S1x256x256 .f32) (p : Fin 256) (q : Fin 256)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S256x256 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x256x256 .f32)

theorem out_eq5 : out0_5 x0 x1 x2 x3 x4 = Adam.both x0 x1 := by
  unfold out0_5
  rw [View.canon_unit_zero at000]
  simp only [View.ld_unit_zero (S := S1x256x256) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x256x256) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x256x256) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x256x256) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 1 ∧ win0_5.index t 1 = t.val % 1 ∧ win0_5.index t 2 = 0 :=
  (by decide +kernel : ∀ t : Fin grid0.N, win0_5.index t 0 = t.val / 1 ∧ win0_5.index t 1 = t.val % 1 ∧ win0_5.index t 2 = 0)

/-- Every entry lies in some point's block. -/
theorem cover (i : S4x256x256.Idx) : ∃ t : Fin cfg0.N, i ∈ (win0_5.rect t).set := by
  have hN : cfg0.N = 4 := N_0
  have b0 : (i 0 : Nat) < 4 := (i 0).isLt
  have b1 : (i 1 : Nat) < 256 := (i 1).isLt
  have b2 : (i 2 : Nat) < 256 := (i 2).isLt
  let t : Fin cfg0.N := ⟨1 * (i 0 : Nat) + (i 1 : Nat) / 256, by rw [hN]; omega⟩
  have htv : t.val = 1 * (i 0 : Nat) + (i 1 : Nat) / 256 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 256 ≤ (i 1 : Nat) ∧ (i 1 : Nat) < win0_5.index t 1 * 256 + 256; rw [h.2.1]; omega
  | ⟨2, _⟩ => show win0_5.index t 2 * 256 ≤ (i 2 : Nat) ∧ (i 2 : Nat) < win0_5.index t 2 * 256 + 256; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdBrBIdeal.Val

namespace Cert.AdBrBReferenceIdeal.Val

open Idealize.ShloMosaic Idealize.ShloMosaic.TcCoe Idealize.ShloMosaic.ValueIdx Idealize.SL.Sem
open Cert.AdBrBReferenceIdeal Cert.AdBrBReferenceIdeal.Gen Cert.AdBrBReferenceIdeal.Read Cert.Prods
open Cert.MixBwd (Mat Stack)

section
variable (x0 x1 x2 x3 x4 : Stack 4 256 256)

/-- The reference's summed gradient. -/
theorem grad_eq : (val_main_v0 (F := Ideal) x0 x1 : Stack 4 256 256) = Adam.both x0 x1 := rfl

/-- The reference's running mean. -/
theorem mean_eq : (val_main_v5 (F := Ideal) x0 x1 x3 : Stack 4 256 256) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 256 256) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 256 256) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdBrBReferenceIdeal.Value.run m ρ)

end Cert.AdBrBReferenceIdeal.Val

end
-- ==== Proof.AdBrBClaims.lean ====
/-
  The claims about the call `AdBrB`, from one run of each program: the frames, and the equality of the kernel's
  results with the reference's at the ideal instance.
-/
module

public import proofs.«01_k».proof.Defs
public import proofs.«01_k».proof.Proof.AdBrB
public import proofs.«01_k».proof.Proof.Gen.AdBrB
public import proofs.«01_k».proof.Proof.Gen.AdBrB.Frame
public import proofs.«01_k».proof.Proof.Gen.AdBrBIdeal.Frame
public import proofs.«01_k».proof.Proof.Gen.AdBrBReferenceIdeal.Run
public import Idealize.ShloMosaic.Adequacy
public import Idealize.ShloMosaic.Init

@[expose] public section

set_option maxRecDepth 16384

noncomputable section

namespace Cert.Proof.AdBrBClaims

open Idealize.ShloMosaic Idealize.ShloMosaic.TcCoe Idealize.SL.Sem

/-- The kernel runs and leaves its arguments unchanged. -/
theorem frame_kernel : Cert.quiescent_AdBrB (hAdBrB := Cert.AdBrB.Gen.facts) := fun m ρ _ => Cert.AdBrB.Gen.frame m ρ

/-- So does its ideal reading, -/
theorem frame_ideal : Cert.quiescent_AdBrBIdeal (hAdBrBIdeal := Cert.AdBrBIdeal.Gen.facts) := fun m ρ _ => Cert.AdBrBIdeal.Gen.frame m ρ

/-- and so does the reference. -/
theorem frame_reference : Cert.quiescent_AdBrBReferenceIdeal (hAdBrBReferenceIdeal := Cert.AdBrBReferenceIdeal.Gen.facts) := fun m ρ _ =>
  (θ_run Cert.AdBrBReferenceIdeal.defs _ _).mono (fun r h => ⟨fun c => (h c).2.2.2.2, sem_eq_zero_of_no_sems (by decide) r.2⟩)
    (Cert.AdBrBReferenceIdeal.Value.run m ρ)

/-- The kernel's results are the reference's. -/
theorem algebraic : Cert.algebraic_AdBrBIdeal_AdBrBReferenceIdeal (hAdBrBIdeal := Cert.AdBrBIdeal.Gen.facts) (hAdBrBReferenceIdeal := Cert.AdBrBReferenceIdeal.Gen.facts) := by
  intro m ρ m' ρ' _ hag
  refine ⟨_, _, _, _, Cert.AdBrBIdeal.Val.run m ρ, (θ_run _ _ _).mono (fun _ h c => ?_) (Cert.AdBrBReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdBrBClaims

end
-- ==== Proof.AdOut.lean ====
/-
  The optimiser's step of the output projection, over the extended reals: of the 8 points each takes 128 rows of
  one layer's shard, and every entry of the four results depends on the same entry of the five arguments alone.
-/
module

public import proofs.«01_k».proof.Proof.Adam
public import proofs.«01_k».proof.Proof.Gen.AdOutIdeal.Value
public import proofs.«01_k».proof.Proof.Gen.AdOutReferenceIdeal.Read
public import proofs.«01_k».proof.Proof.Gen.AdOutReferenceIdeal.Run
public import Idealize.ShloMosaic.Lib.StableHlo.RunRead

@[expose] public section

set_option maxRecDepth 16384

noncomputable section

namespace Cert.AdOutIdeal.Val

open Idealize.ShloMosaic Idealize.ShloMosaic.TcCoe Idealize.ShloMosaic.ValueIdx Idealize.SL.Sem
open Cert.AdOutIdeal Cert.AdOutIdeal.Gen Cert.AdOutIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 256 1024 := m ((c : Thread nD τ).loc main_arg0)
abbrev arg1 (c : Dev nD) : Stack 4 256 1024 := m ((c : Thread nD τ).loc main_arg1)
abbrev arg2 (c : Dev nD) : Stack 4 256 1024 := m ((c : Thread nD τ).loc main_arg2)
abbrev arg3 (c : Dev nD) : Stack 4 256 1024 := m ((c : Thread nD τ).loc main_arg3)
abbrev arg4 (c : Dev nD) : Stack 4 256 1024 := m ((c : Thread nD τ).loc main_arg4)

/-! ## What a block's entry becomes -/

section
variable (x0 x1 x2 x3 x4 : Vec Ideal S1x128x1024 .f32) (p : Fin 128) (q : Fin 1024)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S128x1024 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x128x1024 .f32)

theorem out_eq5 : out0_5 x0 x1 x2 x3 x4 = Adam.both x0 x1 := by
  unfold out0_5
  rw [View.canon_unit_zero at000]
  simp only [View.ld_unit_zero (S := S1x128x1024) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x128x1024) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x128x1024) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x128x1024) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 2 ∧ win0_5.index t 1 = t.val % 2 ∧ win0_5.index t 2 = 0 :=
  (by decide +kernel : ∀ t : Fin grid0.N, win0_5.index t 0 = t.val / 2 ∧ win0_5.index t 1 = t.val % 2 ∧ win0_5.index t 2 = 0)

/-- Every entry lies in some point's block. -/
theorem cover (i : S4x256x1024.Idx) : ∃ t : Fin cfg0.N, i ∈ (win0_5.rect t).set := by
  have hN : cfg0.N = 8 := N_0
  have b0 : (i 0 : Nat) < 4 := (i 0).isLt
  have b1 : (i 1 : Nat) < 256 := (i 1).isLt
  have b2 : (i 2 : Nat) < 1024 := (i 2).isLt
  let t : Fin cfg0.N := ⟨2 * (i 0 : Nat) + (i 1 : Nat) / 128, by rw [hN]; omega⟩
  have htv : t.val = 2 * (i 0 : Nat) + (i 1 : Nat) / 128 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 128 ≤ (i 1 : Nat) ∧ (i 1 : Nat) < win0_5.index t 1 * 128 + 128; rw [h.2.1]; omega
  | ⟨2, _⟩ => show win0_5.index t 2 * 1024 ≤ (i 2 : Nat) ∧ (i 2 : Nat) < win0_5.index t 2 * 1024 + 1024; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdOutIdeal.Val

namespace Cert.AdOutReferenceIdeal.Val

open Idealize.ShloMosaic Idealize.ShloMosaic.TcCoe Idealize.ShloMosaic.ValueIdx Idealize.SL.Sem
open Cert.AdOutReferenceIdeal Cert.AdOutReferenceIdeal.Gen Cert.AdOutReferenceIdeal.Read Cert.Prods
open Cert.MixBwd (Mat Stack)

section
variable (x0 x1 x2 x3 x4 : Stack 4 256 1024)

/-- The reference's summed gradient. -/
theorem grad_eq : (val_main_v0 (F := Ideal) x0 x1 : Stack 4 256 1024) = Adam.both x0 x1 := rfl

/-- The reference's running mean. -/
theorem mean_eq : (val_main_v5 (F := Ideal) x0 x1 x3 : Stack 4 256 1024) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 256 1024) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 256 1024) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdOutReferenceIdeal.Value.run m ρ)

end Cert.AdOutReferenceIdeal.Val

end
-- ==== Proof.AdOutClaims.lean ====
/-
  The claims about the call `AdOut`, from one run of each program: the frames, and the equality of the kernel's
  results with the reference's at the ideal instance.
-/
module

public import proofs.«01_k».proof.Defs
public import proofs.«01_k».proof.Proof.AdOut
public import proofs.«01_k».proof.Proof.Gen.AdOut
public import proofs.«01_k».proof.Proof.Gen.AdOut.Frame
public import proofs.«01_k».proof.Proof.Gen.AdOutIdeal.Frame
public import proofs.«01_k».proof.Proof.Gen.AdOutReferenceIdeal.Run
public import Idealize.ShloMosaic.Adequacy
public import Idealize.ShloMosaic.Init

@[expose] public section

set_option maxRecDepth 16384

noncomputable section

namespace Cert.Proof.AdOutClaims

open Idealize.ShloMosaic Idealize.ShloMosaic.TcCoe Idealize.SL.Sem

/-- The kernel runs and leaves its arguments unchanged. -/
theorem frame_kernel : Cert.quiescent_AdOut (hAdOut := Cert.AdOut.Gen.facts) := fun m ρ _ => Cert.AdOut.Gen.frame m ρ

/-- So does its ideal reading, -/
theorem frame_ideal : Cert.quiescent_AdOutIdeal (hAdOutIdeal := Cert.AdOutIdeal.Gen.facts) := fun m ρ _ => Cert.AdOutIdeal.Gen.frame m ρ

/-- and so does the reference. -/
theorem frame_reference : Cert.quiescent_AdOutReferenceIdeal (hAdOutReferenceIdeal := Cert.AdOutReferenceIdeal.Gen.facts) := fun m ρ _ =>
  (θ_run Cert.AdOutReferenceIdeal.defs _ _).mono (fun r h => ⟨fun c => (h c).2.2.2.2, sem_eq_zero_of_no_sems (by decide) r.2⟩)
    (Cert.AdOutReferenceIdeal.Value.run m ρ)

/-- The kernel's results are the reference's. -/
theorem algebraic : Cert.algebraic_AdOutIdeal_AdOutReferenceIdeal (hAdOutIdeal := Cert.AdOutIdeal.Gen.facts) (hAdOutReferenceIdeal := Cert.AdOutReferenceIdeal.Gen.facts) := by
  intro m ρ m' ρ' _ hag
  refine ⟨_, _, _, _, Cert.AdOutIdeal.Val.run m ρ, (θ_run _ _ _).mono (fun _ h c => ?_) (Cert.AdOutReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdOutClaims

end
-- ==== Proof.AdGate.lean ====
/-
  The optimiser's step of the feed-forward gate and up weights, over the extended reals: of the 32 points each takes 128 rows of
  one layer's shard, and every entry of the four results depends on the same entry of the five arguments alone.
-/
module

public import proofs.«01_k».proof.Proof.Adam
public import proofs.«01_k».proof.Proof.Gen.AdGateIdeal.Value
public import proofs.«01_k».proof.Proof.Gen.AdGateReferenceIdeal.Read
public import proofs.«01_k».proof.Proof.Gen.AdGateReferenceIdeal.Run
public import Idealize.ShloMosaic.Lib.StableHlo.RunRead

@[expose] public section

set_option maxRecDepth 16384

noncomputable section

namespace Cert.AdGateIdeal.Val

open Idealize.ShloMosaic Idealize.ShloMosaic.TcCoe Idealize.ShloMosaic.ValueIdx Idealize.SL.Sem
open Cert.AdGateIdeal Cert.AdGateIdeal.Gen Cert.AdGateIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 1024 704 := m ((c : Thread nD τ).loc main_arg0)
abbrev arg1 (c : Dev nD) : Stack 4 1024 704 := m ((c : Thread nD τ).loc main_arg1)
abbrev arg2 (c : Dev nD) : Stack 4 1024 704 := m ((c : Thread nD τ).loc main_arg2)
abbrev arg3 (c : Dev nD) : Stack 4 1024 704 := m ((c : Thread nD τ).loc main_arg3)
abbrev arg4 (c : Dev nD) : Stack 4 1024 704 := m ((c : Thread nD τ).loc main_arg4)

/-! ## What a block's entry becomes -/

section
variable (x0 x1 x2 x3 x4 : Vec Ideal S1x128x704 .f32) (p : Fin 128) (q : Fin 704)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S128x704 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x128x704 .f32)

theorem out_eq5 : out0_5 x0 x1 x2 x3 x4 = Adam.both x0 x1 := by
  unfold out0_5
  rw [View.canon_unit_zero at000]
  simp only [View.ld_unit_zero (S := S1x128x704) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x128x704) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x128x704) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x128x704) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)

/-- Every entry lies in some point's block. -/
theorem cover (i : S4x1024x704.Idx) : ∃ t : Fin cfg0.N, i ∈ (win0_5.rect t).set := by
  have hN : cfg0.N = 32 := N_0
  have b0 : (i 0 : Nat) < 4 := (i 0).isLt
  have b1 : (i 1 : Nat) < 1024 := (i 1).isLt
  have b2 : (i 2 : Nat) < 704 := (i 2).isLt
  let t : Fin cfg0.N := ⟨8 * (i 0 : Nat) + (i 1 : Nat) / 128, by rw [hN]; omega⟩
  have htv : t.val = 8 * (i 0 : Nat) + (i 1 : Nat) / 128 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 128 ≤ (i 1 : Nat) ∧ (i 1 : Nat) < win0_5.index t 1 * 128 + 128; rw [h.2.1]; omega
  | ⟨2, _⟩ => show win0_5.index t 2 * 704 ≤ (i 2 : Nat) ∧ (i 2 : Nat) < win0_5.index t 2 * 704 + 704; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdGateIdeal.Val

namespace Cert.AdGateReferenceIdeal.Val

open Idealize.ShloMosaic Idealize.ShloMosaic.TcCoe Idealize.ShloMosaic.ValueIdx Idealize.SL.Sem
open Cert.AdGateReferenceIdeal Cert.AdGateReferenceIdeal.Gen Cert.AdGateReferenceIdeal.Read Cert.Prods
open Cert.MixBwd (Mat Stack)

section
variable (x0 x1 x2 x3 x4 : Stack 4 1024 704)

/-- The reference's summed gradient. -/
theorem grad_eq : (val_main_v0 (F := Ideal) x0 x1 : Stack 4 1024 704) = Adam.both x0 x1 := rfl

/-- The reference's running mean. -/
theorem mean_eq : (val_main_v5 (F := Ideal) x0 x1 x3 : Stack 4 1024 704) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 1024 704) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 1024 704) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdGateReferenceIdeal.Value.run m ρ)

end Cert.AdGateReferenceIdeal.Val

end
-- ==== Proof.AdGateClaims.lean ====
/-
  The claims about the call `AdGate`, from one run of each program: the frames, and the equality of the kernel's
  results with the reference's at the ideal instance.
-/
module

public import proofs.«01_k».proof.Defs
public import proofs.«01_k».proof.Proof.AdGate
public import proofs.«01_k».proof.Proof.Gen.AdGate
public import proofs.«01_k».proof.Proof.Gen.AdGate.Frame
public import proofs.«01_k».proof.Proof.Gen.AdGateIdeal.Frame
public import proofs.«01_k».proof.Proof.Gen.AdGateReferenceIdeal.Run
public import Idealize.ShloMosaic.Adequacy
public import Idealize.ShloMosaic.Init

@[expose] public section

set_option maxRecDepth 16384

noncomputable section

namespace Cert.Proof.AdGateClaims

open Idealize.ShloMosaic Idealize.ShloMosaic.TcCoe Idealize.SL.Sem

/-- The kernel runs and leaves its arguments unchanged. -/
theorem frame_kernel : Cert.quiescent_AdGate (hAdGate := Cert.AdGate.Gen.facts) := fun m ρ _ => Cert.AdGate.Gen.frame m ρ

/-- So does its ideal reading, -/
theorem frame_ideal : Cert.quiescent_AdGateIdeal (hAdGateIdeal := Cert.AdGateIdeal.Gen.facts) := fun m ρ _ => Cert.AdGateIdeal.Gen.frame m ρ

/-- and so does the reference. -/
theorem frame_reference : Cert.quiescent_AdGateReferenceIdeal (hAdGateReferenceIdeal := Cert.AdGateReferenceIdeal.Gen.facts) := fun m ρ _ =>
  (θ_run Cert.AdGateReferenceIdeal.defs _ _).mono (fun r h => ⟨fun c => (h c).2.2.2.2, sem_eq_zero_of_no_sems (by decide) r.2⟩)
    (Cert.AdGateReferenceIdeal.Value.run m ρ)

/-- The kernel's results are the reference's. -/
theorem algebraic : Cert.algebraic_AdGateIdeal_AdGateReferenceIdeal (hAdGateIdeal := Cert.AdGateIdeal.Gen.facts) (hAdGateReferenceIdeal := Cert.AdGateReferenceIdeal.Gen.facts) := by
  intro m ρ m' ρ' _ hag
  refine ⟨_, _, _, _, Cert.AdGateIdeal.Val.run m ρ, (θ_run _ _ _).mono (fun _ h c => ?_) (Cert.AdGateReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdGateClaims

end
-- ==== Proof.AdDown.lean ====
/-
  The optimiser's step of the feed-forward down weight, over the extended reals: of the 44 points each takes 64 rows of
  one layer's shard, and every entry of the four results depends on the same entry of the five arguments alone.
-/
module

public import proofs.«01_k».proof.Proof.Adam
public import proofs.«01_k».proof.Proof.Gen.AdDownIdeal.Value
public import proofs.«01_k».proof.Proof.Gen.AdDownReferenceIdeal.Read
public import proofs.«01_k».proof.Proof.Gen.AdDownReferenceIdeal.Run
public import Idealize.ShloMosaic.Lib.StableHlo.RunRead

@[expose] public section

set_option maxRecDepth 16384

noncomputable section

namespace Cert.AdDownIdeal.Val

open Idealize.ShloMosaic Idealize.ShloMosaic.TcCoe Idealize.ShloMosaic.ValueIdx Idealize.SL.Sem
open Cert.AdDownIdeal Cert.AdDownIdeal.Gen Cert.AdDownIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments -/

abbrev arg0 (c : Dev nD) : Stack 4 704 1024 := m ((c : Thread nD τ).loc main_arg0)
abbrev arg1 (c : Dev nD) : Stack 4 704 1024 := m ((c : Thread nD τ).loc main_arg1)
abbrev arg2 (c : Dev nD) : Stack 4 704 1024 := m ((c : Thread nD τ).loc main_arg2)
abbrev arg3 (c : Dev nD) : Stack 4 704 1024 := m ((c : Thread nD τ).loc main_arg3)
abbrev arg4 (c : Dev nD) : Stack 4 704 1024 := m ((c : Thread nD τ).loc main_arg4)

/-! ## What a block's entry becomes -/

section
variable (x0 x1 x2 x3 x4 : Vec Ideal S1x64x1024 .f32) (p : Fin 64) (q : Fin 1024)

theorem grad_apply : k0_pay5 x0 x1 (ix2 p q) = ((x0 (ix3 0 p q) + x1 (ix3 0 p q)) : EReal) := by
  unfold k0_pay5
  exact congrArg₂ (fun a b : EReal => a + b) (dropLead _ _ p q) (dropLead _ _ p q)

theorem mean_apply : k0_pay6 x0 x1 x3 (ix2 p q) = Adam.mean (x0 (ix3 0 p q) + x1 (ix3 0 p q)) (x3 (ix3 0 p q)) := by
  unfold k0_pay6
  exact congrArg₂ Adam.mean (grad_apply x0 x1 p q) (dropLead _ _ p q)

theorem square_apply : k0_pay7 x0 x1 x4 (ix2 p q) = Adam.square (x0 (ix3 0 p q) + x1 (ix3 0 p q)) (x4 (ix3 0 p q)) := by
  unfold k0_pay7
  exact congrArg₂ Adam.square (grad_apply x0 x1 p q) (dropLead _ _ p q)

theorem step_apply : (mulf (k0_pay9 (F := Ideal)) (k0_pay8 x0 x1 x2 x3 x4) : FVec Ideal S64x1024 .f32) (ix2 p q) = Adam.step (x0 (ix3 0 p q) + x1 (ix3 0 p q)) (x2 (ix3 0 p q)) (x3 (ix3 0 p q)) (x4 (ix3 0 p q)) := by
  unfold k0_pay9 k0_pay8 Adam.step
  exact congrArg (fun e : EReal => Ideal.ofBits .f32 0xBA83126F#32 * e) (congrArg₂ (fun a b : EReal => a + b) (congrArg₂ (fun a b : EReal =>
    Ideal.div (Ideal.div a (Ideal.ofBits .f32 0x3F26BD02#32)) (Ideal.sqrt (Ideal.div b (Ideal.ofBits .f32 0x3C231ACC#32)) + Ideal.ofBits .f32 0x322BCC77#32))
    (mean_apply x0 x1 x3 p q) (square_apply x0 x1 x4 p q)) (congrArg (fun e : EReal => Ideal.ofBits .f32 0x3C23D70A#32 * e) (dropLead _ _ p q)))
end

/-! ## The results' blocks: the same functions of the arguments' blocks -/

section
variable (x0 x1 x2 x3 x4 : Vec Ideal S1x64x1024 .f32)

theorem out_eq5 : out0_5 x0 x1 x2 x3 x4 = Adam.both x0 x1 := by
  unfold out0_5
  rw [View.canon_unit_zero at000]
  simp only [View.ld_unit_zero (S := S1x64x1024) at000]
  unfold k0_pay1
  funext y
  rw [Adam.unit_idx y]
  exact (addLead _ _ (y 1) (y 2)).trans (grad_apply x0 x1 (y 1) (y 2))

theorem out_eq6 : out0_6 x0 x1 x2 x3 x4 = Adam.steps (Adam.both x0 x1) x2 x3 x4 := by
  unfold out0_6
  rw [View.canon_unit_zero at000]
  simp only [View.ld_unit_zero (S := S1x64x1024) at000]
  unfold k0_pay2
  funext y
  rw [Adam.unit_idx y]
  exact (addLead _ _ (y 1) (y 2)).trans (step_apply x0 x1 x2 x3 x4 (y 1) (y 2))

theorem out_eq7 : out0_7 x0 x1 x2 x3 x4 = Adam.means (Adam.both x0 x1) x3 := by
  unfold out0_7
  rw [View.canon_unit_zero at000]
  simp only [View.ld_unit_zero (S := S1x64x1024) at000]
  unfold k0_pay3
  funext y
  rw [Adam.unit_idx y]
  exact (addLead _ _ (y 1) (y 2)).trans (mean_apply x0 x1 x3 (y 1) (y 2))

theorem out_eq8 : out0_8 x0 x1 x2 x3 x4 = Adam.squares (Adam.both x0 x1) x4 := by
  unfold out0_8
  rw [View.canon_unit_zero at000]
  simp only [View.ld_unit_zero (S := S1x64x1024) at000]
  unfold k0_pay4
  funext y
  rw [Adam.unit_idx y]
  exact (addLead _ _ (y 1) (y 2)).trans (square_apply x0 x1 x4 (y 1) (y 2))
end

/-! ## The arrays after the run -/

theorem index5 : ∀ t : Fin cfg0.N, win0_5.index t 0 = t.val / 11 ∧ win0_5.index t 1 = t.val % 11 ∧ win0_5.index t 2 = 0 :=
  (by decide +kernel : ∀ t : Fin grid0.N, win0_5.index t 0 = t.val / 11 ∧ win0_5.index t 1 = t.val % 11 ∧ win0_5.index t 2 = 0)

/-- Every entry lies in some point's block. -/
theorem cover (i : S4x704x1024.Idx) : ∃ t : Fin cfg0.N, i ∈ (win0_5.rect t).set := by
  have hN : cfg0.N = 44 := N_0
  have b0 : (i 0 : Nat) < 4 := (i 0).isLt
  have b1 : (i 1 : Nat) < 704 := (i 1).isLt
  have b2 : (i 2 : Nat) < 1024 := (i 2).isLt
  let t : Fin cfg0.N := ⟨11 * (i 0 : Nat) + (i 1 : Nat) / 64, by rw [hN]; omega⟩
  have htv : t.val = 11 * (i 0 : Nat) + (i 1 : Nat) / 64 := rfl
  have h := index5 t
  refine ⟨t, ?_⟩
  rw [Rect.mem_set_unit]
  intro a
  match a with
  | ⟨0, _⟩ => show win0_5.index t 0 * 1 ≤ (i 0 : Nat) ∧ (i 0 : Nat) < win0_5.index t 0 * 1 + 1; rw [h.1]; omega
  | ⟨1, _⟩ => show win0_5.index t 1 * 64 ≤ (i 1 : Nat) ∧ (i 1 : Nat) < win0_5.index t 1 * 64 + 64; rw [h.2.1]; omega
  | ⟨2, _⟩ => show win0_5.index t 2 * 1024 ≤ (i 2 : Nat) ∧ (i 2 : Nat) < win0_5.index t 2 * 1024 + 1024; rw [h.2.2]; omega

variable (c : Dev nD)

theorem host0 : V m c main_arg0 = arg0 m c := by unfold V; after_reads_simp

theorem host1 : V m c main_arg1 = arg1 m c := by unfold V; after_reads_simp

theorem host2 : V m c main_arg2 = arg2 m c := by unfold V; after_reads_simp

theorem host3 : V m c main_arg3 = arg3 m c := by unfold V; after_reads_simp

theorem host4 : V m c main_arg4 = arg4 m c := by unfold V; after_reads_simp

theorem final5 : (dats m 0 c).arrAt 5 cfg0.N = (Adam.both (arg0 m c) (arg1 m c) : Buf (Elt Ideal) ((c : Thread nD τ).loc main_v0_0)) := by
  refine (dats m 0 c).arrAt_eq_of_cover 5 _ (fun t _ => ?_) fun i => ?_
  · rw [flushed5, out_eq5, ← host0, ← host1]
    rfl
  · obtain ⟨t, h⟩ := cover i
    refine ⟨t, flush0_5 t, ?_⟩
    show i ∈ ((View.whole main_v0_0).slice (win0_5.rect t)).set
    rw [View.set_slice_whole]
    exact h

theorem final6 : (dats m 0 c).arrAt 6 cfg0.N = (Adam.steps (Adam.both (arg0 m c) (arg1 m c)) (arg2 m c) (arg3 m c) (arg4 m c) : Buf (Elt Ideal) ((c : Thread nD τ).loc main_v0_1)) := by
  refine (dats m 0 c).arrAt_eq_of_cover 6 _ (fun t _ => ?_) fun i => ?_
  · rw [flushed6, out_eq6, ← host0, ← host1, ← host2, ← host3, ← host4]
    rfl
  · obtain ⟨t, h⟩ := cover i
    refine ⟨t, flush0_6 t, ?_⟩
    show i ∈ ((View.whole main_v0_1).slice (win0_6.rect t)).set
    rw [View.set_slice_whole]
    exact h

theorem final7 : (dats m 0 c).arrAt 7 cfg0.N = (Adam.means (Adam.both (arg0 m c) (arg1 m c)) (arg3 m c) : Buf (Elt Ideal) ((c : Thread nD τ).loc main_v0_2)) := by
  refine (dats m 0 c).arrAt_eq_of_cover 7 _ (fun t _ => ?_) fun i => ?_
  · rw [flushed7, out_eq7, ← host0, ← host1, ← host3]
    rfl
  · obtain ⟨t, h⟩ := cover i
    refine ⟨t, flush0_7 t, ?_⟩
    show i ∈ ((View.whole main_v0_2).slice (win0_7.rect t)).set
    rw [View.set_slice_whole]
    exact h

theorem final8 : (dats m 0 c).arrAt 8 cfg0.N = (Adam.squares (Adam.both (arg0 m c) (arg1 m c)) (arg4 m c) : Buf (Elt Ideal) ((c : Thread nD τ).loc main_v0_3)) := by
  refine (dats m 0 c).arrAt_eq_of_cover 8 _ (fun t _ => ?_) fun i => ?_
  · rw [flushed8, out_eq8, ← host0, ← host1, ← host4]
    rfl
  · obtain ⟨t, h⟩ := cover i
    refine ⟨t, flush0_8 t, ?_⟩
    show i ∈ ((View.whole main_v0_3).slice (win0_8.rect t)).set
    rw [View.set_slice_whole]
    exact h

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = Adam.both (arg0 m c) (arg1 m c)
      ∧ r.2.mem ((c : Thread nD τ).loc main_v0_1) = Adam.steps (Adam.both (arg0 m c) (arg1 m c)) (arg2 m c) (arg3 m c) (arg4 m c)
      ∧ r.2.mem ((c : Thread nD τ).loc main_v0_2) = Adam.means (Adam.both (arg0 m c) (arg1 m c)) (arg3 m c)
      ∧ r.2.mem ((c : Thread nD τ).loc main_v0_3) = Adam.squares (Adam.both (arg0 m c) (arg1 m c)) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.AdDownIdeal.Val

namespace Cert.AdDownReferenceIdeal.Val

open Idealize.ShloMosaic Idealize.ShloMosaic.TcCoe Idealize.ShloMosaic.ValueIdx Idealize.SL.Sem
open Cert.AdDownReferenceIdeal Cert.AdDownReferenceIdeal.Gen Cert.AdDownReferenceIdeal.Read Cert.Prods
open Cert.MixBwd (Mat Stack)

section
variable (x0 x1 x2 x3 x4 : Stack 4 704 1024)

/-- The reference's summed gradient. -/
theorem grad_eq : (val_main_v0 (F := Ideal) x0 x1 : Stack 4 704 1024) = Adam.both x0 x1 := rfl

/-- The reference's running mean. -/
theorem mean_eq : (val_main_v5 (F := Ideal) x0 x1 x3 : Stack 4 704 1024) = Adam.means (Adam.both x0 x1) x3 := by
  funext i
  rw [val_main_v5_apply, val_main_v4_apply, val_main_v3_apply, val_main_v2_apply, val_main_v1_apply, val_main_v0_apply, val_main_cst_apply, val_main_cst_0_apply]
  rfl

/-- The reference's running mean of squares. -/
theorem square_eq : (val_main_v11 (F := Ideal) x0 x1 x4 : Stack 4 704 1024) = Adam.squares (Adam.both x0 x1) x4 := by
  funext i
  rw [val_main_v11_apply, val_main_v10_apply, val_main_v9_apply, val_main_v8_apply, val_main_v7_apply, val_main_v6_apply, val_main_v0_apply, val_main_cst_1_apply, val_main_cst_2_apply]
  rfl

/-- The reference's step. -/
theorem step_eq : (val_main_v24 (F := Ideal) x0 x1 x2 x3 x4 : Stack 4 704 1024) = Adam.steps (Adam.both x0 x1) x2 x3 x4 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_3_apply,
    val_main_cst_4_apply, val_main_cst_5_apply, val_main_cst_6_apply, val_main_cst_7_apply, mean_eq, square_eq]
  rfl
end

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Adam.both (m ((c : Thread nD τ).loc main_arg0)) (m ((c : Thread nD τ).loc main_arg1))
      ∧ r.2.mem ((c : Thread nD τ).loc main_v24) = Adam.steps (Adam.both (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v5) = Adam.means (Adam.both (m ((c : Thread nD τ).loc main_arg0)) (m ((c : Thread nD τ).loc main_arg1))) (m ((c : Thread nD τ).loc main_arg3))
      ∧ r.2.mem ((c : Thread nD τ).loc main_v11) = Adam.squares (Adam.both (m ((c : Thread nD τ).loc main_arg0)) (m ((c : Thread nD τ).loc main_arg1))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (val_main_v0_eq (m ((c : Thread nD τ).loc main_arg0)) (m ((c : Thread nD τ).loc main_arg1)))).trans (grad_eq (m ((c : Thread nD τ).loc main_arg0)) (m ((c : Thread nD τ).loc main_arg1))),
      ((h c).2.1.trans (val_main_v24_eq (m ((c : Thread nD τ).loc main_arg0)) (m ((c : Thread nD τ).loc main_arg1)) (m ((c : Thread nD τ).loc main_arg2)) (m ((c : Thread nD τ).loc main_arg3)) (m ((c : Thread nD τ).loc main_arg4)))).trans (step_eq (m ((c : Thread nD τ).loc main_arg0)) (m ((c : Thread nD τ).loc main_arg1)) (m ((c : Thread nD τ).loc main_arg2)) (m ((c : Thread nD τ).loc main_arg3)) (m ((c : Thread nD τ).loc main_arg4))),
      ((h c).2.2.1.trans (val_main_v5_eq (m ((c : Thread nD τ).loc main_arg0)) (m ((c : Thread nD τ).loc main_arg1)) (m ((c : Thread nD τ).loc main_arg3)))).trans (mean_eq (m ((c : Thread nD τ).loc main_arg0)) (m ((c : Thread nD τ).loc main_arg1)) (m ((c : Thread nD τ).loc main_arg3))),
      ((h c).2.2.2.1.trans (val_main_v11_eq (m ((c : Thread nD τ).loc main_arg0)) (m ((c : Thread nD τ).loc main_arg1)) (m ((c : Thread nD τ).loc main_arg4)))).trans (square_eq (m ((c : Thread nD τ).loc main_arg0)) (m ((c : Thread nD τ).loc main_arg1)) (m ((c : Thread nD τ).loc main_arg4))),
      (h c).2.2.2.2⟩)
    (Cert.AdDownReferenceIdeal.Value.run m ρ)

end Cert.AdDownReferenceIdeal.Val

end
-- ==== Proof.AdDownClaims.lean ====
/-
  The claims about the call `AdDown`, from one run of each program: the frames, and the equality of the kernel's
  results with the reference's at the ideal instance.
-/
module

public import proofs.«01_k».proof.Defs
public import proofs.«01_k».proof.Proof.AdDown
public import proofs.«01_k».proof.Proof.Gen.AdDown
public import proofs.«01_k».proof.Proof.Gen.AdDown.Frame
public import proofs.«01_k».proof.Proof.Gen.AdDownIdeal.Frame
public import proofs.«01_k».proof.Proof.Gen.AdDownReferenceIdeal.Run
public import Idealize.ShloMosaic.Adequacy
public import Idealize.ShloMosaic.Init

@[expose] public section

set_option maxRecDepth 16384

noncomputable section

namespace Cert.Proof.AdDownClaims

open Idealize.ShloMosaic Idealize.ShloMosaic.TcCoe Idealize.SL.Sem

/-- The kernel runs and leaves its arguments unchanged. -/
theorem frame_kernel : Cert.quiescent_AdDown (hAdDown := Cert.AdDown.Gen.facts) := fun m ρ _ => Cert.AdDown.Gen.frame m ρ

/-- So does its ideal reading, -/
theorem frame_ideal : Cert.quiescent_AdDownIdeal (hAdDownIdeal := Cert.AdDownIdeal.Gen.facts) := fun m ρ _ => Cert.AdDownIdeal.Gen.frame m ρ

/-- and so does the reference. -/
theorem frame_reference : Cert.quiescent_AdDownReferenceIdeal (hAdDownReferenceIdeal := Cert.AdDownReferenceIdeal.Gen.facts) := fun m ρ _ =>
  (θ_run Cert.AdDownReferenceIdeal.defs _ _).mono (fun r h => ⟨fun c => (h c).2.2.2.2, sem_eq_zero_of_no_sems (by decide) r.2⟩)
    (Cert.AdDownReferenceIdeal.Value.run m ρ)

/-- The kernel's results are the reference's. -/
theorem algebraic : Cert.algebraic_AdDownIdeal_AdDownReferenceIdeal (hAdDownIdeal := Cert.AdDownIdeal.Gen.facts) (hAdDownReferenceIdeal := Cert.AdDownReferenceIdeal.Gen.facts) := by
  intro m ρ m' ρ' _ hag
  refine ⟨_, _, _, _, Cert.AdDownIdeal.Val.run m ρ, (θ_run _ _ _).mono (fun _ h c => ?_) (Cert.AdDownReferenceIdeal.Val.run m' ρ')⟩
  have hc := h c
  obtain ⟨e0, e1, e2, e3, e4⟩ := hag c
  rw [e0, e1, e2, e3, e4] at hc
  obtain ⟨h0, h1, h2, h3, h4, h5, h6, h7, h8⟩ := hc
  exact ⟨h0, h1, h2, h3, h4.trans e0.symm, h5.trans e1.symm, h6.trans e2.symm, h7.trans e3.symm, h8.trans e4.symm⟩

end Cert.Proof.AdDownClaims

end
-- ==== Proof.AdSmall.lean ====
/-
  The optimiser's step of the small weights, over the extended reals: each of the three points adds the eight devices'
  parts of 744 rows of the packed gradient and steps the same rows of the packed weights.
-/
module

public import proofs.«01_k».proof.Proof.Adam
public import proofs.«01_k».proof.Proof.Gen.AdSmallIdeal.Value
public import proofs.«01_k».proof.Proof.Gen.AdSmallReferenceIdeal.Read
public import proofs.«01_k».proof.Proof.Gen.AdSmallReferenceIdeal.Run
public import Idealize.ShloMosaic.Lib.StableHlo.RunRead

@[expose] public section

set_option maxRecDepth 16384

noncomputable section

namespace Cert.AdSmallIdeal.Val

open Idealize.ShloMosaic Idealize.ShloMosaic.TcCoe Idealize.ShloMosaic.ValueIdx Idealize.SL.Sem
open Cert.AdSmallIdeal Cert.AdSmallIdeal.Gen Cert.AdSmallIdeal.Value Cert.Prods
open Cert.MixBwd (Mat Stack)

theorem at00 : (![0, 0] : Fin 2 → Nat) = fun _ => 0 := funext fun a => by fin_cases a <;> rfl
theorem at000 : (![0, 0, 0] : Fin 3 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Stack 8 2232 128 := m ((c : Thread nD τ).loc main_arg0)
abbrev arg1 (c : Dev nD) : Mat 2232 128 := m ((c : Thread nD τ).loc main_arg1)
abbrev arg2 (c : Dev nD) : Mat 2232 128 := m ((c : Thread nD τ).loc main_arg2)
abbrev arg3 (c : Dev nD) : Mat 2232 128 := m ((c : Thread nD τ).loc main_arg3)

theorem host0 (c : Dev nD) (s : Fin 8) (p : Fin 2232) (q : Fin 128) : V m c main_arg0 (ix3 s p q) = arg0 m c (ix3 s p q) := by
  have e : V m c main_arg0 = m (c, Proc.tc.devRef main_arg0) := by unfold V; after_reads_simp
  rw [e]

theorem host1 (c : Dev nD) (p : Fin 2232) (q : Fin 128) : V m c main_arg1 (ix2 p q) = arg1 m c (ix2 p q) := by
  have e : V m c main_arg1 = m (c, Proc.tc.devRef main_arg1) := by unfold V; after_reads_simp
  rw [e]

theorem host2 (c : Dev nD) (p : Fin 2232) (q : Fin 128) : V m c main_arg2 (ix2 p q) = arg2 m c (ix2 p q) := by
  have e : V m c main_arg2 = m (c, Proc.tc.devRef main_arg2) := by unfold V; after_reads_simp
  rw [e]

theorem host3 (c : Dev nD) (p : Fin 2232) (q : Fin 128) : V m c main_arg3 (ix2 p q) = arg3 m c (ix2 p q) := by
  have e : V m c main_arg3 = m (c, Proc.tc.devRef main_arg3) := by unfold V; after_reads_simp
  rw [e]

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem index1 : ∀ t : Fin cfg0.N, win0_1.index t 0 = 1 ∧ win0_1.index t 1 = t.val ∧ win0_1.index t 2 = 0 :=
  (by decide +kernel : ∀ t : Fin grid0.N, win0_1.index t 0 = 1 ∧ win0_1.index t 1 = t.val ∧ win0_1.index t 2 = 0)

theorem index2 : ∀ t : Fin cfg0.N, win0_2.index t 0 = 2 ∧ win0_2.index t 1 = t.val ∧ win0_2.index t 2 = 0 :=
  (by decide +kernel : ∀ t : Fin grid0.N, win0_2.index t 0 = 2 ∧ win0_2.index t 1 = t.val ∧ win0_2.index t 2 = 0)

theorem index3 : ∀ t : Fin cfg0.N, win0_3.index t 0 = 3 ∧ win0_3.index t 1 = t.val ∧ win0_3.index t 2 = 0 :=
  (by decide +kernel : ∀ t : Fin grid0.N, win0_3.index t 0 = 3 ∧ win0_3.index t 1 = t.val ∧ win0_3.index t 2 = 0)

theorem index4 : ∀ t : Fin cfg0.N, win0_4.index t 0 = 4 ∧ win0_4.index t 1 = t.val ∧ win0_4.index t 2 = 0 :=
  (by decide +kernel : ∀ t : Fin grid0.N, win0_4.index t 0 = 4 ∧ win0_4.index t 1 = t.val ∧ win0_4.index t 2 = 0)

theorem index5 : ∀ t : Fin cfg0.N, win0_5.index t 0 = 5 ∧ win0_5.index t 1 = t.val ∧ win0_5.index t 2 = 0 :=
  (by decide +kernel : ∀ t : Fin grid0.N, win0_5.index t 0 = 5 ∧ win0_5.index t 1 = t.val ∧ win0_5.index t 2 = 0)

theorem index6 : ∀ t : Fin cfg0.N, win0_6.index t 0 = 6 ∧ win0_6.index t 1 = t.val ∧ win0_6.index t 2 = 0 :=
  (by decide +kernel : ∀ t : Fin grid0.N, win0_6.index t 0 = 6 ∧ win0_6.index t 1 = t.val ∧ win0_6.index t 2 = 0)

theorem index7 : ∀ t : Fin cfg0.N, win0_7.index t 0 = 7 ∧ win0_7.index t 1 = t.val ∧ win0_7.index t 2 = 0 :=
  (by decide +kernel : ∀ t : Fin grid0.N, win0_7.index t 0 = 7 ∧ win0_7.index t 1 = t.val ∧ win0_7.index t 2 = 0)

theorem index8 : ∀ t : Fin cfg0.N, win0_8.index t 0 = t.val ∧ win0_8.index t 1 = 0 :=
  (by decide +kernel : ∀ t : Fin grid0.N, win0_8.index t 0 = t.val ∧ win0_8.index t 1 = 0)

theorem index9 : ∀ t : Fin cfg0.N, win0_9.index t 0 = t.val ∧ win0_9.index t 1 = 0 :=
  (by decide +kernel : ∀ t : Fin grid0.N, win0_9.index t 0 = t.val ∧ win0_9.index t 1 = 0)

theorem index10 : ∀ t : Fin cfg0.N, win0_10.index t 0 = t.val ∧ win0_10.index t 1 = 0 :=
  (by decide +kernel : ∀ t : Fin grid0.N, win0_10.index t 0 = t.val ∧ win0_10.index t 1 = 0)

theorem index11 : ∀ t : Fin cfg0.N, win0_11.index t 0 = t.val ∧ win0_11.index t 1 = 0 :=
  (by decide +kernel : ∀ t : Fin grid0.N, win0_11.index t 0 = t.val ∧ win0_11.index t 1 = 0)

theorem index12 : ∀ t : Fin cfg0.N, win0_12.index t 0 = t.val ∧ win0_12.index t 1 = 0 :=
  (by decide +kernel : ∀ t : Fin grid0.N, win0_12.index t 0 = t.val ∧ win0_12.index t 1 = 0)

theorem index13 : ∀ t : Fin cfg0.N, win0_13.index t 0 = t.val ∧ win0_13.index t 1 = 0 :=
  (by decide +kernel : ∀ t : Fin grid0.N, win0_13.index t 0 = t.val ∧ win0_13.index t 1 = 0)

theorem index14 : ∀ t : Fin cfg0.N, win0_14.index t 0 = t.val ∧ win0_14.index t 1 = 0 :=
  (by decide +kernel : ∀ t : Fin grid0.N, win0_14.index t 0 = t.val ∧ win0_14.index t 1 = 0)

theorem block0 (c : Dev nD) (t : Fin cfg0.N) (i : Fin 3) (ht : t.val = i.val) (p : Fin 744) (q : Fin 128) :
    (iblk m c 0 t : Vec Ideal S1x744x128 .f32) (ix3 0 p q) = arg0 m c (ix3 0 ⟨744 * i.val + p.val, block_lt rfl i p⟩ q) := by
  have h := index0 t
  unfold iblk
  rw [View.read_apply]
  refine (congrArg (V m c main_arg0) (funext fun a => Fin.ext ?_)).trans (host0 m c 0 ⟨744 * i.val + p.val, block_lt rfl i p⟩ q)
  match a with
  | ⟨0, _⟩ => show win0_0.index t 0 * 1 + 1 * 0 = 0; rw [h.1]
  | ⟨1, _⟩ => show win0_0.index t 1 * 744 + 1 * p.val = 744 * i.val + p.val; rw [h.2.1]; omega
  | ⟨2, _⟩ => show win0_0.index t 2 * 128 + 1 * q.val = q.val; rw [h.2.2]; omega

theorem block1 (c : Dev nD) (t : Fin cfg0.N) (i : Fin 3) (ht : t.val = i.val) (p : Fin 744) (q : Fin 128) :
    (iblk m c 1 t : Vec Ideal S1x744x128 .f32) (ix3 0 p q) = arg0 m c (ix3 1 ⟨744 * i.val + p.val, block_lt rfl i p⟩ q) := by
  have h := index1 t
  unfold iblk
  rw [View.read_apply]
  refine (congrArg (V m c main_arg0) (funext fun a => Fin.ext ?_)).trans (host0 m c 1 ⟨744 * i.val + p.val, block_lt rfl i p⟩ q)
  match a with
  | ⟨0, _⟩ => show win0_1.index t 0 * 1 + 1 * 0 = 1; rw [h.1]
  | ⟨1, _⟩ => show win0_1.index t 1 * 744 + 1 * p.val = 744 * i.val + p.val; rw [h.2.1]; omega
  | ⟨2, _⟩ => show win0_1.index t 2 * 128 + 1 * q.val = q.val; rw [h.2.2]; omega

theorem block2 (c : Dev nD) (t : Fin cfg0.N) (i : Fin 3) (ht : t.val = i.val) (p : Fin 744) (q : Fin 128) :
    (iblk m c 2 t : Vec Ideal S1x744x128 .f32) (ix3 0 p q) = arg0 m c (ix3 2 ⟨744 * i.val + p.val, block_lt rfl i p⟩ q) := by
  have h := index2 t
  unfold iblk
  rw [View.read_apply]
  refine (congrArg (V m c main_arg0) (funext fun a => Fin.ext ?_)).trans (host0 m c 2 ⟨744 * i.val + p.val, block_lt rfl i p⟩ q)
  match a with
  | ⟨0, _⟩ => show win0_2.index t 0 * 1 + 1 * 0 = 2; rw [h.1]
  | ⟨1, _⟩ => show win0_2.index t 1 * 744 + 1 * p.val = 744 * i.val + p.val; rw [h.2.1]; omega
  | ⟨2, _⟩ => show win0_2.index t 2 * 128 + 1 * q.val = q.val; rw [h.2.2]; omega

theorem block3 (c : Dev nD) (t : Fin cfg0.N) (i : Fin 3) (ht : t.val = i.val) (p : Fin 744) (q : Fin 128) :
    (iblk m c 3 t : Vec Ideal S1x744x128 .f32) (ix3 0 p q) = arg0 m c (ix3 3 ⟨744 * i.val + p.val, block_lt rfl i p⟩ q) := by
  have h := index3 t
  unfold iblk
  rw [View.read_apply]
  refine (congrArg (V m c main_arg0) (funext fun a => Fin.ext ?_)).trans (host0 m c 3 ⟨744 * i.val + p.val, block_lt rfl i p⟩ q)
  match a with
  | ⟨0, _⟩ => show win0_3.index t 0 * 1 + 1 * 0 = 3; rw [h.1]
  | ⟨1, _⟩ => show win0_3.index t 1 * 744 + 1 * p.val = 744 * i.val + p.val; rw [h.2.1]; omega
  | ⟨2, _⟩ => show win0_3.index t 2 * 128 + 1 * q.val = q.val; rw [h.2.2]; omega

theorem block4 (c : Dev nD) (t : Fin cfg0.N) (i : Fin 3) (ht : t.val = i.val) (p : Fin 744) (q : Fin 128) :
    (iblk m c 4 t : Vec Ideal S1x744x128 .f32) (ix3 0 p q) = arg0 m c (ix3 4 ⟨744 * i.val + p.val, block_lt rfl i p⟩ q) := by
  have h := index4 t
  unfold iblk
  rw [View.read_apply]
  refine (congrArg (V m c main_arg0) (funext fun a => Fin.ext ?_)).trans (host0 m c 4 ⟨744 * i.val + p.val, block_lt rfl i p⟩ q)
  match a with
  | ⟨0, _⟩ => show win0_4.index t 0 * 1 + 1 * 0 = 4; rw [h.1]
  | ⟨1, _⟩ => show win0_4.index t 1 * 744 + 1 * p.val = 744 * i.val + p.val; rw [h.2.1]; omega
  | ⟨2, _⟩ => show win0_4.index t 2 * 128 + 1 * q.val = q.val; rw [h.2.2]; omega

theorem block5 (c : Dev nD) (t : Fin cfg0.N) (i : Fin 3) (ht : t.val = i.val) (p : Fin 744) (q : Fin 128) :
    (iblk m c 5 t : Vec Ideal S1x744x128 .f32) (ix3 0 p q) = arg0 m c (ix3 5 ⟨744 * i.val + p.val, block_lt rfl i p⟩ q) := by
  have h := index5 t
  unfold iblk
  rw [View.read_apply]
  refine (congrArg (V m c main_arg0) (funext fun a => Fin.ext ?_)).trans (host0 m c 5 ⟨744 * i.val + p.val, block_lt rfl i p⟩ q)
  match a with
  | ⟨0, _⟩ => show win0_5.index t 0 * 1 + 1 * 0 = 5; rw [h.1]
  | ⟨1, _⟩ => show win0_5.index t 1 * 744 + 1 * p.val = 744 * i.val + p.val; rw [h.2.1]; omega
  | ⟨2, _⟩ => show win0_5.index t 2 * 128 + 1 * q.val = q.val; rw [h.2.2]; omega

theorem block6 (c : Dev nD) (t : Fin cfg0.N) (i : Fin 3) (ht : t.val = i.val) (p : Fin 744) (q : Fin 128) :
    (iblk m c 6 t : Vec Ideal S1x744x128 .f32) (ix3 0 p q) = arg0 m c (ix3 6 ⟨744 * i.val + p.val, block_lt rfl i p⟩ q) := by
  have h := index6 t
  unfold iblk
  rw [View.read_apply]
  refine (congrArg (V m c main_arg0) (funext fun a => Fin.ext ?_)).trans (host0 m c 6 ⟨744 * i.val + p.val, block_lt rfl i p⟩ q)
  match a with
  | ⟨0, _⟩ => show win0_6.index t 0 * 1 + 1 * 0 = 6; rw [h.1]
  | ⟨1, _⟩ => show win0_6.index t 1 * 744 + 1 * p.val = 744 * i.val + p.val; rw [h.2.1]; omega
  | ⟨2, _⟩ => show win0_6.index t 2 * 128 + 1 * q.val = q.val; rw [h.2.2]; omega

theorem block7 (c : Dev nD) (t : Fin cfg0.N) (i : Fin 3) (ht : t.val = i.val) (p : Fin 744) (q : Fin 128) :
    (iblk m c 7 t : Vec Ideal S1x744x128 .f32) (ix3 0 p q) = arg0 m c (ix3 7 ⟨744 * i.val + p.val, block_lt rfl i p⟩ q) := by
  have h := index7 t
  unfold iblk
  rw [View.read_apply]
  refine (congrArg (V m c main_arg0) (funext fun a => Fin.ext ?_)).trans (host0 m c 7 ⟨744 * i.val + p.val, block_lt rfl i p⟩ q)
  match a with
  | ⟨0, _⟩ => show win0_7.index t 0 * 1 + 1 * 0 = 7; rw [h.1]
  | ⟨1, _⟩ => show win0_7.index t 1 * 744 + 1 * p.val = 744 * i.val + p.val; rw [h.2.1]; omega
  | ⟨2, _⟩ => show win0_7.index t 2 * 128 + 1 * q.val = q.val; rw [h.2.2]; omega

theorem block8 (c : Dev nD) (t : Fin cfg0.N) (i : Fin 3) (ht : t.val = i.val) (p : Fin 744) (q : Fin 128) :
    (iblk m c 8 t : Vec Ideal S744x128 .f32) (ix2 p q) = arg1 m c (ix2 ⟨744 * i.val + p.val, block_lt rfl i p⟩ q) := by
  have h := index8 t
  unfold iblk
  rw [View.read_apply]
  refine (congrArg (V m c main_arg1) (funext fun a => Fin.ext ?_)).trans (host1 m c ⟨744 * i.val + p.val, block_lt rfl i p⟩ q)
  match a with
  | ⟨0, _⟩ => show win0_8.index t 0 * 744 + 1 * p.val = 744 * i.val + p.val; rw [h.1]; omega
  | ⟨1, _⟩ => show win0_8.index t 1 * 128 + 1 * q.val = q.val; rw [h.2]; omega

theorem block9 (c : Dev nD) (t : Fin cfg0.N) (i : Fin 3) (ht : t.val = i.val) (p : Fin 744) (q : Fin 128) :
    (iblk m c 9 t : Vec Ideal S744x128 .f32) (ix2 p q) = arg2 m c (ix2 ⟨744 * i.val + p.val, block_lt rfl i p⟩ q) := by
  have h := index9 t
  unfold iblk
  rw [View.read_apply]
  refine (congrArg (V m c main_arg2) (funext fun a => Fin.ext ?_)).trans (host2 m c ⟨744 * i.val + p.val, block_lt rfl i p⟩ q)
  match a with
  | ⟨0, _⟩ => show win0_9.index t 0 * 744 + 1 * p.val = 744 * i.val + p.val; rw [h.1]; omega
  | ⟨1, _⟩ => show win0_9.index t 1 * 128 + 1 * q.val = q.val; rw [h.2]; omega

theorem block10 (c : Dev nD) (t : Fin cfg0.N) (i : Fin 3) (ht : t.val = i.val) (p : Fin 744) (q : Fin 128) :
    (iblk m c 10 t : Vec Ideal S744x128 .f32) (ix2 p q) = arg3 m c (ix2 ⟨744 * i.val + p.val, block_lt rfl i p⟩ q) := by
  have h := index10 t
  unfold iblk
  rw [View.read_apply]
  refine (congrArg (V m c main_arg3) (funext fun a => Fin.ext ?_)).trans (host3 m c ⟨744 * i.val + p.val, block_lt rfl i p⟩ q)
  match a with
  | ⟨0, _⟩ => show win0_10.index t 0 * 744 + 1 * p.val = 744 * i.val + p.val; rw [h.1]; omega
  | ⟨1, _⟩ => show win0_10.index t 1 * 128 + 1 * q.val = q.val; rw [h.2]; omega

/-- A matrix that is the sum of the eight matrices of a stack. -/
def parts (x : Stack 8 2232 128) : Mat 2232 128 := fun i => ∑ s : Fin 8, x (ix3 s (i 0) (i 1))

/-! ## What a block's entry becomes -/

theorem grad_apply (x0 x1 x2 x3 x4 x5 x6 x7 : Vec Ideal S1x744x128 .f32) (x8 x9 x10 : Vec Ideal S744x128 .f32) (p : Fin 744) (q : Fin 128) :
    k0_pay6 x0 x1 x2 x3 x4 x5 x6 x7 x8 x9 x10 (ix2 p q) = ((x0 (ix3 0 p q) + x1 (ix3 0 p q) + x2 (ix3 0 p q) + x3 (ix3 0 p q) + x4 (ix3 0 p q) + x5 (ix3 0 p q) + x6 (ix3 0 p q) + x7 (ix3 0 p q)) : EReal) := by
  unfold k0_pay6
  simp only [View.ld_unit_zero (S := S1x744x128) at000]
  unfold k0_pay4
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (dropLead _ _ p q) (dropLead _ _ p q)) (dropLead _ _ p q)) (dropLead _ _ p q)) (dropLead _ _ p q)) (dropLead _ _ p q)) (dropLead _ _ p q)) (dropLead _ _ p q))

theorem decayed_apply (x0 x1 x2 x3 x4 x5 x6 x7 : Vec Ideal S1x744x128 .f32) (x8 x9 x10 : Vec Ideal S744x128 .f32) (p : Fin 744) (q : Fin 128) :
    k0_pay7 x0 x1 x2 x3 x4 x5 x6 x7 x8 x9 x10 (ix2 p q) = (Ideal.ofBits .f32 0x3F666666#32 * x9 (ix2 p q) : EReal) := by
  unfold k0_pay7
  rw [View.ld_unit_zero (S := S744x128) at00]
  rfl

theorem mean_apply (g d : FVec Ideal S744x128 .f32) (p : Fin 744) (q : Fin 128) :
    k0_pay1 g d (ix2 p q) = (d (ix2 p q) + Ideal.ofBits .f32 0x3DCCCCCD#32 * g (ix2 p q) : EReal) := rfl

theorem square_apply (v g : FVec Ideal S744x128 .f32) (p : Fin 744) (q : Fin 128) :
    k0_pay2 v g (ix2 p q) = Adam.square (g (ix2 p q)) (v (ix2 p q)) := rfl

theorem step_apply (w v g d : FVec Ideal S744x128 .f32) (x : EReal) (p : Fin 744) (q : Fin 128) (h : d (ix2 p q) = (Ideal.ofBits .f32 0x3F666666#32 * x : EReal)) :
    k0_pay3 w v g d (ix2 p q) = Adam.step (g (ix2 p q)) (w (ix2 p q)) x (v (ix2 p q)) := by
  unfold k0_pay3 Adam.step Adam.mean
  rw [← h]
  rfl

/-- A point's rows of the summed gradient. -/
theorem grad_value (c : Dev nD) (t : Fin cfg0.N) (i : Fin 3) (ht : t.val = i.val) (p : Fin 744) (q : Fin 128) :
    k0_pay6 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = parts (arg0 m c) (ix2 ⟨744 * i.val + p.val, block_lt rfl i p⟩ q) := by
  rw [grad_apply, block0 m c t i ht p q, block1 m c t i ht p q, block2 m c t i ht p q, block3 m c t i ht p q, block4 m c t i ht p q, block5 m c t i ht p q, block6 m c t i ht p q, block7 m c t i ht p q]
  unfold parts
  simp only [Fin.sum_univ_succ, Fin.sum_univ_zero, add_zero, ← add_assoc]
  rfl

theorem value11 (c : Dev nD) (t : Fin cfg0.N) (i : Fin 3) (ht : t.val = i.val) (p : Fin 744) (q : Fin 128) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = (parts (arg0 m c)) (ix2 ⟨744 * i.val + p.val, block_lt rfl i p⟩ q) := by
  unfold out0_11
  rw [View.canon_unit_zero at00]
  exact grad_value m c t i ht p q

theorem value12 (c : Dev nD) (t : Fin cfg0.N) (i : Fin 3) (ht : t.val = i.val) (p : Fin 744) (q : Fin 128) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = (Adam.steps (parts (arg0 m c)) (arg1 m c) (arg2 m c) (arg3 m c)) (ix2 ⟨744 * i.val + p.val, block_lt rfl i p⟩ q) := by
  unfold out0_12
  rw [View.canon_unit_zero at00]
  rw [View.ld_unit_zero (S := S744x128) at00, View.ld_unit_zero (S := S744x128) at00, step_apply _ _ _ _ _ p q (decayed_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q), grad_value m c t i ht p q, block8 m c t i ht p q, block9 m c t i ht p q, block10 m c t i ht p q]
  rfl

theorem value13 (c : Dev nD) (t : Fin cfg0.N) (i : Fin 3) (ht : t.val = i.val) (p : Fin 744) (q : Fin 128) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = (Adam.means (parts (arg0 m c)) (arg2 m c)) (ix2 ⟨744 * i.val + p.val, block_lt rfl i p⟩ q) := by
  unfold out0_13
  rw [View.canon_unit_zero at00]
  rw [mean_apply, decayed_apply, grad_value m c t i ht p q, block9 m c t i ht p q]
  rfl

theorem value14 (c : Dev nD) (t : Fin cfg0.N) (i : Fin 3) (ht : t.val = i.val) (p : Fin 744) (q : Fin 128) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = (Adam.squares (parts (arg0 m c)) (arg3 m c)) (ix2 ⟨744 * i.val + p.val, block_lt rfl i p⟩ q) := by
  unfold out0_14
  rw [View.canon_unit_zero at00]
  rw [View.ld_unit_zero (S := S744x128) at00, square_apply, grad_value m c t i ht p q, block10 m c t i ht p q]
  rfl

theorem flushed_eq11 (c : Dev nD) (t : Fin cfg0.N) (hf : (cfg0.win 11).flush t = true) :
    (dats m 0 c).flushed 11 t = ((cfg0.win 11).blk t).view.read (Elt Ideal) (parts (arg0 m c)) := by
  have hT := t.isLt
  have hN : cfg0.N = 3 := N_0
  have h := index11 t
  rw [flushed11]
  funext y
  rw [View.read_apply]
  obtain ⟨i, ht⟩ : ∃ (i : Fin 3), t.val = i.val := ⟨⟨t.val, by omega⟩, by show t.val = _; rfl⟩
  have hy : (((cfg0.win 11).blk t).view.emb y) = ix2 (⟨744 * i.val + (y 0 : Fin 744).val, block_lt rfl i (y 0 : Fin 744)⟩ : Fin 2232) (y 1 : Fin 128) := funext fun a => Fin.ext (by
    match a with
    | ⟨0, _⟩ => show win0_11.index t 0 * 744 + 1 * (y 0).val = 744 * i.val + (y 0).val; rw [h.1]; omega
    | ⟨1, _⟩ => show win0_11.index t 1 * 128 + 1 * (y 1).val = (y 1).val; rw [h.2]; omega)
  have y0 : y = ix2 (y 0 : Fin 744) (y 1 : Fin 128) := funext fun a => Fin.ext (by
    match a with
    | ⟨0, _⟩ => rfl
    | ⟨1, _⟩ => rfl)
  show (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) y = (parts (arg0 m c)) (((cfg0.win 11).blk t).view.emb y)
  rw [hy]
  exact (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) y0).trans (value11 m c t i ht (y 0) (y 1))

theorem final11 (c : Dev nD) : (dats m 0 c).arrAt 11 cfg0.N = (parts (arg0 m c) : Buf (Elt Ideal) ((c : Thread nD τ).loc main_v0_0)) :=
  (dats m 0 c).arrAt_eq_of_cover 11 _ (flushed_eq11 m c) fun i => by
    have hN : cfg0.N = 3 := N_0
    have b0 : (i 0 : Nat) < 2232 := (i 0).isLt
    have b1 : (i 1 : Nat) < 128 := (i 1).isLt
    let t : Fin cfg0.N := ⟨(i 0).val / 744, by rw [hN]; omega⟩
    have htv : t.val = (i 0).val / 744 := rfl
    refine ⟨t, flush0_11 t, ?_⟩
    have h := index11 t
    show i ∈ ((View.whole main_v0_0).slice (win0_11.rect t)).set
    rw [View.set_slice_whole, Rect.mem_set_unit]
    intro a
    match a with
    | ⟨0, _⟩ => show win0_11.index t 0 * 744 ≤ (i 0 : Nat) ∧ (i 0 : Nat) < win0_11.index t 0 * 744 + 744; rw [h.1]; omega
    | ⟨1, _⟩ => show win0_11.index t 1 * 128 ≤ (i 1 : Nat) ∧ (i 1 : Nat) < win0_11.index t 1 * 128 + 128; rw [h.2]; omega

theorem flushed_eq12 (c : Dev nD) (t : Fin cfg0.N) (hf : (cfg0.win 12).flush t = true) :
    (dats m 0 c).flushed 12 t = ((cfg0.win 12).blk t).view.read (Elt Ideal) (Adam.steps (parts (arg0 m c)) (arg1 m c) (arg2 m c) (arg3 m c)) := by
  have hT := t.isLt
  have hN : cfg0.N = 3 := N_0
  have h := index12 t
  rw [flushed12]
  funext y
  rw [View.read_apply]
  obtain ⟨i, ht⟩ : ∃ (i : Fin 3), t.val = i.val := ⟨⟨t.val, by omega⟩, by show t.val = _; rfl⟩
  have hy : (((cfg0.win 12).blk t).view.emb y) = ix2 (⟨744 * i.val + (y 0 : Fin 744).val, block_lt rfl i (y 0 : Fin 744)⟩ : Fin 2232) (y 1 : Fin 128) := funext fun a => Fin.ext (by
    match a with
    | ⟨0, _⟩ => show win0_12.index t 0 * 744 + 1 * (y 0).val = 744 * i.val + (y 0).val; rw [h.1]; omega
    | ⟨1, _⟩ => show win0_12.index t 1 * 128 + 1 * (y 1).val = (y 1).val; rw [h.2]; omega)
  have y0 : y = ix2 (y 0 : Fin 744) (y 1 : Fin 128) := funext fun a => Fin.ext (by
    match a with
    | ⟨0, _⟩ => rfl
    | ⟨1, _⟩ => rfl)
  show (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) y = (Adam.steps (parts (arg0 m c)) (arg1 m c) (arg2 m c) (arg3 m c)) (((cfg0.win 12).blk t).view.emb y)
  rw [hy]
  exact (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) y0).trans (value12 m c t i ht (y 0) (y 1))

theorem final12 (c : Dev nD) : (dats m 0 c).arrAt 12 cfg0.N = (Adam.steps (parts (arg0 m c)) (arg1 m c) (arg2 m c) (arg3 m c) : Buf (Elt Ideal) ((c : Thread nD τ).loc main_v0_1)) :=
  (dats m 0 c).arrAt_eq_of_cover 12 _ (flushed_eq12 m c) fun i => by
    have hN : cfg0.N = 3 := N_0
    have b0 : (i 0 : Nat) < 2232 := (i 0).isLt
    have b1 : (i 1 : Nat) < 128 := (i 1).isLt
    let t : Fin cfg0.N := ⟨(i 0).val / 744, by rw [hN]; omega⟩
    have htv : t.val = (i 0).val / 744 := rfl
    refine ⟨t, flush0_12 t, ?_⟩
    have h := index12 t
    show i ∈ ((View.whole main_v0_1).slice (win0_12.rect t)).set
    rw [View.set_slice_whole, Rect.mem_set_unit]
    intro a
    match a with
    | ⟨0, _⟩ => show win0_12.index t 0 * 744 ≤ (i 0 : Nat) ∧ (i 0 : Nat) < win0_12.index t 0 * 744 + 744; rw [h.1]; omega
    | ⟨1, _⟩ => show win0_12.index t 1 * 128 ≤ (i 1 : Nat) ∧ (i 1 : Nat) < win0_12.index t 1 * 128 + 128; rw [h.2]; omega

theorem flushed_eq13 (c : Dev nD) (t : Fin cfg0.N) (hf : (cfg0.win 13).flush t = true) :
    (dats m 0 c).flushed 13 t = ((cfg0.win 13).blk t).view.read (Elt Ideal) (Adam.means (parts (arg0 m c)) (arg2 m c)) := by
  have hT := t.isLt
  have hN : cfg0.N = 3 := N_0
  have h := index13 t
  rw [flushed13]
  funext y
  rw [View.read_apply]
  obtain ⟨i, ht⟩ : ∃ (i : Fin 3), t.val = i.val := ⟨⟨t.val, by omega⟩, by show t.val = _; rfl⟩
  have hy : (((cfg0.win 13).blk t).view.emb y) = ix2 (⟨744 * i.val + (y 0 : Fin 744).val, block_lt rfl i (y 0 : Fin 744)⟩ : Fin 2232) (y 1 : Fin 128) := funext fun a => Fin.ext (by
    match a with
    | ⟨0, _⟩ => show win0_13.index t 0 * 744 + 1 * (y 0).val = 744 * i.val + (y 0).val; rw [h.1]; omega
    | ⟨1, _⟩ => show win0_13.index t 1 * 128 + 1 * (y 1).val = (y 1).val; rw [h.2]; omega)
  have y0 : y = ix2 (y 0 : Fin 744) (y 1 : Fin 128) := funext fun a => Fin.ext (by
    match a with
    | ⟨0, _⟩ => rfl
    | ⟨1, _⟩ => rfl)
  show (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) y = (Adam.means (parts (arg0 m c)) (arg2 m c)) (((cfg0.win 13).blk t).view.emb y)
  rw [hy]
  exact (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) y0).trans (value13 m c t i ht (y 0) (y 1))

theorem final13 (c : Dev nD) : (dats m 0 c).arrAt 13 cfg0.N = (Adam.means (parts (arg0 m c)) (arg2 m c) : Buf (Elt Ideal) ((c : Thread nD τ).loc main_v0_2)) :=
  (dats m 0 c).arrAt_eq_of_cover 13 _ (flushed_eq13 m c) fun i => by
    have hN : cfg0.N = 3 := N_0
    have b0 : (i 0 : Nat) < 2232 := (i 0).isLt
    have b1 : (i 1 : Nat) < 128 := (i 1).isLt
    let t : Fin cfg0.N := ⟨(i 0).val / 744, by rw [hN]; omega⟩
    have htv : t.val = (i 0).val / 744 := rfl
    refine ⟨t, flush0_13 t, ?_⟩
    have h := index13 t
    show i ∈ ((View.whole main_v0_2).slice (win0_13.rect t)).set
    rw [View.set_slice_whole, Rect.mem_set_unit]
    intro a
    match a with
    | ⟨0, _⟩ => show win0_13.index t 0 * 744 ≤ (i 0 : Nat) ∧ (i 0 : Nat) < win0_13.index t 0 * 744 + 744; rw [h.1]; omega
    | ⟨1, _⟩ => show win0_13.index t 1 * 128 ≤ (i 1 : Nat) ∧ (i 1 : Nat) < win0_13.index t 1 * 128 + 128; rw [h.2]; omega

theorem flushed_eq14 (c : Dev nD) (t : Fin cfg0.N) (hf : (cfg0.win 14).flush t = true) :
    (dats m 0 c).flushed 14 t = ((cfg0.win 14).blk t).view.read (Elt Ideal) (Adam.squares (parts (arg0 m c)) (arg3 m c)) := by
  have hT := t.isLt
  have hN : cfg0.N = 3 := N_0
  have h := index14 t
  rw [flushed14]
  funext y
  rw [View.read_apply]
  obtain ⟨i, ht⟩ : ∃ (i : Fin 3), t.val = i.val := ⟨⟨t.val, by omega⟩, by show t.val = _; rfl⟩
  have hy : (((cfg0.win 14).blk t).view.emb y) = ix2 (⟨744 * i.val + (y 0 : Fin 744).val, block_lt rfl i (y 0 : Fin 744)⟩ : Fin 2232) (y 1 : Fin 128) := funext fun a => Fin.ext (by
    match a with
    | ⟨0, _⟩ => show win0_14.index t 0 * 744 + 1 * (y 0).val = 744 * i.val + (y 0).val; rw [h.1]; omega
    | ⟨1, _⟩ => show win0_14.index t 1 * 128 + 1 * (y 1).val = (y 1).val; rw [h.2]; omega)
  have y0 : y = ix2 (y 0 : Fin 744) (y 1 : Fin 128) := funext fun a => Fin.ext (by
    match a with
    | ⟨0, _⟩ => rfl
    | ⟨1, _⟩ => rfl)
  show (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) y = (Adam.squares (parts (arg0 m c)) (arg3 m c)) (((cfg0.win 14).blk t).view.emb y)
  rw [hy]
  exact (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) y0).trans (value14 m c t i ht (y 0) (y 1))

theorem final14 (c : Dev nD) : (dats m 0 c).arrAt 14 cfg0.N = (Adam.squares (parts (arg0 m c)) (arg3 m c) : Buf (Elt Ideal) ((c : Thread nD τ).loc main_v0_3)) :=
  (dats m 0 c).arrAt_eq_of_cover 14 _ (flushed_eq14 m c) fun i => by
    have hN : cfg0.N = 3 := N_0
    have b0 : (i 0 : Nat) < 2232 := (i 0).isLt
    have b1 : (i 1 : Nat) < 128 := (i 1).isLt
    let t : Fin cfg0.N := ⟨(i 0).val / 744, by rw [hN]; omega⟩
    have htv : t.val = (i 0).val / 744 := rfl
    refine ⟨t, flush0_14 t, ?_⟩
    have h := index14 t
    show i ∈ ((View.whole main_v0_3).slice (win0_14.rect t)).set
    rw [View.set_slice_whole, Rect.mem_set_unit]
    intro a
    match a with
    | ⟨0, _⟩ => show win0_14.index t 0 * 744 ≤ (i 0 : Nat) ∧ (i 0 : Nat) < win0_14.index t 0 * 744 + 744; rw [h.1]; omega
    | ⟨1, _⟩ => show win0_14.index t 1 * 128 ≤ (i 1 : Nat) ∧ (i 1 : Nat) < win0_14.index t 1 * 128 + 128; rw [h.2]; omega

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = parts (arg0 m c)
      ∧ r.2.mem ((c : Thread nD τ).loc main_v0_1) = Adam.steps (parts (arg0 m c)) (arg1 m c) (arg2 m c) (arg3 m c)
      ∧ r.2.mem ((c : Thread nD τ).loc main_v0_2) = Adam.means (parts (arg0 m c)) (arg2 m c)
      ∧ r.2.mem ((c : Thread nD τ).loc main_v0_3) = Adam.squares (parts (arg0 m c)) (arg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final11 m c), (h c).2.1.trans (final12 m c), (h c).2.2.1.trans (final13 m c), (h c).2.2.2.1.trans (final14 m c), (h c).2.2.2.2⟩) (run_blocks m ρ)

end Cert.AdSmallIdeal.Val

namespace Cert.AdSmallReferenceIdeal.Val

open Idealize.ShloMosaic Idealize.ShloMosaic.TcCoe Idealize.ShloMosaic.ValueIdx Idealize.SL.Sem
open Cert.AdSmallReferenceIdeal Cert.AdSmallReferenceIdeal.Gen Cert.AdSmallReferenceIdeal.Read Cert.Prods
open Cert.MixBwd (Mat Stack)

/-- The reference's summed gradient. -/
theorem grad_eq (x0 : Stack 8 2232 128) : (val_main_v0 (F := Ideal) x0 : Mat 2232 128) = Cert.AdSmallIdeal.Val.parts x0 := by
  funext i
  rw [val_main_v0_apply, val_main_cst_apply]
  refine (congrArg (fun e : EReal => e + _) Idealize.ShloMosaic.Ideal.ofBits_zero_f32).trans ((zero_add _).trans (Finset.sum_congr rfl fun k _ => ?_))
  exact congrArg x0 (funext fun a => by match a with | ⟨0, _⟩ => rfl | ⟨1, _⟩ => rfl | ⟨2, _⟩ => rfl)

/-- The reference's running mean. -/
theorem mean_eq (x0 : Stack 8 2232 128) (x2 : Mat 2232 128) : (val_main_v5 (F := Ideal) x0 x2 : Mat 2232 128) = Adam.means (Cert.AdSmallIdeal.Val.parts x0) x2 := by
  funext i
  rw [val_main_v5_apply, val_main_v4_apply, val_main_v3_apply, val_main_v2_apply, val_main_v1_apply, grad_eq, val_main_cst_0_apply, val_main_cst_1_apply]
  rfl

/-- The reference's running mean of squares. -/
theorem square_eq (x0 : Stack 8 2232 128) (x3 : Mat 2232 128) : (val_main_v11 (F := Ideal) x0 x3 : Mat 2232 128) = Adam.squares (Cert.AdSmallIdeal.Val.parts x0) x3 := by
  funext i
  rw [val_main_v11_apply, val_main_v10_apply, val_main_v9_apply, val_main_v8_apply, val_main_v7_apply, val_main_v6_apply, grad_eq, val_main_cst_2_apply, val_main_cst_3_apply]
  rfl

/-- The reference's step. -/
theorem step_eq (x0 : Stack 8 2232 128) (x1 x2 x3 : Mat 2232 128) : (val_main_v24 (F := Ideal) x0 x1 x2 x3 : Mat 2232 128) = Adam.steps (Cert.AdSmallIdeal.Val.parts x0) x1 x2 x3 := by
  funext i
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_cst_4_apply,
    val_main_cst_5_apply, val_main_cst_6_apply, val_main_cst_7_apply, val_main_cst_8_apply, mean_eq, square_eq]
  rfl

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v0) = Cert.AdSmallIdeal.Val.parts (m ((c : Thread nD τ).loc main_arg0))
      ∧ r.2.mem ((c : Thread nD τ).loc main_v24) = Adam.steps (Cert.AdSmallIdeal.Val.parts (m ((c : Thread nD τ).loc main_arg0))) (m ((c : Thread nD τ).loc main_arg1)) (m ((c : Thread nD τ).loc main_arg2)) (m ((c : Thread nD τ).loc main_arg3))
      ∧ r.2.mem ((c : Thread nD τ).loc main_v5) = Adam.means (Cert.AdSmallIdeal.Val.parts (m ((c : Thread nD τ).loc main_arg0))) (m ((c : Thread nD τ).loc main_arg2))
      ∧ r.2.mem ((c : Thread nD τ).loc main_v11) = Adam.squares (Cert.AdSmallIdeal.Val.parts (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v0_eq (m ((c : Thread nD τ).loc main_arg0)))).trans (grad_eq (m ((c : Thread nD τ).loc main_arg0))),
      ((h c).2.1.trans (val_main_v24_eq (m ((c : Thread nD τ).loc main_arg0)) (m ((c : Thread nD τ).loc main_arg1)) (m ((c : Thread nD τ).loc main_arg2)) (m ((c : Thread nD τ).loc main_arg3)))).trans (step_eq (m ((c : Thread nD τ).loc main_arg0)) (m ((c : Thread nD τ).loc main_arg1)) (m ((c : Thread nD τ).loc main_arg2)) (m ((c : Thread nD τ).loc main_arg3))),
      ((h c).2.2.1.trans (val_main_v5_eq (m ((c : Thread nD τ).loc main_arg0)) (m ((c : Thread nD τ).loc main_arg2)))).trans (mean_eq (m ((c : Thread nD τ).loc main_arg0)) (m ((c : Thread nD τ).loc main_arg2))),
      ((h c).2.2.2.1.trans (val_main_v11_eq (m ((c : Thread nD τ).loc main_arg0)) (m ((c : Thread nD τ).loc main_arg3)))).trans (square_eq (m ((c : Thread nD τ).loc main_arg0)) (m ((c : Thread nD τ).loc main_arg3))),
      (h c).2.2.2.2⟩)
    (Cert.AdSmallReferenceIdeal.Value.run m ρ)

end Cert.AdSmallReferenceIdeal.Val

end
-- ==== Proof.AdSmallClaims.lean ====
/-
  The claims about the call `AdSmall`, from one run of each program: the frames, and the equality of the kernel's
  results with the reference's at the ideal instance.
-/
module

public import proofs.«01_k».proof.Defs
public import proofs.«01_k».proof.Proof.AdSmall
public import proofs.«01_k».proof.Proof.Gen.AdSmall
public import proofs.«01_k».proof.Proof.Gen.AdSmall.Frame
public import proofs.«01_k».proof.Proof.Gen.AdSmallIdeal.Frame
public import proofs.«01_k».proof.Proof.Gen.AdSmallReferenceIdeal.Run
public import Idealize.ShloMosaic.Adequacy
public import Idealize.ShloMosaic.Init

@[expose] public section

set_option maxRecDepth 16384

noncomputable section

namespace Cert.Proof.AdSmallClaims

open Idealize.ShloMosaic Idealize.ShloMosaic.TcCoe Idealize.SL.Sem

/-- The kernel runs and leaves its arguments unchanged. -/
theorem frame_kernel : Cert.quiescent_AdSmall (hAdSmall := Cert.AdSmall.Gen.facts) := fun m ρ _ => Cert.AdSmall.Gen.frame m ρ

/-- So does its ideal reading, -/
theorem frame_ideal : Cert.quiescent_AdSmallIdeal (hAdSmallIdeal := Cert.AdSmallIdeal.Gen.facts) := fun m ρ _ => Cert.AdSmallIdeal.Gen.frame m ρ

/-- and so does the reference. -/
theorem frame_reference : Cert.quiescent_AdSmallReferenceIdeal (hAdSmallReferenceIdeal := Cert.AdSmallReferenceIdeal.Gen.facts) := fun m ρ _ =>
  (θ_run Cert.AdSmallReferenceIdeal.defs _ _).mono (fun r h => ⟨fun c => (h c).2.2.2.2, sem_eq_zero_of_no_sems (by decide) r.2⟩)
    (Cert.AdSmallReferenceIdeal.Value.run m ρ)

/-- The kernel's results are the reference's. -/
theorem algebraic : Cert.algebraic_AdSmallIdeal_AdSmallReferenceIdeal (hAdSmallIdeal := Cert.AdSmallIdeal.Gen.facts) (hAdSmallReferenceIdeal := Cert.AdSmallReferenceIdeal.Gen.facts) := by
  intro m ρ m' ρ' _ hag
  refine ⟨_, _, _, _, Cert.AdSmallIdeal.Val.run m ρ, (θ_run _ _ _).mono (fun _ h c => ?_) (Cert.AdSmallReferenceIdeal.Val.run m' ρ')⟩
  have hc := h c
  obtain ⟨e0, e1, e2, e3⟩ := hag c
  rw [e0, e1, e2, e3] at hc
  obtain ⟨h0, h1, h2, h3, h4, h5, h6, h7⟩ := hc
  exact ⟨h0, h1, h2, h3, h4.trans e0.symm, h5.trans e1.symm, h6.trans e2.symm, h7.trans e3.symm⟩

end Cert.Proof.AdSmallClaims

end
-- ==== Proof.LossGrad.lean ====
/-
  The loss and its gradient, over the extended reals: each of the 32 points computes 256 rows of the gradient of half the
  mean squared error, and those rows' part of the loss feature by feature, which is carried over the points; the loss is the
  sum of the features.
-/
module

public import proofs.«01_k».proof.Proof.NormBack
public import proofs.«01_k».proof.Proof.Gen.LossGradIdeal.Frame
public import proofs.«01_k».proof.Proof.Gen.LossGradReferenceIdeal.Read
public import proofs.«01_k».proof.Proof.Gen.LossGradReferenceIdeal.Run
public import Idealize.ShloMosaic.Lib.StableHlo.RunRead
public import Idealize.ShloMosaic.Lib.Pipeline.ValueKit.Tiles

@[expose] public section

set_option maxRecDepth 16384

noncomputable section

namespace Cert.Loss

open Idealize.ShloMosaic Idealize.ShloMosaic.ValueIdx Cert.Prods
open Cert.MixBwd (Mat)

/-! ## The mathematics -/

/-- The squared error of an entry. -/
def sq {n : Nat} (y t : Mat n 1024) (r : Fin n) (k : Fin 1024) : EReal := (y (ix2 r k) - t (ix2 r k)) * (y (ix2 r k) - t (ix2 r k))

/-- The gradient: the error over the number of features. -/
def grad (y t : Mat 8192 1024) : Mat 8192 1024 := fun i => (y i - t i) * ((1 / 1024 : ℝ) : EReal)

/-- Half the squared errors, summed over the entries, over the number of features. -/
def loss (y t : Mat 8192 1024) : EReal := (∑ r : Fin 8192, ∑ k : Fin 1024, sq y t r k) * ((1 / 2048 : ℝ) : EReal)

theorem sq_nonneg {n : Nat} (y t : Mat n 1024) (r : Fin n) (k : Fin 1024) : 0 ≤ sq y t r k := by
  unfold sq
  generalize y (ix2 r k) - t (ix2 r k) = e
  rcases le_total 0 e with h | h
  · exact mul_nonneg h h
  · exact EReal.mul_nonneg_iff.mpr (.inr ⟨h, h⟩)

/-- A sum of nonnegative terms is scaled term by term. -/
theorem sum_scale {ι : Type} (s : Finset ι) (f : ι → EReal) (hf : ∀ i, 0 ≤ f i) (w : EReal) :
    ∑ i ∈ s, f i * w = (∑ i ∈ s, f i) * w := by
  classical
  induction s using Finset.induction_on with
  | empty => simp
  | insert a s ha ih =>
    rw [Finset.sum_insert ha, Finset.sum_insert ha, ih]
    exact (EReal.right_distrib_of_nonneg (hf a) (Finset.sum_nonneg fun i _ => hf i)).symm

theorem bits1 : Ideal.ofBits .f32 0x3F800000#32 = ((1 : ℝ) : EReal) := by
  simp [Ideal.ofBits, Ideal.ieee, -EReal.coe_mul]; norm_num
theorem bits2 : Ideal.ofBits .f32 0x40000000#32 = ((2 : ℝ) : EReal) := by
  simp [Ideal.ofBits, Ideal.ieee, -EReal.coe_mul]; norm_num
theorem bits05 : Ideal.ofBits .f32 0x3F000000#32 = ((1 / 2 : ℝ) : EReal) := by
  simp [Ideal.ofBits, Ideal.ieee, -EReal.coe_mul]; norm_num
theorem bits10 : Ideal.ofBits .f32 0x3A800000#32 = ((1 / 1024 : ℝ) : EReal) := by
  simp [Ideal.ofBits, Ideal.ieee, -EReal.coe_mul]; norm_num
theorem bits11 : Ideal.ofBits .f32 0x3A000000#32 = ((1 / 2048 : ℝ) : EReal) := by
  simp [Ideal.ofBits, Ideal.ieee, -EReal.coe_mul]; norm_num

/-- A sum over a vector's entries. -/
theorem sum_vec {n : Nat} (f : (⟨1, ![n]⟩ : Shape).Idx → EReal) : ∑ i, f i = ∑ r : Fin n, f (ix1 r) :=
  Fintype.sum_equiv ⟨fun i => (i 0 : Fin n), fun r => ix1 r, fun i => funext fun a => by match a with | ⟨0, _⟩ => rfl, fun _ => rfl⟩ _ _
    fun i => congrArg f (funext fun a => by match a with | ⟨0, _⟩ => rfl)

/-- The loss, point by point and feature by feature. -/
theorem loss_blocks (y t : Fin 32 → Mat 256 1024) (Y T : Mat 8192 1024)
    (hy : ∀ j p q, y j (ix2 p q) = Y (ix2 ⟨256 * j.val + p.val, block_lt rfl j p⟩ q)) (ht : ∀ j p q, t j (ix2 p q) = T (ix2 ⟨256 * j.val + p.val, block_lt rfl j p⟩ q)) :
    ∑ q : Fin 1024, ∑ j : Fin 32, (∑ p : Fin 256, sq (y j) (t j) p q) * ((1 / 2048 : ℝ) : EReal) = loss Y T := by
  have e : ∀ q : Fin 1024, ∑ j : Fin 32, (∑ p : Fin 256, sq (y j) (t j) p q) * ((1 / 2048 : ℝ) : EReal) = (∑ r : Fin 8192, sq Y T r q) * ((1 / 2048 : ℝ) : EReal) := fun q => by
    rw [sum_scale _ _ (fun j => Finset.sum_nonneg fun p _ => sq_nonneg _ _ p q), sum_cut (m := 32) (n := 256) rfl fun r : Fin 8192 => sq Y T r q]
    refine congrArg (· * ((1 / 2048 : ℝ) : EReal)) (Finset.sum_congr rfl fun j _ => Finset.sum_congr rfl fun p _ => ?_)
    unfold sq
    rw [hy j p q, ht j p q]
  rw [Finset.sum_congr rfl fun q _ => e q, sum_scale _ _ (fun q => Finset.sum_nonneg fun r _ => sq_nonneg _ _ r q), Finset.sum_comm]
  rfl

end Cert.Loss

namespace Cert.LossGradIdeal.Val

open Idealize.ShloMosaic Idealize.ShloMosaic.TcCoe Idealize.ShloMosaic.ValueIdx Idealize.SL.Sem
open Cert.LossGradIdeal Cert.LossGradIdeal.Gen Cert.Prods Cert.Loss
open Cert.MixBwd (Mat Stack)

theorem at00 : (![0, 0] : Fin 2 → Nat) = fun _ => 0 := funext fun a => by fin_cases a <;> rfl

variable (m : (ℓ : Loc nD τ sig) → Buf (Elt Ideal) ℓ) (ρ : Dev nD → PrngReg)

/-! ## The arguments and the arrays the call reads -/

abbrev arg0 (c : Dev nD) : Mat 8192 1024 := m ((c : Thread nD τ).loc main_arg0)
abbrev arg1 (c : Dev nD) : Mat 8192 1024 := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem block0 (c : Dev nD) (t : Fin cfg0.N) (i : Fin 32) (ht : t.val = i.val) (p : Fin 256) (q : Fin 1024) :
    (iblk m c 0 t : Vec Ideal S256x1024 .f32) (ix2 p q) = arg0 m c (ix2 ⟨256 * i.val + p.val, block_lt rfl i p⟩ q) := by
  have h := index0 t
  unfold iblk
  rw [View.read_apply]
  refine (congrArg (V m c main_arg0) (funext fun a => Fin.ext ?_)).trans (congrFun (V_main_arg0 m c) _)
  match a with
  | ⟨0, _⟩ => show win0_0.index t 0 * 256 + 1 * p.val = 256 * i.val + p.val; rw [h.1]; omega
  | ⟨1, _⟩ => show win0_0.index t 1 * 1024 + 1 * q.val = q.val; rw [h.2]; omega

theorem block1 (c : Dev nD) (t : Fin cfg0.N) (i : Fin 32) (ht : t.val = i.val) (p : Fin 256) (q : Fin 1024) :
    (iblk m c 1 t : Vec Ideal S256x1024 .f32) (ix2 p q) = arg1 m c (ix2 ⟨256 * i.val + p.val, block_lt rfl i p⟩ q) := by
  have h := index1 t
  unfold iblk
  rw [View.read_apply]
  refine (congrArg (V m c main_arg1) (funext fun a => Fin.ext ?_)).trans (congrFun (V_main_arg1 m c) _)
  match a with
  | ⟨0, _⟩ => show win0_1.index t 0 * 256 + 1 * p.val = 256 * i.val + p.val; rw [h.1]; omega
  | ⟨1, _⟩ => show win0_1.index t 1 * 1024 + 1 * q.val = q.val; rw [h.2]; omega

/-! ## What a point computes -/

/-- The point's rows of the gradient. -/
theorem grad_apply (x0 x1 : Vec Ideal S256x1024 .f32) (i : S256x1024.Idx) : k0_pay2 x0 x1 i = ((x0 i : EReal) - x1 i) * ((1 / 1024 : ℝ) : EReal) := by
  rw [← bits10]
  rfl

/-- The point's part of the loss, feature by feature. -/
def lossPart (x0 x1 : Mat 256 1024) : Mat 1 1024 := fun i => (∑ p : Fin 256, sq x0 x1 p (i 1)) * ((1 / 2048 : ℝ) : EReal)

theorem part_eq (x0 x1 : Vec Ideal S256x1024 .f32) : k0_pay3 x0 x1 = lossPart x0 x1 := by
  funext i
  have hi : i = ix2 0 (i 1) := funext fun a => Fin.ext (by
    match a with
    | ⟨0, _⟩ => have y0 : (i 0).val < 1 := (i 0).isLt; show (i 0).val = 0; omega
    | ⟨1, _⟩ => rfl)
  rw [hi]
  unfold k0_pay3 lossPart
  rw [← bits11]
  exact congrArg (fun e : EReal => e * Ideal.ofBits .f32 0x3A000000#32) ((toRow _ _ (i 1 : Fin 1024)).trans (colSum _ _ _ _ _ (i 1 : Fin 1024)))

theorem out_A2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (hc0 : cond0_0 i) (hc1 : ¬cond0_1 i) (x0 x1 : Vec Ideal S256x1024 .f32) :
    out0_A_2 (F := Ideal) c i arg1 harg1 arg2 harg2 arg3 harg3 arg4 harg4 hc0 hc1 x0 x1 = k0_pay2 x0 x1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_unit_zero at00]
  simp only [View.readAt_eq_ld, harg1.read_unread, harg2.read_unread, harg4.read_unread, View.ld_unit_zero (S := S1x1024) at00, View.ld_unit_zero (S := S256x1024) at00, shapeCast_self]

theorem out_A3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (hc0 : cond0_0 i) (hc1 : ¬cond0_1 i) (x0 x1 : Vec Ideal S256x1024 .f32) :
    out0_A_3 (F := Ideal) c i arg1 harg1 arg2 harg2 arg3 harg3 arg4 harg4 hc0 hc1 x0 x1 = k0_pay3 x0 x1 := by
  unfold out0_A_3
  rw [View.read_writes_eq_canon _ _ _ (cover0_A_3 c i arg1 harg1 arg2 harg2 arg3 harg3 arg4 harg4 hc0 hc1 x0 x1)]
  unfold kernelRun0_A
  dsimp only
  sl_unfold_words
  rw [View.canon_unit_zero at00]
  simp only [View.readAt_eq_ld, harg1.read_unread, harg2.read_unread, harg4.read_unread, View.ld_unit_zero (S := S1x1024) at00, View.ld_unit_zero (S := S256x1024) at00, shapeCast_self]

theorem out_B2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (hc0 : ¬cond0_0 i) (hc1 : cond0_1 i) (x0 x1 : Vec Ideal S256x1024 .f32) (xo : Vec Ideal S1x1024 .f32) :
    out0_B_2 (F := Ideal) c i arg1 harg1 arg2 harg2 arg3 harg3 arg4 harg4 hc0 hc1 x0 x1 xo = k0_pay2 x0 x1 := by
  unfold out0_B_2
  rw [View.read_writes_eq_canon _ _ _ (cover0_B_2 c i arg1 harg1 arg2 harg2 arg3 harg3 arg4 harg4 hc0 hc1 x0 x1 xo)]
  unfold kernelRun0_B
  dsimp only
  sl_unfold_words
  rw [View.canon_unit_zero at00]
  simp only [View.readAt_eq_ld, harg1.read_unread, harg2.read_unread, harg4.read_unread, View.ld_unit_zero (S := S1x1024) at00, View.ld_unit_zero (S := S256x1024) at00, shapeCast_self]

theorem out_B3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (hc0 : ¬cond0_0 i) (hc1 : cond0_1 i) (x0 x1 : Vec Ideal S256x1024 .f32) (xo : Vec Ideal S1x1024 .f32) :
    out0_B_3 (F := Ideal) c i arg1 harg1 arg2 harg2 arg3 harg3 arg4 harg4 hc0 hc1 x0 x1 xo = addf xo (k0_pay3 x0 x1) := by
  unfold out0_B_3
  rw [View.read_writes_eq_canon _ _ _ (cover0_B_3 c i arg1 harg1 arg2 harg2 arg3 harg3 arg4 harg4 hc0 hc1 x0 x1 xo)]
  unfold kernelRun0_B
  dsimp only
  sl_unfold_words
  rw [View.canon_unit_zero at00]
  unfold k0_pay4
  simp only [View.readAt_eq_ld, harg1.read_unread, harg2.read_unread, harg4.read_unread, View.ld_unit_zero (S := S1x1024) at00, View.ld_unit_zero (S := S256x1024) at00, shapeCast_self]

/-! ## The points -/

theorem outs2 (c : Dev nD) (t : Fin cfg0.N) : (outsAt0 m c t.val t.isLt).1 = k0_pay2 (iblk m c 0 t) (iblk m c 1 t) := by
  have hT := t.isLt
  have hN : cfg0.N = 32 := N_0
  by_cases h0 : t.val % 32 = 0
  · have h1 : ¬1 ≤ t.val := by omega
    rw [outsAt0_A m c t h0 h1]
    dsimp only
    exact out_A2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t)
  · have h1 : 1 ≤ t.val := by omega
    rw [outsAt0_B m c t h0 h1]
    dsimp only
    exact out_B2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2

/-- A point's part of the loss. -/
def partAt (c : Dev nD) (t : Fin cfg0.N) : Mat 1 1024 := lossPart (iblk m c 0 t) (iblk m c 1 t)

theorem outs3_first (c : Dev nD) (t : Fin cfg0.N) (h0 : t.val % 32 = 0) (h1 : ¬1 ≤ t.val) : (outsAt0 m c t.val t.isLt).2 = partAt m c t := by
  rw [outsAt0_A m c t h0 h1]
  dsimp only
  exact (out_A3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t)).trans (part_eq _ _)

theorem outs3_next (c : Dev nD) (t : Fin cfg0.N) (h0 : ¬t.val % 32 = 0) (h1 : 1 ≤ t.val) :
    (outsAt0 m c t.val t.isLt).2 = fun i => ((outsAt0 m c (t.val - 1) (Nat.lt_of_le_of_lt (Nat.sub_le _ _) t.isLt)).2 i : EReal) + partAt m c t i := by
  rw [outsAt0_B m c t h0 h1]
  dsimp only
  refine (out_B3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (outsAt0 m c (t.val - 1) (Nat.lt_of_le_of_lt (Nat.sub_le _ _) t.isLt)).2).trans ?_
  rw [part_eq]
  rfl

/-- The carried row after point `n`: the sum of the parts up to `n`. -/
theorem outs3 (c : Dev nD) : ∀ (n : ℕ) (h : n < cfg0.N), (outsAt0 m c n h).2 = fun i => ∑ s : Fin (n + 1), partAt m c ⟨s.val, by omega⟩ i
  | 0, h => by
    refine (outs3_first m c ⟨0, h⟩ rfl (Nat.not_succ_le_zero 0)).trans (funext fun i => ?_)
    rw [Fin.sum_univ_one]
    rfl
  | n + 1, h => by
    have hN : cfg0.N = 32 := N_0
    refine (outs3_next m c ⟨n + 1, h⟩ (by dsimp only; omega) (Nat.le_add_left _ _)).trans (funext fun i => ?_)
    rw [Fin.sum_univ_castSucc]
    exact congrArg₂ (fun u v : EReal => u + v) (congrFun (outs3 c n (Nat.lt_of_succ_lt h)) i) rfl

/-! ## The arrays after the run -/

theorem flushed_eq2 (c : Dev nD) (t : Fin cfg0.N) (hf : (cfg0.win 2).flush t = true) :
    (dats m 0 c).flushed 2 t = ((cfg0.win 2).blk t).view.read (Elt Ideal) (grad (arg0 m c) (arg1 m c)) := by
  have hT := t.isLt
  have hN : cfg0.N = 32 := N_0
  have h := index2 t
  show (cfg0.win 2).cut (grid0.coords t) ((dats m 0 c).after 2 t) = _
  rw [after0_2, outs2]
  funext y
  rw [View.read_apply]
  obtain ⟨i, ht⟩ : ∃ (i : Fin 32), t.val = i.val := ⟨⟨t.val, by omega⟩, rfl⟩
  have hy : (((cfg0.win 2).blk t).view.emb y) = ix2 (⟨256 * i.val + (y 0 : Fin 256).val, block_lt rfl i (y 0 : Fin 256)⟩ : Fin 8192) (y 1 : Fin 1024) := funext fun a => Fin.ext (by
    match a with
    | ⟨0, _⟩ => show win0_2.index t 0 * 256 + 1 * (y 0).val = 256 * i.val + (y 0).val; rw [h.1]; omega
    | ⟨1, _⟩ => show win0_2.index t 1 * 1024 + 1 * (y 1).val = (y 1).val; rw [h.2]; omega)
  have y0 : y = ix2 (y 0 : Fin 256) (y 1 : Fin 1024) := funext fun a => Fin.ext (by
    match a with
    | ⟨0, _⟩ => rfl
    | ⟨1, _⟩ => rfl)
  show k0_pay2 (iblk m c 0 t) (iblk m c 1 t) y = grad (arg0 m c) (arg1 m c) (((cfg0.win 2).blk t).view.emb y)
  rw [hy]
  refine (congrArg (k0_pay2 (iblk m c 0 t) (iblk m c 1 t)) y0).trans ((grad_apply (iblk m c 0 t) (iblk m c 1 t) _).trans ?_)
  exact congrArg₂ (fun u v : EReal => (u - v) * ((1 / 1024 : ℝ) : EReal)) (block0 m c t i ht (y 0) (y 1)) (block1 m c t i ht (y 0) (y 1))

theorem final2 (c : Dev nD) : (dats m 0 c).arrAt 2 cfg0.N = (grad (arg0 m c) (arg1 m c) : Buf (Elt Ideal) ((c : Thread nD τ).loc main_v0_0)) :=
  (dats m 0 c).arrAt_eq_of_cover 2 _ (flushed_eq2 m c) fun i => by
    have hN : cfg0.N = 32 := N_0
    have b0 : (i 0 : Nat) < 8192 := (i 0).isLt
    have b1 : (i 1 : Nat) < 1024 := (i 1).isLt
    let t : Fin cfg0.N := ⟨(i 0).val / 256, by rw [hN]; omega⟩
    have htv : t.val = (i 0).val / 256 := rfl
    refine ⟨t, flush0_2 t, ?_⟩
    have h := index2 t
    show i ∈ ((View.whole main_v0_0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [h.1]; omega
    | ⟨1, _⟩ => show win0_2.index t 1 * 1024 ≤ (i 1 : Nat) ∧ (i 1 : Nat) < win0_2.index t 1 * 1024 + 1024; rw [h.2]; omega

/-- The row the last point writes back: every point's part. -/
def row (c : Dev nD) : Mat 1 1024 := fun i => ∑ s : Fin 32, partAt m c ⟨s.val, by have hN : cfg0.N = 32 := N_0; omega⟩ i

theorem outs3_last (c : Dev nD) (n : ℕ) (h : n < cfg0.N) (hn : n = 31) : (outsAt0 m c n h).2 = row m c := by
  rw [outs3]
  subst hn
  rfl

theorem flushed_eq3 (c : Dev nD) (t : Fin cfg0.N) (hf : (cfg0.win 3).flush t = true) :
    (dats m 0 c).flushed 3 t = ((cfg0.win 3).blk t).view.read (Elt Ideal) (row m c) := by
  have hN : cfg0.N = 32 := N_0
  have h := index3 t
  have hl : t.val = 31 := by have := (flush0_3 t).mp hf; have := t.isLt; omega
  have e : (outsAt0 m c t.val t.isLt).2 = row m c := outs3_last m c t.val t.isLt hl
  show (cfg0.win 3).cut (grid0.coords t) ((dats m 0 c).after 3 t) = _
  rw [after0_3, e]
  funext y
  rw [View.read_apply]
  show row m c y = row m c (((cfg0.win 3).blk t).view.emb y)
  have hy : ((cfg0.win 3).blk t).view.emb y = y := funext fun a => Fin.ext (by
    match a with
    | ⟨0, _⟩ => show win0_3.index t 0 * 1 + 1 * (y 0).val = (y 0).val; rw [h.1]; omega
    | ⟨1, _⟩ => show win0_3.index t 1 * 1024 + 1 * (y 1).val = (y 1).val; rw [h.2]; omega)
  rw [hy]

theorem final3 (c : Dev nD) : (dats m 0 c).arrAt 3 cfg0.N = (row m c : Buf (Elt Ideal) ((c : Thread nD τ).loc main_v0_1)) :=
  (dats m 0 c).arrAt_eq_of_cover 3 _ (flushed_eq3 m c) fun i => by
    have hN : cfg0.N = 32 := N_0
    have b0 : (i 0 : Nat) < 1 := (i 0).isLt
    have b1 : (i 1 : Nat) < 1024 := (i 1).isLt
    let t : Fin cfg0.N := ⟨31, by rw [hN]; omega⟩
    refine ⟨t, (flush0_3 t).mpr rfl, ?_⟩
    have h := index3 t
    show i ∈ ((View.whole main_v0_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [h.1]; omega
    | ⟨1, _⟩ => show win0_3.index t 1 * 1024 ≤ (i 1 : Nat) ∧ (i 1 : Nat) < win0_3.index t 1 * 1024 + 1024; rw [h.2]; omega

/-- The host's sum of the row is the loss. -/
theorem row_sum (c : Dev nD) : (Host.reduceAdd (row m c : Vec Ideal S1x1024 .f32) (constant (F := Ideal) S_ .f32 0x00000000#32) reducesTo_S1x1024_S_d0_1 h_S_ : FVec Ideal S_ .f32) = fun _ => loss (arg0 m c) (arg1 m c) := by
  have hN : cfg0.N = 32 := N_0
  funext j
  simp only [Host.reduceAdd, Ideal.hostReduceAdd_def]
  refine (Ideal.hostReduceAdd_total reducesTo_S1x1024_S_d0_1 (fun b => b.elim0) (row m c) _ j).trans ?_
  show Ideal.ofBits .f32 0x00000000#32 + _ = _
  rw [Ideal.ofBits_zero_f32, zero_add, sum_idx2, Fin.sum_univ_one]
  exact loss_blocks (fun s => iblk m c 0 ⟨s.val, by omega⟩) (fun s => iblk m c 1 ⟨s.val, by omega⟩) (arg0 m c) (arg1 m c)
    (fun s => block0 m c ⟨s.val, by omega⟩ s rfl) (fun s => block1 m c ⟨s.val, by omega⟩ s rfl)

/-- What the sum after the call leaves. -/
theorem tail_eq (c : Dev nD) : Pipeline.afterTail₀ cfgs (dats m) 0 (V0 m) [hostOps1] c main_v1 = (fun _ => loss (arg0 m c) (arg1 m c) : Buf (Elt Ideal) ((c : Thread nD τ).loc main_v1)) := by
  have e : Pipeline.withArrays (cfgs 0).spec c (V0 m c) (fun w => (dats m 0 c).arrAt w (cfgs 0).N) (Proc.devRef .tc main_v0_1) = row m c :=
    (Pipeline.withArrays_arr (cfgs 0).spec launch0.win.arr_inj c (V0 m c) (fun w => (dats m 0 c).arrAt w (cfgs 0).N) 3).trans (final3 m c)
  refine Eq.trans ?_ (row_sum m c)
  rw [← e]
  unfold Pipeline.afterTail₀
  generalize Pipeline.withArrays (cfgs 0).spec c (V0 m c) (fun w => (dats m 0 c).arrAt w (cfgs 0).N) = W
  after_reads_simp

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v0_0) = grad (arg0 m c) (arg1 m c)
      ∧ r.2.mem ((c : Thread nD τ).loc main_v1) = (fun _ => loss (arg0 m c) (arg1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c),
      ((h.1 c).2 main_v1 (Pipeline.mem_restRefs_of main_v1 (by decide) (by decide))).trans (tail_eq m c), h.2 c⟩)
    (θ_run_and (run_main m ρ) (unchanged m ρ))

end Cert.LossGradIdeal.Val

namespace Cert.LossGradReferenceIdeal.Val

open Idealize.ShloMosaic Idealize.ShloMosaic.TcCoe Idealize.ShloMosaic.ValueIdx Idealize.SL.Sem
open Cert.LossGradReferenceIdeal Cert.LossGradReferenceIdeal.Gen Cert.LossGradReferenceIdeal.Read Cert.Prods Cert.Loss
open Cert.MixBwd (Mat Stack)

/-- The reference's gradient: the error doubled, over twice the number of features. -/
theorem grad_eq (x0 x1 : Mat 8192 1024) : val_main_v14 (F := Ideal) x0 x1 = grad x0 x1 := by
  funext i
  rw [val_main_v14_apply, val_main_v13_apply, val_main_v12_apply, val_main_v10_apply, val_main_v9_apply, val_main_v11_apply, val_main_v3_apply, val_main_v2_apply]
  show Ideal.div (Ideal.ofBits .f32 0x3F000000#32 * Ideal.ofBits .f32 0x3F800000#32) (Ideal.ofBits .f32 0x44800000#32) * (Ideal.ofBits .f32 0x40000000#32 * (x0 i - x1 i)) = (x0 i - x1 i) * ((1 / 1024 : ℝ) : EReal)
  rw [bits1, bits2, bits05, bits1024, Ideal.div_coe (by norm_num), ← mul_assoc, mul_comm (x0 i - x1 i)]
  refine congrArg (· * (x0 i - x1 i)) ?_
  norm_cast
  norm_num

/-- Its loss: half the sum of the rows' means. -/
theorem loss_eq (x0 x1 : Mat 8192 1024) : val_main_v8 (F := Ideal) x0 x1 = fun _ => loss x0 x1 := by
  funext i
  have e : ∀ r : Fin 8192, val_main_v6 (F := Ideal) x0 x1 (ix1 r) = (∑ k : Fin 1024, sq x0 x1 r k) * ((1 / 1024 : ℝ) : EReal) := fun r => by
    rw [val_main_v6_apply, val_main_v4_apply, val_main_v5_apply]
    show Ideal.div (Ideal.ofBits .f32 0x00000000#32 + _) (Ideal.ofBits .f32 0x44800000#32) = _
    rw [Ideal.ofBits_zero_f32, zero_add, bits1024, Ideal.div_coe (by norm_num)]
    refine congrArg₂ (fun u v : EReal => u * v) (Finset.sum_congr rfl fun k _ => ?_) ?_
    · have hi : idx_main_v4 (ix1 r) k = ix2 r k := funext fun a => Fin.ext (by match a with | ⟨0, _⟩ => rfl | ⟨1, _⟩ => rfl)
      rw [hi]
      rfl
    · norm_num
  rw [val_main_v8_apply, val_main_v7_apply, sum_vec, Finset.sum_congr rfl fun r _ => e r, sum_scale _ _ fun r => Finset.sum_nonneg fun k _ => sq_nonneg _ _ r k]
  show Ideal.ofBits .f32 0x3F000000#32 * (Ideal.ofBits .f32 0x00000000#32 + _) = _
  rw [Ideal.ofBits_zero_f32, zero_add, bits05, mul_comm, mul_assoc]
  unfold loss
  refine congrArg (_ * ·) ?_
  norm_cast
  norm_num

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v14) = grad (m ((c : Thread nD τ).loc main_arg0)) (m ((c : Thread nD τ).loc main_arg1))
      ∧ r.2.mem ((c : Thread nD τ).loc main_v8) = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (val_main_v14_eq _ _)).trans (grad_eq _ _),
      ((h c).2.1.trans (val_main_v8_eq _ _)).trans (loss_eq _ _), (h c).2.2⟩)
    (Cert.LossGradReferenceIdeal.Value.run m ρ)

end Cert.LossGradReferenceIdeal.Val

end
-- ==== Proof.LossGradClaims.lean ====
/-
  The claims about the call `LossGrad`, from one run of each program: the frames, and the equality of the kernel's
  results with the reference's at the ideal instance.
-/
module

public import proofs.«01_k».proof.Defs
public import proofs.«01_k».proof.Proof.LossGrad
public import proofs.«01_k».proof.Proof.Gen.LossGrad
public import proofs.«01_k».proof.Proof.Gen.LossGrad.Frame
public import proofs.«01_k».proof.Proof.Gen.LossGradIdeal.Frame
public import proofs.«01_k».proof.Proof.Gen.LossGradReferenceIdeal.Run
public import Idealize.ShloMosaic.Adequacy
public import Idealize.ShloMosaic.Init

@[expose] public section

set_option maxRecDepth 16384

noncomputable section

namespace Cert.Proof.LossGradClaims

open Idealize.ShloMosaic Idealize.ShloMosaic.TcCoe Idealize.SL.Sem

/-- The kernel runs and leaves its arguments unchanged. -/
theorem frame_kernel : Cert.quiescent_LossGrad (hLossGrad := Cert.LossGrad.Gen.facts) := fun m ρ _ => Cert.LossGrad.Gen.frame m ρ

/-- So does its ideal reading, -/
theorem frame_ideal : Cert.quiescent_LossGradIdeal (hLossGradIdeal := Cert.LossGradIdeal.Gen.facts) := fun m ρ _ => Cert.LossGradIdeal.Gen.frame m ρ

/-- and so does the reference. -/
theorem frame_reference : Cert.quiescent_LossGradReferenceIdeal (hLossGradReferenceIdeal := Cert.LossGradReferenceIdeal.Gen.facts) := fun m ρ _ =>
  (θ_run Cert.LossGradReferenceIdeal.defs _ _).mono (fun r h => ⟨fun c => (h c).2.2, sem_eq_zero_of_no_sems (by decide) r.2⟩)
    (Cert.LossGradReferenceIdeal.Value.run m ρ)

/-- The kernel's results are the reference's. -/
theorem algebraic : Cert.algebraic_LossGradIdeal_LossGradReferenceIdeal (hLossGradIdeal := Cert.LossGradIdeal.Gen.facts) (hLossGradReferenceIdeal := Cert.LossGradReferenceIdeal.Gen.facts) := by
  intro m ρ m' ρ' _ hag
  refine ⟨_, _, Cert.LossGradIdeal.Val.run m ρ, (θ_run _ _ _).mono (fun _ h c => ?_) (Cert.LossGradReferenceIdeal.Val.run m' ρ')⟩
  have hc := h c
  obtain ⟨e0, e1⟩ := hag c
  rw [e0, e1] at hc
  obtain ⟨h0, h1, h2, h3⟩ := hc
  exact ⟨h0, h1, h2.trans e0.symm, h3.trans e1.symm⟩

end Cert.Proof.LossGradClaims

end
-- ==== Proof.PoolBwd.lean ====
/-
  The gradients of the mixing matrices and of the scale behind the window means, over the extended reals: 32 blocks of 256
  rows are summed one after another into the two results, and the sums equal the reference's over all 8192 rows.
-/
module

public import proofs.«01_k».proof.Proof.NormBack
public import proofs.«01_k».proof.Proof.Block
public import proofs.«01_k».proof.Proof.Gen.PoolBwdIdeal.Frame
public import proofs.«01_k».proof.Proof.Gen.PoolBwdIdeal.Value
public import proofs.«01_k».proof.Proof.Gen.PoolBwdReferenceIdeal.Read
public import proofs.«01_k».proof.Proof.Gen.PoolBwdReferenceIdeal.Run
public import Idealize.ShloMosaic.Lib.Pipeline.ValueKit.Tiles
public import Idealize.ShloMosaic.Lib.StableHlo.RunRead
@[expose] public section

set_option maxRecDepth 16384

noncomputable section

namespace Cert.PoolBwdIdeal.Val

open Idealize.ShloMosaic Idealize.ShloMosaic.TcCoe Idealize.ShloMosaic.ValueIdx Idealize.SL.Sem
open Cert.PoolBwdIdeal Cert.PoolBwdIdeal.Gen Cert.PoolBwdIdeal.Value Cert.Prods
open Cert.MixBwd (Mat Stack)

/-! ## A block of 256 rows -/

theorem at00 : (![0, 0] : Fin 2 → Nat) = fun _ => 0 := funext fun a => by fin_cases a <;> rfl

/-- Column `128 g + k`: channel `k` of group `g`. -/
def col (g : Fin 4) (k : Fin 128) : Fin 512 := ⟨128 * g.val + k.val, by omega⟩
/-- The group of a column. -/
def grp (q : Fin 512) : Fin 4 := ⟨q.val / 128, by omega⟩
/-- The channel of a column within its group. -/
def chan (q : Fin 512) : Fin 128 := ⟨q.val % 128, by omega⟩

theorem grp_col (g : Fin 4) (k : Fin 128) : grp (col g k) = g := Fin.ext (by show (128 * g.val + k.val) / 128 = g.val; omega)
theorem chan_col (g : Fin 4) (k : Fin 128) : chan (col g k) = k := Fin.ext (by show (128 * g.val + k.val) % 128 = k.val; omega)
theorem col_grp (q : Fin 512) : col (grp q) (chan q) = q := Fin.ext (by show 128 * (q.val / 128) + q.val % 128 = q.val; omega)

/-- The mixing matrices' gradient over the rows given: group `g`'s entry `(k, d)` is the sum of the
pooled channel `k` times the scaled cotangent's channel `d`. -/
def linGrad {n : Nat} (dp po : (⟨2, ![n, 512]⟩ : Shape).Idx → EReal) (sc : Fin 512 → EReal) : Stack 4 128 128 := fun i =>
  ∑ r : Fin n, po (ix2 r (col (i 0) (i 1))) * (dp (ix2 r (col (i 0) (i 2))) * sc (col (i 0) (i 2)))

/-- The scale's gradient over the rows given: the cotangent times the mixed pooled channels, summed. -/
def scaleGrad {n : Nat} (dp po : (⟨2, ![n, 512]⟩ : Shape).Idx → EReal) (li : Stack 4 128 128) : Mat 1 512 := fun i =>
  ∑ r : Fin n, dp (ix2 r (i 1)) * ∑ k : Fin 128, po (ix2 r (col (grp (i 1)) k)) * li (ix3 (grp (i 1)) k (chan (i 1)))

theorem lin_pay (a : Vec Ideal S256x128 .bf16) (b : Vec Ideal S256x128 .f32) (s : Vec Ideal S1x128 .f32) (k d : Fin 128) :
    k0_pay9 (k0_pay4 a) (k0_pay7 b s) (ix2 k d) = ∑ r : Fin 256, (a (ix2 r k) : EReal) * ((b (ix2 r d) : EReal) * s (ix2 0 d)) := by
  unfold k0_pay9 k0_pay4 k0_pay7
  refine (dotTN dot_S256x128_S256x128_S128x128_0_0_1_1_n_n rfl rfl
    (fun _ _ => by simp [DotDims.lhsIdx, dot_S256x128_S256x128_S128x128_0_0_1_1_n_n]; rfl)
    (fun _ _ => by simp [DotDims.lhsIdx, dot_S256x128_S256x128_S128x128_0_0_1_1_n_n]; rfl)
    (fun _ _ => by simp [DotDims.rhsIdx, dot_S256x128_S256x128_S128x128_0_0_1_1_n_n]; rfl)
    (fun _ _ => by simp [DotDims.rhsIdx, dot_S256x128_S256x128_S128x128_0_0_1_1_n_n]; rfl) none _ _ k d).trans ?_
  refine Finset.sum_congr rfl fun r _ => congrArg₂ (fun u v : EReal => u * v) (congrFun (shapeCast_self _ _) _) ?_
  refine congrArg (fun v : EReal => (b (ix2 r d) : EReal) * v) ?_
  exact (spreadRow _ _ r d).trans (congrFun (shapeCast_self _ _) _)

theorem scale_pay (a : Vec Ideal S256x128 .bf16) (l : Vec Ideal S1x128x128 .f32) (b : Vec Ideal S256x128 .f32) (d : Fin 128) :
    k0_pay6 a l b (ix2 0 d) = ∑ r : Fin 256, (b (ix2 r d) : EReal) * ∑ k : Fin 128, (a (ix2 r k) : EReal) * l (ix3 0 k d) := by
  unfold k0_pay6 k0_pay4 k0_pay5
  refine (toRow _ _ d).trans ((colSum _ _ _ _ _ d).trans ?_)
  refine Finset.sum_congr rfl fun r _ => congrArg (fun v : EReal => (b (ix2 r d) : EReal) * v) ?_
  refine (dotNN dot_S256x128_S128x128_S256x128_1_0_0_1_n_n rfl rfl
    (fun _ _ => by simp [DotDims.lhsIdx, dot_S256x128_S128x128_S256x128_1_0_0_1_n_n]; rfl)
    (fun _ _ => by simp [DotDims.lhsIdx, dot_S256x128_S128x128_S256x128_1_0_0_1_n_n]; rfl)
    (fun _ _ => by simp [DotDims.rhsIdx, dot_S256x128_S128x128_S256x128_1_0_0_1_n_n]; rfl)
    (fun _ _ => by simp [DotDims.rhsIdx, dot_S256x128_S128x128_S256x128_1_0_0_1_n_n]; rfl) none _ _ r d).trans ?_
  exact Finset.sum_congr rfl fun k _ => congrArg₂ (fun u v : EReal => u * v) (congrFun (shapeCast_self _ _) _) (dropLead _ _ k d)

/-! A group's columns, its scales and its mixing matrix, read out of the blocks. -/

theorem cols_read {e : EltTy} (x : Vec Ideal S256x512 e) (g : Fin 4) (o : Nat) (ho : o = 128 * g.val) (h : ∀ a, (![0, o] : Fin 2 → Nat) a + S256x128.size a ≤ S256x512.size a)
    (r : Fin 256) (k : Fin 128) : View.ld x (Rect.unit (s := S256x512) ![0, o] S256x128.size h) (ix2 r k) = x (ix2 r (col g k)) :=
  congrArg x (funext fun a => Fin.ext (by
    match a with
    | ⟨0, _⟩ => show 0 + 1 * r.val = r.val; omega
    | ⟨1, _⟩ => show o + 1 * k.val = 128 * g.val + k.val; omega))

theorem scales_read (x : Vec Ideal S1x512 .f32) (g : Fin 4) (o : Nat) (ho : o = 128 * g.val) (h : ∀ a, (![0, o] : Fin 2 → Nat) a + S1x128.size a ≤ S1x512.size a)
    (k : Fin 128) : View.ld x (Rect.unit (s := S1x512) ![0, o] S1x128.size h) (ix2 0 k) = x (ix2 0 (col g k)) :=
  congrArg x (funext fun a => Fin.ext (by
    match a with
    | ⟨0, _⟩ => show 0 + 1 * 0 = 0; omega
    | ⟨1, _⟩ => show o + 1 * k.val = 128 * g.val + k.val; omega))

theorem mats_read (x : Vec Ideal S4x128x128 .f32) (g : Fin 4) (o : Nat) (ho : o = g.val) (h : ∀ a, (![o, 0, 0] : Fin 3 → Nat) a + S1x128x128.size a ≤ S4x128x128.size a)
    (k d : Fin 128) : View.ld x (Rect.unit (s := S4x128x128) ![o, 0, 0] S1x128x128.size h) (ix3 0 k d) = x (ix3 g k d) :=
  congrArg x (funext fun a => Fin.ext (by
    match a with
    | ⟨0, _⟩ => show o + 1 * 0 = g.val; omega
    | ⟨1, _⟩ => show 0 + 1 * k.val = k.val; omega
    | ⟨2, _⟩ => show 0 + 1 * d.val = d.val; omega))

theorem mats_emb (g : Fin 4) (o : Nat) (ho : o = g.val) (h : ∀ a, (![o, 0, 0] : Fin 3 → Nat) a + S1x128x128.size a ≤ S4x128x128.size a) (k d : Fin 128) :
    (Rect.unit (s := S4x128x128) ![o, 0, 0] S1x128x128.size h).emb (ix3 0 k d) = (ix3 g k d : S4x128x128.Idx) :=
  funext fun a => Fin.ext (by
    match a with
    | ⟨0, _⟩ => show o + 1 * 0 = g.val; omega
    | ⟨1, _⟩ => show 0 + 1 * k.val = k.val; omega
    | ⟨2, _⟩ => show 0 + 1 * d.val = d.val; omega)

theorem mat_ix (x : S1x128x128.Idx) : x = ix3 (0 : Fin 1) (x 1 : Fin 128) (x 2 : Fin 128) := funext fun a => by
  match a with
  | ⟨0, _⟩ => exact Fin.ext (by have : (x 0).val < 1 := (x 0).isLt; show (x 0).val = 0; omega)
  | ⟨1, _⟩ => rfl
  | ⟨2, _⟩ => rfl

section
variable (x0 : Vec Ideal S256x512 .f32) (x1 : Vec Ideal S256x512 .bf16) (x2 : Vec Ideal S4x128x128 .f32) (x3 : Vec Ideal S1x512 .f32)

/-- A block's part of the mixing matrices' gradient. -/
def linPart : Stack 4 128 128 := linGrad (n := 256) x0 x1 fun q => x3 (ix2 0 q)
/-- A block's part of the scale's gradient. -/
def scalePart : Mat 1 512 := scaleGrad (n := 256) x0 x1 x2

theorem lin_group (g : Fin 4) (o : Nat) (ho : o = 128 * g.val) (h0 : ∀ a, (![0, o] : Fin 2 → Nat) a + S256x128.size a ≤ S256x512.size a) (h1 : ∀ a, (![0, o] : Fin 2 → Nat) a + S1x128.size a ≤ S1x512.size a) (k d : Fin 128) :
    k0_pay9 (k0_pay4 (View.ld x1 (Rect.unit (s := S256x512) ![0, o] S256x128.size h0))) (k0_pay7 (View.ld x0 (Rect.unit (s := S256x512) ![0, o] S256x128.size h0)) (View.ld x3 (Rect.unit (s := S1x512) ![0, o] S1x128.size h1))) (ix2 k d)
      = linPart x0 x1 x3 (ix3 g k d) := by
  rw [lin_pay]
  show _ = ∑ r : Fin 256, (x1 (ix2 r (col g k)) : EReal) * ((x0 (ix2 r (col g d)) : EReal) * x3 (ix2 0 (col g d)))
  refine Finset.sum_congr rfl fun r _ => congrArg₂ (fun u v : EReal => u * v) (cols_read x1 g o ho h0 r k) ?_
  exact congrArg₂ (fun u v : EReal => u * v) (cols_read x0 g o ho h0 r d) (scales_read x3 g o ho h1 d)

theorem lin_first (g : Fin 4) (o p : Nat) (ho : o = 128 * g.val) (hp : p = g.val) (h0 : ∀ a, (![0, o] : Fin 2 → Nat) a + S256x128.size a ≤ S256x512.size a) (h1 : ∀ a, (![0, o] : Fin 2 → Nat) a + S1x128.size a ≤ S1x512.size a)
    (h2 : ∀ a, (![p, 0, 0] : Fin 3 → Nat) a + S1x128x128.size a ≤ S4x128x128.size a) (x : S1x128x128.Idx) :
    k0_pay10 (k0_pay4 (View.ld x1 (Rect.unit (s := S256x512) ![0, o] S256x128.size h0))) (k0_pay7 (View.ld x0 (Rect.unit (s := S256x512) ![0, o] S256x128.size h0)) (View.ld x3 (Rect.unit (s := S1x512) ![0, o] S1x128.size h1))) x
      = linPart x0 x1 x3 ((Rect.unit (s := S4x128x128) ![p, 0, 0] S1x128x128.size h2).emb x) := by
  obtain ⟨k, d, rfl⟩ : ∃ k d : Fin 128, x = ix3 (0 : Fin 1) k d := ⟨x 1, x 2, mat_ix x⟩
  rw [mats_emb g p hp h2 k d, ← lin_group x0 x1 x3 g o ho h0 h1 k d]
  unfold k0_pay10
  exact addLead _ _ k d

theorem lin_next (xo : Vec Ideal S4x128x128 .f32) (g : Fin 4) (o p : Nat) (ho : o = 128 * g.val) (hp : p = g.val) (h0 : ∀ a, (![0, o] : Fin 2 → Nat) a + S256x128.size a ≤ S256x512.size a) (h1 : ∀ a, (![0, o] : Fin 2 → Nat) a + S1x128.size a ≤ S1x512.size a)
    (h2 : ∀ a, (![p, 0, 0] : Fin 3 → Nat) a + S1x128x128.size a ≤ S4x128x128.size a) (x : S1x128x128.Idx) :
    k0_pay11 (k0_pay4 (View.ld x1 (Rect.unit (s := S256x512) ![0, o] S256x128.size h0))) (k0_pay7 (View.ld x0 (Rect.unit (s := S256x512) ![0, o] S256x128.size h0)) (View.ld x3 (Rect.unit (s := S1x512) ![0, o] S1x128.size h1)))
        (View.ld xo (Rect.unit (s := S4x128x128) ![p, 0, 0] S1x128x128.size h2)) x
      = (fun y => (xo y : EReal) + linPart x0 x1 x3 y) ((Rect.unit (s := S4x128x128) ![p, 0, 0] S1x128x128.size h2).emb x) := by
  obtain ⟨k, d, rfl⟩ : ∃ k d : Fin 128, x = ix3 (0 : Fin 1) k d := ⟨x 1, x 2, mat_ix x⟩
  rw [mats_emb g p hp h2 k d]
  unfold k0_pay11
  refine (addLead _ _ k d).trans ?_
  exact congrArg₂ (fun u v : EReal => u + v) ((dropLead _ _ k d).trans (mats_read xo g p hp h2 k d)) (lin_group x0 x1 x3 g o ho h0 h1 k d)

theorem scale_group (g : Fin 4) (o p : Nat) (ho : o = 128 * g.val) (hp : p = g.val) (h0 : ∀ a, (![0, o] : Fin 2 → Nat) a + S256x128.size a ≤ S256x512.size a)
    (h2 : ∀ a, (![p, 0, 0] : Fin 3 → Nat) a + S1x128x128.size a ≤ S4x128x128.size a) (d : Fin 128) :
    k0_pay6 (View.ld x1 (Rect.unit (s := S256x512) ![0, o] S256x128.size h0)) (View.ld x2 (Rect.unit (s := S4x128x128) ![p, 0, 0] S1x128x128.size h2)) (View.ld x0 (Rect.unit (s := S256x512) ![0, o] S256x128.size h0)) (ix2 0 d)
      = scalePart x0 x1 x2 (ix2 0 (col g d)) := by
  rw [scale_pay]
  show _ = ∑ r : Fin 256, (x0 (ix2 r (col g d)) : EReal) * ∑ k : Fin 128, (x1 (ix2 r (col (grp (col g d)) k)) : EReal) * x2 (ix3 (grp (col g d)) k (chan (col g d)))
  rw [grp_col, chan_col]
  refine Finset.sum_congr rfl fun r _ => congrArg₂ (fun u v : EReal => u * v) (cols_read x0 g o ho h0 r d) ?_
  exact Finset.sum_congr rfl fun k _ => congrArg₂ (fun u v : EReal => u * v) (cols_read x1 g o ho h0 r k) (mats_read x2 g p hp h2 k d)
end

/-- Four rows of 128 lanes, side by side. -/
theorem cat4 (u0 u1 u2 u3 : FVec Ideal S1x128 .f32) (f : Fin 512 → EReal)
    (h0 : ∀ d, u0 (ix2 0 d) = f (col 0 d)) (h1 : ∀ d, u1 (ix2 0 d) = f (col 1 d)) (h2 : ∀ d, u2 (ix2 0 d) = f (col 2 d)) (h3 : ∀ d, u3 (ix2 0 d) = f (col 3 d)) (q : Fin 512) :
    k0_pay2 u0 u1 u2 u3 (ix2 0 q) = f q := by
  unfold k0_pay2
  have hx (d : Fin 128) : ∀ a : Fin 2, (Fin.cast rfl a : Fin 2) ≠ (1 : Fin 2) → (ix2 (0 : Fin 1) d a).val = (ix2 (0 : Fin 1) q (Fin.cast rfl a)).val :=
    fun a ha => by match a with | ⟨0, _⟩ => rfl | ⟨1, _⟩ => exact absurd rfl ha
  obtain ⟨g, d, rfl⟩ : ∃ g d, q = col g d := ⟨grp q, chan q, (col_grp q).symm⟩
  match g with
  | 0 => exact (concatenate_apply_piece (t := S1x512) (1 : Fin 2) [⟨S1x128, u0⟩, ⟨S1x128, u1⟩, ⟨S1x128, u2⟩, ⟨S1x128, u3⟩] concatenates_S1x128_S1x128_S1x128_S1x128_S1x512_d1 (ix2 0 (col 0 d)) 0 (show 0 < 4 by decide) S1x128 u0 rfl rfl 0 rfl (ix2 0 d) (hx d) (show (col 0 d).val = 0 + d.val from rfl)).trans (h0 d)
  | 1 => exact (concatenate_apply_piece (t := S1x512) (1 : Fin 2) [⟨S1x128, u0⟩, ⟨S1x128, u1⟩, ⟨S1x128, u2⟩, ⟨S1x128, u3⟩] concatenates_S1x128_S1x128_S1x128_S1x128_S1x512_d1 (ix2 0 (col 1 d)) 1 (show 1 < 4 by decide) S1x128 u1 rfl rfl 128 rfl (ix2 0 d) (hx d) (show (col 1 d).val = 128 + d.val from rfl)).trans (h1 d)
  | 2 => exact (concatenate_apply_piece (t := S1x512) (1 : Fin 2) [⟨S1x128, u0⟩, ⟨S1x128, u1⟩, ⟨S1x128, u2⟩, ⟨S1x128, u3⟩] concatenates_S1x128_S1x128_S1x128_S1x128_S1x512_d1 (ix2 0 (col 2 d)) 2 (show 2 < 4 by decide) S1x128 u2 rfl rfl 256 rfl (ix2 0 d) (hx d) (show (col 2 d).val = 256 + d.val from rfl)).trans (h2 d)
  | 3 => exact (concatenate_apply_piece (t := S1x512) (1 : Fin 2) [⟨S1x128, u0⟩, ⟨S1x128, u1⟩, ⟨S1x128, u2⟩, ⟨S1x128, u3⟩] concatenates_S1x128_S1x128_S1x128_S1x128_S1x512_d1 (ix2 0 (col 3 d)) 3 (show 3 < 4 by decide) S1x128 u3 rfl rfl 384 rfl (ix2 0 d) (hx d) (show (col 3 d).val = 384 + d.val from rfl)).trans (h3 d)

/-! ## One launch of the body -/

theorem out_A5 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S4x128x128 .f32) (harg6 : arg6.IsWhole) (arg7 : Memref sig .tc .vmem S1x512 .f32) (harg7 : arg7.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (x0 : Vec Ideal S256x512 .f32) (x1 : Vec Ideal S256x512 .bf16) (x2 : Vec Ideal S4x128x128 .f32) (x3 : Vec Ideal S1x512 .f32) :
    out0_A_5 (F := Ideal) c i arg1 harg1 arg2 harg2 arg3 harg3 arg4 harg4 arg5 harg5 arg6 harg6 arg7 harg7 hc0 hc1 hc2 hc3 hc4 hc5 hc6 hc7 hc8 hc9 x0 x1 x2 x3 = linPart x0 x1 x3 := by
  funext y
  have hcov := cover0_A_5 (F := Ideal) c i arg1 harg1 arg2 harg2 arg3 harg3 arg4 harg4 arg5 harg5 arg6 harg6 arg7 harg7 hc0 hc1 hc2 hc3 hc4 hc5 hc6 hc7 hc8 hc9 x0 x1 x2 x3 y
  unfold out0_A_5
  rw [View.read_writes_eq_canon _ _ _ (cover0_A_5 c i arg1 harg1 arg2 harg2 arg3 harg3 arg4 harg4 arg5 harg5 arg6 harg6 arg7 harg7 hc0 hc1 hc2 hc3 hc4 hc5 hc6 hc7 hc8 hc9 x0 x1 x2 x3)]
  revert hcov
  unfold kernelRun0_A
  dsimp only
  sl_unfold_words
  simp only [View.readAt_eq_ld, harg1.read_unread, harg2.read_unread, harg3.read_unread, harg4.read_unread, harg6.read_unread, harg7.read_unread]
  intro hcov
  refine View.canon_apply_of_pieces (linPart x0 x1 x3) _ ?_ y hcov
  intro p hp
  simp only [List.mem_cons, List.not_mem_nil, or_false] at hp
  rcases hp with rfl | rfl | rfl | rfl
  · exact fun x => lin_first x0 x1 x3 3 384 3 rfl rfl inb_S256x512_S256x128_0_384 inb_S1x512_S1x128_0_384 inb_S4x128x128_S1x128x128_3_0_0 x
  · exact fun x => lin_first x0 x1 x3 2 256 2 rfl rfl inb_S256x512_S256x128_0_256 inb_S1x512_S1x128_0_256 inb_S4x128x128_S1x128x128_2_0_0 x
  · exact fun x => lin_first x0 x1 x3 1 128 1 rfl rfl inb_S256x512_S256x128_0_128 inb_S1x512_S1x128_0_128 inb_S4x128x128_S1x128x128_1_0_0 x
  · exact fun x => lin_first x0 x1 x3 0 0 0 rfl rfl inb_S256x512_S256x128_0_0 inb_S1x512_S1x128_0_0 inb_S4x128x128_S1x128x128_0_0_0 x

theorem out_B5 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S4x128x128 .f32) (harg6 : arg6.IsWhole) (arg7 : Memref sig .tc .vmem S1x512 .f32) (harg7 : arg7.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (x0 : Vec Ideal S256x512 .f32) (x1 : Vec Ideal S256x512 .bf16) (x2 : Vec Ideal S4x128x128 .f32) (x3 : Vec Ideal S1x512 .f32) (xo5 : Vec Ideal S4x128x128 .f32) (xo6 : Vec Ideal S1x512 .f32) :
    out0_B_5 (F := Ideal) c i arg1 harg1 arg2 harg2 arg3 harg3 arg4 harg4 arg5 harg5 arg6 harg6 arg7 harg7 hc0 hc1 hc2 hc3 hc4 hc5 hc6 hc7 hc8 hc9 x0 x1 x2 x3 xo5 xo6 = fun y => (xo5 y : EReal) + linPart x0 x1 x3 y := by
  funext y
  have hcov := cover0_B_5 (F := Ideal) c i arg1 harg1 arg2 harg2 arg3 harg3 arg4 harg4 arg5 harg5 arg6 harg6 arg7 harg7 hc0 hc1 hc2 hc3 hc4 hc5 hc6 hc7 hc8 hc9 x0 x1 x2 x3 xo5 xo6 y
  unfold out0_B_5
  rw [View.read_writes_eq_canon _ _ _ (cover0_B_5 c i arg1 harg1 arg2 harg2 arg3 harg3 arg4 harg4 arg5 harg5 arg6 harg6 arg7 harg7 hc0 hc1 hc2 hc3 hc4 hc5 hc6 hc7 hc8 hc9 x0 x1 x2 x3 xo5 xo6)]
  revert hcov
  unfold kernelRun0_B
  dsimp only
  sl_unfold_words
  simp only [View.readAt_eq_ld, harg1.read_unread, harg2.read_unread, harg3.read_unread, harg4.read_unread, harg6.read_unread, harg7.read_unread]
  intro hcov
  refine View.canon_apply_of_pieces (fun y => (xo5 y : EReal) + linPart x0 x1 x3 y) _ ?_ y hcov
  intro p hp
  simp only [List.mem_cons, List.not_mem_nil, or_false] at hp
  rcases hp with rfl | rfl | rfl | rfl
  · exact fun x => lin_next x0 x1 x3 xo5 3 384 3 rfl rfl inb_S256x512_S256x128_0_384 inb_S1x512_S1x128_0_384 inb_S4x128x128_S1x128x128_3_0_0 x
  · exact fun x => lin_next x0 x1 x3 xo5 2 256 2 rfl rfl inb_S256x512_S256x128_0_256 inb_S1x512_S1x128_0_256 inb_S4x128x128_S1x128x128_2_0_0 x
  · exact fun x => lin_next x0 x1 x3 xo5 1 128 1 rfl rfl inb_S256x512_S256x128_0_128 inb_S1x512_S1x128_0_128 inb_S4x128x128_S1x128x128_1_0_0 x
  · exact fun x => lin_next x0 x1 x3 xo5 0 0 0 rfl rfl inb_S256x512_S256x128_0_0 inb_S1x512_S1x128_0_0 inb_S4x128x128_S1x128x128_0_0_0 x

theorem out_A6 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S4x128x128 .f32) (harg6 : arg6.IsWhole) (arg7 : Memref sig .tc .vmem S1x512 .f32) (harg7 : arg7.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (x0 : Vec Ideal S256x512 .f32) (x1 : Vec Ideal S256x512 .bf16) (x2 : Vec Ideal S4x128x128 .f32) (x3 : Vec Ideal S1x512 .f32) :
    out0_A_6 (F := Ideal) c i arg1 harg1 arg2 harg2 arg3 harg3 arg4 harg4 arg5 harg5 arg6 harg6 arg7 harg7 hc0 hc1 hc2 hc3 hc4 hc5 hc6 hc7 hc8 hc9 x0 x1 x2 x3 = scalePart x0 x1 x2 := by
  funext y
  have hcov := cover0_A_6 (F := Ideal) c i arg1 harg1 arg2 harg2 arg3 harg3 arg4 harg4 arg5 harg5 arg6 harg6 arg7 harg7 hc0 hc1 hc2 hc3 hc4 hc5 hc6 hc7 hc8 hc9 x0 x1 x2 x3 y
  unfold out0_A_6
  rw [View.read_writes_eq_canon _ _ _ (cover0_A_6 c i arg1 harg1 arg2 harg2 arg3 harg3 arg4 harg4 arg5 harg5 arg6 harg6 arg7 harg7 hc0 hc1 hc2 hc3 hc4 hc5 hc6 hc7 hc8 hc9 x0 x1 x2 x3)]
  revert hcov
  unfold kernelRun0_A
  dsimp only
  sl_unfold_words
  simp only [View.readAt_eq_ld, harg1.read_unread, harg2.read_unread, harg3.read_unread, harg4.read_unread, harg6.read_unread, harg7.read_unread]
  intro hcov
  clear hcov
  rw [View.canon_unit_zero at00]
  obtain ⟨q, rfl⟩ : ∃ q : Fin 512, y = ix2 (0 : Fin 1) q := ⟨y 1, funext fun a => by
    match a with
    | ⟨0, _⟩ => exact Fin.ext (by have : (y 0).val < 1 := (y 0).isLt; show (y 0).val = 0; omega)
    | ⟨1, _⟩ => rfl⟩
  exact cat4 _ _ _ _ (fun q => scalePart x0 x1 x2 (ix2 0 q)) (fun d => scale_group x0 x1 x2 0 0 0 rfl rfl _ _ d) (fun d => scale_group x0 x1 x2 1 128 1 rfl rfl _ _ d) (fun d => scale_group x0 x1 x2 2 256 2 rfl rfl _ _ d) (fun d => scale_group x0 x1 x2 3 384 3 rfl rfl _ _ d) q

theorem out_B6 (c : Dev nD) (i : grid0.Coords) (arg1 : Memref sig .tc .vmem S256x512 .f32) (harg1 : arg1.IsWhole) (arg2 : Memref sig .tc .vmem S256x512 .bf16) (harg2 : arg2.IsWhole) (arg3 : Memref sig .tc .vmem S4x128x128 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S4x128x128 .f32) (harg6 : arg6.IsWhole) (arg7 : Memref sig .tc .vmem S1x512 .f32) (harg7 : arg7.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (x0 : Vec Ideal S256x512 .f32) (x1 : Vec Ideal S256x512 .bf16) (x2 : Vec Ideal S4x128x128 .f32) (x3 : Vec Ideal S1x512 .f32) (xo5 : Vec Ideal S4x128x128 .f32) (xo6 : Vec Ideal S1x512 .f32) :
    out0_B_6 (F := Ideal) c i arg1 harg1 arg2 harg2 arg3 harg3 arg4 harg4 arg5 harg5 arg6 harg6 arg7 harg7 hc0 hc1 hc2 hc3 hc4 hc5 hc6 hc7 hc8 hc9 x0 x1 x2 x3 xo5 xo6 = fun y => (xo6 y : EReal) + scalePart x0 x1 x2 y := by
  funext y
  have hcov := cover0_B_6 (F := Ideal) c i arg1 harg1 arg2 harg2 arg3 harg3 arg4 harg4 arg5 harg5 arg6 harg6 arg7 harg7 hc0 hc1 hc2 hc3 hc4 hc5 hc6 hc7 hc8 hc9 x0 x1 x2 x3 xo5 xo6 y
  unfold out0_B_6
  rw [View.read_writes_eq_canon _ _ _ (cover0_B_6 c i arg1 harg1 arg2 harg2 arg3 harg3 arg4 harg4 arg5 harg5 arg6 harg6 arg7 harg7 hc0 hc1 hc2 hc3 hc4 hc5 hc6 hc7 hc8 hc9 x0 x1 x2 x3 xo5 xo6)]
  revert hcov
  unfold kernelRun0_B
  dsimp only
  sl_unfold_words
  simp only [View.readAt_eq_ld, harg1.read_unread, harg2.read_unread, harg3.read_unread, harg4.read_unread, harg6.read_unread, harg7.read_unread]
  intro hcov
  clear hcov
  rw [View.canon_unit_zero at00]
  obtain ⟨q, rfl⟩ : ∃ q : Fin 512, y = ix2 (0 : Fin 1) q := ⟨y 1, funext fun a => by
    match a with
    | ⟨0, _⟩ => exact Fin.ext (by have : (y 0).val < 1 := (y 0).isLt; show (y 0).val = 0; omega)
    | ⟨1, _⟩ => rfl⟩
  unfold k0_pay3
  refine congrArg₂ (fun u v : EReal => u + v) ?_ (cat4 _ _ _ _ (fun q => scalePart x0 x1 x2 (ix2 0 q)) (fun d => scale_group x0 x1 x2 0 0 0 rfl rfl _ _ d) (fun d => scale_group x0 x1 x2 1 128 1 rfl rfl _ _ d) (fun d => scale_group x0 x1 x2 2 256 2 rfl rfl _ _ d) (fun d => scale_group x0 x1 x2 3 384 3 rfl rfl _ _ d) q)
  exact (congrFun (shapeCast_self _ _) _).trans (congrFun (View.ld_unit_zero (S := S1x512) at00 _ _) _)

variable (m : (ℓ : Loc nD τ sig) → Buf (Elt Ideal) ℓ) (ρ : Dev nD → PrngReg)

/-! ## The arguments and the blocks of them a point reads -/

abbrev arg0 (c : Dev nD) : Mat 8192 512 := m ((c : Thread nD τ).loc main_arg0)
abbrev arg1 (c : Dev nD) : Mat 8192 512 := m ((c : Thread nD τ).loc main_arg1)
abbrev arg2 (c : Dev nD) : Stack 4 128 128 := m ((c : Thread nD τ).loc main_arg2)
abbrev arg3 (c : Dev nD) : (⟨1, ![512]⟩ : Shape).Idx → EReal := m ((c : Thread nD τ).loc main_arg3)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The host's cast of the pooled values is the identity here. -/
theorem host0 (c : Dev nD) (i : S8192x512.Idx) : V m c main_v0 i = arg1 m c i := by
  have e : V m c main_v0 = truncf (F := Ideal) FTy.bf16 (m (c, Proc.tc.devRef main_arg1) : Vec Ideal S8192x512 .f32) bitsLt_bf16_f32 := by
    unfold V; after_reads_simp
  rw [e]
  rfl

/-- The host hands the scale as one row. -/
theorem host1 (c : Dev nD) (q : Fin 512) : V m c main_v1 (ix2 0 q) = arg3 m c (ix1 q) := by
  have e : V m c main_v1 = broadcastInDim S1x512 ![1] bcast_S512_S1x512_1 (m (c, Proc.tc.devRef main_arg3) : Vec Ideal S512 .f32) := by
    unfold V; after_reads_simp
  rw [e]
  exact broadcastInDim_apply _ bcast_S512_S1x512_1 _ (ix2 0 q) (ix1 q) fun a => by
    match a with
    | ⟨0, _⟩ => show q.val = if (512 : Nat) = 1 then 0 else q.val; rw [if_neg (by decide)]

theorem block0 (c : Dev nD) (t : Fin cfg0.N) (i : Fin 32) (ht : t.val = i.val) (p : Fin 256) (q : Fin 512) :
    (iblk m c 0 t : Vec Ideal S256x512 .f32) (ix2 p q) = arg0 m c (ix2 ⟨256 * i.val + p.val, block_lt rfl i p⟩ q) := by
  have h := index0 t
  unfold iblk
  rw [View.read_apply]
  refine (congrArg (V m c main_arg0) (funext fun a => Fin.ext ?_)).trans (congrFun (V_main_arg0 m c) _)
  match a with
  | ⟨0, _⟩ => show win0_0.index t 0 * 256 + 1 * p.val = 256 * i.val + p.val; rw [h.1]; omega
  | ⟨1, _⟩ => show win0_0.index t 1 * 512 + 1 * q.val = q.val; rw [h.2]; omega

theorem block1 (c : Dev nD) (t : Fin cfg0.N) (i : Fin 32) (ht : t.val = i.val) (p : Fin 256) (q : Fin 512) :
    (iblk m c 1 t : Vec Ideal S256x512 .bf16) (ix2 p q) = arg1 m c (ix2 ⟨256 * i.val + p.val, block_lt rfl i p⟩ q) := by
  have h := index1 t
  unfold iblk
  rw [View.read_apply]
  refine (congrArg (V m c main_v0) (funext fun a => Fin.ext ?_)).trans (host0 m c _)
  match a with
  | ⟨0, _⟩ => show win0_1.index t 0 * 256 + 1 * p.val = 256 * i.val + p.val; rw [h.1]; omega
  | ⟨1, _⟩ => show win0_1.index t 1 * 512 + 1 * q.val = q.val; rw [h.2]; omega

theorem block2 (c : Dev nD) (t : Fin cfg0.N) (g : Fin 4) (k d : Fin 128) :
    (iblk m c 2 t : Vec Ideal S4x128x128 .f32) (ix3 g k d) = arg2 m c (ix3 g k d) := by
  have h := index2 t
  unfold iblk
  rw [View.read_apply]
  refine (congrArg (V m c main_arg2) (funext fun a => Fin.ext ?_)).trans (congrFun (V_main_arg2 m c) _)
  match a with
  | ⟨0, _⟩ => show win0_2.index t 0 * 4 + 1 * g.val = g.val; rw [h.1]; omega
  | ⟨1, _⟩ => show win0_2.index t 1 * 128 + 1 * k.val = k.val; rw [h.2.1]; omega
  | ⟨2, _⟩ => show win0_2.index t 2 * 128 + 1 * d.val = d.val; rw [h.2.2]; omega

theorem block3 (c : Dev nD) (t : Fin cfg0.N) (q : Fin 512) :
    (iblk m c 3 t : Vec Ideal S1x512 .f32) (ix2 0 q) = arg3 m c (ix1 q) := by
  have h := index3 t
  unfold iblk
  rw [View.read_apply]
  refine (congrArg (V m c main_v1) (funext fun a => Fin.ext ?_)).trans (host1 m c q)
  match a with
  | ⟨0, _⟩ => show win0_3.index t 0 * 1 + 1 * 0 = 0; rw [h.1]
  | ⟨1, _⟩ => show win0_3.index t 1 * 512 + 1 * q.val = q.val; rw [h.2]; omega

/-! ## The points -/

/-- A point's part of the mixing matrices' gradient. -/
def linAt (c : Dev nD) (t : Fin cfg0.N) : Stack 4 128 128 := linPart (iblk m c 0 t) (iblk m c 1 t) (iblk m c 3 t)
/-- A point's part of the scale's gradient. -/
def scaleAt (c : Dev nD) (t : Fin cfg0.N) : Mat 1 512 := scalePart (iblk m c 0 t) (iblk m c 1 t) (iblk m c 2 t)

theorem outs_first (c : Dev nD) (t : Fin cfg0.N) (h0 : t.val % 32 = 0) (h1 : ¬1 ≤ t.val) : (outsAt0 m c t.val t.isLt).2 = (linAt m c t, scaleAt m c t) := by
  rw [outsAt0_A m c t h0 h1 h0 h1 h0 h1 h0 h1 h0 h1]
  dsimp only
  exact congrArg₂ Prod.mk (out_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) ((hcond0_2 t).mpr h0) (fun h => h1 ((hcond0_3 t).mp h)) ((hcond0_4 t).mpr h0) (fun h => h1 ((hcond0_5 t).mp h)) ((hcond0_6 t).mpr h0) (fun h => h1 ((hcond0_7 t).mp h)) ((hcond0_8 t).mpr h0) (fun h => h1 ((hcond0_9 t).mp h)) (iblk m c 0 t) (iblk m c 1 t) (iblk m c 2 t) (iblk m c 3 t)) (out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) ((hcond0_2 t).mpr h0) (fun h => h1 ((hcond0_3 t).mp h)) ((hcond0_4 t).mpr h0) (fun h => h1 ((hcond0_5 t).mp h)) ((hcond0_6 t).mpr h0) (fun h => h1 ((hcond0_7 t).mp h)) ((hcond0_8 t).mpr h0) (fun h => h1 ((hcond0_9 t).mp h)) (iblk m c 0 t) (iblk m c 1 t) (iblk m c 2 t) (iblk m c 3 t))

theorem outs_next (c : Dev nD) (t : Fin cfg0.N) (h0 : ¬t.val % 32 = 0) (h1 : 1 ≤ t.val) :
    (outsAt0 m c t.val t.isLt).2 = (fun i => ((outsAt0 m c (t.val - 1) (Nat.lt_of_le_of_lt (Nat.sub_le _ _) t.isLt)).2.1 i : EReal) + linAt m c t i, fun i => ((outsAt0 m c (t.val - 1) (Nat.lt_of_le_of_lt (Nat.sub_le _ _) t.isLt)).2.2 i : EReal) + scaleAt m c t i) := by
  rw [outsAt0_B m c t h0 h1 h0 h1 h0 h1 h0 h1 h0 h1]
  dsimp only
  exact congrArg₂ Prod.mk (out_B5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h0 ((hcond0_6 t).mp h)) ((hcond0_7 t).mpr h1) (fun h => h0 ((hcond0_8 t).mp h)) ((hcond0_9 t).mpr h1) (iblk m c 0 t) (iblk m c 1 t) (iblk m c 2 t) (iblk m c 3 t) ((outsAt0 m c (t.val - 1) (Nat.lt_of_le_of_lt (Nat.sub_le _ _) t.isLt)).2.1) ((outsAt0 m c (t.val - 1) (Nat.lt_of_le_of_lt (Nat.sub_le _ _) t.isLt)).2.2)) (out_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h0 ((hcond0_6 t).mp h)) ((hcond0_7 t).mpr h1) (fun h => h0 ((hcond0_8 t).mp h)) ((hcond0_9 t).mpr h1) (iblk m c 0 t) (iblk m c 1 t) (iblk m c 2 t) (iblk m c 3 t) ((outsAt0 m c (t.val - 1) (Nat.lt_of_le_of_lt (Nat.sub_le _ _) t.isLt)).2.1) ((outsAt0 m c (t.val - 1) (Nat.lt_of_le_of_lt (Nat.sub_le _ _) t.isLt)).2.2))

/-- The carried sums after point `n`: the parts up to `n`. -/
theorem outs (c : Dev nD) : ∀ (n : ℕ) (h : n < cfg0.N), (outsAt0 m c n h).2
      = (fun i => ∑ s : Fin (n + 1), linAt m c ⟨s.val, by omega⟩ i, fun i => ∑ s : Fin (n + 1), scaleAt m c ⟨s.val, by omega⟩ i)
  | 0, h => by
    refine (outs_first m c ⟨0, h⟩ rfl (Nat.not_succ_le_zero 0)).trans (congrArg₂ Prod.mk (funext fun i => ?_) (funext fun i => ?_))
    · rw [Fin.sum_univ_one]; rfl
    · rw [Fin.sum_univ_one]; rfl
  | n + 1, h => by
    have hN : cfg0.N = 32 := N_0
    have ih := outs c n (Nat.lt_of_succ_lt h)
    refine (outs_next m c ⟨n + 1, h⟩ (by dsimp only; omega) (Nat.le_add_left _ _)).trans (congrArg₂ Prod.mk (funext fun i => ?_) (funext fun i => ?_))
    · rw [Fin.sum_univ_castSucc]
      exact congrArg₂ (fun u v : EReal => u + v) (congrFun (congrArg Prod.fst ih) i) rfl
    · rw [Fin.sum_univ_castSucc]
      exact congrArg₂ (fun u v : EReal => u + v) (congrFun (congrArg Prod.snd ih) i) rfl

/-! ## The arrays after the run -/

/-- What the last point writes back of the matrices' gradient. -/
def linSum (c : Dev nD) : Stack 4 128 128 := fun i => ∑ s : Fin 32, linAt m c ⟨s.val, by have hN : cfg0.N = 32 := N_0; omega⟩ i
/-- What it writes back of the scale's. -/
def scaleSum (c : Dev nD) : Mat 1 512 := fun i => ∑ s : Fin 32, scaleAt m c ⟨s.val, by have hN : cfg0.N = 32 := N_0; omega⟩ i

theorem outs_last (c : Dev nD) (n : ℕ) (h : n < cfg0.N) (hn : n = 31) : (outsAt0 m c n h).2 = (linSum m c, scaleSum m c) := by
  rw [outs]
  subst hn
  rfl

theorem flushed_eq5 (c : Dev nD) (t : Fin cfg0.N) (hf : (cfg0.win 5).flush t = true) :
    (dats m 0 c).flushed 5 t = ((cfg0.win 5).blk t).view.read (Elt Ideal) (linSum m c) := by
  have hN : cfg0.N = 32 := N_0
  have h := index5 t
  have hl : t.val = 31 := by have := (flush0_5 t).mp hf; have := t.isLt; omega
  have e : (outsAt0 m c t.val t.isLt).2.1 = linSum m c := congrArg Prod.fst (outs_last m c t.val t.isLt hl)
  show (cfg0.win 5).cut (grid0.coords t) ((dats m 0 c).after 5 t) = _
  rw [after0_5, e]
  funext y
  rw [View.read_apply]
  show linSum m c y = linSum m c (((cfg0.win 5).blk t).view.emb y)
  have hy : ((cfg0.win 5).blk t).view.emb y = y := funext fun a => Fin.ext (by
    match a with
    | ⟨0, _⟩ => show win0_5.index t 0 * 4 + 1 * (y 0).val = (y 0).val; rw [h.1]; omega
    | ⟨1, _⟩ => show win0_5.index t 1 * 128 + 1 * (y 1).val = (y 1).val; rw [h.2.1]; omega
    | ⟨2, _⟩ => show win0_5.index t 2 * 128 + 1 * (y 2).val = (y 2).val; rw [h.2.2]; omega)
  rw [hy]

theorem final5 (c : Dev nD) : (dats m 0 c).arrAt 5 cfg0.N = (linSum m c : Buf (Elt Ideal) ((c : Thread nD τ).loc main_v2_1)) :=
  (dats m 0 c).arrAt_eq_of_cover 5 _ (flushed_eq5 m c) fun i => by
    have hN : cfg0.N = 32 := N_0
    have b0 : (i 0 : Nat) < 4 := (i 0).isLt
    have b1 : (i 1 : Nat) < 128 := (i 1).isLt
    have b2 : (i 2 : Nat) < 128 := (i 2).isLt
    let t : Fin cfg0.N := ⟨31, by rw [hN]; omega⟩
    refine ⟨t, (flush0_5 t).mpr rfl, ?_⟩
    have h := index5 t
    show i ∈ ((View.whole main_v2_1).slice (win0_5.rect t)).set
    rw [View.set_slice_whole, Rect.mem_set_unit]
    intro a
    match a with
    | ⟨0, _⟩ => show win0_5.index t 0 * 4 ≤ (i 0 : Nat) ∧ (i 0 : Nat) < win0_5.index t 0 * 4 + 4; rw [h.1]; omega
    | ⟨1, _⟩ => show win0_5.index t 1 * 128 ≤ (i 1 : Nat) ∧ (i 1 : Nat) < win0_5.index t 1 * 128 + 128; rw [h.2.1]; omega
    | ⟨2, _⟩ => show win0_5.index t 2 * 128 ≤ (i 2 : Nat) ∧ (i 2 : Nat) < win0_5.index t 2 * 128 + 128; rw [h.2.2]; omega

theorem flushed_eq6 (c : Dev nD) (t : Fin cfg0.N) (hf : (cfg0.win 6).flush t = true) :
    (dats m 0 c).flushed 6 t = ((cfg0.win 6).blk t).view.read (Elt Ideal) (scaleSum m c) := by
  have hN : cfg0.N = 32 := N_0
  have h := index6 t
  have hl : t.val = 31 := by have := (flush0_6 t).mp hf; have := t.isLt; omega
  have e : (outsAt0 m c t.val t.isLt).2.2 = scaleSum m c := congrArg Prod.snd (outs_last m c t.val t.isLt hl)
  show (cfg0.win 6).cut (grid0.coords t) ((dats m 0 c).after 6 t) = _
  rw [after0_6, e]
  funext y
  rw [View.read_apply]
  show scaleSum m c y = scaleSum m c (((cfg0.win 6).blk t).view.emb y)
  have hy : ((cfg0.win 6).blk t).view.emb y = y := funext fun a => Fin.ext (by
    match a with
    | ⟨0, _⟩ => show win0_6.index t 0 * 1 + 1 * (y 0).val = (y 0).val; rw [h.1]; omega
    | ⟨1, _⟩ => show win0_6.index t 1 * 512 + 1 * (y 1).val = (y 1).val; rw [h.2]; omega)
  rw [hy]

theorem final6 (c : Dev nD) : (dats m 0 c).arrAt 6 cfg0.N = (scaleSum m c : Buf (Elt Ideal) ((c : Thread nD τ).loc main_v2_2)) :=
  (dats m 0 c).arrAt_eq_of_cover 6 _ (flushed_eq6 m c) fun i => by
    have hN : cfg0.N = 32 := N_0
    have b0 : (i 0 : Nat) < 1 := (i 0).isLt
    have b1 : (i 1 : Nat) < 512 := (i 1).isLt
    let t : Fin cfg0.N := ⟨31, by rw [hN]; omega⟩
    refine ⟨t, (flush0_6 t).mpr rfl, ?_⟩
    have h := index6 t
    show i ∈ ((View.whole main_v2_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [h.1]; omega
    | ⟨1, _⟩ => show win0_6.index t 1 * 512 ≤ (i 1 : Nat) ∧ (i 1 : Nat) < win0_6.index t 1 * 512 + 512; rw [h.2]; omega

/-- The parts of 32 blocks of rows add up to the sum over all rows. -/
theorem lin_blocks (x0 : Fin 32 → Vec Ideal S256x512 .f32) (x1 : Fin 32 → Vec Ideal S256x512 .bf16) (x3 : Fin 32 → Vec Ideal S1x512 .f32) (X0 X1 : Mat 8192 512) (X3 : (⟨1, ![512]⟩ : Shape).Idx → EReal)
    (h0 : ∀ s p q, x0 s (ix2 p q) = X0 (ix2 ⟨256 * s.val + p.val, block_lt rfl s p⟩ q)) (h1 : ∀ s p q, x1 s (ix2 p q) = X1 (ix2 ⟨256 * s.val + p.val, block_lt rfl s p⟩ q))
    (h3 : ∀ s q, x3 s (ix2 0 q) = X3 (ix1 q)) (i : S4x128x128.Idx) :
    ∑ s : Fin 32, linPart (x0 s) (x1 s) (x3 s) i = linGrad (n := 8192) X0 X1 (fun q => X3 (ix1 q)) i := by
  refine Eq.trans ?_ (sum_cut (m := 32) (n := 256) rfl fun r : Fin 8192 => X1 (ix2 r (col (i 0) (i 1))) * (X0 (ix2 r (col (i 0) (i 2))) * X3 (ix1 (col (i 0) (i 2))))).symm
  refine Finset.sum_congr rfl fun s _ => ?_
  show ∑ p : Fin 256, (x1 s (ix2 p (col (i 0) (i 1))) : EReal) * ((x0 s (ix2 p (col (i 0) (i 2))) : EReal) * x3 s (ix2 0 (col (i 0) (i 2)))) = _
  refine Finset.sum_congr rfl fun p _ => ?_
  rw [h0, h1, h3]

theorem scale_blocks (x0 : Fin 32 → Vec Ideal S256x512 .f32) (x1 : Fin 32 → Vec Ideal S256x512 .bf16) (x2 : Fin 32 → Vec Ideal S4x128x128 .f32) (X0 X1 : Mat 8192 512) (X2 : Stack 4 128 128)
    (h0 : ∀ s p q, x0 s (ix2 p q) = X0 (ix2 ⟨256 * s.val + p.val, block_lt rfl s p⟩ q)) (h1 : ∀ s p q, x1 s (ix2 p q) = X1 (ix2 ⟨256 * s.val + p.val, block_lt rfl s p⟩ q))
    (h2 : ∀ s g k d, x2 s (ix3 g k d) = X2 (ix3 g k d)) (i : S1x512.Idx) :
    ∑ s : Fin 32, scalePart (x0 s) (x1 s) (x2 s) i = scaleGrad (n := 8192) X0 X1 X2 i := by
  refine Eq.trans ?_ (sum_cut (m := 32) (n := 256) rfl fun r : Fin 8192 => X0 (ix2 r (i 1)) * ∑ k : Fin 128, X1 (ix2 r (col (grp (i 1)) k)) * X2 (ix3 (grp (i 1)) k (chan (i 1)))).symm
  refine Finset.sum_congr rfl fun s _ => ?_
  show ∑ p : Fin 256, (x0 s (ix2 p (i 1)) : EReal) * ∑ k : Fin 128, (x1 s (ix2 p (col (grp (i 1)) k)) : EReal) * x2 s (ix3 (grp (i 1)) k (chan (i 1))) = _
  refine Finset.sum_congr rfl fun p _ => congrArg₂ (fun u v : EReal => u * v) (h0 s p _) (Finset.sum_congr rfl fun k _ => ?_)
  rw [h1, h2]

theorem linSum_eq (c : Dev nD) : linSum m c = linGrad (n := 8192) (arg0 m c) (arg1 m c) fun q => arg3 m c (ix1 q) := by
  have hN : cfg0.N = 32 := N_0
  exact funext fun i => lin_blocks (fun s => iblk m c 0 ⟨s.val, by omega⟩) (fun s => iblk m c 1 ⟨s.val, by omega⟩) (fun s => iblk m c 3 ⟨s.val, by omega⟩) (arg0 m c) (arg1 m c) (arg3 m c)
    (fun s => block0 m c ⟨s.val, by omega⟩ s rfl) (fun s => block1 m c ⟨s.val, by omega⟩ s rfl) (fun s => block3 m c ⟨s.val, by omega⟩) i

theorem scaleSum_eq (c : Dev nD) : scaleSum m c = scaleGrad (n := 8192) (arg0 m c) (arg1 m c) (arg2 m c) := by
  have hN : cfg0.N = 32 := N_0
  exact funext fun i => scale_blocks (fun s => iblk m c 0 ⟨s.val, by omega⟩) (fun s => iblk m c 1 ⟨s.val, by omega⟩) (fun s => iblk m c 2 ⟨s.val, by omega⟩) (arg0 m c) (arg1 m c) (arg2 m c)
    (fun s => block0 m c ⟨s.val, by omega⟩ s rfl) (fun s => block1 m c ⟨s.val, by omega⟩ s rfl) (fun s => block2 m c ⟨s.val, by omega⟩) i

/-- The call's run, read: its results as functions of the arguments, the arguments unchanged. -/
theorem run : θ_run defs (onTc (τ := τ) (main (F := Ideal))) ⟨m, fun _ => 0, ρ⟩ fun r => ∀ c : Dev nD,
      r.2.mem ((c : Thread nD τ).loc main_v2_1) = linGrad (n := 8192) (arg0 m c) (arg1 m c) (fun q => arg3 m c (ix1 q))
      ∧ r.2.mem ((c : Thread nD τ).loc main_v2_2) = scaleGrad (n := 8192) (arg0 m c) (arg1 m c) (arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2.1.trans ((final5 m c).trans (linSum_eq m c)),
      (h c).2.2.1.trans ((final6 m c).trans (scaleSum_eq m c)), (h c).2.2.2⟩)
    (run_blocks m ρ)

end Cert.PoolBwdIdeal.Val

namespace Cert.PoolBwdReferenceIdeal.Val

open Idealize.ShloMosaic Idealize.ShloMosaic.TcCoe Idealize.ShloMosaic.ValueIdx Idealize.SL.Sem
open Cert.PoolBwdReferenceIdeal Cert.PoolBwdReferenceIdeal.Gen Cert.PoolBwdReferenceIdeal.Read Cert.Prods
open Cert.MixBwd (Mat Stack)
open Cert.PoolBwdIdeal.Val (linGrad scaleGrad col grp chan)

/-- The matrices' gradient of the reference. -/
theorem lin_eq (x0 x1 : Mat 8192 512) (x3 : (⟨1, ![512]⟩ : Shape).Idx → EReal) :
    val_main_v16 (F := Ideal) x0 x1 x3 = linGrad (n := 8192) x0 x1 fun q => x3 (ix1 q) := by
  funext i
  have b0 : (i 0).val < 4 := (i 0).isLt
  have b1 : (i 1).val < 128 := (i 1).isLt
  have b2 : (i 2).val < 128 := (i 2).isLt
  rw [val_main_v16_apply, val_main_v15_apply]
  refine Finset.sum_congr rfl fun r _ => ?_
  have br := r.isLt
  rw [val_main_v14_apply, val_main_v13_apply, val_main_v11_apply, val_main_v10_apply, val_main_v4_apply, val_main_v0_apply]
  refine (mul_comm _ _).trans (congrArg₂ (fun u v : EReal => u * v) (congrArg x1 (funext fun a => Fin.ext ?_)) (congrArg₂ (fun u v : EReal => u * v) (congrArg x0 (funext fun a => Fin.ext ?_)) (congrArg x3 (funext fun a => Fin.ext ?_))))
  · match a with
    | ⟨0, _⟩ => show ((r.val * 4 + (i 0).val) * 128 + (i 1).val) / 512 = r.val; omega
    | ⟨1, _⟩ => show ((r.val * 4 + (i 0).val) * 128 + (i 1).val) % 512 = 128 * (i 0).val + (i 1).val; omega
  · match a with
    | ⟨0, _⟩ => show ((r.val * 4 + (i 0).val) * 128 + (i 2).val) / 512 = r.val; omega
    | ⟨1, _⟩ => show ((r.val * 4 + (i 0).val) * 128 + (i 2).val) % 512 = 128 * (i 0).val + (i 2).val; omega
  · match a with
    | ⟨0, _⟩ => show ((r.val * 4 + (i 0).val) * 128 + (i 2).val) % 512 = 128 * (i 0).val + (i 2).val; omega

/-- The scale's gradient of the reference. -/
theorem scale_eq (x0 x1 : Mat 8192 512) (x2 : Stack 4 128 128) :
    val_main_v17 (F := Ideal) x0 x1 x2 = scaleGrad (n := 8192) x0 x1 x2 := by
  funext i
  have b1 : (i 1).val < 512 := (i 1).isLt
  rw [val_main_v17_apply, val_main_v12_apply, Fin.sum_univ_one, val_main_v9_apply, val_main_v8_apply, val_main_cst_apply, val_main_cst_0_apply]
  show Ideal.ofBits .f32 0x00000000#32 + (Ideal.ofBits .f32 0x00000000#32 + _) = _
  rw [Ideal.ofBits_zero_f32, zero_add, zero_add]
  refine Finset.sum_congr rfl fun r _ => ?_
  have br := r.isLt
  rw [val_main_v7_apply, val_main_v3_apply, val_main_v2_apply, val_main_v1_apply]
  refine (mul_comm _ _).trans (congrArg₂ (fun u v : EReal => u * v) (congrArg x0 (funext fun a => Fin.ext ?_)) (Finset.sum_congr rfl fun k _ => ?_))
  · match a with
    | ⟨0, _⟩ => rfl
    | ⟨1, _⟩ => show 0 * 512 + (i 1).val = (i 1).val; omega
  · have bk := k.isLt
    rw [val_main_v0_apply]
    refine (mul_comm _ _).trans (congrArg₂ (fun u v : EReal => u * v) (congrArg x1 (funext fun a => Fin.ext ?_)) (congrArg x2 (funext fun a => Fin.ext ?_)))
    · match a with
      | ⟨0, _⟩ => show (((r.val * 512 + (0 * 512 + (i 1).val)) / 512 * 4 + (r.val * 512 + (0 * 512 + (i 1).val)) / 128 % 4) * 128 + k.val) / 512 = r.val; omega
      | ⟨1, _⟩ => show (((r.val * 512 + (0 * 512 + (i 1).val)) / 512 * 4 + (r.val * 512 + (0 * 512 + (i 1).val)) / 128 % 4) * 128 + k.val) % 512 = 128 * ((i 1).val / 128) + k.val; omega
    · match a with
      | ⟨0, _⟩ => show (r.val * 512 + (0 * 512 + (i 1).val)) / 128 % 4 = (i 1).val / 128; omega
      | ⟨1, _⟩ => rfl
      | ⟨2, _⟩ => show (r.val * 512 + (0 * 512 + (i 1).val)) % 128 = (i 1).val % 128; omega

variable (m : (ℓ : Loc nD τ sig) → Buf (Elt Ideal) ℓ) (ρ : Dev nD → PrngReg)

/-- The reference's run, read: the same functions of the arguments, the arguments unchanged. -/
theorem run : θ_run defs (onTc (τ := τ) (main (F := Ideal))) ⟨m, fun _ => 0, ρ⟩ fun r => ∀ c : Dev nD,
      r.2.mem ((c : Thread nD τ).loc main_v16) = linGrad (n := 8192) (m ((c : Thread nD τ).loc main_arg0)) (m ((c : Thread nD τ).loc main_arg1)) (fun q => (m ((c : Thread nD τ).loc main_arg3) : (⟨1, ![512]⟩ : Shape).Idx → EReal) (ix1 q))
      ∧ r.2.mem ((c : Thread nD τ).loc main_v17) = scaleGrad (n := 8192) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (val_main_v16_eq _ _ _)).trans (lin_eq _ _ _),
      ((h c).2.1.trans (val_main_v17_eq _ _ _)).trans (scale_eq _ _ _), (h c).2.2⟩)
    (Cert.PoolBwdReferenceIdeal.Value.run m ρ)

end Cert.PoolBwdReferenceIdeal.Val

end
-- ==== Proof.PoolBwdClaims.lean ====
/-
  The claims about the call `PoolBwd`, from one run of each program: the frames, and the equality of the kernel's
  results with the reference's at the ideal instance.
-/
module

public import proofs.«01_k».proof.Defs
public import proofs.«01_k».proof.Proof.PoolBwd
public import proofs.«01_k».proof.Proof.Gen.PoolBwd
public import proofs.«01_k».proof.Proof.Gen.PoolBwd.Frame
public import proofs.«01_k».proof.Proof.Gen.PoolBwdIdeal.Frame
public import proofs.«01_k».proof.Proof.Gen.PoolBwdReferenceIdeal.Run
public import Idealize.ShloMosaic.Adequacy
public import Idealize.ShloMosaic.Init

@[expose] public section

set_option maxRecDepth 16384

noncomputable section

namespace Cert.Proof.PoolBwdClaims

open Idealize.ShloMosaic Idealize.ShloMosaic.TcCoe Idealize.SL.Sem

/-- The kernel runs and leaves its arguments unchanged. -/
theorem frame_kernel : Cert.quiescent_PoolBwd (hPoolBwd := Cert.PoolBwd.Gen.facts) := fun m ρ _ => Cert.PoolBwd.Gen.frame m ρ

/-- So does its ideal reading, -/
theorem frame_ideal : Cert.quiescent_PoolBwdIdeal (hPoolBwdIdeal := Cert.PoolBwdIdeal.Gen.facts) := fun m ρ _ => Cert.PoolBwdIdeal.Gen.frame m ρ

/-- and so does the reference. -/
theorem frame_reference : Cert.quiescent_PoolBwdReferenceIdeal (hPoolBwdReferenceIdeal := Cert.PoolBwdReferenceIdeal.Gen.facts) := fun m ρ _ =>
  (θ_run Cert.PoolBwdReferenceIdeal.defs _ _).mono (fun r h => ⟨fun c => (h c).2.2, sem_eq_zero_of_no_sems (by decide) r.2⟩)
    (Cert.PoolBwdReferenceIdeal.Value.run m ρ)

/-- The kernel's results are the reference's. -/
theorem algebraic : Cert.algebraic_PoolBwdIdeal_PoolBwdReferenceIdeal (hPoolBwdIdeal := Cert.PoolBwdIdeal.Gen.facts) (hPoolBwdReferenceIdeal := Cert.PoolBwdReferenceIdeal.Gen.facts) := by
  intro m ρ m' ρ' _ hag
  refine ⟨_, _, Cert.PoolBwdIdeal.Val.run m ρ, (θ_run _ _ _).mono (fun _ h c => ?_) (Cert.PoolBwdReferenceIdeal.Val.run m' ρ')⟩
  have hc := h c
  obtain ⟨e0, e1, e2, e3⟩ := hag c
  rw [e0, e1, e2, e3] at hc
  obtain ⟨h0, h1, h2, h3, h4, h5⟩ := hc
  exact ⟨h0, h1, h2.trans e0.symm, h3.trans e1.symm, h4.trans e2.symm, h5.trans e3.symm⟩

end Cert.Proof.PoolBwdClaims

end
-- ==== Proof.lean ====
/- The proof of the certificate's claims, gathered from the modules Proof/…Claims.lean, one for each call. -/
module

public import proofs.«01_k».proof.Defs
public import proofs.«01_k».proof.Proof.MixClaims
public import proofs.«01_k».proof.Proof.WgDownClaims
public import proofs.«01_k».proof.Proof.WgGateClaims
public import proofs.«01_k».proof.Proof.WgInClaims
public import proofs.«01_k».proof.Proof.WgOutClaims
public import proofs.«01_k».proof.Proof.WgBrAClaims
public import proofs.«01_k».proof.Proof.WgBrBClaims
public import proofs.«01_k».proof.Proof.WgBrCClaims
public import proofs.«01_k».proof.Proof.MmZClaims
public import proofs.«01_k».proof.Proof.FfnUpClaims
public import proofs.«01_k».proof.Proof.MmDownClaims
public import proofs.«01_k».proof.Proof.FfnActClaims
public import proofs.«01_k».proof.Proof.FfnDhClaims
public import proofs.«01_k».proof.Proof.MmDhClaims
public import proofs.«01_k».proof.Proof.FlashAClaims
public import proofs.«01_k».proof.Proof.FlashABwdClaims
public import proofs.«01_k».proof.Proof.AdInClaims
public import proofs.«01_k».proof.Proof.AdBrAClaims
public import proofs.«01_k».proof.Proof.AdBrBClaims
public import proofs.«01_k».proof.Proof.AdOutClaims
public import proofs.«01_k».proof.Proof.AdGateClaims
public import proofs.«01_k».proof.Proof.AdDownClaims
public import proofs.«01_k».proof.Proof.AdSmallClaims
public import proofs.«01_k».proof.Proof.LossGradClaims
public import proofs.«01_k».proof.Proof.PoolBwdClaims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.WgDown.Gen.facts, Cert.WgDownIdeal.Gen.facts, Cert.WgDownReferenceIdeal.Gen.facts, Cert.WgGate.Gen.facts, Cert.WgGateIdeal.Gen.facts, Cert.WgGateReferenceIdeal.Gen.facts, Cert.WgIn.Gen.facts, Cert.WgInIdeal.Gen.facts, Cert.WgInReferenceIdeal.Gen.facts, Cert.WgOut.Gen.facts, Cert.WgOutIdeal.Gen.facts, Cert.WgOutReferenceIdeal.Gen.facts, Cert.WgBrA.Gen.facts, Cert.WgBrAIdeal.Gen.facts, Cert.WgBrAReferenceIdeal.Gen.facts, Cert.WgBrB.Gen.facts, Cert.WgBrBIdeal.Gen.facts, Cert.WgBrBReferenceIdeal.Gen.facts, Cert.WgBrC.Gen.facts, Cert.WgBrCIdeal.Gen.facts, Cert.WgBrCReferenceIdeal.Gen.facts, Cert.MmZ.Gen.facts, Cert.MmZIdeal.Gen.facts, Cert.MmZReferenceIdeal.Gen.facts, Cert.FfnUp.Gen.facts, Cert.FfnUpIdeal.Gen.facts, Cert.FfnUpReferenceIdeal.Gen.facts, Cert.MmDown.Gen.facts, Cert.MmDownIdeal.Gen.facts, Cert.MmDownReferenceIdeal.Gen.facts, Cert.FfnAct.Gen.facts, Cert.FfnActIdeal.Gen.facts, Cert.FfnActReferenceIdeal.Gen.facts, Cert.FfnDh.Gen.facts, Cert.FfnDhIdeal.Gen.facts, Cert.FfnDhReferenceIdeal.Gen.facts, Cert.MmDh.Gen.facts, Cert.MmDhIdeal.Gen.facts, Cert.MmDhReferenceIdeal.Gen.facts, Cert.FlashA.Gen.facts, Cert.FlashAIdeal.Gen.facts, Cert.FlashAReferenceIdeal.Gen.facts, Cert.FlashABwd.Gen.facts, Cert.FlashABwdIdeal.Gen.facts, Cert.FlashABwdReferenceIdeal.Gen.facts, Cert.AdIn.Gen.facts, Cert.AdInIdeal.Gen.facts, Cert.AdInReferenceIdeal.Gen.facts, Cert.AdBrA.Gen.facts, Cert.AdBrAIdeal.Gen.facts, Cert.AdBrAReferenceIdeal.Gen.facts, Cert.AdBrB.Gen.facts, Cert.AdBrBIdeal.Gen.facts, Cert.AdBrBReferenceIdeal.Gen.facts, Cert.AdOut.Gen.facts, Cert.AdOutIdeal.Gen.facts, Cert.AdOutReferenceIdeal.Gen.facts, Cert.AdGate.Gen.facts, Cert.AdGateIdeal.Gen.facts, Cert.AdGateReferenceIdeal.Gen.facts, Cert.AdDown.Gen.facts, Cert.AdDownIdeal.Gen.facts, Cert.AdDownReferenceIdeal.Gen.facts, Cert.AdSmall.Gen.facts, Cert.AdSmallIdeal.Gen.facts, Cert.AdSmallReferenceIdeal.Gen.facts, Cert.LossGrad.Gen.facts, Cert.LossGradIdeal.Gen.facts, Cert.LossGradReferenceIdeal.Gen.facts, Cert.PoolBwd.Gen.facts, Cert.PoolBwdIdeal.Gen.facts, Cert.PoolBwdReferenceIdeal.Gen.facts, Cert.Pre_finite_factors.Gen.facts, Cert.Pre_finite_entries.Gen.facts, Cert.Pre_finite_parts.Gen.facts,
  MixClaims.frame_kernel, MixClaims.frame_ideal, MixClaims.frame_reference,
  WgDownClaims.frame_kernel, WgDownClaims.frame_ideal, WgDownClaims.frame_reference,
  WgGateClaims.frame_kernel, WgGateClaims.frame_ideal, WgGateClaims.frame_reference,
  WgInClaims.frame_kernel, WgInClaims.frame_ideal, WgInClaims.frame_reference,
  WgOutClaims.frame_kernel, WgOutClaims.frame_ideal, WgOutClaims.frame_reference,
  WgBrAClaims.frame_kernel, WgBrAClaims.frame_ideal, WgBrAClaims.frame_reference,
  WgBrBClaims.frame_kernel, WgBrBClaims.frame_ideal, WgBrBClaims.frame_reference,
  WgBrCClaims.frame_kernel, WgBrCClaims.frame_ideal, WgBrCClaims.frame_reference,
  MmZClaims.frame_kernel, MmZClaims.frame_ideal, MmZClaims.frame_reference,
  FfnUpClaims.frame_kernel, FfnUpClaims.frame_ideal, FfnUpClaims.frame_reference,
  MmDownClaims.frame_kernel, MmDownClaims.frame_ideal, MmDownClaims.frame_reference,
  FfnActClaims.frame_kernel, FfnActClaims.frame_ideal, FfnActClaims.frame_ideal_pre, FfnActClaims.frame_reference, FfnActClaims.frame_reference_pre,
  FfnDhClaims.frame_kernel, FfnDhClaims.frame_ideal, FfnDhClaims.frame_reference,
  MmDhClaims.frame_kernel, MmDhClaims.frame_ideal, MmDhClaims.frame_reference,
  FlashAClaims.frame_kernel, FlashAClaims.frame_ideal, FlashAClaims.frame_ideal_pre, FlashAClaims.frame_reference, FlashAClaims.frame_reference_pre,
  FlashABwdClaims.frame_kernel, FlashABwdClaims.frame_ideal, FlashABwdClaims.frame_ideal_pre, FlashABwdClaims.frame_reference, FlashABwdClaims.frame_reference_pre,
  AdInClaims.frame_kernel, AdInClaims.frame_ideal, AdInClaims.frame_reference,
  AdBrAClaims.frame_kernel, AdBrAClaims.frame_ideal, AdBrAClaims.frame_reference,
  AdBrBClaims.frame_kernel, AdBrBClaims.frame_ideal, AdBrBClaims.frame_reference,
  AdOutClaims.frame_kernel, AdOutClaims.frame_ideal, AdOutClaims.frame_reference,
  AdGateClaims.frame_kernel, AdGateClaims.frame_ideal, AdGateClaims.frame_reference,
  AdDownClaims.frame_kernel, AdDownClaims.frame_ideal, AdDownClaims.frame_reference,
  AdSmallClaims.frame_kernel, AdSmallClaims.frame_ideal, AdSmallClaims.frame_reference,
  LossGradClaims.frame_kernel, LossGradClaims.frame_ideal, LossGradClaims.frame_reference,
  PoolBwdClaims.frame_kernel, PoolBwdClaims.frame_ideal, PoolBwdClaims.frame_reference,
  trivial, MixClaims.algebraic,
  trivial, WgDownClaims.algebraic,
  trivial, WgGateClaims.algebraic,
  trivial, WgInClaims.algebraic,
  trivial, WgOutClaims.algebraic,
  trivial, WgBrAClaims.algebraic,
  trivial, WgBrBClaims.algebraic,
  trivial, WgBrCClaims.algebraic,
  trivial, MmZClaims.algebraic,
  trivial, FfnUpClaims.algebraic,
  trivial, MmDownClaims.algebraic,
  trivial, FfnActClaims.algebraic,
  trivial, FfnDhClaims.algebraic,
  trivial, MmDhClaims.algebraic,
  trivial, FlashAClaims.algebraic,
  trivial, FlashABwdClaims.algebraic,
  trivial, AdInClaims.algebraic,
  trivial, AdBrAClaims.algebraic,
  trivial, AdBrBClaims.algebraic,
  trivial, AdOutClaims.algebraic,
  trivial, AdGateClaims.algebraic,
  trivial, AdDownClaims.algebraic,
  trivial, AdSmallClaims.algebraic,
  trivial, LossGradClaims.algebraic,
  trivial, PoolBwdClaims.algebraic⟩

end Cert.Proof

end
